-- ==== Defs.lean ====
def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_FfnDhRmsKernel (m : (ℓ : Loc Cert.FfnDhRmsKernel.nD Cert.FfnDhRmsKernel.τ Cert.FfnDhRmsKernel.sig) → Buf (Elt Bits) ℓ) : Prop :=
  True

def Pre_FfnDhRmsKernelIdeal (m : (ℓ : Loc Cert.FfnDhRmsKernelIdeal.nD Cert.FfnDhRmsKernelIdeal.τ Cert.FfnDhRmsKernelIdeal.sig) → Buf (Elt Ideal) ℓ) : Prop :=
  True

def Pre_FfnDhRmsKernelIdeal_ffn_dh_rms_finite [hPre_ffn_dh_rms_finite : Cert.Pre_ffn_dh_rms_finite.Facts] (m : (ℓ : Loc Cert.FfnDhRmsKernelIdeal.nD Cert.FfnDhRmsKernelIdeal.τ Cert.FfnDhRmsKernelIdeal.sig) → Buf (Elt Ideal) ℓ) : Prop :=
  ∀ c : Dev Cert.FfnDhRmsKernelIdeal.nD,
    (Cert.Pre_ffn_dh_rms_finite.fn (F := Ideal) (m ((c.tc : Thread Cert.FfnDhRmsKernelIdeal.nD Cert.FfnDhRmsKernelIdeal.τ).loc Cert.FfnDhRmsKernelIdeal.main_arg0)) (m ((c.tc : Thread Cert.FfnDhRmsKernelIdeal.nD Cert.FfnDhRmsKernelIdeal.τ).loc Cert.FfnDhRmsKernelIdeal.main_arg1)) (m ((c.tc : Thread Cert.FfnDhRmsKernelIdeal.nD Cert.FfnDhRmsKernelIdeal.τ).loc Cert.FfnDhRmsKernelIdeal.main_arg2)) (m ((c.tc : Thread Cert.FfnDhRmsKernelIdeal.nD Cert.FfnDhRmsKernelIdeal.τ).loc Cert.FfnDhRmsKernelIdeal.main_arg3)) (m ((c.tc : Thread Cert.FfnDhRmsKernelIdeal.nD Cert.FfnDhRmsKernelIdeal.τ).loc Cert.FfnDhRmsKernelIdeal.main_arg4)) (m ((c.tc : Thread Cert.FfnDhRmsKernelIdeal.nD Cert.FfnDhRmsKernelIdeal.τ).loc Cert.FfnDhRmsKernelIdeal.main_arg5)) (m ((c.tc : Thread Cert.FfnDhRmsKernelIdeal.nD Cert.FfnDhRmsKernelIdeal.τ).loc Cert.FfnDhRmsKernelIdeal.main_arg6))) = (fun _ => 1#1)

def Pre_FfnDhRmsReferenceIdeal (m : (ℓ : Loc Cert.FfnDhRmsReferenceIdeal.nD Cert.FfnDhRmsReferenceIdeal.τ Cert.FfnDhRmsReferenceIdeal.sig) → Buf (Elt Ideal) ℓ) : Prop :=
  True

def Pre_FfnDhRmsReferenceIdeal_ffn_dh_rms_finite [hPre_ffn_dh_rms_finite : Cert.Pre_ffn_dh_rms_finite.Facts] (m : (ℓ : Loc Cert.FfnDhRmsReferenceIdeal.nD Cert.FfnDhRmsReferenceIdeal.τ Cert.FfnDhRmsReferenceIdeal.sig) → Buf (Elt Ideal) ℓ) : Prop :=
  ∀ c : Dev Cert.FfnDhRmsReferenceIdeal.nD,
    (Cert.Pre_ffn_dh_rms_finite.fn (F := Ideal) (m ((c.tc : Thread Cert.FfnDhRmsReferenceIdeal.nD Cert.FfnDhRmsReferenceIdeal.τ).loc Cert.FfnDhRmsReferenceIdeal.main_arg0)) (m ((c.tc : Thread Cert.FfnDhRmsReferenceIdeal.nD Cert.FfnDhRmsReferenceIdeal.τ).loc Cert.FfnDhRmsReferenceIdeal.main_arg1)) (m ((c.tc : Thread Cert.FfnDhRmsReferenceIdeal.nD Cert.FfnDhRmsReferenceIdeal.τ).loc Cert.FfnDhRmsReferenceIdeal.main_arg2)) (m ((c.tc : Thread Cert.FfnDhRmsReferenceIdeal.nD Cert.FfnDhRmsReferenceIdeal.τ).loc Cert.FfnDhRmsReferenceIdeal.main_arg3)) (m ((c.tc : Thread Cert.FfnDhRmsReferenceIdeal.nD Cert.FfnDhRmsReferenceIdeal.τ).loc Cert.FfnDhRmsReferenceIdeal.main_arg4)) (m ((c.tc : Thread Cert.FfnDhRmsReferenceIdeal.nD Cert.FfnDhRmsReferenceIdeal.τ).loc Cert.FfnDhRmsReferenceIdeal.main_arg5)) (m ((c.tc : Thread Cert.FfnDhRmsReferenceIdeal.nD Cert.FfnDhRmsReferenceIdeal.τ).loc Cert.FfnDhRmsReferenceIdeal.main_arg6))) = (fun _ => 1#1)

def Pre_FfnBwdUpKernel (m : (ℓ : Loc Cert.FfnBwdUpKernel.nD Cert.FfnBwdUpKernel.τ Cert.FfnBwdUpKernel.sig) → Buf (Elt Bits) ℓ) : Prop :=
  True

def Pre_FfnBwdUpKernelIdeal (m : (ℓ : Loc Cert.FfnBwdUpKernelIdeal.nD Cert.FfnBwdUpKernelIdeal.τ Cert.FfnBwdUpKernelIdeal.sig) → Buf (Elt Ideal) ℓ) : Prop :=
  True

def Pre_FfnBwdUpKernelIdeal_ffn_bwd_up_finite [hPre_ffn_bwd_up_finite : Cert.Pre_ffn_bwd_up_finite.Facts] (m : (ℓ : Loc Cert.FfnBwdUpKernelIdeal.nD Cert.FfnBwdUpKernelIdeal.τ Cert.FfnBwdUpKernelIdeal.sig) → Buf (Elt Ideal) ℓ) : Prop :=
  ∀ c : Dev Cert.FfnBwdUpKernelIdeal.nD,
    (Cert.Pre_ffn_bwd_up_finite.fn (F := Ideal) (m ((c.tc : Thread Cert.FfnBwdUpKernelIdeal.nD Cert.FfnBwdUpKernelIdeal.τ).loc Cert.FfnBwdUpKernelIdeal.main_arg0)) (m ((c.tc : Thread Cert.FfnBwdUpKernelIdeal.nD Cert.FfnBwdUpKernelIdeal.τ).loc Cert.FfnBwdUpKernelIdeal.main_arg1)) (m ((c.tc : Thread Cert.FfnBwdUpKernelIdeal.nD Cert.FfnBwdUpKernelIdeal.τ).loc Cert.FfnBwdUpKernelIdeal.main_arg2)) (m ((c.tc : Thread Cert.FfnBwdUpKernelIdeal.nD Cert.FfnBwdUpKernelIdeal.τ).loc Cert.FfnBwdUpKernelIdeal.main_arg3))) = (fun _ => 1#1)

def Pre_FfnBwdUpReferenceIdeal (m : (ℓ : Loc Cert.FfnBwdUpReferenceIdeal.nD Cert.FfnBwdUpReferenceIdeal.τ Cert.FfnBwdUpReferenceIdeal.sig) → Buf (Elt Ideal) ℓ) : Prop :=
  True

def Pre_FfnBwdUpReferenceIdeal_ffn_bwd_up_finite [hPre_ffn_bwd_up_finite : Cert.Pre_ffn_bwd_up_finite.Facts] (m : (ℓ : Loc Cert.FfnBwdUpReferenceIdeal.nD Cert.FfnBwdUpReferenceIdeal.τ Cert.FfnBwdUpReferenceIdeal.sig) → Buf (Elt Ideal) ℓ) : Prop :=
  ∀ c : Dev Cert.FfnBwdUpReferenceIdeal.nD,
    (Cert.Pre_ffn_bwd_up_finite.fn (F := Ideal) (m ((c.tc : Thread Cert.FfnBwdUpReferenceIdeal.nD Cert.FfnBwdUpReferenceIdeal.τ).loc Cert.FfnBwdUpReferenceIdeal.main_arg0)) (m ((c.tc : Thread Cert.FfnBwdUpReferenceIdeal.nD Cert.FfnBwdUpReferenceIdeal.τ).loc Cert.FfnBwdUpReferenceIdeal.main_arg1)) (m ((c.tc : Thread Cert.FfnBwdUpReferenceIdeal.nD Cert.FfnBwdUpReferenceIdeal.τ).loc Cert.FfnBwdUpReferenceIdeal.main_arg2)) (m ((c.tc : Thread Cert.FfnBwdUpReferenceIdeal.nD Cert.FfnBwdUpReferenceIdeal.τ).loc Cert.FfnBwdUpReferenceIdeal.main_arg3))) = (fun _ => 1#1)

def Pre_FfnDwgKernel (m : (ℓ : Loc Cert.FfnDwgKernel.nD Cert.FfnDwgKernel.τ Cert.FfnDwgKernel.sig) → Buf (Elt Bits) ℓ) : Prop :=
  True

def Pre_FfnDwgKernelIdeal (m : (ℓ : Loc Cert.FfnDwgKernelIdeal.nD Cert.FfnDwgKernelIdeal.τ Cert.FfnDwgKernelIdeal.sig) → Buf (Elt Ideal) ℓ) : Prop :=
  True

def Pre_FfnDwgReferenceIdeal (m : (ℓ : Loc Cert.FfnDwgReferenceIdeal.nD Cert.FfnDwgReferenceIdeal.τ Cert.FfnDwgReferenceIdeal.sig) → Buf (Elt Ideal) ℓ) : Prop :=
  True

def Pre_FfnDwdKernel (m : (ℓ : Loc Cert.FfnDwdKernel.nD Cert.FfnDwdKernel.τ Cert.FfnDwdKernel.sig) → Buf (Elt Bits) ℓ) : Prop :=
  True

def Pre_FfnDwdKernelIdeal (m : (ℓ : Loc Cert.FfnDwdKernelIdeal.nD Cert.FfnDwdKernelIdeal.τ Cert.FfnDwdKernelIdeal.sig) → Buf (Elt Ideal) ℓ) : Prop :=
  True

def Pre_FfnDwdReferenceIdeal (m : (ℓ : Loc Cert.FfnDwdReferenceIdeal.nD Cert.FfnDwdReferenceIdeal.τ Cert.FfnDwdReferenceIdeal.sig) → Buf (Elt Ideal) ℓ) : Prop :=
  True

def Pre_FfnUpKernel (m : (ℓ : Loc Cert.FfnUpKernel.nD Cert.FfnUpKernel.τ Cert.FfnUpKernel.sig) → Buf (Elt Bits) ℓ) : Prop :=
  True

def Pre_FfnUpKernelIdeal (m : (ℓ : Loc Cert.FfnUpKernelIdeal.nD Cert.FfnUpKernelIdeal.τ Cert.FfnUpKernelIdeal.sig) → Buf (Elt Ideal) ℓ) : Prop :=
  True

def Pre_FfnUpKernelIdeal_ffn_up_finite [hPre_ffn_up_finite : Cert.Pre_ffn_up_finite.Facts] (m : (ℓ : Loc Cert.FfnUpKernelIdeal.nD Cert.FfnUpKernelIdeal.τ Cert.FfnUpKernelIdeal.sig) → Buf (Elt Ideal) ℓ) : Prop :=
  ∀ c : Dev Cert.FfnUpKernelIdeal.nD,
    (Cert.Pre_ffn_up_finite.fn (F := Ideal) (m ((c.tc : Thread Cert.FfnUpKernelIdeal.nD Cert.FfnUpKernelIdeal.τ).loc Cert.FfnUpKernelIdeal.main_arg0)) (m ((c.tc : Thread Cert.FfnUpKernelIdeal.nD Cert.FfnUpKernelIdeal.τ).loc Cert.FfnUpKernelIdeal.main_arg1)) (m ((c.tc : Thread Cert.FfnUpKernelIdeal.nD Cert.FfnUpKernelIdeal.τ).loc Cert.FfnUpKernelIdeal.main_arg2))) = (fun _ => 1#1)

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnUpReferenceIdeal_ffn_up_finite [hPre_ffn_up_finite : Cert.Pre_ffn_up_finite.Facts] (m : (ℓ : Loc Cert.FfnUpReferenceIdeal.nD Cert.FfnUpReferenceIdeal.τ Cert.FfnUpReferenceIdeal.sig) → Buf (Elt Ideal) ℓ) : Prop :=
  ∀ c : Dev Cert.FfnUpReferenceIdeal.nD,
    (Cert.Pre_ffn_up_finite.fn (F := Ideal) (m ((c.tc : Thread Cert.FfnUpReferenceIdeal.nD Cert.FfnUpReferenceIdeal.τ).loc Cert.FfnUpReferenceIdeal.main_arg0)) (m ((c.tc : Thread Cert.FfnUpReferenceIdeal.nD Cert.FfnUpReferenceIdeal.τ).loc Cert.FfnUpReferenceIdeal.main_arg1)) (m ((c.tc : Thread Cert.FfnUpReferenceIdeal.nD Cert.FfnUpReferenceIdeal.τ).loc Cert.FfnUpReferenceIdeal.main_arg2))) = (fun _ => 1#1)

def Pre_FfnDownNormKernel (m : (ℓ : Loc Cert.FfnDownNormKernel.nD Cert.FfnDownNormKernel.τ Cert.FfnDownNormKernel.sig) → Buf (Elt Bits) ℓ) : Prop :=
  True

def Pre_FfnDownNormKernelIdeal (m : (ℓ : Loc Cert.FfnDownNormKernelIdeal.nD Cert.FfnDownNormKernelIdeal.τ Cert.FfnDownNormKernelIdeal.sig) → Buf (Elt Ideal) ℓ) : Prop :=
  True

def Pre_FfnDownNormReferenceIdeal (m : (ℓ : Loc Cert.FfnDownNormReferenceIdeal.nD Cert.FfnDownNormReferenceIdeal.τ Cert.FfnDownNormReferenceIdeal.sig) → Buf (Elt Ideal) ℓ) : Prop :=
  True

def Pre_FfnDownKernel (m : (ℓ : Loc Cert.FfnDownKernel.nD Cert.FfnDownKernel.τ Cert.FfnDownKernel.sig) → Buf (Elt Bits) ℓ) : Prop :=
  True

def Pre_FfnDownKernelIdeal (m : (ℓ : Loc Cert.FfnDownKernelIdeal.nD Cert.FfnDownKernelIdeal.τ Cert.FfnDownKernelIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_ProjDhRmsKernel (m : (ℓ : Loc Cert.ProjDhRmsKernel.nD Cert.ProjDhRmsKernel.τ Cert.ProjDhRmsKernel.sig) → Buf (Elt Bits) ℓ) : Prop :=
  True

def Pre_ProjDhRmsKernelIdeal (m : (ℓ : Loc Cert.ProjDhRmsKernelIdeal.nD Cert.ProjDhRmsKernelIdeal.τ Cert.ProjDhRmsKernelIdeal.sig) → Buf (Elt Ideal) ℓ) : Prop :=
  True

def Pre_ProjDhRmsKernelIdeal_proj_dh_rms_finite [hPre_proj_dh_rms_finite : Cert.Pre_proj_dh_rms_finite.Facts] (m : (ℓ : Loc Cert.ProjDhRmsKernelIdeal.nD Cert.ProjDhRmsKernelIdeal.τ Cert.ProjDhRmsKernelIdeal.sig) → Buf (Elt Ideal) ℓ) : Prop :=
  ∀ c : Dev Cert.ProjDhRmsKernelIdeal.nD,
    (Cert.Pre_proj_dh_rms_finite.fn (F := Ideal) (m ((c.tc : Thread Cert.ProjDhRmsKernelIdeal.nD Cert.ProjDhRmsKernelIdeal.τ).loc Cert.ProjDhRmsKernelIdeal.main_arg0)) (m ((c.tc : Thread Cert.ProjDhRmsKernelIdeal.nD Cert.ProjDhRmsKernelIdeal.τ).loc Cert.ProjDhRmsKernelIdeal.main_arg1)) (m ((c.tc : Thread Cert.ProjDhRmsKernelIdeal.nD Cert.ProjDhRmsKernelIdeal.τ).loc Cert.ProjDhRmsKernelIdeal.main_arg2)) (m ((c.tc : Thread Cert.ProjDhRmsKernelIdeal.nD Cert.ProjDhRmsKernelIdeal.τ).loc Cert.ProjDhRmsKernelIdeal.main_arg3)) (m ((c.tc : Thread Cert.ProjDhRmsKernelIdeal.nD Cert.ProjDhRmsKernelIdeal.τ).loc Cert.ProjDhRmsKernelIdeal.main_arg4)) (m ((c.tc : Thread Cert.ProjDhRmsKernelIdeal.nD Cert.ProjDhRmsKernelIdeal.τ).loc Cert.ProjDhRmsKernelIdeal.main_arg5)) (m ((c.tc : Thread Cert.ProjDhRmsKernelIdeal.nD Cert.ProjDhRmsKernelIdeal.τ).loc Cert.ProjDhRmsKernelIdeal.main_arg6)) (m ((c.tc : Thread Cert.ProjDhRmsKernelIdeal.nD Cert.ProjDhRmsKernelIdeal.τ).loc Cert.ProjDhRmsKernelIdeal.main_arg7)) (m ((c.tc : Thread Cert.ProjDhRmsKernelIdeal.nD Cert.ProjDhRmsKernelIdeal.τ).loc Cert.ProjDhRmsKernelIdeal.main_arg8))) = (fun _ => 1#1)

def Pre_ProjDhRmsReferenceIdeal (m : (ℓ : Loc Cert.ProjDhRmsReferenceIdeal.nD Cert.ProjDhRmsReferenceIdeal.τ Cert.ProjDhRmsReferenceIdeal.sig) → Buf (Elt Ideal) ℓ) : Prop :=
  True

def Pre_ProjDhRmsReferenceIdeal_proj_dh_rms_finite [hPre_proj_dh_rms_finite : Cert.Pre_proj_dh_rms_finite.Facts] (m : (ℓ : Loc Cert.ProjDhRmsReferenceIdeal.nD Cert.ProjDhRmsReferenceIdeal.τ Cert.ProjDhRmsReferenceIdeal.sig) → Buf (Elt Ideal) ℓ) : Prop :=
  ∀ c : Dev Cert.ProjDhRmsReferenceIdeal.nD,
    (Cert.Pre_proj_dh_rms_finite.fn (F := Ideal) (m ((c.tc : Thread Cert.ProjDhRmsReferenceIdeal.nD Cert.ProjDhRmsReferenceIdeal.τ).loc Cert.ProjDhRmsReferenceIdeal.main_arg0)) (m ((c.tc : Thread Cert.ProjDhRmsReferenceIdeal.nD Cert.ProjDhRmsReferenceIdeal.τ).loc Cert.ProjDhRmsReferenceIdeal.main_arg1)) (m ((c.tc : Thread Cert.ProjDhRmsReferenceIdeal.nD Cert.ProjDhRmsReferenceIdeal.τ).loc Cert.ProjDhRmsReferenceIdeal.main_arg2)) (m ((c.tc : Thread Cert.ProjDhRmsReferenceIdeal.nD Cert.ProjDhRmsReferenceIdeal.τ).loc Cert.ProjDhRmsReferenceIdeal.main_arg3)) (m ((c.tc : Thread Cert.ProjDhRmsReferenceIdeal.nD Cert.ProjDhRmsReferenceIdeal.τ).loc Cert.ProjDhRmsReferenceIdeal.main_arg4)) (m ((c.tc : Thread Cert.ProjDhRmsReferenceIdeal.nD Cert.ProjDhRmsReferenceIdeal.τ).loc Cert.ProjDhRmsReferenceIdeal.main_arg5)) (m ((c.tc : Thread Cert.ProjDhRmsReferenceIdeal.nD Cert.ProjDhRmsReferenceIdeal.τ).loc Cert.ProjDhRmsReferenceIdeal.main_arg6)) (m ((c.tc : Thread Cert.ProjDhRmsReferenceIdeal.nD Cert.ProjDhRmsReferenceIdeal.τ).loc Cert.ProjDhRmsReferenceIdeal.main_arg7)) (m ((c.tc : Thread Cert.ProjDhRmsReferenceIdeal.nD Cert.ProjDhRmsReferenceIdeal.τ).loc Cert.ProjDhRmsReferenceIdeal.main_arg8))) = (fun _ => 1#1)

def Pre_ProjCKernel (m : (ℓ : Loc Cert.ProjCKernel.nD Cert.ProjCKernel.τ Cert.ProjCKernel.sig) → Buf (Elt Bits) ℓ) : Prop :=
  True

def Pre_ProjCKernelIdeal (m : (ℓ : Loc Cert.ProjCKernelIdeal.nD Cert.ProjCKernelIdeal.τ Cert.ProjCKernelIdeal.sig) → Buf (Elt Ideal) ℓ) : Prop :=
  True

def Pre_ProjCReferenceIdeal (m : (ℓ : Loc Cert.ProjCReferenceIdeal.nD Cert.ProjCReferenceIdeal.τ Cert.ProjCReferenceIdeal.sig) → Buf (Elt Ideal) ℓ) : Prop :=
  True

def Pre_ProjDwcKernel (m : (ℓ : Loc Cert.ProjDwcKernel.nD Cert.ProjDwcKernel.τ Cert.ProjDwcKernel.sig) → Buf (Elt Bits) ℓ) : Prop :=
  True

def Pre_ProjDwcKernelIdeal (m : (ℓ : Loc Cert.ProjDwcKernelIdeal.nD Cert.ProjDwcKernelIdeal.τ Cert.ProjDwcKernelIdeal.sig) → Buf (Elt Ideal) ℓ) : Prop :=
  True

def Pre_ProjDwcReferenceIdeal (m : (ℓ : Loc Cert.ProjDwcReferenceIdeal.nD Cert.ProjDwcReferenceIdeal.τ Cert.ProjDwcReferenceIdeal.sig) → Buf (Elt Ideal) ℓ) : Prop :=
  True

def Pre_ProjLKernel (m : (ℓ : Loc Cert.ProjLKernel.nD Cert.ProjLKernel.τ Cert.ProjLKernel.sig) → Buf (Elt Bits) ℓ) : Prop :=
  True

def Pre_ProjLKernelIdeal (m : (ℓ : Loc Cert.ProjLKernelIdeal.nD Cert.ProjLKernelIdeal.τ Cert.ProjLKernelIdeal.sig) → Buf (Elt Ideal) ℓ) : Prop :=
  True

def Pre_ProjLReferenceIdeal (m : (ℓ : Loc Cert.ProjLReferenceIdeal.nD Cert.ProjLReferenceIdeal.τ Cert.ProjLReferenceIdeal.sig) → Buf (Elt Ideal) ℓ) : Prop :=
  True

def Pre_ProjDwlKernel (m : (ℓ : Loc Cert.ProjDwlKernel.nD Cert.ProjDwlKernel.τ Cert.ProjDwlKernel.sig) → Buf (Elt Bits) ℓ) : Prop :=
  True

def Pre_ProjDwlKernelIdeal (m : (ℓ : Loc Cert.ProjDwlKernelIdeal.nD Cert.ProjDwlKernelIdeal.τ Cert.ProjDwlKernelIdeal.sig) → Buf (Elt Ideal) ℓ) : Prop :=
  True

def Pre_ProjDwlReferenceIdeal (m : (ℓ : Loc Cert.ProjDwlReferenceIdeal.nD Cert.ProjDwlReferenceIdeal.τ Cert.ProjDwlReferenceIdeal.sig) → Buf (Elt Ideal) ℓ) : Prop :=
  True

def Pre_ProjGKernel (m : (ℓ : Loc Cert.ProjGKernel.nD Cert.ProjGKernel.τ Cert.ProjGKernel.sig) → Buf (Elt Bits) ℓ) : Prop :=
  True

def Pre_ProjGKernelIdeal (m : (ℓ : Loc Cert.ProjGKernelIdeal.nD Cert.ProjGKernelIdeal.τ Cert.ProjGKernelIdeal.sig) → Buf (Elt Ideal) ℓ) : Prop :=
  True

def Pre_ProjGReferenceIdeal (m : (ℓ : Loc Cert.ProjGReferenceIdeal.nD Cert.ProjGReferenceIdeal.τ Cert.ProjGReferenceIdeal.sig) → Buf (Elt Ideal) ℓ) : Prop :=
  True

def Pre_ProjDwgKernel (m : (ℓ : Loc Cert.ProjDwgKernel.nD Cert.ProjDwgKernel.τ Cert.ProjDwgKernel.sig) → Buf (Elt Bits) ℓ) : Prop :=
  True

def Pre_ProjDwgKernelIdeal (m : (ℓ : Loc Cert.ProjDwgKernelIdeal.nD Cert.ProjDwgKernelIdeal.τ Cert.ProjDwgKernelIdeal.sig) → Buf (Elt Ideal) ℓ) : Prop :=
  True

def Pre_ProjDwgReferenceIdeal (m : (ℓ : Loc Cert.ProjDwgReferenceIdeal.nD Cert.ProjDwgReferenceIdeal.τ Cert.ProjDwgReferenceIdeal.sig) → Buf (Elt Ideal) ℓ) : Prop :=
  True

def Pre_MixOutKernel (m : (ℓ : Loc Cert.MixOutKernel.nD Cert.MixOutKernel.τ Cert.MixOutKernel.sig) → Buf (Elt Bits) ℓ) : Prop :=
  True

def Pre_MixOutKernelIdeal (m : (ℓ : Loc Cert.MixOutKernelIdeal.nD Cert.MixOutKernelIdeal.τ Cert.MixOutKernelIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_MixDyKernel (m : (ℓ : Loc Cert.MixDyKernel.nD Cert.MixDyKernel.τ Cert.MixDyKernel.sig) → Buf (Elt Bits) ℓ) : Prop :=
  True

def Pre_MixDyKernelIdeal (m : (ℓ : Loc Cert.MixDyKernelIdeal.nD Cert.MixDyKernelIdeal.τ Cert.MixDyKernelIdeal.sig) → Buf (Elt Ideal) ℓ) : Prop :=
  True

def Pre_MixDyReferenceIdeal (m : (ℓ : Loc Cert.MixDyReferenceIdeal.nD Cert.MixDyReferenceIdeal.τ Cert.MixDyReferenceIdeal.sig) → Buf (Elt Ideal) ℓ) : Prop :=
  True

def Pre_MixDwoutKernel (m : (ℓ : Loc Cert.MixDwoutKernel.nD Cert.MixDwoutKernel.τ Cert.MixDwoutKernel.sig) → Buf (Elt Bits) ℓ) : Prop :=
  True

def Pre_MixDwoutKernelIdeal (m : (ℓ : Loc Cert.MixDwoutKernelIdeal.nD Cert.MixDwoutKernelIdeal.τ Cert.MixDwoutKernelIdeal.sig) → Buf (Elt Ideal) ℓ) : Prop :=
  True

def Pre_MixDwoutReferenceIdeal (m : (ℓ : Loc Cert.MixDwoutReferenceIdeal.nD Cert.MixDwoutReferenceIdeal.τ Cert.MixDwoutReferenceIdeal.sig) → Buf (Elt Ideal) ℓ) : Prop :=
  True

def Pre_AdamModelKernel (m : (ℓ : Loc Cert.AdamModelKernel.nD Cert.AdamModelKernel.τ Cert.AdamModelKernel.sig) → Buf (Elt Bits) ℓ) : Prop :=
  True

def Pre_AdamModelKernelIdeal (m : (ℓ : Loc Cert.AdamModelKernelIdeal.nD Cert.AdamModelKernelIdeal.τ Cert.AdamModelKernelIdeal.sig) → Buf (Elt Ideal) ℓ) : Prop :=
  True

def Pre_AdamModelReferenceIdeal (m : (ℓ : Loc Cert.AdamModelReferenceIdeal.nD Cert.AdamModelReferenceIdeal.τ Cert.AdamModelReferenceIdeal.sig) → Buf (Elt Ideal) ℓ) : Prop :=
  True

def Pre_AdamConvKernel (m : (ℓ : Loc Cert.AdamConvKernel.nD Cert.AdamConvKernel.τ Cert.AdamConvKernel.sig) → Buf (Elt Bits) ℓ) : Prop :=
  True

def Pre_AdamConvKernelIdeal (m : (ℓ : Loc Cert.AdamConvKernelIdeal.nD Cert.AdamConvKernelIdeal.τ Cert.AdamConvKernelIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_AdamLatentKernel (m : (ℓ : Loc Cert.AdamLatentKernel.nD Cert.AdamLatentKernel.τ Cert.AdamLatentKernel.sig) → Buf (Elt Bits) ℓ) : Prop :=
  True

def Pre_AdamLatentKernelIdeal (m : (ℓ : Loc Cert.AdamLatentKernelIdeal.nD Cert.AdamLatentKernelIdeal.τ Cert.AdamLatentKernelIdeal.sig) → Buf (Elt Ideal) ℓ) : Prop :=
  True

def Pre_AdamLatentReferenceIdeal (m : (ℓ : Loc Cert.AdamLatentReferenceIdeal.nD Cert.AdamLatentReferenceIdeal.τ Cert.AdamLatentReferenceIdeal.sig) → Buf (Elt Ideal) ℓ) : Prop :=
  True

def Pre_AdamHeadKernel (m : (ℓ : Loc Cert.AdamHeadKernel.nD Cert.AdamHeadKernel.τ Cert.AdamHeadKernel.sig) → Buf (Elt Bits) ℓ) : Prop :=
  True

def Pre_AdamHeadKernelIdeal (m : (ℓ : Loc Cert.AdamHeadKernelIdeal.nD Cert.AdamHeadKernelIdeal.τ Cert.AdamHeadKernelIdeal.sig) → Buf (Elt Ideal) ℓ) : Prop :=
  True

def Pre_AdamHeadReferenceIdeal (m : (ℓ : Loc Cert.AdamHeadReferenceIdeal.nD Cert.AdamHeadReferenceIdeal.τ Cert.AdamHeadReferenceIdeal.sig) → Buf (Elt Ideal) ℓ) : Prop :=
  True

def Pre_AdamTapsKernel (m : (ℓ : Loc Cert.AdamTapsKernel.nD Cert.AdamTapsKernel.τ Cert.AdamTapsKernel.sig) → Buf (Elt Bits) ℓ) : Prop :=
  True

def Pre_AdamTapsKernelIdeal (m : (ℓ : Loc Cert.AdamTapsKernelIdeal.nD Cert.AdamTapsKernelIdeal.τ Cert.AdamTapsKernelIdeal.sig) → Buf (Elt Ideal) ℓ) : Prop :=
  True

def Pre_AdamTapsReferenceIdeal (m : (ℓ : Loc Cert.AdamTapsReferenceIdeal.nD Cert.AdamTapsReferenceIdeal.τ Cert.AdamTapsReferenceIdeal.sig) → Buf (Elt Ideal) ℓ) : Prop :=
  True

def Pre_AdamBiasKernel (m : (ℓ : Loc Cert.AdamBiasKernel.nD Cert.AdamBiasKernel.τ Cert.AdamBiasKernel.sig) → Buf (Elt Bits) ℓ) : Prop :=
  True

def Pre_AdamBiasKernelIdeal (m : (ℓ : Loc Cert.AdamBiasKernelIdeal.nD Cert.AdamBiasKernelIdeal.τ Cert.AdamBiasKernelIdeal.sig) → Buf (Elt Ideal) ℓ) : Prop :=
  True

def Pre_AdamBiasReferenceIdeal (m : (ℓ : Loc Cert.AdamBiasReferenceIdeal.nD Cert.AdamBiasReferenceIdeal.τ Cert.AdamBiasReferenceIdeal.sig) → Buf (Elt Ideal) ℓ) : Prop :=
  True

def Pre_AdamFfnKernel (m : (ℓ : Loc Cert.AdamFfnKernel.nD Cert.AdamFfnKernel.τ Cert.AdamFfnKernel.sig) → Buf (Elt Bits) ℓ) : Prop :=
  True

def Pre_AdamFfnKernelIdeal (m : (ℓ : Loc Cert.AdamFfnKernelIdeal.nD Cert.AdamFfnKernelIdeal.τ Cert.AdamFfnKernelIdeal.sig) → Buf (Elt Ideal) ℓ) : Prop :=
  True

def Pre_AdamFfnReferenceIdeal (m : (ℓ : Loc Cert.AdamFfnReferenceIdeal.nD Cert.AdamFfnReferenceIdeal.τ Cert.AdamFfnReferenceIdeal.sig) → Buf (Elt Ideal) ℓ) : Prop :=
  True

def Pre_AdamWinKernel (m : (ℓ : Loc Cert.AdamWinKernel.nD Cert.AdamWinKernel.τ Cert.AdamWinKernel.sig) → Buf (Elt Bits) ℓ) : Prop :=
  True

def Pre_AdamWinKernelIdeal (m : (ℓ : Loc Cert.AdamWinKernelIdeal.nD Cert.AdamWinKernelIdeal.τ Cert.AdamWinKernelIdeal.sig) → Buf (Elt Ideal) ℓ) : Prop :=
  True

def Pre_AdamWinReferenceIdeal (m : (ℓ : Loc Cert.AdamWinReferenceIdeal.nD Cert.AdamWinReferenceIdeal.τ Cert.AdamWinReferenceIdeal.sig) → Buf (Elt Ideal) ℓ) : Prop :=
  True

def Pre_AdamCoutKernel (m : (ℓ : Loc Cert.AdamCoutKernel.nD Cert.AdamCoutKernel.τ Cert.AdamCoutKernel.sig) → Buf (Elt Bits) ℓ) : Prop :=
  True

def Pre_AdamCoutKernelIdeal (m : (ℓ : Loc Cert.AdamCoutKernelIdeal.nD Cert.AdamCoutKernelIdeal.τ Cert.AdamCoutKernelIdeal.sig) → Buf (Elt Ideal) ℓ) : Prop :=
  True

def Pre_AdamCoutReferenceIdeal (m : (ℓ : Loc Cert.AdamCoutReferenceIdeal.nD Cert.AdamCoutReferenceIdeal.τ Cert.AdamCoutReferenceIdeal.sig) → Buf (Elt Ideal) ℓ) : Prop :=
  True

def Pre_AdamUqKernel (m : (ℓ : Loc Cert.AdamUqKernel.nD Cert.AdamUqKernel.τ Cert.AdamUqKernel.sig) → Buf (Elt Bits) ℓ) : Prop :=
  True

def Pre_AdamUqKernelIdeal (m : (ℓ : Loc Cert.AdamUqKernelIdeal.nD Cert.AdamUqKernelIdeal.τ Cert.AdamUqKernelIdeal.sig) → Buf (Elt Ideal) ℓ) : Prop :=
  True

def Pre_AdamUqReferenceIdeal (m : (ℓ : Loc Cert.AdamUqReferenceIdeal.nD Cert.AdamUqReferenceIdeal.τ Cert.AdamUqReferenceIdeal.sig) → Buf (Elt Ideal) ℓ) : Prop :=
  True

def Pre_AdamUkvKernel (m : (ℓ : Loc Cert.AdamUkvKernel.nD Cert.AdamUkvKernel.τ Cert.AdamUkvKernel.sig) → Buf (Elt Bits) ℓ) : Prop :=
  True

def Pre_AdamUkvKernelIdeal (m : (ℓ : Loc Cert.AdamUkvKernelIdeal.nD Cert.AdamUkvKernelIdeal.τ Cert.AdamUkvKernelIdeal.sig) → Buf (Elt Ideal) ℓ) : Prop :=
  True

def Pre_AdamUkvReferenceIdeal (m : (ℓ : Loc Cert.AdamUkvReferenceIdeal.nD Cert.AdamUkvReferenceIdeal.τ Cert.AdamUkvReferenceIdeal.sig) → Buf (Elt Ideal) ℓ) : Prop :=
  True

def Pre_AdamWoutKernel (m : (ℓ : Loc Cert.AdamWoutKernel.nD Cert.AdamWoutKernel.τ Cert.AdamWoutKernel.sig) → Buf (Elt Bits) ℓ) : Prop :=
  True

def Pre_AdamWoutKernelIdeal (m : (ℓ : Loc Cert.AdamWoutKernelIdeal.nD Cert.AdamWoutKernelIdeal.τ Cert.AdamWoutKernelIdeal.sig) → Buf (Elt Ideal) ℓ) : Prop :=
  True

def Pre_AdamWoutReferenceIdeal (m : (ℓ : Loc Cert.AdamWoutReferenceIdeal.nD Cert.AdamWoutReferenceIdeal.τ Cert.AdamWoutReferenceIdeal.sig) → Buf (Elt Ideal) ℓ) : Prop :=
  True

def Pre_SumGateupKernel (m : (ℓ : Loc Cert.SumGateupKernel.nD Cert.SumGateupKernel.τ Cert.SumGateupKernel.sig) → Buf (Elt Bits) ℓ) : Prop :=
  True

def Pre_SumGateupKernelIdeal (m : (ℓ : Loc Cert.SumGateupKernelIdeal.nD Cert.SumGateupKernelIdeal.τ Cert.SumGateupKernelIdeal.sig) → Buf (Elt Ideal) ℓ) : Prop :=
  True

def Pre_SumGateupReferenceIdeal (m : (ℓ : Loc Cert.SumGateupReferenceIdeal.nD Cert.SumGateupReferenceIdeal.τ Cert.SumGateupReferenceIdeal.sig) → Buf (Elt Ideal) ℓ) : Prop :=
  True

def Pre_SumDownKernel (m : (ℓ : Loc Cert.SumDownKernel.nD Cert.SumDownKernel.τ Cert.SumDownKernel.sig) → Buf (Elt Bits) ℓ) : Prop :=
  True

def Pre_SumDownKernelIdeal (m : (ℓ : Loc Cert.SumDownKernelIdeal.nD Cert.SumDownKernelIdeal.τ Cert.SumDownKernelIdeal.sig) → Buf (Elt Ideal) ℓ) : Prop :=
  True

def Pre_SumDownReferenceIdeal (m : (ℓ : Loc Cert.SumDownReferenceIdeal.nD Cert.SumDownReferenceIdeal.τ Cert.SumDownReferenceIdeal.sig) → Buf (Elt Ideal) ℓ) : Prop :=
  True

def Pre_SumMixKernel (m : (ℓ : Loc Cert.SumMixKernel.nD Cert.SumMixKernel.τ Cert.SumMixKernel.sig) → Buf (Elt Bits) ℓ) : Prop :=
  True

def Pre_SumMixKernelIdeal (m : (ℓ : Loc Cert.SumMixKernelIdeal.nD Cert.SumMixKernelIdeal.τ Cert.SumMixKernelIdeal.sig) → Buf (Elt Ideal) ℓ) : Prop :=
  True

def Pre_SumMixReferenceIdeal (m : (ℓ : Loc Cert.SumMixReferenceIdeal.nD Cert.SumMixReferenceIdeal.τ Cert.SumMixReferenceIdeal.sig) → Buf (Elt Ideal) ℓ) : Prop :=
  True

def Pre_SumSmallKernel (m : (ℓ : Loc Cert.SumSmallKernel.nD Cert.SumSmallKernel.τ Cert.SumSmallKernel.sig) → Buf (Elt Bits) ℓ) : Prop :=
  True

def Pre_SumSmallKernelIdeal (m : (ℓ : Loc Cert.SumSmallKernelIdeal.nD Cert.SumSmallKernelIdeal.τ Cert.SumSmallKernelIdeal.sig) → Buf (Elt Ideal) ℓ) : Prop :=
  True

def Pre_SumSmallReferenceIdeal (m : (ℓ : Loc Cert.SumSmallReferenceIdeal.nD Cert.SumSmallReferenceIdeal.τ Cert.SumSmallReferenceIdeal.sig) → Buf (Elt Ideal) ℓ) : Prop :=
  True

def Pre_LossGradKernel (m : (ℓ : Loc Cert.LossGradKernel.nD Cert.LossGradKernel.τ Cert.LossGradKernel.sig) → Buf (Elt Bits) ℓ) : Prop :=
  True

def Pre_LossGradKernelIdeal (m : (ℓ : Loc Cert.LossGradKernelIdeal.nD Cert.LossGradKernelIdeal.τ Cert.LossGradKernelIdeal.sig) → Buf (Elt Ideal) ℓ) : Prop :=
  True

def Pre_LossGradReferenceIdeal (m : (ℓ : Loc Cert.LossGradReferenceIdeal.nD Cert.LossGradReferenceIdeal.τ Cert.LossGradReferenceIdeal.sig) → Buf (Elt Ideal) ℓ) : Prop :=
  True

def Pre_ConvOutKernel (m : (ℓ : Loc Cert.ConvOutKernel.nD Cert.ConvOutKernel.τ Cert.ConvOutKernel.sig) → Buf (Elt Bits) ℓ) : Prop :=
  True

def Pre_ConvOutKernelIdeal (m : (ℓ : Loc Cert.ConvOutKernelIdeal.nD Cert.ConvOutKernelIdeal.τ Cert.ConvOutKernelIdeal.sig) → Buf (Elt Ideal) ℓ) : Prop :=
  True

def Pre_ConvOutReferenceIdeal (m : (ℓ : Loc Cert.ConvOutReferenceIdeal.nD Cert.ConvOutReferenceIdeal.τ Cert.ConvOutReferenceIdeal.sig) → Buf (Elt Ideal) ℓ) : Prop :=
  True

def Pre_ConvDcKernel (m : (ℓ : Loc Cert.ConvDcKernel.nD Cert.ConvDcKernel.τ Cert.ConvDcKernel.sig) → Buf (Elt Bits) ℓ) : Prop :=
  True

def Pre_ConvDcKernelIdeal (m : (ℓ : Loc Cert.ConvDcKernelIdeal.nD Cert.ConvDcKernelIdeal.τ Cert.ConvDcKernelIdeal.sig) → Buf (Elt Ideal) ℓ) : Prop :=
  True

def Pre_ConvDcReferenceIdeal (m : (ℓ : Loc Cert.ConvDcReferenceIdeal.nD Cert.ConvDcReferenceIdeal.τ Cert.ConvDcReferenceIdeal.sig) → Buf (Elt Ideal) ℓ) : Prop :=
  True

def Pre_ConvDwoutKernel (m : (ℓ : Loc Cert.ConvDwoutKernel.nD Cert.ConvDwoutKernel.τ Cert.ConvDwoutKernel.sig) → Buf (Elt Bits) ℓ) : Prop :=
  True

def Pre_ConvDwoutKernelIdeal (m : (ℓ : Loc Cert.ConvDwoutKernelIdeal.nD Cert.ConvDwoutKernelIdeal.τ Cert.ConvDwoutKernelIdeal.sig) → Buf (Elt Ideal) ℓ) : Prop :=
  True

def Pre_ConvDwoutReferenceIdeal (m : (ℓ : Loc Cert.ConvDwoutReferenceIdeal.nD Cert.ConvDwoutReferenceIdeal.τ Cert.ConvDwoutReferenceIdeal.sig) → Buf (Elt Ideal) ℓ) : Prop :=
  True

def Pre_MlaOutKernel (m : (ℓ : Loc Cert.MlaOutKernel.nD Cert.MlaOutKernel.τ Cert.MlaOutKernel.sig) → Buf (Elt Bits) ℓ) : Prop :=
  True

def Pre_MlaOutKernelIdeal (m : (ℓ : Loc Cert.MlaOutKernelIdeal.nD Cert.MlaOutKernelIdeal.τ Cert.MlaOutKernelIdeal.sig) → Buf (Elt Ideal) ℓ) : Prop :=
  True

def Pre_MlaOutReferenceIdeal (m : (ℓ : Loc Cert.MlaOutReferenceIdeal.nD Cert.MlaOutReferenceIdeal.τ Cert.MlaOutReferenceIdeal.sig) → Buf (Elt Ideal) ℓ) : Prop :=
  True

def Pre_MlaDoKernel (m : (ℓ : Loc Cert.MlaDoKernel.nD Cert.MlaDoKernel.τ Cert.MlaDoKernel.sig) → Buf (Elt Bits) ℓ) : Prop :=
  True

def Pre_MlaDoKernelIdeal (m : (ℓ : Loc Cert.MlaDoKernelIdeal.nD Cert.MlaDoKernelIdeal.τ Cert.MlaDoKernelIdeal.sig) → Buf (Elt Ideal) ℓ) : Prop :=
  True

def Pre_MlaDoReferenceIdeal (m : (ℓ : Loc Cert.MlaDoReferenceIdeal.nD Cert.MlaDoReferenceIdeal.τ Cert.MlaDoReferenceIdeal.sig) → Buf (Elt Ideal) ℓ) : Prop :=
  True

def Pre_MlaDwoutKernel (m : (ℓ : Loc Cert.MlaDwoutKernel.nD Cert.MlaDwoutKernel.τ Cert.MlaDwoutKernel.sig) → Buf (Elt Bits) ℓ) : Prop :=
  True

def Pre_MlaDwoutKernelIdeal (m : (ℓ : Loc Cert.MlaDwoutKernelIdeal.nD Cert.MlaDwoutKernelIdeal.τ Cert.MlaDwoutKernelIdeal.sig) → Buf (Elt Ideal) ℓ) : Prop :=
  True

def Pre_MlaDwoutReferenceIdeal (m : (ℓ : Loc Cert.MlaDwoutReferenceIdeal.nD Cert.MlaDwoutReferenceIdeal.τ Cert.MlaDwoutReferenceIdeal.sig) → Buf (Elt Ideal) ℓ) : Prop :=
  True

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_FfnDhRmsKernel [hFfnDhRmsKernel : Cert.FfnDhRmsKernel.Facts] : Prop :=
  ∀ (m : (ℓ : Loc Cert.FfnDhRmsKernel.nD Cert.FfnDhRmsKernel.τ Cert.FfnDhRmsKernel.sig) → Buf (Elt Bits) ℓ) (g : Dev Cert.FfnDhRmsKernel.nD → PrngReg), Pre_FfnDhRmsKernel m →
    θ_run (Cert.FfnDhRmsKernel.defs (F := Bits)) (onTc (τ := Cert.FfnDhRmsKernel.τ) (Cert.FfnDhRmsKernel.main (F := Bits))) ⟨m, fun _ => 0, g⟩ (fun r => (∀ c : Dev Cert.FfnDhRmsKernel.nD,
      r.2.mem ((c.tc : Thread Cert.FfnDhRmsKernel.nD Cert.FfnDhRmsKernel.τ).loc Cert.FfnDhRmsKernel.main_arg0) = m ((c.tc : Thread Cert.FfnDhRmsKernel.nD Cert.FfnDhRmsKernel.τ).loc Cert.FfnDhRmsKernel.main_arg0)
      ∧ r.2.mem ((c.tc : Thread Cert.FfnDhRmsKernel.nD Cert.FfnDhRmsKernel.τ).loc Cert.FfnDhRmsKernel.main_arg1) = m ((c.tc : Thread Cert.FfnDhRmsKernel.nD Cert.FfnDhRmsKernel.τ).loc Cert.FfnDhRmsKernel.main_arg1)
      ∧ r.2.mem ((c.tc : Thread Cert.FfnDhRmsKernel.nD Cert.FfnDhRmsKernel.τ).loc Cert.FfnDhRmsKernel.main_arg2) = m ((c.tc : Thread Cert.FfnDhRmsKernel.nD Cert.FfnDhRmsKernel.τ).loc Cert.FfnDhRmsKernel.main_arg2)
      ∧ r.2.mem ((c.tc : Thread Cert.FfnDhRmsKernel.nD Cert.FfnDhRmsKernel.τ).loc Cert.FfnDhRmsKernel.main_arg3) = m ((c.tc : Thread Cert.FfnDhRmsKernel.nD Cert.FfnDhRmsKernel.τ).loc Cert.FfnDhRmsKernel.main_arg3)
      ∧ r.2.mem ((c.tc : Thread Cert.FfnDhRmsKernel.nD Cert.FfnDhRmsKernel.τ).loc Cert.FfnDhRmsKernel.main_arg4) = m ((c.tc : Thread Cert.FfnDhRmsKernel.nD Cert.FfnDhRmsKernel.τ).loc Cert.FfnDhRmsKernel.main_arg4)
      ∧ r.2.mem ((c.tc : Thread Cert.FfnDhRmsKernel.nD Cert.FfnDhRmsKernel.τ).loc Cert.FfnDhRmsKernel.main_arg5) = m ((c.tc : Thread Cert.FfnDhRmsKernel.nD Cert.FfnDhRmsKernel.τ).loc Cert.FfnDhRmsKernel.main_arg5)
      ∧ r.2.mem ((c.tc : Thread Cert.FfnDhRmsKernel.nD Cert.FfnDhRmsKernel.τ).loc Cert.FfnDhRmsKernel.main_arg6) = m ((c.tc : Thread Cert.FfnDhRmsKernel.nD Cert.FfnDhRmsKernel.τ).loc Cert.FfnDhRmsKernel.main_arg6))
      ∧ r.2.sem = fun _ => 0)

def quiescent_FfnDhRmsKernelIdeal [hFfnDhRmsKernelIdeal : Cert.FfnDhRmsKernelIdeal.Facts] : Prop :=
  ∀ (m : (ℓ : Loc Cert.FfnDhRmsKernelIdeal.nD Cert.FfnDhRmsKernelIdeal.τ Cert.FfnDhRmsKernelIdeal.sig) → Buf (Elt Ideal) ℓ) (g : Dev Cert.FfnDhRmsKernelIdeal.nD → PrngReg), Pre_FfnDhRmsKernelIdeal m →
    θ_run (Cert.FfnDhRmsKernelIdeal.defs (F := Ideal)) (onTc (τ := Cert.FfnDhRmsKernelIdeal.τ) (Cert.FfnDhRmsKernelIdeal.main (F := Ideal))) ⟨m, fun _ => 0, g⟩ (fun r => (∀ c : Dev Cert.FfnDhRmsKernelIdeal.nD,
      r.2.mem ((c.tc : Thread Cert.FfnDhRmsKernelIdeal.nD Cert.FfnDhRmsKernelIdeal.τ).loc Cert.FfnDhRmsKernelIdeal.main_arg0) = m ((c.tc : Thread Cert.FfnDhRmsKernelIdeal.nD Cert.FfnDhRmsKernelIdeal.τ).loc Cert.FfnDhRmsKernelIdeal.main_arg0)
      ∧ r.2.mem ((c.tc : Thread Cert.FfnDhRmsKernelIdeal.nD Cert.FfnDhRmsKernelIdeal.τ).loc Cert.FfnDhRmsKernelIdeal.main_arg1) = m ((c.tc : Thread Cert.FfnDhRmsKernelIdeal.nD Cert.FfnDhRmsKernelIdeal.τ).loc Cert.FfnDhRmsKernelIdeal.main_arg1)
      ∧ r.2.mem ((c.tc : Thread Cert.FfnDhRmsKernelIdeal.nD Cert.FfnDhRmsKernelIdeal.τ).loc Cert.FfnDhRmsKernelIdeal.main_arg2) = m ((c.tc : Thread Cert.FfnDhRmsKernelIdeal.nD Cert.FfnDhRmsKernelIdeal.τ).loc Cert.FfnDhRmsKernelIdeal.main_arg2)
      ∧ r.2.mem ((c.tc : Thread Cert.FfnDhRmsKernelIdeal.nD Cert.FfnDhRmsKernelIdeal.τ).loc Cert.FfnDhRmsKernelIdeal.main_arg3) = m ((c.tc : Thread Cert.FfnDhRmsKernelIdeal.nD Cert.FfnDhRmsKernelIdeal.τ).loc Cert.FfnDhRmsKernelIdeal.main_arg3)
      ∧ r.2.mem ((c.tc : Thread Cert.FfnDhRmsKernelIdeal.nD Cert.FfnDhRmsKernelIdeal.τ).loc Cert.FfnDhRmsKernelIdeal.main_arg4) = m ((c.tc : Thread Cert.FfnDhRmsKernelIdeal.nD Cert.FfnDhRmsKernelIdeal.τ).loc Cert.FfnDhRmsKernelIdeal.main_arg4)
      ∧ r.2.mem ((c.tc : Thread Cert.FfnDhRmsKernelIdeal.nD Cert.FfnDhRmsKernelIdeal.τ).loc Cert.FfnDhRmsKernelIdeal.main_arg5) = m ((c.tc : Thread Cert.FfnDhRmsKernelIdeal.nD Cert.FfnDhRmsKernelIdeal.τ).loc Cert.FfnDhRmsKernelIdeal.main_arg5)
      ∧ r.2.mem ((c.tc : Thread Cert.FfnDhRmsKernelIdeal.nD Cert.FfnDhRmsKernelIdeal.τ).loc Cert.FfnDhRmsKernelIdeal.main_arg6) = m ((c.tc : Thread Cert.FfnDhRmsKernelIdeal.nD Cert.FfnDhRmsKernelIdeal.τ).loc Cert.FfnDhRmsKernelIdeal.main_arg6))
      ∧ r.2.sem = fun _ => 0)

def quiescent_FfnDhRmsKernelIdeal_pre_ffn_dh_rms_finite [hFfnDhRmsKernelIdeal : Cert.FfnDhRmsKernelIdeal.Facts] [hPre_ffn_dh_rms_finite : Cert.Pre_ffn_dh_rms_finite.Facts] : Prop :=
  ∀ (m : (ℓ : Loc Cert.FfnDhRmsKernelIdeal.nD Cert.FfnDhRmsKernelIdeal.τ Cert.FfnDhRmsKernelIdeal.sig) → Buf (Elt Ideal) ℓ) (g : Dev Cert.FfnDhRmsKernelIdeal.nD → PrngReg), Pre_FfnDhRmsKernelIdeal_ffn_dh_rms_finite m →
    θ_run (Cert.FfnDhRmsKernelIdeal.defs (F := Ideal)) (onTc (τ := Cert.FfnDhRmsKernelIdeal.τ) (Cert.FfnDhRmsKernelIdeal.main (F := Ideal))) ⟨m, fun _ => 0, g⟩ (fun r => (∀ c : Dev Cert.FfnDhRmsKernelIdeal.nD,
      r.2.mem ((c.tc : Thread Cert.FfnDhRmsKernelIdeal.nD Cert.FfnDhRmsKernelIdeal.τ).loc Cert.FfnDhRmsKernelIdeal.main_arg0) = m ((c.tc : Thread Cert.FfnDhRmsKernelIdeal.nD Cert.FfnDhRmsKernelIdeal.τ).loc Cert.FfnDhRmsKernelIdeal.main_arg0)
      ∧ r.2.mem ((c.tc : Thread Cert.FfnDhRmsKernelIdeal.nD Cert.FfnDhRmsKernelIdeal.τ).loc Cert.FfnDhRmsKernelIdeal.main_arg1) = m ((c.tc : Thread Cert.FfnDhRmsKernelIdeal.nD Cert.FfnDhRmsKernelIdeal.τ).loc Cert.FfnDhRmsKernelIdeal.main_arg1)
      ∧ r.2.mem ((c.tc : Thread Cert.FfnDhRmsKernelIdeal.nD Cert.FfnDhRmsKernelIdeal.τ).loc Cert.FfnDhRmsKernelIdeal.main_arg2) = m ((c.tc : Thread Cert.FfnDhRmsKernelIdeal.nD Cert.FfnDhRmsKernelIdeal.τ).loc Cert.FfnDhRmsKernelIdeal.main_arg2)
      ∧ r.2.mem ((c.tc : Thread Cert.FfnDhRmsKernelIdeal.nD Cert.FfnDhRmsKernelIdeal.τ).loc Cert.FfnDhRmsKernelIdeal.main_arg3) = m ((c.tc : Thread Cert.FfnDhRmsKernelIdeal.nD Cert.FfnDhRmsKernelIdeal.τ).loc Cert.FfnDhRmsKernelIdeal.main_arg3)
      ∧ r.2.mem ((c.tc : Thread Cert.FfnDhRmsKernelIdeal.nD Cert.FfnDhRmsKernelIdeal.τ).loc Cert.FfnDhRmsKernelIdeal.main_arg4) = m ((c.tc : Thread Cert.FfnDhRmsKernelIdeal.nD Cert.FfnDhRmsKernelIdeal.τ).loc Cert.FfnDhRmsKernelIdeal.main_arg4)
      ∧ r.2.mem ((c.tc : Thread Cert.FfnDhRmsKernelIdeal.nD Cert.FfnDhRmsKernelIdeal.τ).loc Cert.FfnDhRmsKernelIdeal.main_arg5) = m ((c.tc : Thread Cert.FfnDhRmsKernelIdeal.nD Cert.FfnDhRmsKernelIdeal.τ).loc Cert.FfnDhRmsKernelIdeal.main_arg5)
      ∧ r.2.mem ((c.tc : Thread Cert.FfnDhRmsKernelIdeal.nD Cert.FfnDhRmsKernelIdeal.τ).loc Cert.FfnDhRmsKernelIdeal.main_arg6) = m ((c.tc : Thread Cert.FfnDhRmsKernelIdeal.nD Cert.FfnDhRmsKernelIdeal.τ).loc Cert.FfnDhRmsKernelIdeal.main_arg6))
      ∧ r.2.sem = fun _ => 0)

def quiescent_FfnDhRmsReferenceIdeal [hFfnDhRmsReferenceIdeal : Cert.FfnDhRmsReferenceIdeal.Facts] : Prop :=
  ∀ (m : (ℓ : Loc Cert.FfnDhRmsReferenceIdeal.nD Cert.FfnDhRmsReferenceIdeal.τ Cert.FfnDhRmsReferenceIdeal.sig) → Buf (Elt Ideal) ℓ) (g : Dev Cert.FfnDhRmsReferenceIdeal.nD → PrngReg), Pre_FfnDhRmsReferenceIdeal m →
    θ_run (Cert.FfnDhRmsReferenceIdeal.defs (F := Ideal)) (onTc (τ := Cert.FfnDhRmsReferenceIdeal.τ) (Cert.FfnDhRmsReferenceIdeal.main (F := Ideal))) ⟨m, fun _ => 0, g⟩ (fun r => (∀ c : Dev Cert.FfnDhRmsReferenceIdeal.nD,
      r.2.mem ((c.tc : Thread Cert.FfnDhRmsReferenceIdeal.nD Cert.FfnDhRmsReferenceIdeal.τ).loc Cert.FfnDhRmsReferenceIdeal.main_arg0) = m ((c.tc : Thread Cert.FfnDhRmsReferenceIdeal.nD Cert.FfnDhRmsReferenceIdeal.τ).loc Cert.FfnDhRmsReferenceIdeal.main_arg0)
      ∧ r.2.mem ((c.tc : Thread Cert.FfnDhRmsReferenceIdeal.nD Cert.FfnDhRmsReferenceIdeal.τ).loc Cert.FfnDhRmsReferenceIdeal.main_arg1) = m ((c.tc : Thread Cert.FfnDhRmsReferenceIdeal.nD Cert.FfnDhRmsReferenceIdeal.τ).loc Cert.FfnDhRmsReferenceIdeal.main_arg1)
      ∧ r.2.mem ((c.tc : Thread Cert.FfnDhRmsReferenceIdeal.nD Cert.FfnDhRmsReferenceIdeal.τ).loc Cert.FfnDhRmsReferenceIdeal.main_arg2) = m ((c.tc : Thread Cert.FfnDhRmsReferenceIdeal.nD Cert.FfnDhRmsReferenceIdeal.τ).loc Cert.FfnDhRmsReferenceIdeal.main_arg2)
      ∧ r.2.mem ((c.tc : Thread Cert.FfnDhRmsReferenceIdeal.nD Cert.FfnDhRmsReferenceIdeal.τ).loc Cert.FfnDhRmsReferenceIdeal.main_arg3) = m ((c.tc : Thread Cert.FfnDhRmsReferenceIdeal.nD Cert.FfnDhRmsReferenceIdeal.τ).loc Cert.FfnDhRmsReferenceIdeal.main_arg3)
      ∧ r.2.mem ((c.tc : Thread Cert.FfnDhRmsReferenceIdeal.nD Cert.FfnDhRmsReferenceIdeal.τ).loc Cert.FfnDhRmsReferenceIdeal.main_arg4) = m ((c.tc : Thread Cert.FfnDhRmsReferenceIdeal.nD Cert.FfnDhRmsReferenceIdeal.τ).loc Cert.FfnDhRmsReferenceIdeal.main_arg4)
      ∧ r.2.mem ((c.tc : Thread Cert.FfnDhRmsReferenceIdeal.nD Cert.FfnDhRmsReferenceIdeal.τ).loc Cert.FfnDhRmsReferenceIdeal.main_arg5) = m ((c.tc : Thread Cert.FfnDhRmsReferenceIdeal.nD Cert.FfnDhRmsReferenceIdeal.τ).loc Cert.FfnDhRmsReferenceIdeal.main_arg5)
      ∧ r.2.mem ((c.tc : Thread Cert.FfnDhRmsReferenceIdeal.nD Cert.FfnDhRmsReferenceIdeal.τ).loc Cert.FfnDhRmsReferenceIdeal.main_arg6) = m ((c.tc : Thread Cert.FfnDhRmsReferenceIdeal.nD Cert.FfnDhRmsReferenceIdeal.τ).loc Cert.FfnDhRmsReferenceIdeal.main_arg6))
      ∧ r.2.sem = fun _ => 0)

def quiescent_FfnDhRmsReferenceIdeal_pre_ffn_dh_rms_finite [hFfnDhRmsReferenceIdeal : Cert.FfnDhRmsReferenceIdeal.Facts] [hPre_ffn_dh_rms_finite : Cert.Pre_ffn_dh_rms_finite.Facts] : Prop :=
  ∀ (m : (ℓ : Loc Cert.FfnDhRmsReferenceIdeal.nD Cert.FfnDhRmsReferenceIdeal.τ Cert.FfnDhRmsReferenceIdeal.sig) → Buf (Elt Ideal) ℓ) (g : Dev Cert.FfnDhRmsReferenceIdeal.nD → PrngReg), Pre_FfnDhRmsReferenceIdeal_ffn_dh_rms_finite m →
    θ_run (Cert.FfnDhRmsReferenceIdeal.defs (F := Ideal)) (onTc (τ := Cert.FfnDhRmsReferenceIdeal.τ) (Cert.FfnDhRmsReferenceIdeal.main (F := Ideal))) ⟨m, fun _ => 0, g⟩ (fun r => (∀ c : Dev Cert.FfnDhRmsReferenceIdeal.nD,
      r.2.mem ((c.tc : Thread Cert.FfnDhRmsReferenceIdeal.nD Cert.FfnDhRmsReferenceIdeal.τ).loc Cert.FfnDhRmsReferenceIdeal.main_arg0) = m ((c.tc : Thread Cert.FfnDhRmsReferenceIdeal.nD Cert.FfnDhRmsReferenceIdeal.τ).loc Cert.FfnDhRmsReferenceIdeal.main_arg0)
      ∧ r.2.mem ((c.tc : Thread Cert.FfnDhRmsReferenceIdeal.nD Cert.FfnDhRmsReferenceIdeal.τ).loc Cert.FfnDhRmsReferenceIdeal.main_arg1) = m ((c.tc : Thread Cert.FfnDhRmsReferenceIdeal.nD Cert.FfnDhRmsReferenceIdeal.τ).loc Cert.FfnDhRmsReferenceIdeal.main_arg1)
      ∧ r.2.mem ((c.tc : Thread Cert.FfnDhRmsReferenceIdeal.nD Cert.FfnDhRmsReferenceIdeal.τ).loc Cert.FfnDhRmsReferenceIdeal.main_arg2) = m ((c.tc : Thread Cert.FfnDhRmsReferenceIdeal.nD Cert.FfnDhRmsReferenceIdeal.τ).loc Cert.FfnDhRmsReferenceIdeal.main_arg2)
      ∧ r.2.mem ((c.tc : Thread Cert.FfnDhRmsReferenceIdeal.nD Cert.FfnDhRmsReferenceIdeal.τ).loc Cert.FfnDhRmsReferenceIdeal.main_arg3) = m ((c.tc : Thread Cert.FfnDhRmsReferenceIdeal.nD Cert.FfnDhRmsReferenceIdeal.τ).loc Cert.FfnDhRmsReferenceIdeal.main_arg3)
      ∧ r.2.mem ((c.tc : Thread Cert.FfnDhRmsReferenceIdeal.nD Cert.FfnDhRmsReferenceIdeal.τ).loc Cert.FfnDhRmsReferenceIdeal.main_arg4) = m ((c.tc : Thread Cert.FfnDhRmsReferenceIdeal.nD Cert.FfnDhRmsReferenceIdeal.τ).loc Cert.FfnDhRmsReferenceIdeal.main_arg4)
      ∧ r.2.mem ((c.tc : Thread Cert.FfnDhRmsReferenceIdeal.nD Cert.FfnDhRmsReferenceIdeal.τ).loc Cert.FfnDhRmsReferenceIdeal.main_arg5) = m ((c.tc : Thread Cert.FfnDhRmsReferenceIdeal.nD Cert.FfnDhRmsReferenceIdeal.τ).loc Cert.FfnDhRmsReferenceIdeal.main_arg5)
      ∧ r.2.mem ((c.tc : Thread Cert.FfnDhRmsReferenceIdeal.nD Cert.FfnDhRmsReferenceIdeal.τ).loc Cert.FfnDhRmsReferenceIdeal.main_arg6) = m ((c.tc : Thread Cert.FfnDhRmsReferenceIdeal.nD Cert.FfnDhRmsReferenceIdeal.τ).loc Cert.FfnDhRmsReferenceIdeal.main_arg6))
      ∧ r.2.sem = fun _ => 0)

def quiescent_FfnBwdUpKernel [hFfnBwdUpKernel : Cert.FfnBwdUpKernel.Facts] : Prop :=
  ∀ (m : (ℓ : Loc Cert.FfnBwdUpKernel.nD Cert.FfnBwdUpKernel.τ Cert.FfnBwdUpKernel.sig) → Buf (Elt Bits) ℓ) (g : Dev Cert.FfnBwdUpKernel.nD → PrngReg), Pre_FfnBwdUpKernel m →
    θ_run (Cert.FfnBwdUpKernel.defs (F := Bits)) (onTc (τ := Cert.FfnBwdUpKernel.τ) (Cert.FfnBwdUpKernel.main (F := Bits))) ⟨m, fun _ => 0, g⟩ (fun r => (∀ c : Dev Cert.FfnBwdUpKernel.nD,
      r.2.mem ((c.tc : Thread Cert.FfnBwdUpKernel.nD Cert.FfnBwdUpKernel.τ).loc Cert.FfnBwdUpKernel.main_arg0) = m ((c.tc : Thread Cert.FfnBwdUpKernel.nD Cert.FfnBwdUpKernel.τ).loc Cert.FfnBwdUpKernel.main_arg0)
      ∧ r.2.mem ((c.tc : Thread Cert.FfnBwdUpKernel.nD Cert.FfnBwdUpKernel.τ).loc Cert.FfnBwdUpKernel.main_arg1) = m ((c.tc : Thread Cert.FfnBwdUpKernel.nD Cert.FfnBwdUpKernel.τ).loc Cert.FfnBwdUpKernel.main_arg1)
      ∧ r.2.mem ((c.tc : Thread Cert.FfnBwdUpKernel.nD Cert.FfnBwdUpKernel.τ).loc Cert.FfnBwdUpKernel.main_arg2) = m ((c.tc : Thread Cert.FfnBwdUpKernel.nD Cert.FfnBwdUpKernel.τ).loc Cert.FfnBwdUpKernel.main_arg2)
      ∧ r.2.mem ((c.tc : Thread Cert.FfnBwdUpKernel.nD Cert.FfnBwdUpKernel.τ).loc Cert.FfnBwdUpKernel.main_arg3) = m ((c.tc : Thread Cert.FfnBwdUpKernel.nD Cert.FfnBwdUpKernel.τ).loc Cert.FfnBwdUpKernel.main_arg3))
      ∧ r.2.sem = fun _ => 0)

def quiescent_FfnBwdUpKernelIdeal [hFfnBwdUpKernelIdeal : Cert.FfnBwdUpKernelIdeal.Facts] : Prop :=
  ∀ (m : (ℓ : Loc Cert.FfnBwdUpKernelIdeal.nD Cert.FfnBwdUpKernelIdeal.τ Cert.FfnBwdUpKernelIdeal.sig) → Buf (Elt Ideal) ℓ) (g : Dev Cert.FfnBwdUpKernelIdeal.nD → PrngReg), Pre_FfnBwdUpKernelIdeal m →
    θ_run (Cert.FfnBwdUpKernelIdeal.defs (F := Ideal)) (onTc (τ := Cert.FfnBwdUpKernelIdeal.τ) (Cert.FfnBwdUpKernelIdeal.main (F := Ideal))) ⟨m, fun _ => 0, g⟩ (fun r => (∀ c : Dev Cert.FfnBwdUpKernelIdeal.nD,
      r.2.mem ((c.tc : Thread Cert.FfnBwdUpKernelIdeal.nD Cert.FfnBwdUpKernelIdeal.τ).loc Cert.FfnBwdUpKernelIdeal.main_arg0) = m ((c.tc : Thread Cert.FfnBwdUpKernelIdeal.nD Cert.FfnBwdUpKernelIdeal.τ).loc Cert.FfnBwdUpKernelIdeal.main_arg0)
      ∧ r.2.mem ((c.tc : Thread Cert.FfnBwdUpKernelIdeal.nD Cert.FfnBwdUpKernelIdeal.τ).loc Cert.FfnBwdUpKernelIdeal.main_arg1) = m ((c.tc : Thread Cert.FfnBwdUpKernelIdeal.nD Cert.FfnBwdUpKernelIdeal.τ).loc Cert.FfnBwdUpKernelIdeal.main_arg1)
      ∧ r.2.mem ((c.tc : Thread Cert.FfnBwdUpKernelIdeal.nD Cert.FfnBwdUpKernelIdeal.τ).loc Cert.FfnBwdUpKernelIdeal.main_arg2) = m ((c.tc : Thread Cert.FfnBwdUpKernelIdeal.nD Cert.FfnBwdUpKernelIdeal.τ).loc Cert.FfnBwdUpKernelIdeal.main_arg2)
      ∧ r.2.mem ((c.tc : Thread Cert.FfnBwdUpKernelIdeal.nD Cert.FfnBwdUpKernelIdeal.τ).loc Cert.FfnBwdUpKernelIdeal.main_arg3) = m ((c.tc : Thread Cert.FfnBwdUpKernelIdeal.nD Cert.FfnBwdUpKernelIdeal.τ).loc Cert.FfnBwdUpKernelIdeal.main_arg3))
      ∧ r.2.sem = fun _ => 0)

def quiescent_FfnBwdUpKernelIdeal_pre_ffn_bwd_up_finite [hFfnBwdUpKernelIdeal : Cert.FfnBwdUpKernelIdeal.Facts] [hPre_ffn_bwd_up_finite : Cert.Pre_ffn_bwd_up_finite.Facts] : Prop :=
  ∀ (m : (ℓ : Loc Cert.FfnBwdUpKernelIdeal.nD Cert.FfnBwdUpKernelIdeal.τ Cert.FfnBwdUpKernelIdeal.sig) → Buf (Elt Ideal) ℓ) (g : Dev Cert.FfnBwdUpKernelIdeal.nD → PrngReg), Pre_FfnBwdUpKernelIdeal_ffn_bwd_up_finite m →
    θ_run (Cert.FfnBwdUpKernelIdeal.defs (F := Ideal)) (onTc (τ := Cert.FfnBwdUpKernelIdeal.τ) (Cert.FfnBwdUpKernelIdeal.main (F := Ideal))) ⟨m, fun _ => 0, g⟩ (fun r => (∀ c : Dev Cert.FfnBwdUpKernelIdeal.nD,
      r.2.mem ((c.tc : Thread Cert.FfnBwdUpKernelIdeal.nD Cert.FfnBwdUpKernelIdeal.τ).loc Cert.FfnBwdUpKernelIdeal.main_arg0) = m ((c.tc : Thread Cert.FfnBwdUpKernelIdeal.nD Cert.FfnBwdUpKernelIdeal.τ).loc Cert.FfnBwdUpKernelIdeal.main_arg0)
      ∧ r.2.mem ((c.tc : Thread Cert.FfnBwdUpKernelIdeal.nD Cert.FfnBwdUpKernelIdeal.τ).loc Cert.FfnBwdUpKernelIdeal.main_arg1) = m ((c.tc : Thread Cert.FfnBwdUpKernelIdeal.nD Cert.FfnBwdUpKernelIdeal.τ).loc Cert.FfnBwdUpKernelIdeal.main_arg1)
      ∧ r.2.mem ((c.tc : Thread Cert.FfnBwdUpKernelIdeal.nD Cert.FfnBwdUpKernelIdeal.τ).loc Cert.FfnBwdUpKernelIdeal.main_arg2) = m ((c.tc : Thread Cert.FfnBwdUpKernelIdeal.nD Cert.FfnBwdUpKernelIdeal.τ).loc Cert.FfnBwdUpKernelIdeal.main_arg2)
      ∧ r.2.mem ((c.tc : Thread Cert.FfnBwdUpKernelIdeal.nD Cert.FfnBwdUpKernelIdeal.τ).loc Cert.FfnBwdUpKernelIdeal.main_arg3) = m ((c.tc : Thread Cert.FfnBwdUpKernelIdeal.nD Cert.FfnBwdUpKernelIdeal.τ).loc Cert.FfnBwdUpKernelIdeal.main_arg3))
      ∧ r.2.sem = fun _ => 0)

def quiescent_FfnBwdUpReferenceIdeal [hFfnBwdUpReferenceIdeal : Cert.FfnBwdUpReferenceIdeal.Facts] : Prop :=
  ∀ (m : (ℓ : Loc Cert.FfnBwdUpReferenceIdeal.nD Cert.FfnBwdUpReferenceIdeal.τ Cert.FfnBwdUpReferenceIdeal.sig) → Buf (Elt Ideal) ℓ) (g : Dev Cert.FfnBwdUpReferenceIdeal.nD → PrngReg), Pre_FfnBwdUpReferenceIdeal m →
    θ_run (Cert.FfnBwdUpReferenceIdeal.defs (F := Ideal)) (onTc (τ := Cert.FfnBwdUpReferenceIdeal.τ) (Cert.FfnBwdUpReferenceIdeal.main (F := Ideal))) ⟨m, fun _ => 0, g⟩ (fun r => (∀ c : Dev Cert.FfnBwdUpReferenceIdeal.nD,
      r.2.mem ((c.tc : Thread Cert.FfnBwdUpReferenceIdeal.nD Cert.FfnBwdUpReferenceIdeal.τ).loc Cert.FfnBwdUpReferenceIdeal.main_arg0) = m ((c.tc : Thread Cert.FfnBwdUpReferenceIdeal.nD Cert.FfnBwdUpReferenceIdeal.τ).loc Cert.FfnBwdUpReferenceIdeal.main_arg0)
      ∧ r.2.mem ((c.tc : Thread Cert.FfnBwdUpReferenceIdeal.nD Cert.FfnBwdUpReferenceIdeal.τ).loc Cert.FfnBwdUpReferenceIdeal.main_arg1) = m ((c.tc : Thread Cert.FfnBwdUpReferenceIdeal.nD Cert.FfnBwdUpReferenceIdeal.τ).loc Cert.FfnBwdUpReferenceIdeal.main_arg1)
      ∧ r.2.mem ((c.tc : Thread Cert.FfnBwdUpReferenceIdeal.nD Cert.FfnBwdUpReferenceIdeal.τ).loc Cert.FfnBwdUpReferenceIdeal.main_arg2) = m ((c.tc : Thread Cert.FfnBwdUpReferenceIdeal.nD Cert.FfnBwdUpReferenceIdeal.τ).loc Cert.FfnBwdUpReferenceIdeal.main_arg2)
      ∧ r.2.mem ((c.tc : Thread Cert.FfnBwdUpReferenceIdeal.nD Cert.FfnBwdUpReferenceIdeal.τ).loc Cert.FfnBwdUpReferenceIdeal.main_arg3) = m ((c.tc : Thread Cert.FfnBwdUpReferenceIdeal.nD Cert.FfnBwdUpReferenceIdeal.τ).loc Cert.FfnBwdUpReferenceIdeal.main_arg3))
      ∧ r.2.sem = fun _ => 0)

def quiescent_FfnBwdUpReferenceIdeal_pre_ffn_bwd_up_finite [hFfnBwdUpReferenceIdeal : Cert.FfnBwdUpReferenceIdeal.Facts] [hPre_ffn_bwd_up_finite : Cert.Pre_ffn_bwd_up_finite.Facts] : Prop :=
  ∀ (m : (ℓ : Loc Cert.FfnBwdUpReferenceIdeal.nD Cert.FfnBwdUpReferenceIdeal.τ Cert.FfnBwdUpReferenceIdeal.sig) → Buf (Elt Ideal) ℓ) (g : Dev Cert.FfnBwdUpReferenceIdeal.nD → PrngReg), Pre_FfnBwdUpReferenceIdeal_ffn_bwd_up_finite m →
    θ_run (Cert.FfnBwdUpReferenceIdeal.defs (F := Ideal)) (onTc (τ := Cert.FfnBwdUpReferenceIdeal.τ) (Cert.FfnBwdUpReferenceIdeal.main (F := Ideal))) ⟨m, fun _ => 0, g⟩ (fun r => (∀ c : Dev Cert.FfnBwdUpReferenceIdeal.nD,
      r.2.mem ((c.tc : Thread Cert.FfnBwdUpReferenceIdeal.nD Cert.FfnBwdUpReferenceIdeal.τ).loc Cert.FfnBwdUpReferenceIdeal.main_arg0) = m ((c.tc : Thread Cert.FfnBwdUpReferenceIdeal.nD Cert.FfnBwdUpReferenceIdeal.τ).loc Cert.FfnBwdUpReferenceIdeal.main_arg0)
      ∧ r.2.mem ((c.tc : Thread Cert.FfnBwdUpReferenceIdeal.nD Cert.FfnBwdUpReferenceIdeal.τ).loc Cert.FfnBwdUpReferenceIdeal.main_arg1) = m ((c.tc : Thread Cert.FfnBwdUpReferenceIdeal.nD Cert.FfnBwdUpReferenceIdeal.τ).loc Cert.FfnBwdUpReferenceIdeal.main_arg1)
      ∧ r.2.mem ((c.tc : Thread Cert.FfnBwdUpReferenceIdeal.nD Cert.FfnBwdUpReferenceIdeal.τ).loc Cert.FfnBwdUpReferenceIdeal.main_arg2) = m ((c.tc : Thread Cert.FfnBwdUpReferenceIdeal.nD Cert.FfnBwdUpReferenceIdeal.τ).loc Cert.FfnBwdUpReferenceIdeal.main_arg2)
      ∧ r.2.mem ((c.tc : Thread Cert.FfnBwdUpReferenceIdeal.nD Cert.FfnBwdUpReferenceIdeal.τ).loc Cert.FfnBwdUpReferenceIdeal.main_arg3) = m ((c.tc : Thread Cert.FfnBwdUpReferenceIdeal.nD Cert.FfnBwdUpReferenceIdeal.τ).loc Cert.FfnBwdUpReferenceIdeal.main_arg3))
      ∧ r.2.sem = fun _ => 0)

def quiescent_FfnDwgKernel [hFfnDwgKernel : Cert.FfnDwgKernel.Facts] : Prop :=
  ∀ (m : (ℓ : Loc Cert.FfnDwgKernel.nD Cert.FfnDwgKernel.τ Cert.FfnDwgKernel.sig) → Buf (Elt Bits) ℓ) (g : Dev Cert.FfnDwgKernel.nD → PrngReg), Pre_FfnDwgKernel m →
    θ_run (Cert.FfnDwgKernel.defs (F := Bits)) (onTc (τ := Cert.FfnDwgKernel.τ) (Cert.FfnDwgKernel.main (F := Bits))) ⟨m, fun _ => 0, g⟩ (fun r => (∀ c : Dev Cert.FfnDwgKernel.nD,
      r.2.mem ((c.tc : Thread Cert.FfnDwgKernel.nD Cert.FfnDwgKernel.τ).loc Cert.FfnDwgKernel.main_arg0) = m ((c.tc : Thread Cert.FfnDwgKernel.nD Cert.FfnDwgKernel.τ).loc Cert.FfnDwgKernel.main_arg0)
      ∧ r.2.mem ((c.tc : Thread Cert.FfnDwgKernel.nD Cert.FfnDwgKernel.τ).loc Cert.FfnDwgKernel.main_arg1) = m ((c.tc : Thread Cert.FfnDwgKernel.nD Cert.FfnDwgKernel.τ).loc Cert.FfnDwgKernel.main_arg1))
      ∧ r.2.sem = fun _ => 0)

def quiescent_FfnDwgKernelIdeal [hFfnDwgKernelIdeal : Cert.FfnDwgKernelIdeal.Facts] : Prop :=
  ∀ (m : (ℓ : Loc Cert.FfnDwgKernelIdeal.nD Cert.FfnDwgKernelIdeal.τ Cert.FfnDwgKernelIdeal.sig) → Buf (Elt Ideal) ℓ) (g : Dev Cert.FfnDwgKernelIdeal.nD → PrngReg), Pre_FfnDwgKernelIdeal m →
    θ_run (Cert.FfnDwgKernelIdeal.defs (F := Ideal)) (onTc (τ := Cert.FfnDwgKernelIdeal.τ) (Cert.FfnDwgKernelIdeal.main (F := Ideal))) ⟨m, fun _ => 0, g⟩ (fun r => (∀ c : Dev Cert.FfnDwgKernelIdeal.nD,
      r.2.mem ((c.tc : Thread Cert.FfnDwgKernelIdeal.nD Cert.FfnDwgKernelIdeal.τ).loc Cert.FfnDwgKernelIdeal.main_arg0) = m ((c.tc : Thread Cert.FfnDwgKernelIdeal.nD Cert.FfnDwgKernelIdeal.τ).loc Cert.FfnDwgKernelIdeal.main_arg0)
      ∧ r.2.mem ((c.tc : Thread Cert.FfnDwgKernelIdeal.nD Cert.FfnDwgKernelIdeal.τ).loc Cert.FfnDwgKernelIdeal.main_arg1) = m ((c.tc : Thread Cert.FfnDwgKernelIdeal.nD Cert.FfnDwgKernelIdeal.τ).loc Cert.FfnDwgKernelIdeal.main_arg1))
      ∧ r.2.sem = fun _ => 0)

def quiescent_FfnDwgReferenceIdeal [hFfnDwgReferenceIdeal : Cert.FfnDwgReferenceIdeal.Facts] : Prop :=
  ∀ (m : (ℓ : Loc Cert.FfnDwgReferenceIdeal.nD Cert.FfnDwgReferenceIdeal.τ Cert.FfnDwgReferenceIdeal.sig) → Buf (Elt Ideal) ℓ) (g : Dev Cert.FfnDwgReferenceIdeal.nD → PrngReg), Pre_FfnDwgReferenceIdeal m →
    θ_run (Cert.FfnDwgReferenceIdeal.defs (F := Ideal)) (onTc (τ := Cert.FfnDwgReferenceIdeal.τ) (Cert.FfnDwgReferenceIdeal.main (F := Ideal))) ⟨m, fun _ => 0, g⟩ (fun r => (∀ c : Dev Cert.FfnDwgReferenceIdeal.nD,
      r.2.mem ((c.tc : Thread Cert.FfnDwgReferenceIdeal.nD Cert.FfnDwgReferenceIdeal.τ).loc Cert.FfnDwgReferenceIdeal.main_arg0) = m ((c.tc : Thread Cert.FfnDwgReferenceIdeal.nD Cert.FfnDwgReferenceIdeal.τ).loc Cert.FfnDwgReferenceIdeal.main_arg0)
      ∧ r.2.mem ((c.tc : Thread Cert.FfnDwgReferenceIdeal.nD Cert.FfnDwgReferenceIdeal.τ).loc Cert.FfnDwgReferenceIdeal.main_arg1) = m ((c.tc : Thread Cert.FfnDwgReferenceIdeal.nD Cert.FfnDwgReferenceIdeal.τ).loc Cert.FfnDwgReferenceIdeal.main_arg1))
      ∧ r.2.sem = fun _ => 0)

def quiescent_FfnDwdKernel [hFfnDwdKernel : Cert.FfnDwdKernel.Facts] : Prop :=
  ∀ (m : (ℓ : Loc Cert.FfnDwdKernel.nD Cert.FfnDwdKernel.τ Cert.FfnDwdKernel.sig) → Buf (Elt Bits) ℓ) (g : Dev Cert.FfnDwdKernel.nD → PrngReg), Pre_FfnDwdKernel m →
    θ_run (Cert.FfnDwdKernel.defs (F := Bits)) (onTc (τ := Cert.FfnDwdKernel.τ) (Cert.FfnDwdKernel.main (F := Bits))) ⟨m, fun _ => 0, g⟩ (fun r => (∀ c : Dev Cert.FfnDwdKernel.nD,
      r.2.mem ((c.tc : Thread Cert.FfnDwdKernel.nD Cert.FfnDwdKernel.τ).loc Cert.FfnDwdKernel.main_arg0) = m ((c.tc : Thread Cert.FfnDwdKernel.nD Cert.FfnDwdKernel.τ).loc Cert.FfnDwdKernel.main_arg0)
      ∧ r.2.mem ((c.tc : Thread Cert.FfnDwdKernel.nD Cert.FfnDwdKernel.τ).loc Cert.FfnDwdKernel.main_arg1) = m ((c.tc : Thread Cert.FfnDwdKernel.nD Cert.FfnDwdKernel.τ).loc Cert.FfnDwdKernel.main_arg1))
      ∧ r.2.sem = fun _ => 0)

def quiescent_FfnDwdKernelIdeal [hFfnDwdKernelIdeal : Cert.FfnDwdKernelIdeal.Facts] : Prop :=
  ∀ (m : (ℓ : Loc Cert.FfnDwdKernelIdeal.nD Cert.FfnDwdKernelIdeal.τ Cert.FfnDwdKernelIdeal.sig) → Buf (Elt Ideal) ℓ) (g : Dev Cert.FfnDwdKernelIdeal.nD → PrngReg), Pre_FfnDwdKernelIdeal m →
    θ_run (Cert.FfnDwdKernelIdeal.defs (F := Ideal)) (onTc (τ := Cert.FfnDwdKernelIdeal.τ) (Cert.FfnDwdKernelIdeal.main (F := Ideal))) ⟨m, fun _ => 0, g⟩ (fun r => (∀ c : Dev Cert.FfnDwdKernelIdeal.nD,
      r.2.mem ((c.tc : Thread Cert.FfnDwdKernelIdeal.nD Cert.FfnDwdKernelIdeal.τ).loc Cert.FfnDwdKernelIdeal.main_arg0) = m ((c.tc : Thread Cert.FfnDwdKernelIdeal.nD Cert.FfnDwdKernelIdeal.τ).loc Cert.FfnDwdKernelIdeal.main_arg0)
      ∧ r.2.mem ((c.tc : Thread Cert.FfnDwdKernelIdeal.nD Cert.FfnDwdKernelIdeal.τ).loc Cert.FfnDwdKernelIdeal.main_arg1) = m ((c.tc : Thread Cert.FfnDwdKernelIdeal.nD Cert.FfnDwdKernelIdeal.τ).loc Cert.FfnDwdKernelIdeal.main_arg1))
      ∧ r.2.sem = fun _ => 0)

def quiescent_FfnDwdReferenceIdeal [hFfnDwdReferenceIdeal : Cert.FfnDwdReferenceIdeal.Facts] : Prop :=
  ∀ (m : (ℓ : Loc Cert.FfnDwdReferenceIdeal.nD Cert.FfnDwdReferenceIdeal.τ Cert.FfnDwdReferenceIdeal.sig) → Buf (Elt Ideal) ℓ) (g : Dev Cert.FfnDwdReferenceIdeal.nD → PrngReg), Pre_FfnDwdReferenceIdeal m →
    θ_run (Cert.FfnDwdReferenceIdeal.defs (F := Ideal)) (onTc (τ := Cert.FfnDwdReferenceIdeal.τ) (Cert.FfnDwdReferenceIdeal.main (F := Ideal))) ⟨m, fun _ => 0, g⟩ (fun r => (∀ c : Dev Cert.FfnDwdReferenceIdeal.nD,
      r.2.mem ((c.tc : Thread Cert.FfnDwdReferenceIdeal.nD Cert.FfnDwdReferenceIdeal.τ).loc Cert.FfnDwdReferenceIdeal.main_arg0) = m ((c.tc : Thread Cert.FfnDwdReferenceIdeal.nD Cert.FfnDwdReferenceIdeal.τ).loc Cert.FfnDwdReferenceIdeal.main_arg0)
      ∧ r.2.mem ((c.tc : Thread Cert.FfnDwdReferenceIdeal.nD Cert.FfnDwdReferenceIdeal.τ).loc Cert.FfnDwdReferenceIdeal.main_arg1) = m ((c.tc : Thread Cert.FfnDwdReferenceIdeal.nD Cert.FfnDwdReferenceIdeal.τ).loc Cert.FfnDwdReferenceIdeal.main_arg1))
      ∧ r.2.sem = fun _ => 0)

def quiescent_FfnUpKernel [hFfnUpKernel : Cert.FfnUpKernel.Facts] : Prop :=
  ∀ (m : (ℓ : Loc Cert.FfnUpKernel.nD Cert.FfnUpKernel.τ Cert.FfnUpKernel.sig) → Buf (Elt Bits) ℓ) (g : Dev Cert.FfnUpKernel.nD → PrngReg), Pre_FfnUpKernel m →
    θ_run (Cert.FfnUpKernel.defs (F := Bits)) (onTc (τ := Cert.FfnUpKernel.τ) (Cert.FfnUpKernel.main (F := Bits))) ⟨m, fun _ => 0, g⟩ (fun r => (∀ c : Dev Cert.FfnUpKernel.nD,
      r.2.mem ((c.tc : Thread Cert.FfnUpKernel.nD Cert.FfnUpKernel.τ).loc Cert.FfnUpKernel.main_arg0) = m ((c.tc : Thread Cert.FfnUpKernel.nD Cert.FfnUpKernel.τ).loc Cert.FfnUpKernel.main_arg0)
      ∧ r.2.mem ((c.tc : Thread Cert.FfnUpKernel.nD Cert.FfnUpKernel.τ).loc Cert.FfnUpKernel.main_arg1) = m ((c.tc : Thread Cert.FfnUpKernel.nD Cert.FfnUpKernel.τ).loc Cert.FfnUpKernel.main_arg1)
      ∧ r.2.mem ((c.tc : Thread Cert.FfnUpKernel.nD Cert.FfnUpKernel.τ).loc Cert.FfnUpKernel.main_arg2) = m ((c.tc : Thread Cert.FfnUpKernel.nD Cert.FfnUpKernel.τ).loc Cert.FfnUpKernel.main_arg2))
      ∧ r.2.sem = fun _ => 0)

def quiescent_FfnUpKernelIdeal [hFfnUpKernelIdeal : Cert.FfnUpKernelIdeal.Facts] : Prop :=
  ∀ (m : (ℓ : Loc Cert.FfnUpKernelIdeal.nD Cert.FfnUpKernelIdeal.τ Cert.FfnUpKernelIdeal.sig) → Buf (Elt Ideal) ℓ) (g : Dev Cert.FfnUpKernelIdeal.nD → PrngReg), Pre_FfnUpKernelIdeal m →
    θ_run (Cert.FfnUpKernelIdeal.defs (F := Ideal)) (onTc (τ := Cert.FfnUpKernelIdeal.τ) (Cert.FfnUpKernelIdeal.main (F := Ideal))) ⟨m, fun _ => 0, g⟩ (fun r => (∀ c : Dev Cert.FfnUpKernelIdeal.nD,
      r.2.mem ((c.tc : Thread Cert.FfnUpKernelIdeal.nD Cert.FfnUpKernelIdeal.τ).loc Cert.FfnUpKernelIdeal.main_arg0) = m ((c.tc : Thread Cert.FfnUpKernelIdeal.nD Cert.FfnUpKernelIdeal.τ).loc Cert.FfnUpKernelIdeal.main_arg0)
      ∧ r.2.mem ((c.tc : Thread Cert.FfnUpKernelIdeal.nD Cert.FfnUpKernelIdeal.τ).loc Cert.FfnUpKernelIdeal.main_arg1) = m ((c.tc : Thread Cert.FfnUpKernelIdeal.nD Cert.FfnUpKernelIdeal.τ).loc Cert.FfnUpKernelIdeal.main_arg1)
      ∧ r.2.mem ((c.tc : Thread Cert.FfnUpKernelIdeal.nD Cert.FfnUpKernelIdeal.τ).loc Cert.FfnUpKernelIdeal.main_arg2) = m ((c.tc : Thread Cert.FfnUpKernelIdeal.nD Cert.FfnUpKernelIdeal.τ).loc Cert.FfnUpKernelIdeal.main_arg2))
      ∧ r.2.sem = fun _ => 0)

def quiescent_FfnUpKernelIdeal_pre_ffn_up_finite [hFfnUpKernelIdeal : Cert.FfnUpKernelIdeal.Facts] [hPre_ffn_up_finite : Cert.Pre_ffn_up_finite.Facts] : Prop :=
  ∀ (m : (ℓ : Loc Cert.FfnUpKernelIdeal.nD Cert.FfnUpKernelIdeal.τ Cert.FfnUpKernelIdeal.sig) → Buf (Elt Ideal) ℓ) (g : Dev Cert.FfnUpKernelIdeal.nD → PrngReg), Pre_FfnUpKernelIdeal_ffn_up_finite m →
    θ_run (Cert.FfnUpKernelIdeal.defs (F := Ideal)) (onTc (τ := Cert.FfnUpKernelIdeal.τ) (Cert.FfnUpKernelIdeal.main (F := Ideal))) ⟨m, fun _ => 0, g⟩ (fun r => (∀ c : Dev Cert.FfnUpKernelIdeal.nD,
      r.2.mem ((c.tc : Thread Cert.FfnUpKernelIdeal.nD Cert.FfnUpKernelIdeal.τ).loc Cert.FfnUpKernelIdeal.main_arg0) = m ((c.tc : Thread Cert.FfnUpKernelIdeal.nD Cert.FfnUpKernelIdeal.τ).loc Cert.FfnUpKernelIdeal.main_arg0)
      ∧ r.2.mem ((c.tc : Thread Cert.FfnUpKernelIdeal.nD Cert.FfnUpKernelIdeal.τ).loc Cert.FfnUpKernelIdeal.main_arg1) = m ((c.tc : Thread Cert.FfnUpKernelIdeal.nD Cert.FfnUpKernelIdeal.τ).loc Cert.FfnUpKernelIdeal.main_arg1)
      ∧ r.2.mem ((c.tc : Thread Cert.FfnUpKernelIdeal.nD Cert.FfnUpKernelIdeal.τ).loc Cert.FfnUpKernelIdeal.main_arg2) = m ((c.tc : Thread Cert.FfnUpKernelIdeal.nD Cert.FfnUpKernelIdeal.τ).loc Cert.FfnUpKernelIdeal.main_arg2))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0)

def quiescent_FfnUpReferenceIdeal_pre_ffn_up_finite [hFfnUpReferenceIdeal : Cert.FfnUpReferenceIdeal.Facts] [hPre_ffn_up_finite : Cert.Pre_ffn_up_finite.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal_ffn_up_finite m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0)

def quiescent_FfnDownNormKernel [hFfnDownNormKernel : Cert.FfnDownNormKernel.Facts] : Prop :=
  ∀ (m : (ℓ : Loc Cert.FfnDownNormKernel.nD Cert.FfnDownNormKernel.τ Cert.FfnDownNormKernel.sig) → Buf (Elt Bits) ℓ) (g : Dev Cert.FfnDownNormKernel.nD → PrngReg), Pre_FfnDownNormKernel m →
    θ_run (Cert.FfnDownNormKernel.defs (F := Bits)) (onTc (τ := Cert.FfnDownNormKernel.τ) (Cert.FfnDownNormKernel.main (F := Bits))) ⟨m, fun _ => 0, g⟩ (fun r => (∀ c : Dev Cert.FfnDownNormKernel.nD,
      r.2.mem ((c.tc : Thread Cert.FfnDownNormKernel.nD Cert.FfnDownNormKernel.τ).loc Cert.FfnDownNormKernel.main_arg0) = m ((c.tc : Thread Cert.FfnDownNormKernel.nD Cert.FfnDownNormKernel.τ).loc Cert.FfnDownNormKernel.main_arg0)
      ∧ r.2.mem ((c.tc : Thread Cert.FfnDownNormKernel.nD Cert.FfnDownNormKernel.τ).loc Cert.FfnDownNormKernel.main_arg1) = m ((c.tc : Thread Cert.FfnDownNormKernel.nD Cert.FfnDownNormKernel.τ).loc Cert.FfnDownNormKernel.main_arg1)
      ∧ r.2.mem ((c.tc : Thread Cert.FfnDownNormKernel.nD Cert.FfnDownNormKernel.τ).loc Cert.FfnDownNormKernel.main_arg2) = m ((c.tc : Thread Cert.FfnDownNormKernel.nD Cert.FfnDownNormKernel.τ).loc Cert.FfnDownNormKernel.main_arg2)
      ∧ r.2.mem ((c.tc : Thread Cert.FfnDownNormKernel.nD Cert.FfnDownNormKernel.τ).loc Cert.FfnDownNormKernel.main_arg3) = m ((c.tc : Thread Cert.FfnDownNormKernel.nD Cert.FfnDownNormKernel.τ).loc Cert.FfnDownNormKernel.main_arg3))
      ∧ r.2.sem = fun _ => 0)

def quiescent_FfnDownNormKernelIdeal [hFfnDownNormKernelIdeal : Cert.FfnDownNormKernelIdeal.Facts] : Prop :=
  ∀ (m : (ℓ : Loc Cert.FfnDownNormKernelIdeal.nD Cert.FfnDownNormKernelIdeal.τ Cert.FfnDownNormKernelIdeal.sig) → Buf (Elt Ideal) ℓ) (g : Dev Cert.FfnDownNormKernelIdeal.nD → PrngReg), Pre_FfnDownNormKernelIdeal m →
    θ_run (Cert.FfnDownNormKernelIdeal.defs (F := Ideal)) (onTc (τ := Cert.FfnDownNormKernelIdeal.τ) (Cert.FfnDownNormKernelIdeal.main (F := Ideal))) ⟨m, fun _ => 0, g⟩ (fun r => (∀ c : Dev Cert.FfnDownNormKernelIdeal.nD,
      r.2.mem ((c.tc : Thread Cert.FfnDownNormKernelIdeal.nD Cert.FfnDownNormKernelIdeal.τ).loc Cert.FfnDownNormKernelIdeal.main_arg0) = m ((c.tc : Thread Cert.FfnDownNormKernelIdeal.nD Cert.FfnDownNormKernelIdeal.τ).loc Cert.FfnDownNormKernelIdeal.main_arg0)
      ∧ r.2.mem ((c.tc : Thread Cert.FfnDownNormKernelIdeal.nD Cert.FfnDownNormKernelIdeal.τ).loc Cert.FfnDownNormKernelIdeal.main_arg1) = m ((c.tc : Thread Cert.FfnDownNormKernelIdeal.nD Cert.FfnDownNormKernelIdeal.τ).loc Cert.FfnDownNormKernelIdeal.main_arg1)
      ∧ r.2.mem ((c.tc : Thread Cert.FfnDownNormKernelIdeal.nD Cert.FfnDownNormKernelIdeal.τ).loc Cert.FfnDownNormKernelIdeal.main_arg2) = m ((c.tc : Thread Cert.FfnDownNormKernelIdeal.nD Cert.FfnDownNormKernelIdeal.τ).loc Cert.FfnDownNormKernelIdeal.main_arg2)
      ∧ r.2.mem ((c.tc : Thread Cert.FfnDownNormKernelIdeal.nD Cert.FfnDownNormKernelIdeal.τ).loc Cert.FfnDownNormKernelIdeal.main_arg3) = m ((c.tc : Thread Cert.FfnDownNormKernelIdeal.nD Cert.FfnDownNormKernelIdeal.τ).loc Cert.FfnDownNormKernelIdeal.main_arg3))
      ∧ r.2.sem = fun _ => 0)

def quiescent_FfnDownNormReferenceIdeal [hFfnDownNormReferenceIdeal : Cert.FfnDownNormReferenceIdeal.Facts] : Prop :=
  ∀ (m : (ℓ : Loc Cert.FfnDownNormReferenceIdeal.nD Cert.FfnDownNormReferenceIdeal.τ Cert.FfnDownNormReferenceIdeal.sig) → Buf (Elt Ideal) ℓ) (g : Dev Cert.FfnDownNormReferenceIdeal.nD → PrngReg), Pre_FfnDownNormReferenceIdeal m →
    θ_run (Cert.FfnDownNormReferenceIdeal.defs (F := Ideal)) (onTc (τ := Cert.FfnDownNormReferenceIdeal.τ) (Cert.FfnDownNormReferenceIdeal.main (F := Ideal))) ⟨m, fun _ => 0, g⟩ (fun r => (∀ c : Dev Cert.FfnDownNormReferenceIdeal.nD,
      r.2.mem ((c.tc : Thread Cert.FfnDownNormReferenceIdeal.nD Cert.FfnDownNormReferenceIdeal.τ).loc Cert.FfnDownNormReferenceIdeal.main_arg0) = m ((c.tc : Thread Cert.FfnDownNormReferenceIdeal.nD Cert.FfnDownNormReferenceIdeal.τ).loc Cert.FfnDownNormReferenceIdeal.main_arg0)
      ∧ r.2.mem ((c.tc : Thread Cert.FfnDownNormReferenceIdeal.nD Cert.FfnDownNormReferenceIdeal.τ).loc Cert.FfnDownNormReferenceIdeal.main_arg1) = m ((c.tc : Thread Cert.FfnDownNormReferenceIdeal.nD Cert.FfnDownNormReferenceIdeal.τ).loc Cert.FfnDownNormReferenceIdeal.main_arg1)
      ∧ r.2.mem ((c.tc : Thread Cert.FfnDownNormReferenceIdeal.nD Cert.FfnDownNormReferenceIdeal.τ).loc Cert.FfnDownNormReferenceIdeal.main_arg2) = m ((c.tc : Thread Cert.FfnDownNormReferenceIdeal.nD Cert.FfnDownNormReferenceIdeal.τ).loc Cert.FfnDownNormReferenceIdeal.main_arg2)
      ∧ r.2.mem ((c.tc : Thread Cert.FfnDownNormReferenceIdeal.nD Cert.FfnDownNormReferenceIdeal.τ).loc Cert.FfnDownNormReferenceIdeal.main_arg3) = m ((c.tc : Thread Cert.FfnDownNormReferenceIdeal.nD Cert.FfnDownNormReferenceIdeal.τ).loc Cert.FfnDownNormReferenceIdeal.main_arg3))
      ∧ r.2.sem = fun _ => 0)

def quiescent_FfnDownKernel [hFfnDownKernel : Cert.FfnDownKernel.Facts] : Prop :=
  ∀ (m : (ℓ : Loc Cert.FfnDownKernel.nD Cert.FfnDownKernel.τ Cert.FfnDownKernel.sig) → Buf (Elt Bits) ℓ) (g : Dev Cert.FfnDownKernel.nD → PrngReg), Pre_FfnDownKernel m →
    θ_run (Cert.FfnDownKernel.defs (F := Bits)) (onTc (τ := Cert.FfnDownKernel.τ) (Cert.FfnDownKernel.main (F := Bits))) ⟨m, fun _ => 0, g⟩ (fun r => (∀ c : Dev Cert.FfnDownKernel.nD,
      r.2.mem ((c.tc : Thread Cert.FfnDownKernel.nD Cert.FfnDownKernel.τ).loc Cert.FfnDownKernel.main_arg0) = m ((c.tc : Thread Cert.FfnDownKernel.nD Cert.FfnDownKernel.τ).loc Cert.FfnDownKernel.main_arg0)
      ∧ r.2.mem ((c.tc : Thread Cert.FfnDownKernel.nD Cert.FfnDownKernel.τ).loc Cert.FfnDownKernel.main_arg1) = m ((c.tc : Thread Cert.FfnDownKernel.nD Cert.FfnDownKernel.τ).loc Cert.FfnDownKernel.main_arg1)
      ∧ r.2.mem ((c.tc : Thread Cert.FfnDownKernel.nD Cert.FfnDownKernel.τ).loc Cert.FfnDownKernel.main_arg2) = m ((c.tc : Thread Cert.FfnDownKernel.nD Cert.FfnDownKernel.τ).loc Cert.FfnDownKernel.main_arg2))
      ∧ r.2.sem = fun _ => 0)

def quiescent_FfnDownKernelIdeal [hFfnDownKernelIdeal : Cert.FfnDownKernelIdeal.Facts] : Prop :=
  ∀ (m : (ℓ : Loc Cert.FfnDownKernelIdeal.nD Cert.FfnDownKernelIdeal.τ Cert.FfnDownKernelIdeal.sig) → Buf (Elt Ideal) ℓ) (g : Dev Cert.FfnDownKernelIdeal.nD → PrngReg), Pre_FfnDownKernelIdeal m →
    θ_run (Cert.FfnDownKernelIdeal.defs (F := Ideal)) (onTc (τ := Cert.FfnDownKernelIdeal.τ) (Cert.FfnDownKernelIdeal.main (F := Ideal))) ⟨m, fun _ => 0, g⟩ (fun r => (∀ c : Dev Cert.FfnDownKernelIdeal.nD,
      r.2.mem ((c.tc : Thread Cert.FfnDownKernelIdeal.nD Cert.FfnDownKernelIdeal.τ).loc Cert.FfnDownKernelIdeal.main_arg0) = m ((c.tc : Thread Cert.FfnDownKernelIdeal.nD Cert.FfnDownKernelIdeal.τ).loc Cert.FfnDownKernelIdeal.main_arg0)
      ∧ r.2.mem ((c.tc : Thread Cert.FfnDownKernelIdeal.nD Cert.FfnDownKernelIdeal.τ).loc Cert.FfnDownKernelIdeal.main_arg1) = m ((c.tc : Thread Cert.FfnDownKernelIdeal.nD Cert.FfnDownKernelIdeal.τ).loc Cert.FfnDownKernelIdeal.main_arg1)
      ∧ r.2.mem ((c.tc : Thread Cert.FfnDownKernelIdeal.nD Cert.FfnDownKernelIdeal.τ).loc Cert.FfnDownKernelIdeal.main_arg2) = m ((c.tc : Thread Cert.FfnDownKernelIdeal.nD Cert.FfnDownKernelIdeal.τ).loc Cert.FfnDownKernelIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_ProjDhRmsKernel [hProjDhRmsKernel : Cert.ProjDhRmsKernel.Facts] : Prop :=
  ∀ (m : (ℓ : Loc Cert.ProjDhRmsKernel.nD Cert.ProjDhRmsKernel.τ Cert.ProjDhRmsKernel.sig) → Buf (Elt Bits) ℓ) (g : Dev Cert.ProjDhRmsKernel.nD → PrngReg), Pre_ProjDhRmsKernel m →
    θ_run (Cert.ProjDhRmsKernel.defs (F := Bits)) (onTc (τ := Cert.ProjDhRmsKernel.τ) (Cert.ProjDhRmsKernel.main (F := Bits))) ⟨m, fun _ => 0, g⟩ (fun r => (∀ c : Dev Cert.ProjDhRmsKernel.nD,
      r.2.mem ((c.tc : Thread Cert.ProjDhRmsKernel.nD Cert.ProjDhRmsKernel.τ).loc Cert.ProjDhRmsKernel.main_arg0) = m ((c.tc : Thread Cert.ProjDhRmsKernel.nD Cert.ProjDhRmsKernel.τ).loc Cert.ProjDhRmsKernel.main_arg0)
      ∧ r.2.mem ((c.tc : Thread Cert.ProjDhRmsKernel.nD Cert.ProjDhRmsKernel.τ).loc Cert.ProjDhRmsKernel.main_arg1) = m ((c.tc : Thread Cert.ProjDhRmsKernel.nD Cert.ProjDhRmsKernel.τ).loc Cert.ProjDhRmsKernel.main_arg1)
      ∧ r.2.mem ((c.tc : Thread Cert.ProjDhRmsKernel.nD Cert.ProjDhRmsKernel.τ).loc Cert.ProjDhRmsKernel.main_arg2) = m ((c.tc : Thread Cert.ProjDhRmsKernel.nD Cert.ProjDhRmsKernel.τ).loc Cert.ProjDhRmsKernel.main_arg2)
      ∧ r.2.mem ((c.tc : Thread Cert.ProjDhRmsKernel.nD Cert.ProjDhRmsKernel.τ).loc Cert.ProjDhRmsKernel.main_arg3) = m ((c.tc : Thread Cert.ProjDhRmsKernel.nD Cert.ProjDhRmsKernel.τ).loc Cert.ProjDhRmsKernel.main_arg3)
      ∧ r.2.mem ((c.tc : Thread Cert.ProjDhRmsKernel.nD Cert.ProjDhRmsKernel.τ).loc Cert.ProjDhRmsKernel.main_arg4) = m ((c.tc : Thread Cert.ProjDhRmsKernel.nD Cert.ProjDhRmsKernel.τ).loc Cert.ProjDhRmsKernel.main_arg4)
      ∧ r.2.mem ((c.tc : Thread Cert.ProjDhRmsKernel.nD Cert.ProjDhRmsKernel.τ).loc Cert.ProjDhRmsKernel.main_arg5) = m ((c.tc : Thread Cert.ProjDhRmsKernel.nD Cert.ProjDhRmsKernel.τ).loc Cert.ProjDhRmsKernel.main_arg5)
      ∧ r.2.mem ((c.tc : Thread Cert.ProjDhRmsKernel.nD Cert.ProjDhRmsKernel.τ).loc Cert.ProjDhRmsKernel.main_arg6) = m ((c.tc : Thread Cert.ProjDhRmsKernel.nD Cert.ProjDhRmsKernel.τ).loc Cert.ProjDhRmsKernel.main_arg6)
      ∧ r.2.mem ((c.tc : Thread Cert.ProjDhRmsKernel.nD Cert.ProjDhRmsKernel.τ).loc Cert.ProjDhRmsKernel.main_arg7) = m ((c.tc : Thread Cert.ProjDhRmsKernel.nD Cert.ProjDhRmsKernel.τ).loc Cert.ProjDhRmsKernel.main_arg7)
      ∧ r.2.mem ((c.tc : Thread Cert.ProjDhRmsKernel.nD Cert.ProjDhRmsKernel.τ).loc Cert.ProjDhRmsKernel.main_arg8) = m ((c.tc : Thread Cert.ProjDhRmsKernel.nD Cert.ProjDhRmsKernel.τ).loc Cert.ProjDhRmsKernel.main_arg8))
      ∧ r.2.sem = fun _ => 0)

def quiescent_ProjDhRmsKernelIdeal [hProjDhRmsKernelIdeal : Cert.ProjDhRmsKernelIdeal.Facts] : Prop :=
  ∀ (m : (ℓ : Loc Cert.ProjDhRmsKernelIdeal.nD Cert.ProjDhRmsKernelIdeal.τ Cert.ProjDhRmsKernelIdeal.sig) → Buf (Elt Ideal) ℓ) (g : Dev Cert.ProjDhRmsKernelIdeal.nD → PrngReg), Pre_ProjDhRmsKernelIdeal m →
    θ_run (Cert.ProjDhRmsKernelIdeal.defs (F := Ideal)) (onTc (τ := Cert.ProjDhRmsKernelIdeal.τ) (Cert.ProjDhRmsKernelIdeal.main (F := Ideal))) ⟨m, fun _ => 0, g⟩ (fun r => (∀ c : Dev Cert.ProjDhRmsKernelIdeal.nD,
      r.2.mem ((c.tc : Thread Cert.ProjDhRmsKernelIdeal.nD Cert.ProjDhRmsKernelIdeal.τ).loc Cert.ProjDhRmsKernelIdeal.main_arg0) = m ((c.tc : Thread Cert.ProjDhRmsKernelIdeal.nD Cert.ProjDhRmsKernelIdeal.τ).loc Cert.ProjDhRmsKernelIdeal.main_arg0)
      ∧ r.2.mem ((c.tc : Thread Cert.ProjDhRmsKernelIdeal.nD Cert.ProjDhRmsKernelIdeal.τ).loc Cert.ProjDhRmsKernelIdeal.main_arg1) = m ((c.tc : Thread Cert.ProjDhRmsKernelIdeal.nD Cert.ProjDhRmsKernelIdeal.τ).loc Cert.ProjDhRmsKernelIdeal.main_arg1)
      ∧ r.2.mem ((c.tc : Thread Cert.ProjDhRmsKernelIdeal.nD Cert.ProjDhRmsKernelIdeal.τ).loc Cert.ProjDhRmsKernelIdeal.main_arg2) = m ((c.tc : Thread Cert.ProjDhRmsKernelIdeal.nD Cert.ProjDhRmsKernelIdeal.τ).loc Cert.ProjDhRmsKernelIdeal.main_arg2)
      ∧ r.2.mem ((c.tc : Thread Cert.ProjDhRmsKernelIdeal.nD Cert.ProjDhRmsKernelIdeal.τ).loc Cert.ProjDhRmsKernelIdeal.main_arg3) = m ((c.tc : Thread Cert.ProjDhRmsKernelIdeal.nD Cert.ProjDhRmsKernelIdeal.τ).loc Cert.ProjDhRmsKernelIdeal.main_arg3)
      ∧ r.2.mem ((c.tc : Thread Cert.ProjDhRmsKernelIdeal.nD Cert.ProjDhRmsKernelIdeal.τ).loc Cert.ProjDhRmsKernelIdeal.main_arg4) = m ((c.tc : Thread Cert.ProjDhRmsKernelIdeal.nD Cert.ProjDhRmsKernelIdeal.τ).loc Cert.ProjDhRmsKernelIdeal.main_arg4)
      ∧ r.2.mem ((c.tc : Thread Cert.ProjDhRmsKernelIdeal.nD Cert.ProjDhRmsKernelIdeal.τ).loc Cert.ProjDhRmsKernelIdeal.main_arg5) = m ((c.tc : Thread Cert.ProjDhRmsKernelIdeal.nD Cert.ProjDhRmsKernelIdeal.τ).loc Cert.ProjDhRmsKernelIdeal.main_arg5)
      ∧ r.2.mem ((c.tc : Thread Cert.ProjDhRmsKernelIdeal.nD Cert.ProjDhRmsKernelIdeal.τ).loc Cert.ProjDhRmsKernelIdeal.main_arg6) = m ((c.tc : Thread Cert.ProjDhRmsKernelIdeal.nD Cert.ProjDhRmsKernelIdeal.τ).loc Cert.ProjDhRmsKernelIdeal.main_arg6)
      ∧ r.2.mem ((c.tc : Thread Cert.ProjDhRmsKernelIdeal.nD Cert.ProjDhRmsKernelIdeal.τ).loc Cert.ProjDhRmsKernelIdeal.main_arg7) = m ((c.tc : Thread Cert.ProjDhRmsKernelIdeal.nD Cert.ProjDhRmsKernelIdeal.τ).loc Cert.ProjDhRmsKernelIdeal.main_arg7)
      ∧ r.2.mem ((c.tc : Thread Cert.ProjDhRmsKernelIdeal.nD Cert.ProjDhRmsKernelIdeal.τ).loc Cert.ProjDhRmsKernelIdeal.main_arg8) = m ((c.tc : Thread Cert.ProjDhRmsKernelIdeal.nD Cert.ProjDhRmsKernelIdeal.τ).loc Cert.ProjDhRmsKernelIdeal.main_arg8))
      ∧ r.2.sem = fun _ => 0)

def quiescent_ProjDhRmsKernelIdeal_pre_proj_dh_rms_finite [hProjDhRmsKernelIdeal : Cert.ProjDhRmsKernelIdeal.Facts] [hPre_proj_dh_rms_finite : Cert.Pre_proj_dh_rms_finite.Facts] : Prop :=
  ∀ (m : (ℓ : Loc Cert.ProjDhRmsKernelIdeal.nD Cert.ProjDhRmsKernelIdeal.τ Cert.ProjDhRmsKernelIdeal.sig) → Buf (Elt Ideal) ℓ) (g : Dev Cert.ProjDhRmsKernelIdeal.nD → PrngReg), Pre_ProjDhRmsKernelIdeal_proj_dh_rms_finite m →
    θ_run (Cert.ProjDhRmsKernelIdeal.defs (F := Ideal)) (onTc (τ := Cert.ProjDhRmsKernelIdeal.τ) (Cert.ProjDhRmsKernelIdeal.main (F := Ideal))) ⟨m, fun _ => 0, g⟩ (fun r => (∀ c : Dev Cert.ProjDhRmsKernelIdeal.nD,
      r.2.mem ((c.tc : Thread Cert.ProjDhRmsKernelIdeal.nD Cert.ProjDhRmsKernelIdeal.τ).loc Cert.ProjDhRmsKernelIdeal.main_arg0) = m ((c.tc : Thread Cert.ProjDhRmsKernelIdeal.nD Cert.ProjDhRmsKernelIdeal.τ).loc Cert.ProjDhRmsKernelIdeal.main_arg0)
      ∧ r.2.mem ((c.tc : Thread Cert.ProjDhRmsKernelIdeal.nD Cert.ProjDhRmsKernelIdeal.τ).loc Cert.ProjDhRmsKernelIdeal.main_arg1) = m ((c.tc : Thread Cert.ProjDhRmsKernelIdeal.nD Cert.ProjDhRmsKernelIdeal.τ).loc Cert.ProjDhRmsKernelIdeal.main_arg1)
      ∧ r.2.mem ((c.tc : Thread Cert.ProjDhRmsKernelIdeal.nD Cert.ProjDhRmsKernelIdeal.τ).loc Cert.ProjDhRmsKernelIdeal.main_arg2) = m ((c.tc : Thread Cert.ProjDhRmsKernelIdeal.nD Cert.ProjDhRmsKernelIdeal.τ).loc Cert.ProjDhRmsKernelIdeal.main_arg2)
      ∧ r.2.mem ((c.tc : Thread Cert.ProjDhRmsKernelIdeal.nD Cert.ProjDhRmsKernelIdeal.τ).loc Cert.ProjDhRmsKernelIdeal.main_arg3) = m ((c.tc : Thread Cert.ProjDhRmsKernelIdeal.nD Cert.ProjDhRmsKernelIdeal.τ).loc Cert.ProjDhRmsKernelIdeal.main_arg3)
      ∧ r.2.mem ((c.tc : Thread Cert.ProjDhRmsKernelIdeal.nD Cert.ProjDhRmsKernelIdeal.τ).loc Cert.ProjDhRmsKernelIdeal.main_arg4) = m ((c.tc : Thread Cert.ProjDhRmsKernelIdeal.nD Cert.ProjDhRmsKernelIdeal.τ).loc Cert.ProjDhRmsKernelIdeal.main_arg4)
      ∧ r.2.mem ((c.tc : Thread Cert.ProjDhRmsKernelIdeal.nD Cert.ProjDhRmsKernelIdeal.τ).loc Cert.ProjDhRmsKernelIdeal.main_arg5) = m ((c.tc : Thread Cert.ProjDhRmsKernelIdeal.nD Cert.ProjDhRmsKernelIdeal.τ).loc Cert.ProjDhRmsKernelIdeal.main_arg5)
      ∧ r.2.mem ((c.tc : Thread Cert.ProjDhRmsKernelIdeal.nD Cert.ProjDhRmsKernelIdeal.τ).loc Cert.ProjDhRmsKernelIdeal.main_arg6) = m ((c.tc : Thread Cert.ProjDhRmsKernelIdeal.nD Cert.ProjDhRmsKernelIdeal.τ).loc Cert.ProjDhRmsKernelIdeal.main_arg6)
      ∧ r.2.mem ((c.tc : Thread Cert.ProjDhRmsKernelIdeal.nD Cert.ProjDhRmsKernelIdeal.τ).loc Cert.ProjDhRmsKernelIdeal.main_arg7) = m ((c.tc : Thread Cert.ProjDhRmsKernelIdeal.nD Cert.ProjDhRmsKernelIdeal.τ).loc Cert.ProjDhRmsKernelIdeal.main_arg7)
      ∧ r.2.mem ((c.tc : Thread Cert.ProjDhRmsKernelIdeal.nD Cert.ProjDhRmsKernelIdeal.τ).loc Cert.ProjDhRmsKernelIdeal.main_arg8) = m ((c.tc : Thread Cert.ProjDhRmsKernelIdeal.nD Cert.ProjDhRmsKernelIdeal.τ).loc Cert.ProjDhRmsKernelIdeal.main_arg8))
      ∧ r.2.sem = fun _ => 0)

def quiescent_ProjDhRmsReferenceIdeal [hProjDhRmsReferenceIdeal : Cert.ProjDhRmsReferenceIdeal.Facts] : Prop :=
  ∀ (m : (ℓ : Loc Cert.ProjDhRmsReferenceIdeal.nD Cert.ProjDhRmsReferenceIdeal.τ Cert.ProjDhRmsReferenceIdeal.sig) → Buf (Elt Ideal) ℓ) (g : Dev Cert.ProjDhRmsReferenceIdeal.nD → PrngReg), Pre_ProjDhRmsReferenceIdeal m →
    θ_run (Cert.ProjDhRmsReferenceIdeal.defs (F := Ideal)) (onTc (τ := Cert.ProjDhRmsReferenceIdeal.τ) (Cert.ProjDhRmsReferenceIdeal.main (F := Ideal))) ⟨m, fun _ => 0, g⟩ (fun r => (∀ c : Dev Cert.ProjDhRmsReferenceIdeal.nD,
      r.2.mem ((c.tc : Thread Cert.ProjDhRmsReferenceIdeal.nD Cert.ProjDhRmsReferenceIdeal.τ).loc Cert.ProjDhRmsReferenceIdeal.main_arg0) = m ((c.tc : Thread Cert.ProjDhRmsReferenceIdeal.nD Cert.ProjDhRmsReferenceIdeal.τ).loc Cert.ProjDhRmsReferenceIdeal.main_arg0)
      ∧ r.2.mem ((c.tc : Thread Cert.ProjDhRmsReferenceIdeal.nD Cert.ProjDhRmsReferenceIdeal.τ).loc Cert.ProjDhRmsReferenceIdeal.main_arg1) = m ((c.tc : Thread Cert.ProjDhRmsReferenceIdeal.nD Cert.ProjDhRmsReferenceIdeal.τ).loc Cert.ProjDhRmsReferenceIdeal.main_arg1)
      ∧ r.2.mem ((c.tc : Thread Cert.ProjDhRmsReferenceIdeal.nD Cert.ProjDhRmsReferenceIdeal.τ).loc Cert.ProjDhRmsReferenceIdeal.main_arg2) = m ((c.tc : Thread Cert.ProjDhRmsReferenceIdeal.nD Cert.ProjDhRmsReferenceIdeal.τ).loc Cert.ProjDhRmsReferenceIdeal.main_arg2)
      ∧ r.2.mem ((c.tc : Thread Cert.ProjDhRmsReferenceIdeal.nD Cert.ProjDhRmsReferenceIdeal.τ).loc Cert.ProjDhRmsReferenceIdeal.main_arg3) = m ((c.tc : Thread Cert.ProjDhRmsReferenceIdeal.nD Cert.ProjDhRmsReferenceIdeal.τ).loc Cert.ProjDhRmsReferenceIdeal.main_arg3)
      ∧ r.2.mem ((c.tc : Thread Cert.ProjDhRmsReferenceIdeal.nD Cert.ProjDhRmsReferenceIdeal.τ).loc Cert.ProjDhRmsReferenceIdeal.main_arg4) = m ((c.tc : Thread Cert.ProjDhRmsReferenceIdeal.nD Cert.ProjDhRmsReferenceIdeal.τ).loc Cert.ProjDhRmsReferenceIdeal.main_arg4)
      ∧ r.2.mem ((c.tc : Thread Cert.ProjDhRmsReferenceIdeal.nD Cert.ProjDhRmsReferenceIdeal.τ).loc Cert.ProjDhRmsReferenceIdeal.main_arg5) = m ((c.tc : Thread Cert.ProjDhRmsReferenceIdeal.nD Cert.ProjDhRmsReferenceIdeal.τ).loc Cert.ProjDhRmsReferenceIdeal.main_arg5)
      ∧ r.2.mem ((c.tc : Thread Cert.ProjDhRmsReferenceIdeal.nD Cert.ProjDhRmsReferenceIdeal.τ).loc Cert.ProjDhRmsReferenceIdeal.main_arg6) = m ((c.tc : Thread Cert.ProjDhRmsReferenceIdeal.nD Cert.ProjDhRmsReferenceIdeal.τ).loc Cert.ProjDhRmsReferenceIdeal.main_arg6)
      ∧ r.2.mem ((c.tc : Thread Cert.ProjDhRmsReferenceIdeal.nD Cert.ProjDhRmsReferenceIdeal.τ).loc Cert.ProjDhRmsReferenceIdeal.main_arg7) = m ((c.tc : Thread Cert.ProjDhRmsReferenceIdeal.nD Cert.ProjDhRmsReferenceIdeal.τ).loc Cert.ProjDhRmsReferenceIdeal.main_arg7)
      ∧ r.2.mem ((c.tc : Thread Cert.ProjDhRmsReferenceIdeal.nD Cert.ProjDhRmsReferenceIdeal.τ).loc Cert.ProjDhRmsReferenceIdeal.main_arg8) = m ((c.tc : Thread Cert.ProjDhRmsReferenceIdeal.nD Cert.ProjDhRmsReferenceIdeal.τ).loc Cert.ProjDhRmsReferenceIdeal.main_arg8))
      ∧ r.2.sem = fun _ => 0)

def quiescent_ProjDhRmsReferenceIdeal_pre_proj_dh_rms_finite [hProjDhRmsReferenceIdeal : Cert.ProjDhRmsReferenceIdeal.Facts] [hPre_proj_dh_rms_finite : Cert.Pre_proj_dh_rms_finite.Facts] : Prop :=
  ∀ (m : (ℓ : Loc Cert.ProjDhRmsReferenceIdeal.nD Cert.ProjDhRmsReferenceIdeal.τ Cert.ProjDhRmsReferenceIdeal.sig) → Buf (Elt Ideal) ℓ) (g : Dev Cert.ProjDhRmsReferenceIdeal.nD → PrngReg), Pre_ProjDhRmsReferenceIdeal_proj_dh_rms_finite m →
    θ_run (Cert.ProjDhRmsReferenceIdeal.defs (F := Ideal)) (onTc (τ := Cert.ProjDhRmsReferenceIdeal.τ) (Cert.ProjDhRmsReferenceIdeal.main (F := Ideal))) ⟨m, fun _ => 0, g⟩ (fun r => (∀ c : Dev Cert.ProjDhRmsReferenceIdeal.nD,
      r.2.mem ((c.tc : Thread Cert.ProjDhRmsReferenceIdeal.nD Cert.ProjDhRmsReferenceIdeal.τ).loc Cert.ProjDhRmsReferenceIdeal.main_arg0) = m ((c.tc : Thread Cert.ProjDhRmsReferenceIdeal.nD Cert.ProjDhRmsReferenceIdeal.τ).loc Cert.ProjDhRmsReferenceIdeal.main_arg0)
      ∧ r.2.mem ((c.tc : Thread Cert.ProjDhRmsReferenceIdeal.nD Cert.ProjDhRmsReferenceIdeal.τ).loc Cert.ProjDhRmsReferenceIdeal.main_arg1) = m ((c.tc : Thread Cert.ProjDhRmsReferenceIdeal.nD Cert.ProjDhRmsReferenceIdeal.τ).loc Cert.ProjDhRmsReferenceIdeal.main_arg1)
      ∧ r.2.mem ((c.tc : Thread Cert.ProjDhRmsReferenceIdeal.nD Cert.ProjDhRmsReferenceIdeal.τ).loc Cert.ProjDhRmsReferenceIdeal.main_arg2) = m ((c.tc : Thread Cert.ProjDhRmsReferenceIdeal.nD Cert.ProjDhRmsReferenceIdeal.τ).loc Cert.ProjDhRmsReferenceIdeal.main_arg2)
      ∧ r.2.mem ((c.tc : Thread Cert.ProjDhRmsReferenceIdeal.nD Cert.ProjDhRmsReferenceIdeal.τ).loc Cert.ProjDhRmsReferenceIdeal.main_arg3) = m ((c.tc : Thread Cert.ProjDhRmsReferenceIdeal.nD Cert.ProjDhRmsReferenceIdeal.τ).loc Cert.ProjDhRmsReferenceIdeal.main_arg3)
      ∧ r.2.mem ((c.tc : Thread Cert.ProjDhRmsReferenceIdeal.nD Cert.ProjDhRmsReferenceIdeal.τ).loc Cert.ProjDhRmsReferenceIdeal.main_arg4) = m ((c.tc : Thread Cert.ProjDhRmsReferenceIdeal.nD Cert.ProjDhRmsReferenceIdeal.τ).loc Cert.ProjDhRmsReferenceIdeal.main_arg4)
      ∧ r.2.mem ((c.tc : Thread Cert.ProjDhRmsReferenceIdeal.nD Cert.ProjDhRmsReferenceIdeal.τ).loc Cert.ProjDhRmsReferenceIdeal.main_arg5) = m ((c.tc : Thread Cert.ProjDhRmsReferenceIdeal.nD Cert.ProjDhRmsReferenceIdeal.τ).loc Cert.ProjDhRmsReferenceIdeal.main_arg5)
      ∧ r.2.mem ((c.tc : Thread Cert.ProjDhRmsReferenceIdeal.nD Cert.ProjDhRmsReferenceIdeal.τ).loc Cert.ProjDhRmsReferenceIdeal.main_arg6) = m ((c.tc : Thread Cert.ProjDhRmsReferenceIdeal.nD Cert.ProjDhRmsReferenceIdeal.τ).loc Cert.ProjDhRmsReferenceIdeal.main_arg6)
      ∧ r.2.mem ((c.tc : Thread Cert.ProjDhRmsReferenceIdeal.nD Cert.ProjDhRmsReferenceIdeal.τ).loc Cert.ProjDhRmsReferenceIdeal.main_arg7) = m ((c.tc : Thread Cert.ProjDhRmsReferenceIdeal.nD Cert.ProjDhRmsReferenceIdeal.τ).loc Cert.ProjDhRmsReferenceIdeal.main_arg7)
      ∧ r.2.mem ((c.tc : Thread Cert.ProjDhRmsReferenceIdeal.nD Cert.ProjDhRmsReferenceIdeal.τ).loc Cert.ProjDhRmsReferenceIdeal.main_arg8) = m ((c.tc : Thread Cert.ProjDhRmsReferenceIdeal.nD Cert.ProjDhRmsReferenceIdeal.τ).loc Cert.ProjDhRmsReferenceIdeal.main_arg8))
      ∧ r.2.sem = fun _ => 0)

def quiescent_ProjCKernel [hProjCKernel : Cert.ProjCKernel.Facts] : Prop :=
  ∀ (m : (ℓ : Loc Cert.ProjCKernel.nD Cert.ProjCKernel.τ Cert.ProjCKernel.sig) → Buf (Elt Bits) ℓ) (g : Dev Cert.ProjCKernel.nD → PrngReg), Pre_ProjCKernel m →
    θ_run (Cert.ProjCKernel.defs (F := Bits)) (onTc (τ := Cert.ProjCKernel.τ) (Cert.ProjCKernel.main (F := Bits))) ⟨m, fun _ => 0, g⟩ (fun r => (∀ c : Dev Cert.ProjCKernel.nD,
      r.2.mem ((c.tc : Thread Cert.ProjCKernel.nD Cert.ProjCKernel.τ).loc Cert.ProjCKernel.main_arg0) = m ((c.tc : Thread Cert.ProjCKernel.nD Cert.ProjCKernel.τ).loc Cert.ProjCKernel.main_arg0)
      ∧ r.2.mem ((c.tc : Thread Cert.ProjCKernel.nD Cert.ProjCKernel.τ).loc Cert.ProjCKernel.main_arg1) = m ((c.tc : Thread Cert.ProjCKernel.nD Cert.ProjCKernel.τ).loc Cert.ProjCKernel.main_arg1))
      ∧ r.2.sem = fun _ => 0)

def quiescent_ProjCKernelIdeal [hProjCKernelIdeal : Cert.ProjCKernelIdeal.Facts] : Prop :=
  ∀ (m : (ℓ : Loc Cert.ProjCKernelIdeal.nD Cert.ProjCKernelIdeal.τ Cert.ProjCKernelIdeal.sig) → Buf (Elt Ideal) ℓ) (g : Dev Cert.ProjCKernelIdeal.nD → PrngReg), Pre_ProjCKernelIdeal m →
    θ_run (Cert.ProjCKernelIdeal.defs (F := Ideal)) (onTc (τ := Cert.ProjCKernelIdeal.τ) (Cert.ProjCKernelIdeal.main (F := Ideal))) ⟨m, fun _ => 0, g⟩ (fun r => (∀ c : Dev Cert.ProjCKernelIdeal.nD,
      r.2.mem ((c.tc : Thread Cert.ProjCKernelIdeal.nD Cert.ProjCKernelIdeal.τ).loc Cert.ProjCKernelIdeal.main_arg0) = m ((c.tc : Thread Cert.ProjCKernelIdeal.nD Cert.ProjCKernelIdeal.τ).loc Cert.ProjCKernelIdeal.main_arg0)
      ∧ r.2.mem ((c.tc : Thread Cert.ProjCKernelIdeal.nD Cert.ProjCKernelIdeal.τ).loc Cert.ProjCKernelIdeal.main_arg1) = m ((c.tc : Thread Cert.ProjCKernelIdeal.nD Cert.ProjCKernelIdeal.τ).loc Cert.ProjCKernelIdeal.main_arg1))
      ∧ r.2.sem = fun _ => 0)

def quiescent_ProjCReferenceIdeal [hProjCReferenceIdeal : Cert.ProjCReferenceIdeal.Facts] : Prop :=
  ∀ (m : (ℓ : Loc Cert.ProjCReferenceIdeal.nD Cert.ProjCReferenceIdeal.τ Cert.ProjCReferenceIdeal.sig) → Buf (Elt Ideal) ℓ) (g : Dev Cert.ProjCReferenceIdeal.nD → PrngReg), Pre_ProjCReferenceIdeal m →
    θ_run (Cert.ProjCReferenceIdeal.defs (F := Ideal)) (onTc (τ := Cert.ProjCReferenceIdeal.τ) (Cert.ProjCReferenceIdeal.main (F := Ideal))) ⟨m, fun _ => 0, g⟩ (fun r => (∀ c : Dev Cert.ProjCReferenceIdeal.nD,
      r.2.mem ((c.tc : Thread Cert.ProjCReferenceIdeal.nD Cert.ProjCReferenceIdeal.τ).loc Cert.ProjCReferenceIdeal.main_arg0) = m ((c.tc : Thread Cert.ProjCReferenceIdeal.nD Cert.ProjCReferenceIdeal.τ).loc Cert.ProjCReferenceIdeal.main_arg0)
      ∧ r.2.mem ((c.tc : Thread Cert.ProjCReferenceIdeal.nD Cert.ProjCReferenceIdeal.τ).loc Cert.ProjCReferenceIdeal.main_arg1) = m ((c.tc : Thread Cert.ProjCReferenceIdeal.nD Cert.ProjCReferenceIdeal.τ).loc Cert.ProjCReferenceIdeal.main_arg1))
      ∧ r.2.sem = fun _ => 0)

def quiescent_ProjDwcKernel [hProjDwcKernel : Cert.ProjDwcKernel.Facts] : Prop :=
  ∀ (m : (ℓ : Loc Cert.ProjDwcKernel.nD Cert.ProjDwcKernel.τ Cert.ProjDwcKernel.sig) → Buf (Elt Bits) ℓ) (g : Dev Cert.ProjDwcKernel.nD → PrngReg), Pre_ProjDwcKernel m →
    θ_run (Cert.ProjDwcKernel.defs (F := Bits)) (onTc (τ := Cert.ProjDwcKernel.τ) (Cert.ProjDwcKernel.main (F := Bits))) ⟨m, fun _ => 0, g⟩ (fun r => (∀ c : Dev Cert.ProjDwcKernel.nD,
      r.2.mem ((c.tc : Thread Cert.ProjDwcKernel.nD Cert.ProjDwcKernel.τ).loc Cert.ProjDwcKernel.main_arg0) = m ((c.tc : Thread Cert.ProjDwcKernel.nD Cert.ProjDwcKernel.τ).loc Cert.ProjDwcKernel.main_arg0)
      ∧ r.2.mem ((c.tc : Thread Cert.ProjDwcKernel.nD Cert.ProjDwcKernel.τ).loc Cert.ProjDwcKernel.main_arg1) = m ((c.tc : Thread Cert.ProjDwcKernel.nD Cert.ProjDwcKernel.τ).loc Cert.ProjDwcKernel.main_arg1))
      ∧ r.2.sem = fun _ => 0)

def quiescent_ProjDwcKernelIdeal [hProjDwcKernelIdeal : Cert.ProjDwcKernelIdeal.Facts] : Prop :=
  ∀ (m : (ℓ : Loc Cert.ProjDwcKernelIdeal.nD Cert.ProjDwcKernelIdeal.τ Cert.ProjDwcKernelIdeal.sig) → Buf (Elt Ideal) ℓ) (g : Dev Cert.ProjDwcKernelIdeal.nD → PrngReg), Pre_ProjDwcKernelIdeal m →
    θ_run (Cert.ProjDwcKernelIdeal.defs (F := Ideal)) (onTc (τ := Cert.ProjDwcKernelIdeal.τ) (Cert.ProjDwcKernelIdeal.main (F := Ideal))) ⟨m, fun _ => 0, g⟩ (fun r => (∀ c : Dev Cert.ProjDwcKernelIdeal.nD,
      r.2.mem ((c.tc : Thread Cert.ProjDwcKernelIdeal.nD Cert.ProjDwcKernelIdeal.τ).loc Cert.ProjDwcKernelIdeal.main_arg0) = m ((c.tc : Thread Cert.ProjDwcKernelIdeal.nD Cert.ProjDwcKernelIdeal.τ).loc Cert.ProjDwcKernelIdeal.main_arg0)
      ∧ r.2.mem ((c.tc : Thread Cert.ProjDwcKernelIdeal.nD Cert.ProjDwcKernelIdeal.τ).loc Cert.ProjDwcKernelIdeal.main_arg1) = m ((c.tc : Thread Cert.ProjDwcKernelIdeal.nD Cert.ProjDwcKernelIdeal.τ).loc Cert.ProjDwcKernelIdeal.main_arg1))
      ∧ r.2.sem = fun _ => 0)

def quiescent_ProjDwcReferenceIdeal [hProjDwcReferenceIdeal : Cert.ProjDwcReferenceIdeal.Facts] : Prop :=
  ∀ (m : (ℓ : Loc Cert.ProjDwcReferenceIdeal.nD Cert.ProjDwcReferenceIdeal.τ Cert.ProjDwcReferenceIdeal.sig) → Buf (Elt Ideal) ℓ) (g : Dev Cert.ProjDwcReferenceIdeal.nD → PrngReg), Pre_ProjDwcReferenceIdeal m →
    θ_run (Cert.ProjDwcReferenceIdeal.defs (F := Ideal)) (onTc (τ := Cert.ProjDwcReferenceIdeal.τ) (Cert.ProjDwcReferenceIdeal.main (F := Ideal))) ⟨m, fun _ => 0, g⟩ (fun r => (∀ c : Dev Cert.ProjDwcReferenceIdeal.nD,
      r.2.mem ((c.tc : Thread Cert.ProjDwcReferenceIdeal.nD Cert.ProjDwcReferenceIdeal.τ).loc Cert.ProjDwcReferenceIdeal.main_arg0) = m ((c.tc : Thread Cert.ProjDwcReferenceIdeal.nD Cert.ProjDwcReferenceIdeal.τ).loc Cert.ProjDwcReferenceIdeal.main_arg0)
      ∧ r.2.mem ((c.tc : Thread Cert.ProjDwcReferenceIdeal.nD Cert.ProjDwcReferenceIdeal.τ).loc Cert.ProjDwcReferenceIdeal.main_arg1) = m ((c.tc : Thread Cert.ProjDwcReferenceIdeal.nD Cert.ProjDwcReferenceIdeal.τ).loc Cert.ProjDwcReferenceIdeal.main_arg1))
      ∧ r.2.sem = fun _ => 0)

def quiescent_ProjLKernel [hProjLKernel : Cert.ProjLKernel.Facts] : Prop :=
  ∀ (m : (ℓ : Loc Cert.ProjLKernel.nD Cert.ProjLKernel.τ Cert.ProjLKernel.sig) → Buf (Elt Bits) ℓ) (g : Dev Cert.ProjLKernel.nD → PrngReg), Pre_ProjLKernel m →
    θ_run (Cert.ProjLKernel.defs (F := Bits)) (onTc (τ := Cert.ProjLKernel.τ) (Cert.ProjLKernel.main (F := Bits))) ⟨m, fun _ => 0, g⟩ (fun r => (∀ c : Dev Cert.ProjLKernel.nD,
      r.2.mem ((c.tc : Thread Cert.ProjLKernel.nD Cert.ProjLKernel.τ).loc Cert.ProjLKernel.main_arg0) = m ((c.tc : Thread Cert.ProjLKernel.nD Cert.ProjLKernel.τ).loc Cert.ProjLKernel.main_arg0)
      ∧ r.2.mem ((c.tc : Thread Cert.ProjLKernel.nD Cert.ProjLKernel.τ).loc Cert.ProjLKernel.main_arg1) = m ((c.tc : Thread Cert.ProjLKernel.nD Cert.ProjLKernel.τ).loc Cert.ProjLKernel.main_arg1))
      ∧ r.2.sem = fun _ => 0)

def quiescent_ProjLKernelIdeal [hProjLKernelIdeal : Cert.ProjLKernelIdeal.Facts] : Prop :=
  ∀ (m : (ℓ : Loc Cert.ProjLKernelIdeal.nD Cert.ProjLKernelIdeal.τ Cert.ProjLKernelIdeal.sig) → Buf (Elt Ideal) ℓ) (g : Dev Cert.ProjLKernelIdeal.nD → PrngReg), Pre_ProjLKernelIdeal m →
    θ_run (Cert.ProjLKernelIdeal.defs (F := Ideal)) (onTc (τ := Cert.ProjLKernelIdeal.τ) (Cert.ProjLKernelIdeal.main (F := Ideal))) ⟨m, fun _ => 0, g⟩ (fun r => (∀ c : Dev Cert.ProjLKernelIdeal.nD,
      r.2.mem ((c.tc : Thread Cert.ProjLKernelIdeal.nD Cert.ProjLKernelIdeal.τ).loc Cert.ProjLKernelIdeal.main_arg0) = m ((c.tc : Thread Cert.ProjLKernelIdeal.nD Cert.ProjLKernelIdeal.τ).loc Cert.ProjLKernelIdeal.main_arg0)
      ∧ r.2.mem ((c.tc : Thread Cert.ProjLKernelIdeal.nD Cert.ProjLKernelIdeal.τ).loc Cert.ProjLKernelIdeal.main_arg1) = m ((c.tc : Thread Cert.ProjLKernelIdeal.nD Cert.ProjLKernelIdeal.τ).loc Cert.ProjLKernelIdeal.main_arg1))
      ∧ r.2.sem = fun _ => 0)

def quiescent_ProjLReferenceIdeal [hProjLReferenceIdeal : Cert.ProjLReferenceIdeal.Facts] : Prop :=
  ∀ (m : (ℓ : Loc Cert.ProjLReferenceIdeal.nD Cert.ProjLReferenceIdeal.τ Cert.ProjLReferenceIdeal.sig) → Buf (Elt Ideal) ℓ) (g : Dev Cert.ProjLReferenceIdeal.nD → PrngReg), Pre_ProjLReferenceIdeal m →
    θ_run (Cert.ProjLReferenceIdeal.defs (F := Ideal)) (onTc (τ := Cert.ProjLReferenceIdeal.τ) (Cert.ProjLReferenceIdeal.main (F := Ideal))) ⟨m, fun _ => 0, g⟩ (fun r => (∀ c : Dev Cert.ProjLReferenceIdeal.nD,
      r.2.mem ((c.tc : Thread Cert.ProjLReferenceIdeal.nD Cert.ProjLReferenceIdeal.τ).loc Cert.ProjLReferenceIdeal.main_arg0) = m ((c.tc : Thread Cert.ProjLReferenceIdeal.nD Cert.ProjLReferenceIdeal.τ).loc Cert.ProjLReferenceIdeal.main_arg0)
      ∧ r.2.mem ((c.tc : Thread Cert.ProjLReferenceIdeal.nD Cert.ProjLReferenceIdeal.τ).loc Cert.ProjLReferenceIdeal.main_arg1) = m ((c.tc : Thread Cert.ProjLReferenceIdeal.nD Cert.ProjLReferenceIdeal.τ).loc Cert.ProjLReferenceIdeal.main_arg1))
      ∧ r.2.sem = fun _ => 0)

def quiescent_ProjDwlKernel [hProjDwlKernel : Cert.ProjDwlKernel.Facts] : Prop :=
  ∀ (m : (ℓ : Loc Cert.ProjDwlKernel.nD Cert.ProjDwlKernel.τ Cert.ProjDwlKernel.sig) → Buf (Elt Bits) ℓ) (g : Dev Cert.ProjDwlKernel.nD → PrngReg), Pre_ProjDwlKernel m →
    θ_run (Cert.ProjDwlKernel.defs (F := Bits)) (onTc (τ := Cert.ProjDwlKernel.τ) (Cert.ProjDwlKernel.main (F := Bits))) ⟨m, fun _ => 0, g⟩ (fun r => (∀ c : Dev Cert.ProjDwlKernel.nD,
      r.2.mem ((c.tc : Thread Cert.ProjDwlKernel.nD Cert.ProjDwlKernel.τ).loc Cert.ProjDwlKernel.main_arg0) = m ((c.tc : Thread Cert.ProjDwlKernel.nD Cert.ProjDwlKernel.τ).loc Cert.ProjDwlKernel.main_arg0)
      ∧ r.2.mem ((c.tc : Thread Cert.ProjDwlKernel.nD Cert.ProjDwlKernel.τ).loc Cert.ProjDwlKernel.main_arg1) = m ((c.tc : Thread Cert.ProjDwlKernel.nD Cert.ProjDwlKernel.τ).loc Cert.ProjDwlKernel.main_arg1))
      ∧ r.2.sem = fun _ => 0)

def quiescent_ProjDwlKernelIdeal [hProjDwlKernelIdeal : Cert.ProjDwlKernelIdeal.Facts] : Prop :=
  ∀ (m : (ℓ : Loc Cert.ProjDwlKernelIdeal.nD Cert.ProjDwlKernelIdeal.τ Cert.ProjDwlKernelIdeal.sig) → Buf (Elt Ideal) ℓ) (g : Dev Cert.ProjDwlKernelIdeal.nD → PrngReg), Pre_ProjDwlKernelIdeal m →
    θ_run (Cert.ProjDwlKernelIdeal.defs (F := Ideal)) (onTc (τ := Cert.ProjDwlKernelIdeal.τ) (Cert.ProjDwlKernelIdeal.main (F := Ideal))) ⟨m, fun _ => 0, g⟩ (fun r => (∀ c : Dev Cert.ProjDwlKernelIdeal.nD,
      r.2.mem ((c.tc : Thread Cert.ProjDwlKernelIdeal.nD Cert.ProjDwlKernelIdeal.τ).loc Cert.ProjDwlKernelIdeal.main_arg0) = m ((c.tc : Thread Cert.ProjDwlKernelIdeal.nD Cert.ProjDwlKernelIdeal.τ).loc Cert.ProjDwlKernelIdeal.main_arg0)
      ∧ r.2.mem ((c.tc : Thread Cert.ProjDwlKernelIdeal.nD Cert.ProjDwlKernelIdeal.τ).loc Cert.ProjDwlKernelIdeal.main_arg1) = m ((c.tc : Thread Cert.ProjDwlKernelIdeal.nD Cert.ProjDwlKernelIdeal.τ).loc Cert.ProjDwlKernelIdeal.main_arg1))
      ∧ r.2.sem = fun _ => 0)

def quiescent_ProjDwlReferenceIdeal [hProjDwlReferenceIdeal : Cert.ProjDwlReferenceIdeal.Facts] : Prop :=
  ∀ (m : (ℓ : Loc Cert.ProjDwlReferenceIdeal.nD Cert.ProjDwlReferenceIdeal.τ Cert.ProjDwlReferenceIdeal.sig) → Buf (Elt Ideal) ℓ) (g : Dev Cert.ProjDwlReferenceIdeal.nD → PrngReg), Pre_ProjDwlReferenceIdeal m →
    θ_run (Cert.ProjDwlReferenceIdeal.defs (F := Ideal)) (onTc (τ := Cert.ProjDwlReferenceIdeal.τ) (Cert.ProjDwlReferenceIdeal.main (F := Ideal))) ⟨m, fun _ => 0, g⟩ (fun r => (∀ c : Dev Cert.ProjDwlReferenceIdeal.nD,
      r.2.mem ((c.tc : Thread Cert.ProjDwlReferenceIdeal.nD Cert.ProjDwlReferenceIdeal.τ).loc Cert.ProjDwlReferenceIdeal.main_arg0) = m ((c.tc : Thread Cert.ProjDwlReferenceIdeal.nD Cert.ProjDwlReferenceIdeal.τ).loc Cert.ProjDwlReferenceIdeal.main_arg0)
      ∧ r.2.mem ((c.tc : Thread Cert.ProjDwlReferenceIdeal.nD Cert.ProjDwlReferenceIdeal.τ).loc Cert.ProjDwlReferenceIdeal.main_arg1) = m ((c.tc : Thread Cert.ProjDwlReferenceIdeal.nD Cert.ProjDwlReferenceIdeal.τ).loc Cert.ProjDwlReferenceIdeal.main_arg1))
      ∧ r.2.sem = fun _ => 0)

def quiescent_ProjGKernel [hProjGKernel : Cert.ProjGKernel.Facts] : Prop :=
  ∀ (m : (ℓ : Loc Cert.ProjGKernel.nD Cert.ProjGKernel.τ Cert.ProjGKernel.sig) → Buf (Elt Bits) ℓ) (g : Dev Cert.ProjGKernel.nD → PrngReg), Pre_ProjGKernel m →
    θ_run (Cert.ProjGKernel.defs (F := Bits)) (onTc (τ := Cert.ProjGKernel.τ) (Cert.ProjGKernel.main (F := Bits))) ⟨m, fun _ => 0, g⟩ (fun r => (∀ c : Dev Cert.ProjGKernel.nD,
      r.2.mem ((c.tc : Thread Cert.ProjGKernel.nD Cert.ProjGKernel.τ).loc Cert.ProjGKernel.main_arg0) = m ((c.tc : Thread Cert.ProjGKernel.nD Cert.ProjGKernel.τ).loc Cert.ProjGKernel.main_arg0)
      ∧ r.2.mem ((c.tc : Thread Cert.ProjGKernel.nD Cert.ProjGKernel.τ).loc Cert.ProjGKernel.main_arg1) = m ((c.tc : Thread Cert.ProjGKernel.nD Cert.ProjGKernel.τ).loc Cert.ProjGKernel.main_arg1))
      ∧ r.2.sem = fun _ => 0)

def quiescent_ProjGKernelIdeal [hProjGKernelIdeal : Cert.ProjGKernelIdeal.Facts] : Prop :=
  ∀ (m : (ℓ : Loc Cert.ProjGKernelIdeal.nD Cert.ProjGKernelIdeal.τ Cert.ProjGKernelIdeal.sig) → Buf (Elt Ideal) ℓ) (g : Dev Cert.ProjGKernelIdeal.nD → PrngReg), Pre_ProjGKernelIdeal m →
    θ_run (Cert.ProjGKernelIdeal.defs (F := Ideal)) (onTc (τ := Cert.ProjGKernelIdeal.τ) (Cert.ProjGKernelIdeal.main (F := Ideal))) ⟨m, fun _ => 0, g⟩ (fun r => (∀ c : Dev Cert.ProjGKernelIdeal.nD,
      r.2.mem ((c.tc : Thread Cert.ProjGKernelIdeal.nD Cert.ProjGKernelIdeal.τ).loc Cert.ProjGKernelIdeal.main_arg0) = m ((c.tc : Thread Cert.ProjGKernelIdeal.nD Cert.ProjGKernelIdeal.τ).loc Cert.ProjGKernelIdeal.main_arg0)
      ∧ r.2.mem ((c.tc : Thread Cert.ProjGKernelIdeal.nD Cert.ProjGKernelIdeal.τ).loc Cert.ProjGKernelIdeal.main_arg1) = m ((c.tc : Thread Cert.ProjGKernelIdeal.nD Cert.ProjGKernelIdeal.τ).loc Cert.ProjGKernelIdeal.main_arg1))
      ∧ r.2.sem = fun _ => 0)

def quiescent_ProjGReferenceIdeal [hProjGReferenceIdeal : Cert.ProjGReferenceIdeal.Facts] : Prop :=
  ∀ (m : (ℓ : Loc Cert.ProjGReferenceIdeal.nD Cert.ProjGReferenceIdeal.τ Cert.ProjGReferenceIdeal.sig) → Buf (Elt Ideal) ℓ) (g : Dev Cert.ProjGReferenceIdeal.nD → PrngReg), Pre_ProjGReferenceIdeal m →
    θ_run (Cert.ProjGReferenceIdeal.defs (F := Ideal)) (onTc (τ := Cert.ProjGReferenceIdeal.τ) (Cert.ProjGReferenceIdeal.main (F := Ideal))) ⟨m, fun _ => 0, g⟩ (fun r => (∀ c : Dev Cert.ProjGReferenceIdeal.nD,
      r.2.mem ((c.tc : Thread Cert.ProjGReferenceIdeal.nD Cert.ProjGReferenceIdeal.τ).loc Cert.ProjGReferenceIdeal.main_arg0) = m ((c.tc : Thread Cert.ProjGReferenceIdeal.nD Cert.ProjGReferenceIdeal.τ).loc Cert.ProjGReferenceIdeal.main_arg0)
      ∧ r.2.mem ((c.tc : Thread Cert.ProjGReferenceIdeal.nD Cert.ProjGReferenceIdeal.τ).loc Cert.ProjGReferenceIdeal.main_arg1) = m ((c.tc : Thread Cert.ProjGReferenceIdeal.nD Cert.ProjGReferenceIdeal.τ).loc Cert.ProjGReferenceIdeal.main_arg1))
      ∧ r.2.sem = fun _ => 0)

def quiescent_ProjDwgKernel [hProjDwgKernel : Cert.ProjDwgKernel.Facts] : Prop :=
  ∀ (m : (ℓ : Loc Cert.ProjDwgKernel.nD Cert.ProjDwgKernel.τ Cert.ProjDwgKernel.sig) → Buf (Elt Bits) ℓ) (g : Dev Cert.ProjDwgKernel.nD → PrngReg), Pre_ProjDwgKernel m →
    θ_run (Cert.ProjDwgKernel.defs (F := Bits)) (onTc (τ := Cert.ProjDwgKernel.τ) (Cert.ProjDwgKernel.main (F := Bits))) ⟨m, fun _ => 0, g⟩ (fun r => (∀ c : Dev Cert.ProjDwgKernel.nD,
      r.2.mem ((c.tc : Thread Cert.ProjDwgKernel.nD Cert.ProjDwgKernel.τ).loc Cert.ProjDwgKernel.main_arg0) = m ((c.tc : Thread Cert.ProjDwgKernel.nD Cert.ProjDwgKernel.τ).loc Cert.ProjDwgKernel.main_arg0)
      ∧ r.2.mem ((c.tc : Thread Cert.ProjDwgKernel.nD Cert.ProjDwgKernel.τ).loc Cert.ProjDwgKernel.main_arg1) = m ((c.tc : Thread Cert.ProjDwgKernel.nD Cert.ProjDwgKernel.τ).loc Cert.ProjDwgKernel.main_arg1))
      ∧ r.2.sem = fun _ => 0)

def quiescent_ProjDwgKernelIdeal [hProjDwgKernelIdeal : Cert.ProjDwgKernelIdeal.Facts] : Prop :=
  ∀ (m : (ℓ : Loc Cert.ProjDwgKernelIdeal.nD Cert.ProjDwgKernelIdeal.τ Cert.ProjDwgKernelIdeal.sig) → Buf (Elt Ideal) ℓ) (g : Dev Cert.ProjDwgKernelIdeal.nD → PrngReg), Pre_ProjDwgKernelIdeal m →
    θ_run (Cert.ProjDwgKernelIdeal.defs (F := Ideal)) (onTc (τ := Cert.ProjDwgKernelIdeal.τ) (Cert.ProjDwgKernelIdeal.main (F := Ideal))) ⟨m, fun _ => 0, g⟩ (fun r => (∀ c : Dev Cert.ProjDwgKernelIdeal.nD,
      r.2.mem ((c.tc : Thread Cert.ProjDwgKernelIdeal.nD Cert.ProjDwgKernelIdeal.τ).loc Cert.ProjDwgKernelIdeal.main_arg0) = m ((c.tc : Thread Cert.ProjDwgKernelIdeal.nD Cert.ProjDwgKernelIdeal.τ).loc Cert.ProjDwgKernelIdeal.main_arg0)
      ∧ r.2.mem ((c.tc : Thread Cert.ProjDwgKernelIdeal.nD Cert.ProjDwgKernelIdeal.τ).loc Cert.ProjDwgKernelIdeal.main_arg1) = m ((c.tc : Thread Cert.ProjDwgKernelIdeal.nD Cert.ProjDwgKernelIdeal.τ).loc Cert.ProjDwgKernelIdeal.main_arg1))
      ∧ r.2.sem = fun _ => 0)

def quiescent_ProjDwgReferenceIdeal [hProjDwgReferenceIdeal : Cert.ProjDwgReferenceIdeal.Facts] : Prop :=
  ∀ (m : (ℓ : Loc Cert.ProjDwgReferenceIdeal.nD Cert.ProjDwgReferenceIdeal.τ Cert.ProjDwgReferenceIdeal.sig) → Buf (Elt Ideal) ℓ) (g : Dev Cert.ProjDwgReferenceIdeal.nD → PrngReg), Pre_ProjDwgReferenceIdeal m →
    θ_run (Cert.ProjDwgReferenceIdeal.defs (F := Ideal)) (onTc (τ := Cert.ProjDwgReferenceIdeal.τ) (Cert.ProjDwgReferenceIdeal.main (F := Ideal))) ⟨m, fun _ => 0, g⟩ (fun r => (∀ c : Dev Cert.ProjDwgReferenceIdeal.nD,
      r.2.mem ((c.tc : Thread Cert.ProjDwgReferenceIdeal.nD Cert.ProjDwgReferenceIdeal.τ).loc Cert.ProjDwgReferenceIdeal.main_arg0) = m ((c.tc : Thread Cert.ProjDwgReferenceIdeal.nD Cert.ProjDwgReferenceIdeal.τ).loc Cert.ProjDwgReferenceIdeal.main_arg0)
      ∧ r.2.mem ((c.tc : Thread Cert.ProjDwgReferenceIdeal.nD Cert.ProjDwgReferenceIdeal.τ).loc Cert.ProjDwgReferenceIdeal.main_arg1) = m ((c.tc : Thread Cert.ProjDwgReferenceIdeal.nD Cert.ProjDwgReferenceIdeal.τ).loc Cert.ProjDwgReferenceIdeal.main_arg1))
      ∧ r.2.sem = fun _ => 0)

def quiescent_MixOutKernel [hMixOutKernel : Cert.MixOutKernel.Facts] : Prop :=
  ∀ (m : (ℓ : Loc Cert.MixOutKernel.nD Cert.MixOutKernel.τ Cert.MixOutKernel.sig) → Buf (Elt Bits) ℓ) (g : Dev Cert.MixOutKernel.nD → PrngReg), Pre_MixOutKernel m →
    θ_run (Cert.MixOutKernel.defs (F := Bits)) (onTc (τ := Cert.MixOutKernel.τ) (Cert.MixOutKernel.main (F := Bits))) ⟨m, fun _ => 0, g⟩ (fun r => (∀ c : Dev Cert.MixOutKernel.nD,
      r.2.mem ((c.tc : Thread Cert.MixOutKernel.nD Cert.MixOutKernel.τ).loc Cert.MixOutKernel.main_arg0) = m ((c.tc : Thread Cert.MixOutKernel.nD Cert.MixOutKernel.τ).loc Cert.MixOutKernel.main_arg0)
      ∧ r.2.mem ((c.tc : Thread Cert.MixOutKernel.nD Cert.MixOutKernel.τ).loc Cert.MixOutKernel.main_arg1) = m ((c.tc : Thread Cert.MixOutKernel.nD Cert.MixOutKernel.τ).loc Cert.MixOutKernel.main_arg1)
      ∧ r.2.mem ((c.tc : Thread Cert.MixOutKernel.nD Cert.MixOutKernel.τ).loc Cert.MixOutKernel.main_arg2) = m ((c.tc : Thread Cert.MixOutKernel.nD Cert.MixOutKernel.τ).loc Cert.MixOutKernel.main_arg2)
      ∧ r.2.mem ((c.tc : Thread Cert.MixOutKernel.nD Cert.MixOutKernel.τ).loc Cert.MixOutKernel.main_arg3) = m ((c.tc : Thread Cert.MixOutKernel.nD Cert.MixOutKernel.τ).loc Cert.MixOutKernel.main_arg3))
      ∧ r.2.sem = fun _ => 0)

def quiescent_MixOutKernelIdeal [hMixOutKernelIdeal : Cert.MixOutKernelIdeal.Facts] : Prop :=
  ∀ (m : (ℓ : Loc Cert.MixOutKernelIdeal.nD Cert.MixOutKernelIdeal.τ Cert.MixOutKernelIdeal.sig) → Buf (Elt Ideal) ℓ) (g : Dev Cert.MixOutKernelIdeal.nD → PrngReg), Pre_MixOutKernelIdeal m →
    θ_run (Cert.MixOutKernelIdeal.defs (F := Ideal)) (onTc (τ := Cert.MixOutKernelIdeal.τ) (Cert.MixOutKernelIdeal.main (F := Ideal))) ⟨m, fun _ => 0, g⟩ (fun r => (∀ c : Dev Cert.MixOutKernelIdeal.nD,
      r.2.mem ((c.tc : Thread Cert.MixOutKernelIdeal.nD Cert.MixOutKernelIdeal.τ).loc Cert.MixOutKernelIdeal.main_arg0) = m ((c.tc : Thread Cert.MixOutKernelIdeal.nD Cert.MixOutKernelIdeal.τ).loc Cert.MixOutKernelIdeal.main_arg0)
      ∧ r.2.mem ((c.tc : Thread Cert.MixOutKernelIdeal.nD Cert.MixOutKernelIdeal.τ).loc Cert.MixOutKernelIdeal.main_arg1) = m ((c.tc : Thread Cert.MixOutKernelIdeal.nD Cert.MixOutKernelIdeal.τ).loc Cert.MixOutKernelIdeal.main_arg1)
      ∧ r.2.mem ((c.tc : Thread Cert.MixOutKernelIdeal.nD Cert.MixOutKernelIdeal.τ).loc Cert.MixOutKernelIdeal.main_arg2) = m ((c.tc : Thread Cert.MixOutKernelIdeal.nD Cert.MixOutKernelIdeal.τ).loc Cert.MixOutKernelIdeal.main_arg2)
      ∧ r.2.mem ((c.tc : Thread Cert.MixOutKernelIdeal.nD Cert.MixOutKernelIdeal.τ).loc Cert.MixOutKernelIdeal.main_arg3) = m ((c.tc : Thread Cert.MixOutKernelIdeal.nD Cert.MixOutKernelIdeal.τ).loc Cert.MixOutKernelIdeal.main_arg3))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3))
      ∧ r.2.sem = fun _ => 0)

def quiescent_MixDyKernel [hMixDyKernel : Cert.MixDyKernel.Facts] : Prop :=
  ∀ (m : (ℓ : Loc Cert.MixDyKernel.nD Cert.MixDyKernel.τ Cert.MixDyKernel.sig) → Buf (Elt Bits) ℓ) (g : Dev Cert.MixDyKernel.nD → PrngReg), Pre_MixDyKernel m →
    θ_run (Cert.MixDyKernel.defs (F := Bits)) (onTc (τ := Cert.MixDyKernel.τ) (Cert.MixDyKernel.main (F := Bits))) ⟨m, fun _ => 0, g⟩ (fun r => (∀ c : Dev Cert.MixDyKernel.nD,
      r.2.mem ((c.tc : Thread Cert.MixDyKernel.nD Cert.MixDyKernel.τ).loc Cert.MixDyKernel.main_arg0) = m ((c.tc : Thread Cert.MixDyKernel.nD Cert.MixDyKernel.τ).loc Cert.MixDyKernel.main_arg0)
      ∧ r.2.mem ((c.tc : Thread Cert.MixDyKernel.nD Cert.MixDyKernel.τ).loc Cert.MixDyKernel.main_arg1) = m ((c.tc : Thread Cert.MixDyKernel.nD Cert.MixDyKernel.τ).loc Cert.MixDyKernel.main_arg1))
      ∧ r.2.sem = fun _ => 0)

def quiescent_MixDyKernelIdeal [hMixDyKernelIdeal : Cert.MixDyKernelIdeal.Facts] : Prop :=
  ∀ (m : (ℓ : Loc Cert.MixDyKernelIdeal.nD Cert.MixDyKernelIdeal.τ Cert.MixDyKernelIdeal.sig) → Buf (Elt Ideal) ℓ) (g : Dev Cert.MixDyKernelIdeal.nD → PrngReg), Pre_MixDyKernelIdeal m →
    θ_run (Cert.MixDyKernelIdeal.defs (F := Ideal)) (onTc (τ := Cert.MixDyKernelIdeal.τ) (Cert.MixDyKernelIdeal.main (F := Ideal))) ⟨m, fun _ => 0, g⟩ (fun r => (∀ c : Dev Cert.MixDyKernelIdeal.nD,
      r.2.mem ((c.tc : Thread Cert.MixDyKernelIdeal.nD Cert.MixDyKernelIdeal.τ).loc Cert.MixDyKernelIdeal.main_arg0) = m ((c.tc : Thread Cert.MixDyKernelIdeal.nD Cert.MixDyKernelIdeal.τ).loc Cert.MixDyKernelIdeal.main_arg0)
      ∧ r.2.mem ((c.tc : Thread Cert.MixDyKernelIdeal.nD Cert.MixDyKernelIdeal.τ).loc Cert.MixDyKernelIdeal.main_arg1) = m ((c.tc : Thread Cert.MixDyKernelIdeal.nD Cert.MixDyKernelIdeal.τ).loc Cert.MixDyKernelIdeal.main_arg1))
      ∧ r.2.sem = fun _ => 0)

def quiescent_MixDyReferenceIdeal [hMixDyReferenceIdeal : Cert.MixDyReferenceIdeal.Facts] : Prop :=
  ∀ (m : (ℓ : Loc Cert.MixDyReferenceIdeal.nD Cert.MixDyReferenceIdeal.τ Cert.MixDyReferenceIdeal.sig) → Buf (Elt Ideal) ℓ) (g : Dev Cert.MixDyReferenceIdeal.nD → PrngReg), Pre_MixDyReferenceIdeal m →
    θ_run (Cert.MixDyReferenceIdeal.defs (F := Ideal)) (onTc (τ := Cert.MixDyReferenceIdeal.τ) (Cert.MixDyReferenceIdeal.main (F := Ideal))) ⟨m, fun _ => 0, g⟩ (fun r => (∀ c : Dev Cert.MixDyReferenceIdeal.nD,
      r.2.mem ((c.tc : Thread Cert.MixDyReferenceIdeal.nD Cert.MixDyReferenceIdeal.τ).loc Cert.MixDyReferenceIdeal.main_arg0) = m ((c.tc : Thread Cert.MixDyReferenceIdeal.nD Cert.MixDyReferenceIdeal.τ).loc Cert.MixDyReferenceIdeal.main_arg0)
      ∧ r.2.mem ((c.tc : Thread Cert.MixDyReferenceIdeal.nD Cert.MixDyReferenceIdeal.τ).loc Cert.MixDyReferenceIdeal.main_arg1) = m ((c.tc : Thread Cert.MixDyReferenceIdeal.nD Cert.MixDyReferenceIdeal.τ).loc Cert.MixDyReferenceIdeal.main_arg1))
      ∧ r.2.sem = fun _ => 0)

def quiescent_MixDwoutKernel [hMixDwoutKernel : Cert.MixDwoutKernel.Facts] : Prop :=
  ∀ (m : (ℓ : Loc Cert.MixDwoutKernel.nD Cert.MixDwoutKernel.τ Cert.MixDwoutKernel.sig) → Buf (Elt Bits) ℓ) (g : Dev Cert.MixDwoutKernel.nD → PrngReg), Pre_MixDwoutKernel m →
    θ_run (Cert.MixDwoutKernel.defs (F := Bits)) (onTc (τ := Cert.MixDwoutKernel.τ) (Cert.MixDwoutKernel.main (F := Bits))) ⟨m, fun _ => 0, g⟩ (fun r => (∀ c : Dev Cert.MixDwoutKernel.nD,
      r.2.mem ((c.tc : Thread Cert.MixDwoutKernel.nD Cert.MixDwoutKernel.τ).loc Cert.MixDwoutKernel.main_arg0) = m ((c.tc : Thread Cert.MixDwoutKernel.nD Cert.MixDwoutKernel.τ).loc Cert.MixDwoutKernel.main_arg0)
      ∧ r.2.mem ((c.tc : Thread Cert.MixDwoutKernel.nD Cert.MixDwoutKernel.τ).loc Cert.MixDwoutKernel.main_arg1) = m ((c.tc : Thread Cert.MixDwoutKernel.nD Cert.MixDwoutKernel.τ).loc Cert.MixDwoutKernel.main_arg1))
      ∧ r.2.sem = fun _ => 0)

def quiescent_MixDwoutKernelIdeal [hMixDwoutKernelIdeal : Cert.MixDwoutKernelIdeal.Facts] : Prop :=
  ∀ (m : (ℓ : Loc Cert.MixDwoutKernelIdeal.nD Cert.MixDwoutKernelIdeal.τ Cert.MixDwoutKernelIdeal.sig) → Buf (Elt Ideal) ℓ) (g : Dev Cert.MixDwoutKernelIdeal.nD → PrngReg), Pre_MixDwoutKernelIdeal m →
    θ_run (Cert.MixDwoutKernelIdeal.defs (F := Ideal)) (onTc (τ := Cert.MixDwoutKernelIdeal.τ) (Cert.MixDwoutKernelIdeal.main (F := Ideal))) ⟨m, fun _ => 0, g⟩ (fun r => (∀ c : Dev Cert.MixDwoutKernelIdeal.nD,
      r.2.mem ((c.tc : Thread Cert.MixDwoutKernelIdeal.nD Cert.MixDwoutKernelIdeal.τ).loc Cert.MixDwoutKernelIdeal.main_arg0) = m ((c.tc : Thread Cert.MixDwoutKernelIdeal.nD Cert.MixDwoutKernelIdeal.τ).loc Cert.MixDwoutKernelIdeal.main_arg0)
      ∧ r.2.mem ((c.tc : Thread Cert.MixDwoutKernelIdeal.nD Cert.MixDwoutKernelIdeal.τ).loc Cert.MixDwoutKernelIdeal.main_arg1) = m ((c.tc : Thread Cert.MixDwoutKernelIdeal.nD Cert.MixDwoutKernelIdeal.τ).loc Cert.MixDwoutKernelIdeal.main_arg1))
      ∧ r.2.sem = fun _ => 0)

def quiescent_MixDwoutReferenceIdeal [hMixDwoutReferenceIdeal : Cert.MixDwoutReferenceIdeal.Facts] : Prop :=
  ∀ (m : (ℓ : Loc Cert.MixDwoutReferenceIdeal.nD Cert.MixDwoutReferenceIdeal.τ Cert.MixDwoutReferenceIdeal.sig) → Buf (Elt Ideal) ℓ) (g : Dev Cert.MixDwoutReferenceIdeal.nD → PrngReg), Pre_MixDwoutReferenceIdeal m →
    θ_run (Cert.MixDwoutReferenceIdeal.defs (F := Ideal)) (onTc (τ := Cert.MixDwoutReferenceIdeal.τ) (Cert.MixDwoutReferenceIdeal.main (F := Ideal))) ⟨m, fun _ => 0, g⟩ (fun r => (∀ c : Dev Cert.MixDwoutReferenceIdeal.nD,
      r.2.mem ((c.tc : Thread Cert.MixDwoutReferenceIdeal.nD Cert.MixDwoutReferenceIdeal.τ).loc Cert.MixDwoutReferenceIdeal.main_arg0) = m ((c.tc : Thread Cert.MixDwoutReferenceIdeal.nD Cert.MixDwoutReferenceIdeal.τ).loc Cert.MixDwoutReferenceIdeal.main_arg0)
      ∧ r.2.mem ((c.tc : Thread Cert.MixDwoutReferenceIdeal.nD Cert.MixDwoutReferenceIdeal.τ).loc Cert.MixDwoutReferenceIdeal.main_arg1) = m ((c.tc : Thread Cert.MixDwoutReferenceIdeal.nD Cert.MixDwoutReferenceIdeal.τ).loc Cert.MixDwoutReferenceIdeal.main_arg1))
      ∧ r.2.sem = fun _ => 0)

def quiescent_AdamModelKernel [hAdamModelKernel : Cert.AdamModelKernel.Facts] : Prop :=
  ∀ (m : (ℓ : Loc Cert.AdamModelKernel.nD Cert.AdamModelKernel.τ Cert.AdamModelKernel.sig) → Buf (Elt Bits) ℓ) (g : Dev Cert.AdamModelKernel.nD → PrngReg), Pre_AdamModelKernel m →
    θ_run (Cert.AdamModelKernel.defs (F := Bits)) (onTc (τ := Cert.AdamModelKernel.τ) (Cert.AdamModelKernel.main (F := Bits))) ⟨m, fun _ => 0, g⟩ (fun r => (∀ c : Dev Cert.AdamModelKernel.nD,
      r.2.mem ((c.tc : Thread Cert.AdamModelKernel.nD Cert.AdamModelKernel.τ).loc Cert.AdamModelKernel.main_arg0) = m ((c.tc : Thread Cert.AdamModelKernel.nD Cert.AdamModelKernel.τ).loc Cert.AdamModelKernel.main_arg0)
      ∧ r.2.mem ((c.tc : Thread Cert.AdamModelKernel.nD Cert.AdamModelKernel.τ).loc Cert.AdamModelKernel.main_arg1) = m ((c.tc : Thread Cert.AdamModelKernel.nD Cert.AdamModelKernel.τ).loc Cert.AdamModelKernel.main_arg1)
      ∧ r.2.mem ((c.tc : Thread Cert.AdamModelKernel.nD Cert.AdamModelKernel.τ).loc Cert.AdamModelKernel.main_arg2) = m ((c.tc : Thread Cert.AdamModelKernel.nD Cert.AdamModelKernel.τ).loc Cert.AdamModelKernel.main_arg2)
      ∧ r.2.mem ((c.tc : Thread Cert.AdamModelKernel.nD Cert.AdamModelKernel.τ).loc Cert.AdamModelKernel.main_arg3) = m ((c.tc : Thread Cert.AdamModelKernel.nD Cert.AdamModelKernel.τ).loc Cert.AdamModelKernel.main_arg3))
      ∧ r.2.sem = fun _ => 0)

def quiescent_AdamModelKernelIdeal [hAdamModelKernelIdeal : Cert.AdamModelKernelIdeal.Facts] : Prop :=
  ∀ (m : (ℓ : Loc Cert.AdamModelKernelIdeal.nD Cert.AdamModelKernelIdeal.τ Cert.AdamModelKernelIdeal.sig) → Buf (Elt Ideal) ℓ) (g : Dev Cert.AdamModelKernelIdeal.nD → PrngReg), Pre_AdamModelKernelIdeal m →
    θ_run (Cert.AdamModelKernelIdeal.defs (F := Ideal)) (onTc (τ := Cert.AdamModelKernelIdeal.τ) (Cert.AdamModelKernelIdeal.main (F := Ideal))) ⟨m, fun _ => 0, g⟩ (fun r => (∀ c : Dev Cert.AdamModelKernelIdeal.nD,
      r.2.mem ((c.tc : Thread Cert.AdamModelKernelIdeal.nD Cert.AdamModelKernelIdeal.τ).loc Cert.AdamModelKernelIdeal.main_arg0) = m ((c.tc : Thread Cert.AdamModelKernelIdeal.nD Cert.AdamModelKernelIdeal.τ).loc Cert.AdamModelKernelIdeal.main_arg0)
      ∧ r.2.mem ((c.tc : Thread Cert.AdamModelKernelIdeal.nD Cert.AdamModelKernelIdeal.τ).loc Cert.AdamModelKernelIdeal.main_arg1) = m ((c.tc : Thread Cert.AdamModelKernelIdeal.nD Cert.AdamModelKernelIdeal.τ).loc Cert.AdamModelKernelIdeal.main_arg1)
      ∧ r.2.mem ((c.tc : Thread Cert.AdamModelKernelIdeal.nD Cert.AdamModelKernelIdeal.τ).loc Cert.AdamModelKernelIdeal.main_arg2) = m ((c.tc : Thread Cert.AdamModelKernelIdeal.nD Cert.AdamModelKernelIdeal.τ).loc Cert.AdamModelKernelIdeal.main_arg2)
      ∧ r.2.mem ((c.tc : Thread Cert.AdamModelKernelIdeal.nD Cert.AdamModelKernelIdeal.τ).loc Cert.AdamModelKernelIdeal.main_arg3) = m ((c.tc : Thread Cert.AdamModelKernelIdeal.nD Cert.AdamModelKernelIdeal.τ).loc Cert.AdamModelKernelIdeal.main_arg3))
      ∧ r.2.sem = fun _ => 0)

def quiescent_AdamModelReferenceIdeal [hAdamModelReferenceIdeal : Cert.AdamModelReferenceIdeal.Facts] : Prop :=
  ∀ (m : (ℓ : Loc Cert.AdamModelReferenceIdeal.nD Cert.AdamModelReferenceIdeal.τ Cert.AdamModelReferenceIdeal.sig) → Buf (Elt Ideal) ℓ) (g : Dev Cert.AdamModelReferenceIdeal.nD → PrngReg), Pre_AdamModelReferenceIdeal m →
    θ_run (Cert.AdamModelReferenceIdeal.defs (F := Ideal)) (onTc (τ := Cert.AdamModelReferenceIdeal.τ) (Cert.AdamModelReferenceIdeal.main (F := Ideal))) ⟨m, fun _ => 0, g⟩ (fun r => (∀ c : Dev Cert.AdamModelReferenceIdeal.nD,
      r.2.mem ((c.tc : Thread Cert.AdamModelReferenceIdeal.nD Cert.AdamModelReferenceIdeal.τ).loc Cert.AdamModelReferenceIdeal.main_arg0) = m ((c.tc : Thread Cert.AdamModelReferenceIdeal.nD Cert.AdamModelReferenceIdeal.τ).loc Cert.AdamModelReferenceIdeal.main_arg0)
      ∧ r.2.mem ((c.tc : Thread Cert.AdamModelReferenceIdeal.nD Cert.AdamModelReferenceIdeal.τ).loc Cert.AdamModelReferenceIdeal.main_arg1) = m ((c.tc : Thread Cert.AdamModelReferenceIdeal.nD Cert.AdamModelReferenceIdeal.τ).loc Cert.AdamModelReferenceIdeal.main_arg1)
      ∧ r.2.mem ((c.tc : Thread Cert.AdamModelReferenceIdeal.nD Cert.AdamModelReferenceIdeal.τ).loc Cert.AdamModelReferenceIdeal.main_arg2) = m ((c.tc : Thread Cert.AdamModelReferenceIdeal.nD Cert.AdamModelReferenceIdeal.τ).loc Cert.AdamModelReferenceIdeal.main_arg2)
      ∧ r.2.mem ((c.tc : Thread Cert.AdamModelReferenceIdeal.nD Cert.AdamModelReferenceIdeal.τ).loc Cert.AdamModelReferenceIdeal.main_arg3) = m ((c.tc : Thread Cert.AdamModelReferenceIdeal.nD Cert.AdamModelReferenceIdeal.τ).loc Cert.AdamModelReferenceIdeal.main_arg3))
      ∧ r.2.sem = fun _ => 0)

def quiescent_AdamConvKernel [hAdamConvKernel : Cert.AdamConvKernel.Facts] : Prop :=
  ∀ (m : (ℓ : Loc Cert.AdamConvKernel.nD Cert.AdamConvKernel.τ Cert.AdamConvKernel.sig) → Buf (Elt Bits) ℓ) (g : Dev Cert.AdamConvKernel.nD → PrngReg), Pre_AdamConvKernel m →
    θ_run (Cert.AdamConvKernel.defs (F := Bits)) (onTc (τ := Cert.AdamConvKernel.τ) (Cert.AdamConvKernel.main (F := Bits))) ⟨m, fun _ => 0, g⟩ (fun r => (∀ c : Dev Cert.AdamConvKernel.nD,
      r.2.mem ((c.tc : Thread Cert.AdamConvKernel.nD Cert.AdamConvKernel.τ).loc Cert.AdamConvKernel.main_arg0) = m ((c.tc : Thread Cert.AdamConvKernel.nD Cert.AdamConvKernel.τ).loc Cert.AdamConvKernel.main_arg0)
      ∧ r.2.mem ((c.tc : Thread Cert.AdamConvKernel.nD Cert.AdamConvKernel.τ).loc Cert.AdamConvKernel.main_arg1) = m ((c.tc : Thread Cert.AdamConvKernel.nD Cert.AdamConvKernel.τ).loc Cert.AdamConvKernel.main_arg1)
      ∧ r.2.mem ((c.tc : Thread Cert.AdamConvKernel.nD Cert.AdamConvKernel.τ).loc Cert.AdamConvKernel.main_arg2) = m ((c.tc : Thread Cert.AdamConvKernel.nD Cert.AdamConvKernel.τ).loc Cert.AdamConvKernel.main_arg2)
      ∧ r.2.mem ((c.tc : Thread Cert.AdamConvKernel.nD Cert.AdamConvKernel.τ).loc Cert.AdamConvKernel.main_arg3) = m ((c.tc : Thread Cert.AdamConvKernel.nD Cert.AdamConvKernel.τ).loc Cert.AdamConvKernel.main_arg3))
      ∧ r.2.sem = fun _ => 0)

def quiescent_AdamConvKernelIdeal [hAdamConvKernelIdeal : Cert.AdamConvKernelIdeal.Facts] : Prop :=
  ∀ (m : (ℓ : Loc Cert.AdamConvKernelIdeal.nD Cert.AdamConvKernelIdeal.τ Cert.AdamConvKernelIdeal.sig) → Buf (Elt Ideal) ℓ) (g : Dev Cert.AdamConvKernelIdeal.nD → PrngReg), Pre_AdamConvKernelIdeal m →
    θ_run (Cert.AdamConvKernelIdeal.defs (F := Ideal)) (onTc (τ := Cert.AdamConvKernelIdeal.τ) (Cert.AdamConvKernelIdeal.main (F := Ideal))) ⟨m, fun _ => 0, g⟩ (fun r => (∀ c : Dev Cert.AdamConvKernelIdeal.nD,
      r.2.mem ((c.tc : Thread Cert.AdamConvKernelIdeal.nD Cert.AdamConvKernelIdeal.τ).loc Cert.AdamConvKernelIdeal.main_arg0) = m ((c.tc : Thread Cert.AdamConvKernelIdeal.nD Cert.AdamConvKernelIdeal.τ).loc Cert.AdamConvKernelIdeal.main_arg0)
      ∧ r.2.mem ((c.tc : Thread Cert.AdamConvKernelIdeal.nD Cert.AdamConvKernelIdeal.τ).loc Cert.AdamConvKernelIdeal.main_arg1) = m ((c.tc : Thread Cert.AdamConvKernelIdeal.nD Cert.AdamConvKernelIdeal.τ).loc Cert.AdamConvKernelIdeal.main_arg1)
      ∧ r.2.mem ((c.tc : Thread Cert.AdamConvKernelIdeal.nD Cert.AdamConvKernelIdeal.τ).loc Cert.AdamConvKernelIdeal.main_arg2) = m ((c.tc : Thread Cert.AdamConvKernelIdeal.nD Cert.AdamConvKernelIdeal.τ).loc Cert.AdamConvKernelIdeal.main_arg2)
      ∧ r.2.mem ((c.tc : Thread Cert.AdamConvKernelIdeal.nD Cert.AdamConvKernelIdeal.τ).loc Cert.AdamConvKernelIdeal.main_arg3) = m ((c.tc : Thread Cert.AdamConvKernelIdeal.nD Cert.AdamConvKernelIdeal.τ).loc Cert.AdamConvKernelIdeal.main_arg3))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3))
      ∧ r.2.sem = fun _ => 0)

def quiescent_AdamLatentKernel [hAdamLatentKernel : Cert.AdamLatentKernel.Facts] : Prop :=
  ∀ (m : (ℓ : Loc Cert.AdamLatentKernel.nD Cert.AdamLatentKernel.τ Cert.AdamLatentKernel.sig) → Buf (Elt Bits) ℓ) (g : Dev Cert.AdamLatentKernel.nD → PrngReg), Pre_AdamLatentKernel m →
    θ_run (Cert.AdamLatentKernel.defs (F := Bits)) (onTc (τ := Cert.AdamLatentKernel.τ) (Cert.AdamLatentKernel.main (F := Bits))) ⟨m, fun _ => 0, g⟩ (fun r => (∀ c : Dev Cert.AdamLatentKernel.nD,
      r.2.mem ((c.tc : Thread Cert.AdamLatentKernel.nD Cert.AdamLatentKernel.τ).loc Cert.AdamLatentKernel.main_arg0) = m ((c.tc : Thread Cert.AdamLatentKernel.nD Cert.AdamLatentKernel.τ).loc Cert.AdamLatentKernel.main_arg0)
      ∧ r.2.mem ((c.tc : Thread Cert.AdamLatentKernel.nD Cert.AdamLatentKernel.τ).loc Cert.AdamLatentKernel.main_arg1) = m ((c.tc : Thread Cert.AdamLatentKernel.nD Cert.AdamLatentKernel.τ).loc Cert.AdamLatentKernel.main_arg1)
      ∧ r.2.mem ((c.tc : Thread Cert.AdamLatentKernel.nD Cert.AdamLatentKernel.τ).loc Cert.AdamLatentKernel.main_arg2) = m ((c.tc : Thread Cert.AdamLatentKernel.nD Cert.AdamLatentKernel.τ).loc Cert.AdamLatentKernel.main_arg2)
      ∧ r.2.mem ((c.tc : Thread Cert.AdamLatentKernel.nD Cert.AdamLatentKernel.τ).loc Cert.AdamLatentKernel.main_arg3) = m ((c.tc : Thread Cert.AdamLatentKernel.nD Cert.AdamLatentKernel.τ).loc Cert.AdamLatentKernel.main_arg3))
      ∧ r.2.sem = fun _ => 0)

def quiescent_AdamLatentKernelIdeal [hAdamLatentKernelIdeal : Cert.AdamLatentKernelIdeal.Facts] : Prop :=
  ∀ (m : (ℓ : Loc Cert.AdamLatentKernelIdeal.nD Cert.AdamLatentKernelIdeal.τ Cert.AdamLatentKernelIdeal.sig) → Buf (Elt Ideal) ℓ) (g : Dev Cert.AdamLatentKernelIdeal.nD → PrngReg), Pre_AdamLatentKernelIdeal m →
    θ_run (Cert.AdamLatentKernelIdeal.defs (F := Ideal)) (onTc (τ := Cert.AdamLatentKernelIdeal.τ) (Cert.AdamLatentKernelIdeal.main (F := Ideal))) ⟨m, fun _ => 0, g⟩ (fun r => (∀ c : Dev Cert.AdamLatentKernelIdeal.nD,
      r.2.mem ((c.tc : Thread Cert.AdamLatentKernelIdeal.nD Cert.AdamLatentKernelIdeal.τ).loc Cert.AdamLatentKernelIdeal.main_arg0) = m ((c.tc : Thread Cert.AdamLatentKernelIdeal.nD Cert.AdamLatentKernelIdeal.τ).loc Cert.AdamLatentKernelIdeal.main_arg0)
      ∧ r.2.mem ((c.tc : Thread Cert.AdamLatentKernelIdeal.nD Cert.AdamLatentKernelIdeal.τ).loc Cert.AdamLatentKernelIdeal.main_arg1) = m ((c.tc : Thread Cert.AdamLatentKernelIdeal.nD Cert.AdamLatentKernelIdeal.τ).loc Cert.AdamLatentKernelIdeal.main_arg1)
      ∧ r.2.mem ((c.tc : Thread Cert.AdamLatentKernelIdeal.nD Cert.AdamLatentKernelIdeal.τ).loc Cert.AdamLatentKernelIdeal.main_arg2) = m ((c.tc : Thread Cert.AdamLatentKernelIdeal.nD Cert.AdamLatentKernelIdeal.τ).loc Cert.AdamLatentKernelIdeal.main_arg2)
      ∧ r.2.mem ((c.tc : Thread Cert.AdamLatentKernelIdeal.nD Cert.AdamLatentKernelIdeal.τ).loc Cert.AdamLatentKernelIdeal.main_arg3) = m ((c.tc : Thread Cert.AdamLatentKernelIdeal.nD Cert.AdamLatentKernelIdeal.τ).loc Cert.AdamLatentKernelIdeal.main_arg3))
      ∧ r.2.sem = fun _ => 0)

def quiescent_AdamLatentReferenceIdeal [hAdamLatentReferenceIdeal : Cert.AdamLatentReferenceIdeal.Facts] : Prop :=
  ∀ (m : (ℓ : Loc Cert.AdamLatentReferenceIdeal.nD Cert.AdamLatentReferenceIdeal.τ Cert.AdamLatentReferenceIdeal.sig) → Buf (Elt Ideal) ℓ) (g : Dev Cert.AdamLatentReferenceIdeal.nD → PrngReg), Pre_AdamLatentReferenceIdeal m →
    θ_run (Cert.AdamLatentReferenceIdeal.defs (F := Ideal)) (onTc (τ := Cert.AdamLatentReferenceIdeal.τ) (Cert.AdamLatentReferenceIdeal.main (F := Ideal))) ⟨m, fun _ => 0, g⟩ (fun r => (∀ c : Dev Cert.AdamLatentReferenceIdeal.nD,
      r.2.mem ((c.tc : Thread Cert.AdamLatentReferenceIdeal.nD Cert.AdamLatentReferenceIdeal.τ).loc Cert.AdamLatentReferenceIdeal.main_arg0) = m ((c.tc : Thread Cert.AdamLatentReferenceIdeal.nD Cert.AdamLatentReferenceIdeal.τ).loc Cert.AdamLatentReferenceIdeal.main_arg0)
      ∧ r.2.mem ((c.tc : Thread Cert.AdamLatentReferenceIdeal.nD Cert.AdamLatentReferenceIdeal.τ).loc Cert.AdamLatentReferenceIdeal.main_arg1) = m ((c.tc : Thread Cert.AdamLatentReferenceIdeal.nD Cert.AdamLatentReferenceIdeal.τ).loc Cert.AdamLatentReferenceIdeal.main_arg1)
      ∧ r.2.mem ((c.tc : Thread Cert.AdamLatentReferenceIdeal.nD Cert.AdamLatentReferenceIdeal.τ).loc Cert.AdamLatentReferenceIdeal.main_arg2) = m ((c.tc : Thread Cert.AdamLatentReferenceIdeal.nD Cert.AdamLatentReferenceIdeal.τ).loc Cert.AdamLatentReferenceIdeal.main_arg2)
      ∧ r.2.mem ((c.tc : Thread Cert.AdamLatentReferenceIdeal.nD Cert.AdamLatentReferenceIdeal.τ).loc Cert.AdamLatentReferenceIdeal.main_arg3) = m ((c.tc : Thread Cert.AdamLatentReferenceIdeal.nD Cert.AdamLatentReferenceIdeal.τ).loc Cert.AdamLatentReferenceIdeal.main_arg3))
      ∧ r.2.sem = fun _ => 0)

def quiescent_AdamHeadKernel [hAdamHeadKernel : Cert.AdamHeadKernel.Facts] : Prop :=
  ∀ (m : (ℓ : Loc Cert.AdamHeadKernel.nD Cert.AdamHeadKernel.τ Cert.AdamHeadKernel.sig) → Buf (Elt Bits) ℓ) (g : Dev Cert.AdamHeadKernel.nD → PrngReg), Pre_AdamHeadKernel m →
    θ_run (Cert.AdamHeadKernel.defs (F := Bits)) (onTc (τ := Cert.AdamHeadKernel.τ) (Cert.AdamHeadKernel.main (F := Bits))) ⟨m, fun _ => 0, g⟩ (fun r => (∀ c : Dev Cert.AdamHeadKernel.nD,
      r.2.mem ((c.tc : Thread Cert.AdamHeadKernel.nD Cert.AdamHeadKernel.τ).loc Cert.AdamHeadKernel.main_arg0) = m ((c.tc : Thread Cert.AdamHeadKernel.nD Cert.AdamHeadKernel.τ).loc Cert.AdamHeadKernel.main_arg0)
      ∧ r.2.mem ((c.tc : Thread Cert.AdamHeadKernel.nD Cert.AdamHeadKernel.τ).loc Cert.AdamHeadKernel.main_arg1) = m ((c.tc : Thread Cert.AdamHeadKernel.nD Cert.AdamHeadKernel.τ).loc Cert.AdamHeadKernel.main_arg1)
      ∧ r.2.mem ((c.tc : Thread Cert.AdamHeadKernel.nD Cert.AdamHeadKernel.τ).loc Cert.AdamHeadKernel.main_arg2) = m ((c.tc : Thread Cert.AdamHeadKernel.nD Cert.AdamHeadKernel.τ).loc Cert.AdamHeadKernel.main_arg2)
      ∧ r.2.mem ((c.tc : Thread Cert.AdamHeadKernel.nD Cert.AdamHeadKernel.τ).loc Cert.AdamHeadKernel.main_arg3) = m ((c.tc : Thread Cert.AdamHeadKernel.nD Cert.AdamHeadKernel.τ).loc Cert.AdamHeadKernel.main_arg3))
      ∧ r.2.sem = fun _ => 0)

def quiescent_AdamHeadKernelIdeal [hAdamHeadKernelIdeal : Cert.AdamHeadKernelIdeal.Facts] : Prop :=
  ∀ (m : (ℓ : Loc Cert.AdamHeadKernelIdeal.nD Cert.AdamHeadKernelIdeal.τ Cert.AdamHeadKernelIdeal.sig) → Buf (Elt Ideal) ℓ) (g : Dev Cert.AdamHeadKernelIdeal.nD → PrngReg), Pre_AdamHeadKernelIdeal m →
    θ_run (Cert.AdamHeadKernelIdeal.defs (F := Ideal)) (onTc (τ := Cert.AdamHeadKernelIdeal.τ) (Cert.AdamHeadKernelIdeal.main (F := Ideal))) ⟨m, fun _ => 0, g⟩ (fun r => (∀ c : Dev Cert.AdamHeadKernelIdeal.nD,
      r.2.mem ((c.tc : Thread Cert.AdamHeadKernelIdeal.nD Cert.AdamHeadKernelIdeal.τ).loc Cert.AdamHeadKernelIdeal.main_arg0) = m ((c.tc : Thread Cert.AdamHeadKernelIdeal.nD Cert.AdamHeadKernelIdeal.τ).loc Cert.AdamHeadKernelIdeal.main_arg0)
      ∧ r.2.mem ((c.tc : Thread Cert.AdamHeadKernelIdeal.nD Cert.AdamHeadKernelIdeal.τ).loc Cert.AdamHeadKernelIdeal.main_arg1) = m ((c.tc : Thread Cert.AdamHeadKernelIdeal.nD Cert.AdamHeadKernelIdeal.τ).loc Cert.AdamHeadKernelIdeal.main_arg1)
      ∧ r.2.mem ((c.tc : Thread Cert.AdamHeadKernelIdeal.nD Cert.AdamHeadKernelIdeal.τ).loc Cert.AdamHeadKernelIdeal.main_arg2) = m ((c.tc : Thread Cert.AdamHeadKernelIdeal.nD Cert.AdamHeadKernelIdeal.τ).loc Cert.AdamHeadKernelIdeal.main_arg2)
      ∧ r.2.mem ((c.tc : Thread Cert.AdamHeadKernelIdeal.nD Cert.AdamHeadKernelIdeal.τ).loc Cert.AdamHeadKernelIdeal.main_arg3) = m ((c.tc : Thread Cert.AdamHeadKernelIdeal.nD Cert.AdamHeadKernelIdeal.τ).loc Cert.AdamHeadKernelIdeal.main_arg3))
      ∧ r.2.sem = fun _ => 0)

def quiescent_AdamHeadReferenceIdeal [hAdamHeadReferenceIdeal : Cert.AdamHeadReferenceIdeal.Facts] : Prop :=
  ∀ (m : (ℓ : Loc Cert.AdamHeadReferenceIdeal.nD Cert.AdamHeadReferenceIdeal.τ Cert.AdamHeadReferenceIdeal.sig) → Buf (Elt Ideal) ℓ) (g : Dev Cert.AdamHeadReferenceIdeal.nD → PrngReg), Pre_AdamHeadReferenceIdeal m →
    θ_run (Cert.AdamHeadReferenceIdeal.defs (F := Ideal)) (onTc (τ := Cert.AdamHeadReferenceIdeal.τ) (Cert.AdamHeadReferenceIdeal.main (F := Ideal))) ⟨m, fun _ => 0, g⟩ (fun r => (∀ c : Dev Cert.AdamHeadReferenceIdeal.nD,
      r.2.mem ((c.tc : Thread Cert.AdamHeadReferenceIdeal.nD Cert.AdamHeadReferenceIdeal.τ).loc Cert.AdamHeadReferenceIdeal.main_arg0) = m ((c.tc : Thread Cert.AdamHeadReferenceIdeal.nD Cert.AdamHeadReferenceIdeal.τ).loc Cert.AdamHeadReferenceIdeal.main_arg0)
      ∧ r.2.mem ((c.tc : Thread Cert.AdamHeadReferenceIdeal.nD Cert.AdamHeadReferenceIdeal.τ).loc Cert.AdamHeadReferenceIdeal.main_arg1) = m ((c.tc : Thread Cert.AdamHeadReferenceIdeal.nD Cert.AdamHeadReferenceIdeal.τ).loc Cert.AdamHeadReferenceIdeal.main_arg1)
      ∧ r.2.mem ((c.tc : Thread Cert.AdamHeadReferenceIdeal.nD Cert.AdamHeadReferenceIdeal.τ).loc Cert.AdamHeadReferenceIdeal.main_arg2) = m ((c.tc : Thread Cert.AdamHeadReferenceIdeal.nD Cert.AdamHeadReferenceIdeal.τ).loc Cert.AdamHeadReferenceIdeal.main_arg2)
      ∧ r.2.mem ((c.tc : Thread Cert.AdamHeadReferenceIdeal.nD Cert.AdamHeadReferenceIdeal.τ).loc Cert.AdamHeadReferenceIdeal.main_arg3) = m ((c.tc : Thread Cert.AdamHeadReferenceIdeal.nD Cert.AdamHeadReferenceIdeal.τ).loc Cert.AdamHeadReferenceIdeal.main_arg3))
      ∧ r.2.sem = fun _ => 0)

def quiescent_AdamTapsKernel [hAdamTapsKernel : Cert.AdamTapsKernel.Facts] : Prop :=
  ∀ (m : (ℓ : Loc Cert.AdamTapsKernel.nD Cert.AdamTapsKernel.τ Cert.AdamTapsKernel.sig) → Buf (Elt Bits) ℓ) (g : Dev Cert.AdamTapsKernel.nD → PrngReg), Pre_AdamTapsKernel m →
    θ_run (Cert.AdamTapsKernel.defs (F := Bits)) (onTc (τ := Cert.AdamTapsKernel.τ) (Cert.AdamTapsKernel.main (F := Bits))) ⟨m, fun _ => 0, g⟩ (fun r => (∀ c : Dev Cert.AdamTapsKernel.nD,
      r.2.mem ((c.tc : Thread Cert.AdamTapsKernel.nD Cert.AdamTapsKernel.τ).loc Cert.AdamTapsKernel.main_arg0) = m ((c.tc : Thread Cert.AdamTapsKernel.nD Cert.AdamTapsKernel.τ).loc Cert.AdamTapsKernel.main_arg0)
      ∧ r.2.mem ((c.tc : Thread Cert.AdamTapsKernel.nD Cert.AdamTapsKernel.τ).loc Cert.AdamTapsKernel.main_arg1) = m ((c.tc : Thread Cert.AdamTapsKernel.nD Cert.AdamTapsKernel.τ).loc Cert.AdamTapsKernel.main_arg1)
      ∧ r.2.mem ((c.tc : Thread Cert.AdamTapsKernel.nD Cert.AdamTapsKernel.τ).loc Cert.AdamTapsKernel.main_arg2) = m ((c.tc : Thread Cert.AdamTapsKernel.nD Cert.AdamTapsKernel.τ).loc Cert.AdamTapsKernel.main_arg2)
      ∧ r.2.mem ((c.tc : Thread Cert.AdamTapsKernel.nD Cert.AdamTapsKernel.τ).loc Cert.AdamTapsKernel.main_arg3) = m ((c.tc : Thread Cert.AdamTapsKernel.nD Cert.AdamTapsKernel.τ).loc Cert.AdamTapsKernel.main_arg3))
      ∧ r.2.sem = fun _ => 0)

def quiescent_AdamTapsKernelIdeal [hAdamTapsKernelIdeal : Cert.AdamTapsKernelIdeal.Facts] : Prop :=
  ∀ (m : (ℓ : Loc Cert.AdamTapsKernelIdeal.nD Cert.AdamTapsKernelIdeal.τ Cert.AdamTapsKernelIdeal.sig) → Buf (Elt Ideal) ℓ) (g : Dev Cert.AdamTapsKernelIdeal.nD → PrngReg), Pre_AdamTapsKernelIdeal m →
    θ_run (Cert.AdamTapsKernelIdeal.defs (F := Ideal)) (onTc (τ := Cert.AdamTapsKernelIdeal.τ) (Cert.AdamTapsKernelIdeal.main (F := Ideal))) ⟨m, fun _ => 0, g⟩ (fun r => (∀ c : Dev Cert.AdamTapsKernelIdeal.nD,
      r.2.mem ((c.tc : Thread Cert.AdamTapsKernelIdeal.nD Cert.AdamTapsKernelIdeal.τ).loc Cert.AdamTapsKernelIdeal.main_arg0) = m ((c.tc : Thread Cert.AdamTapsKernelIdeal.nD Cert.AdamTapsKernelIdeal.τ).loc Cert.AdamTapsKernelIdeal.main_arg0)
      ∧ r.2.mem ((c.tc : Thread Cert.AdamTapsKernelIdeal.nD Cert.AdamTapsKernelIdeal.τ).loc Cert.AdamTapsKernelIdeal.main_arg1) = m ((c.tc : Thread Cert.AdamTapsKernelIdeal.nD Cert.AdamTapsKernelIdeal.τ).loc Cert.AdamTapsKernelIdeal.main_arg1)
      ∧ r.2.mem ((c.tc : Thread Cert.AdamTapsKernelIdeal.nD Cert.AdamTapsKernelIdeal.τ).loc Cert.AdamTapsKernelIdeal.main_arg2) = m ((c.tc : Thread Cert.AdamTapsKernelIdeal.nD Cert.AdamTapsKernelIdeal.τ).loc Cert.AdamTapsKernelIdeal.main_arg2)
      ∧ r.2.mem ((c.tc : Thread Cert.AdamTapsKernelIdeal.nD Cert.AdamTapsKernelIdeal.τ).loc Cert.AdamTapsKernelIdeal.main_arg3) = m ((c.tc : Thread Cert.AdamTapsKernelIdeal.nD Cert.AdamTapsKernelIdeal.τ).loc Cert.AdamTapsKernelIdeal.main_arg3))
      ∧ r.2.sem = fun _ => 0)

def quiescent_AdamTapsReferenceIdeal [hAdamTapsReferenceIdeal : Cert.AdamTapsReferenceIdeal.Facts] : Prop :=
  ∀ (m : (ℓ : Loc Cert.AdamTapsReferenceIdeal.nD Cert.AdamTapsReferenceIdeal.τ Cert.AdamTapsReferenceIdeal.sig) → Buf (Elt Ideal) ℓ) (g : Dev Cert.AdamTapsReferenceIdeal.nD → PrngReg), Pre_AdamTapsReferenceIdeal m →
    θ_run (Cert.AdamTapsReferenceIdeal.defs (F := Ideal)) (onTc (τ := Cert.AdamTapsReferenceIdeal.τ) (Cert.AdamTapsReferenceIdeal.main (F := Ideal))) ⟨m, fun _ => 0, g⟩ (fun r => (∀ c : Dev Cert.AdamTapsReferenceIdeal.nD,
      r.2.mem ((c.tc : Thread Cert.AdamTapsReferenceIdeal.nD Cert.AdamTapsReferenceIdeal.τ).loc Cert.AdamTapsReferenceIdeal.main_arg0) = m ((c.tc : Thread Cert.AdamTapsReferenceIdeal.nD Cert.AdamTapsReferenceIdeal.τ).loc Cert.AdamTapsReferenceIdeal.main_arg0)
      ∧ r.2.mem ((c.tc : Thread Cert.AdamTapsReferenceIdeal.nD Cert.AdamTapsReferenceIdeal.τ).loc Cert.AdamTapsReferenceIdeal.main_arg1) = m ((c.tc : Thread Cert.AdamTapsReferenceIdeal.nD Cert.AdamTapsReferenceIdeal.τ).loc Cert.AdamTapsReferenceIdeal.main_arg1)
      ∧ r.2.mem ((c.tc : Thread Cert.AdamTapsReferenceIdeal.nD Cert.AdamTapsReferenceIdeal.τ).loc Cert.AdamTapsReferenceIdeal.main_arg2) = m ((c.tc : Thread Cert.AdamTapsReferenceIdeal.nD Cert.AdamTapsReferenceIdeal.τ).loc Cert.AdamTapsReferenceIdeal.main_arg2)
      ∧ r.2.mem ((c.tc : Thread Cert.AdamTapsReferenceIdeal.nD Cert.AdamTapsReferenceIdeal.τ).loc Cert.AdamTapsReferenceIdeal.main_arg3) = m ((c.tc : Thread Cert.AdamTapsReferenceIdeal.nD Cert.AdamTapsReferenceIdeal.τ).loc Cert.AdamTapsReferenceIdeal.main_arg3))
      ∧ r.2.sem = fun _ => 0)

def quiescent_AdamBiasKernel [hAdamBiasKernel : Cert.AdamBiasKernel.Facts] : Prop :=
  ∀ (m : (ℓ : Loc Cert.AdamBiasKernel.nD Cert.AdamBiasKernel.τ Cert.AdamBiasKernel.sig) → Buf (Elt Bits) ℓ) (g : Dev Cert.AdamBiasKernel.nD → PrngReg), Pre_AdamBiasKernel m →
    θ_run (Cert.AdamBiasKernel.defs (F := Bits)) (onTc (τ := Cert.AdamBiasKernel.τ) (Cert.AdamBiasKernel.main (F := Bits))) ⟨m, fun _ => 0, g⟩ (fun r => (∀ c : Dev Cert.AdamBiasKernel.nD,
      r.2.mem ((c.tc : Thread Cert.AdamBiasKernel.nD Cert.AdamBiasKernel.τ).loc Cert.AdamBiasKernel.main_arg0) = m ((c.tc : Thread Cert.AdamBiasKernel.nD Cert.AdamBiasKernel.τ).loc Cert.AdamBiasKernel.main_arg0)
      ∧ r.2.mem ((c.tc : Thread Cert.AdamBiasKernel.nD Cert.AdamBiasKernel.τ).loc Cert.AdamBiasKernel.main_arg1) = m ((c.tc : Thread Cert.AdamBiasKernel.nD Cert.AdamBiasKernel.τ).loc Cert.AdamBiasKernel.main_arg1)
      ∧ r.2.mem ((c.tc : Thread Cert.AdamBiasKernel.nD Cert.AdamBiasKernel.τ).loc Cert.AdamBiasKernel.main_arg2) = m ((c.tc : Thread Cert.AdamBiasKernel.nD Cert.AdamBiasKernel.τ).loc Cert.AdamBiasKernel.main_arg2)
      ∧ r.2.mem ((c.tc : Thread Cert.AdamBiasKernel.nD Cert.AdamBiasKernel.τ).loc Cert.AdamBiasKernel.main_arg3) = m ((c.tc : Thread Cert.AdamBiasKernel.nD Cert.AdamBiasKernel.τ).loc Cert.AdamBiasKernel.main_arg3))
      ∧ r.2.sem = fun _ => 0)

def quiescent_AdamBiasKernelIdeal [hAdamBiasKernelIdeal : Cert.AdamBiasKernelIdeal.Facts] : Prop :=
  ∀ (m : (ℓ : Loc Cert.AdamBiasKernelIdeal.nD Cert.AdamBiasKernelIdeal.τ Cert.AdamBiasKernelIdeal.sig) → Buf (Elt Ideal) ℓ) (g : Dev Cert.AdamBiasKernelIdeal.nD → PrngReg), Pre_AdamBiasKernelIdeal m →
    θ_run (Cert.AdamBiasKernelIdeal.defs (F := Ideal)) (onTc (τ := Cert.AdamBiasKernelIdeal.τ) (Cert.AdamBiasKernelIdeal.main (F := Ideal))) ⟨m, fun _ => 0, g⟩ (fun r => (∀ c : Dev Cert.AdamBiasKernelIdeal.nD,
      r.2.mem ((c.tc : Thread Cert.AdamBiasKernelIdeal.nD Cert.AdamBiasKernelIdeal.τ).loc Cert.AdamBiasKernelIdeal.main_arg0) = m ((c.tc : Thread Cert.AdamBiasKernelIdeal.nD Cert.AdamBiasKernelIdeal.τ).loc Cert.AdamBiasKernelIdeal.main_arg0)
      ∧ r.2.mem ((c.tc : Thread Cert.AdamBiasKernelIdeal.nD Cert.AdamBiasKernelIdeal.τ).loc Cert.AdamBiasKernelIdeal.main_arg1) = m ((c.tc : Thread Cert.AdamBiasKernelIdeal.nD Cert.AdamBiasKernelIdeal.τ).loc Cert.AdamBiasKernelIdeal.main_arg1)
      ∧ r.2.mem ((c.tc : Thread Cert.AdamBiasKernelIdeal.nD Cert.AdamBiasKernelIdeal.τ).loc Cert.AdamBiasKernelIdeal.main_arg2) = m ((c.tc : Thread Cert.AdamBiasKernelIdeal.nD Cert.AdamBiasKernelIdeal.τ).loc Cert.AdamBiasKernelIdeal.main_arg2)
      ∧ r.2.mem ((c.tc : Thread Cert.AdamBiasKernelIdeal.nD Cert.AdamBiasKernelIdeal.τ).loc Cert.AdamBiasKernelIdeal.main_arg3) = m ((c.tc : Thread Cert.AdamBiasKernelIdeal.nD Cert.AdamBiasKernelIdeal.τ).loc Cert.AdamBiasKernelIdeal.main_arg3))
      ∧ r.2.sem = fun _ => 0)

def quiescent_AdamBiasReferenceIdeal [hAdamBiasReferenceIdeal : Cert.AdamBiasReferenceIdeal.Facts] : Prop :=
  ∀ (m : (ℓ : Loc Cert.AdamBiasReferenceIdeal.nD Cert.AdamBiasReferenceIdeal.τ Cert.AdamBiasReferenceIdeal.sig) → Buf (Elt Ideal) ℓ) (g : Dev Cert.AdamBiasReferenceIdeal.nD → PrngReg), Pre_AdamBiasReferenceIdeal m →
    θ_run (Cert.AdamBiasReferenceIdeal.defs (F := Ideal)) (onTc (τ := Cert.AdamBiasReferenceIdeal.τ) (Cert.AdamBiasReferenceIdeal.main (F := Ideal))) ⟨m, fun _ => 0, g⟩ (fun r => (∀ c : Dev Cert.AdamBiasReferenceIdeal.nD,
      r.2.mem ((c.tc : Thread Cert.AdamBiasReferenceIdeal.nD Cert.AdamBiasReferenceIdeal.τ).loc Cert.AdamBiasReferenceIdeal.main_arg0) = m ((c.tc : Thread Cert.AdamBiasReferenceIdeal.nD Cert.AdamBiasReferenceIdeal.τ).loc Cert.AdamBiasReferenceIdeal.main_arg0)
      ∧ r.2.mem ((c.tc : Thread Cert.AdamBiasReferenceIdeal.nD Cert.AdamBiasReferenceIdeal.τ).loc Cert.AdamBiasReferenceIdeal.main_arg1) = m ((c.tc : Thread Cert.AdamBiasReferenceIdeal.nD Cert.AdamBiasReferenceIdeal.τ).loc Cert.AdamBiasReferenceIdeal.main_arg1)
      ∧ r.2.mem ((c.tc : Thread Cert.AdamBiasReferenceIdeal.nD Cert.AdamBiasReferenceIdeal.τ).loc Cert.AdamBiasReferenceIdeal.main_arg2) = m ((c.tc : Thread Cert.AdamBiasReferenceIdeal.nD Cert.AdamBiasReferenceIdeal.τ).loc Cert.AdamBiasReferenceIdeal.main_arg2)
      ∧ r.2.mem ((c.tc : Thread Cert.AdamBiasReferenceIdeal.nD Cert.AdamBiasReferenceIdeal.τ).loc Cert.AdamBiasReferenceIdeal.main_arg3) = m ((c.tc : Thread Cert.AdamBiasReferenceIdeal.nD Cert.AdamBiasReferenceIdeal.τ).loc Cert.AdamBiasReferenceIdeal.main_arg3))
      ∧ r.2.sem = fun _ => 0)

def quiescent_AdamFfnKernel [hAdamFfnKernel : Cert.AdamFfnKernel.Facts] : Prop :=
  ∀ (m : (ℓ : Loc Cert.AdamFfnKernel.nD Cert.AdamFfnKernel.τ Cert.AdamFfnKernel.sig) → Buf (Elt Bits) ℓ) (g : Dev Cert.AdamFfnKernel.nD → PrngReg), Pre_AdamFfnKernel m →
    θ_run (Cert.AdamFfnKernel.defs (F := Bits)) (onTc (τ := Cert.AdamFfnKernel.τ) (Cert.AdamFfnKernel.main (F := Bits))) ⟨m, fun _ => 0, g⟩ (fun r => (∀ c : Dev Cert.AdamFfnKernel.nD,
      r.2.mem ((c.tc : Thread Cert.AdamFfnKernel.nD Cert.AdamFfnKernel.τ).loc Cert.AdamFfnKernel.main_arg0) = m ((c.tc : Thread Cert.AdamFfnKernel.nD Cert.AdamFfnKernel.τ).loc Cert.AdamFfnKernel.main_arg0)
      ∧ r.2.mem ((c.tc : Thread Cert.AdamFfnKernel.nD Cert.AdamFfnKernel.τ).loc Cert.AdamFfnKernel.main_arg1) = m ((c.tc : Thread Cert.AdamFfnKernel.nD Cert.AdamFfnKernel.τ).loc Cert.AdamFfnKernel.main_arg1)
      ∧ r.2.mem ((c.tc : Thread Cert.AdamFfnKernel.nD Cert.AdamFfnKernel.τ).loc Cert.AdamFfnKernel.main_arg2) = m ((c.tc : Thread Cert.AdamFfnKernel.nD Cert.AdamFfnKernel.τ).loc Cert.AdamFfnKernel.main_arg2)
      ∧ r.2.mem ((c.tc : Thread Cert.AdamFfnKernel.nD Cert.AdamFfnKernel.τ).loc Cert.AdamFfnKernel.main_arg3) = m ((c.tc : Thread Cert.AdamFfnKernel.nD Cert.AdamFfnKernel.τ).loc Cert.AdamFfnKernel.main_arg3)
      ∧ r.2.mem ((c.tc : Thread Cert.AdamFfnKernel.nD Cert.AdamFfnKernel.τ).loc Cert.AdamFfnKernel.main_arg4) = m ((c.tc : Thread Cert.AdamFfnKernel.nD Cert.AdamFfnKernel.τ).loc Cert.AdamFfnKernel.main_arg4))
      ∧ r.2.sem = fun _ => 0)

def quiescent_AdamFfnKernelIdeal [hAdamFfnKernelIdeal : Cert.AdamFfnKernelIdeal.Facts] : Prop :=
  ∀ (m : (ℓ : Loc Cert.AdamFfnKernelIdeal.nD Cert.AdamFfnKernelIdeal.τ Cert.AdamFfnKernelIdeal.sig) → Buf (Elt Ideal) ℓ) (g : Dev Cert.AdamFfnKernelIdeal.nD → PrngReg), Pre_AdamFfnKernelIdeal m →
    θ_run (Cert.AdamFfnKernelIdeal.defs (F := Ideal)) (onTc (τ := Cert.AdamFfnKernelIdeal.τ) (Cert.AdamFfnKernelIdeal.main (F := Ideal))) ⟨m, fun _ => 0, g⟩ (fun r => (∀ c : Dev Cert.AdamFfnKernelIdeal.nD,
      r.2.mem ((c.tc : Thread Cert.AdamFfnKernelIdeal.nD Cert.AdamFfnKernelIdeal.τ).loc Cert.AdamFfnKernelIdeal.main_arg0) = m ((c.tc : Thread Cert.AdamFfnKernelIdeal.nD Cert.AdamFfnKernelIdeal.τ).loc Cert.AdamFfnKernelIdeal.main_arg0)
      ∧ r.2.mem ((c.tc : Thread Cert.AdamFfnKernelIdeal.nD Cert.AdamFfnKernelIdeal.τ).loc Cert.AdamFfnKernelIdeal.main_arg1) = m ((c.tc : Thread Cert.AdamFfnKernelIdeal.nD Cert.AdamFfnKernelIdeal.τ).loc Cert.AdamFfnKernelIdeal.main_arg1)
      ∧ r.2.mem ((c.tc : Thread Cert.AdamFfnKernelIdeal.nD Cert.AdamFfnKernelIdeal.τ).loc Cert.AdamFfnKernelIdeal.main_arg2) = m ((c.tc : Thread Cert.AdamFfnKernelIdeal.nD Cert.AdamFfnKernelIdeal.τ).loc Cert.AdamFfnKernelIdeal.main_arg2)
      ∧ r.2.mem ((c.tc : Thread Cert.AdamFfnKernelIdeal.nD Cert.AdamFfnKernelIdeal.τ).loc Cert.AdamFfnKernelIdeal.main_arg3) = m ((c.tc : Thread Cert.AdamFfnKernelIdeal.nD Cert.AdamFfnKernelIdeal.τ).loc Cert.AdamFfnKernelIdeal.main_arg3)
      ∧ r.2.mem ((c.tc : Thread Cert.AdamFfnKernelIdeal.nD Cert.AdamFfnKernelIdeal.τ).loc Cert.AdamFfnKernelIdeal.main_arg4) = m ((c.tc : Thread Cert.AdamFfnKernelIdeal.nD Cert.AdamFfnKernelIdeal.τ).loc Cert.AdamFfnKernelIdeal.main_arg4))
      ∧ r.2.sem = fun _ => 0)

def quiescent_AdamFfnReferenceIdeal [hAdamFfnReferenceIdeal : Cert.AdamFfnReferenceIdeal.Facts] : Prop :=
  ∀ (m : (ℓ : Loc Cert.AdamFfnReferenceIdeal.nD Cert.AdamFfnReferenceIdeal.τ Cert.AdamFfnReferenceIdeal.sig) → Buf (Elt Ideal) ℓ) (g : Dev Cert.AdamFfnReferenceIdeal.nD → PrngReg), Pre_AdamFfnReferenceIdeal m →
    θ_run (Cert.AdamFfnReferenceIdeal.defs (F := Ideal)) (onTc (τ := Cert.AdamFfnReferenceIdeal.τ) (Cert.AdamFfnReferenceIdeal.main (F := Ideal))) ⟨m, fun _ => 0, g⟩ (fun r => (∀ c : Dev Cert.AdamFfnReferenceIdeal.nD,
      r.2.mem ((c.tc : Thread Cert.AdamFfnReferenceIdeal.nD Cert.AdamFfnReferenceIdeal.τ).loc Cert.AdamFfnReferenceIdeal.main_arg0) = m ((c.tc : Thread Cert.AdamFfnReferenceIdeal.nD Cert.AdamFfnReferenceIdeal.τ).loc Cert.AdamFfnReferenceIdeal.main_arg0)
      ∧ r.2.mem ((c.tc : Thread Cert.AdamFfnReferenceIdeal.nD Cert.AdamFfnReferenceIdeal.τ).loc Cert.AdamFfnReferenceIdeal.main_arg1) = m ((c.tc : Thread Cert.AdamFfnReferenceIdeal.nD Cert.AdamFfnReferenceIdeal.τ).loc Cert.AdamFfnReferenceIdeal.main_arg1)
      ∧ r.2.mem ((c.tc : Thread Cert.AdamFfnReferenceIdeal.nD Cert.AdamFfnReferenceIdeal.τ).loc Cert.AdamFfnReferenceIdeal.main_arg2) = m ((c.tc : Thread Cert.AdamFfnReferenceIdeal.nD Cert.AdamFfnReferenceIdeal.τ).loc Cert.AdamFfnReferenceIdeal.main_arg2)
      ∧ r.2.mem ((c.tc : Thread Cert.AdamFfnReferenceIdeal.nD Cert.AdamFfnReferenceIdeal.τ).loc Cert.AdamFfnReferenceIdeal.main_arg3) = m ((c.tc : Thread Cert.AdamFfnReferenceIdeal.nD Cert.AdamFfnReferenceIdeal.τ).loc Cert.AdamFfnReferenceIdeal.main_arg3)
      ∧ r.2.mem ((c.tc : Thread Cert.AdamFfnReferenceIdeal.nD Cert.AdamFfnReferenceIdeal.τ).loc Cert.AdamFfnReferenceIdeal.main_arg4) = m ((c.tc : Thread Cert.AdamFfnReferenceIdeal.nD Cert.AdamFfnReferenceIdeal.τ).loc Cert.AdamFfnReferenceIdeal.main_arg4))
      ∧ r.2.sem = fun _ => 0)

def quiescent_AdamWinKernel [hAdamWinKernel : Cert.AdamWinKernel.Facts] : Prop :=
  ∀ (m : (ℓ : Loc Cert.AdamWinKernel.nD Cert.AdamWinKernel.τ Cert.AdamWinKernel.sig) → Buf (Elt Bits) ℓ) (g : Dev Cert.AdamWinKernel.nD → PrngReg), Pre_AdamWinKernel m →
    θ_run (Cert.AdamWinKernel.defs (F := Bits)) (onTc (τ := Cert.AdamWinKernel.τ) (Cert.AdamWinKernel.main (F := Bits))) ⟨m, fun _ => 0, g⟩ (fun r => (∀ c : Dev Cert.AdamWinKernel.nD,
      r.2.mem ((c.tc : Thread Cert.AdamWinKernel.nD Cert.AdamWinKernel.τ).loc Cert.AdamWinKernel.main_arg0) = m ((c.tc : Thread Cert.AdamWinKernel.nD Cert.AdamWinKernel.τ).loc Cert.AdamWinKernel.main_arg0)
      ∧ r.2.mem ((c.tc : Thread Cert.AdamWinKernel.nD Cert.AdamWinKernel.τ).loc Cert.AdamWinKernel.main_arg1) = m ((c.tc : Thread Cert.AdamWinKernel.nD Cert.AdamWinKernel.τ).loc Cert.AdamWinKernel.main_arg1)
      ∧ r.2.mem ((c.tc : Thread Cert.AdamWinKernel.nD Cert.AdamWinKernel.τ).loc Cert.AdamWinKernel.main_arg2) = m ((c.tc : Thread Cert.AdamWinKernel.nD Cert.AdamWinKernel.τ).loc Cert.AdamWinKernel.main_arg2)
      ∧ r.2.mem ((c.tc : Thread Cert.AdamWinKernel.nD Cert.AdamWinKernel.τ).loc Cert.AdamWinKernel.main_arg3) = m ((c.tc : Thread Cert.AdamWinKernel.nD Cert.AdamWinKernel.τ).loc Cert.AdamWinKernel.main_arg3)
      ∧ r.2.mem ((c.tc : Thread Cert.AdamWinKernel.nD Cert.AdamWinKernel.τ).loc Cert.AdamWinKernel.main_arg4) = m ((c.tc : Thread Cert.AdamWinKernel.nD Cert.AdamWinKernel.τ).loc Cert.AdamWinKernel.main_arg4))
      ∧ r.2.sem = fun _ => 0)

def quiescent_AdamWinKernelIdeal [hAdamWinKernelIdeal : Cert.AdamWinKernelIdeal.Facts] : Prop :=
  ∀ (m : (ℓ : Loc Cert.AdamWinKernelIdeal.nD Cert.AdamWinKernelIdeal.τ Cert.AdamWinKernelIdeal.sig) → Buf (Elt Ideal) ℓ) (g : Dev Cert.AdamWinKernelIdeal.nD → PrngReg), Pre_AdamWinKernelIdeal m →
    θ_run (Cert.AdamWinKernelIdeal.defs (F := Ideal)) (onTc (τ := Cert.AdamWinKernelIdeal.τ) (Cert.AdamWinKernelIdeal.main (F := Ideal))) ⟨m, fun _ => 0, g⟩ (fun r => (∀ c : Dev Cert.AdamWinKernelIdeal.nD,
      r.2.mem ((c.tc : Thread Cert.AdamWinKernelIdeal.nD Cert.AdamWinKernelIdeal.τ).loc Cert.AdamWinKernelIdeal.main_arg0) = m ((c.tc : Thread Cert.AdamWinKernelIdeal.nD Cert.AdamWinKernelIdeal.τ).loc Cert.AdamWinKernelIdeal.main_arg0)
      ∧ r.2.mem ((c.tc : Thread Cert.AdamWinKernelIdeal.nD Cert.AdamWinKernelIdeal.τ).loc Cert.AdamWinKernelIdeal.main_arg1) = m ((c.tc : Thread Cert.AdamWinKernelIdeal.nD Cert.AdamWinKernelIdeal.τ).loc Cert.AdamWinKernelIdeal.main_arg1)
      ∧ r.2.mem ((c.tc : Thread Cert.AdamWinKernelIdeal.nD Cert.AdamWinKernelIdeal.τ).loc Cert.AdamWinKernelIdeal.main_arg2) = m ((c.tc : Thread Cert.AdamWinKernelIdeal.nD Cert.AdamWinKernelIdeal.τ).loc Cert.AdamWinKernelIdeal.main_arg2)
      ∧ r.2.mem ((c.tc : Thread Cert.AdamWinKernelIdeal.nD Cert.AdamWinKernelIdeal.τ).loc Cert.AdamWinKernelIdeal.main_arg3) = m ((c.tc : Thread Cert.AdamWinKernelIdeal.nD Cert.AdamWinKernelIdeal.τ).loc Cert.AdamWinKernelIdeal.main_arg3)
      ∧ r.2.mem ((c.tc : Thread Cert.AdamWinKernelIdeal.nD Cert.AdamWinKernelIdeal.τ).loc Cert.AdamWinKernelIdeal.main_arg4) = m ((c.tc : Thread Cert.AdamWinKernelIdeal.nD Cert.AdamWinKernelIdeal.τ).loc Cert.AdamWinKernelIdeal.main_arg4))
      ∧ r.2.sem = fun _ => 0)

def quiescent_AdamWinReferenceIdeal [hAdamWinReferenceIdeal : Cert.AdamWinReferenceIdeal.Facts] : Prop :=
  ∀ (m : (ℓ : Loc Cert.AdamWinReferenceIdeal.nD Cert.AdamWinReferenceIdeal.τ Cert.AdamWinReferenceIdeal.sig) → Buf (Elt Ideal) ℓ) (g : Dev Cert.AdamWinReferenceIdeal.nD → PrngReg), Pre_AdamWinReferenceIdeal m →
    θ_run (Cert.AdamWinReferenceIdeal.defs (F := Ideal)) (onTc (τ := Cert.AdamWinReferenceIdeal.τ) (Cert.AdamWinReferenceIdeal.main (F := Ideal))) ⟨m, fun _ => 0, g⟩ (fun r => (∀ c : Dev Cert.AdamWinReferenceIdeal.nD,
      r.2.mem ((c.tc : Thread Cert.AdamWinReferenceIdeal.nD Cert.AdamWinReferenceIdeal.τ).loc Cert.AdamWinReferenceIdeal.main_arg0) = m ((c.tc : Thread Cert.AdamWinReferenceIdeal.nD Cert.AdamWinReferenceIdeal.τ).loc Cert.AdamWinReferenceIdeal.main_arg0)
      ∧ r.2.mem ((c.tc : Thread Cert.AdamWinReferenceIdeal.nD Cert.AdamWinReferenceIdeal.τ).loc Cert.AdamWinReferenceIdeal.main_arg1) = m ((c.tc : Thread Cert.AdamWinReferenceIdeal.nD Cert.AdamWinReferenceIdeal.τ).loc Cert.AdamWinReferenceIdeal.main_arg1)
      ∧ r.2.mem ((c.tc : Thread Cert.AdamWinReferenceIdeal.nD Cert.AdamWinReferenceIdeal.τ).loc Cert.AdamWinReferenceIdeal.main_arg2) = m ((c.tc : Thread Cert.AdamWinReferenceIdeal.nD Cert.AdamWinReferenceIdeal.τ).loc Cert.AdamWinReferenceIdeal.main_arg2)
      ∧ r.2.mem ((c.tc : Thread Cert.AdamWinReferenceIdeal.nD Cert.AdamWinReferenceIdeal.τ).loc Cert.AdamWinReferenceIdeal.main_arg3) = m ((c.tc : Thread Cert.AdamWinReferenceIdeal.nD Cert.AdamWinReferenceIdeal.τ).loc Cert.AdamWinReferenceIdeal.main_arg3)
      ∧ r.2.mem ((c.tc : Thread Cert.AdamWinReferenceIdeal.nD Cert.AdamWinReferenceIdeal.τ).loc Cert.AdamWinReferenceIdeal.main_arg4) = m ((c.tc : Thread Cert.AdamWinReferenceIdeal.nD Cert.AdamWinReferenceIdeal.τ).loc Cert.AdamWinReferenceIdeal.main_arg4))
      ∧ r.2.sem = fun _ => 0)

def quiescent_AdamCoutKernel [hAdamCoutKernel : Cert.AdamCoutKernel.Facts] : Prop :=
  ∀ (m : (ℓ : Loc Cert.AdamCoutKernel.nD Cert.AdamCoutKernel.τ Cert.AdamCoutKernel.sig) → Buf (Elt Bits) ℓ) (g : Dev Cert.AdamCoutKernel.nD → PrngReg), Pre_AdamCoutKernel m →
    θ_run (Cert.AdamCoutKernel.defs (F := Bits)) (onTc (τ := Cert.AdamCoutKernel.τ) (Cert.AdamCoutKernel.main (F := Bits))) ⟨m, fun _ => 0, g⟩ (fun r => (∀ c : Dev Cert.AdamCoutKernel.nD,
      r.2.mem ((c.tc : Thread Cert.AdamCoutKernel.nD Cert.AdamCoutKernel.τ).loc Cert.AdamCoutKernel.main_arg0) = m ((c.tc : Thread Cert.AdamCoutKernel.nD Cert.AdamCoutKernel.τ).loc Cert.AdamCoutKernel.main_arg0)
      ∧ r.2.mem ((c.tc : Thread Cert.AdamCoutKernel.nD Cert.AdamCoutKernel.τ).loc Cert.AdamCoutKernel.main_arg1) = m ((c.tc : Thread Cert.AdamCoutKernel.nD Cert.AdamCoutKernel.τ).loc Cert.AdamCoutKernel.main_arg1)
      ∧ r.2.mem ((c.tc : Thread Cert.AdamCoutKernel.nD Cert.AdamCoutKernel.τ).loc Cert.AdamCoutKernel.main_arg2) = m ((c.tc : Thread Cert.AdamCoutKernel.nD Cert.AdamCoutKernel.τ).loc Cert.AdamCoutKernel.main_arg2)
      ∧ r.2.mem ((c.tc : Thread Cert.AdamCoutKernel.nD Cert.AdamCoutKernel.τ).loc Cert.AdamCoutKernel.main_arg3) = m ((c.tc : Thread Cert.AdamCoutKernel.nD Cert.AdamCoutKernel.τ).loc Cert.AdamCoutKernel.main_arg3)
      ∧ r.2.mem ((c.tc : Thread Cert.AdamCoutKernel.nD Cert.AdamCoutKernel.τ).loc Cert.AdamCoutKernel.main_arg4) = m ((c.tc : Thread Cert.AdamCoutKernel.nD Cert.AdamCoutKernel.τ).loc Cert.AdamCoutKernel.main_arg4))
      ∧ r.2.sem = fun _ => 0)

def quiescent_AdamCoutKernelIdeal [hAdamCoutKernelIdeal : Cert.AdamCoutKernelIdeal.Facts] : Prop :=
  ∀ (m : (ℓ : Loc Cert.AdamCoutKernelIdeal.nD Cert.AdamCoutKernelIdeal.τ Cert.AdamCoutKernelIdeal.sig) → Buf (Elt Ideal) ℓ) (g : Dev Cert.AdamCoutKernelIdeal.nD → PrngReg), Pre_AdamCoutKernelIdeal m →
    θ_run (Cert.AdamCoutKernelIdeal.defs (F := Ideal)) (onTc (τ := Cert.AdamCoutKernelIdeal.τ) (Cert.AdamCoutKernelIdeal.main (F := Ideal))) ⟨m, fun _ => 0, g⟩ (fun r => (∀ c : Dev Cert.AdamCoutKernelIdeal.nD,
      r.2.mem ((c.tc : Thread Cert.AdamCoutKernelIdeal.nD Cert.AdamCoutKernelIdeal.τ).loc Cert.AdamCoutKernelIdeal.main_arg0) = m ((c.tc : Thread Cert.AdamCoutKernelIdeal.nD Cert.AdamCoutKernelIdeal.τ).loc Cert.AdamCoutKernelIdeal.main_arg0)
      ∧ r.2.mem ((c.tc : Thread Cert.AdamCoutKernelIdeal.nD Cert.AdamCoutKernelIdeal.τ).loc Cert.AdamCoutKernelIdeal.main_arg1) = m ((c.tc : Thread Cert.AdamCoutKernelIdeal.nD Cert.AdamCoutKernelIdeal.τ).loc Cert.AdamCoutKernelIdeal.main_arg1)
      ∧ r.2.mem ((c.tc : Thread Cert.AdamCoutKernelIdeal.nD Cert.AdamCoutKernelIdeal.τ).loc Cert.AdamCoutKernelIdeal.main_arg2) = m ((c.tc : Thread Cert.AdamCoutKernelIdeal.nD Cert.AdamCoutKernelIdeal.τ).loc Cert.AdamCoutKernelIdeal.main_arg2)
      ∧ r.2.mem ((c.tc : Thread Cert.AdamCoutKernelIdeal.nD Cert.AdamCoutKernelIdeal.τ).loc Cert.AdamCoutKernelIdeal.main_arg3) = m ((c.tc : Thread Cert.AdamCoutKernelIdeal.nD Cert.AdamCoutKernelIdeal.τ).loc Cert.AdamCoutKernelIdeal.main_arg3)
      ∧ r.2.mem ((c.tc : Thread Cert.AdamCoutKernelIdeal.nD Cert.AdamCoutKernelIdeal.τ).loc Cert.AdamCoutKernelIdeal.main_arg4) = m ((c.tc : Thread Cert.AdamCoutKernelIdeal.nD Cert.AdamCoutKernelIdeal.τ).loc Cert.AdamCoutKernelIdeal.main_arg4))
      ∧ r.2.sem = fun _ => 0)

def quiescent_AdamCoutReferenceIdeal [hAdamCoutReferenceIdeal : Cert.AdamCoutReferenceIdeal.Facts] : Prop :=
  ∀ (m : (ℓ : Loc Cert.AdamCoutReferenceIdeal.nD Cert.AdamCoutReferenceIdeal.τ Cert.AdamCoutReferenceIdeal.sig) → Buf (Elt Ideal) ℓ) (g : Dev Cert.AdamCoutReferenceIdeal.nD → PrngReg), Pre_AdamCoutReferenceIdeal m →
    θ_run (Cert.AdamCoutReferenceIdeal.defs (F := Ideal)) (onTc (τ := Cert.AdamCoutReferenceIdeal.τ) (Cert.AdamCoutReferenceIdeal.main (F := Ideal))) ⟨m, fun _ => 0, g⟩ (fun r => (∀ c : Dev Cert.AdamCoutReferenceIdeal.nD,
      r.2.mem ((c.tc : Thread Cert.AdamCoutReferenceIdeal.nD Cert.AdamCoutReferenceIdeal.τ).loc Cert.AdamCoutReferenceIdeal.main_arg0) = m ((c.tc : Thread Cert.AdamCoutReferenceIdeal.nD Cert.AdamCoutReferenceIdeal.τ).loc Cert.AdamCoutReferenceIdeal.main_arg0)
      ∧ r.2.mem ((c.tc : Thread Cert.AdamCoutReferenceIdeal.nD Cert.AdamCoutReferenceIdeal.τ).loc Cert.AdamCoutReferenceIdeal.main_arg1) = m ((c.tc : Thread Cert.AdamCoutReferenceIdeal.nD Cert.AdamCoutReferenceIdeal.τ).loc Cert.AdamCoutReferenceIdeal.main_arg1)
      ∧ r.2.mem ((c.tc : Thread Cert.AdamCoutReferenceIdeal.nD Cert.AdamCoutReferenceIdeal.τ).loc Cert.AdamCoutReferenceIdeal.main_arg2) = m ((c.tc : Thread Cert.AdamCoutReferenceIdeal.nD Cert.AdamCoutReferenceIdeal.τ).loc Cert.AdamCoutReferenceIdeal.main_arg2)
      ∧ r.2.mem ((c.tc : Thread Cert.AdamCoutReferenceIdeal.nD Cert.AdamCoutReferenceIdeal.τ).loc Cert.AdamCoutReferenceIdeal.main_arg3) = m ((c.tc : Thread Cert.AdamCoutReferenceIdeal.nD Cert.AdamCoutReferenceIdeal.τ).loc Cert.AdamCoutReferenceIdeal.main_arg3)
      ∧ r.2.mem ((c.tc : Thread Cert.AdamCoutReferenceIdeal.nD Cert.AdamCoutReferenceIdeal.τ).loc Cert.AdamCoutReferenceIdeal.main_arg4) = m ((c.tc : Thread Cert.AdamCoutReferenceIdeal.nD Cert.AdamCoutReferenceIdeal.τ).loc Cert.AdamCoutReferenceIdeal.main_arg4))
      ∧ r.2.sem = fun _ => 0)

def quiescent_AdamUqKernel [hAdamUqKernel : Cert.AdamUqKernel.Facts] : Prop :=
  ∀ (m : (ℓ : Loc Cert.AdamUqKernel.nD Cert.AdamUqKernel.τ Cert.AdamUqKernel.sig) → Buf (Elt Bits) ℓ) (g : Dev Cert.AdamUqKernel.nD → PrngReg), Pre_AdamUqKernel m →
    θ_run (Cert.AdamUqKernel.defs (F := Bits)) (onTc (τ := Cert.AdamUqKernel.τ) (Cert.AdamUqKernel.main (F := Bits))) ⟨m, fun _ => 0, g⟩ (fun r => (∀ c : Dev Cert.AdamUqKernel.nD,
      r.2.mem ((c.tc : Thread Cert.AdamUqKernel.nD Cert.AdamUqKernel.τ).loc Cert.AdamUqKernel.main_arg0) = m ((c.tc : Thread Cert.AdamUqKernel.nD Cert.AdamUqKernel.τ).loc Cert.AdamUqKernel.main_arg0)
      ∧ r.2.mem ((c.tc : Thread Cert.AdamUqKernel.nD Cert.AdamUqKernel.τ).loc Cert.AdamUqKernel.main_arg1) = m ((c.tc : Thread Cert.AdamUqKernel.nD Cert.AdamUqKernel.τ).loc Cert.AdamUqKernel.main_arg1)
      ∧ r.2.mem ((c.tc : Thread Cert.AdamUqKernel.nD Cert.AdamUqKernel.τ).loc Cert.AdamUqKernel.main_arg2) = m ((c.tc : Thread Cert.AdamUqKernel.nD Cert.AdamUqKernel.τ).loc Cert.AdamUqKernel.main_arg2)
      ∧ r.2.mem ((c.tc : Thread Cert.AdamUqKernel.nD Cert.AdamUqKernel.τ).loc Cert.AdamUqKernel.main_arg3) = m ((c.tc : Thread Cert.AdamUqKernel.nD Cert.AdamUqKernel.τ).loc Cert.AdamUqKernel.main_arg3)
      ∧ r.2.mem ((c.tc : Thread Cert.AdamUqKernel.nD Cert.AdamUqKernel.τ).loc Cert.AdamUqKernel.main_arg4) = m ((c.tc : Thread Cert.AdamUqKernel.nD Cert.AdamUqKernel.τ).loc Cert.AdamUqKernel.main_arg4))
      ∧ r.2.sem = fun _ => 0)

def quiescent_AdamUqKernelIdeal [hAdamUqKernelIdeal : Cert.AdamUqKernelIdeal.Facts] : Prop :=
  ∀ (m : (ℓ : Loc Cert.AdamUqKernelIdeal.nD Cert.AdamUqKernelIdeal.τ Cert.AdamUqKernelIdeal.sig) → Buf (Elt Ideal) ℓ) (g : Dev Cert.AdamUqKernelIdeal.nD → PrngReg), Pre_AdamUqKernelIdeal m →
    θ_run (Cert.AdamUqKernelIdeal.defs (F := Ideal)) (onTc (τ := Cert.AdamUqKernelIdeal.τ) (Cert.AdamUqKernelIdeal.main (F := Ideal))) ⟨m, fun _ => 0, g⟩ (fun r => (∀ c : Dev Cert.AdamUqKernelIdeal.nD,
      r.2.mem ((c.tc : Thread Cert.AdamUqKernelIdeal.nD Cert.AdamUqKernelIdeal.τ).loc Cert.AdamUqKernelIdeal.main_arg0) = m ((c.tc : Thread Cert.AdamUqKernelIdeal.nD Cert.AdamUqKernelIdeal.τ).loc Cert.AdamUqKernelIdeal.main_arg0)
      ∧ r.2.mem ((c.tc : Thread Cert.AdamUqKernelIdeal.nD Cert.AdamUqKernelIdeal.τ).loc Cert.AdamUqKernelIdeal.main_arg1) = m ((c.tc : Thread Cert.AdamUqKernelIdeal.nD Cert.AdamUqKernelIdeal.τ).loc Cert.AdamUqKernelIdeal.main_arg1)
      ∧ r.2.mem ((c.tc : Thread Cert.AdamUqKernelIdeal.nD Cert.AdamUqKernelIdeal.τ).loc Cert.AdamUqKernelIdeal.main_arg2) = m ((c.tc : Thread Cert.AdamUqKernelIdeal.nD Cert.AdamUqKernelIdeal.τ).loc Cert.AdamUqKernelIdeal.main_arg2)
      ∧ r.2.mem ((c.tc : Thread Cert.AdamUqKernelIdeal.nD Cert.AdamUqKernelIdeal.τ).loc Cert.AdamUqKernelIdeal.main_arg3) = m ((c.tc : Thread Cert.AdamUqKernelIdeal.nD Cert.AdamUqKernelIdeal.τ).loc Cert.AdamUqKernelIdeal.main_arg3)
      ∧ r.2.mem ((c.tc : Thread Cert.AdamUqKernelIdeal.nD Cert.AdamUqKernelIdeal.τ).loc Cert.AdamUqKernelIdeal.main_arg4) = m ((c.tc : Thread Cert.AdamUqKernelIdeal.nD Cert.AdamUqKernelIdeal.τ).loc Cert.AdamUqKernelIdeal.main_arg4))
      ∧ r.2.sem = fun _ => 0)

def quiescent_AdamUqReferenceIdeal [hAdamUqReferenceIdeal : Cert.AdamUqReferenceIdeal.Facts] : Prop :=
  ∀ (m : (ℓ : Loc Cert.AdamUqReferenceIdeal.nD Cert.AdamUqReferenceIdeal.τ Cert.AdamUqReferenceIdeal.sig) → Buf (Elt Ideal) ℓ) (g : Dev Cert.AdamUqReferenceIdeal.nD → PrngReg), Pre_AdamUqReferenceIdeal m →
    θ_run (Cert.AdamUqReferenceIdeal.defs (F := Ideal)) (onTc (τ := Cert.AdamUqReferenceIdeal.τ) (Cert.AdamUqReferenceIdeal.main (F := Ideal))) ⟨m, fun _ => 0, g⟩ (fun r => (∀ c : Dev Cert.AdamUqReferenceIdeal.nD,
      r.2.mem ((c.tc : Thread Cert.AdamUqReferenceIdeal.nD Cert.AdamUqReferenceIdeal.τ).loc Cert.AdamUqReferenceIdeal.main_arg0) = m ((c.tc : Thread Cert.AdamUqReferenceIdeal.nD Cert.AdamUqReferenceIdeal.τ).loc Cert.AdamUqReferenceIdeal.main_arg0)
      ∧ r.2.mem ((c.tc : Thread Cert.AdamUqReferenceIdeal.nD Cert.AdamUqReferenceIdeal.τ).loc Cert.AdamUqReferenceIdeal.main_arg1) = m ((c.tc : Thread Cert.AdamUqReferenceIdeal.nD Cert.AdamUqReferenceIdeal.τ).loc Cert.AdamUqReferenceIdeal.main_arg1)
      ∧ r.2.mem ((c.tc : Thread Cert.AdamUqReferenceIdeal.nD Cert.AdamUqReferenceIdeal.τ).loc Cert.AdamUqReferenceIdeal.main_arg2) = m ((c.tc : Thread Cert.AdamUqReferenceIdeal.nD Cert.AdamUqReferenceIdeal.τ).loc Cert.AdamUqReferenceIdeal.main_arg2)
      ∧ r.2.mem ((c.tc : Thread Cert.AdamUqReferenceIdeal.nD Cert.AdamUqReferenceIdeal.τ).loc Cert.AdamUqReferenceIdeal.main_arg3) = m ((c.tc : Thread Cert.AdamUqReferenceIdeal.nD Cert.AdamUqReferenceIdeal.τ).loc Cert.AdamUqReferenceIdeal.main_arg3)
      ∧ r.2.mem ((c.tc : Thread Cert.AdamUqReferenceIdeal.nD Cert.AdamUqReferenceIdeal.τ).loc Cert.AdamUqReferenceIdeal.main_arg4) = m ((c.tc : Thread Cert.AdamUqReferenceIdeal.nD Cert.AdamUqReferenceIdeal.τ).loc Cert.AdamUqReferenceIdeal.main_arg4))
      ∧ r.2.sem = fun _ => 0)

def quiescent_AdamUkvKernel [hAdamUkvKernel : Cert.AdamUkvKernel.Facts] : Prop :=
  ∀ (m : (ℓ : Loc Cert.AdamUkvKernel.nD Cert.AdamUkvKernel.τ Cert.AdamUkvKernel.sig) → Buf (Elt Bits) ℓ) (g : Dev Cert.AdamUkvKernel.nD → PrngReg), Pre_AdamUkvKernel m →
    θ_run (Cert.AdamUkvKernel.defs (F := Bits)) (onTc (τ := Cert.AdamUkvKernel.τ) (Cert.AdamUkvKernel.main (F := Bits))) ⟨m, fun _ => 0, g⟩ (fun r => (∀ c : Dev Cert.AdamUkvKernel.nD,
      r.2.mem ((c.tc : Thread Cert.AdamUkvKernel.nD Cert.AdamUkvKernel.τ).loc Cert.AdamUkvKernel.main_arg0) = m ((c.tc : Thread Cert.AdamUkvKernel.nD Cert.AdamUkvKernel.τ).loc Cert.AdamUkvKernel.main_arg0)
      ∧ r.2.mem ((c.tc : Thread Cert.AdamUkvKernel.nD Cert.AdamUkvKernel.τ).loc Cert.AdamUkvKernel.main_arg1) = m ((c.tc : Thread Cert.AdamUkvKernel.nD Cert.AdamUkvKernel.τ).loc Cert.AdamUkvKernel.main_arg1)
      ∧ r.2.mem ((c.tc : Thread Cert.AdamUkvKernel.nD Cert.AdamUkvKernel.τ).loc Cert.AdamUkvKernel.main_arg2) = m ((c.tc : Thread Cert.AdamUkvKernel.nD Cert.AdamUkvKernel.τ).loc Cert.AdamUkvKernel.main_arg2)
      ∧ r.2.mem ((c.tc : Thread Cert.AdamUkvKernel.nD Cert.AdamUkvKernel.τ).loc Cert.AdamUkvKernel.main_arg3) = m ((c.tc : Thread Cert.AdamUkvKernel.nD Cert.AdamUkvKernel.τ).loc Cert.AdamUkvKernel.main_arg3)
      ∧ r.2.mem ((c.tc : Thread Cert.AdamUkvKernel.nD Cert.AdamUkvKernel.τ).loc Cert.AdamUkvKernel.main_arg4) = m ((c.tc : Thread Cert.AdamUkvKernel.nD Cert.AdamUkvKernel.τ).loc Cert.AdamUkvKernel.main_arg4))
      ∧ r.2.sem = fun _ => 0)

def quiescent_AdamUkvKernelIdeal [hAdamUkvKernelIdeal : Cert.AdamUkvKernelIdeal.Facts] : Prop :=
  ∀ (m : (ℓ : Loc Cert.AdamUkvKernelIdeal.nD Cert.AdamUkvKernelIdeal.τ Cert.AdamUkvKernelIdeal.sig) → Buf (Elt Ideal) ℓ) (g : Dev Cert.AdamUkvKernelIdeal.nD → PrngReg), Pre_AdamUkvKernelIdeal m →
    θ_run (Cert.AdamUkvKernelIdeal.defs (F := Ideal)) (onTc (τ := Cert.AdamUkvKernelIdeal.τ) (Cert.AdamUkvKernelIdeal.main (F := Ideal))) ⟨m, fun _ => 0, g⟩ (fun r => (∀ c : Dev Cert.AdamUkvKernelIdeal.nD,
      r.2.mem ((c.tc : Thread Cert.AdamUkvKernelIdeal.nD Cert.AdamUkvKernelIdeal.τ).loc Cert.AdamUkvKernelIdeal.main_arg0) = m ((c.tc : Thread Cert.AdamUkvKernelIdeal.nD Cert.AdamUkvKernelIdeal.τ).loc Cert.AdamUkvKernelIdeal.main_arg0)
      ∧ r.2.mem ((c.tc : Thread Cert.AdamUkvKernelIdeal.nD Cert.AdamUkvKernelIdeal.τ).loc Cert.AdamUkvKernelIdeal.main_arg1) = m ((c.tc : Thread Cert.AdamUkvKernelIdeal.nD Cert.AdamUkvKernelIdeal.τ).loc Cert.AdamUkvKernelIdeal.main_arg1)
      ∧ r.2.mem ((c.tc : Thread Cert.AdamUkvKernelIdeal.nD Cert.AdamUkvKernelIdeal.τ).loc Cert.AdamUkvKernelIdeal.main_arg2) = m ((c.tc : Thread Cert.AdamUkvKernelIdeal.nD Cert.AdamUkvKernelIdeal.τ).loc Cert.AdamUkvKernelIdeal.main_arg2)
      ∧ r.2.mem ((c.tc : Thread Cert.AdamUkvKernelIdeal.nD Cert.AdamUkvKernelIdeal.τ).loc Cert.AdamUkvKernelIdeal.main_arg3) = m ((c.tc : Thread Cert.AdamUkvKernelIdeal.nD Cert.AdamUkvKernelIdeal.τ).loc Cert.AdamUkvKernelIdeal.main_arg3)
      ∧ r.2.mem ((c.tc : Thread Cert.AdamUkvKernelIdeal.nD Cert.AdamUkvKernelIdeal.τ).loc Cert.AdamUkvKernelIdeal.main_arg4) = m ((c.tc : Thread Cert.AdamUkvKernelIdeal.nD Cert.AdamUkvKernelIdeal.τ).loc Cert.AdamUkvKernelIdeal.main_arg4))
      ∧ r.2.sem = fun _ => 0)

def quiescent_AdamUkvReferenceIdeal [hAdamUkvReferenceIdeal : Cert.AdamUkvReferenceIdeal.Facts] : Prop :=
  ∀ (m : (ℓ : Loc Cert.AdamUkvReferenceIdeal.nD Cert.AdamUkvReferenceIdeal.τ Cert.AdamUkvReferenceIdeal.sig) → Buf (Elt Ideal) ℓ) (g : Dev Cert.AdamUkvReferenceIdeal.nD → PrngReg), Pre_AdamUkvReferenceIdeal m →
    θ_run (Cert.AdamUkvReferenceIdeal.defs (F := Ideal)) (onTc (τ := Cert.AdamUkvReferenceIdeal.τ) (Cert.AdamUkvReferenceIdeal.main (F := Ideal))) ⟨m, fun _ => 0, g⟩ (fun r => (∀ c : Dev Cert.AdamUkvReferenceIdeal.nD,
      r.2.mem ((c.tc : Thread Cert.AdamUkvReferenceIdeal.nD Cert.AdamUkvReferenceIdeal.τ).loc Cert.AdamUkvReferenceIdeal.main_arg0) = m ((c.tc : Thread Cert.AdamUkvReferenceIdeal.nD Cert.AdamUkvReferenceIdeal.τ).loc Cert.AdamUkvReferenceIdeal.main_arg0)
      ∧ r.2.mem ((c.tc : Thread Cert.AdamUkvReferenceIdeal.nD Cert.AdamUkvReferenceIdeal.τ).loc Cert.AdamUkvReferenceIdeal.main_arg1) = m ((c.tc : Thread Cert.AdamUkvReferenceIdeal.nD Cert.AdamUkvReferenceIdeal.τ).loc Cert.AdamUkvReferenceIdeal.main_arg1)
      ∧ r.2.mem ((c.tc : Thread Cert.AdamUkvReferenceIdeal.nD Cert.AdamUkvReferenceIdeal.τ).loc Cert.AdamUkvReferenceIdeal.main_arg2) = m ((c.tc : Thread Cert.AdamUkvReferenceIdeal.nD Cert.AdamUkvReferenceIdeal.τ).loc Cert.AdamUkvReferenceIdeal.main_arg2)
      ∧ r.2.mem ((c.tc : Thread Cert.AdamUkvReferenceIdeal.nD Cert.AdamUkvReferenceIdeal.τ).loc Cert.AdamUkvReferenceIdeal.main_arg3) = m ((c.tc : Thread Cert.AdamUkvReferenceIdeal.nD Cert.AdamUkvReferenceIdeal.τ).loc Cert.AdamUkvReferenceIdeal.main_arg3)
      ∧ r.2.mem ((c.tc : Thread Cert.AdamUkvReferenceIdeal.nD Cert.AdamUkvReferenceIdeal.τ).loc Cert.AdamUkvReferenceIdeal.main_arg4) = m ((c.tc : Thread Cert.AdamUkvReferenceIdeal.nD Cert.AdamUkvReferenceIdeal.τ).loc Cert.AdamUkvReferenceIdeal.main_arg4))
      ∧ r.2.sem = fun _ => 0)

def quiescent_AdamWoutKernel [hAdamWoutKernel : Cert.AdamWoutKernel.Facts] : Prop :=
  ∀ (m : (ℓ : Loc Cert.AdamWoutKernel.nD Cert.AdamWoutKernel.τ Cert.AdamWoutKernel.sig) → Buf (Elt Bits) ℓ) (g : Dev Cert.AdamWoutKernel.nD → PrngReg), Pre_AdamWoutKernel m →
    θ_run (Cert.AdamWoutKernel.defs (F := Bits)) (onTc (τ := Cert.AdamWoutKernel.τ) (Cert.AdamWoutKernel.main (F := Bits))) ⟨m, fun _ => 0, g⟩ (fun r => (∀ c : Dev Cert.AdamWoutKernel.nD,
      r.2.mem ((c.tc : Thread Cert.AdamWoutKernel.nD Cert.AdamWoutKernel.τ).loc Cert.AdamWoutKernel.main_arg0) = m ((c.tc : Thread Cert.AdamWoutKernel.nD Cert.AdamWoutKernel.τ).loc Cert.AdamWoutKernel.main_arg0)
      ∧ r.2.mem ((c.tc : Thread Cert.AdamWoutKernel.nD Cert.AdamWoutKernel.τ).loc Cert.AdamWoutKernel.main_arg1) = m ((c.tc : Thread Cert.AdamWoutKernel.nD Cert.AdamWoutKernel.τ).loc Cert.AdamWoutKernel.main_arg1)
      ∧ r.2.mem ((c.tc : Thread Cert.AdamWoutKernel.nD Cert.AdamWoutKernel.τ).loc Cert.AdamWoutKernel.main_arg2) = m ((c.tc : Thread Cert.AdamWoutKernel.nD Cert.AdamWoutKernel.τ).loc Cert.AdamWoutKernel.main_arg2)
      ∧ r.2.mem ((c.tc : Thread Cert.AdamWoutKernel.nD Cert.AdamWoutKernel.τ).loc Cert.AdamWoutKernel.main_arg3) = m ((c.tc : Thread Cert.AdamWoutKernel.nD Cert.AdamWoutKernel.τ).loc Cert.AdamWoutKernel.main_arg3)
      ∧ r.2.mem ((c.tc : Thread Cert.AdamWoutKernel.nD Cert.AdamWoutKernel.τ).loc Cert.AdamWoutKernel.main_arg4) = m ((c.tc : Thread Cert.AdamWoutKernel.nD Cert.AdamWoutKernel.τ).loc Cert.AdamWoutKernel.main_arg4))
      ∧ r.2.sem = fun _ => 0)

def quiescent_AdamWoutKernelIdeal [hAdamWoutKernelIdeal : Cert.AdamWoutKernelIdeal.Facts] : Prop :=
  ∀ (m : (ℓ : Loc Cert.AdamWoutKernelIdeal.nD Cert.AdamWoutKernelIdeal.τ Cert.AdamWoutKernelIdeal.sig) → Buf (Elt Ideal) ℓ) (g : Dev Cert.AdamWoutKernelIdeal.nD → PrngReg), Pre_AdamWoutKernelIdeal m →
    θ_run (Cert.AdamWoutKernelIdeal.defs (F := Ideal)) (onTc (τ := Cert.AdamWoutKernelIdeal.τ) (Cert.AdamWoutKernelIdeal.main (F := Ideal))) ⟨m, fun _ => 0, g⟩ (fun r => (∀ c : Dev Cert.AdamWoutKernelIdeal.nD,
      r.2.mem ((c.tc : Thread Cert.AdamWoutKernelIdeal.nD Cert.AdamWoutKernelIdeal.τ).loc Cert.AdamWoutKernelIdeal.main_arg0) = m ((c.tc : Thread Cert.AdamWoutKernelIdeal.nD Cert.AdamWoutKernelIdeal.τ).loc Cert.AdamWoutKernelIdeal.main_arg0)
      ∧ r.2.mem ((c.tc : Thread Cert.AdamWoutKernelIdeal.nD Cert.AdamWoutKernelIdeal.τ).loc Cert.AdamWoutKernelIdeal.main_arg1) = m ((c.tc : Thread Cert.AdamWoutKernelIdeal.nD Cert.AdamWoutKernelIdeal.τ).loc Cert.AdamWoutKernelIdeal.main_arg1)
      ∧ r.2.mem ((c.tc : Thread Cert.AdamWoutKernelIdeal.nD Cert.AdamWoutKernelIdeal.τ).loc Cert.AdamWoutKernelIdeal.main_arg2) = m ((c.tc : Thread Cert.AdamWoutKernelIdeal.nD Cert.AdamWoutKernelIdeal.τ).loc Cert.AdamWoutKernelIdeal.main_arg2)
      ∧ r.2.mem ((c.tc : Thread Cert.AdamWoutKernelIdeal.nD Cert.AdamWoutKernelIdeal.τ).loc Cert.AdamWoutKernelIdeal.main_arg3) = m ((c.tc : Thread Cert.AdamWoutKernelIdeal.nD Cert.AdamWoutKernelIdeal.τ).loc Cert.AdamWoutKernelIdeal.main_arg3)
      ∧ r.2.mem ((c.tc : Thread Cert.AdamWoutKernelIdeal.nD Cert.AdamWoutKernelIdeal.τ).loc Cert.AdamWoutKernelIdeal.main_arg4) = m ((c.tc : Thread Cert.AdamWoutKernelIdeal.nD Cert.AdamWoutKernelIdeal.τ).loc Cert.AdamWoutKernelIdeal.main_arg4))
      ∧ r.2.sem = fun _ => 0)

def quiescent_AdamWoutReferenceIdeal [hAdamWoutReferenceIdeal : Cert.AdamWoutReferenceIdeal.Facts] : Prop :=
  ∀ (m : (ℓ : Loc Cert.AdamWoutReferenceIdeal.nD Cert.AdamWoutReferenceIdeal.τ Cert.AdamWoutReferenceIdeal.sig) → Buf (Elt Ideal) ℓ) (g : Dev Cert.AdamWoutReferenceIdeal.nD → PrngReg), Pre_AdamWoutReferenceIdeal m →
    θ_run (Cert.AdamWoutReferenceIdeal.defs (F := Ideal)) (onTc (τ := Cert.AdamWoutReferenceIdeal.τ) (Cert.AdamWoutReferenceIdeal.main (F := Ideal))) ⟨m, fun _ => 0, g⟩ (fun r => (∀ c : Dev Cert.AdamWoutReferenceIdeal.nD,
      r.2.mem ((c.tc : Thread Cert.AdamWoutReferenceIdeal.nD Cert.AdamWoutReferenceIdeal.τ).loc Cert.AdamWoutReferenceIdeal.main_arg0) = m ((c.tc : Thread Cert.AdamWoutReferenceIdeal.nD Cert.AdamWoutReferenceIdeal.τ).loc Cert.AdamWoutReferenceIdeal.main_arg0)
      ∧ r.2.mem ((c.tc : Thread Cert.AdamWoutReferenceIdeal.nD Cert.AdamWoutReferenceIdeal.τ).loc Cert.AdamWoutReferenceIdeal.main_arg1) = m ((c.tc : Thread Cert.AdamWoutReferenceIdeal.nD Cert.AdamWoutReferenceIdeal.τ).loc Cert.AdamWoutReferenceIdeal.main_arg1)
      ∧ r.2.mem ((c.tc : Thread Cert.AdamWoutReferenceIdeal.nD Cert.AdamWoutReferenceIdeal.τ).loc Cert.AdamWoutReferenceIdeal.main_arg2) = m ((c.tc : Thread Cert.AdamWoutReferenceIdeal.nD Cert.AdamWoutReferenceIdeal.τ).loc Cert.AdamWoutReferenceIdeal.main_arg2)
      ∧ r.2.mem ((c.tc : Thread Cert.AdamWoutReferenceIdeal.nD Cert.AdamWoutReferenceIdeal.τ).loc Cert.AdamWoutReferenceIdeal.main_arg3) = m ((c.tc : Thread Cert.AdamWoutReferenceIdeal.nD Cert.AdamWoutReferenceIdeal.τ).loc Cert.AdamWoutReferenceIdeal.main_arg3)
      ∧ r.2.mem ((c.tc : Thread Cert.AdamWoutReferenceIdeal.nD Cert.AdamWoutReferenceIdeal.τ).loc Cert.AdamWoutReferenceIdeal.main_arg4) = m ((c.tc : Thread Cert.AdamWoutReferenceIdeal.nD Cert.AdamWoutReferenceIdeal.τ).loc Cert.AdamWoutReferenceIdeal.main_arg4))
      ∧ r.2.sem = fun _ => 0)

def quiescent_SumGateupKernel [hSumGateupKernel : Cert.SumGateupKernel.Facts] : Prop :=
  ∀ (m : (ℓ : Loc Cert.SumGateupKernel.nD Cert.SumGateupKernel.τ Cert.SumGateupKernel.sig) → Buf (Elt Bits) ℓ) (g : Dev Cert.SumGateupKernel.nD → PrngReg), Pre_SumGateupKernel m →
    θ_run (Cert.SumGateupKernel.defs (F := Bits)) (onTc (τ := Cert.SumGateupKernel.τ) (Cert.SumGateupKernel.main (F := Bits))) ⟨m, fun _ => 0, g⟩ (fun r => (∀ c : Dev Cert.SumGateupKernel.nD,
      r.2.mem ((c.tc : Thread Cert.SumGateupKernel.nD Cert.SumGateupKernel.τ).loc Cert.SumGateupKernel.main_arg0) = m ((c.tc : Thread Cert.SumGateupKernel.nD Cert.SumGateupKernel.τ).loc Cert.SumGateupKernel.main_arg0)
      ∧ r.2.mem ((c.tc : Thread Cert.SumGateupKernel.nD Cert.SumGateupKernel.τ).loc Cert.SumGateupKernel.main_arg1) = m ((c.tc : Thread Cert.SumGateupKernel.nD Cert.SumGateupKernel.τ).loc Cert.SumGateupKernel.main_arg1))
      ∧ r.2.sem = fun _ => 0)

def quiescent_SumGateupKernelIdeal [hSumGateupKernelIdeal : Cert.SumGateupKernelIdeal.Facts] : Prop :=
  ∀ (m : (ℓ : Loc Cert.SumGateupKernelIdeal.nD Cert.SumGateupKernelIdeal.τ Cert.SumGateupKernelIdeal.sig) → Buf (Elt Ideal) ℓ) (g : Dev Cert.SumGateupKernelIdeal.nD → PrngReg), Pre_SumGateupKernelIdeal m →
    θ_run (Cert.SumGateupKernelIdeal.defs (F := Ideal)) (onTc (τ := Cert.SumGateupKernelIdeal.τ) (Cert.SumGateupKernelIdeal.main (F := Ideal))) ⟨m, fun _ => 0, g⟩ (fun r => (∀ c : Dev Cert.SumGateupKernelIdeal.nD,
      r.2.mem ((c.tc : Thread Cert.SumGateupKernelIdeal.nD Cert.SumGateupKernelIdeal.τ).loc Cert.SumGateupKernelIdeal.main_arg0) = m ((c.tc : Thread Cert.SumGateupKernelIdeal.nD Cert.SumGateupKernelIdeal.τ).loc Cert.SumGateupKernelIdeal.main_arg0)
      ∧ r.2.mem ((c.tc : Thread Cert.SumGateupKernelIdeal.nD Cert.SumGateupKernelIdeal.τ).loc Cert.SumGateupKernelIdeal.main_arg1) = m ((c.tc : Thread Cert.SumGateupKernelIdeal.nD Cert.SumGateupKernelIdeal.τ).loc Cert.SumGateupKernelIdeal.main_arg1))
      ∧ r.2.sem = fun _ => 0)

def quiescent_SumGateupReferenceIdeal [hSumGateupReferenceIdeal : Cert.SumGateupReferenceIdeal.Facts] : Prop :=
  ∀ (m : (ℓ : Loc Cert.SumGateupReferenceIdeal.nD Cert.SumGateupReferenceIdeal.τ Cert.SumGateupReferenceIdeal.sig) → Buf (Elt Ideal) ℓ) (g : Dev Cert.SumGateupReferenceIdeal.nD → PrngReg), Pre_SumGateupReferenceIdeal m →
    θ_run (Cert.SumGateupReferenceIdeal.defs (F := Ideal)) (onTc (τ := Cert.SumGateupReferenceIdeal.τ) (Cert.SumGateupReferenceIdeal.main (F := Ideal))) ⟨m, fun _ => 0, g⟩ (fun r => (∀ c : Dev Cert.SumGateupReferenceIdeal.nD,
      r.2.mem ((c.tc : Thread Cert.SumGateupReferenceIdeal.nD Cert.SumGateupReferenceIdeal.τ).loc Cert.SumGateupReferenceIdeal.main_arg0) = m ((c.tc : Thread Cert.SumGateupReferenceIdeal.nD Cert.SumGateupReferenceIdeal.τ).loc Cert.SumGateupReferenceIdeal.main_arg0)
      ∧ r.2.mem ((c.tc : Thread Cert.SumGateupReferenceIdeal.nD Cert.SumGateupReferenceIdeal.τ).loc Cert.SumGateupReferenceIdeal.main_arg1) = m ((c.tc : Thread Cert.SumGateupReferenceIdeal.nD Cert.SumGateupReferenceIdeal.τ).loc Cert.SumGateupReferenceIdeal.main_arg1))
      ∧ r.2.sem = fun _ => 0)

def quiescent_SumDownKernel [hSumDownKernel : Cert.SumDownKernel.Facts] : Prop :=
  ∀ (m : (ℓ : Loc Cert.SumDownKernel.nD Cert.SumDownKernel.τ Cert.SumDownKernel.sig) → Buf (Elt Bits) ℓ) (g : Dev Cert.SumDownKernel.nD → PrngReg), Pre_SumDownKernel m →
    θ_run (Cert.SumDownKernel.defs (F := Bits)) (onTc (τ := Cert.SumDownKernel.τ) (Cert.SumDownKernel.main (F := Bits))) ⟨m, fun _ => 0, g⟩ (fun r => (∀ c : Dev Cert.SumDownKernel.nD,
      r.2.mem ((c.tc : Thread Cert.SumDownKernel.nD Cert.SumDownKernel.τ).loc Cert.SumDownKernel.main_arg0) = m ((c.tc : Thread Cert.SumDownKernel.nD Cert.SumDownKernel.τ).loc Cert.SumDownKernel.main_arg0))
      ∧ r.2.sem = fun _ => 0)

def quiescent_SumDownKernelIdeal [hSumDownKernelIdeal : Cert.SumDownKernelIdeal.Facts] : Prop :=
  ∀ (m : (ℓ : Loc Cert.SumDownKernelIdeal.nD Cert.SumDownKernelIdeal.τ Cert.SumDownKernelIdeal.sig) → Buf (Elt Ideal) ℓ) (g : Dev Cert.SumDownKernelIdeal.nD → PrngReg), Pre_SumDownKernelIdeal m →
    θ_run (Cert.SumDownKernelIdeal.defs (F := Ideal)) (onTc (τ := Cert.SumDownKernelIdeal.τ) (Cert.SumDownKernelIdeal.main (F := Ideal))) ⟨m, fun _ => 0, g⟩ (fun r => (∀ c : Dev Cert.SumDownKernelIdeal.nD,
      r.2.mem ((c.tc : Thread Cert.SumDownKernelIdeal.nD Cert.SumDownKernelIdeal.τ).loc Cert.SumDownKernelIdeal.main_arg0) = m ((c.tc : Thread Cert.SumDownKernelIdeal.nD Cert.SumDownKernelIdeal.τ).loc Cert.SumDownKernelIdeal.main_arg0))
      ∧ r.2.sem = fun _ => 0)

def quiescent_SumDownReferenceIdeal [hSumDownReferenceIdeal : Cert.SumDownReferenceIdeal.Facts] : Prop :=
  ∀ (m : (ℓ : Loc Cert.SumDownReferenceIdeal.nD Cert.SumDownReferenceIdeal.τ Cert.SumDownReferenceIdeal.sig) → Buf (Elt Ideal) ℓ) (g : Dev Cert.SumDownReferenceIdeal.nD → PrngReg), Pre_SumDownReferenceIdeal m →
    θ_run (Cert.SumDownReferenceIdeal.defs (F := Ideal)) (onTc (τ := Cert.SumDownReferenceIdeal.τ) (Cert.SumDownReferenceIdeal.main (F := Ideal))) ⟨m, fun _ => 0, g⟩ (fun r => (∀ c : Dev Cert.SumDownReferenceIdeal.nD,
      r.2.mem ((c.tc : Thread Cert.SumDownReferenceIdeal.nD Cert.SumDownReferenceIdeal.τ).loc Cert.SumDownReferenceIdeal.main_arg0) = m ((c.tc : Thread Cert.SumDownReferenceIdeal.nD Cert.SumDownReferenceIdeal.τ).loc Cert.SumDownReferenceIdeal.main_arg0))
      ∧ r.2.sem = fun _ => 0)

def quiescent_SumMixKernel [hSumMixKernel : Cert.SumMixKernel.Facts] : Prop :=
  ∀ (m : (ℓ : Loc Cert.SumMixKernel.nD Cert.SumMixKernel.τ Cert.SumMixKernel.sig) → Buf (Elt Bits) ℓ) (g : Dev Cert.SumMixKernel.nD → PrngReg), Pre_SumMixKernel m →
    θ_run (Cert.SumMixKernel.defs (F := Bits)) (onTc (τ := Cert.SumMixKernel.τ) (Cert.SumMixKernel.main (F := Bits))) ⟨m, fun _ => 0, g⟩ (fun r => (∀ c : Dev Cert.SumMixKernel.nD,
      r.2.mem ((c.tc : Thread Cert.SumMixKernel.nD Cert.SumMixKernel.τ).loc Cert.SumMixKernel.main_arg0) = m ((c.tc : Thread Cert.SumMixKernel.nD Cert.SumMixKernel.τ).loc Cert.SumMixKernel.main_arg0)
      ∧ r.2.mem ((c.tc : Thread Cert.SumMixKernel.nD Cert.SumMixKernel.τ).loc Cert.SumMixKernel.main_arg1) = m ((c.tc : Thread Cert.SumMixKernel.nD Cert.SumMixKernel.τ).loc Cert.SumMixKernel.main_arg1)
      ∧ r.2.mem ((c.tc : Thread Cert.SumMixKernel.nD Cert.SumMixKernel.τ).loc Cert.SumMixKernel.main_arg2) = m ((c.tc : Thread Cert.SumMixKernel.nD Cert.SumMixKernel.τ).loc Cert.SumMixKernel.main_arg2)
      ∧ r.2.mem ((c.tc : Thread Cert.SumMixKernel.nD Cert.SumMixKernel.τ).loc Cert.SumMixKernel.main_arg3) = m ((c.tc : Thread Cert.SumMixKernel.nD Cert.SumMixKernel.τ).loc Cert.SumMixKernel.main_arg3)
      ∧ r.2.mem ((c.tc : Thread Cert.SumMixKernel.nD Cert.SumMixKernel.τ).loc Cert.SumMixKernel.main_arg4) = m ((c.tc : Thread Cert.SumMixKernel.nD Cert.SumMixKernel.τ).loc Cert.SumMixKernel.main_arg4)
      ∧ r.2.mem ((c.tc : Thread Cert.SumMixKernel.nD Cert.SumMixKernel.τ).loc Cert.SumMixKernel.main_arg5) = m ((c.tc : Thread Cert.SumMixKernel.nD Cert.SumMixKernel.τ).loc Cert.SumMixKernel.main_arg5)
      ∧ r.2.mem ((c.tc : Thread Cert.SumMixKernel.nD Cert.SumMixKernel.τ).loc Cert.SumMixKernel.main_arg6) = m ((c.tc : Thread Cert.SumMixKernel.nD Cert.SumMixKernel.τ).loc Cert.SumMixKernel.main_arg6)
      ∧ r.2.mem ((c.tc : Thread Cert.SumMixKernel.nD Cert.SumMixKernel.τ).loc Cert.SumMixKernel.main_arg7) = m ((c.tc : Thread Cert.SumMixKernel.nD Cert.SumMixKernel.τ).loc Cert.SumMixKernel.main_arg7)
      ∧ r.2.mem ((c.tc : Thread Cert.SumMixKernel.nD Cert.SumMixKernel.τ).loc Cert.SumMixKernel.main_arg8) = m ((c.tc : Thread Cert.SumMixKernel.nD Cert.SumMixKernel.τ).loc Cert.SumMixKernel.main_arg8))
      ∧ r.2.sem = fun _ => 0)

def quiescent_SumMixKernelIdeal [hSumMixKernelIdeal : Cert.SumMixKernelIdeal.Facts] : Prop :=
  ∀ (m : (ℓ : Loc Cert.SumMixKernelIdeal.nD Cert.SumMixKernelIdeal.τ Cert.SumMixKernelIdeal.sig) → Buf (Elt Ideal) ℓ) (g : Dev Cert.SumMixKernelIdeal.nD → PrngReg), Pre_SumMixKernelIdeal m →
    θ_run (Cert.SumMixKernelIdeal.defs (F := Ideal)) (onTc (τ := Cert.SumMixKernelIdeal.τ) (Cert.SumMixKernelIdeal.main (F := Ideal))) ⟨m, fun _ => 0, g⟩ (fun r => (∀ c : Dev Cert.SumMixKernelIdeal.nD,
      r.2.mem ((c.tc : Thread Cert.SumMixKernelIdeal.nD Cert.SumMixKernelIdeal.τ).loc Cert.SumMixKernelIdeal.main_arg0) = m ((c.tc : Thread Cert.SumMixKernelIdeal.nD Cert.SumMixKernelIdeal.τ).loc Cert.SumMixKernelIdeal.main_arg0)
      ∧ r.2.mem ((c.tc : Thread Cert.SumMixKernelIdeal.nD Cert.SumMixKernelIdeal.τ).loc Cert.SumMixKernelIdeal.main_arg1) = m ((c.tc : Thread Cert.SumMixKernelIdeal.nD Cert.SumMixKernelIdeal.τ).loc Cert.SumMixKernelIdeal.main_arg1)
      ∧ r.2.mem ((c.tc : Thread Cert.SumMixKernelIdeal.nD Cert.SumMixKernelIdeal.τ).loc Cert.SumMixKernelIdeal.main_arg2) = m ((c.tc : Thread Cert.SumMixKernelIdeal.nD Cert.SumMixKernelIdeal.τ).loc Cert.SumMixKernelIdeal.main_arg2)
      ∧ r.2.mem ((c.tc : Thread Cert.SumMixKernelIdeal.nD Cert.SumMixKernelIdeal.τ).loc Cert.SumMixKernelIdeal.main_arg3) = m ((c.tc : Thread Cert.SumMixKernelIdeal.nD Cert.SumMixKernelIdeal.τ).loc Cert.SumMixKernelIdeal.main_arg3)
      ∧ r.2.mem ((c.tc : Thread Cert.SumMixKernelIdeal.nD Cert.SumMixKernelIdeal.τ).loc Cert.SumMixKernelIdeal.main_arg4) = m ((c.tc : Thread Cert.SumMixKernelIdeal.nD Cert.SumMixKernelIdeal.τ).loc Cert.SumMixKernelIdeal.main_arg4)
      ∧ r.2.mem ((c.tc : Thread Cert.SumMixKernelIdeal.nD Cert.SumMixKernelIdeal.τ).loc Cert.SumMixKernelIdeal.main_arg5) = m ((c.tc : Thread Cert.SumMixKernelIdeal.nD Cert.SumMixKernelIdeal.τ).loc Cert.SumMixKernelIdeal.main_arg5)
      ∧ r.2.mem ((c.tc : Thread Cert.SumMixKernelIdeal.nD Cert.SumMixKernelIdeal.τ).loc Cert.SumMixKernelIdeal.main_arg6) = m ((c.tc : Thread Cert.SumMixKernelIdeal.nD Cert.SumMixKernelIdeal.τ).loc Cert.SumMixKernelIdeal.main_arg6)
      ∧ r.2.mem ((c.tc : Thread Cert.SumMixKernelIdeal.nD Cert.SumMixKernelIdeal.τ).loc Cert.SumMixKernelIdeal.main_arg7) = m ((c.tc : Thread Cert.SumMixKernelIdeal.nD Cert.SumMixKernelIdeal.τ).loc Cert.SumMixKernelIdeal.main_arg7)
      ∧ r.2.mem ((c.tc : Thread Cert.SumMixKernelIdeal.nD Cert.SumMixKernelIdeal.τ).loc Cert.SumMixKernelIdeal.main_arg8) = m ((c.tc : Thread Cert.SumMixKernelIdeal.nD Cert.SumMixKernelIdeal.τ).loc Cert.SumMixKernelIdeal.main_arg8))
      ∧ r.2.sem = fun _ => 0)

def quiescent_SumMixReferenceIdeal [hSumMixReferenceIdeal : Cert.SumMixReferenceIdeal.Facts] : Prop :=
  ∀ (m : (ℓ : Loc Cert.SumMixReferenceIdeal.nD Cert.SumMixReferenceIdeal.τ Cert.SumMixReferenceIdeal.sig) → Buf (Elt Ideal) ℓ) (g : Dev Cert.SumMixReferenceIdeal.nD → PrngReg), Pre_SumMixReferenceIdeal m →
    θ_run (Cert.SumMixReferenceIdeal.defs (F := Ideal)) (onTc (τ := Cert.SumMixReferenceIdeal.τ) (Cert.SumMixReferenceIdeal.main (F := Ideal))) ⟨m, fun _ => 0, g⟩ (fun r => (∀ c : Dev Cert.SumMixReferenceIdeal.nD,
      r.2.mem ((c.tc : Thread Cert.SumMixReferenceIdeal.nD Cert.SumMixReferenceIdeal.τ).loc Cert.SumMixReferenceIdeal.main_arg0) = m ((c.tc : Thread Cert.SumMixReferenceIdeal.nD Cert.SumMixReferenceIdeal.τ).loc Cert.SumMixReferenceIdeal.main_arg0)
      ∧ r.2.mem ((c.tc : Thread Cert.SumMixReferenceIdeal.nD Cert.SumMixReferenceIdeal.τ).loc Cert.SumMixReferenceIdeal.main_arg1) = m ((c.tc : Thread Cert.SumMixReferenceIdeal.nD Cert.SumMixReferenceIdeal.τ).loc Cert.SumMixReferenceIdeal.main_arg1)
      ∧ r.2.mem ((c.tc : Thread Cert.SumMixReferenceIdeal.nD Cert.SumMixReferenceIdeal.τ).loc Cert.SumMixReferenceIdeal.main_arg2) = m ((c.tc : Thread Cert.SumMixReferenceIdeal.nD Cert.SumMixReferenceIdeal.τ).loc Cert.SumMixReferenceIdeal.main_arg2)
      ∧ r.2.mem ((c.tc : Thread Cert.SumMixReferenceIdeal.nD Cert.SumMixReferenceIdeal.τ).loc Cert.SumMixReferenceIdeal.main_arg3) = m ((c.tc : Thread Cert.SumMixReferenceIdeal.nD Cert.SumMixReferenceIdeal.τ).loc Cert.SumMixReferenceIdeal.main_arg3)
      ∧ r.2.mem ((c.tc : Thread Cert.SumMixReferenceIdeal.nD Cert.SumMixReferenceIdeal.τ).loc Cert.SumMixReferenceIdeal.main_arg4) = m ((c.tc : Thread Cert.SumMixReferenceIdeal.nD Cert.SumMixReferenceIdeal.τ).loc Cert.SumMixReferenceIdeal.main_arg4)
      ∧ r.2.mem ((c.tc : Thread Cert.SumMixReferenceIdeal.nD Cert.SumMixReferenceIdeal.τ).loc Cert.SumMixReferenceIdeal.main_arg5) = m ((c.tc : Thread Cert.SumMixReferenceIdeal.nD Cert.SumMixReferenceIdeal.τ).loc Cert.SumMixReferenceIdeal.main_arg5)
      ∧ r.2.mem ((c.tc : Thread Cert.SumMixReferenceIdeal.nD Cert.SumMixReferenceIdeal.τ).loc Cert.SumMixReferenceIdeal.main_arg6) = m ((c.tc : Thread Cert.SumMixReferenceIdeal.nD Cert.SumMixReferenceIdeal.τ).loc Cert.SumMixReferenceIdeal.main_arg6)
      ∧ r.2.mem ((c.tc : Thread Cert.SumMixReferenceIdeal.nD Cert.SumMixReferenceIdeal.τ).loc Cert.SumMixReferenceIdeal.main_arg7) = m ((c.tc : Thread Cert.SumMixReferenceIdeal.nD Cert.SumMixReferenceIdeal.τ).loc Cert.SumMixReferenceIdeal.main_arg7)
      ∧ r.2.mem ((c.tc : Thread Cert.SumMixReferenceIdeal.nD Cert.SumMixReferenceIdeal.τ).loc Cert.SumMixReferenceIdeal.main_arg8) = m ((c.tc : Thread Cert.SumMixReferenceIdeal.nD Cert.SumMixReferenceIdeal.τ).loc Cert.SumMixReferenceIdeal.main_arg8))
      ∧ r.2.sem = fun _ => 0)

def quiescent_SumSmallKernel [hSumSmallKernel : Cert.SumSmallKernel.Facts] : Prop :=
  ∀ (m : (ℓ : Loc Cert.SumSmallKernel.nD Cert.SumSmallKernel.τ Cert.SumSmallKernel.sig) → Buf (Elt Bits) ℓ) (g : Dev Cert.SumSmallKernel.nD → PrngReg), Pre_SumSmallKernel m →
    θ_run (Cert.SumSmallKernel.defs (F := Bits)) (onTc (τ := Cert.SumSmallKernel.τ) (Cert.SumSmallKernel.main (F := Bits))) ⟨m, fun _ => 0, g⟩ (fun r => (∀ c : Dev Cert.SumSmallKernel.nD,
      r.2.mem ((c.tc : Thread Cert.SumSmallKernel.nD Cert.SumSmallKernel.τ).loc Cert.SumSmallKernel.main_arg0) = m ((c.tc : Thread Cert.SumSmallKernel.nD Cert.SumSmallKernel.τ).loc Cert.SumSmallKernel.main_arg0)
      ∧ r.2.mem ((c.tc : Thread Cert.SumSmallKernel.nD Cert.SumSmallKernel.τ).loc Cert.SumSmallKernel.main_arg1) = m ((c.tc : Thread Cert.SumSmallKernel.nD Cert.SumSmallKernel.τ).loc Cert.SumSmallKernel.main_arg1)
      ∧ r.2.mem ((c.tc : Thread Cert.SumSmallKernel.nD Cert.SumSmallKernel.τ).loc Cert.SumSmallKernel.main_arg2) = m ((c.tc : Thread Cert.SumSmallKernel.nD Cert.SumSmallKernel.τ).loc Cert.SumSmallKernel.main_arg2)
      ∧ r.2.mem ((c.tc : Thread Cert.SumSmallKernel.nD Cert.SumSmallKernel.τ).loc Cert.SumSmallKernel.main_arg3) = m ((c.tc : Thread Cert.SumSmallKernel.nD Cert.SumSmallKernel.τ).loc Cert.SumSmallKernel.main_arg3)
      ∧ r.2.mem ((c.tc : Thread Cert.SumSmallKernel.nD Cert.SumSmallKernel.τ).loc Cert.SumSmallKernel.main_arg4) = m ((c.tc : Thread Cert.SumSmallKernel.nD Cert.SumSmallKernel.τ).loc Cert.SumSmallKernel.main_arg4)
      ∧ r.2.mem ((c.tc : Thread Cert.SumSmallKernel.nD Cert.SumSmallKernel.τ).loc Cert.SumSmallKernel.main_arg5) = m ((c.tc : Thread Cert.SumSmallKernel.nD Cert.SumSmallKernel.τ).loc Cert.SumSmallKernel.main_arg5)
      ∧ r.2.mem ((c.tc : Thread Cert.SumSmallKernel.nD Cert.SumSmallKernel.τ).loc Cert.SumSmallKernel.main_arg6) = m ((c.tc : Thread Cert.SumSmallKernel.nD Cert.SumSmallKernel.τ).loc Cert.SumSmallKernel.main_arg6)
      ∧ r.2.mem ((c.tc : Thread Cert.SumSmallKernel.nD Cert.SumSmallKernel.τ).loc Cert.SumSmallKernel.main_arg7) = m ((c.tc : Thread Cert.SumSmallKernel.nD Cert.SumSmallKernel.τ).loc Cert.SumSmallKernel.main_arg7)
      ∧ r.2.mem ((c.tc : Thread Cert.SumSmallKernel.nD Cert.SumSmallKernel.τ).loc Cert.SumSmallKernel.main_arg8) = m ((c.tc : Thread Cert.SumSmallKernel.nD Cert.SumSmallKernel.τ).loc Cert.SumSmallKernel.main_arg8)
      ∧ r.2.mem ((c.tc : Thread Cert.SumSmallKernel.nD Cert.SumSmallKernel.τ).loc Cert.SumSmallKernel.main_arg9) = m ((c.tc : Thread Cert.SumSmallKernel.nD Cert.SumSmallKernel.τ).loc Cert.SumSmallKernel.main_arg9)
      ∧ r.2.mem ((c.tc : Thread Cert.SumSmallKernel.nD Cert.SumSmallKernel.τ).loc Cert.SumSmallKernel.main_arg10) = m ((c.tc : Thread Cert.SumSmallKernel.nD Cert.SumSmallKernel.τ).loc Cert.SumSmallKernel.main_arg10)
      ∧ r.2.mem ((c.tc : Thread Cert.SumSmallKernel.nD Cert.SumSmallKernel.τ).loc Cert.SumSmallKernel.main_arg11) = m ((c.tc : Thread Cert.SumSmallKernel.nD Cert.SumSmallKernel.τ).loc Cert.SumSmallKernel.main_arg11)
      ∧ r.2.mem ((c.tc : Thread Cert.SumSmallKernel.nD Cert.SumSmallKernel.τ).loc Cert.SumSmallKernel.main_arg12) = m ((c.tc : Thread Cert.SumSmallKernel.nD Cert.SumSmallKernel.τ).loc Cert.SumSmallKernel.main_arg12))
      ∧ r.2.sem = fun _ => 0)

def quiescent_SumSmallKernelIdeal [hSumSmallKernelIdeal : Cert.SumSmallKernelIdeal.Facts] : Prop :=
  ∀ (m : (ℓ : Loc Cert.SumSmallKernelIdeal.nD Cert.SumSmallKernelIdeal.τ Cert.SumSmallKernelIdeal.sig) → Buf (Elt Ideal) ℓ) (g : Dev Cert.SumSmallKernelIdeal.nD → PrngReg), Pre_SumSmallKernelIdeal m →
    θ_run (Cert.SumSmallKernelIdeal.defs (F := Ideal)) (onTc (τ := Cert.SumSmallKernelIdeal.τ) (Cert.SumSmallKernelIdeal.main (F := Ideal))) ⟨m, fun _ => 0, g⟩ (fun r => (∀ c : Dev Cert.SumSmallKernelIdeal.nD,
      r.2.mem ((c.tc : Thread Cert.SumSmallKernelIdeal.nD Cert.SumSmallKernelIdeal.τ).loc Cert.SumSmallKernelIdeal.main_arg0) = m ((c.tc : Thread Cert.SumSmallKernelIdeal.nD Cert.SumSmallKernelIdeal.τ).loc Cert.SumSmallKernelIdeal.main_arg0)
      ∧ r.2.mem ((c.tc : Thread Cert.SumSmallKernelIdeal.nD Cert.SumSmallKernelIdeal.τ).loc Cert.SumSmallKernelIdeal.main_arg1) = m ((c.tc : Thread Cert.SumSmallKernelIdeal.nD Cert.SumSmallKernelIdeal.τ).loc Cert.SumSmallKernelIdeal.main_arg1)
      ∧ r.2.mem ((c.tc : Thread Cert.SumSmallKernelIdeal.nD Cert.SumSmallKernelIdeal.τ).loc Cert.SumSmallKernelIdeal.main_arg2) = m ((c.tc : Thread Cert.SumSmallKernelIdeal.nD Cert.SumSmallKernelIdeal.τ).loc Cert.SumSmallKernelIdeal.main_arg2)
      ∧ r.2.mem ((c.tc : Thread Cert.SumSmallKernelIdeal.nD Cert.SumSmallKernelIdeal.τ).loc Cert.SumSmallKernelIdeal.main_arg3) = m ((c.tc : Thread Cert.SumSmallKernelIdeal.nD Cert.SumSmallKernelIdeal.τ).loc Cert.SumSmallKernelIdeal.main_arg3)
      ∧ r.2.mem ((c.tc : Thread Cert.SumSmallKernelIdeal.nD Cert.SumSmallKernelIdeal.τ).loc Cert.SumSmallKernelIdeal.main_arg4) = m ((c.tc : Thread Cert.SumSmallKernelIdeal.nD Cert.SumSmallKernelIdeal.τ).loc Cert.SumSmallKernelIdeal.main_arg4)
      ∧ r.2.mem ((c.tc : Thread Cert.SumSmallKernelIdeal.nD Cert.SumSmallKernelIdeal.τ).loc Cert.SumSmallKernelIdeal.main_arg5) = m ((c.tc : Thread Cert.SumSmallKernelIdeal.nD Cert.SumSmallKernelIdeal.τ).loc Cert.SumSmallKernelIdeal.main_arg5)
      ∧ r.2.mem ((c.tc : Thread Cert.SumSmallKernelIdeal.nD Cert.SumSmallKernelIdeal.τ).loc Cert.SumSmallKernelIdeal.main_arg6) = m ((c.tc : Thread Cert.SumSmallKernelIdeal.nD Cert.SumSmallKernelIdeal.τ).loc Cert.SumSmallKernelIdeal.main_arg6)
      ∧ r.2.mem ((c.tc : Thread Cert.SumSmallKernelIdeal.nD Cert.SumSmallKernelIdeal.τ).loc Cert.SumSmallKernelIdeal.main_arg7) = m ((c.tc : Thread Cert.SumSmallKernelIdeal.nD Cert.SumSmallKernelIdeal.τ).loc Cert.SumSmallKernelIdeal.main_arg7)
      ∧ r.2.mem ((c.tc : Thread Cert.SumSmallKernelIdeal.nD Cert.SumSmallKernelIdeal.τ).loc Cert.SumSmallKernelIdeal.main_arg8) = m ((c.tc : Thread Cert.SumSmallKernelIdeal.nD Cert.SumSmallKernelIdeal.τ).loc Cert.SumSmallKernelIdeal.main_arg8)
      ∧ r.2.mem ((c.tc : Thread Cert.SumSmallKernelIdeal.nD Cert.SumSmallKernelIdeal.τ).loc Cert.SumSmallKernelIdeal.main_arg9) = m ((c.tc : Thread Cert.SumSmallKernelIdeal.nD Cert.SumSmallKernelIdeal.τ).loc Cert.SumSmallKernelIdeal.main_arg9)
      ∧ r.2.mem ((c.tc : Thread Cert.SumSmallKernelIdeal.nD Cert.SumSmallKernelIdeal.τ).loc Cert.SumSmallKernelIdeal.main_arg10) = m ((c.tc : Thread Cert.SumSmallKernelIdeal.nD Cert.SumSmallKernelIdeal.τ).loc Cert.SumSmallKernelIdeal.main_arg10)
      ∧ r.2.mem ((c.tc : Thread Cert.SumSmallKernelIdeal.nD Cert.SumSmallKernelIdeal.τ).loc Cert.SumSmallKernelIdeal.main_arg11) = m ((c.tc : Thread Cert.SumSmallKernelIdeal.nD Cert.SumSmallKernelIdeal.τ).loc Cert.SumSmallKernelIdeal.main_arg11)
      ∧ r.2.mem ((c.tc : Thread Cert.SumSmallKernelIdeal.nD Cert.SumSmallKernelIdeal.τ).loc Cert.SumSmallKernelIdeal.main_arg12) = m ((c.tc : Thread Cert.SumSmallKernelIdeal.nD Cert.SumSmallKernelIdeal.τ).loc Cert.SumSmallKernelIdeal.main_arg12))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0)
      ∧ r.2.mem ((c.tc : Thread Cert.SumSmallReferenceIdeal.nD Cert.SumSmallReferenceIdeal.τ).loc Cert.SumSmallReferenceIdeal.main_arg1) = m ((c.tc : Thread Cert.SumSmallReferenceIdeal.nD Cert.SumSmallReferenceIdeal.τ).loc Cert.SumSmallReferenceIdeal.main_arg1)
      ∧ r.2.mem ((c.tc : Thread Cert.SumSmallReferenceIdeal.nD Cert.SumSmallReferenceIdeal.τ).loc Cert.SumSmallReferenceIdeal.main_arg2) = m ((c.tc : Thread Cert.SumSmallReferenceIdeal.nD Cert.SumSmallReferenceIdeal.τ).loc Cert.SumSmallReferenceIdeal.main_arg2)
      ∧ r.2.mem ((c.tc : Thread Cert.SumSmallReferenceIdeal.nD Cert.SumSmallReferenceIdeal.τ).loc Cert.SumSmallReferenceIdeal.main_arg3) = m ((c.tc : Thread Cert.SumSmallReferenceIdeal.nD Cert.SumSmallReferenceIdeal.τ).loc Cert.SumSmallReferenceIdeal.main_arg3)
      ∧ r.2.mem ((c.tc : Thread Cert.SumSmallReferenceIdeal.nD Cert.SumSmallReferenceIdeal.τ).loc Cert.SumSmallReferenceIdeal.main_arg4) = m ((c.tc : Thread Cert.SumSmallReferenceIdeal.nD Cert.SumSmallReferenceIdeal.τ).loc Cert.SumSmallReferenceIdeal.main_arg4)
      ∧ r.2.mem ((c.tc : Thread Cert.SumSmallReferenceIdeal.nD Cert.SumSmallReferenceIdeal.τ).loc Cert.SumSmallReferenceIdeal.main_arg5) = m ((c.tc : Thread Cert.SumSmallReferenceIdeal.nD Cert.SumSmallReferenceIdeal.τ).loc Cert.SumSmallReferenceIdeal.main_arg5)
      ∧ r.2.mem ((c.tc : Thread Cert.SumSmallReferenceIdeal.nD Cert.SumSmallReferenceIdeal.τ).loc Cert.SumSmallReferenceIdeal.main_arg6) = m ((c.tc : Thread Cert.SumSmallReferenceIdeal.nD Cert.SumSmallReferenceIdeal.τ).loc Cert.SumSmallReferenceIdeal.main_arg6)
      ∧ r.2.mem ((c.tc : Thread Cert.SumSmallReferenceIdeal.nD Cert.SumSmallReferenceIdeal.τ).loc Cert.SumSmallReferenceIdeal.main_arg7) = m ((c.tc : Thread Cert.SumSmallReferenceIdeal.nD Cert.SumSmallReferenceIdeal.τ).loc Cert.SumSmallReferenceIdeal.main_arg7)
      ∧ r.2.mem ((c.tc : Thread Cert.SumSmallReferenceIdeal.nD Cert.SumSmallReferenceIdeal.τ).loc Cert.SumSmallReferenceIdeal.main_arg8) = m ((c.tc : Thread Cert.SumSmallReferenceIdeal.nD Cert.SumSmallReferenceIdeal.τ).loc Cert.SumSmallReferenceIdeal.main_arg8)
      ∧ r.2.mem ((c.tc : Thread Cert.SumSmallReferenceIdeal.nD Cert.SumSmallReferenceIdeal.τ).loc Cert.SumSmallReferenceIdeal.main_arg9) = m ((c.tc : Thread Cert.SumSmallReferenceIdeal.nD Cert.SumSmallReferenceIdeal.τ).loc Cert.SumSmallReferenceIdeal.main_arg9)
      ∧ r.2.mem ((c.tc : Thread Cert.SumSmallReferenceIdeal.nD Cert.SumSmallReferenceIdeal.τ).loc Cert.SumSmallReferenceIdeal.main_arg10) = m ((c.tc : Thread Cert.SumSmallReferenceIdeal.nD Cert.SumSmallReferenceIdeal.τ).loc Cert.SumSmallReferenceIdeal.main_arg10)
      ∧ r.2.mem ((c.tc : Thread Cert.SumSmallReferenceIdeal.nD Cert.SumSmallReferenceIdeal.τ).loc Cert.SumSmallReferenceIdeal.main_arg11) = m ((c.tc : Thread Cert.SumSmallReferenceIdeal.nD Cert.SumSmallReferenceIdeal.τ).loc Cert.SumSmallReferenceIdeal.main_arg11)
      ∧ r.2.mem ((c.tc : Thread Cert.SumSmallReferenceIdeal.nD Cert.SumSmallReferenceIdeal.τ).loc Cert.SumSmallReferenceIdeal.main_arg12) = m ((c.tc : Thread Cert.SumSmallReferenceIdeal.nD Cert.SumSmallReferenceIdeal.τ).loc Cert.SumSmallReferenceIdeal.main_arg12))
      ∧ r.2.sem = fun _ => 0)

def quiescent_LossGradKernel [hLossGradKernel : Cert.LossGradKernel.Facts] : Prop :=
  ∀ (m : (ℓ : Loc Cert.LossGradKernel.nD Cert.LossGradKernel.τ Cert.LossGradKernel.sig) → Buf (Elt Bits) ℓ) (g : Dev Cert.LossGradKernel.nD → PrngReg), Pre_LossGradKernel m →
    θ_run (Cert.LossGradKernel.defs (F := Bits)) (onTc (τ := Cert.LossGradKernel.τ) (Cert.LossGradKernel.main (F := Bits))) ⟨m, fun _ => 0, g⟩ (fun r => (∀ c : Dev Cert.LossGradKernel.nD,
      r.2.mem ((c.tc : Thread Cert.LossGradKernel.nD Cert.LossGradKernel.τ).loc Cert.LossGradKernel.main_arg0) = m ((c.tc : Thread Cert.LossGradKernel.nD Cert.LossGradKernel.τ).loc Cert.LossGradKernel.main_arg0)
      ∧ r.2.mem ((c.tc : Thread Cert.LossGradKernel.nD Cert.LossGradKernel.τ).loc Cert.LossGradKernel.main_arg1) = m ((c.tc : Thread Cert.LossGradKernel.nD Cert.LossGradKernel.τ).loc Cert.LossGradKernel.main_arg1))
      ∧ r.2.sem = fun _ => 0)

def quiescent_LossGradKernelIdeal [hLossGradKernelIdeal : Cert.LossGradKernelIdeal.Facts] : Prop :=
  ∀ (m : (ℓ : Loc Cert.LossGradKernelIdeal.nD Cert.LossGradKernelIdeal.τ Cert.LossGradKernelIdeal.sig) → Buf (Elt Ideal) ℓ) (g : Dev Cert.LossGradKernelIdeal.nD → PrngReg), Pre_LossGradKernelIdeal m →
    θ_run (Cert.LossGradKernelIdeal.defs (F := Ideal)) (onTc (τ := Cert.LossGradKernelIdeal.τ) (Cert.LossGradKernelIdeal.main (F := Ideal))) ⟨m, fun _ => 0, g⟩ (fun r => (∀ c : Dev Cert.LossGradKernelIdeal.nD,
      r.2.mem ((c.tc : Thread Cert.LossGradKernelIdeal.nD Cert.LossGradKernelIdeal.τ).loc Cert.LossGradKernelIdeal.main_arg0) = m ((c.tc : Thread Cert.LossGradKernelIdeal.nD Cert.LossGradKernelIdeal.τ).loc Cert.LossGradKernelIdeal.main_arg0)
      ∧ r.2.mem ((c.tc : Thread Cert.LossGradKernelIdeal.nD Cert.LossGradKernelIdeal.τ).loc Cert.LossGradKernelIdeal.main_arg1) = m ((c.tc : Thread Cert.LossGradKernelIdeal.nD Cert.LossGradKernelIdeal.τ).loc Cert.LossGradKernelIdeal.main_arg1))
      ∧ r.2.sem = fun _ => 0)

def quiescent_LossGradReferenceIdeal [hLossGradReferenceIdeal : Cert.LossGradReferenceIdeal.Facts] : Prop :=
  ∀ (m : (ℓ : Loc Cert.LossGradReferenceIdeal.nD Cert.LossGradReferenceIdeal.τ Cert.LossGradReferenceIdeal.sig) → Buf (Elt Ideal) ℓ) (g : Dev Cert.LossGradReferenceIdeal.nD → PrngReg), Pre_LossGradReferenceIdeal m →
    θ_run (Cert.LossGradReferenceIdeal.defs (F := Ideal)) (onTc (τ := Cert.LossGradReferenceIdeal.τ) (Cert.LossGradReferenceIdeal.main (F := Ideal))) ⟨m, fun _ => 0, g⟩ (fun r => (∀ c : Dev Cert.LossGradReferenceIdeal.nD,
      r.2.mem ((c.tc : Thread Cert.LossGradReferenceIdeal.nD Cert.LossGradReferenceIdeal.τ).loc Cert.LossGradReferenceIdeal.main_arg0) = m ((c.tc : Thread Cert.LossGradReferenceIdeal.nD Cert.LossGradReferenceIdeal.τ).loc Cert.LossGradReferenceIdeal.main_arg0)
      ∧ r.2.mem ((c.tc : Thread Cert.LossGradReferenceIdeal.nD Cert.LossGradReferenceIdeal.τ).loc Cert.LossGradReferenceIdeal.main_arg1) = m ((c.tc : Thread Cert.LossGradReferenceIdeal.nD Cert.LossGradReferenceIdeal.τ).loc Cert.LossGradReferenceIdeal.main_arg1))
      ∧ r.2.sem = fun _ => 0)

def quiescent_ConvOutKernel [hConvOutKernel : Cert.ConvOutKernel.Facts] : Prop :=
  ∀ (m : (ℓ : Loc Cert.ConvOutKernel.nD Cert.ConvOutKernel.τ Cert.ConvOutKernel.sig) → Buf (Elt Bits) ℓ) (g : Dev Cert.ConvOutKernel.nD → PrngReg), Pre_ConvOutKernel m →
    θ_run (Cert.ConvOutKernel.defs (F := Bits)) (onTc (τ := Cert.ConvOutKernel.τ) (Cert.ConvOutKernel.main (F := Bits))) ⟨m, fun _ => 0, g⟩ (fun r => (∀ c : Dev Cert.ConvOutKernel.nD,
      r.2.mem ((c.tc : Thread Cert.ConvOutKernel.nD Cert.ConvOutKernel.τ).loc Cert.ConvOutKernel.main_arg0) = m ((c.tc : Thread Cert.ConvOutKernel.nD Cert.ConvOutKernel.τ).loc Cert.ConvOutKernel.main_arg0)
      ∧ r.2.mem ((c.tc : Thread Cert.ConvOutKernel.nD Cert.ConvOutKernel.τ).loc Cert.ConvOutKernel.main_arg1) = m ((c.tc : Thread Cert.ConvOutKernel.nD Cert.ConvOutKernel.τ).loc Cert.ConvOutKernel.main_arg1))
      ∧ r.2.sem = fun _ => 0)

def quiescent_ConvOutKernelIdeal [hConvOutKernelIdeal : Cert.ConvOutKernelIdeal.Facts] : Prop :=
  ∀ (m : (ℓ : Loc Cert.ConvOutKernelIdeal.nD Cert.ConvOutKernelIdeal.τ Cert.ConvOutKernelIdeal.sig) → Buf (Elt Ideal) ℓ) (g : Dev Cert.ConvOutKernelIdeal.nD → PrngReg), Pre_ConvOutKernelIdeal m →
    θ_run (Cert.ConvOutKernelIdeal.defs (F := Ideal)) (onTc (τ := Cert.ConvOutKernelIdeal.τ) (Cert.ConvOutKernelIdeal.main (F := Ideal))) ⟨m, fun _ => 0, g⟩ (fun r => (∀ c : Dev Cert.ConvOutKernelIdeal.nD,
      r.2.mem ((c.tc : Thread Cert.ConvOutKernelIdeal.nD Cert.ConvOutKernelIdeal.τ).loc Cert.ConvOutKernelIdeal.main_arg0) = m ((c.tc : Thread Cert.ConvOutKernelIdeal.nD Cert.ConvOutKernelIdeal.τ).loc Cert.ConvOutKernelIdeal.main_arg0)
      ∧ r.2.mem ((c.tc : Thread Cert.ConvOutKernelIdeal.nD Cert.ConvOutKernelIdeal.τ).loc Cert.ConvOutKernelIdeal.main_arg1) = m ((c.tc : Thread Cert.ConvOutKernelIdeal.nD Cert.ConvOutKernelIdeal.τ).loc Cert.ConvOutKernelIdeal.main_arg1))
      ∧ r.2.sem = fun _ => 0)

def quiescent_ConvOutReferenceIdeal [hConvOutReferenceIdeal : Cert.ConvOutReferenceIdeal.Facts] : Prop :=
  ∀ (m : (ℓ : Loc Cert.ConvOutReferenceIdeal.nD Cert.ConvOutReferenceIdeal.τ Cert.ConvOutReferenceIdeal.sig) → Buf (Elt Ideal) ℓ) (g : Dev Cert.ConvOutReferenceIdeal.nD → PrngReg), Pre_ConvOutReferenceIdeal m →
    θ_run (Cert.ConvOutReferenceIdeal.defs (F := Ideal)) (onTc (τ := Cert.ConvOutReferenceIdeal.τ) (Cert.ConvOutReferenceIdeal.main (F := Ideal))) ⟨m, fun _ => 0, g⟩ (fun r => (∀ c : Dev Cert.ConvOutReferenceIdeal.nD,
      r.2.mem ((c.tc : Thread Cert.ConvOutReferenceIdeal.nD Cert.ConvOutReferenceIdeal.τ).loc Cert.ConvOutReferenceIdeal.main_arg0) = m ((c.tc : Thread Cert.ConvOutReferenceIdeal.nD Cert.ConvOutReferenceIdeal.τ).loc Cert.ConvOutReferenceIdeal.main_arg0)
      ∧ r.2.mem ((c.tc : Thread Cert.ConvOutReferenceIdeal.nD Cert.ConvOutReferenceIdeal.τ).loc Cert.ConvOutReferenceIdeal.main_arg1) = m ((c.tc : Thread Cert.ConvOutReferenceIdeal.nD Cert.ConvOutReferenceIdeal.τ).loc Cert.ConvOutReferenceIdeal.main_arg1))
      ∧ r.2.sem = fun _ => 0)

def quiescent_ConvDcKernel [hConvDcKernel : Cert.ConvDcKernel.Facts] : Prop :=
  ∀ (m : (ℓ : Loc Cert.ConvDcKernel.nD Cert.ConvDcKernel.τ Cert.ConvDcKernel.sig) → Buf (Elt Bits) ℓ) (g : Dev Cert.ConvDcKernel.nD → PrngReg), Pre_ConvDcKernel m →
    θ_run (Cert.ConvDcKernel.defs (F := Bits)) (onTc (τ := Cert.ConvDcKernel.τ) (Cert.ConvDcKernel.main (F := Bits))) ⟨m, fun _ => 0, g⟩ (fun r => (∀ c : Dev Cert.ConvDcKernel.nD,
      r.2.mem ((c.tc : Thread Cert.ConvDcKernel.nD Cert.ConvDcKernel.τ).loc Cert.ConvDcKernel.main_arg0) = m ((c.tc : Thread Cert.ConvDcKernel.nD Cert.ConvDcKernel.τ).loc Cert.ConvDcKernel.main_arg0)
      ∧ r.2.mem ((c.tc : Thread Cert.ConvDcKernel.nD Cert.ConvDcKernel.τ).loc Cert.ConvDcKernel.main_arg1) = m ((c.tc : Thread Cert.ConvDcKernel.nD Cert.ConvDcKernel.τ).loc Cert.ConvDcKernel.main_arg1))
      ∧ r.2.sem = fun _ => 0)

def quiescent_ConvDcKernelIdeal [hConvDcKernelIdeal : Cert.ConvDcKernelIdeal.Facts] : Prop :=
  ∀ (m : (ℓ : Loc Cert.ConvDcKernelIdeal.nD Cert.ConvDcKernelIdeal.τ Cert.ConvDcKernelIdeal.sig) → Buf (Elt Ideal) ℓ) (g : Dev Cert.ConvDcKernelIdeal.nD → PrngReg), Pre_ConvDcKernelIdeal m →
    θ_run (Cert.ConvDcKernelIdeal.defs (F := Ideal)) (onTc (τ := Cert.ConvDcKernelIdeal.τ) (Cert.ConvDcKernelIdeal.main (F := Ideal))) ⟨m, fun _ => 0, g⟩ (fun r => (∀ c : Dev Cert.ConvDcKernelIdeal.nD,
      r.2.mem ((c.tc : Thread Cert.ConvDcKernelIdeal.nD Cert.ConvDcKernelIdeal.τ).loc Cert.ConvDcKernelIdeal.main_arg0) = m ((c.tc : Thread Cert.ConvDcKernelIdeal.nD Cert.ConvDcKernelIdeal.τ).loc Cert.ConvDcKernelIdeal.main_arg0)
      ∧ r.2.mem ((c.tc : Thread Cert.ConvDcKernelIdeal.nD Cert.ConvDcKernelIdeal.τ).loc Cert.ConvDcKernelIdeal.main_arg1) = m ((c.tc : Thread Cert.ConvDcKernelIdeal.nD Cert.ConvDcKernelIdeal.τ).loc Cert.ConvDcKernelIdeal.main_arg1))
      ∧ r.2.sem = fun _ => 0)

def quiescent_ConvDcReferenceIdeal [hConvDcReferenceIdeal : Cert.ConvDcReferenceIdeal.Facts] : Prop :=
  ∀ (m : (ℓ : Loc Cert.ConvDcReferenceIdeal.nD Cert.ConvDcReferenceIdeal.τ Cert.ConvDcReferenceIdeal.sig) → Buf (Elt Ideal) ℓ) (g : Dev Cert.ConvDcReferenceIdeal.nD → PrngReg), Pre_ConvDcReferenceIdeal m →
    θ_run (Cert.ConvDcReferenceIdeal.defs (F := Ideal)) (onTc (τ := Cert.ConvDcReferenceIdeal.τ) (Cert.ConvDcReferenceIdeal.main (F := Ideal))) ⟨m, fun _ => 0, g⟩ (fun r => (∀ c : Dev Cert.ConvDcReferenceIdeal.nD,
      r.2.mem ((c.tc : Thread Cert.ConvDcReferenceIdeal.nD Cert.ConvDcReferenceIdeal.τ).loc Cert.ConvDcReferenceIdeal.main_arg0) = m ((c.tc : Thread Cert.ConvDcReferenceIdeal.nD Cert.ConvDcReferenceIdeal.τ).loc Cert.ConvDcReferenceIdeal.main_arg0)
      ∧ r.2.mem ((c.tc : Thread Cert.ConvDcReferenceIdeal.nD Cert.ConvDcReferenceIdeal.τ).loc Cert.ConvDcReferenceIdeal.main_arg1) = m ((c.tc : Thread Cert.ConvDcReferenceIdeal.nD Cert.ConvDcReferenceIdeal.τ).loc Cert.ConvDcReferenceIdeal.main_arg1))
      ∧ r.2.sem = fun _ => 0)

def quiescent_ConvDwoutKernel [hConvDwoutKernel : Cert.ConvDwoutKernel.Facts] : Prop :=
  ∀ (m : (ℓ : Loc Cert.ConvDwoutKernel.nD Cert.ConvDwoutKernel.τ Cert.ConvDwoutKernel.sig) → Buf (Elt Bits) ℓ) (g : Dev Cert.ConvDwoutKernel.nD → PrngReg), Pre_ConvDwoutKernel m →
    θ_run (Cert.ConvDwoutKernel.defs (F := Bits)) (onTc (τ := Cert.ConvDwoutKernel.τ) (Cert.ConvDwoutKernel.main (F := Bits))) ⟨m, fun _ => 0, g⟩ (fun r => (∀ c : Dev Cert.ConvDwoutKernel.nD,
      r.2.mem ((c.tc : Thread Cert.ConvDwoutKernel.nD Cert.ConvDwoutKernel.τ).loc Cert.ConvDwoutKernel.main_arg0) = m ((c.tc : Thread Cert.ConvDwoutKernel.nD Cert.ConvDwoutKernel.τ).loc Cert.ConvDwoutKernel.main_arg0)
      ∧ r.2.mem ((c.tc : Thread Cert.ConvDwoutKernel.nD Cert.ConvDwoutKernel.τ).loc Cert.ConvDwoutKernel.main_arg1) = m ((c.tc : Thread Cert.ConvDwoutKernel.nD Cert.ConvDwoutKernel.τ).loc Cert.ConvDwoutKernel.main_arg1))
      ∧ r.2.sem = fun _ => 0)

def quiescent_ConvDwoutKernelIdeal [hConvDwoutKernelIdeal : Cert.ConvDwoutKernelIdeal.Facts] : Prop :=
  ∀ (m : (ℓ : Loc Cert.ConvDwoutKernelIdeal.nD Cert.ConvDwoutKernelIdeal.τ Cert.ConvDwoutKernelIdeal.sig) → Buf (Elt Ideal) ℓ) (g : Dev Cert.ConvDwoutKernelIdeal.nD → PrngReg), Pre_ConvDwoutKernelIdeal m →
    θ_run (Cert.ConvDwoutKernelIdeal.defs (F := Ideal)) (onTc (τ := Cert.ConvDwoutKernelIdeal.τ) (Cert.ConvDwoutKernelIdeal.main (F := Ideal))) ⟨m, fun _ => 0, g⟩ (fun r => (∀ c : Dev Cert.ConvDwoutKernelIdeal.nD,
      r.2.mem ((c.tc : Thread Cert.ConvDwoutKernelIdeal.nD Cert.ConvDwoutKernelIdeal.τ).loc Cert.ConvDwoutKernelIdeal.main_arg0) = m ((c.tc : Thread Cert.ConvDwoutKernelIdeal.nD Cert.ConvDwoutKernelIdeal.τ).loc Cert.ConvDwoutKernelIdeal.main_arg0)
      ∧ r.2.mem ((c.tc : Thread Cert.ConvDwoutKernelIdeal.nD Cert.ConvDwoutKernelIdeal.τ).loc Cert.ConvDwoutKernelIdeal.main_arg1) = m ((c.tc : Thread Cert.ConvDwoutKernelIdeal.nD Cert.ConvDwoutKernelIdeal.τ).loc Cert.ConvDwoutKernelIdeal.main_arg1))
      ∧ r.2.sem = fun _ => 0)

def quiescent_ConvDwoutReferenceIdeal [hConvDwoutReferenceIdeal : Cert.ConvDwoutReferenceIdeal.Facts] : Prop :=
  ∀ (m : (ℓ : Loc Cert.ConvDwoutReferenceIdeal.nD Cert.ConvDwoutReferenceIdeal.τ Cert.ConvDwoutReferenceIdeal.sig) → Buf (Elt Ideal) ℓ) (g : Dev Cert.ConvDwoutReferenceIdeal.nD → PrngReg), Pre_ConvDwoutReferenceIdeal m →
    θ_run (Cert.ConvDwoutReferenceIdeal.defs (F := Ideal)) (onTc (τ := Cert.ConvDwoutReferenceIdeal.τ) (Cert.ConvDwoutReferenceIdeal.main (F := Ideal))) ⟨m, fun _ => 0, g⟩ (fun r => (∀ c : Dev Cert.ConvDwoutReferenceIdeal.nD,
      r.2.mem ((c.tc : Thread Cert.ConvDwoutReferenceIdeal.nD Cert.ConvDwoutReferenceIdeal.τ).loc Cert.ConvDwoutReferenceIdeal.main_arg0) = m ((c.tc : Thread Cert.ConvDwoutReferenceIdeal.nD Cert.ConvDwoutReferenceIdeal.τ).loc Cert.ConvDwoutReferenceIdeal.main_arg0)
      ∧ r.2.mem ((c.tc : Thread Cert.ConvDwoutReferenceIdeal.nD Cert.ConvDwoutReferenceIdeal.τ).loc Cert.ConvDwoutReferenceIdeal.main_arg1) = m ((c.tc : Thread Cert.ConvDwoutReferenceIdeal.nD Cert.ConvDwoutReferenceIdeal.τ).loc Cert.ConvDwoutReferenceIdeal.main_arg1))
      ∧ r.2.sem = fun _ => 0)

def quiescent_MlaOutKernel [hMlaOutKernel : Cert.MlaOutKernel.Facts] : Prop :=
  ∀ (m : (ℓ : Loc Cert.MlaOutKernel.nD Cert.MlaOutKernel.τ Cert.MlaOutKernel.sig) → Buf (Elt Bits) ℓ) (g : Dev Cert.MlaOutKernel.nD → PrngReg), Pre_MlaOutKernel m →
    θ_run (Cert.MlaOutKernel.defs (F := Bits)) (onTc (τ := Cert.MlaOutKernel.τ) (Cert.MlaOutKernel.main (F := Bits))) ⟨m, fun _ => 0, g⟩ (fun r => (∀ c : Dev Cert.MlaOutKernel.nD,
      r.2.mem ((c.tc : Thread Cert.MlaOutKernel.nD Cert.MlaOutKernel.τ).loc Cert.MlaOutKernel.main_arg0) = m ((c.tc : Thread Cert.MlaOutKernel.nD Cert.MlaOutKernel.τ).loc Cert.MlaOutKernel.main_arg0)
      ∧ r.2.mem ((c.tc : Thread Cert.MlaOutKernel.nD Cert.MlaOutKernel.τ).loc Cert.MlaOutKernel.main_arg1) = m ((c.tc : Thread Cert.MlaOutKernel.nD Cert.MlaOutKernel.τ).loc Cert.MlaOutKernel.main_arg1))
      ∧ r.2.sem = fun _ => 0)

def quiescent_MlaOutKernelIdeal [hMlaOutKernelIdeal : Cert.MlaOutKernelIdeal.Facts] : Prop :=
  ∀ (m : (ℓ : Loc Cert.MlaOutKernelIdeal.nD Cert.MlaOutKernelIdeal.τ Cert.MlaOutKernelIdeal.sig) → Buf (Elt Ideal) ℓ) (g : Dev Cert.MlaOutKernelIdeal.nD → PrngReg), Pre_MlaOutKernelIdeal m →
    θ_run (Cert.MlaOutKernelIdeal.defs (F := Ideal)) (onTc (τ := Cert.MlaOutKernelIdeal.τ) (Cert.MlaOutKernelIdeal.main (F := Ideal))) ⟨m, fun _ => 0, g⟩ (fun r => (∀ c : Dev Cert.MlaOutKernelIdeal.nD,
      r.2.mem ((c.tc : Thread Cert.MlaOutKernelIdeal.nD Cert.MlaOutKernelIdeal.τ).loc Cert.MlaOutKernelIdeal.main_arg0) = m ((c.tc : Thread Cert.MlaOutKernelIdeal.nD Cert.MlaOutKernelIdeal.τ).loc Cert.MlaOutKernelIdeal.main_arg0)
      ∧ r.2.mem ((c.tc : Thread Cert.MlaOutKernelIdeal.nD Cert.MlaOutKernelIdeal.τ).loc Cert.MlaOutKernelIdeal.main_arg1) = m ((c.tc : Thread Cert.MlaOutKernelIdeal.nD Cert.MlaOutKernelIdeal.τ).loc Cert.MlaOutKernelIdeal.main_arg1))
      ∧ r.2.sem = fun _ => 0)

def quiescent_MlaOutReferenceIdeal [hMlaOutReferenceIdeal : Cert.MlaOutReferenceIdeal.Facts] : Prop :=
  ∀ (m : (ℓ : Loc Cert.MlaOutReferenceIdeal.nD Cert.MlaOutReferenceIdeal.τ Cert.MlaOutReferenceIdeal.sig) → Buf (Elt Ideal) ℓ) (g : Dev Cert.MlaOutReferenceIdeal.nD → PrngReg), Pre_MlaOutReferenceIdeal m →
    θ_run (Cert.MlaOutReferenceIdeal.defs (F := Ideal)) (onTc (τ := Cert.MlaOutReferenceIdeal.τ) (Cert.MlaOutReferenceIdeal.main (F := Ideal))) ⟨m, fun _ => 0, g⟩ (fun r => (∀ c : Dev Cert.MlaOutReferenceIdeal.nD,
      r.2.mem ((c.tc : Thread Cert.MlaOutReferenceIdeal.nD Cert.MlaOutReferenceIdeal.τ).loc Cert.MlaOutReferenceIdeal.main_arg0) = m ((c.tc : Thread Cert.MlaOutReferenceIdeal.nD Cert.MlaOutReferenceIdeal.τ).loc Cert.MlaOutReferenceIdeal.main_arg0)
      ∧ r.2.mem ((c.tc : Thread Cert.MlaOutReferenceIdeal.nD Cert.MlaOutReferenceIdeal.τ).loc Cert.MlaOutReferenceIdeal.main_arg1) = m ((c.tc : Thread Cert.MlaOutReferenceIdeal.nD Cert.MlaOutReferenceIdeal.τ).loc Cert.MlaOutReferenceIdeal.main_arg1))
      ∧ r.2.sem = fun _ => 0)

def quiescent_MlaDoKernel [hMlaDoKernel : Cert.MlaDoKernel.Facts] : Prop :=
  ∀ (m : (ℓ : Loc Cert.MlaDoKernel.nD Cert.MlaDoKernel.τ Cert.MlaDoKernel.sig) → Buf (Elt Bits) ℓ) (g : Dev Cert.MlaDoKernel.nD → PrngReg), Pre_MlaDoKernel m →
    θ_run (Cert.MlaDoKernel.defs (F := Bits)) (onTc (τ := Cert.MlaDoKernel.τ) (Cert.MlaDoKernel.main (F := Bits))) ⟨m, fun _ => 0, g⟩ (fun r => (∀ c : Dev Cert.MlaDoKernel.nD,
      r.2.mem ((c.tc : Thread Cert.MlaDoKernel.nD Cert.MlaDoKernel.τ).loc Cert.MlaDoKernel.main_arg0) = m ((c.tc : Thread Cert.MlaDoKernel.nD Cert.MlaDoKernel.τ).loc Cert.MlaDoKernel.main_arg0)
      ∧ r.2.mem ((c.tc : Thread Cert.MlaDoKernel.nD Cert.MlaDoKernel.τ).loc Cert.MlaDoKernel.main_arg1) = m ((c.tc : Thread Cert.MlaDoKernel.nD Cert.MlaDoKernel.τ).loc Cert.MlaDoKernel.main_arg1))
      ∧ r.2.sem = fun _ => 0)

def quiescent_MlaDoKernelIdeal [hMlaDoKernelIdeal : Cert.MlaDoKernelIdeal.Facts] : Prop :=
  ∀ (m : (ℓ : Loc Cert.MlaDoKernelIdeal.nD Cert.MlaDoKernelIdeal.τ Cert.MlaDoKernelIdeal.sig) → Buf (Elt Ideal) ℓ) (g : Dev Cert.MlaDoKernelIdeal.nD → PrngReg), Pre_MlaDoKernelIdeal m →
    θ_run (Cert.MlaDoKernelIdeal.defs (F := Ideal)) (onTc (τ := Cert.MlaDoKernelIdeal.τ) (Cert.MlaDoKernelIdeal.main (F := Ideal))) ⟨m, fun _ => 0, g⟩ (fun r => (∀ c : Dev Cert.MlaDoKernelIdeal.nD,
      r.2.mem ((c.tc : Thread Cert.MlaDoKernelIdeal.nD Cert.MlaDoKernelIdeal.τ).loc Cert.MlaDoKernelIdeal.main_arg0) = m ((c.tc : Thread Cert.MlaDoKernelIdeal.nD Cert.MlaDoKernelIdeal.τ).loc Cert.MlaDoKernelIdeal.main_arg0)
      ∧ r.2.mem ((c.tc : Thread Cert.MlaDoKernelIdeal.nD Cert.MlaDoKernelIdeal.τ).loc Cert.MlaDoKernelIdeal.main_arg1) = m ((c.tc : Thread Cert.MlaDoKernelIdeal.nD Cert.MlaDoKernelIdeal.τ).loc Cert.MlaDoKernelIdeal.main_arg1))
      ∧ r.2.sem = fun _ => 0)

def quiescent_MlaDoReferenceIdeal [hMlaDoReferenceIdeal : Cert.MlaDoReferenceIdeal.Facts] : Prop :=
  ∀ (m : (ℓ : Loc Cert.MlaDoReferenceIdeal.nD Cert.MlaDoReferenceIdeal.τ Cert.MlaDoReferenceIdeal.sig) → Buf (Elt Ideal) ℓ) (g : Dev Cert.MlaDoReferenceIdeal.nD → PrngReg), Pre_MlaDoReferenceIdeal m →
    θ_run (Cert.MlaDoReferenceIdeal.defs (F := Ideal)) (onTc (τ := Cert.MlaDoReferenceIdeal.τ) (Cert.MlaDoReferenceIdeal.main (F := Ideal))) ⟨m, fun _ => 0, g⟩ (fun r => (∀ c : Dev Cert.MlaDoReferenceIdeal.nD,
      r.2.mem ((c.tc : Thread Cert.MlaDoReferenceIdeal.nD Cert.MlaDoReferenceIdeal.τ).loc Cert.MlaDoReferenceIdeal.main_arg0) = m ((c.tc : Thread Cert.MlaDoReferenceIdeal.nD Cert.MlaDoReferenceIdeal.τ).loc Cert.MlaDoReferenceIdeal.main_arg0)
      ∧ r.2.mem ((c.tc : Thread Cert.MlaDoReferenceIdeal.nD Cert.MlaDoReferenceIdeal.τ).loc Cert.MlaDoReferenceIdeal.main_arg1) = m ((c.tc : Thread Cert.MlaDoReferenceIdeal.nD Cert.MlaDoReferenceIdeal.τ).loc Cert.MlaDoReferenceIdeal.main_arg1))
      ∧ r.2.sem = fun _ => 0)

def quiescent_MlaDwoutKernel [hMlaDwoutKernel : Cert.MlaDwoutKernel.Facts] : Prop :=
  ∀ (m : (ℓ : Loc Cert.MlaDwoutKernel.nD Cert.MlaDwoutKernel.τ Cert.MlaDwoutKernel.sig) → Buf (Elt Bits) ℓ) (g : Dev Cert.MlaDwoutKernel.nD → PrngReg), Pre_MlaDwoutKernel m →
    θ_run (Cert.MlaDwoutKernel.defs (F := Bits)) (onTc (τ := Cert.MlaDwoutKernel.τ) (Cert.MlaDwoutKernel.main (F := Bits))) ⟨m, fun _ => 0, g⟩ (fun r => (∀ c : Dev Cert.MlaDwoutKernel.nD,
      r.2.mem ((c.tc : Thread Cert.MlaDwoutKernel.nD Cert.MlaDwoutKernel.τ).loc Cert.MlaDwoutKernel.main_arg0) = m ((c.tc : Thread Cert.MlaDwoutKernel.nD Cert.MlaDwoutKernel.τ).loc Cert.MlaDwoutKernel.main_arg0)
      ∧ r.2.mem ((c.tc : Thread Cert.MlaDwoutKernel.nD Cert.MlaDwoutKernel.τ).loc Cert.MlaDwoutKernel.main_arg1) = m ((c.tc : Thread Cert.MlaDwoutKernel.nD Cert.MlaDwoutKernel.τ).loc Cert.MlaDwoutKernel.main_arg1))
      ∧ r.2.sem = fun _ => 0)

def quiescent_MlaDwoutKernelIdeal [hMlaDwoutKernelIdeal : Cert.MlaDwoutKernelIdeal.Facts] : Prop :=
  ∀ (m : (ℓ : Loc Cert.MlaDwoutKernelIdeal.nD Cert.MlaDwoutKernelIdeal.τ Cert.MlaDwoutKernelIdeal.sig) → Buf (Elt Ideal) ℓ) (g : Dev Cert.MlaDwoutKernelIdeal.nD → PrngReg), Pre_MlaDwoutKernelIdeal m →
    θ_run (Cert.MlaDwoutKernelIdeal.defs (F := Ideal)) (onTc (τ := Cert.MlaDwoutKernelIdeal.τ) (Cert.MlaDwoutKernelIdeal.main (F := Ideal))) ⟨m, fun _ => 0, g⟩ (fun r => (∀ c : Dev Cert.MlaDwoutKernelIdeal.nD,
      r.2.mem ((c.tc : Thread Cert.MlaDwoutKernelIdeal.nD Cert.MlaDwoutKernelIdeal.τ).loc Cert.MlaDwoutKernelIdeal.main_arg0) = m ((c.tc : Thread Cert.MlaDwoutKernelIdeal.nD Cert.MlaDwoutKernelIdeal.τ).loc Cert.MlaDwoutKernelIdeal.main_arg0)
      ∧ r.2.mem ((c.tc : Thread Cert.MlaDwoutKernelIdeal.nD Cert.MlaDwoutKernelIdeal.τ).loc Cert.MlaDwoutKernelIdeal.main_arg1) = m ((c.tc : Thread Cert.MlaDwoutKernelIdeal.nD Cert.MlaDwoutKernelIdeal.τ).loc Cert.MlaDwoutKernelIdeal.main_arg1))
      ∧ r.2.sem = fun _ => 0)

def quiescent_MlaDwoutReferenceIdeal [hMlaDwoutReferenceIdeal : Cert.MlaDwoutReferenceIdeal.Facts] : Prop :=
  ∀ (m : (ℓ : Loc Cert.MlaDwoutReferenceIdeal.nD Cert.MlaDwoutReferenceIdeal.τ Cert.MlaDwoutReferenceIdeal.sig) → Buf (Elt Ideal) ℓ) (g : Dev Cert.MlaDwoutReferenceIdeal.nD → PrngReg), Pre_MlaDwoutReferenceIdeal m →
    θ_run (Cert.MlaDwoutReferenceIdeal.defs (F := Ideal)) (onTc (τ := Cert.MlaDwoutReferenceIdeal.τ) (Cert.MlaDwoutReferenceIdeal.main (F := Ideal))) ⟨m, fun _ => 0, g⟩ (fun r => (∀ c : Dev Cert.MlaDwoutReferenceIdeal.nD,
      r.2.mem ((c.tc : Thread Cert.MlaDwoutReferenceIdeal.nD Cert.MlaDwoutReferenceIdeal.τ).loc Cert.MlaDwoutReferenceIdeal.main_arg0) = m ((c.tc : Thread Cert.MlaDwoutReferenceIdeal.nD Cert.MlaDwoutReferenceIdeal.τ).loc Cert.MlaDwoutReferenceIdeal.main_arg0)
      ∧ r.2.mem ((c.tc : Thread Cert.MlaDwoutReferenceIdeal.nD Cert.MlaDwoutReferenceIdeal.τ).loc Cert.MlaDwoutReferenceIdeal.main_arg1) = m ((c.tc : Thread Cert.MlaDwoutReferenceIdeal.nD Cert.MlaDwoutReferenceIdeal.τ).loc Cert.MlaDwoutReferenceIdeal.main_arg1))
      ∧ r.2.sem = fun _ => 0)

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)) →
    ∃ (v0 : (c : Dev Cert.GateKernelIdeal.nD) → Buf (Elt Ideal) ((c.tc : Thread Cert.GateKernelIdeal.nD Cert.GateKernelIdeal.τ).loc Cert.GateKernelIdeal.main_v0_0)) (v1 : (c : Dev Cert.GateKernelIdeal.nD) → Buf (Elt Ideal) ((c.tc : Thread Cert.GateKernelIdeal.nD Cert.GateKernelIdeal.τ).loc Cert.GateKernelIdeal.main_v0_1)) (v2 : (c : Dev Cert.GateKernelIdeal.nD) → Buf (Elt Ideal) ((c.tc : Thread Cert.GateKernelIdeal.nD Cert.GateKernelIdeal.τ).loc Cert.GateKernelIdeal.main_v0_2)) (v3 : (c : Dev Cert.GateKernelIdeal.nD) → Buf (Elt Ideal) ((c.tc : Thread Cert.GateKernelIdeal.nD Cert.GateKernelIdeal.τ).loc Cert.GateKernelIdeal.main_v0_3)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v0_0) = v0 c
          ∧ r.2.mem ((c.tc : Thread Cert.GateKernelIdeal.nD Cert.GateKernelIdeal.τ).loc Cert.GateKernelIdeal.main_v0_1) = v1 c
          ∧ r.2.mem ((c.tc : Thread Cert.GateKernelIdeal.nD Cert.GateKernelIdeal.τ).loc Cert.GateKernelIdeal.main_v0_2) = v2 c
          ∧ r.2.mem ((c.tc : Thread Cert.GateKernelIdeal.nD Cert.GateKernelIdeal.τ).loc Cert.GateKernelIdeal.main_v0_3) = v3 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v36) = v0 c
          ∧ r.2.mem ((c.tc : Thread Cert.GateReferenceIdeal.nD Cert.GateReferenceIdeal.τ).loc Cert.GateReferenceIdeal.main_v37) = v1 c
          ∧ r.2.mem ((c.tc : Thread Cert.GateReferenceIdeal.nD Cert.GateReferenceIdeal.τ).loc Cert.GateReferenceIdeal.main_v38) = v2 c
          ∧ r.2.mem ((c.tc : Thread Cert.GateReferenceIdeal.nD Cert.GateReferenceIdeal.τ).loc Cert.GateReferenceIdeal.main_v34) = v3 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_FfnDhRmsKernel_FfnDhRmsKernelIdeal : Prop :=
  True

def algebraic_FfnDhRmsKernelIdeal_FfnDhRmsReferenceIdeal_pre_ffn_dh_rms_finite [hFfnDhRmsKernelIdeal : Cert.FfnDhRmsKernelIdeal.Facts] [hFfnDhRmsReferenceIdeal : Cert.FfnDhRmsReferenceIdeal.Facts] [hPre_ffn_dh_rms_finite : Cert.Pre_ffn_dh_rms_finite.Facts] : Prop :=
  ∀ (m : (ℓ : Loc Cert.FfnDhRmsKernelIdeal.nD Cert.FfnDhRmsKernelIdeal.τ Cert.FfnDhRmsKernelIdeal.sig) → Buf (Elt Ideal) ℓ) (g : Dev Cert.FfnDhRmsKernelIdeal.nD → PrngReg)
    (m' : (ℓ : Loc Cert.FfnDhRmsReferenceIdeal.nD Cert.FfnDhRmsReferenceIdeal.τ Cert.FfnDhRmsReferenceIdeal.sig) → Buf (Elt Ideal) ℓ) (g' : Dev Cert.FfnDhRmsReferenceIdeal.nD → PrngReg), Pre_FfnDhRmsKernelIdeal_ffn_dh_rms_finite m →
    (∀ c : Dev Cert.FfnDhRmsKernelIdeal.nD,
      m' ((c.tc : Thread Cert.FfnDhRmsReferenceIdeal.nD Cert.FfnDhRmsReferenceIdeal.τ).loc Cert.FfnDhRmsReferenceIdeal.main_arg0) = m ((c.tc : Thread Cert.FfnDhRmsKernelIdeal.nD Cert.FfnDhRmsKernelIdeal.τ).loc Cert.FfnDhRmsKernelIdeal.main_arg0)
      ∧ m' ((c.tc : Thread Cert.FfnDhRmsReferenceIdeal.nD Cert.FfnDhRmsReferenceIdeal.τ).loc Cert.FfnDhRmsReferenceIdeal.main_arg1) = m ((c.tc : Thread Cert.FfnDhRmsKernelIdeal.nD Cert.FfnDhRmsKernelIdeal.τ).loc Cert.FfnDhRmsKernelIdeal.main_arg1)
      ∧ m' ((c.tc : Thread Cert.FfnDhRmsReferenceIdeal.nD Cert.FfnDhRmsReferenceIdeal.τ).loc Cert.FfnDhRmsReferenceIdeal.main_arg2) = m ((c.tc : Thread Cert.FfnDhRmsKernelIdeal.nD Cert.FfnDhRmsKernelIdeal.τ).loc Cert.FfnDhRmsKernelIdeal.main_arg2)
      ∧ m' ((c.tc : Thread Cert.FfnDhRmsReferenceIdeal.nD Cert.FfnDhRmsReferenceIdeal.τ).loc Cert.FfnDhRmsReferenceIdeal.main_arg3) = m ((c.tc : Thread Cert.FfnDhRmsKernelIdeal.nD Cert.FfnDhRmsKernelIdeal.τ).loc Cert.FfnDhRmsKernelIdeal.main_arg3)
      ∧ m' ((c.tc : Thread Cert.FfnDhRmsReferenceIdeal.nD Cert.FfnDhRmsReferenceIdeal.τ).loc Cert.FfnDhRmsReferenceIdeal.main_arg4) = m ((c.tc : Thread Cert.FfnDhRmsKernelIdeal.nD Cert.FfnDhRmsKernelIdeal.τ).loc Cert.FfnDhRmsKernelIdeal.main_arg4)
      ∧ m' ((c.tc : Thread Cert.FfnDhRmsReferenceIdeal.nD Cert.FfnDhRmsReferenceIdeal.τ).loc Cert.FfnDhRmsReferenceIdeal.main_arg5) = m ((c.tc : Thread Cert.FfnDhRmsKernelIdeal.nD Cert.FfnDhRmsKernelIdeal.τ).loc Cert.FfnDhRmsKernelIdeal.main_arg5)
      ∧ m' ((c.tc : Thread Cert.FfnDhRmsReferenceIdeal.nD Cert.FfnDhRmsReferenceIdeal.τ).loc Cert.FfnDhRmsReferenceIdeal.main_arg6) = m ((c.tc : Thread Cert.FfnDhRmsKernelIdeal.nD Cert.FfnDhRmsKernelIdeal.τ).loc Cert.FfnDhRmsKernelIdeal.main_arg6)) →
    ∃ (v0 : (c : Dev Cert.FfnDhRmsKernelIdeal.nD) → Buf (Elt Ideal) ((c.tc : Thread Cert.FfnDhRmsKernelIdeal.nD Cert.FfnDhRmsKernelIdeal.τ).loc Cert.FfnDhRmsKernelIdeal.main_v6_0)) (v1 : (c : Dev Cert.FfnDhRmsKernelIdeal.nD) → Buf (Elt Ideal) ((c.tc : Thread Cert.FfnDhRmsKernelIdeal.nD Cert.FfnDhRmsKernelIdeal.τ).loc Cert.FfnDhRmsKernelIdeal.main_v6_1)),
      θ_run (Cert.FfnDhRmsKernelIdeal.defs (F := Ideal)) (onTc (τ := Cert.FfnDhRmsKernelIdeal.τ) (Cert.FfnDhRmsKernelIdeal.main (F := Ideal))) ⟨m, fun _ => 0, g⟩ (fun r => ∀ c : Dev Cert.FfnDhRmsKernelIdeal.nD,
          r.2.mem ((c.tc : Thread Cert.FfnDhRmsKernelIdeal.nD Cert.FfnDhRmsKernelIdeal.τ).loc Cert.FfnDhRmsKernelIdeal.main_v6_0) = v0 c
          ∧ r.2.mem ((c.tc : Thread Cert.FfnDhRmsKernelIdeal.nD Cert.FfnDhRmsKernelIdeal.τ).loc Cert.FfnDhRmsKernelIdeal.main_v6_1) = v1 c
          ∧ r.2.mem ((c.tc : Thread Cert.FfnDhRmsKernelIdeal.nD Cert.FfnDhRmsKernelIdeal.τ).loc Cert.FfnDhRmsKernelIdeal.main_arg0) = m ((c.tc : Thread Cert.FfnDhRmsKernelIdeal.nD Cert.FfnDhRmsKernelIdeal.τ).loc Cert.FfnDhRmsKernelIdeal.main_arg0)
          ∧ r.2.mem ((c.tc : Thread Cert.FfnDhRmsKernelIdeal.nD Cert.FfnDhRmsKernelIdeal.τ).loc Cert.FfnDhRmsKernelIdeal.main_arg1) = m ((c.tc : Thread Cert.FfnDhRmsKernelIdeal.nD Cert.FfnDhRmsKernelIdeal.τ).loc Cert.FfnDhRmsKernelIdeal.main_arg1)
          ∧ r.2.mem ((c.tc : Thread Cert.FfnDhRmsKernelIdeal.nD Cert.FfnDhRmsKernelIdeal.τ).loc Cert.FfnDhRmsKernelIdeal.main_arg2) = m ((c.tc : Thread Cert.FfnDhRmsKernelIdeal.nD Cert.FfnDhRmsKernelIdeal.τ).loc Cert.FfnDhRmsKernelIdeal.main_arg2)
          ∧ r.2.mem ((c.tc : Thread Cert.FfnDhRmsKernelIdeal.nD Cert.FfnDhRmsKernelIdeal.τ).loc Cert.FfnDhRmsKernelIdeal.main_arg3) = m ((c.tc : Thread Cert.FfnDhRmsKernelIdeal.nD Cert.FfnDhRmsKernelIdeal.τ).loc Cert.FfnDhRmsKernelIdeal.main_arg3)
          ∧ r.2.mem ((c.tc : Thread Cert.FfnDhRmsKernelIdeal.nD Cert.FfnDhRmsKernelIdeal.τ).loc Cert.FfnDhRmsKernelIdeal.main_arg4) = m ((c.tc : Thread Cert.FfnDhRmsKernelIdeal.nD Cert.FfnDhRmsKernelIdeal.τ).loc Cert.FfnDhRmsKernelIdeal.main_arg4)
          ∧ r.2.mem ((c.tc : Thread Cert.FfnDhRmsKernelIdeal.nD Cert.FfnDhRmsKernelIdeal.τ).loc Cert.FfnDhRmsKernelIdeal.main_arg5) = m ((c.tc : Thread Cert.FfnDhRmsKernelIdeal.nD Cert.FfnDhRmsKernelIdeal.τ).loc Cert.FfnDhRmsKernelIdeal.main_arg5)
          ∧ r.2.mem ((c.tc : Thread Cert.FfnDhRmsKernelIdeal.nD Cert.FfnDhRmsKernelIdeal.τ).loc Cert.FfnDhRmsKernelIdeal.main_arg6) = m ((c.tc : Thread Cert.FfnDhRmsKernelIdeal.nD Cert.FfnDhRmsKernelIdeal.τ).loc Cert.FfnDhRmsKernelIdeal.main_arg6))
      ∧ θ_run (Cert.FfnDhRmsReferenceIdeal.defs (F := Ideal)) (onTc (τ := Cert.FfnDhRmsReferenceIdeal.τ) (Cert.FfnDhRmsReferenceIdeal.main (F := Ideal))) ⟨m', fun _ => 0, g'⟩ (fun r => ∀ c : Dev Cert.FfnDhRmsReferenceIdeal.nD,
          r.2.mem ((c.tc : Thread Cert.FfnDhRmsReferenceIdeal.nD Cert.FfnDhRmsReferenceIdeal.τ).loc Cert.FfnDhRmsReferenceIdeal.main_v43) = v0 c
          ∧ r.2.mem ((c.tc : Thread Cert.FfnDhRmsReferenceIdeal.nD Cert.FfnDhRmsReferenceIdeal.τ).loc Cert.FfnDhRmsReferenceIdeal.main_v44) = v1 c
          ∧ r.2.mem ((c.tc : Thread Cert.FfnDhRmsReferenceIdeal.nD Cert.FfnDhRmsReferenceIdeal.τ).loc Cert.FfnDhRmsReferenceIdeal.main_arg0) = m' ((c.tc : Thread Cert.FfnDhRmsReferenceIdeal.nD Cert.FfnDhRmsReferenceIdeal.τ).loc Cert.FfnDhRmsReferenceIdeal.main_arg0)
          ∧ r.2.mem ((c.tc : Thread Cert.FfnDhRmsReferenceIdeal.nD Cert.FfnDhRmsReferenceIdeal.τ).loc Cert.FfnDhRmsReferenceIdeal.main_arg1) = m' ((c.tc : Thread Cert.FfnDhRmsReferenceIdeal.nD Cert.FfnDhRmsReferenceIdeal.τ).loc Cert.FfnDhRmsReferenceIdeal.main_arg1)
          ∧ r.2.mem ((c.tc : Thread Cert.FfnDhRmsReferenceIdeal.nD Cert.FfnDhRmsReferenceIdeal.τ).loc Cert.FfnDhRmsReferenceIdeal.main_arg2) = m' ((c.tc : Thread Cert.FfnDhRmsReferenceIdeal.nD Cert.FfnDhRmsReferenceIdeal.τ).loc Cert.FfnDhRmsReferenceIdeal.main_arg2)
          ∧ r.2.mem ((c.tc : Thread Cert.FfnDhRmsReferenceIdeal.nD Cert.FfnDhRmsReferenceIdeal.τ).loc Cert.FfnDhRmsReferenceIdeal.main_arg3) = m' ((c.tc : Thread Cert.FfnDhRmsReferenceIdeal.nD Cert.FfnDhRmsReferenceIdeal.τ).loc Cert.FfnDhRmsReferenceIdeal.main_arg3)
          ∧ r.2.mem ((c.tc : Thread Cert.FfnDhRmsReferenceIdeal.nD Cert.FfnDhRmsReferenceIdeal.τ).loc Cert.FfnDhRmsReferenceIdeal.main_arg4) = m' ((c.tc : Thread Cert.FfnDhRmsReferenceIdeal.nD Cert.FfnDhRmsReferenceIdeal.τ).loc Cert.FfnDhRmsReferenceIdeal.main_arg4)
          ∧ r.2.mem ((c.tc : Thread Cert.FfnDhRmsReferenceIdeal.nD Cert.FfnDhRmsReferenceIdeal.τ).loc Cert.FfnDhRmsReferenceIdeal.main_arg5) = m' ((c.tc : Thread Cert.FfnDhRmsReferenceIdeal.nD Cert.FfnDhRmsReferenceIdeal.τ).loc Cert.FfnDhRmsReferenceIdeal.main_arg5)
          ∧ r.2.mem ((c.tc : Thread Cert.FfnDhRmsReferenceIdeal.nD Cert.FfnDhRmsReferenceIdeal.τ).loc Cert.FfnDhRmsReferenceIdeal.main_arg6) = m' ((c.tc : Thread Cert.FfnDhRmsReferenceIdeal.nD Cert.FfnDhRmsReferenceIdeal.τ).loc Cert.FfnDhRmsReferenceIdeal.main_arg6))

def preserves_FfnBwdUpKernel_FfnBwdUpKernelIdeal : Prop :=
  True

def algebraic_FfnBwdUpKernelIdeal_FfnBwdUpReferenceIdeal_pre_ffn_bwd_up_finite [hFfnBwdUpKernelIdeal : Cert.FfnBwdUpKernelIdeal.Facts] [hFfnBwdUpReferenceIdeal : Cert.FfnBwdUpReferenceIdeal.Facts] [hPre_ffn_bwd_up_finite : Cert.Pre_ffn_bwd_up_finite.Facts] : Prop :=
  ∀ (m : (ℓ : Loc Cert.FfnBwdUpKernelIdeal.nD Cert.FfnBwdUpKernelIdeal.τ Cert.FfnBwdUpKernelIdeal.sig) → Buf (Elt Ideal) ℓ) (g : Dev Cert.FfnBwdUpKernelIdeal.nD → PrngReg)
    (m' : (ℓ : Loc Cert.FfnBwdUpReferenceIdeal.nD Cert.FfnBwdUpReferenceIdeal.τ Cert.FfnBwdUpReferenceIdeal.sig) → Buf (Elt Ideal) ℓ) (g' : Dev Cert.FfnBwdUpReferenceIdeal.nD → PrngReg), Pre_FfnBwdUpKernelIdeal_ffn_bwd_up_finite m →
    (∀ c : Dev Cert.FfnBwdUpKernelIdeal.nD,
      m' ((c.tc : Thread Cert.FfnBwdUpReferenceIdeal.nD Cert.FfnBwdUpReferenceIdeal.τ).loc Cert.FfnBwdUpReferenceIdeal.main_arg0) = m ((c.tc : Thread Cert.FfnBwdUpKernelIdeal.nD Cert.FfnBwdUpKernelIdeal.τ).loc Cert.FfnBwdUpKernelIdeal.main_arg0)
      ∧ m' ((c.tc : Thread Cert.FfnBwdUpReferenceIdeal.nD Cert.FfnBwdUpReferenceIdeal.τ).loc Cert.FfnBwdUpReferenceIdeal.main_arg1) = m ((c.tc : Thread Cert.FfnBwdUpKernelIdeal.nD Cert.FfnBwdUpKernelIdeal.τ).loc Cert.FfnBwdUpKernelIdeal.main_arg1)
      ∧ m' ((c.tc : Thread Cert.FfnBwdUpReferenceIdeal.nD Cert.FfnBwdUpReferenceIdeal.τ).loc Cert.FfnBwdUpReferenceIdeal.main_arg2) = m ((c.tc : Thread Cert.FfnBwdUpKernelIdeal.nD Cert.FfnBwdUpKernelIdeal.τ).loc Cert.FfnBwdUpKernelIdeal.main_arg2)
      ∧ m' ((c.tc : Thread Cert.FfnBwdUpReferenceIdeal.nD Cert.FfnBwdUpReferenceIdeal.τ).loc Cert.FfnBwdUpReferenceIdeal.main_arg3) = m ((c.tc : Thread Cert.FfnBwdUpKernelIdeal.nD Cert.FfnBwdUpKernelIdeal.τ).loc Cert.FfnBwdUpKernelIdeal.main_arg3)) →
    ∃ (v0 : (c : Dev Cert.FfnBwdUpKernelIdeal.nD) → Buf (Elt Ideal) ((c.tc : Thread Cert.FfnBwdUpKernelIdeal.nD Cert.FfnBwdUpKernelIdeal.τ).loc Cert.FfnBwdUpKernelIdeal.main_v6_0)) (v1 : (c : Dev Cert.FfnBwdUpKernelIdeal.nD) → Buf (Elt Ideal) ((c.tc : Thread Cert.FfnBwdUpKernelIdeal.nD Cert.FfnBwdUpKernelIdeal.τ).loc Cert.FfnBwdUpKernelIdeal.main_v6_1)),
      θ_run (Cert.FfnBwdUpKernelIdeal.defs (F := Ideal)) (onTc (τ := Cert.FfnBwdUpKernelIdeal.τ) (Cert.FfnBwdUpKernelIdeal.main (F := Ideal))) ⟨m, fun _ => 0, g⟩ (fun r => ∀ c : Dev Cert.FfnBwdUpKernelIdeal.nD,
          r.2.mem ((c.tc : Thread Cert.FfnBwdUpKernelIdeal.nD Cert.FfnBwdUpKernelIdeal.τ).loc Cert.FfnBwdUpKernelIdeal.main_v6_0) = v0 c
          ∧ r.2.mem ((c.tc : Thread Cert.FfnBwdUpKernelIdeal.nD Cert.FfnBwdUpKernelIdeal.τ).loc Cert.FfnBwdUpKernelIdeal.main_v6_1) = v1 c
          ∧ r.2.mem ((c.tc : Thread Cert.FfnBwdUpKernelIdeal.nD Cert.FfnBwdUpKernelIdeal.τ).loc Cert.FfnBwdUpKernelIdeal.main_arg0) = m ((c.tc : Thread Cert.FfnBwdUpKernelIdeal.nD Cert.FfnBwdUpKernelIdeal.τ).loc Cert.FfnBwdUpKernelIdeal.main_arg0)
          ∧ r.2.mem ((c.tc : Thread Cert.FfnBwdUpKernelIdeal.nD Cert.FfnBwdUpKernelIdeal.τ).loc Cert.FfnBwdUpKernelIdeal.main_arg1) = m ((c.tc : Thread Cert.FfnBwdUpKernelIdeal.nD Cert.FfnBwdUpKernelIdeal.τ).loc Cert.FfnBwdUpKernelIdeal.main_arg1)
          ∧ r.2.mem ((c.tc : Thread Cert.FfnBwdUpKernelIdeal.nD Cert.FfnBwdUpKernelIdeal.τ).loc Cert.FfnBwdUpKernelIdeal.main_arg2) = m ((c.tc : Thread Cert.FfnBwdUpKernelIdeal.nD Cert.FfnBwdUpKernelIdeal.τ).loc Cert.FfnBwdUpKernelIdeal.main_arg2)
          ∧ r.2.mem ((c.tc : Thread Cert.FfnBwdUpKernelIdeal.nD Cert.FfnBwdUpKernelIdeal.τ).loc Cert.FfnBwdUpKernelIdeal.main_arg3) = m ((c.tc : Thread Cert.FfnBwdUpKernelIdeal.nD Cert.FfnBwdUpKernelIdeal.τ).loc Cert.FfnBwdUpKernelIdeal.main_arg3))
      ∧ θ_run (Cert.FfnBwdUpReferenceIdeal.defs (F := Ideal)) (onTc (τ := Cert.FfnBwdUpReferenceIdeal.τ) (Cert.FfnBwdUpReferenceIdeal.main (F := Ideal))) ⟨m', fun _ => 0, g'⟩ (fun r => ∀ c : Dev Cert.FfnBwdUpReferenceIdeal.nD,
          r.2.mem ((c.tc : Thread Cert.FfnBwdUpReferenceIdeal.nD Cert.FfnBwdUpReferenceIdeal.τ).loc Cert.FfnBwdUpReferenceIdeal.main_v11) = v0 c
          ∧ r.2.mem ((c.tc : Thread Cert.FfnBwdUpReferenceIdeal.nD Cert.FfnBwdUpReferenceIdeal.τ).loc Cert.FfnBwdUpReferenceIdeal.main_v12) = v1 c
          ∧ r.2.mem ((c.tc : Thread Cert.FfnBwdUpReferenceIdeal.nD Cert.FfnBwdUpReferenceIdeal.τ).loc Cert.FfnBwdUpReferenceIdeal.main_arg0) = m' ((c.tc : Thread Cert.FfnBwdUpReferenceIdeal.nD Cert.FfnBwdUpReferenceIdeal.τ).loc Cert.FfnBwdUpReferenceIdeal.main_arg0)
          ∧ r.2.mem ((c.tc : Thread Cert.FfnBwdUpReferenceIdeal.nD Cert.FfnBwdUpReferenceIdeal.τ).loc Cert.FfnBwdUpReferenceIdeal.main_arg1) = m' ((c.tc : Thread Cert.FfnBwdUpReferenceIdeal.nD Cert.FfnBwdUpReferenceIdeal.τ).loc Cert.FfnBwdUpReferenceIdeal.main_arg1)
          ∧ r.2.mem ((c.tc : Thread Cert.FfnBwdUpReferenceIdeal.nD Cert.FfnBwdUpReferenceIdeal.τ).loc Cert.FfnBwdUpReferenceIdeal.main_arg2) = m' ((c.tc : Thread Cert.FfnBwdUpReferenceIdeal.nD Cert.FfnBwdUpReferenceIdeal.τ).loc Cert.FfnBwdUpReferenceIdeal.main_arg2)
          ∧ r.2.mem ((c.tc : Thread Cert.FfnBwdUpReferenceIdeal.nD Cert.FfnBwdUpReferenceIdeal.τ).loc Cert.FfnBwdUpReferenceIdeal.main_arg3) = m' ((c.tc : Thread Cert.FfnBwdUpReferenceIdeal.nD Cert.FfnBwdUpReferenceIdeal.τ).loc Cert.FfnBwdUpReferenceIdeal.main_arg3))

def preserves_FfnDwgKernel_FfnDwgKernelIdeal : Prop :=
  True

def algebraic_FfnDwgKernelIdeal_FfnDwgReferenceIdeal [hFfnDwgKernelIdeal : Cert.FfnDwgKernelIdeal.Facts] [hFfnDwgReferenceIdeal : Cert.FfnDwgReferenceIdeal.Facts] : Prop :=
  ∀ (m : (ℓ : Loc Cert.FfnDwgKernelIdeal.nD Cert.FfnDwgKernelIdeal.τ Cert.FfnDwgKernelIdeal.sig) → Buf (Elt Ideal) ℓ) (g : Dev Cert.FfnDwgKernelIdeal.nD → PrngReg)
    (m' : (ℓ : Loc Cert.FfnDwgReferenceIdeal.nD Cert.FfnDwgReferenceIdeal.τ Cert.FfnDwgReferenceIdeal.sig) → Buf (Elt Ideal) ℓ) (g' : Dev Cert.FfnDwgReferenceIdeal.nD → PrngReg), Pre_FfnDwgKernelIdeal m →
    (∀ c : Dev Cert.FfnDwgKernelIdeal.nD,
      m' ((c.tc : Thread Cert.FfnDwgReferenceIdeal.nD Cert.FfnDwgReferenceIdeal.τ).loc Cert.FfnDwgReferenceIdeal.main_arg0) = m ((c.tc : Thread Cert.FfnDwgKernelIdeal.nD Cert.FfnDwgKernelIdeal.τ).loc Cert.FfnDwgKernelIdeal.main_arg0)
      ∧ m' ((c.tc : Thread Cert.FfnDwgReferenceIdeal.nD Cert.FfnDwgReferenceIdeal.τ).loc Cert.FfnDwgReferenceIdeal.main_arg1) = m ((c.tc : Thread Cert.FfnDwgKernelIdeal.nD Cert.FfnDwgKernelIdeal.τ).loc Cert.FfnDwgKernelIdeal.main_arg1)) →
    ∃ (v0 : (c : Dev Cert.FfnDwgKernelIdeal.nD) → Buf (Elt Ideal) ((c.tc : Thread Cert.FfnDwgKernelIdeal.nD Cert.FfnDwgKernelIdeal.τ).loc Cert.FfnDwgKernelIdeal.main_v0)),
      θ_run (Cert.FfnDwgKernelIdeal.defs (F := Ideal)) (onTc (τ := Cert.FfnDwgKernelIdeal.τ) (Cert.FfnDwgKernelIdeal.main (F := Ideal))) ⟨m, fun _ => 0, g⟩ (fun r => ∀ c : Dev Cert.FfnDwgKernelIdeal.nD,
          r.2.mem ((c.tc : Thread Cert.FfnDwgKernelIdeal.nD Cert.FfnDwgKernelIdeal.τ).loc Cert.FfnDwgKernelIdeal.main_v0) = v0 c
          ∧ r.2.mem ((c.tc : Thread Cert.FfnDwgKernelIdeal.nD Cert.FfnDwgKernelIdeal.τ).loc Cert.FfnDwgKernelIdeal.main_arg0) = m ((c.tc : Thread Cert.FfnDwgKernelIdeal.nD Cert.FfnDwgKernelIdeal.τ).loc Cert.FfnDwgKernelIdeal.main_arg0)
          ∧ r.2.mem ((c.tc : Thread Cert.FfnDwgKernelIdeal.nD Cert.FfnDwgKernelIdeal.τ).loc Cert.FfnDwgKernelIdeal.main_arg1) = m ((c.tc : Thread Cert.FfnDwgKernelIdeal.nD Cert.FfnDwgKernelIdeal.τ).loc Cert.FfnDwgKernelIdeal.main_arg1))
      ∧ θ_run (Cert.FfnDwgReferenceIdeal.defs (F := Ideal)) (onTc (τ := Cert.FfnDwgReferenceIdeal.τ) (Cert.FfnDwgReferenceIdeal.main (F := Ideal))) ⟨m', fun _ => 0, g'⟩ (fun r => ∀ c : Dev Cert.FfnDwgReferenceIdeal.nD,
          r.2.mem ((c.tc : Thread Cert.FfnDwgReferenceIdeal.nD Cert.FfnDwgReferenceIdeal.τ).loc Cert.FfnDwgReferenceIdeal.main_v7) = v0 c
          ∧ r.2.mem ((c.tc : Thread Cert.FfnDwgReferenceIdeal.nD Cert.FfnDwgReferenceIdeal.τ).loc Cert.FfnDwgReferenceIdeal.main_arg0) = m' ((c.tc : Thread Cert.FfnDwgReferenceIdeal.nD Cert.FfnDwgReferenceIdeal.τ).loc Cert.FfnDwgReferenceIdeal.main_arg0)
          ∧ r.2.mem ((c.tc : Thread Cert.FfnDwgReferenceIdeal.nD Cert.FfnDwgReferenceIdeal.τ).loc Cert.FfnDwgReferenceIdeal.main_arg1) = m' ((c.tc : Thread Cert.FfnDwgReferenceIdeal.nD Cert.FfnDwgReferenceIdeal.τ).loc Cert.FfnDwgReferenceIdeal.main_arg1))

def preserves_FfnDwdKernel_FfnDwdKernelIdeal : Prop :=
  True

def algebraic_FfnDwdKernelIdeal_FfnDwdReferenceIdeal [hFfnDwdKernelIdeal : Cert.FfnDwdKernelIdeal.Facts] [hFfnDwdReferenceIdeal : Cert.FfnDwdReferenceIdeal.Facts] : Prop :=
  ∀ (m : (ℓ : Loc Cert.FfnDwdKernelIdeal.nD Cert.FfnDwdKernelIdeal.τ Cert.FfnDwdKernelIdeal.sig) → Buf (Elt Ideal) ℓ) (g : Dev Cert.FfnDwdKernelIdeal.nD → PrngReg)
    (m' : (ℓ : Loc Cert.FfnDwdReferenceIdeal.nD Cert.FfnDwdReferenceIdeal.τ Cert.FfnDwdReferenceIdeal.sig) → Buf (Elt Ideal) ℓ) (g' : Dev Cert.FfnDwdReferenceIdeal.nD → PrngReg), Pre_FfnDwdKernelIdeal m →
    (∀ c : Dev Cert.FfnDwdKernelIdeal.nD,
      m' ((c.tc : Thread Cert.FfnDwdReferenceIdeal.nD Cert.FfnDwdReferenceIdeal.τ).loc Cert.FfnDwdReferenceIdeal.main_arg0) = m ((c.tc : Thread Cert.FfnDwdKernelIdeal.nD Cert.FfnDwdKernelIdeal.τ).loc Cert.FfnDwdKernelIdeal.main_arg0)
      ∧ m' ((c.tc : Thread Cert.FfnDwdReferenceIdeal.nD Cert.FfnDwdReferenceIdeal.τ).loc Cert.FfnDwdReferenceIdeal.main_arg1) = m ((c.tc : Thread Cert.FfnDwdKernelIdeal.nD Cert.FfnDwdKernelIdeal.τ).loc Cert.FfnDwdKernelIdeal.main_arg1)) →
    ∃ (v0 : (c : Dev Cert.FfnDwdKernelIdeal.nD) → Buf (Elt Ideal) ((c.tc : Thread Cert.FfnDwdKernelIdeal.nD Cert.FfnDwdKernelIdeal.τ).loc Cert.FfnDwdKernelIdeal.main_v0)),
      θ_run (Cert.FfnDwdKernelIdeal.defs (F := Ideal)) (onTc (τ := Cert.FfnDwdKernelIdeal.τ) (Cert.FfnDwdKernelIdeal.main (F := Ideal))) ⟨m, fun _ => 0, g⟩ (fun r => ∀ c : Dev Cert.FfnDwdKernelIdeal.nD,
          r.2.mem ((c.tc : Thread Cert.FfnDwdKernelIdeal.nD Cert.FfnDwdKernelIdeal.τ).loc Cert.FfnDwdKernelIdeal.main_v0) = v0 c
          ∧ r.2.mem ((c.tc : Thread Cert.FfnDwdKernelIdeal.nD Cert.FfnDwdKernelIdeal.τ).loc Cert.FfnDwdKernelIdeal.main_arg0) = m ((c.tc : Thread Cert.FfnDwdKernelIdeal.nD Cert.FfnDwdKernelIdeal.τ).loc Cert.FfnDwdKernelIdeal.main_arg0)
          ∧ r.2.mem ((c.tc : Thread Cert.FfnDwdKernelIdeal.nD Cert.FfnDwdKernelIdeal.τ).loc Cert.FfnDwdKernelIdeal.main_arg1) = m ((c.tc : Thread Cert.FfnDwdKernelIdeal.nD Cert.FfnDwdKernelIdeal.τ).loc Cert.FfnDwdKernelIdeal.main_arg1))
      ∧ θ_run (Cert.FfnDwdReferenceIdeal.defs (F := Ideal)) (onTc (τ := Cert.FfnDwdReferenceIdeal.τ) (Cert.FfnDwdReferenceIdeal.main (F := Ideal))) ⟨m', fun _ => 0, g'⟩ (fun r => ∀ c : Dev Cert.FfnDwdReferenceIdeal.nD,
          r.2.mem ((c.tc : Thread Cert.FfnDwdReferenceIdeal.nD Cert.FfnDwdReferenceIdeal.τ).loc Cert.FfnDwdReferenceIdeal.main_v9) = v0 c
          ∧ r.2.mem ((c.tc : Thread Cert.FfnDwdReferenceIdeal.nD Cert.FfnDwdReferenceIdeal.τ).loc Cert.FfnDwdReferenceIdeal.main_arg0) = m' ((c.tc : Thread Cert.FfnDwdReferenceIdeal.nD Cert.FfnDwdReferenceIdeal.τ).loc Cert.FfnDwdReferenceIdeal.main_arg0)
          ∧ r.2.mem ((c.tc : Thread Cert.FfnDwdReferenceIdeal.nD Cert.FfnDwdReferenceIdeal.τ).loc Cert.FfnDwdReferenceIdeal.main_arg1) = m' ((c.tc : Thread Cert.FfnDwdReferenceIdeal.nD Cert.FfnDwdReferenceIdeal.τ).loc Cert.FfnDwdReferenceIdeal.main_arg1))

def preserves_FfnUpKernel_FfnUpKernelIdeal : Prop :=
  True

def algebraic_FfnUpKernelIdeal_FfnUpReferenceIdeal_pre_ffn_up_finite [hFfnUpKernelIdeal : Cert.FfnUpKernelIdeal.Facts] [hFfnUpReferenceIdeal : Cert.FfnUpReferenceIdeal.Facts] [hPre_ffn_up_finite : Cert.Pre_ffn_up_finite.Facts] : Prop :=
  ∀ (m : (ℓ : Loc Cert.FfnUpKernelIdeal.nD Cert.FfnUpKernelIdeal.τ Cert.FfnUpKernelIdeal.sig) → Buf (Elt Ideal) ℓ) (g : Dev Cert.FfnUpKernelIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpKernelIdeal_ffn_up_finite m →
    (∀ c : Dev Cert.FfnUpKernelIdeal.nD,
      m' ((c.tc : Thread Cert.FfnUpReferenceIdeal.nD Cert.FfnUpReferenceIdeal.τ).loc Cert.FfnUpReferenceIdeal.main_arg0) = m ((c.tc : Thread Cert.FfnUpKernelIdeal.nD Cert.FfnUpKernelIdeal.τ).loc Cert.FfnUpKernelIdeal.main_arg0)
      ∧ m' ((c.tc : Thread Cert.FfnUpReferenceIdeal.nD Cert.FfnUpReferenceIdeal.τ).loc Cert.FfnUpReferenceIdeal.main_arg1) = m ((c.tc : Thread Cert.FfnUpKernelIdeal.nD Cert.FfnUpKernelIdeal.τ).loc Cert.FfnUpKernelIdeal.main_arg1)
      ∧ m' ((c.tc : Thread Cert.FfnUpReferenceIdeal.nD Cert.FfnUpReferenceIdeal.τ).loc Cert.FfnUpReferenceIdeal.main_arg2) = m ((c.tc : Thread Cert.FfnUpKernelIdeal.nD Cert.FfnUpKernelIdeal.τ).loc Cert.FfnUpKernelIdeal.main_arg2)) →
    ∃ (v0 : (c : Dev Cert.FfnUpKernelIdeal.nD) → Buf (Elt Ideal) ((c.tc : Thread Cert.FfnUpKernelIdeal.nD Cert.FfnUpKernelIdeal.τ).loc Cert.FfnUpKernelIdeal.main_v4_0)) (v1 : (c : Dev Cert.FfnUpKernelIdeal.nD) → Buf (Elt Ideal) ((c.tc : Thread Cert.FfnUpKernelIdeal.nD Cert.FfnUpKernelIdeal.τ).loc Cert.FfnUpKernelIdeal.main_v4_1)) (v2 : (c : Dev Cert.FfnUpKernelIdeal.nD) → Buf (Elt Ideal) ((c.tc : Thread Cert.FfnUpKernelIdeal.nD Cert.FfnUpKernelIdeal.τ).loc Cert.FfnUpKernelIdeal.main_v4_2)),
      θ_run (Cert.FfnUpKernelIdeal.defs (F := Ideal)) (onTc (τ := Cert.FfnUpKernelIdeal.τ) (Cert.FfnUpKernelIdeal.main (F := Ideal))) ⟨m, fun _ => 0, g⟩ (fun r => ∀ c : Dev Cert.FfnUpKernelIdeal.nD,
          r.2.mem ((c.tc : Thread Cert.FfnUpKernelIdeal.nD Cert.FfnUpKernelIdeal.τ).loc Cert.FfnUpKernelIdeal.main_v4_0) = v0 c
          ∧ r.2.mem ((c.tc : Thread Cert.FfnUpKernelIdeal.nD Cert.FfnUpKernelIdeal.τ).loc Cert.FfnUpKernelIdeal.main_v4_1) = v1 c
          ∧ r.2.mem ((c.tc : Thread Cert.FfnUpKernelIdeal.nD Cert.FfnUpKernelIdeal.τ).loc Cert.FfnUpKernelIdeal.main_v4_2) = v2 c
          ∧ r.2.mem ((c.tc : Thread Cert.FfnUpKernelIdeal.nD Cert.FfnUpKernelIdeal.τ).loc Cert.FfnUpKernelIdeal.main_arg0) = m ((c.tc : Thread Cert.FfnUpKernelIdeal.nD Cert.FfnUpKernelIdeal.τ).loc Cert.FfnUpKernelIdeal.main_arg0)
          ∧ r.2.mem ((c.tc : Thread Cert.FfnUpKernelIdeal.nD Cert.FfnUpKernelIdeal.τ).loc Cert.FfnUpKernelIdeal.main_arg1) = m ((c.tc : Thread Cert.FfnUpKernelIdeal.nD Cert.FfnUpKernelIdeal.τ).loc Cert.FfnUpKernelIdeal.main_arg1)
          ∧ r.2.mem ((c.tc : Thread Cert.FfnUpKernelIdeal.nD Cert.FfnUpKernelIdeal.τ).loc Cert.FfnUpKernelIdeal.main_arg2) = m ((c.tc : Thread Cert.FfnUpKernelIdeal.nD Cert.FfnUpKernelIdeal.τ).loc Cert.FfnUpKernelIdeal.main_arg2))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v5) = v0 c
          ∧ r.2.mem ((c.tc : Thread Cert.FfnUpReferenceIdeal.nD Cert.FfnUpReferenceIdeal.τ).loc Cert.FfnUpReferenceIdeal.main_v7) = v1 c
          ∧ r.2.mem ((c.tc : Thread Cert.FfnUpReferenceIdeal.nD Cert.FfnUpReferenceIdeal.τ).loc Cert.FfnUpReferenceIdeal.main_v9) = v2 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2))

def preserves_FfnDownNormKernel_FfnDownNormKernelIdeal : Prop :=
  True

def algebraic_FfnDownNormKernelIdeal_FfnDownNormReferenceIdeal [hFfnDownNormKernelIdeal : Cert.FfnDownNormKernelIdeal.Facts] [hFfnDownNormReferenceIdeal : Cert.FfnDownNormReferenceIdeal.Facts] : Prop :=
  ∀ (m : (ℓ : Loc Cert.FfnDownNormKernelIdeal.nD Cert.FfnDownNormKernelIdeal.τ Cert.FfnDownNormKernelIdeal.sig) → Buf (Elt Ideal) ℓ) (g : Dev Cert.FfnDownNormKernelIdeal.nD → PrngReg)
    (m' : (ℓ : Loc Cert.FfnDownNormReferenceIdeal.nD Cert.FfnDownNormReferenceIdeal.τ Cert.FfnDownNormReferenceIdeal.sig) → Buf (Elt Ideal) ℓ) (g' : Dev Cert.FfnDownNormReferenceIdeal.nD → PrngReg), Pre_FfnDownNormKernelIdeal m →
    (∀ c : Dev Cert.FfnDownNormKernelIdeal.nD,
      m' ((c.tc : Thread Cert.FfnDownNormReferenceIdeal.nD Cert.FfnDownNormReferenceIdeal.τ).loc Cert.FfnDownNormReferenceIdeal.main_arg0) = m ((c.tc : Thread Cert.FfnDownNormKernelIdeal.nD Cert.FfnDownNormKernelIdeal.τ).loc Cert.FfnDownNormKernelIdeal.main_arg0)
      ∧ m' ((c.tc : Thread Cert.FfnDownNormReferenceIdeal.nD Cert.FfnDownNormReferenceIdeal.τ).loc Cert.FfnDownNormReferenceIdeal.main_arg1) = m ((c.tc : Thread Cert.FfnDownNormKernelIdeal.nD Cert.FfnDownNormKernelIdeal.τ).loc Cert.FfnDownNormKernelIdeal.main_arg1)
      ∧ m' ((c.tc : Thread Cert.FfnDownNormReferenceIdeal.nD Cert.FfnDownNormReferenceIdeal.τ).loc Cert.FfnDownNormReferenceIdeal.main_arg2) = m ((c.tc : Thread Cert.FfnDownNormKernelIdeal.nD Cert.FfnDownNormKernelIdeal.τ).loc Cert.FfnDownNormKernelIdeal.main_arg2)
      ∧ m' ((c.tc : Thread Cert.FfnDownNormReferenceIdeal.nD Cert.FfnDownNormReferenceIdeal.τ).loc Cert.FfnDownNormReferenceIdeal.main_arg3) = m ((c.tc : Thread Cert.FfnDownNormKernelIdeal.nD Cert.FfnDownNormKernelIdeal.τ).loc Cert.FfnDownNormKernelIdeal.main_arg3)) →
    ∃ (v0 : (c : Dev Cert.FfnDownNormKernelIdeal.nD) → Buf (Elt Ideal) ((c.tc : Thread Cert.FfnDownNormKernelIdeal.nD Cert.FfnDownNormKernelIdeal.τ).loc Cert.FfnDownNormKernelIdeal.main_v2_0)) (v1 : (c : Dev Cert.FfnDownNormKernelIdeal.nD) → Buf (Elt Ideal) ((c.tc : Thread Cert.FfnDownNormKernelIdeal.nD Cert.FfnDownNormKernelIdeal.τ).loc Cert.FfnDownNormKernelIdeal.main_v2_1)),
      θ_run (Cert.FfnDownNormKernelIdeal.defs (F := Ideal)) (onTc (τ := Cert.FfnDownNormKernelIdeal.τ) (Cert.FfnDownNormKernelIdeal.main (F := Ideal))) ⟨m, fun _ => 0, g⟩ (fun r => ∀ c : Dev Cert.FfnDownNormKernelIdeal.nD,
          r.2.mem ((c.tc : Thread Cert.FfnDownNormKernelIdeal.nD Cert.FfnDownNormKernelIdeal.τ).loc Cert.FfnDownNormKernelIdeal.main_v2_0) = v0 c
          ∧ r.2.mem ((c.tc : Thread Cert.FfnDownNormKernelIdeal.nD Cert.FfnDownNormKernelIdeal.τ).loc Cert.FfnDownNormKernelIdeal.main_v2_1) = v1 c
          ∧ r.2.mem ((c.tc : Thread Cert.FfnDownNormKernelIdeal.nD Cert.FfnDownNormKernelIdeal.τ).loc Cert.FfnDownNormKernelIdeal.main_arg0) = m ((c.tc : Thread Cert.FfnDownNormKernelIdeal.nD Cert.FfnDownNormKernelIdeal.τ).loc Cert.FfnDownNormKernelIdeal.main_arg0)
          ∧ r.2.mem ((c.tc : Thread Cert.FfnDownNormKernelIdeal.nD Cert.FfnDownNormKernelIdeal.τ).loc Cert.FfnDownNormKernelIdeal.main_arg1) = m ((c.tc : Thread Cert.FfnDownNormKernelIdeal.nD Cert.FfnDownNormKernelIdeal.τ).loc Cert.FfnDownNormKernelIdeal.main_arg1)
          ∧ r.2.mem ((c.tc : Thread Cert.FfnDownNormKernelIdeal.nD Cert.FfnDownNormKernelIdeal.τ).loc Cert.FfnDownNormKernelIdeal.main_arg2) = m ((c.tc : Thread Cert.FfnDownNormKernelIdeal.nD Cert.FfnDownNormKernelIdeal.τ).loc Cert.FfnDownNormKernelIdeal.main_arg2)
          ∧ r.2.mem ((c.tc : Thread Cert.FfnDownNormKernelIdeal.nD Cert.FfnDownNormKernelIdeal.τ).loc Cert.FfnDownNormKernelIdeal.main_arg3) = m ((c.tc : Thread Cert.FfnDownNormKernelIdeal.nD Cert.FfnDownNormKernelIdeal.τ).loc Cert.FfnDownNormKernelIdeal.main_arg3))
      ∧ θ_run (Cert.FfnDownNormReferenceIdeal.defs (F := Ideal)) (onTc (τ := Cert.FfnDownNormReferenceIdeal.τ) (Cert.FfnDownNormReferenceIdeal.main (F := Ideal))) ⟨m', fun _ => 0, g'⟩ (fun r => ∀ c : Dev Cert.FfnDownNormReferenceIdeal.nD,
          r.2.mem ((c.tc : Thread Cert.FfnDownNormReferenceIdeal.nD Cert.FfnDownNormReferenceIdeal.τ).loc Cert.FfnDownNormReferenceIdeal.main_v4) = v0 c
          ∧ r.2.mem ((c.tc : Thread Cert.FfnDownNormReferenceIdeal.nD Cert.FfnDownNormReferenceIdeal.τ).loc Cert.FfnDownNormReferenceIdeal.main_v18) = v1 c
          ∧ r.2.mem ((c.tc : Thread Cert.FfnDownNormReferenceIdeal.nD Cert.FfnDownNormReferenceIdeal.τ).loc Cert.FfnDownNormReferenceIdeal.main_arg0) = m' ((c.tc : Thread Cert.FfnDownNormReferenceIdeal.nD Cert.FfnDownNormReferenceIdeal.τ).loc Cert.FfnDownNormReferenceIdeal.main_arg0)
          ∧ r.2.mem ((c.tc : Thread Cert.FfnDownNormReferenceIdeal.nD Cert.FfnDownNormReferenceIdeal.τ).loc Cert.FfnDownNormReferenceIdeal.main_arg1) = m' ((c.tc : Thread Cert.FfnDownNormReferenceIdeal.nD Cert.FfnDownNormReferenceIdeal.τ).loc Cert.FfnDownNormReferenceIdeal.main_arg1)
          ∧ r.2.mem ((c.tc : Thread Cert.FfnDownNormReferenceIdeal.nD Cert.FfnDownNormReferenceIdeal.τ).loc Cert.FfnDownNormReferenceIdeal.main_arg2) = m' ((c.tc : Thread Cert.FfnDownNormReferenceIdeal.nD Cert.FfnDownNormReferenceIdeal.τ).loc Cert.FfnDownNormReferenceIdeal.main_arg2)
          ∧ r.2.mem ((c.tc : Thread Cert.FfnDownNormReferenceIdeal.nD Cert.FfnDownNormReferenceIdeal.τ).loc Cert.FfnDownNormReferenceIdeal.main_arg3) = m' ((c.tc : Thread Cert.FfnDownNormReferenceIdeal.nD Cert.FfnDownNormReferenceIdeal.τ).loc Cert.FfnDownNormReferenceIdeal.main_arg3))

def preserves_FfnDownKernel_FfnDownKernelIdeal : Prop :=
  True

def algebraic_FfnDownKernelIdeal_FfnDownReferenceIdeal [hFfnDownKernelIdeal : Cert.FfnDownKernelIdeal.Facts] [hFfnDownReferenceIdeal : Cert.FfnDownReferenceIdeal.Facts] : Prop :=
  ∀ (m : (ℓ : Loc Cert.FfnDownKernelIdeal.nD Cert.FfnDownKernelIdeal.τ Cert.FfnDownKernelIdeal.sig) → Buf (Elt Ideal) ℓ) (g : Dev Cert.FfnDownKernelIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownKernelIdeal m →
    (∀ c : Dev Cert.FfnDownKernelIdeal.nD,
      m' ((c.tc : Thread Cert.FfnDownReferenceIdeal.nD Cert.FfnDownReferenceIdeal.τ).loc Cert.FfnDownReferenceIdeal.main_arg0) = m ((c.tc : Thread Cert.FfnDownKernelIdeal.nD Cert.FfnDownKernelIdeal.τ).loc Cert.FfnDownKernelIdeal.main_arg0)
      ∧ m' ((c.tc : Thread Cert.FfnDownReferenceIdeal.nD Cert.FfnDownReferenceIdeal.τ).loc Cert.FfnDownReferenceIdeal.main_arg1) = m ((c.tc : Thread Cert.FfnDownKernelIdeal.nD Cert.FfnDownKernelIdeal.τ).loc Cert.FfnDownKernelIdeal.main_arg1)
      ∧ m' ((c.tc : Thread Cert.FfnDownReferenceIdeal.nD Cert.FfnDownReferenceIdeal.τ).loc Cert.FfnDownReferenceIdeal.main_arg2) = m ((c.tc : Thread Cert.FfnDownKernelIdeal.nD Cert.FfnDownKernelIdeal.τ).loc Cert.FfnDownKernelIdeal.main_arg2)) →
    ∃ (v0 : (c : Dev Cert.FfnDownKernelIdeal.nD) → Buf (Elt Ideal) ((c.tc : Thread Cert.FfnDownKernelIdeal.nD Cert.FfnDownKernelIdeal.τ).loc Cert.FfnDownKernelIdeal.main_v1)),
      θ_run (Cert.FfnDownKernelIdeal.defs (F := Ideal)) (onTc (τ := Cert.FfnDownKernelIdeal.τ) (Cert.FfnDownKernelIdeal.main (F := Ideal))) ⟨m, fun _ => 0, g⟩ (fun r => ∀ c : Dev Cert.FfnDownKernelIdeal.nD,
          r.2.mem ((c.tc : Thread Cert.FfnDownKernelIdeal.nD Cert.FfnDownKernelIdeal.τ).loc Cert.FfnDownKernelIdeal.main_v1) = v0 c
          ∧ r.2.mem ((c.tc : Thread Cert.FfnDownKernelIdeal.nD Cert.FfnDownKernelIdeal.τ).loc Cert.FfnDownKernelIdeal.main_arg0) = m ((c.tc : Thread Cert.FfnDownKernelIdeal.nD Cert.FfnDownKernelIdeal.τ).loc Cert.FfnDownKernelIdeal.main_arg0)
          ∧ r.2.mem ((c.tc : Thread Cert.FfnDownKernelIdeal.nD Cert.FfnDownKernelIdeal.τ).loc Cert.FfnDownKernelIdeal.main_arg1) = m ((c.tc : Thread Cert.FfnDownKernelIdeal.nD Cert.FfnDownKernelIdeal.τ).loc Cert.FfnDownKernelIdeal.main_arg1)
          ∧ r.2.mem ((c.tc : Thread Cert.FfnDownKernelIdeal.nD Cert.FfnDownKernelIdeal.τ).loc Cert.FfnDownKernelIdeal.main_arg2) = m ((c.tc : Thread Cert.FfnDownKernelIdeal.nD Cert.FfnDownKernelIdeal.τ).loc Cert.FfnDownKernelIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v4) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_ProjDhRmsKernel_ProjDhRmsKernelIdeal : Prop :=
  True

def algebraic_ProjDhRmsKernelIdeal_ProjDhRmsReferenceIdeal_pre_proj_dh_rms_finite [hProjDhRmsKernelIdeal : Cert.ProjDhRmsKernelIdeal.Facts] [hProjDhRmsReferenceIdeal : Cert.ProjDhRmsReferenceIdeal.Facts] [hPre_proj_dh_rms_finite : Cert.Pre_proj_dh_rms_finite.Facts] : Prop :=
  ∀ (m : (ℓ : Loc Cert.ProjDhRmsKernelIdeal.nD Cert.ProjDhRmsKernelIdeal.τ Cert.ProjDhRmsKernelIdeal.sig) → Buf (Elt Ideal) ℓ) (g : Dev Cert.ProjDhRmsKernelIdeal.nD → PrngReg)
    (m' : (ℓ : Loc Cert.ProjDhRmsReferenceIdeal.nD Cert.ProjDhRmsReferenceIdeal.τ Cert.ProjDhRmsReferenceIdeal.sig) → Buf (Elt Ideal) ℓ) (g' : Dev Cert.ProjDhRmsReferenceIdeal.nD → PrngReg), Pre_ProjDhRmsKernelIdeal_proj_dh_rms_finite m →
    (∀ c : Dev Cert.ProjDhRmsKernelIdeal.nD,
      m' ((c.tc : Thread Cert.ProjDhRmsReferenceIdeal.nD Cert.ProjDhRmsReferenceIdeal.τ).loc Cert.ProjDhRmsReferenceIdeal.main_arg0) = m ((c.tc : Thread Cert.ProjDhRmsKernelIdeal.nD Cert.ProjDhRmsKernelIdeal.τ).loc Cert.ProjDhRmsKernelIdeal.main_arg0)
      ∧ m' ((c.tc : Thread Cert.ProjDhRmsReferenceIdeal.nD Cert.ProjDhRmsReferenceIdeal.τ).loc Cert.ProjDhRmsReferenceIdeal.main_arg1) = m ((c.tc : Thread Cert.ProjDhRmsKernelIdeal.nD Cert.ProjDhRmsKernelIdeal.τ).loc Cert.ProjDhRmsKernelIdeal.main_arg1)
      ∧ m' ((c.tc : Thread Cert.ProjDhRmsReferenceIdeal.nD Cert.ProjDhRmsReferenceIdeal.τ).loc Cert.ProjDhRmsReferenceIdeal.main_arg2) = m ((c.tc : Thread Cert.ProjDhRmsKernelIdeal.nD Cert.ProjDhRmsKernelIdeal.τ).loc Cert.ProjDhRmsKernelIdeal.main_arg2)
      ∧ m' ((c.tc : Thread Cert.ProjDhRmsReferenceIdeal.nD Cert.ProjDhRmsReferenceIdeal.τ).loc Cert.ProjDhRmsReferenceIdeal.main_arg3) = m ((c.tc : Thread Cert.ProjDhRmsKernelIdeal.nD Cert.ProjDhRmsKernelIdeal.τ).loc Cert.ProjDhRmsKernelIdeal.main_arg3)
      ∧ m' ((c.tc : Thread Cert.ProjDhRmsReferenceIdeal.nD Cert.ProjDhRmsReferenceIdeal.τ).loc Cert.ProjDhRmsReferenceIdeal.main_arg4) = m ((c.tc : Thread Cert.ProjDhRmsKernelIdeal.nD Cert.ProjDhRmsKernelIdeal.τ).loc Cert.ProjDhRmsKernelIdeal.main_arg4)
      ∧ m' ((c.tc : Thread Cert.ProjDhRmsReferenceIdeal.nD Cert.ProjDhRmsReferenceIdeal.τ).loc Cert.ProjDhRmsReferenceIdeal.main_arg5) = m ((c.tc : Thread Cert.ProjDhRmsKernelIdeal.nD Cert.ProjDhRmsKernelIdeal.τ).loc Cert.ProjDhRmsKernelIdeal.main_arg5)
      ∧ m' ((c.tc : Thread Cert.ProjDhRmsReferenceIdeal.nD Cert.ProjDhRmsReferenceIdeal.τ).loc Cert.ProjDhRmsReferenceIdeal.main_arg6) = m ((c.tc : Thread Cert.ProjDhRmsKernelIdeal.nD Cert.ProjDhRmsKernelIdeal.τ).loc Cert.ProjDhRmsKernelIdeal.main_arg6)
      ∧ m' ((c.tc : Thread Cert.ProjDhRmsReferenceIdeal.nD Cert.ProjDhRmsReferenceIdeal.τ).loc Cert.ProjDhRmsReferenceIdeal.main_arg7) = m ((c.tc : Thread Cert.ProjDhRmsKernelIdeal.nD Cert.ProjDhRmsKernelIdeal.τ).loc Cert.ProjDhRmsKernelIdeal.main_arg7)
      ∧ m' ((c.tc : Thread Cert.ProjDhRmsReferenceIdeal.nD Cert.ProjDhRmsReferenceIdeal.τ).loc Cert.ProjDhRmsReferenceIdeal.main_arg8) = m ((c.tc : Thread Cert.ProjDhRmsKernelIdeal.nD Cert.ProjDhRmsKernelIdeal.τ).loc Cert.ProjDhRmsKernelIdeal.main_arg8)) →
    ∃ (v0 : (c : Dev Cert.ProjDhRmsKernelIdeal.nD) → Buf (Elt Ideal) ((c.tc : Thread Cert.ProjDhRmsKernelIdeal.nD Cert.ProjDhRmsKernelIdeal.τ).loc Cert.ProjDhRmsKernelIdeal.main_v8_0)) (v1 : (c : Dev Cert.ProjDhRmsKernelIdeal.nD) → Buf (Elt Ideal) ((c.tc : Thread Cert.ProjDhRmsKernelIdeal.nD Cert.ProjDhRmsKernelIdeal.τ).loc Cert.ProjDhRmsKernelIdeal.main_v8_1)),
      θ_run (Cert.ProjDhRmsKernelIdeal.defs (F := Ideal)) (onTc (τ := Cert.ProjDhRmsKernelIdeal.τ) (Cert.ProjDhRmsKernelIdeal.main (F := Ideal))) ⟨m, fun _ => 0, g⟩ (fun r => ∀ c : Dev Cert.ProjDhRmsKernelIdeal.nD,
          r.2.mem ((c.tc : Thread Cert.ProjDhRmsKernelIdeal.nD Cert.ProjDhRmsKernelIdeal.τ).loc Cert.ProjDhRmsKernelIdeal.main_v8_0) = v0 c
          ∧ r.2.mem ((c.tc : Thread Cert.ProjDhRmsKernelIdeal.nD Cert.ProjDhRmsKernelIdeal.τ).loc Cert.ProjDhRmsKernelIdeal.main_v8_1) = v1 c
          ∧ r.2.mem ((c.tc : Thread Cert.ProjDhRmsKernelIdeal.nD Cert.ProjDhRmsKernelIdeal.τ).loc Cert.ProjDhRmsKernelIdeal.main_arg0) = m ((c.tc : Thread Cert.ProjDhRmsKernelIdeal.nD Cert.ProjDhRmsKernelIdeal.τ).loc Cert.ProjDhRmsKernelIdeal.main_arg0)
          ∧ r.2.mem ((c.tc : Thread Cert.ProjDhRmsKernelIdeal.nD Cert.ProjDhRmsKernelIdeal.τ).loc Cert.ProjDhRmsKernelIdeal.main_arg1) = m ((c.tc : Thread Cert.ProjDhRmsKernelIdeal.nD Cert.ProjDhRmsKernelIdeal.τ).loc Cert.ProjDhRmsKernelIdeal.main_arg1)
          ∧ r.2.mem ((c.tc : Thread Cert.ProjDhRmsKernelIdeal.nD Cert.ProjDhRmsKernelIdeal.τ).loc Cert.ProjDhRmsKernelIdeal.main_arg2) = m ((c.tc : Thread Cert.ProjDhRmsKernelIdeal.nD Cert.ProjDhRmsKernelIdeal.τ).loc Cert.ProjDhRmsKernelIdeal.main_arg2)
          ∧ r.2.mem ((c.tc : Thread Cert.ProjDhRmsKernelIdeal.nD Cert.ProjDhRmsKernelIdeal.τ).loc Cert.ProjDhRmsKernelIdeal.main_arg3) = m ((c.tc : Thread Cert.ProjDhRmsKernelIdeal.nD Cert.ProjDhRmsKernelIdeal.τ).loc Cert.ProjDhRmsKernelIdeal.main_arg3)
          ∧ r.2.mem ((c.tc : Thread Cert.ProjDhRmsKernelIdeal.nD Cert.ProjDhRmsKernelIdeal.τ).loc Cert.ProjDhRmsKernelIdeal.main_arg4) = m ((c.tc : Thread Cert.ProjDhRmsKernelIdeal.nD Cert.ProjDhRmsKernelIdeal.τ).loc Cert.ProjDhRmsKernelIdeal.main_arg4)
          ∧ r.2.mem ((c.tc : Thread Cert.ProjDhRmsKernelIdeal.nD Cert.ProjDhRmsKernelIdeal.τ).loc Cert.ProjDhRmsKernelIdeal.main_arg5) = m ((c.tc : Thread Cert.ProjDhRmsKernelIdeal.nD Cert.ProjDhRmsKernelIdeal.τ).loc Cert.ProjDhRmsKernelIdeal.main_arg5)
          ∧ r.2.mem ((c.tc : Thread Cert.ProjDhRmsKernelIdeal.nD Cert.ProjDhRmsKernelIdeal.τ).loc Cert.ProjDhRmsKernelIdeal.main_arg6) = m ((c.tc : Thread Cert.ProjDhRmsKernelIdeal.nD Cert.ProjDhRmsKernelIdeal.τ).loc Cert.ProjDhRmsKernelIdeal.main_arg6)
          ∧ r.2.mem ((c.tc : Thread Cert.ProjDhRmsKernelIdeal.nD Cert.ProjDhRmsKernelIdeal.τ).loc Cert.ProjDhRmsKernelIdeal.main_arg7) = m ((c.tc : Thread Cert.ProjDhRmsKernelIdeal.nD Cert.ProjDhRmsKernelIdeal.τ).loc Cert.ProjDhRmsKernelIdeal.main_arg7)
          ∧ r.2.mem ((c.tc : Thread Cert.ProjDhRmsKernelIdeal.nD Cert.ProjDhRmsKernelIdeal.τ).loc Cert.ProjDhRmsKernelIdeal.main_arg8) = m ((c.tc : Thread Cert.ProjDhRmsKernelIdeal.nD Cert.ProjDhRmsKernelIdeal.τ).loc Cert.ProjDhRmsKernelIdeal.main_arg8))
      ∧ θ_run (Cert.ProjDhRmsReferenceIdeal.defs (F := Ideal)) (onTc (τ := Cert.ProjDhRmsReferenceIdeal.τ) (Cert.ProjDhRmsReferenceIdeal.main (F := Ideal))) ⟨m', fun _ => 0, g'⟩ (fun r => ∀ c : Dev Cert.ProjDhRmsReferenceIdeal.nD,
          r.2.mem ((c.tc : Thread Cert.ProjDhRmsReferenceIdeal.nD Cert.ProjDhRmsReferenceIdeal.τ).loc Cert.ProjDhRmsReferenceIdeal.main_v47) = v0 c
          ∧ r.2.mem ((c.tc : Thread Cert.ProjDhRmsReferenceIdeal.nD Cert.ProjDhRmsReferenceIdeal.τ).loc Cert.ProjDhRmsReferenceIdeal.main_v48) = v1 c
          ∧ r.2.mem ((c.tc : Thread Cert.ProjDhRmsReferenceIdeal.nD Cert.ProjDhRmsReferenceIdeal.τ).loc Cert.ProjDhRmsReferenceIdeal.main_arg0) = m' ((c.tc : Thread Cert.ProjDhRmsReferenceIdeal.nD Cert.ProjDhRmsReferenceIdeal.τ).loc Cert.ProjDhRmsReferenceIdeal.main_arg0)
          ∧ r.2.mem ((c.tc : Thread Cert.ProjDhRmsReferenceIdeal.nD Cert.ProjDhRmsReferenceIdeal.τ).loc Cert.ProjDhRmsReferenceIdeal.main_arg1) = m' ((c.tc : Thread Cert.ProjDhRmsReferenceIdeal.nD Cert.ProjDhRmsReferenceIdeal.τ).loc Cert.ProjDhRmsReferenceIdeal.main_arg1)
          ∧ r.2.mem ((c.tc : Thread Cert.ProjDhRmsReferenceIdeal.nD Cert.ProjDhRmsReferenceIdeal.τ).loc Cert.ProjDhRmsReferenceIdeal.main_arg2) = m' ((c.tc : Thread Cert.ProjDhRmsReferenceIdeal.nD Cert.ProjDhRmsReferenceIdeal.τ).loc Cert.ProjDhRmsReferenceIdeal.main_arg2)
          ∧ r.2.mem ((c.tc : Thread Cert.ProjDhRmsReferenceIdeal.nD Cert.ProjDhRmsReferenceIdeal.τ).loc Cert.ProjDhRmsReferenceIdeal.main_arg3) = m' ((c.tc : Thread Cert.ProjDhRmsReferenceIdeal.nD Cert.ProjDhRmsReferenceIdeal.τ).loc Cert.ProjDhRmsReferenceIdeal.main_arg3)
          ∧ r.2.mem ((c.tc : Thread Cert.ProjDhRmsReferenceIdeal.nD Cert.ProjDhRmsReferenceIdeal.τ).loc Cert.ProjDhRmsReferenceIdeal.main_arg4) = m' ((c.tc : Thread Cert.ProjDhRmsReferenceIdeal.nD Cert.ProjDhRmsReferenceIdeal.τ).loc Cert.ProjDhRmsReferenceIdeal.main_arg4)
          ∧ r.2.mem ((c.tc : Thread Cert.ProjDhRmsReferenceIdeal.nD Cert.ProjDhRmsReferenceIdeal.τ).loc Cert.ProjDhRmsReferenceIdeal.main_arg5) = m' ((c.tc : Thread Cert.ProjDhRmsReferenceIdeal.nD Cert.ProjDhRmsReferenceIdeal.τ).loc Cert.ProjDhRmsReferenceIdeal.main_arg5)
          ∧ r.2.mem ((c.tc : Thread Cert.ProjDhRmsReferenceIdeal.nD Cert.ProjDhRmsReferenceIdeal.τ).loc Cert.ProjDhRmsReferenceIdeal.main_arg6) = m' ((c.tc : Thread Cert.ProjDhRmsReferenceIdeal.nD Cert.ProjDhRmsReferenceIdeal.τ).loc Cert.ProjDhRmsReferenceIdeal.main_arg6)
          ∧ r.2.mem ((c.tc : Thread Cert.ProjDhRmsReferenceIdeal.nD Cert.ProjDhRmsReferenceIdeal.τ).loc Cert.ProjDhRmsReferenceIdeal.main_arg7) = m' ((c.tc : Thread Cert.ProjDhRmsReferenceIdeal.nD Cert.ProjDhRmsReferenceIdeal.τ).loc Cert.ProjDhRmsReferenceIdeal.main_arg7)
          ∧ r.2.mem ((c.tc : Thread Cert.ProjDhRmsReferenceIdeal.nD Cert.ProjDhRmsReferenceIdeal.τ).loc Cert.ProjDhRmsReferenceIdeal.main_arg8) = m' ((c.tc : Thread Cert.ProjDhRmsReferenceIdeal.nD Cert.ProjDhRmsReferenceIdeal.τ).loc Cert.ProjDhRmsReferenceIdeal.main_arg8))

def preserves_ProjCKernel_ProjCKernelIdeal : Prop :=
  True

def algebraic_ProjCKernelIdeal_ProjCReferenceIdeal [hProjCKernelIdeal : Cert.ProjCKernelIdeal.Facts] [hProjCReferenceIdeal : Cert.ProjCReferenceIdeal.Facts] : Prop :=
  ∀ (m : (ℓ : Loc Cert.ProjCKernelIdeal.nD Cert.ProjCKernelIdeal.τ Cert.ProjCKernelIdeal.sig) → Buf (Elt Ideal) ℓ) (g : Dev Cert.ProjCKernelIdeal.nD → PrngReg)
    (m' : (ℓ : Loc Cert.ProjCReferenceIdeal.nD Cert.ProjCReferenceIdeal.τ Cert.ProjCReferenceIdeal.sig) → Buf (Elt Ideal) ℓ) (g' : Dev Cert.ProjCReferenceIdeal.nD → PrngReg), Pre_ProjCKernelIdeal m →
    (∀ c : Dev Cert.ProjCKernelIdeal.nD,
      m' ((c.tc : Thread Cert.ProjCReferenceIdeal.nD Cert.ProjCReferenceIdeal.τ).loc Cert.ProjCReferenceIdeal.main_arg0) = m ((c.tc : Thread Cert.ProjCKernelIdeal.nD Cert.ProjCKernelIdeal.τ).loc Cert.ProjCKernelIdeal.main_arg0)
      ∧ m' ((c.tc : Thread Cert.ProjCReferenceIdeal.nD Cert.ProjCReferenceIdeal.τ).loc Cert.ProjCReferenceIdeal.main_arg1) = m ((c.tc : Thread Cert.ProjCKernelIdeal.nD Cert.ProjCKernelIdeal.τ).loc Cert.ProjCKernelIdeal.main_arg1)) →
    ∃ (v0 : (c : Dev Cert.ProjCKernelIdeal.nD) → Buf (Elt Ideal) ((c.tc : Thread Cert.ProjCKernelIdeal.nD Cert.ProjCKernelIdeal.τ).loc Cert.ProjCKernelIdeal.main_v2)),
      θ_run (Cert.ProjCKernelIdeal.defs (F := Ideal)) (onTc (τ := Cert.ProjCKernelIdeal.τ) (Cert.ProjCKernelIdeal.main (F := Ideal))) ⟨m, fun _ => 0, g⟩ (fun r => ∀ c : Dev Cert.ProjCKernelIdeal.nD,
          r.2.mem ((c.tc : Thread Cert.ProjCKernelIdeal.nD Cert.ProjCKernelIdeal.τ).loc Cert.ProjCKernelIdeal.main_v2) = v0 c
          ∧ r.2.mem ((c.tc : Thread Cert.ProjCKernelIdeal.nD Cert.ProjCKernelIdeal.τ).loc Cert.ProjCKernelIdeal.main_arg0) = m ((c.tc : Thread Cert.ProjCKernelIdeal.nD Cert.ProjCKernelIdeal.τ).loc Cert.ProjCKernelIdeal.main_arg0)
          ∧ r.2.mem ((c.tc : Thread Cert.ProjCKernelIdeal.nD Cert.ProjCKernelIdeal.τ).loc Cert.ProjCKernelIdeal.main_arg1) = m ((c.tc : Thread Cert.ProjCKernelIdeal.nD Cert.ProjCKernelIdeal.τ).loc Cert.ProjCKernelIdeal.main_arg1))
      ∧ θ_run (Cert.ProjCReferenceIdeal.defs (F := Ideal)) (onTc (τ := Cert.ProjCReferenceIdeal.τ) (Cert.ProjCReferenceIdeal.main (F := Ideal))) ⟨m', fun _ => 0, g'⟩ (fun r => ∀ c : Dev Cert.ProjCReferenceIdeal.nD,
          r.2.mem ((c.tc : Thread Cert.ProjCReferenceIdeal.nD Cert.ProjCReferenceIdeal.τ).loc Cert.ProjCReferenceIdeal.main_v1) = v0 c
          ∧ r.2.mem ((c.tc : Thread Cert.ProjCReferenceIdeal.nD Cert.ProjCReferenceIdeal.τ).loc Cert.ProjCReferenceIdeal.main_arg0) = m' ((c.tc : Thread Cert.ProjCReferenceIdeal.nD Cert.ProjCReferenceIdeal.τ).loc Cert.ProjCReferenceIdeal.main_arg0)
          ∧ r.2.mem ((c.tc : Thread Cert.ProjCReferenceIdeal.nD Cert.ProjCReferenceIdeal.τ).loc Cert.ProjCReferenceIdeal.main_arg1) = m' ((c.tc : Thread Cert.ProjCReferenceIdeal.nD Cert.ProjCReferenceIdeal.τ).loc Cert.ProjCReferenceIdeal.main_arg1))

def preserves_ProjDwcKernel_ProjDwcKernelIdeal : Prop :=
  True

def algebraic_ProjDwcKernelIdeal_ProjDwcReferenceIdeal [hProjDwcKernelIdeal : Cert.ProjDwcKernelIdeal.Facts] [hProjDwcReferenceIdeal : Cert.ProjDwcReferenceIdeal.Facts] : Prop :=
  ∀ (m : (ℓ : Loc Cert.ProjDwcKernelIdeal.nD Cert.ProjDwcKernelIdeal.τ Cert.ProjDwcKernelIdeal.sig) → Buf (Elt Ideal) ℓ) (g : Dev Cert.ProjDwcKernelIdeal.nD → PrngReg)
    (m' : (ℓ : Loc Cert.ProjDwcReferenceIdeal.nD Cert.ProjDwcReferenceIdeal.τ Cert.ProjDwcReferenceIdeal.sig) → Buf (Elt Ideal) ℓ) (g' : Dev Cert.ProjDwcReferenceIdeal.nD → PrngReg), Pre_ProjDwcKernelIdeal m →
    (∀ c : Dev Cert.ProjDwcKernelIdeal.nD,
      m' ((c.tc : Thread Cert.ProjDwcReferenceIdeal.nD Cert.ProjDwcReferenceIdeal.τ).loc Cert.ProjDwcReferenceIdeal.main_arg0) = m ((c.tc : Thread Cert.ProjDwcKernelIdeal.nD Cert.ProjDwcKernelIdeal.τ).loc Cert.ProjDwcKernelIdeal.main_arg0)
      ∧ m' ((c.tc : Thread Cert.ProjDwcReferenceIdeal.nD Cert.ProjDwcReferenceIdeal.τ).loc Cert.ProjDwcReferenceIdeal.main_arg1) = m ((c.tc : Thread Cert.ProjDwcKernelIdeal.nD Cert.ProjDwcKernelIdeal.τ).loc Cert.ProjDwcKernelIdeal.main_arg1)) →
    ∃ (v0 : (c : Dev Cert.ProjDwcKernelIdeal.nD) → Buf (Elt Ideal) ((c.tc : Thread Cert.ProjDwcKernelIdeal.nD Cert.ProjDwcKernelIdeal.τ).loc Cert.ProjDwcKernelIdeal.main_v0)),
      θ_run (Cert.ProjDwcKernelIdeal.defs (F := Ideal)) (onTc (τ := Cert.ProjDwcKernelIdeal.τ) (Cert.ProjDwcKernelIdeal.main (F := Ideal))) ⟨m, fun _ => 0, g⟩ (fun r => ∀ c : Dev Cert.ProjDwcKernelIdeal.nD,
          r.2.mem ((c.tc : Thread Cert.ProjDwcKernelIdeal.nD Cert.ProjDwcKernelIdeal.τ).loc Cert.ProjDwcKernelIdeal.main_v0) = v0 c
          ∧ r.2.mem ((c.tc : Thread Cert.ProjDwcKernelIdeal.nD Cert.ProjDwcKernelIdeal.τ).loc Cert.ProjDwcKernelIdeal.main_arg0) = m ((c.tc : Thread Cert.ProjDwcKernelIdeal.nD Cert.ProjDwcKernelIdeal.τ).loc Cert.ProjDwcKernelIdeal.main_arg0)
          ∧ r.2.mem ((c.tc : Thread Cert.ProjDwcKernelIdeal.nD Cert.ProjDwcKernelIdeal.τ).loc Cert.ProjDwcKernelIdeal.main_arg1) = m ((c.tc : Thread Cert.ProjDwcKernelIdeal.nD Cert.ProjDwcKernelIdeal.τ).loc Cert.ProjDwcKernelIdeal.main_arg1))
      ∧ θ_run (Cert.ProjDwcReferenceIdeal.defs (F := Ideal)) (onTc (τ := Cert.ProjDwcReferenceIdeal.τ) (Cert.ProjDwcReferenceIdeal.main (F := Ideal))) ⟨m', fun _ => 0, g'⟩ (fun r => ∀ c : Dev Cert.ProjDwcReferenceIdeal.nD,
          r.2.mem ((c.tc : Thread Cert.ProjDwcReferenceIdeal.nD Cert.ProjDwcReferenceIdeal.τ).loc Cert.ProjDwcReferenceIdeal.main_v7) = v0 c
          ∧ r.2.mem ((c.tc : Thread Cert.ProjDwcReferenceIdeal.nD Cert.ProjDwcReferenceIdeal.τ).loc Cert.ProjDwcReferenceIdeal.main_arg0) = m' ((c.tc : Thread Cert.ProjDwcReferenceIdeal.nD Cert.ProjDwcReferenceIdeal.τ).loc Cert.ProjDwcReferenceIdeal.main_arg0)
          ∧ r.2.mem ((c.tc : Thread Cert.ProjDwcReferenceIdeal.nD Cert.ProjDwcReferenceIdeal.τ).loc Cert.ProjDwcReferenceIdeal.main_arg1) = m' ((c.tc : Thread Cert.ProjDwcReferenceIdeal.nD Cert.ProjDwcReferenceIdeal.τ).loc Cert.ProjDwcReferenceIdeal.main_arg1))

def preserves_ProjLKernel_ProjLKernelIdeal : Prop :=
  True

def algebraic_ProjLKernelIdeal_ProjLReferenceIdeal [hProjLKernelIdeal : Cert.ProjLKernelIdeal.Facts] [hProjLReferenceIdeal : Cert.ProjLReferenceIdeal.Facts] : Prop :=
  ∀ (m : (ℓ : Loc Cert.ProjLKernelIdeal.nD Cert.ProjLKernelIdeal.τ Cert.ProjLKernelIdeal.sig) → Buf (Elt Ideal) ℓ) (g : Dev Cert.ProjLKernelIdeal.nD → PrngReg)
    (m' : (ℓ : Loc Cert.ProjLReferenceIdeal.nD Cert.ProjLReferenceIdeal.τ Cert.ProjLReferenceIdeal.sig) → Buf (Elt Ideal) ℓ) (g' : Dev Cert.ProjLReferenceIdeal.nD → PrngReg), Pre_ProjLKernelIdeal m →
    (∀ c : Dev Cert.ProjLKernelIdeal.nD,
      m' ((c.tc : Thread Cert.ProjLReferenceIdeal.nD Cert.ProjLReferenceIdeal.τ).loc Cert.ProjLReferenceIdeal.main_arg0) = m ((c.tc : Thread Cert.ProjLKernelIdeal.nD Cert.ProjLKernelIdeal.τ).loc Cert.ProjLKernelIdeal.main_arg0)
      ∧ m' ((c.tc : Thread Cert.ProjLReferenceIdeal.nD Cert.ProjLReferenceIdeal.τ).loc Cert.ProjLReferenceIdeal.main_arg1) = m ((c.tc : Thread Cert.ProjLKernelIdeal.nD Cert.ProjLKernelIdeal.τ).loc Cert.ProjLKernelIdeal.main_arg1)) →
    ∃ (v0 : (c : Dev Cert.ProjLKernelIdeal.nD) → Buf (Elt Ideal) ((c.tc : Thread Cert.ProjLKernelIdeal.nD Cert.ProjLKernelIdeal.τ).loc Cert.ProjLKernelIdeal.main_v2)),
      θ_run (Cert.ProjLKernelIdeal.defs (F := Ideal)) (onTc (τ := Cert.ProjLKernelIdeal.τ) (Cert.ProjLKernelIdeal.main (F := Ideal))) ⟨m, fun _ => 0, g⟩ (fun r => ∀ c : Dev Cert.ProjLKernelIdeal.nD,
          r.2.mem ((c.tc : Thread Cert.ProjLKernelIdeal.nD Cert.ProjLKernelIdeal.τ).loc Cert.ProjLKernelIdeal.main_v2) = v0 c
          ∧ r.2.mem ((c.tc : Thread Cert.ProjLKernelIdeal.nD Cert.ProjLKernelIdeal.τ).loc Cert.ProjLKernelIdeal.main_arg0) = m ((c.tc : Thread Cert.ProjLKernelIdeal.nD Cert.ProjLKernelIdeal.τ).loc Cert.ProjLKernelIdeal.main_arg0)
          ∧ r.2.mem ((c.tc : Thread Cert.ProjLKernelIdeal.nD Cert.ProjLKernelIdeal.τ).loc Cert.ProjLKernelIdeal.main_arg1) = m ((c.tc : Thread Cert.ProjLKernelIdeal.nD Cert.ProjLKernelIdeal.τ).loc Cert.ProjLKernelIdeal.main_arg1))
      ∧ θ_run (Cert.ProjLReferenceIdeal.defs (F := Ideal)) (onTc (τ := Cert.ProjLReferenceIdeal.τ) (Cert.ProjLReferenceIdeal.main (F := Ideal))) ⟨m', fun _ => 0, g'⟩ (fun r => ∀ c : Dev Cert.ProjLReferenceIdeal.nD,
          r.2.mem ((c.tc : Thread Cert.ProjLReferenceIdeal.nD Cert.ProjLReferenceIdeal.τ).loc Cert.ProjLReferenceIdeal.main_v1) = v0 c
          ∧ r.2.mem ((c.tc : Thread Cert.ProjLReferenceIdeal.nD Cert.ProjLReferenceIdeal.τ).loc Cert.ProjLReferenceIdeal.main_arg0) = m' ((c.tc : Thread Cert.ProjLReferenceIdeal.nD Cert.ProjLReferenceIdeal.τ).loc Cert.ProjLReferenceIdeal.main_arg0)
          ∧ r.2.mem ((c.tc : Thread Cert.ProjLReferenceIdeal.nD Cert.ProjLReferenceIdeal.τ).loc Cert.ProjLReferenceIdeal.main_arg1) = m' ((c.tc : Thread Cert.ProjLReferenceIdeal.nD Cert.ProjLReferenceIdeal.τ).loc Cert.ProjLReferenceIdeal.main_arg1))

def preserves_ProjDwlKernel_ProjDwlKernelIdeal : Prop :=
  True

def algebraic_ProjDwlKernelIdeal_ProjDwlReferenceIdeal [hProjDwlKernelIdeal : Cert.ProjDwlKernelIdeal.Facts] [hProjDwlReferenceIdeal : Cert.ProjDwlReferenceIdeal.Facts] : Prop :=
  ∀ (m : (ℓ : Loc Cert.ProjDwlKernelIdeal.nD Cert.ProjDwlKernelIdeal.τ Cert.ProjDwlKernelIdeal.sig) → Buf (Elt Ideal) ℓ) (g : Dev Cert.ProjDwlKernelIdeal.nD → PrngReg)
    (m' : (ℓ : Loc Cert.ProjDwlReferenceIdeal.nD Cert.ProjDwlReferenceIdeal.τ Cert.ProjDwlReferenceIdeal.sig) → Buf (Elt Ideal) ℓ) (g' : Dev Cert.ProjDwlReferenceIdeal.nD → PrngReg), Pre_ProjDwlKernelIdeal m →
    (∀ c : Dev Cert.ProjDwlKernelIdeal.nD,
      m' ((c.tc : Thread Cert.ProjDwlReferenceIdeal.nD Cert.ProjDwlReferenceIdeal.τ).loc Cert.ProjDwlReferenceIdeal.main_arg0) = m ((c.tc : Thread Cert.ProjDwlKernelIdeal.nD Cert.ProjDwlKernelIdeal.τ).loc Cert.ProjDwlKernelIdeal.main_arg0)
      ∧ m' ((c.tc : Thread Cert.ProjDwlReferenceIdeal.nD Cert.ProjDwlReferenceIdeal.τ).loc Cert.ProjDwlReferenceIdeal.main_arg1) = m ((c.tc : Thread Cert.ProjDwlKernelIdeal.nD Cert.ProjDwlKernelIdeal.τ).loc Cert.ProjDwlKernelIdeal.main_arg1)) →
    ∃ (v0 : (c : Dev Cert.ProjDwlKernelIdeal.nD) → Buf (Elt Ideal) ((c.tc : Thread Cert.ProjDwlKernelIdeal.nD Cert.ProjDwlKernelIdeal.τ).loc Cert.ProjDwlKernelIdeal.main_v0)),
      θ_run (Cert.ProjDwlKernelIdeal.defs (F := Ideal)) (onTc (τ := Cert.ProjDwlKernelIdeal.τ) (Cert.ProjDwlKernelIdeal.main (F := Ideal))) ⟨m, fun _ => 0, g⟩ (fun r => ∀ c : Dev Cert.ProjDwlKernelIdeal.nD,
          r.2.mem ((c.tc : Thread Cert.ProjDwlKernelIdeal.nD Cert.ProjDwlKernelIdeal.τ).loc Cert.ProjDwlKernelIdeal.main_v0) = v0 c
          ∧ r.2.mem ((c.tc : Thread Cert.ProjDwlKernelIdeal.nD Cert.ProjDwlKernelIdeal.τ).loc Cert.ProjDwlKernelIdeal.main_arg0) = m ((c.tc : Thread Cert.ProjDwlKernelIdeal.nD Cert.ProjDwlKernelIdeal.τ).loc Cert.ProjDwlKernelIdeal.main_arg0)
          ∧ r.2.mem ((c.tc : Thread Cert.ProjDwlKernelIdeal.nD Cert.ProjDwlKernelIdeal.τ).loc Cert.ProjDwlKernelIdeal.main_arg1) = m ((c.tc : Thread Cert.ProjDwlKernelIdeal.nD Cert.ProjDwlKernelIdeal.τ).loc Cert.ProjDwlKernelIdeal.main_arg1))
      ∧ θ_run (Cert.ProjDwlReferenceIdeal.defs (F := Ideal)) (onTc (τ := Cert.ProjDwlReferenceIdeal.τ) (Cert.ProjDwlReferenceIdeal.main (F := Ideal))) ⟨m', fun _ => 0, g'⟩ (fun r => ∀ c : Dev Cert.ProjDwlReferenceIdeal.nD,
          r.2.mem ((c.tc : Thread Cert.ProjDwlReferenceIdeal.nD Cert.ProjDwlReferenceIdeal.τ).loc Cert.ProjDwlReferenceIdeal.main_v7) = v0 c
          ∧ r.2.mem ((c.tc : Thread Cert.ProjDwlReferenceIdeal.nD Cert.ProjDwlReferenceIdeal.τ).loc Cert.ProjDwlReferenceIdeal.main_arg0) = m' ((c.tc : Thread Cert.ProjDwlReferenceIdeal.nD Cert.ProjDwlReferenceIdeal.τ).loc Cert.ProjDwlReferenceIdeal.main_arg0)
          ∧ r.2.mem ((c.tc : Thread Cert.ProjDwlReferenceIdeal.nD Cert.ProjDwlReferenceIdeal.τ).loc Cert.ProjDwlReferenceIdeal.main_arg1) = m' ((c.tc : Thread Cert.ProjDwlReferenceIdeal.nD Cert.ProjDwlReferenceIdeal.τ).loc Cert.ProjDwlReferenceIdeal.main_arg1))

def preserves_ProjGKernel_ProjGKernelIdeal : Prop :=
  True

def algebraic_ProjGKernelIdeal_ProjGReferenceIdeal [hProjGKernelIdeal : Cert.ProjGKernelIdeal.Facts] [hProjGReferenceIdeal : Cert.ProjGReferenceIdeal.Facts] : Prop :=
  ∀ (m : (ℓ : Loc Cert.ProjGKernelIdeal.nD Cert.ProjGKernelIdeal.τ Cert.ProjGKernelIdeal.sig) → Buf (Elt Ideal) ℓ) (g : Dev Cert.ProjGKernelIdeal.nD → PrngReg)
    (m' : (ℓ : Loc Cert.ProjGReferenceIdeal.nD Cert.ProjGReferenceIdeal.τ Cert.ProjGReferenceIdeal.sig) → Buf (Elt Ideal) ℓ) (g' : Dev Cert.ProjGReferenceIdeal.nD → PrngReg), Pre_ProjGKernelIdeal m →
    (∀ c : Dev Cert.ProjGKernelIdeal.nD,
      m' ((c.tc : Thread Cert.ProjGReferenceIdeal.nD Cert.ProjGReferenceIdeal.τ).loc Cert.ProjGReferenceIdeal.main_arg0) = m ((c.tc : Thread Cert.ProjGKernelIdeal.nD Cert.ProjGKernelIdeal.τ).loc Cert.ProjGKernelIdeal.main_arg0)
      ∧ m' ((c.tc : Thread Cert.ProjGReferenceIdeal.nD Cert.ProjGReferenceIdeal.τ).loc Cert.ProjGReferenceIdeal.main_arg1) = m ((c.tc : Thread Cert.ProjGKernelIdeal.nD Cert.ProjGKernelIdeal.τ).loc Cert.ProjGKernelIdeal.main_arg1)) →
    ∃ (v0 : (c : Dev Cert.ProjGKernelIdeal.nD) → Buf (Elt Ideal) ((c.tc : Thread Cert.ProjGKernelIdeal.nD Cert.ProjGKernelIdeal.τ).loc Cert.ProjGKernelIdeal.main_v2)),
      θ_run (Cert.ProjGKernelIdeal.defs (F := Ideal)) (onTc (τ := Cert.ProjGKernelIdeal.τ) (Cert.ProjGKernelIdeal.main (F := Ideal))) ⟨m, fun _ => 0, g⟩ (fun r => ∀ c : Dev Cert.ProjGKernelIdeal.nD,
          r.2.mem ((c.tc : Thread Cert.ProjGKernelIdeal.nD Cert.ProjGKernelIdeal.τ).loc Cert.ProjGKernelIdeal.main_v2) = v0 c
          ∧ r.2.mem ((c.tc : Thread Cert.ProjGKernelIdeal.nD Cert.ProjGKernelIdeal.τ).loc Cert.ProjGKernelIdeal.main_arg0) = m ((c.tc : Thread Cert.ProjGKernelIdeal.nD Cert.ProjGKernelIdeal.τ).loc Cert.ProjGKernelIdeal.main_arg0)
          ∧ r.2.mem ((c.tc : Thread Cert.ProjGKernelIdeal.nD Cert.ProjGKernelIdeal.τ).loc Cert.ProjGKernelIdeal.main_arg1) = m ((c.tc : Thread Cert.ProjGKernelIdeal.nD Cert.ProjGKernelIdeal.τ).loc Cert.ProjGKernelIdeal.main_arg1))
      ∧ θ_run (Cert.ProjGReferenceIdeal.defs (F := Ideal)) (onTc (τ := Cert.ProjGReferenceIdeal.τ) (Cert.ProjGReferenceIdeal.main (F := Ideal))) ⟨m', fun _ => 0, g'⟩ (fun r => ∀ c : Dev Cert.ProjGReferenceIdeal.nD,
          r.2.mem ((c.tc : Thread Cert.ProjGReferenceIdeal.nD Cert.ProjGReferenceIdeal.τ).loc Cert.ProjGReferenceIdeal.main_v1) = v0 c
          ∧ r.2.mem ((c.tc : Thread Cert.ProjGReferenceIdeal.nD Cert.ProjGReferenceIdeal.τ).loc Cert.ProjGReferenceIdeal.main_arg0) = m' ((c.tc : Thread Cert.ProjGReferenceIdeal.nD Cert.ProjGReferenceIdeal.τ).loc Cert.ProjGReferenceIdeal.main_arg0)
          ∧ r.2.mem ((c.tc : Thread Cert.ProjGReferenceIdeal.nD Cert.ProjGReferenceIdeal.τ).loc Cert.ProjGReferenceIdeal.main_arg1) = m' ((c.tc : Thread Cert.ProjGReferenceIdeal.nD Cert.ProjGReferenceIdeal.τ).loc Cert.ProjGReferenceIdeal.main_arg1))

def preserves_ProjDwgKernel_ProjDwgKernelIdeal : Prop :=
  True

def algebraic_ProjDwgKernelIdeal_ProjDwgReferenceIdeal [hProjDwgKernelIdeal : Cert.ProjDwgKernelIdeal.Facts] [hProjDwgReferenceIdeal : Cert.ProjDwgReferenceIdeal.Facts] : Prop :=
  ∀ (m : (ℓ : Loc Cert.ProjDwgKernelIdeal.nD Cert.ProjDwgKernelIdeal.τ Cert.ProjDwgKernelIdeal.sig) → Buf (Elt Ideal) ℓ) (g : Dev Cert.ProjDwgKernelIdeal.nD → PrngReg)
    (m' : (ℓ : Loc Cert.ProjDwgReferenceIdeal.nD Cert.ProjDwgReferenceIdeal.τ Cert.ProjDwgReferenceIdeal.sig) → Buf (Elt Ideal) ℓ) (g' : Dev Cert.ProjDwgReferenceIdeal.nD → PrngReg), Pre_ProjDwgKernelIdeal m →
    (∀ c : Dev Cert.ProjDwgKernelIdeal.nD,
      m' ((c.tc : Thread Cert.ProjDwgReferenceIdeal.nD Cert.ProjDwgReferenceIdeal.τ).loc Cert.ProjDwgReferenceIdeal.main_arg0) = m ((c.tc : Thread Cert.ProjDwgKernelIdeal.nD Cert.ProjDwgKernelIdeal.τ).loc Cert.ProjDwgKernelIdeal.main_arg0)
      ∧ m' ((c.tc : Thread Cert.ProjDwgReferenceIdeal.nD Cert.ProjDwgReferenceIdeal.τ).loc Cert.ProjDwgReferenceIdeal.main_arg1) = m ((c.tc : Thread Cert.ProjDwgKernelIdeal.nD Cert.ProjDwgKernelIdeal.τ).loc Cert.ProjDwgKernelIdeal.main_arg1)) →
    ∃ (v0 : (c : Dev Cert.ProjDwgKernelIdeal.nD) → Buf (Elt Ideal) ((c.tc : Thread Cert.ProjDwgKernelIdeal.nD Cert.ProjDwgKernelIdeal.τ).loc Cert.ProjDwgKernelIdeal.main_v0)),
      θ_run (Cert.ProjDwgKernelIdeal.defs (F := Ideal)) (onTc (τ := Cert.ProjDwgKernelIdeal.τ) (Cert.ProjDwgKernelIdeal.main (F := Ideal))) ⟨m, fun _ => 0, g⟩ (fun r => ∀ c : Dev Cert.ProjDwgKernelIdeal.nD,
          r.2.mem ((c.tc : Thread Cert.ProjDwgKernelIdeal.nD Cert.ProjDwgKernelIdeal.τ).loc Cert.ProjDwgKernelIdeal.main_v0) = v0 c
          ∧ r.2.mem ((c.tc : Thread Cert.ProjDwgKernelIdeal.nD Cert.ProjDwgKernelIdeal.τ).loc Cert.ProjDwgKernelIdeal.main_arg0) = m ((c.tc : Thread Cert.ProjDwgKernelIdeal.nD Cert.ProjDwgKernelIdeal.τ).loc Cert.ProjDwgKernelIdeal.main_arg0)
          ∧ r.2.mem ((c.tc : Thread Cert.ProjDwgKernelIdeal.nD Cert.ProjDwgKernelIdeal.τ).loc Cert.ProjDwgKernelIdeal.main_arg1) = m ((c.tc : Thread Cert.ProjDwgKernelIdeal.nD Cert.ProjDwgKernelIdeal.τ).loc Cert.ProjDwgKernelIdeal.main_arg1))
      ∧ θ_run (Cert.ProjDwgReferenceIdeal.defs (F := Ideal)) (onTc (τ := Cert.ProjDwgReferenceIdeal.τ) (Cert.ProjDwgReferenceIdeal.main (F := Ideal))) ⟨m', fun _ => 0, g'⟩ (fun r => ∀ c : Dev Cert.ProjDwgReferenceIdeal.nD,
          r.2.mem ((c.tc : Thread Cert.ProjDwgReferenceIdeal.nD Cert.ProjDwgReferenceIdeal.τ).loc Cert.ProjDwgReferenceIdeal.main_v7) = v0 c
          ∧ r.2.mem ((c.tc : Thread Cert.ProjDwgReferenceIdeal.nD Cert.ProjDwgReferenceIdeal.τ).loc Cert.ProjDwgReferenceIdeal.main_arg0) = m' ((c.tc : Thread Cert.ProjDwgReferenceIdeal.nD Cert.ProjDwgReferenceIdeal.τ).loc Cert.ProjDwgReferenceIdeal.main_arg0)
          ∧ r.2.mem ((c.tc : Thread Cert.ProjDwgReferenceIdeal.nD Cert.ProjDwgReferenceIdeal.τ).loc Cert.ProjDwgReferenceIdeal.main_arg1) = m' ((c.tc : Thread Cert.ProjDwgReferenceIdeal.nD Cert.ProjDwgReferenceIdeal.τ).loc Cert.ProjDwgReferenceIdeal.main_arg1))

def preserves_MixOutKernel_MixOutKernelIdeal : Prop :=
  True

def algebraic_MixOutKernelIdeal_MixOutReferenceIdeal [hMixOutKernelIdeal : Cert.MixOutKernelIdeal.Facts] [hMixOutReferenceIdeal : Cert.MixOutReferenceIdeal.Facts] : Prop :=
  ∀ (m : (ℓ : Loc Cert.MixOutKernelIdeal.nD Cert.MixOutKernelIdeal.τ Cert.MixOutKernelIdeal.sig) → Buf (Elt Ideal) ℓ) (g : Dev Cert.MixOutKernelIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutKernelIdeal m →
    (∀ c : Dev Cert.MixOutKernelIdeal.nD,
      m' ((c.tc : Thread Cert.MixOutReferenceIdeal.nD Cert.MixOutReferenceIdeal.τ).loc Cert.MixOutReferenceIdeal.main_arg0) = m ((c.tc : Thread Cert.MixOutKernelIdeal.nD Cert.MixOutKernelIdeal.τ).loc Cert.MixOutKernelIdeal.main_arg0)
      ∧ m' ((c.tc : Thread Cert.MixOutReferenceIdeal.nD Cert.MixOutReferenceIdeal.τ).loc Cert.MixOutReferenceIdeal.main_arg1) = m ((c.tc : Thread Cert.MixOutKernelIdeal.nD Cert.MixOutKernelIdeal.τ).loc Cert.MixOutKernelIdeal.main_arg1)
      ∧ m' ((c.tc : Thread Cert.MixOutReferenceIdeal.nD Cert.MixOutReferenceIdeal.τ).loc Cert.MixOutReferenceIdeal.main_arg2) = m ((c.tc : Thread Cert.MixOutKernelIdeal.nD Cert.MixOutKernelIdeal.τ).loc Cert.MixOutKernelIdeal.main_arg2)
      ∧ m' ((c.tc : Thread Cert.MixOutReferenceIdeal.nD Cert.MixOutReferenceIdeal.τ).loc Cert.MixOutReferenceIdeal.main_arg3) = m ((c.tc : Thread Cert.MixOutKernelIdeal.nD Cert.MixOutKernelIdeal.τ).loc Cert.MixOutKernelIdeal.main_arg3)) →
    ∃ (v0 : (c : Dev Cert.MixOutKernelIdeal.nD) → Buf (Elt Ideal) ((c.tc : Thread Cert.MixOutKernelIdeal.nD Cert.MixOutKernelIdeal.τ).loc Cert.MixOutKernelIdeal.main_v2_0)) (v1 : (c : Dev Cert.MixOutKernelIdeal.nD) → Buf (Elt Ideal) ((c.tc : Thread Cert.MixOutKernelIdeal.nD Cert.MixOutKernelIdeal.τ).loc Cert.MixOutKernelIdeal.main_v2_1)),
      θ_run (Cert.MixOutKernelIdeal.defs (F := Ideal)) (onTc (τ := Cert.MixOutKernelIdeal.τ) (Cert.MixOutKernelIdeal.main (F := Ideal))) ⟨m, fun _ => 0, g⟩ (fun r => ∀ c : Dev Cert.MixOutKernelIdeal.nD,
          r.2.mem ((c.tc : Thread Cert.MixOutKernelIdeal.nD Cert.MixOutKernelIdeal.τ).loc Cert.MixOutKernelIdeal.main_v2_0) = v0 c
          ∧ r.2.mem ((c.tc : Thread Cert.MixOutKernelIdeal.nD Cert.MixOutKernelIdeal.τ).loc Cert.MixOutKernelIdeal.main_v2_1) = v1 c
          ∧ r.2.mem ((c.tc : Thread Cert.MixOutKernelIdeal.nD Cert.MixOutKernelIdeal.τ).loc Cert.MixOutKernelIdeal.main_arg0) = m ((c.tc : Thread Cert.MixOutKernelIdeal.nD Cert.MixOutKernelIdeal.τ).loc Cert.MixOutKernelIdeal.main_arg0)
          ∧ r.2.mem ((c.tc : Thread Cert.MixOutKernelIdeal.nD Cert.MixOutKernelIdeal.τ).loc Cert.MixOutKernelIdeal.main_arg1) = m ((c.tc : Thread Cert.MixOutKernelIdeal.nD Cert.MixOutKernelIdeal.τ).loc Cert.MixOutKernelIdeal.main_arg1)
          ∧ r.2.mem ((c.tc : Thread Cert.MixOutKernelIdeal.nD Cert.MixOutKernelIdeal.τ).loc Cert.MixOutKernelIdeal.main_arg2) = m ((c.tc : Thread Cert.MixOutKernelIdeal.nD Cert.MixOutKernelIdeal.τ).loc Cert.MixOutKernelIdeal.main_arg2)
          ∧ r.2.mem ((c.tc : Thread Cert.MixOutKernelIdeal.nD Cert.MixOutKernelIdeal.τ).loc Cert.MixOutKernelIdeal.main_arg3) = m ((c.tc : Thread Cert.MixOutKernelIdeal.nD Cert.MixOutKernelIdeal.τ).loc Cert.MixOutKernelIdeal.main_arg3))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v2) = v0 c
          ∧ r.2.mem ((c.tc : Thread Cert.MixOutReferenceIdeal.nD Cert.MixOutReferenceIdeal.τ).loc Cert.MixOutReferenceIdeal.main_v16) = v1 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3))

def preserves_MixDyKernel_MixDyKernelIdeal : Prop :=
  True

def algebraic_MixDyKernelIdeal_MixDyReferenceIdeal [hMixDyKernelIdeal : Cert.MixDyKernelIdeal.Facts] [hMixDyReferenceIdeal : Cert.MixDyReferenceIdeal.Facts] : Prop :=
  ∀ (m : (ℓ : Loc Cert.MixDyKernelIdeal.nD Cert.MixDyKernelIdeal.τ Cert.MixDyKernelIdeal.sig) → Buf (Elt Ideal) ℓ) (g : Dev Cert.MixDyKernelIdeal.nD → PrngReg)
    (m' : (ℓ : Loc Cert.MixDyReferenceIdeal.nD Cert.MixDyReferenceIdeal.τ Cert.MixDyReferenceIdeal.sig) → Buf (Elt Ideal) ℓ) (g' : Dev Cert.MixDyReferenceIdeal.nD → PrngReg), Pre_MixDyKernelIdeal m →
    (∀ c : Dev Cert.MixDyKernelIdeal.nD,
      m' ((c.tc : Thread Cert.MixDyReferenceIdeal.nD Cert.MixDyReferenceIdeal.τ).loc Cert.MixDyReferenceIdeal.main_arg0) = m ((c.tc : Thread Cert.MixDyKernelIdeal.nD Cert.MixDyKernelIdeal.τ).loc Cert.MixDyKernelIdeal.main_arg0)
      ∧ m' ((c.tc : Thread Cert.MixDyReferenceIdeal.nD Cert.MixDyReferenceIdeal.τ).loc Cert.MixDyReferenceIdeal.main_arg1) = m ((c.tc : Thread Cert.MixDyKernelIdeal.nD Cert.MixDyKernelIdeal.τ).loc Cert.MixDyKernelIdeal.main_arg1)) →
    ∃ (v0 : (c : Dev Cert.MixDyKernelIdeal.nD) → Buf (Elt Ideal) ((c.tc : Thread Cert.MixDyKernelIdeal.nD Cert.MixDyKernelIdeal.τ).loc Cert.MixDyKernelIdeal.main_v1)),
      θ_run (Cert.MixDyKernelIdeal.defs (F := Ideal)) (onTc (τ := Cert.MixDyKernelIdeal.τ) (Cert.MixDyKernelIdeal.main (F := Ideal))) ⟨m, fun _ => 0, g⟩ (fun r => ∀ c : Dev Cert.MixDyKernelIdeal.nD,
          r.2.mem ((c.tc : Thread Cert.MixDyKernelIdeal.nD Cert.MixDyKernelIdeal.τ).loc Cert.MixDyKernelIdeal.main_v1) = v0 c
          ∧ r.2.mem ((c.tc : Thread Cert.MixDyKernelIdeal.nD Cert.MixDyKernelIdeal.τ).loc Cert.MixDyKernelIdeal.main_arg0) = m ((c.tc : Thread Cert.MixDyKernelIdeal.nD Cert.MixDyKernelIdeal.τ).loc Cert.MixDyKernelIdeal.main_arg0)
          ∧ r.2.mem ((c.tc : Thread Cert.MixDyKernelIdeal.nD Cert.MixDyKernelIdeal.τ).loc Cert.MixDyKernelIdeal.main_arg1) = m ((c.tc : Thread Cert.MixDyKernelIdeal.nD Cert.MixDyKernelIdeal.τ).loc Cert.MixDyKernelIdeal.main_arg1))
      ∧ θ_run (Cert.MixDyReferenceIdeal.defs (F := Ideal)) (onTc (τ := Cert.MixDyReferenceIdeal.τ) (Cert.MixDyReferenceIdeal.main (F := Ideal))) ⟨m', fun _ => 0, g'⟩ (fun r => ∀ c : Dev Cert.MixDyReferenceIdeal.nD,
          r.2.mem ((c.tc : Thread Cert.MixDyReferenceIdeal.nD Cert.MixDyReferenceIdeal.τ).loc Cert.MixDyReferenceIdeal.main_v2) = v0 c
          ∧ r.2.mem ((c.tc : Thread Cert.MixDyReferenceIdeal.nD Cert.MixDyReferenceIdeal.τ).loc Cert.MixDyReferenceIdeal.main_arg0) = m' ((c.tc : Thread Cert.MixDyReferenceIdeal.nD Cert.MixDyReferenceIdeal.τ).loc Cert.MixDyReferenceIdeal.main_arg0)
          ∧ r.2.mem ((c.tc : Thread Cert.MixDyReferenceIdeal.nD Cert.MixDyReferenceIdeal.τ).loc Cert.MixDyReferenceIdeal.main_arg1) = m' ((c.tc : Thread Cert.MixDyReferenceIdeal.nD Cert.MixDyReferenceIdeal.τ).loc Cert.MixDyReferenceIdeal.main_arg1))

def preserves_MixDwoutKernel_MixDwoutKernelIdeal : Prop :=
  True

def algebraic_MixDwoutKernelIdeal_MixDwoutReferenceIdeal [hMixDwoutKernelIdeal : Cert.MixDwoutKernelIdeal.Facts] [hMixDwoutReferenceIdeal : Cert.MixDwoutReferenceIdeal.Facts] : Prop :=
  ∀ (m : (ℓ : Loc Cert.MixDwoutKernelIdeal.nD Cert.MixDwoutKernelIdeal.τ Cert.MixDwoutKernelIdeal.sig) → Buf (Elt Ideal) ℓ) (g : Dev Cert.MixDwoutKernelIdeal.nD → PrngReg)
    (m' : (ℓ : Loc Cert.MixDwoutReferenceIdeal.nD Cert.MixDwoutReferenceIdeal.τ Cert.MixDwoutReferenceIdeal.sig) → Buf (Elt Ideal) ℓ) (g' : Dev Cert.MixDwoutReferenceIdeal.nD → PrngReg), Pre_MixDwoutKernelIdeal m →
    (∀ c : Dev Cert.MixDwoutKernelIdeal.nD,
      m' ((c.tc : Thread Cert.MixDwoutReferenceIdeal.nD Cert.MixDwoutReferenceIdeal.τ).loc Cert.MixDwoutReferenceIdeal.main_arg0) = m ((c.tc : Thread Cert.MixDwoutKernelIdeal.nD Cert.MixDwoutKernelIdeal.τ).loc Cert.MixDwoutKernelIdeal.main_arg0)
      ∧ m' ((c.tc : Thread Cert.MixDwoutReferenceIdeal.nD Cert.MixDwoutReferenceIdeal.τ).loc Cert.MixDwoutReferenceIdeal.main_arg1) = m ((c.tc : Thread Cert.MixDwoutKernelIdeal.nD Cert.MixDwoutKernelIdeal.τ).loc Cert.MixDwoutKernelIdeal.main_arg1)) →
    ∃ (v0 : (c : Dev Cert.MixDwoutKernelIdeal.nD) → Buf (Elt Ideal) ((c.tc : Thread Cert.MixDwoutKernelIdeal.nD Cert.MixDwoutKernelIdeal.τ).loc Cert.MixDwoutKernelIdeal.main_v0)),
      θ_run (Cert.MixDwoutKernelIdeal.defs (F := Ideal)) (onTc (τ := Cert.MixDwoutKernelIdeal.τ) (Cert.MixDwoutKernelIdeal.main (F := Ideal))) ⟨m, fun _ => 0, g⟩ (fun r => ∀ c : Dev Cert.MixDwoutKernelIdeal.nD,
          r.2.mem ((c.tc : Thread Cert.MixDwoutKernelIdeal.nD Cert.MixDwoutKernelIdeal.τ).loc Cert.MixDwoutKernelIdeal.main_v0) = v0 c
          ∧ r.2.mem ((c.tc : Thread Cert.MixDwoutKernelIdeal.nD Cert.MixDwoutKernelIdeal.τ).loc Cert.MixDwoutKernelIdeal.main_arg0) = m ((c.tc : Thread Cert.MixDwoutKernelIdeal.nD Cert.MixDwoutKernelIdeal.τ).loc Cert.MixDwoutKernelIdeal.main_arg0)
          ∧ r.2.mem ((c.tc : Thread Cert.MixDwoutKernelIdeal.nD Cert.MixDwoutKernelIdeal.τ).loc Cert.MixDwoutKernelIdeal.main_arg1) = m ((c.tc : Thread Cert.MixDwoutKernelIdeal.nD Cert.MixDwoutKernelIdeal.τ).loc Cert.MixDwoutKernelIdeal.main_arg1))
      ∧ θ_run (Cert.MixDwoutReferenceIdeal.defs (F := Ideal)) (onTc (τ := Cert.MixDwoutReferenceIdeal.τ) (Cert.MixDwoutReferenceIdeal.main (F := Ideal))) ⟨m', fun _ => 0, g'⟩ (fun r => ∀ c : Dev Cert.MixDwoutReferenceIdeal.nD,
          r.2.mem ((c.tc : Thread Cert.MixDwoutReferenceIdeal.nD Cert.MixDwoutReferenceIdeal.τ).loc Cert.MixDwoutReferenceIdeal.main_v5) = v0 c
          ∧ r.2.mem ((c.tc : Thread Cert.MixDwoutReferenceIdeal.nD Cert.MixDwoutReferenceIdeal.τ).loc Cert.MixDwoutReferenceIdeal.main_arg0) = m' ((c.tc : Thread Cert.MixDwoutReferenceIdeal.nD Cert.MixDwoutReferenceIdeal.τ).loc Cert.MixDwoutReferenceIdeal.main_arg0)
          ∧ r.2.mem ((c.tc : Thread Cert.MixDwoutReferenceIdeal.nD Cert.MixDwoutReferenceIdeal.τ).loc Cert.MixDwoutReferenceIdeal.main_arg1) = m' ((c.tc : Thread Cert.MixDwoutReferenceIdeal.nD Cert.MixDwoutReferenceIdeal.τ).loc Cert.MixDwoutReferenceIdeal.main_arg1))

def preserves_AdamModelKernel_AdamModelKernelIdeal : Prop :=
  True

def algebraic_AdamModelKernelIdeal_AdamModelReferenceIdeal [hAdamModelKernelIdeal : Cert.AdamModelKernelIdeal.Facts] [hAdamModelReferenceIdeal : Cert.AdamModelReferenceIdeal.Facts] : Prop :=
  ∀ (m : (ℓ : Loc Cert.AdamModelKernelIdeal.nD Cert.AdamModelKernelIdeal.τ Cert.AdamModelKernelIdeal.sig) → Buf (Elt Ideal) ℓ) (g : Dev Cert.AdamModelKernelIdeal.nD → PrngReg)
    (m' : (ℓ : Loc Cert.AdamModelReferenceIdeal.nD Cert.AdamModelReferenceIdeal.τ Cert.AdamModelReferenceIdeal.sig) → Buf (Elt Ideal) ℓ) (g' : Dev Cert.AdamModelReferenceIdeal.nD → PrngReg), Pre_AdamModelKernelIdeal m →
    (∀ c : Dev Cert.AdamModelKernelIdeal.nD,
      m' ((c.tc : Thread Cert.AdamModelReferenceIdeal.nD Cert.AdamModelReferenceIdeal.τ).loc Cert.AdamModelReferenceIdeal.main_arg0) = m ((c.tc : Thread Cert.AdamModelKernelIdeal.nD Cert.AdamModelKernelIdeal.τ).loc Cert.AdamModelKernelIdeal.main_arg0)
      ∧ m' ((c.tc : Thread Cert.AdamModelReferenceIdeal.nD Cert.AdamModelReferenceIdeal.τ).loc Cert.AdamModelReferenceIdeal.main_arg1) = m ((c.tc : Thread Cert.AdamModelKernelIdeal.nD Cert.AdamModelKernelIdeal.τ).loc Cert.AdamModelKernelIdeal.main_arg1)
      ∧ m' ((c.tc : Thread Cert.AdamModelReferenceIdeal.nD Cert.AdamModelReferenceIdeal.τ).loc Cert.AdamModelReferenceIdeal.main_arg2) = m ((c.tc : Thread Cert.AdamModelKernelIdeal.nD Cert.AdamModelKernelIdeal.τ).loc Cert.AdamModelKernelIdeal.main_arg2)
      ∧ m' ((c.tc : Thread Cert.AdamModelReferenceIdeal.nD Cert.AdamModelReferenceIdeal.τ).loc Cert.AdamModelReferenceIdeal.main_arg3) = m ((c.tc : Thread Cert.AdamModelKernelIdeal.nD Cert.AdamModelKernelIdeal.τ).loc Cert.AdamModelKernelIdeal.main_arg3)) →
    ∃ (v0 : (c : Dev Cert.AdamModelKernelIdeal.nD) → Buf (Elt Ideal) ((c.tc : Thread Cert.AdamModelKernelIdeal.nD Cert.AdamModelKernelIdeal.τ).loc Cert.AdamModelKernelIdeal.main_v0_0)) (v1 : (c : Dev Cert.AdamModelKernelIdeal.nD) → Buf (Elt Ideal) ((c.tc : Thread Cert.AdamModelKernelIdeal.nD Cert.AdamModelKernelIdeal.τ).loc Cert.AdamModelKernelIdeal.main_v0_1)) (v2 : (c : Dev Cert.AdamModelKernelIdeal.nD) → Buf (Elt Ideal) ((c.tc : Thread Cert.AdamModelKernelIdeal.nD Cert.AdamModelKernelIdeal.τ).loc Cert.AdamModelKernelIdeal.main_v0_2)),
      θ_run (Cert.AdamModelKernelIdeal.defs (F := Ideal)) (onTc (τ := Cert.AdamModelKernelIdeal.τ) (Cert.AdamModelKernelIdeal.main (F := Ideal))) ⟨m, fun _ => 0, g⟩ (fun r => ∀ c : Dev Cert.AdamModelKernelIdeal.nD,
          r.2.mem ((c.tc : Thread Cert.AdamModelKernelIdeal.nD Cert.AdamModelKernelIdeal.τ).loc Cert.AdamModelKernelIdeal.main_v0_0) = v0 c
          ∧ r.2.mem ((c.tc : Thread Cert.AdamModelKernelIdeal.nD Cert.AdamModelKernelIdeal.τ).loc Cert.AdamModelKernelIdeal.main_v0_1) = v1 c
          ∧ r.2.mem ((c.tc : Thread Cert.AdamModelKernelIdeal.nD Cert.AdamModelKernelIdeal.τ).loc Cert.AdamModelKernelIdeal.main_v0_2) = v2 c
          ∧ r.2.mem ((c.tc : Thread Cert.AdamModelKernelIdeal.nD Cert.AdamModelKernelIdeal.τ).loc Cert.AdamModelKernelIdeal.main_arg0) = m ((c.tc : Thread Cert.AdamModelKernelIdeal.nD Cert.AdamModelKernelIdeal.τ).loc Cert.AdamModelKernelIdeal.main_arg0)
          ∧ r.2.mem ((c.tc : Thread Cert.AdamModelKernelIdeal.nD Cert.AdamModelKernelIdeal.τ).loc Cert.AdamModelKernelIdeal.main_arg1) = m ((c.tc : Thread Cert.AdamModelKernelIdeal.nD Cert.AdamModelKernelIdeal.τ).loc Cert.AdamModelKernelIdeal.main_arg1)
          ∧ r.2.mem ((c.tc : Thread Cert.AdamModelKernelIdeal.nD Cert.AdamModelKernelIdeal.τ).loc Cert.AdamModelKernelIdeal.main_arg2) = m ((c.tc : Thread Cert.AdamModelKernelIdeal.nD Cert.AdamModelKernelIdeal.τ).loc Cert.AdamModelKernelIdeal.main_arg2)
          ∧ r.2.mem ((c.tc : Thread Cert.AdamModelKernelIdeal.nD Cert.AdamModelKernelIdeal.τ).loc Cert.AdamModelKernelIdeal.main_arg3) = m ((c.tc : Thread Cert.AdamModelKernelIdeal.nD Cert.AdamModelKernelIdeal.τ).loc Cert.AdamModelKernelIdeal.main_arg3))
      ∧ θ_run (Cert.AdamModelReferenceIdeal.defs (F := Ideal)) (onTc (τ := Cert.AdamModelReferenceIdeal.τ) (Cert.AdamModelReferenceIdeal.main (F := Ideal))) ⟨m', fun _ => 0, g'⟩ (fun r => ∀ c : Dev Cert.AdamModelReferenceIdeal.nD,
          r.2.mem ((c.tc : Thread Cert.AdamModelReferenceIdeal.nD Cert.AdamModelReferenceIdeal.τ).loc Cert.AdamModelReferenceIdeal.main_v23) = v0 c
          ∧ r.2.mem ((c.tc : Thread Cert.AdamModelReferenceIdeal.nD Cert.AdamModelReferenceIdeal.τ).loc Cert.AdamModelReferenceIdeal.main_v4) = v1 c
          ∧ r.2.mem ((c.tc : Thread Cert.AdamModelReferenceIdeal.nD Cert.AdamModelReferenceIdeal.τ).loc Cert.AdamModelReferenceIdeal.main_v10) = v2 c
          ∧ r.2.mem ((c.tc : Thread Cert.AdamModelReferenceIdeal.nD Cert.AdamModelReferenceIdeal.τ).loc Cert.AdamModelReferenceIdeal.main_arg0) = m' ((c.tc : Thread Cert.AdamModelReferenceIdeal.nD Cert.AdamModelReferenceIdeal.τ).loc Cert.AdamModelReferenceIdeal.main_arg0)
          ∧ r.2.mem ((c.tc : Thread Cert.AdamModelReferenceIdeal.nD Cert.AdamModelReferenceIdeal.τ).loc Cert.AdamModelReferenceIdeal.main_arg1) = m' ((c.tc : Thread Cert.AdamModelReferenceIdeal.nD Cert.AdamModelReferenceIdeal.τ).loc Cert.AdamModelReferenceIdeal.main_arg1)
          ∧ r.2.mem ((c.tc : Thread Cert.AdamModelReferenceIdeal.nD Cert.AdamModelReferenceIdeal.τ).loc Cert.AdamModelReferenceIdeal.main_arg2) = m' ((c.tc : Thread Cert.AdamModelReferenceIdeal.nD Cert.AdamModelReferenceIdeal.τ).loc Cert.AdamModelReferenceIdeal.main_arg2)
          ∧ r.2.mem ((c.tc : Thread Cert.AdamModelReferenceIdeal.nD Cert.AdamModelReferenceIdeal.τ).loc Cert.AdamModelReferenceIdeal.main_arg3) = m' ((c.tc : Thread Cert.AdamModelReferenceIdeal.nD Cert.AdamModelReferenceIdeal.τ).loc Cert.AdamModelReferenceIdeal.main_arg3))

def preserves_AdamConvKernel_AdamConvKernelIdeal : Prop :=
  True

def algebraic_AdamConvKernelIdeal_AdamConvReferenceIdeal [hAdamConvKernelIdeal : Cert.AdamConvKernelIdeal.Facts] [hAdamConvReferenceIdeal : Cert.AdamConvReferenceIdeal.Facts] : Prop :=
  ∀ (m : (ℓ : Loc Cert.AdamConvKernelIdeal.nD Cert.AdamConvKernelIdeal.τ Cert.AdamConvKernelIdeal.sig) → Buf (Elt Ideal) ℓ) (g : Dev Cert.AdamConvKernelIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvKernelIdeal m →
    (∀ c : Dev Cert.AdamConvKernelIdeal.nD,
      m' ((c.tc : Thread Cert.AdamConvReferenceIdeal.nD Cert.AdamConvReferenceIdeal.τ).loc Cert.AdamConvReferenceIdeal.main_arg0) = m ((c.tc : Thread Cert.AdamConvKernelIdeal.nD Cert.AdamConvKernelIdeal.τ).loc Cert.AdamConvKernelIdeal.main_arg0)
      ∧ m' ((c.tc : Thread Cert.AdamConvReferenceIdeal.nD Cert.AdamConvReferenceIdeal.τ).loc Cert.AdamConvReferenceIdeal.main_arg1) = m ((c.tc : Thread Cert.AdamConvKernelIdeal.nD Cert.AdamConvKernelIdeal.τ).loc Cert.AdamConvKernelIdeal.main_arg1)
      ∧ m' ((c.tc : Thread Cert.AdamConvReferenceIdeal.nD Cert.AdamConvReferenceIdeal.τ).loc Cert.AdamConvReferenceIdeal.main_arg2) = m ((c.tc : Thread Cert.AdamConvKernelIdeal.nD Cert.AdamConvKernelIdeal.τ).loc Cert.AdamConvKernelIdeal.main_arg2)
      ∧ m' ((c.tc : Thread Cert.AdamConvReferenceIdeal.nD Cert.AdamConvReferenceIdeal.τ).loc Cert.AdamConvReferenceIdeal.main_arg3) = m ((c.tc : Thread Cert.AdamConvKernelIdeal.nD Cert.AdamConvKernelIdeal.τ).loc Cert.AdamConvKernelIdeal.main_arg3)) →
    ∃ (v0 : (c : Dev Cert.AdamConvKernelIdeal.nD) → Buf (Elt Ideal) ((c.tc : Thread Cert.AdamConvKernelIdeal.nD Cert.AdamConvKernelIdeal.τ).loc Cert.AdamConvKernelIdeal.main_v0_0)) (v1 : (c : Dev Cert.AdamConvKernelIdeal.nD) → Buf (Elt Ideal) ((c.tc : Thread Cert.AdamConvKernelIdeal.nD Cert.AdamConvKernelIdeal.τ).loc Cert.AdamConvKernelIdeal.main_v0_1)) (v2 : (c : Dev Cert.AdamConvKernelIdeal.nD) → Buf (Elt Ideal) ((c.tc : Thread Cert.AdamConvKernelIdeal.nD Cert.AdamConvKernelIdeal.τ).loc Cert.AdamConvKernelIdeal.main_v0_2)),
      θ_run (Cert.AdamConvKernelIdeal.defs (F := Ideal)) (onTc (τ := Cert.AdamConvKernelIdeal.τ) (Cert.AdamConvKernelIdeal.main (F := Ideal))) ⟨m, fun _ => 0, g⟩ (fun r => ∀ c : Dev Cert.AdamConvKernelIdeal.nD,
          r.2.mem ((c.tc : Thread Cert.AdamConvKernelIdeal.nD Cert.AdamConvKernelIdeal.τ).loc Cert.AdamConvKernelIdeal.main_v0_0) = v0 c
          ∧ r.2.mem ((c.tc : Thread Cert.AdamConvKernelIdeal.nD Cert.AdamConvKernelIdeal.τ).loc Cert.AdamConvKernelIdeal.main_v0_1) = v1 c
          ∧ r.2.mem ((c.tc : Thread Cert.AdamConvKernelIdeal.nD Cert.AdamConvKernelIdeal.τ).loc Cert.AdamConvKernelIdeal.main_v0_2) = v2 c
          ∧ r.2.mem ((c.tc : Thread Cert.AdamConvKernelIdeal.nD Cert.AdamConvKernelIdeal.τ).loc Cert.AdamConvKernelIdeal.main_arg0) = m ((c.tc : Thread Cert.AdamConvKernelIdeal.nD Cert.AdamConvKernelIdeal.τ).loc Cert.AdamConvKernelIdeal.main_arg0)
          ∧ r.2.mem ((c.tc : Thread Cert.AdamConvKernelIdeal.nD Cert.AdamConvKernelIdeal.τ).loc Cert.AdamConvKernelIdeal.main_arg1) = m ((c.tc : Thread Cert.AdamConvKernelIdeal.nD Cert.AdamConvKernelIdeal.τ).loc Cert.AdamConvKernelIdeal.main_arg1)
          ∧ r.2.mem ((c.tc : Thread Cert.AdamConvKernelIdeal.nD Cert.AdamConvKernelIdeal.τ).loc Cert.AdamConvKernelIdeal.main_arg2) = m ((c.tc : Thread Cert.AdamConvKernelIdeal.nD Cert.AdamConvKernelIdeal.τ).loc Cert.AdamConvKernelIdeal.main_arg2)
          ∧ r.2.mem ((c.tc : Thread Cert.AdamConvKernelIdeal.nD Cert.AdamConvKernelIdeal.τ).loc Cert.AdamConvKernelIdeal.main_arg3) = m ((c.tc : Thread Cert.AdamConvKernelIdeal.nD Cert.AdamConvKernelIdeal.τ).loc Cert.AdamConvKernelIdeal.main_arg3))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v23) = v0 c
          ∧ r.2.mem ((c.tc : Thread Cert.AdamConvReferenceIdeal.nD Cert.AdamConvReferenceIdeal.τ).loc Cert.AdamConvReferenceIdeal.main_v4) = v1 c
          ∧ r.2.mem ((c.tc : Thread Cert.AdamConvReferenceIdeal.nD Cert.AdamConvReferenceIdeal.τ).loc Cert.AdamConvReferenceIdeal.main_v10) = v2 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3))

def preserves_AdamLatentKernel_AdamLatentKernelIdeal : Prop :=
  True

def algebraic_AdamLatentKernelIdeal_AdamLatentReferenceIdeal [hAdamLatentKernelIdeal : Cert.AdamLatentKernelIdeal.Facts] [hAdamLatentReferenceIdeal : Cert.AdamLatentReferenceIdeal.Facts] : Prop :=
  ∀ (m : (ℓ : Loc Cert.AdamLatentKernelIdeal.nD Cert.AdamLatentKernelIdeal.τ Cert.AdamLatentKernelIdeal.sig) → Buf (Elt Ideal) ℓ) (g : Dev Cert.AdamLatentKernelIdeal.nD → PrngReg)
    (m' : (ℓ : Loc Cert.AdamLatentReferenceIdeal.nD Cert.AdamLatentReferenceIdeal.τ Cert.AdamLatentReferenceIdeal.sig) → Buf (Elt Ideal) ℓ) (g' : Dev Cert.AdamLatentReferenceIdeal.nD → PrngReg), Pre_AdamLatentKernelIdeal m →
    (∀ c : Dev Cert.AdamLatentKernelIdeal.nD,
      m' ((c.tc : Thread Cert.AdamLatentReferenceIdeal.nD Cert.AdamLatentReferenceIdeal.τ).loc Cert.AdamLatentReferenceIdeal.main_arg0) = m ((c.tc : Thread Cert.AdamLatentKernelIdeal.nD Cert.AdamLatentKernelIdeal.τ).loc Cert.AdamLatentKernelIdeal.main_arg0)
      ∧ m' ((c.tc : Thread Cert.AdamLatentReferenceIdeal.nD Cert.AdamLatentReferenceIdeal.τ).loc Cert.AdamLatentReferenceIdeal.main_arg1) = m ((c.tc : Thread Cert.AdamLatentKernelIdeal.nD Cert.AdamLatentKernelIdeal.τ).loc Cert.AdamLatentKernelIdeal.main_arg1)
      ∧ m' ((c.tc : Thread Cert.AdamLatentReferenceIdeal.nD Cert.AdamLatentReferenceIdeal.τ).loc Cert.AdamLatentReferenceIdeal.main_arg2) = m ((c.tc : Thread Cert.AdamLatentKernelIdeal.nD Cert.AdamLatentKernelIdeal.τ).loc Cert.AdamLatentKernelIdeal.main_arg2)
      ∧ m' ((c.tc : Thread Cert.AdamLatentReferenceIdeal.nD Cert.AdamLatentReferenceIdeal.τ).loc Cert.AdamLatentReferenceIdeal.main_arg3) = m ((c.tc : Thread Cert.AdamLatentKernelIdeal.nD Cert.AdamLatentKernelIdeal.τ).loc Cert.AdamLatentKernelIdeal.main_arg3)) →
    ∃ (v0 : (c : Dev Cert.AdamLatentKernelIdeal.nD) → Buf (Elt Ideal) ((c.tc : Thread Cert.AdamLatentKernelIdeal.nD Cert.AdamLatentKernelIdeal.τ).loc Cert.AdamLatentKernelIdeal.main_v0_0)) (v1 : (c : Dev Cert.AdamLatentKernelIdeal.nD) → Buf (Elt Ideal) ((c.tc : Thread Cert.AdamLatentKernelIdeal.nD Cert.AdamLatentKernelIdeal.τ).loc Cert.AdamLatentKernelIdeal.main_v0_1)) (v2 : (c : Dev Cert.AdamLatentKernelIdeal.nD) → Buf (Elt Ideal) ((c.tc : Thread Cert.AdamLatentKernelIdeal.nD Cert.AdamLatentKernelIdeal.τ).loc Cert.AdamLatentKernelIdeal.main_v0_2)),
      θ_run (Cert.AdamLatentKernelIdeal.defs (F := Ideal)) (onTc (τ := Cert.AdamLatentKernelIdeal.τ) (Cert.AdamLatentKernelIdeal.main (F := Ideal))) ⟨m, fun _ => 0, g⟩ (fun r => ∀ c : Dev Cert.AdamLatentKernelIdeal.nD,
          r.2.mem ((c.tc : Thread Cert.AdamLatentKernelIdeal.nD Cert.AdamLatentKernelIdeal.τ).loc Cert.AdamLatentKernelIdeal.main_v0_0) = v0 c
          ∧ r.2.mem ((c.tc : Thread Cert.AdamLatentKernelIdeal.nD Cert.AdamLatentKernelIdeal.τ).loc Cert.AdamLatentKernelIdeal.main_v0_1) = v1 c
          ∧ r.2.mem ((c.tc : Thread Cert.AdamLatentKernelIdeal.nD Cert.AdamLatentKernelIdeal.τ).loc Cert.AdamLatentKernelIdeal.main_v0_2) = v2 c
          ∧ r.2.mem ((c.tc : Thread Cert.AdamLatentKernelIdeal.nD Cert.AdamLatentKernelIdeal.τ).loc Cert.AdamLatentKernelIdeal.main_arg0) = m ((c.tc : Thread Cert.AdamLatentKernelIdeal.nD Cert.AdamLatentKernelIdeal.τ).loc Cert.AdamLatentKernelIdeal.main_arg0)
          ∧ r.2.mem ((c.tc : Thread Cert.AdamLatentKernelIdeal.nD Cert.AdamLatentKernelIdeal.τ).loc Cert.AdamLatentKernelIdeal.main_arg1) = m ((c.tc : Thread Cert.AdamLatentKernelIdeal.nD Cert.AdamLatentKernelIdeal.τ).loc Cert.AdamLatentKernelIdeal.main_arg1)
          ∧ r.2.mem ((c.tc : Thread Cert.AdamLatentKernelIdeal.nD Cert.AdamLatentKernelIdeal.τ).loc Cert.AdamLatentKernelIdeal.main_arg2) = m ((c.tc : Thread Cert.AdamLatentKernelIdeal.nD Cert.AdamLatentKernelIdeal.τ).loc Cert.AdamLatentKernelIdeal.main_arg2)
          ∧ r.2.mem ((c.tc : Thread Cert.AdamLatentKernelIdeal.nD Cert.AdamLatentKernelIdeal.τ).loc Cert.AdamLatentKernelIdeal.main_arg3) = m ((c.tc : Thread Cert.AdamLatentKernelIdeal.nD Cert.AdamLatentKernelIdeal.τ).loc Cert.AdamLatentKernelIdeal.main_arg3))
      ∧ θ_run (Cert.AdamLatentReferenceIdeal.defs (F := Ideal)) (onTc (τ := Cert.AdamLatentReferenceIdeal.τ) (Cert.AdamLatentReferenceIdeal.main (F := Ideal))) ⟨m', fun _ => 0, g'⟩ (fun r => ∀ c : Dev Cert.AdamLatentReferenceIdeal.nD,
          r.2.mem ((c.tc : Thread Cert.AdamLatentReferenceIdeal.nD Cert.AdamLatentReferenceIdeal.τ).loc Cert.AdamLatentReferenceIdeal.main_v23) = v0 c
          ∧ r.2.mem ((c.tc : Thread Cert.AdamLatentReferenceIdeal.nD Cert.AdamLatentReferenceIdeal.τ).loc Cert.AdamLatentReferenceIdeal.main_v4) = v1 c
          ∧ r.2.mem ((c.tc : Thread Cert.AdamLatentReferenceIdeal.nD Cert.AdamLatentReferenceIdeal.τ).loc Cert.AdamLatentReferenceIdeal.main_v10) = v2 c
          ∧ r.2.mem ((c.tc : Thread Cert.AdamLatentReferenceIdeal.nD Cert.AdamLatentReferenceIdeal.τ).loc Cert.AdamLatentReferenceIdeal.main_arg0) = m' ((c.tc : Thread Cert.AdamLatentReferenceIdeal.nD Cert.AdamLatentReferenceIdeal.τ).loc Cert.AdamLatentReferenceIdeal.main_arg0)
          ∧ r.2.mem ((c.tc : Thread Cert.AdamLatentReferenceIdeal.nD Cert.AdamLatentReferenceIdeal.τ).loc Cert.AdamLatentReferenceIdeal.main_arg1) = m' ((c.tc : Thread Cert.AdamLatentReferenceIdeal.nD Cert.AdamLatentReferenceIdeal.τ).loc Cert.AdamLatentReferenceIdeal.main_arg1)
          ∧ r.2.mem ((c.tc : Thread Cert.AdamLatentReferenceIdeal.nD Cert.AdamLatentReferenceIdeal.τ).loc Cert.AdamLatentReferenceIdeal.main_arg2) = m' ((c.tc : Thread Cert.AdamLatentReferenceIdeal.nD Cert.AdamLatentReferenceIdeal.τ).loc Cert.AdamLatentReferenceIdeal.main_arg2)
          ∧ r.2.mem ((c.tc : Thread Cert.AdamLatentReferenceIdeal.nD Cert.AdamLatentReferenceIdeal.τ).loc Cert.AdamLatentReferenceIdeal.main_arg3) = m' ((c.tc : Thread Cert.AdamLatentReferenceIdeal.nD Cert.AdamLatentReferenceIdeal.τ).loc Cert.AdamLatentReferenceIdeal.main_arg3))

def preserves_AdamHeadKernel_AdamHeadKernelIdeal : Prop :=
  True

def algebraic_AdamHeadKernelIdeal_AdamHeadReferenceIdeal [hAdamHeadKernelIdeal : Cert.AdamHeadKernelIdeal.Facts] [hAdamHeadReferenceIdeal : Cert.AdamHeadReferenceIdeal.Facts] : Prop :=
  ∀ (m : (ℓ : Loc Cert.AdamHeadKernelIdeal.nD Cert.AdamHeadKernelIdeal.τ Cert.AdamHeadKernelIdeal.sig) → Buf (Elt Ideal) ℓ) (g : Dev Cert.AdamHeadKernelIdeal.nD → PrngReg)
    (m' : (ℓ : Loc Cert.AdamHeadReferenceIdeal.nD Cert.AdamHeadReferenceIdeal.τ Cert.AdamHeadReferenceIdeal.sig) → Buf (Elt Ideal) ℓ) (g' : Dev Cert.AdamHeadReferenceIdeal.nD → PrngReg), Pre_AdamHeadKernelIdeal m →
    (∀ c : Dev Cert.AdamHeadKernelIdeal.nD,
      m' ((c.tc : Thread Cert.AdamHeadReferenceIdeal.nD Cert.AdamHeadReferenceIdeal.τ).loc Cert.AdamHeadReferenceIdeal.main_arg0) = m ((c.tc : Thread Cert.AdamHeadKernelIdeal.nD Cert.AdamHeadKernelIdeal.τ).loc Cert.AdamHeadKernelIdeal.main_arg0)
      ∧ m' ((c.tc : Thread Cert.AdamHeadReferenceIdeal.nD Cert.AdamHeadReferenceIdeal.τ).loc Cert.AdamHeadReferenceIdeal.main_arg1) = m ((c.tc : Thread Cert.AdamHeadKernelIdeal.nD Cert.AdamHeadKernelIdeal.τ).loc Cert.AdamHeadKernelIdeal.main_arg1)
      ∧ m' ((c.tc : Thread Cert.AdamHeadReferenceIdeal.nD Cert.AdamHeadReferenceIdeal.τ).loc Cert.AdamHeadReferenceIdeal.main_arg2) = m ((c.tc : Thread Cert.AdamHeadKernelIdeal.nD Cert.AdamHeadKernelIdeal.τ).loc Cert.AdamHeadKernelIdeal.main_arg2)
      ∧ m' ((c.tc : Thread Cert.AdamHeadReferenceIdeal.nD Cert.AdamHeadReferenceIdeal.τ).loc Cert.AdamHeadReferenceIdeal.main_arg3) = m ((c.tc : Thread Cert.AdamHeadKernelIdeal.nD Cert.AdamHeadKernelIdeal.τ).loc Cert.AdamHeadKernelIdeal.main_arg3)) →
    ∃ (v0 : (c : Dev Cert.AdamHeadKernelIdeal.nD) → Buf (Elt Ideal) ((c.tc : Thread Cert.AdamHeadKernelIdeal.nD Cert.AdamHeadKernelIdeal.τ).loc Cert.AdamHeadKernelIdeal.main_v0_0)) (v1 : (c : Dev Cert.AdamHeadKernelIdeal.nD) → Buf (Elt Ideal) ((c.tc : Thread Cert.AdamHeadKernelIdeal.nD Cert.AdamHeadKernelIdeal.τ).loc Cert.AdamHeadKernelIdeal.main_v0_1)) (v2 : (c : Dev Cert.AdamHeadKernelIdeal.nD) → Buf (Elt Ideal) ((c.tc : Thread Cert.AdamHeadKernelIdeal.nD Cert.AdamHeadKernelIdeal.τ).loc Cert.AdamHeadKernelIdeal.main_v0_2)),
      θ_run (Cert.AdamHeadKernelIdeal.defs (F := Ideal)) (onTc (τ := Cert.AdamHeadKernelIdeal.τ) (Cert.AdamHeadKernelIdeal.main (F := Ideal))) ⟨m, fun _ => 0, g⟩ (fun r => ∀ c : Dev Cert.AdamHeadKernelIdeal.nD,
          r.2.mem ((c.tc : Thread Cert.AdamHeadKernelIdeal.nD Cert.AdamHeadKernelIdeal.τ).loc Cert.AdamHeadKernelIdeal.main_v0_0) = v0 c
          ∧ r.2.mem ((c.tc : Thread Cert.AdamHeadKernelIdeal.nD Cert.AdamHeadKernelIdeal.τ).loc Cert.AdamHeadKernelIdeal.main_v0_1) = v1 c
          ∧ r.2.mem ((c.tc : Thread Cert.AdamHeadKernelIdeal.nD Cert.AdamHeadKernelIdeal.τ).loc Cert.AdamHeadKernelIdeal.main_v0_2) = v2 c
          ∧ r.2.mem ((c.tc : Thread Cert.AdamHeadKernelIdeal.nD Cert.AdamHeadKernelIdeal.τ).loc Cert.AdamHeadKernelIdeal.main_arg0) = m ((c.tc : Thread Cert.AdamHeadKernelIdeal.nD Cert.AdamHeadKernelIdeal.τ).loc Cert.AdamHeadKernelIdeal.main_arg0)
          ∧ r.2.mem ((c.tc : Thread Cert.AdamHeadKernelIdeal.nD Cert.AdamHeadKernelIdeal.τ).loc Cert.AdamHeadKernelIdeal.main_arg1) = m ((c.tc : Thread Cert.AdamHeadKernelIdeal.nD Cert.AdamHeadKernelIdeal.τ).loc Cert.AdamHeadKernelIdeal.main_arg1)
          ∧ r.2.mem ((c.tc : Thread Cert.AdamHeadKernelIdeal.nD Cert.AdamHeadKernelIdeal.τ).loc Cert.AdamHeadKernelIdeal.main_arg2) = m ((c.tc : Thread Cert.AdamHeadKernelIdeal.nD Cert.AdamHeadKernelIdeal.τ).loc Cert.AdamHeadKernelIdeal.main_arg2)
          ∧ r.2.mem ((c.tc : Thread Cert.AdamHeadKernelIdeal.nD Cert.AdamHeadKernelIdeal.τ).loc Cert.AdamHeadKernelIdeal.main_arg3) = m ((c.tc : Thread Cert.AdamHeadKernelIdeal.nD Cert.AdamHeadKernelIdeal.τ).loc Cert.AdamHeadKernelIdeal.main_arg3))
      ∧ θ_run (Cert.AdamHeadReferenceIdeal.defs (F := Ideal)) (onTc (τ := Cert.AdamHeadReferenceIdeal.τ) (Cert.AdamHeadReferenceIdeal.main (F := Ideal))) ⟨m', fun _ => 0, g'⟩ (fun r => ∀ c : Dev Cert.AdamHeadReferenceIdeal.nD,
          r.2.mem ((c.tc : Thread Cert.AdamHeadReferenceIdeal.nD Cert.AdamHeadReferenceIdeal.τ).loc Cert.AdamHeadReferenceIdeal.main_v23) = v0 c
          ∧ r.2.mem ((c.tc : Thread Cert.AdamHeadReferenceIdeal.nD Cert.AdamHeadReferenceIdeal.τ).loc Cert.AdamHeadReferenceIdeal.main_v4) = v1 c
          ∧ r.2.mem ((c.tc : Thread Cert.AdamHeadReferenceIdeal.nD Cert.AdamHeadReferenceIdeal.τ).loc Cert.AdamHeadReferenceIdeal.main_v10) = v2 c
          ∧ r.2.mem ((c.tc : Thread Cert.AdamHeadReferenceIdeal.nD Cert.AdamHeadReferenceIdeal.τ).loc Cert.AdamHeadReferenceIdeal.main_arg0) = m' ((c.tc : Thread Cert.AdamHeadReferenceIdeal.nD Cert.AdamHeadReferenceIdeal.τ).loc Cert.AdamHeadReferenceIdeal.main_arg0)
          ∧ r.2.mem ((c.tc : Thread Cert.AdamHeadReferenceIdeal.nD Cert.AdamHeadReferenceIdeal.τ).loc Cert.AdamHeadReferenceIdeal.main_arg1) = m' ((c.tc : Thread Cert.AdamHeadReferenceIdeal.nD Cert.AdamHeadReferenceIdeal.τ).loc Cert.AdamHeadReferenceIdeal.main_arg1)
          ∧ r.2.mem ((c.tc : Thread Cert.AdamHeadReferenceIdeal.nD Cert.AdamHeadReferenceIdeal.τ).loc Cert.AdamHeadReferenceIdeal.main_arg2) = m' ((c.tc : Thread Cert.AdamHeadReferenceIdeal.nD Cert.AdamHeadReferenceIdeal.τ).loc Cert.AdamHeadReferenceIdeal.main_arg2)
          ∧ r.2.mem ((c.tc : Thread Cert.AdamHeadReferenceIdeal.nD Cert.AdamHeadReferenceIdeal.τ).loc Cert.AdamHeadReferenceIdeal.main_arg3) = m' ((c.tc : Thread Cert.AdamHeadReferenceIdeal.nD Cert.AdamHeadReferenceIdeal.τ).loc Cert.AdamHeadReferenceIdeal.main_arg3))

def preserves_AdamTapsKernel_AdamTapsKernelIdeal : Prop :=
  True

def algebraic_AdamTapsKernelIdeal_AdamTapsReferenceIdeal [hAdamTapsKernelIdeal : Cert.AdamTapsKernelIdeal.Facts] [hAdamTapsReferenceIdeal : Cert.AdamTapsReferenceIdeal.Facts] : Prop :=
  ∀ (m : (ℓ : Loc Cert.AdamTapsKernelIdeal.nD Cert.AdamTapsKernelIdeal.τ Cert.AdamTapsKernelIdeal.sig) → Buf (Elt Ideal) ℓ) (g : Dev Cert.AdamTapsKernelIdeal.nD → PrngReg)
    (m' : (ℓ : Loc Cert.AdamTapsReferenceIdeal.nD Cert.AdamTapsReferenceIdeal.τ Cert.AdamTapsReferenceIdeal.sig) → Buf (Elt Ideal) ℓ) (g' : Dev Cert.AdamTapsReferenceIdeal.nD → PrngReg), Pre_AdamTapsKernelIdeal m →
    (∀ c : Dev Cert.AdamTapsKernelIdeal.nD,
      m' ((c.tc : Thread Cert.AdamTapsReferenceIdeal.nD Cert.AdamTapsReferenceIdeal.τ).loc Cert.AdamTapsReferenceIdeal.main_arg0) = m ((c.tc : Thread Cert.AdamTapsKernelIdeal.nD Cert.AdamTapsKernelIdeal.τ).loc Cert.AdamTapsKernelIdeal.main_arg0)
      ∧ m' ((c.tc : Thread Cert.AdamTapsReferenceIdeal.nD Cert.AdamTapsReferenceIdeal.τ).loc Cert.AdamTapsReferenceIdeal.main_arg1) = m ((c.tc : Thread Cert.AdamTapsKernelIdeal.nD Cert.AdamTapsKernelIdeal.τ).loc Cert.AdamTapsKernelIdeal.main_arg1)
      ∧ m' ((c.tc : Thread Cert.AdamTapsReferenceIdeal.nD Cert.AdamTapsReferenceIdeal.τ).loc Cert.AdamTapsReferenceIdeal.main_arg2) = m ((c.tc : Thread Cert.AdamTapsKernelIdeal.nD Cert.AdamTapsKernelIdeal.τ).loc Cert.AdamTapsKernelIdeal.main_arg2)
      ∧ m' ((c.tc : Thread Cert.AdamTapsReferenceIdeal.nD Cert.AdamTapsReferenceIdeal.τ).loc Cert.AdamTapsReferenceIdeal.main_arg3) = m ((c.tc : Thread Cert.AdamTapsKernelIdeal.nD Cert.AdamTapsKernelIdeal.τ).loc Cert.AdamTapsKernelIdeal.main_arg3)) →
    ∃ (v0 : (c : Dev Cert.AdamTapsKernelIdeal.nD) → Buf (Elt Ideal) ((c.tc : Thread Cert.AdamTapsKernelIdeal.nD Cert.AdamTapsKernelIdeal.τ).loc Cert.AdamTapsKernelIdeal.main_v4_0)) (v1 : (c : Dev Cert.AdamTapsKernelIdeal.nD) → Buf (Elt Ideal) ((c.tc : Thread Cert.AdamTapsKernelIdeal.nD Cert.AdamTapsKernelIdeal.τ).loc Cert.AdamTapsKernelIdeal.main_v4_1)) (v2 : (c : Dev Cert.AdamTapsKernelIdeal.nD) → Buf (Elt Ideal) ((c.tc : Thread Cert.AdamTapsKernelIdeal.nD Cert.AdamTapsKernelIdeal.τ).loc Cert.AdamTapsKernelIdeal.main_v4_2)),
      θ_run (Cert.AdamTapsKernelIdeal.defs (F := Ideal)) (onTc (τ := Cert.AdamTapsKernelIdeal.τ) (Cert.AdamTapsKernelIdeal.main (F := Ideal))) ⟨m, fun _ => 0, g⟩ (fun r => ∀ c : Dev Cert.AdamTapsKernelIdeal.nD,
          r.2.mem ((c.tc : Thread Cert.AdamTapsKernelIdeal.nD Cert.AdamTapsKernelIdeal.τ).loc Cert.AdamTapsKernelIdeal.main_v4_0) = v0 c
          ∧ r.2.mem ((c.tc : Thread Cert.AdamTapsKernelIdeal.nD Cert.AdamTapsKernelIdeal.τ).loc Cert.AdamTapsKernelIdeal.main_v4_1) = v1 c
          ∧ r.2.mem ((c.tc : Thread Cert.AdamTapsKernelIdeal.nD Cert.AdamTapsKernelIdeal.τ).loc Cert.AdamTapsKernelIdeal.main_v4_2) = v2 c
          ∧ r.2.mem ((c.tc : Thread Cert.AdamTapsKernelIdeal.nD Cert.AdamTapsKernelIdeal.τ).loc Cert.AdamTapsKernelIdeal.main_arg0) = m ((c.tc : Thread Cert.AdamTapsKernelIdeal.nD Cert.AdamTapsKernelIdeal.τ).loc Cert.AdamTapsKernelIdeal.main_arg0)
          ∧ r.2.mem ((c.tc : Thread Cert.AdamTapsKernelIdeal.nD Cert.AdamTapsKernelIdeal.τ).loc Cert.AdamTapsKernelIdeal.main_arg1) = m ((c.tc : Thread Cert.AdamTapsKernelIdeal.nD Cert.AdamTapsKernelIdeal.τ).loc Cert.AdamTapsKernelIdeal.main_arg1)
          ∧ r.2.mem ((c.tc : Thread Cert.AdamTapsKernelIdeal.nD Cert.AdamTapsKernelIdeal.τ).loc Cert.AdamTapsKernelIdeal.main_arg2) = m ((c.tc : Thread Cert.AdamTapsKernelIdeal.nD Cert.AdamTapsKernelIdeal.τ).loc Cert.AdamTapsKernelIdeal.main_arg2)
          ∧ r.2.mem ((c.tc : Thread Cert.AdamTapsKernelIdeal.nD Cert.AdamTapsKernelIdeal.τ).loc Cert.AdamTapsKernelIdeal.main_arg3) = m ((c.tc : Thread Cert.AdamTapsKernelIdeal.nD Cert.AdamTapsKernelIdeal.τ).loc Cert.AdamTapsKernelIdeal.main_arg3))
      ∧ θ_run (Cert.AdamTapsReferenceIdeal.defs (F := Ideal)) (onTc (τ := Cert.AdamTapsReferenceIdeal.τ) (Cert.AdamTapsReferenceIdeal.main (F := Ideal))) ⟨m', fun _ => 0, g'⟩ (fun r => ∀ c : Dev Cert.AdamTapsReferenceIdeal.nD,
          r.2.mem ((c.tc : Thread Cert.AdamTapsReferenceIdeal.nD Cert.AdamTapsReferenceIdeal.τ).loc Cert.AdamTapsReferenceIdeal.main_v24) = v0 c
          ∧ r.2.mem ((c.tc : Thread Cert.AdamTapsReferenceIdeal.nD Cert.AdamTapsReferenceIdeal.τ).loc Cert.AdamTapsReferenceIdeal.main_v25) = v1 c
          ∧ r.2.mem ((c.tc : Thread Cert.AdamTapsReferenceIdeal.nD Cert.AdamTapsReferenceIdeal.τ).loc Cert.AdamTapsReferenceIdeal.main_v26) = v2 c
          ∧ r.2.mem ((c.tc : Thread Cert.AdamTapsReferenceIdeal.nD Cert.AdamTapsReferenceIdeal.τ).loc Cert.AdamTapsReferenceIdeal.main_arg0) = m' ((c.tc : Thread Cert.AdamTapsReferenceIdeal.nD Cert.AdamTapsReferenceIdeal.τ).loc Cert.AdamTapsReferenceIdeal.main_arg0)
          ∧ r.2.mem ((c.tc : Thread Cert.AdamTapsReferenceIdeal.nD Cert.AdamTapsReferenceIdeal.τ).loc Cert.AdamTapsReferenceIdeal.main_arg1) = m' ((c.tc : Thread Cert.AdamTapsReferenceIdeal.nD Cert.AdamTapsReferenceIdeal.τ).loc Cert.AdamTapsReferenceIdeal.main_arg1)
          ∧ r.2.mem ((c.tc : Thread Cert.AdamTapsReferenceIdeal.nD Cert.AdamTapsReferenceIdeal.τ).loc Cert.AdamTapsReferenceIdeal.main_arg2) = m' ((c.tc : Thread Cert.AdamTapsReferenceIdeal.nD Cert.AdamTapsReferenceIdeal.τ).loc Cert.AdamTapsReferenceIdeal.main_arg2)
          ∧ r.2.mem ((c.tc : Thread Cert.AdamTapsReferenceIdeal.nD Cert.AdamTapsReferenceIdeal.τ).loc Cert.AdamTapsReferenceIdeal.main_arg3) = m' ((c.tc : Thread Cert.AdamTapsReferenceIdeal.nD Cert.AdamTapsReferenceIdeal.τ).loc Cert.AdamTapsReferenceIdeal.main_arg3))

def preserves_AdamBiasKernel_AdamBiasKernelIdeal : Prop :=
  True

def algebraic_AdamBiasKernelIdeal_AdamBiasReferenceIdeal [hAdamBiasKernelIdeal : Cert.AdamBiasKernelIdeal.Facts] [hAdamBiasReferenceIdeal : Cert.AdamBiasReferenceIdeal.Facts] : Prop :=
  ∀ (m : (ℓ : Loc Cert.AdamBiasKernelIdeal.nD Cert.AdamBiasKernelIdeal.τ Cert.AdamBiasKernelIdeal.sig) → Buf (Elt Ideal) ℓ) (g : Dev Cert.AdamBiasKernelIdeal.nD → PrngReg)
    (m' : (ℓ : Loc Cert.AdamBiasReferenceIdeal.nD Cert.AdamBiasReferenceIdeal.τ Cert.AdamBiasReferenceIdeal.sig) → Buf (Elt Ideal) ℓ) (g' : Dev Cert.AdamBiasReferenceIdeal.nD → PrngReg), Pre_AdamBiasKernelIdeal m →
    (∀ c : Dev Cert.AdamBiasKernelIdeal.nD,
      m' ((c.tc : Thread Cert.AdamBiasReferenceIdeal.nD Cert.AdamBiasReferenceIdeal.τ).loc Cert.AdamBiasReferenceIdeal.main_arg0) = m ((c.tc : Thread Cert.AdamBiasKernelIdeal.nD Cert.AdamBiasKernelIdeal.τ).loc Cert.AdamBiasKernelIdeal.main_arg0)
      ∧ m' ((c.tc : Thread Cert.AdamBiasReferenceIdeal.nD Cert.AdamBiasReferenceIdeal.τ).loc Cert.AdamBiasReferenceIdeal.main_arg1) = m ((c.tc : Thread Cert.AdamBiasKernelIdeal.nD Cert.AdamBiasKernelIdeal.τ).loc Cert.AdamBiasKernelIdeal.main_arg1)
      ∧ m' ((c.tc : Thread Cert.AdamBiasReferenceIdeal.nD Cert.AdamBiasReferenceIdeal.τ).loc Cert.AdamBiasReferenceIdeal.main_arg2) = m ((c.tc : Thread Cert.AdamBiasKernelIdeal.nD Cert.AdamBiasKernelIdeal.τ).loc Cert.AdamBiasKernelIdeal.main_arg2)
      ∧ m' ((c.tc : Thread Cert.AdamBiasReferenceIdeal.nD Cert.AdamBiasReferenceIdeal.τ).loc Cert.AdamBiasReferenceIdeal.main_arg3) = m ((c.tc : Thread Cert.AdamBiasKernelIdeal.nD Cert.AdamBiasKernelIdeal.τ).loc Cert.AdamBiasKernelIdeal.main_arg3)) →
    ∃ (v0 : (c : Dev Cert.AdamBiasKernelIdeal.nD) → Buf (Elt Ideal) ((c.tc : Thread Cert.AdamBiasKernelIdeal.nD Cert.AdamBiasKernelIdeal.τ).loc Cert.AdamBiasKernelIdeal.main_v4_0)) (v1 : (c : Dev Cert.AdamBiasKernelIdeal.nD) → Buf (Elt Ideal) ((c.tc : Thread Cert.AdamBiasKernelIdeal.nD Cert.AdamBiasKernelIdeal.τ).loc Cert.AdamBiasKernelIdeal.main_v4_1)) (v2 : (c : Dev Cert.AdamBiasKernelIdeal.nD) → Buf (Elt Ideal) ((c.tc : Thread Cert.AdamBiasKernelIdeal.nD Cert.AdamBiasKernelIdeal.τ).loc Cert.AdamBiasKernelIdeal.main_v4_2)),
      θ_run (Cert.AdamBiasKernelIdeal.defs (F := Ideal)) (onTc (τ := Cert.AdamBiasKernelIdeal.τ) (Cert.AdamBiasKernelIdeal.main (F := Ideal))) ⟨m, fun _ => 0, g⟩ (fun r => ∀ c : Dev Cert.AdamBiasKernelIdeal.nD,
          r.2.mem ((c.tc : Thread Cert.AdamBiasKernelIdeal.nD Cert.AdamBiasKernelIdeal.τ).loc Cert.AdamBiasKernelIdeal.main_v4_0) = v0 c
          ∧ r.2.mem ((c.tc : Thread Cert.AdamBiasKernelIdeal.nD Cert.AdamBiasKernelIdeal.τ).loc Cert.AdamBiasKernelIdeal.main_v4_1) = v1 c
          ∧ r.2.mem ((c.tc : Thread Cert.AdamBiasKernelIdeal.nD Cert.AdamBiasKernelIdeal.τ).loc Cert.AdamBiasKernelIdeal.main_v4_2) = v2 c
          ∧ r.2.mem ((c.tc : Thread Cert.AdamBiasKernelIdeal.nD Cert.AdamBiasKernelIdeal.τ).loc Cert.AdamBiasKernelIdeal.main_arg0) = m ((c.tc : Thread Cert.AdamBiasKernelIdeal.nD Cert.AdamBiasKernelIdeal.τ).loc Cert.AdamBiasKernelIdeal.main_arg0)
          ∧ r.2.mem ((c.tc : Thread Cert.AdamBiasKernelIdeal.nD Cert.AdamBiasKernelIdeal.τ).loc Cert.AdamBiasKernelIdeal.main_arg1) = m ((c.tc : Thread Cert.AdamBiasKernelIdeal.nD Cert.AdamBiasKernelIdeal.τ).loc Cert.AdamBiasKernelIdeal.main_arg1)
          ∧ r.2.mem ((c.tc : Thread Cert.AdamBiasKernelIdeal.nD Cert.AdamBiasKernelIdeal.τ).loc Cert.AdamBiasKernelIdeal.main_arg2) = m ((c.tc : Thread Cert.AdamBiasKernelIdeal.nD Cert.AdamBiasKernelIdeal.τ).loc Cert.AdamBiasKernelIdeal.main_arg2)
          ∧ r.2.mem ((c.tc : Thread Cert.AdamBiasKernelIdeal.nD Cert.AdamBiasKernelIdeal.τ).loc Cert.AdamBiasKernelIdeal.main_arg3) = m ((c.tc : Thread Cert.AdamBiasKernelIdeal.nD Cert.AdamBiasKernelIdeal.τ).loc Cert.AdamBiasKernelIdeal.main_arg3))
      ∧ θ_run (Cert.AdamBiasReferenceIdeal.defs (F := Ideal)) (onTc (τ := Cert.AdamBiasReferenceIdeal.τ) (Cert.AdamBiasReferenceIdeal.main (F := Ideal))) ⟨m', fun _ => 0, g'⟩ (fun r => ∀ c : Dev Cert.AdamBiasReferenceIdeal.nD,
          r.2.mem ((c.tc : Thread Cert.AdamBiasReferenceIdeal.nD Cert.AdamBiasReferenceIdeal.τ).loc Cert.AdamBiasReferenceIdeal.main_v24) = v0 c
          ∧ r.2.mem ((c.tc : Thread Cert.AdamBiasReferenceIdeal.nD Cert.AdamBiasReferenceIdeal.τ).loc Cert.AdamBiasReferenceIdeal.main_v25) = v1 c
          ∧ r.2.mem ((c.tc : Thread Cert.AdamBiasReferenceIdeal.nD Cert.AdamBiasReferenceIdeal.τ).loc Cert.AdamBiasReferenceIdeal.main_v26) = v2 c
          ∧ r.2.mem ((c.tc : Thread Cert.AdamBiasReferenceIdeal.nD Cert.AdamBiasReferenceIdeal.τ).loc Cert.AdamBiasReferenceIdeal.main_arg0) = m' ((c.tc : Thread Cert.AdamBiasReferenceIdeal.nD Cert.AdamBiasReferenceIdeal.τ).loc Cert.AdamBiasReferenceIdeal.main_arg0)
          ∧ r.2.mem ((c.tc : Thread Cert.AdamBiasReferenceIdeal.nD Cert.AdamBiasReferenceIdeal.τ).loc Cert.AdamBiasReferenceIdeal.main_arg1) = m' ((c.tc : Thread Cert.AdamBiasReferenceIdeal.nD Cert.AdamBiasReferenceIdeal.τ).loc Cert.AdamBiasReferenceIdeal.main_arg1)
          ∧ r.2.mem ((c.tc : Thread Cert.AdamBiasReferenceIdeal.nD Cert.AdamBiasReferenceIdeal.τ).loc Cert.AdamBiasReferenceIdeal.main_arg2) = m' ((c.tc : Thread Cert.AdamBiasReferenceIdeal.nD Cert.AdamBiasReferenceIdeal.τ).loc Cert.AdamBiasReferenceIdeal.main_arg2)
          ∧ r.2.mem ((c.tc : Thread Cert.AdamBiasReferenceIdeal.nD Cert.AdamBiasReferenceIdeal.τ).loc Cert.AdamBiasReferenceIdeal.main_arg3) = m' ((c.tc : Thread Cert.AdamBiasReferenceIdeal.nD Cert.AdamBiasReferenceIdeal.τ).loc Cert.AdamBiasReferenceIdeal.main_arg3))

def preserves_AdamFfnKernel_AdamFfnKernelIdeal : Prop :=
  True

def algebraic_AdamFfnKernelIdeal_AdamFfnReferenceIdeal [hAdamFfnKernelIdeal : Cert.AdamFfnKernelIdeal.Facts] [hAdamFfnReferenceIdeal : Cert.AdamFfnReferenceIdeal.Facts] : Prop :=
  ∀ (m : (ℓ : Loc Cert.AdamFfnKernelIdeal.nD Cert.AdamFfnKernelIdeal.τ Cert.AdamFfnKernelIdeal.sig) → Buf (Elt Ideal) ℓ) (g : Dev Cert.AdamFfnKernelIdeal.nD → PrngReg)
    (m' : (ℓ : Loc Cert.AdamFfnReferenceIdeal.nD Cert.AdamFfnReferenceIdeal.τ Cert.AdamFfnReferenceIdeal.sig) → Buf (Elt Ideal) ℓ) (g' : Dev Cert.AdamFfnReferenceIdeal.nD → PrngReg), Pre_AdamFfnKernelIdeal m →
    (∀ c : Dev Cert.AdamFfnKernelIdeal.nD,
      m' ((c.tc : Thread Cert.AdamFfnReferenceIdeal.nD Cert.AdamFfnReferenceIdeal.τ).loc Cert.AdamFfnReferenceIdeal.main_arg0) = m ((c.tc : Thread Cert.AdamFfnKernelIdeal.nD Cert.AdamFfnKernelIdeal.τ).loc Cert.AdamFfnKernelIdeal.main_arg0)
      ∧ m' ((c.tc : Thread Cert.AdamFfnReferenceIdeal.nD Cert.AdamFfnReferenceIdeal.τ).loc Cert.AdamFfnReferenceIdeal.main_arg1) = m ((c.tc : Thread Cert.AdamFfnKernelIdeal.nD Cert.AdamFfnKernelIdeal.τ).loc Cert.AdamFfnKernelIdeal.main_arg1)
      ∧ m' ((c.tc : Thread Cert.AdamFfnReferenceIdeal.nD Cert.AdamFfnReferenceIdeal.τ).loc Cert.AdamFfnReferenceIdeal.main_arg2) = m ((c.tc : Thread Cert.AdamFfnKernelIdeal.nD Cert.AdamFfnKernelIdeal.τ).loc Cert.AdamFfnKernelIdeal.main_arg2)
      ∧ m' ((c.tc : Thread Cert.AdamFfnReferenceIdeal.nD Cert.AdamFfnReferenceIdeal.τ).loc Cert.AdamFfnReferenceIdeal.main_arg3) = m ((c.tc : Thread Cert.AdamFfnKernelIdeal.nD Cert.AdamFfnKernelIdeal.τ).loc Cert.AdamFfnKernelIdeal.main_arg3)
      ∧ m' ((c.tc : Thread Cert.AdamFfnReferenceIdeal.nD Cert.AdamFfnReferenceIdeal.τ).loc Cert.AdamFfnReferenceIdeal.main_arg4) = m ((c.tc : Thread Cert.AdamFfnKernelIdeal.nD Cert.AdamFfnKernelIdeal.τ).loc Cert.AdamFfnKernelIdeal.main_arg4)) →
    ∃ (v0 : (c : Dev Cert.AdamFfnKernelIdeal.nD) → Buf (Elt Ideal) ((c.tc : Thread Cert.AdamFfnKernelIdeal.nD Cert.AdamFfnKernelIdeal.τ).loc Cert.AdamFfnKernelIdeal.main_v2_0)) (v1 : (c : Dev Cert.AdamFfnKernelIdeal.nD) → Buf (Elt Ideal) ((c.tc : Thread Cert.AdamFfnKernelIdeal.nD Cert.AdamFfnKernelIdeal.τ).loc Cert.AdamFfnKernelIdeal.main_v2_1)) (v2 : (c : Dev Cert.AdamFfnKernelIdeal.nD) → Buf (Elt Ideal) ((c.tc : Thread Cert.AdamFfnKernelIdeal.nD Cert.AdamFfnKernelIdeal.τ).loc Cert.AdamFfnKernelIdeal.main_v2_2)) (v3 : (c : Dev Cert.AdamFfnKernelIdeal.nD) → Buf (Elt Ideal) ((c.tc : Thread Cert.AdamFfnKernelIdeal.nD Cert.AdamFfnKernelIdeal.τ).loc Cert.AdamFfnKernelIdeal.main_v2_3)),
      θ_run (Cert.AdamFfnKernelIdeal.defs (F := Ideal)) (onTc (τ := Cert.AdamFfnKernelIdeal.τ) (Cert.AdamFfnKernelIdeal.main (F := Ideal))) ⟨m, fun _ => 0, g⟩ (fun r => ∀ c : Dev Cert.AdamFfnKernelIdeal.nD,
          r.2.mem ((c.tc : Thread Cert.AdamFfnKernelIdeal.nD Cert.AdamFfnKernelIdeal.τ).loc Cert.AdamFfnKernelIdeal.main_v2_0) = v0 c
          ∧ r.2.mem ((c.tc : Thread Cert.AdamFfnKernelIdeal.nD Cert.AdamFfnKernelIdeal.τ).loc Cert.AdamFfnKernelIdeal.main_v2_1) = v1 c
          ∧ r.2.mem ((c.tc : Thread Cert.AdamFfnKernelIdeal.nD Cert.AdamFfnKernelIdeal.τ).loc Cert.AdamFfnKernelIdeal.main_v2_2) = v2 c
          ∧ r.2.mem ((c.tc : Thread Cert.AdamFfnKernelIdeal.nD Cert.AdamFfnKernelIdeal.τ).loc Cert.AdamFfnKernelIdeal.main_v2_3) = v3 c
          ∧ r.2.mem ((c.tc : Thread Cert.AdamFfnKernelIdeal.nD Cert.AdamFfnKernelIdeal.τ).loc Cert.AdamFfnKernelIdeal.main_arg0) = m ((c.tc : Thread Cert.AdamFfnKernelIdeal.nD Cert.AdamFfnKernelIdeal.τ).loc Cert.AdamFfnKernelIdeal.main_arg0)
          ∧ r.2.mem ((c.tc : Thread Cert.AdamFfnKernelIdeal.nD Cert.AdamFfnKernelIdeal.τ).loc Cert.AdamFfnKernelIdeal.main_arg1) = m ((c.tc : Thread Cert.AdamFfnKernelIdeal.nD Cert.AdamFfnKernelIdeal.τ).loc Cert.AdamFfnKernelIdeal.main_arg1)
          ∧ r.2.mem ((c.tc : Thread Cert.AdamFfnKernelIdeal.nD Cert.AdamFfnKernelIdeal.τ).loc Cert.AdamFfnKernelIdeal.main_arg2) = m ((c.tc : Thread Cert.AdamFfnKernelIdeal.nD Cert.AdamFfnKernelIdeal.τ).loc Cert.AdamFfnKernelIdeal.main_arg2)
          ∧ r.2.mem ((c.tc : Thread Cert.AdamFfnKernelIdeal.nD Cert.AdamFfnKernelIdeal.τ).loc Cert.AdamFfnKernelIdeal.main_arg3) = m ((c.tc : Thread Cert.AdamFfnKernelIdeal.nD Cert.AdamFfnKernelIdeal.τ).loc Cert.AdamFfnKernelIdeal.main_arg3)
          ∧ r.2.mem ((c.tc : Thread Cert.AdamFfnKernelIdeal.nD Cert.AdamFfnKernelIdeal.τ).loc Cert.AdamFfnKernelIdeal.main_arg4) = m ((c.tc : Thread Cert.AdamFfnKernelIdeal.nD Cert.AdamFfnKernelIdeal.τ).loc Cert.AdamFfnKernelIdeal.main_arg4))
      ∧ θ_run (Cert.AdamFfnReferenceIdeal.defs (F := Ideal)) (onTc (τ := Cert.AdamFfnReferenceIdeal.τ) (Cert.AdamFfnReferenceIdeal.main (F := Ideal))) ⟨m', fun _ => 0, g'⟩ (fun r => ∀ c : Dev Cert.AdamFfnReferenceIdeal.nD,
          r.2.mem ((c.tc : Thread Cert.AdamFfnReferenceIdeal.nD Cert.AdamFfnReferenceIdeal.τ).loc Cert.AdamFfnReferenceIdeal.main_v2) = v0 c
          ∧ r.2.mem ((c.tc : Thread Cert.AdamFfnReferenceIdeal.nD Cert.AdamFfnReferenceIdeal.τ).loc Cert.AdamFfnReferenceIdeal.main_v26) = v1 c
          ∧ r.2.mem ((c.tc : Thread Cert.AdamFfnReferenceIdeal.nD Cert.AdamFfnReferenceIdeal.τ).loc Cert.AdamFfnReferenceIdeal.main_v7) = v2 c
          ∧ r.2.mem ((c.tc : Thread Cert.AdamFfnReferenceIdeal.nD Cert.AdamFfnReferenceIdeal.τ).loc Cert.AdamFfnReferenceIdeal.main_v13) = v3 c
          ∧ r.2.mem ((c.tc : Thread Cert.AdamFfnReferenceIdeal.nD Cert.AdamFfnReferenceIdeal.τ).loc Cert.AdamFfnReferenceIdeal.main_arg0) = m' ((c.tc : Thread Cert.AdamFfnReferenceIdeal.nD Cert.AdamFfnReferenceIdeal.τ).loc Cert.AdamFfnReferenceIdeal.main_arg0)
          ∧ r.2.mem ((c.tc : Thread Cert.AdamFfnReferenceIdeal.nD Cert.AdamFfnReferenceIdeal.τ).loc Cert.AdamFfnReferenceIdeal.main_arg1) = m' ((c.tc : Thread Cert.AdamFfnReferenceIdeal.nD Cert.AdamFfnReferenceIdeal.τ).loc Cert.AdamFfnReferenceIdeal.main_arg1)
          ∧ r.2.mem ((c.tc : Thread Cert.AdamFfnReferenceIdeal.nD Cert.AdamFfnReferenceIdeal.τ).loc Cert.AdamFfnReferenceIdeal.main_arg2) = m' ((c.tc : Thread Cert.AdamFfnReferenceIdeal.nD Cert.AdamFfnReferenceIdeal.τ).loc Cert.AdamFfnReferenceIdeal.main_arg2)
          ∧ r.2.mem ((c.tc : Thread Cert.AdamFfnReferenceIdeal.nD Cert.AdamFfnReferenceIdeal.τ).loc Cert.AdamFfnReferenceIdeal.main_arg3) = m' ((c.tc : Thread Cert.AdamFfnReferenceIdeal.nD Cert.AdamFfnReferenceIdeal.τ).loc Cert.AdamFfnReferenceIdeal.main_arg3)
          ∧ r.2.mem ((c.tc : Thread Cert.AdamFfnReferenceIdeal.nD Cert.AdamFfnReferenceIdeal.τ).loc Cert.AdamFfnReferenceIdeal.main_arg4) = m' ((c.tc : Thread Cert.AdamFfnReferenceIdeal.nD Cert.AdamFfnReferenceIdeal.τ).loc Cert.AdamFfnReferenceIdeal.main_arg4))

def preserves_AdamWinKernel_AdamWinKernelIdeal : Prop :=
  True

def algebraic_AdamWinKernelIdeal_AdamWinReferenceIdeal [hAdamWinKernelIdeal : Cert.AdamWinKernelIdeal.Facts] [hAdamWinReferenceIdeal : Cert.AdamWinReferenceIdeal.Facts] : Prop :=
  ∀ (m : (ℓ : Loc Cert.AdamWinKernelIdeal.nD Cert.AdamWinKernelIdeal.τ Cert.AdamWinKernelIdeal.sig) → Buf (Elt Ideal) ℓ) (g : Dev Cert.AdamWinKernelIdeal.nD → PrngReg)
    (m' : (ℓ : Loc Cert.AdamWinReferenceIdeal.nD Cert.AdamWinReferenceIdeal.τ Cert.AdamWinReferenceIdeal.sig) → Buf (Elt Ideal) ℓ) (g' : Dev Cert.AdamWinReferenceIdeal.nD → PrngReg), Pre_AdamWinKernelIdeal m →
    (∀ c : Dev Cert.AdamWinKernelIdeal.nD,
      m' ((c.tc : Thread Cert.AdamWinReferenceIdeal.nD Cert.AdamWinReferenceIdeal.τ).loc Cert.AdamWinReferenceIdeal.main_arg0) = m ((c.tc : Thread Cert.AdamWinKernelIdeal.nD Cert.AdamWinKernelIdeal.τ).loc Cert.AdamWinKernelIdeal.main_arg0)
      ∧ m' ((c.tc : Thread Cert.AdamWinReferenceIdeal.nD Cert.AdamWinReferenceIdeal.τ).loc Cert.AdamWinReferenceIdeal.main_arg1) = m ((c.tc : Thread Cert.AdamWinKernelIdeal.nD Cert.AdamWinKernelIdeal.τ).loc Cert.AdamWinKernelIdeal.main_arg1)
      ∧ m' ((c.tc : Thread Cert.AdamWinReferenceIdeal.nD Cert.AdamWinReferenceIdeal.τ).loc Cert.AdamWinReferenceIdeal.main_arg2) = m ((c.tc : Thread Cert.AdamWinKernelIdeal.nD Cert.AdamWinKernelIdeal.τ).loc Cert.AdamWinKernelIdeal.main_arg2)
      ∧ m' ((c.tc : Thread Cert.AdamWinReferenceIdeal.nD Cert.AdamWinReferenceIdeal.τ).loc Cert.AdamWinReferenceIdeal.main_arg3) = m ((c.tc : Thread Cert.AdamWinKernelIdeal.nD Cert.AdamWinKernelIdeal.τ).loc Cert.AdamWinKernelIdeal.main_arg3)
      ∧ m' ((c.tc : Thread Cert.AdamWinReferenceIdeal.nD Cert.AdamWinReferenceIdeal.τ).loc Cert.AdamWinReferenceIdeal.main_arg4) = m ((c.tc : Thread Cert.AdamWinKernelIdeal.nD Cert.AdamWinKernelIdeal.τ).loc Cert.AdamWinKernelIdeal.main_arg4)) →
    ∃ (v0 : (c : Dev Cert.AdamWinKernelIdeal.nD) → Buf (Elt Ideal) ((c.tc : Thread Cert.AdamWinKernelIdeal.nD Cert.AdamWinKernelIdeal.τ).loc Cert.AdamWinKernelIdeal.main_v2_0)) (v1 : (c : Dev Cert.AdamWinKernelIdeal.nD) → Buf (Elt Ideal) ((c.tc : Thread Cert.AdamWinKernelIdeal.nD Cert.AdamWinKernelIdeal.τ).loc Cert.AdamWinKernelIdeal.main_v2_1)) (v2 : (c : Dev Cert.AdamWinKernelIdeal.nD) → Buf (Elt Ideal) ((c.tc : Thread Cert.AdamWinKernelIdeal.nD Cert.AdamWinKernelIdeal.τ).loc Cert.AdamWinKernelIdeal.main_v2_2)) (v3 : (c : Dev Cert.AdamWinKernelIdeal.nD) → Buf (Elt Ideal) ((c.tc : Thread Cert.AdamWinKernelIdeal.nD Cert.AdamWinKernelIdeal.τ).loc Cert.AdamWinKernelIdeal.main_v2_3)),
      θ_run (Cert.AdamWinKernelIdeal.defs (F := Ideal)) (onTc (τ := Cert.AdamWinKernelIdeal.τ) (Cert.AdamWinKernelIdeal.main (F := Ideal))) ⟨m, fun _ => 0, g⟩ (fun r => ∀ c : Dev Cert.AdamWinKernelIdeal.nD,
          r.2.mem ((c.tc : Thread Cert.AdamWinKernelIdeal.nD Cert.AdamWinKernelIdeal.τ).loc Cert.AdamWinKernelIdeal.main_v2_0) = v0 c
          ∧ r.2.mem ((c.tc : Thread Cert.AdamWinKernelIdeal.nD Cert.AdamWinKernelIdeal.τ).loc Cert.AdamWinKernelIdeal.main_v2_1) = v1 c
          ∧ r.2.mem ((c.tc : Thread Cert.AdamWinKernelIdeal.nD Cert.AdamWinKernelIdeal.τ).loc Cert.AdamWinKernelIdeal.main_v2_2) = v2 c
          ∧ r.2.mem ((c.tc : Thread Cert.AdamWinKernelIdeal.nD Cert.AdamWinKernelIdeal.τ).loc Cert.AdamWinKernelIdeal.main_v2_3) = v3 c
          ∧ r.2.mem ((c.tc : Thread Cert.AdamWinKernelIdeal.nD Cert.AdamWinKernelIdeal.τ).loc Cert.AdamWinKernelIdeal.main_arg0) = m ((c.tc : Thread Cert.AdamWinKernelIdeal.nD Cert.AdamWinKernelIdeal.τ).loc Cert.AdamWinKernelIdeal.main_arg0)
          ∧ r.2.mem ((c.tc : Thread Cert.AdamWinKernelIdeal.nD Cert.AdamWinKernelIdeal.τ).loc Cert.AdamWinKernelIdeal.main_arg1) = m ((c.tc : Thread Cert.AdamWinKernelIdeal.nD Cert.AdamWinKernelIdeal.τ).loc Cert.AdamWinKernelIdeal.main_arg1)
          ∧ r.2.mem ((c.tc : Thread Cert.AdamWinKernelIdeal.nD Cert.AdamWinKernelIdeal.τ).loc Cert.AdamWinKernelIdeal.main_arg2) = m ((c.tc : Thread Cert.AdamWinKernelIdeal.nD Cert.AdamWinKernelIdeal.τ).loc Cert.AdamWinKernelIdeal.main_arg2)
          ∧ r.2.mem ((c.tc : Thread Cert.AdamWinKernelIdeal.nD Cert.AdamWinKernelIdeal.τ).loc Cert.AdamWinKernelIdeal.main_arg3) = m ((c.tc : Thread Cert.AdamWinKernelIdeal.nD Cert.AdamWinKernelIdeal.τ).loc Cert.AdamWinKernelIdeal.main_arg3)
          ∧ r.2.mem ((c.tc : Thread Cert.AdamWinKernelIdeal.nD Cert.AdamWinKernelIdeal.τ).loc Cert.AdamWinKernelIdeal.main_arg4) = m ((c.tc : Thread Cert.AdamWinKernelIdeal.nD Cert.AdamWinKernelIdeal.τ).loc Cert.AdamWinKernelIdeal.main_arg4))
      ∧ θ_run (Cert.AdamWinReferenceIdeal.defs (F := Ideal)) (onTc (τ := Cert.AdamWinReferenceIdeal.τ) (Cert.AdamWinReferenceIdeal.main (F := Ideal))) ⟨m', fun _ => 0, g'⟩ (fun r => ∀ c : Dev Cert.AdamWinReferenceIdeal.nD,
          r.2.mem ((c.tc : Thread Cert.AdamWinReferenceIdeal.nD Cert.AdamWinReferenceIdeal.τ).loc Cert.AdamWinReferenceIdeal.main_v2) = v0 c
          ∧ r.2.mem ((c.tc : Thread Cert.AdamWinReferenceIdeal.nD Cert.AdamWinReferenceIdeal.τ).loc Cert.AdamWinReferenceIdeal.main_v26) = v1 c
          ∧ r.2.mem ((c.tc : Thread Cert.AdamWinReferenceIdeal.nD Cert.AdamWinReferenceIdeal.τ).loc Cert.AdamWinReferenceIdeal.main_v7) = v2 c
          ∧ r.2.mem ((c.tc : Thread Cert.AdamWinReferenceIdeal.nD Cert.AdamWinReferenceIdeal.τ).loc Cert.AdamWinReferenceIdeal.main_v13) = v3 c
          ∧ r.2.mem ((c.tc : Thread Cert.AdamWinReferenceIdeal.nD Cert.AdamWinReferenceIdeal.τ).loc Cert.AdamWinReferenceIdeal.main_arg0) = m' ((c.tc : Thread Cert.AdamWinReferenceIdeal.nD Cert.AdamWinReferenceIdeal.τ).loc Cert.AdamWinReferenceIdeal.main_arg0)
          ∧ r.2.mem ((c.tc : Thread Cert.AdamWinReferenceIdeal.nD Cert.AdamWinReferenceIdeal.τ).loc Cert.AdamWinReferenceIdeal.main_arg1) = m' ((c.tc : Thread Cert.AdamWinReferenceIdeal.nD Cert.AdamWinReferenceIdeal.τ).loc Cert.AdamWinReferenceIdeal.main_arg1)
          ∧ r.2.mem ((c.tc : Thread Cert.AdamWinReferenceIdeal.nD Cert.AdamWinReferenceIdeal.τ).loc Cert.AdamWinReferenceIdeal.main_arg2) = m' ((c.tc : Thread Cert.AdamWinReferenceIdeal.nD Cert.AdamWinReferenceIdeal.τ).loc Cert.AdamWinReferenceIdeal.main_arg2)
          ∧ r.2.mem ((c.tc : Thread Cert.AdamWinReferenceIdeal.nD Cert.AdamWinReferenceIdeal.τ).loc Cert.AdamWinReferenceIdeal.main_arg3) = m' ((c.tc : Thread Cert.AdamWinReferenceIdeal.nD Cert.AdamWinReferenceIdeal.τ).loc Cert.AdamWinReferenceIdeal.main_arg3)
          ∧ r.2.mem ((c.tc : Thread Cert.AdamWinReferenceIdeal.nD Cert.AdamWinReferenceIdeal.τ).loc Cert.AdamWinReferenceIdeal.main_arg4) = m' ((c.tc : Thread Cert.AdamWinReferenceIdeal.nD Cert.AdamWinReferenceIdeal.τ).loc Cert.AdamWinReferenceIdeal.main_arg4))

def preserves_AdamCoutKernel_AdamCoutKernelIdeal : Prop :=
  True

def algebraic_AdamCoutKernelIdeal_AdamCoutReferenceIdeal [hAdamCoutKernelIdeal : Cert.AdamCoutKernelIdeal.Facts] [hAdamCoutReferenceIdeal : Cert.AdamCoutReferenceIdeal.Facts] : Prop :=
  ∀ (m : (ℓ : Loc Cert.AdamCoutKernelIdeal.nD Cert.AdamCoutKernelIdeal.τ Cert.AdamCoutKernelIdeal.sig) → Buf (Elt Ideal) ℓ) (g : Dev Cert.AdamCoutKernelIdeal.nD → PrngReg)
    (m' : (ℓ : Loc Cert.AdamCoutReferenceIdeal.nD Cert.AdamCoutReferenceIdeal.τ Cert.AdamCoutReferenceIdeal.sig) → Buf (Elt Ideal) ℓ) (g' : Dev Cert.AdamCoutReferenceIdeal.nD → PrngReg), Pre_AdamCoutKernelIdeal m →
    (∀ c : Dev Cert.AdamCoutKernelIdeal.nD,
      m' ((c.tc : Thread Cert.AdamCoutReferenceIdeal.nD Cert.AdamCoutReferenceIdeal.τ).loc Cert.AdamCoutReferenceIdeal.main_arg0) = m ((c.tc : Thread Cert.AdamCoutKernelIdeal.nD Cert.AdamCoutKernelIdeal.τ).loc Cert.AdamCoutKernelIdeal.main_arg0)
      ∧ m' ((c.tc : Thread Cert.AdamCoutReferenceIdeal.nD Cert.AdamCoutReferenceIdeal.τ).loc Cert.AdamCoutReferenceIdeal.main_arg1) = m ((c.tc : Thread Cert.AdamCoutKernelIdeal.nD Cert.AdamCoutKernelIdeal.τ).loc Cert.AdamCoutKernelIdeal.main_arg1)
      ∧ m' ((c.tc : Thread Cert.AdamCoutReferenceIdeal.nD Cert.AdamCoutReferenceIdeal.τ).loc Cert.AdamCoutReferenceIdeal.main_arg2) = m ((c.tc : Thread Cert.AdamCoutKernelIdeal.nD Cert.AdamCoutKernelIdeal.τ).loc Cert.AdamCoutKernelIdeal.main_arg2)
      ∧ m' ((c.tc : Thread Cert.AdamCoutReferenceIdeal.nD Cert.AdamCoutReferenceIdeal.τ).loc Cert.AdamCoutReferenceIdeal.main_arg3) = m ((c.tc : Thread Cert.AdamCoutKernelIdeal.nD Cert.AdamCoutKernelIdeal.τ).loc Cert.AdamCoutKernelIdeal.main_arg3)
      ∧ m' ((c.tc : Thread Cert.AdamCoutReferenceIdeal.nD Cert.AdamCoutReferenceIdeal.τ).loc Cert.AdamCoutReferenceIdeal.main_arg4) = m ((c.tc : Thread Cert.AdamCoutKernelIdeal.nD Cert.AdamCoutKernelIdeal.τ).loc Cert.AdamCoutKernelIdeal.main_arg4)) →
    ∃ (v0 : (c : Dev Cert.AdamCoutKernelIdeal.nD) → Buf (Elt Ideal) ((c.tc : Thread Cert.AdamCoutKernelIdeal.nD Cert.AdamCoutKernelIdeal.τ).loc Cert.AdamCoutKernelIdeal.main_v2_0)) (v1 : (c : Dev Cert.AdamCoutKernelIdeal.nD) → Buf (Elt Ideal) ((c.tc : Thread Cert.AdamCoutKernelIdeal.nD Cert.AdamCoutKernelIdeal.τ).loc Cert.AdamCoutKernelIdeal.main_v2_1)) (v2 : (c : Dev Cert.AdamCoutKernelIdeal.nD) → Buf (Elt Ideal) ((c.tc : Thread Cert.AdamCoutKernelIdeal.nD Cert.AdamCoutKernelIdeal.τ).loc Cert.AdamCoutKernelIdeal.main_v2_2)) (v3 : (c : Dev Cert.AdamCoutKernelIdeal.nD) → Buf (Elt Ideal) ((c.tc : Thread Cert.AdamCoutKernelIdeal.nD Cert.AdamCoutKernelIdeal.τ).loc Cert.AdamCoutKernelIdeal.main_v2_3)),
      θ_run (Cert.AdamCoutKernelIdeal.defs (F := Ideal)) (onTc (τ := Cert.AdamCoutKernelIdeal.τ) (Cert.AdamCoutKernelIdeal.main (F := Ideal))) ⟨m, fun _ => 0, g⟩ (fun r => ∀ c : Dev Cert.AdamCoutKernelIdeal.nD,
          r.2.mem ((c.tc : Thread Cert.AdamCoutKernelIdeal.nD Cert.AdamCoutKernelIdeal.τ).loc Cert.AdamCoutKernelIdeal.main_v2_0) = v0 c
          ∧ r.2.mem ((c.tc : Thread Cert.AdamCoutKernelIdeal.nD Cert.AdamCoutKernelIdeal.τ).loc Cert.AdamCoutKernelIdeal.main_v2_1) = v1 c
          ∧ r.2.mem ((c.tc : Thread Cert.AdamCoutKernelIdeal.nD Cert.AdamCoutKernelIdeal.τ).loc Cert.AdamCoutKernelIdeal.main_v2_2) = v2 c
          ∧ r.2.mem ((c.tc : Thread Cert.AdamCoutKernelIdeal.nD Cert.AdamCoutKernelIdeal.τ).loc Cert.AdamCoutKernelIdeal.main_v2_3) = v3 c
          ∧ r.2.mem ((c.tc : Thread Cert.AdamCoutKernelIdeal.nD Cert.AdamCoutKernelIdeal.τ).loc Cert.AdamCoutKernelIdeal.main_arg0) = m ((c.tc : Thread Cert.AdamCoutKernelIdeal.nD Cert.AdamCoutKernelIdeal.τ).loc Cert.AdamCoutKernelIdeal.main_arg0)
          ∧ r.2.mem ((c.tc : Thread Cert.AdamCoutKernelIdeal.nD Cert.AdamCoutKernelIdeal.τ).loc Cert.AdamCoutKernelIdeal.main_arg1) = m ((c.tc : Thread Cert.AdamCoutKernelIdeal.nD Cert.AdamCoutKernelIdeal.τ).loc Cert.AdamCoutKernelIdeal.main_arg1)
          ∧ r.2.mem ((c.tc : Thread Cert.AdamCoutKernelIdeal.nD Cert.AdamCoutKernelIdeal.τ).loc Cert.AdamCoutKernelIdeal.main_arg2) = m ((c.tc : Thread Cert.AdamCoutKernelIdeal.nD Cert.AdamCoutKernelIdeal.τ).loc Cert.AdamCoutKernelIdeal.main_arg2)
          ∧ r.2.mem ((c.tc : Thread Cert.AdamCoutKernelIdeal.nD Cert.AdamCoutKernelIdeal.τ).loc Cert.AdamCoutKernelIdeal.main_arg3) = m ((c.tc : Thread Cert.AdamCoutKernelIdeal.nD Cert.AdamCoutKernelIdeal.τ).loc Cert.AdamCoutKernelIdeal.main_arg3)
          ∧ r.2.mem ((c.tc : Thread Cert.AdamCoutKernelIdeal.nD Cert.AdamCoutKernelIdeal.τ).loc Cert.AdamCoutKernelIdeal.main_arg4) = m ((c.tc : Thread Cert.AdamCoutKernelIdeal.nD Cert.AdamCoutKernelIdeal.τ).loc Cert.AdamCoutKernelIdeal.main_arg4))
      ∧ θ_run (Cert.AdamCoutReferenceIdeal.defs (F := Ideal)) (onTc (τ := Cert.AdamCoutReferenceIdeal.τ) (Cert.AdamCoutReferenceIdeal.main (F := Ideal))) ⟨m', fun _ => 0, g'⟩ (fun r => ∀ c : Dev Cert.AdamCoutReferenceIdeal.nD,
          r.2.mem ((c.tc : Thread Cert.AdamCoutReferenceIdeal.nD Cert.AdamCoutReferenceIdeal.τ).loc Cert.AdamCoutReferenceIdeal.main_v2) = v0 c
          ∧ r.2.mem ((c.tc : Thread Cert.AdamCoutReferenceIdeal.nD Cert.AdamCoutReferenceIdeal.τ).loc Cert.AdamCoutReferenceIdeal.main_v26) = v1 c
          ∧ r.2.mem ((c.tc : Thread Cert.AdamCoutReferenceIdeal.nD Cert.AdamCoutReferenceIdeal.τ).loc Cert.AdamCoutReferenceIdeal.main_v7) = v2 c
          ∧ r.2.mem ((c.tc : Thread Cert.AdamCoutReferenceIdeal.nD Cert.AdamCoutReferenceIdeal.τ).loc Cert.AdamCoutReferenceIdeal.main_v13) = v3 c
          ∧ r.2.mem ((c.tc : Thread Cert.AdamCoutReferenceIdeal.nD Cert.AdamCoutReferenceIdeal.τ).loc Cert.AdamCoutReferenceIdeal.main_arg0) = m' ((c.tc : Thread Cert.AdamCoutReferenceIdeal.nD Cert.AdamCoutReferenceIdeal.τ).loc Cert.AdamCoutReferenceIdeal.main_arg0)
          ∧ r.2.mem ((c.tc : Thread Cert.AdamCoutReferenceIdeal.nD Cert.AdamCoutReferenceIdeal.τ).loc Cert.AdamCoutReferenceIdeal.main_arg1) = m' ((c.tc : Thread Cert.AdamCoutReferenceIdeal.nD Cert.AdamCoutReferenceIdeal.τ).loc Cert.AdamCoutReferenceIdeal.main_arg1)
          ∧ r.2.mem ((c.tc : Thread Cert.AdamCoutReferenceIdeal.nD Cert.AdamCoutReferenceIdeal.τ).loc Cert.AdamCoutReferenceIdeal.main_arg2) = m' ((c.tc : Thread Cert.AdamCoutReferenceIdeal.nD Cert.AdamCoutReferenceIdeal.τ).loc Cert.AdamCoutReferenceIdeal.main_arg2)
          ∧ r.2.mem ((c.tc : Thread Cert.AdamCoutReferenceIdeal.nD Cert.AdamCoutReferenceIdeal.τ).loc Cert.AdamCoutReferenceIdeal.main_arg3) = m' ((c.tc : Thread Cert.AdamCoutReferenceIdeal.nD Cert.AdamCoutReferenceIdeal.τ).loc Cert.AdamCoutReferenceIdeal.main_arg3)
          ∧ r.2.mem ((c.tc : Thread Cert.AdamCoutReferenceIdeal.nD Cert.AdamCoutReferenceIdeal.τ).loc Cert.AdamCoutReferenceIdeal.main_arg4) = m' ((c.tc : Thread Cert.AdamCoutReferenceIdeal.nD Cert.AdamCoutReferenceIdeal.τ).loc Cert.AdamCoutReferenceIdeal.main_arg4))

def preserves_AdamUqKernel_AdamUqKernelIdeal : Prop :=
  True

def algebraic_AdamUqKernelIdeal_AdamUqReferenceIdeal [hAdamUqKernelIdeal : Cert.AdamUqKernelIdeal.Facts] [hAdamUqReferenceIdeal : Cert.AdamUqReferenceIdeal.Facts] : Prop :=
  ∀ (m : (ℓ : Loc Cert.AdamUqKernelIdeal.nD Cert.AdamUqKernelIdeal.τ Cert.AdamUqKernelIdeal.sig) → Buf (Elt Ideal) ℓ) (g : Dev Cert.AdamUqKernelIdeal.nD → PrngReg)
    (m' : (ℓ : Loc Cert.AdamUqReferenceIdeal.nD Cert.AdamUqReferenceIdeal.τ Cert.AdamUqReferenceIdeal.sig) → Buf (Elt Ideal) ℓ) (g' : Dev Cert.AdamUqReferenceIdeal.nD → PrngReg), Pre_AdamUqKernelIdeal m →
    (∀ c : Dev Cert.AdamUqKernelIdeal.nD,
      m' ((c.tc : Thread Cert.AdamUqReferenceIdeal.nD Cert.AdamUqReferenceIdeal.τ).loc Cert.AdamUqReferenceIdeal.main_arg0) = m ((c.tc : Thread Cert.AdamUqKernelIdeal.nD Cert.AdamUqKernelIdeal.τ).loc Cert.AdamUqKernelIdeal.main_arg0)
      ∧ m' ((c.tc : Thread Cert.AdamUqReferenceIdeal.nD Cert.AdamUqReferenceIdeal.τ).loc Cert.AdamUqReferenceIdeal.main_arg1) = m ((c.tc : Thread Cert.AdamUqKernelIdeal.nD Cert.AdamUqKernelIdeal.τ).loc Cert.AdamUqKernelIdeal.main_arg1)
      ∧ m' ((c.tc : Thread Cert.AdamUqReferenceIdeal.nD Cert.AdamUqReferenceIdeal.τ).loc Cert.AdamUqReferenceIdeal.main_arg2) = m ((c.tc : Thread Cert.AdamUqKernelIdeal.nD Cert.AdamUqKernelIdeal.τ).loc Cert.AdamUqKernelIdeal.main_arg2)
      ∧ m' ((c.tc : Thread Cert.AdamUqReferenceIdeal.nD Cert.AdamUqReferenceIdeal.τ).loc Cert.AdamUqReferenceIdeal.main_arg3) = m ((c.tc : Thread Cert.AdamUqKernelIdeal.nD Cert.AdamUqKernelIdeal.τ).loc Cert.AdamUqKernelIdeal.main_arg3)
      ∧ m' ((c.tc : Thread Cert.AdamUqReferenceIdeal.nD Cert.AdamUqReferenceIdeal.τ).loc Cert.AdamUqReferenceIdeal.main_arg4) = m ((c.tc : Thread Cert.AdamUqKernelIdeal.nD Cert.AdamUqKernelIdeal.τ).loc Cert.AdamUqKernelIdeal.main_arg4)) →
    ∃ (v0 : (c : Dev Cert.AdamUqKernelIdeal.nD) → Buf (Elt Ideal) ((c.tc : Thread Cert.AdamUqKernelIdeal.nD Cert.AdamUqKernelIdeal.τ).loc Cert.AdamUqKernelIdeal.main_v2_0)) (v1 : (c : Dev Cert.AdamUqKernelIdeal.nD) → Buf (Elt Ideal) ((c.tc : Thread Cert.AdamUqKernelIdeal.nD Cert.AdamUqKernelIdeal.τ).loc Cert.AdamUqKernelIdeal.main_v2_1)) (v2 : (c : Dev Cert.AdamUqKernelIdeal.nD) → Buf (Elt Ideal) ((c.tc : Thread Cert.AdamUqKernelIdeal.nD Cert.AdamUqKernelIdeal.τ).loc Cert.AdamUqKernelIdeal.main_v2_2)) (v3 : (c : Dev Cert.AdamUqKernelIdeal.nD) → Buf (Elt Ideal) ((c.tc : Thread Cert.AdamUqKernelIdeal.nD Cert.AdamUqKernelIdeal.τ).loc Cert.AdamUqKernelIdeal.main_v2_3)),
      θ_run (Cert.AdamUqKernelIdeal.defs (F := Ideal)) (onTc (τ := Cert.AdamUqKernelIdeal.τ) (Cert.AdamUqKernelIdeal.main (F := Ideal))) ⟨m, fun _ => 0, g⟩ (fun r => ∀ c : Dev Cert.AdamUqKernelIdeal.nD,
          r.2.mem ((c.tc : Thread Cert.AdamUqKernelIdeal.nD Cert.AdamUqKernelIdeal.τ).loc Cert.AdamUqKernelIdeal.main_v2_0) = v0 c
          ∧ r.2.mem ((c.tc : Thread Cert.AdamUqKernelIdeal.nD Cert.AdamUqKernelIdeal.τ).loc Cert.AdamUqKernelIdeal.main_v2_1) = v1 c
          ∧ r.2.mem ((c.tc : Thread Cert.AdamUqKernelIdeal.nD Cert.AdamUqKernelIdeal.τ).loc Cert.AdamUqKernelIdeal.main_v2_2) = v2 c
          ∧ r.2.mem ((c.tc : Thread Cert.AdamUqKernelIdeal.nD Cert.AdamUqKernelIdeal.τ).loc Cert.AdamUqKernelIdeal.main_v2_3) = v3 c
          ∧ r.2.mem ((c.tc : Thread Cert.AdamUqKernelIdeal.nD Cert.AdamUqKernelIdeal.τ).loc Cert.AdamUqKernelIdeal.main_arg0) = m ((c.tc : Thread Cert.AdamUqKernelIdeal.nD Cert.AdamUqKernelIdeal.τ).loc Cert.AdamUqKernelIdeal.main_arg0)
          ∧ r.2.mem ((c.tc : Thread Cert.AdamUqKernelIdeal.nD Cert.AdamUqKernelIdeal.τ).loc Cert.AdamUqKernelIdeal.main_arg1) = m ((c.tc : Thread Cert.AdamUqKernelIdeal.nD Cert.AdamUqKernelIdeal.τ).loc Cert.AdamUqKernelIdeal.main_arg1)
          ∧ r.2.mem ((c.tc : Thread Cert.AdamUqKernelIdeal.nD Cert.AdamUqKernelIdeal.τ).loc Cert.AdamUqKernelIdeal.main_arg2) = m ((c.tc : Thread Cert.AdamUqKernelIdeal.nD Cert.AdamUqKernelIdeal.τ).loc Cert.AdamUqKernelIdeal.main_arg2)
          ∧ r.2.mem ((c.tc : Thread Cert.AdamUqKernelIdeal.nD Cert.AdamUqKernelIdeal.τ).loc Cert.AdamUqKernelIdeal.main_arg3) = m ((c.tc : Thread Cert.AdamUqKernelIdeal.nD Cert.AdamUqKernelIdeal.τ).loc Cert.AdamUqKernelIdeal.main_arg3)
          ∧ r.2.mem ((c.tc : Thread Cert.AdamUqKernelIdeal.nD Cert.AdamUqKernelIdeal.τ).loc Cert.AdamUqKernelIdeal.main_arg4) = m ((c.tc : Thread Cert.AdamUqKernelIdeal.nD Cert.AdamUqKernelIdeal.τ).loc Cert.AdamUqKernelIdeal.main_arg4))
      ∧ θ_run (Cert.AdamUqReferenceIdeal.defs (F := Ideal)) (onTc (τ := Cert.AdamUqReferenceIdeal.τ) (Cert.AdamUqReferenceIdeal.main (F := Ideal))) ⟨m', fun _ => 0, g'⟩ (fun r => ∀ c : Dev Cert.AdamUqReferenceIdeal.nD,
          r.2.mem ((c.tc : Thread Cert.AdamUqReferenceIdeal.nD Cert.AdamUqReferenceIdeal.τ).loc Cert.AdamUqReferenceIdeal.main_v2) = v0 c
          ∧ r.2.mem ((c.tc : Thread Cert.AdamUqReferenceIdeal.nD Cert.AdamUqReferenceIdeal.τ).loc Cert.AdamUqReferenceIdeal.main_v26) = v1 c
          ∧ r.2.mem ((c.tc : Thread Cert.AdamUqReferenceIdeal.nD Cert.AdamUqReferenceIdeal.τ).loc Cert.AdamUqReferenceIdeal.main_v7) = v2 c
          ∧ r.2.mem ((c.tc : Thread Cert.AdamUqReferenceIdeal.nD Cert.AdamUqReferenceIdeal.τ).loc Cert.AdamUqReferenceIdeal.main_v13) = v3 c
          ∧ r.2.mem ((c.tc : Thread Cert.AdamUqReferenceIdeal.nD Cert.AdamUqReferenceIdeal.τ).loc Cert.AdamUqReferenceIdeal.main_arg0) = m' ((c.tc : Thread Cert.AdamUqReferenceIdeal.nD Cert.AdamUqReferenceIdeal.τ).loc Cert.AdamUqReferenceIdeal.main_arg0)
          ∧ r.2.mem ((c.tc : Thread Cert.AdamUqReferenceIdeal.nD Cert.AdamUqReferenceIdeal.τ).loc Cert.AdamUqReferenceIdeal.main_arg1) = m' ((c.tc : Thread Cert.AdamUqReferenceIdeal.nD Cert.AdamUqReferenceIdeal.τ).loc Cert.AdamUqReferenceIdeal.main_arg1)
          ∧ r.2.mem ((c.tc : Thread Cert.AdamUqReferenceIdeal.nD Cert.AdamUqReferenceIdeal.τ).loc Cert.AdamUqReferenceIdeal.main_arg2) = m' ((c.tc : Thread Cert.AdamUqReferenceIdeal.nD Cert.AdamUqReferenceIdeal.τ).loc Cert.AdamUqReferenceIdeal.main_arg2)
          ∧ r.2.mem ((c.tc : Thread Cert.AdamUqReferenceIdeal.nD Cert.AdamUqReferenceIdeal.τ).loc Cert.AdamUqReferenceIdeal.main_arg3) = m' ((c.tc : Thread Cert.AdamUqReferenceIdeal.nD Cert.AdamUqReferenceIdeal.τ).loc Cert.AdamUqReferenceIdeal.main_arg3)
          ∧ r.2.mem ((c.tc : Thread Cert.AdamUqReferenceIdeal.nD Cert.AdamUqReferenceIdeal.τ).loc Cert.AdamUqReferenceIdeal.main_arg4) = m' ((c.tc : Thread Cert.AdamUqReferenceIdeal.nD Cert.AdamUqReferenceIdeal.τ).loc Cert.AdamUqReferenceIdeal.main_arg4))

def preserves_AdamUkvKernel_AdamUkvKernelIdeal : Prop :=
  True

def algebraic_AdamUkvKernelIdeal_AdamUkvReferenceIdeal [hAdamUkvKernelIdeal : Cert.AdamUkvKernelIdeal.Facts] [hAdamUkvReferenceIdeal : Cert.AdamUkvReferenceIdeal.Facts] : Prop :=
  ∀ (m : (ℓ : Loc Cert.AdamUkvKernelIdeal.nD Cert.AdamUkvKernelIdeal.τ Cert.AdamUkvKernelIdeal.sig) → Buf (Elt Ideal) ℓ) (g : Dev Cert.AdamUkvKernelIdeal.nD → PrngReg)
    (m' : (ℓ : Loc Cert.AdamUkvReferenceIdeal.nD Cert.AdamUkvReferenceIdeal.τ Cert.AdamUkvReferenceIdeal.sig) → Buf (Elt Ideal) ℓ) (g' : Dev Cert.AdamUkvReferenceIdeal.nD → PrngReg), Pre_AdamUkvKernelIdeal m →
    (∀ c : Dev Cert.AdamUkvKernelIdeal.nD,
      m' ((c.tc : Thread Cert.AdamUkvReferenceIdeal.nD Cert.AdamUkvReferenceIdeal.τ).loc Cert.AdamUkvReferenceIdeal.main_arg0) = m ((c.tc : Thread Cert.AdamUkvKernelIdeal.nD Cert.AdamUkvKernelIdeal.τ).loc Cert.AdamUkvKernelIdeal.main_arg0)
      ∧ m' ((c.tc : Thread Cert.AdamUkvReferenceIdeal.nD Cert.AdamUkvReferenceIdeal.τ).loc Cert.AdamUkvReferenceIdeal.main_arg1) = m ((c.tc : Thread Cert.AdamUkvKernelIdeal.nD Cert.AdamUkvKernelIdeal.τ).loc Cert.AdamUkvKernelIdeal.main_arg1)
      ∧ m' ((c.tc : Thread Cert.AdamUkvReferenceIdeal.nD Cert.AdamUkvReferenceIdeal.τ).loc Cert.AdamUkvReferenceIdeal.main_arg2) = m ((c.tc : Thread Cert.AdamUkvKernelIdeal.nD Cert.AdamUkvKernelIdeal.τ).loc Cert.AdamUkvKernelIdeal.main_arg2)
      ∧ m' ((c.tc : Thread Cert.AdamUkvReferenceIdeal.nD Cert.AdamUkvReferenceIdeal.τ).loc Cert.AdamUkvReferenceIdeal.main_arg3) = m ((c.tc : Thread Cert.AdamUkvKernelIdeal.nD Cert.AdamUkvKernelIdeal.τ).loc Cert.AdamUkvKernelIdeal.main_arg3)
      ∧ m' ((c.tc : Thread Cert.AdamUkvReferenceIdeal.nD Cert.AdamUkvReferenceIdeal.τ).loc Cert.AdamUkvReferenceIdeal.main_arg4) = m ((c.tc : Thread Cert.AdamUkvKernelIdeal.nD Cert.AdamUkvKernelIdeal.τ).loc Cert.AdamUkvKernelIdeal.main_arg4)) →
    ∃ (v0 : (c : Dev Cert.AdamUkvKernelIdeal.nD) → Buf (Elt Ideal) ((c.tc : Thread Cert.AdamUkvKernelIdeal.nD Cert.AdamUkvKernelIdeal.τ).loc Cert.AdamUkvKernelIdeal.main_v2_0)) (v1 : (c : Dev Cert.AdamUkvKernelIdeal.nD) → Buf (Elt Ideal) ((c.tc : Thread Cert.AdamUkvKernelIdeal.nD Cert.AdamUkvKernelIdeal.τ).loc Cert.AdamUkvKernelIdeal.main_v2_1)) (v2 : (c : Dev Cert.AdamUkvKernelIdeal.nD) → Buf (Elt Ideal) ((c.tc : Thread Cert.AdamUkvKernelIdeal.nD Cert.AdamUkvKernelIdeal.τ).loc Cert.AdamUkvKernelIdeal.main_v2_2)) (v3 : (c : Dev Cert.AdamUkvKernelIdeal.nD) → Buf (Elt Ideal) ((c.tc : Thread Cert.AdamUkvKernelIdeal.nD Cert.AdamUkvKernelIdeal.τ).loc Cert.AdamUkvKernelIdeal.main_v2_3)),
      θ_run (Cert.AdamUkvKernelIdeal.defs (F := Ideal)) (onTc (τ := Cert.AdamUkvKernelIdeal.τ) (Cert.AdamUkvKernelIdeal.main (F := Ideal))) ⟨m, fun _ => 0, g⟩ (fun r => ∀ c : Dev Cert.AdamUkvKernelIdeal.nD,
          r.2.mem ((c.tc : Thread Cert.AdamUkvKernelIdeal.nD Cert.AdamUkvKernelIdeal.τ).loc Cert.AdamUkvKernelIdeal.main_v2_0) = v0 c
          ∧ r.2.mem ((c.tc : Thread Cert.AdamUkvKernelIdeal.nD Cert.AdamUkvKernelIdeal.τ).loc Cert.AdamUkvKernelIdeal.main_v2_1) = v1 c
          ∧ r.2.mem ((c.tc : Thread Cert.AdamUkvKernelIdeal.nD Cert.AdamUkvKernelIdeal.τ).loc Cert.AdamUkvKernelIdeal.main_v2_2) = v2 c
          ∧ r.2.mem ((c.tc : Thread Cert.AdamUkvKernelIdeal.nD Cert.AdamUkvKernelIdeal.τ).loc Cert.AdamUkvKernelIdeal.main_v2_3) = v3 c
          ∧ r.2.mem ((c.tc : Thread Cert.AdamUkvKernelIdeal.nD Cert.AdamUkvKernelIdeal.τ).loc Cert.AdamUkvKernelIdeal.main_arg0) = m ((c.tc : Thread Cert.AdamUkvKernelIdeal.nD Cert.AdamUkvKernelIdeal.τ).loc Cert.AdamUkvKernelIdeal.main_arg0)
          ∧ r.2.mem ((c.tc : Thread Cert.AdamUkvKernelIdeal.nD Cert.AdamUkvKernelIdeal.τ).loc Cert.AdamUkvKernelIdeal.main_arg1) = m ((c.tc : Thread Cert.AdamUkvKernelIdeal.nD Cert.AdamUkvKernelIdeal.τ).loc Cert.AdamUkvKernelIdeal.main_arg1)
          ∧ r.2.mem ((c.tc : Thread Cert.AdamUkvKernelIdeal.nD Cert.AdamUkvKernelIdeal.τ).loc Cert.AdamUkvKernelIdeal.main_arg2) = m ((c.tc : Thread Cert.AdamUkvKernelIdeal.nD Cert.AdamUkvKernelIdeal.τ).loc Cert.AdamUkvKernelIdeal.main_arg2)
          ∧ r.2.mem ((c.tc : Thread Cert.AdamUkvKernelIdeal.nD Cert.AdamUkvKernelIdeal.τ).loc Cert.AdamUkvKernelIdeal.main_arg3) = m ((c.tc : Thread Cert.AdamUkvKernelIdeal.nD Cert.AdamUkvKernelIdeal.τ).loc Cert.AdamUkvKernelIdeal.main_arg3)
          ∧ r.2.mem ((c.tc : Thread Cert.AdamUkvKernelIdeal.nD Cert.AdamUkvKernelIdeal.τ).loc Cert.AdamUkvKernelIdeal.main_arg4) = m ((c.tc : Thread Cert.AdamUkvKernelIdeal.nD Cert.AdamUkvKernelIdeal.τ).loc Cert.AdamUkvKernelIdeal.main_arg4))
      ∧ θ_run (Cert.AdamUkvReferenceIdeal.defs (F := Ideal)) (onTc (τ := Cert.AdamUkvReferenceIdeal.τ) (Cert.AdamUkvReferenceIdeal.main (F := Ideal))) ⟨m', fun _ => 0, g'⟩ (fun r => ∀ c : Dev Cert.AdamUkvReferenceIdeal.nD,
          r.2.mem ((c.tc : Thread Cert.AdamUkvReferenceIdeal.nD Cert.AdamUkvReferenceIdeal.τ).loc Cert.AdamUkvReferenceIdeal.main_v2) = v0 c
          ∧ r.2.mem ((c.tc : Thread Cert.AdamUkvReferenceIdeal.nD Cert.AdamUkvReferenceIdeal.τ).loc Cert.AdamUkvReferenceIdeal.main_v26) = v1 c
          ∧ r.2.mem ((c.tc : Thread Cert.AdamUkvReferenceIdeal.nD Cert.AdamUkvReferenceIdeal.τ).loc Cert.AdamUkvReferenceIdeal.main_v7) = v2 c
          ∧ r.2.mem ((c.tc : Thread Cert.AdamUkvReferenceIdeal.nD Cert.AdamUkvReferenceIdeal.τ).loc Cert.AdamUkvReferenceIdeal.main_v13) = v3 c
          ∧ r.2.mem ((c.tc : Thread Cert.AdamUkvReferenceIdeal.nD Cert.AdamUkvReferenceIdeal.τ).loc Cert.AdamUkvReferenceIdeal.main_arg0) = m' ((c.tc : Thread Cert.AdamUkvReferenceIdeal.nD Cert.AdamUkvReferenceIdeal.τ).loc Cert.AdamUkvReferenceIdeal.main_arg0)
          ∧ r.2.mem ((c.tc : Thread Cert.AdamUkvReferenceIdeal.nD Cert.AdamUkvReferenceIdeal.τ).loc Cert.AdamUkvReferenceIdeal.main_arg1) = m' ((c.tc : Thread Cert.AdamUkvReferenceIdeal.nD Cert.AdamUkvReferenceIdeal.τ).loc Cert.AdamUkvReferenceIdeal.main_arg1)
          ∧ r.2.mem ((c.tc : Thread Cert.AdamUkvReferenceIdeal.nD Cert.AdamUkvReferenceIdeal.τ).loc Cert.AdamUkvReferenceIdeal.main_arg2) = m' ((c.tc : Thread Cert.AdamUkvReferenceIdeal.nD Cert.AdamUkvReferenceIdeal.τ).loc Cert.AdamUkvReferenceIdeal.main_arg2)
          ∧ r.2.mem ((c.tc : Thread Cert.AdamUkvReferenceIdeal.nD Cert.AdamUkvReferenceIdeal.τ).loc Cert.AdamUkvReferenceIdeal.main_arg3) = m' ((c.tc : Thread Cert.AdamUkvReferenceIdeal.nD Cert.AdamUkvReferenceIdeal.τ).loc Cert.AdamUkvReferenceIdeal.main_arg3)
          ∧ r.2.mem ((c.tc : Thread Cert.AdamUkvReferenceIdeal.nD Cert.AdamUkvReferenceIdeal.τ).loc Cert.AdamUkvReferenceIdeal.main_arg4) = m' ((c.tc : Thread Cert.AdamUkvReferenceIdeal.nD Cert.AdamUkvReferenceIdeal.τ).loc Cert.AdamUkvReferenceIdeal.main_arg4))

def preserves_AdamWoutKernel_AdamWoutKernelIdeal : Prop :=
  True

def algebraic_AdamWoutKernelIdeal_AdamWoutReferenceIdeal [hAdamWoutKernelIdeal : Cert.AdamWoutKernelIdeal.Facts] [hAdamWoutReferenceIdeal : Cert.AdamWoutReferenceIdeal.Facts] : Prop :=
  ∀ (m : (ℓ : Loc Cert.AdamWoutKernelIdeal.nD Cert.AdamWoutKernelIdeal.τ Cert.AdamWoutKernelIdeal.sig) → Buf (Elt Ideal) ℓ) (g : Dev Cert.AdamWoutKernelIdeal.nD → PrngReg)
    (m' : (ℓ : Loc Cert.AdamWoutReferenceIdeal.nD Cert.AdamWoutReferenceIdeal.τ Cert.AdamWoutReferenceIdeal.sig) → Buf (Elt Ideal) ℓ) (g' : Dev Cert.AdamWoutReferenceIdeal.nD → PrngReg), Pre_AdamWoutKernelIdeal m →
    (∀ c : Dev Cert.AdamWoutKernelIdeal.nD,
      m' ((c.tc : Thread Cert.AdamWoutReferenceIdeal.nD Cert.AdamWoutReferenceIdeal.τ).loc Cert.AdamWoutReferenceIdeal.main_arg0) = m ((c.tc : Thread Cert.AdamWoutKernelIdeal.nD Cert.AdamWoutKernelIdeal.τ).loc Cert.AdamWoutKernelIdeal.main_arg0)
      ∧ m' ((c.tc : Thread Cert.AdamWoutReferenceIdeal.nD Cert.AdamWoutReferenceIdeal.τ).loc Cert.AdamWoutReferenceIdeal.main_arg1) = m ((c.tc : Thread Cert.AdamWoutKernelIdeal.nD Cert.AdamWoutKernelIdeal.τ).loc Cert.AdamWoutKernelIdeal.main_arg1)
      ∧ m' ((c.tc : Thread Cert.AdamWoutReferenceIdeal.nD Cert.AdamWoutReferenceIdeal.τ).loc Cert.AdamWoutReferenceIdeal.main_arg2) = m ((c.tc : Thread Cert.AdamWoutKernelIdeal.nD Cert.AdamWoutKernelIdeal.τ).loc Cert.AdamWoutKernelIdeal.main_arg2)
      ∧ m' ((c.tc : Thread Cert.AdamWoutReferenceIdeal.nD Cert.AdamWoutReferenceIdeal.τ).loc Cert.AdamWoutReferenceIdeal.main_arg3) = m ((c.tc : Thread Cert.AdamWoutKernelIdeal.nD Cert.AdamWoutKernelIdeal.τ).loc Cert.AdamWoutKernelIdeal.main_arg3)
      ∧ m' ((c.tc : Thread Cert.AdamWoutReferenceIdeal.nD Cert.AdamWoutReferenceIdeal.τ).loc Cert.AdamWoutReferenceIdeal.main_arg4) = m ((c.tc : Thread Cert.AdamWoutKernelIdeal.nD Cert.AdamWoutKernelIdeal.τ).loc Cert.AdamWoutKernelIdeal.main_arg4)) →
    ∃ (v0 : (c : Dev Cert.AdamWoutKernelIdeal.nD) → Buf (Elt Ideal) ((c.tc : Thread Cert.AdamWoutKernelIdeal.nD Cert.AdamWoutKernelIdeal.τ).loc Cert.AdamWoutKernelIdeal.main_v2_0)) (v1 : (c : Dev Cert.AdamWoutKernelIdeal.nD) → Buf (Elt Ideal) ((c.tc : Thread Cert.AdamWoutKernelIdeal.nD Cert.AdamWoutKernelIdeal.τ).loc Cert.AdamWoutKernelIdeal.main_v2_1)) (v2 : (c : Dev Cert.AdamWoutKernelIdeal.nD) → Buf (Elt Ideal) ((c.tc : Thread Cert.AdamWoutKernelIdeal.nD Cert.AdamWoutKernelIdeal.τ).loc Cert.AdamWoutKernelIdeal.main_v2_2)) (v3 : (c : Dev Cert.AdamWoutKernelIdeal.nD) → Buf (Elt Ideal) ((c.tc : Thread Cert.AdamWoutKernelIdeal.nD Cert.AdamWoutKernelIdeal.τ).loc Cert.AdamWoutKernelIdeal.main_v2_3)),
      θ_run (Cert.AdamWoutKernelIdeal.defs (F := Ideal)) (onTc (τ := Cert.AdamWoutKernelIdeal.τ) (Cert.AdamWoutKernelIdeal.main (F := Ideal))) ⟨m, fun _ => 0, g⟩ (fun r => ∀ c : Dev Cert.AdamWoutKernelIdeal.nD,
          r.2.mem ((c.tc : Thread Cert.AdamWoutKernelIdeal.nD Cert.AdamWoutKernelIdeal.τ).loc Cert.AdamWoutKernelIdeal.main_v2_0) = v0 c
          ∧ r.2.mem ((c.tc : Thread Cert.AdamWoutKernelIdeal.nD Cert.AdamWoutKernelIdeal.τ).loc Cert.AdamWoutKernelIdeal.main_v2_1) = v1 c
          ∧ r.2.mem ((c.tc : Thread Cert.AdamWoutKernelIdeal.nD Cert.AdamWoutKernelIdeal.τ).loc Cert.AdamWoutKernelIdeal.main_v2_2) = v2 c
          ∧ r.2.mem ((c.tc : Thread Cert.AdamWoutKernelIdeal.nD Cert.AdamWoutKernelIdeal.τ).loc Cert.AdamWoutKernelIdeal.main_v2_3) = v3 c
          ∧ r.2.mem ((c.tc : Thread Cert.AdamWoutKernelIdeal.nD Cert.AdamWoutKernelIdeal.τ).loc Cert.AdamWoutKernelIdeal.main_arg0) = m ((c.tc : Thread Cert.AdamWoutKernelIdeal.nD Cert.AdamWoutKernelIdeal.τ).loc Cert.AdamWoutKernelIdeal.main_arg0)
          ∧ r.2.mem ((c.tc : Thread Cert.AdamWoutKernelIdeal.nD Cert.AdamWoutKernelIdeal.τ).loc Cert.AdamWoutKernelIdeal.main_arg1) = m ((c.tc : Thread Cert.AdamWoutKernelIdeal.nD Cert.AdamWoutKernelIdeal.τ).loc Cert.AdamWoutKernelIdeal.main_arg1)
          ∧ r.2.mem ((c.tc : Thread Cert.AdamWoutKernelIdeal.nD Cert.AdamWoutKernelIdeal.τ).loc Cert.AdamWoutKernelIdeal.main_arg2) = m ((c.tc : Thread Cert.AdamWoutKernelIdeal.nD Cert.AdamWoutKernelIdeal.τ).loc Cert.AdamWoutKernelIdeal.main_arg2)
          ∧ r.2.mem ((c.tc : Thread Cert.AdamWoutKernelIdeal.nD Cert.AdamWoutKernelIdeal.τ).loc Cert.AdamWoutKernelIdeal.main_arg3) = m ((c.tc : Thread Cert.AdamWoutKernelIdeal.nD Cert.AdamWoutKernelIdeal.τ).loc Cert.AdamWoutKernelIdeal.main_arg3)
          ∧ r.2.mem ((c.tc : Thread Cert.AdamWoutKernelIdeal.nD Cert.AdamWoutKernelIdeal.τ).loc Cert.AdamWoutKernelIdeal.main_arg4) = m ((c.tc : Thread Cert.AdamWoutKernelIdeal.nD Cert.AdamWoutKernelIdeal.τ).loc Cert.AdamWoutKernelIdeal.main_arg4))
      ∧ θ_run (Cert.AdamWoutReferenceIdeal.defs (F := Ideal)) (onTc (τ := Cert.AdamWoutReferenceIdeal.τ) (Cert.AdamWoutReferenceIdeal.main (F := Ideal))) ⟨m', fun _ => 0, g'⟩ (fun r => ∀ c : Dev Cert.AdamWoutReferenceIdeal.nD,
          r.2.mem ((c.tc : Thread Cert.AdamWoutReferenceIdeal.nD Cert.AdamWoutReferenceIdeal.τ).loc Cert.AdamWoutReferenceIdeal.main_v2) = v0 c
          ∧ r.2.mem ((c.tc : Thread Cert.AdamWoutReferenceIdeal.nD Cert.AdamWoutReferenceIdeal.τ).loc Cert.AdamWoutReferenceIdeal.main_v26) = v1 c
          ∧ r.2.mem ((c.tc : Thread Cert.AdamWoutReferenceIdeal.nD Cert.AdamWoutReferenceIdeal.τ).loc Cert.AdamWoutReferenceIdeal.main_v7) = v2 c
          ∧ r.2.mem ((c.tc : Thread Cert.AdamWoutReferenceIdeal.nD Cert.AdamWoutReferenceIdeal.τ).loc Cert.AdamWoutReferenceIdeal.main_v13) = v3 c
          ∧ r.2.mem ((c.tc : Thread Cert.AdamWoutReferenceIdeal.nD Cert.AdamWoutReferenceIdeal.τ).loc Cert.AdamWoutReferenceIdeal.main_arg0) = m' ((c.tc : Thread Cert.AdamWoutReferenceIdeal.nD Cert.AdamWoutReferenceIdeal.τ).loc Cert.AdamWoutReferenceIdeal.main_arg0)
          ∧ r.2.mem ((c.tc : Thread Cert.AdamWoutReferenceIdeal.nD Cert.AdamWoutReferenceIdeal.τ).loc Cert.AdamWoutReferenceIdeal.main_arg1) = m' ((c.tc : Thread Cert.AdamWoutReferenceIdeal.nD Cert.AdamWoutReferenceIdeal.τ).loc Cert.AdamWoutReferenceIdeal.main_arg1)
          ∧ r.2.mem ((c.tc : Thread Cert.AdamWoutReferenceIdeal.nD Cert.AdamWoutReferenceIdeal.τ).loc Cert.AdamWoutReferenceIdeal.main_arg2) = m' ((c.tc : Thread Cert.AdamWoutReferenceIdeal.nD Cert.AdamWoutReferenceIdeal.τ).loc Cert.AdamWoutReferenceIdeal.main_arg2)
          ∧ r.2.mem ((c.tc : Thread Cert.AdamWoutReferenceIdeal.nD Cert.AdamWoutReferenceIdeal.τ).loc Cert.AdamWoutReferenceIdeal.main_arg3) = m' ((c.tc : Thread Cert.AdamWoutReferenceIdeal.nD Cert.AdamWoutReferenceIdeal.τ).loc Cert.AdamWoutReferenceIdeal.main_arg3)
          ∧ r.2.mem ((c.tc : Thread Cert.AdamWoutReferenceIdeal.nD Cert.AdamWoutReferenceIdeal.τ).loc Cert.AdamWoutReferenceIdeal.main_arg4) = m' ((c.tc : Thread Cert.AdamWoutReferenceIdeal.nD Cert.AdamWoutReferenceIdeal.τ).loc Cert.AdamWoutReferenceIdeal.main_arg4))

def preserves_SumGateupKernel_SumGateupKernelIdeal : Prop :=
  True

def algebraic_SumGateupKernelIdeal_SumGateupReferenceIdeal [hSumGateupKernelIdeal : Cert.SumGateupKernelIdeal.Facts] [hSumGateupReferenceIdeal : Cert.SumGateupReferenceIdeal.Facts] : Prop :=
  ∀ (m : (ℓ : Loc Cert.SumGateupKernelIdeal.nD Cert.SumGateupKernelIdeal.τ Cert.SumGateupKernelIdeal.sig) → Buf (Elt Ideal) ℓ) (g : Dev Cert.SumGateupKernelIdeal.nD → PrngReg)
    (m' : (ℓ : Loc Cert.SumGateupReferenceIdeal.nD Cert.SumGateupReferenceIdeal.τ Cert.SumGateupReferenceIdeal.sig) → Buf (Elt Ideal) ℓ) (g' : Dev Cert.SumGateupReferenceIdeal.nD → PrngReg), Pre_SumGateupKernelIdeal m →
    (∀ c : Dev Cert.SumGateupKernelIdeal.nD,
      m' ((c.tc : Thread Cert.SumGateupReferenceIdeal.nD Cert.SumGateupReferenceIdeal.τ).loc Cert.SumGateupReferenceIdeal.main_arg0) = m ((c.tc : Thread Cert.SumGateupKernelIdeal.nD Cert.SumGateupKernelIdeal.τ).loc Cert.SumGateupKernelIdeal.main_arg0)
      ∧ m' ((c.tc : Thread Cert.SumGateupReferenceIdeal.nD Cert.SumGateupReferenceIdeal.τ).loc Cert.SumGateupReferenceIdeal.main_arg1) = m ((c.tc : Thread Cert.SumGateupKernelIdeal.nD Cert.SumGateupKernelIdeal.τ).loc Cert.SumGateupKernelIdeal.main_arg1)) →
    ∃ (v0 : (c : Dev Cert.SumGateupKernelIdeal.nD) → Buf (Elt Ideal) ((c.tc : Thread Cert.SumGateupKernelIdeal.nD Cert.SumGateupKernelIdeal.τ).loc Cert.SumGateupKernelIdeal.main_v9)) (v1 : (c : Dev Cert.SumGateupKernelIdeal.nD) → Buf (Elt Ideal) ((c.tc : Thread Cert.SumGateupKernelIdeal.nD Cert.SumGateupKernelIdeal.τ).loc Cert.SumGateupKernelIdeal.main_v12)),
      θ_run (Cert.SumGateupKernelIdeal.defs (F := Ideal)) (onTc (τ := Cert.SumGateupKernelIdeal.τ) (Cert.SumGateupKernelIdeal.main (F := Ideal))) ⟨m, fun _ => 0, g⟩ (fun r => ∀ c : Dev Cert.SumGateupKernelIdeal.nD,
          r.2.mem ((c.tc : Thread Cert.SumGateupKernelIdeal.nD Cert.SumGateupKernelIdeal.τ).loc Cert.SumGateupKernelIdeal.main_v9) = v0 c
          ∧ r.2.mem ((c.tc : Thread Cert.SumGateupKernelIdeal.nD Cert.SumGateupKernelIdeal.τ).loc Cert.SumGateupKernelIdeal.main_v12) = v1 c
          ∧ r.2.mem ((c.tc : Thread Cert.SumGateupKernelIdeal.nD Cert.SumGateupKernelIdeal.τ).loc Cert.SumGateupKernelIdeal.main_arg0) = m ((c.tc : Thread Cert.SumGateupKernelIdeal.nD Cert.SumGateupKernelIdeal.τ).loc Cert.SumGateupKernelIdeal.main_arg0)
          ∧ r.2.mem ((c.tc : Thread Cert.SumGateupKernelIdeal.nD Cert.SumGateupKernelIdeal.τ).loc Cert.SumGateupKernelIdeal.main_arg1) = m ((c.tc : Thread Cert.SumGateupKernelIdeal.nD Cert.SumGateupKernelIdeal.τ).loc Cert.SumGateupKernelIdeal.main_arg1))
      ∧ θ_run (Cert.SumGateupReferenceIdeal.defs (F := Ideal)) (onTc (τ := Cert.SumGateupReferenceIdeal.τ) (Cert.SumGateupReferenceIdeal.main (F := Ideal))) ⟨m', fun _ => 0, g'⟩ (fun r => ∀ c : Dev Cert.SumGateupReferenceIdeal.nD,
          r.2.mem ((c.tc : Thread Cert.SumGateupReferenceIdeal.nD Cert.SumGateupReferenceIdeal.τ).loc Cert.SumGateupReferenceIdeal.main_v1) = v0 c
          ∧ r.2.mem ((c.tc : Thread Cert.SumGateupReferenceIdeal.nD Cert.SumGateupReferenceIdeal.τ).loc Cert.SumGateupReferenceIdeal.main_v3) = v1 c
          ∧ r.2.mem ((c.tc : Thread Cert.SumGateupReferenceIdeal.nD Cert.SumGateupReferenceIdeal.τ).loc Cert.SumGateupReferenceIdeal.main_arg0) = m' ((c.tc : Thread Cert.SumGateupReferenceIdeal.nD Cert.SumGateupReferenceIdeal.τ).loc Cert.SumGateupReferenceIdeal.main_arg0)
          ∧ r.2.mem ((c.tc : Thread Cert.SumGateupReferenceIdeal.nD Cert.SumGateupReferenceIdeal.τ).loc Cert.SumGateupReferenceIdeal.main_arg1) = m' ((c.tc : Thread Cert.SumGateupReferenceIdeal.nD Cert.SumGateupReferenceIdeal.τ).loc Cert.SumGateupReferenceIdeal.main_arg1))

def preserves_SumDownKernel_SumDownKernelIdeal : Prop :=
  True

def algebraic_SumDownKernelIdeal_SumDownReferenceIdeal [hSumDownKernelIdeal : Cert.SumDownKernelIdeal.Facts] [hSumDownReferenceIdeal : Cert.SumDownReferenceIdeal.Facts] : Prop :=
  ∀ (m : (ℓ : Loc Cert.SumDownKernelIdeal.nD Cert.SumDownKernelIdeal.τ Cert.SumDownKernelIdeal.sig) → Buf (Elt Ideal) ℓ) (g : Dev Cert.SumDownKernelIdeal.nD → PrngReg)
    (m' : (ℓ : Loc Cert.SumDownReferenceIdeal.nD Cert.SumDownReferenceIdeal.τ Cert.SumDownReferenceIdeal.sig) → Buf (Elt Ideal) ℓ) (g' : Dev Cert.SumDownReferenceIdeal.nD → PrngReg), Pre_SumDownKernelIdeal m →
    (∀ c : Dev Cert.SumDownKernelIdeal.nD,
      m' ((c.tc : Thread Cert.SumDownReferenceIdeal.nD Cert.SumDownReferenceIdeal.τ).loc Cert.SumDownReferenceIdeal.main_arg0) = m ((c.tc : Thread Cert.SumDownKernelIdeal.nD Cert.SumDownKernelIdeal.τ).loc Cert.SumDownKernelIdeal.main_arg0)) →
    ∃ (v0 : (c : Dev Cert.SumDownKernelIdeal.nD) → Buf (Elt Ideal) ((c.tc : Thread Cert.SumDownKernelIdeal.nD Cert.SumDownKernelIdeal.τ).loc Cert.SumDownKernelIdeal.main_v7)),
      θ_run (Cert.SumDownKernelIdeal.defs (F := Ideal)) (onTc (τ := Cert.SumDownKernelIdeal.τ) (Cert.SumDownKernelIdeal.main (F := Ideal))) ⟨m, fun _ => 0, g⟩ (fun r => ∀ c : Dev Cert.SumDownKernelIdeal.nD,
          r.2.mem ((c.tc : Thread Cert.SumDownKernelIdeal.nD Cert.SumDownKernelIdeal.τ).loc Cert.SumDownKernelIdeal.main_v7) = v0 c
          ∧ r.2.mem ((c.tc : Thread Cert.SumDownKernelIdeal.nD Cert.SumDownKernelIdeal.τ).loc Cert.SumDownKernelIdeal.main_arg0) = m ((c.tc : Thread Cert.SumDownKernelIdeal.nD Cert.SumDownKernelIdeal.τ).loc Cert.SumDownKernelIdeal.main_arg0))
      ∧ θ_run (Cert.SumDownReferenceIdeal.defs (F := Ideal)) (onTc (τ := Cert.SumDownReferenceIdeal.τ) (Cert.SumDownReferenceIdeal.main (F := Ideal))) ⟨m', fun _ => 0, g'⟩ (fun r => ∀ c : Dev Cert.SumDownReferenceIdeal.nD,
          r.2.mem ((c.tc : Thread Cert.SumDownReferenceIdeal.nD Cert.SumDownReferenceIdeal.τ).loc Cert.SumDownReferenceIdeal.main_v1) = v0 c
          ∧ r.2.mem ((c.tc : Thread Cert.SumDownReferenceIdeal.nD Cert.SumDownReferenceIdeal.τ).loc Cert.SumDownReferenceIdeal.main_arg0) = m' ((c.tc : Thread Cert.SumDownReferenceIdeal.nD Cert.SumDownReferenceIdeal.τ).loc Cert.SumDownReferenceIdeal.main_arg0))

def preserves_SumMixKernel_SumMixKernelIdeal : Prop :=
  True

def algebraic_SumMixKernelIdeal_SumMixReferenceIdeal [hSumMixKernelIdeal : Cert.SumMixKernelIdeal.Facts] [hSumMixReferenceIdeal : Cert.SumMixReferenceIdeal.Facts] : Prop :=
  ∀ (m : (ℓ : Loc Cert.SumMixKernelIdeal.nD Cert.SumMixKernelIdeal.τ Cert.SumMixKernelIdeal.sig) → Buf (Elt Ideal) ℓ) (g : Dev Cert.SumMixKernelIdeal.nD → PrngReg)
    (m' : (ℓ : Loc Cert.SumMixReferenceIdeal.nD Cert.SumMixReferenceIdeal.τ Cert.SumMixReferenceIdeal.sig) → Buf (Elt Ideal) ℓ) (g' : Dev Cert.SumMixReferenceIdeal.nD → PrngReg), Pre_SumMixKernelIdeal m →
    (∀ c : Dev Cert.SumMixKernelIdeal.nD,
      m' ((c.tc : Thread Cert.SumMixReferenceIdeal.nD Cert.SumMixReferenceIdeal.τ).loc Cert.SumMixReferenceIdeal.main_arg0) = m ((c.tc : Thread Cert.SumMixKernelIdeal.nD Cert.SumMixKernelIdeal.τ).loc Cert.SumMixKernelIdeal.main_arg0)
      ∧ m' ((c.tc : Thread Cert.SumMixReferenceIdeal.nD Cert.SumMixReferenceIdeal.τ).loc Cert.SumMixReferenceIdeal.main_arg1) = m ((c.tc : Thread Cert.SumMixKernelIdeal.nD Cert.SumMixKernelIdeal.τ).loc Cert.SumMixKernelIdeal.main_arg1)
      ∧ m' ((c.tc : Thread Cert.SumMixReferenceIdeal.nD Cert.SumMixReferenceIdeal.τ).loc Cert.SumMixReferenceIdeal.main_arg2) = m ((c.tc : Thread Cert.SumMixKernelIdeal.nD Cert.SumMixKernelIdeal.τ).loc Cert.SumMixKernelIdeal.main_arg2)
      ∧ m' ((c.tc : Thread Cert.SumMixReferenceIdeal.nD Cert.SumMixReferenceIdeal.τ).loc Cert.SumMixReferenceIdeal.main_arg3) = m ((c.tc : Thread Cert.SumMixKernelIdeal.nD Cert.SumMixKernelIdeal.τ).loc Cert.SumMixKernelIdeal.main_arg3)
      ∧ m' ((c.tc : Thread Cert.SumMixReferenceIdeal.nD Cert.SumMixReferenceIdeal.τ).loc Cert.SumMixReferenceIdeal.main_arg4) = m ((c.tc : Thread Cert.SumMixKernelIdeal.nD Cert.SumMixKernelIdeal.τ).loc Cert.SumMixKernelIdeal.main_arg4)
      ∧ m' ((c.tc : Thread Cert.SumMixReferenceIdeal.nD Cert.SumMixReferenceIdeal.τ).loc Cert.SumMixReferenceIdeal.main_arg5) = m ((c.tc : Thread Cert.SumMixKernelIdeal.nD Cert.SumMixKernelIdeal.τ).loc Cert.SumMixKernelIdeal.main_arg5)
      ∧ m' ((c.tc : Thread Cert.SumMixReferenceIdeal.nD Cert.SumMixReferenceIdeal.τ).loc Cert.SumMixReferenceIdeal.main_arg6) = m ((c.tc : Thread Cert.SumMixKernelIdeal.nD Cert.SumMixKernelIdeal.τ).loc Cert.SumMixKernelIdeal.main_arg6)
      ∧ m' ((c.tc : Thread Cert.SumMixReferenceIdeal.nD Cert.SumMixReferenceIdeal.τ).loc Cert.SumMixReferenceIdeal.main_arg7) = m ((c.tc : Thread Cert.SumMixKernelIdeal.nD Cert.SumMixKernelIdeal.τ).loc Cert.SumMixKernelIdeal.main_arg7)
      ∧ m' ((c.tc : Thread Cert.SumMixReferenceIdeal.nD Cert.SumMixReferenceIdeal.τ).loc Cert.SumMixReferenceIdeal.main_arg8) = m ((c.tc : Thread Cert.SumMixKernelIdeal.nD Cert.SumMixKernelIdeal.τ).loc Cert.SumMixKernelIdeal.main_arg8)) →
    ∃ (v0 : (c : Dev Cert.SumMixKernelIdeal.nD) → Buf (Elt Ideal) ((c.tc : Thread Cert.SumMixKernelIdeal.nD Cert.SumMixKernelIdeal.τ).loc Cert.SumMixKernelIdeal.main_v26)) (v1 : (c : Dev Cert.SumMixKernelIdeal.nD) → Buf (Elt Ideal) ((c.tc : Thread Cert.SumMixKernelIdeal.nD Cert.SumMixKernelIdeal.τ).loc Cert.SumMixKernelIdeal.main_v29)) (v2 : (c : Dev Cert.SumMixKernelIdeal.nD) → Buf (Elt Ideal) ((c.tc : Thread Cert.SumMixKernelIdeal.nD Cert.SumMixKernelIdeal.τ).loc Cert.SumMixKernelIdeal.main_v33)) (v3 : (c : Dev Cert.SumMixKernelIdeal.nD) → Buf (Elt Ideal) ((c.tc : Thread Cert.SumMixKernelIdeal.nD Cert.SumMixKernelIdeal.τ).loc Cert.SumMixKernelIdeal.main_v36)) (v4 : (c : Dev Cert.SumMixKernelIdeal.nD) → Buf (Elt Ideal) ((c.tc : Thread Cert.SumMixKernelIdeal.nD Cert.SumMixKernelIdeal.τ).loc Cert.SumMixKernelIdeal.main_v39)) (v5 : (c : Dev Cert.SumMixKernelIdeal.nD) → Buf (Elt Ideal) ((c.tc : Thread Cert.SumMixKernelIdeal.nD Cert.SumMixKernelIdeal.τ).loc Cert.SumMixKernelIdeal.main_v42)) (v6 : (c : Dev Cert.SumMixKernelIdeal.nD) → Buf (Elt Ideal) ((c.tc : Thread Cert.SumMixKernelIdeal.nD Cert.SumMixKernelIdeal.τ).loc Cert.SumMixKernelIdeal.main_v45)) (v7 : (c : Dev Cert.SumMixKernelIdeal.nD) → Buf (Elt Ideal) ((c.tc : Thread Cert.SumMixKernelIdeal.nD Cert.SumMixKernelIdeal.τ).loc Cert.SumMixKernelIdeal.main_v48)) (v8 : (c : Dev Cert.SumMixKernelIdeal.nD) → Buf (Elt Ideal) ((c.tc : Thread Cert.SumMixKernelIdeal.nD Cert.SumMixKernelIdeal.τ).loc Cert.SumMixKernelIdeal.main_v51)),
      θ_run (Cert.SumMixKernelIdeal.defs (F := Ideal)) (onTc (τ := Cert.SumMixKernelIdeal.τ) (Cert.SumMixKernelIdeal.main (F := Ideal))) ⟨m, fun _ => 0, g⟩ (fun r => ∀ c : Dev Cert.SumMixKernelIdeal.nD,
          r.2.mem ((c.tc : Thread Cert.SumMixKernelIdeal.nD Cert.SumMixKernelIdeal.τ).loc Cert.SumMixKernelIdeal.main_v26) = v0 c
          ∧ r.2.mem ((c.tc : Thread Cert.SumMixKernelIdeal.nD Cert.SumMixKernelIdeal.τ).loc Cert.SumMixKernelIdeal.main_v29) = v1 c
          ∧ r.2.mem ((c.tc : Thread Cert.SumMixKernelIdeal.nD Cert.SumMixKernelIdeal.τ).loc Cert.SumMixKernelIdeal.main_v33) = v2 c
          ∧ r.2.mem ((c.tc : Thread Cert.SumMixKernelIdeal.nD Cert.SumMixKernelIdeal.τ).loc Cert.SumMixKernelIdeal.main_v36) = v3 c
          ∧ r.2.mem ((c.tc : Thread Cert.SumMixKernelIdeal.nD Cert.SumMixKernelIdeal.τ).loc Cert.SumMixKernelIdeal.main_v39) = v4 c
          ∧ r.2.mem ((c.tc : Thread Cert.SumMixKernelIdeal.nD Cert.SumMixKernelIdeal.τ).loc Cert.SumMixKernelIdeal.main_v42) = v5 c
          ∧ r.2.mem ((c.tc : Thread Cert.SumMixKernelIdeal.nD Cert.SumMixKernelIdeal.τ).loc Cert.SumMixKernelIdeal.main_v45) = v6 c
          ∧ r.2.mem ((c.tc : Thread Cert.SumMixKernelIdeal.nD Cert.SumMixKernelIdeal.τ).loc Cert.SumMixKernelIdeal.main_v48) = v7 c
          ∧ r.2.mem ((c.tc : Thread Cert.SumMixKernelIdeal.nD Cert.SumMixKernelIdeal.τ).loc Cert.SumMixKernelIdeal.main_v51) = v8 c
          ∧ r.2.mem ((c.tc : Thread Cert.SumMixKernelIdeal.nD Cert.SumMixKernelIdeal.τ).loc Cert.SumMixKernelIdeal.main_arg0) = m ((c.tc : Thread Cert.SumMixKernelIdeal.nD Cert.SumMixKernelIdeal.τ).loc Cert.SumMixKernelIdeal.main_arg0)
          ∧ r.2.mem ((c.tc : Thread Cert.SumMixKernelIdeal.nD Cert.SumMixKernelIdeal.τ).loc Cert.SumMixKernelIdeal.main_arg1) = m ((c.tc : Thread Cert.SumMixKernelIdeal.nD Cert.SumMixKernelIdeal.τ).loc Cert.SumMixKernelIdeal.main_arg1)
          ∧ r.2.mem ((c.tc : Thread Cert.SumMixKernelIdeal.nD Cert.SumMixKernelIdeal.τ).loc Cert.SumMixKernelIdeal.main_arg2) = m ((c.tc : Thread Cert.SumMixKernelIdeal.nD Cert.SumMixKernelIdeal.τ).loc Cert.SumMixKernelIdeal.main_arg2)
          ∧ r.2.mem ((c.tc : Thread Cert.SumMixKernelIdeal.nD Cert.SumMixKernelIdeal.τ).loc Cert.SumMixKernelIdeal.main_arg3) = m ((c.tc : Thread Cert.SumMixKernelIdeal.nD Cert.SumMixKernelIdeal.τ).loc Cert.SumMixKernelIdeal.main_arg3)
          ∧ r.2.mem ((c.tc : Thread Cert.SumMixKernelIdeal.nD Cert.SumMixKernelIdeal.τ).loc Cert.SumMixKernelIdeal.main_arg4) = m ((c.tc : Thread Cert.SumMixKernelIdeal.nD Cert.SumMixKernelIdeal.τ).loc Cert.SumMixKernelIdeal.main_arg4)
          ∧ r.2.mem ((c.tc : Thread Cert.SumMixKernelIdeal.nD Cert.SumMixKernelIdeal.τ).loc Cert.SumMixKernelIdeal.main_arg5) = m ((c.tc : Thread Cert.SumMixKernelIdeal.nD Cert.SumMixKernelIdeal.τ).loc Cert.SumMixKernelIdeal.main_arg5)
          ∧ r.2.mem ((c.tc : Thread Cert.SumMixKernelIdeal.nD Cert.SumMixKernelIdeal.τ).loc Cert.SumMixKernelIdeal.main_arg6) = m ((c.tc : Thread Cert.SumMixKernelIdeal.nD Cert.SumMixKernelIdeal.τ).loc Cert.SumMixKernelIdeal.main_arg6)
          ∧ r.2.mem ((c.tc : Thread Cert.SumMixKernelIdeal.nD Cert.SumMixKernelIdeal.τ).loc Cert.SumMixKernelIdeal.main_arg7) = m ((c.tc : Thread Cert.SumMixKernelIdeal.nD Cert.SumMixKernelIdeal.τ).loc Cert.SumMixKernelIdeal.main_arg7)
          ∧ r.2.mem ((c.tc : Thread Cert.SumMixKernelIdeal.nD Cert.SumMixKernelIdeal.τ).loc Cert.SumMixKernelIdeal.main_arg8) = m ((c.tc : Thread Cert.SumMixKernelIdeal.nD Cert.SumMixKernelIdeal.τ).loc Cert.SumMixKernelIdeal.main_arg8))
      ∧ θ_run (Cert.SumMixReferenceIdeal.defs (F := Ideal)) (onTc (τ := Cert.SumMixReferenceIdeal.τ) (Cert.SumMixReferenceIdeal.main (F := Ideal))) ⟨m', fun _ => 0, g'⟩ (fun r => ∀ c : Dev Cert.SumMixReferenceIdeal.nD,
          r.2.mem ((c.tc : Thread Cert.SumMixReferenceIdeal.nD Cert.SumMixReferenceIdeal.τ).loc Cert.SumMixReferenceIdeal.main_v1) = v0 c
          ∧ r.2.mem ((c.tc : Thread Cert.SumMixReferenceIdeal.nD Cert.SumMixReferenceIdeal.τ).loc Cert.SumMixReferenceIdeal.main_v3) = v1 c
          ∧ r.2.mem ((c.tc : Thread Cert.SumMixReferenceIdeal.nD Cert.SumMixReferenceIdeal.τ).loc Cert.SumMixReferenceIdeal.main_v5) = v2 c
          ∧ r.2.mem ((c.tc : Thread Cert.SumMixReferenceIdeal.nD Cert.SumMixReferenceIdeal.τ).loc Cert.SumMixReferenceIdeal.main_v7) = v3 c
          ∧ r.2.mem ((c.tc : Thread Cert.SumMixReferenceIdeal.nD Cert.SumMixReferenceIdeal.τ).loc Cert.SumMixReferenceIdeal.main_v9) = v4 c
          ∧ r.2.mem ((c.tc : Thread Cert.SumMixReferenceIdeal.nD Cert.SumMixReferenceIdeal.τ).loc Cert.SumMixReferenceIdeal.main_v11) = v5 c
          ∧ r.2.mem ((c.tc : Thread Cert.SumMixReferenceIdeal.nD Cert.SumMixReferenceIdeal.τ).loc Cert.SumMixReferenceIdeal.main_v13) = v6 c
          ∧ r.2.mem ((c.tc : Thread Cert.SumMixReferenceIdeal.nD Cert.SumMixReferenceIdeal.τ).loc Cert.SumMixReferenceIdeal.main_v15) = v7 c
          ∧ r.2.mem ((c.tc : Thread Cert.SumMixReferenceIdeal.nD Cert.SumMixReferenceIdeal.τ).loc Cert.SumMixReferenceIdeal.main_v17) = v8 c
          ∧ r.2.mem ((c.tc : Thread Cert.SumMixReferenceIdeal.nD Cert.SumMixReferenceIdeal.τ).loc Cert.SumMixReferenceIdeal.main_arg0) = m' ((c.tc : Thread Cert.SumMixReferenceIdeal.nD Cert.SumMixReferenceIdeal.τ).loc Cert.SumMixReferenceIdeal.main_arg0)
          ∧ r.2.mem ((c.tc : Thread Cert.SumMixReferenceIdeal.nD Cert.SumMixReferenceIdeal.τ).loc Cert.SumMixReferenceIdeal.main_arg1) = m' ((c.tc : Thread Cert.SumMixReferenceIdeal.nD Cert.SumMixReferenceIdeal.τ).loc Cert.SumMixReferenceIdeal.main_arg1)
          ∧ r.2.mem ((c.tc : Thread Cert.SumMixReferenceIdeal.nD Cert.SumMixReferenceIdeal.τ).loc Cert.SumMixReferenceIdeal.main_arg2) = m' ((c.tc : Thread Cert.SumMixReferenceIdeal.nD Cert.SumMixReferenceIdeal.τ).loc Cert.SumMixReferenceIdeal.main_arg2)
          ∧ r.2.mem ((c.tc : Thread Cert.SumMixReferenceIdeal.nD Cert.SumMixReferenceIdeal.τ).loc Cert.SumMixReferenceIdeal.main_arg3) = m' ((c.tc : Thread Cert.SumMixReferenceIdeal.nD Cert.SumMixReferenceIdeal.τ).loc Cert.SumMixReferenceIdeal.main_arg3)
          ∧ r.2.mem ((c.tc : Thread Cert.SumMixReferenceIdeal.nD Cert.SumMixReferenceIdeal.τ).loc Cert.SumMixReferenceIdeal.main_arg4) = m' ((c.tc : Thread Cert.SumMixReferenceIdeal.nD Cert.SumMixReferenceIdeal.τ).loc Cert.SumMixReferenceIdeal.main_arg4)
          ∧ r.2.mem ((c.tc : Thread Cert.SumMixReferenceIdeal.nD Cert.SumMixReferenceIdeal.τ).loc Cert.SumMixReferenceIdeal.main_arg5) = m' ((c.tc : Thread Cert.SumMixReferenceIdeal.nD Cert.SumMixReferenceIdeal.τ).loc Cert.SumMixReferenceIdeal.main_arg5)
          ∧ r.2.mem ((c.tc : Thread Cert.SumMixReferenceIdeal.nD Cert.SumMixReferenceIdeal.τ).loc Cert.SumMixReferenceIdeal.main_arg6) = m' ((c.tc : Thread Cert.SumMixReferenceIdeal.nD Cert.SumMixReferenceIdeal.τ).loc Cert.SumMixReferenceIdeal.main_arg6)
          ∧ r.2.mem ((c.tc : Thread Cert.SumMixReferenceIdeal.nD Cert.SumMixReferenceIdeal.τ).loc Cert.SumMixReferenceIdeal.main_arg7) = m' ((c.tc : Thread Cert.SumMixReferenceIdeal.nD Cert.SumMixReferenceIdeal.τ).loc Cert.SumMixReferenceIdeal.main_arg7)
          ∧ r.2.mem ((c.tc : Thread Cert.SumMixReferenceIdeal.nD Cert.SumMixReferenceIdeal.τ).loc Cert.SumMixReferenceIdeal.main_arg8) = m' ((c.tc : Thread Cert.SumMixReferenceIdeal.nD Cert.SumMixReferenceIdeal.τ).loc Cert.SumMixReferenceIdeal.main_arg8))

def preserves_SumSmallKernel_SumSmallKernelIdeal : Prop :=
  True

def algebraic_SumSmallKernelIdeal_SumSmallReferenceIdeal [hSumSmallKernelIdeal : Cert.SumSmallKernelIdeal.Facts] [hSumSmallReferenceIdeal : Cert.SumSmallReferenceIdeal.Facts] : Prop :=
  ∀ (m : (ℓ : Loc Cert.SumSmallKernelIdeal.nD Cert.SumSmallKernelIdeal.τ Cert.SumSmallKernelIdeal.sig) → Buf (Elt Ideal) ℓ) (g : Dev Cert.SumSmallKernelIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallKernelIdeal m →
    (∀ c : Dev Cert.SumSmallKernelIdeal.nD,
      m' ((c.tc : Thread Cert.SumSmallReferenceIdeal.nD Cert.SumSmallReferenceIdeal.τ).loc Cert.SumSmallReferenceIdeal.main_arg0) = m ((c.tc : Thread Cert.SumSmallKernelIdeal.nD Cert.SumSmallKernelIdeal.τ).loc Cert.SumSmallKernelIdeal.main_arg0)
      ∧ m' ((c.tc : Thread Cert.SumSmallReferenceIdeal.nD Cert.SumSmallReferenceIdeal.τ).loc Cert.SumSmallReferenceIdeal.main_arg1) = m ((c.tc : Thread Cert.SumSmallKernelIdeal.nD Cert.SumSmallKernelIdeal.τ).loc Cert.SumSmallKernelIdeal.main_arg1)
      ∧ m' ((c.tc : Thread Cert.SumSmallReferenceIdeal.nD Cert.SumSmallReferenceIdeal.τ).loc Cert.SumSmallReferenceIdeal.main_arg2) = m ((c.tc : Thread Cert.SumSmallKernelIdeal.nD Cert.SumSmallKernelIdeal.τ).loc Cert.SumSmallKernelIdeal.main_arg2)
      ∧ m' ((c.tc : Thread Cert.SumSmallReferenceIdeal.nD Cert.SumSmallReferenceIdeal.τ).loc Cert.SumSmallReferenceIdeal.main_arg3) = m ((c.tc : Thread Cert.SumSmallKernelIdeal.nD Cert.SumSmallKernelIdeal.τ).loc Cert.SumSmallKernelIdeal.main_arg3)
      ∧ m' ((c.tc : Thread Cert.SumSmallReferenceIdeal.nD Cert.SumSmallReferenceIdeal.τ).loc Cert.SumSmallReferenceIdeal.main_arg4) = m ((c.tc : Thread Cert.SumSmallKernelIdeal.nD Cert.SumSmallKernelIdeal.τ).loc Cert.SumSmallKernelIdeal.main_arg4)
      ∧ m' ((c.tc : Thread Cert.SumSmallReferenceIdeal.nD Cert.SumSmallReferenceIdeal.τ).loc Cert.SumSmallReferenceIdeal.main_arg5) = m ((c.tc : Thread Cert.SumSmallKernelIdeal.nD Cert.SumSmallKernelIdeal.τ).loc Cert.SumSmallKernelIdeal.main_arg5)
      ∧ m' ((c.tc : Thread Cert.SumSmallReferenceIdeal.nD Cert.SumSmallReferenceIdeal.τ).loc Cert.SumSmallReferenceIdeal.main_arg6) = m ((c.tc : Thread Cert.SumSmallKernelIdeal.nD Cert.SumSmallKernelIdeal.τ).loc Cert.SumSmallKernelIdeal.main_arg6)
      ∧ m' ((c.tc : Thread Cert.SumSmallReferenceIdeal.nD Cert.SumSmallReferenceIdeal.τ).loc Cert.SumSmallReferenceIdeal.main_arg7) = m ((c.tc : Thread Cert.SumSmallKernelIdeal.nD Cert.SumSmallKernelIdeal.τ).loc Cert.SumSmallKernelIdeal.main_arg7)
      ∧ m' ((c.tc : Thread Cert.SumSmallReferenceIdeal.nD Cert.SumSmallReferenceIdeal.τ).loc Cert.SumSmallReferenceIdeal.main_arg8) = m ((c.tc : Thread Cert.SumSmallKernelIdeal.nD Cert.SumSmallKernelIdeal.τ).loc Cert.SumSmallKernelIdeal.main_arg8)
      ∧ m' ((c.tc : Thread Cert.SumSmallReferenceIdeal.nD Cert.SumSmallReferenceIdeal.τ).loc Cert.SumSmallReferenceIdeal.main_arg9) = m ((c.tc : Thread Cert.SumSmallKernelIdeal.nD Cert.SumSmallKernelIdeal.τ).loc Cert.SumSmallKernelIdeal.main_arg9)
      ∧ m' ((c.tc : Thread Cert.SumSmallReferenceIdeal.nD Cert.SumSmallReferenceIdeal.τ).loc Cert.SumSmallReferenceIdeal.main_arg10) = m ((c.tc : Thread Cert.SumSmallKernelIdeal.nD Cert.SumSmallKernelIdeal.τ).loc Cert.SumSmallKernelIdeal.main_arg10)
      ∧ m' ((c.tc : Thread Cert.SumSmallReferenceIdeal.nD Cert.SumSmallReferenceIdeal.τ).loc Cert.SumSmallReferenceIdeal.main_arg11) = m ((c.tc : Thread Cert.SumSmallKernelIdeal.nD Cert.SumSmallKernelIdeal.τ).loc Cert.SumSmallKernelIdeal.main_arg11)
      ∧ m' ((c.tc : Thread Cert.SumSmallReferenceIdeal.nD Cert.SumSmallReferenceIdeal.τ).loc Cert.SumSmallReferenceIdeal.main_arg12) = m ((c.tc : Thread Cert.SumSmallKernelIdeal.nD Cert.SumSmallKernelIdeal.τ).loc Cert.SumSmallKernelIdeal.main_arg12)) →
    ∃ (v0 : (c : Dev Cert.SumSmallKernelIdeal.nD) → Buf (Elt Ideal) ((c.tc : Thread Cert.SumSmallKernelIdeal.nD Cert.SumSmallKernelIdeal.τ).loc Cert.SumSmallKernelIdeal.main_v89)) (v1 : (c : Dev Cert.SumSmallKernelIdeal.nD) → Buf (Elt Ideal) ((c.tc : Thread Cert.SumSmallKernelIdeal.nD Cert.SumSmallKernelIdeal.τ).loc Cert.SumSmallKernelIdeal.main_v96)) (v2 : (c : Dev Cert.SumSmallKernelIdeal.nD) → Buf (Elt Ideal) ((c.tc : Thread Cert.SumSmallKernelIdeal.nD Cert.SumSmallKernelIdeal.τ).loc Cert.SumSmallKernelIdeal.main_v103)) (v3 : (c : Dev Cert.SumSmallKernelIdeal.nD) → Buf (Elt Ideal) ((c.tc : Thread Cert.SumSmallKernelIdeal.nD Cert.SumSmallKernelIdeal.τ).loc Cert.SumSmallKernelIdeal.main_v110)) (v4 : (c : Dev Cert.SumSmallKernelIdeal.nD) → Buf (Elt Ideal) ((c.tc : Thread Cert.SumSmallKernelIdeal.nD Cert.SumSmallKernelIdeal.τ).loc Cert.SumSmallKernelIdeal.main_v117)) (v5 : (c : Dev Cert.SumSmallKernelIdeal.nD) → Buf (Elt Ideal) ((c.tc : Thread Cert.SumSmallKernelIdeal.nD Cert.SumSmallKernelIdeal.τ).loc Cert.SumSmallKernelIdeal.main_v124)) (v6 : (c : Dev Cert.SumSmallKernelIdeal.nD) → Buf (Elt Ideal) ((c.tc : Thread Cert.SumSmallKernelIdeal.nD Cert.SumSmallKernelIdeal.τ).loc Cert.SumSmallKernelIdeal.main_v131)) (v7 : (c : Dev Cert.SumSmallKernelIdeal.nD) → Buf (Elt Ideal) ((c.tc : Thread Cert.SumSmallKernelIdeal.nD Cert.SumSmallKernelIdeal.τ).loc Cert.SumSmallKernelIdeal.main_v138)) (v8 : (c : Dev Cert.SumSmallKernelIdeal.nD) → Buf (Elt Ideal) ((c.tc : Thread Cert.SumSmallKernelIdeal.nD Cert.SumSmallKernelIdeal.τ).loc Cert.SumSmallKernelIdeal.main_v145)) (v9 : (c : Dev Cert.SumSmallKernelIdeal.nD) → Buf (Elt Ideal) ((c.tc : Thread Cert.SumSmallKernelIdeal.nD Cert.SumSmallKernelIdeal.τ).loc Cert.SumSmallKernelIdeal.main_v152)) (v10 : (c : Dev Cert.SumSmallKernelIdeal.nD) → Buf (Elt Ideal) ((c.tc : Thread Cert.SumSmallKernelIdeal.nD Cert.SumSmallKernelIdeal.τ).loc Cert.SumSmallKernelIdeal.main_v159)) (v11 : (c : Dev Cert.SumSmallKernelIdeal.nD) → Buf (Elt Ideal) ((c.tc : Thread Cert.SumSmallKernelIdeal.nD Cert.SumSmallKernelIdeal.τ).loc Cert.SumSmallKernelIdeal.main_v168)) (v12 : (c : Dev Cert.SumSmallKernelIdeal.nD) → Buf (Elt Ideal) ((c.tc : Thread Cert.SumSmallKernelIdeal.nD Cert.SumSmallKernelIdeal.τ).loc Cert.SumSmallKernelIdeal.main_v177)),
      θ_run (Cert.SumSmallKernelIdeal.defs (F := Ideal)) (onTc (τ := Cert.SumSmallKernelIdeal.τ) (Cert.SumSmallKernelIdeal.main (F := Ideal))) ⟨m, fun _ => 0, g⟩ (fun r => ∀ c : Dev Cert.SumSmallKernelIdeal.nD,
          r.2.mem ((c.tc : Thread Cert.SumSmallKernelIdeal.nD Cert.SumSmallKernelIdeal.τ).loc Cert.SumSmallKernelIdeal.main_v89) = v0 c
          ∧ r.2.mem ((c.tc : Thread Cert.SumSmallKernelIdeal.nD Cert.SumSmallKernelIdeal.τ).loc Cert.SumSmallKernelIdeal.main_v96) = v1 c
          ∧ r.2.mem ((c.tc : Thread Cert.SumSmallKernelIdeal.nD Cert.SumSmallKernelIdeal.τ).loc Cert.SumSmallKernelIdeal.main_v103) = v2 c
          ∧ r.2.mem ((c.tc : Thread Cert.SumSmallKernelIdeal.nD Cert.SumSmallKernelIdeal.τ).loc Cert.SumSmallKernelIdeal.main_v110) = v3 c
          ∧ r.2.mem ((c.tc : Thread Cert.SumSmallKernelIdeal.nD Cert.SumSmallKernelIdeal.τ).loc Cert.SumSmallKernelIdeal.main_v117) = v4 c
          ∧ r.2.mem ((c.tc : Thread Cert.SumSmallKernelIdeal.nD Cert.SumSmallKernelIdeal.τ).loc Cert.SumSmallKernelIdeal.main_v124) = v5 c
          ∧ r.2.mem ((c.tc : Thread Cert.SumSmallKernelIdeal.nD Cert.SumSmallKernelIdeal.τ).loc Cert.SumSmallKernelIdeal.main_v131) = v6 c
          ∧ r.2.mem ((c.tc : Thread Cert.SumSmallKernelIdeal.nD Cert.SumSmallKernelIdeal.τ).loc Cert.SumSmallKernelIdeal.main_v138) = v7 c
          ∧ r.2.mem ((c.tc : Thread Cert.SumSmallKernelIdeal.nD Cert.SumSmallKernelIdeal.τ).loc Cert.SumSmallKernelIdeal.main_v145) = v8 c
          ∧ r.2.mem ((c.tc : Thread Cert.SumSmallKernelIdeal.nD Cert.SumSmallKernelIdeal.τ).loc Cert.SumSmallKernelIdeal.main_v152) = v9 c
          ∧ r.2.mem ((c.tc : Thread Cert.SumSmallKernelIdeal.nD Cert.SumSmallKernelIdeal.τ).loc Cert.SumSmallKernelIdeal.main_v159) = v10 c
          ∧ r.2.mem ((c.tc : Thread Cert.SumSmallKernelIdeal.nD Cert.SumSmallKernelIdeal.τ).loc Cert.SumSmallKernelIdeal.main_v168) = v11 c
          ∧ r.2.mem ((c.tc : Thread Cert.SumSmallKernelIdeal.nD Cert.SumSmallKernelIdeal.τ).loc Cert.SumSmallKernelIdeal.main_v177) = v12 c
          ∧ r.2.mem ((c.tc : Thread Cert.SumSmallKernelIdeal.nD Cert.SumSmallKernelIdeal.τ).loc Cert.SumSmallKernelIdeal.main_arg0) = m ((c.tc : Thread Cert.SumSmallKernelIdeal.nD Cert.SumSmallKernelIdeal.τ).loc Cert.SumSmallKernelIdeal.main_arg0)
          ∧ r.2.mem ((c.tc : Thread Cert.SumSmallKernelIdeal.nD Cert.SumSmallKernelIdeal.τ).loc Cert.SumSmallKernelIdeal.main_arg1) = m ((c.tc : Thread Cert.SumSmallKernelIdeal.nD Cert.SumSmallKernelIdeal.τ).loc Cert.SumSmallKernelIdeal.main_arg1)
          ∧ r.2.mem ((c.tc : Thread Cert.SumSmallKernelIdeal.nD Cert.SumSmallKernelIdeal.τ).loc Cert.SumSmallKernelIdeal.main_arg2) = m ((c.tc : Thread Cert.SumSmallKernelIdeal.nD Cert.SumSmallKernelIdeal.τ).loc Cert.SumSmallKernelIdeal.main_arg2)
          ∧ r.2.mem ((c.tc : Thread Cert.SumSmallKernelIdeal.nD Cert.SumSmallKernelIdeal.τ).loc Cert.SumSmallKernelIdeal.main_arg3) = m ((c.tc : Thread Cert.SumSmallKernelIdeal.nD Cert.SumSmallKernelIdeal.τ).loc Cert.SumSmallKernelIdeal.main_arg3)
          ∧ r.2.mem ((c.tc : Thread Cert.SumSmallKernelIdeal.nD Cert.SumSmallKernelIdeal.τ).loc Cert.SumSmallKernelIdeal.main_arg4) = m ((c.tc : Thread Cert.SumSmallKernelIdeal.nD Cert.SumSmallKernelIdeal.τ).loc Cert.SumSmallKernelIdeal.main_arg4)
          ∧ r.2.mem ((c.tc : Thread Cert.SumSmallKernelIdeal.nD Cert.SumSmallKernelIdeal.τ).loc Cert.SumSmallKernelIdeal.main_arg5) = m ((c.tc : Thread Cert.SumSmallKernelIdeal.nD Cert.SumSmallKernelIdeal.τ).loc Cert.SumSmallKernelIdeal.main_arg5)
          ∧ r.2.mem ((c.tc : Thread Cert.SumSmallKernelIdeal.nD Cert.SumSmallKernelIdeal.τ).loc Cert.SumSmallKernelIdeal.main_arg6) = m ((c.tc : Thread Cert.SumSmallKernelIdeal.nD Cert.SumSmallKernelIdeal.τ).loc Cert.SumSmallKernelIdeal.main_arg6)
          ∧ r.2.mem ((c.tc : Thread Cert.SumSmallKernelIdeal.nD Cert.SumSmallKernelIdeal.τ).loc Cert.SumSmallKernelIdeal.main_arg7) = m ((c.tc : Thread Cert.SumSmallKernelIdeal.nD Cert.SumSmallKernelIdeal.τ).loc Cert.SumSmallKernelIdeal.main_arg7)
          ∧ r.2.mem ((c.tc : Thread Cert.SumSmallKernelIdeal.nD Cert.SumSmallKernelIdeal.τ).loc Cert.SumSmallKernelIdeal.main_arg8) = m ((c.tc : Thread Cert.SumSmallKernelIdeal.nD Cert.SumSmallKernelIdeal.τ).loc Cert.SumSmallKernelIdeal.main_arg8)
          ∧ r.2.mem ((c.tc : Thread Cert.SumSmallKernelIdeal.nD Cert.SumSmallKernelIdeal.τ).loc Cert.SumSmallKernelIdeal.main_arg9) = m ((c.tc : Thread Cert.SumSmallKernelIdeal.nD Cert.SumSmallKernelIdeal.τ).loc Cert.SumSmallKernelIdeal.main_arg9)
          ∧ r.2.mem ((c.tc : Thread Cert.SumSmallKernelIdeal.nD Cert.SumSmallKernelIdeal.τ).loc Cert.SumSmallKernelIdeal.main_arg10) = m ((c.tc : Thread Cert.SumSmallKernelIdeal.nD Cert.SumSmallKernelIdeal.τ).loc Cert.SumSmallKernelIdeal.main_arg10)
          ∧ r.2.mem ((c.tc : Thread Cert.SumSmallKernelIdeal.nD Cert.SumSmallKernelIdeal.τ).loc Cert.SumSmallKernelIdeal.main_arg11) = m ((c.tc : Thread Cert.SumSmallKernelIdeal.nD Cert.SumSmallKernelIdeal.τ).loc Cert.SumSmallKernelIdeal.main_arg11)
          ∧ r.2.mem ((c.tc : Thread Cert.SumSmallKernelIdeal.nD Cert.SumSmallKernelIdeal.τ).loc Cert.SumSmallKernelIdeal.main_arg12) = m ((c.tc : Thread Cert.SumSmallKernelIdeal.nD Cert.SumSmallKernelIdeal.τ).loc Cert.SumSmallKernelIdeal.main_arg12))
      ∧ θ_run (Cert.SumSmallReferenceIdeal.defs (F := Ideal)) (onTc (τ := Cert.SumSmallReferenceIdeal.τ) (Cert.SumSmallReferenceIdeal.main (F := Ideal))) ⟨m', fun _ => 0, g'⟩ (fun r => ∀ c : Dev Cert.SumSmallReferenceIdeal.nD,
          r.2.mem ((c.tc : Thread Cert.SumSmallReferenceIdeal.nD Cert.SumSmallReferenceIdeal.τ).loc Cert.SumSmallReferenceIdeal.main_v2) = v0 c
          ∧ r.2.mem ((c.tc : Thread Cert.SumSmallReferenceIdeal.nD Cert.SumSmallReferenceIdeal.τ).loc Cert.SumSmallReferenceIdeal.main_v3) = v1 c
          ∧ r.2.mem ((c.tc : Thread Cert.SumSmallReferenceIdeal.nD Cert.SumSmallReferenceIdeal.τ).loc Cert.SumSmallReferenceIdeal.main_v4) = v2 c
          ∧ r.2.mem ((c.tc : Thread Cert.SumSmallReferenceIdeal.nD Cert.SumSmallReferenceIdeal.τ).loc Cert.SumSmallReferenceIdeal.main_v5) = v3 c
          ∧ r.2.mem ((c.tc : Thread Cert.SumSmallReferenceIdeal.nD Cert.SumSmallReferenceIdeal.τ).loc Cert.SumSmallReferenceIdeal.main_v6) = v4 c
          ∧ r.2.mem ((c.tc : Thread Cert.SumSmallReferenceIdeal.nD Cert.SumSmallReferenceIdeal.τ).loc Cert.SumSmallReferenceIdeal.main_v7) = v5 c
          ∧ r.2.mem ((c.tc : Thread Cert.SumSmallReferenceIdeal.nD Cert.SumSmallReferenceIdeal.τ).loc Cert.SumSmallReferenceIdeal.main_v8) = v6 c
          ∧ r.2.mem ((c.tc : Thread Cert.SumSmallReferenceIdeal.nD Cert.SumSmallReferenceIdeal.τ).loc Cert.SumSmallReferenceIdeal.main_v9) = v7 c
          ∧ r.2.mem ((c.tc : Thread Cert.SumSmallReferenceIdeal.nD Cert.SumSmallReferenceIdeal.τ).loc Cert.SumSmallReferenceIdeal.main_v10) = v8 c
          ∧ r.2.mem ((c.tc : Thread Cert.SumSmallReferenceIdeal.nD Cert.SumSmallReferenceIdeal.τ).loc Cert.SumSmallReferenceIdeal.main_v11) = v9 c
          ∧ r.2.mem ((c.tc : Thread Cert.SumSmallReferenceIdeal.nD Cert.SumSmallReferenceIdeal.τ).loc Cert.SumSmallReferenceIdeal.main_v12) = v10 c
          ∧ r.2.mem ((c.tc : Thread Cert.SumSmallReferenceIdeal.nD Cert.SumSmallReferenceIdeal.τ).loc Cert.SumSmallReferenceIdeal.main_v13) = v11 c
          ∧ r.2.mem ((c.tc : Thread Cert.SumSmallReferenceIdeal.nD Cert.SumSmallReferenceIdeal.τ).loc Cert.SumSmallReferenceIdeal.main_v14) = v12 c
          ∧ r.2.mem ((c.tc : Thread Cert.SumSmallReferenceIdeal.nD Cert.SumSmallReferenceIdeal.τ).loc Cert.SumSmallReferenceIdeal.main_arg0) = m' ((c.tc : Thread Cert.SumSmallReferenceIdeal.nD Cert.SumSmallReferenceIdeal.τ).loc Cert.SumSmallReferenceIdeal.main_arg0)
          ∧ r.2.mem ((c.tc : Thread Cert.SumSmallReferenceIdeal.nD Cert.SumSmallReferenceIdeal.τ).loc Cert.SumSmallReferenceIdeal.main_arg1) = m' ((c.tc : Thread Cert.SumSmallReferenceIdeal.nD Cert.SumSmallReferenceIdeal.τ).loc Cert.SumSmallReferenceIdeal.main_arg1)
          ∧ r.2.mem ((c.tc : Thread Cert.SumSmallReferenceIdeal.nD Cert.SumSmallReferenceIdeal.τ).loc Cert.SumSmallReferenceIdeal.main_arg2) = m' ((c.tc : Thread Cert.SumSmallReferenceIdeal.nD Cert.SumSmallReferenceIdeal.τ).loc Cert.SumSmallReferenceIdeal.main_arg2)
          ∧ r.2.mem ((c.tc : Thread Cert.SumSmallReferenceIdeal.nD Cert.SumSmallReferenceIdeal.τ).loc Cert.SumSmallReferenceIdeal.main_arg3) = m' ((c.tc : Thread Cert.SumSmallReferenceIdeal.nD Cert.SumSmallReferenceIdeal.τ).loc Cert.SumSmallReferenceIdeal.main_arg3)
          ∧ r.2.mem ((c.tc : Thread Cert.SumSmallReferenceIdeal.nD Cert.SumSmallReferenceIdeal.τ).loc Cert.SumSmallReferenceIdeal.main_arg4) = m' ((c.tc : Thread Cert.SumSmallReferenceIdeal.nD Cert.SumSmallReferenceIdeal.τ).loc Cert.SumSmallReferenceIdeal.main_arg4)
          ∧ r.2.mem ((c.tc : Thread Cert.SumSmallReferenceIdeal.nD Cert.SumSmallReferenceIdeal.τ).loc Cert.SumSmallReferenceIdeal.main_arg5) = m' ((c.tc : Thread Cert.SumSmallReferenceIdeal.nD Cert.SumSmallReferenceIdeal.τ).loc Cert.SumSmallReferenceIdeal.main_arg5)
          ∧ r.2.mem ((c.tc : Thread Cert.SumSmallReferenceIdeal.nD Cert.SumSmallReferenceIdeal.τ).loc Cert.SumSmallReferenceIdeal.main_arg6) = m' ((c.tc : Thread Cert.SumSmallReferenceIdeal.nD Cert.SumSmallReferenceIdeal.τ).loc Cert.SumSmallReferenceIdeal.main_arg6)
          ∧ r.2.mem ((c.tc : Thread Cert.SumSmallReferenceIdeal.nD Cert.SumSmallReferenceIdeal.τ).loc Cert.SumSmallReferenceIdeal.main_arg7) = m' ((c.tc : Thread Cert.SumSmallReferenceIdeal.nD Cert.SumSmallReferenceIdeal.τ).loc Cert.SumSmallReferenceIdeal.main_arg7)
          ∧ r.2.mem ((c.tc : Thread Cert.SumSmallReferenceIdeal.nD Cert.SumSmallReferenceIdeal.τ).loc Cert.SumSmallReferenceIdeal.main_arg8) = m' ((c.tc : Thread Cert.SumSmallReferenceIdeal.nD Cert.SumSmallReferenceIdeal.τ).loc Cert.SumSmallReferenceIdeal.main_arg8)
          ∧ r.2.mem ((c.tc : Thread Cert.SumSmallReferenceIdeal.nD Cert.SumSmallReferenceIdeal.τ).loc Cert.SumSmallReferenceIdeal.main_arg9) = m' ((c.tc : Thread Cert.SumSmallReferenceIdeal.nD Cert.SumSmallReferenceIdeal.τ).loc Cert.SumSmallReferenceIdeal.main_arg9)
          ∧ r.2.mem ((c.tc : Thread Cert.SumSmallReferenceIdeal.nD Cert.SumSmallReferenceIdeal.τ).loc Cert.SumSmallReferenceIdeal.main_arg10) = m' ((c.tc : Thread Cert.SumSmallReferenceIdeal.nD Cert.SumSmallReferenceIdeal.τ).loc Cert.SumSmallReferenceIdeal.main_arg10)
          ∧ r.2.mem ((c.tc : Thread Cert.SumSmallReferenceIdeal.nD Cert.SumSmallReferenceIdeal.τ).loc Cert.SumSmallReferenceIdeal.main_arg11) = m' ((c.tc : Thread Cert.SumSmallReferenceIdeal.nD Cert.SumSmallReferenceIdeal.τ).loc Cert.SumSmallReferenceIdeal.main_arg11)
          ∧ r.2.mem ((c.tc : Thread Cert.SumSmallReferenceIdeal.nD Cert.SumSmallReferenceIdeal.τ).loc Cert.SumSmallReferenceIdeal.main_arg12) = m' ((c.tc : Thread Cert.SumSmallReferenceIdeal.nD Cert.SumSmallReferenceIdeal.τ).loc Cert.SumSmallReferenceIdeal.main_arg12))

def preserves_LossGradKernel_LossGradKernelIdeal : Prop :=
  True

def algebraic_LossGradKernelIdeal_LossGradReferenceIdeal [hLossGradKernelIdeal : Cert.LossGradKernelIdeal.Facts] [hLossGradReferenceIdeal : Cert.LossGradReferenceIdeal.Facts] : Prop :=
  ∀ (m : (ℓ : Loc Cert.LossGradKernelIdeal.nD Cert.LossGradKernelIdeal.τ Cert.LossGradKernelIdeal.sig) → Buf (Elt Ideal) ℓ) (g : Dev Cert.LossGradKernelIdeal.nD → PrngReg)
    (m' : (ℓ : Loc Cert.LossGradReferenceIdeal.nD Cert.LossGradReferenceIdeal.τ Cert.LossGradReferenceIdeal.sig) → Buf (Elt Ideal) ℓ) (g' : Dev Cert.LossGradReferenceIdeal.nD → PrngReg), Pre_LossGradKernelIdeal m →
    (∀ c : Dev Cert.LossGradKernelIdeal.nD,
      m' ((c.tc : Thread Cert.LossGradReferenceIdeal.nD Cert.LossGradReferenceIdeal.τ).loc Cert.LossGradReferenceIdeal.main_arg0) = m ((c.tc : Thread Cert.LossGradKernelIdeal.nD Cert.LossGradKernelIdeal.τ).loc Cert.LossGradKernelIdeal.main_arg0)
      ∧ m' ((c.tc : Thread Cert.LossGradReferenceIdeal.nD Cert.LossGradReferenceIdeal.τ).loc Cert.LossGradReferenceIdeal.main_arg1) = m ((c.tc : Thread Cert.LossGradKernelIdeal.nD Cert.LossGradKernelIdeal.τ).loc Cert.LossGradKernelIdeal.main_arg1)) →
    ∃ (v0 : (c : Dev Cert.LossGradKernelIdeal.nD) → Buf (Elt Ideal) ((c.tc : Thread Cert.LossGradKernelIdeal.nD Cert.LossGradKernelIdeal.τ).loc Cert.LossGradKernelIdeal.main_v0_0)) (v1 : (c : Dev Cert.LossGradKernelIdeal.nD) → Buf (Elt Ideal) ((c.tc : Thread Cert.LossGradKernelIdeal.nD Cert.LossGradKernelIdeal.τ).loc Cert.LossGradKernelIdeal.main_v0_1)),
      θ_run (Cert.LossGradKernelIdeal.defs (F := Ideal)) (onTc (τ := Cert.LossGradKernelIdeal.τ) (Cert.LossGradKernelIdeal.main (F := Ideal))) ⟨m, fun _ => 0, g⟩ (fun r => ∀ c : Dev Cert.LossGradKernelIdeal.nD,
          r.2.mem ((c.tc : Thread Cert.LossGradKernelIdeal.nD Cert.LossGradKernelIdeal.τ).loc Cert.LossGradKernelIdeal.main_v0_0) = v0 c
          ∧ r.2.mem ((c.tc : Thread Cert.LossGradKernelIdeal.nD Cert.LossGradKernelIdeal.τ).loc Cert.LossGradKernelIdeal.main_v0_1) = v1 c
          ∧ r.2.mem ((c.tc : Thread Cert.LossGradKernelIdeal.nD Cert.LossGradKernelIdeal.τ).loc Cert.LossGradKernelIdeal.main_arg0) = m ((c.tc : Thread Cert.LossGradKernelIdeal.nD Cert.LossGradKernelIdeal.τ).loc Cert.LossGradKernelIdeal.main_arg0)
          ∧ r.2.mem ((c.tc : Thread Cert.LossGradKernelIdeal.nD Cert.LossGradKernelIdeal.τ).loc Cert.LossGradKernelIdeal.main_arg1) = m ((c.tc : Thread Cert.LossGradKernelIdeal.nD Cert.LossGradKernelIdeal.τ).loc Cert.LossGradKernelIdeal.main_arg1))
      ∧ θ_run (Cert.LossGradReferenceIdeal.defs (F := Ideal)) (onTc (τ := Cert.LossGradReferenceIdeal.τ) (Cert.LossGradReferenceIdeal.main (F := Ideal))) ⟨m', fun _ => 0, g'⟩ (fun r => ∀ c : Dev Cert.LossGradReferenceIdeal.nD,
          r.2.mem ((c.tc : Thread Cert.LossGradReferenceIdeal.nD Cert.LossGradReferenceIdeal.τ).loc Cert.LossGradReferenceIdeal.main_v14) = v0 c
          ∧ r.2.mem ((c.tc : Thread Cert.LossGradReferenceIdeal.nD Cert.LossGradReferenceIdeal.τ).loc Cert.LossGradReferenceIdeal.main_v15) = v1 c
          ∧ r.2.mem ((c.tc : Thread Cert.LossGradReferenceIdeal.nD Cert.LossGradReferenceIdeal.τ).loc Cert.LossGradReferenceIdeal.main_arg0) = m' ((c.tc : Thread Cert.LossGradReferenceIdeal.nD Cert.LossGradReferenceIdeal.τ).loc Cert.LossGradReferenceIdeal.main_arg0)
          ∧ r.2.mem ((c.tc : Thread Cert.LossGradReferenceIdeal.nD Cert.LossGradReferenceIdeal.τ).loc Cert.LossGradReferenceIdeal.main_arg1) = m' ((c.tc : Thread Cert.LossGradReferenceIdeal.nD Cert.LossGradReferenceIdeal.τ).loc Cert.LossGradReferenceIdeal.main_arg1))

def preserves_ConvOutKernel_ConvOutKernelIdeal : Prop :=
  True

def algebraic_ConvOutKernelIdeal_ConvOutReferenceIdeal [hConvOutKernelIdeal : Cert.ConvOutKernelIdeal.Facts] [hConvOutReferenceIdeal : Cert.ConvOutReferenceIdeal.Facts] : Prop :=
  ∀ (m : (ℓ : Loc Cert.ConvOutKernelIdeal.nD Cert.ConvOutKernelIdeal.τ Cert.ConvOutKernelIdeal.sig) → Buf (Elt Ideal) ℓ) (g : Dev Cert.ConvOutKernelIdeal.nD → PrngReg)
    (m' : (ℓ : Loc Cert.ConvOutReferenceIdeal.nD Cert.ConvOutReferenceIdeal.τ Cert.ConvOutReferenceIdeal.sig) → Buf (Elt Ideal) ℓ) (g' : Dev Cert.ConvOutReferenceIdeal.nD → PrngReg), Pre_ConvOutKernelIdeal m →
    (∀ c : Dev Cert.ConvOutKernelIdeal.nD,
      m' ((c.tc : Thread Cert.ConvOutReferenceIdeal.nD Cert.ConvOutReferenceIdeal.τ).loc Cert.ConvOutReferenceIdeal.main_arg0) = m ((c.tc : Thread Cert.ConvOutKernelIdeal.nD Cert.ConvOutKernelIdeal.τ).loc Cert.ConvOutKernelIdeal.main_arg0)
      ∧ m' ((c.tc : Thread Cert.ConvOutReferenceIdeal.nD Cert.ConvOutReferenceIdeal.τ).loc Cert.ConvOutReferenceIdeal.main_arg1) = m ((c.tc : Thread Cert.ConvOutKernelIdeal.nD Cert.ConvOutKernelIdeal.τ).loc Cert.ConvOutKernelIdeal.main_arg1)) →
    ∃ (v0 : (c : Dev Cert.ConvOutKernelIdeal.nD) → Buf (Elt Ideal) ((c.tc : Thread Cert.ConvOutKernelIdeal.nD Cert.ConvOutKernelIdeal.τ).loc Cert.ConvOutKernelIdeal.main_v2)),
      θ_run (Cert.ConvOutKernelIdeal.defs (F := Ideal)) (onTc (τ := Cert.ConvOutKernelIdeal.τ) (Cert.ConvOutKernelIdeal.main (F := Ideal))) ⟨m, fun _ => 0, g⟩ (fun r => ∀ c : Dev Cert.ConvOutKernelIdeal.nD,
          r.2.mem ((c.tc : Thread Cert.ConvOutKernelIdeal.nD Cert.ConvOutKernelIdeal.τ).loc Cert.ConvOutKernelIdeal.main_v2) = v0 c
          ∧ r.2.mem ((c.tc : Thread Cert.ConvOutKernelIdeal.nD Cert.ConvOutKernelIdeal.τ).loc Cert.ConvOutKernelIdeal.main_arg0) = m ((c.tc : Thread Cert.ConvOutKernelIdeal.nD Cert.ConvOutKernelIdeal.τ).loc Cert.ConvOutKernelIdeal.main_arg0)
          ∧ r.2.mem ((c.tc : Thread Cert.ConvOutKernelIdeal.nD Cert.ConvOutKernelIdeal.τ).loc Cert.ConvOutKernelIdeal.main_arg1) = m ((c.tc : Thread Cert.ConvOutKernelIdeal.nD Cert.ConvOutKernelIdeal.τ).loc Cert.ConvOutKernelIdeal.main_arg1))
      ∧ θ_run (Cert.ConvOutReferenceIdeal.defs (F := Ideal)) (onTc (τ := Cert.ConvOutReferenceIdeal.τ) (Cert.ConvOutReferenceIdeal.main (F := Ideal))) ⟨m', fun _ => 0, g'⟩ (fun r => ∀ c : Dev Cert.ConvOutReferenceIdeal.nD,
          r.2.mem ((c.tc : Thread Cert.ConvOutReferenceIdeal.nD Cert.ConvOutReferenceIdeal.τ).loc Cert.ConvOutReferenceIdeal.main_v1) = v0 c
          ∧ r.2.mem ((c.tc : Thread Cert.ConvOutReferenceIdeal.nD Cert.ConvOutReferenceIdeal.τ).loc Cert.ConvOutReferenceIdeal.main_arg0) = m' ((c.tc : Thread Cert.ConvOutReferenceIdeal.nD Cert.ConvOutReferenceIdeal.τ).loc Cert.ConvOutReferenceIdeal.main_arg0)
          ∧ r.2.mem ((c.tc : Thread Cert.ConvOutReferenceIdeal.nD Cert.ConvOutReferenceIdeal.τ).loc Cert.ConvOutReferenceIdeal.main_arg1) = m' ((c.tc : Thread Cert.ConvOutReferenceIdeal.nD Cert.ConvOutReferenceIdeal.τ).loc Cert.ConvOutReferenceIdeal.main_arg1))

def preserves_ConvDcKernel_ConvDcKernelIdeal : Prop :=
  True

def algebraic_ConvDcKernelIdeal_ConvDcReferenceIdeal [hConvDcKernelIdeal : Cert.ConvDcKernelIdeal.Facts] [hConvDcReferenceIdeal : Cert.ConvDcReferenceIdeal.Facts] : Prop :=
  ∀ (m : (ℓ : Loc Cert.ConvDcKernelIdeal.nD Cert.ConvDcKernelIdeal.τ Cert.ConvDcKernelIdeal.sig) → Buf (Elt Ideal) ℓ) (g : Dev Cert.ConvDcKernelIdeal.nD → PrngReg)
    (m' : (ℓ : Loc Cert.ConvDcReferenceIdeal.nD Cert.ConvDcReferenceIdeal.τ Cert.ConvDcReferenceIdeal.sig) → Buf (Elt Ideal) ℓ) (g' : Dev Cert.ConvDcReferenceIdeal.nD → PrngReg), Pre_ConvDcKernelIdeal m →
    (∀ c : Dev Cert.ConvDcKernelIdeal.nD,
      m' ((c.tc : Thread Cert.ConvDcReferenceIdeal.nD Cert.ConvDcReferenceIdeal.τ).loc Cert.ConvDcReferenceIdeal.main_arg0) = m ((c.tc : Thread Cert.ConvDcKernelIdeal.nD Cert.ConvDcKernelIdeal.τ).loc Cert.ConvDcKernelIdeal.main_arg0)
      ∧ m' ((c.tc : Thread Cert.ConvDcReferenceIdeal.nD Cert.ConvDcReferenceIdeal.τ).loc Cert.ConvDcReferenceIdeal.main_arg1) = m ((c.tc : Thread Cert.ConvDcKernelIdeal.nD Cert.ConvDcKernelIdeal.τ).loc Cert.ConvDcKernelIdeal.main_arg1)) →
    ∃ (v0 : (c : Dev Cert.ConvDcKernelIdeal.nD) → Buf (Elt Ideal) ((c.tc : Thread Cert.ConvDcKernelIdeal.nD Cert.ConvDcKernelIdeal.τ).loc Cert.ConvDcKernelIdeal.main_v2)),
      θ_run (Cert.ConvDcKernelIdeal.defs (F := Ideal)) (onTc (τ := Cert.ConvDcKernelIdeal.τ) (Cert.ConvDcKernelIdeal.main (F := Ideal))) ⟨m, fun _ => 0, g⟩ (fun r => ∀ c : Dev Cert.ConvDcKernelIdeal.nD,
          r.2.mem ((c.tc : Thread Cert.ConvDcKernelIdeal.nD Cert.ConvDcKernelIdeal.τ).loc Cert.ConvDcKernelIdeal.main_v2) = v0 c
          ∧ r.2.mem ((c.tc : Thread Cert.ConvDcKernelIdeal.nD Cert.ConvDcKernelIdeal.τ).loc Cert.ConvDcKernelIdeal.main_arg0) = m ((c.tc : Thread Cert.ConvDcKernelIdeal.nD Cert.ConvDcKernelIdeal.τ).loc Cert.ConvDcKernelIdeal.main_arg0)
          ∧ r.2.mem ((c.tc : Thread Cert.ConvDcKernelIdeal.nD Cert.ConvDcKernelIdeal.τ).loc Cert.ConvDcKernelIdeal.main_arg1) = m ((c.tc : Thread Cert.ConvDcKernelIdeal.nD Cert.ConvDcKernelIdeal.τ).loc Cert.ConvDcKernelIdeal.main_arg1))
      ∧ θ_run (Cert.ConvDcReferenceIdeal.defs (F := Ideal)) (onTc (τ := Cert.ConvDcReferenceIdeal.τ) (Cert.ConvDcReferenceIdeal.main (F := Ideal))) ⟨m', fun _ => 0, g'⟩ (fun r => ∀ c : Dev Cert.ConvDcReferenceIdeal.nD,
          r.2.mem ((c.tc : Thread Cert.ConvDcReferenceIdeal.nD Cert.ConvDcReferenceIdeal.τ).loc Cert.ConvDcReferenceIdeal.main_v3) = v0 c
          ∧ r.2.mem ((c.tc : Thread Cert.ConvDcReferenceIdeal.nD Cert.ConvDcReferenceIdeal.τ).loc Cert.ConvDcReferenceIdeal.main_arg0) = m' ((c.tc : Thread Cert.ConvDcReferenceIdeal.nD Cert.ConvDcReferenceIdeal.τ).loc Cert.ConvDcReferenceIdeal.main_arg0)
          ∧ r.2.mem ((c.tc : Thread Cert.ConvDcReferenceIdeal.nD Cert.ConvDcReferenceIdeal.τ).loc Cert.ConvDcReferenceIdeal.main_arg1) = m' ((c.tc : Thread Cert.ConvDcReferenceIdeal.nD Cert.ConvDcReferenceIdeal.τ).loc Cert.ConvDcReferenceIdeal.main_arg1))

def preserves_ConvDwoutKernel_ConvDwoutKernelIdeal : Prop :=
  True

def algebraic_ConvDwoutKernelIdeal_ConvDwoutReferenceIdeal [hConvDwoutKernelIdeal : Cert.ConvDwoutKernelIdeal.Facts] [hConvDwoutReferenceIdeal : Cert.ConvDwoutReferenceIdeal.Facts] : Prop :=
  ∀ (m : (ℓ : Loc Cert.ConvDwoutKernelIdeal.nD Cert.ConvDwoutKernelIdeal.τ Cert.ConvDwoutKernelIdeal.sig) → Buf (Elt Ideal) ℓ) (g : Dev Cert.ConvDwoutKernelIdeal.nD → PrngReg)
    (m' : (ℓ : Loc Cert.ConvDwoutReferenceIdeal.nD Cert.ConvDwoutReferenceIdeal.τ Cert.ConvDwoutReferenceIdeal.sig) → Buf (Elt Ideal) ℓ) (g' : Dev Cert.ConvDwoutReferenceIdeal.nD → PrngReg), Pre_ConvDwoutKernelIdeal m →
    (∀ c : Dev Cert.ConvDwoutKernelIdeal.nD,
      m' ((c.tc : Thread Cert.ConvDwoutReferenceIdeal.nD Cert.ConvDwoutReferenceIdeal.τ).loc Cert.ConvDwoutReferenceIdeal.main_arg0) = m ((c.tc : Thread Cert.ConvDwoutKernelIdeal.nD Cert.ConvDwoutKernelIdeal.τ).loc Cert.ConvDwoutKernelIdeal.main_arg0)
      ∧ m' ((c.tc : Thread Cert.ConvDwoutReferenceIdeal.nD Cert.ConvDwoutReferenceIdeal.τ).loc Cert.ConvDwoutReferenceIdeal.main_arg1) = m ((c.tc : Thread Cert.ConvDwoutKernelIdeal.nD Cert.ConvDwoutKernelIdeal.τ).loc Cert.ConvDwoutKernelIdeal.main_arg1)) →
    ∃ (v0 : (c : Dev Cert.ConvDwoutKernelIdeal.nD) → Buf (Elt Ideal) ((c.tc : Thread Cert.ConvDwoutKernelIdeal.nD Cert.ConvDwoutKernelIdeal.τ).loc Cert.ConvDwoutKernelIdeal.main_v0)),
      θ_run (Cert.ConvDwoutKernelIdeal.defs (F := Ideal)) (onTc (τ := Cert.ConvDwoutKernelIdeal.τ) (Cert.ConvDwoutKernelIdeal.main (F := Ideal))) ⟨m, fun _ => 0, g⟩ (fun r => ∀ c : Dev Cert.ConvDwoutKernelIdeal.nD,
          r.2.mem ((c.tc : Thread Cert.ConvDwoutKernelIdeal.nD Cert.ConvDwoutKernelIdeal.τ).loc Cert.ConvDwoutKernelIdeal.main_v0) = v0 c
          ∧ r.2.mem ((c.tc : Thread Cert.ConvDwoutKernelIdeal.nD Cert.ConvDwoutKernelIdeal.τ).loc Cert.ConvDwoutKernelIdeal.main_arg0) = m ((c.tc : Thread Cert.ConvDwoutKernelIdeal.nD Cert.ConvDwoutKernelIdeal.τ).loc Cert.ConvDwoutKernelIdeal.main_arg0)
          ∧ r.2.mem ((c.tc : Thread Cert.ConvDwoutKernelIdeal.nD Cert.ConvDwoutKernelIdeal.τ).loc Cert.ConvDwoutKernelIdeal.main_arg1) = m ((c.tc : Thread Cert.ConvDwoutKernelIdeal.nD Cert.ConvDwoutKernelIdeal.τ).loc Cert.ConvDwoutKernelIdeal.main_arg1))
      ∧ θ_run (Cert.ConvDwoutReferenceIdeal.defs (F := Ideal)) (onTc (τ := Cert.ConvDwoutReferenceIdeal.τ) (Cert.ConvDwoutReferenceIdeal.main (F := Ideal))) ⟨m', fun _ => 0, g'⟩ (fun r => ∀ c : Dev Cert.ConvDwoutReferenceIdeal.nD,
          r.2.mem ((c.tc : Thread Cert.ConvDwoutReferenceIdeal.nD Cert.ConvDwoutReferenceIdeal.τ).loc Cert.ConvDwoutReferenceIdeal.main_v7) = v0 c
          ∧ r.2.mem ((c.tc : Thread Cert.ConvDwoutReferenceIdeal.nD Cert.ConvDwoutReferenceIdeal.τ).loc Cert.ConvDwoutReferenceIdeal.main_arg0) = m' ((c.tc : Thread Cert.ConvDwoutReferenceIdeal.nD Cert.ConvDwoutReferenceIdeal.τ).loc Cert.ConvDwoutReferenceIdeal.main_arg0)
          ∧ r.2.mem ((c.tc : Thread Cert.ConvDwoutReferenceIdeal.nD Cert.ConvDwoutReferenceIdeal.τ).loc Cert.ConvDwoutReferenceIdeal.main_arg1) = m' ((c.tc : Thread Cert.ConvDwoutReferenceIdeal.nD Cert.ConvDwoutReferenceIdeal.τ).loc Cert.ConvDwoutReferenceIdeal.main_arg1))

def preserves_MlaOutKernel_MlaOutKernelIdeal : Prop :=
  True

def algebraic_MlaOutKernelIdeal_MlaOutReferenceIdeal [hMlaOutKernelIdeal : Cert.MlaOutKernelIdeal.Facts] [hMlaOutReferenceIdeal : Cert.MlaOutReferenceIdeal.Facts] : Prop :=
  ∀ (m : (ℓ : Loc Cert.MlaOutKernelIdeal.nD Cert.MlaOutKernelIdeal.τ Cert.MlaOutKernelIdeal.sig) → Buf (Elt Ideal) ℓ) (g : Dev Cert.MlaOutKernelIdeal.nD → PrngReg)
    (m' : (ℓ : Loc Cert.MlaOutReferenceIdeal.nD Cert.MlaOutReferenceIdeal.τ Cert.MlaOutReferenceIdeal.sig) → Buf (Elt Ideal) ℓ) (g' : Dev Cert.MlaOutReferenceIdeal.nD → PrngReg), Pre_MlaOutKernelIdeal m →
    (∀ c : Dev Cert.MlaOutKernelIdeal.nD,
      m' ((c.tc : Thread Cert.MlaOutReferenceIdeal.nD Cert.MlaOutReferenceIdeal.τ).loc Cert.MlaOutReferenceIdeal.main_arg0) = m ((c.tc : Thread Cert.MlaOutKernelIdeal.nD Cert.MlaOutKernelIdeal.τ).loc Cert.MlaOutKernelIdeal.main_arg0)
      ∧ m' ((c.tc : Thread Cert.MlaOutReferenceIdeal.nD Cert.MlaOutReferenceIdeal.τ).loc Cert.MlaOutReferenceIdeal.main_arg1) = m ((c.tc : Thread Cert.MlaOutKernelIdeal.nD Cert.MlaOutKernelIdeal.τ).loc Cert.MlaOutKernelIdeal.main_arg1)) →
    ∃ (v0 : (c : Dev Cert.MlaOutKernelIdeal.nD) → Buf (Elt Ideal) ((c.tc : Thread Cert.MlaOutKernelIdeal.nD Cert.MlaOutKernelIdeal.τ).loc Cert.MlaOutKernelIdeal.main_v2)),
      θ_run (Cert.MlaOutKernelIdeal.defs (F := Ideal)) (onTc (τ := Cert.MlaOutKernelIdeal.τ) (Cert.MlaOutKernelIdeal.main (F := Ideal))) ⟨m, fun _ => 0, g⟩ (fun r => ∀ c : Dev Cert.MlaOutKernelIdeal.nD,
          r.2.mem ((c.tc : Thread Cert.MlaOutKernelIdeal.nD Cert.MlaOutKernelIdeal.τ).loc Cert.MlaOutKernelIdeal.main_v2) = v0 c
          ∧ r.2.mem ((c.tc : Thread Cert.MlaOutKernelIdeal.nD Cert.MlaOutKernelIdeal.τ).loc Cert.MlaOutKernelIdeal.main_arg0) = m ((c.tc : Thread Cert.MlaOutKernelIdeal.nD Cert.MlaOutKernelIdeal.τ).loc Cert.MlaOutKernelIdeal.main_arg0)
          ∧ r.2.mem ((c.tc : Thread Cert.MlaOutKernelIdeal.nD Cert.MlaOutKernelIdeal.τ).loc Cert.MlaOutKernelIdeal.main_arg1) = m ((c.tc : Thread Cert.MlaOutKernelIdeal.nD Cert.MlaOutKernelIdeal.τ).loc Cert.MlaOutKernelIdeal.main_arg1))
      ∧ θ_run (Cert.MlaOutReferenceIdeal.defs (F := Ideal)) (onTc (τ := Cert.MlaOutReferenceIdeal.τ) (Cert.MlaOutReferenceIdeal.main (F := Ideal))) ⟨m', fun _ => 0, g'⟩ (fun r => ∀ c : Dev Cert.MlaOutReferenceIdeal.nD,
          r.2.mem ((c.tc : Thread Cert.MlaOutReferenceIdeal.nD Cert.MlaOutReferenceIdeal.τ).loc Cert.MlaOutReferenceIdeal.main_v1) = v0 c
          ∧ r.2.mem ((c.tc : Thread Cert.MlaOutReferenceIdeal.nD Cert.MlaOutReferenceIdeal.τ).loc Cert.MlaOutReferenceIdeal.main_arg0) = m' ((c.tc : Thread Cert.MlaOutReferenceIdeal.nD Cert.MlaOutReferenceIdeal.τ).loc Cert.MlaOutReferenceIdeal.main_arg0)
          ∧ r.2.mem ((c.tc : Thread Cert.MlaOutReferenceIdeal.nD Cert.MlaOutReferenceIdeal.τ).loc Cert.MlaOutReferenceIdeal.main_arg1) = m' ((c.tc : Thread Cert.MlaOutReferenceIdeal.nD Cert.MlaOutReferenceIdeal.τ).loc Cert.MlaOutReferenceIdeal.main_arg1))

def preserves_MlaDoKernel_MlaDoKernelIdeal : Prop :=
  True

def algebraic_MlaDoKernelIdeal_MlaDoReferenceIdeal [hMlaDoKernelIdeal : Cert.MlaDoKernelIdeal.Facts] [hMlaDoReferenceIdeal : Cert.MlaDoReferenceIdeal.Facts] : Prop :=
  ∀ (m : (ℓ : Loc Cert.MlaDoKernelIdeal.nD Cert.MlaDoKernelIdeal.τ Cert.MlaDoKernelIdeal.sig) → Buf (Elt Ideal) ℓ) (g : Dev Cert.MlaDoKernelIdeal.nD → PrngReg)
    (m' : (ℓ : Loc Cert.MlaDoReferenceIdeal.nD Cert.MlaDoReferenceIdeal.τ Cert.MlaDoReferenceIdeal.sig) → Buf (Elt Ideal) ℓ) (g' : Dev Cert.MlaDoReferenceIdeal.nD → PrngReg), Pre_MlaDoKernelIdeal m →
    (∀ c : Dev Cert.MlaDoKernelIdeal.nD,
      m' ((c.tc : Thread Cert.MlaDoReferenceIdeal.nD Cert.MlaDoReferenceIdeal.τ).loc Cert.MlaDoReferenceIdeal.main_arg0) = m ((c.tc : Thread Cert.MlaDoKernelIdeal.nD Cert.MlaDoKernelIdeal.τ).loc Cert.MlaDoKernelIdeal.main_arg0)
      ∧ m' ((c.tc : Thread Cert.MlaDoReferenceIdeal.nD Cert.MlaDoReferenceIdeal.τ).loc Cert.MlaDoReferenceIdeal.main_arg1) = m ((c.tc : Thread Cert.MlaDoKernelIdeal.nD Cert.MlaDoKernelIdeal.τ).loc Cert.MlaDoKernelIdeal.main_arg1)) →
    ∃ (v0 : (c : Dev Cert.MlaDoKernelIdeal.nD) → Buf (Elt Ideal) ((c.tc : Thread Cert.MlaDoKernelIdeal.nD Cert.MlaDoKernelIdeal.τ).loc Cert.MlaDoKernelIdeal.main_v2)),
      θ_run (Cert.MlaDoKernelIdeal.defs (F := Ideal)) (onTc (τ := Cert.MlaDoKernelIdeal.τ) (Cert.MlaDoKernelIdeal.main (F := Ideal))) ⟨m, fun _ => 0, g⟩ (fun r => ∀ c : Dev Cert.MlaDoKernelIdeal.nD,
          r.2.mem ((c.tc : Thread Cert.MlaDoKernelIdeal.nD Cert.MlaDoKernelIdeal.τ).loc Cert.MlaDoKernelIdeal.main_v2) = v0 c
          ∧ r.2.mem ((c.tc : Thread Cert.MlaDoKernelIdeal.nD Cert.MlaDoKernelIdeal.τ).loc Cert.MlaDoKernelIdeal.main_arg0) = m ((c.tc : Thread Cert.MlaDoKernelIdeal.nD Cert.MlaDoKernelIdeal.τ).loc Cert.MlaDoKernelIdeal.main_arg0)
          ∧ r.2.mem ((c.tc : Thread Cert.MlaDoKernelIdeal.nD Cert.MlaDoKernelIdeal.τ).loc Cert.MlaDoKernelIdeal.main_arg1) = m ((c.tc : Thread Cert.MlaDoKernelIdeal.nD Cert.MlaDoKernelIdeal.τ).loc Cert.MlaDoKernelIdeal.main_arg1))
      ∧ θ_run (Cert.MlaDoReferenceIdeal.defs (F := Ideal)) (onTc (τ := Cert.MlaDoReferenceIdeal.τ) (Cert.MlaDoReferenceIdeal.main (F := Ideal))) ⟨m', fun _ => 0, g'⟩ (fun r => ∀ c : Dev Cert.MlaDoReferenceIdeal.nD,
          r.2.mem ((c.tc : Thread Cert.MlaDoReferenceIdeal.nD Cert.MlaDoReferenceIdeal.τ).loc Cert.MlaDoReferenceIdeal.main_v4) = v0 c
          ∧ r.2.mem ((c.tc : Thread Cert.MlaDoReferenceIdeal.nD Cert.MlaDoReferenceIdeal.τ).loc Cert.MlaDoReferenceIdeal.main_arg0) = m' ((c.tc : Thread Cert.MlaDoReferenceIdeal.nD Cert.MlaDoReferenceIdeal.τ).loc Cert.MlaDoReferenceIdeal.main_arg0)
          ∧ r.2.mem ((c.tc : Thread Cert.MlaDoReferenceIdeal.nD Cert.MlaDoReferenceIdeal.τ).loc Cert.MlaDoReferenceIdeal.main_arg1) = m' ((c.tc : Thread Cert.MlaDoReferenceIdeal.nD Cert.MlaDoReferenceIdeal.τ).loc Cert.MlaDoReferenceIdeal.main_arg1))

def preserves_MlaDwoutKernel_MlaDwoutKernelIdeal : Prop :=
  True

def algebraic_MlaDwoutKernelIdeal_MlaDwoutReferenceIdeal [hMlaDwoutKernelIdeal : Cert.MlaDwoutKernelIdeal.Facts] [hMlaDwoutReferenceIdeal : Cert.MlaDwoutReferenceIdeal.Facts] : Prop :=
  ∀ (m : (ℓ : Loc Cert.MlaDwoutKernelIdeal.nD Cert.MlaDwoutKernelIdeal.τ Cert.MlaDwoutKernelIdeal.sig) → Buf (Elt Ideal) ℓ) (g : Dev Cert.MlaDwoutKernelIdeal.nD → PrngReg)
    (m' : (ℓ : Loc Cert.MlaDwoutReferenceIdeal.nD Cert.MlaDwoutReferenceIdeal.τ Cert.MlaDwoutReferenceIdeal.sig) → Buf (Elt Ideal) ℓ) (g' : Dev Cert.MlaDwoutReferenceIdeal.nD → PrngReg), Pre_MlaDwoutKernelIdeal m →
    (∀ c : Dev Cert.MlaDwoutKernelIdeal.nD,
      m' ((c.tc : Thread Cert.MlaDwoutReferenceIdeal.nD Cert.MlaDwoutReferenceIdeal.τ).loc Cert.MlaDwoutReferenceIdeal.main_arg0) = m ((c.tc : Thread Cert.MlaDwoutKernelIdeal.nD Cert.MlaDwoutKernelIdeal.τ).loc Cert.MlaDwoutKernelIdeal.main_arg0)
      ∧ m' ((c.tc : Thread Cert.MlaDwoutReferenceIdeal.nD Cert.MlaDwoutReferenceIdeal.τ).loc Cert.MlaDwoutReferenceIdeal.main_arg1) = m ((c.tc : Thread Cert.MlaDwoutKernelIdeal.nD Cert.MlaDwoutKernelIdeal.τ).loc Cert.MlaDwoutKernelIdeal.main_arg1)) →
    ∃ (v0 : (c : Dev Cert.MlaDwoutKernelIdeal.nD) → Buf (Elt Ideal) ((c.tc : Thread Cert.MlaDwoutKernelIdeal.nD Cert.MlaDwoutKernelIdeal.τ).loc Cert.MlaDwoutKernelIdeal.main_v0)),
      θ_run (Cert.MlaDwoutKernelIdeal.defs (F := Ideal)) (onTc (τ := Cert.MlaDwoutKernelIdeal.τ) (Cert.MlaDwoutKernelIdeal.main (F := Ideal))) ⟨m, fun _ => 0, g⟩ (fun r => ∀ c : Dev Cert.MlaDwoutKernelIdeal.nD,
          r.2.mem ((c.tc : Thread Cert.MlaDwoutKernelIdeal.nD Cert.MlaDwoutKernelIdeal.τ).loc Cert.MlaDwoutKernelIdeal.main_v0) = v0 c
          ∧ r.2.mem ((c.tc : Thread Cert.MlaDwoutKernelIdeal.nD Cert.MlaDwoutKernelIdeal.τ).loc Cert.MlaDwoutKernelIdeal.main_arg0) = m ((c.tc : Thread Cert.MlaDwoutKernelIdeal.nD Cert.MlaDwoutKernelIdeal.τ).loc Cert.MlaDwoutKernelIdeal.main_arg0)
          ∧ r.2.mem ((c.tc : Thread Cert.MlaDwoutKernelIdeal.nD Cert.MlaDwoutKernelIdeal.τ).loc Cert.MlaDwoutKernelIdeal.main_arg1) = m ((c.tc : Thread Cert.MlaDwoutKernelIdeal.nD Cert.MlaDwoutKernelIdeal.τ).loc Cert.MlaDwoutKernelIdeal.main_arg1))
      ∧ θ_run (Cert.MlaDwoutReferenceIdeal.defs (F := Ideal)) (onTc (τ := Cert.MlaDwoutReferenceIdeal.τ) (Cert.MlaDwoutReferenceIdeal.main (F := Ideal))) ⟨m', fun _ => 0, g'⟩ (fun r => ∀ c : Dev Cert.MlaDwoutReferenceIdeal.nD,
          r.2.mem ((c.tc : Thread Cert.MlaDwoutReferenceIdeal.nD Cert.MlaDwoutReferenceIdeal.τ).loc Cert.MlaDwoutReferenceIdeal.main_v7) = v0 c
          ∧ r.2.mem ((c.tc : Thread Cert.MlaDwoutReferenceIdeal.nD Cert.MlaDwoutReferenceIdeal.τ).loc Cert.MlaDwoutReferenceIdeal.main_arg0) = m' ((c.tc : Thread Cert.MlaDwoutReferenceIdeal.nD Cert.MlaDwoutReferenceIdeal.τ).loc Cert.MlaDwoutReferenceIdeal.main_arg0)
          ∧ r.2.mem ((c.tc : Thread Cert.MlaDwoutReferenceIdeal.nD Cert.MlaDwoutReferenceIdeal.τ).loc Cert.MlaDwoutReferenceIdeal.main_arg1) = m' ((c.tc : Thread Cert.MlaDwoutReferenceIdeal.nD Cert.MlaDwoutReferenceIdeal.τ).loc Cert.MlaDwoutReferenceIdeal.main_arg1))

def Claim : Prop :=
  ∃ (hGateKernel : Cert.GateKernel.Facts) (hGateKernelIdeal : Cert.GateKernelIdeal.Facts) (hGateReferenceIdeal : Cert.GateReferenceIdeal.Facts) (hFfnDhRmsKernel : Cert.FfnDhRmsKernel.Facts) (hFfnDhRmsKernelIdeal : Cert.FfnDhRmsKernelIdeal.Facts) (hFfnDhRmsReferenceIdeal : Cert.FfnDhRmsReferenceIdeal.Facts) (hFfnBwdUpKernel : Cert.FfnBwdUpKernel.Facts) (hFfnBwdUpKernelIdeal : Cert.FfnBwdUpKernelIdeal.Facts) (hFfnBwdUpReferenceIdeal : Cert.FfnBwdUpReferenceIdeal.Facts) (hFfnDwgKernel : Cert.FfnDwgKernel.Facts) (hFfnDwgKernelIdeal : Cert.FfnDwgKernelIdeal.Facts) (hFfnDwgReferenceIdeal : Cert.FfnDwgReferenceIdeal.Facts) (hFfnDwdKernel : Cert.FfnDwdKernel.Facts) (hFfnDwdKernelIdeal : Cert.FfnDwdKernelIdeal.Facts) (hFfnDwdReferenceIdeal : Cert.FfnDwdReferenceIdeal.Facts) (hFfnUpKernel : Cert.FfnUpKernel.Facts) (hFfnUpKernelIdeal : Cert.FfnUpKernelIdeal.Facts) (hFfnUpReferenceIdeal : Cert.FfnUpReferenceIdeal.Facts) (hFfnDownNormKernel : Cert.FfnDownNormKernel.Facts) (hFfnDownNormKernelIdeal : Cert.FfnDownNormKernelIdeal.Facts) (hFfnDownNormReferenceIdeal : Cert.FfnDownNormReferenceIdeal.Facts) (hFfnDownKernel : Cert.FfnDownKernel.Facts) (hFfnDownKernelIdeal : Cert.FfnDownKernelIdeal.Facts) (hFfnDownReferenceIdeal : Cert.FfnDownReferenceIdeal.Facts) (hProjDhRmsKernel : Cert.ProjDhRmsKernel.Facts) (hProjDhRmsKernelIdeal : Cert.ProjDhRmsKernelIdeal.Facts) (hProjDhRmsReferenceIdeal : Cert.ProjDhRmsReferenceIdeal.Facts) (hProjCKernel : Cert.ProjCKernel.Facts) (hProjCKernelIdeal : Cert.ProjCKernelIdeal.Facts) (hProjCReferenceIdeal : Cert.ProjCReferenceIdeal.Facts) (hProjDwcKernel : Cert.ProjDwcKernel.Facts) (hProjDwcKernelIdeal : Cert.ProjDwcKernelIdeal.Facts) (hProjDwcReferenceIdeal : Cert.ProjDwcReferenceIdeal.Facts) (hProjLKernel : Cert.ProjLKernel.Facts) (hProjLKernelIdeal : Cert.ProjLKernelIdeal.Facts) (hProjLReferenceIdeal : Cert.ProjLReferenceIdeal.Facts) (hProjDwlKernel : Cert.ProjDwlKernel.Facts) (hProjDwlKernelIdeal : Cert.ProjDwlKernelIdeal.Facts) (hProjDwlReferenceIdeal : Cert.ProjDwlReferenceIdeal.Facts) (hProjGKernel : Cert.ProjGKernel.Facts) (hProjGKernelIdeal : Cert.ProjGKernelIdeal.Facts) (hProjGReferenceIdeal : Cert.ProjGReferenceIdeal.Facts) (hProjDwgKernel : Cert.ProjDwgKernel.Facts) (hProjDwgKernelIdeal : Cert.ProjDwgKernelIdeal.Facts) (hProjDwgReferenceIdeal : Cert.ProjDwgReferenceIdeal.Facts) (hMixOutKernel : Cert.MixOutKernel.Facts) (hMixOutKernelIdeal : Cert.MixOutKernelIdeal.Facts) (hMixOutReferenceIdeal : Cert.MixOutReferenceIdeal.Facts) (hMixDyKernel : Cert.MixDyKernel.Facts) (hMixDyKernelIdeal : Cert.MixDyKernelIdeal.Facts) (hMixDyReferenceIdeal : Cert.MixDyReferenceIdeal.Facts) (hMixDwoutKernel : Cert.MixDwoutKernel.Facts) (hMixDwoutKernelIdeal : Cert.MixDwoutKernelIdeal.Facts) (hMixDwoutReferenceIdeal : Cert.MixDwoutReferenceIdeal.Facts) (hAdamModelKernel : Cert.AdamModelKernel.Facts) (hAdamModelKernelIdeal : Cert.AdamModelKernelIdeal.Facts) (hAdamModelReferenceIdeal : Cert.AdamModelReferenceIdeal.Facts) (hAdamConvKernel : Cert.AdamConvKernel.Facts) (hAdamConvKernelIdeal : Cert.AdamConvKernelIdeal.Facts) (hAdamConvReferenceIdeal : Cert.AdamConvReferenceIdeal.Facts) (hAdamLatentKernel : Cert.AdamLatentKernel.Facts) (hAdamLatentKernelIdeal : Cert.AdamLatentKernelIdeal.Facts) (hAdamLatentReferenceIdeal : Cert.AdamLatentReferenceIdeal.Facts) (hAdamHeadKernel : Cert.AdamHeadKernel.Facts) (hAdamHeadKernelIdeal : Cert.AdamHeadKernelIdeal.Facts) (hAdamHeadReferenceIdeal : Cert.AdamHeadReferenceIdeal.Facts) (hAdamTapsKernel : Cert.AdamTapsKernel.Facts) (hAdamTapsKernelIdeal : Cert.AdamTapsKernelIdeal.Facts) (hAdamTapsReferenceIdeal : Cert.AdamTapsReferenceIdeal.Facts) (hAdamBiasKernel : Cert.AdamBiasKernel.Facts) (hAdamBiasKernelIdeal : Cert.AdamBiasKernelIdeal.Facts) (hAdamBiasReferenceIdeal : Cert.AdamBiasReferenceIdeal.Facts) (hAdamFfnKernel : Cert.AdamFfnKernel.Facts) (hAdamFfnKernelIdeal : Cert.AdamFfnKernelIdeal.Facts) (hAdamFfnReferenceIdeal : Cert.AdamFfnReferenceIdeal.Facts) (hAdamWinKernel : Cert.AdamWinKernel.Facts) (hAdamWinKernelIdeal : Cert.AdamWinKernelIdeal.Facts) (hAdamWinReferenceIdeal : Cert.AdamWinReferenceIdeal.Facts) (hAdamCoutKernel : Cert.AdamCoutKernel.Facts) (hAdamCoutKernelIdeal : Cert.AdamCoutKernelIdeal.Facts) (hAdamCoutReferenceIdeal : Cert.AdamCoutReferenceIdeal.Facts) (hAdamUqKernel : Cert.AdamUqKernel.Facts) (hAdamUqKernelIdeal : Cert.AdamUqKernelIdeal.Facts) (hAdamUqReferenceIdeal : Cert.AdamUqReferenceIdeal.Facts) (hAdamUkvKernel : Cert.AdamUkvKernel.Facts) (hAdamUkvKernelIdeal : Cert.AdamUkvKernelIdeal.Facts) (hAdamUkvReferenceIdeal : Cert.AdamUkvReferenceIdeal.Facts) (hAdamWoutKernel : Cert.AdamWoutKernel.Facts) (hAdamWoutKernelIdeal : Cert.AdamWoutKernelIdeal.Facts) (hAdamWoutReferenceIdeal : Cert.AdamWoutReferenceIdeal.Facts) (hSumGateupKernel : Cert.SumGateupKernel.Facts) (hSumGateupKernelIdeal : Cert.SumGateupKernelIdeal.Facts) (hSumGateupReferenceIdeal : Cert.SumGateupReferenceIdeal.Facts) (hSumDownKernel : Cert.SumDownKernel.Facts) (hSumDownKernelIdeal : Cert.SumDownKernelIdeal.Facts) (hSumDownReferenceIdeal : Cert.SumDownReferenceIdeal.Facts) (hSumMixKernel : Cert.SumMixKernel.Facts) (hSumMixKernelIdeal : Cert.SumMixKernelIdeal.Facts) (hSumMixReferenceIdeal : Cert.SumMixReferenceIdeal.Facts) (hSumSmallKernel : Cert.SumSmallKernel.Facts) (hSumSmallKernelIdeal : Cert.SumSmallKernelIdeal.Facts) (hSumSmallReferenceIdeal : Cert.SumSmallReferenceIdeal.Facts) (hLossGradKernel : Cert.LossGradKernel.Facts) (hLossGradKernelIdeal : Cert.LossGradKernelIdeal.Facts) (hLossGradReferenceIdeal : Cert.LossGradReferenceIdeal.Facts) (hConvOutKernel : Cert.ConvOutKernel.Facts) (hConvOutKernelIdeal : Cert.ConvOutKernelIdeal.Facts) (hConvOutReferenceIdeal : Cert.ConvOutReferenceIdeal.Facts) (hConvDcKernel : Cert.ConvDcKernel.Facts) (hConvDcKernelIdeal : Cert.ConvDcKernelIdeal.Facts) (hConvDcReferenceIdeal : Cert.ConvDcReferenceIdeal.Facts) (hConvDwoutKernel : Cert.ConvDwoutKernel.Facts) (hConvDwoutKernelIdeal : Cert.ConvDwoutKernelIdeal.Facts) (hConvDwoutReferenceIdeal : Cert.ConvDwoutReferenceIdeal.Facts) (hMlaOutKernel : Cert.MlaOutKernel.Facts) (hMlaOutKernelIdeal : Cert.MlaOutKernelIdeal.Facts) (hMlaOutReferenceIdeal : Cert.MlaOutReferenceIdeal.Facts) (hMlaDoKernel : Cert.MlaDoKernel.Facts) (hMlaDoKernelIdeal : Cert.MlaDoKernelIdeal.Facts) (hMlaDoReferenceIdeal : Cert.MlaDoReferenceIdeal.Facts) (hMlaDwoutKernel : Cert.MlaDwoutKernel.Facts) (hMlaDwoutKernelIdeal : Cert.MlaDwoutKernelIdeal.Facts) (hMlaDwoutReferenceIdeal : Cert.MlaDwoutReferenceIdeal.Facts) (hPre_ffn_dh_rms_finite : Cert.Pre_ffn_dh_rms_finite.Facts) (hPre_ffn_bwd_up_finite : Cert.Pre_ffn_bwd_up_finite.Facts) (hPre_ffn_up_finite : Cert.Pre_ffn_up_finite.Facts) (hPre_proj_dh_rms_finite : Cert.Pre_proj_dh_rms_finite.Facts),
    quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_FfnDhRmsKernel (hFfnDhRmsKernel := hFfnDhRmsKernel)
    ∧ quiescent_FfnDhRmsKernelIdeal (hFfnDhRmsKernelIdeal := hFfnDhRmsKernelIdeal)
    ∧ quiescent_FfnDhRmsKernelIdeal_pre_ffn_dh_rms_finite (hFfnDhRmsKernelIdeal := hFfnDhRmsKernelIdeal) (hPre_ffn_dh_rms_finite := hPre_ffn_dh_rms_finite)
    ∧ quiescent_FfnDhRmsReferenceIdeal (hFfnDhRmsReferenceIdeal := hFfnDhRmsReferenceIdeal)
    ∧ quiescent_FfnDhRmsReferenceIdeal_pre_ffn_dh_rms_finite (hFfnDhRmsReferenceIdeal := hFfnDhRmsReferenceIdeal) (hPre_ffn_dh_rms_finite := hPre_ffn_dh_rms_finite)
    ∧ quiescent_FfnBwdUpKernel (hFfnBwdUpKernel := hFfnBwdUpKernel)
    ∧ quiescent_FfnBwdUpKernelIdeal (hFfnBwdUpKernelIdeal := hFfnBwdUpKernelIdeal)
    ∧ quiescent_FfnBwdUpKernelIdeal_pre_ffn_bwd_up_finite (hFfnBwdUpKernelIdeal := hFfnBwdUpKernelIdeal) (hPre_ffn_bwd_up_finite := hPre_ffn_bwd_up_finite)
    ∧ quiescent_FfnBwdUpReferenceIdeal (hFfnBwdUpReferenceIdeal := hFfnBwdUpReferenceIdeal)
    ∧ quiescent_FfnBwdUpReferenceIdeal_pre_ffn_bwd_up_finite (hFfnBwdUpReferenceIdeal := hFfnBwdUpReferenceIdeal) (hPre_ffn_bwd_up_finite := hPre_ffn_bwd_up_finite)
    ∧ quiescent_FfnDwgKernel (hFfnDwgKernel := hFfnDwgKernel)
    ∧ quiescent_FfnDwgKernelIdeal (hFfnDwgKernelIdeal := hFfnDwgKernelIdeal)
    ∧ quiescent_FfnDwgReferenceIdeal (hFfnDwgReferenceIdeal := hFfnDwgReferenceIdeal)
    ∧ quiescent_FfnDwdKernel (hFfnDwdKernel := hFfnDwdKernel)
    ∧ quiescent_FfnDwdKernelIdeal (hFfnDwdKernelIdeal := hFfnDwdKernelIdeal)
    ∧ quiescent_FfnDwdReferenceIdeal (hFfnDwdReferenceIdeal := hFfnDwdReferenceIdeal)
    ∧ quiescent_FfnUpKernel (hFfnUpKernel := hFfnUpKernel)
    ∧ quiescent_FfnUpKernelIdeal (hFfnUpKernelIdeal := hFfnUpKernelIdeal)
    ∧ quiescent_FfnUpKernelIdeal_pre_ffn_up_finite (hFfnUpKernelIdeal := hFfnUpKernelIdeal) (hPre_ffn_up_finite := hPre_ffn_up_finite)
    ∧ quiescent_FfnUpReferenceIdeal (hFfnUpReferenceIdeal := hFfnUpReferenceIdeal)
    ∧ quiescent_FfnUpReferenceIdeal_pre_ffn_up_finite (hFfnUpReferenceIdeal := hFfnUpReferenceIdeal) (hPre_ffn_up_finite := hPre_ffn_up_finite)
    ∧ quiescent_FfnDownNormKernel (hFfnDownNormKernel := hFfnDownNormKernel)
    ∧ quiescent_FfnDownNormKernelIdeal (hFfnDownNormKernelIdeal := hFfnDownNormKernelIdeal)
    ∧ quiescent_FfnDownNormReferenceIdeal (hFfnDownNormReferenceIdeal := hFfnDownNormReferenceIdeal)
    ∧ quiescent_FfnDownKernel (hFfnDownKernel := hFfnDownKernel)
    ∧ quiescent_FfnDownKernelIdeal (hFfnDownKernelIdeal := hFfnDownKernelIdeal)
    ∧ quiescent_FfnDownReferenceIdeal (hFfnDownReferenceIdeal := hFfnDownReferenceIdeal)
    ∧ quiescent_ProjDhRmsKernel (hProjDhRmsKernel := hProjDhRmsKernel)
    ∧ quiescent_ProjDhRmsKernelIdeal (hProjDhRmsKernelIdeal := hProjDhRmsKernelIdeal)
    ∧ quiescent_ProjDhRmsKernelIdeal_pre_proj_dh_rms_finite (hProjDhRmsKernelIdeal := hProjDhRmsKernelIdeal) (hPre_proj_dh_rms_finite := hPre_proj_dh_rms_finite)
    ∧ quiescent_ProjDhRmsReferenceIdeal (hProjDhRmsReferenceIdeal := hProjDhRmsReferenceIdeal)
    ∧ quiescent_ProjDhRmsReferenceIdeal_pre_proj_dh_rms_finite (hProjDhRmsReferenceIdeal := hProjDhRmsReferenceIdeal) (hPre_proj_dh_rms_finite := hPre_proj_dh_rms_finite)
    ∧ quiescent_ProjCKernel (hProjCKernel := hProjCKernel)
    ∧ quiescent_ProjCKernelIdeal (hProjCKernelIdeal := hProjCKernelIdeal)
    ∧ quiescent_ProjCReferenceIdeal (hProjCReferenceIdeal := hProjCReferenceIdeal)
    ∧ quiescent_ProjDwcKernel (hProjDwcKernel := hProjDwcKernel)
    ∧ quiescent_ProjDwcKernelIdeal (hProjDwcKernelIdeal := hProjDwcKernelIdeal)
    ∧ quiescent_ProjDwcReferenceIdeal (hProjDwcReferenceIdeal := hProjDwcReferenceIdeal)
    ∧ quiescent_ProjLKernel (hProjLKernel := hProjLKernel)
    ∧ quiescent_ProjLKernelIdeal (hProjLKernelIdeal := hProjLKernelIdeal)
    ∧ quiescent_ProjLReferenceIdeal (hProjLReferenceIdeal := hProjLReferenceIdeal)
    ∧ quiescent_ProjDwlKernel (hProjDwlKernel := hProjDwlKernel)
    ∧ quiescent_ProjDwlKernelIdeal (hProjDwlKernelIdeal := hProjDwlKernelIdeal)
    ∧ quiescent_ProjDwlReferenceIdeal (hProjDwlReferenceIdeal := hProjDwlReferenceIdeal)
    ∧ quiescent_ProjGKernel (hProjGKernel := hProjGKernel)
    ∧ quiescent_ProjGKernelIdeal (hProjGKernelIdeal := hProjGKernelIdeal)
    ∧ quiescent_ProjGReferenceIdeal (hProjGReferenceIdeal := hProjGReferenceIdeal)
    ∧ quiescent_ProjDwgKernel (hProjDwgKernel := hProjDwgKernel)
    ∧ quiescent_ProjDwgKernelIdeal (hProjDwgKernelIdeal := hProjDwgKernelIdeal)
    ∧ quiescent_ProjDwgReferenceIdeal (hProjDwgReferenceIdeal := hProjDwgReferenceIdeal)
    ∧ quiescent_MixOutKernel (hMixOutKernel := hMixOutKernel)
    ∧ quiescent_MixOutKernelIdeal (hMixOutKernelIdeal := hMixOutKernelIdeal)
    ∧ quiescent_MixOutReferenceIdeal (hMixOutReferenceIdeal := hMixOutReferenceIdeal)
    ∧ quiescent_MixDyKernel (hMixDyKernel := hMixDyKernel)
    ∧ quiescent_MixDyKernelIdeal (hMixDyKernelIdeal := hMixDyKernelIdeal)
    ∧ quiescent_MixDyReferenceIdeal (hMixDyReferenceIdeal := hMixDyReferenceIdeal)
    ∧ quiescent_MixDwoutKernel (hMixDwoutKernel := hMixDwoutKernel)
    ∧ quiescent_MixDwoutKernelIdeal (hMixDwoutKernelIdeal := hMixDwoutKernelIdeal)
    ∧ quiescent_MixDwoutReferenceIdeal (hMixDwoutReferenceIdeal := hMixDwoutReferenceIdeal)
    ∧ quiescent_AdamModelKernel (hAdamModelKernel := hAdamModelKernel)
    ∧ quiescent_AdamModelKernelIdeal (hAdamModelKernelIdeal := hAdamModelKernelIdeal)
    ∧ quiescent_AdamModelReferenceIdeal (hAdamModelReferenceIdeal := hAdamModelReferenceIdeal)
    ∧ quiescent_AdamConvKernel (hAdamConvKernel := hAdamConvKernel)
    ∧ quiescent_AdamConvKernelIdeal (hAdamConvKernelIdeal := hAdamConvKernelIdeal)
    ∧ quiescent_AdamConvReferenceIdeal (hAdamConvReferenceIdeal := hAdamConvReferenceIdeal)
    ∧ quiescent_AdamLatentKernel (hAdamLatentKernel := hAdamLatentKernel)
    ∧ quiescent_AdamLatentKernelIdeal (hAdamLatentKernelIdeal := hAdamLatentKernelIdeal)
    ∧ quiescent_AdamLatentReferenceIdeal (hAdamLatentReferenceIdeal := hAdamLatentReferenceIdeal)
    ∧ quiescent_AdamHeadKernel (hAdamHeadKernel := hAdamHeadKernel)
    ∧ quiescent_AdamHeadKernelIdeal (hAdamHeadKernelIdeal := hAdamHeadKernelIdeal)
    ∧ quiescent_AdamHeadReferenceIdeal (hAdamHeadReferenceIdeal := hAdamHeadReferenceIdeal)
    ∧ quiescent_AdamTapsKernel (hAdamTapsKernel := hAdamTapsKernel)
    ∧ quiescent_AdamTapsKernelIdeal (hAdamTapsKernelIdeal := hAdamTapsKernelIdeal)
    ∧ quiescent_AdamTapsReferenceIdeal (hAdamTapsReferenceIdeal := hAdamTapsReferenceIdeal)
    ∧ quiescent_AdamBiasKernel (hAdamBiasKernel := hAdamBiasKernel)
    ∧ quiescent_AdamBiasKernelIdeal (hAdamBiasKernelIdeal := hAdamBiasKernelIdeal)
    ∧ quiescent_AdamBiasReferenceIdeal (hAdamBiasReferenceIdeal := hAdamBiasReferenceIdeal)
    ∧ quiescent_AdamFfnKernel (hAdamFfnKernel := hAdamFfnKernel)
    ∧ quiescent_AdamFfnKernelIdeal (hAdamFfnKernelIdeal := hAdamFfnKernelIdeal)
    ∧ quiescent_AdamFfnReferenceIdeal (hAdamFfnReferenceIdeal := hAdamFfnReferenceIdeal)
    ∧ quiescent_AdamWinKernel (hAdamWinKernel := hAdamWinKernel)
    ∧ quiescent_AdamWinKernelIdeal (hAdamWinKernelIdeal := hAdamWinKernelIdeal)
    ∧ quiescent_AdamWinReferenceIdeal (hAdamWinReferenceIdeal := hAdamWinReferenceIdeal)
    ∧ quiescent_AdamCoutKernel (hAdamCoutKernel := hAdamCoutKernel)
    ∧ quiescent_AdamCoutKernelIdeal (hAdamCoutKernelIdeal := hAdamCoutKernelIdeal)
    ∧ quiescent_AdamCoutReferenceIdeal (hAdamCoutReferenceIdeal := hAdamCoutReferenceIdeal)
    ∧ quiescent_AdamUqKernel (hAdamUqKernel := hAdamUqKernel)
    ∧ quiescent_AdamUqKernelIdeal (hAdamUqKernelIdeal := hAdamUqKernelIdeal)
    ∧ quiescent_AdamUqReferenceIdeal (hAdamUqReferenceIdeal := hAdamUqReferenceIdeal)
    ∧ quiescent_AdamUkvKernel (hAdamUkvKernel := hAdamUkvKernel)
    ∧ quiescent_AdamUkvKernelIdeal (hAdamUkvKernelIdeal := hAdamUkvKernelIdeal)
    ∧ quiescent_AdamUkvReferenceIdeal (hAdamUkvReferenceIdeal := hAdamUkvReferenceIdeal)
    ∧ quiescent_AdamWoutKernel (hAdamWoutKernel := hAdamWoutKernel)
    ∧ quiescent_AdamWoutKernelIdeal (hAdamWoutKernelIdeal := hAdamWoutKernelIdeal)
    ∧ quiescent_AdamWoutReferenceIdeal (hAdamWoutReferenceIdeal := hAdamWoutReferenceIdeal)
    ∧ quiescent_SumGateupKernel (hSumGateupKernel := hSumGateupKernel)
    ∧ quiescent_SumGateupKernelIdeal (hSumGateupKernelIdeal := hSumGateupKernelIdeal)
    ∧ quiescent_SumGateupReferenceIdeal (hSumGateupReferenceIdeal := hSumGateupReferenceIdeal)
    ∧ quiescent_SumDownKernel (hSumDownKernel := hSumDownKernel)
    ∧ quiescent_SumDownKernelIdeal (hSumDownKernelIdeal := hSumDownKernelIdeal)
    ∧ quiescent_SumDownReferenceIdeal (hSumDownReferenceIdeal := hSumDownReferenceIdeal)
    ∧ quiescent_SumMixKernel (hSumMixKernel := hSumMixKernel)
    ∧ quiescent_SumMixKernelIdeal (hSumMixKernelIdeal := hSumMixKernelIdeal)
    ∧ quiescent_SumMixReferenceIdeal (hSumMixReferenceIdeal := hSumMixReferenceIdeal)
    ∧ quiescent_SumSmallKernel (hSumSmallKernel := hSumSmallKernel)
    ∧ quiescent_SumSmallKernelIdeal (hSumSmallKernelIdeal := hSumSmallKernelIdeal)
    ∧ quiescent_SumSmallReferenceIdeal (hSumSmallReferenceIdeal := hSumSmallReferenceIdeal)
    ∧ quiescent_LossGradKernel (hLossGradKernel := hLossGradKernel)
    ∧ quiescent_LossGradKernelIdeal (hLossGradKernelIdeal := hLossGradKernelIdeal)
    ∧ quiescent_LossGradReferenceIdeal (hLossGradReferenceIdeal := hLossGradReferenceIdeal)
    ∧ quiescent_ConvOutKernel (hConvOutKernel := hConvOutKernel)
    ∧ quiescent_ConvOutKernelIdeal (hConvOutKernelIdeal := hConvOutKernelIdeal)
    ∧ quiescent_ConvOutReferenceIdeal (hConvOutReferenceIdeal := hConvOutReferenceIdeal)
    ∧ quiescent_ConvDcKernel (hConvDcKernel := hConvDcKernel)
    ∧ quiescent_ConvDcKernelIdeal (hConvDcKernelIdeal := hConvDcKernelIdeal)
    ∧ quiescent_ConvDcReferenceIdeal (hConvDcReferenceIdeal := hConvDcReferenceIdeal)
    ∧ quiescent_ConvDwoutKernel (hConvDwoutKernel := hConvDwoutKernel)
    ∧ quiescent_ConvDwoutKernelIdeal (hConvDwoutKernelIdeal := hConvDwoutKernelIdeal)
    ∧ quiescent_ConvDwoutReferenceIdeal (hConvDwoutReferenceIdeal := hConvDwoutReferenceIdeal)
    ∧ quiescent_MlaOutKernel (hMlaOutKernel := hMlaOutKernel)
    ∧ quiescent_MlaOutKernelIdeal (hMlaOutKernelIdeal := hMlaOutKernelIdeal)
    ∧ quiescent_MlaOutReferenceIdeal (hMlaOutReferenceIdeal := hMlaOutReferenceIdeal)
    ∧ quiescent_MlaDoKernel (hMlaDoKernel := hMlaDoKernel)
    ∧ quiescent_MlaDoKernelIdeal (hMlaDoKernelIdeal := hMlaDoKernelIdeal)
    ∧ quiescent_MlaDoReferenceIdeal (hMlaDoReferenceIdeal := hMlaDoReferenceIdeal)
    ∧ quiescent_MlaDwoutKernel (hMlaDwoutKernel := hMlaDwoutKernel)
    ∧ quiescent_MlaDwoutKernelIdeal (hMlaDwoutKernelIdeal := hMlaDwoutKernelIdeal)
    ∧ quiescent_MlaDwoutReferenceIdeal (hMlaDwoutReferenceIdeal := hMlaDwoutReferenceIdeal)
    ∧ preserves_GateKernel_GateKernelIdeal
    ∧ algebraic_GateKernelIdeal_GateReferenceIdeal (hGateKernelIdeal := hGateKernelIdeal) (hGateReferenceIdeal := hGateReferenceIdeal)
    ∧ preserves_FfnDhRmsKernel_FfnDhRmsKernelIdeal
    ∧ algebraic_FfnDhRmsKernelIdeal_FfnDhRmsReferenceIdeal_pre_ffn_dh_rms_finite (hFfnDhRmsKernelIdeal := hFfnDhRmsKernelIdeal) (hFfnDhRmsReferenceIdeal := hFfnDhRmsReferenceIdeal) (hPre_ffn_dh_rms_finite := hPre_ffn_dh_rms_finite)
    ∧ preserves_FfnBwdUpKernel_FfnBwdUpKernelIdeal
    ∧ algebraic_FfnBwdUpKernelIdeal_FfnBwdUpReferenceIdeal_pre_ffn_bwd_up_finite (hFfnBwdUpKernelIdeal := hFfnBwdUpKernelIdeal) (hFfnBwdUpReferenceIdeal := hFfnBwdUpReferenceIdeal) (hPre_ffn_bwd_up_finite := hPre_ffn_bwd_up_finite)
    ∧ preserves_FfnDwgKernel_FfnDwgKernelIdeal
    ∧ algebraic_FfnDwgKernelIdeal_FfnDwgReferenceIdeal (hFfnDwgKernelIdeal := hFfnDwgKernelIdeal) (hFfnDwgReferenceIdeal := hFfnDwgReferenceIdeal)
    ∧ preserves_FfnDwdKernel_FfnDwdKernelIdeal
    ∧ algebraic_FfnDwdKernelIdeal_FfnDwdReferenceIdeal (hFfnDwdKernelIdeal := hFfnDwdKernelIdeal) (hFfnDwdReferenceIdeal := hFfnDwdReferenceIdeal)
    ∧ preserves_FfnUpKernel_FfnUpKernelIdeal
    ∧ algebraic_FfnUpKernelIdeal_FfnUpReferenceIdeal_pre_ffn_up_finite (hFfnUpKernelIdeal := hFfnUpKernelIdeal) (hFfnUpReferenceIdeal := hFfnUpReferenceIdeal) (hPre_ffn_up_finite := hPre_ffn_up_finite)
    ∧ preserves_FfnDownNormKernel_FfnDownNormKernelIdeal
    ∧ algebraic_FfnDownNormKernelIdeal_FfnDownNormReferenceIdeal (hFfnDownNormKernelIdeal := hFfnDownNormKernelIdeal) (hFfnDownNormReferenceIdeal := hFfnDownNormReferenceIdeal)
    ∧ preserves_FfnDownKernel_FfnDownKernelIdeal
    ∧ algebraic_FfnDownKernelIdeal_FfnDownReferenceIdeal (hFfnDownKernelIdeal := hFfnDownKernelIdeal) (hFfnDownReferenceIdeal := hFfnDownReferenceIdeal)
    ∧ preserves_ProjDhRmsKernel_ProjDhRmsKernelIdeal
    ∧ algebraic_ProjDhRmsKernelIdeal_ProjDhRmsReferenceIdeal_pre_proj_dh_rms_finite (hProjDhRmsKernelIdeal := hProjDhRmsKernelIdeal) (hProjDhRmsReferenceIdeal := hProjDhRmsReferenceIdeal) (hPre_proj_dh_rms_finite := hPre_proj_dh_rms_finite)
    ∧ preserves_ProjCKernel_ProjCKernelIdeal
    ∧ algebraic_ProjCKernelIdeal_ProjCReferenceIdeal (hProjCKernelIdeal := hProjCKernelIdeal) (hProjCReferenceIdeal := hProjCReferenceIdeal)
    ∧ preserves_ProjDwcKernel_ProjDwcKernelIdeal
    ∧ algebraic_ProjDwcKernelIdeal_ProjDwcReferenceIdeal (hProjDwcKernelIdeal := hProjDwcKernelIdeal) (hProjDwcReferenceIdeal := hProjDwcReferenceIdeal)
    ∧ preserves_ProjLKernel_ProjLKernelIdeal
    ∧ algebraic_ProjLKernelIdeal_ProjLReferenceIdeal (hProjLKernelIdeal := hProjLKernelIdeal) (hProjLReferenceIdeal := hProjLReferenceIdeal)
    ∧ preserves_ProjDwlKernel_ProjDwlKernelIdeal
    ∧ algebraic_ProjDwlKernelIdeal_ProjDwlReferenceIdeal (hProjDwlKernelIdeal := hProjDwlKernelIdeal) (hProjDwlReferenceIdeal := hProjDwlReferenceIdeal)
    ∧ preserves_ProjGKernel_ProjGKernelIdeal
    ∧ algebraic_ProjGKernelIdeal_ProjGReferenceIdeal (hProjGKernelIdeal := hProjGKernelIdeal) (hProjGReferenceIdeal := hProjGReferenceIdeal)
    ∧ preserves_ProjDwgKernel_ProjDwgKernelIdeal
    ∧ algebraic_ProjDwgKernelIdeal_ProjDwgReferenceIdeal (hProjDwgKernelIdeal := hProjDwgKernelIdeal) (hProjDwgReferenceIdeal := hProjDwgReferenceIdeal)
    ∧ preserves_MixOutKernel_MixOutKernelIdeal
    ∧ algebraic_MixOutKernelIdeal_MixOutReferenceIdeal (hMixOutKernelIdeal := hMixOutKernelIdeal) (hMixOutReferenceIdeal := hMixOutReferenceIdeal)
    ∧ preserves_MixDyKernel_MixDyKernelIdeal
    ∧ algebraic_MixDyKernelIdeal_MixDyReferenceIdeal (hMixDyKernelIdeal := hMixDyKernelIdeal) (hMixDyReferenceIdeal := hMixDyReferenceIdeal)
    ∧ preserves_MixDwoutKernel_MixDwoutKernelIdeal
    ∧ algebraic_MixDwoutKernelIdeal_MixDwoutReferenceIdeal (hMixDwoutKernelIdeal := hMixDwoutKernelIdeal) (hMixDwoutReferenceIdeal := hMixDwoutReferenceIdeal)
    ∧ preserves_AdamModelKernel_AdamModelKernelIdeal
    ∧ algebraic_AdamModelKernelIdeal_AdamModelReferenceIdeal (hAdamModelKernelIdeal := hAdamModelKernelIdeal) (hAdamModelReferenceIdeal := hAdamModelReferenceIdeal)
    ∧ preserves_AdamConvKernel_AdamConvKernelIdeal
    ∧ algebraic_AdamConvKernelIdeal_AdamConvReferenceIdeal (hAdamConvKernelIdeal := hAdamConvKernelIdeal) (hAdamConvReferenceIdeal := hAdamConvReferenceIdeal)
    ∧ preserves_AdamLatentKernel_AdamLatentKernelIdeal
    ∧ algebraic_AdamLatentKernelIdeal_AdamLatentReferenceIdeal (hAdamLatentKernelIdeal := hAdamLatentKernelIdeal) (hAdamLatentReferenceIdeal := hAdamLatentReferenceIdeal)
    ∧ preserves_AdamHeadKernel_AdamHeadKernelIdeal
    ∧ algebraic_AdamHeadKernelIdeal_AdamHeadReferenceIdeal (hAdamHeadKernelIdeal := hAdamHeadKernelIdeal) (hAdamHeadReferenceIdeal := hAdamHeadReferenceIdeal)
    ∧ preserves_AdamTapsKernel_AdamTapsKernelIdeal
    ∧ algebraic_AdamTapsKernelIdeal_AdamTapsReferenceIdeal (hAdamTapsKernelIdeal := hAdamTapsKernelIdeal) (hAdamTapsReferenceIdeal := hAdamTapsReferenceIdeal)
    ∧ preserves_AdamBiasKernel_AdamBiasKernelIdeal
    ∧ algebraic_AdamBiasKernelIdeal_AdamBiasReferenceIdeal (hAdamBiasKernelIdeal := hAdamBiasKernelIdeal) (hAdamBiasReferenceIdeal := hAdamBiasReferenceIdeal)
    ∧ preserves_AdamFfnKernel_AdamFfnKernelIdeal
    ∧ algebraic_AdamFfnKernelIdeal_AdamFfnReferenceIdeal (hAdamFfnKernelIdeal := hAdamFfnKernelIdeal) (hAdamFfnReferenceIdeal := hAdamFfnReferenceIdeal)
    ∧ preserves_AdamWinKernel_AdamWinKernelIdeal
    ∧ algebraic_AdamWinKernelIdeal_AdamWinReferenceIdeal (hAdamWinKernelIdeal := hAdamWinKernelIdeal) (hAdamWinReferenceIdeal := hAdamWinReferenceIdeal)
    ∧ preserves_AdamCoutKernel_AdamCoutKernelIdeal
    ∧ algebraic_AdamCoutKernelIdeal_AdamCoutReferenceIdeal (hAdamCoutKernelIdeal := hAdamCoutKernelIdeal) (hAdamCoutReferenceIdeal := hAdamCoutReferenceIdeal)
    ∧ preserves_AdamUqKernel_AdamUqKernelIdeal
    ∧ algebraic_AdamUqKernelIdeal_AdamUqReferenceIdeal (hAdamUqKernelIdeal := hAdamUqKernelIdeal) (hAdamUqReferenceIdeal := hAdamUqReferenceIdeal)
    ∧ preserves_AdamUkvKernel_AdamUkvKernelIdeal
    ∧ algebraic_AdamUkvKernelIdeal_AdamUkvReferenceIdeal (hAdamUkvKernelIdeal := hAdamUkvKernelIdeal) (hAdamUkvReferenceIdeal := hAdamUkvReferenceIdeal)
    ∧ preserves_AdamWoutKernel_AdamWoutKernelIdeal
    ∧ algebraic_AdamWoutKernelIdeal_AdamWoutReferenceIdeal (hAdamWoutKernelIdeal := hAdamWoutKernelIdeal) (hAdamWoutReferenceIdeal := hAdamWoutReferenceIdeal)
    ∧ preserves_SumGateupKernel_SumGateupKernelIdeal
    ∧ algebraic_SumGateupKernelIdeal_SumGateupReferenceIdeal (hSumGateupKernelIdeal := hSumGateupKernelIdeal) (hSumGateupReferenceIdeal := hSumGateupReferenceIdeal)
    ∧ preserves_SumDownKernel_SumDownKernelIdeal
    ∧ algebraic_SumDownKernelIdeal_SumDownReferenceIdeal (hSumDownKernelIdeal := hSumDownKernelIdeal) (hSumDownReferenceIdeal := hSumDownReferenceIdeal)
    ∧ preserves_SumMixKernel_SumMixKernelIdeal
    ∧ algebraic_SumMixKernelIdeal_SumMixReferenceIdeal (hSumMixKernelIdeal := hSumMixKernelIdeal) (hSumMixReferenceIdeal := hSumMixReferenceIdeal)
    ∧ preserves_SumSmallKernel_SumSmallKernelIdeal
    ∧ algebraic_SumSmallKernelIdeal_SumSmallReferenceIdeal (hSumSmallKernelIdeal := hSumSmallKernelIdeal) (hSumSmallReferenceIdeal := hSumSmallReferenceIdeal)
    ∧ preserves_LossGradKernel_LossGradKernelIdeal
    ∧ algebraic_LossGradKernelIdeal_LossGradReferenceIdeal (hLossGradKernelIdeal := hLossGradKernelIdeal) (hLossGradReferenceIdeal := hLossGradReferenceIdeal)
    ∧ preserves_ConvOutKernel_ConvOutKernelIdeal
    ∧ algebraic_ConvOutKernelIdeal_ConvOutReferenceIdeal (hConvOutKernelIdeal := hConvOutKernelIdeal) (hConvOutReferenceIdeal := hConvOutReferenceIdeal)
    ∧ preserves_ConvDcKernel_ConvDcKernelIdeal
    ∧ algebraic_ConvDcKernelIdeal_ConvDcReferenceIdeal (hConvDcKernelIdeal := hConvDcKernelIdeal) (hConvDcReferenceIdeal := hConvDcReferenceIdeal)
    ∧ preserves_ConvDwoutKernel_ConvDwoutKernelIdeal
    ∧ algebraic_ConvDwoutKernelIdeal_ConvDwoutReferenceIdeal (hConvDwoutKernelIdeal := hConvDwoutKernelIdeal) (hConvDwoutReferenceIdeal := hConvDwoutReferenceIdeal)
    ∧ preserves_MlaOutKernel_MlaOutKernelIdeal
    ∧ algebraic_MlaOutKernelIdeal_MlaOutReferenceIdeal (hMlaOutKernelIdeal := hMlaOutKernelIdeal) (hMlaOutReferenceIdeal := hMlaOutReferenceIdeal)
    ∧ preserves_MlaDoKernel_MlaDoKernelIdeal
    ∧ algebraic_MlaDoKernelIdeal_MlaDoReferenceIdeal (hMlaDoKernelIdeal := hMlaDoKernelIdeal) (hMlaDoReferenceIdeal := hMlaDoReferenceIdeal)
    ∧ preserves_MlaDwoutKernel_MlaDwoutKernelIdeal
    ∧ algebraic_MlaDwoutKernelIdeal_MlaDwoutReferenceIdeal (hMlaDwoutKernelIdeal := hMlaDwoutKernelIdeal) (hMlaDwoutReferenceIdeal := hMlaDwoutReferenceIdeal)
-- ==== Pre_ffn_bwd_up_finite.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x2816 .f32) (main_arg1 : FVec F S4096x2816 .f32) (main_arg2 : FVec F S2816x1024 .f32) (main_arg3 : FVec F S4096x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_ffn_dh_rms_finite.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part2 {F : FTy → Type} [FloatOps F] (main_v30 : IVec S_ 1) (main_v33 : IVec S4096x1024 1) (main_c_11 : IVec S_ 1) : IVec S_ 1 :=
  let main_v34 : IVec S_ 1 := (fun x v => Host.reduce IntOp.andi x v reducesTo_S4096x1024_S_d0_1 h_S_) main_v33 main_c_11
  let main_v35 : IVec S_ 1 := andi main_v30 main_v34
  main_v35

def fn_part1 {F : FTy → Type} [FloatOps F] (main_arg6 : FVec F S4096x1024 .f32) (main_v0 : FVec F S4096x2816 .f32) (main_v1 : FVec F S4096x2816 .f32) (main_v15 : IVec S_ 1) (main_v16 : FVec F S1024x2816 .f32) (main_cst_4 : FVec F S_ .f32) : IVec S_ 1 :=
  let main_v17 : FVec F S1024x2816 .f32 := broadcastInDim S1024x2816 ![] bcast_S_S1024x2816 main_cst_4
  let main_v18 : IVec S1024x2816 1 := cmpf .olt main_v16 main_v17
  let main_c_5 : IVec S_ 1 := constantI S_ 1 1#1
  let main_v19 : IVec S_ 1 := (fun x v => Host.reduce IntOp.andi x v reducesTo_S1024x2816_S_d0_1 h_S_) main_v18 main_c_5
  let main_v20 : IVec S_ 1 := andi main_v15 main_v19
  let main_v21 : FVec F S4096x2816 .f32 := Host.absf main_v0
  let main_cst_6 : FVec F S_ .f32 := constant S_ .f32 0x7F800000#32
  let main_v22 : FVec F S4096x2816 .f32 := broadcastInDim S4096x2816 ![] bcast_S_S4096x2816 main_cst_6
  let main_v23 : IVec S4096x2816 1 := cmpf .olt main_v21 main_v22
  let main_c_7 : IVec S_ 1 := constantI S_ 1 1#1
  let main_v24 : IVec S_ 1 := (fun x v => Host.reduce IntOp.andi x v reducesTo_S4096x2816_S_d0_1 h_S_) main_v23 main_c_7
  let main_v25 : IVec S_ 1 := andi main_v20 main_v24
  let main_v26 : FVec F S4096x2816 .f32 := Host.absf main_v1
  let main_cst_8 : FVec F S_ .f32 := constant S_ .f32 0x7F800000#32
  let main_v27 : FVec F S4096x2816 .f32 := broadcastInDim S4096x2816 ![] bcast_S_S4096x2816 main_cst_8
  let main_v28 : IVec S4096x2816 1 := cmpf .olt main_v26 main_v27
  let main_c_9 : IVec S_ 1 := constantI S_ 1 1#1
  let main_v29 : IVec S_ 1 := (fun x v => Host.reduce IntOp.andi x v reducesTo_S4096x2816_S_d0_1 h_S_) main_v28 main_c_9
  let main_v30 : IVec S_ 1 := andi main_v25 main_v29
  let main_v31 : FVec F S4096x1024 .f32 := Host.absf main_arg6
  let main_cst_10 : FVec F S_ .f32 := constant S_ .f32 0x7F800000#32
  let main_v32 : FVec F S4096x1024 .f32 := broadcastInDim S4096x1024 ![] bcast_S_S4096x1024 main_cst_10
  let main_v33 : IVec S4096x1024 1 := cmpf .olt main_v31 main_v32
  let main_c_11 : IVec S_ 1 := constantI S_ 1 1#1
  fn_part2 (F := F) main_v30 main_v33 main_c_11

def fn {F : FTy → Type} [FloatOps F] (main_arg0 : FVec F S4096x1024 .f32) (main_arg1 : FVec F S1024 .f32) (main_arg2 : FVec F S1024x2816 .f32) (main_arg3 : FVec F S1024x2816 .f32) (main_arg4 : FVec F S4096x2816 .bf16) (main_arg5 : FVec F S4096x2816 .bf16) (main_arg6 : FVec F S4096x1024 .f32) : IVec S_ 1 :=
  let main_v0 : FVec F S4096x2816 .f32 := (extf .f32 · bitsLt_bf16_f32) main_arg4
  let main_v1 : FVec F S4096x2816 .f32 := (extf .f32 · bitsLt_bf16_f32) main_arg5
  let main_v2 : FVec F S4096x1024 .f32 := Host.absf main_arg0
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_c : IVec S_ 1 := constantI S_ 1 1#1
  let main_v5 : IVec S_ 1 := (fun x v => Host.reduce IntOp.andi x v reducesTo_S4096x1024_S_d0_1 h_S_) main_v4 main_c
  let main_v6 : FVec F S1024 .f32 := Host.absf main_arg1
  let main_cst_0 : FVec F S_ .f32 := constant S_ .f32 0x7F800000#32
  let main_v7 : FVec F S1024 .f32 := broadcastInDim S1024 ![] bcast_S_S1024 main_cst_0
  let main_v8 : IVec S1024 1 := cmpf .olt main_v6 main_v7
  let main_c_1 : IVec S_ 1 := constantI S_ 1 1#1
  let main_v9 : IVec S_ 1 := (fun x v => Host.reduce IntOp.andi x v reducesTo_S1024_S_d0 h_S_) main_v8 main_c_1
  let main_v10 : IVec S_ 1 := andi main_v5 main_v9
  let main_v11 : FVec F S1024x2816 .f32 := Host.absf main_arg2
  let main_cst_2 : FVec F S_ .f32 := constant S_ .f32 0x7F800000#32
  let main_v12 : FVec F S1024x2816 .f32 := broadcastInDim S1024x2816 ![] bcast_S_S1024x2816 main_cst_2
  let main_v13 : IVec S1024x2816 1 := cmpf .olt main_v11 main_v12
  let main_c_3 : IVec S_ 1 := constantI S_ 1 1#1
  let main_v14 : IVec S_ 1 := (fun x v => Host.reduce IntOp.andi x v reducesTo_S1024x2816_S_d0_1 h_S_) main_v13 main_c_3
  let main_v15 : IVec S_ 1 := andi main_v10 main_v14
  let main_v16 : FVec F S1024x2816 .f32 := Host.absf main_arg3
  let main_cst_4 : FVec F S_ .f32 := constant S_ .f32 0x7F800000#32
  fn_part1 (F := F) main_arg6 main_v0 main_v1 main_v15 main_v16 main_cst_4
-- ==== Pre_ffn_up_finite.lean ====
abbrev S4096x1024 : Shape := ⟨2, ![4096, 1024]⟩
abbrev S1024x2816 : Shape := ⟨2, ![1024, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S4096x1024 .bf16) (main_arg1 : FVec F S1024x2816 .f32) (main_arg2 : FVec F S1024x2816 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1024x2816 .f32 := Host.absf main_arg1
  let main_cst_0 : FVec F S_ .f32 := constant S_ .f32 0x7F800000#32
  let main_v6 : FVec F S1024x2816 .f32 := broadcastInDim S1024x2816 ![] bcast_S_S1024x2816 main_cst_0
  let main_v7 : IVec S1024x2816 1 := cmpf .olt main_v5 main_v6
  let main_c_1 : IVec S_ 1 := constantI S_ 1 1#1
  let main_v8 : IVec S_ 1 := (fun x v => Host.reduce IntOp.andi x v reducesTo_S1024x2816_S_d0_1 h_S_) main_v7 main_c_1
  let main_v9 : IVec S_ 1 := andi main_v4 main_v8
  let main_v10 : FVec F S1024x2816 .f32 := Host.absf main_arg2
  let main_cst_2 : FVec F S_ .f32 := constant S_ .f32 0x7F800000#32
  let main_v11 : FVec F S1024x2816 .f32 := broadcastInDim S1024x2816 ![] bcast_S_S1024x2816 main_cst_2
  let main_v12 : IVec S1024x2816 1 := cmpf .olt main_v10 main_v11
  let main_c_3 : IVec S_ 1 := constantI S_ 1 1#1
  let main_v13 : IVec S_ 1 := (fun x v => Host.reduce IntOp.andi x v reducesTo_S1024x2816_S_d0_1 h_S_) main_v12 main_c_3
  let main_v14 : IVec S_ 1 := andi main_v9 main_v13
  main_v14
-- ==== Pre_proj_dh_rms_finite.lean ====
abbrev S4096x1024 : Shape := ⟨2, ![4096, 1024]⟩
abbrev S1024 : Shape := ⟨1, ![1024]⟩
abbrev S1024x1024 : Shape := ⟨2, ![1024, 1024]⟩
abbrev S1024x640 : Shape := ⟨2, ![1024, 640]⟩
abbrev S1024x2048 : Shape := ⟨2, ![1024, 2048]⟩
abbrev S4096x640 : Shape := ⟨2, ![4096, 640]⟩
abbrev S4096x2048 : Shape := ⟨2, ![4096, 2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x640 : S_.BroadcastsInDim S1024x640 (![] : Fin 0 → Fin S1024x640.rank)
  reducesTo_S1024x640_S_d0_1 : S1024x640.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S4096x640 : S_.BroadcastsInDim S4096x640 (![] : Fin 0 → Fin S4096x640.rank)
  reducesTo_S4096x640_S_d0_1 : S4096x640.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part2 {F : FTy → Type} [FloatOps F] (main_arg8 : FVec F S4096x1024 .f32) (main_v2 : FVec F S4096x2048 .f32) (main_v31 : IVec S_ 1) (main_v34 : IVec S4096x640 1) : IVec S_ 1 :=
  let main_c_11 : IVec S_ 1 := constantI S_ 1 1#1
  let main_v35 : IVec S_ 1 := (fun x v => Host.reduce IntOp.andi x v reducesTo_S4096x640_S_d0_1 h_S_) main_v34 main_c_11
  let main_v36 : IVec S_ 1 := andi main_v31 main_v35
  let main_v37 : FVec F S4096x2048 .f32 := Host.absf main_v2
  let main_cst_12 : FVec F S_ .f32 := constant S_ .f32 0x7F800000#32
  let main_v38 : FVec F S4096x2048 .f32 := broadcastInDim S4096x2048 ![] bcast_S_S4096x2048 main_cst_12
  let main_v39 : IVec S4096x2048 1 := cmpf .olt main_v37 main_v38
  let main_c_13 : IVec S_ 1 := constantI S_ 1 1#1
  let main_v40 : IVec S_ 1 := (fun x v => Host.reduce IntOp.andi x v reducesTo_S4096x2048_S_d0_1 h_S_) main_v39 main_c_13
  let main_v41 : IVec S_ 1 := andi main_v36 main_v40
  let main_v42 : FVec F S4096x1024 .f32 := Host.absf main_arg8
  let main_cst_14 : FVec F S_ .f32 := constant S_ .f32 0x7F800000#32
  let main_v43 : FVec F S4096x1024 .f32 := broadcastInDim S4096x1024 ![] bcast_S_S4096x1024 main_cst_14
  let main_v44 : IVec S4096x1024 1 := cmpf .olt main_v42 main_v43
  let main_c_15 : IVec S_ 1 := constantI S_ 1 1#1
  let main_v45 : IVec S_ 1 := (fun x v => Host.reduce IntOp.andi x v reducesTo_S4096x1024_S_d0_1 h_S_) main_v44 main_c_15
  let main_v46 : IVec S_ 1 := andi main_v41 main_v45
  main_v46

def fn_part1 {F : FTy → Type} [FloatOps F] (main_arg4 : FVec F S1024x2048 .f32) (main_arg8 : FVec F S4096x1024 .f32) (main_v0 : FVec F S4096x1024 .f32) (main_v1 : FVec F S4096x640 .f32) (main_v2 : FVec F S4096x2048 .f32) (main_v16 : IVec S_ 1) (main_v17 : FVec F S1024x640 .f32) : IVec S_ 1 :=
  let main_cst_4 : FVec F S_ .f32 := constant S_ .f32 0x7F800000#32
  let main_v18 : FVec F S1024x640 .f32 := broadcastInDim S1024x640 ![] bcast_S_S1024x640 main_cst_4
  let main_v19 : IVec S1024x640 1 := cmpf .olt main_v17 main_v18
  let main_c_5 : IVec S_ 1 := constantI S_ 1 1#1
  let main_v20 : IVec S_ 1 := (fun x v => Host.reduce IntOp.andi x v reducesTo_S1024x640_S_d0_1 h_S_) main_v19 main_c_5
  let main_v21 : IVec S_ 1 := andi main_v16 main_v20
  let main_v22 : FVec F S1024x2048 .f32 := Host.absf main_arg4
  let main_cst_6 : FVec F S_ .f32 := constant S_ .f32 0x7F800000#32
  let main_v23 : FVec F S1024x2048 .f32 := broadcastInDim S1024x2048 ![] bcast_S_S1024x2048 main_cst_6
  let main_v24 : IVec S1024x2048 1 := cmpf .olt main_v22 main_v23
  let main_c_7 : IVec S_ 1 := constantI S_ 1 1#1
  let main_v25 : IVec S_ 1 := (fun x v => Host.reduce IntOp.andi x v reducesTo_S1024x2048_S_d0_1 h_S_) main_v24 main_c_7
  let main_v26 : IVec S_ 1 := andi main_v21 main_v25
  let main_v27 : FVec F S4096x1024 .f32 := Host.absf main_v0
  let main_cst_8 : FVec F S_ .f32 := constant S_ .f32 0x7F800000#32
  let main_v28 : FVec F S4096x1024 .f32 := broadcastInDim S4096x1024 ![] bcast_S_S4096x1024 main_cst_8
  let main_v29 : IVec S4096x1024 1 := cmpf .olt main_v27 main_v28
  let main_c_9 : IVec S_ 1 := constantI S_ 1 1#1
  let main_v30 : IVec S_ 1 := (fun x v => Host.reduce IntOp.andi x v reducesTo_S4096x1024_S_d0_1 h_S_) main_v29 main_c_9
  let main_v31 : IVec S_ 1 := andi main_v26 main_v30
  let main_v32 : FVec F S4096x640 .f32 := Host.absf main_v1
  let main_cst_10 : FVec F S_ .f32 := constant S_ .f32 0x7F800000#32
  let main_v33 : FVec F S4096x640 .f32 := broadcastInDim S4096x640 ![] bcast_S_S4096x640 main_cst_10
  let main_v34 : IVec S4096x640 1 := cmpf .olt main_v32 main_v33
  fn_part2 (F := F) main_arg8 main_v2 main_v31 main_v34

def fn {F : FTy → Type} [FloatOps F] (main_arg0 : FVec F S4096x1024 .f32) (main_arg1 : FVec F S1024 .f32) (main_arg2 : FVec F S1024x1024 .f32) (main_arg3 : FVec F S1024x640 .f32) (main_arg4 : FVec F S1024x2048 .f32) (main_arg5 : FVec F S4096x1024 .bf16) (main_arg6 : FVec F S4096x640 .bf16) (main_arg7 : FVec F S4096x2048 .bf16) (main_arg8 : FVec F S4096x1024 .f32) : IVec S_ 1 :=
  let main_v0 : FVec F S4096x1024 .f32 := (extf .f32 · bitsLt_bf16_f32) main_arg5
  let main_v1 : FVec F S4096x640 .f32 := (extf .f32 · bitsLt_bf16_f32) main_arg6
  let main_v2 : FVec F S4096x2048 .f32 := (extf .f32 · bitsLt_bf16_f32) main_arg7
  let main_v3 : FVec F S4096x1024 .f32 := Host.absf main_arg0
  let main_cst : FVec F S_ .f32 := constant S_ .f32 0x7F800000#32
  let main_v4 : FVec F S4096x1024 .f32 := broadcastInDim S4096x1024 ![] bcast_S_S4096x1024 main_cst
  let main_v5 : IVec S4096x1024 1 := cmpf .olt main_v3 main_v4
  let main_c : IVec S_ 1 := constantI S_ 1 1#1
  let main_v6 : IVec S_ 1 := (fun x v => Host.reduce IntOp.andi x v reducesTo_S4096x1024_S_d0_1 h_S_) main_v5 main_c
  let main_v7 : FVec F S1024 .f32 := Host.absf main_arg1
  let main_cst_0 : FVec F S_ .f32 := constant S_ .f32 0x7F800000#32
  let main_v8 : FVec F S1024 .f32 := broadcastInDim S1024 ![] bcast_S_S1024 main_cst_0
  let main_v9 : IVec S1024 1 := cmpf .olt main_v7 main_v8
  let main_c_1 : IVec S_ 1 := constantI S_ 1 1#1
  let main_v10 : IVec S_ 1 := (fun x v => Host.reduce IntOp.andi x v reducesTo_S1024_S_d0 h_S_) main_v9 main_c_1
  let main_v11 : IVec S_ 1 := andi main_v6 main_v10
  let main_v12 : FVec F S1024x1024 .f32 := Host.absf main_arg2
  let main_cst_2 : FVec F S_ .f32 := constant S_ .f32 0x7F800000#32
  let main_v13 : FVec F S1024x1024 .f32 := broadcastInDim S1024x1024 ![] bcast_S_S1024x1024 main_cst_2
  let main_v14 : IVec S1024x1024 1 := cmpf .olt main_v12 main_v13
  let main_c_3 : IVec S_ 1 := constantI S_ 1 1#1
  let main_v15 : IVec S_ 1 := (fun x v => Host.reduce IntOp.andi x v reducesTo_S1024x1024_S_d0_1 h_S_) main_v14 main_c_3
  let main_v16 : IVec S_ 1 := andi main_v11 main_v15
  let main_v17 : FVec F S1024x640 .f32 := Host.absf main_arg3
  fn_part1 (F := F) main_arg4 main_arg8 main_v0 main_v1 main_v2 main_v16 main_v17
-- ==== GateKernel.lean ====
abbrev S4096x2048 : Shape := ⟨2, ![4096, 2048]⟩
abbrev S2x1024 : Shape := ⟨2, ![2, 1024]⟩
abbrev S4096x1024 : Shape := ⟨2, ![4096, 1024]⟩
abbrev S512x1024 : Shape := ⟨2, ![512, 1024]⟩
abbrev S512x2048 : Shape := ⟨2, ![512, 2048]⟩
abbrev S1x1024 : Shape := ⟨2, ![1, 1024]⟩
abbrev S1024 : Shape := ⟨1, ![1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S2x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S4096x2048, .bf16⟩
  | .hbm, ⟨8, _⟩ => ⟨S2x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S2x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GateReferenceIdeal.lean ====
abbrev S4096x2048 : Shape := ⟨2, ![4096, 2048]⟩
abbrev S2x1024 : Shape := ⟨2, ![2, 1024]⟩
abbrev S4096x1024 : Shape := ⟨2, ![4096, 1024]⟩
abbrev S4096x2x1024 : Shape := ⟨3, ![4096, 2, 1024]⟩
abbrev S1x2x1024 : Shape := ⟨3, ![1, 2, 1024]⟩
abbrev S_ : Shape := ⟨0, ![]⟩
abbrev S4096x1x1024 : Shape := ⟨3, ![4096, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x2x1024, .f32⟩
  | .hbm, ⟨6, _⟩ => ⟨S1x2x1024, .f32⟩
  | .hbm, ⟨7, _⟩ => ⟨S4096x2x1024, .f32⟩
  | .hbm, ⟨8, _⟩ => ⟨S4096x2x1024, .f32⟩
  | .hbm, ⟨9, _⟩ => ⟨S4096x2x1024, .f32⟩
  | .hbm, ⟨10, _⟩ => ⟨S4096x2x1024, .f32⟩
  | .hbm, ⟨11, _⟩ => ⟨S_, .f32⟩
  | .hbm, ⟨12, _⟩ => ⟨S4096x2x1024, .f32⟩
  | .hbm, ⟨13, _⟩ => ⟨S4096x2x1024, .f32⟩
  | .hbm, ⟨14, _⟩ => ⟨S_, .f32⟩
  | .hbm, ⟨15, _⟩ => ⟨S4096x2x1024, .f32⟩
  | .hbm, ⟨16, _⟩ => ⟨S4096x2x1024, .f32⟩
  | .hbm, ⟨17, _⟩ => ⟨S_, .f32⟩
  | .hbm, ⟨18, _⟩ => ⟨S4096x2x1024, .f32⟩
  | .hbm, ⟨19, _⟩ => ⟨S4096x2x1024, .f32⟩
  | .hbm, ⟨20, _⟩ => ⟨S4096x2x1024, .f32⟩
  | .hbm, ⟨21, _⟩ => ⟨S4096x1x1024, .f32⟩
  | .hbm, ⟨22, _⟩ => ⟨S4096x1024, .f32⟩
  | .hbm, ⟨23, _⟩ => ⟨S4096x1024, .f32⟩
  | .hbm, ⟨24, _⟩ => ⟨S4096x1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1x1024, .f32⟩
  | .hbm, ⟨33, _⟩ => ⟨S_, .f32⟩
  | .hbm, ⟨34, _⟩ => ⟨S4096x2x1024, .f32⟩
  | .hbm, ⟨35, _⟩ => ⟨S4096x1024, .f32⟩
  | .hbm, ⟨36, _⟩ => ⟨S4096x1024, .f32⟩
  | .hbm, ⟨37, _⟩ => ⟨S4096x1x1024, .f32⟩
  | .hbm, ⟨38, _⟩ => ⟨S_, .f32⟩
  | .hbm, ⟨39, _⟩ => ⟨S4096x2x1024, .f32⟩
  | .hbm, ⟨40, _⟩ => ⟨S4096x2x1024, .f32⟩
  | .hbm, ⟨41, _⟩ => ⟨S4096x2x1024, .f32⟩
  | .hbm, ⟨42, _⟩ => ⟨S_, .f32⟩
  | .hbm, ⟨43, _⟩ => ⟨S2x1024, .f32⟩
  | .hbm, ⟨44, _⟩ => ⟨S1x2x1024, .f32⟩
  | .hbm, ⟨45, _⟩ => ⟨S_, .f32⟩
  | .hbm, ⟨46, _⟩ => ⟨S2x1024, .f32⟩
  | .hbm, ⟨47, _⟩ => ⟨S4096x2048, .f32⟩
  | .hbm, ⟨48, _⟩ => ⟨S4096x1024, .bf16⟩
  | .hbm, ⟨49, _⟩ => ⟨S4096x1024, .bf16⟩
  | .hbm, ⟨50, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== FfnDhRmsKernel.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S8x128 : Shape := ⟨2, ![8, 128]⟩
abbrev S2816x1024 : Shape := ⟨2, ![2816, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .bf16⟩
  | .hbm, ⟨5, _⟩ => ⟨S4096x2816, .bf16⟩
  | .hbm, ⟨6, _⟩ => ⟨S4096x1024, .f32⟩
  | .hbm, ⟨7, _⟩ => ⟨S_, .f32⟩
  | .hbm, ⟨8, _⟩ => ⟨S8x128, .f32⟩
  | .hbm, ⟨9, _⟩ => ⟨S2816x1024, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S1x1024, .f32⟩
  | .hbm, ⟨14, _⟩ => ⟨S4096x1024, .f32⟩
  | .hbm, ⟨15, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnDhRmsReferenceIdeal.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .bf16⟩
  | .hbm, ⟨5, _⟩ => ⟨S4096x2816, .bf16⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== FfnBwdUpKernel.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S8x128 : Shape := ⟨2, ![8, 128]⟩
abbrev S512x1024 : Shape := ⟨2, ![512, 1024]⟩
abbrev S1408x1024 : Shape := ⟨2, ![1408, 1024]⟩
abbrev S512x1408 : Shape := ⟨2, ![512, 1408]⟩
abbrev S256x1024 : Shape := ⟨2, ![256, 1024]⟩
abbrev S512x256 : Shape := ⟨2, ![512, 256]⟩
abbrev S128x1024 : Shape := ⟨2, ![128, 1024]⟩
abbrev S512x128 : Shape := ⟨2, ![512, 128]⟩

abbrev nBuf : Space → Nat
  | .hbm => 28
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S8x128, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S2816x1024, .bf16⟩
  | .hbm, ⟨20, _⟩ => ⟨S4096x2816, .bf16⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .bf16⟩
  | .hbm, ⟨26, _⟩ => ⟨S4096x2816, .bf16⟩
  | .hbm, ⟨27, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v4 : Ref sig .tc := ⟨.hbm, 24, rfl⟩
abbrev main_v5 : Ref sig .tc := ⟨.hbm, 25, rfl⟩
abbrev main_v6_0 : Ref sig .tc := ⟨.hbm, 26, rfl⟩
abbrev main_v6_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnBwdUpReferenceIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .bf16⟩
  | .hbm, ⟨33, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== FfnDwgKernel.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwgReferenceIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnDwdKernel.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwdReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== FfnUpKernel.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩
abbrev S256x1024 : Shape := ⟨2, ![256, 1024]⟩
abbrev S512x256 : Shape := ⟨2, ![512, 256]⟩
abbrev S128x1024 : Shape := ⟨2, ![128, 1024]⟩
abbrev S512x128 : Shape := ⟨2, ![512, 128]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2816x1024, .bf16⟩
  | .hbm, ⟨5, _⟩ => ⟨S2816x1024, .f32⟩
  | .hbm, ⟨6, _⟩ => ⟨S2816x1024, .bf16⟩
  | .hbm, ⟨7, _⟩ => ⟨S4096x2816, .bf16⟩
  | .hbm, ⟨8, _⟩ => ⟨S4096x2816, .bf16⟩
  | .hbm, ⟨9, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpReferenceIdeal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S4096x2816, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .bf16⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .bf16⟩
  | .hbm, ⟨26, _⟩ => ⟨S4096x2816, .f32⟩
  | .hbm, ⟨27, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== FfnDownNormKernel.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S2816x1024, .bf16⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDownNormReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== FfnDownKernel.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S2816x1024, .bf16⟩
  | .hbm, ⟨4, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownReferenceIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== ProjDhRmsKernel.lean ====
abbrev S4096x1024 : Shape := ⟨2, ![4096, 1024]⟩
abbrev S1024 : Shape := ⟨1, ![1024]⟩
abbrev S1024x1024 : Shape := ⟨2, ![1024, 1024]⟩
abbrev S1024x640 : Shape := ⟨2, ![1024, 640]⟩
abbrev S1024x2048 : Shape := ⟨2, ![1024, 2048]⟩
abbrev S4096x640 : Shape := ⟨2, ![4096, 640]⟩
abbrev S4096x2048 : Shape := ⟨2, ![4096, 2048]⟩
abbrev S_ : Shape := ⟨0, ![]⟩
abbrev S8x128 : Shape := ⟨2, ![8, 128]⟩
abbrev S640x1024 : Shape := ⟨2, ![640, 1024]⟩
abbrev S2048x1024 : Shape := ⟨2, ![2048, 1024]⟩
abbrev S1x1024 : Shape := ⟨2, ![1, 1024]⟩
abbrev S256x1024 : Shape := ⟨2, ![256, 1024]⟩
abbrev S256x640 : Shape := ⟨2, ![256, 640]⟩
abbrev S256x2048 : Shape := ⟨2, ![256, 2048]⟩
abbrev S256 : Shape := ⟨1, ![256]⟩
abbrev S256x1 : Shape := ⟨2, ![256, 1]⟩

abbrev nBuf : Space → Nat
  | .hbm => 20
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S1024x640, .f32⟩
  | .hbm, ⟨4, _⟩ => ⟨S1024x2048, .f32⟩
  | .hbm, ⟨5, _⟩ => ⟨S4096x1024, .bf16⟩
  | .hbm, ⟨6, _⟩ => ⟨S4096x640, .bf16⟩
  | .hbm, ⟨7, _⟩ => ⟨S4096x2048, .bf16⟩
  | .hbm, ⟨8, _⟩ => ⟨S4096x1024, .f32⟩
  | .hbm, ⟨9, _⟩ => ⟨S_, .f32⟩
  | .hbm, ⟨10, _⟩ => ⟨S8x128, .f32⟩
  | .hbm, ⟨11, _⟩ => ⟨S1024x1024, .f32⟩
  | .hbm, ⟨12, _⟩ => ⟨S1024x1024, .bf16⟩
  | .hbm, ⟨13, _⟩ => ⟨S640x1024, .f32⟩
  | .hbm, ⟨14, _⟩ => ⟨S640x1024, .bf16⟩
  | .hbm, ⟨15, _⟩ => ⟨S2048x1024, .f32⟩
  | .hbm, ⟨16, _⟩ => ⟨S2048x1024, .bf16⟩
  | .hbm, ⟨17, _⟩ => ⟨S1x1024, .f32⟩
  | .hbm, ⟨18, _⟩ => ⟨S4096x1024, .f32⟩
  | .hbm, ⟨19, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x640, .bf16⟩
  | .local _ .vmem, ⟨4, _⟩ => ⟨S256x640, .bf16⟩
  | .local _ .vmem, ⟨5, _⟩ => ⟨S640x1024, .bf16⟩
  | .local _ .vmem, ⟨6, _⟩ => ⟨S256x2048, .bf16⟩
  | .local _ .vmem, ⟨7, _⟩ => ⟨S256x2048, .bf16⟩
  | .local _ .vmem, ⟨8, _⟩ => ⟨S2048x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S640x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ProjDhRmsReferenceIdeal.lean ====
abbrev S4096x1024 : Shape := ⟨2, ![4096, 1024]⟩
abbrev S1024 : Shape := ⟨1, ![1024]⟩
abbrev S1024x1024 : Shape := ⟨2, ![1024, 1024]⟩
abbrev S1024x640 : Shape := ⟨2, ![1024, 640]⟩
abbrev S1024x2048 : Shape := ⟨2, ![1024, 2048]⟩
abbrev S4096x640 : Shape := ⟨2, ![4096, 640]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S1024x640, .f32⟩
  | .hbm, ⟨4, _⟩ => ⟨S1024x2048, .f32⟩
  | .hbm, ⟨5, _⟩ => ⟨S4096x1024, .bf16⟩
  | .hbm, ⟨6, _⟩ => ⟨S4096x640, .bf16⟩
  | .hbm, ⟨7, _⟩ => ⟨S4096x2048, .bf16⟩
  | .hbm, ⟨8, _⟩ => ⟨S4096x1024, .f32⟩
  | .hbm, ⟨9, _⟩ => ⟨S4096x1024, .f32⟩
  | .hbm, ⟨10, _⟩ => ⟨S4096x640, .f32⟩
  | .hbm, ⟨11, _⟩ => ⟨S4096x2048, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x640, .f32⟩
  | .hbm, ⟨34, _⟩ => ⟨S4096x2048, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== ProjCKernel.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .f32⟩
  | .hbm, ⟨3, _⟩ => ⟨S1024x1024, .bf16⟩
  | .hbm, ⟨4, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjCReferenceIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjDwcKernel.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjDwcReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ProjLKernel.lean ====
abbrev S4096x1024 : Shape := ⟨2, ![4096, 1024]⟩
abbrev S1024x640 : Shape := ⟨2, ![1024, 640]⟩
abbrev S640x1024 : Shape := ⟨2, ![640, 1024]⟩
abbrev S4096x640 : Shape := ⟨2, ![4096, 640]⟩
abbrev S512x1024 : Shape := ⟨2, ![512, 1024]⟩
abbrev S512x640 : Shape := ⟨2, ![512, 640]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x640, .f32⟩
  | .hbm, ⟨2, _⟩ => ⟨S640x1024, .f32⟩
  | .hbm, ⟨3, _⟩ => ⟨S640x1024, .bf16⟩
  | .hbm, ⟨4, _⟩ => ⟨S4096x640, .f32⟩
  | .local _ .vmem, ⟨0, _⟩ => ⟨S512x1024, .bf16⟩
  | .local _ .vmem, ⟨1, _⟩ => ⟨S512x1024, .bf16⟩
  | .local _ .vmem, ⟨2, _⟩ => ⟨S640x1024, .bf16⟩
  | .local _ .vmem, ⟨3, _⟩ => ⟨S512x640, .f32⟩
  | .local _ .vmem, ⟨4, _⟩ => ⟨S512x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S640x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjLReferenceIdeal.lean ====
abbrev S4096x1024 : Shape := ⟨2, ![4096, 1024]⟩
abbrev S1024x640 : Shape := ⟨2, ![1024, 640]⟩
abbrev S4096x640 : Shape := ⟨2, ![4096, 640]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x640, .f32⟩
  | .hbm, ⟨2, _⟩ => ⟨S4096x1024, .f32⟩
  | .hbm, ⟨3, _⟩ => ⟨S4096x640, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjDwlKernel.lean ====
abbrev S4096x640 : Shape := ⟨2, ![4096, 640]⟩
abbrev S4096x1024 : Shape := ⟨2, ![4096, 1024]⟩
abbrev S640x1024 : Shape := ⟨2, ![640, 1024]⟩
abbrev S1024x640 : Shape := ⟨2, ![1024, 640]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x640, .bf16⟩
  | .hbm, ⟨1, _⟩ => ⟨S4096x1024, .bf16⟩
  | .hbm, ⟨2, _⟩ => ⟨S640x1024, .bf16⟩
  | .local _ .vmem, ⟨0, _⟩ => ⟨S1024x640, .bf16⟩
  | .local _ .vmem, ⟨1, _⟩ => ⟨S1024x640, .bf16⟩
  | .local _ .vmem, ⟨2, _⟩ => ⟨S1024x1024, .bf16⟩
  | .local _ .vmem, ⟨3, _⟩ => ⟨S1024x1024, .bf16⟩
  | .local _ .vmem, ⟨4, _⟩ => ⟨S640x1024, .bf16⟩
  | .local _ .vmem, ⟨5, _⟩ => ⟨S640x1024, .f32⟩
  | _, _ => ⟨S4096x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S640x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjDwlReferenceIdeal.lean ====
abbrev S4096x640 : Shape := ⟨2, ![4096, 640]⟩
abbrev S4096x1024 : Shape := ⟨2, ![4096, 1024]⟩
abbrev S_ : Shape := ⟨0, ![]⟩
abbrev S1024x640 : Shape := ⟨2, ![1024, 640]⟩
abbrev S640x1024 : Shape := ⟨2, ![640, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x640, .bf16⟩
  | .hbm, ⟨1, _⟩ => ⟨S4096x1024, .bf16⟩
  | .hbm, ⟨2, _⟩ => ⟨S_, .f32⟩
  | .hbm, ⟨3, _⟩ => ⟨S1024x640, .f32⟩
  | .hbm, ⟨4, _⟩ => ⟨S4096x1024, .f32⟩
  | .hbm, ⟨5, _⟩ => ⟨S4096x640, .f32⟩
  | .hbm, ⟨6, _⟩ => ⟨S4096x640, .f32⟩
  | .hbm, ⟨7, _⟩ => ⟨S640x1024, .f32⟩
  | .hbm, ⟨8, _⟩ => ⟨S1024x640, .f32⟩
  | .hbm, ⟨9, _⟩ => ⟨S640x1024, .f32⟩
  | .hbm, ⟨10, _⟩ => ⟨S640x1024, .bf16⟩
  | _, _ => ⟨S4096x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ProjGKernel.lean ====
abbrev S4096x1024 : Shape := ⟨2, ![4096, 1024]⟩
abbrev S1024x2048 : Shape := ⟨2, ![1024, 2048]⟩
abbrev S2048x1024 : Shape := ⟨2, ![2048, 1024]⟩
abbrev S4096x2048 : Shape := ⟨2, ![4096, 2048]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S2048x1024, .f32⟩
  | .hbm, ⟨3, _⟩ => ⟨S2048x1024, .bf16⟩
  | .hbm, ⟨4, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGReferenceIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S4096x1024, .f32⟩
  | .hbm, ⟨3, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjDwgKernel.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwgReferenceIdeal.lean ====
abbrev S4096x2048 : Shape := ⟨2, ![4096, 2048]⟩
abbrev S4096x1024 : Shape := ⟨2, ![4096, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixOutKernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixOutReferenceIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== MixDyKernel.lean ====
abbrev S1024x1024 : Shape := ⟨2, ![1024, 1024]⟩
abbrev S4096x1024 : Shape := ⟨2, ![4096, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S1024x1024, .bf16⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDyReferenceIdeal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixDwoutKernel.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwoutReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamModelKernel.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamModelReferenceIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvKernel.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvReferenceIdeal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLatentKernel.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLatentReferenceIdeal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHeadKernel.lean ====
abbrev S2x96 : Shape := ⟨2, ![2, 96]⟩

abbrev nBuf : Space → Nat
  | .hbm => 7
  | .vmem => 7
  | .smem => 0
  | _ => 0

abbrev bufTy : (tb : Table) → Fin (tcTables nBuf tb) → BufTy
  | .hbm, ⟨0, _⟩ => ⟨S2x96, .f32⟩
  | .hbm, ⟨1, _⟩ => ⟨S2x96, .f32⟩
  | .hbm, ⟨2, _⟩ => ⟨S2x96, .f32⟩
  | .hbm, ⟨3, _⟩ => ⟨S2x96, .f32⟩
  | .hbm, ⟨4, _⟩ => ⟨S2x96, .f32⟩
  | .hbm, ⟨5, _⟩ => ⟨S2x96, .f32⟩
  | .hbm, ⟨6, _⟩ => ⟨S2x96, .f32⟩
  | .local _ .vmem, ⟨0, _⟩ => ⟨S2x96, .f32⟩
  | .local _ .vmem, ⟨1, _⟩ => ⟨S2x96, .f32⟩
  | .local _ .vmem, ⟨2, _⟩ => ⟨S2x96, .f32⟩
  | .local _ .vmem, ⟨3, _⟩ => ⟨S2x96, .f32⟩
  | .local _ .vmem, ⟨4, _⟩ => ⟨S2x96, .f32⟩
  | .local _ .vmem, ⟨5, _⟩ => ⟨S2x96, .f32⟩
  | .local _ .vmem, ⟨6, _⟩ => ⟨S2x96, .f32⟩
  | _, _ => ⟨S2x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadReferenceIdeal.lean ====
abbrev S2x96 : Shape := ⟨2, ![2, 96]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x96, .f32⟩
  | .hbm, ⟨1, _⟩ => ⟨S2x96, .f32⟩
  | .hbm, ⟨2, _⟩ => ⟨S2x96, .f32⟩
  | .hbm, ⟨3, _⟩ => ⟨S2x96, .f32⟩
  | .hbm, ⟨4, _⟩ => ⟨S_, .f32⟩
  | .hbm, ⟨5, _⟩ => ⟨S2x96, .f32⟩
  | .hbm, ⟨6, _⟩ => ⟨S2x96, .f32⟩
  | .hbm, ⟨7, _⟩ => ⟨S_, .f32⟩
  | .hbm, ⟨8, _⟩ => ⟨S2x96, .f32⟩
  | .hbm, ⟨9, _⟩ => ⟨S2x96, .f32⟩
  | .hbm, ⟨10, _⟩ => ⟨S2x96, .f32⟩
  | .hbm, ⟨11, _⟩ => ⟨S_, .f32⟩
  | .hbm, ⟨12, _⟩ => ⟨S2x96, .f32⟩
  | .hbm, ⟨13, _⟩ => ⟨S2x96, .f32⟩
  | .hbm, ⟨14, _⟩ => ⟨S2x96, .f32⟩
  | .hbm, ⟨15, _⟩ => ⟨S_, .f32⟩
  | .hbm, ⟨16, _⟩ => ⟨S2x96, .f32⟩
  | .hbm, ⟨17, _⟩ => ⟨S2x96, .f32⟩
  | .hbm, ⟨18, _⟩ => ⟨S2x96, .f32⟩
  | .hbm, ⟨19, _⟩ => ⟨S_, .f32⟩
  | .hbm, ⟨20, _⟩ => ⟨S2x96, .f32⟩
  | .hbm, ⟨21, _⟩ => ⟨S2x96, .f32⟩
  | .hbm, ⟨22, _⟩ => ⟨S_, .f32⟩
  | .hbm, ⟨23, _⟩ => ⟨S2x96, .f32⟩
  | .hbm, ⟨24, _⟩ => ⟨S2x96, .f32⟩
  | .hbm, ⟨25, _⟩ => ⟨S2x96, .f32⟩
  | .hbm, ⟨26, _⟩ => ⟨S_, .f32⟩
  | .hbm, ⟨27, _⟩ => ⟨S2x96, .f32⟩
  | .hbm, ⟨28, _⟩ => ⟨S2x96, .f32⟩
  | .hbm, ⟨29, _⟩ => ⟨S2x96, .f32⟩
  | .hbm, ⟨30, _⟩ => ⟨S_, .f32⟩
  | .hbm, ⟨31, _⟩ => ⟨S2x96, .f32⟩
  | .hbm, ⟨32, _⟩ => ⟨S2x96, .f32⟩
  | .hbm, ⟨33, _⟩ => ⟨S2x96, .f32⟩
  | .hbm, ⟨34, _⟩ => ⟨S_, .f32⟩
  | .hbm, ⟨35, _⟩ => ⟨S2x96, .f32⟩
  | .hbm, ⟨36, _⟩ => ⟨S2x96, .f32⟩
  | _, _ => ⟨S2x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamTapsKernel.lean ====
abbrev S2x31x64 : Shape := ⟨3, ![2, 31, 64]⟩
abbrev S62x64 : Shape := ⟨2, ![62, 64]⟩

abbrev nBuf : Space → Nat
  | .hbm => 11
  | .vmem => 7
  | .smem => 0
  | _ => 0

abbrev bufTy : (tb : Table) → Fin (tcTables nBuf tb) → BufTy
  | .hbm, ⟨0, _⟩ => ⟨S2x31x64, .f32⟩
  | .hbm, ⟨1, _⟩ => ⟨S2x31x64, .f32⟩
  | .hbm, ⟨2, _⟩ => ⟨S2x31x64, .f32⟩
  | .hbm, ⟨3, _⟩ => ⟨S2x31x64, .f32⟩
  | .hbm, ⟨4, _⟩ => ⟨S62x64, .f32⟩
  | .hbm, ⟨5, _⟩ => ⟨S62x64, .f32⟩
  | .hbm, ⟨6, _⟩ => ⟨S62x64, .f32⟩
  | .hbm, ⟨7, _⟩ => ⟨S62x64, .f32⟩
  | .hbm, ⟨8, _⟩ => ⟨S62x64, .f32⟩
  | .hbm, ⟨9, _⟩ => ⟨S62x64, .f32⟩
  | .hbm, ⟨10, _⟩ => ⟨S62x64, .f32⟩
  | .local _ .vmem, ⟨0, _⟩ => ⟨S62x64, .f32⟩
  | .local _ .vmem, ⟨1, _⟩ => ⟨S62x64, .f32⟩
  | .local _ .vmem, ⟨2, _⟩ => ⟨S62x64, .f32⟩
  | .local _ .vmem, ⟨3, _⟩ => ⟨S62x64, .f32⟩
  | .local _ .vmem, ⟨4, _⟩ => ⟨S62x64, .f32⟩
  | .local _ .vmem, ⟨5, _⟩ => ⟨S62x64, .f32⟩
  | .local _ .vmem, ⟨6, _⟩ => ⟨S62x64, .f32⟩
  | _, _ => ⟨S2x31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTapsReferenceIdeal.lean ====
abbrev S2x31x64 : Shape := ⟨3, ![2, 31, 64]⟩
abbrev S_ : Shape := ⟨0, ![]⟩
abbrev S62x64 : Shape := ⟨2, ![62, 64]⟩

abbrev nBuf : Space → Nat
  | .hbm => 40
  | .vmem => 0
  | .smem => 0
  | _ => 0

abbrev bufTy : (tb : Table) → Fin (tcTables nBuf tb) → BufTy
  | .hbm, ⟨0, _⟩ => ⟨S2x31x64, .f32⟩
  | .hbm, ⟨1, _⟩ => ⟨S2x31x64, .f32⟩
  | .hbm, ⟨2, _⟩ => ⟨S2x31x64, .f32⟩
  | .hbm, ⟨3, _⟩ => ⟨S2x31x64, .f32⟩
  | .hbm, ⟨4, _⟩ => ⟨S_, .f32⟩
  | .hbm, ⟨5, _⟩ => ⟨S2x31x64, .f32⟩
  | .hbm, ⟨6, _⟩ => ⟨S2x31x64, .f32⟩
  | .hbm, ⟨7, _⟩ => ⟨S_, .f32⟩
  | .hbm, ⟨8, _⟩ => ⟨S2x31x64, .f32⟩
  | .hbm, ⟨9, _⟩ => ⟨S2x31x64, .f32⟩
  | .hbm, ⟨10, _⟩ => ⟨S2x31x64, .f32⟩
  | .hbm, ⟨11, _⟩ => ⟨S_, .f32⟩
  | .hbm, ⟨12, _⟩ => ⟨S2x31x64, .f32⟩
  | .hbm, ⟨13, _⟩ => ⟨S2x31x64, .f32⟩
  | .hbm, ⟨14, _⟩ => ⟨S2x31x64, .f32⟩
  | .hbm, ⟨15, _⟩ => ⟨S_, .f32⟩
  | .hbm, ⟨16, _⟩ => ⟨S2x31x64, .f32⟩
  | .hbm, ⟨17, _⟩ => ⟨S2x31x64, .f32⟩
  | .hbm, ⟨18, _⟩ => ⟨S2x31x64, .f32⟩
  | .hbm, ⟨19, _⟩ => ⟨S_, .f32⟩
  | .hbm, ⟨20, _⟩ => ⟨S2x31x64, .f32⟩
  | .hbm, ⟨21, _⟩ => ⟨S2x31x64, .f32⟩
  | .hbm, ⟨22, _⟩ => ⟨S_, .f32⟩
  | .hbm, ⟨23, _⟩ => ⟨S2x31x64, .f32⟩
  | .hbm, ⟨24, _⟩ => ⟨S2x31x64, .f32⟩
  | .hbm, ⟨25, _⟩ => ⟨S2x31x64, .f32⟩
  | .hbm, ⟨26, _⟩ => ⟨S_, .f32⟩
  | .hbm, ⟨27, _⟩ => ⟨S2x31x64, .f32⟩
  | .hbm, ⟨28, _⟩ => ⟨S2x31x64, .f32⟩
  | .hbm, ⟨29, _⟩ => ⟨S2x31x64, .f32⟩
  | .hbm, ⟨30, _⟩ => ⟨S_, .f32⟩
  | .hbm, ⟨31, _⟩ => ⟨S2x31x64, .f32⟩
  | .hbm, ⟨32, _⟩ => ⟨S2x31x64, .f32⟩
  | .hbm, ⟨33, _⟩ => ⟨S2x31x64, .f32⟩
  | .hbm, ⟨34, _⟩ => ⟨S_, .f32⟩
  | .hbm, ⟨35, _⟩ => ⟨S2x31x64, .f32⟩
  | .hbm, ⟨36, _⟩ => ⟨S2x31x64, .f32⟩
  | .hbm, ⟨37, _⟩ => ⟨S62x64, .f32⟩
  | .hbm, ⟨38, _⟩ => ⟨S62x64, .f32⟩
  | .hbm, ⟨39, _⟩ => ⟨S62x64, .f32⟩
  | _, _ => ⟨S2x31x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBiasKernel.lean ====
abbrev S2x2x128 : Shape := ⟨3, ![2, 2, 128]⟩
abbrev S4x128 : Shape := ⟨2, ![4, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x2x128, .f32⟩
  | .hbm, ⟨1, _⟩ => ⟨S2x2x128, .f32⟩
  | .hbm, ⟨2, _⟩ => ⟨S2x2x128, .f32⟩
  | .hbm, ⟨3, _⟩ => ⟨S2x2x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S4x128, .f32⟩
  | .hbm, ⟨10, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S2x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasReferenceIdeal.lean ====
abbrev S2x2x128 : Shape := ⟨3, ![2, 2, 128]⟩
abbrev S_ : Shape := ⟨0, ![]⟩
abbrev S4x128 : Shape := ⟨2, ![4, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x2x128, .f32⟩
  | .hbm, ⟨1, _⟩ => ⟨S2x2x128, .f32⟩
  | .hbm, ⟨2, _⟩ => ⟨S2x2x128, .f32⟩
  | .hbm, ⟨3, _⟩ => ⟨S2x2x128, .f32⟩
  | .hbm, ⟨4, _⟩ => ⟨S_, .f32⟩
  | .hbm, ⟨5, _⟩ => ⟨S2x2x128, .f32⟩
  | .hbm, ⟨6, _⟩ => ⟨S2x2x128, .f32⟩
  | .hbm, ⟨7, _⟩ => ⟨S_, .f32⟩
  | .hbm, ⟨8, _⟩ => ⟨S2x2x128, .f32⟩
  | .hbm, ⟨9, _⟩ => ⟨S2x2x128, .f32⟩
  | .hbm, ⟨10, _⟩ => ⟨S2x2x128, .f32⟩
  | .hbm, ⟨11, _⟩ => ⟨S_, .f32⟩
  | .hbm, ⟨12, _⟩ => ⟨S2x2x128, .f32⟩
  | .hbm, ⟨13, _⟩ => ⟨S2x2x128, .f32⟩
  | .hbm, ⟨14, _⟩ => ⟨S2x2x128, .f32⟩
  | .hbm, ⟨15, _⟩ => ⟨S_, .f32⟩
  | .hbm, ⟨16, _⟩ => ⟨S2x2x128, .f32⟩
  | .hbm, ⟨17, _⟩ => ⟨S2x2x128, .f32⟩
  | .hbm, ⟨18, _⟩ => ⟨S2x2x128, .f32⟩
  | .hbm, ⟨19, _⟩ => ⟨S_, .f32⟩
  | .hbm, ⟨20, _⟩ => ⟨S2x2x128, .f32⟩
  | .hbm, ⟨21, _⟩ => ⟨S2x2x128, .f32⟩
  | .hbm, ⟨22, _⟩ => ⟨S_, .f32⟩
  | .hbm, ⟨23, _⟩ => ⟨S2x2x128, .f32⟩
  | .hbm, ⟨24, _⟩ => ⟨S2x2x128, .f32⟩
  | .hbm, ⟨25, _⟩ => ⟨S2x2x128, .f32⟩
  | .hbm, ⟨26, _⟩ => ⟨S_, .f32⟩
  | .hbm, ⟨27, _⟩ => ⟨S2x2x128, .f32⟩
  | .hbm, ⟨28, _⟩ => ⟨S2x2x128, .f32⟩
  | .hbm, ⟨29, _⟩ => ⟨S2x2x128, .f32⟩
  | .hbm, ⟨30, _⟩ => ⟨S_, .f32⟩
  | .hbm, ⟨31, _⟩ => ⟨S2x2x128, .f32⟩
  | .hbm, ⟨32, _⟩ => ⟨S2x2x128, .f32⟩
  | .hbm, ⟨33, _⟩ => ⟨S2x2x128, .f32⟩
  | .hbm, ⟨34, _⟩ => ⟨S_, .f32⟩
  | .hbm, ⟨35, _⟩ => ⟨S2x2x128, .f32⟩
  | .hbm, ⟨36, _⟩ => ⟨S2x2x128, .f32⟩
  | .hbm, ⟨37, _⟩ => ⟨S4x128, .f32⟩
  | .hbm, ⟨38, _⟩ => ⟨S4x128, .f32⟩
  | .hbm, ⟨39, _⟩ => ⟨S4x128, .f32⟩
  | _, _ => ⟨S2x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFfnKernel.lean ====
abbrev S2x352x1024 : Shape := ⟨3, ![2, 352, 1024]⟩
abbrev S352x1024 : Shape := ⟨2, ![352, 1024]⟩
abbrev S_ : Shape := ⟨0, ![]⟩
abbrev S8x128 : Shape := ⟨2, ![8, 128]⟩
abbrev S1x352x1024 : Shape := ⟨3, ![1, 352, 1024]⟩

abbrev nBuf : Space → Nat
  | .hbm => 15
  | .vmem => 16
  | .smem => 0
  | _ => 0

abbrev bufTy : (tb : Table) → Fin (tcTables nBuf tb) → BufTy
  | .hbm, ⟨0, _⟩ => ⟨S2x352x1024, .f32⟩
  | .hbm, ⟨1, _⟩ => ⟨S352x1024, .f32⟩
  | .hbm, ⟨2, _⟩ => ⟨S352x1024, .f32⟩
  | .hbm, ⟨3, _⟩ => ⟨S2x352x1024, .f32⟩
  | .hbm, ⟨4, _⟩ => ⟨S2x352x1024, .f32⟩
  | .hbm, ⟨5, _⟩ => ⟨S_, .f32⟩
  | .hbm, ⟨6, _⟩ => ⟨S8x128, .f32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S2x352x1024, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .local _ .vmem, ⟨0, _⟩ => ⟨S1x352x1024, .f32⟩
  | .local _ .vmem, ⟨1, _⟩ => ⟨S352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1x352x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S352x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x352x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x352x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x352x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x352x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x352x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x352x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== AdamFfnReferenceIdeal.lean ====
abbrev S2x352x1024 : Shape := ⟨3, ![2, 352, 1024]⟩
abbrev S352x1024 : Shape := ⟨2, ![352, 1024]⟩
abbrev S1x352x1024 : Shape := ⟨3, ![1, 352, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S352x1024, .f32⟩
  | .hbm, ⟨2, _⟩ => ⟨S352x1024, .f32⟩
  | .hbm, ⟨3, _⟩ => ⟨S2x352x1024, .f32⟩
  | .hbm, ⟨4, _⟩ => ⟨S2x352x1024, .f32⟩
  | .hbm, ⟨5, _⟩ => ⟨S1x352x1024, .f32⟩
  | .hbm, ⟨6, _⟩ => ⟨S1x352x1024, .f32⟩
  | .hbm, ⟨7, _⟩ => ⟨S2x352x1024, .f32⟩
  | .hbm, ⟨8, _⟩ => ⟨S_, .f32⟩
  | .hbm, ⟨9, _⟩ => ⟨S2x352x1024, .f32⟩
  | .hbm, ⟨10, _⟩ => ⟨S2x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S_, .f32⟩
  | .hbm, ⟨27, _⟩ => ⟨S2x352x1024, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamWinKernel.lean ====
abbrev S2x452x1024 : Shape := ⟨3, ![2, 452, 1024]⟩
abbrev S452x1024 : Shape := ⟨2, ![452, 1024]⟩
abbrev S_ : Shape := ⟨0, ![]⟩
abbrev S8x128 : Shape := ⟨2, ![8, 128]⟩
abbrev S1x452x1024 : Shape := ⟨3, ![1, 452, 1024]⟩

abbrev nBuf : Space → Nat
  | .hbm => 15
  | .vmem => 16
  | .smem => 0
  | _ => 0

abbrev bufTy : (tb : Table) → Fin (tcTables nBuf tb) → BufTy
  | .hbm, ⟨0, _⟩ => ⟨S2x452x1024, .f32⟩
  | .hbm, ⟨1, _⟩ => ⟨S452x1024, .f32⟩
  | .hbm, ⟨2, _⟩ => ⟨S452x1024, .f32⟩
  | .hbm, ⟨3, _⟩ => ⟨S2x452x1024, .f32⟩
  | .hbm, ⟨4, _⟩ => ⟨S2x452x1024, .f32⟩
  | .hbm, ⟨5, _⟩ => ⟨S_, .f32⟩
  | .hbm, ⟨6, _⟩ => ⟨S8x128, .f32⟩
  | .hbm, ⟨7, _⟩ => ⟨S2x452x1024, .f32⟩
  | .hbm, ⟨8, _⟩ => ⟨S2x452x1024, .f32⟩
  | .hbm, ⟨9, _⟩ => ⟨S2x452x1024, .f32⟩
  | .hbm, ⟨10, _⟩ => ⟨S2x452x1024, .f32⟩
  | .hbm, ⟨11, _⟩ => ⟨S2x452x1024, .f32⟩
  | .hbm, ⟨12, _⟩ => ⟨S2x452x1024, .f32⟩
  | .hbm, ⟨13, _⟩ => ⟨S2x452x1024, .f32⟩
  | .hbm, ⟨14, _⟩ => ⟨S2x452x1024, .f32⟩
  | .local _ .vmem, ⟨0, _⟩ => ⟨S1x452x1024, .f32⟩
  | .local _ .vmem, ⟨1, _⟩ => ⟨S452x1024, .f32⟩
  | .local _ .vmem, ⟨2, _⟩ => ⟨S1x452x1024, .f32⟩
  | .local _ .vmem, ⟨3, _⟩ => ⟨S1x452x1024, .f32⟩
  | .local _ .vmem, ⟨4, _⟩ => ⟨S1x452x1024, .f32⟩
  | .local _ .vmem, ⟨5, _⟩ => ⟨S1x452x1024, .f32⟩
  | .local _ .vmem, ⟨6, _⟩ => ⟨S1x452x1024, .f32⟩
  | .local _ .vmem, ⟨7, _⟩ => ⟨S1x452x1024, .f32⟩
  | .local _ .vmem, ⟨8, _⟩ => ⟨S1x452x1024, .f32⟩
  | .local _ .vmem, ⟨9, _⟩ => ⟨S452x1024, .f32⟩
  | .local _ .vmem, ⟨10, _⟩ => ⟨S1x452x1024, .f32⟩
  | .local _ .vmem, ⟨11, _⟩ => ⟨S1x452x1024, .f32⟩
  | .local _ .vmem, ⟨12, _⟩ => ⟨S1x452x1024, .f32⟩
  | .local _ .vmem, ⟨13, _⟩ => ⟨S1x452x1024, .f32⟩
  | .local _ .vmem, ⟨14, _⟩ => ⟨S1x452x1024, .f32⟩
  | .local _ .vmem, ⟨15, _⟩ => ⟨S1x452x1024, .f32⟩
  | _, _ => ⟨S2x452x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x452x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S452x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x452x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x452x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x452x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x452x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x452x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x452x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1x452x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S452x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x452x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x452x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x452x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x452x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x452x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x452x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== AdamWinReferenceIdeal.lean ====
abbrev S2x452x1024 : Shape := ⟨3, ![2, 452, 1024]⟩
abbrev S452x1024 : Shape := ⟨2, ![452, 1024]⟩
abbrev S1x452x1024 : Shape := ⟨3, ![1, 452, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x452x1024, .f32⟩
  | .hbm, ⟨1, _⟩ => ⟨S452x1024, .f32⟩
  | .hbm, ⟨2, _⟩ => ⟨S452x1024, .f32⟩
  | .hbm, ⟨3, _⟩ => ⟨S2x452x1024, .f32⟩
  | .hbm, ⟨4, _⟩ => ⟨S2x452x1024, .f32⟩
  | .hbm, ⟨5, _⟩ => ⟨S1x452x1024, .f32⟩
  | .hbm, ⟨6, _⟩ => ⟨S1x452x1024, .f32⟩
  | .hbm, ⟨7, _⟩ => ⟨S2x452x1024, .f32⟩
  | .hbm, ⟨8, _⟩ => ⟨S_, .f32⟩
  | .hbm, ⟨9, _⟩ => ⟨S2x452x1024, .f32⟩
  | .hbm, ⟨10, _⟩ => ⟨S2x452x1024, .f32⟩
  | .hbm, ⟨11, _⟩ => ⟨S_, .f32⟩
  | .hbm, ⟨12, _⟩ => ⟨S2x452x1024, .f32⟩
  | .hbm, ⟨13, _⟩ => ⟨S2x452x1024, .f32⟩
  | .hbm, ⟨14, _⟩ => ⟨S2x452x1024, .f32⟩
  | .hbm, ⟨15, _⟩ => ⟨S_, .f32⟩
  | .hbm, ⟨16, _⟩ => ⟨S2x452x1024, .f32⟩
  | .hbm, ⟨17, _⟩ => ⟨S2x452x1024, .f32⟩
  | .hbm, ⟨18, _⟩ => ⟨S2x452x1024, .f32⟩
  | .hbm, ⟨19, _⟩ => ⟨S_, .f32⟩
  | .hbm, ⟨20, _⟩ => ⟨S2x452x1024, .f32⟩
  | .hbm, ⟨21, _⟩ => ⟨S2x452x1024, .f32⟩
  | .hbm, ⟨22, _⟩ => ⟨S2x452x1024, .f32⟩
  | .hbm, ⟨23, _⟩ => ⟨S_, .f32⟩
  | .hbm, ⟨24, _⟩ => ⟨S2x452x1024, .f32⟩
  | .hbm, ⟨25, _⟩ => ⟨S2x452x1024, .f32⟩
  | .hbm, ⟨26, _⟩ => ⟨S_, .f32⟩
  | .hbm, ⟨27, _⟩ => ⟨S2x452x1024, .f32⟩
  | .hbm, ⟨28, _⟩ => ⟨S2x452x1024, .f32⟩
  | .hbm, ⟨29, _⟩ => ⟨S2x452x1024, .f32⟩
  | .hbm, ⟨30, _⟩ => ⟨S_, .f32⟩
  | .hbm, ⟨31, _⟩ => ⟨S2x452x1024, .f32⟩
  | .hbm, ⟨32, _⟩ => ⟨S2x452x1024, .f32⟩
  | .hbm, ⟨33, _⟩ => ⟨S2x452x1024, .f32⟩
  | .hbm, ⟨34, _⟩ => ⟨S_, .f32⟩
  | .hbm, ⟨35, _⟩ => ⟨S2x452x1024, .f32⟩
  | .hbm, ⟨36, _⟩ => ⟨S2x452x1024, .f32⟩
  | .hbm, ⟨37, _⟩ => ⟨S2x452x1024, .f32⟩
  | .hbm, ⟨38, _⟩ => ⟨S_, .f32⟩
  | .hbm, ⟨39, _⟩ => ⟨S2x452x1024, .f32⟩
  | .hbm, ⟨40, _⟩ => ⟨S2x452x1024, .f32⟩
  | _, _ => ⟨S2x452x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamCoutKernel.lean ====
abbrev S2x128x512 : Shape := ⟨3, ![2, 128, 512]⟩
abbrev S128x512 : Shape := ⟨2, ![128, 512]⟩
abbrev S_ : Shape := ⟨0, ![]⟩
abbrev S8x128 : Shape := ⟨2, ![8, 128]⟩
abbrev S1x128x512 : Shape := ⟨3, ![1, 128, 512]⟩

abbrev nBuf : Space → Nat
  | .hbm => 15
  | .vmem => 16
  | .smem => 0
  | _ => 0

abbrev bufTy : (tb : Table) → Fin (tcTables nBuf tb) → BufTy
  | .hbm, ⟨0, _⟩ => ⟨S2x128x512, .f32⟩
  | .hbm, ⟨1, _⟩ => ⟨S128x512, .f32⟩
  | .hbm, ⟨2, _⟩ => ⟨S128x512, .f32⟩
  | .hbm, ⟨3, _⟩ => ⟨S2x128x512, .f32⟩
  | .hbm, ⟨4, _⟩ => ⟨S2x128x512, .f32⟩
  | .hbm, ⟨5, _⟩ => ⟨S_, .f32⟩
  | .hbm, ⟨6, _⟩ => ⟨S8x128, .f32⟩
  | .hbm, ⟨7, _⟩ => ⟨S2x128x512, .f32⟩
  | .hbm, ⟨8, _⟩ => ⟨S2x128x512, .f32⟩
  | .hbm, ⟨9, _⟩ => ⟨S2x128x512, .f32⟩
  | .hbm, ⟨10, _⟩ => ⟨S2x128x512, .f32⟩
  | .hbm, ⟨11, _⟩ => ⟨S2x128x512, .f32⟩
  | .hbm, ⟨12, _⟩ => ⟨S2x128x512, .f32⟩
  | .hbm, ⟨13, _⟩ => ⟨S2x128x512, .f32⟩
  | .hbm, ⟨14, _⟩ => ⟨S2x128x512, .f32⟩
  | .local _ .vmem, ⟨0, _⟩ => ⟨S1x128x512, .f32⟩
  | .local _ .vmem, ⟨1, _⟩ => ⟨S128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1x128x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== AdamCoutReferenceIdeal.lean ====
abbrev S2x128x512 : Shape := ⟨3, ![2, 128, 512]⟩
abbrev S128x512 : Shape := ⟨2, ![128, 512]⟩
abbrev S1x128x512 : Shape := ⟨3, ![1, 128, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S128x512, .f32⟩
  | .hbm, ⟨2, _⟩ => ⟨S128x512, .f32⟩
  | .hbm, ⟨3, _⟩ => ⟨S2x128x512, .f32⟩
  | .hbm, ⟨4, _⟩ => ⟨S2x128x512, .f32⟩
  | .hbm, ⟨5, _⟩ => ⟨S1x128x512, .f32⟩
  | .hbm, ⟨6, _⟩ => ⟨S1x128x512, .f32⟩
  | .hbm, ⟨7, _⟩ => ⟨S2x128x512, .f32⟩
  | .hbm, ⟨8, _⟩ => ⟨S_, .f32⟩
  | .hbm, ⟨9, _⟩ => ⟨S2x128x512, .f32⟩
  | .hbm, ⟨10, _⟩ => ⟨S2x128x512, .f32⟩
  | .hbm, ⟨11, _⟩ => ⟨S_, .f32⟩
  | .hbm, ⟨12, _⟩ => ⟨S2x128x512, .f32⟩
  | .hbm, ⟨13, _⟩ => ⟨S2x128x512, .f32⟩
  | .hbm, ⟨14, _⟩ => ⟨S2x128x512, .f32⟩
  | .hbm, ⟨15, _⟩ => ⟨S_, .f32⟩
  | .hbm, ⟨16, _⟩ => ⟨S2x128x512, .f32⟩
  | .hbm, ⟨17, _⟩ => ⟨S2x128x512, .f32⟩
  | .hbm, ⟨18, _⟩ => ⟨S2x128x512, .f32⟩
  | .hbm, ⟨19, _⟩ => ⟨S_, .f32⟩
  | .hbm, ⟨20, _⟩ => ⟨S2x128x512, .f32⟩
  | .hbm, ⟨21, _⟩ => ⟨S2x128x512, .f32⟩
  | .hbm, ⟨22, _⟩ => ⟨S2x128x512, .f32⟩
  | .hbm, ⟨23, _⟩ => ⟨S_, .f32⟩
  | .hbm, ⟨24, _⟩ => ⟨S2x128x512, .f32⟩
  | .hbm, ⟨25, _⟩ => ⟨S2x128x512, .f32⟩
  | .hbm, ⟨26, _⟩ => ⟨S_, .f32⟩
  | .hbm, ⟨27, _⟩ => ⟨S2x128x512, .f32⟩
  | .hbm, ⟨28, _⟩ => ⟨S2x128x512, .f32⟩
  | .hbm, ⟨29, _⟩ => ⟨S2x128x512, .f32⟩
  | .hbm, ⟨30, _⟩ => ⟨S_, .f32⟩
  | .hbm, ⟨31, _⟩ => ⟨S2x128x512, .f32⟩
  | .hbm, ⟨32, _⟩ => ⟨S2x128x512, .f32⟩
  | .hbm, ⟨33, _⟩ => ⟨S2x128x512, .f32⟩
  | .hbm, ⟨34, _⟩ => ⟨S_, .f32⟩
  | .hbm, ⟨35, _⟩ => ⟨S2x128x512, .f32⟩
  | .hbm, ⟨36, _⟩ => ⟨S2x128x512, .f32⟩
  | .hbm, ⟨37, _⟩ => ⟨S2x128x512, .f32⟩
  | .hbm, ⟨38, _⟩ => ⟨S_, .f32⟩
  | .hbm, ⟨39, _⟩ => ⟨S2x128x512, .f32⟩
  | .hbm, ⟨40, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamUqKernel.lean ====
abbrev S2x96x256 : Shape := ⟨3, ![2, 96, 256]⟩
abbrev S96x256 : Shape := ⟨2, ![96, 256]⟩
abbrev S_ : Shape := ⟨0, ![]⟩
abbrev S8x128 : Shape := ⟨2, ![8, 128]⟩
abbrev S1x96x256 : Shape := ⟨3, ![1, 96, 256]⟩

abbrev nBuf : Space → Nat
  | .hbm => 15
  | .vmem => 16
  | .smem => 0
  | _ => 0

abbrev bufTy : (tb : Table) → Fin (tcTables nBuf tb) → BufTy
  | .hbm, ⟨0, _⟩ => ⟨S2x96x256, .f32⟩
  | .hbm, ⟨1, _⟩ => ⟨S96x256, .f32⟩
  | .hbm, ⟨2, _⟩ => ⟨S96x256, .f32⟩
  | .hbm, ⟨3, _⟩ => ⟨S2x96x256, .f32⟩
  | .hbm, ⟨4, _⟩ => ⟨S2x96x256, .f32⟩
  | .hbm, ⟨5, _⟩ => ⟨S_, .f32⟩
  | .hbm, ⟨6, _⟩ => ⟨S8x128, .f32⟩
  | .hbm, ⟨7, _⟩ => ⟨S2x96x256, .f32⟩
  | .hbm, ⟨8, _⟩ => ⟨S2x96x256, .f32⟩
  | .hbm, ⟨9, _⟩ => ⟨S2x96x256, .f32⟩
  | .hbm, ⟨10, _⟩ => ⟨S2x96x256, .f32⟩
  | .hbm, ⟨11, _⟩ => ⟨S2x96x256, .f32⟩
  | .hbm, ⟨12, _⟩ => ⟨S2x96x256, .f32⟩
  | .hbm, ⟨13, _⟩ => ⟨S2x96x256, .f32⟩
  | .hbm, ⟨14, _⟩ => ⟨S2x96x256, .f32⟩
  | .local _ .vmem, ⟨0, _⟩ => ⟨S1x96x256, .f32⟩
  | .local _ .vmem, ⟨1, _⟩ => ⟨S96x256, .f32⟩
  | .local _ .vmem, ⟨2, _⟩ => ⟨S1x96x256, .f32⟩
  | .local _ .vmem, ⟨3, _⟩ => ⟨S1x96x256, .f32⟩
  | .local _ .vmem, ⟨4, _⟩ => ⟨S1x96x256, .f32⟩
  | .local _ .vmem, ⟨5, _⟩ => ⟨S1x96x256, .f32⟩
  | .local _ .vmem, ⟨6, _⟩ => ⟨S1x96x256, .f32⟩
  | .local _ .vmem, ⟨7, _⟩ => ⟨S1x96x256, .f32⟩
  | .local _ .vmem, ⟨8, _⟩ => ⟨S1x96x256, .f32⟩
  | .local _ .vmem, ⟨9, _⟩ => ⟨S96x256, .f32⟩
  | .local _ .vmem, ⟨10, _⟩ => ⟨S1x96x256, .f32⟩
  | .local _ .vmem, ⟨11, _⟩ => ⟨S1x96x256, .f32⟩
  | .local _ .vmem, ⟨12, _⟩ => ⟨S1x96x256, .f32⟩
  | .local _ .vmem, ⟨13, _⟩ => ⟨S1x96x256, .f32⟩
  | .local _ .vmem, ⟨14, _⟩ => ⟨S1x96x256, .f32⟩
  | .local _ .vmem, ⟨15, _⟩ => ⟨S1x96x256, .f32⟩
  | _, _ => ⟨S2x96x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x96x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x96x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x96x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x96x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x96x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x96x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x96x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1x96x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S96x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x96x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x96x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x96x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x96x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x96x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x96x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== AdamUqReferenceIdeal.lean ====
abbrev S2x96x256 : Shape := ⟨3, ![2, 96, 256]⟩
abbrev S96x256 : Shape := ⟨2, ![96, 256]⟩
abbrev S1x96x256 : Shape := ⟨3, ![1, 96, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x96x256, .f32⟩
  | .hbm, ⟨1, _⟩ => ⟨S96x256, .f32⟩
  | .hbm, ⟨2, _⟩ => ⟨S96x256, .f32⟩
  | .hbm, ⟨3, _⟩ => ⟨S2x96x256, .f32⟩
  | .hbm, ⟨4, _⟩ => ⟨S2x96x256, .f32⟩
  | .hbm, ⟨5, _⟩ => ⟨S1x96x256, .f32⟩
  | .hbm, ⟨6, _⟩ => ⟨S1x96x256, .f32⟩
  | .hbm, ⟨7, _⟩ => ⟨S2x96x256, .f32⟩
  | .hbm, ⟨8, _⟩ => ⟨S_, .f32⟩
  | .hbm, ⟨9, _⟩ => ⟨S2x96x256, .f32⟩
  | .hbm, ⟨10, _⟩ => ⟨S2x96x256, .f32⟩
  | .hbm, ⟨11, _⟩ => ⟨S_, .f32⟩
  | .hbm, ⟨12, _⟩ => ⟨S2x96x256, .f32⟩
  | .hbm, ⟨13, _⟩ => ⟨S2x96x256, .f32⟩
  | .hbm, ⟨14, _⟩ => ⟨S2x96x256, .f32⟩
  | .hbm, ⟨15, _⟩ => ⟨S_, .f32⟩
  | .hbm, ⟨16, _⟩ => ⟨S2x96x256, .f32⟩
  | .hbm, ⟨17, _⟩ => ⟨S2x96x256, .f32⟩
  | .hbm, ⟨18, _⟩ => ⟨S2x96x256, .f32⟩
  | .hbm, ⟨19, _⟩ => ⟨S_, .f32⟩
  | .hbm, ⟨20, _⟩ => ⟨S2x96x256, .f32⟩
  | .hbm, ⟨21, _⟩ => ⟨S2x96x256, .f32⟩
  | .hbm, ⟨22, _⟩ => ⟨S2x96x256, .f32⟩
  | .hbm, ⟨23, _⟩ => ⟨S_, .f32⟩
  | .hbm, ⟨24, _⟩ => ⟨S2x96x256, .f32⟩
  | .hbm, ⟨25, _⟩ => ⟨S2x96x256, .f32⟩
  | .hbm, ⟨26, _⟩ => ⟨S_, .f32⟩
  | .hbm, ⟨27, _⟩ => ⟨S2x96x256, .f32⟩
  | .hbm, ⟨28, _⟩ => ⟨S2x96x256, .f32⟩
  | .hbm, ⟨29, _⟩ => ⟨S2x96x256, .f32⟩
  | .hbm, ⟨30, _⟩ => ⟨S_, .f32⟩
  | .hbm, ⟨31, _⟩ => ⟨S2x96x256, .f32⟩
  | .hbm, ⟨32, _⟩ => ⟨S2x96x256, .f32⟩
  | .hbm, ⟨33, _⟩ => ⟨S2x96x256, .f32⟩
  | .hbm, ⟨34, _⟩ => ⟨S_, .f32⟩
  | .hbm, ⟨35, _⟩ => ⟨S2x96x256, .f32⟩
  | .hbm, ⟨36, _⟩ => ⟨S2x96x256, .f32⟩
  | .hbm, ⟨37, _⟩ => ⟨S2x96x256, .f32⟩
  | .hbm, ⟨38, _⟩ => ⟨S_, .f32⟩
  | .hbm, ⟨39, _⟩ => ⟨S2x96x256, .f32⟩
  | .hbm, ⟨40, _⟩ => ⟨S2x96x256, .f32⟩
  | _, _ => ⟨S2x96x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamUkvKernel.lean ====
abbrev S2x128x256 : Shape := ⟨3, ![2, 128, 256]⟩
abbrev S128x256 : Shape := ⟨2, ![128, 256]⟩
abbrev S_ : Shape := ⟨0, ![]⟩
abbrev S8x128 : Shape := ⟨2, ![8, 128]⟩
abbrev S1x128x256 : Shape := ⟨3, ![1, 128, 256]⟩

abbrev nBuf : Space → Nat
  | .hbm => 15
  | .vmem => 16
  | .smem => 0
  | _ => 0

abbrev bufTy : (tb : Table) → Fin (tcTables nBuf tb) → BufTy
  | .hbm, ⟨0, _⟩ => ⟨S2x128x256, .f32⟩
  | .hbm, ⟨1, _⟩ => ⟨S128x256, .f32⟩
  | .hbm, ⟨2, _⟩ => ⟨S128x256, .f32⟩
  | .hbm, ⟨3, _⟩ => ⟨S2x128x256, .f32⟩
  | .hbm, ⟨4, _⟩ => ⟨S2x128x256, .f32⟩
  | .hbm, ⟨5, _⟩ => ⟨S_, .f32⟩
  | .hbm, ⟨6, _⟩ => ⟨S8x128, .f32⟩
  | .hbm, ⟨7, _⟩ => ⟨S2x128x256, .f32⟩
  | .hbm, ⟨8, _⟩ => ⟨S2x128x256, .f32⟩
  | .hbm, ⟨9, _⟩ => ⟨S2x128x256, .f32⟩
  | .hbm, ⟨10, _⟩ => ⟨S2x128x256, .f32⟩
  | .hbm, ⟨11, _⟩ => ⟨S2x128x256, .f32⟩
  | .hbm, ⟨12, _⟩ => ⟨S2x128x256, .f32⟩
  | .hbm, ⟨13, _⟩ => ⟨S2x128x256, .f32⟩
  | .hbm, ⟨14, _⟩ => ⟨S2x128x256, .f32⟩
  | .local _ .vmem, ⟨0, _⟩ => ⟨S1x128x256, .f32⟩
  | .local _ .vmem, ⟨1, _⟩ => ⟨S128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | _, _ => ⟨S2x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1x128x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== AdamUkvReferenceIdeal.lean ====
abbrev S2x128x256 : Shape := ⟨3, ![2, 128, 256]⟩
abbrev S128x256 : Shape := ⟨2, ![128, 256]⟩
abbrev S1x128x256 : Shape := ⟨3, ![1, 128, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x128x256, .f32⟩
  | .hbm, ⟨1, _⟩ => ⟨S128x256, .f32⟩
  | .hbm, ⟨2, _⟩ => ⟨S128x256, .f32⟩
  | .hbm, ⟨3, _⟩ => ⟨S2x128x256, .f32⟩
  | .hbm, ⟨4, _⟩ => ⟨S2x128x256, .f32⟩
  | .hbm, ⟨5, _⟩ => ⟨S1x128x256, .f32⟩
  | .hbm, ⟨6, _⟩ => ⟨S1x128x256, .f32⟩
  | .hbm, ⟨7, _⟩ => ⟨S2x128x256, .f32⟩
  | .hbm, ⟨8, _⟩ => ⟨S_, .f32⟩
  | .hbm, ⟨9, _⟩ => ⟨S2x128x256, .f32⟩
  | .hbm, ⟨10, _⟩ => ⟨S2x128x256, .f32⟩
  | .hbm, ⟨11, _⟩ => ⟨S_, .f32⟩
  | .hbm, ⟨12, _⟩ => ⟨S2x128x256, .f32⟩
  | .hbm, ⟨13, _⟩ => ⟨S2x128x256, .f32⟩
  | .hbm, ⟨14, _⟩ => ⟨S2x128x256, .f32⟩
  | .hbm, ⟨15, _⟩ => ⟨S_, .f32⟩
  | .hbm, ⟨16, _⟩ => ⟨S2x128x256, .f32⟩
  | .hbm, ⟨17, _⟩ => ⟨S2x128x256, .f32⟩
  | .hbm, ⟨18, _⟩ => ⟨S2x128x256, .f32⟩
  | .hbm, ⟨19, _⟩ => ⟨S_, .f32⟩
  | .hbm, ⟨20, _⟩ => ⟨S2x128x256, .f32⟩
  | .hbm, ⟨21, _⟩ => ⟨S2x128x256, .f32⟩
  | .hbm, ⟨22, _⟩ => ⟨S2x128x256, .f32⟩
  | .hbm, ⟨23, _⟩ => ⟨S_, .f32⟩
  | .hbm, ⟨24, _⟩ => ⟨S2x128x256, .f32⟩
  | .hbm, ⟨25, _⟩ => ⟨S2x128x256, .f32⟩
  | .hbm, ⟨26, _⟩ => ⟨S_, .f32⟩
  | .hbm, ⟨27, _⟩ => ⟨S2x128x256, .f32⟩
  | .hbm, ⟨28, _⟩ => ⟨S2x128x256, .f32⟩
  | .hbm, ⟨29, _⟩ => ⟨S2x128x256, .f32⟩
  | .hbm, ⟨30, _⟩ => ⟨S_, .f32⟩
  | .hbm, ⟨31, _⟩ => ⟨S2x128x256, .f32⟩
  | .hbm, ⟨32, _⟩ => ⟨S2x128x256, .f32⟩
  | .hbm, ⟨33, _⟩ => ⟨S2x128x256, .f32⟩
  | .hbm, ⟨34, _⟩ => ⟨S_, .f32⟩
  | .hbm, ⟨35, _⟩ => ⟨S2x128x256, .f32⟩
  | .hbm, ⟨36, _⟩ => ⟨S2x128x256, .f32⟩
  | .hbm, ⟨37, _⟩ => ⟨S2x128x256, .f32⟩
  | .hbm, ⟨38, _⟩ => ⟨S_, .f32⟩
  | .hbm, ⟨39, _⟩ => ⟨S2x128x256, .f32⟩
  | .hbm, ⟨40, _⟩ => ⟨S2x128x256, .f32⟩
  | _, _ => ⟨S2x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamWoutKernel.lean ====
abbrev S2x128x1024 : Shape := ⟨3, ![2, 128, 1024]⟩
abbrev S128x1024 : Shape := ⟨2, ![128, 1024]⟩
abbrev S_ : Shape := ⟨0, ![]⟩
abbrev S8x128 : Shape := ⟨2, ![8, 128]⟩
abbrev S1x128x1024 : Shape := ⟨3, ![1, 128, 1024]⟩

abbrev nBuf : Space → Nat
  | .hbm => 15
  | .vmem => 16
  | .smem => 0
  | _ => 0

abbrev bufTy : (tb : Table) → Fin (tcTables nBuf tb) → BufTy
  | .hbm, ⟨0, _⟩ => ⟨S2x128x1024, .f32⟩
  | .hbm, ⟨1, _⟩ => ⟨S128x1024, .f32⟩
  | .hbm, ⟨2, _⟩ => ⟨S128x1024, .f32⟩
  | .hbm, ⟨3, _⟩ => ⟨S2x128x1024, .f32⟩
  | .hbm, ⟨4, _⟩ => ⟨S2x128x1024, .f32⟩
  | .hbm, ⟨5, _⟩ => ⟨S_, .f32⟩
  | .hbm, ⟨6, _⟩ => ⟨S8x128, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .local _ .vmem, ⟨0, _⟩ => ⟨S1x128x1024, .f32⟩
  | .local _ .vmem, ⟨1, _⟩ => ⟨S128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1x128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== AdamWoutReferenceIdeal.lean ====
abbrev S2x128x1024 : Shape := ⟨3, ![2, 128, 1024]⟩
abbrev S128x1024 : Shape := ⟨2, ![128, 1024]⟩
abbrev S1x128x1024 : Shape := ⟨3, ![1, 128, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S128x1024, .f32⟩
  | .hbm, ⟨2, _⟩ => ⟨S128x1024, .f32⟩
  | .hbm, ⟨3, _⟩ => ⟨S2x128x1024, .f32⟩
  | .hbm, ⟨4, _⟩ => ⟨S2x128x1024, .f32⟩
  | .hbm, ⟨5, _⟩ => ⟨S1x128x1024, .f32⟩
  | .hbm, ⟨6, _⟩ => ⟨S1x128x1024, .f32⟩
  | .hbm, ⟨7, _⟩ => ⟨S2x128x1024, .f32⟩
  | .hbm, ⟨8, _⟩ => ⟨S_, .f32⟩
  | .hbm, ⟨9, _⟩ => ⟨S2x128x1024, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== SumGateupKernel.lean ====
abbrev S8x352x1024 : Shape := ⟨3, ![8, 352, 1024]⟩
abbrev S8x360448 : Shape := ⟨2, ![8, 360448]⟩
abbrev S_ : Shape := ⟨0, ![]⟩
abbrev S8x64x1024 : Shape := ⟨3, ![8, 64, 1024]⟩
abbrev S8x768x1024 : Shape := ⟨3, ![8, 768, 1024]⟩
abbrev S768x1024 : Shape := ⟨2, ![768, 1024]⟩
abbrev S8x128x1024 : Shape := ⟨3, ![8, 128, 1024]⟩
abbrev S128x1024 : Shape := ⟨2, ![128, 1024]⟩
abbrev S1x128x1024 : Shape := ⟨3, ![1, 128, 1024]⟩
abbrev S352x1024 : Shape := ⟨2, ![352, 1024]⟩
abbrev S360448 : Shape := ⟨1, ![360448]⟩

abbrev nBuf : Space → Nat
  | .hbm => 16
  | .vmem => 4
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x360448, .bf16⟩
  | .hbm, ⟨3, _⟩ => ⟨S8x352x1024, .bf16⟩
  | .hbm, ⟨4, _⟩ => ⟨S8x360448, .bf16⟩
  | .hbm, ⟨5, _⟩ => ⟨S8x352x1024, .bf16⟩
  | .hbm, ⟨6, _⟩ => ⟨S_, .bf16⟩
  | .hbm, ⟨7, _⟩ => ⟨S8x64x1024, .bf16⟩
  | .hbm, ⟨8, _⟩ => ⟨S8x768x1024, .bf16⟩
  | .hbm, ⟨9, _⟩ => ⟨S768x1024, .f32⟩
  | .hbm, ⟨10, _⟩ => ⟨S352x1024, .f32⟩
  | .hbm, ⟨11, _⟩ => ⟨S360448, .f32⟩
  | .hbm, ⟨12, _⟩ => ⟨S352x1024, .f32⟩
  | .hbm, ⟨13, _⟩ => ⟨S352x1024, .f32⟩
  | .hbm, ⟨14, _⟩ => ⟨S360448, .f32⟩
  | .hbm, ⟨15, _⟩ => ⟨S352x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumGateupReferenceIdeal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .f32⟩
  | .hbm, ⟨3, _⟩ => ⟨S_, .f32⟩
  | .hbm, ⟨4, _⟩ => ⟨S352x1024, .f32⟩
  | .hbm, ⟨5, _⟩ => ⟨S8x352x1024, .f32⟩
  | .hbm, ⟨6, _⟩ => ⟨S_, .f32⟩
  | .hbm, ⟨7, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== SumDownKernel.lean ====
abbrev S8x352x1024 : Shape := ⟨3, ![8, 352, 1024]⟩
abbrev S8x360448 : Shape := ⟨2, ![8, 360448]⟩
abbrev S_ : Shape := ⟨0, ![]⟩
abbrev S8x32x1024 : Shape := ⟨3, ![8, 32, 1024]⟩
abbrev S8x384x1024 : Shape := ⟨3, ![8, 384, 1024]⟩
abbrev S384x1024 : Shape := ⟨2, ![384, 1024]⟩
abbrev S8x128x1024 : Shape := ⟨3, ![8, 128, 1024]⟩
abbrev S128x1024 : Shape := ⟨2, ![128, 1024]⟩
abbrev S1x128x1024 : Shape := ⟨3, ![1, 128, 1024]⟩
abbrev S352x1024 : Shape := ⟨2, ![352, 1024]⟩
abbrev S360448 : Shape := ⟨1, ![360448]⟩

abbrev nBuf : Space → Nat
  | .hbm => 10
  | .vmem => 4
  | .smem => 0
  | _ => 0

abbrev bufTy : (tb : Table) → Fin (tcTables nBuf tb) → BufTy
  | .hbm, ⟨0, _⟩ => ⟨S8x352x1024, .bf16⟩
  | .hbm, ⟨1, _⟩ => ⟨S8x360448, .bf16⟩
  | .hbm, ⟨2, _⟩ => ⟨S8x352x1024, .bf16⟩
  | .hbm, ⟨3, _⟩ => ⟨S_, .bf16⟩
  | .hbm, ⟨4, _⟩ => ⟨S8x32x1024, .bf16⟩
  | .hbm, ⟨5, _⟩ => ⟨S8x384x1024, .bf16⟩
  | .hbm, ⟨6, _⟩ => ⟨S384x1024, .f32⟩
  | .hbm, ⟨7, _⟩ => ⟨S352x1024, .f32⟩
  | .hbm, ⟨8, _⟩ => ⟨S360448, .f32⟩
  | .hbm, ⟨9, _⟩ => ⟨S352x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownReferenceIdeal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .f32⟩
  | .hbm, ⟨2, _⟩ => ⟨S_, .f32⟩
  | .hbm, ⟨3, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumMixKernel.lean ====
abbrev S8x452x1024 : Shape := ⟨3, ![8, 452, 1024]⟩
abbrev S8x128x512 : Shape := ⟨3, ![8, 128, 512]⟩
abbrev S8x96x256 : Shape := ⟨3, ![8, 96, 256]⟩
abbrev S8x128x256 : Shape := ⟨3, ![8, 128, 256]⟩
abbrev S8x128x1024 : Shape := ⟨3, ![8, 128, 1024]⟩
abbrev S8x352x1024 : Shape := ⟨3, ![8, 352, 1024]⟩
abbrev S8x462848 : Shape := ⟨2, ![8, 462848]⟩
abbrev S_ : Shape := ⟨0, ![]⟩
abbrev S8x475136 : Shape := ⟨2, ![8, 475136]⟩
abbrev S8x464x1024 : Shape := ⟨3, ![8, 464, 1024]⟩
abbrev S8x65536 : Shape := ⟨2, ![8, 65536]⟩
abbrev S8x64x1024 : Shape := ⟨3, ![8, 64, 1024]⟩
abbrev S8x24576 : Shape := ⟨2, ![8, 24576]⟩
abbrev S8x32768 : Shape := ⟨2, ![8, 32768]⟩
abbrev S8x32x1024 : Shape := ⟨3, ![8, 32, 1024]⟩
abbrev S8x131072 : Shape := ⟨2, ![8, 131072]⟩
abbrev S8x360448 : Shape := ⟨2, ![8, 360448]⟩
abbrev S8x80x1024 : Shape := ⟨3, ![8, 80, 1024]⟩
abbrev S8x1920x1024 : Shape := ⟨3, ![8, 1920, 1024]⟩
abbrev S1920x1024 : Shape := ⟨2, ![1920, 1024]⟩
abbrev S128x1024 : Shape := ⟨2, ![128, 1024]⟩
abbrev S1x128x1024 : Shape := ⟨3, ![1, 128, 1024]⟩
abbrev S464x1024 : Shape := ⟨2, ![464, 1024]⟩
abbrev S475136 : Shape := ⟨1, ![475136]⟩
abbrev S462848 : Shape := ⟨1, ![462848]⟩
abbrev S452x1024 : Shape := ⟨2, ![452, 1024]⟩
abbrev S64x1024 : Shape := ⟨2, ![64, 1024]⟩
abbrev S65536 : Shape := ⟨1, ![65536]⟩
abbrev S128x512 : Shape := ⟨2, ![128, 512]⟩
abbrev S32x1024 : Shape := ⟨2, ![32, 1024]⟩
abbrev S32768 : Shape := ⟨1, ![32768]⟩
abbrev S24576 : Shape := ⟨1, ![24576]⟩
abbrev S96x256 : Shape := ⟨2, ![96, 256]⟩
abbrev S128x256 : Shape := ⟨2, ![128, 256]⟩
abbrev S131072 : Shape := ⟨1, ![131072]⟩
abbrev S352x1024 : Shape := ⟨2, ![352, 1024]⟩
abbrev S360448 : Shape := ⟨1, ![360448]⟩

abbrev nBuf : Space → Nat
  | .hbm => 66
  | .vmem => 4
  | .smem => 0
  | _ => 0

abbrev bufTy : (tb : Table) → Fin (tcTables nBuf tb) → BufTy
  | .hbm, ⟨0, _⟩ => ⟨S8x452x1024, .bf16⟩
  | .hbm, ⟨1, _⟩ => ⟨S8x128x512, .bf16⟩
  | .hbm, ⟨2, _⟩ => ⟨S8x96x256, .bf16⟩
  | .hbm, ⟨3, _⟩ => ⟨S8x128x256, .bf16⟩
  | .hbm, ⟨4, _⟩ => ⟨S8x128x512, .bf16⟩
  | .hbm, ⟨5, _⟩ => ⟨S8x128x1024, .bf16⟩
  | .hbm, ⟨6, _⟩ => ⟨S8x352x1024, .bf16⟩
  | .hbm, ⟨7, _⟩ => ⟨S8x352x1024, .bf16⟩
  | .hbm, ⟨8, _⟩ => ⟨S8x352x1024, .bf16⟩
  | .hbm, ⟨9, _⟩ => ⟨S8x462848, .bf16⟩
  | .hbm, ⟨10, _⟩ => ⟨S_, .i32⟩
  | .hbm, ⟨11, _⟩ => ⟨S_, .bf16⟩
  | .hbm, ⟨12, _⟩ => ⟨S8x475136, .bf16⟩
  | .hbm, ⟨13, _⟩ => ⟨S8x464x1024, .bf16⟩
  | .hbm, ⟨14, _⟩ => ⟨S8x65536, .bf16⟩
  | .hbm, ⟨15, _⟩ => ⟨S8x64x1024, .bf16⟩
  | .hbm, ⟨16, _⟩ => ⟨S8x24576, .bf16⟩
  | .hbm, ⟨17, _⟩ => ⟨S_, .i32⟩
  | .hbm, ⟨18, _⟩ => ⟨S_, .bf16⟩
  | .hbm, ⟨19, _⟩ => ⟨S8x32768, .bf16⟩
  | .hbm, ⟨20, _⟩ => ⟨S8x32x1024, .bf16⟩
  | .hbm, ⟨21, _⟩ => ⟨S8x32768, .bf16⟩
  | .hbm, ⟨22, _⟩ => ⟨S8x32x1024, .bf16⟩
  | .hbm, ⟨23, _⟩ => ⟨S8x65536, .bf16⟩
  | .hbm, ⟨24, _⟩ => ⟨S8x64x1024, .bf16⟩
  | .hbm, ⟨25, _⟩ => ⟨S8x131072, .bf16⟩
  | .hbm, ⟨26, _⟩ => ⟨S8x128x1024, .bf16⟩
  | .hbm, ⟨27, _⟩ => ⟨S8x360448, .bf16⟩
  | .hbm, ⟨28, _⟩ => ⟨S8x352x1024, .bf16⟩
  | .hbm, ⟨29, _⟩ => ⟨S8x360448, .bf16⟩
  | .hbm, ⟨30, _⟩ => ⟨S8x352x1024, .bf16⟩
  | .hbm, ⟨31, _⟩ => ⟨S8x360448, .bf16⟩
  | .hbm, ⟨32, _⟩ => ⟨S8x352x1024, .bf16⟩
  | .hbm, ⟨33, _⟩ => ⟨S_, .bf16⟩
  | .hbm, ⟨34, _⟩ => ⟨S8x80x1024, .bf16⟩
  | .hbm, ⟨35, _⟩ => ⟨S8x1920x1024, .bf16⟩
  | .hbm, ⟨36, _⟩ => ⟨S1920x1024, .f32⟩
  | .hbm, ⟨37, _⟩ => ⟨S464x1024, .f32⟩
  | .hbm, ⟨38, _⟩ => ⟨S475136, .f32⟩
  | .hbm, ⟨39, _⟩ => ⟨S462848, .f32⟩
  | .hbm, ⟨40, _⟩ => ⟨S452x1024, .f32⟩
  | .hbm, ⟨41, _⟩ => ⟨S64x1024, .f32⟩
  | .hbm, ⟨42, _⟩ => ⟨S65536, .f32⟩
  | .hbm, ⟨43, _⟩ => ⟨S128x512, .f32⟩
  | .hbm, ⟨44, _⟩ => ⟨S32x1024, .f32⟩
  | .hbm, ⟨45, _⟩ => ⟨S32768, .f32⟩
  | .hbm, ⟨46, _⟩ => ⟨S24576, .f32⟩
  | .hbm, ⟨47, _⟩ => ⟨S96x256, .f32⟩
  | .hbm, ⟨48, _⟩ => ⟨S32x1024, .f32⟩
  | .hbm, ⟨49, _⟩ => ⟨S32768, .f32⟩
  | .hbm, ⟨50, _⟩ => ⟨S128x256, .f32⟩
  | .hbm, ⟨51, _⟩ => ⟨S64x1024, .f32⟩
  | .hbm, ⟨52, _⟩ => ⟨S65536, .f32⟩
  | .hbm, ⟨53, _⟩ => ⟨S128x512, .f32⟩
  | .hbm, ⟨54, _⟩ => ⟨S128x1024, .f32⟩
  | .hbm, ⟨55, _⟩ => ⟨S131072, .f32⟩
  | .hbm, ⟨56, _⟩ => ⟨S128x1024, .f32⟩
  | .hbm, ⟨57, _⟩ => ⟨S352x1024, .f32⟩
  | .hbm, ⟨58, _⟩ => ⟨S360448, .f32⟩
  | .hbm, ⟨59, _⟩ => ⟨S352x1024, .f32⟩
  | .hbm, ⟨60, _⟩ => ⟨S352x1024, .f32⟩
  | .hbm, ⟨61, _⟩ => ⟨S360448, .f32⟩
  | .hbm, ⟨62, _⟩ => ⟨S352x1024, .f32⟩
  | .hbm, ⟨63, _⟩ => ⟨S352x1024, .f32⟩
  | .hbm, ⟨64, _⟩ => ⟨S360448, .f32⟩
  | .hbm, ⟨65, _⟩ => ⟨S352x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | _, _ => ⟨S8x452x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![15], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumMixReferenceIdeal.lean ====
abbrev S8x452x1024 : Shape := ⟨3, ![8, 452, 1024]⟩
abbrev S8x128x512 : Shape := ⟨3, ![8, 128, 512]⟩
abbrev S8x96x256 : Shape := ⟨3, ![8, 96, 256]⟩
abbrev S8x128x256 : Shape := ⟨3, ![8, 128, 256]⟩
abbrev S8x128x1024 : Shape := ⟨3, ![8, 128, 1024]⟩
abbrev S8x352x1024 : Shape := ⟨3, ![8, 352, 1024]⟩
abbrev S_ : Shape := ⟨0, ![]⟩
abbrev S452x1024 : Shape := ⟨2, ![452, 1024]⟩
abbrev S128x512 : Shape := ⟨2, ![128, 512]⟩
abbrev S96x256 : Shape := ⟨2, ![96, 256]⟩
abbrev S128x256 : Shape := ⟨2, ![128, 256]⟩
abbrev S128x1024 : Shape := ⟨2, ![128, 1024]⟩
abbrev S352x1024 : Shape := ⟨2, ![352, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x452x1024, .bf16⟩
  | .hbm, ⟨1, _⟩ => ⟨S8x128x512, .bf16⟩
  | .hbm, ⟨2, _⟩ => ⟨S8x96x256, .bf16⟩
  | .hbm, ⟨3, _⟩ => ⟨S8x128x256, .bf16⟩
  | .hbm, ⟨4, _⟩ => ⟨S8x128x512, .bf16⟩
  | .hbm, ⟨5, _⟩ => ⟨S8x128x1024, .bf16⟩
  | .hbm, ⟨6, _⟩ => ⟨S8x352x1024, .bf16⟩
  | .hbm, ⟨7, _⟩ => ⟨S8x352x1024, .bf16⟩
  | .hbm, ⟨8, _⟩ => ⟨S8x352x1024, .bf16⟩
  | .hbm, ⟨9, _⟩ => ⟨S8x452x1024, .f32⟩
  | .hbm, ⟨10, _⟩ => ⟨S_, .f32⟩
  | .hbm, ⟨11, _⟩ => ⟨S452x1024, .f32⟩
  | .hbm, ⟨12, _⟩ => ⟨S8x128x512, .f32⟩
  | .hbm, ⟨13, _⟩ => ⟨S_, .f32⟩
  | .hbm, ⟨14, _⟩ => ⟨S128x512, .f32⟩
  | .hbm, ⟨15, _⟩ => ⟨S8x96x256, .f32⟩
  | .hbm, ⟨16, _⟩ => ⟨S_, .f32⟩
  | .hbm, ⟨17, _⟩ => ⟨S96x256, .f32⟩
  | .hbm, ⟨18, _⟩ => ⟨S8x128x256, .f32⟩
  | .hbm, ⟨19, _⟩ => ⟨S_, .f32⟩
  | .hbm, ⟨20, _⟩ => ⟨S128x256, .f32⟩
  | .hbm, ⟨21, _⟩ => ⟨S8x128x512, .f32⟩
  | .hbm, ⟨22, _⟩ => ⟨S_, .f32⟩
  | .hbm, ⟨23, _⟩ => ⟨S128x512, .f32⟩
  | .hbm, ⟨24, _⟩ => ⟨S8x128x1024, .f32⟩
  | .hbm, ⟨25, _⟩ => ⟨S_, .f32⟩
  | .hbm, ⟨26, _⟩ => ⟨S128x1024, .f32⟩
  | .hbm, ⟨27, _⟩ => ⟨S8x352x1024, .f32⟩
  | .hbm, ⟨28, _⟩ => ⟨S_, .f32⟩
  | .hbm, ⟨29, _⟩ => ⟨S352x1024, .f32⟩
  | .hbm, ⟨30, _⟩ => ⟨S8x352x1024, .f32⟩
  | .hbm, ⟨31, _⟩ => ⟨S_, .f32⟩
  | .hbm, ⟨32, _⟩ => ⟨S352x1024, .f32⟩
  | .hbm, ⟨33, _⟩ => ⟨S8x352x1024, .f32⟩
  | .hbm, ⟨34, _⟩ => ⟨S_, .f32⟩
  | .hbm, ⟨35, _⟩ => ⟨S352x1024, .f32⟩
  | _, _ => ⟨S8x452x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_cst_7 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== SumSmallKernel.lean ====
abbrev S8x1x128 : Shape := ⟨3, ![8, 1, 128]⟩
abbrev S8x2x1024 : Shape := ⟨3, ![8, 2, 1024]⟩
abbrev S8x2x512 : Shape := ⟨3, ![8, 2, 512]⟩
abbrev S8x2x256 : Shape := ⟨3, ![8, 2, 256]⟩
abbrev S8x2x96 : Shape := ⟨3, ![8, 2, 96]⟩
abbrev S8x2x31x512 : Shape := ⟨4, ![8, 2, 31, 512]⟩
abbrev S8x2x2x1024 : Shape := ⟨4, ![8, 2, 2, 1024]⟩
abbrev S8x1x1024 : Shape := ⟨3, ![8, 1, 1024]⟩
abbrev S8x1024 : Shape := ⟨2, ![8, 1024]⟩
abbrev S8x1x512 : Shape := ⟨3, ![8, 1, 512]⟩
abbrev S8x512 : Shape := ⟨2, ![8, 512]⟩
abbrev S8x1x256 : Shape := ⟨3, ![8, 1, 256]⟩
abbrev S8x256 : Shape := ⟨2, ![8, 256]⟩
abbrev S8x1x96 : Shape := ⟨3, ![8, 1, 96]⟩
abbrev S8x96 : Shape := ⟨2, ![8, 96]⟩
abbrev S8x1x31x512 : Shape := ⟨4, ![8, 1, 31, 512]⟩
abbrev S8x31x512 : Shape := ⟨3, ![8, 31, 512]⟩
abbrev S8x1x2x1024 : Shape := ⟨4, ![8, 1, 2, 1024]⟩
abbrev S_ : Shape := ⟨0, ![]⟩
abbrev S8x128 : Shape := ⟨2, ![8, 128]⟩
abbrev S8x15872 : Shape := ⟨2, ![8, 15872]⟩
abbrev S8x2048 : Shape := ⟨2, ![8, 2048]⟩
abbrev S2432 : Shape := ⟨1, ![2432]⟩
abbrev S8x2432 : Shape := ⟨2, ![8, 2432]⟩
abbrev S8x26368 : Shape := ⟨2, ![8, 26368]⟩
abbrev S8x22784 : Shape := ⟨2, ![8, 22784]⟩
abbrev S8x49152 : Shape := ⟨2, ![8, 49152]⟩
abbrev S8x48x1024 : Shape := ⟨3, ![8, 48, 1024]⟩
abbrev S48x1024 : Shape := ⟨2, ![48, 1024]⟩
abbrev S1x48x1024 : Shape := ⟨3, ![1, 48, 1024]⟩
abbrev S49152 : Shape := ⟨1, ![49152]⟩
abbrev S128 : Shape := ⟨1, ![128]⟩
abbrev S1x128 : Shape := ⟨2, ![1, 128]⟩
abbrev S1x1 : Shape := ⟨2, ![1, 1]⟩
abbrev S1024 : Shape := ⟨1, ![1024]⟩
abbrev S1x1024 : Shape := ⟨2, ![1, 1024]⟩
abbrev S2x1024 : Shape := ⟨2, ![2, 1024]⟩
abbrev S512 : Shape := ⟨1, ![512]⟩
abbrev S1x512 : Shape := ⟨2, ![1, 512]⟩
abbrev S2x512 : Shape := ⟨2, ![2, 512]⟩
abbrev S256 : Shape := ⟨1, ![256]⟩
abbrev S1x256 : Shape := ⟨2, ![1, 256]⟩
abbrev S2x256 : Shape := ⟨2, ![2, 256]⟩
abbrev S96 : Shape := ⟨1, ![96]⟩
abbrev S1x96 : Shape := ⟨2, ![1, 96]⟩
abbrev S2x96 : Shape := ⟨2, ![2, 96]⟩
abbrev S15872 : Shape := ⟨1, ![15872]⟩
abbrev S31x512 : Shape := ⟨2, ![31, 512]⟩
abbrev S1x31x512 : Shape := ⟨3, ![1, 31, 512]⟩
abbrev S2x31x512 : Shape := ⟨3, ![2, 31, 512]⟩
abbrev S2048 : Shape := ⟨1, ![2048]⟩
abbrev S1x2x1024 : Shape := ⟨3, ![1, 2, 1024]⟩
abbrev S2x2x1024 : Shape := ⟨3, ![2, 2, 1024]⟩

abbrev nBuf : Space → Nat
  | .hbm => 242
  | .vmem => 2
  | .smem => 0
  | _ => 0

abbrev hbmTy0_0 (i : Nat) : BufTy := match i % 128 with
  | 0 => ⟨S8x1x128, .f32⟩
  | 1 => ⟨S8x2x1024, .f32⟩
  | 2 => ⟨S8x2x1024, .f32⟩
  | 3 => ⟨S8x2x512, .f32⟩
  | 4 => ⟨S8x2x512, .f32⟩
  | 5 => ⟨S8x2x512, .f32⟩
  | 6 => ⟨S8x2x256, .f32⟩
  | 7 => ⟨S8x2x256, .f32⟩
  | 8 => ⟨S8x2x96, .f32⟩
  | 9 => ⟨S8x2x96, .f32⟩
  | 10 => ⟨S8x2x1024, .f32⟩
  | 11 => ⟨S8x2x31x512, .f32⟩
  | 12 => ⟨S8x2x2x1024, .f32⟩
  | 13 => ⟨S8x1x1024, .f32⟩
  | 14 => ⟨S8x1024, .f32⟩
  | 15 => ⟨S8x1x1024, .f32⟩
  | 16 => ⟨S8x1024, .f32⟩
  | 17 => ⟨S8x1x512, .f32⟩
  | 18 => ⟨S8x512, .f32⟩
  | 19 => ⟨S8x1x512, .f32⟩
  | 20 => ⟨S8x512, .f32⟩
  | 21 => ⟨S8x1x512, .f32⟩
  | 22 => ⟨S8x512, .f32⟩
  | 23 => ⟨S8x1x256, .f32⟩
  | 24 => ⟨S8x256, .f32⟩
  | 25 => ⟨S8x1x256, .f32⟩
  | 26 => ⟨S8x256, .f32⟩
  | 27 => ⟨S8x1x96, .f32⟩
  | 28 => ⟨S8x96, .f32⟩
  | 29 => ⟨S8x1x96, .f32⟩
  | 30 => ⟨S8x96, .f32⟩
  | 31 => ⟨S8x1x1024, .f32⟩
  | 32 => ⟨S8x1024, .f32⟩
  | 33 => ⟨S8x1x31x512, .f32⟩
  | 34 => ⟨S8x31x512, .f32⟩
  | 35 => ⟨S8x1x2x1024, .f32⟩
  | 36 => ⟨S8x2x1024, .f32⟩
  | 37 => ⟨S8x1x1024, .f32⟩
  | 38 => ⟨S8x1024, .f32⟩
  | 39 => ⟨S8x1x1024, .f32⟩
  | 40 => ⟨S8x1024, .f32⟩
  | 41 => ⟨S8x1x512, .f32⟩
  | 42 => ⟨S8x512, .f32⟩
  | 43 => ⟨S8x1x512, .f32⟩
  | 44 => ⟨S8x512, .f32⟩
  | 45 => ⟨S8x1x512, .f32⟩
  | 46 => ⟨S8x512, .f32⟩
  | 47 => ⟨S8x1x256, .f32⟩
  | 48 => ⟨S8x256, .f32⟩
  | 49 => ⟨S8x1x256, .f32⟩
  | 50 => ⟨S8x256, .f32⟩
  | 51 => ⟨S8x1x96, .f32⟩
  | 52 => ⟨S8x96, .f32⟩
  | 53 => ⟨S8x1x96, .f32⟩
  | 54 => ⟨S8x96, .f32⟩
  | 55 => ⟨S8x1x1024, .f32⟩
  | 56 => ⟨S8x1024, .f32⟩
  | 57 => ⟨S8x1x31x512, .f32⟩
  | 58 => ⟨S8x31x512, .f32⟩
  | 59 => ⟨S8x1x2x1024, .f32⟩
  | 60 => ⟨S8x2x1024, .f32⟩
  | 61 => ⟨S_, .i32⟩
  | 62 => ⟨S_, .f32⟩
  | 63 => ⟨S8x1024, .f32⟩
  | 64 => ⟨S_, .i32⟩
  | 65 => ⟨S_, .f32⟩
  | 66 => ⟨S8x1024, .f32⟩
  | 67 => ⟨S_, .i32⟩
  | 68 => ⟨S_, .f32⟩
  | 69 => ⟨S8x512, .f32⟩
  | 70 => ⟨S_, .i32⟩
  | 71 => ⟨S_, .f32⟩
  | 72 => ⟨S8x512, .f32⟩
  | 73 => ⟨S_, .i32⟩
  | 74 => ⟨S_, .f32⟩
  | 75 => ⟨S8x512, .f32⟩
  | 76 => ⟨S_, .i32⟩
  | 77 => ⟨S_, .f32⟩
  | 78 => ⟨S8x256, .f32⟩
  | 79 => ⟨S_, .i32⟩
  | 80 => ⟨S_, .f32⟩
  | 81 => ⟨S8x256, .f32⟩
  | 82 => ⟨S_, .i32⟩
  | 83 => ⟨S_, .f32⟩
  | 84 => ⟨S8x128, .f32⟩
  | 85 => ⟨S_, .i32⟩
  | 86 => ⟨S_, .f32⟩
  | 87 => ⟨S8x128, .f32⟩
  | 88 => ⟨S_, .i32⟩
  | 89 => ⟨S_, .f32⟩
  | 90 => ⟨S8x1024, .f32⟩
  | 91 => ⟨S8x15872, .f32⟩
  | 92 => ⟨S_, .i32⟩
  | 93 => ⟨S_, .f32⟩
  | 94 => ⟨S8x15872, .f32⟩
  | 95 => ⟨S8x2048, .f32⟩
  | 96 => ⟨S_, .i32⟩
  | 97 => ⟨S_, .f32⟩
  | 98 => ⟨S8x2048, .f32⟩
  | 99 => ⟨S_, .i32⟩
  | 100 => ⟨S_, .f32⟩
  | 101 => ⟨S8x1024, .f32⟩
  | 102 => ⟨S_, .i32⟩
  | 103 => ⟨S_, .f32⟩
  | 104 => ⟨S8x1024, .f32⟩
  | 105 => ⟨S_, .i32⟩
  | 106 => ⟨S_, .f32⟩
  | 107 => ⟨S8x512, .f32⟩
  | 108 => ⟨S_, .i32⟩
  | 109 => ⟨S_, .f32⟩
  | 110 => ⟨S8x512, .f32⟩
  | 111 => ⟨S_, .i32⟩
  | 112 => ⟨S_, .f32⟩
  | 113 => ⟨S8x512, .f32⟩
  | 114 => ⟨S_, .i32⟩
  | 115 => ⟨S_, .f32⟩
  | 116 => ⟨S8x256, .f32⟩
  | 117 => ⟨S_, .i32⟩
  | 118 => ⟨S_, .f32⟩
  | 119 => ⟨S8x256, .f32⟩
  | 120 => ⟨S_, .i32⟩
  | 121 => ⟨S_, .f32⟩
  | 122 => ⟨S8x128, .f32⟩
  | 123 => ⟨S_, .i32⟩
  | 124 => ⟨S_, .f32⟩
  | 125 => ⟨S8x128, .f32⟩
  | 126 => ⟨S_, .i32⟩
  | 127 => ⟨S_, .f32⟩
  | _ => ⟨S8x1x128, .f32⟩

abbrev hbmTy0_1 (i : Nat) : BufTy := match i % 128 with
  | 0 => ⟨S8x1024, .f32⟩
  | 1 => ⟨S8x15872, .f32⟩
  | 2 => ⟨S_, .i32⟩
  | 3 => ⟨S_, .f32⟩
  | 4 => ⟨S8x15872, .f32⟩
  | 5 => ⟨S8x2048, .f32⟩
  | 6 => ⟨S_, .i32⟩
  | 7 => ⟨S_, .f32⟩
  | 8 => ⟨S8x2048, .f32⟩
  | 9 => ⟨S8x128, .f32⟩
  | 10 => ⟨S_, .i32⟩
  | 11 => ⟨S_, .f32⟩
  | 12 => ⟨S8x128, .f32⟩
  | 13 => ⟨S_, .f32⟩
  | 14 => ⟨S2432, .f32⟩
  | 15 => ⟨S8x2432, .f32⟩
  | 16 => ⟨S8x26368, .f32⟩
  | 17 => ⟨S8x22784, .f32⟩
  | 18 => ⟨S8x49152, .f32⟩
  | 19 => ⟨S8x48x1024, .f32⟩
  | 20 => ⟨S48x1024, .f32⟩
  | 21 => ⟨S49152, .f32⟩
  | 22 => ⟨S128, .f32⟩
  | 23 => ⟨S1x128, .f32⟩
  | 24 => ⟨S1x1, .f32⟩
  | 25 => ⟨S_, .f32⟩
  | 26 => ⟨S49152, .f32⟩
  | 27 => ⟨S1024, .f32⟩
  | 28 => ⟨S49152, .f32⟩
  | 29 => ⟨S1024, .f32⟩
  | 30 => ⟨S1x1024, .f32⟩
  | 31 => ⟨S1x1024, .f32⟩
  | 32 => ⟨S2x1024, .f32⟩
  | 33 => ⟨S49152, .f32⟩
  | 34 => ⟨S1024, .f32⟩
  | 35 => ⟨S49152, .f32⟩
  | 36 => ⟨S1024, .f32⟩
  | 37 => ⟨S1x1024, .f32⟩
  | 38 => ⟨S1x1024, .f32⟩
  | 39 => ⟨S2x1024, .f32⟩
  | 40 => ⟨S49152, .f32⟩
  | 41 => ⟨S512, .f32⟩
  | 42 => ⟨S49152, .f32⟩
  | 43 => ⟨S512, .f32⟩
  | 44 => ⟨S1x512, .f32⟩
  | 45 => ⟨S1x512, .f32⟩
  | 46 => ⟨S2x512, .f32⟩
  | 47 => ⟨S49152, .f32⟩
  | 48 => ⟨S512, .f32⟩
  | 49 => ⟨S49152, .f32⟩
  | 50 => ⟨S512, .f32⟩
  | 51 => ⟨S1x512, .f32⟩
  | 52 => ⟨S1x512, .f32⟩
  | 53 => ⟨S2x512, .f32⟩
  | 54 => ⟨S49152, .f32⟩
  | 55 => ⟨S512, .f32⟩
  | 56 => ⟨S49152, .f32⟩
  | 57 => ⟨S512, .f32⟩
  | 58 => ⟨S1x512, .f32⟩
  | 59 => ⟨S1x512, .f32⟩
  | 60 => ⟨S2x512, .f32⟩
  | 61 => ⟨S49152, .f32⟩
  | 62 => ⟨S256, .f32⟩
  | 63 => ⟨S49152, .f32⟩
  | 64 => ⟨S256, .f32⟩
  | 65 => ⟨S1x256, .f32⟩
  | 66 => ⟨S1x256, .f32⟩
  | 67 => ⟨S2x256, .f32⟩
  | 68 => ⟨S49152, .f32⟩
  | 69 => ⟨S256, .f32⟩
  | 70 => ⟨S49152, .f32⟩
  | 71 => ⟨S256, .f32⟩
  | 72 => ⟨S1x256, .f32⟩
  | 73 => ⟨S1x256, .f32⟩
  | 74 => ⟨S2x256, .f32⟩
  | 75 => ⟨S49152, .f32⟩
  | 76 => ⟨S96, .f32⟩
  | 77 => ⟨S49152, .f32⟩
  | 78 => ⟨S96, .f32⟩
  | 79 => ⟨S1x96, .f32⟩
  | 80 => ⟨S1x96, .f32⟩
  | 81 => ⟨S2x96, .f32⟩
  | 82 => ⟨S49152, .f32⟩
  | 83 => ⟨S96, .f32⟩
  | 84 => ⟨S49152, .f32⟩
  | 85 => ⟨S96, .f32⟩
  | 86 => ⟨S1x96, .f32⟩
  | 87 => ⟨S1x96, .f32⟩
  | 88 => ⟨S2x96, .f32⟩
  | 89 => ⟨S49152, .f32⟩
  | 90 => ⟨S1024, .f32⟩
  | 91 => ⟨S49152, .f32⟩
  | 92 => ⟨S1024, .f32⟩
  | 93 => ⟨S1x1024, .f32⟩
  | 94 => ⟨S1x1024, .f32⟩
  | 95 => ⟨S2x1024, .f32⟩
  | 96 => ⟨S49152, .f32⟩
  | 97 => ⟨S15872, .f32⟩
  | 98 => ⟨S31x512, .f32⟩
  | 99 => ⟨S49152, .f32⟩
  | 100 => ⟨S15872, .f32⟩
  | 101 => ⟨S31x512, .f32⟩
  | 102 => ⟨S1x31x512, .f32⟩
  | 103 => ⟨S1x31x512, .f32⟩
  | 104 => ⟨S2x31x512, .f32⟩
  | 105 => ⟨S49152, .f32⟩
  | 106 => ⟨S2048, .f32⟩
  | 107 => ⟨S2x1024, .f32⟩
  | 108 => ⟨S49152, .f32⟩
  | 109 => ⟨S2048, .f32⟩
  | 110 => ⟨S2x1024, .f32⟩
  | 111 => ⟨S1x2x1024, .f32⟩
  | 112 => ⟨S1x2x1024, .f32⟩
  | 113 => ⟨S2x2x1024, .f32⟩
  | _ => ⟨S8x1x128, .f32⟩

abbrev hbmTy (i : Nat) : BufTy := match i / 128 with
  | 0 => hbmTy0_0 i
  | 1 => hbmTy0_1 i
  | _ => ⟨S8x1x128, .f32⟩

abbrev bufTy : (tb : Table) → Fin (tcTables nBuf tb) → BufTy
  | .hbm, ⟨i, _⟩ => hbmTy i
  | .local _ .vmem, ⟨0, _⟩ => ⟨S8x48x1024, .f32⟩
  | .local _ .vmem, ⟨1, _⟩ => ⟨S48x1024, .f32⟩
  | _, _ => ⟨S8x1x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c : Ref sig .tc := ⟨.hbm, 61, rfl⟩
abbrev main_call0_v0 : Ref sig .tc := ⟨.hbm, 62, rfl⟩
abbrev main_v48 : Ref sig .tc := ⟨.hbm, 63, rfl⟩
abbrev main_c_0 : Ref sig .tc := ⟨.hbm, 64, rfl⟩
abbrev main_call1_v0 : Ref sig .tc := ⟨.hbm, 65, rfl⟩
abbrev main_v49 : Ref sig .tc := ⟨.hbm, 66, rfl⟩
abbrev main_c_1 : Ref sig .tc := ⟨.hbm, 67, rfl⟩
abbrev main_call2_v0 : Ref sig .tc := ⟨.hbm, 68, rfl⟩
abbrev main_v50 : Ref sig .tc := ⟨.hbm, 69, rfl⟩
abbrev main_c_2 : Ref sig .tc := ⟨.hbm, 70, rfl⟩
abbrev main_call3_v0 : Ref sig .tc := ⟨.hbm, 71, rfl⟩
abbrev main_v51 : Ref sig .tc := ⟨.hbm, 72, rfl⟩
abbrev main_c_3 : Ref sig .tc := ⟨.hbm, 73, rfl⟩
abbrev main_call4_v0 : Ref sig .tc := ⟨.hbm, 74, rfl⟩
abbrev main_v52 : Ref sig .tc := ⟨.hbm, 75, rfl⟩
abbrev main_c_4 : Ref sig .tc := ⟨.hbm, 76, rfl⟩
abbrev main_call5_v0 : Ref sig .tc := ⟨.hbm, 77, rfl⟩
abbrev main_v53 : Ref sig .tc := ⟨.hbm, 78, rfl⟩
abbrev main_c_5 : Ref sig .tc := ⟨.hbm, 79, rfl⟩
abbrev main_call6_v0 : Ref sig .tc := ⟨.hbm, 80, rfl⟩
abbrev main_v54 : Ref sig .tc := ⟨.hbm, 81, rfl⟩
abbrev main_c_6 : Ref sig .tc := ⟨.hbm, 82, rfl⟩
abbrev main_call7_v0 : Ref sig .tc := ⟨.hbm, 83, rfl⟩
abbrev main_v55 : Ref sig .tc := ⟨.hbm, 84, rfl⟩
abbrev main_c_7 : Ref sig .tc := ⟨.hbm, 85, rfl⟩
abbrev main_call8_v0 : Ref sig .tc := ⟨.hbm, 86, rfl⟩
abbrev main_v56 : Ref sig .tc := ⟨.hbm, 87, rfl⟩
abbrev main_c_8 : Ref sig .tc := ⟨.hbm, 88, rfl⟩
abbrev main_call9_v0 : Ref sig .tc := ⟨.hbm, 89, rfl⟩
abbrev main_v57 : Ref sig .tc := ⟨.hbm, 90, rfl⟩
abbrev main_v58 : Ref sig .tc := ⟨.hbm, 91, rfl⟩
abbrev main_c_9 : Ref sig .tc := ⟨.hbm, 92, rfl⟩
abbrev main_call10_v0 : Ref sig .tc := ⟨.hbm, 93, rfl⟩
abbrev main_v59 : Ref sig .tc := ⟨.hbm, 94, rfl⟩
abbrev main_v60 : Ref sig .tc := ⟨.hbm, 95, rfl⟩
abbrev main_c_10 : Ref sig .tc := ⟨.hbm, 96, rfl⟩
abbrev main_call11_v0 : Ref sig .tc := ⟨.hbm, 97, rfl⟩
abbrev main_v61 : Ref sig .tc := ⟨.hbm, 98, rfl⟩
abbrev main_c_11 : Ref sig .tc := ⟨.hbm, 99, rfl⟩
abbrev main_call12_v0 : Ref sig .tc := ⟨.hbm, 100, rfl⟩
abbrev main_v62 : Ref sig .tc := ⟨.hbm, 101, rfl⟩
abbrev main_c_12 : Ref sig .tc := ⟨.hbm, 102, rfl⟩
abbrev main_call13_v0 : Ref sig .tc := ⟨.hbm, 103, rfl⟩
abbrev main_v63 : Ref sig .tc := ⟨.hbm, 104, rfl⟩
abbrev main_c_13 : Ref sig .tc := ⟨.hbm, 105, rfl⟩
abbrev main_call14_v0 : Ref sig .tc := ⟨.hbm, 106, rfl⟩
abbrev main_v64 : Ref sig .tc := ⟨.hbm, 107, rfl⟩
abbrev main_c_14 : Ref sig .tc := ⟨.hbm, 108, rfl⟩
abbrev main_call15_v0 : Ref sig .tc := ⟨.hbm, 109, rfl⟩
abbrev main_v65 : Ref sig .tc := ⟨.hbm, 110, rfl⟩
abbrev main_c_15 : Ref sig .tc := ⟨.hbm, 111, rfl⟩
abbrev main_call16_v0 : Ref sig .tc := ⟨.hbm, 112, rfl⟩
abbrev main_v66 : Ref sig .tc := ⟨.hbm, 113, rfl⟩
abbrev main_c_16 : Ref sig .tc := ⟨.hbm, 114, rfl⟩
abbrev main_call17_v0 : Ref sig .tc := ⟨.hbm, 115, rfl⟩
abbrev main_v67 : Ref sig .tc := ⟨.hbm, 116, rfl⟩
abbrev main_c_17 : Ref sig .tc := ⟨.hbm, 117, rfl⟩
abbrev main_call18_v0 : Ref sig .tc := ⟨.hbm, 118, rfl⟩
abbrev main_v68 : Ref sig .tc := ⟨.hbm, 119, rfl⟩
abbrev main_c_18 : Ref sig .tc := ⟨.hbm, 120, rfl⟩
abbrev main_call19_v0 : Ref sig .tc := ⟨.hbm, 121, rfl⟩
abbrev main_v69 : Ref sig .tc := ⟨.hbm, 122, rfl⟩
abbrev main_c_19 : Ref sig .tc := ⟨.hbm, 123, rfl⟩
abbrev main_call20_v0 : Ref sig .tc := ⟨.hbm, 124, rfl⟩
abbrev main_v70 : Ref sig .tc := ⟨.hbm, 125, rfl⟩
abbrev main_c_20 : Ref sig .tc := ⟨.hbm, 126, rfl⟩
abbrev main_call21_v0 : Ref sig .tc := ⟨.hbm, 127, rfl⟩
abbrev main_v71 : Ref sig .tc := ⟨.hbm, 128, rfl⟩
abbrev main_v72 : Ref sig .tc := ⟨.hbm, 129, rfl⟩
abbrev main_c_21 : Ref sig .tc := ⟨.hbm, 130, rfl⟩
abbrev main_call22_v0 : Ref sig .tc := ⟨.hbm, 131, rfl⟩
abbrev main_v73 : Ref sig .tc := ⟨.hbm, 132, rfl⟩
abbrev main_v74 : Ref sig .tc := ⟨.hbm, 133, rfl⟩
abbrev main_c_22 : Ref sig .tc := ⟨.hbm, 134, rfl⟩
abbrev main_call23_v0 : Ref sig .tc := ⟨.hbm, 135, rfl⟩
abbrev main_v75 : Ref sig .tc := ⟨.hbm, 136, rfl⟩
abbrev main_v76 : Ref sig .tc := ⟨.hbm, 137, rfl⟩
abbrev main_c_23 : Ref sig .tc := ⟨.hbm, 138, rfl⟩
abbrev main_call24_v0 : Ref sig .tc := ⟨.hbm, 139, rfl⟩
abbrev main_v77 : Ref sig .tc := ⟨.hbm, 140, rfl⟩
abbrev main_cst : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallReferenceIdeal.lean ====
abbrev S8x1x128 : Shape := ⟨3, ![8, 1, 128]⟩
abbrev S8x2x1024 : Shape := ⟨3, ![8, 2, 1024]⟩
abbrev S8x2x512 : Shape := ⟨3, ![8, 2, 512]⟩
abbrev S8x2x256 : Shape := ⟨3, ![8, 2, 256]⟩
abbrev S8x2x96 : Shape := ⟨3, ![8, 2, 96]⟩
abbrev S8x2x31x512 : Shape := ⟨4, ![8, 2, 31, 512]⟩
abbrev S8x2x2x1024 : Shape := ⟨4, ![8, 2, 2, 1024]⟩
abbrev S8x1x1 : Shape := ⟨3, ![8, 1, 1]⟩
abbrev S8 : Shape := ⟨1, ![8]⟩
abbrev S_ : Shape := ⟨0, ![]⟩
abbrev S2x1024 : Shape := ⟨2, ![2, 1024]⟩
abbrev S2x512 : Shape := ⟨2, ![2, 512]⟩
abbrev S2x256 : Shape := ⟨2, ![2, 256]⟩
abbrev S2x96 : Shape := ⟨2, ![2, 96]⟩
abbrev S2x31x512 : Shape := ⟨3, ![2, 31, 512]⟩
abbrev S2x2x1024 : Shape := ⟨3, ![2, 2, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x1x128, .f32⟩
  | .hbm, ⟨1, _⟩ => ⟨S8x2x1024, .f32⟩
  | .hbm, ⟨2, _⟩ => ⟨S8x2x1024, .f32⟩
  | .hbm, ⟨3, _⟩ => ⟨S8x2x512, .f32⟩
  | .hbm, ⟨4, _⟩ => ⟨S8x2x512, .f32⟩
  | .hbm, ⟨5, _⟩ => ⟨S8x2x512, .f32⟩
  | .hbm, ⟨6, _⟩ => ⟨S8x2x256, .f32⟩
  | .hbm, ⟨7, _⟩ => ⟨S8x2x256, .f32⟩
  | .hbm, ⟨8, _⟩ => ⟨S8x2x96, .f32⟩
  | .hbm, ⟨9, _⟩ => ⟨S8x2x96, .f32⟩
  | .hbm, ⟨10, _⟩ => ⟨S8x2x1024, .f32⟩
  | .hbm, ⟨11, _⟩ => ⟨S8x2x31x512, .f32⟩
  | .hbm, ⟨12, _⟩ => ⟨S8x2x2x1024, .f32⟩
  | .hbm, ⟨13, _⟩ => ⟨S8x1x1, .f32⟩
  | .hbm, ⟨14, _⟩ => ⟨S8, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S_, .f32⟩
  | .hbm, ⟨22, _⟩ => ⟨S2x512, .f32⟩
  | .hbm, ⟨23, _⟩ => ⟨S_, .f32⟩
  | .hbm, ⟨24, _⟩ => ⟨S2x512, .f32⟩
  | .hbm, ⟨25, _⟩ => ⟨S_, .f32⟩
  | .hbm, ⟨26, _⟩ => ⟨S2x512, .f32⟩
  | .hbm, ⟨27, _⟩ => ⟨S_, .f32⟩
  | .hbm, ⟨28, _⟩ => ⟨S2x256, .f32⟩
  | .hbm, ⟨29, _⟩ => ⟨S_, .f32⟩
  | .hbm, ⟨30, _⟩ => ⟨S2x256, .f32⟩
  | .hbm, ⟨31, _⟩ => ⟨S_, .f32⟩
  | .hbm, ⟨32, _⟩ => ⟨S2x96, .f32⟩
  | .hbm, ⟨33, _⟩ => ⟨S_, .f32⟩
  | .hbm, ⟨34, _⟩ => ⟨S2x96, .f32⟩
  | .hbm, ⟨35, _⟩ => ⟨S_, .f32⟩
  | .hbm, ⟨36, _⟩ => ⟨S2x1024, .f32⟩
  | .hbm, ⟨37, _⟩ => ⟨S_, .f32⟩
  | .hbm, ⟨38, _⟩ => ⟨S2x31x512, .f32⟩
  | .hbm, ⟨39, _⟩ => ⟨S_, .f32⟩
  | .hbm, ⟨40, _⟩ => ⟨S2x2x1024, .f32⟩
  | _, _ => ⟨S8x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_cst_3 : Ref sig .tc := ⟨.hbm, 23, rfl⟩
abbrev main_v6 : Ref sig .tc := ⟨.hbm, 24, rfl⟩
abbrev main_cst_4 : Ref sig .tc := ⟨.hbm, 25, rfl⟩
abbrev main_v7 : Ref sig .tc := ⟨.hbm, 26, rfl⟩
abbrev main_cst_5 : Ref sig .tc := ⟨.hbm, 27, rfl⟩
abbrev main_v8 : Ref sig .tc := ⟨.hbm, 28, rfl⟩
abbrev main_cst_6 : Ref sig .tc := ⟨.hbm, 29, rfl⟩
abbrev main_v9 : Ref sig .tc := ⟨.hbm, 30, rfl⟩
abbrev main_cst_7 : Ref sig .tc := ⟨.hbm, 31, rfl⟩
abbrev main_v10 : Ref sig .tc := ⟨.hbm, 32, rfl⟩
abbrev main_cst_8 : Ref sig .tc := ⟨.hbm, 33, rfl⟩
abbrev main_v11 : Ref sig .tc := ⟨.hbm, 34, rfl⟩
abbrev main_cst_9 : Ref sig .tc := ⟨.hbm, 35, rfl⟩
abbrev main_v12 : Ref sig .tc := ⟨.hbm, 36, rfl⟩
abbrev main_cst_10 : Ref sig .tc := ⟨.hbm, 37, rfl⟩
abbrev main_v13 : Ref sig .tc := ⟨.hbm, 38, rfl⟩
abbrev main_cst_11 : Ref sig .tc := ⟨.hbm, 39, rfl⟩
abbrev main_v14 : Ref sig .tc := ⟨.hbm, 40, rfl⟩

abbrev nD : Nat := 1
abbrev τ : Topo := Topo.v7x

variable {F : FTy → Type} [FloatOps F]
-- ==== LossGradKernel.lean ====
abbrev S4096x1024 : Shape := ⟨2, ![4096, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossGradReferenceIdeal.lean ====
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== ConvOutKernel.lean ====
abbrev S4096x512 : Shape := ⟨2, ![4096, 512]⟩
abbrev S512x1024 : Shape := ⟨2, ![512, 1024]⟩
abbrev S1024x512 : Shape := ⟨2, ![1024, 512]⟩
abbrev S4096x1024 : Shape := ⟨2, ![4096, 1024]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S1024x512, .f32⟩
  | .hbm, ⟨3, _⟩ => ⟨S1024x512, .bf16⟩
  | .hbm, ⟨4, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S512x1024, .f32⟩
  | .local _ .vmem, ⟨4, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvOutReferenceIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x512, .f32⟩
  | .hbm, ⟨3, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ConvDcKernel.lean ====
abbrev S512x1024 : Shape := ⟨2, ![512, 1024]⟩
abbrev S4096x1024 : Shape := ⟨2, ![4096, 1024]⟩
abbrev S1024x512 : Shape := ⟨2, ![1024, 512]⟩
abbrev S4096x512 : Shape := ⟨2, ![4096, 512]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S4096x1024, .bf16⟩
  | .hbm, ⟨2, _⟩ => ⟨S1024x512, .f32⟩
  | .hbm, ⟨3, _⟩ => ⟨S1024x512, .bf16⟩
  | .hbm, ⟨4, _⟩ => ⟨S4096x512, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvDcReferenceIdeal.lean ====
abbrev S512x1024 : Shape := ⟨2, ![512, 1024]⟩
abbrev S4096x1024 : Shape := ⟨2, ![4096, 1024]⟩
abbrev S_ : Shape := ⟨0, ![]⟩
abbrev S4096x512 : Shape := ⟨2, ![4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S4096x1024, .bf16⟩
  | .hbm, ⟨2, _⟩ => ⟨S_, .f32⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S4096x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ConvDwoutKernel.lean ====
abbrev S4096x1024 : Shape := ⟨2, ![4096, 1024]⟩
abbrev S4096x512 : Shape := ⟨2, ![4096, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ConvDwoutReferenceIdeal.lean ====
abbrev S4096x1024 : Shape := ⟨2, ![4096, 1024]⟩
abbrev S4096x512 : Shape := ⟨2, ![4096, 512]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MlaOutKernel.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .f32⟩
  | .hbm, ⟨3, _⟩ => ⟨S1024x1024, .bf16⟩
  | .hbm, ⟨4, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaOutReferenceIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlaDoKernel.lean ====
abbrev S1024x1024 : Shape := ⟨2, ![1024, 1024]⟩
abbrev S4096x1024 : Shape := ⟨2, ![4096, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .bf16⟩
  | .hbm, ⟨2, _⟩ => ⟨S1024x1024, .f32⟩
  | .hbm, ⟨3, _⟩ => ⟨S1024x1024, .bf16⟩
  | .hbm, ⟨4, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDoReferenceIdeal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaDwoutKernel.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaDwoutReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Sigmoid.lean ====
/- The logistic function over the extended reals, in the two spellings the programs use: `1 / (1 + exp (-x))` in the
   references, `tanh (x / 2) / 2 + 1 / 2` in the kernels. They agree at every extended real. -/
module

public import Idealize.ShloMosaic.PureOps.Ideal
public import Idealize.ShloMosaic.Lib.IdealHost
public import Mathlib.Analysis.SpecialFunctions.Trigonometric.DerivHyp

@[expose] public section

noncomputable section

namespace Cert.Math

open Idealize.ShloMosaic

/-- The logistic function as the references spell it. -/
def sg (x : EReal) : EReal := Ideal.div 1 (1 + Ideal.exp (-x))

/-- The literal one half, as the number it is. -/
theorem half_lit : Ideal.ofBits .f32 0x3F000000#32 = ((1 / 2 : ℝ) : EReal) := by
  simp [Ideal.ofBits, Ideal.ieee]; rw [← EReal.coe_mul]; norm_num

theorem sg_coe (r : ℝ) : sg (r : EReal) = ((1 / (1 + Real.exp (-r)) : ℝ) : EReal) := by
  have h : (1 + Real.exp (-r)) ≠ 0 := (by positivity : (0:ℝ) < 1 + Real.exp (-r)).ne'
  unfold sg
  rw [← EReal.coe_neg, Ideal.exp_coe, ← EReal.coe_one, ← EReal.coe_add, Ideal.div, if_neg (by exact_mod_cast h), ← EReal.coe_inv,
    ← EReal.coe_mul]
  rw [one_mul, one_div]

theorem sg_top : sg ⊤ = 1 := by
  unfold sg; rw [EReal.neg_top, Ideal.exp_bot, add_zero, Ideal.div, if_neg one_ne_zero, one_mul, ← EReal.coe_one, ← EReal.coe_inv, inv_one]

theorem sg_bot : sg ⊥ = 0 := by
  unfold sg; rw [EReal.neg_bot, Ideal.exp_top]
  rw [show (1 : EReal) + ⊤ = ⊤ from EReal.add_top_of_ne_bot (by decide), Ideal.div, if_neg EReal.top_ne_zero, EReal.inv_top, mul_zero]

/-- The kernels' spelling of the logistic function is the references'. -/
theorem half_tanh_half (x : EReal) :
    Ideal.ofBits .f32 0x3F000000#32 * Ideal.tanh (Ideal.ofBits .f32 0x3F000000#32 * x) + Ideal.ofBits .f32 0x3F000000#32 = sg x := by
  rw [half_lit]
  induction x with
  | bot =>
    rw [EReal.coe_mul_bot_of_pos (by norm_num), Ideal.tanh_bot, sg_bot, ← EReal.coe_one, ← EReal.coe_neg, ← EReal.coe_mul,
      ← EReal.coe_add, ← EReal.coe_zero]
    congr 1; norm_num
  | top =>
    rw [EReal.coe_mul_top_of_pos (by norm_num), Ideal.tanh_top, sg_top, mul_one, ← EReal.coe_add, ← EReal.coe_one]
    congr 1; norm_num
  | coe r =>
    rw [← EReal.coe_mul, Ideal.tanh_coe, ← EReal.coe_mul, ← EReal.coe_add, sg_coe]
    congr 1
    rw [Real.tanh_eq_sinh_div_cosh, Real.sinh_eq, Real.cosh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    rw [e1]
    set a := Real.exp (1 / 2 * r)
    set b := Real.exp (-(1 / 2 * r))
    have ha : 0 < a := Real.exp_pos _
    have hb : 0 < b := Real.exp_pos _
    have h1 : a + b ≠ 0 := by positivity
    have h2 : 1 + b * b ≠ 0 := by positivity
    field_simp
    nlinarith [e2]

end Cert.Math
end
-- ==== Proof.Rows.lean ====
/- A buffer of rows written and read a row at a time: what a list of row stores leaves at an index, and what a load of one
   row reads, each named by the row's number and the column. -/
module

public import Idealize.ShloMosaic.Lib.Pipeline.Value
public import Idealize.ShloMosaic.Lib.Pipeline.ValueKit.Tiles
public import Idealize.ShloMosaic.Lib.Pointwise

@[expose] public section

noncomputable section

namespace Cert.Rows

open Idealize.ShloMosaic Idealize.SL.Sem

variable {Val : EltTy → Type} {M N : ℕ} {e : EltTy}

/-- Two indices with the same coordinates are the same. -/
theorem idx_ext2 {a b : ℕ} {x : (⟨2, ![a, b]⟩ : Shape).Idx} {r : Fin a} {l : Fin b} (h0 : (x 0).val = r.val) (h1 : (x 1).val = l.val) :
    x = ix2 r l := funext fun k => Fin.ext (by
  match k with
  | ⟨0, _⟩ => exact h0
  | ⟨1, _⟩ => exact h1)

/-- Two arrays that agree at every row and column are equal. -/
theorem ext2 {a b : ℕ} {α : Type} {f g : (⟨2, ![a, b]⟩ : Shape).Idx → α} (h : ∀ (r : Fin a) (l : Fin b), f (ix2 r l) = g (ix2 r l)) :
    f = g := funext fun i => by rw [eq_ix2 i]; exact h _ _

/-- A load of row `k` reads that row. -/
theorem ld_row (x : (⟨2, ![M, N]⟩ : Shape).Idx → Val e) (k : ℕ) (inb) (l : Fin N) (j : (⟨2, ![M, N]⟩ : Shape).Idx)
    (h0 : (j 0).val = k) (h1 : (j 1).val = l.val) :
    View.ld x (Rect.unit ![k, 0] ![1, N] inb) (ix2 0 l) = x j := by
  refine View.ld_unit_apply_of _ _ _ _ _ _ fun a => ?_
  match a with
  | ⟨0, _⟩ => simpa using h0
  | ⟨1, _⟩ => simpa using h1

/-- At an index of row `k`, a last store of row `k` is what is there. -/
theorem canon_row [∀ e, Nonempty (Val e)] (k : ℕ) (inb) (w : (⟨2, ![1, N]⟩ : Shape).Idx → Val e)
    (L : List (View.Piece Val ⟨2, ![M, N]⟩ e)) (j : (⟨2, ![M, N]⟩ : Shape).Idx) (l : Fin N)
    (h0 : (j 0).val = k) (h1 : (j 1).val = l.val) :
    View.canon (⟨Rect.unit ![k, 0] ![1, N] inb, w⟩ :: L) j = w (ix2 0 l) := by
  have hj : (Rect.unit (s := ⟨2, ![M, N]⟩) ![k, 0] ![1, N] inb).emb (ix2 0 l) = j := funext fun a => Fin.ext (by
    match a with
    | ⟨0, _⟩ => show k + 1 * 0 = (j 0).val; omega
    | ⟨1, _⟩ => show 0 + 1 * l.val = (j 1).val; omega)
  rw [← hj]
  exact View.canon_cons_emb (Rect.unit (s := ⟨2, ![M, N]⟩) ![k, 0] ![1, N] inb) w L (ix2 (n0 := 1) (n1 := N) 0 l)

/-- At an index of another row it is what the earlier stores left. -/
theorem canon_row_ne [∀ e, Nonempty (Val e)] (k : ℕ) (inb) (w : (⟨2, ![1, N]⟩ : Shape).Idx → Val e)
    (L : List (View.Piece Val ⟨2, ![M, N]⟩ e)) (j : (⟨2, ![M, N]⟩ : Shape).Idx) (h0 : (j 0).val ≠ k) :
    View.canon (⟨Rect.unit ![k, 0] ![1, N] inb, w⟩ :: L) j = View.canon L j := by
  refine View.canon_cons_of_not_mem _ _ fun hm => h0 ?_
  have hm' := (Rect.mem_set_unit (s := ⟨2, ![M, N]⟩) (off := ![k, 0]) (size := ![1, N]) (inb := inb) (i := j)).mp hm
  have h1 : k ≤ (j 0).val := (hm' 0).1
  have h2 : (j 0).val < k + 1 := (hm' 0).2
  omega

/-- A load of row `k` of what the stores `L` left reads it there. -/
theorem readCov_row [∀ e, Nonempty (Val e)] {sig : RefSig} {κ : Kind} {sp : Space} (v : View sig κ sp ⟨2, ![M, N]⟩ e)
    (L : List (View.Piece Val ⟨2, ![M, N]⟩ e)) (k : ℕ) (inb) (l : Fin N) (j : (⟨2, ![M, N]⟩ : Shape).Idx)
    (h0 : (j 0).val = k) (h1 : (j 1).val = l.val) :
    v.readCov L (Rect.unit (s := ⟨2, ![M, N]⟩) ![k, 0] ![1, N] inb).toLoadRect (ix2 (n0 := 1) (n1 := N) 0 l) = View.canon L j := by
  rw [View.readCov_eq_canon']
  refine congrArg _ (funext fun a => Fin.ext ?_)
  match a with
  | ⟨0, _⟩ => show k + 1 * 0 = (j 0).val; omega
  | ⟨1, _⟩ => show 0 + 1 * l.val = (j 1).val; omega

end Cert.Rows
end
-- ==== Proof.GateBlock.lean ====
module

public import proofs.«01_k».proof.Proof.Gen.GateKernelIdeal.Value
public import proofs.«01_k».proof.Proof.Sigmoid
public import proofs.«01_k».proof.Proof.Rows
public import Idealize.ShloMosaic.Lib.Tactic
public import Idealize.ShloMosaic.Lib.Pointwise
public import Idealize.ShloMosaic.Lib.Pipeline.ValueKit.Tiles

@[expose] public section

set_option maxRecDepth 16384

noncomputable section

namespace Cert.GateKernelIdeal.Block

open Cert.GateKernelIdeal Cert.GateKernelIdeal.Gen Idealize.ShloMosaic Idealize.ShloMosaic.TcCoe Idealize.SL.Sem
open Idealize.ShloMosaic.Pipeline (Dat)
open Cert.Math Cert

theorem hz : (![0, 0] : Fin 2 → Nat) = fun _ => 0 := funext fun a => by fin_cases a <;> rfl

theorem pay8_apply (v4 : Vec Ideal S512x1024 .f32) (v5 : Vec Ideal S1x1024 .f32) (r : Fin 512) (l : Fin 1024) :
    k0_pay8 v4 v5 (ix2 r l) = sg (v4 (ix2 r l) + v5 (ix2 0 l)) := by
  rw [← half_tanh_half]
  pointwise [k0_pay8]

theorem pay1_apply (v3 v14 v32 : Vec Ideal S512x1024 .f32) (r : Fin 512) (l : Fin 1024) :
    k0_pay1 v3 v14 v32 (ix2 r l) = v3 (ix2 r l) * v32 (ix2 r l) * v14 (ix2 r l) * (1 - v14 (ix2 r l)) := by
  pointwise [k0_pay1]

theorem pay5_apply (v3 v14 v32 : Vec Ideal S512x1024 .f32) (v48 : Vec Ideal S1x1024 .f32) (l : Fin 1024) :
    k0_pay5 v3 v14 v32 v48 (ix2 0 l) = v48 (ix2 0 l) + ∑ r : Fin 512, k0_pay1 v3 v14 v32 (ix2 r l) := by
  pointwise [k0_pay5]

theorem pay9_apply (v4 : Vec Ideal S512x1024 .f32) (v5 : Vec Ideal S1x1024 .f32) (r : Fin 512) (l : Fin 1024) :
    k0_pay9 v4 v5 (ix2 r l) = sg (v4 (ix2 r l) + v5 (ix2 0 l)) := by
  rw [← half_tanh_half]
  pointwise [k0_pay9]

theorem pay2_apply (v3 v14 v32 : Vec Ideal S512x1024 .f32) (r : Fin 512) (l : Fin 1024) :
    k0_pay2 v3 v14 v32 (ix2 r l) = v3 (ix2 r l) * v32 (ix2 r l) * v14 (ix2 r l) * (1 - v14 (ix2 r l)) := by
  pointwise [k0_pay2]

theorem pay6_apply (v3 v14 v32 : Vec Ideal S512x1024 .f32) (v48 : Vec Ideal S1x1024 .f32) (l : Fin 1024) :
    k0_pay6 v3 v14 v32 v48 (ix2 0 l) = v48 (ix2 0 l) + ∑ r : Fin 512, k0_pay2 v3 v14 v32 (ix2 r l) := by
  pointwise [k0_pay6]

variable (m : (ℓ : Loc nD τ sig) → Buf (Elt Ideal) ℓ)

/-! The blocks of a grid point, as functions of the index. -/
abbrev G0 (c : Dev nD) (t : Fin cfg0.N) : Vec Ideal S512x1024 .f32 := iblk m c 0 t
abbrev G1 (c : Dev nD) (t : Fin cfg0.N) : Vec Ideal S512x1024 .f32 := iblk m c 1 t
abbrev GB (c : Dev nD) (t : Fin cfg0.N) : Vec Ideal S2x1024 .f32 := iblk m c 2 t
abbrev YC (c : Dev nD) (t : Fin cfg0.N) : Vec Ideal S512x1024 .f32 := iblk m c 3 t
abbrev YM (c : Dev nD) (t : Fin cfg0.N) : Vec Ideal S512x1024 .f32 := iblk m c 4 t
abbrev DY (c : Dev nD) (t : Fin cfg0.N) : Vec Ideal S512x1024 .f32 := iblk m c 5 t

/-- The two gates of a block at a row and a column. -/
def s0 (c : Dev nD) (t : Fin cfg0.N) (r : Fin 512) (l : Fin 1024) : EReal := sg (G0 m c t (ix2 r l) + GB m c t (ix2 0 l))
def s1 (c : Dev nD) (t : Fin cfg0.N) (r : Fin 512) (l : Fin 1024) : EReal := sg (G1 m c t (ix2 r l) + GB m c t (ix2 1 l))

/-- The gradients of the two gates' arguments. -/
def d0 (c : Dev nD) (t : Fin cfg0.N) (r : Fin 512) (l : Fin 1024) : EReal :=
  DY m c t (ix2 r l) * YC m c t (ix2 r l) * s0 m c t r l * (1 - s0 m c t r l)
def d1 (c : Dev nD) (t : Fin cfg0.N) (r : Fin 512) (l : Fin 1024) : EReal :=
  DY m c t (ix2 r l) * YM m c t (ix2 r l) * s1 m c t r l * (1 - s1 m c t r l)

theorem pay8_ld (c : Dev nD) (t : Fin cfg0.N) (inb) (r : Fin 512) (l : Fin 1024) :
    k0_pay8 (F := Ideal) (G0 m c t) (View.ld (GB m c t) (Rect.unit ![0, 0] ![1, 1024] inb)) (ix2 r l) = s0 m c t r l := by
  rw [pay8_apply]
  exact congrArg (fun z => sg (G0 m c t (ix2 r l) + z)) (Rows.ld_row (GB m c t) 0 inb l (ix2 0 l) rfl rfl)

theorem pay9_ld (c : Dev nD) (t : Fin cfg0.N) (inb) (r : Fin 512) (l : Fin 1024) :
    k0_pay9 (F := Ideal) (G1 m c t) (View.ld (GB m c t) (Rect.unit ![1, 0] ![1, 1024] inb)) (ix2 r l) = s1 m c t r l := by
  rw [pay9_apply]
  exact congrArg (fun z => sg (G1 m c t (ix2 r l) + z)) (Rows.ld_row (GB m c t) 1 inb l (ix2 1 l) rfl rfl)

theorem pay10_ld (c : Dev nD) (t : Fin cfg0.N) (inb) (r : Fin 512) (l : Fin 1024) :
    k0_pay10 (F := Ideal) (DY m c t) (G0 m c t) (View.ld (GB m c t) (Rect.unit ![0, 0] ![1, 1024] inb)) (ix2 r l)
      = DY m c t (ix2 r l) * s0 m c t r l := by
  rw [← pay8_ld m c t inb r l]
  rfl

theorem pay11_ld (c : Dev nD) (t : Fin cfg0.N) (inb) (r : Fin 512) (l : Fin 1024) :
    k0_pay11 (F := Ideal) (DY m c t) (G1 m c t) (View.ld (GB m c t) (Rect.unit ![1, 0] ![1, 1024] inb)) (ix2 r l)
      = DY m c t (ix2 r l) * s1 m c t r l := by
  rw [← pay9_ld m c t inb r l]
  rfl

theorem pay1_ld (c : Dev nD) (t : Fin cfg0.N) (inb) (r : Fin 512) (l : Fin 1024) :
    k0_pay1 (F := Ideal) (DY m c t) (k0_pay8 (F := Ideal) (G0 m c t) (View.ld (GB m c t) (Rect.unit ![0, 0] ![1, 1024] inb)))
      (YC m c t) (ix2 r l) = d0 m c t r l := by
  rw [pay1_apply, pay8_ld]; rfl

theorem pay2_ld (c : Dev nD) (t : Fin cfg0.N) (inb) (r : Fin 512) (l : Fin 1024) :
    k0_pay2 (F := Ideal) (DY m c t) (k0_pay9 (F := Ideal) (G1 m c t) (View.ld (GB m c t) (Rect.unit ![1, 0] ![1, 1024] inb)))
      (YM m c t) (ix2 r l) = d1 m c t r l := by
  rw [pay2_apply, pay9_ld]; rfl

theorem pay5_ld (c : Dev nD) (t : Fin cfg0.N) (inb) (l : Fin 1024) (v : Vec Ideal S1x1024 .f32) (z : EReal) (hv : v (ix2 0 l) = z) :
    k0_pay5 (F := Ideal) (DY m c t) (k0_pay8 (F := Ideal) (G0 m c t) (View.ld (GB m c t) (Rect.unit ![0, 0] ![1, 1024] inb)))
      (YC m c t) v (ix2 0 l) = z + ∑ r : Fin 512, d0 m c t r l := by
  rw [pay5_apply, hv]
  simp only [pay1_ld]

theorem pay6_ld (c : Dev nD) (t : Fin cfg0.N) (inb) (l : Fin 1024) (v : Vec Ideal S1x1024 .f32) (z : EReal) (hv : v (ix2 0 l) = z) :
    k0_pay6 (F := Ideal) (DY m c t) (k0_pay9 (F := Ideal) (G1 m c t) (View.ld (GB m c t) (Rect.unit ![1, 0] ![1, 1024] inb)))
      (YM m c t) v (ix2 0 l) = z + ∑ r : Fin 512, d1 m c t r l := by
  rw [pay6_apply, hv]
  simp only [pay2_ld]

/-- The first result's block: the cotangent by the first gate. -/
theorem blk6 (c : Dev nD) (t : Fin cfg0.N) (r : Fin 512) (l : Fin 1024) :
    (outsAt0 m c t.val t.isLt).1 (ix2 r l) = DY m c t (ix2 r l) * s0 m c t r l := by
  by_cases h0 : t.val % 8 = 0
  · rw [outsAt0_A m c t h0]
    dsimp only
    unfold out0_A_6
    rw [View.read_writes_junk_eq_canon]
    unfold kernelRun0_A
    dsimp only
    simp only [View.readAt_eq_ld, (hs0_0 t).read_unread, (hs0_1 t).read_unread, (hs0_2 t).read_unread, (hs0_3 t).read_unread,
      (hs0_4 t).read_unread, (hs0_5 t).read_unread, View.ld_unit_zero (S := S512x1024) hz]
    rw [View.canon_unit_zero (S := S512x1024) hz]
    exact pay10_ld m c t _ r l
  · rw [outsAt0_B m c t h0]
    dsimp only
    unfold out0_B_6
    rw [View.read_writes_junk_eq_canon]
    unfold kernelRun0_B
    dsimp only
    simp only [View.readAt_eq_ld, (hs0_0 t).read_unread, (hs0_1 t).read_unread, (hs0_2 t).read_unread, (hs0_3 t).read_unread,
      (hs0_4 t).read_unread, (hs0_5 t).read_unread, View.ld_unit_zero (S := S512x1024) hz]
    rw [View.canon_unit_zero (S := S512x1024) hz]
    exact pay10_ld m c t _ r l

/-- The second result's block: the cotangent by the second gate. -/
theorem blk7 (c : Dev nD) (t : Fin cfg0.N) (r : Fin 512) (l : Fin 1024) :
    (outsAt0 m c t.val t.isLt).2.1 (ix2 r l) = DY m c t (ix2 r l) * s1 m c t r l := by
  by_cases h0 : t.val % 8 = 0
  · rw [outsAt0_A m c t h0]
    dsimp only
    unfold out0_A_7
    rw [View.read_writes_junk_eq_canon]
    unfold kernelRun0_A
    dsimp only
    simp only [View.readAt_eq_ld, (hs0_0 t).read_unread, (hs0_1 t).read_unread, (hs0_2 t).read_unread, (hs0_3 t).read_unread,
      (hs0_4 t).read_unread, (hs0_5 t).read_unread, View.ld_unit_zero (S := S512x1024) hz]
    rw [View.canon_unit_zero (S := S512x1024) hz]
    exact pay11_ld m c t _ r l
  · rw [outsAt0_B m c t h0]
    dsimp only
    unfold out0_B_7
    rw [View.read_writes_junk_eq_canon]
    unfold kernelRun0_B
    dsimp only
    simp only [View.readAt_eq_ld, (hs0_0 t).read_unread, (hs0_1 t).read_unread, (hs0_2 t).read_unread, (hs0_3 t).read_unread,
      (hs0_4 t).read_unread, (hs0_5 t).read_unread, View.ld_unit_zero (S := S512x1024) hz]
    rw [View.canon_unit_zero (S := S512x1024) hz]
    exact pay11_ld m c t _ r l

/-- The third result's block: the two gates' argument gradients side by side. -/
theorem blk8 (c : Dev nD) (t : Fin cfg0.N) (r : Fin 512) (l : Fin 2048) :
    (outsAt0 m c t.val t.isLt).2.2.1 (ix2 r l)
      = if h : l.val < 1024 then d0 m c t r ⟨l.val, h⟩ else d1 m c t r ⟨l.val - 1024, by omega⟩ := by
  by_cases h8 : t.val % 8 = 0
  · rw [outsAt0_A m c t h8]
    dsimp only
    unfold out0_A_8
    rw [View.read_writes_junk_eq_canon]
    unfold kernelRun0_A
    dsimp only
    sl_unfold_words
    simp only [View.readAt_eq_ld, (hs0_0 t).read_unread, (hs0_1 t).read_unread, (hs0_2 t).read_unread, (hs0_3 t).read_unread,
      (hs0_4 t).read_unread, (hs0_5 t).read_unread, View.ld_unit_zero (S := S512x1024) hz]
    canon_tiles x h
    · have hx : x = ix2 r ⟨l.val - 1024, by omega⟩ := Rows.idx_ext2 (by simpa using h0.symm) (by simp at h1 ⊢; omega)
      rw [hx, dif_neg (by simp at h1; omega)]
      exact pay2_ld m c t _ r _
    · have hx : x = ix2 r ⟨l.val, by simp at h1; omega⟩ := Rows.idx_ext2 (by simpa using h0.symm) (by simp at h1 ⊢; omega)
      rw [hx, dif_pos (by simp at h1; omega)]
      exact pay1_ld m c t _ r _
  · rw [outsAt0_B m c t h8]
    dsimp only
    unfold out0_B_8
    rw [View.read_writes_junk_eq_canon]
    unfold kernelRun0_B
    dsimp only
    sl_unfold_words
    simp only [View.readAt_eq_ld, (hs0_0 t).read_unread, (hs0_1 t).read_unread, (hs0_2 t).read_unread, (hs0_3 t).read_unread,
      (hs0_4 t).read_unread, (hs0_5 t).read_unread, View.ld_unit_zero (S := S512x1024) hz]
    canon_tiles x h
    · have hx : x = ix2 r ⟨l.val - 1024, by omega⟩ := Rows.idx_ext2 (by simpa using h0.symm) (by simp at h1 ⊢; omega)
      rw [hx, dif_neg (by simp at h1; omega)]
      exact pay2_ld m c t _ r _
    · have hx : x = ix2 r ⟨l.val, by simp at h1; omega⟩ := Rows.idx_ext2 (by simpa using h0.symm) (by simp at h1 ⊢; omega)
      rw [hx, dif_pos (by simp at h1; omega)]
      exact pay1_ld m c t _ r _

/-- The bias gradient's block after the first point: the point's own column sums. -/
theorem blk9_A (c : Dev nD) (t : Fin cfg0.N) (h0 : t.val % 8 = 0) (l : Fin 1024) :
    (outsAt0 m c t.val t.isLt).2.2.2 (ix2 0 l) = 0 + ∑ r : Fin 512, d0 m c t r l
      ∧ (outsAt0 m c t.val t.isLt).2.2.2 (ix2 1 l) = 0 + ∑ r : Fin 512, d1 m c t r l := by
  rw [outsAt0_A m c t h0]
  dsimp only
  unfold out0_A_9
  rw [View.read_writes_junk_eq_canon]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, View.ld_unit_zero (S := S512x1024) hz]
  constructor
  · refine (Rows.canon_row_ne 1 _ _ _ (ix2 0 l) (by simp)).trans ?_
    refine (Rows.canon_row 0 _ _ _ (ix2 0 l) l rfl rfl).trans ?_
    refine pay5_ld m c t _ l _ _ ?_
    refine (Rows.readCov_row _ _ 0 _ l (ix2 0 l) rfl rfl).trans ?_
    rw [View.canon_unit_zero (S := S2x1024) hz]
    pointwise [k0_pay7]
  · refine (Rows.canon_row 1 _ _ _ (ix2 1 l) l rfl rfl).trans ?_
    refine pay6_ld m c t _ l _ _ ?_
    refine (Rows.readCov_row _ _ 1 _ l (ix2 1 l) rfl rfl).trans ?_
    refine (Rows.canon_row_ne 0 _ _ _ (ix2 1 l) (by simp)).trans ?_
    rw [View.canon_unit_zero (S := S2x1024) hz]
    pointwise [k0_pay7]

/-- … and after a later point: the point before's, plus the point's own column sums. -/
theorem blk9_B (c : Dev nD) (t : Fin cfg0.N) (h0 : ¬t.val % 8 = 0) (l : Fin 1024) :
    (outsAt0 m c t.val t.isLt).2.2.2 (ix2 0 l)
        = (outsAt0 m c (t.val - 1) (Nat.lt_of_le_of_lt (Nat.sub_le _ _) t.isLt)).2.2.2 (ix2 0 l) + ∑ r : Fin 512, d0 m c t r l
      ∧ (outsAt0 m c t.val t.isLt).2.2.2 (ix2 1 l)
        = (outsAt0 m c (t.val - 1) (Nat.lt_of_le_of_lt (Nat.sub_le _ _) t.isLt)).2.2.2 (ix2 1 l) + ∑ r : Fin 512, d1 m c t r l := by
  rw [outsAt0_B m c t h0]
  dsimp only
  unfold out0_B_9
  rw [View.read_writes_junk_eq_canon]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_9 t).read_unread, View.ld_unit_zero (S := S512x1024) hz]
  generalize (outsAt0 m c (t.val - 1) (Nat.lt_of_le_of_lt (Nat.sub_le _ _) t.isLt)).2.2.2 = xo
  constructor
  · refine (Rows.canon_row_ne 1 _ _ _ (ix2 0 l) (by simp)).trans ?_
    refine (Rows.canon_row 0 _ _ _ (ix2 0 l) l rfl rfl).trans ?_
    refine pay5_ld m c t _ l _ _ ?_
    exact Rows.ld_row xo 0 _ l (ix2 0 l) rfl rfl
  · refine (Rows.canon_row 1 _ _ _ (ix2 1 l) l rfl rfl).trans ?_
    refine pay6_ld m c t _ l _ _ ?_
    exact Rows.ld_row xo 1 _ l (ix2 1 l) rfl rfl

end Cert.GateKernelIdeal.Block
end
-- ==== Proof.GateArray.lean ====
/- The kernel's four result arrays at an index, from the blocks of the grid points: three arrays of one block a point, and
   one array of column sums that every point adds to. -/
module

public import proofs.«01_k».proof.Proof.GateBlock

@[expose] public section

set_option maxRecDepth 16384

noncomputable section

namespace Cert.GateKernelIdeal.Array

open Cert.GateKernelIdeal Cert.GateKernelIdeal.Gen Cert.GateKernelIdeal.Value Cert.GateKernelIdeal.Block
open Idealize.ShloMosaic Idealize.ShloMosaic.TcCoe Idealize.SL.Sem
open Idealize.ShloMosaic.Pipeline (Dat)
open Cert.Math Cert

variable (m : (ℓ : Loc nD τ sig) → Buf (Elt Ideal) ℓ)

/-- The five argument arrays of a device. -/
abbrev A0 (c : Dev nD) : Vec Ideal S4096x2048 .f32 := m ((c : Thread nD τ).loc main_arg0)
abbrev A1 (c : Dev nD) : Vec Ideal S2x1024 .f32 := m ((c : Thread nD τ).loc main_arg1)
abbrev A2 (c : Dev nD) : Vec Ideal S4096x1024 .f32 := m ((c : Thread nD τ).loc main_arg2)
abbrev A3 (c : Dev nD) : Vec Ideal S4096x1024 .f32 := m ((c : Thread nD τ).loc main_arg3)
abbrev A4 (c : Dev nD) : Vec Ideal S4096x1024 .f32 := m ((c : Thread nD τ).loc main_arg4)

/-- Row `r` of block `t` as a row of the array. -/
def row (t : Fin cfg0.N) (r : Fin 512) : Fin 4096 :=
  ⟨t.val * 512 + r.val, by have h := t.isLt; have hN : cfg0.N = 8 := N_0; have := r.isLt; omega⟩

/-- Which block every window reads or writes at a point. -/
theorem idx : ∀ t : Fin cfg0.N,
    (win0_0.index t 0 = t.val ∧ win0_0.index t 1 = 0) ∧ (win0_1.index t 0 = t.val ∧ win0_1.index t 1 = 1)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = 0 ∧ win0_9.index t 1 = 0) := by
  show ∀ t : Fin grid0.N, _
  decide +kernel

theorem G0_eq (c : Dev nD) (t : Fin cfg0.N) (r : Fin 512) (l : Fin 1024) :
    G0 m c t (ix2 r l) = A0 m c (ix2 (row t r) ⟨l.val, by omega⟩) := by
  have hi := (idx t).1
  unfold G0 iblk
  rw [View.read_apply]
  show V m c main_arg0 _ = m (c.tc.loc main_arg0) _
  unfold V
  refine congrArg (m (c.tc.loc main_arg0)) (Rows.idx_ext2 (a := 4096) (b := 2048) ?_ ?_)
  · show win0_0.index t 0 * 512 + 1 * r.val = t.val * 512 + r.val; rw [hi.1]; omega
  · show win0_0.index t 1 * 1024 + 1 * l.val = l.val; rw [hi.2]; omega

theorem G1_eq (c : Dev nD) (t : Fin cfg0.N) (r : Fin 512) (l : Fin 1024) :
    G1 m c t (ix2 r l) = A0 m c (ix2 (row t r) ⟨1024 + l.val, by omega⟩) := by
  have hi := (idx t).2.1
  unfold G1 iblk
  rw [View.read_apply]
  show V m c main_arg0 _ = m (c.tc.loc main_arg0) _
  unfold V
  refine congrArg (m (c.tc.loc main_arg0)) (Rows.idx_ext2 (a := 4096) (b := 2048) ?_ ?_)
  · show win0_1.index t 0 * 512 + 1 * r.val = t.val * 512 + r.val; rw [hi.1]; omega
  · show win0_1.index t 1 * 1024 + 1 * l.val = 1024 + l.val; rw [hi.2]; omega

theorem GB_eq (c : Dev nD) (t : Fin cfg0.N) (k : Fin 2) (l : Fin 1024) : GB m c t (ix2 k l) = A1 m c (ix2 k l) := by
  have hi := (idx t).2.2.1
  unfold GB iblk
  rw [View.read_apply]
  show V m c main_arg1 _ = m (c.tc.loc main_arg1) _
  unfold V
  refine congrArg (m (c.tc.loc main_arg1)) (Rows.idx_ext2 (a := 2) (b := 1024) ?_ ?_)
  · show win0_2.index t 0 * 2 + 1 * k.val = k.val; rw [hi.1]; omega
  · show win0_2.index t 1 * 1024 + 1 * l.val = l.val; rw [hi.2]; omega

theorem YC_eq (c : Dev nD) (t : Fin cfg0.N) (r : Fin 512) (l : Fin 1024) : YC m c t (ix2 r l) = A2 m c (ix2 (row t r) l) := by
  have hi := (idx t).2.2.2.1
  unfold YC iblk
  rw [View.read_apply]
  show V m c main_arg2 _ = m (c.tc.loc main_arg2) _
  unfold V
  refine congrArg (m (c.tc.loc main_arg2)) (Rows.idx_ext2 (a := 4096) (b := 1024) ?_ ?_)
  · show win0_3.index t 0 * 512 + 1 * r.val = t.val * 512 + r.val; rw [hi.1]; omega
  · show win0_3.index t 1 * 1024 + 1 * l.val = l.val; rw [hi.2]; omega

theorem YM_eq (c : Dev nD) (t : Fin cfg0.N) (r : Fin 512) (l : Fin 1024) : YM m c t (ix2 r l) = A3 m c (ix2 (row t r) l) := by
  have hi := (idx t).2.2.2.2.1
  unfold YM iblk
  rw [View.read_apply]
  show V m c main_arg3 _ = m (c.tc.loc main_arg3) _
  unfold V
  refine congrArg (m (c.tc.loc main_arg3)) (Rows.idx_ext2 (a := 4096) (b := 1024) ?_ ?_)
  · show win0_4.index t 0 * 512 + 1 * r.val = t.val * 512 + r.val; rw [hi.1]; omega
  · show win0_4.index t 1 * 1024 + 1 * l.val = l.val; rw [hi.2]; omega

theorem DY_eq (c : Dev nD) (t : Fin cfg0.N) (r : Fin 512) (l : Fin 1024) : DY m c t (ix2 r l) = A4 m c (ix2 (row t r) l) := by
  have hi := (idx t).2.2.2.2.2.1
  unfold DY iblk
  rw [View.read_apply]
  show V m c main_arg4 _ = m (c.tc.loc main_arg4) _
  unfold V
  refine congrArg (m (c.tc.loc main_arg4)) (Rows.idx_ext2 (a := 4096) (b := 1024) ?_ ?_)
  · show win0_5.index t 0 * 512 + 1 * r.val = t.val * 512 + r.val; rw [hi.1]; omega
  · show win0_5.index t 1 * 1024 + 1 * l.val = l.val; rw [hi.2]; omega

/-- The two gates, over the arrays. -/
def S0 (c : Dev nD) (R : Fin 4096) (l : Fin 1024) : EReal := sg (A0 m c (ix2 R ⟨l.val, by omega⟩) + A1 m c (ix2 0 l))
def S1 (c : Dev nD) (R : Fin 4096) (l : Fin 1024) : EReal := sg (A0 m c (ix2 R ⟨1024 + l.val, by omega⟩) + A1 m c (ix2 1 l))

/-- The gradients of the gates' arguments, over the arrays. -/
def D0 (c : Dev nD) (R : Fin 4096) (l : Fin 1024) : EReal :=
  A4 m c (ix2 R l) * A2 m c (ix2 R l) * S0 m c R l * (1 - S0 m c R l)
def D1 (c : Dev nD) (R : Fin 4096) (l : Fin 1024) : EReal :=
  A4 m c (ix2 R l) * A3 m c (ix2 R l) * S1 m c R l * (1 - S1 m c R l)

theorem s0_eq (c : Dev nD) (t : Fin cfg0.N) (r : Fin 512) (l : Fin 1024) : s0 m c t r l = S0 m c (row t r) l := by
  unfold s0 S0; rw [G0_eq, GB_eq]
theorem s1_eq (c : Dev nD) (t : Fin cfg0.N) (r : Fin 512) (l : Fin 1024) : s1 m c t r l = S1 m c (row t r) l := by
  unfold s1 S1; rw [G1_eq, GB_eq]
theorem d0_eq (c : Dev nD) (t : Fin cfg0.N) (r : Fin 512) (l : Fin 1024) : d0 m c t r l = D0 m c (row t r) l := by
  unfold d0 D0; rw [DY_eq, YC_eq, s0_eq]
theorem d1_eq (c : Dev nD) (t : Fin cfg0.N) (r : Fin 512) (l : Fin 1024) : d1 m c t r l = D1 m c (row t r) l := by
  unfold d1 D1; rw [DY_eq, YM_eq, s1_eq]

/-- The point and the row in its block of a row of the array. -/
theorem row_surj (R : Fin 4096) : ∃ (t : Fin cfg0.N) (r : Fin 512), R = row t r :=
  ⟨⟨R.val / 512, by rw [show cfg0.N = 8 from N_0]; omega⟩, ⟨R.val % 512, by omega⟩, Fin.ext (by show R.val = R.val / 512 * 512 + R.val % 512; omega)⟩

theorem arr6 (c : Dev nD) (R : Fin 4096) (l : Fin 1024) :
    ((dats m 0 c).arrAt 6 cfg0.N : S4096x1024.Idx → EReal) (ix2 R l) = A4 m c (ix2 R l) * S0 m c R l := by
  obtain ⟨t, r, rfl⟩ := row_surj R
  have h := congrFun (blocks6 m c t (flush0_6 t)) (ix2 (n0 := 512) (n1 := 1024) r l)
  rw [View.read_apply, flushed6] at h
  have hi := (idx t).2.2.2.2.2.2.1
  have e : ((cfg0.win 6).blk t).view.emb (ix2 (n0 := 512) (n1 := 1024) r l) = ix2 (n0 := 4096) (n1 := 1024) (row t r) l := by
    refine Rows.idx_ext2 (a := 4096) (b := 1024) ?_ ?_
    · show win0_6.index t 0 * 512 + 1 * r.val = t.val * 512 + r.val; rw [hi.1]; omega
    · show win0_6.index t 1 * 1024 + 1 * l.val = l.val; rw [hi.2]; omega
  rw [e] at h
  rw [← DY_eq, ← s0_eq, ← blk6]
  exact h

theorem arr7 (c : Dev nD) (R : Fin 4096) (l : Fin 1024) :
    ((dats m 0 c).arrAt 7 cfg0.N : S4096x1024.Idx → EReal) (ix2 R l) = A4 m c (ix2 R l) * S1 m c R l := by
  obtain ⟨t, r, rfl⟩ := row_surj R
  have h := congrFun (blocks7 m c t (flush0_7 t)) (ix2 (n0 := 512) (n1 := 1024) r l)
  rw [View.read_apply, flushed7] at h
  have hi := (idx t).2.2.2.2.2.2.2.1
  have e : ((cfg0.win 7).blk t).view.emb (ix2 (n0 := 512) (n1 := 1024) r l) = ix2 (n0 := 4096) (n1 := 1024) (row t r) l := by
    refine Rows.idx_ext2 (a := 4096) (b := 1024) ?_ ?_
    · show win0_7.index t 0 * 512 + 1 * r.val = t.val * 512 + r.val; rw [hi.1]; omega
    · show win0_7.index t 1 * 1024 + 1 * l.val = l.val; rw [hi.2]; omega
  rw [e] at h
  rw [← DY_eq, ← s1_eq, ← blk7]
  exact h

theorem arr8 (c : Dev nD) (R : Fin 4096) (l : Fin 2048) :
    ((dats m 0 c).arrAt 8 cfg0.N : S4096x2048.Idx → EReal) (ix2 R l)
      = if h : l.val < 1024 then D0 m c R ⟨l.val, h⟩ else D1 m c R ⟨l.val - 1024, by omega⟩ := by
  obtain ⟨t, r, rfl⟩ := row_surj R
  have h := congrFun (blocks8 m c t (flush0_8 t)) (ix2 (n0 := 512) (n1 := 2048) r l)
  rw [View.read_apply, flushed8] at h
  have hi := (idx t).2.2.2.2.2.2.2.2.1
  have e : ((cfg0.win 8).blk t).view.emb (ix2 (n0 := 512) (n1 := 2048) r l) = ix2 (n0 := 4096) (n1 := 2048) (row t r) l := by
    refine Rows.idx_ext2 (a := 4096) (b := 2048) ?_ ?_
    · show win0_8.index t 0 * 512 + 1 * r.val = t.val * 512 + r.val; rw [hi.1]; omega
    · show win0_8.index t 1 * 2048 + 1 * l.val = l.val; rw [hi.2]; omega
  rw [e] at h
  simp only [← d0_eq, ← d1_eq]
  rw [← blk8]
  exact h

/-- What the first `n + 1` points have added up. -/
theorem sums (c : Dev nD) (l : Fin 1024) : ∀ (n : ℕ) (h : n < cfg0.N),
    (outsAt0 m c n h).2.2.2 (ix2 0 l) = ∑ k : Fin (n + 1), ∑ r : Fin 512, d0 m c ⟨k.val, by omega⟩ r l
    ∧ (outsAt0 m c n h).2.2.2 (ix2 1 l) = ∑ k : Fin (n + 1), ∑ r : Fin 512, d1 m c ⟨k.val, by omega⟩ r l
  | 0, h => by
    have hb := blk9_A m c ⟨0, h⟩ rfl l
    simp only [zero_add] at hb
    rw [Fin.sum_univ_one, Fin.sum_univ_one]
    exact hb
  | n + 1, h => by
    have hN : cfg0.N = 8 := N_0
    have hb := blk9_B m c ⟨n + 1, h⟩ (by dsimp only; omega) l
    have ih := sums c l n (by omega)
    constructor
    · rw [Fin.sum_univ_castSucc]
      exact hb.1.trans (congrArg (· + _) ih.1)
    · rw [Fin.sum_univ_castSucc]
      exact hb.2.trans (congrArg (· + _) ih.2)

theorem flushed9_only (t t' : Fin cfg0.N) (h : (cfg0.win 9).flush t = true) (h' : (cfg0.win 9).flush t' = true) : t = t' := by
  have hN : cfg0.N = 8 := N_0
  have := (flush0_9 t).mp h
  have := (flush0_9 t').mp h'
  have := t.isLt
  have := t'.isLt
  exact Fin.ext (by omega)

theorem arr9 (c : Dev nD) (l : Fin 1024) :
    ((dats m 0 c).arrAt 9 cfg0.N : S2x1024.Idx → EReal) (ix2 0 l) = ∑ R : Fin 4096, D0 m c R l
    ∧ ((dats m 0 c).arrAt 9 cfg0.N : S2x1024.Idx → EReal) (ix2 1 l) = ∑ R : Fin 4096, D1 m c R l := by
  have hN : cfg0.N = 8 := N_0
  obtain ⟨t, ht⟩ : ∃ t : Fin cfg0.N, t.val = 7 := ⟨⟨7, by rw [hN]; omega⟩, rfl⟩
  have hf : (cfg0.win 9).flush t = true := (flush0_9 t).mpr (by rw [ht])
  have hb := (dats m 0 c).read_blk_arrAt_eq_flushed 9 (fun t t' h h' hne => absurd (flushed9_only t t' h h') hne) cfg0.N
    t t.isLt hf
  have hi := (idx t).2.2.2.2.2.2.2.2.2
  have e (k : Fin 2) : ((cfg0.win 9).blk t).view.emb (ix2 (n0 := 2) (n1 := 1024) k l) = ix2 (n0 := 2) (n1 := 1024) k l := by
    refine Rows.idx_ext2 (a := 2) (b := 1024) ?_ ?_
    · show win0_9.index t 0 * 2 + 1 * k.val = k.val; rw [hi.1]; omega
    · show win0_9.index t 1 * 1024 + 1 * l.val = l.val; rw [hi.2]; omega
  have hs := sums m c l t.val t.isLt
  constructor
  · have h := congrFun hb (ix2 (n0 := 2) (n1 := 1024) 0 l)
    rw [View.read_apply, flushed9, e 0] at h
    rw [Fin.sum_univ_tiles 8 512 rfl]
    have h8 : t.val + 1 = 8 := by omega
    refine h.trans (hs.1.trans ?_)
    rw [← Equiv.sum_comp (finCongr h8)]
    exact Finset.sum_congr rfl fun k _ => Finset.sum_congr rfl fun r _ => d0_eq m c _ r l
  · have h := congrFun hb (ix2 (n0 := 2) (n1 := 1024) 1 l)
    rw [View.read_apply, flushed9, e 1] at h
    rw [Fin.sum_univ_tiles 8 512 rfl]
    have h8 : t.val + 1 = 8 := by omega
    refine h.trans (hs.2.trans ?_)
    rw [← Equiv.sum_comp (finCongr h8)]
    exact Finset.sum_congr rfl fun k _ => Finset.sum_congr rfl fun r _ => d1_eq m c _ r l

end Cert.GateKernelIdeal.Array
end
-- ==== Proof.GateRef.lean ====
/- The reference's four results at an index. -/
module

public import proofs.«01_k».proof.Proof.Gen.GateReferenceIdeal.Read
public import proofs.«01_k».proof.Proof.Sigmoid
public import proofs.«01_k».proof.Proof.Rows
public import Idealize.ShloMosaic.Lib.Pointwise
public import Idealize.ShloMosaic.Lib.KernelVsHost

@[expose] public section

set_option maxRecDepth 16384

noncomputable section

namespace Cert.GateReferenceIdeal.At

open Cert.GateReferenceIdeal Cert.GateReferenceIdeal.Gen Cert.GateReferenceIdeal.Read
open Idealize.ShloMosaic Idealize.ShloMosaic.TcCoe Idealize.SL.Sem
open Cert.Math Cert

variable (x0 : Vec Ideal S4096x2048 .f32) (x1 : Vec Ideal S2x1024 .f32) (x2 x3 x4 : Vec Ideal S4096x1024 .f32)

theorem gate (R : Fin 4096) (k : Fin 2) (l : Fin 1024) :
    val_main_v9 (F := Ideal) x0 x1 (ix3 R k l) = sg (x0 (ix2 R ⟨k.val * 1024 + l.val, by omega⟩) + x1 (ix2 k l)) := by
  pointwise [val_main_v9, val_main_v8, val_main_v7, val_main_v6, val_main_v5, val_main_v4, val_main_v3, val_main_v2, val_main_v1,
    val_main_v0, val_main_cst, val_main_cst_0]
  rfl

/-- The first result: the cotangent by the first gate. -/
theorem dyc (R : Fin 4096) (l : Fin 1024) :
    val_main_v36 (F := Ideal) x0 x1 x4 (ix2 R l) = sg (x0 (ix2 R ⟨l.val, by omega⟩) + x1 (ix2 0 l)) * x4 (ix2 R l) := by
  have h := gate x0 x1 R 0 l
  pointwise [val_main_v36, val_main_v26, val_main_v14, val_main_v13, val_main_v20]
  rw [h]
  congr 5
  exact Fin.ext (by simp)

/-- The second: the cotangent by the second gate. -/
theorem dym (R : Fin 4096) (l : Fin 1024) :
    val_main_v37 (F := Ideal) x0 x1 x4 (ix2 R l) = sg (x0 (ix2 R ⟨1024 + l.val, by omega⟩) + x1 (ix2 1 l)) * x4 (ix2 R l) := by
  have h := gate x0 x1 R 1 l
  pointwise [val_main_v37, val_main_v22, val_main_v17, val_main_v16, val_main_v21]
  rw [h]
  congr 5

theorem dpre (R : Fin 4096) (k : Fin 2) (l : Fin 1024) :
    val_main_v31 (F := Ideal) x0 x1 x2 x3 x4 (ix3 R k l)
      = (if k.val = 0 then x4 (ix2 R l) * x2 (ix2 R l) else x4 (ix2 R l) * x3 (ix2 R l))
        * (sg (x0 (ix2 R ⟨k.val * 1024 + l.val, by omega⟩) + x1 (ix2 k l))
          * (1 - sg (x0 (ix2 R ⟨k.val * 1024 + l.val, by omega⟩) + x1 (ix2 k l)))) := by
  have h := gate x0 x1 R k l
  pointwise [val_main_v31, val_main_v30, val_main_v25, val_main_v29, val_main_v24, val_main_v28, val_main_v23, val_main_v27, val_main_v21,
    val_main_v20, val_main_cst_2, val_main_cst_3, val_main_v12, val_main_v11, val_main_v10, val_main_cst_1]
  rw [h]
  generalize sg _ = y
  have hk : k.val = 0 ∨ k.val = 1 := by omega
  rcases hk with hk | hk
  · rw [if_pos hk, dif_neg (by omega), dif_pos (by omega), zero_add]
  · rw [if_neg (by omega), dif_pos (by omega), dif_neg (by omega), add_zero]

theorem dpg (R : Fin 4096) (j : Fin 2048) :
    val_main_v38 (F := Ideal) x0 x1 x2 x3 x4 (ix2 R j)
      = val_main_v31 (F := Ideal) x0 x1 x2 x3 x4 (ix3 R ⟨j.val / 1024, by omega⟩ ⟨j.val % 1024, by omega⟩) := by
  pointwise [val_main_v38, val_main_v35]

theorem dgb (k : Fin 2) (l : Fin 1024) :
    val_main_v34 (F := Ideal) x0 x1 x2 x3 x4 (ix2 k l)
      = ∑ R : Fin 4096, val_main_v31 (F := Ideal) x0 x1 x2 x3 x4 (ix3 R k l) := by
  pointwise [val_main_v34, val_main_v33, val_main_v32, val_main_cst_4, val_main_cst_5]
  simp

end Cert.GateReferenceIdeal.At
end
-- ==== Proof.GateClaim.lean ====
/- The two programs compute the same four arrays. -/
module

public import proofs.«01_k».proof.Defs
public import proofs.«01_k».proof.Proof.GateArray
public import proofs.«01_k».proof.Proof.GateRef
public import proofs.«01_k».proof.Proof.Gen.GateReferenceIdeal.Run
public import Idealize.ShloMosaic.Lib.Quiescent

@[expose] public section

set_option maxRecDepth 16384

noncomputable section

namespace Cert.GateClaim

open Idealize.ShloMosaic Idealize.ShloMosaic.TcCoe Idealize.SL.Sem
open Cert.Math Cert
open Cert.GateKernelIdeal (nD τ sig cfg0 S4096x1024 S4096x2048 S2x1024)
open Cert.GateKernelIdeal.Gen Cert.GateKernelIdeal.Array
open Cert.GateReferenceIdeal.Read Cert.GateReferenceIdeal.At

variable (m : (ℓ : Loc nD τ sig) → Buf (Elt Ideal) ℓ) (c : Dev nD)

theorem eq6 : ((dats m 0 c).arrAt 6 cfg0.N : S4096x1024.Idx → EReal) = val_main_v36 (F := Ideal) (A0 m c) (A1 m c) (A4 m c) :=
  Rows.ext2 fun R l => by
    exact (arr6 m c _ _).trans ((mul_comm _ _).trans (dyc (A0 m c) (A1 m c) (A4 m c) _ _).symm)

theorem eq7 : ((dats m 0 c).arrAt 7 cfg0.N : S4096x1024.Idx → EReal) = val_main_v37 (F := Ideal) (A0 m c) (A1 m c) (A4 m c) :=
  Rows.ext2 fun R l => by
    exact (arr7 m c _ _).trans ((mul_comm _ _).trans (dym (A0 m c) (A1 m c) (A4 m c) _ _).symm)

theorem D0_eq (R : Fin 4096) (l : Fin 1024) :
    D0 m c R l = val_main_v31 (F := Ideal) (A0 m c) (A1 m c) (A2 m c) (A3 m c) (A4 m c) (ix3 R 0 l) := by
  rw [dpre, if_pos (by rfl)]
  unfold D0 S0
  have e : (⟨(0 : Fin 2).val * 1024 + l.val, by omega⟩ : Fin 2048) = ⟨l.val, by omega⟩ := Fin.ext (by simp)
  rw [mul_assoc, e]

theorem D1_eq (R : Fin 4096) (l : Fin 1024) :
    D1 m c R l = val_main_v31 (F := Ideal) (A0 m c) (A1 m c) (A2 m c) (A3 m c) (A4 m c) (ix3 R 1 l) := by
  rw [dpre, if_neg (by simp)]
  unfold D1 S1
  rw [mul_assoc]
  congr 8

theorem eq8 : ((dats m 0 c).arrAt 8 cfg0.N : S4096x2048.Idx → EReal)
    = val_main_v38 (F := Ideal) (A0 m c) (A1 m c) (A2 m c) (A3 m c) (A4 m c) :=
  Rows.ext2 fun R j => by
    refine (arr8 m c R j).trans (Eq.trans ?_ (dpg (A0 m c) (A1 m c) (A2 m c) (A3 m c) (A4 m c) R j).symm)
    split
    · rename_i h
      rw [D0_eq]
      refine congrArg _ ?_
      congr 1 <;> exact Fin.ext (by simp; omega)
    · rename_i h
      rw [D1_eq]
      refine congrArg _ ?_
      congr 1 <;> exact Fin.ext (by simp; omega)

theorem eq9 : ((dats m 0 c).arrAt 9 cfg0.N : S2x1024.Idx → EReal)
    = val_main_v34 (F := Ideal) (A0 m c) (A1 m c) (A2 m c) (A3 m c) (A4 m c) :=
  Rows.ext2 fun k l => by
    refine Eq.trans ?_ (dgb (A0 m c) (A1 m c) (A2 m c) (A3 m c) (A4 m c) k l).symm
    have h2 : k = 0 ∨ k = 1 := by revert k; decide
    rcases h2 with rfl | rfl
    · refine (arr9 m c l).1.trans ?_
      simp only [D0_eq]
    · refine (arr9 m c l).2.trans ?_
      simp only [D1_eq]

end Cert.GateClaim

open Idealize.ShloMosaic Idealize.SL.Sem in
/-- The kernel computes the reference's four arrays, over the extended reals. -/
theorem Cert.GateClaim.algebraic : Cert.algebraic_GateKernelIdeal_GateReferenceIdeal := by
  intro m g m' g' _ hag
  refine ⟨_, _, _, _, Cert.GateKernelIdeal.Value.run_blocks m g, (θ_run _ _ _).mono (fun r h c => ?_) (Cert.GateReferenceIdeal.Value.run m' g')⟩
  obtain ⟨h36, h37, h38, h34, ha⟩ := h c
  obtain ⟨e0, e1, e2, e3, e4⟩ := hag c
  refine ⟨?_, ?_, ?_, ?_, ha⟩
  · rw [h36, Cert.GateReferenceIdeal.Read.val_main_v36_eq, e0, e1, e4]
    exact (Cert.GateClaim.eq6 m c).symm
  · rw [h37, Cert.GateReferenceIdeal.Read.val_main_v37_eq, e0, e1, e4]
    exact (Cert.GateClaim.eq7 m c).symm
  · rw [h38, Cert.GateReferenceIdeal.Read.val_main_v38_eq, e0, e1, e2, e3, e4]
    exact (Cert.GateClaim.eq8 m c).symm
  · rw [h34, Cert.GateReferenceIdeal.Read.val_main_v34_eq, e0, e1, e2, e3, e4]
    exact (Cert.GateClaim.eq9 m c).symm

open Idealize.ShloMosaic Idealize.SL.Sem in
/-- The reference terminates, leaves its arguments as they were, and has no semaphore. -/
theorem Cert.GateClaim.frame_reference : Cert.quiescent_GateReferenceIdeal := fun m ρ _ =>
  (θ_run Cert.GateReferenceIdeal.defs _ _).mono (fun r h => ⟨fun c => (h c).2.2.2.2,
    sem_eq_zero_of_no_sems (by decide) r.2⟩) (Cert.GateReferenceIdeal.Value.run m ρ)

end
-- ==== Proof.Tile.lean ====
/- Eight tiles of 512 rows: where a tile's index lies in the whole array. -/
module

public import proofs.«01_k».proof.Proof.Rows

@[expose] public section

noncomputable section

namespace Cert.Tile

open Idealize.ShloMosaic

/-- Row `r` of tile `t` as a row of the array. -/
def row {N : ℕ} (hN : N = 8) (t : Fin N) (r : Fin 512) : Fin 4096 :=
  ⟨t.val * 512 + r.val, by have := t.isLt; have := r.isLt; omega⟩

theorem surj {N : ℕ} (hN : N = 8) (R : Fin 4096) : ∃ (t : Fin N) (r : Fin 512), R = row hN t r :=
  ⟨⟨R.val / 512, by omega⟩, ⟨R.val % 512, by omega⟩, Fin.ext (by show R.val = R.val / 512 * 512 + R.val % 512; omega)⟩

/-- An index of tile `t` of a window of 512 rows. -/
theorem at2 {N n : ℕ} {hN : N = 8} {t : Fin N} {x : (⟨2, ![4096, n]⟩ : Shape).Idx} {r : Fin 512} {l : Fin n} {j : Fin 2 → ℕ} (h : j = ![t.val, 0])
    (h0 : (x 0).val = j 0 * 512 + 1 * r.val) (h1 : (x 1).val = j 1 * n + 1 * l.val) : x = ix2 (row hN t r) l := by
  subst h
  exact Rows.idx_ext2 (h0.trans (by show t.val * 512 + 1 * r.val = t.val * 512 + r.val; omega))
    (h1.trans (by show 0 * n + 1 * l.val = l.val; omega))

/-- An index of a window that is the whole array. -/
theorem all2 {b d : ℕ} {x : (⟨2, ![b, d]⟩ : Shape).Idx} {r : Fin b} {l : Fin d} {j : Fin 2 → ℕ} (h : j = ![0, 0])
    (h0 : (x 0).val = j 0 * b + 1 * r.val) (h1 : (x 1).val = j 1 * d + 1 * l.val) : x = ix2 r l := by
  subst h
  exact Rows.idx_ext2 (h0.trans (by show 0 * b + 1 * r.val = r.val; omega)) (h1.trans (by show 0 * d + 1 * l.val = l.val; omega))

/-- An index of a block of `p` rows and `q` columns. -/
theorem gen {a b p q i k r l : ℕ} {x : (⟨2, ![a, b]⟩ : Shape).Idx} {R : Fin a} {L : Fin b} {j : Fin 2 → ℕ} (h : j = ![i, k])
    (h0 : (x 0).val = j 0 * p + 1 * r) (h1 : (x 1).val = j 1 * q + 1 * l) (hR : R.val = i * p + r) (hL : L.val = k * q + l) : x = ix2 R L := by
  subst h
  exact Rows.idx_ext2 (h0.trans (by rw [hR]; show i * p + 1 * r = i * p + r; omega)) (h1.trans (by rw [hL]; show k * q + 1 * l = k * q + l; omega))

/-- The same, from the block's two numbers. -/
theorem rc {a b p q i k r l : ℕ} {x : (⟨2, ![a, b]⟩ : Shape).Idx} {R : Fin a} {L : Fin b} {j : Fin 2 → ℕ} (h : j 0 = i ∧ j 1 = k)
    (h0 : (x 0).val = j 0 * p + 1 * r) (h1 : (x 1).val = j 1 * q + 1 * l) (hR : R.val = i * p + r) (hL : L.val = k * q + l) : x = ix2 R L :=
  Rows.idx_ext2 (h0.trans (by rw [hR, h.1]; omega)) (h1.trans (by rw [hL, h.2]; omega))

/-- … where a block has all columns. -/
theorem rf {a b p i r : ℕ} {x : (⟨2, ![a, b]⟩ : Shape).Idx} {R : Fin a} {l : Fin b} {j : Fin 2 → ℕ} (h : j 0 = i ∧ j 1 = 0)
    (h0 : (x 0).val = j 0 * p + 1 * r) (h1 : (x 1).val = j 1 * b + 1 * l.val) (hR : R.val = i * p + r) : x = ix2 R l :=
  rc h h0 h1 hR (by omega)

/-- … or is the whole array. -/
theorem ff {a b : ℕ} {x : (⟨2, ![a, b]⟩ : Shape).Idx} {r : Fin a} {l : Fin b} {j : Fin 2 → ℕ} (h : j 0 = 0 ∧ j 1 = 0)
    (h0 : (x 0).val = j 0 * a + 1 * r.val) (h1 : (x 1).val = j 1 * b + 1 * l.val) : x = ix2 r l :=
  rf h h0 h1 (by omega)

end Cert.Tile

end
-- ==== Proof.Reals.lean ====
/- Finite extended reals: closed under the operations the kernels use, and what a printed "all finite" says. -/
module

public import proofs.«01_k».proof.Proof.Sigmoid
public import Idealize.ShloMosaic.Lib.ReduceAll
public import Idealize.ShloMosaic.Lib.IdealHost

@[expose] public section

set_option maxRecDepth 16384

noncomputable section

namespace Cert.Math

open Idealize.ShloMosaic

/-- Neither infinity. -/
def IsR (x : EReal) : Prop := ∃ r : ℝ, x = r

theorem IsR.coe (r : ℝ) : IsR (r : EReal) := ⟨r, rfl⟩

theorem IsR.mul {x y : EReal} : IsR x → IsR y → IsR (x * y) := by
  rintro ⟨a, rfl⟩ ⟨b, rfl⟩; exact ⟨a * b, (EReal.coe_mul a b).symm⟩

theorem IsR.add {x y : EReal} : IsR x → IsR y → IsR (x + y) := by
  rintro ⟨a, rfl⟩ ⟨b, rfl⟩; exact ⟨a + b, (EReal.coe_add a b).symm⟩

theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih

theorem IsR.sg {x : EReal} : IsR x → IsR (sg x) := by
  rintro ⟨a, rfl⟩; exact ⟨_, sg_coe a⟩

/-- `|x| < +∞`, as it is printed, says that `x` is finite. -/
theorem isR_of_lt {x : EReal} (h : Ideal.cmp .olt (max x (-x)) (Ideal.ofBits .f32 0x7F800000#32) = 1#1) : IsR x := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- `jnp.all(jnp.abs(x) < jnp.inf)`, as it is printed, says that every entry is finite. -/
theorem all_isR {s : Shape} {axes : List (Fin s.rank)} (x : FVec Ideal s .f32) (hb : (⟨0, ![]⟩ : Shape).BroadcastsInDim s (![] : Fin 0 → Fin s.rank))
    (hr : s.ReducesTo axes (⟨0, ![]⟩ : Shape)) (hu : 0 < (⟨0, ![]⟩ : Shape).numel) (j : (⟨0, ![]⟩ : Shape).Idx)
    (h : Host.reduce IntOp.andi (cmpf .olt (Host.absf x) (broadcastInDim s ![] hb (constant ⟨0, ![]⟩ .f32 0x7F800000#32))) (constantI ⟨0, ![]⟩ 1 1#1) hr hu j = 1#1)
    (i : s.Idx) : IsR (x i) := by
  haveI : Subsingleton (⟨0, ![]⟩ : Shape).Idx := ⟨fun a b => funext fun k => k.elim0⟩
  exact isR_of_lt (Host.reduce_andi_all _ _ hr hu j h i)

/-- The index of a scalar. -/
def j0 : (⟨0, ![]⟩ : Shape).Idx := fun k => k.elim0

theorem and_one {x y : BitVec 1} (h : IntOp.andi x y = 1#1) : x = 1#1 ∧ y = 1#1 := by
  revert h; revert x y; decide

end Cert.Math

end
-- ==== Proof.RmsGrad.lean ====
/- The gradient of the norm of a row, as the kernels and `jax.vjp` write it, and their equality on finite rows. -/
module

public import proofs.«01_k».proof.Proof.Reals

@[expose] public section

noncomputable section

namespace Cert.Math

open Idealize.ShloMosaic

/-- The mean square of a row of 1024 entries plus 1e-6 (1149239296 and 897988541 are the words of 1024 and of 1e-6), and one over its root. -/
def msq (x : Fin 1024 → EReal) : EReal :=
  Ideal.div (∑ k, x k * x k) (Ideal.ofBits FTy.f32 1149239296#32) + Ideal.ofBits FTy.f32 897988541#32
def rms (x : Fin 1024 → EReal) : EReal := Ideal.rsqrt (msq x)

/-- The gradient at entry `l` of a row `x` with cotangent `d` (gain included), added to `y`: the kernels' formula. -/
def dxKernel (x d : Fin 1024 → EReal) (l : Fin 1024) (y : EReal) : EReal :=
  y + rms x * (d l - x l * rms x * Ideal.div (∑ k, d k * (x k * rms x)) (Ideal.ofBits FTy.f32 1149239296#32))

/-- What `jax.vjp` passes to the mean square (3204448256 is the word of minus one half). -/
def dmsq (x d : Fin 1024 → EReal) : EReal :=
  Ideal.div ((∑ k, x k * d k) * (Ideal.ofBits FTy.f32 3204448256#32 * Ideal.div (rms x) (msq x))) (Ideal.ofBits FTy.f32 1149239296#32)

/-- The same gradient as `jax.vjp` gives it. -/
def dxVjp (x d : Fin 1024 → EReal) (l : Fin 1024) (y : EReal) : EReal :=
  y + d l * rms x + x l * dmsq x d + dmsq x d * x l

theorem lit_1024 : Ideal.ofBits FTy.f32 1149239296#32 = ((1024 : ℝ) : EReal) := by
  simp [Ideal.ofBits, Ideal.ieee]; rw [← EReal.coe_mul]; norm_num

theorem lit_neg_half : Ideal.ofBits FTy.f32 3204448256#32 = ((-(1 / 2) : ℝ) : EReal) := by
  simp [Ideal.ofBits, Ideal.ieee]; rw [← EReal.coe_mul]; norm_num

theorem lit_eps : ∃ e : ℝ, 0 < e ∧ Ideal.ofBits FTy.f32 897988541#32 = (e : EReal) := by
  refine ⟨(8796093 : ℝ) * ((2 : ℝ) ^ 43)⁻¹, by positivity, ?_⟩
  simp [Ideal.ofBits, Ideal.ieee]

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem dx_law (x d : Fin 1024 → EReal) (l : Fin 1024) (y : EReal) (hx : ∀ k, IsR (x k)) (hd : ∀ k, IsR (d k)) (hy : IsR y) :
    dxKernel x d l y = dxVjp x d l y := by
  choose a ha using hx
  choose b hb using hd
  obtain ⟨z, rfl⟩ := hy
  obtain rfl : x = fun k => (a k : EReal) := funext ha
  obtain rfl : d = fun k => (b k : EReal) := funext hb
  obtain ⟨e, he, hl⟩ := lit_eps
  have hq : msq (fun k => (a k : EReal)) = (((∑ k, a k * a k) * (1 / 1024) + e : ℝ) : EReal) := by
    unfold msq
    rw [hl, lit_1024, Ideal.div_coe (by norm_num)]
    simp only [← EReal.coe_mul, coe_sum, ← EReal.coe_add]
  have hpos : 0 < (∑ k, a k * a k) * (1 / 1024) + e := by
    have : 0 ≤ ∑ k, a k * a k := Finset.sum_nonneg fun k _ => mul_self_nonneg _
    positivity
  generalize (∑ k, a k * a k) * (1 / 1024) + e = q at hq hpos
  have hr : rms (fun k => (a k : EReal)) = (((Real.sqrt q)⁻¹ : ℝ) : EReal) := by
    unfold rms
    rw [hq, Ideal.rsqrt_coe, if_neg (not_lt.mpr hpos.le), if_neg hpos.ne']
  have hrr : (Real.sqrt q)⁻¹ * (Real.sqrt q)⁻¹ = 1 / q := by
    rw [← mul_inv, Real.mul_self_sqrt hpos.le, one_div]
  unfold dxKernel dxVjp dmsq
  rw [hr, hq, lit_1024, lit_neg_half, Ideal.div_coe hpos.ne', Ideal.div_coe (by norm_num), Ideal.div_coe (by norm_num)]
  generalize (Real.sqrt q)⁻¹ = r at hrr
  simp only [← EReal.coe_mul, coe_sum, ← EReal.coe_add, ← EReal.coe_sub]
  congr 1
  have hs : ∑ k, b k * (a k * r) = (∑ k, a k * b k) * r := by
    rw [Finset.sum_mul]; exact Finset.sum_congr rfl fun k _ => by ring
  rw [hs, ← hrr]
  ring

end Cert.Math

end
-- ==== Proof.FfnDhRms.lean ====
/- Gradient `ffn_dh_rms`: the gradients of the normed stream and of its gain are those `jax.vjp` gives. -/
module

public import proofs.«01_k».proof.Defs
public import proofs.«01_k».proof.Proof.Rows
public import proofs.«01_k».proof.Proof.Tile
public import proofs.«01_k».proof.Proof.RmsGrad
public import proofs.«01_k».proof.Proof.Gen.Pre_ffn_dh_rms_finite
public import proofs.«01_k».proof.Proof.Gen.FfnDhRmsKernelIdeal.Value
public import proofs.«01_k».proof.Proof.Gen.FfnDhRmsReferenceIdeal.Read
public import Idealize.ShloMosaic.Lib.Quiescent

@[expose] public section

set_option maxRecDepth 16384

noncomputable section

namespace Cert.FfnDhRms

open Cert.FfnDhRmsKernelIdeal Cert.FfnDhRmsKernelIdeal.Gen Cert.FfnDhRmsKernelIdeal.Value
open Idealize.ShloMosaic Idealize.ShloMosaic.TcCoe Idealize.SL.Sem
open Cert.FfnDhRmsReferenceIdeal.Read Cert

variable (m : (ℓ : Loc nD τ sig) → Buf (Elt Ideal) ℓ)

/-- The argument arrays of a device. -/
abbrev A0 (c : Dev nD) : Vec Ideal S4096x1024 .f32 := m ((c : Thread nD τ).loc main_arg0)
abbrev A1 (c : Dev nD) : Vec Ideal S1024 .f32 := m ((c : Thread nD τ).loc main_arg1)
abbrev A2 (c : Dev nD) : Vec Ideal S1024x2816 .f32 := m ((c : Thread nD τ).loc main_arg2)
abbrev A3 (c : Dev nD) : Vec Ideal S1024x2816 .f32 := m ((c : Thread nD τ).loc main_arg3)
abbrev A4 (c : Dev nD) : Vec Ideal S4096x2816 .bf16 := m ((c : Thread nD τ).loc main_arg4)
abbrev A5 (c : Dev nD) : Vec Ideal S4096x2816 .bf16 := m ((c : Thread nD τ).loc main_arg5)
abbrev A6 (c : Dev nD) : Vec Ideal S4096x1024 .f32 := m ((c : Thread nD τ).loc main_arg6)

/-- What the host hands the kernel. -/
abbrev H0 (c : Dev nD) : Vec Ideal S4096x2816 .bf16 := V m c main_arg4
abbrev H1 (c : Dev nD) : Vec Ideal S2816x1024 .bf16 := V m c main_v2
abbrev H2 (c : Dev nD) : Vec Ideal S4096x2816 .bf16 := V m c main_arg5
abbrev H3 (c : Dev nD) : Vec Ideal S2816x1024 .bf16 := V m c main_v4
abbrev H4 (c : Dev nD) : Vec Ideal S4096x1024 .f32 := V m c main_arg0
abbrev H5 (c : Dev nD) : Vec Ideal S1x1024 .f32 := V m c main_v5
abbrev H6 (c : Dev nD) : Vec Ideal S4096x1024 .f32 := V m c main_arg6

theorem H0_eq (c : Dev nD) : H0 m c = A4 m c := V_main_arg4 m c
theorem H1_eq (c : Dev nD) (r : Fin 2816) (l : Fin 1024) : H1 m c (ix2 r l) = A2 m c (ix2 l r) := by
  have h : H1 m c = (truncf .bf16 (transpose S2816x1024 [1, 0] (A2 m c) transposes_S1024x2816_S2816x1024_1_0 : FVec Ideal S2816x1024 .f32) bitsLt_bf16_f32 : FVec Ideal S2816x1024 .bf16) := by
    unfold_abbrev_sides
    after_results
  rw [h]
  pointwise []
theorem H2_eq (c : Dev nD) : H2 m c = A5 m c := V_main_arg5 m c
theorem H3_eq (c : Dev nD) (r : Fin 2816) (l : Fin 1024) : H3 m c (ix2 r l) = A3 m c (ix2 l r) := by
  have h : H3 m c = (truncf .bf16 (transpose S2816x1024 [1, 0] (A3 m c) transposes_S1024x2816_S2816x1024_1_0 : FVec Ideal S2816x1024 .f32) bitsLt_bf16_f32 : FVec Ideal S2816x1024 .bf16) := by
    unfold_abbrev_sides
    after_results
  rw [h]
  pointwise []
theorem H4_eq (c : Dev nD) : H4 m c = A0 m c := V_main_arg0 m c
theorem H5_eq (c : Dev nD) (l : Fin 1024) : H5 m c (ix2 0 l) = A1 m c (ix1 l) := by
  have h : H5 m c = (shapeCast S1x1024 (A1 m c) shapeCasts_S1024_S1x1024 : FVec Ideal S1x1024 .f32) := by
    unfold_abbrev_sides
    after_results
    rfl
  rw [h]
  pointwise []
theorem H6_eq (c : Dev nD) : H6 m c = A6 m c := V_main_arg6 m c

/-- Where the windows lie. -/
theorem idx : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) ∧ (win0_3.index t 0 = 0 ∧ win0_3.index t 1 = 0) ∧ (win0_4.index t 0 = t.val ∧ win0_4.index t 1 = 0) ∧ (win0_5.index t 0 = 0 ∧ win0_5.index t 1 = 0) ∧ (win0_6.index t 0 = t.val ∧ win0_6.index t 1 = 0) ∧ (win0_7.index t 0 = t.val ∧ win0_7.index t 1 = 0) ∧ (win0_8.index t 0 = 0 ∧ win0_8.index t 1 = 0) := by
  show ∀ t : Fin grid0.N, _
  decide +kernel

/-- Row `r` of a block at point `t` as a row of the array, and column `l` as a column. -/
def row (t : Fin cfg0.N) (r : Fin 256) : Fin 4096 :=
  ⟨t.val * 256 + r.val, by have h := t.isLt; have hN : cfg0.N = 16 := N_0; have := r.isLt; omega⟩
def col (t : Fin cfg0.N) (l : Fin 1024) : Fin 1024 :=
  ⟨0 * 1024 + l.val, by have h := t.isLt; have hN : cfg0.N = 16 := N_0; have := l.isLt; omega⟩

theorem surj (R : Fin 4096) (L : Fin 1024) : ∃ (t : Fin cfg0.N) (r : Fin 256) (l : Fin 1024), R = row t r ∧ L = col t l :=
  ⟨⟨0 * (L.val / 1024) + (R.val / 256), by rw [show cfg0.N = 16 from N_0]; omega⟩, ⟨R.val % 256, by omega⟩, ⟨L.val % 1024, by omega⟩,
    Fin.ext (by show R.val = (0 * (L.val / 1024) + (R.val / 256)) * 256 + R.val % 256; omega),
    Fin.ext (by show L.val = 0 * 1024 + L.val % 1024; omega)⟩

/-- The blocks at a point. -/
abbrev X0 (c : Dev nD) (t : Fin cfg0.N) : Vec Ideal S256x2816 .bf16 := iblk m c 0 t
abbrev X1 (c : Dev nD) (t : Fin cfg0.N) : Vec Ideal S2816x1024 .bf16 := iblk m c 1 t
abbrev X2 (c : Dev nD) (t : Fin cfg0.N) : Vec Ideal S256x2816 .bf16 := iblk m c 2 t
abbrev X3 (c : Dev nD) (t : Fin cfg0.N) : Vec Ideal S2816x1024 .bf16 := iblk m c 3 t
abbrev X4 (c : Dev nD) (t : Fin cfg0.N) : Vec Ideal S256x1024 .f32 := iblk m c 4 t
abbrev X5 (c : Dev nD) (t : Fin cfg0.N) : Vec Ideal S1x1024 .f32 := iblk m c 5 t
abbrev X6 (c : Dev nD) (t : Fin cfg0.N) : Vec Ideal S256x1024 .f32 := iblk m c 6 t

theorem X0_eq (c : Dev nD) (t : Fin cfg0.N) (r : Fin 256) (l : Fin 2816) : X0 m c t (ix2 r l) = H0 m c (ix2 (row t r) l) :=
  congrArg (H0 m c) (Tile.rf (idx t).1 rfl rfl rfl)

theorem X1_eq (c : Dev nD) (t : Fin cfg0.N) (r : Fin 2816) (l : Fin 1024) : X1 m c t (ix2 r l) = H1 m c (ix2 r l) :=
  congrArg (H1 m c) (Tile.ff (idx t).2.1 rfl rfl)

theorem X2_eq (c : Dev nD) (t : Fin cfg0.N) (r : Fin 256) (l : Fin 2816) : X2 m c t (ix2 r l) = H2 m c (ix2 (row t r) l) :=
  congrArg (H2 m c) (Tile.rf (idx t).2.2.1 rfl rfl rfl)

theorem X3_eq (c : Dev nD) (t : Fin cfg0.N) (r : Fin 2816) (l : Fin 1024) : X3 m c t (ix2 r l) = H3 m c (ix2 r l) :=
  congrArg (H3 m c) (Tile.ff (idx t).2.2.2.1 rfl rfl)

theorem X4_eq (c : Dev nD) (t : Fin cfg0.N) (r : Fin 256) (l : Fin 1024) : X4 m c t (ix2 r l) = H4 m c (ix2 (row t r) l) :=
  congrArg (H4 m c) (Tile.rf (idx t).2.2.2.2.1 rfl rfl rfl)

theorem X5_eq (c : Dev nD) (t : Fin cfg0.N) (r : Fin 1) (l : Fin 1024) : X5 m c t (ix2 r l) = H5 m c (ix2 r l) :=
  congrArg (H5 m c) (Tile.ff (idx t).2.2.2.2.2.1 rfl rfl)

theorem X6_eq (c : Dev nD) (t : Fin cfg0.N) (r : Fin 256) (l : Fin 1024) : X6 m c t (ix2 r l) = H6 m c (ix2 (row t r) l) :=
  congrArg (H6 m c) (Tile.rf (idx t).2.2.2.2.2.2.1 rfl rfl rfl)

theorem emb7 (t : Fin cfg0.N) (r : Fin 256) (l : Fin 1024) : ((cfg0.win 7).blk t).view.emb (ix2 (n0 := 256) (n1 := 1024) r l)
    = ix2 (n0 := 4096) (n1 := 1024) (row t r) (col t l) :=
  Tile.rc (idx t).2.2.2.2.2.2.2.1 rfl rfl rfl rfl

theorem emb8 (t : Fin cfg0.N) (r : Fin 1) (l : Fin 1024) : ((cfg0.win 8).blk t).view.emb (ix2 (n0 := 1) (n1 := 1024) r l)
    = ix2 (n0 := 1) (n1 := 1024) r l :=
  Tile.ff (idx t).2.2.2.2.2.2.2.2 rfl rfl

theorem hz : (![0, 0] : Fin 2 → ℕ) = 0 := by decide

/-- An entry of the cotangent of the norm's result: the rows of the cotangents times the rows of the weights. -/
def dh (x2 : Vec Ideal S1024x2816 .f32) (x3 : Vec Ideal S1024x2816 .f32) (x4 : Vec Ideal S4096x2816 .bf16) (x5 : Vec Ideal S4096x2816 .bf16) (R : Fin 4096) (L : Fin 1024) : EReal :=
  (∑ k : Fin 2816, x4 (ix2 R k) * x2 (ix2 L k)) + (∑ k : Fin 2816, x5 (ix2 R k) * x3 (ix2 L k))

theorem col_eq (t : Fin cfg0.N) (l : Fin 1024) : col t l = l := Fin.ext (by show 0 * 1024 + l.val = l.val; omega)

/-! What a point writes, from its blocks. -/

theorem pay4 (x0 : Vec Ideal S256x2816 .bf16) (x1 : Vec Ideal S2816x1024 .bf16) (x2 : Vec Ideal S256x2816 .bf16) (x3 : Vec Ideal S2816x1024 .bf16) (r : Fin 256) (l : Fin 1024) :
    k0_pay4 x0 x1 x2 x3 (ix2 r l) = (∑ k : Fin 2816, x0 (ix2 r k) * x1 (ix2 k l)) + (∑ k : Fin 2816, x2 (ix2 r k) * x3 (ix2 k l)) := by
  pointwise [k0_pay4]

theorem pay5 (x : Vec Ideal S256x1024 .f32) (r : Fin 256) : k0_pay5 x (ix2 r 0) = Math.rms (fun k => x (ix2 r k)) := by
  unfold Math.rms Math.msq
  pointwise [k0_pay5]

theorem pay6 (x : Vec Ideal S256x1024 .f32) (r : Fin 256) (l : Fin 1024) :
    k0_pay6 x (ix2 r l) = x (ix2 r l) * Math.rms (fun k => x (ix2 r k)) := by
  rw [← pay5]
  pointwise [k0_pay6]

theorem pay7 (x0 : Vec Ideal S256x2816 .bf16) (x1 : Vec Ideal S2816x1024 .bf16) (x2 : Vec Ideal S256x2816 .bf16) (x3 : Vec Ideal S2816x1024 .bf16) (g : Vec Ideal S1x1024 .f32) (r : Fin 256) (l : Fin 1024) :
    k0_pay7 x0 x1 x2 x3 g (ix2 r l) = k0_pay4 x0 x1 x2 x3 (ix2 r l) * g (ix2 0 l) := by
  pointwise [k0_pay7]

theorem pay8 (x0 : Vec Ideal S256x2816 .bf16) (x1 : Vec Ideal S2816x1024 .bf16) (x2 : Vec Ideal S256x2816 .bf16) (x3 : Vec Ideal S2816x1024 .bf16) (x : Vec Ideal S256x1024 .f32) (g : Vec Ideal S1x1024 .f32) (r : Fin 256) (l : Fin 1024) :
    k0_pay8 x0 x1 x2 x3 x g (ix2 r l) = k0_pay6 x (ix2 r l)
      * Ideal.div (∑ k : Fin 1024, k0_pay7 x0 x1 x2 x3 g (ix2 r k) * k0_pay6 x (ix2 r k)) (Ideal.ofBits FTy.f32 1149239296#32) := by
  pointwise [k0_pay8]

theorem pay1 (q : FVec Ideal S256x1 .f32) (u y v : Vec Ideal S256x1024 .f32) (r : Fin 256) (l : Fin 1024) :
    k0_pay1 q u y v (ix2 r l) = y (ix2 r l) + q (ix2 r 0) * (u (ix2 r l) - v (ix2 r l)) := by
  pointwise [k0_pay1]

theorem pay2 (u v : FVec Ideal S256x1024 .f32) (z : Vec Ideal S1x1024 .f32) (l : Fin 1024) :
    k0_pay2 u v z (ix2 0 l) = z (ix2 0 l) + ∑ r : Fin 256, u (ix2 r l) * v (ix2 r l) := by
  pointwise [k0_pay2]

theorem payx (x0 : Vec Ideal S256x2816 .bf16) (x1 : Vec Ideal S2816x1024 .bf16) (x2 : Vec Ideal S256x2816 .bf16) (x3 : Vec Ideal S2816x1024 .bf16) (x : Vec Ideal S256x1024 .f32) (g : Vec Ideal S1x1024 .f32) (y : Vec Ideal S256x1024 .f32) (r : Fin 256) (l : Fin 1024) :
    k0_pay1 (F := Ideal) (k0_pay5 x) (k0_pay7 x0 x1 x2 x3 g) y (k0_pay8 x0 x1 x2 x3 x g) (ix2 r l)
      = Math.dxKernel (fun k => x (ix2 r k)) (fun k => k0_pay4 x0 x1 x2 x3 (ix2 r k) * g (ix2 0 k)) l (y (ix2 r l)) := by
  unfold Math.dxKernel
  simp only [pay1, pay8, pay7, pay6, pay5]

/-! The same over the arrays. -/

theorem dh_eq (c : Dev nD) (t : Fin cfg0.N) (r : Fin 256) (l : Fin 1024) : k0_pay4 (X0 m c t) (X1 m c t) (X2 m c t) (X3 m c t) (ix2 r l) = dh (A2 m c) (A3 m c) (A4 m c) (A5 m c) (row t r) l := by
  refine (pay4 _ _ _ _ _ _).trans ?_
  unfold dh
  exact (congrArg₂ (· + ·) (Finset.sum_congr rfl fun k _ => by rw [X0_eq, X1_eq, H0_eq, H1_eq]) (Finset.sum_congr rfl fun k _ => by rw [X2_eq, X3_eq, H2_eq, H3_eq]))

/-- The row of `x`, and the row of the cotangent with the gain. -/
def xs (x0 : Vec Ideal S4096x1024 .f32) (R : Fin 4096) (k : Fin 1024) : EReal := x0 (ix2 R k)
def ds (x1 : Vec Ideal S1024 .f32) (x2 : Vec Ideal S1024x2816 .f32) (x3 : Vec Ideal S1024x2816 .f32) (x4 : Vec Ideal S4096x2816 .bf16) (x5 : Vec Ideal S4096x2816 .bf16) (R : Fin 4096) (k : Fin 1024) : EReal := dh x2 x3 x4 x5 R k * x1 (ix1 k)

theorem xs_eq (c : Dev nD) (t : Fin cfg0.N) (r : Fin 256) : (fun k => X4 m c t (ix2 r k)) = xs (A0 m c) (row t r) :=
  funext fun k => by rw [X4_eq, H4_eq]; rfl

theorem ds_eq (c : Dev nD) (t : Fin cfg0.N) (r : Fin 256) :
    (fun k => k0_pay4 (X0 m c t) (X1 m c t) (X2 m c t) (X3 m c t) (ix2 r k) * X5 m c t (ix2 0 k)) = ds (A1 m c) (A2 m c) (A3 m c) (A4 m c) (A5 m c) (row t r) :=
  funext fun k => by rw [dh_eq, X5_eq, H5_eq]; rfl

theorem pt7 (c : Dev nD) (t : Fin cfg0.N) (r : Fin 256) (l : Fin 1024) :
    k0_pay1 (F := Ideal) (k0_pay5 (X4 m c t)) (k0_pay7 (X0 m c t) (X1 m c t) (X2 m c t) (X3 m c t) (X5 m c t)) (X6 m c t) (k0_pay8 (X0 m c t) (X1 m c t) (X2 m c t) (X3 m c t) (X4 m c t) (X5 m c t)) (ix2 r l)
      = Math.dxKernel (xs (A0 m c) (row t r)) (ds (A1 m c) (A2 m c) (A3 m c) (A4 m c) (A5 m c) (row t r)) l (A6 m c (ix2 (row t r) l)) := by
  refine (payx _ _ _ _ _ _ _ _ _).trans ?_
  rw [xs_eq, ds_eq, X6_eq, H6_eq]

/-- A term of the gain's gradient. -/
def tg (x0 : Vec Ideal S4096x1024 .f32) (x2 : Vec Ideal S1024x2816 .f32) (x3 : Vec Ideal S1024x2816 .f32) (x4 : Vec Ideal S4096x2816 .bf16) (x5 : Vec Ideal S4096x2816 .bf16) (R : Fin 4096) (l : Fin 1024) : EReal :=
  dh x2 x3 x4 x5 R l * (xs x0 R l * Math.rms (xs x0 R))

theorem pt8 (c : Dev nD) (t : Fin cfg0.N) (z : Vec Ideal S1x1024 .f32) (l : Fin 1024) :
    k0_pay2 (F := Ideal) (k0_pay4 (X0 m c t) (X1 m c t) (X2 m c t) (X3 m c t)) (k0_pay6 (X4 m c t)) z (ix2 0 l)
      = z (ix2 0 l) + ∑ r : Fin 256, tg (A0 m c) (A2 m c) (A3 m c) (A4 m c) (A5 m c) (row t r) l := by
  refine (pay2 _ _ _ _).trans ?_
  refine congrArg (z (ix2 0 l) + ·) (Finset.sum_congr rfl fun r _ => ?_)
  rw [dh_eq, pay6, xs_eq, X4_eq, H4_eq]
  rfl

/-- The first result's block. -/
theorem blk7 (c : Dev nD) (t : Fin cfg0.N) (r : Fin 256) (l : Fin 1024) : (outsAt0 m c t.val t.isLt).1 (ix2 r l)
    = Math.dxKernel (xs (A0 m c) (row t r)) (ds (A1 m c) (A2 m c) (A3 m c) (A4 m c) (A5 m c) (row t r)) (col t l) (A6 m c (ix2 (row t r) (col t l))) := by
  rw [col_eq]
  by_cases h0 : t.val % 16 = 0
  · rw [outsAt0_A m c t h0]
    dsimp only
    unfold out0_A_7
    rw [View.read_writes_junk_eq_canon]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S256x1024) hz, View.ld_unit_zero (S := S1x1024) hz, View.ld_unit_zero (S := S256x2816) hz, View.ld_unit_zero (S := S2816x1024) hz]
    rw [View.canon_unit_zero (S := S256x1024) hz]
    exact pt7 m c t r l
  · rw [outsAt0_B m c t h0]
    dsimp only
    unfold out0_B_7
    rw [View.read_writes_junk_eq_canon]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S256x1024) hz, View.ld_unit_zero (S := S1x1024) hz, View.ld_unit_zero (S := S256x2816) hz, View.ld_unit_zero (S := S2816x1024) hz]
    rw [View.canon_unit_zero (S := S256x1024) hz]
    exact pt7 m c t r l

/-- The gain's gradient after the first point: the point's own column sums. -/
theorem blk8_A (c : Dev nD) (t : Fin cfg0.N) (h0 : t.val % 16 = 0) (l : Fin 1024) :
    (outsAt0 m c t.val t.isLt).2 (ix2 0 l) = 0 + ∑ r : Fin 256, tg (A0 m c) (A2 m c) (A3 m c) (A4 m c) (A5 m c) (row t r) l := by
  rw [outsAt0_A m c t h0]
  dsimp only
  unfold out0_A_8
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S256x1024) hz, View.ld_unit_zero (S := S1x1024) hz, View.ld_unit_zero (S := S256x2816) hz, View.ld_unit_zero (S := S2816x1024) hz]
  refine (Rows.canon_row 0 _ _ _ (ix2 0 l) l rfl rfl).trans ?_
  refine (pt8 m c t _ l).trans (congrArg (· + _) ?_)
  refine (Rows.readCov_row _ _ 0 _ l (ix2 0 l) rfl rfl).trans ?_
  rw [View.canon_unit_zero (S := S1x1024) hz]
  pointwise [k0_pay3]

/-- … and after a later point: the point before's, plus the point's own column sums. -/
theorem blk8_B (c : Dev nD) (t : Fin cfg0.N) (h0 : ¬t.val % 16 = 0) (l : Fin 1024) :
    (outsAt0 m c t.val t.isLt).2 (ix2 0 l) = (outsAt0 m c (t.val - 1) (Nat.lt_of_le_of_lt (Nat.sub_le _ _) t.isLt)).2 (ix2 0 l)
      + ∑ r : Fin 256, tg (A0 m c) (A2 m c) (A3 m c) (A4 m c) (A5 m c) (row t r) l := by
  rw [outsAt0_B m c t h0]
  dsimp only
  unfold out0_B_8
  rw [View.read_writes_junk_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_8 t).read_unread, View.ld_unit_zero (S := S256x1024) hz, View.ld_unit_zero (S := S1x1024) hz, View.ld_unit_zero (S := S256x2816) hz, View.ld_unit_zero (S := S2816x1024) hz]
  generalize (outsAt0 m c (t.val - 1) (Nat.lt_of_le_of_lt (Nat.sub_le _ _) t.isLt)).2 = xo
  rw [View.canon_unit_zero (S := S1x1024) hz]
  exact pt8 m c t xo l

theorem sums (c : Dev nD) (l : Fin 1024) : ∀ (n : ℕ) (h : n < cfg0.N),
    (outsAt0 m c n h).2 (ix2 0 l) = ∑ k : Fin (n + 1), ∑ r : Fin 256, tg (A0 m c) (A2 m c) (A3 m c) (A4 m c) (A5 m c) (row ⟨k.val, by omega⟩ r) l
  | 0, h => by
    have hb := blk8_A m c ⟨0, h⟩ rfl l
    rw [zero_add] at hb
    rw [Fin.sum_univ_one]
    exact hb
  | n + 1, h => by
    have hN : cfg0.N = 16 := N_0
    have hb := blk8_B m c ⟨n + 1, h⟩ (by dsimp only; omega) l
    have ih := sums c l n (by omega)
    rw [Fin.sum_univ_castSucc]
    exact hb.trans (congrArg (· + _) ih)

theorem flushed8_only (t t' : Fin cfg0.N) (h : (cfg0.win 8).flush t = true) (h' : (cfg0.win 8).flush t' = true) : t = t' := by
  have hN : cfg0.N = 16 := N_0
  have := (flush0_8 t).mp h
  have := (flush0_8 t').mp h'
  have := t.isLt
  have := t'.isLt
  exact Fin.ext (by omega)

theorem arr8 (c : Dev nD) (l : Fin 1024) : ((dats m 0 c).arrAt 8 cfg0.N : S1x1024.Idx → EReal) (ix2 0 l)
    = ∑ R : Fin 4096, tg (A0 m c) (A2 m c) (A3 m c) (A4 m c) (A5 m c) R l := by
  have hN : cfg0.N = 16 := N_0
  obtain ⟨t, ht⟩ : ∃ t : Fin cfg0.N, t.val = 15 := ⟨⟨15, by rw [hN]; omega⟩, rfl⟩
  have hf : (cfg0.win 8).flush t = true := (flush0_8 t).mpr (by rw [ht])
  have hb := (dats m 0 c).read_blk_arrAt_eq_flushed 8 (fun t t' h h' hne => absurd (flushed8_only t t' h h') hne) cfg0.N t t.isLt hf
  have h := congrFun hb (ix2 (n0 := 1) (n1 := 1024) 0 l)
  rw [View.read_apply, flushed8, emb8 t 0 l] at h
  rw [Fin.sum_univ_tiles 16 256 rfl]
  have h16 : t.val + 1 = 16 := by omega
  refine h.trans ((sums m c l t.val t.isLt).trans ?_)
  rw [← Equiv.sum_comp (finCongr h16)]
  rfl

theorem arr7 (c : Dev nD) (R : Fin 4096) (L : Fin 1024) : ((dats m 0 c).arrAt 7 cfg0.N : S4096x1024.Idx → EReal) (ix2 R L) = Math.dxKernel (xs (A0 m c) R) (ds (A1 m c) (A2 m c) (A3 m c) (A4 m c) (A5 m c) R) L (A6 m c (ix2 R L)) := by
  obtain ⟨t, r, l, rfl, rfl⟩ := surj R L
  have h := congrFun (blocks7 m c t (flush0_7 t)) (ix2 (n0 := 256) (n1 := 1024) r l)
  rw [View.read_apply, flushed7, emb7] at h
  rw [← blk7]
  exact h

/-! The reference's arrays. -/

theorem refr (x0 : Vec Ideal S4096x1024 .f32) (R : Fin 4096) : val_main_v7 (F := Ideal) x0 (ix2 R 0) = Math.rms (xs x0 R) := by
  unfold Math.rms Math.msq xs
  pointwise [val_main_v7, val_main_v6, val_main_v5, val_main_v4, val_main_v3, val_main_v2, val_main_v1, val_main_v0, val_main_cst, val_main_cst_0, val_main_cst_1]

theorem refq (x0 : Vec Ideal S4096x1024 .f32) (R : Fin 4096) : val_main_v6 (F := Ideal) x0 (ix2 R 0) = Math.msq (xs x0 R) := by
  unfold Math.msq xs
  pointwise [val_main_v6, val_main_v5, val_main_v4, val_main_v3, val_main_v2, val_main_v1, val_main_v0, val_main_cst, val_main_cst_0, val_main_cst_1]

theorem refdh (x2 : Vec Ideal S1024x2816 .f32) (x3 : Vec Ideal S1024x2816 .f32) (x4 : Vec Ideal S4096x2816 .bf16) (x5 : Vec Ideal S4096x2816 .bf16) (R : Fin 4096) (L : Fin 1024) : val_main_v22 (F := Ideal) x2 x3 x4 x5 (ix2 R L) = dh x2 x3 x4 x5 R L := by
  have h : val_main_v22 (F := Ideal) x2 x3 x4 x5 (ix2 R L) = (∑ k : Fin 2816, x5 (ix2 R k) * x3 (ix2 L k)) + (∑ k : Fin 2816, x4 (ix2 R k) * x2 (ix2 L k)) := by
    pointwise [val_main_v22, val_main_v21, val_main_v20, val_main_v19, val_main_v18]
  rw [h]
  unfold dh
  exact add_comm _ _

theorem refn (x0 : Vec Ideal S4096x1024 .f32) (R : Fin 4096) (L : Fin 1024) :
    val_main_v12 (F := Ideal) x0 (ix2 R L) = xs x0 R L * Math.rms (xs x0 R) := by
  rw [← refr]
  unfold xs
  pointwise [val_main_v12, val_main_v11]

theorem refg (x0 : Vec Ideal S4096x1024 .f32) (x2 : Vec Ideal S1024x2816 .f32) (x3 : Vec Ideal S1024x2816 .f32) (x4 : Vec Ideal S4096x2816 .bf16) (x5 : Vec Ideal S4096x2816 .bf16) (L : Fin 1024) :
    val_main_v44 (F := Ideal) x0 x2 x3 x4 x5 (ix2 0 L) = ∑ R : Fin 4096, tg x0 x2 x3 x4 x5 R L := by
  have h : val_main_v44 (F := Ideal) x0 x2 x3 x4 x5 (ix2 0 L)
      = ∑ R : Fin 4096, val_main_v12 (F := Ideal) x0 (ix2 R L) * val_main_v22 (F := Ideal) x2 x3 x4 x5 (ix2 R L) := by
    pointwise [val_main_v44, val_main_v28, val_main_v25, val_main_v24, val_main_v23, val_main_cst_3, val_main_cst_4]
    exact Fin.sum_univ_one _
  rw [h]
  refine Finset.sum_congr rfl fun R _ => ?_
  rw [refn, refdh]
  exact mul_comm (xs x0 R L * Math.rms (xs x0 R)) (dh x2 x3 x4 x5 R L)

theorem refd (x1 : Vec Ideal S1024 .f32) (x2 : Vec Ideal S1024x2816 .f32) (x3 : Vec Ideal S1024x2816 .f32) (x4 : Vec Ideal S4096x2816 .bf16) (x5 : Vec Ideal S4096x2816 .bf16) (R : Fin 4096) (L : Fin 1024) :
    val_main_v27 (F := Ideal) x1 x2 x3 x4 x5 (ix2 R L) = ds x1 x2 x3 x4 x5 R L := by
  unfold ds
  rw [← refdh]
  pointwise [val_main_v27, val_main_v26, val_main_v13]

theorem refc (x0 : Vec Ideal S4096x1024 .f32) (x1 : Vec Ideal S1024 .f32) (x2 : Vec Ideal S1024x2816 .f32) (x3 : Vec Ideal S1024x2816 .f32) (x4 : Vec Ideal S4096x2816 .bf16) (x5 : Vec Ideal S4096x2816 .bf16) (R : Fin 4096) :
    val_main_v38 (F := Ideal) x0 x1 x2 x3 x4 x5 (ix1 R) = Math.dmsq (xs x0 R) (ds x1 x2 x3 x4 x5 R) := by
  have h : val_main_v38 (F := Ideal) x0 x1 x2 x3 x4 x5 (ix1 R) = Ideal.div ((∑ k : Fin 1024, x0 (ix2 R k) * val_main_v27 (F := Ideal) x1 x2 x3 x4 x5 (ix2 R k))
      * (Ideal.ofBits FTy.f32 3204448256#32 * Ideal.div (val_main_v7 (F := Ideal) x0 (ix2 R 0)) (val_main_v6 (F := Ideal) x0 (ix2 R 0)))) (Ideal.ofBits FTy.f32 1149239296#32) := by
    pointwise [val_main_v38, val_main_v37, val_main_v36, val_main_v35, val_main_v31, val_main_v30, val_main_v29, val_main_v10, val_main_v9, val_main_v8, val_main_cst_2, val_main_cst_5, val_main_cst_6, val_main_cst_7]
    exact Fin.sum_univ_one _
  rw [h, refr, refq]
  simp only [refd]
  rfl

theorem refx (x0 : Vec Ideal S4096x1024 .f32) (x1 : Vec Ideal S1024 .f32) (x2 : Vec Ideal S1024x2816 .f32) (x3 : Vec Ideal S1024x2816 .f32) (x4 : Vec Ideal S4096x2816 .bf16) (x5 : Vec Ideal S4096x2816 .bf16) (x6 : Vec Ideal S4096x1024 .f32) (R : Fin 4096) (L : Fin 1024) :
    val_main_v43 (F := Ideal) x0 x1 x2 x3 x4 x5 x6 (ix2 R L) = Math.dxVjp (xs x0 R) (ds x1 x2 x3 x4 x5 R) L (x6 (ix2 R L)) := by
  unfold Math.dxVjp
  rw [← refc, ← refd, ← refr]
  unfold xs
  pointwise [val_main_v43, val_main_v42, val_main_v41, val_main_v40, val_main_v39, val_main_v34, val_main_v33, val_main_v32]

theorem dh_isR (x2 : Vec Ideal S1024x2816 .f32) (x3 : Vec Ideal S1024x2816 .f32) (x4 : Vec Ideal S4096x2816 .bf16) (x5 : Vec Ideal S4096x2816 .bf16) (f2 : ∀ i, Math.IsR (x2 i)) (f3 : ∀ i, Math.IsR (x3 i)) (f4 : ∀ i, Math.IsR (x4 i)) (f5 : ∀ i, Math.IsR (x5 i)) (R : Fin 4096) (L : Fin 1024) : Math.IsR (dh x2 x3 x4 x5 R L) := by
  unfold dh
  exact (Math.IsR.add (Math.IsR.sum _ _ fun k => Math.IsR.mul (f4 _) (f2 _)) (Math.IsR.sum _ _ fun k => Math.IsR.mul (f5 _) (f3 _)))

theorem finite (x0 : Vec Ideal S4096x1024 .f32) (x1 : Vec Ideal S1024 .f32) (x2 : Vec Ideal S1024x2816 .f32) (x3 : Vec Ideal S1024x2816 .f32) (x4 : Vec Ideal S4096x2816 .bf16) (x5 : Vec Ideal S4096x2816 .bf16) (x6 : Vec Ideal S4096x1024 .f32) (hp : Cert.Pre_ffn_dh_rms_finite.fn (F := Ideal) x0 x1 x2 x3 x4 x5 x6 = fun _ => 1#1) :
    (∀ i, Math.IsR (x0 i)) ∧ (∀ i, Math.IsR (x1 i)) ∧ (∀ i, Math.IsR (x2 i)) ∧ (∀ i, Math.IsR (x3 i)) ∧ (∀ i, Math.IsR (x4 i)) ∧ (∀ i, Math.IsR (x5 i)) ∧ (∀ i, Math.IsR (x6 i)) := by
  have h := congrFun hp Math.j0
  obtain ⟨h, h6⟩ := Math.and_one h
  obtain ⟨h, h5⟩ := Math.and_one h
  obtain ⟨h, h4⟩ := Math.and_one h
  obtain ⟨h, h3⟩ := Math.and_one h
  obtain ⟨h, h2⟩ := Math.and_one h
  obtain ⟨h0, h1⟩ := Math.and_one h
  exact ⟨Math.all_isR x0 _ _ _ _ h0, Math.all_isR x1 _ _ _ _ h1, Math.all_isR x2 _ _ _ _ h2, Math.all_isR x3 _ _ _ _ h3, Math.all_isR (extf .f32 x4 bitsLt_bf16_f32) _ _ _ _ h4, Math.all_isR (extf .f32 x5 bitsLt_bf16_f32) _ _ _ _ h5, Math.all_isR x6 _ _ _ _ h6⟩

theorem eq8 (c : Dev nD) : ((dats m 0 c).arrAt 8 cfg0.N : S1x1024.Idx → EReal) = val_main_v44 (F := Ideal) (A0 m c) (A2 m c) (A3 m c) (A4 m c) (A5 m c) := by
  refine Rows.ext2 fun R L => ?_
  obtain rfl : R = 0 := Subsingleton.elim _ _
  exact (arr8 m c L).trans (refg _ _ _ _ _ L).symm

theorem eq7 (c : Dev nD) (hp : Cert.Pre_ffn_dh_rms_finite.fn (F := Ideal) (A0 m c) (A1 m c) (A2 m c) (A3 m c) (A4 m c) (A5 m c) (A6 m c) = fun _ => 1#1) :
    ((dats m 0 c).arrAt 7 cfg0.N : S4096x1024.Idx → EReal) = val_main_v43 (F := Ideal) (A0 m c) (A1 m c) (A2 m c) (A3 m c) (A4 m c) (A5 m c) (A6 m c) := by
  obtain ⟨f0, f1, f2, f3, f4, f5, f6⟩ := finite _ _ _ _ _ _ _ hp
  refine Rows.ext2 fun R L => (arr7 m c R L).trans (Eq.trans ?_ (refx _ _ _ _ _ _ _ R L).symm)
  refine Math.dx_law _ _ _ _ (fun k => f0 _) (fun k => ?_) (f6 _)
  exact Math.IsR.mul (dh_isR _ _ _ _ f2 f3 f4 f5 R k) (f1 _)

end Cert.FfnDhRms

open Idealize.ShloMosaic Idealize.SL.Sem in
/-- The kernel computes the reference's two gradients, over the extended reals, for finite arguments. -/
theorem Cert.FfnDhRms.algebraic : Cert.algebraic_FfnDhRmsKernelIdeal_FfnDhRmsReferenceIdeal_pre_ffn_dh_rms_finite := by
  intro m g m' g' hp hag
  refine ⟨_, _, Cert.FfnDhRmsKernelIdeal.Value.run_blocks m g, (θ_run _ _ _).mono (fun r h c => ?_) (Cert.FfnDhRmsReferenceIdeal.Value.run m' g')⟩
  obtain ⟨h0, h1, ha⟩ := h c
  obtain ⟨e0, e1, e2, e3, e4, e5, e6⟩ := hag c
  refine ⟨?_, ?_, ha⟩
  · rw [h0, Cert.FfnDhRmsReferenceIdeal.Read.val_main_v43_eq, e0, e1, e2, e3, e4, e5, e6]
    exact (Cert.FfnDhRms.eq7 m c (hp c)).symm
  · rw [h1, Cert.FfnDhRmsReferenceIdeal.Read.val_main_v44_eq, e0, e2, e3, e4, e5]
    exact (Cert.FfnDhRms.eq8 m c).symm

open Idealize.ShloMosaic Idealize.SL.Sem in
/-- The reference terminates, leaves its arguments as they were, and has no semaphore. -/
theorem Cert.FfnDhRms.frame_reference : Cert.quiescent_FfnDhRmsReferenceIdeal := fun m ρ _ =>
  (θ_run Cert.FfnDhRmsReferenceIdeal.defs _ _).mono (fun r h => ⟨fun c => (h c).2.2,
    sem_eq_zero_of_no_sems (by decide) r.2⟩) (Cert.FfnDhRmsReferenceIdeal.Value.run m ρ)

open Idealize.ShloMosaic Idealize.SL.Sem in
/-- The same under the precondition. -/
theorem Cert.FfnDhRms.frame_reference_pre : Cert.quiescent_FfnDhRmsReferenceIdeal_pre_ffn_dh_rms_finite := fun m ρ _ =>
  (θ_run Cert.FfnDhRmsReferenceIdeal.defs _ _).mono (fun r h => ⟨fun c => (h c).2.2,
    sem_eq_zero_of_no_sems (by decide) r.2⟩) (Cert.FfnDhRmsReferenceIdeal.Value.run m ρ)

end
-- ==== Proof.Sums.lean ====
/- Sums of extended reals: a nonnegative finite factor goes through a sum, whatever the terms are. -/
module

public import Idealize.ShloMosaic.Lib.Pointwise

@[expose] public section

noncomputable section

namespace Cert.Math

open Idealize.ShloMosaic

theorem sum_mul {ι : Type} (s : Finset ι) (f : ι → EReal) {c : EReal} (h0 : 0 ≤ c) (ht : c ≠ ⊤) : (∑ k ∈ s, f k) * c = ∑ k ∈ s, f k * c := by
  classical
  induction s using Finset.induction_on with
  | empty => simp
  | insert a s ha ih => rw [Finset.sum_insert ha, Finset.sum_insert ha, EReal.right_distrib_of_nonneg_of_ne_top h0 ht, ih]

theorem half_nonneg : (0 : EReal) ≤ ((1 / 2 : ℝ) : EReal) := EReal.coe_nonneg.mpr (by norm_num)

theorem half_ne_top : ((1 / 2 : ℝ) : EReal) ≠ ⊤ := EReal.coe_ne_top _

theorem swap {n : ℕ} (a b : Fin n → EReal) : ∑ k, b k * a k = ∑ k, a k * b k := Finset.sum_congr rfl fun k _ => mul_comm _ _

theorem half_swap {n : ℕ} (a b : Fin n → EReal) : ∑ k, ((1 / 2 : ℝ) : EReal) * b k * a k = (∑ k, a k * b k) * ((1 / 2 : ℝ) : EReal) := by
  rw [sum_mul _ _ half_nonneg half_ne_top]
  exact Finset.sum_congr rfl fun k _ => by rw [mul_comm (a k), mul_comm _ ((1 / 2 : ℝ) : EReal), mul_assoc]

/-- Four parts added one after the other are the whole sum, where each part is a block of it. -/
theorem four (f : Fin 4096 → EReal) {p : Fin 4 → EReal} {a0 a1 a2 : EReal} (hp : ∀ j : Fin 4, p j = ∑ q : Fin 1024, f ⟨j.val * 1024 + q.val, by omega⟩)
    (h0 : a0 = p 0) (h1 : a1 = a0 + p 1) (h2 : a2 = a1 + p 2) : a2 + p 3 = ∑ k, f k := by
  rw [h2, h1, h0, Fin.sum_univ_tiles 4 1024 rfl, Fin.sum_univ_four]
  simp only [hp]

end Cert.Math

end
-- ==== Proof.Chunks.lean ====
/- Pieces of a block: loads of a band of rows or of columns, and where a store of a band of columns lands. -/
module

public import proofs.«01_k».proof.Proof.Rows

@[expose] public section

set_option maxRecDepth 16384

noncomputable section

namespace Cert.Chunks

open Idealize.ShloMosaic Idealize.SL.Sem

variable {Val : EltTy → Type} {M N : ℕ} {e : EltTy}

/-- A load of the rows from `o` on. -/
theorem ldRows (x : (⟨2, ![M, N]⟩ : Shape).Idx → Val e) (o w : ℕ) (inb) (r : Fin w) (l : Fin N) (j : Fin M) (hj : j.val = o + r.val) :
    View.ld x (Rect.unit ![o, 0] ![w, N] inb) (ix2 r l) = x (ix2 j l) := by
  refine View.ld_unit_apply_of _ _ _ _ _ _ fun a => ?_
  match a with
  | ⟨0, _⟩ => exact hj
  | ⟨1, _⟩ => exact (Nat.zero_add _).symm

/-- A load of the columns from `o` on. -/
theorem ldCols (x : (⟨2, ![M, N]⟩ : Shape).Idx → Val e) (o w : ℕ) (inb) (r : Fin M) (l : Fin w) (j : Fin N) (hj : j.val = o + l.val) :
    View.ld x (Rect.unit ![0, o] ![M, w] inb) (ix2 r l) = x (ix2 r j) := by
  refine View.ld_unit_apply_of _ _ _ _ _ _ fun a => ?_
  match a with
  | ⟨0, _⟩ => exact (Nat.zero_add _).symm
  | ⟨1, _⟩ => exact hj

/-- Where the columns from `o` on lie. -/
theorem embCols (o w : ℕ) (inb) (r : Fin M) (l : Fin w) (j : Fin N) (hj : j.val = o + l.val) :
    (Rect.unit (s := ⟨2, ![M, N]⟩) ![0, o] ![M, w] inb).emb (ix2 r l) = ix2 r j := funext fun a => Fin.ext (by
  match a with
  | ⟨0, _⟩ => show 0 + 1 * r.val = r.val; omega
  | ⟨1, _⟩ => show o + 1 * l.val = j.val; omega)

/-- A band of columns agrees with an array when it does at every row and column. -/
theorem piece {α : Type} (o w : ℕ) (inb) (ow : o + w ≤ N) (p : (⟨2, ![M, w]⟩ : Shape).Idx → α) (G : (⟨2, ![M, N]⟩ : Shape).Idx → α)
    (h : ∀ (r : Fin M) (l : Fin w) (j : Fin N), j.val = o + l.val → p (ix2 r l) = G (ix2 r j)) :
    ∀ x, p x = G ((Rect.unit (s := ⟨2, ![M, N]⟩) ![0, o] ![M, w] inb).emb x) := by
  intro x
  obtain ⟨r, l, rfl⟩ : ∃ (r : Fin M) (l : Fin w), x = ix2 r l := ⟨_, _, eq_ix2 x⟩
  exact (h r l ⟨o + l.val, by have := l.isLt; omega⟩ rfl).trans (congrArg G (embCols o w inb r l _ rfl).symm)

end Cert.Chunks

end
-- ==== Proof.FfnBwdUp.lean ====
/- Gradient `ffn_bwd_up`: the gradients of the gate and of the up product are those `jax.vjp` gives. -/
module

public import proofs.«01_k».proof.Defs
public import proofs.«01_k».proof.Proof.Rows
public import proofs.«01_k».proof.Proof.Tile
public import proofs.«01_k».proof.Proof.Sums
public import proofs.«01_k».proof.Proof.Reals
public import proofs.«01_k».proof.Proof.Sigmoid
public import proofs.«01_k».proof.Proof.Chunks
public import proofs.«01_k».proof.Proof.Gen.FfnBwdUpKernelIdeal.Value
public import proofs.«01_k».proof.Proof.Gen.FfnBwdUpReferenceIdeal.Read
public import proofs.«01_k».proof.Proof.Gen.Pre_ffn_bwd_up_finite
public import Idealize.ShloMosaic.Lib.Quiescent
public import Idealize.ShloMosaic.Lib.IdealHost

@[expose] public section

set_option maxRecDepth 16384

noncomputable section

namespace Cert.FfnBwdUp

open Cert.FfnBwdUpKernelIdeal Cert.FfnBwdUpKernelIdeal.Gen Cert.FfnBwdUpKernelIdeal.Value
open Idealize.ShloMosaic Idealize.ShloMosaic.TcCoe Idealize.SL.Sem
open Cert.FfnBwdUpReferenceIdeal.Read Cert

variable (m : (ℓ : Loc nD τ sig) → Buf (Elt Ideal) ℓ)

/-- The argument arrays of a device. -/
abbrev A0 (c : Dev nD) : Vec Ideal S4096x2816 .f32 := m ((c : Thread nD τ).loc main_arg0)
abbrev A1 (c : Dev nD) : Vec Ideal S4096x2816 .f32 := m ((c : Thread nD τ).loc main_arg1)
abbrev A2 (c : Dev nD) : Vec Ideal S2816x1024 .f32 := m ((c : Thread nD τ).loc main_arg2)
abbrev A3 (c : Dev nD) : Vec Ideal S4096x1024 .f32 := m ((c : Thread nD τ).loc main_arg3)

/-- What the host hands the kernel. -/
abbrev H0 (c : Dev nD) : Vec Ideal S4096x1024 .f32 := V m c main_arg3
abbrev H1 (c : Dev nD) : Vec Ideal S2816x1024 .bf16 := V m c main_v2

theorem H0_eq (c : Dev nD) : H0 m c = A3 m c := V_main_arg3 m c
theorem H1_eq (c : Dev nD) (r : Fin 2816) (l : Fin 1024) : H1 m c (ix2 r l) = A2 m c (ix2 r l) := by
  have h : H1 m c = (truncf .bf16 (A2 m c) bitsLt_bf16_f32 : FVec Ideal S2816x1024 .bf16) := by
    unfold_abbrev_sides
    simp only [hostOps0, hostOps0_1, hostOps0_2, hostOps0_3, hostOps0_4, List.flatten_cons, List.flatten_nil, List.append_nil, List.cons_append, List.nil_append]
    after_results
  rw [h]
  pointwise []

abbrev H2 (c : Dev nD) : Vec Ideal S4096x2816 .bf16 := V m c main_v3
abbrev H3 (c : Dev nD) : Vec Ideal S4096x2816 .bf16 := V m c main_v5

theorem H2_eq (c : Dev nD) (r : Fin 4096) (l : Fin 2816) : H2 m c (ix2 r l) = A0 m c (ix2 r l) * Math.sg (A0 m c (ix2 r l)) := by
  have h : H2 m c = (truncf .bf16 (val_main_v0_0 (F := Ideal) (A0 m c)) bitsLt_bf16_f32 : FVec Ideal S4096x2816 .bf16) := by
    unfold_abbrev_sides
    simp only [hostOps0, hostOps0_1, hostOps0_2, hostOps0_3, hostOps0_4, List.flatten_cons, List.flatten_nil, List.append_nil, List.cons_append, List.nil_append]
    after_results
    rfl
  rw [h]
  unfold Math.sg
  pointwise [val_main_v0_0, val_main_v0_2, val_main_call0_v4, val_main_call0_v3, val_main_call0_v2, val_main_call0_v1, val_main_call0_v0, val_main_call0_cst, val_main_call0_cst_0]

theorem H3_eq (c : Dev nD) (r : Fin 4096) (l : Fin 2816) : H3 m c (ix2 r l)
    = A1 m c (ix2 r l) * Math.sg (A0 m c (ix2 r l)) + A0 m c (ix2 r l) * A1 m c (ix2 r l) * (Math.sg (A0 m c (ix2 r l)) * (1 - Math.sg (A0 m c (ix2 r l)))) := by
  have h : H3 m c = (truncf .bf16 (addf (mulf (A1 m c) (val_main_v0_2 (F := Ideal) (A0 m c))) (mulf (mulf (A0 m c) (A1 m c)) (val_main_v0_1 (F := Ideal) (A0 m c)))) bitsLt_bf16_f32 : FVec Ideal S4096x2816 .bf16) := by
    unfold_abbrev_sides
    simp only [hostOps0, hostOps0_1, hostOps0_2, hostOps0_3, hostOps0_4, List.flatten_cons, List.flatten_nil, List.append_nil, List.cons_append, List.nil_append]
    after_results
    rfl
  rw [h]
  unfold Math.sg
  rw [← Ideal.ofBits_one_f32]
  pointwise [val_main_v0_1, val_main_call0_v7, val_main_call0_v6, val_main_call0_cst_1, val_main_v0_2, val_main_call0_v4, val_main_call0_v3, val_main_call0_v2, val_main_call0_v1, val_main_call0_v0, val_main_call0_cst, val_main_call0_cst_0]

/-- Where the windows lie. -/
theorem idx : ∀ t : Fin cfg0.N,
    (win0_0.index t 0 = t.val % 8 ∧ win0_0.index t 1 = 0) ∧ (win0_1.index t 0 = t.val / 8 ∧ win0_1.index t 1 = 0) ∧ (win0_2.index t 0 = t.val % 8 ∧ win0_2.index t 1 = t.val / 8) ∧ (win0_3.index t 0 = t.val % 8 ∧ win0_3.index t 1 = t.val / 8) ∧ (win0_4.index t 0 = t.val % 8 ∧ win0_4.index t 1 = t.val / 8) ∧ (win0_5.index t 0 = t.val % 8 ∧ win0_5.index t 1 = t.val / 8) := by
  show ∀ t : Fin grid0.N, _
  decide +kernel

/-- Row `r` of a block at point `t` as a row of the array, and column `l` as a column. -/
def row (t : Fin cfg0.N) (r : Fin 512) : Fin 4096 :=
  ⟨t.val % 8 * 512 + r.val, by have h := t.isLt; have hN : cfg0.N = 16 := N_0; have := r.isLt; omega⟩
def col (t : Fin cfg0.N) (l : Fin 1408) : Fin 2816 :=
  ⟨t.val / 8 * 1408 + l.val, by have h := t.isLt; have hN : cfg0.N = 16 := N_0; have := l.isLt; omega⟩

theorem surj (R : Fin 4096) (L : Fin 2816) : ∃ (t : Fin cfg0.N) (r : Fin 512) (l : Fin 1408), R = row t r ∧ L = col t l :=
  ⟨⟨(L.val / 1408) * 8 + (R.val / 512), by rw [show cfg0.N = 16 from N_0]; omega⟩, ⟨R.val % 512, by omega⟩, ⟨L.val % 1408, by omega⟩,
    Fin.ext (by show R.val = ((L.val / 1408) * 8 + (R.val / 512)) % 8 * 512 + R.val % 512; omega),
    Fin.ext (by show L.val = ((L.val / 1408) * 8 + (R.val / 512)) / 8 * 1408 + L.val % 1408; omega)⟩

/-- The blocks at a point. -/
abbrev X0 (c : Dev nD) (t : Fin cfg0.N) : Vec Ideal S512x1024 .f32 := iblk m c 0 t
abbrev X1 (c : Dev nD) (t : Fin cfg0.N) : Vec Ideal S1408x1024 .bf16 := iblk m c 1 t
abbrev X2 (c : Dev nD) (t : Fin cfg0.N) : Vec Ideal S512x1408 .bf16 := iblk m c 2 t
abbrev X3 (c : Dev nD) (t : Fin cfg0.N) : Vec Ideal S512x1408 .bf16 := iblk m c 3 t

theorem X0_eq (c : Dev nD) (t : Fin cfg0.N) (r : Fin 512) (l : Fin 1024) : X0 m c t (ix2 r l) = H0 m c (ix2 (row t r) l) :=
  congrArg (H0 m c) (Tile.rf (idx t).1 rfl rfl rfl)

theorem X1_eq (c : Dev nD) (t : Fin cfg0.N) (r : Fin 1408) (l : Fin 1024) : X1 m c t (ix2 r l) = H1 m c (ix2 (col t r) l) :=
  congrArg (H1 m c) (Tile.rf (idx t).2.1 rfl rfl rfl)

theorem X2_eq (c : Dev nD) (t : Fin cfg0.N) (r : Fin 512) (l : Fin 1408) : X2 m c t (ix2 r l) = H2 m c (ix2 (row t r) (col t l)) :=
  congrArg (H2 m c) (Tile.rc (idx t).2.2.1 rfl rfl rfl rfl)

theorem X3_eq (c : Dev nD) (t : Fin cfg0.N) (r : Fin 512) (l : Fin 1408) : X3 m c t (ix2 r l) = H3 m c (ix2 (row t r) (col t l)) :=
  congrArg (H3 m c) (Tile.rc (idx t).2.2.2.1 rfl rfl rfl rfl)

theorem emb4 (t : Fin cfg0.N) (r : Fin 512) (l : Fin 1408) : ((cfg0.win 4).blk t).view.emb (ix2 (n0 := 512) (n1 := 1408) r l)
    = ix2 (n0 := 4096) (n1 := 2816) (row t r) (col t l) :=
  Tile.rc (idx t).2.2.2.2.1 rfl rfl rfl rfl

theorem emb5 (t : Fin cfg0.N) (r : Fin 512) (l : Fin 1408) : ((cfg0.win 5).blk t).view.emb (ix2 (n0 := 512) (n1 := 1408) r l)
    = ix2 (n0 := 4096) (n1 := 2816) (row t r) (col t l) :=
  Tile.rc (idx t).2.2.2.2.2 rfl rfl rfl rfl

theorem hz : (![0, 0] : Fin 2 → ℕ) = 0 := by decide

/-- An entry of a result: the half of the row of `x0` times the row of `x1`, times the entry of `x3`. -/
def ent {M K n : ℕ} (x0 : (⟨2, ![M, K]⟩ : Shape).Idx → EReal) (x1 : (⟨2, ![n, K]⟩ : Shape).Idx → EReal) (x3 : (⟨2, ![M, n]⟩ : Shape).Idx → EReal) (r : Fin M) (l : Fin n) : EReal :=
  (∑ k : Fin K, x0 (ix2 r k) * Ideal.ofBits FTy.f32 1056964608#32 * x1 (ix2 l k)) * x3 (ix2 r l)

theorem ent_congr {M K n w : ℕ} {x0 a0 : (⟨2, ![M, K]⟩ : Shape).Idx → EReal} {x1 : (⟨2, ![n, K]⟩ : Shape).Idx → EReal} {x3 : (⟨2, ![M, n]⟩ : Shape).Idx → EReal}
    {a1 : (⟨2, ![w, K]⟩ : Shape).Idx → EReal} {a3 : (⟨2, ![M, w]⟩ : Shape).Idx → EReal} {r : Fin M} {l : Fin w} {j : Fin n}
    (h0 : ∀ k, a0 (ix2 r k) = x0 (ix2 r k)) (h1 : ∀ k, a1 (ix2 l k) = x1 (ix2 j k)) (h3 : a3 (ix2 r l) = x3 (ix2 r j)) :
    ent a0 a1 a3 r l = ent x0 x1 x3 r j := by
  unfold ent
  rw [h3]
  exact congrArg (· * _) (Finset.sum_congr rfl fun k _ => by rw [h0, h1])

theorem pay6 (x0 : Vec Ideal S512x1024 .f32) (x1 : Vec Ideal S128x1024 .bf16) (x3 : Vec Ideal S512x128 .bf16) (r : Fin 512) (l : Fin 128) :
    k0_pay6 (k0_pay7 x0) x1 x3 (ix2 r l) = ent (M := 512) (K := 1024) (n := 128) x0 x1 x3 r l := by
  unfold ent
  pointwise [k0_pay6, k0_pay4, k0_pay7]

theorem pay3 (x0 : Vec Ideal S512x1024 .f32) (x1 : Vec Ideal S256x1024 .bf16) (x3 : Vec Ideal S512x256 .bf16) (r : Fin 512) (l : Fin 256) :
    k0_pay3 (k0_pay7 x0) x1 x3 (ix2 r l) = ent (M := 512) (K := 1024) (n := 256) x0 x1 x3 r l := by
  unfold ent
  pointwise [k0_pay3, k0_pay1, k0_pay7]

theorem pay20 (x0 : Vec Ideal S512x1024 .f32) (x1 : Vec Ideal S256x1024 .bf16) (x3 : Vec Ideal S512x256 .bf16) (r : Fin 512) (l : Fin 256) :
    k0_pay20 (k0_pay7 x0) x1 x3 (ix2 r l) = ent (M := 512) (K := 1024) (n := 256) x0 x1 x3 r l := by
  unfold ent
  pointwise [k0_pay20, k0_pay18, k0_pay7]

theorem pay17 (x0 : Vec Ideal S512x1024 .f32) (x1 : Vec Ideal S256x1024 .bf16) (x3 : Vec Ideal S512x256 .bf16) (r : Fin 512) (l : Fin 256) :
    k0_pay17 (k0_pay7 x0) x1 x3 (ix2 r l) = ent (M := 512) (K := 1024) (n := 256) x0 x1 x3 r l := by
  unfold ent
  pointwise [k0_pay17, k0_pay15, k0_pay7]

theorem pay14 (x0 : Vec Ideal S512x1024 .f32) (x1 : Vec Ideal S256x1024 .bf16) (x3 : Vec Ideal S512x256 .bf16) (r : Fin 512) (l : Fin 256) :
    k0_pay14 (k0_pay13 x0 x1 x3) (ix2 r l) = ent (M := 512) (K := 1024) (n := 256) x0 x1 x3 r l := by
  unfold ent
  pointwise [k0_pay14, k0_pay13, k0_pay11, k0_pay7]

theorem pay10 (x0 : Vec Ideal S512x1024 .f32) (x1 : Vec Ideal S256x1024 .bf16) (x3 : Vec Ideal S512x256 .bf16) (r : Fin 512) (l : Fin 256) :
    k0_pay10 x0 x1 x3 (ix2 r l) = ent (M := 512) (K := 1024) (n := 256) x0 x1 x3 r l := by
  unfold ent
  pointwise [k0_pay10, k0_pay8, k0_pay7]

theorem pay5 (x0 : Vec Ideal S512x1024 .f32) (x1 : Vec Ideal S128x1024 .bf16) (x3 : Vec Ideal S512x128 .bf16) (r : Fin 512) (l : Fin 128) :
    k0_pay5 (k0_pay7 x0) x1 x3 (ix2 r l) = ent (M := 512) (K := 1024) (n := 128) x0 x1 x3 r l := by
  unfold ent
  pointwise [k0_pay5, k0_pay4, k0_pay7]

theorem pay2 (x0 : Vec Ideal S512x1024 .f32) (x1 : Vec Ideal S256x1024 .bf16) (x3 : Vec Ideal S512x256 .bf16) (r : Fin 512) (l : Fin 256) :
    k0_pay2 (k0_pay7 x0) x1 x3 (ix2 r l) = ent (M := 512) (K := 1024) (n := 256) x0 x1 x3 r l := by
  unfold ent
  pointwise [k0_pay2, k0_pay1, k0_pay7]

theorem pay19 (x0 : Vec Ideal S512x1024 .f32) (x1 : Vec Ideal S256x1024 .bf16) (x3 : Vec Ideal S512x256 .bf16) (r : Fin 512) (l : Fin 256) :
    k0_pay19 (k0_pay7 x0) x1 x3 (ix2 r l) = ent (M := 512) (K := 1024) (n := 256) x0 x1 x3 r l := by
  unfold ent
  pointwise [k0_pay19, k0_pay18, k0_pay7]

theorem pay16 (x0 : Vec Ideal S512x1024 .f32) (x1 : Vec Ideal S256x1024 .bf16) (x3 : Vec Ideal S512x256 .bf16) (r : Fin 512) (l : Fin 256) :
    k0_pay16 (k0_pay7 x0) x1 x3 (ix2 r l) = ent (M := 512) (K := 1024) (n := 256) x0 x1 x3 r l := by
  unfold ent
  pointwise [k0_pay16, k0_pay15, k0_pay7]

theorem pay12 (x0 : Vec Ideal S512x1024 .f32) (x1 : Vec Ideal S256x1024 .bf16) (x3 : Vec Ideal S512x256 .bf16) (r : Fin 512) (l : Fin 256) :
    k0_pay12 x0 x1 x3 (ix2 r l) = ent (M := 512) (K := 1024) (n := 256) x0 x1 x3 r l := by
  unfold ent
  pointwise [k0_pay12, k0_pay11, k0_pay7]

theorem pay9 (x0 : Vec Ideal S512x1024 .f32) (x1 : Vec Ideal S256x1024 .bf16) (x3 : Vec Ideal S512x256 .bf16) (r : Fin 512) (l : Fin 256) :
    k0_pay9 x0 x1 x3 (ix2 r l) = ent (M := 512) (K := 1024) (n := 256) x0 x1 x3 r l := by
  unfold ent
  pointwise [k0_pay9, k0_pay8, k0_pay7]

/-- A band of columns of `ent`, from the rows of that band in the weight and its columns in the other array. -/
theorem band (x0 : Vec Ideal S512x1024 .f32) (x1 : Vec Ideal S1408x1024 .bf16) (x3 : Vec Ideal S512x1408 .bf16) (o w : ℕ) (ow : o + w ≤ 1408) (i0 i1 i3 inb)
    (p : (⟨2, ![512, w]⟩ : Shape).Idx → EReal)
    (h : ∀ (r : Fin 512) (l : Fin w), p (ix2 r l) = ent (M := 512) (K := 1024) (n := w) (View.ld x0 (Rect.unit ![0, 0] ![512, 1024] i0))
      (View.ld x1 (Rect.unit ![o, 0] ![w, 1024] i1)) (View.ld x3 (Rect.unit ![0, o] ![512, w] i3)) r l) :
    ∀ x, p x = (fun y : (⟨2, ![512, 1408]⟩ : Shape).Idx => ent (M := 512) (K := 1024) (n := 1408) x0 x1 x3 (y 0) (y 1))
      ((Rect.unit (s := ⟨2, ![512, 1408]⟩) ![0, o] ![512, w] inb).emb x) :=
  Chunks.piece (M := 512) (N := 1408) o w inb ow p (fun y => ent (M := 512) (K := 1024) (n := 1408) x0 x1 x3 (y 0) (y 1)) fun r l j hj => (h r l).trans
    (ent_congr (M := 512) (K := 1024) (fun k => Chunks.ldRows x0 0 512 _ r k r (Nat.zero_add _).symm)
      (fun k => Chunks.ldRows x1 o w _ l k j hj) (Chunks.ldCols x3 o w _ r l j hj))

theorem out4 (c : Dev nD) (t : Fin cfg0.N) (x0 : Vec Ideal S512x1024 .f32) (x1 : Vec Ideal S1408x1024 .bf16) (x2 x3 : Vec Ideal S512x1408 .bf16) (r : Fin 512) (l : Fin 1408) :
    out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 x3 (ix2 r l)
      = ent (M := 512) (K := 1024) (n := 1408) x0 x1 x3 r l := by
  unfold out0_A_4
  rw [View.read_writes_junk_eq_canon]
  refine View.canon_apply_of_pieces (fun y => ent (M := 512) (K := 1024) (n := 1408) x0 x1 x3 (y 0) (y 1)) _ ?_ (ix2 r l) (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 x3 (ix2 r l))
  unfold kernelRun0_A
  dsimp only
  sl_unfold_words
  simp only [View.readAt_eq_ld, (hs0_0 t).read_unread, (hs0_1 t).read_unread, (hs0_2 t).read_unread, (hs0_3 t).read_unread]
  simp only [List.forall_mem_cons]
  refine ⟨?_, ?_, ?_, ?_, ?_, ?_, fun p hp => absurd hp List.not_mem_nil⟩
  · exact band x0 x1 x3 1280 128 (by decide) _ _ _ _ _ (pay6 _ _ _)
  · exact band x0 x1 x3 1024 256 (by decide) _ _ _ _ _ (pay3 _ _ _)
  · exact band x0 x1 x3 768 256 (by decide) _ _ _ _ _ (pay20 _ _ _)
  · exact band x0 x1 x3 512 256 (by decide) _ _ _ _ _ (pay17 _ _ _)
  · exact band x0 x1 x3 256 256 (by decide) _ _ _ _ _ (pay14 _ _ _)
  · exact band x0 x1 x3 0 256 (by decide) _ _ _ _ _ (pay10 _ _ _)

theorem out5 (c : Dev nD) (t : Fin cfg0.N) (x0 : Vec Ideal S512x1024 .f32) (x1 : Vec Ideal S1408x1024 .bf16) (x2 x3 : Vec Ideal S512x1408 .bf16) (r : Fin 512) (l : Fin 1408) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 x3 (ix2 r l)
      = ent (M := 512) (K := 1024) (n := 1408) x0 x1 x2 r l := by
  unfold out0_A_5
  rw [View.read_writes_junk_eq_canon]
  refine View.canon_apply_of_pieces (fun y => ent (M := 512) (K := 1024) (n := 1408) x0 x1 x2 (y 0) (y 1)) _ ?_ (ix2 r l) (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 x3 (ix2 r l))
  unfold kernelRun0_A
  dsimp only
  sl_unfold_words
  simp only [View.readAt_eq_ld, (hs0_0 t).read_unread, (hs0_1 t).read_unread, (hs0_2 t).read_unread, (hs0_3 t).read_unread]
  simp only [List.forall_mem_cons]
  refine ⟨?_, ?_, ?_, ?_, ?_, ?_, fun p hp => absurd hp List.not_mem_nil⟩
  · exact band x0 x1 x2 1280 128 (by decide) _ _ _ _ _ (pay5 _ _ _)
  · exact band x0 x1 x2 1024 256 (by decide) _ _ _ _ _ (pay2 _ _ _)
  · exact band x0 x1 x2 768 256 (by decide) _ _ _ _ _ (pay19 _ _ _)
  · exact band x0 x1 x2 512 256 (by decide) _ _ _ _ _ (pay16 _ _ _)
  · exact band x0 x1 x2 256 256 (by decide) _ _ _ _ _ (pay12 _ _ _)
  · exact band x0 x1 x2 0 256 (by decide) _ _ _ _ _ (pay9 _ _ _)

theorem blk4 (c : Dev nD) (t : Fin cfg0.N) (r : Fin 512) (l : Fin 1408) :
    out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (X0 m c t) (X1 m c t) (X2 m c t) (X3 m c t) (ix2 r l)
      = (∑ k : Fin 1024, A3 m c (ix2 (row t r) k) * Ideal.ofBits FTy.f32 1056964608#32 * A2 m c (ix2 (col t l) k)) * (A1 m c (ix2 (row t r) (col t l)) * Math.sg (A0 m c (ix2 (row t r) (col t l))) + A0 m c (ix2 (row t r) (col t l)) * A1 m c (ix2 (row t r) (col t l)) * (Math.sg (A0 m c (ix2 (row t r) (col t l))) * (1 - Math.sg (A0 m c (ix2 (row t r) (col t l)))))) := by
  refine (out4 c t _ _ _ _ r l).trans ?_
  unfold ent
  rw [X3_eq, H3_eq]
  refine congrArg (· * _) (Finset.sum_congr rfl fun k _ => ?_)
  rw [X0_eq, X1_eq, H0_eq, H1_eq]

theorem arr4 (c : Dev nD) (R : Fin 4096) (L : Fin 2816) : ((dats m 0 c).arrAt 4 cfg0.N : S4096x2816.Idx → EReal) (ix2 R L) = (∑ k : Fin 1024, A3 m c (ix2 R k) * Ideal.ofBits FTy.f32 1056964608#32 * A2 m c (ix2 L k)) * (A1 m c (ix2 R L) * Math.sg (A0 m c (ix2 R L)) + A0 m c (ix2 R L) * A1 m c (ix2 R L) * (Math.sg (A0 m c (ix2 R L)) * (1 - Math.sg (A0 m c (ix2 R L))))) := by
  obtain ⟨t, r, l, rfl, rfl⟩ := surj R L
  have h := congrFun (blocks4 m c t (flush0_4 t)) (ix2 (n0 := 512) (n1 := 1408) r l)
  rw [View.read_apply, flushed4_A, emb4] at h
  rw [← blk4]
  exact h

theorem blk5 (c : Dev nD) (t : Fin cfg0.N) (r : Fin 512) (l : Fin 1408) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (X0 m c t) (X1 m c t) (X2 m c t) (X3 m c t) (ix2 r l)
      = (∑ k : Fin 1024, A3 m c (ix2 (row t r) k) * Ideal.ofBits FTy.f32 1056964608#32 * A2 m c (ix2 (col t l) k)) * (A0 m c (ix2 (row t r) (col t l)) * Math.sg (A0 m c (ix2 (row t r) (col t l)))) := by
  refine (out5 c t _ _ _ _ r l).trans ?_
  unfold ent
  rw [X2_eq, H2_eq]
  refine congrArg (· * _) (Finset.sum_congr rfl fun k _ => ?_)
  rw [X0_eq, X1_eq, H0_eq, H1_eq]

theorem arr5 (c : Dev nD) (R : Fin 4096) (L : Fin 2816) : ((dats m 0 c).arrAt 5 cfg0.N : S4096x2816.Idx → EReal) (ix2 R L) = (∑ k : Fin 1024, A3 m c (ix2 R k) * Ideal.ofBits FTy.f32 1056964608#32 * A2 m c (ix2 L k)) * (A0 m c (ix2 R L) * Math.sg (A0 m c (ix2 R L))) := by
  obtain ⟨t, r, l, rfl, rfl⟩ := surj R L
  have h := congrFun (blocks5 m c t (flush0_5 t)) (ix2 (n0 := 512) (n1 := 1408) r l)
  rw [View.read_apply, flushed5_A, emb5] at h
  rw [← blk5]
  exact h

/-- The gradient of the second product, at an entry. -/
def dy (x2 : Vec Ideal S2816x1024 .f32) (x3 : Vec Ideal S4096x1024 .f32) (R : Fin 4096) (L : Fin 2816) : EReal :=
  ∑ k : Fin 1024, Ideal.ofBits FTy.f32 1056964608#32 * x3 (ix2 R k) * x2 (ix2 L k)

theorem ref7 (x2 : Vec Ideal S2816x1024 .f32) (x3 : Vec Ideal S4096x1024 .f32) (R : Fin 4096) (L : Fin 2816) :
    val_main_v7 (F := Ideal) x2 x3 (ix2 R L) = dy x2 x3 R L := by
  unfold dy
  pointwise [val_main_v7, val_main_v6, val_main_v5, val_main_cst_0]

theorem refs (x0 : Vec Ideal S4096x2816 .f32) (R : Fin 4096) (L : Fin 2816) : val_main_v0_2 (F := Ideal) x0 (ix2 R L) = Math.sg (x0 (ix2 R L)) := by
  unfold Math.sg
  pointwise [val_main_v0_2, val_main_call0_v4, val_main_call0_v3, val_main_call0_v2, val_main_call0_v1, val_main_call0_v0, val_main_call0_cst, val_main_call0_cst_0]

theorem ref11 (x0 x1 : Vec Ideal S4096x2816 .f32) (x2 : Vec Ideal S2816x1024 .f32) (x3 : Vec Ideal S4096x1024 .f32) (R : Fin 4096) (L : Fin 2816) : val_main_v11 (F := Ideal) x0 x1 x2 x3 (ix2 R L)
    = dy x2 x3 R L * x1 (ix2 R L) * Math.sg (x0 (ix2 R L)) + x0 (ix2 R L) * (dy x2 x3 R L * x1 (ix2 R L)) * (Math.sg (x0 (ix2 R L)) * (1 - Math.sg (x0 (ix2 R L)))) := by
  rw [← ref7, ← refs, ← Ideal.ofBits_one_f32]
  pointwise [val_main_v11, val_main_v10, val_main_call1_v2, val_main_call1_v1, val_main_call1_v0, val_main_v9, val_main_v0_1, val_main_call0_v7, val_main_call0_v6, val_main_call0_cst_1]

theorem ref12 (x0 x1 : Vec Ideal S4096x2816 .f32) (x2 : Vec Ideal S2816x1024 .f32) (x3 : Vec Ideal S4096x1024 .f32) (R : Fin 4096) (L : Fin 2816) : val_main_v12 (F := Ideal) x0 x2 x3 (ix2 R L) = x0 (ix2 R L) * Math.sg (x0 (ix2 R L)) * dy x2 x3 R L := by
  rw [← ref7, ← refs]
  pointwise [val_main_v12, val_main_v8, val_main_v0_0]

/-- The precondition says that every entry of every argument is finite. -/
theorem finite (x0 x1 : Vec Ideal S4096x2816 .f32) (x2 : Vec Ideal S2816x1024 .f32) (x3 : Vec Ideal S4096x1024 .f32)
    (hp : Cert.Pre_ffn_bwd_up_finite.fn (F := Ideal) x0 x1 x2 x3 = fun _ => 1#1) :
    (∀ i, Math.IsR (x0 i)) ∧ (∀ i, Math.IsR (x1 i)) ∧ (∀ i, Math.IsR (x2 i)) ∧ (∀ i, Math.IsR (x3 i)) := by
  have h := congrFun hp Math.j0
  obtain ⟨h, h3⟩ := Math.and_one h
  obtain ⟨h, h2⟩ := Math.and_one h
  obtain ⟨h0, h1⟩ := Math.and_one h
  exact ⟨Math.all_isR x0 _ _ _ _ h0, Math.all_isR x1 _ _ _ _ h1, Math.all_isR x2 _ _ _ _ h2, Math.all_isR x3 _ _ _ _ h3⟩

theorem dy_comm (x2 : Vec Ideal S2816x1024 .f32) (x3 : Vec Ideal S4096x1024 .f32) (R : Fin 4096) (L : Fin 2816) :
    (∑ k : Fin 1024, x3 (ix2 R k) * Ideal.ofBits FTy.f32 1056964608#32 * x2 (ix2 L k)) = dy x2 x3 R L :=
  Finset.sum_congr rfl fun k _ => by rw [mul_comm (x3 (ix2 R k))]

theorem dy_isR (x2 : Vec Ideal S2816x1024 .f32) (x3 : Vec Ideal S4096x1024 .f32) (h2 : ∀ i, Math.IsR (x2 i)) (h3 : ∀ i, Math.IsR (x3 i)) (R : Fin 4096) (L : Fin 2816) :
    Math.IsR (dy x2 x3 R L) :=
  Math.IsR.sum _ _ fun k => ((Math.half_lit ▸ Math.IsR.coe _ : Math.IsR (Ideal.ofBits FTy.f32 1056964608#32)).mul (h3 _)).mul (h2 _)

/-- The two ways of writing the gate's gradient agree on real numbers. -/
theorem law {d a b : EReal} (hd : Math.IsR d) (ha : Math.IsR a) (hb : Math.IsR b) (hs : Math.IsR (Math.sg a)) :
    d * (b * Math.sg a + a * b * (Math.sg a * (1 - Math.sg a))) = d * b * Math.sg a + a * (d * b) * (Math.sg a * (1 - Math.sg a)) := by
  generalize Math.sg a = s at hs ⊢
  obtain ⟨d, rfl⟩ := hd
  obtain ⟨a, rfl⟩ := ha
  obtain ⟨b, rfl⟩ := hb
  obtain ⟨s, rfl⟩ := hs
  rw [← EReal.coe_one]
  simp only [← EReal.coe_mul, ← EReal.coe_sub, ← EReal.coe_add]
  exact congrArg _ (by ring)

theorem eq4 (c : Dev nD) (hp : Cert.Pre_ffn_bwd_up_finite.fn (F := Ideal) (A0 m c) (A1 m c) (A2 m c) (A3 m c) = fun _ => 1#1) :
    ((dats m 0 c).arrAt 4 cfg0.N : S4096x2816.Idx → EReal) = val_main_v11 (F := Ideal) (A0 m c) (A1 m c) (A2 m c) (A3 m c) := by
  obtain ⟨f0, f1, f2, f3⟩ := finite _ _ _ _ hp
  refine Rows.ext2 fun R L => (arr4 m c R L).trans (Eq.trans ?_ (ref11 _ _ _ _ R L).symm)
  rw [dy_comm]
  exact law (dy_isR _ _ f2 f3 R L) (f0 _) (f1 _) (f0 _).sg

theorem eq5 (c : Dev nD) (hp : Cert.Pre_ffn_bwd_up_finite.fn (F := Ideal) (A0 m c) (A1 m c) (A2 m c) (A3 m c) = fun _ => 1#1) :
    ((dats m 0 c).arrAt 5 cfg0.N : S4096x2816.Idx → EReal) = val_main_v12 (F := Ideal) (A0 m c) (A2 m c) (A3 m c) := by
  refine Rows.ext2 fun R L => (arr5 m c R L).trans (Eq.trans ?_ (ref12 _ (A1 m c) _ _ R L).symm)
  rw [dy_comm]
  exact mul_comm (dy (A2 m c) (A3 m c) R L) (A0 m c (ix2 R L) * Math.sg (A0 m c (ix2 R L)))

end Cert.FfnBwdUp

open Idealize.ShloMosaic Idealize.SL.Sem in
/-- The kernel computes the reference's two gradients, over the extended reals, for finite arguments. -/
theorem Cert.FfnBwdUp.algebraic : Cert.algebraic_FfnBwdUpKernelIdeal_FfnBwdUpReferenceIdeal_pre_ffn_bwd_up_finite := by
  intro m g m' g' hp hag
  refine ⟨_, _, Cert.FfnBwdUpKernelIdeal.Value.run_blocks m g, (θ_run _ _ _).mono (fun r h c => ?_) (Cert.FfnBwdUpReferenceIdeal.Value.run m' g')⟩
  obtain ⟨h0, h1, ha⟩ := h c
  obtain ⟨e0, e1, e2, e3⟩ := hag c
  refine ⟨?_, ?_, ha⟩
  · rw [h0, Cert.FfnBwdUpReferenceIdeal.Read.val_main_v11_eq, e0, e1, e2, e3]
    exact (Cert.FfnBwdUp.eq4 m c (hp c)).symm
  · rw [h1, Cert.FfnBwdUpReferenceIdeal.Read.val_main_v12_eq, e0, e2, e3]
    exact (Cert.FfnBwdUp.eq5 m c (hp c)).symm

open Idealize.ShloMosaic Idealize.SL.Sem in
/-- The reference terminates, leaves its arguments as they were, and has no semaphore. -/
theorem Cert.FfnBwdUp.frame_reference : Cert.quiescent_FfnBwdUpReferenceIdeal := fun m ρ _ =>
  (θ_run Cert.FfnBwdUpReferenceIdeal.defs _ _).mono (fun r h => ⟨fun c => (h c).2.2,
    sem_eq_zero_of_no_sems (by decide) r.2⟩) (Cert.FfnBwdUpReferenceIdeal.Value.run m ρ)

open Idealize.ShloMosaic Idealize.SL.Sem in
/-- The same under the precondition. -/
theorem Cert.FfnBwdUp.frame_reference_pre : Cert.quiescent_FfnBwdUpReferenceIdeal_pre_ffn_bwd_up_finite := fun m ρ _ =>
  (θ_run Cert.FfnBwdUpReferenceIdeal.defs _ _).mono (fun r h => ⟨fun c => (h c).2.2,
    sem_eq_zero_of_no_sems (by decide) r.2⟩) (Cert.FfnBwdUpReferenceIdeal.Value.run m ρ)

end
-- ==== Proof.FfnDwg.lean ====
module

public import proofs.«01_k».proof.Defs
public import proofs.«01_k».proof.Proof.Tile
public import proofs.«01_k».proof.Proof.Sums
public import proofs.«01_k».proof.Proof.Gen.FfnDwgKernelIdeal.Value
public import proofs.«01_k».proof.Proof.Gen.FfnDwgReferenceIdeal.Read
public import Idealize.ShloMosaic.Lib.Quiescent

@[expose] public section

set_option maxRecDepth 16384

noncomputable section

namespace Cert.FfnDwg

open Cert.FfnDwgKernelIdeal Cert.FfnDwgKernelIdeal.Gen Cert.FfnDwgKernelIdeal.Value
open Idealize.ShloMosaic Idealize.ShloMosaic.TcCoe Idealize.SL.Sem
open Cert.FfnDwgReferenceIdeal.Read Cert

variable (m : (ℓ : Loc nD τ sig) → Buf (Elt Ideal) ℓ)

/-- The argument arrays of a device. -/
abbrev A0 (c : Dev nD) : Vec Ideal S4096x2816 .bf16 := m ((c : Thread nD τ).loc main_arg0)
abbrev A1 (c : Dev nD) : Vec Ideal S4096x1024 .bf16 := m ((c : Thread nD τ).loc main_arg1)

/-- The input windows' blocks at a point. -/
abbrev X0 (c : Dev nD) (t : Fin cfg0.N) : Vec Ideal S1024x1408 .bf16 := iblk m c 0 t
abbrev X1 (c : Dev nD) (t : Fin cfg0.N) : Vec Ideal S1024x1024 .bf16 := iblk m c 1 t

theorem hz : (![0, 0] : Fin 2 → ℕ) = 0 := by decide

section
variable (x0 : Vec Ideal S1024x1408 .bf16) (x1 : Vec Ideal S1024x1024 .bf16) (a : Vec Ideal S1408x1024 .f32) (r : Fin 1408) (l : Fin 1024)

/-- One block's product. -/
def prod : EReal := ∑ q : Fin 1024, x0 (ix2 q r) * x1 (ix2 q l)

theorem pay2 : k0_pay2 x0 x1 (ix2 r l) = prod x0 x1 r l := by
  unfold prod
  pointwise [k0_pay2, k0_pay1]

theorem pay3 : k0_pay3 x0 x1 a (ix2 r l) = a (ix2 r l) + prod x0 x1 r l := by
  unfold prod
  pointwise [k0_pay3, k0_pay1]

theorem pay4 : k0_pay4 a (ix2 r l) = a (ix2 r l) := by
  pointwise [k0_pay4]

end

section
variable (c : Dev nD) (t : Fin cfg0.N) (r : Fin 1408) (l : Fin 1024)

/-- The first block of a run stores its product. -/
theorem first (h : t.val % 4 = 0) : (outsAt0 m c t.val t.isLt).2 (ix2 r l)
    = prod (X0 m c t) (X1 m c t) r l := by
  have hN : cfg0.N = 8 := N_0
  have ht := t.isLt
  rw [outsAt0_A m c t (by omega) (by omega) (by omega)]
  dsimp only
  unfold sout0_A_0
  rw [View.read_writes_junk_eq_canon]
  unfold kernelRun0_A
  dsimp only
  sl_unfold_words
  simp only [View.readAt_eq_ld, (hs0_0 t).read_unread, (hs0_1 t).read_unread, View.ld_unit_zero (S := S1024x1408) hz, View.ld_unit_zero (S := S1024x1024) hz]
  rw [View.canon_unit_zero (S := S1408x1024) hz]
  exact pay2 _ _ r l

/-- The middle blocks add theirs. -/
theorem next (h : ¬t.val % 4 = 0) (h2 : ¬t.val % 4 = 3) : (outsAt0 m c t.val t.isLt).2 (ix2 r l)
    = (outsAt0 m c (t.val - 1) (Nat.lt_of_le_of_lt (Nat.sub_le _ _) t.isLt)).2 (ix2 r l) + prod (X0 m c t) (X1 m c t) r l := by
  have hN : cfg0.N = 8 := N_0
  have ht := t.isLt
  rw [outsAt0_B m c t (by omega) (by omega) (by omega)]
  dsimp only
  unfold sout0_B_0
  rw [View.read_writes_junk_eq_canon]
  unfold kernelRun0_B
  dsimp only
  sl_unfold_words
  simp only [View.readAt_eq_ld, (hs0_0 t).read_unread, (hs0_1 t).read_unread, (Memref.isWhole_whole cc0_scratch0).read_unread, View.ld_unit_zero (S := S1024x1408) hz, View.ld_unit_zero (S := S1024x1024) hz, View.ld_unit_zero (S := S1408x1024) hz]
  rw [View.canon_unit_zero (S := S1408x1024) hz]
  exact pay3 _ _ _ r l

/-- The last block adds its own and the result is stored. -/
theorem last (h : t.val % 4 = 3) : (outsAt0 m c t.val t.isLt).1 (ix2 r l)
    = (outsAt0 m c (t.val - 1) (Nat.lt_of_le_of_lt (Nat.sub_le _ _) t.isLt)).2 (ix2 r l) + prod (X0 m c t) (X1 m c t) r l := by
  have hN : cfg0.N = 8 := N_0
  have ht := t.isLt
  rw [outsAt0_C m c t (by omega) (by omega) (by omega)]
  dsimp only
  unfold out0_C_2
  rw [View.read_writes_junk_eq_canon]
  unfold kernelRun0_C
  dsimp only
  sl_unfold_words
  simp only [View.readAt_eq_ld, (hs0_0 t).read_unread, (hs0_1 t).read_unread, (Memref.isWhole_whole cc0_scratch0).read_unread, View.ld_unit_zero (S := S1024x1408) hz, View.ld_unit_zero (S := S1024x1024) hz, View.ld_unit_zero (S := S1408x1024) hz]
  rw [View.canon_unit_zero (S := S1408x1024) hz, View.readCov_unit_zero (S := S1408x1024) _ hz]
  exact (pay4 _ r l).trans (pay3 _ _ _ r l)

end

theorem idx : ∀ t : Fin cfg0.N, win0_0.index t = ![t.val % 4, t.val / 4] ∧ win0_1.index t = ![t.val % 4, 0] := by
  show ∀ t : Fin grid0.N, _
  decide +kernel

/-- The block of rows `R` lies in, and its four points. -/
def pt (R : Fin 2816) (j : Fin 4) : Fin cfg0.N :=
  ⟨4 * (R.val / 1408) + j.val, by have hN : cfg0.N = 8 := N_0; have := R.isLt; have := j.isLt; omega⟩
theorem pt_mod (R : Fin 2816) (j : Fin 4) : (pt R j).val % 4 = j.val := by show (4 * (R.val / 1408) + j.val) % 4 = _; omega

/-- What the last point of a row's block stores: the whole sum. -/
theorem res (c : Dev nD) (R : Fin 2816) (l : Fin 1024) (n : ℕ) (hn : n < cfg0.N) (h : n = (pt R 3).val) :
    (outsAt0 m c n hn).1 (ix2 ⟨R.val % 1408, by omega⟩ l) = ∑ k : Fin 4096, A0 m c (ix2 k R) * A1 m c (ix2 k l) := by
  subst h
  refine (last m c (pt R 3) _ l (pt_mod R 3)).trans ?_
  refine Math.four (fun k => A0 m c (ix2 k R) * A1 m c (ix2 k l)) (p := fun j => prod (X0 m c (pt R j)) (X1 m c (pt R j)) ⟨R.val % 1408, by omega⟩ l)
    (fun j => Finset.sum_congr rfl fun q _ => ?_) (first m c (pt R 0) _ l (pt_mod R 0)) (next m c (pt R 1) _ l (by rw [pt_mod]; decide) (by rw [pt_mod]; decide))
    (next m c (pt R 2) _ l (by rw [pt_mod]; decide) (by rw [pt_mod]; decide))
  have hq : j.val * 1024 + q.val = (pt R j).val % 4 * 1024 + q.val := by rw [pt_mod]
  have hr : R.val = (pt R j).val / 4 * 1408 + R.val % 1408 := by show R.val = (4 * (R.val / 1408) + j.val) / 4 * 1408 + R.val % 1408; omega
  exact congrArg₂ (fun x y : EReal => x * y)
    ((congrArg (V m c main_arg0) (Tile.gen (R := ⟨j.val * 1024 + q.val, by omega⟩) (idx (pt R j)).1 rfl rfl hq hr)).trans (congrFun (V_main_arg0 m c) _))
    ((congrArg (V m c main_arg1) (Tile.gen (R := ⟨j.val * 1024 + q.val, by omega⟩) (L := l) (idx (pt R j)).2 rfl rfl hq (show l.val = 0 * 1024 + l.val by omega))).trans (congrFun (V_main_arg1 m c) _))

/-- The kernel's array, index by index. -/
theorem arr (c : Dev nD) (R : Fin 2816) (l : Fin 1024) :
    ((dats m 0 c).arrAt 2 cfg0.N : S2816x1024.Idx → EReal) (ix2 R l) = ∑ k : Fin 4096, A0 m c (ix2 k R) * A1 m c (ix2 k l) := by
  have hp : pt2Of (ix2 R l) = (pt R 3).val := by
    show 4 * (1 * (R.val / 1408 - 0) + 1 * (l.val / 1024 - 0)) + 3 = 4 * (R.val / 1408) + 3
    have := l.isLt
    omega
  have hlt : pt2Of (ix2 (n0 := 2816) (n1 := 1024) R l) < cfg0.N := hp ▸ (pt R 3).isLt
  rw [final2]
  unfold G2
  refine (dif_pos hlt).trans ?_
  rw [← outsAt0_sweep, show loc2Of (ix2 R l) = ix2 ⟨R.val % 1408, by omega⟩ l from Rows.idx_ext2 rfl (by show l.val % 1024 = l.val; omega)]
  exact res m c R l _ hlt hp

theorem ref (x0 : Vec Ideal S4096x2816 .bf16) (x1 : Vec Ideal S4096x1024 .bf16) (R : Fin 2816) (l : Fin 1024) :
    val_main_v7 (F := Ideal) x0 x1 (ix2 R l) = ∑ k : Fin 4096, x0 (ix2 k R) * x1 (ix2 k l) := by
  pointwise [val_main_v7, val_main_v6, val_main_v5, val_main_v4, val_main_v3, val_main_v1]

end Cert.FfnDwg

open Idealize.ShloMosaic Idealize.SL.Sem in
/-- The kernel computes the reference's array, over the extended reals. -/
theorem Cert.FfnDwg.algebraic : Cert.algebraic_FfnDwgKernelIdeal_FfnDwgReferenceIdeal := by
  intro m g m' g' _ hag
  refine ⟨_, Cert.FfnDwgKernelIdeal.Value.run_blocks m g, (θ_run _ _ _).mono (fun r h c => ?_) (Cert.FfnDwgReferenceIdeal.Value.run m' g')⟩
  refine ⟨?_, (h c).2⟩
  rw [(h c).1, Cert.FfnDwgReferenceIdeal.Read.val_main_v7_eq, (hag c).1, (hag c).2]
  exact (Cert.Rows.ext2 fun R l => (Cert.FfnDwg.arr m c R l).trans (Cert.FfnDwg.ref _ _ R l).symm).symm

open Idealize.ShloMosaic Idealize.SL.Sem in
/-- The reference terminates, leaves its arguments as they were, and has no semaphore. -/
theorem Cert.FfnDwg.frame_reference : Cert.quiescent_FfnDwgReferenceIdeal := fun m ρ _ =>
  (θ_run Cert.FfnDwgReferenceIdeal.defs _ _).mono (fun r h => ⟨fun c => (h c).2,
    sem_eq_zero_of_no_sems (by decide) r.2⟩) (Cert.FfnDwgReferenceIdeal.Value.run m ρ)

end
-- ==== Proof.FfnDwd.lean ====
module

public import proofs.«01_k».proof.Defs
public import proofs.«01_k».proof.Proof.Tile
public import proofs.«01_k».proof.Proof.Sigmoid
public import proofs.«01_k».proof.Proof.Sums
public import proofs.«01_k».proof.Proof.Gen.FfnDwdKernelIdeal.Value
public import proofs.«01_k».proof.Proof.Gen.FfnDwdReferenceIdeal.Read
public import Idealize.ShloMosaic.Lib.Quiescent

@[expose] public section

set_option maxRecDepth 16384

noncomputable section

namespace Cert.FfnDwd

open Cert.FfnDwdKernelIdeal Cert.FfnDwdKernelIdeal.Gen Cert.FfnDwdKernelIdeal.Value
open Idealize.ShloMosaic Idealize.ShloMosaic.TcCoe Idealize.SL.Sem
open Cert.FfnDwdReferenceIdeal.Read Cert

variable (m : (ℓ : Loc nD τ sig) → Buf (Elt Ideal) ℓ)

/-- The argument arrays of a device. -/
abbrev A0 (c : Dev nD) : Vec Ideal S4096x2816 .bf16 := m ((c : Thread nD τ).loc main_arg0)
abbrev A1 (c : Dev nD) : Vec Ideal S4096x1024 .f32 := m ((c : Thread nD τ).loc main_arg1)

/-- The input windows' blocks at a point. -/
abbrev X0 (c : Dev nD) (t : Fin cfg0.N) : Vec Ideal S1024x1408 .bf16 := iblk m c 0 t
abbrev X1 (c : Dev nD) (t : Fin cfg0.N) : Vec Ideal S1024x1024 .f32 := iblk m c 1 t

theorem hz : (![0, 0] : Fin 2 → ℕ) = 0 := by decide

section
variable (x0 : Vec Ideal S1024x1408 .bf16) (x1 : Vec Ideal S1024x1024 .f32) (a : Vec Ideal S1408x1024 .f32) (r : Fin 1408) (l : Fin 1024)

/-- One block's product. -/
def prod : EReal := ∑ q : Fin 1024, x0 (ix2 q r) * x1 (ix2 q l)

theorem pay2 : k0_pay2 x0 x1 (ix2 r l) = prod x0 x1 r l := by
  unfold prod
  pointwise [k0_pay2, k0_pay1]

theorem pay3 : k0_pay3 x0 x1 a (ix2 r l) = a (ix2 r l) + prod x0 x1 r l := by
  unfold prod
  pointwise [k0_pay3, k0_pay1]

theorem pay4 : k0_pay4 a (ix2 r l) = a (ix2 r l) * ((1 / 2 : ℝ) : EReal) := by
  pointwise [k0_pay4]
  rw [Math.half_lit]

end

section
variable (c : Dev nD) (t : Fin cfg0.N) (r : Fin 1408) (l : Fin 1024)

/-- The first block of a run stores its product. -/
theorem first (h : t.val % 4 = 0) : (outsAt0 m c t.val t.isLt).2 (ix2 r l)
    = prod (X0 m c t) (X1 m c t) r l := by
  have hN : cfg0.N = 8 := N_0
  have ht := t.isLt
  rw [outsAt0_A m c t (by omega) (by omega) (by omega)]
  dsimp only
  unfold sout0_A_0
  rw [View.read_writes_junk_eq_canon]
  unfold kernelRun0_A
  dsimp only
  sl_unfold_words
  simp only [View.readAt_eq_ld, (hs0_0 t).read_unread, (hs0_1 t).read_unread, View.ld_unit_zero (S := S1024x1408) hz, View.ld_unit_zero (S := S1024x1024) hz]
  rw [View.canon_unit_zero (S := S1408x1024) hz]
  exact pay2 _ _ r l

/-- The middle blocks add theirs. -/
theorem next (h : ¬t.val % 4 = 0) (h2 : ¬t.val % 4 = 3) : (outsAt0 m c t.val t.isLt).2 (ix2 r l)
    = (outsAt0 m c (t.val - 1) (Nat.lt_of_le_of_lt (Nat.sub_le _ _) t.isLt)).2 (ix2 r l) + prod (X0 m c t) (X1 m c t) r l := by
  have hN : cfg0.N = 8 := N_0
  have ht := t.isLt
  rw [outsAt0_B m c t (by omega) (by omega) (by omega)]
  dsimp only
  unfold sout0_B_0
  rw [View.read_writes_junk_eq_canon]
  unfold kernelRun0_B
  dsimp only
  sl_unfold_words
  simp only [View.readAt_eq_ld, (hs0_0 t).read_unread, (hs0_1 t).read_unread, (Memref.isWhole_whole cc0_scratch0).read_unread, View.ld_unit_zero (S := S1024x1408) hz, View.ld_unit_zero (S := S1024x1024) hz, View.ld_unit_zero (S := S1408x1024) hz]
  rw [View.canon_unit_zero (S := S1408x1024) hz]
  exact pay3 _ _ _ r l

/-- The last block adds its own and the result is stored. -/
theorem last (h : t.val % 4 = 3) : (outsAt0 m c t.val t.isLt).1 (ix2 r l)
    = ((outsAt0 m c (t.val - 1) (Nat.lt_of_le_of_lt (Nat.sub_le _ _) t.isLt)).2 (ix2 r l) + prod (X0 m c t) (X1 m c t) r l) * ((1 / 2 : ℝ) : EReal) := by
  have hN : cfg0.N = 8 := N_0
  have ht := t.isLt
  rw [outsAt0_C m c t (by omega) (by omega) (by omega)]
  dsimp only
  unfold out0_C_2
  rw [View.read_writes_junk_eq_canon]
  unfold kernelRun0_C
  dsimp only
  sl_unfold_words
  simp only [View.readAt_eq_ld, (hs0_0 t).read_unread, (hs0_1 t).read_unread, (Memref.isWhole_whole cc0_scratch0).read_unread, View.ld_unit_zero (S := S1024x1408) hz, View.ld_unit_zero (S := S1024x1024) hz, View.ld_unit_zero (S := S1408x1024) hz]
  rw [View.canon_unit_zero (S := S1408x1024) hz, View.readCov_unit_zero (S := S1408x1024) _ hz]
  exact (pay4 _ r l).trans (congrArg (fun y : EReal => y * ((1 / 2 : ℝ) : EReal)) (pay3 _ _ _ r l))

end

theorem idx : ∀ t : Fin cfg0.N, win0_0.index t = ![t.val % 4, t.val / 4] ∧ win0_1.index t = ![t.val % 4, 0] := by
  show ∀ t : Fin grid0.N, _
  decide +kernel

/-- The block of rows `R` lies in, and its four points. -/
def pt (R : Fin 2816) (j : Fin 4) : Fin cfg0.N :=
  ⟨4 * (R.val / 1408) + j.val, by have hN : cfg0.N = 8 := N_0; have := R.isLt; have := j.isLt; omega⟩
theorem pt_mod (R : Fin 2816) (j : Fin 4) : (pt R j).val % 4 = j.val := by show (4 * (R.val / 1408) + j.val) % 4 = _; omega

/-- What the last point of a row's block stores: the whole sum. -/
theorem res (c : Dev nD) (R : Fin 2816) (l : Fin 1024) (n : ℕ) (hn : n < cfg0.N) (h : n = (pt R 3).val) :
    (outsAt0 m c n hn).1 (ix2 ⟨R.val % 1408, by omega⟩ l) = (∑ k : Fin 4096, A0 m c (ix2 k R) * A1 m c (ix2 k l)) * ((1 / 2 : ℝ) : EReal) := by
  subst h
  refine (last m c (pt R 3) _ l (pt_mod R 3)).trans (congrArg (fun y : EReal => y * ((1 / 2 : ℝ) : EReal)) ?_)
  refine Math.four (fun k => A0 m c (ix2 k R) * A1 m c (ix2 k l)) (p := fun j => prod (X0 m c (pt R j)) (X1 m c (pt R j)) ⟨R.val % 1408, by omega⟩ l)
    (fun j => Finset.sum_congr rfl fun q _ => ?_) (first m c (pt R 0) _ l (pt_mod R 0)) (next m c (pt R 1) _ l (by rw [pt_mod]; decide) (by rw [pt_mod]; decide))
    (next m c (pt R 2) _ l (by rw [pt_mod]; decide) (by rw [pt_mod]; decide))
  have hq : j.val * 1024 + q.val = (pt R j).val % 4 * 1024 + q.val := by rw [pt_mod]
  have hr : R.val = (pt R j).val / 4 * 1408 + R.val % 1408 := by show R.val = (4 * (R.val / 1408) + j.val) / 4 * 1408 + R.val % 1408; omega
  exact congrArg₂ (fun x y : EReal => x * y)
    ((congrArg (V m c main_arg0) (Tile.gen (R := ⟨j.val * 1024 + q.val, by omega⟩) (idx (pt R j)).1 rfl rfl hq hr)).trans (congrFun (V_main_arg0 m c) _))
    ((congrArg (V m c main_arg1) (Tile.gen (R := ⟨j.val * 1024 + q.val, by omega⟩) (L := l) (idx (pt R j)).2 rfl rfl hq (show l.val = 0 * 1024 + l.val by omega))).trans (congrFun (V_main_arg1 m c) _))

/-- The kernel's array, index by index. -/
theorem arr (c : Dev nD) (R : Fin 2816) (l : Fin 1024) :
    ((dats m 0 c).arrAt 2 cfg0.N : S2816x1024.Idx → EReal) (ix2 R l) = (∑ k : Fin 4096, A0 m c (ix2 k R) * A1 m c (ix2 k l)) * ((1 / 2 : ℝ) : EReal) := by
  have hp : pt2Of (ix2 R l) = (pt R 3).val := by
    show 4 * (1 * (R.val / 1408 - 0) + 1 * (l.val / 1024 - 0)) + 3 = 4 * (R.val / 1408) + 3
    have := l.isLt
    omega
  have hlt : pt2Of (ix2 (n0 := 2816) (n1 := 1024) R l) < cfg0.N := hp ▸ (pt R 3).isLt
  rw [final2]
  unfold G2
  refine (dif_pos hlt).trans ?_
  rw [← outsAt0_sweep, show loc2Of (ix2 R l) = ix2 ⟨R.val % 1408, by omega⟩ l from Rows.idx_ext2 rfl (by show l.val % 1024 = l.val; omega)]
  exact res m c R l _ hlt hp

theorem ref (x0 : Vec Ideal S4096x2816 .bf16) (x1 : Vec Ideal S4096x1024 .f32) (R : Fin 2816) (l : Fin 1024) :
    val_main_v9 (F := Ideal) x0 x1 (ix2 R l) = (∑ k : Fin 4096, x0 (ix2 k R) * x1 (ix2 k l)) * ((1 / 2 : ℝ) : EReal) := by
  pointwise [val_main_v9, val_main_v8, val_main_v7, val_main_v6, val_main_v5, val_main_cst_1, val_main_v1]
  rw [Math.half_lit]
  exact Math.half_swap (fun k => x0 (ix2 k R)) (fun k => x1 (ix2 k l))

end Cert.FfnDwd

open Idealize.ShloMosaic Idealize.SL.Sem in
/-- The kernel computes the reference's array, over the extended reals. -/
theorem Cert.FfnDwd.algebraic : Cert.algebraic_FfnDwdKernelIdeal_FfnDwdReferenceIdeal := by
  intro m g m' g' _ hag
  refine ⟨_, Cert.FfnDwdKernelIdeal.Value.run_blocks m g, (θ_run _ _ _).mono (fun r h c => ?_) (Cert.FfnDwdReferenceIdeal.Value.run m' g')⟩
  refine ⟨?_, (h c).2⟩
  rw [(h c).1, Cert.FfnDwdReferenceIdeal.Read.val_main_v9_eq, (hag c).1, (hag c).2]
  exact (Cert.Rows.ext2 fun R l => (Cert.FfnDwd.arr m c R l).trans (Cert.FfnDwd.ref _ _ R l).symm).symm

open Idealize.ShloMosaic Idealize.SL.Sem in
/-- The reference terminates, leaves its arguments as they were, and has no semaphore. -/
theorem Cert.FfnDwd.frame_reference : Cert.quiescent_FfnDwdReferenceIdeal := fun m ρ _ =>
  (θ_run Cert.FfnDwdReferenceIdeal.defs _ _).mono (fun r h => ⟨fun c => (h c).2,
    sem_eq_zero_of_no_sems (by decide) r.2⟩) (Cert.FfnDwdReferenceIdeal.Value.run m ρ)

end
-- ==== Proof.FfnUp.lean ====
module

public import proofs.«01_k».proof.Defs
public import proofs.«01_k».proof.Proof.Rows
public import proofs.«01_k».proof.Proof.Tile
public import proofs.«01_k».proof.Proof.Sums
public import proofs.«01_k».proof.Proof.Reals
public import proofs.«01_k».proof.Proof.Sigmoid
public import proofs.«01_k».proof.Proof.Chunks
public import proofs.«01_k».proof.Proof.Gen.FfnUpKernelIdeal.Value
public import proofs.«01_k».proof.Proof.Gen.FfnUpReferenceIdeal.Read
public import proofs.«01_k».proof.Proof.Gen.Pre_ffn_up_finite
public import Idealize.ShloMosaic.Lib.Quiescent
public import Idealize.ShloMosaic.Lib.IdealHost

@[expose] public section

set_option maxRecDepth 16384

noncomputable section

namespace Cert.FfnUp

open Cert.FfnUpKernelIdeal Cert.FfnUpKernelIdeal.Gen Cert.FfnUpKernelIdeal.Value
open Idealize.ShloMosaic Idealize.ShloMosaic.TcCoe Idealize.SL.Sem
open Cert.FfnUpReferenceIdeal.Read Cert

variable (m : (ℓ : Loc nD τ sig) → Buf (Elt Ideal) ℓ)

/-- The argument arrays of a device. -/
abbrev A0 (c : Dev nD) : Vec Ideal S4096x1024 .bf16 := m ((c : Thread nD τ).loc main_arg0)
abbrev A1 (c : Dev nD) : Vec Ideal S1024x2816 .f32 := m ((c : Thread nD τ).loc main_arg1)
abbrev A2 (c : Dev nD) : Vec Ideal S1024x2816 .f32 := m ((c : Thread nD τ).loc main_arg2)

/-- What the host hands the kernel. -/
abbrev H0 (c : Dev nD) : Vec Ideal S4096x1024 .bf16 := V m c main_arg0
abbrev H1 (c : Dev nD) : Vec Ideal S2816x1024 .bf16 := V m c main_v1
abbrev H2 (c : Dev nD) : Vec Ideal S2816x1024 .bf16 := V m c main_v3

theorem H0_eq (c : Dev nD) : H0 m c = A0 m c := V_main_arg0 m c
theorem H1_eq (c : Dev nD) (r : Fin 2816) (l : Fin 1024) : H1 m c (ix2 r l) = A1 m c (ix2 l r) := by
  have h : H1 m c = (truncf .bf16 (transpose S2816x1024 [1, 0] (A1 m c) transposes_S1024x2816_S2816x1024_1_0 : FVec Ideal S2816x1024 .f32) bitsLt_bf16_f32 : FVec Ideal S2816x1024 .bf16) := by
    unfold_abbrev_sides
    after_results
  rw [h]
  pointwise []
theorem H2_eq (c : Dev nD) (r : Fin 2816) (l : Fin 1024) : H2 m c (ix2 r l) = A2 m c (ix2 l r) := by
  have h : H2 m c = (truncf .bf16 (transpose S2816x1024 [1, 0] (A2 m c) transposes_S1024x2816_S2816x1024_1_0 : FVec Ideal S2816x1024 .f32) bitsLt_bf16_f32 : FVec Ideal S2816x1024 .bf16) := by
    unfold_abbrev_sides
    after_results
  rw [h]
  pointwise []

/-- Where the windows lie. -/
theorem idx : ∀ t : Fin cfg0.N,
    (win0_0.index t 0 = t.val % 8 ∧ win0_0.index t 1 = 0) ∧ (win0_1.index t 0 = t.val / 8 ∧ win0_1.index t 1 = 0) ∧ (win0_2.index t 0 = t.val / 8 ∧ win0_2.index t 1 = 0) ∧ (win0_3.index t 0 = t.val % 8 ∧ win0_3.index t 1 = t.val / 8) ∧ (win0_4.index t 0 = t.val % 8 ∧ win0_4.index t 1 = t.val / 8) ∧ (win0_5.index t 0 = t.val % 8 ∧ win0_5.index t 1 = t.val / 8) := by
  show ∀ t : Fin grid0.N, _
  decide +kernel

/-- Row `r` of a block at point `t` as a row of the array, and column `l` as a column. -/
def row (t : Fin cfg0.N) (r : Fin 512) : Fin 4096 :=
  ⟨t.val % 8 * 512 + r.val, by have h := t.isLt; have hN : cfg0.N = 16 := N_0; have := r.isLt; omega⟩
def col (t : Fin cfg0.N) (l : Fin 1408) : Fin 2816 :=
  ⟨t.val / 8 * 1408 + l.val, by have h := t.isLt; have hN : cfg0.N = 16 := N_0; have := l.isLt; omega⟩

theorem surj (R : Fin 4096) (L : Fin 2816) : ∃ (t : Fin cfg0.N) (r : Fin 512) (l : Fin 1408), R = row t r ∧ L = col t l :=
  ⟨⟨(L.val / 1408) * 8 + (R.val / 512), by rw [show cfg0.N = 16 from N_0]; omega⟩, ⟨R.val % 512, by omega⟩, ⟨L.val % 1408, by omega⟩,
    Fin.ext (by show R.val = ((L.val / 1408) * 8 + (R.val / 512)) % 8 * 512 + R.val % 512; omega),
    Fin.ext (by show L.val = ((L.val / 1408) * 8 + (R.val / 512)) / 8 * 1408 + L.val % 1408; omega)⟩

/-- The blocks at a point. -/
abbrev X0 (c : Dev nD) (t : Fin cfg0.N) : Vec Ideal S512x1024 .bf16 := iblk m c 0 t
abbrev X1 (c : Dev nD) (t : Fin cfg0.N) : Vec Ideal S1408x1024 .bf16 := iblk m c 1 t
abbrev X2 (c : Dev nD) (t : Fin cfg0.N) : Vec Ideal S1408x1024 .bf16 := iblk m c 2 t

theorem X0_eq (c : Dev nD) (t : Fin cfg0.N) (r : Fin 512) (l : Fin 1024) : X0 m c t (ix2 r l) = H0 m c (ix2 (row t r) l) :=
  congrArg (H0 m c) (Tile.rf (idx t).1 rfl rfl rfl)

theorem X1_eq (c : Dev nD) (t : Fin cfg0.N) (r : Fin 1408) (l : Fin 1024) : X1 m c t (ix2 r l) = H1 m c (ix2 (col t r) l) :=
  congrArg (H1 m c) (Tile.rf (idx t).2.1 rfl rfl rfl)

theorem X2_eq (c : Dev nD) (t : Fin cfg0.N) (r : Fin 1408) (l : Fin 1024) : X2 m c t (ix2 r l) = H2 m c (ix2 (col t r) l) :=
  congrArg (H2 m c) (Tile.rf (idx t).2.2.1 rfl rfl rfl)

theorem emb3 (t : Fin cfg0.N) (r : Fin 512) (l : Fin 1408) : ((cfg0.win 3).blk t).view.emb (ix2 (n0 := 512) (n1 := 1408) r l)
    = ix2 (n0 := 4096) (n1 := 2816) (row t r) (col t l) :=
  Tile.rc (idx t).2.2.2.1 rfl rfl rfl rfl

theorem emb4 (t : Fin cfg0.N) (r : Fin 512) (l : Fin 1408) : ((cfg0.win 4).blk t).view.emb (ix2 (n0 := 512) (n1 := 1408) r l)
    = ix2 (n0 := 4096) (n1 := 2816) (row t r) (col t l) :=
  Tile.rc (idx t).2.2.2.2.1 rfl rfl rfl rfl

theorem emb5 (t : Fin cfg0.N) (r : Fin 512) (l : Fin 1408) : ((cfg0.win 5).blk t).view.emb (ix2 (n0 := 512) (n1 := 1408) r l)
    = ix2 (n0 := 4096) (n1 := 2816) (row t r) (col t l) :=
  Tile.rc (idx t).2.2.2.2.2 rfl rfl rfl rfl

theorem hz : (![0, 0] : Fin 2 → ℕ) = 0 := by decide

/-- An entry of a product: the row of `x` times the row of `w`. -/
def dot {M K n : ℕ} (x : (⟨2, ![M, K]⟩ : Shape).Idx → EReal) (w : (⟨2, ![n, K]⟩ : Shape).Idx → EReal) (r : Fin M) (l : Fin n) : EReal :=
  ∑ k : Fin K, x (ix2 r k) * w (ix2 l k)

theorem dot_congr {M K n w : ℕ} {x0 a0 : (⟨2, ![M, K]⟩ : Shape).Idx → EReal} {x1 : (⟨2, ![n, K]⟩ : Shape).Idx → EReal}
    {a1 : (⟨2, ![w, K]⟩ : Shape).Idx → EReal} {r : Fin M} {l : Fin w} {j : Fin n}
    (h0 : ∀ k, a0 (ix2 r k) = x0 (ix2 r k)) (h1 : ∀ k, a1 (ix2 l k) = x1 (ix2 j k)) : dot a0 a1 r l = dot x0 x1 r j :=
  Finset.sum_congr rfl fun k _ => by rw [h0, h1]

/-- The swish, its derivative times `b`, and its product with `b`, as the kernel writes them. -/
def f3 (a b : EReal) : EReal := a * Math.sg a
def f4 (a b : EReal) : EReal := b * (Math.sg a * (1 + a * (1 - Math.sg a)))
def f5 (a b : EReal) : EReal := a * Math.sg a * b

theorem pay6 (x0 : Vec Ideal S512x1024 .bf16) (x1 x2 : Vec Ideal S128x1024 .bf16) (r : Fin 512) (l : Fin 128) :
    k0_pay6 x0 x1 (ix2 r l) = f3 (dot (M := 512) (K := 1024) (n := 128) x0 x1 r l) (dot (M := 512) (K := 1024) (n := 128) x0 x2 r l) := by
  unfold f3
  rw [← Math.half_tanh_half]
  unfold dot
  pointwise [k0_pay6, k0_pay5, k0_pay4, k0_pay2]

theorem pay43 (x0 : Vec Ideal S512x1024 .bf16) (x1 x2 : Vec Ideal S256x1024 .bf16) (r : Fin 512) (l : Fin 256) :
    k0_pay43 x0 x1 (ix2 r l) = f3 (dot (M := 512) (K := 1024) (n := 256) x0 x1 r l) (dot (M := 512) (K := 1024) (n := 256) x0 x2 r l) := by
  unfold f3
  rw [← Math.half_tanh_half]
  unfold dot
  pointwise [k0_pay43, k0_pay42, k0_pay41, k0_pay39]

theorem pay35 (x0 : Vec Ideal S512x1024 .bf16) (x1 x2 : Vec Ideal S256x1024 .bf16) (r : Fin 512) (l : Fin 256) :
    k0_pay35 x0 x1 (ix2 r l) = f3 (dot (M := 512) (K := 1024) (n := 256) x0 x1 r l) (dot (M := 512) (K := 1024) (n := 256) x0 x2 r l) := by
  unfold f3
  rw [← Math.half_tanh_half]
  unfold dot
  pointwise [k0_pay35, k0_pay34, k0_pay33, k0_pay31]

theorem pay28 (x0 : Vec Ideal S512x1024 .bf16) (x1 x2 : Vec Ideal S256x1024 .bf16) (r : Fin 512) (l : Fin 256) :
    k0_pay28 (k0_pay23 x0 x1) (k0_pay25 x0 x1) (ix2 r l) = f3 (dot (M := 512) (K := 1024) (n := 256) x0 x1 r l) (dot (M := 512) (K := 1024) (n := 256) x0 x2 r l) := by
  unfold f3
  rw [← Math.half_tanh_half]
  unfold dot
  pointwise [k0_pay28, k0_pay27, k0_pay26, k0_pay25, k0_pay23]

theorem pay20 (x0 : Vec Ideal S512x1024 .bf16) (x1 x2 : Vec Ideal S256x1024 .bf16) (r : Fin 512) (l : Fin 256) :
    k0_pay20 (k0_pay16 x0 x1) (ix2 r l) = f3 (dot (M := 512) (K := 1024) (n := 256) x0 x1 r l) (dot (M := 512) (K := 1024) (n := 256) x0 x2 r l) := by
  unfold f3
  rw [← Math.half_tanh_half]
  unfold dot
  pointwise [k0_pay20, k0_pay19, k0_pay18, k0_pay16]

theorem pay13 (x0 : Vec Ideal S512x1024 .bf16) (x1 x2 : Vec Ideal S256x1024 .bf16) (r : Fin 512) (l : Fin 256) :
    k0_pay13 x0 x1 (ix2 r l) = f3 (dot (M := 512) (K := 1024) (n := 256) x0 x1 r l) (dot (M := 512) (K := 1024) (n := 256) x0 x2 r l) := by
  unfold f3
  rw [← Math.half_tanh_half]
  unfold dot
  pointwise [k0_pay13, k0_pay12, k0_pay11, k0_pay9]

theorem pay7 (x0 : Vec Ideal S512x1024 .bf16) (x1 x2 : Vec Ideal S128x1024 .bf16) (r : Fin 512) (l : Fin 128) :
    k0_pay7 x0 x1 x2 (ix2 r l) = f4 (dot (M := 512) (K := 1024) (n := 128) x0 x1 r l) (dot (M := 512) (K := 1024) (n := 128) x0 x2 r l) := by
  unfold f4
  rw [← Math.half_tanh_half, ← Ideal.ofBits_one_f32]
  unfold dot
  pointwise [k0_pay7, k0_pay4, k0_pay3, k0_pay2]

theorem pay44 (x0 : Vec Ideal S512x1024 .bf16) (x1 x2 : Vec Ideal S256x1024 .bf16) (r : Fin 512) (l : Fin 256) :
    k0_pay44 x0 x1 x2 (ix2 r l) = f4 (dot (M := 512) (K := 1024) (n := 256) x0 x1 r l) (dot (M := 512) (K := 1024) (n := 256) x0 x2 r l) := by
  unfold f4
  rw [← Math.half_tanh_half, ← Ideal.ofBits_one_f32]
  unfold dot
  pointwise [k0_pay44, k0_pay41, k0_pay40, k0_pay39]

theorem pay37 (x0 : Vec Ideal S512x1024 .bf16) (x1 x2 : Vec Ideal S256x1024 .bf16) (r : Fin 512) (l : Fin 256) :
    k0_pay37 (k0_pay31 x0 x1) (k0_pay32 x0 x2) (k0_pay33 x0 x1) (k0_pay36 x0 x1) (ix2 r l) = f4 (dot (M := 512) (K := 1024) (n := 256) x0 x1 r l) (dot (M := 512) (K := 1024) (n := 256) x0 x2 r l) := by
  unfold f4
  rw [← Math.half_tanh_half, ← Ideal.ofBits_one_f32]
  unfold dot
  pointwise [k0_pay37, k0_pay36, k0_pay33, k0_pay32, k0_pay31]

theorem pay29 (x0 : Vec Ideal S512x1024 .bf16) (x1 x2 : Vec Ideal S256x1024 .bf16) (r : Fin 512) (l : Fin 256) :
    k0_pay29 (k0_pay23 x0 x1) (k0_pay24 x0 x2) (k0_pay25 x0 x1) (ix2 r l) = f4 (dot (M := 512) (K := 1024) (n := 256) x0 x1 r l) (dot (M := 512) (K := 1024) (n := 256) x0 x2 r l) := by
  unfold f4
  rw [← Math.half_tanh_half, ← Ideal.ofBits_one_f32]
  unfold dot
  pointwise [k0_pay29, k0_pay26, k0_pay25, k0_pay24, k0_pay23]

theorem pay21 (x0 : Vec Ideal S512x1024 .bf16) (x1 x2 : Vec Ideal S256x1024 .bf16) (r : Fin 512) (l : Fin 256) :
    k0_pay21 x0 (k0_pay16 x0 x1) x2 (ix2 r l) = f4 (dot (M := 512) (K := 1024) (n := 256) x0 x1 r l) (dot (M := 512) (K := 1024) (n := 256) x0 x2 r l) := by
  unfold f4
  rw [← Math.half_tanh_half, ← Ideal.ofBits_one_f32]
  unfold dot
  pointwise [k0_pay21, k0_pay18, k0_pay17, k0_pay16]

theorem pay14 (x0 : Vec Ideal S512x1024 .bf16) (x1 x2 : Vec Ideal S256x1024 .bf16) (r : Fin 512) (l : Fin 256) :
    k0_pay14 x0 x1 x2 (ix2 r l) = f4 (dot (M := 512) (K := 1024) (n := 256) x0 x1 r l) (dot (M := 512) (K := 1024) (n := 256) x0 x2 r l) := by
  unfold f4
  rw [← Math.half_tanh_half, ← Ideal.ofBits_one_f32]
  unfold dot
  pointwise [k0_pay14, k0_pay11, k0_pay10, k0_pay9]

theorem pay8 (x0 : Vec Ideal S512x1024 .bf16) (x1 x2 : Vec Ideal S128x1024 .bf16) (r : Fin 512) (l : Fin 128) :
    k0_pay8 x0 x1 x2 (ix2 r l) = f5 (dot (M := 512) (K := 1024) (n := 128) x0 x1 r l) (dot (M := 512) (K := 1024) (n := 128) x0 x2 r l) := by
  unfold f5
  rw [← Math.half_tanh_half]
  unfold dot
  pointwise [k0_pay8, k0_pay5, k0_pay4, k0_pay3, k0_pay2]

theorem pay1 (x0 : Vec Ideal S512x1024 .bf16) (x1 x2 : Vec Ideal S256x1024 .bf16) (r : Fin 512) (l : Fin 256) :
    k0_pay1 (k0_pay45 x0 x1 x2) (ix2 r l) = f5 (dot (M := 512) (K := 1024) (n := 256) x0 x1 r l) (dot (M := 512) (K := 1024) (n := 256) x0 x2 r l) := by
  unfold f5
  rw [← Math.half_tanh_half]
  unfold dot
  pointwise [k0_pay1, k0_pay45, k0_pay42, k0_pay41, k0_pay40, k0_pay39]

theorem pay38 (x0 : Vec Ideal S512x1024 .bf16) (x1 x2 : Vec Ideal S256x1024 .bf16) (r : Fin 512) (l : Fin 256) :
    k0_pay38 (k0_pay32 x0 x2) (k0_pay34 x0 x1) (ix2 r l) = f5 (dot (M := 512) (K := 1024) (n := 256) x0 x1 r l) (dot (M := 512) (K := 1024) (n := 256) x0 x2 r l) := by
  unfold f5
  rw [← Math.half_tanh_half]
  unfold dot
  pointwise [k0_pay38, k0_pay34, k0_pay33, k0_pay32, k0_pay31]

theorem pay30 (x0 : Vec Ideal S512x1024 .bf16) (x1 x2 : Vec Ideal S256x1024 .bf16) (r : Fin 512) (l : Fin 256) :
    k0_pay30 (k0_pay23 x0 x1) (k0_pay24 x0 x2) (k0_pay25 x0 x1) (ix2 r l) = f5 (dot (M := 512) (K := 1024) (n := 256) x0 x1 r l) (dot (M := 512) (K := 1024) (n := 256) x0 x2 r l) := by
  unfold f5
  rw [← Math.half_tanh_half]
  unfold dot
  pointwise [k0_pay30, k0_pay27, k0_pay26, k0_pay25, k0_pay24, k0_pay23]

theorem pay22 (x0 : Vec Ideal S512x1024 .bf16) (x1 x2 : Vec Ideal S256x1024 .bf16) (r : Fin 512) (l : Fin 256) :
    k0_pay22 x0 (k0_pay16 x0 x1) x2 (ix2 r l) = f5 (dot (M := 512) (K := 1024) (n := 256) x0 x1 r l) (dot (M := 512) (K := 1024) (n := 256) x0 x2 r l) := by
  unfold f5
  rw [← Math.half_tanh_half]
  unfold dot
  pointwise [k0_pay22, k0_pay19, k0_pay18, k0_pay17, k0_pay16]

theorem pay15 (x0 : Vec Ideal S512x1024 .bf16) (x1 x2 : Vec Ideal S256x1024 .bf16) (r : Fin 512) (l : Fin 256) :
    k0_pay15 x0 x1 x2 (ix2 r l) = f5 (dot (M := 512) (K := 1024) (n := 256) x0 x1 r l) (dot (M := 512) (K := 1024) (n := 256) x0 x2 r l) := by
  unfold f5
  rw [← Math.half_tanh_half]
  unfold dot
  pointwise [k0_pay15, k0_pay12, k0_pay11, k0_pay10, k0_pay9]

/-- A band of columns of a function of the two products, from the rows of that band in the two weights. -/
theorem band (f : EReal → EReal → EReal) (x0 : Vec Ideal S512x1024 .bf16) (x1 x2 : Vec Ideal S1408x1024 .bf16) (o w : ℕ) (ow : o + w ≤ 1408) (i0 i1 i2 inb)
    (p : (⟨2, ![512, w]⟩ : Shape).Idx → EReal)
    (h : ∀ (r : Fin 512) (l : Fin w), p (ix2 r l)
      = f (dot (M := 512) (K := 1024) (n := w) (View.ld x0 (Rect.unit ![0, 0] ![512, 1024] i0)) (View.ld x1 (Rect.unit ![o, 0] ![w, 1024] i1)) r l)
        (dot (M := 512) (K := 1024) (n := w) (View.ld x0 (Rect.unit ![0, 0] ![512, 1024] i0)) (View.ld x2 (Rect.unit ![o, 0] ![w, 1024] i2)) r l)) :
    ∀ x, p x = (fun y : (⟨2, ![512, 1408]⟩ : Shape).Idx => f (dot (M := 512) (K := 1024) (n := 1408) x0 x1 (y 0) (y 1)) (dot (M := 512) (K := 1024) (n := 1408) x0 x2 (y 0) (y 1)))
      ((Rect.unit (s := ⟨2, ![512, 1408]⟩) ![0, o] ![512, w] inb).emb x) :=
  Chunks.piece (M := 512) (N := 1408) o w inb ow p (fun y => f (dot (M := 512) (K := 1024) (n := 1408) x0 x1 (y 0) (y 1)) (dot (M := 512) (K := 1024) (n := 1408) x0 x2 (y 0) (y 1))) fun r l j hj => (h r l).trans
    (congrArg₂ f (dot_congr (M := 512) (K := 1024) (fun k => Chunks.ldRows x0 0 512 _ r k r (Nat.zero_add _).symm) (fun k => Chunks.ldRows x1 o w _ l k j hj))
      (dot_congr (M := 512) (K := 1024) (fun k => Chunks.ldRows x0 0 512 _ r k r (Nat.zero_add _).symm) (fun k => Chunks.ldRows x2 o w _ l k j hj)))

theorem out3 (c : Dev nD) (t : Fin cfg0.N) (x0 : Vec Ideal S512x1024 .bf16) (x1 x2 : Vec Ideal S1408x1024 .bf16) (r : Fin 512) (l : Fin 1408) :
    out0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 (ix2 r l)
      = f3 (dot (M := 512) (K := 1024) (n := 1408) x0 x1 r l) (dot (M := 512) (K := 1024) (n := 1408) x0 x2 r l) := by
  unfold out0_A_3
  rw [View.read_writes_junk_eq_canon]
  refine View.canon_apply_of_pieces (fun y => f3 (dot (M := 512) (K := 1024) (n := 1408) x0 x1 (y 0) (y 1)) (dot (M := 512) (K := 1024) (n := 1408) x0 x2 (y 0) (y 1))) _ ?_ (ix2 r l) (cover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 (ix2 r l))
  unfold kernelRun0_A
  dsimp only
  sl_unfold_words
  simp only [View.readAt_eq_ld, (hs0_0 t).read_unread, (hs0_1 t).read_unread, (hs0_2 t).read_unread]
  simp only [List.forall_mem_cons]
  refine ⟨?_, ?_, ?_, ?_, ?_, ?_, fun p hp => absurd hp List.not_mem_nil⟩
  · exact band f3 x0 x1 x2 1280 128 (by decide) (by decide) (by decide) (by decide) _ _ fun r l => pay6 _ _ (View.ld x2 (Rect.unit ![1280, 0] ![128, 1024] (by decide))) r l
  · exact band f3 x0 x1 x2 1024 256 (by decide) (by decide) (by decide) (by decide) _ _ fun r l => pay43 _ _ (View.ld x2 (Rect.unit ![1024, 0] ![256, 1024] (by decide))) r l
  · exact band f3 x0 x1 x2 768 256 (by decide) (by decide) (by decide) (by decide) _ _ fun r l => pay35 _ _ (View.ld x2 (Rect.unit ![768, 0] ![256, 1024] (by decide))) r l
  · exact band f3 x0 x1 x2 512 256 (by decide) (by decide) (by decide) (by decide) _ _ fun r l => pay28 _ _ (View.ld x2 (Rect.unit ![512, 0] ![256, 1024] (by decide))) r l
  · exact band f3 x0 x1 x2 256 256 (by decide) (by decide) (by decide) (by decide) _ _ fun r l => pay20 _ _ (View.ld x2 (Rect.unit ![256, 0] ![256, 1024] (by decide))) r l
  · exact band f3 x0 x1 x2 0 256 (by decide) (by decide) (by decide) (by decide) _ _ fun r l => pay13 _ _ (View.ld x2 (Rect.unit ![0, 0] ![256, 1024] (by decide))) r l

theorem out4 (c : Dev nD) (t : Fin cfg0.N) (x0 : Vec Ideal S512x1024 .bf16) (x1 x2 : Vec Ideal S1408x1024 .bf16) (r : Fin 512) (l : Fin 1408) :
    out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 (ix2 r l)
      = f4 (dot (M := 512) (K := 1024) (n := 1408) x0 x1 r l) (dot (M := 512) (K := 1024) (n := 1408) x0 x2 r l) := by
  unfold out0_A_4
  rw [View.read_writes_junk_eq_canon]
  refine View.canon_apply_of_pieces (fun y => f4 (dot (M := 512) (K := 1024) (n := 1408) x0 x1 (y 0) (y 1)) (dot (M := 512) (K := 1024) (n := 1408) x0 x2 (y 0) (y 1))) _ ?_ (ix2 r l) (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 (ix2 r l))
  unfold kernelRun0_A
  dsimp only
  sl_unfold_words
  simp only [View.readAt_eq_ld, (hs0_0 t).read_unread, (hs0_1 t).read_unread, (hs0_2 t).read_unread]
  simp only [List.forall_mem_cons]
  refine ⟨?_, ?_, ?_, ?_, ?_, ?_, fun p hp => absurd hp List.not_mem_nil⟩
  · exact band f4 x0 x1 x2 1280 128 (by decide) (by decide) (by decide) (by decide) _ _ fun r l => pay7 _ _ _ r l
  · exact band f4 x0 x1 x2 1024 256 (by decide) (by decide) (by decide) (by decide) _ _ fun r l => pay44 _ _ _ r l
  · exact band f4 x0 x1 x2 768 256 (by decide) (by decide) (by decide) (by decide) _ _ fun r l => pay37 _ _ _ r l
  · exact band f4 x0 x1 x2 512 256 (by decide) (by decide) (by decide) (by decide) _ _ fun r l => pay29 _ _ _ r l
  · exact band f4 x0 x1 x2 256 256 (by decide) (by decide) (by decide) (by decide) _ _ fun r l => pay21 _ _ _ r l
  · exact band f4 x0 x1 x2 0 256 (by decide) (by decide) (by decide) (by decide) _ _ fun r l => pay14 _ _ _ r l

theorem out5 (c : Dev nD) (t : Fin cfg0.N) (x0 : Vec Ideal S512x1024 .bf16) (x1 x2 : Vec Ideal S1408x1024 .bf16) (r : Fin 512) (l : Fin 1408) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 (ix2 r l)
      = f5 (dot (M := 512) (K := 1024) (n := 1408) x0 x1 r l) (dot (M := 512) (K := 1024) (n := 1408) x0 x2 r l) := by
  unfold out0_A_5
  rw [View.read_writes_junk_eq_canon]
  refine View.canon_apply_of_pieces (fun y => f5 (dot (M := 512) (K := 1024) (n := 1408) x0 x1 (y 0) (y 1)) (dot (M := 512) (K := 1024) (n := 1408) x0 x2 (y 0) (y 1))) _ ?_ (ix2 r l) (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 (ix2 r l))
  unfold kernelRun0_A
  dsimp only
  sl_unfold_words
  simp only [View.readAt_eq_ld, (hs0_0 t).read_unread, (hs0_1 t).read_unread, (hs0_2 t).read_unread]
  simp only [List.forall_mem_cons]
  refine ⟨?_, ?_, ?_, ?_, ?_, ?_, fun p hp => absurd hp List.not_mem_nil⟩
  · exact band f5 x0 x1 x2 1280 128 (by decide) (by decide) (by decide) (by decide) _ _ fun r l => pay8 _ _ _ r l
  · exact band f5 x0 x1 x2 1024 256 (by decide) (by decide) (by decide) (by decide) _ _ fun r l => pay1 _ _ _ r l
  · exact band f5 x0 x1 x2 768 256 (by decide) (by decide) (by decide) (by decide) _ _ fun r l => pay38 _ _ _ r l
  · exact band f5 x0 x1 x2 512 256 (by decide) (by decide) (by decide) (by decide) _ _ fun r l => pay30 _ _ _ r l
  · exact band f5 x0 x1 x2 256 256 (by decide) (by decide) (by decide) (by decide) _ _ fun r l => pay22 _ _ _ r l
  · exact band f5 x0 x1 x2 0 256 (by decide) (by decide) (by decide) (by decide) _ _ fun r l => pay15 _ _ _ r l

theorem blk3 (c : Dev nD) (t : Fin cfg0.N) (r : Fin 512) (l : Fin 1408) :
    out0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (X0 m c t) (X1 m c t) (X2 m c t) (ix2 r l)
      = f3 (∑ k : Fin 1024, A0 m c (ix2 (row t r) k) * A1 m c (ix2 k (col t l))) (∑ k : Fin 1024, A0 m c (ix2 (row t r) k) * A2 m c (ix2 k (col t l))) := by
  refine (out3 c t _ _ _ r l).trans (congrArg₂ f3 (Finset.sum_congr rfl fun k _ => ?_) (Finset.sum_congr rfl fun k _ => ?_))
  · rw [X0_eq, X1_eq, H0_eq, H1_eq]
  · rw [X0_eq, X2_eq, H0_eq, H2_eq]

theorem arr3 (c : Dev nD) (R : Fin 4096) (L : Fin 2816) : ((dats m 0 c).arrAt 3 cfg0.N : S4096x2816.Idx → EReal) (ix2 R L) = f3 (∑ k : Fin 1024, A0 m c (ix2 R k) * A1 m c (ix2 k L)) (∑ k : Fin 1024, A0 m c (ix2 R k) * A2 m c (ix2 k L)) := by
  obtain ⟨t, r, l, rfl, rfl⟩ := surj R L
  have h := congrFun (blocks3 m c t (flush0_3 t)) (ix2 (n0 := 512) (n1 := 1408) r l)
  rw [View.read_apply, flushed3_A, emb3] at h
  rw [← blk3]
  exact h

theorem blk4 (c : Dev nD) (t : Fin cfg0.N) (r : Fin 512) (l : Fin 1408) :
    out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (X0 m c t) (X1 m c t) (X2 m c t) (ix2 r l)
      = f4 (∑ k : Fin 1024, A0 m c (ix2 (row t r) k) * A1 m c (ix2 k (col t l))) (∑ k : Fin 1024, A0 m c (ix2 (row t r) k) * A2 m c (ix2 k (col t l))) := by
  refine (out4 c t _ _ _ r l).trans (congrArg₂ f4 (Finset.sum_congr rfl fun k _ => ?_) (Finset.sum_congr rfl fun k _ => ?_))
  · rw [X0_eq, X1_eq, H0_eq, H1_eq]
  · rw [X0_eq, X2_eq, H0_eq, H2_eq]

theorem arr4 (c : Dev nD) (R : Fin 4096) (L : Fin 2816) : ((dats m 0 c).arrAt 4 cfg0.N : S4096x2816.Idx → EReal) (ix2 R L) = f4 (∑ k : Fin 1024, A0 m c (ix2 R k) * A1 m c (ix2 k L)) (∑ k : Fin 1024, A0 m c (ix2 R k) * A2 m c (ix2 k L)) := by
  obtain ⟨t, r, l, rfl, rfl⟩ := surj R L
  have h := congrFun (blocks4 m c t (flush0_4 t)) (ix2 (n0 := 512) (n1 := 1408) r l)
  rw [View.read_apply, flushed4_A, emb4] at h
  rw [← blk4]
  exact h

theorem blk5 (c : Dev nD) (t : Fin cfg0.N) (r : Fin 512) (l : Fin 1408) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (X0 m c t) (X1 m c t) (X2 m c t) (ix2 r l)
      = f5 (∑ k : Fin 1024, A0 m c (ix2 (row t r) k) * A1 m c (ix2 k (col t l))) (∑ k : Fin 1024, A0 m c (ix2 (row t r) k) * A2 m c (ix2 k (col t l))) := by
  refine (out5 c t _ _ _ r l).trans (congrArg₂ f5 (Finset.sum_congr rfl fun k _ => ?_) (Finset.sum_congr rfl fun k _ => ?_))
  · rw [X0_eq, X1_eq, H0_eq, H1_eq]
  · rw [X0_eq, X2_eq, H0_eq, H2_eq]

theorem arr5 (c : Dev nD) (R : Fin 4096) (L : Fin 2816) : ((dats m 0 c).arrAt 5 cfg0.N : S4096x2816.Idx → EReal) (ix2 R L) = f5 (∑ k : Fin 1024, A0 m c (ix2 R k) * A1 m c (ix2 k L)) (∑ k : Fin 1024, A0 m c (ix2 R k) * A2 m c (ix2 k L)) := by
  obtain ⟨t, r, l, rfl, rfl⟩ := surj R L
  have h := congrFun (blocks5 m c t (flush0_5 t)) (ix2 (n0 := 512) (n1 := 1408) r l)
  rw [View.read_apply, flushed5_A, emb5] at h
  rw [← blk5]
  exact h

/-- An entry of the product of `x` and a matrix. -/
def mm (x : Vec Ideal S4096x1024 .bf16) (w : Vec Ideal S1024x2816 .f32) (R : Fin 4096) (L : Fin 2816) : EReal :=
  ∑ k : Fin 1024, x (ix2 R k) * w (ix2 k L)

theorem ref1 (x0 : Vec Ideal S4096x1024 .bf16) (x1 x2 : Vec Ideal S1024x2816 .f32) (R : Fin 4096) (L : Fin 2816) : val_main_v1 (F := Ideal) x0 x1 (ix2 R L) = mm x0 x1 R L := by
  unfold mm
  pointwise [val_main_v1, val_main_v0]

theorem ref3 (x0 : Vec Ideal S4096x1024 .bf16) (x1 x2 : Vec Ideal S1024x2816 .f32) (R : Fin 4096) (L : Fin 2816) : val_main_v3 (F := Ideal) x0 x2 (ix2 R L) = mm x0 x2 R L := by
  unfold mm
  pointwise [val_main_v3, val_main_v2]

theorem refs (x0 : Vec Ideal S4096x1024 .bf16) (x1 x2 : Vec Ideal S1024x2816 .f32) (R : Fin 4096) (L : Fin 2816) : val_main_v4_2 (F := Ideal) x0 x1 (ix2 R L) = Math.sg (mm x0 x1 R L) := by
  rw [← ref1 x0 x1 x2]
  unfold Math.sg
  pointwise [val_main_v4_2, val_main_call0_v4, val_main_call0_v3, val_main_call0_v2, val_main_call0_v1, val_main_call0_v0, val_main_call0_cst, val_main_call0_cst_0]

theorem ref5 (x0 : Vec Ideal S4096x1024 .bf16) (x1 x2 : Vec Ideal S1024x2816 .f32) (R : Fin 4096) (L : Fin 2816) : val_main_v5 (F := Ideal) x0 x1 (ix2 R L) = mm x0 x1 R L * Math.sg (mm x0 x1 R L) := by
  rw [← refs x0 x1 x2, ← ref1 x0 x1 x2]
  pointwise [val_main_v5, val_main_v4_0]

theorem ref7 (x0 : Vec Ideal S4096x1024 .bf16) (x1 x2 : Vec Ideal S1024x2816 .f32) (R : Fin 4096) (L : Fin 2816) : val_main_v7 (F := Ideal) x0 x1 x2 (ix2 R L)
    = mm x0 x2 R L * Math.sg (mm x0 x1 R L) + mm x0 x1 R L * mm x0 x2 R L * (Math.sg (mm x0 x1 R L) * (1 - Math.sg (mm x0 x1 R L))) := by
  rw [← refs x0 x1 x2, ← ref1 x0 x1 x2, ← ref3 x0 x1 x2, ← Ideal.ofBits_one_f32]
  pointwise [val_main_v7, val_main_v6, val_main_call1_v2, val_main_call1_v1, val_main_call1_v0, val_main_v4_1, val_main_call0_v7, val_main_call0_v6, val_main_call0_cst_1]

theorem ref9 (x0 : Vec Ideal S4096x1024 .bf16) (x1 x2 : Vec Ideal S1024x2816 .f32) (R : Fin 4096) (L : Fin 2816) : val_main_v9 (F := Ideal) x0 x1 x2 (ix2 R L) = mm x0 x1 R L * Math.sg (mm x0 x1 R L) * mm x0 x2 R L := by
  rw [← refs x0 x1 x2, ← ref1 x0 x1 x2, ← ref3 x0 x1 x2]
  pointwise [val_main_v9, val_main_v8, val_main_v4_0]

/-- The precondition says that every entry of every argument is finite. -/
theorem finite (x0 : Vec Ideal S4096x1024 .bf16) (x1 x2 : Vec Ideal S1024x2816 .f32)
    (hp : Cert.Pre_ffn_up_finite.fn (F := Ideal) x0 x1 x2 = fun _ => 1#1) :
    (∀ i, Math.IsR (x0 i)) ∧ (∀ i, Math.IsR (x1 i)) ∧ (∀ i, Math.IsR (x2 i)) := by
  have h := congrFun hp Math.j0
  obtain ⟨h, h2⟩ := Math.and_one h
  obtain ⟨h0, h1⟩ := Math.and_one h
  exact ⟨Math.all_isR (extf .f32 x0 bitsLt_bf16_f32) _ _ _ _ h0, Math.all_isR x1 _ _ _ _ h1, Math.all_isR x2 _ _ _ _ h2⟩

theorem mm_isR (x : Vec Ideal S4096x1024 .bf16) (w : Vec Ideal S1024x2816 .f32) (h : ∀ i, Math.IsR (x i)) (h' : ∀ i, Math.IsR (w i)) (R : Fin 4096) (L : Fin 2816) :
    Math.IsR (mm x w R L) := Math.IsR.sum _ _ fun k => (h _).mul (h' _)

/-- The two ways of writing the derivative agree on real numbers. -/
theorem law {a b : EReal} (ha : Math.IsR a) (hb : Math.IsR b) : f4 a b = b * Math.sg a + a * b * (Math.sg a * (1 - Math.sg a)) := by
  have hs := ha.sg
  unfold f4
  generalize Math.sg a = s at hs ⊢
  obtain ⟨a, rfl⟩ := ha
  obtain ⟨b, rfl⟩ := hb
  obtain ⟨s, rfl⟩ := hs
  rw [← EReal.coe_one]
  simp only [← EReal.coe_mul, ← EReal.coe_sub, ← EReal.coe_add]
  exact congrArg _ (by ring)

theorem eq3 (c : Dev nD) (hp : Cert.Pre_ffn_up_finite.fn (F := Ideal) (A0 m c) (A1 m c) (A2 m c) = fun _ => 1#1) :
    ((dats m 0 c).arrAt 3 cfg0.N : S4096x2816.Idx → EReal) = val_main_v5 (F := Ideal) (A0 m c) (A1 m c) :=
  Rows.ext2 fun R L => (arr3 m c R L).trans (ref5 _ _ (A2 m c) R L).symm

theorem eq5 (c : Dev nD) (hp : Cert.Pre_ffn_up_finite.fn (F := Ideal) (A0 m c) (A1 m c) (A2 m c) = fun _ => 1#1) :
    ((dats m 0 c).arrAt 5 cfg0.N : S4096x2816.Idx → EReal) = val_main_v9 (F := Ideal) (A0 m c) (A1 m c) (A2 m c) :=
  Rows.ext2 fun R L => (arr5 m c R L).trans (ref9 _ _ (A2 m c) R L).symm

theorem eq4 (c : Dev nD) (hp : Cert.Pre_ffn_up_finite.fn (F := Ideal) (A0 m c) (A1 m c) (A2 m c) = fun _ => 1#1) :
    ((dats m 0 c).arrAt 4 cfg0.N : S4096x2816.Idx → EReal) = val_main_v7 (F := Ideal) (A0 m c) (A1 m c) (A2 m c) := by
  obtain ⟨g0, g1, g2⟩ := finite _ _ _ hp
  exact Rows.ext2 fun R L => (arr4 m c R L).trans ((law (mm_isR _ _ g0 g1 R L) (mm_isR _ _ g0 g2 R L)).trans (ref7 _ _ _ R L).symm)

end Cert.FfnUp

open Idealize.ShloMosaic Idealize.SL.Sem in
/-- The kernel computes the reference's three arrays, over the extended reals, for finite arguments. -/
theorem Cert.FfnUp.algebraic : Cert.algebraic_FfnUpKernelIdeal_FfnUpReferenceIdeal_pre_ffn_up_finite := by
  intro m g m' g' hp hag
  refine ⟨_, _, _, Cert.FfnUpKernelIdeal.Value.run_blocks m g, (θ_run _ _ _).mono (fun r h c => ?_) (Cert.FfnUpReferenceIdeal.Value.run m' g')⟩
  obtain ⟨h0, h1, h2, ha⟩ := h c
  obtain ⟨e0, e1, e2⟩ := hag c
  refine ⟨?_, ?_, ?_, ha⟩
  · rw [h0, Cert.FfnUpReferenceIdeal.Read.val_main_v5_eq, e0, e1]
    exact (Cert.FfnUp.eq3 m c (hp c)).symm
  · rw [h1, Cert.FfnUpReferenceIdeal.Read.val_main_v7_eq, e0, e1, e2]
    exact (Cert.FfnUp.eq4 m c (hp c)).symm
  · rw [h2, Cert.FfnUpReferenceIdeal.Read.val_main_v9_eq, e0, e1, e2]
    exact (Cert.FfnUp.eq5 m c (hp c)).symm

open Idealize.ShloMosaic Idealize.SL.Sem in
/-- The reference terminates, leaves its arguments as they were, and has no semaphore. -/
theorem Cert.FfnUp.frame_reference : Cert.quiescent_FfnUpReferenceIdeal := fun m ρ _ =>
  (θ_run Cert.FfnUpReferenceIdeal.defs _ _).mono (fun r h => ⟨fun c => (h c).2.2.2,
    sem_eq_zero_of_no_sems (by decide) r.2⟩) (Cert.FfnUpReferenceIdeal.Value.run m ρ)

open Idealize.ShloMosaic Idealize.SL.Sem in
/-- The same under the precondition. -/
theorem Cert.FfnUp.frame_reference_pre : Cert.quiescent_FfnUpReferenceIdeal_pre_ffn_up_finite := fun m ρ _ =>
  (θ_run Cert.FfnUpReferenceIdeal.defs _ _).mono (fun r h => ⟨fun c => (h c).2.2.2,
    sem_eq_zero_of_no_sems (by decide) r.2⟩) (Cert.FfnUpReferenceIdeal.Value.run m ρ)

end
-- ==== Proof.Norm.lean ====
module

public import Idealize.ShloMosaic.Lib.Pointwise

@[expose] public section

noncomputable section

namespace Cert.Math

open Idealize.ShloMosaic

/-- Entry `l` of the normed row `y` of 1024 entries with gain `g` (1149239296 and 897988541 are the words of 1024 and of 1e-6). -/
def nrm (y : Fin 1024 → EReal) (l : Fin 1024) (g : EReal) : EReal :=
  y l * Ideal.rsqrt (Ideal.div (∑ k, y k * y k) (Ideal.ofBits FTy.f32 1149239296#32) + Ideal.ofBits FTy.f32 897988541#32) * g

end Cert.Math

end
-- ==== Proof.FfnDownNorm.lean ====
/- Forward `ffn_down` with a norm: the half of the product added to the residual stream, and the norm of the sum. -/
module

public import proofs.«01_k».proof.Defs
public import proofs.«01_k».proof.Proof.Rows
public import proofs.«01_k».proof.Proof.Tile
public import proofs.«01_k».proof.Proof.Norm
public import proofs.«01_k».proof.Proof.Gen.FfnDownNormKernelIdeal.Value
public import proofs.«01_k».proof.Proof.Gen.FfnDownNormReferenceIdeal.Read
public import Idealize.ShloMosaic.Lib.Quiescent
public import Idealize.ShloMosaic.Lib.IdealHost

@[expose] public section

set_option maxRecDepth 16384

noncomputable section

namespace Cert.FfnDownNorm

open Cert.FfnDownNormKernelIdeal Cert.FfnDownNormKernelIdeal.Gen Cert.FfnDownNormKernelIdeal.Value
open Idealize.ShloMosaic Idealize.ShloMosaic.TcCoe Idealize.SL.Sem
open Cert.FfnDownNormReferenceIdeal.Read Cert

variable (m : (ℓ : Loc nD τ sig) → Buf (Elt Ideal) ℓ)

/-- The argument arrays of a device. -/
abbrev A0 (c : Dev nD) : Vec Ideal S4096x2816 .bf16 := m ((c : Thread nD τ).loc main_arg0)
abbrev A1 (c : Dev nD) : Vec Ideal S2816x1024 .f32 := m ((c : Thread nD τ).loc main_arg1)
abbrev A2 (c : Dev nD) : Vec Ideal S4096x1024 .f32 := m ((c : Thread nD τ).loc main_arg2)
abbrev A3 (c : Dev nD) : Vec Ideal S1024 .f32 := m ((c : Thread nD τ).loc main_arg3)

/-- What the host hands the kernel. -/
abbrev H0 (c : Dev nD) : Vec Ideal S4096x2816 .bf16 := V m c main_arg0
abbrev H1 (c : Dev nD) : Vec Ideal S2816x1024 .bf16 := V m c main_v0
abbrev H2 (c : Dev nD) : Vec Ideal S4096x1024 .f32 := V m c main_arg2
abbrev H3 (c : Dev nD) : Vec Ideal S1x1024 .f32 := V m c main_v1

theorem H0_eq (c : Dev nD) : H0 m c = A0 m c := V_main_arg0 m c
theorem H1_eq (c : Dev nD) (r : Fin 2816) (l : Fin 1024) : H1 m c (ix2 r l) = A1 m c (ix2 r l) := by
  have h : H1 m c = (truncf .bf16 (A1 m c) bitsLt_bf16_f32 : FVec Ideal S2816x1024 .bf16) := by
    unfold_abbrev_sides
    after_results
  rw [h]
  pointwise []
theorem H2_eq (c : Dev nD) : H2 m c = A2 m c := V_main_arg2 m c
theorem H3_eq (c : Dev nD) (l : Fin 1024) : H3 m c (ix2 0 l) = A3 m c (ix1 l) := by
  have h : H3 m c = (shapeCast S1x1024 (A3 m c) shapeCasts_S1024_S1x1024 : FVec Ideal S1x1024 .f32) := by
    unfold_abbrev_sides
    after_results
    rfl
  rw [h]
  pointwise []

/-- Where the windows lie. -/
theorem idx : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) ∧ (win0_3.index t 0 = 0 ∧ win0_3.index t 1 = 0) ∧ (win0_4.index t 0 = t.val ∧ win0_4.index t 1 = 0) ∧ (win0_5.index t 0 = t.val ∧ win0_5.index t 1 = 0) := by
  show ∀ t : Fin grid0.N, _
  decide +kernel

/-- Row `r` of a block at point `t` as a row of the array, and column `l` as a column. -/
def row (t : Fin cfg0.N) (r : Fin 512) : Fin 4096 :=
  ⟨t.val * 512 + r.val, by have h := t.isLt; have hN : cfg0.N = 8 := N_0; have := r.isLt; omega⟩
def col (t : Fin cfg0.N) (l : Fin 1024) : Fin 1024 :=
  ⟨0 * 1024 + l.val, by have h := t.isLt; have hN : cfg0.N = 8 := N_0; have := l.isLt; omega⟩

theorem surj (R : Fin 4096) (L : Fin 1024) : ∃ (t : Fin cfg0.N) (r : Fin 512) (l : Fin 1024), R = row t r ∧ L = col t l :=
  ⟨⟨(R.val / 512), by rw [show cfg0.N = 8 from N_0]; omega⟩, ⟨R.val % 512, by omega⟩, ⟨L.val % 1024, by omega⟩,
    Fin.ext (by show R.val = ((R.val / 512)) * 512 + R.val % 512; omega),
    Fin.ext (by show L.val = 0 * 1024 + L.val % 1024; omega)⟩

/-- The blocks at a point. -/
abbrev X0 (c : Dev nD) (t : Fin cfg0.N) : Vec Ideal S512x2816 .bf16 := iblk m c 0 t
abbrev X1 (c : Dev nD) (t : Fin cfg0.N) : Vec Ideal S2816x1024 .bf16 := iblk m c 1 t
abbrev X2 (c : Dev nD) (t : Fin cfg0.N) : Vec Ideal S512x1024 .f32 := iblk m c 2 t
abbrev X3 (c : Dev nD) (t : Fin cfg0.N) : Vec Ideal S1x1024 .f32 := iblk m c 3 t

theorem X0_eq (c : Dev nD) (t : Fin cfg0.N) (r : Fin 512) (l : Fin 2816) : X0 m c t (ix2 r l) = H0 m c (ix2 (row t r) l) :=
  congrArg (H0 m c) (Tile.rf (idx t).1 rfl rfl rfl)

theorem X1_eq (c : Dev nD) (t : Fin cfg0.N) (r : Fin 2816) (l : Fin 1024) : X1 m c t (ix2 r l) = H1 m c (ix2 r l) :=
  congrArg (H1 m c) (Tile.ff (idx t).2.1 rfl rfl)

theorem X2_eq (c : Dev nD) (t : Fin cfg0.N) (r : Fin 512) (l : Fin 1024) : X2 m c t (ix2 r l) = H2 m c (ix2 (row t r) l) :=
  congrArg (H2 m c) (Tile.rf (idx t).2.2.1 rfl rfl rfl)

theorem X3_eq (c : Dev nD) (t : Fin cfg0.N) (r : Fin 1) (l : Fin 1024) : X3 m c t (ix2 r l) = H3 m c (ix2 r l) :=
  congrArg (H3 m c) (Tile.ff (idx t).2.2.2.1 rfl rfl)

theorem emb4 (t : Fin cfg0.N) (r : Fin 512) (l : Fin 1024) : ((cfg0.win 4).blk t).view.emb (ix2 (n0 := 512) (n1 := 1024) r l)
    = ix2 (n0 := 4096) (n1 := 1024) (row t r) (col t l) :=
  Tile.rc (idx t).2.2.2.2.1 rfl rfl rfl rfl

theorem emb5 (t : Fin cfg0.N) (r : Fin 512) (l : Fin 1024) : ((cfg0.win 5).blk t).view.emb (ix2 (n0 := 512) (n1 := 1024) r l)
    = ix2 (n0 := 4096) (n1 := 1024) (row t r) (col t l) :=
  Tile.rc (idx t).2.2.2.2.2 rfl rfl rfl rfl

theorem hz : (![0, 0] : Fin 2 → ℕ) = 0 := by decide

/-- An entry of the residual stream after the product. -/
def res (x0 : Vec Ideal S4096x2816 .bf16) (x1 : Vec Ideal S2816x1024 .f32) (x2 : Vec Ideal S4096x1024 .f32) (R : Fin 4096) (L : Fin 1024) : EReal :=
  (x2 (ix2 R L) + (∑ k : Fin 2816, x0 (ix2 R k) * x1 (ix2 k L)) * Ideal.ofBits FTy.f32 1056964608#32)

theorem col_eq (t : Fin cfg0.N) (l : Fin 1024) : col t l = l := Fin.ext (by show 0 * 1024 + l.val = l.val; omega)

/-- What a point writes, from its blocks. -/
theorem pay1 (x0 : Vec Ideal S512x2816 .bf16) (x1 : Vec Ideal S2816x1024 .bf16) (x2 : Vec Ideal S512x1024 .f32) (r : Fin 512) (l : Fin 1024) :
    k0_pay1 x2 x0 x1 (ix2 r l) = (x2 (ix2 r l) + (∑ k : Fin 2816, x0 (ix2 r k) * x1 (ix2 k l)) * Ideal.ofBits FTy.f32 1056964608#32) := by
  pointwise [k0_pay1]

theorem pay2 (x0 : Vec Ideal S512x2816 .bf16) (x1 : Vec Ideal S2816x1024 .bf16) (x2 : Vec Ideal S512x1024 .f32) (x3 : Vec Ideal S1x1024 .f32) (r : Fin 512) (l : Fin 1024) :
    k0_pay2 x2 x0 x1 x3 (ix2 r l) = Math.nrm (fun k => k0_pay1 x2 x0 x1 (ix2 r k)) l (x3 (ix2 0 l)) := by
  unfold Math.nrm
  pointwise [k0_pay2]

theorem blk4 (c : Dev nD) (t : Fin cfg0.N) (r : Fin 512) (l : Fin 1024) :
    k0_pay1 (X2 m c t) (X0 m c t) (X1 m c t) (ix2 r l) = res (A0 m c) (A1 m c) (A2 m c) (row t r) l := by
  refine (pay1 _ _ _ _ _).trans ?_
  unfold res
  rw [X2_eq, H2_eq]
  refine congrArg (fun q => A2 m c (ix2 (row t r) l) + q * Ideal.ofBits FTy.f32 1056964608#32) (Finset.sum_congr rfl fun k _ => ?_)
  rw [X0_eq, X1_eq, H0_eq, H1_eq]

theorem out4 (c : Dev nD) (t : Fin cfg0.N) (r : Fin 512) (l : Fin 1024) :
    out0_4 (X0 m c t) (X1 m c t) (X2 m c t) (X3 m c t) (ix2 r l) = res (A0 m c) (A1 m c) (A2 m c) (row t r) (col t l) := by
  unfold out0_4
  rw [View.canon_unit_zero (S := S512x1024) hz, View.ld_unit_zero (S := S512x1024) hz, View.ld_unit_zero (S := S2816x1024) hz, View.ld_unit_zero (S := S512x2816) hz, col_eq]
  exact blk4 m c t r l

theorem out5 (c : Dev nD) (t : Fin cfg0.N) (r : Fin 512) (l : Fin 1024) :
    out0_5 (X0 m c t) (X1 m c t) (X2 m c t) (X3 m c t) (ix2 r l)
      = Math.nrm (res (A0 m c) (A1 m c) (A2 m c) (row t r)) (col t l) (A3 m c (ix1 (col t l))) := by
  unfold out0_5
  rw [View.canon_unit_zero (S := S512x1024) hz, View.ld_unit_zero (S := S512x1024) hz, View.ld_unit_zero (S := S2816x1024) hz, View.ld_unit_zero (S := S512x2816) hz, View.ld_unit_zero (S := S1x1024) hz, col_eq]
  refine (pay2 _ _ _ _ _ _).trans ?_
  rw [X3_eq, H3_eq]
  exact congrArg (fun q => Math.nrm q l (A3 m c (ix1 l))) (funext fun k => blk4 m c t r k)

theorem arr4 (c : Dev nD) (R : Fin 4096) (L : Fin 1024) : ((dats m 0 c).arrAt 4 cfg0.N : S4096x1024.Idx → EReal) (ix2 R L) = res (A0 m c) (A1 m c) (A2 m c) R L := by
  obtain ⟨t, r, l, rfl, rfl⟩ := surj R L
  have h := congrFun (blocks4 m c t (flush0_4 t)) (ix2 (n0 := 512) (n1 := 1024) r l)
  rw [View.read_apply, flushed4, emb4] at h
  rw [← out4]
  exact h

theorem arr5 (c : Dev nD) (R : Fin 4096) (L : Fin 1024) : ((dats m 0 c).arrAt 5 cfg0.N : S4096x1024.Idx → EReal) (ix2 R L) = Math.nrm (res (A0 m c) (A1 m c) (A2 m c) R) L (A3 m c (ix1 L)) := by
  obtain ⟨t, r, l, rfl, rfl⟩ := surj R L
  have h := congrFun (blocks5 m c t (flush0_5 t)) (ix2 (n0 := 512) (n1 := 1024) r l)
  rw [View.read_apply, flushed5, emb5] at h
  rw [← out5]
  exact h

theorem ref4 (x0 : Vec Ideal S4096x2816 .bf16) (x1 : Vec Ideal S2816x1024 .f32) (x2 : Vec Ideal S4096x1024 .f32) (R : Fin 4096) (L : Fin 1024) :
    val_main_v4 (F := Ideal) x0 x1 x2 (ix2 R L) = res x0 x1 x2 R L := by
  unfold res
  rw [mul_comm (∑ k : Fin 2816, _)]
  pointwise [val_main_v4, val_main_v3, val_main_v2, val_main_cst, val_main_v1, val_main_v0]

theorem ref5 (x0 : Vec Ideal S4096x2816 .bf16) (x1 : Vec Ideal S2816x1024 .f32) (x2 : Vec Ideal S4096x1024 .f32) (x3 : Vec Ideal S1024 .f32) (R : Fin 4096) (L : Fin 1024) :
    val_main_v18 (F := Ideal) x0 x1 x2 x3 (ix2 R L) = Math.nrm (res x0 x1 x2 R) L (x3 (ix1 L)) := by
  rw [show res x0 x1 x2 R = fun k => val_main_v4 (F := Ideal) x0 x1 x2 (ix2 R k) from funext fun k => (ref4 x0 x1 x2 R k).symm]
  unfold Math.nrm
  pointwise [val_main_v18, val_main_v17, val_main_v16, val_main_v15, val_main_v14, val_main_v13, val_main_v12, val_main_v11, val_main_v10, val_main_v9, val_main_v8, val_main_v7, val_main_v6, val_main_v5, val_main_cst_0, val_main_cst_1, val_main_cst_2]

theorem eq4 (c : Dev nD) : ((dats m 0 c).arrAt 4 cfg0.N : S4096x1024.Idx → EReal) = val_main_v4 (F := Ideal) (A0 m c) (A1 m c) (A2 m c) :=
  Rows.ext2 fun R L => (arr4 m c R L).trans (ref4 _ _ _ R L).symm

theorem eq5 (c : Dev nD) : ((dats m 0 c).arrAt 5 cfg0.N : S4096x1024.Idx → EReal) = val_main_v18 (F := Ideal) (A0 m c) (A1 m c) (A2 m c) (A3 m c) :=
  Rows.ext2 fun R L => (arr5 m c R L).trans (ref5 _ _ _ _ R L).symm

end Cert.FfnDownNorm

open Idealize.ShloMosaic Idealize.SL.Sem in
/-- The kernel computes the reference's two arrays, over the extended reals. -/
theorem Cert.FfnDownNorm.algebraic : Cert.algebraic_FfnDownNormKernelIdeal_FfnDownNormReferenceIdeal := by
  intro m g m' g' _ hag
  refine ⟨_, _, Cert.FfnDownNormKernelIdeal.Value.run_blocks m g, (θ_run _ _ _).mono (fun r h c => ?_) (Cert.FfnDownNormReferenceIdeal.Value.run m' g')⟩
  obtain ⟨h0, h1, ha⟩ := h c
  obtain ⟨e0, e1, e2, e3⟩ := hag c
  refine ⟨?_, ?_, ha⟩
  · rw [h0, Cert.FfnDownNormReferenceIdeal.Read.val_main_v4_eq, e0, e1, e2]
    exact (Cert.FfnDownNorm.eq4 m c).symm
  · rw [h1, Cert.FfnDownNormReferenceIdeal.Read.val_main_v18_eq, e0, e1, e2, e3]
    exact (Cert.FfnDownNorm.eq5 m c).symm

open Idealize.ShloMosaic Idealize.SL.Sem in
/-- The reference terminates, leaves its arguments as they were, and has no semaphore. -/
theorem Cert.FfnDownNorm.frame_reference : Cert.quiescent_FfnDownNormReferenceIdeal := fun m ρ _ =>
  (θ_run Cert.FfnDownNormReferenceIdeal.defs _ _).mono (fun r h => ⟨fun c => (h c).2.2,
    sem_eq_zero_of_no_sems (by decide) r.2⟩) (Cert.FfnDownNormReferenceIdeal.Value.run m ρ)

end
-- ==== Proof.FfnDown.lean ====
/- Forward `ffn_down`: the half of the product of the second matrix, added to the residual stream. -/
module

public import proofs.«01_k».proof.Defs
public import proofs.«01_k».proof.Proof.Rows
public import proofs.«01_k».proof.Proof.Tile
public import proofs.«01_k».proof.Proof.Sums
public import proofs.«01_k».proof.Proof.Gen.FfnDownKernelIdeal.Value
public import proofs.«01_k».proof.Proof.Gen.FfnDownReferenceIdeal.Read
public import Idealize.ShloMosaic.Lib.Quiescent

@[expose] public section

set_option maxRecDepth 16384

noncomputable section

namespace Cert.FfnDown

open Cert.FfnDownKernelIdeal Cert.FfnDownKernelIdeal.Gen Cert.FfnDownKernelIdeal.Value
open Idealize.ShloMosaic Idealize.ShloMosaic.TcCoe Idealize.SL.Sem
open Cert.FfnDownReferenceIdeal.Read Cert

variable (m : (ℓ : Loc nD τ sig) → Buf (Elt Ideal) ℓ)

/-- The argument arrays of a device. -/
abbrev A0 (c : Dev nD) : Vec Ideal S4096x2816 .bf16 := m ((c : Thread nD τ).loc main_arg0)
abbrev A1 (c : Dev nD) : Vec Ideal S2816x1024 .f32 := m ((c : Thread nD τ).loc main_arg1)
abbrev A2 (c : Dev nD) : Vec Ideal S4096x1024 .f32 := m ((c : Thread nD τ).loc main_arg2)

/-- What the host hands the kernel. -/
abbrev H0 (c : Dev nD) : Vec Ideal S4096x2816 .bf16 := V m c main_arg0
abbrev H1 (c : Dev nD) : Vec Ideal S2816x1024 .bf16 := V m c main_v0
abbrev H2 (c : Dev nD) : Vec Ideal S4096x1024 .f32 := V m c main_arg2

theorem H0_eq (c : Dev nD) : H0 m c = A0 m c := V_main_arg0 m c
theorem H1_eq (c : Dev nD) (r : Fin 2816) (l : Fin 1024) : H1 m c (ix2 r l) = A1 m c (ix2 r l) := by
  have h : H1 m c = (truncf .bf16 (A1 m c) bitsLt_bf16_f32 : FVec Ideal S2816x1024 .bf16) := by
    unfold_abbrev_sides
    after_results
  rw [h]
  pointwise []
theorem H2_eq (c : Dev nD) : H2 m c = A2 m c := V_main_arg2 m c

/-- Where the windows lie. -/
theorem idx : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) ∧ (win0_3.index t 0 = t.val ∧ win0_3.index t 1 = 0) := by
  show ∀ t : Fin grid0.N, _
  decide +kernel

/-- Row `r` of a block at point `t` as a row of the array, and column `l` as a column. -/
def row (t : Fin cfg0.N) (r : Fin 512) : Fin 4096 :=
  ⟨t.val * 512 + r.val, by have h := t.isLt; have hN : cfg0.N = 8 := N_0; have := r.isLt; omega⟩
def col (t : Fin cfg0.N) (l : Fin 1024) : Fin 1024 :=
  ⟨0 * 1024 + l.val, by have h := t.isLt; have hN : cfg0.N = 8 := N_0; have := l.isLt; omega⟩

theorem surj (R : Fin 4096) (L : Fin 1024) : ∃ (t : Fin cfg0.N) (r : Fin 512) (l : Fin 1024), R = row t r ∧ L = col t l :=
  ⟨⟨(R.val / 512), by rw [show cfg0.N = 8 from N_0]; omega⟩, ⟨R.val % 512, by omega⟩, ⟨L.val % 1024, by omega⟩,
    Fin.ext (by show R.val = ((R.val / 512)) * 512 + R.val % 512; omega),
    Fin.ext (by show L.val = 0 * 1024 + L.val % 1024; omega)⟩

/-- The blocks at a point. -/
abbrev X0 (c : Dev nD) (t : Fin cfg0.N) : Vec Ideal S512x2816 .bf16 := iblk m c 0 t
abbrev X1 (c : Dev nD) (t : Fin cfg0.N) : Vec Ideal S2816x1024 .bf16 := iblk m c 1 t
abbrev X2 (c : Dev nD) (t : Fin cfg0.N) : Vec Ideal S512x1024 .f32 := iblk m c 2 t

theorem X0_eq (c : Dev nD) (t : Fin cfg0.N) (r : Fin 512) (l : Fin 2816) : X0 m c t (ix2 r l) = H0 m c (ix2 (row t r) l) :=
  congrArg (H0 m c) (Tile.rf (idx t).1 rfl rfl rfl)

theorem X1_eq (c : Dev nD) (t : Fin cfg0.N) (r : Fin 2816) (l : Fin 1024) : X1 m c t (ix2 r l) = H1 m c (ix2 r l) :=
  congrArg (H1 m c) (Tile.ff (idx t).2.1 rfl rfl)

theorem X2_eq (c : Dev nD) (t : Fin cfg0.N) (r : Fin 512) (l : Fin 1024) : X2 m c t (ix2 r l) = H2 m c (ix2 (row t r) l) :=
  congrArg (H2 m c) (Tile.rf (idx t).2.2.1 rfl rfl rfl)

theorem emb3 (t : Fin cfg0.N) (r : Fin 512) (l : Fin 1024) : ((cfg0.win 3).blk t).view.emb (ix2 (n0 := 512) (n1 := 1024) r l)
    = ix2 (n0 := 4096) (n1 := 1024) (row t r) l :=
  Tile.rf (idx t).2.2.2 rfl rfl rfl

theorem hz : (![0, 0] : Fin 2 → ℕ) = 0 := by decide

/-- What a point writes, from its blocks. -/
theorem pay (x0 : Vec Ideal S512x2816 .bf16) (x1 : Vec Ideal S2816x1024 .bf16) (x2 : Vec Ideal S512x1024 .f32) (r : Fin 512) (l : Fin 1024) :
    k0_pay1 x0 x1 x2 (ix2 r l) = x2 (ix2 r l) + (∑ k : Fin 2816, x0 (ix2 r k) * x1 (ix2 k l)) * Ideal.ofBits FTy.f32 1056964608#32 := by
  pointwise [k0_pay1]

theorem blk3 (c : Dev nD) (t : Fin cfg0.N) (r : Fin 512) (l : Fin 1024) :
    out0_3 (X0 m c t) (X1 m c t) (X2 m c t) (ix2 r l)
      = A2 m c (ix2 (row t r) l) + (∑ k : Fin 2816, A0 m c (ix2 (row t r) k) * A1 m c (ix2 k l)) * Ideal.ofBits FTy.f32 1056964608#32 := by
  unfold out0_3
  rw [View.canon_unit_zero (S := S512x1024) hz, View.ld_unit_zero (S := S512x2816) hz, View.ld_unit_zero (S := S2816x1024) hz, View.ld_unit_zero (S := S512x1024) hz]
  refine (pay _ _ _ _ _).trans ?_
  rw [X2_eq, H2_eq]
  refine congrArg (fun q => A2 m c (ix2 (row t r) l) + q * Ideal.ofBits FTy.f32 1056964608#32) (Finset.sum_congr rfl fun k _ => ?_)
  rw [X0_eq, X1_eq, H0_eq, H1_eq]

theorem col_eq (t : Fin cfg0.N) (l : Fin 1024) : col t l = l := Fin.ext (by show 0 * 1024 + l.val = l.val; omega)

theorem arr3 (c : Dev nD) (R : Fin 4096) (L : Fin 1024) : ((dats m 0 c).arrAt 3 cfg0.N : S4096x1024.Idx → EReal) (ix2 R L) = A2 m c (ix2 R L) + (∑ k : Fin 2816, A0 m c (ix2 R k) * A1 m c (ix2 k L)) * Ideal.ofBits FTy.f32 1056964608#32 := by
  obtain ⟨t, r, l, rfl, rfl⟩ := surj R L
  have h := congrFun (blocks3 m c t (flush0_3 t)) (ix2 (n0 := 512) (n1 := 1024) r l)
  rw [View.read_apply, flushed3, emb3] at h
  rw [col_eq, ← blk3]
  exact h

theorem ref (x0 : Vec Ideal S4096x2816 .bf16) (x1 : Vec Ideal S2816x1024 .f32) (x2 : Vec Ideal S4096x1024 .f32) (R : Fin 4096) (L : Fin 1024) :
    val_main_v4 (F := Ideal) x0 x1 x2 (ix2 R L) = x2 (ix2 R L) + (∑ k : Fin 2816, x0 (ix2 R k) * x1 (ix2 k L)) * Ideal.ofBits FTy.f32 1056964608#32 := by
  rw [mul_comm (∑ k : Fin 2816, _)]
  pointwise [val_main_v4, val_main_v3, val_main_v2, val_main_cst, val_main_v1, val_main_v0]

theorem eq3 (c : Dev nD) : ((dats m 0 c).arrAt 3 cfg0.N : S4096x1024.Idx → EReal) = val_main_v4 (F := Ideal) (A0 m c) (A1 m c) (A2 m c) :=
  Rows.ext2 fun R L => (arr3 m c R L).trans (ref _ _ _ R L).symm

end Cert.FfnDown

open Idealize.ShloMosaic Idealize.SL.Sem in
/-- The kernel computes the reference's array, over the extended reals. -/
theorem Cert.FfnDown.algebraic : Cert.algebraic_FfnDownKernelIdeal_FfnDownReferenceIdeal := by
  intro m g m' g' _ hag
  refine ⟨_, Cert.FfnDownKernelIdeal.Value.run_blocks m g, (θ_run _ _ _).mono (fun r h c => ?_) (Cert.FfnDownReferenceIdeal.Value.run m' g')⟩
  obtain ⟨h0, ha⟩ := h c
  obtain ⟨e0, e1, e2⟩ := hag c
  refine ⟨?_, ha⟩
  · rw [h0, Cert.FfnDownReferenceIdeal.Read.val_main_v4_eq, e0, e1, e2]
    exact (Cert.FfnDown.eq3 m c).symm

open Idealize.ShloMosaic Idealize.SL.Sem in
/-- The reference terminates, leaves its arguments as they were, and has no semaphore. -/
theorem Cert.FfnDown.frame_reference : Cert.quiescent_FfnDownReferenceIdeal := fun m ρ _ =>
  (θ_run Cert.FfnDownReferenceIdeal.defs _ _).mono (fun r h => ⟨fun c => (h c).2,
    sem_eq_zero_of_no_sems (by decide) r.2⟩) (Cert.FfnDownReferenceIdeal.Value.run m ρ)

end
-- ==== Proof.ProjDhRms.lean ====
/- Gradient `proj_dh_rms`: the gradients of the normed stream and of its gain are those `jax.vjp` gives. -/
module

public import proofs.«01_k».proof.Defs
public import proofs.«01_k».proof.Proof.Rows
public import proofs.«01_k».proof.Proof.Tile
public import proofs.«01_k».proof.Proof.RmsGrad
public import proofs.«01_k».proof.Proof.Gen.Pre_proj_dh_rms_finite
public import proofs.«01_k».proof.Proof.Gen.ProjDhRmsKernelIdeal.Value
public import proofs.«01_k».proof.Proof.Gen.ProjDhRmsReferenceIdeal.Read
public import Idealize.ShloMosaic.Lib.Quiescent

@[expose] public section

set_option maxRecDepth 16384

noncomputable section

namespace Cert.ProjDhRms

open Cert.ProjDhRmsKernelIdeal Cert.ProjDhRmsKernelIdeal.Gen Cert.ProjDhRmsKernelIdeal.Value
open Idealize.ShloMosaic Idealize.ShloMosaic.TcCoe Idealize.SL.Sem
open Cert.ProjDhRmsReferenceIdeal.Read Cert

variable (m : (ℓ : Loc nD τ sig) → Buf (Elt Ideal) ℓ)

/-- The argument arrays of a device. -/
abbrev A0 (c : Dev nD) : Vec Ideal S4096x1024 .f32 := m ((c : Thread nD τ).loc main_arg0)
abbrev A1 (c : Dev nD) : Vec Ideal S1024 .f32 := m ((c : Thread nD τ).loc main_arg1)
abbrev A2 (c : Dev nD) : Vec Ideal S1024x1024 .f32 := m ((c : Thread nD τ).loc main_arg2)
abbrev A3 (c : Dev nD) : Vec Ideal S1024x640 .f32 := m ((c : Thread nD τ).loc main_arg3)
abbrev A4 (c : Dev nD) : Vec Ideal S1024x2048 .f32 := m ((c : Thread nD τ).loc main_arg4)
abbrev A5 (c : Dev nD) : Vec Ideal S4096x1024 .bf16 := m ((c : Thread nD τ).loc main_arg5)
abbrev A6 (c : Dev nD) : Vec Ideal S4096x640 .bf16 := m ((c : Thread nD τ).loc main_arg6)
abbrev A7 (c : Dev nD) : Vec Ideal S4096x2048 .bf16 := m ((c : Thread nD τ).loc main_arg7)
abbrev A8 (c : Dev nD) : Vec Ideal S4096x1024 .f32 := m ((c : Thread nD τ).loc main_arg8)

/-- What the host hands the kernel. -/
abbrev H0 (c : Dev nD) : Vec Ideal S4096x1024 .bf16 := V m c main_arg5
abbrev H1 (c : Dev nD) : Vec Ideal S1024x1024 .bf16 := V m c main_v2
abbrev H2 (c : Dev nD) : Vec Ideal S4096x640 .bf16 := V m c main_arg6
abbrev H3 (c : Dev nD) : Vec Ideal S640x1024 .bf16 := V m c main_v4
abbrev H4 (c : Dev nD) : Vec Ideal S4096x2048 .bf16 := V m c main_arg7
abbrev H5 (c : Dev nD) : Vec Ideal S2048x1024 .bf16 := V m c main_v6
abbrev H6 (c : Dev nD) : Vec Ideal S4096x1024 .f32 := V m c main_arg0
abbrev H7 (c : Dev nD) : Vec Ideal S1x1024 .f32 := V m c main_v7
abbrev H8 (c : Dev nD) : Vec Ideal S4096x1024 .f32 := V m c main_arg8

theorem H0_eq (c : Dev nD) : H0 m c = A5 m c := V_main_arg5 m c
theorem H1_eq (c : Dev nD) (r : Fin 1024) (l : Fin 1024) : H1 m c (ix2 r l) = A2 m c (ix2 l r) := by
  have h : H1 m c = (truncf .bf16 (transpose S1024x1024 [1, 0] (A2 m c) transposes_S1024x1024_S1024x1024_1_0 : FVec Ideal S1024x1024 .f32) bitsLt_bf16_f32 : FVec Ideal S1024x1024 .bf16) := by
    unfold_abbrev_sides
    after_results
  rw [h]
  pointwise []
theorem H2_eq (c : Dev nD) : H2 m c = A6 m c := V_main_arg6 m c
theorem H3_eq (c : Dev nD) (r : Fin 640) (l : Fin 1024) : H3 m c (ix2 r l) = A3 m c (ix2 l r) := by
  have h : H3 m c = (truncf .bf16 (transpose S640x1024 [1, 0] (A3 m c) transposes_S1024x640_S640x1024_1_0 : FVec Ideal S640x1024 .f32) bitsLt_bf16_f32 : FVec Ideal S640x1024 .bf16) := by
    unfold_abbrev_sides
    after_results
  rw [h]
  pointwise []
theorem H4_eq (c : Dev nD) : H4 m c = A7 m c := V_main_arg7 m c
theorem H5_eq (c : Dev nD) (r : Fin 2048) (l : Fin 1024) : H5 m c (ix2 r l) = A4 m c (ix2 l r) := by
  have h : H5 m c = (truncf .bf16 (transpose S2048x1024 [1, 0] (A4 m c) transposes_S1024x2048_S2048x1024_1_0 : FVec Ideal S2048x1024 .f32) bitsLt_bf16_f32 : FVec Ideal S2048x1024 .bf16) := by
    unfold_abbrev_sides
    after_results
  rw [h]
  pointwise []
theorem H6_eq (c : Dev nD) : H6 m c = A0 m c := V_main_arg0 m c
theorem H7_eq (c : Dev nD) (l : Fin 1024) : H7 m c (ix2 0 l) = A1 m c (ix1 l) := by
  have h : H7 m c = (shapeCast S1x1024 (A1 m c) shapeCasts_S1024_S1x1024 : FVec Ideal S1x1024 .f32) := by
    unfold_abbrev_sides
    after_results
    rfl
  rw [h]
  pointwise []
theorem H8_eq (c : Dev nD) : H8 m c = A8 m c := V_main_arg8 m c

/-- Where the windows lie. -/
theorem idx : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) ∧ (win0_3.index t 0 = 0 ∧ win0_3.index t 1 = 0) ∧ (win0_4.index t 0 = t.val ∧ win0_4.index t 1 = 0) ∧ (win0_5.index t 0 = 0 ∧ win0_5.index t 1 = 0) ∧ (win0_6.index t 0 = t.val ∧ win0_6.index t 1 = 0) ∧ (win0_7.index t 0 = 0 ∧ win0_7.index t 1 = 0) ∧ (win0_8.index t 0 = t.val ∧ win0_8.index t 1 = 0) ∧ (win0_9.index t 0 = t.val ∧ win0_9.index t 1 = 0) ∧ (win0_10.index t 0 = 0 ∧ win0_10.index t 1 = 0) := by
  show ∀ t : Fin grid0.N, _
  decide +kernel

/-- Row `r` of a block at point `t` as a row of the array, and column `l` as a column. -/
def row (t : Fin cfg0.N) (r : Fin 256) : Fin 4096 :=
  ⟨t.val * 256 + r.val, by have h := t.isLt; have hN : cfg0.N = 16 := N_0; have := r.isLt; omega⟩
def col (t : Fin cfg0.N) (l : Fin 1024) : Fin 1024 :=
  ⟨0 * 1024 + l.val, by have h := t.isLt; have hN : cfg0.N = 16 := N_0; have := l.isLt; omega⟩

theorem surj (R : Fin 4096) (L : Fin 1024) : ∃ (t : Fin cfg0.N) (r : Fin 256) (l : Fin 1024), R = row t r ∧ L = col t l :=
  ⟨⟨0 * (L.val / 1024) + (R.val / 256), by rw [show cfg0.N = 16 from N_0]; omega⟩, ⟨R.val % 256, by omega⟩, ⟨L.val % 1024, by omega⟩,
    Fin.ext (by show R.val = (0 * (L.val / 1024) + (R.val / 256)) * 256 + R.val % 256; omega),
    Fin.ext (by show L.val = 0 * 1024 + L.val % 1024; omega)⟩

/-- The blocks at a point. -/
abbrev X0 (c : Dev nD) (t : Fin cfg0.N) : Vec Ideal S256x1024 .bf16 := iblk m c 0 t
abbrev X1 (c : Dev nD) (t : Fin cfg0.N) : Vec Ideal S1024x1024 .bf16 := iblk m c 1 t
abbrev X2 (c : Dev nD) (t : Fin cfg0.N) : Vec Ideal S256x640 .bf16 := iblk m c 2 t
abbrev X3 (c : Dev nD) (t : Fin cfg0.N) : Vec Ideal S640x1024 .bf16 := iblk m c 3 t
abbrev X4 (c : Dev nD) (t : Fin cfg0.N) : Vec Ideal S256x2048 .bf16 := iblk m c 4 t
abbrev X5 (c : Dev nD) (t : Fin cfg0.N) : Vec Ideal S2048x1024 .bf16 := iblk m c 5 t
abbrev X6 (c : Dev nD) (t : Fin cfg0.N) : Vec Ideal S256x1024 .f32 := iblk m c 6 t
abbrev X7 (c : Dev nD) (t : Fin cfg0.N) : Vec Ideal S1x1024 .f32 := iblk m c 7 t
abbrev X8 (c : Dev nD) (t : Fin cfg0.N) : Vec Ideal S256x1024 .f32 := iblk m c 8 t

theorem X0_eq (c : Dev nD) (t : Fin cfg0.N) (r : Fin 256) (l : Fin 1024) : X0 m c t (ix2 r l) = H0 m c (ix2 (row t r) l) :=
  congrArg (H0 m c) (Tile.rf (idx t).1 rfl rfl rfl)

theorem X1_eq (c : Dev nD) (t : Fin cfg0.N) (r : Fin 1024) (l : Fin 1024) : X1 m c t (ix2 r l) = H1 m c (ix2 r l) :=
  congrArg (H1 m c) (Tile.ff (idx t).2.1 rfl rfl)

theorem X2_eq (c : Dev nD) (t : Fin cfg0.N) (r : Fin 256) (l : Fin 640) : X2 m c t (ix2 r l) = H2 m c (ix2 (row t r) l) :=
  congrArg (H2 m c) (Tile.rf (idx t).2.2.1 rfl rfl rfl)

theorem X3_eq (c : Dev nD) (t : Fin cfg0.N) (r : Fin 640) (l : Fin 1024) : X3 m c t (ix2 r l) = H3 m c (ix2 r l) :=
  congrArg (H3 m c) (Tile.ff (idx t).2.2.2.1 rfl rfl)

theorem X4_eq (c : Dev nD) (t : Fin cfg0.N) (r : Fin 256) (l : Fin 2048) : X4 m c t (ix2 r l) = H4 m c (ix2 (row t r) l) :=
  congrArg (H4 m c) (Tile.rf (idx t).2.2.2.2.1 rfl rfl rfl)

theorem X5_eq (c : Dev nD) (t : Fin cfg0.N) (r : Fin 2048) (l : Fin 1024) : X5 m c t (ix2 r l) = H5 m c (ix2 r l) :=
  congrArg (H5 m c) (Tile.ff (idx t).2.2.2.2.2.1 rfl rfl)

theorem X6_eq (c : Dev nD) (t : Fin cfg0.N) (r : Fin 256) (l : Fin 1024) : X6 m c t (ix2 r l) = H6 m c (ix2 (row t r) l) :=
  congrArg (H6 m c) (Tile.rf (idx t).2.2.2.2.2.2.1 rfl rfl rfl)

theorem X7_eq (c : Dev nD) (t : Fin cfg0.N) (r : Fin 1) (l : Fin 1024) : X7 m c t (ix2 r l) = H7 m c (ix2 r l) :=
  congrArg (H7 m c) (Tile.ff (idx t).2.2.2.2.2.2.2.1 rfl rfl)

theorem X8_eq (c : Dev nD) (t : Fin cfg0.N) (r : Fin 256) (l : Fin 1024) : X8 m c t (ix2 r l) = H8 m c (ix2 (row t r) l) :=
  congrArg (H8 m c) (Tile.rf (idx t).2.2.2.2.2.2.2.2.1 rfl rfl rfl)

theorem emb9 (t : Fin cfg0.N) (r : Fin 256) (l : Fin 1024) : ((cfg0.win 9).blk t).view.emb (ix2 (n0 := 256) (n1 := 1024) r l)
    = ix2 (n0 := 4096) (n1 := 1024) (row t r) (col t l) :=
  Tile.rc (idx t).2.2.2.2.2.2.2.2.2.1 rfl rfl rfl rfl

theorem emb10 (t : Fin cfg0.N) (r : Fin 1) (l : Fin 1024) : ((cfg0.win 10).blk t).view.emb (ix2 (n0 := 1) (n1 := 1024) r l)
    = ix2 (n0 := 1) (n1 := 1024) r l := by
  have hi := (idx t).2.2.2.2.2.2.2.2.2.2
  refine Rows.idx_ext2 (a := 1) (b := 1024) ?_ ?_
  · show win0_10.index t 0 * 1 + 1 * r.val = r.val; rw [hi.1]; omega
  · show win0_10.index t 1 * 1024 + 1 * l.val = l.val; rw [hi.2]; omega

theorem hz : (![0, 0] : Fin 2 → ℕ) = 0 := by decide

/-- An entry of the cotangent of the norm's result: the rows of the cotangents times the rows of the weights. -/
def dh (x2 : Vec Ideal S1024x1024 .f32) (x3 : Vec Ideal S1024x640 .f32) (x4 : Vec Ideal S1024x2048 .f32) (x5 : Vec Ideal S4096x1024 .bf16) (x6 : Vec Ideal S4096x640 .bf16) (x7 : Vec Ideal S4096x2048 .bf16) (R : Fin 4096) (L : Fin 1024) : EReal :=
  (∑ k : Fin 1024, x5 (ix2 R k) * x2 (ix2 L k)) + (∑ k : Fin 640, x6 (ix2 R k) * x3 (ix2 L k)) + (∑ k : Fin 2048, x7 (ix2 R k) * x4 (ix2 L k))

theorem col_eq (t : Fin cfg0.N) (l : Fin 1024) : col t l = l := Fin.ext (by show 0 * 1024 + l.val = l.val; omega)

/-! What a point writes, from its blocks. -/

theorem pay4 (x0 : Vec Ideal S256x1024 .bf16) (x1 : Vec Ideal S1024x1024 .bf16) (x2 : Vec Ideal S256x640 .bf16) (x3 : Vec Ideal S640x1024 .bf16) (x4 : Vec Ideal S256x2048 .bf16) (x5 : Vec Ideal S2048x1024 .bf16) (r : Fin 256) (l : Fin 1024) :
    k0_pay4 x0 x1 x2 x3 x4 x5 (ix2 r l) = (∑ k : Fin 1024, x0 (ix2 r k) * x1 (ix2 k l)) + (∑ k : Fin 640, x2 (ix2 r k) * x3 (ix2 k l)) + (∑ k : Fin 2048, x4 (ix2 r k) * x5 (ix2 k l)) := by
  pointwise [k0_pay4]

theorem pay5 (x : Vec Ideal S256x1024 .f32) (r : Fin 256) : k0_pay5 x (ix2 r 0) = Math.rms (fun k => x (ix2 r k)) := by
  unfold Math.rms Math.msq
  pointwise [k0_pay5]

theorem pay6 (x : Vec Ideal S256x1024 .f32) (r : Fin 256) (l : Fin 1024) :
    k0_pay6 x (ix2 r l) = x (ix2 r l) * Math.rms (fun k => x (ix2 r k)) := by
  rw [← pay5]
  pointwise [k0_pay6]

theorem pay7 (x0 : Vec Ideal S256x1024 .bf16) (x1 : Vec Ideal S1024x1024 .bf16) (x2 : Vec Ideal S256x640 .bf16) (x3 : Vec Ideal S640x1024 .bf16) (x4 : Vec Ideal S256x2048 .bf16) (x5 : Vec Ideal S2048x1024 .bf16) (g : Vec Ideal S1x1024 .f32) (r : Fin 256) (l : Fin 1024) :
    k0_pay7 x0 x1 x2 x3 x4 x5 g (ix2 r l) = k0_pay4 x0 x1 x2 x3 x4 x5 (ix2 r l) * g (ix2 0 l) := by
  pointwise [k0_pay7]

theorem pay1 (q : FVec Ideal S256x1 .f32) (u v y : Vec Ideal S256x1024 .f32) (r : Fin 256) (l : Fin 1024) :
    k0_pay1 q u v y (ix2 r l) = y (ix2 r l) + q (ix2 r 0) * (v (ix2 r l) - u (ix2 r l)
      * Ideal.div (∑ k : Fin 1024, v (ix2 r k) * u (ix2 r k)) (Ideal.ofBits FTy.f32 1149239296#32)) := by
  pointwise [k0_pay1]

theorem pay2 (u v : FVec Ideal S256x1024 .f32) (z : Vec Ideal S1x1024 .f32) (l : Fin 1024) :
    k0_pay2 u v z (ix2 0 l) = z (ix2 0 l) + ∑ r : Fin 256, u (ix2 r l) * v (ix2 r l) := by
  pointwise [k0_pay2]

theorem payx (x0 : Vec Ideal S256x1024 .bf16) (x1 : Vec Ideal S1024x1024 .bf16) (x2 : Vec Ideal S256x640 .bf16) (x3 : Vec Ideal S640x1024 .bf16) (x4 : Vec Ideal S256x2048 .bf16) (x5 : Vec Ideal S2048x1024 .bf16) (x : Vec Ideal S256x1024 .f32) (g : Vec Ideal S1x1024 .f32) (y : Vec Ideal S256x1024 .f32) (r : Fin 256) (l : Fin 1024) :
    k0_pay1 (F := Ideal) (k0_pay5 x) (k0_pay6 x) (k0_pay7 x0 x1 x2 x3 x4 x5 g) y (ix2 r l)
      = Math.dxKernel (fun k => x (ix2 r k)) (fun k => k0_pay4 x0 x1 x2 x3 x4 x5 (ix2 r k) * g (ix2 0 k)) l (y (ix2 r l)) := by
  unfold Math.dxKernel
  simp only [pay1, pay7, pay6, pay5]

/-! The same over the arrays. -/

theorem dh_eq (c : Dev nD) (t : Fin cfg0.N) (r : Fin 256) (l : Fin 1024) : k0_pay4 (X0 m c t) (X1 m c t) (X2 m c t) (X3 m c t) (X4 m c t) (X5 m c t) (ix2 r l) = dh (A2 m c) (A3 m c) (A4 m c) (A5 m c) (A6 m c) (A7 m c) (row t r) l := by
  refine (pay4 _ _ _ _ _ _ _ _).trans ?_
  unfold dh
  exact (congrArg₂ (· + ·) (congrArg₂ (· + ·) (Finset.sum_congr rfl fun k _ => by rw [X0_eq, X1_eq, H0_eq, H1_eq]) (Finset.sum_congr rfl fun k _ => by rw [X2_eq, X3_eq, H2_eq, H3_eq])) (Finset.sum_congr rfl fun k _ => by rw [X4_eq, X5_eq, H4_eq, H5_eq]))

/-- The row of `x`, and the row of the cotangent with the gain. -/
def xs (x0 : Vec Ideal S4096x1024 .f32) (R : Fin 4096) (k : Fin 1024) : EReal := x0 (ix2 R k)
def ds (x1 : Vec Ideal S1024 .f32) (x2 : Vec Ideal S1024x1024 .f32) (x3 : Vec Ideal S1024x640 .f32) (x4 : Vec Ideal S1024x2048 .f32) (x5 : Vec Ideal S4096x1024 .bf16) (x6 : Vec Ideal S4096x640 .bf16) (x7 : Vec Ideal S4096x2048 .bf16) (R : Fin 4096) (k : Fin 1024) : EReal := dh x2 x3 x4 x5 x6 x7 R k * x1 (ix1 k)

theorem xs_eq (c : Dev nD) (t : Fin cfg0.N) (r : Fin 256) : (fun k => X6 m c t (ix2 r k)) = xs (A0 m c) (row t r) :=
  funext fun k => by rw [X6_eq, H6_eq]; rfl

theorem ds_eq (c : Dev nD) (t : Fin cfg0.N) (r : Fin 256) :
    (fun k => k0_pay4 (X0 m c t) (X1 m c t) (X2 m c t) (X3 m c t) (X4 m c t) (X5 m c t) (ix2 r k) * X7 m c t (ix2 0 k)) = ds (A1 m c) (A2 m c) (A3 m c) (A4 m c) (A5 m c) (A6 m c) (A7 m c) (row t r) :=
  funext fun k => by rw [dh_eq, X7_eq, H7_eq]; rfl

theorem pt9 (c : Dev nD) (t : Fin cfg0.N) (r : Fin 256) (l : Fin 1024) :
    k0_pay1 (F := Ideal) (k0_pay5 (X6 m c t)) (k0_pay6 (X6 m c t)) (k0_pay7 (X0 m c t) (X1 m c t) (X2 m c t) (X3 m c t) (X4 m c t) (X5 m c t) (X7 m c t)) (X8 m c t) (ix2 r l)
      = Math.dxKernel (xs (A0 m c) (row t r)) (ds (A1 m c) (A2 m c) (A3 m c) (A4 m c) (A5 m c) (A6 m c) (A7 m c) (row t r)) l (A8 m c (ix2 (row t r) l)) := by
  refine (payx _ _ _ _ _ _ _ _ _ _ _).trans ?_
  rw [xs_eq, ds_eq, X8_eq, H8_eq]

/-- A term of the gain's gradient. -/
def tg (x0 : Vec Ideal S4096x1024 .f32) (x2 : Vec Ideal S1024x1024 .f32) (x3 : Vec Ideal S1024x640 .f32) (x4 : Vec Ideal S1024x2048 .f32) (x5 : Vec Ideal S4096x1024 .bf16) (x6 : Vec Ideal S4096x640 .bf16) (x7 : Vec Ideal S4096x2048 .bf16) (R : Fin 4096) (l : Fin 1024) : EReal :=
  dh x2 x3 x4 x5 x6 x7 R l * (xs x0 R l * Math.rms (xs x0 R))

theorem pt10 (c : Dev nD) (t : Fin cfg0.N) (z : Vec Ideal S1x1024 .f32) (l : Fin 1024) :
    k0_pay2 (F := Ideal) (k0_pay4 (X0 m c t) (X1 m c t) (X2 m c t) (X3 m c t) (X4 m c t) (X5 m c t)) (k0_pay6 (X6 m c t)) z (ix2 0 l)
      = z (ix2 0 l) + ∑ r : Fin 256, tg (A0 m c) (A2 m c) (A3 m c) (A4 m c) (A5 m c) (A6 m c) (A7 m c) (row t r) l := by
  refine (pay2 _ _ _ _).trans ?_
  refine congrArg (z (ix2 0 l) + ·) (Finset.sum_congr rfl fun r _ => ?_)
  rw [dh_eq, pay6, xs_eq, X6_eq, H6_eq]
  rfl

/-- The first result's block. -/
theorem blk9 (c : Dev nD) (t : Fin cfg0.N) (r : Fin 256) (l : Fin 1024) : (outsAt0 m c t.val t.isLt).1 (ix2 r l)
    = Math.dxKernel (xs (A0 m c) (row t r)) (ds (A1 m c) (A2 m c) (A3 m c) (A4 m c) (A5 m c) (A6 m c) (A7 m c) (row t r)) (col t l) (A8 m c (ix2 (row t r) (col t l))) := by
  rw [col_eq]
  by_cases h0 : t.val % 16 = 0
  · rw [outsAt0_A m c t h0]
    dsimp only
    unfold out0_A_9
    rw [View.read_writes_junk_eq_canon]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S256x1024) hz, View.ld_unit_zero (S := S1x1024) hz, View.ld_unit_zero (S := S256x640) hz, View.ld_unit_zero (S := S256x2048) hz, View.ld_unit_zero (S := S1024x1024) hz, View.ld_unit_zero (S := S640x1024) hz, View.ld_unit_zero (S := S2048x1024) hz]
    rw [View.canon_unit_zero (S := S256x1024) hz]
    exact pt9 m c t r l
  · rw [outsAt0_B m c t h0]
    dsimp only
    unfold out0_B_9
    rw [View.read_writes_junk_eq_canon]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S256x1024) hz, View.ld_unit_zero (S := S1x1024) hz, View.ld_unit_zero (S := S256x640) hz, View.ld_unit_zero (S := S256x2048) hz, View.ld_unit_zero (S := S1024x1024) hz, View.ld_unit_zero (S := S640x1024) hz, View.ld_unit_zero (S := S2048x1024) hz]
    rw [View.canon_unit_zero (S := S256x1024) hz]
    exact pt9 m c t r l

/-- The gain's gradient after the first point: the point's own column sums. -/
theorem blk10_A (c : Dev nD) (t : Fin cfg0.N) (h0 : t.val % 16 = 0) (l : Fin 1024) :
    (outsAt0 m c t.val t.isLt).2 (ix2 0 l) = 0 + ∑ r : Fin 256, tg (A0 m c) (A2 m c) (A3 m c) (A4 m c) (A5 m c) (A6 m c) (A7 m c) (row t r) l := by
  rw [outsAt0_A m c t h0]
  dsimp only
  unfold out0_A_10
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S256x1024) hz, View.ld_unit_zero (S := S1x1024) hz, View.ld_unit_zero (S := S256x640) hz, View.ld_unit_zero (S := S256x2048) hz, View.ld_unit_zero (S := S1024x1024) hz, View.ld_unit_zero (S := S640x1024) hz, View.ld_unit_zero (S := S2048x1024) hz]
  refine (Rows.canon_row 0 _ _ _ (ix2 0 l) l rfl rfl).trans ?_
  refine (pt10 m c t _ l).trans (congrArg (· + _) ?_)
  refine (Rows.readCov_row _ _ 0 _ l (ix2 0 l) rfl rfl).trans ?_
  rw [View.canon_unit_zero (S := S1x1024) hz]
  pointwise [k0_pay3]

/-- … and after a later point: the point before's, plus the point's own column sums. -/
theorem blk10_B (c : Dev nD) (t : Fin cfg0.N) (h0 : ¬t.val % 16 = 0) (l : Fin 1024) :
    (outsAt0 m c t.val t.isLt).2 (ix2 0 l) = (outsAt0 m c (t.val - 1) (Nat.lt_of_le_of_lt (Nat.sub_le _ _) t.isLt)).2 (ix2 0 l)
      + ∑ r : Fin 256, tg (A0 m c) (A2 m c) (A3 m c) (A4 m c) (A5 m c) (A6 m c) (A7 m c) (row t r) l := by
  rw [outsAt0_B m c t h0]
  dsimp only
  unfold out0_B_10
  rw [View.read_writes_junk_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, View.ld_unit_zero (S := S256x1024) hz, View.ld_unit_zero (S := S1x1024) hz, View.ld_unit_zero (S := S256x640) hz, View.ld_unit_zero (S := S256x2048) hz, View.ld_unit_zero (S := S1024x1024) hz, View.ld_unit_zero (S := S640x1024) hz, View.ld_unit_zero (S := S2048x1024) hz]
  generalize (outsAt0 m c (t.val - 1) (Nat.lt_of_le_of_lt (Nat.sub_le _ _) t.isLt)).2 = xo
  rw [View.canon_unit_zero (S := S1x1024) hz]
  exact pt10 m c t xo l

theorem sums (c : Dev nD) (l : Fin 1024) : ∀ (n : ℕ) (h : n < cfg0.N),
    (outsAt0 m c n h).2 (ix2 0 l) = ∑ k : Fin (n + 1), ∑ r : Fin 256, tg (A0 m c) (A2 m c) (A3 m c) (A4 m c) (A5 m c) (A6 m c) (A7 m c) (row ⟨k.val, by omega⟩ r) l
  | 0, h => by
    have hb := blk10_A m c ⟨0, h⟩ rfl l
    rw [zero_add] at hb
    rw [Fin.sum_univ_one]
    exact hb
  | n + 1, h => by
    have hN : cfg0.N = 16 := N_0
    have hb := blk10_B m c ⟨n + 1, h⟩ (by dsimp only; omega) l
    have ih := sums c l n (by omega)
    rw [Fin.sum_univ_castSucc]
    exact hb.trans (congrArg (· + _) ih)

theorem flushed10_only (t t' : Fin cfg0.N) (h : (cfg0.win 10).flush t = true) (h' : (cfg0.win 10).flush t' = true) : t = t' := by
  have hN : cfg0.N = 16 := N_0
  have := (flush0_10 t).mp h
  have := (flush0_10 t').mp h'
  have := t.isLt
  have := t'.isLt
  exact Fin.ext (by omega)

theorem arr10 (c : Dev nD) (l : Fin 1024) : ((dats m 0 c).arrAt 10 cfg0.N : S1x1024.Idx → EReal) (ix2 0 l)
    = ∑ R : Fin 4096, tg (A0 m c) (A2 m c) (A3 m c) (A4 m c) (A5 m c) (A6 m c) (A7 m c) R l := by
  have hN : cfg0.N = 16 := N_0
  obtain ⟨t, ht⟩ : ∃ t : Fin cfg0.N, t.val = 15 := ⟨⟨15, by rw [hN]; omega⟩, rfl⟩
  have hf : (cfg0.win 10).flush t = true := (flush0_10 t).mpr (by rw [ht])
  have hb := (dats m 0 c).read_blk_arrAt_eq_flushed 10 (fun t t' h h' hne => absurd (flushed10_only t t' h h') hne) cfg0.N t t.isLt hf
  have h := congrFun hb (ix2 (n0 := 1) (n1 := 1024) 0 l)
  rw [View.read_apply, flushed10, emb10 t 0 l] at h
  rw [Fin.sum_univ_tiles 16 256 rfl]
  have h16 : t.val + 1 = 16 := by omega
  refine h.trans ((sums m c l t.val t.isLt).trans ?_)
  rw [← Equiv.sum_comp (finCongr h16)]
  rfl

theorem arr9 (c : Dev nD) (R : Fin 4096) (L : Fin 1024) : ((dats m 0 c).arrAt 9 cfg0.N : S4096x1024.Idx → EReal) (ix2 R L) = Math.dxKernel (xs (A0 m c) R) (ds (A1 m c) (A2 m c) (A3 m c) (A4 m c) (A5 m c) (A6 m c) (A7 m c) R) L (A8 m c (ix2 R L)) := by
  obtain ⟨t, r, l, rfl, rfl⟩ := surj R L
  have h := congrFun (blocks9 m c t (flush0_9 t)) (ix2 (n0 := 256) (n1 := 1024) r l)
  rw [View.read_apply, flushed9, emb9] at h
  rw [← blk9]
  exact h

/-! The reference's arrays. -/

theorem refr (x0 : Vec Ideal S4096x1024 .f32) (R : Fin 4096) : val_main_v10 (F := Ideal) x0 (ix2 R 0) = Math.rms (xs x0 R) := by
  unfold Math.rms Math.msq xs
  pointwise [val_main_v10, val_main_v9, val_main_v8, val_main_v7, val_main_v6, val_main_v5, val_main_v4, val_main_v3, val_main_cst, val_main_cst_0, val_main_cst_1]

theorem refq (x0 : Vec Ideal S4096x1024 .f32) (R : Fin 4096) : val_main_v9 (F := Ideal) x0 (ix2 R 0) = Math.msq (xs x0 R) := by
  unfold Math.msq xs
  pointwise [val_main_v9, val_main_v8, val_main_v7, val_main_v6, val_main_v5, val_main_v4, val_main_v3, val_main_cst, val_main_cst_0, val_main_cst_1]

theorem refdh (x2 : Vec Ideal S1024x1024 .f32) (x3 : Vec Ideal S1024x640 .f32) (x4 : Vec Ideal S1024x2048 .f32) (x5 : Vec Ideal S4096x1024 .bf16) (x6 : Vec Ideal S4096x640 .bf16) (x7 : Vec Ideal S4096x2048 .bf16) (R : Fin 4096) (L : Fin 1024) : val_main_v26 (F := Ideal) x2 x3 x4 x5 x6 x7 (ix2 R L) = dh x2 x3 x4 x5 x6 x7 R L := by
  have h : val_main_v26 (F := Ideal) x2 x3 x4 x5 x6 x7 (ix2 R L) = (∑ k : Fin 2048, x7 (ix2 R k) * x4 (ix2 L k)) + (∑ k : Fin 640, x6 (ix2 R k) * x3 (ix2 L k)) + (∑ k : Fin 1024, x5 (ix2 R k) * x2 (ix2 L k)) := by
    pointwise [val_main_v26, val_main_v25, val_main_v24, val_main_v23, val_main_v22, val_main_v2, val_main_v1, val_main_v0]
  rw [h]
  unfold dh
  exact (add_comm _ _).trans ((congrArg (_ + ·) (add_comm _ _)).trans (add_assoc _ _ _).symm)

theorem refn (x0 : Vec Ideal S4096x1024 .f32) (R : Fin 4096) (L : Fin 1024) :
    val_main_v15 (F := Ideal) x0 (ix2 R L) = xs x0 R L * Math.rms (xs x0 R) := by
  rw [← refr]
  unfold xs
  pointwise [val_main_v15, val_main_v14]

theorem refg (x0 : Vec Ideal S4096x1024 .f32) (x2 : Vec Ideal S1024x1024 .f32) (x3 : Vec Ideal S1024x640 .f32) (x4 : Vec Ideal S1024x2048 .f32) (x5 : Vec Ideal S4096x1024 .bf16) (x6 : Vec Ideal S4096x640 .bf16) (x7 : Vec Ideal S4096x2048 .bf16) (L : Fin 1024) :
    val_main_v48 (F := Ideal) x0 x2 x3 x4 x5 x6 x7 (ix2 0 L) = ∑ R : Fin 4096, tg x0 x2 x3 x4 x5 x6 x7 R L := by
  have h : val_main_v48 (F := Ideal) x0 x2 x3 x4 x5 x6 x7 (ix2 0 L)
      = ∑ R : Fin 4096, val_main_v15 (F := Ideal) x0 (ix2 R L) * val_main_v26 (F := Ideal) x2 x3 x4 x5 x6 x7 (ix2 R L) := by
    pointwise [val_main_v48, val_main_v32, val_main_v29, val_main_v28, val_main_v27, val_main_cst_3, val_main_cst_4]
    exact Fin.sum_univ_one _
  rw [h]
  refine Finset.sum_congr rfl fun R _ => ?_
  rw [refn, refdh]
  exact mul_comm (xs x0 R L * Math.rms (xs x0 R)) (dh x2 x3 x4 x5 x6 x7 R L)

theorem refd (x1 : Vec Ideal S1024 .f32) (x2 : Vec Ideal S1024x1024 .f32) (x3 : Vec Ideal S1024x640 .f32) (x4 : Vec Ideal S1024x2048 .f32) (x5 : Vec Ideal S4096x1024 .bf16) (x6 : Vec Ideal S4096x640 .bf16) (x7 : Vec Ideal S4096x2048 .bf16) (R : Fin 4096) (L : Fin 1024) :
    val_main_v31 (F := Ideal) x1 x2 x3 x4 x5 x6 x7 (ix2 R L) = ds x1 x2 x3 x4 x5 x6 x7 R L := by
  unfold ds
  rw [← refdh]
  pointwise [val_main_v31, val_main_v30, val_main_v16]

theorem refc (x0 : Vec Ideal S4096x1024 .f32) (x1 : Vec Ideal S1024 .f32) (x2 : Vec Ideal S1024x1024 .f32) (x3 : Vec Ideal S1024x640 .f32) (x4 : Vec Ideal S1024x2048 .f32) (x5 : Vec Ideal S4096x1024 .bf16) (x6 : Vec Ideal S4096x640 .bf16) (x7 : Vec Ideal S4096x2048 .bf16) (R : Fin 4096) :
    val_main_v42 (F := Ideal) x0 x1 x2 x3 x4 x5 x6 x7 (ix1 R) = Math.dmsq (xs x0 R) (ds x1 x2 x3 x4 x5 x6 x7 R) := by
  have h : val_main_v42 (F := Ideal) x0 x1 x2 x3 x4 x5 x6 x7 (ix1 R) = Ideal.div ((∑ k : Fin 1024, x0 (ix2 R k) * val_main_v31 (F := Ideal) x1 x2 x3 x4 x5 x6 x7 (ix2 R k))
      * (Ideal.ofBits FTy.f32 3204448256#32 * Ideal.div (val_main_v10 (F := Ideal) x0 (ix2 R 0)) (val_main_v9 (F := Ideal) x0 (ix2 R 0)))) (Ideal.ofBits FTy.f32 1149239296#32) := by
    pointwise [val_main_v42, val_main_v41, val_main_v40, val_main_v39, val_main_v35, val_main_v34, val_main_v33, val_main_v13, val_main_v12, val_main_v11, val_main_cst_2, val_main_cst_5, val_main_cst_6, val_main_cst_7]
    exact Fin.sum_univ_one _
  rw [h, refr, refq]
  simp only [refd]
  rfl

theorem refx (x0 : Vec Ideal S4096x1024 .f32) (x1 : Vec Ideal S1024 .f32) (x2 : Vec Ideal S1024x1024 .f32) (x3 : Vec Ideal S1024x640 .f32) (x4 : Vec Ideal S1024x2048 .f32) (x5 : Vec Ideal S4096x1024 .bf16) (x6 : Vec Ideal S4096x640 .bf16) (x7 : Vec Ideal S4096x2048 .bf16) (x8 : Vec Ideal S4096x1024 .f32) (R : Fin 4096) (L : Fin 1024) :
    val_main_v47 (F := Ideal) x0 x1 x2 x3 x4 x5 x6 x7 x8 (ix2 R L) = Math.dxVjp (xs x0 R) (ds x1 x2 x3 x4 x5 x6 x7 R) L (x8 (ix2 R L)) := by
  unfold Math.dxVjp
  rw [← refc, ← refd, ← refr]
  unfold xs
  pointwise [val_main_v47, val_main_v46, val_main_v45, val_main_v44, val_main_v43, val_main_v38, val_main_v37, val_main_v36]

theorem dh_isR (x2 : Vec Ideal S1024x1024 .f32) (x3 : Vec Ideal S1024x640 .f32) (x4 : Vec Ideal S1024x2048 .f32) (x5 : Vec Ideal S4096x1024 .bf16) (x6 : Vec Ideal S4096x640 .bf16) (x7 : Vec Ideal S4096x2048 .bf16) (f2 : ∀ i, Math.IsR (x2 i)) (f3 : ∀ i, Math.IsR (x3 i)) (f4 : ∀ i, Math.IsR (x4 i)) (f5 : ∀ i, Math.IsR (x5 i)) (f6 : ∀ i, Math.IsR (x6 i)) (f7 : ∀ i, Math.IsR (x7 i)) (R : Fin 4096) (L : Fin 1024) : Math.IsR (dh x2 x3 x4 x5 x6 x7 R L) := by
  unfold dh
  exact (Math.IsR.add (Math.IsR.add (Math.IsR.sum _ _ fun k => Math.IsR.mul (f5 _) (f2 _)) (Math.IsR.sum _ _ fun k => Math.IsR.mul (f6 _) (f3 _))) (Math.IsR.sum _ _ fun k => Math.IsR.mul (f7 _) (f4 _)))

theorem finite (x0 : Vec Ideal S4096x1024 .f32) (x1 : Vec Ideal S1024 .f32) (x2 : Vec Ideal S1024x1024 .f32) (x3 : Vec Ideal S1024x640 .f32) (x4 : Vec Ideal S1024x2048 .f32) (x5 : Vec Ideal S4096x1024 .bf16) (x6 : Vec Ideal S4096x640 .bf16) (x7 : Vec Ideal S4096x2048 .bf16) (x8 : Vec Ideal S4096x1024 .f32) (hp : Cert.Pre_proj_dh_rms_finite.fn (F := Ideal) x0 x1 x2 x3 x4 x5 x6 x7 x8 = fun _ => 1#1) :
    (∀ i, Math.IsR (x0 i)) ∧ (∀ i, Math.IsR (x1 i)) ∧ (∀ i, Math.IsR (x2 i)) ∧ (∀ i, Math.IsR (x3 i)) ∧ (∀ i, Math.IsR (x4 i)) ∧ (∀ i, Math.IsR (x5 i)) ∧ (∀ i, Math.IsR (x6 i)) ∧ (∀ i, Math.IsR (x7 i)) ∧ (∀ i, Math.IsR (x8 i)) := by
  have h := congrFun hp Math.j0
  obtain ⟨h, h8⟩ := Math.and_one h
  obtain ⟨h, h7⟩ := Math.and_one h
  obtain ⟨h, h6⟩ := Math.and_one h
  obtain ⟨h, h5⟩ := Math.and_one h
  obtain ⟨h, h4⟩ := Math.and_one h
  obtain ⟨h, h3⟩ := Math.and_one h
  obtain ⟨h, h2⟩ := Math.and_one h
  obtain ⟨h0, h1⟩ := Math.and_one h
  exact ⟨Math.all_isR x0 _ _ _ _ h0, Math.all_isR x1 _ _ _ _ h1, Math.all_isR x2 _ _ _ _ h2, Math.all_isR x3 _ _ _ _ h3, Math.all_isR x4 _ _ _ _ h4, Math.all_isR (extf .f32 x5 bitsLt_bf16_f32) _ _ _ _ h5, Math.all_isR (extf .f32 x6 bitsLt_bf16_f32) _ _ _ _ h6, Math.all_isR (extf .f32 x7 bitsLt_bf16_f32) _ _ _ _ h7, Math.all_isR x8 _ _ _ _ h8⟩

theorem eq10 (c : Dev nD) : ((dats m 0 c).arrAt 10 cfg0.N : S1x1024.Idx → EReal) = val_main_v48 (F := Ideal) (A0 m c) (A2 m c) (A3 m c) (A4 m c) (A5 m c) (A6 m c) (A7 m c) := by
  refine Rows.ext2 fun R L => ?_
  obtain rfl : R = 0 := Subsingleton.elim _ _
  exact (arr10 m c L).trans (refg _ _ _ _ _ _ _ L).symm

theorem eq9 (c : Dev nD) (hp : Cert.Pre_proj_dh_rms_finite.fn (F := Ideal) (A0 m c) (A1 m c) (A2 m c) (A3 m c) (A4 m c) (A5 m c) (A6 m c) (A7 m c) (A8 m c) = fun _ => 1#1) :
    ((dats m 0 c).arrAt 9 cfg0.N : S4096x1024.Idx → EReal) = val_main_v47 (F := Ideal) (A0 m c) (A1 m c) (A2 m c) (A3 m c) (A4 m c) (A5 m c) (A6 m c) (A7 m c) (A8 m c) := by
  obtain ⟨f0, f1, f2, f3, f4, f5, f6, f7, f8⟩ := finite _ _ _ _ _ _ _ _ _ hp
  refine Rows.ext2 fun R L => (arr9 m c R L).trans (Eq.trans ?_ (refx _ _ _ _ _ _ _ _ _ R L).symm)
  refine Math.dx_law _ _ _ _ (fun k => f0 _) (fun k => ?_) (f8 _)
  exact Math.IsR.mul (dh_isR _ _ _ _ _ _ f2 f3 f4 f5 f6 f7 R k) (f1 _)

end Cert.ProjDhRms

open Idealize.ShloMosaic Idealize.SL.Sem in
/-- The kernel computes the reference's two gradients, over the extended reals, for finite arguments. -/
theorem Cert.ProjDhRms.algebraic : Cert.algebraic_ProjDhRmsKernelIdeal_ProjDhRmsReferenceIdeal_pre_proj_dh_rms_finite := by
  intro m g m' g' hp hag
  refine ⟨_, _, Cert.ProjDhRmsKernelIdeal.Value.run_blocks m g, (θ_run _ _ _).mono (fun r h c => ?_) (Cert.ProjDhRmsReferenceIdeal.Value.run m' g')⟩
  obtain ⟨h0, h1, ha⟩ := h c
  obtain ⟨e0, e1, e2, e3, e4, e5, e6, e7, e8⟩ := hag c
  refine ⟨?_, ?_, ha⟩
  · rw [h0, Cert.ProjDhRmsReferenceIdeal.Read.val_main_v47_eq, e0, e1, e2, e3, e4, e5, e6, e7, e8]
    exact (Cert.ProjDhRms.eq9 m c (hp c)).symm
  · rw [h1, Cert.ProjDhRmsReferenceIdeal.Read.val_main_v48_eq, e0, e2, e3, e4, e5, e6, e7]
    exact (Cert.ProjDhRms.eq10 m c).symm

open Idealize.ShloMosaic Idealize.SL.Sem in
/-- The reference terminates, leaves its arguments as they were, and has no semaphore. -/
theorem Cert.ProjDhRms.frame_reference : Cert.quiescent_ProjDhRmsReferenceIdeal := fun m ρ _ =>
  (θ_run Cert.ProjDhRmsReferenceIdeal.defs _ _).mono (fun r h => ⟨fun c => (h c).2.2,
    sem_eq_zero_of_no_sems (by decide) r.2⟩) (Cert.ProjDhRmsReferenceIdeal.Value.run m ρ)

open Idealize.ShloMosaic Idealize.SL.Sem in
/-- The same under the precondition. -/
theorem Cert.ProjDhRms.frame_reference_pre : Cert.quiescent_ProjDhRmsReferenceIdeal_pre_proj_dh_rms_finite := fun m ρ _ =>
  (θ_run Cert.ProjDhRmsReferenceIdeal.defs _ _).mono (fun r h => ⟨fun c => (h c).2.2,
    sem_eq_zero_of_no_sems (by decide) r.2⟩) (Cert.ProjDhRmsReferenceIdeal.Value.run m ρ)

end
-- ==== Proof.ProjC.lean ====
module

public import proofs.«01_k».proof.Defs
public import proofs.«01_k».proof.Proof.Tile
public import proofs.«01_k».proof.Proof.Gen.ProjCKernelIdeal.Value
public import proofs.«01_k».proof.Proof.Gen.ProjCReferenceIdeal.Read
public import Idealize.ShloMosaic.Lib.Quiescent

@[expose] public section

set_option maxRecDepth 16384

noncomputable section

namespace Cert.ProjC

open Cert.ProjCKernelIdeal Cert.ProjCKernelIdeal.Gen Cert.ProjCKernelIdeal.Value
open Idealize.ShloMosaic Idealize.ShloMosaic.TcCoe Idealize.SL.Sem
open Cert.ProjCReferenceIdeal.Read Cert

variable (m : (ℓ : Loc nD τ sig) → Buf (Elt Ideal) ℓ)

/-- The argument arrays of a device. -/
abbrev A0 (c : Dev nD) : Vec Ideal S4096x1024 .bf16 := m ((c : Thread nD τ).loc main_arg0)
abbrev A1 (c : Dev nD) : Vec Ideal S1024x1024 .f32 := m ((c : Thread nD τ).loc main_arg1)

/-- What the host hands the kernel. -/
abbrev H0 (c : Dev nD) : Vec Ideal S4096x1024 .bf16 := V m c main_arg0
abbrev H1 (c : Dev nD) : Vec Ideal S1024x1024 .bf16 := V m c main_v1

theorem H0_eq (c : Dev nD) : H0 m c = A0 m c := V_main_arg0 m c
theorem H1_eq (c : Dev nD) (r : Fin 1024) (l : Fin 1024) : H1 m c (ix2 r l) = A1 m c (ix2 l r) := by
  have h : H1 m c = (truncf .bf16 (transpose S1024x1024 [1, 0] (A1 m c) transposes_S1024x1024_S1024x1024_1_0 : FVec Ideal S1024x1024 .f32) bitsLt_bf16_f32 : FVec Ideal S1024x1024 .bf16) := by
    unfold_abbrev_sides
    after_results
  rw [h]
  pointwise []

theorem idx : ∀ t : Fin cfg0.N, win0_0.index t = ![t.val, 0] ∧ win0_1.index t = ![0, 0] ∧ win0_2.index t = ![t.val, 0] := by
  show ∀ t : Fin grid0.N, _
  decide +kernel

theorem pay (x0 : Vec Ideal S512x1024 .bf16) (x1 : Vec Ideal S1024x1024 .bf16) (r : Fin 512) (l : Fin 1024) :
    k0_pay1 x0 x1 (ix2 r l) = ∑ k : Fin 1024, x0 (ix2 r k) * x1 (ix2 l k) := by
  pointwise [k0_pay1]

/-- The kernel's array, index by index. -/
theorem arr (c : Dev nD) (R : Fin 4096) (L : Fin 1024) :
    ((dats m 0 c).arrAt 2 cfg0.N : S4096x1024.Idx → EReal) (ix2 R L) = ∑ k : Fin 1024, A0 m c (ix2 R k) * A1 m c (ix2 k L) := by
  obtain ⟨t, r, rfl⟩ := Tile.surj N_0 R
  have h := congrFun (blocks2 m c t (flush0_2 t)) (ix2 (n0 := 512) (n1 := 1024) r L)
  rw [View.read_apply, flushed2, show ((cfg0.win 2).blk t).view.emb (ix2 (n0 := 512) (n1 := 1024) r L) = ix2 (n0 := 4096) (n1 := 1024) (Tile.row N_0 t r) L
    from Tile.at2 (idx t).2.2 rfl rfl] at h
  refine h.trans ((?_ : out0_2 (iblk m c 0 t) (iblk m c 1 t) (ix2 r L) = _))
  unfold out0_2
  have hz : (![0, 0] : Fin 2 → ℕ) = 0 := by decide
  rw [View.canon_unit_zero (S := S512x1024) hz, View.ld_unit_zero (S := S512x1024) hz, View.ld_unit_zero (S := S1024x1024) hz]
  refine (pay _ _ _ _).trans (Finset.sum_congr rfl fun k _ => ?_)
  exact congrArg₂ (fun x y : EReal => x * y)
    ((congrArg (H0 m c) (Tile.at2 (idx t).1 rfl rfl)).trans (congrFun (H0_eq m c) (ix2 (Tile.row N_0 t r) k)))
    ((congrArg (H1 m c) (Tile.all2 (idx t).2.1 rfl rfl)).trans (H1_eq m c L k))

theorem ref (x0 : Vec Ideal S4096x1024 .bf16) (x1 : Vec Ideal S1024x1024 .f32) (R : Fin 4096) (L : Fin 1024) :
    val_main_v1 (F := Ideal) x0 x1 (ix2 R L) = ∑ k : Fin 1024, x0 (ix2 R k) * x1 (ix2 k L) := by
  pointwise [val_main_v1, val_main_v0]

end Cert.ProjC

open Idealize.ShloMosaic Idealize.SL.Sem in
/-- The kernel computes the reference's array, over the extended reals. -/
theorem Cert.ProjC.algebraic : Cert.algebraic_ProjCKernelIdeal_ProjCReferenceIdeal := by
  intro m g m' g' _ hag
  refine ⟨_, Cert.ProjCKernelIdeal.Value.run_blocks m g, (θ_run _ _ _).mono (fun r h c => ?_) (Cert.ProjCReferenceIdeal.Value.run m' g')⟩
  refine ⟨?_, (h c).2⟩
  rw [(h c).1, Cert.ProjCReferenceIdeal.Read.val_main_v1_eq, (hag c).1, (hag c).2]
  exact (Cert.Rows.ext2 fun R L => (Cert.ProjC.arr m c R L).trans (Cert.ProjC.ref _ _ R L).symm).symm

open Idealize.ShloMosaic Idealize.SL.Sem in
/-- The reference terminates, leaves its arguments as they were, and has no semaphore. -/
theorem Cert.ProjC.frame_reference : Cert.quiescent_ProjCReferenceIdeal := fun m ρ _ =>
  (θ_run Cert.ProjCReferenceIdeal.defs _ _).mono (fun r h => ⟨fun c => (h c).2,
    sem_eq_zero_of_no_sems (by decide) r.2⟩) (Cert.ProjCReferenceIdeal.Value.run m ρ)

end
-- ==== Proof.ProjDwc.lean ====
module

public import proofs.«01_k».proof.Defs
public import proofs.«01_k».proof.Proof.Tile
public import proofs.«01_k».proof.Proof.Sums
public import proofs.«01_k».proof.Proof.Gen.ProjDwcKernelIdeal.Value
public import proofs.«01_k».proof.Proof.Gen.ProjDwcReferenceIdeal.Read
public import Idealize.ShloMosaic.Lib.Quiescent

@[expose] public section

set_option maxRecDepth 16384

noncomputable section

namespace Cert.ProjDwc

open Cert.ProjDwcKernelIdeal Cert.ProjDwcKernelIdeal.Gen Cert.ProjDwcKernelIdeal.Value
open Idealize.ShloMosaic Idealize.ShloMosaic.TcCoe Idealize.SL.Sem
open Cert.ProjDwcReferenceIdeal.Read Cert

variable (m : (ℓ : Loc nD τ sig) → Buf (Elt Ideal) ℓ)

/-- The argument arrays of a device. -/
abbrev A0 (c : Dev nD) : Vec Ideal S4096x1024 .bf16 := m ((c : Thread nD τ).loc main_arg0)
abbrev A1 (c : Dev nD) : Vec Ideal S4096x1024 .bf16 := m ((c : Thread nD τ).loc main_arg1)

/-- The input windows' blocks at a point. -/
abbrev X0 (c : Dev nD) (t : Fin cfg0.N) : Vec Ideal S1024x1024 .bf16 := iblk m c 0 t
abbrev X1 (c : Dev nD) (t : Fin cfg0.N) : Vec Ideal S1024x1024 .bf16 := iblk m c 1 t

theorem hz : (![0, 0] : Fin 2 → ℕ) = 0 := by decide

section
variable (x0 : Vec Ideal S1024x1024 .bf16) (x1 : Vec Ideal S1024x1024 .bf16) (a : Vec Ideal S1024x1024 .f32) (r : Fin 1024) (l : Fin 1024)

/-- One block's product. -/
def prod : EReal := ∑ q : Fin 1024, x0 (ix2 q r) * x1 (ix2 q l)

theorem pay2 : k0_pay2 x0 x1 (ix2 r l) = prod x0 x1 r l := by
  unfold prod
  pointwise [k0_pay2, k0_pay1]

theorem pay3 : k0_pay3 x0 x1 a (ix2 r l) = a (ix2 r l) + prod x0 x1 r l := by
  unfold prod
  pointwise [k0_pay3, k0_pay1]

theorem pay4 : k0_pay4 a (ix2 r l) = a (ix2 r l) := by
  pointwise [k0_pay4]

end

section
variable (c : Dev nD) (t : Fin cfg0.N) (r : Fin 1024) (l : Fin 1024)

/-- The first block of a run stores its product. -/
theorem first (h : t.val % 4 = 0) : (outsAt0 m c t.val t.isLt).2 (ix2 r l)
    = prod (X0 m c t) (X1 m c t) r l := by
  have hN : cfg0.N = 4 := N_0
  have ht := t.isLt
  rw [outsAt0_A m c t (by omega) (by omega) (by omega)]
  dsimp only
  unfold sout0_A_0
  rw [View.read_writes_junk_eq_canon]
  unfold kernelRun0_A
  dsimp only
  sl_unfold_words
  simp only [View.readAt_eq_ld, (hs0_0 t).read_unread, (hs0_1 t).read_unread, View.ld_unit_zero (S := S1024x1024) hz]
  rw [View.canon_unit_zero (S := S1024x1024) hz]
  exact pay2 _ _ r l

/-- The middle blocks add theirs. -/
theorem next (h : ¬t.val % 4 = 0) (h2 : ¬t.val % 4 = 3) : (outsAt0 m c t.val t.isLt).2 (ix2 r l)
    = (outsAt0 m c (t.val - 1) (Nat.lt_of_le_of_lt (Nat.sub_le _ _) t.isLt)).2 (ix2 r l) + prod (X0 m c t) (X1 m c t) r l := by
  have hN : cfg0.N = 4 := N_0
  have ht := t.isLt
  rw [outsAt0_B m c t (by omega) (by omega) (by omega)]
  dsimp only
  unfold sout0_B_0
  rw [View.read_writes_junk_eq_canon]
  unfold kernelRun0_B
  dsimp only
  sl_unfold_words
  simp only [View.readAt_eq_ld, (hs0_0 t).read_unread, (hs0_1 t).read_unread, (Memref.isWhole_whole cc0_scratch0).read_unread, View.ld_unit_zero (S := S1024x1024) hz]
  rw [View.canon_unit_zero (S := S1024x1024) hz]
  exact pay3 _ _ _ r l

/-- The last block adds its own and the result is stored. -/
theorem last (h : t.val % 4 = 3) : (outsAt0 m c t.val t.isLt).1 (ix2 r l)
    = (outsAt0 m c (t.val - 1) (Nat.lt_of_le_of_lt (Nat.sub_le _ _) t.isLt)).2 (ix2 r l) + prod (X0 m c t) (X1 m c t) r l := by
  have hN : cfg0.N = 4 := N_0
  have ht := t.isLt
  rw [outsAt0_C m c t (by omega) (by omega) (by omega)]
  dsimp only
  unfold out0_C_2
  rw [View.read_writes_junk_eq_canon]
  unfold kernelRun0_C
  dsimp only
  sl_unfold_words
  simp only [View.readAt_eq_ld, (hs0_0 t).read_unread, (hs0_1 t).read_unread, (Memref.isWhole_whole cc0_scratch0).read_unread, View.ld_unit_zero (S := S1024x1024) hz]
  rw [View.canon_unit_zero (S := S1024x1024) hz, View.readCov_unit_zero (S := S1024x1024) _ hz]
  exact (pay4 _ r l).trans (pay3 _ _ _ r l)

end

theorem idx : ∀ t : Fin cfg0.N, win0_0.index t = ![t.val % 4, t.val / 4] ∧ win0_1.index t = ![t.val % 4, 0] := by
  show ∀ t : Fin grid0.N, _
  decide +kernel

/-- The block of rows `R` lies in, and its four points. -/
def pt (R : Fin 1024) (j : Fin 4) : Fin cfg0.N :=
  ⟨4 * (R.val / 1024) + j.val, by have hN : cfg0.N = 4 := N_0; have := R.isLt; have := j.isLt; omega⟩
theorem pt_mod (R : Fin 1024) (j : Fin 4) : (pt R j).val % 4 = j.val := by show (4 * (R.val / 1024) + j.val) % 4 = _; omega

/-- What the last point of a row's block stores: the whole sum. -/
theorem res (c : Dev nD) (R : Fin 1024) (l : Fin 1024) (n : ℕ) (hn : n < cfg0.N) (h : n = (pt R 3).val) :
    (outsAt0 m c n hn).1 (ix2 ⟨R.val % 1024, by omega⟩ l) = ∑ k : Fin 4096, A0 m c (ix2 k R) * A1 m c (ix2 k l) := by
  subst h
  refine (last m c (pt R 3) _ l (pt_mod R 3)).trans ?_
  refine Math.four (fun k => A0 m c (ix2 k R) * A1 m c (ix2 k l)) (p := fun j => prod (X0 m c (pt R j)) (X1 m c (pt R j)) ⟨R.val % 1024, by omega⟩ l)
    (fun j => Finset.sum_congr rfl fun q _ => ?_) (first m c (pt R 0) _ l (pt_mod R 0)) (next m c (pt R 1) _ l (by rw [pt_mod]; decide) (by rw [pt_mod]; decide))
    (next m c (pt R 2) _ l (by rw [pt_mod]; decide) (by rw [pt_mod]; decide))
  have hq : j.val * 1024 + q.val = (pt R j).val % 4 * 1024 + q.val := by rw [pt_mod]
  have hr : R.val = (pt R j).val / 4 * 1024 + R.val % 1024 := by show R.val = (4 * (R.val / 1024) + j.val) / 4 * 1024 + R.val % 1024; omega
  exact congrArg₂ (fun x y : EReal => x * y)
    ((congrArg (V m c main_arg0) (Tile.gen (R := ⟨j.val * 1024 + q.val, by omega⟩) (idx (pt R j)).1 rfl rfl hq hr)).trans (congrFun (V_main_arg0 m c) _))
    ((congrArg (V m c main_arg1) (Tile.gen (R := ⟨j.val * 1024 + q.val, by omega⟩) (L := l) (idx (pt R j)).2 rfl rfl hq (show l.val = 0 * 1024 + l.val by omega))).trans (congrFun (V_main_arg1 m c) _))

/-- The kernel's array, index by index. -/
theorem arr (c : Dev nD) (R : Fin 1024) (l : Fin 1024) :
    ((dats m 0 c).arrAt 2 cfg0.N : S1024x1024.Idx → EReal) (ix2 R l) = ∑ k : Fin 4096, A0 m c (ix2 k R) * A1 m c (ix2 k l) := by
  have hp : pt2Of (ix2 R l) = (pt R 3).val := by
    show 4 * (1 * (R.val / 1024 - 0) + 1 * (l.val / 1024 - 0)) + 3 = 4 * (R.val / 1024) + 3
    have := l.isLt
    omega
  have hlt : pt2Of (ix2 (n0 := 1024) (n1 := 1024) R l) < cfg0.N := hp ▸ (pt R 3).isLt
  rw [final2]
  unfold G2
  refine (dif_pos hlt).trans ?_
  rw [← outsAt0_sweep, show loc2Of (ix2 R l) = ix2 ⟨R.val % 1024, by omega⟩ l from Rows.idx_ext2 rfl (by show l.val % 1024 = l.val; omega)]
  exact res m c R l _ hlt hp

theorem ref (x0 : Vec Ideal S4096x1024 .bf16) (x1 : Vec Ideal S4096x1024 .bf16) (R : Fin 1024) (l : Fin 1024) :
    val_main_v7 (F := Ideal) x0 x1 (ix2 R l) = ∑ k : Fin 4096, x0 (ix2 k R) * x1 (ix2 k l) := by
  pointwise [val_main_v7, val_main_v6, val_main_v5, val_main_v4, val_main_v3, val_main_v1]

end Cert.ProjDwc

open Idealize.ShloMosaic Idealize.SL.Sem in
/-- The kernel computes the reference's array, over the extended reals. -/
theorem Cert.ProjDwc.algebraic : Cert.algebraic_ProjDwcKernelIdeal_ProjDwcReferenceIdeal := by
  intro m g m' g' _ hag
  refine ⟨_, Cert.ProjDwcKernelIdeal.Value.run_blocks m g, (θ_run _ _ _).mono (fun r h c => ?_) (Cert.ProjDwcReferenceIdeal.Value.run m' g')⟩
  refine ⟨?_, (h c).2⟩
  rw [(h c).1, Cert.ProjDwcReferenceIdeal.Read.val_main_v7_eq, (hag c).1, (hag c).2]
  exact (Cert.Rows.ext2 fun R l => (Cert.ProjDwc.arr m c R l).trans (Cert.ProjDwc.ref _ _ R l).symm).symm

open Idealize.ShloMosaic Idealize.SL.Sem in
/-- The reference terminates, leaves its arguments as they were, and has no semaphore. -/
theorem Cert.ProjDwc.frame_reference : Cert.quiescent_ProjDwcReferenceIdeal := fun m ρ _ =>
  (θ_run Cert.ProjDwcReferenceIdeal.defs _ _).mono (fun r h => ⟨fun c => (h c).2,
    sem_eq_zero_of_no_sems (by decide) r.2⟩) (Cert.ProjDwcReferenceIdeal.Value.run m ρ)

end
-- ==== Proof.ProjL.lean ====
module

public import proofs.«01_k».proof.Defs
public import proofs.«01_k».proof.Proof.Tile
public import proofs.«01_k».proof.Proof.Gen.ProjLKernelIdeal.Value
public import proofs.«01_k».proof.Proof.Gen.ProjLReferenceIdeal.Read
public import Idealize.ShloMosaic.Lib.Quiescent

@[expose] public section

set_option maxRecDepth 16384

noncomputable section

namespace Cert.ProjL

open Cert.ProjLKernelIdeal Cert.ProjLKernelIdeal.Gen Cert.ProjLKernelIdeal.Value
open Idealize.ShloMosaic Idealize.ShloMosaic.TcCoe Idealize.SL.Sem
open Cert.ProjLReferenceIdeal.Read Cert

variable (m : (ℓ : Loc nD τ sig) → Buf (Elt Ideal) ℓ)

/-- The argument arrays of a device. -/
abbrev A0 (c : Dev nD) : Vec Ideal S4096x1024 .bf16 := m ((c : Thread nD τ).loc main_arg0)
abbrev A1 (c : Dev nD) : Vec Ideal S1024x640 .f32 := m ((c : Thread nD τ).loc main_arg1)

/-- What the host hands the kernel. -/
abbrev H0 (c : Dev nD) : Vec Ideal S4096x1024 .bf16 := V m c main_arg0
abbrev H1 (c : Dev nD) : Vec Ideal S640x1024 .bf16 := V m c main_v1

theorem H0_eq (c : Dev nD) : H0 m c = A0 m c := V_main_arg0 m c
theorem H1_eq (c : Dev nD) (r : Fin 640) (l : Fin 1024) : H1 m c (ix2 r l) = A1 m c (ix2 l r) := by
  have h : H1 m c = (truncf .bf16 (transpose S640x1024 [1, 0] (A1 m c) transposes_S1024x640_S640x1024_1_0 : FVec Ideal S640x1024 .f32) bitsLt_bf16_f32 : FVec Ideal S640x1024 .bf16) := by
    unfold_abbrev_sides
    after_results
  rw [h]
  pointwise []

theorem idx : ∀ t : Fin cfg0.N, win0_0.index t = ![t.val, 0] ∧ win0_1.index t = ![0, 0] ∧ win0_2.index t = ![t.val, 0] := by
  show ∀ t : Fin grid0.N, _
  decide +kernel

theorem pay (x0 : Vec Ideal S512x1024 .bf16) (x1 : Vec Ideal S640x1024 .bf16) (r : Fin 512) (l : Fin 640) :
    k0_pay1 x0 x1 (ix2 r l) = ∑ k : Fin 1024, x0 (ix2 r k) * x1 (ix2 l k) := by
  pointwise [k0_pay1]

/-- The kernel's array, index by index. -/
theorem arr (c : Dev nD) (R : Fin 4096) (L : Fin 640) :
    ((dats m 0 c).arrAt 2 cfg0.N : S4096x640.Idx → EReal) (ix2 R L) = ∑ k : Fin 1024, A0 m c (ix2 R k) * A1 m c (ix2 k L) := by
  obtain ⟨t, r, rfl⟩ := Tile.surj N_0 R
  have h := congrFun (blocks2 m c t (flush0_2 t)) (ix2 (n0 := 512) (n1 := 640) r L)
  rw [View.read_apply, flushed2, show ((cfg0.win 2).blk t).view.emb (ix2 (n0 := 512) (n1 := 640) r L) = ix2 (n0 := 4096) (n1 := 640) (Tile.row N_0 t r) L
    from Tile.at2 (idx t).2.2 rfl rfl] at h
  refine h.trans ((?_ : out0_2 (iblk m c 0 t) (iblk m c 1 t) (ix2 r L) = _))
  unfold out0_2
  have hz : (![0, 0] : Fin 2 → ℕ) = 0 := by decide
  rw [View.canon_unit_zero (S := S512x640) hz, View.ld_unit_zero (S := S512x1024) hz, View.ld_unit_zero (S := S640x1024) hz]
  refine (pay _ _ _ _).trans (Finset.sum_congr rfl fun k _ => ?_)
  exact congrArg₂ (fun x y : EReal => x * y)
    ((congrArg (H0 m c) (Tile.at2 (idx t).1 rfl rfl)).trans (congrFun (H0_eq m c) (ix2 (Tile.row N_0 t r) k)))
    ((congrArg (H1 m c) (Tile.all2 (idx t).2.1 rfl rfl)).trans (H1_eq m c L k))

theorem ref (x0 : Vec Ideal S4096x1024 .bf16) (x1 : Vec Ideal S1024x640 .f32) (R : Fin 4096) (L : Fin 640) :
    val_main_v1 (F := Ideal) x0 x1 (ix2 R L) = ∑ k : Fin 1024, x0 (ix2 R k) * x1 (ix2 k L) := by
  pointwise [val_main_v1, val_main_v0]

end Cert.ProjL

open Idealize.ShloMosaic Idealize.SL.Sem in
/-- The kernel computes the reference's array, over the extended reals. -/
theorem Cert.ProjL.algebraic : Cert.algebraic_ProjLKernelIdeal_ProjLReferenceIdeal := by
  intro m g m' g' _ hag
  refine ⟨_, Cert.ProjLKernelIdeal.Value.run_blocks m g, (θ_run _ _ _).mono (fun r h c => ?_) (Cert.ProjLReferenceIdeal.Value.run m' g')⟩
  refine ⟨?_, (h c).2⟩
  rw [(h c).1, Cert.ProjLReferenceIdeal.Read.val_main_v1_eq, (hag c).1, (hag c).2]
  exact (Cert.Rows.ext2 fun R L => (Cert.ProjL.arr m c R L).trans (Cert.ProjL.ref _ _ R L).symm).symm

open Idealize.ShloMosaic Idealize.SL.Sem in
/-- The reference terminates, leaves its arguments as they were, and has no semaphore. -/
theorem Cert.ProjL.frame_reference : Cert.quiescent_ProjLReferenceIdeal := fun m ρ _ =>
  (θ_run Cert.ProjLReferenceIdeal.defs _ _).mono (fun r h => ⟨fun c => (h c).2,
    sem_eq_zero_of_no_sems (by decide) r.2⟩) (Cert.ProjLReferenceIdeal.Value.run m ρ)

end
-- ==== Proof.ProjDwl.lean ====
module

public import proofs.«01_k».proof.Defs
public import proofs.«01_k».proof.Proof.Tile
public import proofs.«01_k».proof.Proof.Sums
public import proofs.«01_k».proof.Proof.Gen.ProjDwlKernelIdeal.Value
public import proofs.«01_k».proof.Proof.Gen.ProjDwlReferenceIdeal.Read
public import Idealize.ShloMosaic.Lib.Quiescent

@[expose] public section

set_option maxRecDepth 16384

noncomputable section

namespace Cert.ProjDwl

open Cert.ProjDwlKernelIdeal Cert.ProjDwlKernelIdeal.Gen Cert.ProjDwlKernelIdeal.Value
open Idealize.ShloMosaic Idealize.ShloMosaic.TcCoe Idealize.SL.Sem
open Cert.ProjDwlReferenceIdeal.Read Cert

variable (m : (ℓ : Loc nD τ sig) → Buf (Elt Ideal) ℓ)

/-- The argument arrays of a device. -/
abbrev A0 (c : Dev nD) : Vec Ideal S4096x640 .bf16 := m ((c : Thread nD τ).loc main_arg0)
abbrev A1 (c : Dev nD) : Vec Ideal S4096x1024 .bf16 := m ((c : Thread nD τ).loc main_arg1)

/-- The input windows' blocks at a point. -/
abbrev X0 (c : Dev nD) (t : Fin cfg0.N) : Vec Ideal S1024x640 .bf16 := iblk m c 0 t
abbrev X1 (c : Dev nD) (t : Fin cfg0.N) : Vec Ideal S1024x1024 .bf16 := iblk m c 1 t

theorem hz : (![0, 0] : Fin 2 → ℕ) = 0 := by decide

section
variable (x0 : Vec Ideal S1024x640 .bf16) (x1 : Vec Ideal S1024x1024 .bf16) (a : Vec Ideal S640x1024 .f32) (r : Fin 640) (l : Fin 1024)

/-- One block's product. -/
def prod : EReal := ∑ q : Fin 1024, x0 (ix2 q r) * x1 (ix2 q l)

theorem pay2 : k0_pay2 x0 x1 (ix2 r l) = prod x0 x1 r l := by
  unfold prod
  pointwise [k0_pay2, k0_pay1]

theorem pay3 : k0_pay3 x0 x1 a (ix2 r l) = a (ix2 r l) + prod x0 x1 r l := by
  unfold prod
  pointwise [k0_pay3, k0_pay1]

theorem pay4 : k0_pay4 a (ix2 r l) = a (ix2 r l) := by
  pointwise [k0_pay4]

end

section
variable (c : Dev nD) (t : Fin cfg0.N) (r : Fin 640) (l : Fin 1024)

/-- The first block of a run stores its product. -/
theorem first (h : t.val % 4 = 0) : (outsAt0 m c t.val t.isLt).2 (ix2 r l)
    = prod (X0 m c t) (X1 m c t) r l := by
  have hN : cfg0.N = 4 := N_0
  have ht := t.isLt
  rw [outsAt0_A m c t (by omega) (by omega) (by omega)]
  dsimp only
  unfold sout0_A_0
  rw [View.read_writes_junk_eq_canon]
  unfold kernelRun0_A
  dsimp only
  sl_unfold_words
  simp only [View.readAt_eq_ld, (hs0_0 t).read_unread, (hs0_1 t).read_unread, View.ld_unit_zero (S := S1024x640) hz, View.ld_unit_zero (S := S1024x1024) hz]
  rw [View.canon_unit_zero (S := S640x1024) hz]
  exact pay2 _ _ r l

/-- The middle blocks add theirs. -/
theorem next (h : ¬t.val % 4 = 0) (h2 : ¬t.val % 4 = 3) : (outsAt0 m c t.val t.isLt).2 (ix2 r l)
    = (outsAt0 m c (t.val - 1) (Nat.lt_of_le_of_lt (Nat.sub_le _ _) t.isLt)).2 (ix2 r l) + prod (X0 m c t) (X1 m c t) r l := by
  have hN : cfg0.N = 4 := N_0
  have ht := t.isLt
  rw [outsAt0_B m c t (by omega) (by omega) (by omega)]
  dsimp only
  unfold sout0_B_0
  rw [View.read_writes_junk_eq_canon]
  unfold kernelRun0_B
  dsimp only
  sl_unfold_words
  simp only [View.readAt_eq_ld, (hs0_0 t).read_unread, (hs0_1 t).read_unread, (Memref.isWhole_whole cc0_scratch0).read_unread, View.ld_unit_zero (S := S1024x640) hz, View.ld_unit_zero (S := S1024x1024) hz, View.ld_unit_zero (S := S640x1024) hz]
  rw [View.canon_unit_zero (S := S640x1024) hz]
  exact pay3 _ _ _ r l

/-- The last block adds its own and the result is stored. -/
theorem last (h : t.val % 4 = 3) : (outsAt0 m c t.val t.isLt).1 (ix2 r l)
    = (outsAt0 m c (t.val - 1) (Nat.lt_of_le_of_lt (Nat.sub_le _ _) t.isLt)).2 (ix2 r l) + prod (X0 m c t) (X1 m c t) r l := by
  have hN : cfg0.N = 4 := N_0
  have ht := t.isLt
  rw [outsAt0_C m c t (by omega) (by omega) (by omega)]
  dsimp only
  unfold out0_C_2
  rw [View.read_writes_junk_eq_canon]
  unfold kernelRun0_C
  dsimp only
  sl_unfold_words
  simp only [View.readAt_eq_ld, (hs0_0 t).read_unread, (hs0_1 t).read_unread, (Memref.isWhole_whole cc0_scratch0).read_unread, View.ld_unit_zero (S := S1024x640) hz, View.ld_unit_zero (S := S1024x1024) hz, View.ld_unit_zero (S := S640x1024) hz]
  rw [View.canon_unit_zero (S := S640x1024) hz, View.readCov_unit_zero (S := S640x1024) _ hz]
  exact (pay4 _ r l).trans (pay3 _ _ _ r l)

end

theorem idx : ∀ t : Fin cfg0.N, win0_0.index t = ![t.val % 4, t.val / 4] ∧ win0_1.index t = ![t.val % 4, 0] := by
  show ∀ t : Fin grid0.N, _
  decide +kernel

/-- The block of rows `R` lies in, and its four points. -/
def pt (R : Fin 640) (j : Fin 4) : Fin cfg0.N :=
  ⟨4 * (R.val / 640) + j.val, by have hN : cfg0.N = 4 := N_0; have := R.isLt; have := j.isLt; omega⟩
theorem pt_mod (R : Fin 640) (j : Fin 4) : (pt R j).val % 4 = j.val := by show (4 * (R.val / 640) + j.val) % 4 = _; omega

/-- What the last point of a row's block stores: the whole sum. -/
theorem res (c : Dev nD) (R : Fin 640) (l : Fin 1024) (n : ℕ) (hn : n < cfg0.N) (h : n = (pt R 3).val) :
    (outsAt0 m c n hn).1 (ix2 ⟨R.val % 640, by omega⟩ l) = ∑ k : Fin 4096, A0 m c (ix2 k R) * A1 m c (ix2 k l) := by
  subst h
  refine (last m c (pt R 3) _ l (pt_mod R 3)).trans ?_
  refine Math.four (fun k => A0 m c (ix2 k R) * A1 m c (ix2 k l)) (p := fun j => prod (X0 m c (pt R j)) (X1 m c (pt R j)) ⟨R.val % 640, by omega⟩ l)
    (fun j => Finset.sum_congr rfl fun q _ => ?_) (first m c (pt R 0) _ l (pt_mod R 0)) (next m c (pt R 1) _ l (by rw [pt_mod]; decide) (by rw [pt_mod]; decide))
    (next m c (pt R 2) _ l (by rw [pt_mod]; decide) (by rw [pt_mod]; decide))
  have hq : j.val * 1024 + q.val = (pt R j).val % 4 * 1024 + q.val := by rw [pt_mod]
  have hr : R.val = (pt R j).val / 4 * 640 + R.val % 640 := by show R.val = (4 * (R.val / 640) + j.val) / 4 * 640 + R.val % 640; omega
  exact congrArg₂ (fun x y : EReal => x * y)
    ((congrArg (V m c main_arg0) (Tile.gen (R := ⟨j.val * 1024 + q.val, by omega⟩) (idx (pt R j)).1 rfl rfl hq hr)).trans (congrFun (V_main_arg0 m c) _))
    ((congrArg (V m c main_arg1) (Tile.gen (R := ⟨j.val * 1024 + q.val, by omega⟩) (L := l) (idx (pt R j)).2 rfl rfl hq (show l.val = 0 * 1024 + l.val by omega))).trans (congrFun (V_main_arg1 m c) _))

/-- The kernel's array, index by index. -/
theorem arr (c : Dev nD) (R : Fin 640) (l : Fin 1024) :
    ((dats m 0 c).arrAt 2 cfg0.N : S640x1024.Idx → EReal) (ix2 R l) = ∑ k : Fin 4096, A0 m c (ix2 k R) * A1 m c (ix2 k l) := by
  have hp : pt2Of (ix2 R l) = (pt R 3).val := by
    show 4 * (1 * (R.val / 640 - 0) + 1 * (l.val / 1024 - 0)) + 3 = 4 * (R.val / 640) + 3
    have := l.isLt
    omega
  have hlt : pt2Of (ix2 (n0 := 640) (n1 := 1024) R l) < cfg0.N := hp ▸ (pt R 3).isLt
  rw [final2]
  unfold G2
  refine (dif_pos hlt).trans ?_
  rw [← outsAt0_sweep, show loc2Of (ix2 R l) = ix2 ⟨R.val % 640, by omega⟩ l from Rows.idx_ext2 rfl (by show l.val % 1024 = l.val; omega)]
  exact res m c R l _ hlt hp

theorem ref (x0 : Vec Ideal S4096x640 .bf16) (x1 : Vec Ideal S4096x1024 .bf16) (R : Fin 640) (l : Fin 1024) :
    val_main_v7 (F := Ideal) x0 x1 (ix2 R l) = ∑ k : Fin 4096, x0 (ix2 k R) * x1 (ix2 k l) := by
  pointwise [val_main_v7, val_main_v6, val_main_v5, val_main_v4, val_main_v3, val_main_v1]

end Cert.ProjDwl

open Idealize.ShloMosaic Idealize.SL.Sem in
/-- The kernel computes the reference's array, over the extended reals. -/
theorem Cert.ProjDwl.algebraic : Cert.algebraic_ProjDwlKernelIdeal_ProjDwlReferenceIdeal := by
  intro m g m' g' _ hag
  refine ⟨_, Cert.ProjDwlKernelIdeal.Value.run_blocks m g, (θ_run _ _ _).mono (fun r h c => ?_) (Cert.ProjDwlReferenceIdeal.Value.run m' g')⟩
  refine ⟨?_, (h c).2⟩
  rw [(h c).1, Cert.ProjDwlReferenceIdeal.Read.val_main_v7_eq, (hag c).1, (hag c).2]
  exact (Cert.Rows.ext2 fun R l => (Cert.ProjDwl.arr m c R l).trans (Cert.ProjDwl.ref _ _ R l).symm).symm

open Idealize.ShloMosaic Idealize.SL.Sem in
/-- The reference terminates, leaves its arguments as they were, and has no semaphore. -/
theorem Cert.ProjDwl.frame_reference : Cert.quiescent_ProjDwlReferenceIdeal := fun m ρ _ =>
  (θ_run Cert.ProjDwlReferenceIdeal.defs _ _).mono (fun r h => ⟨fun c => (h c).2,
    sem_eq_zero_of_no_sems (by decide) r.2⟩) (Cert.ProjDwlReferenceIdeal.Value.run m ρ)

end
-- ==== Proof.ProjG.lean ====
module

public import proofs.«01_k».proof.Defs
public import proofs.«01_k».proof.Proof.Rows
public import proofs.«01_k».proof.Proof.Tile
public import proofs.«01_k».proof.Proof.Gen.ProjGKernelIdeal.Value
public import proofs.«01_k».proof.Proof.Gen.ProjGReferenceIdeal.Read
public import Idealize.ShloMosaic.Lib.Quiescent

@[expose] public section

set_option maxRecDepth 16384

noncomputable section

namespace Cert.ProjG

open Cert.ProjGKernelIdeal Cert.ProjGKernelIdeal.Gen Cert.ProjGKernelIdeal.Value
open Idealize.ShloMosaic Idealize.ShloMosaic.TcCoe Idealize.SL.Sem
open Cert.ProjGReferenceIdeal.Read Cert

variable (m : (ℓ : Loc nD τ sig) → Buf (Elt Ideal) ℓ)

/-- The argument arrays of a device. -/
abbrev A0 (c : Dev nD) : Vec Ideal S4096x1024 .bf16 := m ((c : Thread nD τ).loc main_arg0)
abbrev A1 (c : Dev nD) : Vec Ideal S1024x2048 .f32 := m ((c : Thread nD τ).loc main_arg1)

/-- What the host hands the kernel. -/
abbrev H0 (c : Dev nD) : Vec Ideal S4096x1024 .bf16 := V m c main_arg0
abbrev H1 (c : Dev nD) : Vec Ideal S2048x1024 .bf16 := V m c main_v1

theorem H0_eq (c : Dev nD) : H0 m c = A0 m c := V_main_arg0 m c
theorem H1_eq (c : Dev nD) (r : Fin 2048) (l : Fin 1024) : H1 m c (ix2 r l) = A1 m c (ix2 l r) := by
  have h : H1 m c = (truncf .bf16 (transpose S2048x1024 [1, 0] (A1 m c) transposes_S1024x2048_S2048x1024_1_0 : FVec Ideal S2048x1024 .f32) bitsLt_bf16_f32 : FVec Ideal S2048x1024 .bf16) := by
    unfold_abbrev_sides
    after_results
  rw [h]
  pointwise []

/-- The input windows' blocks at a point. -/
abbrev X0 (c : Dev nD) (t : Fin cfg0.N) : Vec Ideal S512x1024 .bf16 := iblk m c 0 t
abbrev X1 (c : Dev nD) (t : Fin cfg0.N) : Vec Ideal S1024x1024 .bf16 := iblk m c 1 t

theorem idx : ∀ t : Fin cfg0.N,
    (win0_0.index t 0 = t.val / 2 ∧ win0_0.index t 1 = 0) ∧ (win0_1.index t 0 = t.val % 2 ∧ win0_1.index t 1 = 0)
    ∧ (win0_2.index t 0 = t.val / 2 ∧ win0_2.index t 1 = t.val % 2) := by
  show ∀ t : Fin grid0.N, _
  decide +kernel

/-- Row `r` of block `t` as a row of the array, and column `l` as a column. -/
def row (t : Fin cfg0.N) (r : Fin 512) : Fin 4096 :=
  ⟨t.val / 2 * 512 + r.val, by have h := t.isLt; have hN : cfg0.N = 16 := N_0; have := r.isLt; omega⟩
def col (t : Fin cfg0.N) (l : Fin 1024) : Fin 2048 := ⟨t.val % 2 * 1024 + l.val, by have := l.isLt; omega⟩

theorem surj (R : Fin 4096) (L : Fin 2048) : ∃ (t : Fin cfg0.N) (r : Fin 512) (l : Fin 1024), R = row t r ∧ L = col t l :=
  ⟨⟨R.val / 512 * 2 + L.val / 1024, by rw [show cfg0.N = 16 from N_0]; omega⟩, ⟨R.val % 512, by omega⟩, ⟨L.val % 1024, by omega⟩,
    Fin.ext (by show R.val = (R.val / 512 * 2 + L.val / 1024) / 2 * 512 + R.val % 512; omega),
    Fin.ext (by show L.val = (R.val / 512 * 2 + L.val / 1024) % 2 * 1024 + L.val % 1024; omega)⟩

theorem X0_eq (c : Dev nD) (t : Fin cfg0.N) (r : Fin 512) (l : Fin 1024) : X0 m c t (ix2 r l) = H0 m c (ix2 (row t r) l) :=
  congrArg (H0 m c) (Tile.rf (idx t).1 rfl rfl rfl)

theorem X1_eq (c : Dev nD) (t : Fin cfg0.N) (r : Fin 1024) (l : Fin 1024) : X1 m c t (ix2 r l) = H1 m c (ix2 (col t r) l) :=
  congrArg (H1 m c) (Tile.rf (idx t).2.1 rfl rfl rfl)

theorem hz : (![0, 0] : Fin 2 → ℕ) = 0 := by decide

/-- What a point writes, from its blocks. -/
theorem pay (x0 : Vec Ideal S512x1024 .bf16) (x1 : Vec Ideal S1024x1024 .bf16) (r : Fin 512) (l : Fin 1024) :
    k0_pay1 x0 x1 (ix2 r l) = ∑ k : Fin 1024, x0 (ix2 r k) * x1 (ix2 l k) := by
  pointwise [k0_pay1]

theorem blk (c : Dev nD) (t : Fin cfg0.N) (r : Fin 512) (l : Fin 1024) :
    out0_2 (X0 m c t) (X1 m c t) (ix2 r l) = ∑ k : Fin 1024, A0 m c (ix2 (row t r) k) * A1 m c (ix2 k (col t l)) := by
  unfold out0_2
  rw [View.canon_unit_zero (S := S512x1024) hz, View.ld_unit_zero (S := S512x1024) hz, View.ld_unit_zero (S := S1024x1024) hz]
  refine (pay _ _ _ _).trans (Finset.sum_congr rfl fun k _ => ?_)
  rw [X0_eq, X1_eq, H0_eq, H1_eq]

theorem arr (c : Dev nD) (R : Fin 4096) (l : Fin 2048) :
    ((dats m 0 c).arrAt 2 cfg0.N : S4096x2048.Idx → EReal) (ix2 R l) = ∑ k : Fin 1024, A0 m c (ix2 R k) * A1 m c (ix2 k l) := by
  obtain ⟨t, r, l, rfl, rfl⟩ := surj R l
  have h := congrFun (blocks2 m c t (flush0_2 t)) (ix2 (n0 := 512) (n1 := 1024) r l)
  rw [View.read_apply, flushed2] at h
  have hi := (idx t).2.2
  have e : ((cfg0.win 2).blk t).view.emb (ix2 (n0 := 512) (n1 := 1024) r l) = ix2 (n0 := 4096) (n1 := 2048) (row t r) (col t l) := by
    refine Rows.idx_ext2 (a := 4096) (b := 2048) ?_ ?_
    · show win0_2.index t 0 * 512 + 1 * r.val = t.val / 2 * 512 + r.val; rw [hi.1]; omega
    · show win0_2.index t 1 * 1024 + 1 * l.val = t.val % 2 * 1024 + l.val; rw [hi.2]; omega
  rw [e] at h
  rw [← blk]
  exact h

theorem ref (x0 : Vec Ideal S4096x1024 .bf16) (x1 : Vec Ideal S1024x2048 .f32) (R : Fin 4096) (l : Fin 2048) :
    val_main_v1 (F := Ideal) x0 x1 (ix2 R l) = ∑ k : Fin 1024, x0 (ix2 R k) * x1 (ix2 k l) := by
  pointwise [val_main_v1, val_main_v0]

theorem eq2 (c : Dev nD) : ((dats m 0 c).arrAt 2 cfg0.N : S4096x2048.Idx → EReal) = val_main_v1 (F := Ideal) (A0 m c) (A1 m c) :=
  Rows.ext2 fun R l => (arr m c R l).trans (ref _ _ R l).symm

end Cert.ProjG

open Idealize.ShloMosaic Idealize.SL.Sem in
/-- The kernel computes the reference's array, over the extended reals. -/
theorem Cert.ProjG.algebraic : Cert.algebraic_ProjGKernelIdeal_ProjGReferenceIdeal := by
  intro m g m' g' _ hag
  refine ⟨_, Cert.ProjGKernelIdeal.Value.run_blocks m g, (θ_run _ _ _).mono (fun r h c => ?_) (Cert.ProjGReferenceIdeal.Value.run m' g')⟩
  obtain ⟨h1, ha⟩ := h c
  obtain ⟨e0, e1⟩ := hag c
  refine ⟨?_, ha⟩
  rw [h1, Cert.ProjGReferenceIdeal.Read.val_main_v1_eq, e0, e1]
  exact (Cert.ProjG.eq2 m c).symm

open Idealize.ShloMosaic Idealize.SL.Sem in
/-- The reference terminates, leaves its arguments as they were, and has no semaphore. -/
theorem Cert.ProjG.frame_reference : Cert.quiescent_ProjGReferenceIdeal := fun m ρ _ =>
  (θ_run Cert.ProjGReferenceIdeal.defs _ _).mono (fun r h => ⟨fun c => (h c).2,
    sem_eq_zero_of_no_sems (by decide) r.2⟩) (Cert.ProjGReferenceIdeal.Value.run m ρ)

end
-- ==== Proof.ProjDwg.lean ====
module

public import proofs.«01_k».proof.Defs
public import proofs.«01_k».proof.Proof.Tile
public import proofs.«01_k».proof.Proof.Sums
public import proofs.«01_k».proof.Proof.Gen.ProjDwgKernelIdeal.Value
public import proofs.«01_k».proof.Proof.Gen.ProjDwgReferenceIdeal.Read
public import Idealize.ShloMosaic.Lib.Quiescent

@[expose] public section

set_option maxRecDepth 16384

noncomputable section

namespace Cert.ProjDwg

open Cert.ProjDwgKernelIdeal Cert.ProjDwgKernelIdeal.Gen Cert.ProjDwgKernelIdeal.Value
open Idealize.ShloMosaic Idealize.ShloMosaic.TcCoe Idealize.SL.Sem
open Cert.ProjDwgReferenceIdeal.Read Cert

variable (m : (ℓ : Loc nD τ sig) → Buf (Elt Ideal) ℓ)

/-- The argument arrays of a device. -/
abbrev A0 (c : Dev nD) : Vec Ideal S4096x2048 .bf16 := m ((c : Thread nD τ).loc main_arg0)
abbrev A1 (c : Dev nD) : Vec Ideal S4096x1024 .bf16 := m ((c : Thread nD τ).loc main_arg1)

/-- The input windows' blocks at a point. -/
abbrev X0 (c : Dev nD) (t : Fin cfg0.N) : Vec Ideal S1024x1024 .bf16 := iblk m c 0 t
abbrev X1 (c : Dev nD) (t : Fin cfg0.N) : Vec Ideal S1024x1024 .bf16 := iblk m c 1 t

theorem hz : (![0, 0] : Fin 2 → ℕ) = 0 := by decide

section
variable (x0 : Vec Ideal S1024x1024 .bf16) (x1 : Vec Ideal S1024x1024 .bf16) (a : Vec Ideal S1024x1024 .f32) (r : Fin 1024) (l : Fin 1024)

/-- One block's product. -/
def prod : EReal := ∑ q : Fin 1024, x0 (ix2 q r) * x1 (ix2 q l)

theorem pay2 : k0_pay2 x0 x1 (ix2 r l) = prod x0 x1 r l := by
  unfold prod
  pointwise [k0_pay2, k0_pay1]

theorem pay3 : k0_pay3 x0 x1 a (ix2 r l) = a (ix2 r l) + prod x0 x1 r l := by
  unfold prod
  pointwise [k0_pay3, k0_pay1]

theorem pay4 : k0_pay4 a (ix2 r l) = a (ix2 r l) := by
  pointwise [k0_pay4]

end

section
variable (c : Dev nD) (t : Fin cfg0.N) (r : Fin 1024) (l : Fin 1024)

/-- The first block of a run stores its product. -/
theorem first (h : t.val % 4 = 0) : (outsAt0 m c t.val t.isLt).2 (ix2 r l)
    = prod (X0 m c t) (X1 m c t) r l := by
  have hN : cfg0.N = 8 := N_0
  have ht := t.isLt
  rw [outsAt0_A m c t (by omega) (by omega) (by omega)]
  dsimp only
  unfold sout0_A_0
  rw [View.read_writes_junk_eq_canon]
  unfold kernelRun0_A
  dsimp only
  sl_unfold_words
  simp only [View.readAt_eq_ld, (hs0_0 t).read_unread, (hs0_1 t).read_unread, View.ld_unit_zero (S := S1024x1024) hz]
  rw [View.canon_unit_zero (S := S1024x1024) hz]
  exact pay2 _ _ r l

/-- The middle blocks add theirs. -/
theorem next (h : ¬t.val % 4 = 0) (h2 : ¬t.val % 4 = 3) : (outsAt0 m c t.val t.isLt).2 (ix2 r l)
    = (outsAt0 m c (t.val - 1) (Nat.lt_of_le_of_lt (Nat.sub_le _ _) t.isLt)).2 (ix2 r l) + prod (X0 m c t) (X1 m c t) r l := by
  have hN : cfg0.N = 8 := N_0
  have ht := t.isLt
  rw [outsAt0_B m c t (by omega) (by omega) (by omega)]
  dsimp only
  unfold sout0_B_0
  rw [View.read_writes_junk_eq_canon]
  unfold kernelRun0_B
  dsimp only
  sl_unfold_words
  simp only [View.readAt_eq_ld, (hs0_0 t).read_unread, (hs0_1 t).read_unread, (Memref.isWhole_whole cc0_scratch0).read_unread, View.ld_unit_zero (S := S1024x1024) hz]
  rw [View.canon_unit_zero (S := S1024x1024) hz]
  exact pay3 _ _ _ r l

/-- The last block adds its own and the result is stored. -/
theorem last (h : t.val % 4 = 3) : (outsAt0 m c t.val t.isLt).1 (ix2 r l)
    = (outsAt0 m c (t.val - 1) (Nat.lt_of_le_of_lt (Nat.sub_le _ _) t.isLt)).2 (ix2 r l) + prod (X0 m c t) (X1 m c t) r l := by
  have hN : cfg0.N = 8 := N_0
  have ht := t.isLt
  rw [outsAt0_C m c t (by omega) (by omega) (by omega)]
  dsimp only
  unfold out0_C_2
  rw [View.read_writes_junk_eq_canon]
  unfold kernelRun0_C
  dsimp only
  sl_unfold_words
  simp only [View.readAt_eq_ld, (hs0_0 t).read_unread, (hs0_1 t).read_unread, (Memref.isWhole_whole cc0_scratch0).read_unread, View.ld_unit_zero (S := S1024x1024) hz]
  rw [View.canon_unit_zero (S := S1024x1024) hz, View.readCov_unit_zero (S := S1024x1024) _ hz]
  exact (pay4 _ r l).trans (pay3 _ _ _ r l)

end

theorem idx : ∀ t : Fin cfg0.N, win0_0.index t = ![t.val % 4, t.val / 4] ∧ win0_1.index t = ![t.val % 4, 0] := by
  show ∀ t : Fin grid0.N, _
  decide +kernel

/-- The block of rows `R` lies in, and its four points. -/
def pt (R : Fin 2048) (j : Fin 4) : Fin cfg0.N :=
  ⟨4 * (R.val / 1024) + j.val, by have hN : cfg0.N = 8 := N_0; have := R.isLt; have := j.isLt; omega⟩
theorem pt_mod (R : Fin 2048) (j : Fin 4) : (pt R j).val % 4 = j.val := by show (4 * (R.val / 1024) + j.val) % 4 = _; omega

/-- What the last point of a row's block stores: the whole sum. -/
theorem res (c : Dev nD) (R : Fin 2048) (l : Fin 1024) (n : ℕ) (hn : n < cfg0.N) (h : n = (pt R 3).val) :
    (outsAt0 m c n hn).1 (ix2 ⟨R.val % 1024, by omega⟩ l) = ∑ k : Fin 4096, A0 m c (ix2 k R) * A1 m c (ix2 k l) := by
  subst h
  refine (last m c (pt R 3) _ l (pt_mod R 3)).trans ?_
  refine Math.four (fun k => A0 m c (ix2 k R) * A1 m c (ix2 k l)) (p := fun j => prod (X0 m c (pt R j)) (X1 m c (pt R j)) ⟨R.val % 1024, by omega⟩ l)
    (fun j => Finset.sum_congr rfl fun q _ => ?_) (first m c (pt R 0) _ l (pt_mod R 0)) (next m c (pt R 1) _ l (by rw [pt_mod]; decide) (by rw [pt_mod]; decide))
    (next m c (pt R 2) _ l (by rw [pt_mod]; decide) (by rw [pt_mod]; decide))
  have hq : j.val * 1024 + q.val = (pt R j).val % 4 * 1024 + q.val := by rw [pt_mod]
  have hr : R.val = (pt R j).val / 4 * 1024 + R.val % 1024 := by show R.val = (4 * (R.val / 1024) + j.val) / 4 * 1024 + R.val % 1024; omega
  exact congrArg₂ (fun x y : EReal => x * y)
    ((congrArg (V m c main_arg0) (Tile.gen (R := ⟨j.val * 1024 + q.val, by omega⟩) (idx (pt R j)).1 rfl rfl hq hr)).trans (congrFun (V_main_arg0 m c) _))
    ((congrArg (V m c main_arg1) (Tile.gen (R := ⟨j.val * 1024 + q.val, by omega⟩) (L := l) (idx (pt R j)).2 rfl rfl hq (show l.val = 0 * 1024 + l.val by omega))).trans (congrFun (V_main_arg1 m c) _))

/-- The kernel's array, index by index. -/
theorem arr (c : Dev nD) (R : Fin 2048) (l : Fin 1024) :
    ((dats m 0 c).arrAt 2 cfg0.N : S2048x1024.Idx → EReal) (ix2 R l) = ∑ k : Fin 4096, A0 m c (ix2 k R) * A1 m c (ix2 k l) := by
  have hp : pt2Of (ix2 R l) = (pt R 3).val := by
    show 4 * (1 * (R.val / 1024 - 0) + 1 * (l.val / 1024 - 0)) + 3 = 4 * (R.val / 1024) + 3
    have := l.isLt
    omega
  have hlt : pt2Of (ix2 (n0 := 2048) (n1 := 1024) R l) < cfg0.N := hp ▸ (pt R 3).isLt
  rw [final2]
  unfold G2
  refine (dif_pos hlt).trans ?_
  rw [← outsAt0_sweep, show loc2Of (ix2 R l) = ix2 ⟨R.val % 1024, by omega⟩ l from Rows.idx_ext2 rfl (by show l.val % 1024 = l.val; omega)]
  exact res m c R l _ hlt hp

theorem ref (x0 : Vec Ideal S4096x2048 .bf16) (x1 : Vec Ideal S4096x1024 .bf16) (R : Fin 2048) (l : Fin 1024) :
    val_main_v7 (F := Ideal) x0 x1 (ix2 R l) = ∑ k : Fin 4096, x0 (ix2 k R) * x1 (ix2 k l) := by
  pointwise [val_main_v7, val_main_v6, val_main_v5, val_main_v4, val_main_v3, val_main_v1]

end Cert.ProjDwg

open Idealize.ShloMosaic Idealize.SL.Sem in
/-- The kernel computes the reference's array, over the extended reals. -/
theorem Cert.ProjDwg.algebraic : Cert.algebraic_ProjDwgKernelIdeal_ProjDwgReferenceIdeal := by
  intro m g m' g' _ hag
  refine ⟨_, Cert.ProjDwgKernelIdeal.Value.run_blocks m g, (θ_run _ _ _).mono (fun r h c => ?_) (Cert.ProjDwgReferenceIdeal.Value.run m' g')⟩
  refine ⟨?_, (h c).2⟩
  rw [(h c).1, Cert.ProjDwgReferenceIdeal.Read.val_main_v7_eq, (hag c).1, (hag c).2]
  exact (Cert.Rows.ext2 fun R l => (Cert.ProjDwg.arr m c R l).trans (Cert.ProjDwg.ref _ _ R l).symm).symm

open Idealize.ShloMosaic Idealize.SL.Sem in
/-- The reference terminates, leaves its arguments as they were, and has no semaphore. -/
theorem Cert.ProjDwg.frame_reference : Cert.quiescent_ProjDwgReferenceIdeal := fun m ρ _ =>
  (θ_run Cert.ProjDwgReferenceIdeal.defs _ _).mono (fun r h => ⟨fun c => (h c).2,
    sem_eq_zero_of_no_sems (by decide) r.2⟩) (Cert.ProjDwgReferenceIdeal.Value.run m ρ)

end
-- ==== Proof.MixOut.lean ====
/- Forward `mix_out`: the output product added to the residual stream, and the norm of the sum. -/
module

public import proofs.«01_k».proof.Defs
public import proofs.«01_k».proof.Proof.Rows
public import proofs.«01_k».proof.Proof.Tile
public import proofs.«01_k».proof.Proof.Norm
public import proofs.«01_k».proof.Proof.Gen.MixOutKernelIdeal.Value
public import proofs.«01_k».proof.Proof.Gen.MixOutReferenceIdeal.Read
public import Idealize.ShloMosaic.Lib.Quiescent
public import Idealize.ShloMosaic.Lib.IdealHost

@[expose] public section

set_option maxRecDepth 16384

noncomputable section

namespace Cert.MixOut

open Cert.MixOutKernelIdeal Cert.MixOutKernelIdeal.Gen Cert.MixOutKernelIdeal.Value
open Idealize.ShloMosaic Idealize.ShloMosaic.TcCoe Idealize.SL.Sem
open Cert.MixOutReferenceIdeal.Read Cert

variable (m : (ℓ : Loc nD τ sig) → Buf (Elt Ideal) ℓ)

/-- The argument arrays of a device. -/
abbrev A0 (c : Dev nD) : Vec Ideal S4096x1024 .bf16 := m ((c : Thread nD τ).loc main_arg0)
abbrev A1 (c : Dev nD) : Vec Ideal S1024x1024 .f32 := m ((c : Thread nD τ).loc main_arg1)
abbrev A2 (c : Dev nD) : Vec Ideal S4096x1024 .f32 := m ((c : Thread nD τ).loc main_arg2)
abbrev A3 (c : Dev nD) : Vec Ideal S1024 .f32 := m ((c : Thread nD τ).loc main_arg3)

/-- What the host hands the kernel. -/
abbrev H0 (c : Dev nD) : Vec Ideal S4096x1024 .bf16 := V m c main_arg0
abbrev H1 (c : Dev nD) : Vec Ideal S1024x1024 .bf16 := V m c main_v0
abbrev H2 (c : Dev nD) : Vec Ideal S4096x1024 .f32 := V m c main_arg2
abbrev H3 (c : Dev nD) : Vec Ideal S1x1024 .f32 := V m c main_v1

theorem H0_eq (c : Dev nD) : H0 m c = A0 m c := V_main_arg0 m c
theorem H1_eq (c : Dev nD) (r : Fin 1024) (l : Fin 1024) : H1 m c (ix2 r l) = A1 m c (ix2 r l) := by
  have h : H1 m c = (truncf .bf16 (A1 m c) bitsLt_bf16_f32 : FVec Ideal S1024x1024 .bf16) := by
    unfold_abbrev_sides
    after_results
  rw [h]
  pointwise []
theorem H2_eq (c : Dev nD) : H2 m c = A2 m c := V_main_arg2 m c
theorem H3_eq (c : Dev nD) (l : Fin 1024) : H3 m c (ix2 0 l) = A3 m c (ix1 l) := by
  have h : H3 m c = (shapeCast S1x1024 (A3 m c) shapeCasts_S1024_S1x1024 : FVec Ideal S1x1024 .f32) := by
    unfold_abbrev_sides
    after_results
    rfl
  rw [h]
  pointwise []

/-- Where the windows lie. -/
theorem idx : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) ∧ (win0_3.index t 0 = 0 ∧ win0_3.index t 1 = 0) ∧ (win0_4.index t 0 = t.val ∧ win0_4.index t 1 = 0) ∧ (win0_5.index t 0 = t.val ∧ win0_5.index t 1 = 0) := by
  show ∀ t : Fin grid0.N, _
  decide +kernel

/-- Row `r` of a block at point `t` as a row of the array, and column `l` as a column. -/
def row (t : Fin cfg0.N) (r : Fin 512) : Fin 4096 :=
  ⟨t.val * 512 + r.val, by have h := t.isLt; have hN : cfg0.N = 8 := N_0; have := r.isLt; omega⟩
def col (t : Fin cfg0.N) (l : Fin 1024) : Fin 1024 :=
  ⟨0 * 1024 + l.val, by have h := t.isLt; have hN : cfg0.N = 8 := N_0; have := l.isLt; omega⟩

theorem surj (R : Fin 4096) (L : Fin 1024) : ∃ (t : Fin cfg0.N) (r : Fin 512) (l : Fin 1024), R = row t r ∧ L = col t l :=
  ⟨⟨(R.val / 512), by rw [show cfg0.N = 8 from N_0]; omega⟩, ⟨R.val % 512, by omega⟩, ⟨L.val % 1024, by omega⟩,
    Fin.ext (by show R.val = ((R.val / 512)) * 512 + R.val % 512; omega),
    Fin.ext (by show L.val = 0 * 1024 + L.val % 1024; omega)⟩

/-- The blocks at a point. -/
abbrev X0 (c : Dev nD) (t : Fin cfg0.N) : Vec Ideal S512x1024 .bf16 := iblk m c 0 t
abbrev X1 (c : Dev nD) (t : Fin cfg0.N) : Vec Ideal S1024x1024 .bf16 := iblk m c 1 t
abbrev X2 (c : Dev nD) (t : Fin cfg0.N) : Vec Ideal S512x1024 .f32 := iblk m c 2 t
abbrev X3 (c : Dev nD) (t : Fin cfg0.N) : Vec Ideal S1x1024 .f32 := iblk m c 3 t

theorem X0_eq (c : Dev nD) (t : Fin cfg0.N) (r : Fin 512) (l : Fin 1024) : X0 m c t (ix2 r l) = H0 m c (ix2 (row t r) l) :=
  congrArg (H0 m c) (Tile.rf (idx t).1 rfl rfl rfl)

theorem X1_eq (c : Dev nD) (t : Fin cfg0.N) (r : Fin 1024) (l : Fin 1024) : X1 m c t (ix2 r l) = H1 m c (ix2 r l) :=
  congrArg (H1 m c) (Tile.ff (idx t).2.1 rfl rfl)

theorem X2_eq (c : Dev nD) (t : Fin cfg0.N) (r : Fin 512) (l : Fin 1024) : X2 m c t (ix2 r l) = H2 m c (ix2 (row t r) l) :=
  congrArg (H2 m c) (Tile.rf (idx t).2.2.1 rfl rfl rfl)

theorem X3_eq (c : Dev nD) (t : Fin cfg0.N) (r : Fin 1) (l : Fin 1024) : X3 m c t (ix2 r l) = H3 m c (ix2 r l) :=
  congrArg (H3 m c) (Tile.ff (idx t).2.2.2.1 rfl rfl)

theorem emb4 (t : Fin cfg0.N) (r : Fin 512) (l : Fin 1024) : ((cfg0.win 4).blk t).view.emb (ix2 (n0 := 512) (n1 := 1024) r l)
    = ix2 (n0 := 4096) (n1 := 1024) (row t r) (col t l) :=
  Tile.rc (idx t).2.2.2.2.1 rfl rfl rfl rfl

theorem emb5 (t : Fin cfg0.N) (r : Fin 512) (l : Fin 1024) : ((cfg0.win 5).blk t).view.emb (ix2 (n0 := 512) (n1 := 1024) r l)
    = ix2 (n0 := 4096) (n1 := 1024) (row t r) (col t l) :=
  Tile.rc (idx t).2.2.2.2.2 rfl rfl rfl rfl

theorem hz : (![0, 0] : Fin 2 → ℕ) = 0 := by decide

/-- An entry of the residual stream after the product. -/
def res (x0 : Vec Ideal S4096x1024 .bf16) (x1 : Vec Ideal S1024x1024 .f32) (x2 : Vec Ideal S4096x1024 .f32) (R : Fin 4096) (L : Fin 1024) : EReal :=
  (x2 (ix2 R L) + (∑ k : Fin 1024, x0 (ix2 R k) * x1 (ix2 k L)) * Ideal.ofBits FTy.f32 1065353216#32)

theorem col_eq (t : Fin cfg0.N) (l : Fin 1024) : col t l = l := Fin.ext (by show 0 * 1024 + l.val = l.val; omega)

/-- What a point writes, from its blocks. -/
theorem pay1 (x0 : Vec Ideal S512x1024 .bf16) (x1 : Vec Ideal S1024x1024 .bf16) (x2 : Vec Ideal S512x1024 .f32) (r : Fin 512) (l : Fin 1024) :
    k0_pay1 x2 x0 x1 (ix2 r l) = (x2 (ix2 r l) + (∑ k : Fin 1024, x0 (ix2 r k) * x1 (ix2 k l)) * Ideal.ofBits FTy.f32 1065353216#32) := by
  pointwise [k0_pay1]

theorem pay2 (x0 : Vec Ideal S512x1024 .bf16) (x1 : Vec Ideal S1024x1024 .bf16) (x2 : Vec Ideal S512x1024 .f32) (x3 : Vec Ideal S1x1024 .f32) (r : Fin 512) (l : Fin 1024) :
    k0_pay2 x2 x0 x1 x3 (ix2 r l) = Math.nrm (fun k => k0_pay1 x2 x0 x1 (ix2 r k)) l (x3 (ix2 0 l)) := by
  unfold Math.nrm
  pointwise [k0_pay2]

theorem blk4 (c : Dev nD) (t : Fin cfg0.N) (r : Fin 512) (l : Fin 1024) :
    k0_pay1 (X2 m c t) (X0 m c t) (X1 m c t) (ix2 r l) = res (A0 m c) (A1 m c) (A2 m c) (row t r) l := by
  refine (pay1 _ _ _ _ _).trans ?_
  unfold res
  rw [X2_eq, H2_eq]
  refine congrArg (fun q => A2 m c (ix2 (row t r) l) + q * Ideal.ofBits FTy.f32 1065353216#32) (Finset.sum_congr rfl fun k _ => ?_)
  rw [X0_eq, X1_eq, H0_eq, H1_eq]

theorem out4 (c : Dev nD) (t : Fin cfg0.N) (r : Fin 512) (l : Fin 1024) :
    out0_4 (X0 m c t) (X1 m c t) (X2 m c t) (X3 m c t) (ix2 r l) = res (A0 m c) (A1 m c) (A2 m c) (row t r) (col t l) := by
  unfold out0_4
  rw [View.canon_unit_zero (S := S512x1024) hz, View.ld_unit_zero (S := S512x1024) hz, View.ld_unit_zero (S := S1024x1024) hz, View.ld_unit_zero (S := S512x1024) hz, col_eq]
  exact blk4 m c t r l

theorem out5 (c : Dev nD) (t : Fin cfg0.N) (r : Fin 512) (l : Fin 1024) :
    out0_5 (X0 m c t) (X1 m c t) (X2 m c t) (X3 m c t) (ix2 r l)
      = Math.nrm (res (A0 m c) (A1 m c) (A2 m c) (row t r)) (col t l) (A3 m c (ix1 (col t l))) := by
  unfold out0_5
  rw [View.canon_unit_zero (S := S512x1024) hz, View.ld_unit_zero (S := S512x1024) hz, View.ld_unit_zero (S := S1024x1024) hz, View.ld_unit_zero (S := S512x1024) hz, View.ld_unit_zero (S := S1x1024) hz, col_eq]
  refine (pay2 _ _ _ _ _ _).trans ?_
  rw [X3_eq, H3_eq]
  exact congrArg (fun q => Math.nrm q l (A3 m c (ix1 l))) (funext fun k => blk4 m c t r k)

theorem arr4 (c : Dev nD) (R : Fin 4096) (L : Fin 1024) : ((dats m 0 c).arrAt 4 cfg0.N : S4096x1024.Idx → EReal) (ix2 R L) = res (A0 m c) (A1 m c) (A2 m c) R L := by
  obtain ⟨t, r, l, rfl, rfl⟩ := surj R L
  have h := congrFun (blocks4 m c t (flush0_4 t)) (ix2 (n0 := 512) (n1 := 1024) r l)
  rw [View.read_apply, flushed4, emb4] at h
  rw [← out4]
  exact h

theorem arr5 (c : Dev nD) (R : Fin 4096) (L : Fin 1024) : ((dats m 0 c).arrAt 5 cfg0.N : S4096x1024.Idx → EReal) (ix2 R L) = Math.nrm (res (A0 m c) (A1 m c) (A2 m c) R) L (A3 m c (ix1 L)) := by
  obtain ⟨t, r, l, rfl, rfl⟩ := surj R L
  have h := congrFun (blocks5 m c t (flush0_5 t)) (ix2 (n0 := 512) (n1 := 1024) r l)
  rw [View.read_apply, flushed5, emb5] at h
  rw [← out5]
  exact h

theorem ref4 (x0 : Vec Ideal S4096x1024 .bf16) (x1 : Vec Ideal S1024x1024 .f32) (x2 : Vec Ideal S4096x1024 .f32) (R : Fin 4096) (L : Fin 1024) :
    val_main_v2 (F := Ideal) x0 x1 x2 (ix2 R L) = res x0 x1 x2 R L := by
  unfold res
  rw [Ideal.ofBits_one_f32, mul_one]
  pointwise [val_main_v2, val_main_v1, val_main_v0]

theorem ref5 (x0 : Vec Ideal S4096x1024 .bf16) (x1 : Vec Ideal S1024x1024 .f32) (x2 : Vec Ideal S4096x1024 .f32) (x3 : Vec Ideal S1024 .f32) (R : Fin 4096) (L : Fin 1024) :
    val_main_v16 (F := Ideal) x0 x1 x2 x3 (ix2 R L) = Math.nrm (res x0 x1 x2 R) L (x3 (ix1 L)) := by
  rw [show res x0 x1 x2 R = fun k => val_main_v2 (F := Ideal) x0 x1 x2 (ix2 R k) from funext fun k => (ref4 x0 x1 x2 R k).symm]
  unfold Math.nrm
  pointwise [val_main_v16, val_main_v15, val_main_v14, val_main_v13, val_main_v12, val_main_v11, val_main_v10, val_main_v9, val_main_v8, val_main_v7, val_main_v6, val_main_v5, val_main_v4, val_main_v3, val_main_cst, val_main_cst_0, val_main_cst_1]

theorem eq4 (c : Dev nD) : ((dats m 0 c).arrAt 4 cfg0.N : S4096x1024.Idx → EReal) = val_main_v2 (F := Ideal) (A0 m c) (A1 m c) (A2 m c) :=
  Rows.ext2 fun R L => (arr4 m c R L).trans (ref4 _ _ _ R L).symm

theorem eq5 (c : Dev nD) : ((dats m 0 c).arrAt 5 cfg0.N : S4096x1024.Idx → EReal) = val_main_v16 (F := Ideal) (A0 m c) (A1 m c) (A2 m c) (A3 m c) :=
  Rows.ext2 fun R L => (arr5 m c R L).trans (ref5 _ _ _ _ R L).symm

end Cert.MixOut

open Idealize.ShloMosaic Idealize.SL.Sem in
/-- The kernel computes the reference's two arrays, over the extended reals. -/
theorem Cert.MixOut.algebraic : Cert.algebraic_MixOutKernelIdeal_MixOutReferenceIdeal := by
  intro m g m' g' _ hag
  refine ⟨_, _, Cert.MixOutKernelIdeal.Value.run_blocks m g, (θ_run _ _ _).mono (fun r h c => ?_) (Cert.MixOutReferenceIdeal.Value.run m' g')⟩
  obtain ⟨h0, h1, ha⟩ := h c
  obtain ⟨e0, e1, e2, e3⟩ := hag c
  refine ⟨?_, ?_, ha⟩
  · rw [h0, Cert.MixOutReferenceIdeal.Read.val_main_v2_eq, e0, e1, e2]
    exact (Cert.MixOut.eq4 m c).symm
  · rw [h1, Cert.MixOutReferenceIdeal.Read.val_main_v16_eq, e0, e1, e2, e3]
    exact (Cert.MixOut.eq5 m c).symm

open Idealize.ShloMosaic Idealize.SL.Sem in
/-- The reference terminates, leaves its arguments as they were, and has no semaphore. -/
theorem Cert.MixOut.frame_reference : Cert.quiescent_MixOutReferenceIdeal := fun m ρ _ =>
  (θ_run Cert.MixOutReferenceIdeal.defs _ _).mono (fun r h => ⟨fun c => (h c).2.2,
    sem_eq_zero_of_no_sems (by decide) r.2⟩) (Cert.MixOutReferenceIdeal.Value.run m ρ)

end
-- ==== Proof.MixDy.lean ====
/- Gradient `mix_dy`: the product with the transposed output matrix is the gradient `jax.vjp` gives. -/
module

public import proofs.«01_k».proof.Defs
public import proofs.«01_k».proof.Proof.Tile
public import proofs.«01_k».proof.Proof.Gen.MixDyKernelIdeal.Value
public import proofs.«01_k».proof.Proof.Gen.MixDyReferenceIdeal.Read
public import Idealize.ShloMosaic.Lib.Quiescent

@[expose] public section

set_option maxRecDepth 16384

noncomputable section

namespace Cert.MixDy

open Cert.MixDyKernelIdeal Cert.MixDyKernelIdeal.Gen Cert.MixDyKernelIdeal.Value
open Idealize.ShloMosaic Idealize.ShloMosaic.TcCoe Idealize.SL.Sem
open Cert.MixDyReferenceIdeal.Read Cert

variable (m : (ℓ : Loc nD τ sig) → Buf (Elt Ideal) ℓ)

/-- The argument arrays of a device. -/
abbrev A0 (c : Dev nD) : Vec Ideal S1024x1024 .f32 := m ((c : Thread nD τ).loc main_arg0)
abbrev A1 (c : Dev nD) : Vec Ideal S4096x1024 .f32 := m ((c : Thread nD τ).loc main_arg1)

/-- What the host hands the kernel. -/
abbrev H0 (c : Dev nD) : Vec Ideal S4096x1024 .f32 := V m c main_arg1
abbrev H1 (c : Dev nD) : Vec Ideal S1024x1024 .bf16 := V m c main_v0

theorem H0_eq (c : Dev nD) : H0 m c = A1 m c := V_main_arg1 m c
theorem H1_eq (c : Dev nD) (r : Fin 1024) (l : Fin 1024) : H1 m c (ix2 r l) = A0 m c (ix2 r l) := by
  have h : H1 m c = (truncf .bf16 (A0 m c) bitsLt_bf16_f32 : FVec Ideal S1024x1024 .bf16) := by
    unfold_abbrev_sides
    after_results
  rw [h]
  pointwise []

theorem idx : ∀ t : Fin cfg0.N, win0_0.index t = ![t.val, 0] ∧ win0_1.index t = ![0, 0] ∧ win0_2.index t = ![t.val, 0] := by
  show ∀ t : Fin grid0.N, _
  decide +kernel

theorem pay (x0 : Vec Ideal S512x1024 .f32) (x1 : Vec Ideal S1024x1024 .bf16) (r : Fin 512) (l : Fin 1024) :
    k0_pay1 x0 x1 (ix2 r l) = ∑ k : Fin 1024, x0 (ix2 r k) * x1 (ix2 l k) := by
  pointwise [k0_pay1]

/-- The kernel's array, index by index. -/
theorem arr (c : Dev nD) (R : Fin 4096) (L : Fin 1024) :
    ((dats m 0 c).arrAt 2 cfg0.N : S4096x1024.Idx → EReal) (ix2 R L) = ∑ k : Fin 1024, A1 m c (ix2 R k) * A0 m c (ix2 L k) := by
  obtain ⟨t, r, rfl⟩ := Tile.surj N_0 R
  have h := congrFun (blocks2 m c t (flush0_2 t)) (ix2 (n0 := 512) (n1 := 1024) r L)
  rw [View.read_apply, flushed2, show ((cfg0.win 2).blk t).view.emb (ix2 (n0 := 512) (n1 := 1024) r L) = ix2 (n0 := 4096) (n1 := 1024) (Tile.row N_0 t r) L
    from Tile.at2 (idx t).2.2 rfl rfl] at h
  refine h.trans ((?_ : out0_2 (iblk m c 0 t) (iblk m c 1 t) (ix2 r L) = _))
  unfold out0_2
  have hz : (![0, 0] : Fin 2 → ℕ) = 0 := by decide
  rw [View.canon_unit_zero (S := S512x1024) hz, View.ld_unit_zero (S := S512x1024) hz, View.ld_unit_zero (S := S1024x1024) hz]
  refine (pay _ _ _ _).trans (Finset.sum_congr rfl fun k _ => ?_)
  exact congrArg₂ (fun x y : EReal => x * y)
    ((congrArg (H0 m c) (Tile.at2 (idx t).1 rfl rfl)).trans (congrFun (H0_eq m c) (ix2 (Tile.row N_0 t r) k)))
    ((congrArg (H1 m c) (Tile.all2 (idx t).2.1 rfl rfl)).trans (H1_eq m c L k))

theorem ref (x0 : Vec Ideal S1024x1024 .f32) (x1 : Vec Ideal S4096x1024 .f32) (R : Fin 4096) (L : Fin 1024) :
    val_main_v2 (F := Ideal) x0 x1 (ix2 R L) = ∑ k : Fin 1024, x1 (ix2 R k) * x0 (ix2 L k) := by
  pointwise [val_main_v2]

end Cert.MixDy

open Idealize.ShloMosaic Idealize.SL.Sem in
/-- The kernel computes the reference's array, over the extended reals. -/
theorem Cert.MixDy.algebraic : Cert.algebraic_MixDyKernelIdeal_MixDyReferenceIdeal := by
  intro m g m' g' _ hag
  refine ⟨_, Cert.MixDyKernelIdeal.Value.run_blocks m g, (θ_run _ _ _).mono (fun r h c => ?_) (Cert.MixDyReferenceIdeal.Value.run m' g')⟩
  refine ⟨?_, (h c).2⟩
  rw [(h c).1, Cert.MixDyReferenceIdeal.Read.val_main_v2_eq, (hag c).1, (hag c).2]
  exact (Cert.Rows.ext2 fun R L => (Cert.MixDy.arr m c R L).trans (Cert.MixDy.ref _ _ R L).symm).symm

open Idealize.ShloMosaic Idealize.SL.Sem in
/-- The reference terminates, leaves its arguments as they were, and has no semaphore. -/
theorem Cert.MixDy.frame_reference : Cert.quiescent_MixDyReferenceIdeal := fun m ρ _ =>
  (θ_run Cert.MixDyReferenceIdeal.defs _ _).mono (fun r h => ⟨fun c => (h c).2,
    sem_eq_zero_of_no_sems (by decide) r.2⟩) (Cert.MixDyReferenceIdeal.Value.run m ρ)

end
-- ==== Proof.MixDwout.lean ====
module

public import proofs.«01_k».proof.Defs
public import proofs.«01_k».proof.Proof.Tile
public import proofs.«01_k».proof.Proof.Sums
public import proofs.«01_k».proof.Proof.Gen.MixDwoutKernelIdeal.Value
public import proofs.«01_k».proof.Proof.Gen.MixDwoutReferenceIdeal.Read
public import Idealize.ShloMosaic.Lib.Quiescent

@[expose] public section

set_option maxRecDepth 16384

noncomputable section

namespace Cert.MixDwout

open Cert.MixDwoutKernelIdeal Cert.MixDwoutKernelIdeal.Gen Cert.MixDwoutKernelIdeal.Value
open Idealize.ShloMosaic Idealize.ShloMosaic.TcCoe Idealize.SL.Sem
open Cert.MixDwoutReferenceIdeal.Read Cert

variable (m : (ℓ : Loc nD τ sig) → Buf (Elt Ideal) ℓ)

/-- The argument arrays of a device. -/
abbrev A0 (c : Dev nD) : Vec Ideal S4096x1024 .bf16 := m ((c : Thread nD τ).loc main_arg0)
abbrev A1 (c : Dev nD) : Vec Ideal S4096x1024 .f32 := m ((c : Thread nD τ).loc main_arg1)

/-- The input windows' blocks at a point. -/
abbrev X0 (c : Dev nD) (t : Fin cfg0.N) : Vec Ideal S1024x1024 .bf16 := iblk m c 0 t
abbrev X1 (c : Dev nD) (t : Fin cfg0.N) : Vec Ideal S1024x1024 .f32 := iblk m c 1 t

theorem hz : (![0, 0] : Fin 2 → ℕ) = 0 := by decide

section
variable (x0 : Vec Ideal S1024x1024 .bf16) (x1 : Vec Ideal S1024x1024 .f32) (a : Vec Ideal S1024x1024 .f32) (r : Fin 1024) (l : Fin 1024)

/-- One block's product. -/
def prod : EReal := ∑ q : Fin 1024, x0 (ix2 q r) * x1 (ix2 q l)

theorem pay2 : k0_pay2 x0 x1 (ix2 r l) = prod x0 x1 r l := by
  unfold prod
  pointwise [k0_pay2, k0_pay1]

theorem pay3 : k0_pay3 x0 x1 a (ix2 r l) = a (ix2 r l) + prod x0 x1 r l := by
  unfold prod
  pointwise [k0_pay3, k0_pay1]

theorem pay4 : k0_pay4 a (ix2 r l) = a (ix2 r l) := by
  pointwise [k0_pay4]

end

section
variable (c : Dev nD) (t : Fin cfg0.N) (r : Fin 1024) (l : Fin 1024)

/-- The first block of a run stores its product. -/
theorem first (h : t.val % 4 = 0) : (outsAt0 m c t.val t.isLt).2 (ix2 r l)
    = prod (X0 m c t) (X1 m c t) r l := by
  have hN : cfg0.N = 4 := N_0
  have ht := t.isLt
  rw [outsAt0_A m c t (by omega) (by omega) (by omega)]
  dsimp only
  unfold sout0_A_0
  rw [View.read_writes_junk_eq_canon]
  unfold kernelRun0_A
  dsimp only
  sl_unfold_words
  simp only [View.readAt_eq_ld, (hs0_0 t).read_unread, (hs0_1 t).read_unread, View.ld_unit_zero (S := S1024x1024) hz]
  rw [View.canon_unit_zero (S := S1024x1024) hz]
  exact pay2 _ _ r l

/-- The middle blocks add theirs. -/
theorem next (h : ¬t.val % 4 = 0) (h2 : ¬t.val % 4 = 3) : (outsAt0 m c t.val t.isLt).2 (ix2 r l)
    = (outsAt0 m c (t.val - 1) (Nat.lt_of_le_of_lt (Nat.sub_le _ _) t.isLt)).2 (ix2 r l) + prod (X0 m c t) (X1 m c t) r l := by
  have hN : cfg0.N = 4 := N_0
  have ht := t.isLt
  rw [outsAt0_B m c t (by omega) (by omega) (by omega)]
  dsimp only
  unfold sout0_B_0
  rw [View.read_writes_junk_eq_canon]
  unfold kernelRun0_B
  dsimp only
  sl_unfold_words
  simp only [View.readAt_eq_ld, (hs0_0 t).read_unread, (hs0_1 t).read_unread, (Memref.isWhole_whole cc0_scratch0).read_unread, View.ld_unit_zero (S := S1024x1024) hz]
  rw [View.canon_unit_zero (S := S1024x1024) hz]
  exact pay3 _ _ _ r l

/-- The last block adds its own and the result is stored. -/
theorem last (h : t.val % 4 = 3) : (outsAt0 m c t.val t.isLt).1 (ix2 r l)
    = (outsAt0 m c (t.val - 1) (Nat.lt_of_le_of_lt (Nat.sub_le _ _) t.isLt)).2 (ix2 r l) + prod (X0 m c t) (X1 m c t) r l := by
  have hN : cfg0.N = 4 := N_0
  have ht := t.isLt
  rw [outsAt0_C m c t (by omega) (by omega) (by omega)]
  dsimp only
  unfold out0_C_2
  rw [View.read_writes_junk_eq_canon]
  unfold kernelRun0_C
  dsimp only
  sl_unfold_words
  simp only [View.readAt_eq_ld, (hs0_0 t).read_unread, (hs0_1 t).read_unread, (Memref.isWhole_whole cc0_scratch0).read_unread, View.ld_unit_zero (S := S1024x1024) hz]
  rw [View.canon_unit_zero (S := S1024x1024) hz, View.readCov_unit_zero (S := S1024x1024) _ hz]
  exact (pay4 _ r l).trans (pay3 _ _ _ r l)

end

theorem idx : ∀ t : Fin cfg0.N, win0_0.index t = ![t.val % 4, t.val / 4] ∧ win0_1.index t = ![t.val % 4, 0] := by
  show ∀ t : Fin grid0.N, _
  decide +kernel

/-- The block of rows `R` lies in, and its four points. -/
def pt (R : Fin 1024) (j : Fin 4) : Fin cfg0.N :=
  ⟨4 * (R.val / 1024) + j.val, by have hN : cfg0.N = 4 := N_0; have := R.isLt; have := j.isLt; omega⟩
theorem pt_mod (R : Fin 1024) (j : Fin 4) : (pt R j).val % 4 = j.val := by show (4 * (R.val / 1024) + j.val) % 4 = _; omega

/-- What the last point of a row's block stores: the whole sum. -/
theorem res (c : Dev nD) (R : Fin 1024) (l : Fin 1024) (n : ℕ) (hn : n < cfg0.N) (h : n = (pt R 3).val) :
    (outsAt0 m c n hn).1 (ix2 ⟨R.val % 1024, by omega⟩ l) = ∑ k : Fin 4096, A0 m c (ix2 k R) * A1 m c (ix2 k l) := by
  subst h
  refine (last m c (pt R 3) _ l (pt_mod R 3)).trans ?_
  refine Math.four (fun k => A0 m c (ix2 k R) * A1 m c (ix2 k l)) (p := fun j => prod (X0 m c (pt R j)) (X1 m c (pt R j)) ⟨R.val % 1024, by omega⟩ l)
    (fun j => Finset.sum_congr rfl fun q _ => ?_) (first m c (pt R 0) _ l (pt_mod R 0)) (next m c (pt R 1) _ l (by rw [pt_mod]; decide) (by rw [pt_mod]; decide))
    (next m c (pt R 2) _ l (by rw [pt_mod]; decide) (by rw [pt_mod]; decide))
  have hq : j.val * 1024 + q.val = (pt R j).val % 4 * 1024 + q.val := by rw [pt_mod]
  have hr : R.val = (pt R j).val / 4 * 1024 + R.val % 1024 := by show R.val = (4 * (R.val / 1024) + j.val) / 4 * 1024 + R.val % 1024; omega
  exact congrArg₂ (fun x y : EReal => x * y)
    ((congrArg (V m c main_arg0) (Tile.gen (R := ⟨j.val * 1024 + q.val, by omega⟩) (idx (pt R j)).1 rfl rfl hq hr)).trans (congrFun (V_main_arg0 m c) _))
    ((congrArg (V m c main_arg1) (Tile.gen (R := ⟨j.val * 1024 + q.val, by omega⟩) (L := l) (idx (pt R j)).2 rfl rfl hq (show l.val = 0 * 1024 + l.val by omega))).trans (congrFun (V_main_arg1 m c) _))

/-- The kernel's array, index by index. -/
theorem arr (c : Dev nD) (R : Fin 1024) (l : Fin 1024) :
    ((dats m 0 c).arrAt 2 cfg0.N : S1024x1024.Idx → EReal) (ix2 R l) = ∑ k : Fin 4096, A0 m c (ix2 k R) * A1 m c (ix2 k l) := by
  have hp : pt2Of (ix2 R l) = (pt R 3).val := by
    show 4 * (1 * (R.val / 1024 - 0) + 1 * (l.val / 1024 - 0)) + 3 = 4 * (R.val / 1024) + 3
    have := l.isLt
    omega
  have hlt : pt2Of (ix2 (n0 := 1024) (n1 := 1024) R l) < cfg0.N := hp ▸ (pt R 3).isLt
  rw [final2]
  unfold G2
  refine (dif_pos hlt).trans ?_
  rw [← outsAt0_sweep, show loc2Of (ix2 R l) = ix2 ⟨R.val % 1024, by omega⟩ l from Rows.idx_ext2 rfl (by show l.val % 1024 = l.val; omega)]
  exact res m c R l _ hlt hp

theorem ref (x0 : Vec Ideal S4096x1024 .bf16) (x1 : Vec Ideal S4096x1024 .f32) (R : Fin 1024) (l : Fin 1024) :
    val_main_v5 (F := Ideal) x0 x1 (ix2 R l) = ∑ k : Fin 4096, x0 (ix2 k R) * x1 (ix2 k l) := by
  pointwise [val_main_v5, val_main_v4, val_main_v3, val_main_v1]
  exact Math.swap (fun k => x0 (ix2 k R)) (fun k => x1 (ix2 k l))

end Cert.MixDwout

open Idealize.ShloMosaic Idealize.SL.Sem in
/-- The kernel computes the reference's array, over the extended reals. -/
theorem Cert.MixDwout.algebraic : Cert.algebraic_MixDwoutKernelIdeal_MixDwoutReferenceIdeal := by
  intro m g m' g' _ hag
  refine ⟨_, Cert.MixDwoutKernelIdeal.Value.run_blocks m g, (θ_run _ _ _).mono (fun r h c => ?_) (Cert.MixDwoutReferenceIdeal.Value.run m' g')⟩
  refine ⟨?_, (h c).2⟩
  rw [(h c).1, Cert.MixDwoutReferenceIdeal.Read.val_main_v5_eq, (hag c).1, (hag c).2]
  exact (Cert.Rows.ext2 fun R l => (Cert.MixDwout.arr m c R l).trans (Cert.MixDwout.ref _ _ R l).symm).symm

open Idealize.ShloMosaic Idealize.SL.Sem in
/-- The reference terminates, leaves its arguments as they were, and has no semaphore. -/
theorem Cert.MixDwout.frame_reference : Cert.quiescent_MixDwoutReferenceIdeal := fun m ρ _ =>
  (θ_run Cert.MixDwoutReferenceIdeal.defs _ _).mono (fun r h => ⟨fun c => (h c).2,
    sem_eq_zero_of_no_sems (by decide) r.2⟩) (Cert.MixDwoutReferenceIdeal.Value.run m ρ)

end
-- ==== Proof.Layers.lean ====
/- Indices of a stack of two matrices, and of the blocks that a call works on. -/
module

public import proofs.«01_k».proof.Proof.Rows

@[expose] public section

namespace Cert.Layers

open Idealize.ShloMosaic

theorem hz2 : (![0, 0] : Fin 2 → ℕ) = 0 := by decide
theorem hz3 : (![0, 0, 0] : Fin 3 → ℕ) = 0 := by decide

theorem eq3 {a b d : ℕ} (x : (⟨3, ![a, b, d]⟩ : Shape).Idx) : x = ix3 (n0 := a) (n1 := b) (n2 := d) (x 0) (x 1) (x 2) := funext fun k => by
  match k with
  | ⟨0, _⟩ => rfl
  | ⟨1, _⟩ => rfl
  | ⟨2, _⟩ => rfl

/-- Two stacks of two matrices are equal when both matrices are. -/
theorem stack {b d : ℕ} {f g : (⟨3, ![2, b, d]⟩ : Shape).Idx → EReal}
    (h0 : ∀ (r : Fin b) (l : Fin d), f (ix3 (n0 := 2) 0 r l) = g (ix3 (n0 := 2) 0 r l))
    (h1 : ∀ (r : Fin b) (l : Fin d), f (ix3 (n0 := 2) 1 r l) = g (ix3 (n0 := 2) 1 r l)) : f = g := funext fun x => by
  rw [eq3 x]
  match x 0 with
  | ⟨0, _⟩ => exact h0 _ _
  | ⟨1, _⟩ => exact h1 _ _

/-- The entry of an array that a block's entry is, where the block is a matrix of the stack. -/
theorem ext3 {b d i : ℕ} {x : (⟨3, ![2, b, d]⟩ : Shape).Idx} {r : Fin b} {l : Fin d} {j : Fin 3 → ℕ} {hi : i < 2} (h : j = ![i, 0, 0])
    (h0 : (x 0).val = j 0 * 1 + 1 * 0) (h1 : (x 1).val = j 1 * b + 1 * r.val) (h2 : (x 2).val = j 2 * d + 1 * l.val) :
    x = ix3 (n0 := 2) ⟨i, hi⟩ r l := by
  subst h
  refine funext fun k => Fin.ext ?_
  match k with
  | ⟨0, _⟩ => exact h0.trans (by show i * 1 + 1 * 0 = i; omega)
  | ⟨1, _⟩ => exact h1.trans (by show 0 * b + 1 * r.val = r.val; omega)
  | ⟨2, _⟩ => exact h2.trans (by show 0 * d + 1 * l.val = l.val; omega)

theorem ext2 {b d : ℕ} {x : (⟨2, ![b, d]⟩ : Shape).Idx} {r : Fin b} {l : Fin d} {j : Fin 2 → ℕ} (h : j = ![0, 0])
    (h0 : (x 0).val = j 0 * b + 1 * r.val) (h1 : (x 1).val = j 1 * d + 1 * l.val) : x = ix2 r l := by
  subst h
  exact Rows.idx_ext2 (h0.trans (by show 0 * b + 1 * r.val = r.val; omega)) (h1.trans (by show 0 * d + 1 * l.val = l.val; omega))

/-- A block of layer 0 holds nothing of layer 1. -/
theorem off3 {j : Fin 3 → ℕ} {y : ℕ} (h : j = ![0, 0, 0]) (hy : y < 1) (he : j 0 * 1 + 1 * y = 1) : False := by
  subst h
  have : 0 * 1 + 1 * y = 1 := he
  omega

end Cert.Layers

end
-- ==== Proof.AdamModel.lean ====
/- The optimiser `adamw` on gains of the width of the model: the change of the weight and both new moments. -/
module

public import proofs.«01_k».proof.Defs
public import proofs.«01_k».proof.Proof.Rows
public import proofs.«01_k».proof.Proof.Layers
public import proofs.«01_k».proof.Proof.Gen.AdamModelKernelIdeal.Value
public import proofs.«01_k».proof.Proof.Gen.AdamModelReferenceIdeal.Read
public import Idealize.ShloMosaic.Lib.Quiescent

@[expose] public section

set_option maxRecDepth 16384

noncomputable section

namespace Cert.AdamModel

open Cert.AdamModelKernelIdeal Cert.AdamModelKernelIdeal.Gen Cert.AdamModelKernelIdeal.Value
open Idealize.ShloMosaic Idealize.ShloMosaic.TcCoe Idealize.SL.Sem
open Cert.AdamModelReferenceIdeal.Read Cert

variable (m : (ℓ : Loc nD τ sig) → Buf (Elt Ideal) ℓ)

/-- The argument arrays of a device. -/
abbrev A0 (c : Dev nD) : Vec Ideal S2x1024 .f32 := m ((c : Thread nD τ).loc main_arg0)
abbrev A1 (c : Dev nD) : Vec Ideal S2x1024 .f32 := m ((c : Thread nD τ).loc main_arg1)
abbrev A2 (c : Dev nD) : Vec Ideal S2x1024 .f32 := m ((c : Thread nD τ).loc main_arg2)
abbrev A3 (c : Dev nD) : Vec Ideal S2x1024 .f32 := m ((c : Thread nD τ).loc main_arg3)

/-- What the host hands the kernel. -/
abbrev H0 (c : Dev nD) : Vec Ideal S2x1024 .f32 := V m c main_arg0
abbrev H1 (c : Dev nD) : Vec Ideal S2x1024 .f32 := V m c main_arg1
abbrev H2 (c : Dev nD) : Vec Ideal S2x1024 .f32 := V m c main_arg2
abbrev H3 (c : Dev nD) : Vec Ideal S2x1024 .f32 := V m c main_arg3

theorem H0_eq (c : Dev nD) : H0 m c = A0 m c := V_main_arg0 m c
theorem H1_eq (c : Dev nD) : H1 m c = A1 m c := V_main_arg1 m c
theorem H2_eq (c : Dev nD) : H2 m c = A2 m c := V_main_arg2 m c
theorem H3_eq (c : Dev nD) : H3 m c = A3 m c := V_main_arg3 m c

/-- Where the windows lie. -/
theorem idx : ∀ t : Fin cfg0.N,
    win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] := by
  show ∀ t : Fin grid0.N, _
  decide +kernel

/-- The only block of an argument is all of it. -/
theorem X0 (c : Dev nD) (t : Fin cfg0.N) : (iblk m c 0 t : Vec Ideal S2x1024 .f32) = H0 m c :=
  Rows.ext2 (a := 2) (b := 1024) fun r l => by
    rw [iblk, View.read_apply]
    exact congrArg (H0 m c) (Layers.ext2 (b := 2) (d := 1024) (idx t).1 rfl rfl)
theorem X1 (c : Dev nD) (t : Fin cfg0.N) : (iblk m c 1 t : Vec Ideal S2x1024 .f32) = H1 m c :=
  Rows.ext2 (a := 2) (b := 1024) fun r l => by
    rw [iblk, View.read_apply]
    exact congrArg (H1 m c) (Layers.ext2 (b := 2) (d := 1024) (idx t).2.1 rfl rfl)
theorem X2 (c : Dev nD) (t : Fin cfg0.N) : (iblk m c 2 t : Vec Ideal S2x1024 .f32) = H2 m c :=
  Rows.ext2 (a := 2) (b := 1024) fun r l => by
    rw [iblk, View.read_apply]
    exact congrArg (H2 m c) (Layers.ext2 (b := 2) (d := 1024) (idx t).2.2.1 rfl rfl)
theorem X3 (c : Dev nD) (t : Fin cfg0.N) : (iblk m c 3 t : Vec Ideal S2x1024 .f32) = H3 m c :=
  Rows.ext2 (a := 2) (b := 1024) fun r l => by
    rw [iblk, View.read_apply]
    exact congrArg (H3 m c) (Layers.ext2 (b := 2) (d := 1024) (idx t).2.2.2.1 rfl rfl)

theorem hz : (![0, 0] : Fin 2 → ℕ) = 0 := by decide

/-- What the only point writes is the reference's array. -/
theorem blk4 (c : Dev nD) (t : Fin cfg0.N) : out0_4 (iblk m c 0 t) (iblk m c 1 t) (iblk m c 2 t) (iblk m c 3 t) = val_main_v23 (F := Ideal) (A0 m c) (A1 m c) (A2 m c) (A3 m c) := by
  unfold out0_4
  rw [View.canon_unit_zero (S := S2x1024) hz]
  simp only [View.ld_unit_zero (S := S2x1024) hz]
  rw [X0, X1, X2, X3, H0_eq, H1_eq, H2_eq, H3_eq]
  rfl

theorem eq4 (c : Dev nD) : ((dats m 0 c).arrAt 4 cfg0.N : S2x1024.Idx → EReal) = val_main_v23 (F := Ideal) (A0 m c) (A1 m c) (A2 m c) (A3 m c) :=
  Rows.ext2 (a := 2) (b := 1024) fun r l => by
    have t : Fin cfg0.N := ⟨0, by rw [show cfg0.N = 1 from N_0]; omega⟩
    have h := congrFun (blocks4 m c t (flush0_4 t)) (ix2 (n0 := 2) (n1 := 1024) r l)
    rw [View.read_apply, flushed4, show ((cfg0.win 4).blk t).view.emb (ix2 (n0 := 2) (n1 := 1024) r l) = ix2 r l
      from Layers.ext2 (b := 2) (d := 1024) (idx t).2.2.2.2.1 rfl rfl] at h
    rw [← blk4 m c t]
    exact h

/-- What the only point writes is the reference's array. -/
theorem blk5 (c : Dev nD) (t : Fin cfg0.N) : out0_5 (iblk m c 0 t) (iblk m c 1 t) (iblk m c 2 t) (iblk m c 3 t) = val_main_v4 (F := Ideal) (A1 m c) (A2 m c) := by
  unfold out0_5
  rw [View.canon_unit_zero (S := S2x1024) hz]
  simp only [View.ld_unit_zero (S := S2x1024) hz]
  rw [X1, X2, H1_eq, H2_eq]
  rfl

theorem eq5 (c : Dev nD) : ((dats m 0 c).arrAt 5 cfg0.N : S2x1024.Idx → EReal) = val_main_v4 (F := Ideal) (A1 m c) (A2 m c) :=
  Rows.ext2 (a := 2) (b := 1024) fun r l => by
    have t : Fin cfg0.N := ⟨0, by rw [show cfg0.N = 1 from N_0]; omega⟩
    have h := congrFun (blocks5 m c t (flush0_5 t)) (ix2 (n0 := 2) (n1 := 1024) r l)
    rw [View.read_apply, flushed5, show ((cfg0.win 5).blk t).view.emb (ix2 (n0 := 2) (n1 := 1024) r l) = ix2 r l
      from Layers.ext2 (b := 2) (d := 1024) (idx t).2.2.2.2.2.1 rfl rfl] at h
    rw [← blk5 m c t]
    exact h

/-- What the only point writes is the reference's array. -/
theorem blk6 (c : Dev nD) (t : Fin cfg0.N) : out0_6 (iblk m c 0 t) (iblk m c 1 t) (iblk m c 2 t) (iblk m c 3 t) = val_main_v10 (F := Ideal) (A1 m c) (A3 m c) := by
  unfold out0_6
  rw [View.canon_unit_zero (S := S2x1024) hz]
  simp only [View.ld_unit_zero (S := S2x1024) hz]
  rw [X1, X3, H1_eq, H3_eq]
  rfl

theorem eq6 (c : Dev nD) : ((dats m 0 c).arrAt 6 cfg0.N : S2x1024.Idx → EReal) = val_main_v10 (F := Ideal) (A1 m c) (A3 m c) :=
  Rows.ext2 (a := 2) (b := 1024) fun r l => by
    have t : Fin cfg0.N := ⟨0, by rw [show cfg0.N = 1 from N_0]; omega⟩
    have h := congrFun (blocks6 m c t (flush0_6 t)) (ix2 (n0 := 2) (n1 := 1024) r l)
    rw [View.read_apply, flushed6, show ((cfg0.win 6).blk t).view.emb (ix2 (n0 := 2) (n1 := 1024) r l) = ix2 r l
      from Layers.ext2 (b := 2) (d := 1024) (idx t).2.2.2.2.2.2 rfl rfl] at h
    rw [← blk6 m c t]
    exact h

end Cert.AdamModel

open Idealize.ShloMosaic Idealize.SL.Sem in
/-- The kernel computes the reference's change of the weight and both new moments, over the extended reals. -/
theorem Cert.AdamModel.algebraic : Cert.algebraic_AdamModelKernelIdeal_AdamModelReferenceIdeal := by
  intro m g m' g' _ hag
  refine ⟨_, _, _, Cert.AdamModelKernelIdeal.Value.run_blocks m g, (θ_run _ _ _).mono (fun r h c => ?_) (Cert.AdamModelReferenceIdeal.Value.run m' g')⟩
  obtain ⟨h0, h1, h2, ha⟩ := h c
  obtain ⟨e0, e1, e2, e3⟩ := hag c
  refine ⟨?_, ?_, ?_, ha⟩
  · rw [h0, Cert.AdamModelReferenceIdeal.Read.val_main_v23_eq, e0, e1, e2, e3]
    exact (Cert.AdamModel.eq4 m c).symm
  · rw [h1, Cert.AdamModelReferenceIdeal.Read.val_main_v4_eq, e1, e2]
    exact (Cert.AdamModel.eq5 m c).symm
  · rw [h2, Cert.AdamModelReferenceIdeal.Read.val_main_v10_eq, e1, e3]
    exact (Cert.AdamModel.eq6 m c).symm

open Idealize.ShloMosaic Idealize.SL.Sem in
/-- The reference terminates, leaves its arguments as they were, and has no semaphore. -/
theorem Cert.AdamModel.frame_reference : Cert.quiescent_AdamModelReferenceIdeal := fun m ρ _ =>
  (θ_run Cert.AdamModelReferenceIdeal.defs _ _).mono (fun r h => ⟨fun c => (h c).2.2.2,
    sem_eq_zero_of_no_sems (by decide) r.2⟩) (Cert.AdamModelReferenceIdeal.Value.run m ρ)

end
-- ==== Proof.AdamConv.lean ====
/- The optimiser `adamw` on the convolution's bias and its norm's gain and bias: the change of the weight and both new moments. -/
module

public import proofs.«01_k».proof.Defs
public import proofs.«01_k».proof.Proof.Rows
public import proofs.«01_k».proof.Proof.Layers
public import proofs.«01_k».proof.Proof.Gen.AdamConvKernelIdeal.Value
public import proofs.«01_k».proof.Proof.Gen.AdamConvReferenceIdeal.Read
public import Idealize.ShloMosaic.Lib.Quiescent

@[expose] public section

set_option maxRecDepth 16384

noncomputable section

namespace Cert.AdamConv

open Cert.AdamConvKernelIdeal Cert.AdamConvKernelIdeal.Gen Cert.AdamConvKernelIdeal.Value
open Idealize.ShloMosaic Idealize.ShloMosaic.TcCoe Idealize.SL.Sem
open Cert.AdamConvReferenceIdeal.Read Cert

variable (m : (ℓ : Loc nD τ sig) → Buf (Elt Ideal) ℓ)

/-- The argument arrays of a device. -/
abbrev A0 (c : Dev nD) : Vec Ideal S2x512 .f32 := m ((c : Thread nD τ).loc main_arg0)
abbrev A1 (c : Dev nD) : Vec Ideal S2x512 .f32 := m ((c : Thread nD τ).loc main_arg1)
abbrev A2 (c : Dev nD) : Vec Ideal S2x512 .f32 := m ((c : Thread nD τ).loc main_arg2)
abbrev A3 (c : Dev nD) : Vec Ideal S2x512 .f32 := m ((c : Thread nD τ).loc main_arg3)

/-- What the host hands the kernel. -/
abbrev H0 (c : Dev nD) : Vec Ideal S2x512 .f32 := V m c main_arg0
abbrev H1 (c : Dev nD) : Vec Ideal S2x512 .f32 := V m c main_arg1
abbrev H2 (c : Dev nD) : Vec Ideal S2x512 .f32 := V m c main_arg2
abbrev H3 (c : Dev nD) : Vec Ideal S2x512 .f32 := V m c main_arg3

theorem H0_eq (c : Dev nD) : H0 m c = A0 m c := V_main_arg0 m c
theorem H1_eq (c : Dev nD) : H1 m c = A1 m c := V_main_arg1 m c
theorem H2_eq (c : Dev nD) : H2 m c = A2 m c := V_main_arg2 m c
theorem H3_eq (c : Dev nD) : H3 m c = A3 m c := V_main_arg3 m c

/-- Where the windows lie. -/
theorem idx : ∀ t : Fin cfg0.N,
    win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] := by
  show ∀ t : Fin grid0.N, _
  decide +kernel

/-- The only block of an argument is all of it. -/
theorem X0 (c : Dev nD) (t : Fin cfg0.N) : (iblk m c 0 t : Vec Ideal S2x512 .f32) = H0 m c :=
  Rows.ext2 (a := 2) (b := 512) fun r l => by
    rw [iblk, View.read_apply]
    exact congrArg (H0 m c) (Layers.ext2 (b := 2) (d := 512) (idx t).1 rfl rfl)
theorem X1 (c : Dev nD) (t : Fin cfg0.N) : (iblk m c 1 t : Vec Ideal S2x512 .f32) = H1 m c :=
  Rows.ext2 (a := 2) (b := 512) fun r l => by
    rw [iblk, View.read_apply]
    exact congrArg (H1 m c) (Layers.ext2 (b := 2) (d := 512) (idx t).2.1 rfl rfl)
theorem X2 (c : Dev nD) (t : Fin cfg0.N) : (iblk m c 2 t : Vec Ideal S2x512 .f32) = H2 m c :=
  Rows.ext2 (a := 2) (b := 512) fun r l => by
    rw [iblk, View.read_apply]
    exact congrArg (H2 m c) (Layers.ext2 (b := 2) (d := 512) (idx t).2.2.1 rfl rfl)
theorem X3 (c : Dev nD) (t : Fin cfg0.N) : (iblk m c 3 t : Vec Ideal S2x512 .f32) = H3 m c :=
  Rows.ext2 (a := 2) (b := 512) fun r l => by
    rw [iblk, View.read_apply]
    exact congrArg (H3 m c) (Layers.ext2 (b := 2) (d := 512) (idx t).2.2.2.1 rfl rfl)

theorem hz : (![0, 0] : Fin 2 → ℕ) = 0 := by decide

/-- What the only point writes is the reference's array. -/
theorem blk4 (c : Dev nD) (t : Fin cfg0.N) : out0_4 (iblk m c 0 t) (iblk m c 1 t) (iblk m c 2 t) (iblk m c 3 t) = val_main_v23 (F := Ideal) (A0 m c) (A1 m c) (A2 m c) (A3 m c) := by
  unfold out0_4
  rw [View.canon_unit_zero (S := S2x512) hz]
  simp only [View.ld_unit_zero (S := S2x512) hz]
  rw [X0, X1, X2, X3, H0_eq, H1_eq, H2_eq, H3_eq]
  rfl

theorem eq4 (c : Dev nD) : ((dats m 0 c).arrAt 4 cfg0.N : S2x512.Idx → EReal) = val_main_v23 (F := Ideal) (A0 m c) (A1 m c) (A2 m c) (A3 m c) :=
  Rows.ext2 (a := 2) (b := 512) fun r l => by
    have t : Fin cfg0.N := ⟨0, by rw [show cfg0.N = 1 from N_0]; omega⟩
    have h := congrFun (blocks4 m c t (flush0_4 t)) (ix2 (n0 := 2) (n1 := 512) r l)
    rw [View.read_apply, flushed4, show ((cfg0.win 4).blk t).view.emb (ix2 (n0 := 2) (n1 := 512) r l) = ix2 r l
      from Layers.ext2 (b := 2) (d := 512) (idx t).2.2.2.2.1 rfl rfl] at h
    rw [← blk4 m c t]
    exact h

/-- What the only point writes is the reference's array. -/
theorem blk5 (c : Dev nD) (t : Fin cfg0.N) : out0_5 (iblk m c 0 t) (iblk m c 1 t) (iblk m c 2 t) (iblk m c 3 t) = val_main_v4 (F := Ideal) (A1 m c) (A2 m c) := by
  unfold out0_5
  rw [View.canon_unit_zero (S := S2x512) hz]
  simp only [View.ld_unit_zero (S := S2x512) hz]
  rw [X1, X2, H1_eq, H2_eq]
  rfl

theorem eq5 (c : Dev nD) : ((dats m 0 c).arrAt 5 cfg0.N : S2x512.Idx → EReal) = val_main_v4 (F := Ideal) (A1 m c) (A2 m c) :=
  Rows.ext2 (a := 2) (b := 512) fun r l => by
    have t : Fin cfg0.N := ⟨0, by rw [show cfg0.N = 1 from N_0]; omega⟩
    have h := congrFun (blocks5 m c t (flush0_5 t)) (ix2 (n0 := 2) (n1 := 512) r l)
    rw [View.read_apply, flushed5, show ((cfg0.win 5).blk t).view.emb (ix2 (n0 := 2) (n1 := 512) r l) = ix2 r l
      from Layers.ext2 (b := 2) (d := 512) (idx t).2.2.2.2.2.1 rfl rfl] at h
    rw [← blk5 m c t]
    exact h

/-- What the only point writes is the reference's array. -/
theorem blk6 (c : Dev nD) (t : Fin cfg0.N) : out0_6 (iblk m c 0 t) (iblk m c 1 t) (iblk m c 2 t) (iblk m c 3 t) = val_main_v10 (F := Ideal) (A1 m c) (A3 m c) := by
  unfold out0_6
  rw [View.canon_unit_zero (S := S2x512) hz]
  simp only [View.ld_unit_zero (S := S2x512) hz]
  rw [X1, X3, H1_eq, H3_eq]
  rfl

theorem eq6 (c : Dev nD) : ((dats m 0 c).arrAt 6 cfg0.N : S2x512.Idx → EReal) = val_main_v10 (F := Ideal) (A1 m c) (A3 m c) :=
  Rows.ext2 (a := 2) (b := 512) fun r l => by
    have t : Fin cfg0.N := ⟨0, by rw [show cfg0.N = 1 from N_0]; omega⟩
    have h := congrFun (blocks6 m c t (flush0_6 t)) (ix2 (n0 := 2) (n1 := 512) r l)
    rw [View.read_apply, flushed6, show ((cfg0.win 6).blk t).view.emb (ix2 (n0 := 2) (n1 := 512) r l) = ix2 r l
      from Layers.ext2 (b := 2) (d := 512) (idx t).2.2.2.2.2.2 rfl rfl] at h
    rw [← blk6 m c t]
    exact h

end Cert.AdamConv

open Idealize.ShloMosaic Idealize.SL.Sem in
/-- The kernel computes the reference's change of the weight and both new moments, over the extended reals. -/
theorem Cert.AdamConv.algebraic : Cert.algebraic_AdamConvKernelIdeal_AdamConvReferenceIdeal := by
  intro m g m' g' _ hag
  refine ⟨_, _, _, Cert.AdamConvKernelIdeal.Value.run_blocks m g, (θ_run _ _ _).mono (fun r h c => ?_) (Cert.AdamConvReferenceIdeal.Value.run m' g')⟩
  obtain ⟨h0, h1, h2, ha⟩ := h c
  obtain ⟨e0, e1, e2, e3⟩ := hag c
  refine ⟨?_, ?_, ?_, ha⟩
  · rw [h0, Cert.AdamConvReferenceIdeal.Read.val_main_v23_eq, e0, e1, e2, e3]
    exact (Cert.AdamConv.eq4 m c).symm
  · rw [h1, Cert.AdamConvReferenceIdeal.Read.val_main_v4_eq, e1, e2]
    exact (Cert.AdamConv.eq5 m c).symm
  · rw [h2, Cert.AdamConvReferenceIdeal.Read.val_main_v10_eq, e1, e3]
    exact (Cert.AdamConv.eq6 m c).symm

open Idealize.ShloMosaic Idealize.SL.Sem in
/-- The reference terminates, leaves its arguments as they were, and has no semaphore. -/
theorem Cert.AdamConv.frame_reference : Cert.quiescent_AdamConvReferenceIdeal := fun m ρ _ =>
  (θ_run Cert.AdamConvReferenceIdeal.defs _ _).mono (fun r h => ⟨fun c => (h c).2.2.2,
    sem_eq_zero_of_no_sems (by decide) r.2⟩) (Cert.AdamConvReferenceIdeal.Value.run m ρ)

end
-- ==== Proof.AdamLatent.lean ====
/- The optimiser `adamw` on the latents' gains: the change of the weight and both new moments. -/
module

public import proofs.«01_k».proof.Defs
public import proofs.«01_k».proof.Proof.Rows
public import proofs.«01_k».proof.Proof.Layers
public import proofs.«01_k».proof.Proof.Gen.AdamLatentKernelIdeal.Value
public import proofs.«01_k».proof.Proof.Gen.AdamLatentReferenceIdeal.Read
public import Idealize.ShloMosaic.Lib.Quiescent

@[expose] public section

set_option maxRecDepth 16384

noncomputable section

namespace Cert.AdamLatent

open Cert.AdamLatentKernelIdeal Cert.AdamLatentKernelIdeal.Gen Cert.AdamLatentKernelIdeal.Value
open Idealize.ShloMosaic Idealize.ShloMosaic.TcCoe Idealize.SL.Sem
open Cert.AdamLatentReferenceIdeal.Read Cert

variable (m : (ℓ : Loc nD τ sig) → Buf (Elt Ideal) ℓ)

/-- The argument arrays of a device. -/
abbrev A0 (c : Dev nD) : Vec Ideal S2x256 .f32 := m ((c : Thread nD τ).loc main_arg0)
abbrev A1 (c : Dev nD) : Vec Ideal S2x256 .f32 := m ((c : Thread nD τ).loc main_arg1)
abbrev A2 (c : Dev nD) : Vec Ideal S2x256 .f32 := m ((c : Thread nD τ).loc main_arg2)
abbrev A3 (c : Dev nD) : Vec Ideal S2x256 .f32 := m ((c : Thread nD τ).loc main_arg3)

/-- What the host hands the kernel. -/
abbrev H0 (c : Dev nD) : Vec Ideal S2x256 .f32 := V m c main_arg0
abbrev H1 (c : Dev nD) : Vec Ideal S2x256 .f32 := V m c main_arg1
abbrev H2 (c : Dev nD) : Vec Ideal S2x256 .f32 := V m c main_arg2
abbrev H3 (c : Dev nD) : Vec Ideal S2x256 .f32 := V m c main_arg3

theorem H0_eq (c : Dev nD) : H0 m c = A0 m c := V_main_arg0 m c
theorem H1_eq (c : Dev nD) : H1 m c = A1 m c := V_main_arg1 m c
theorem H2_eq (c : Dev nD) : H2 m c = A2 m c := V_main_arg2 m c
theorem H3_eq (c : Dev nD) : H3 m c = A3 m c := V_main_arg3 m c

/-- Where the windows lie. -/
theorem idx : ∀ t : Fin cfg0.N,
    win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] := by
  show ∀ t : Fin grid0.N, _
  decide +kernel

/-- The only block of an argument is all of it. -/
theorem X0 (c : Dev nD) (t : Fin cfg0.N) : (iblk m c 0 t : Vec Ideal S2x256 .f32) = H0 m c :=
  Rows.ext2 (a := 2) (b := 256) fun r l => by
    rw [iblk, View.read_apply]
    exact congrArg (H0 m c) (Layers.ext2 (b := 2) (d := 256) (idx t).1 rfl rfl)
theorem X1 (c : Dev nD) (t : Fin cfg0.N) : (iblk m c 1 t : Vec Ideal S2x256 .f32) = H1 m c :=
  Rows.ext2 (a := 2) (b := 256) fun r l => by
    rw [iblk, View.read_apply]
    exact congrArg (H1 m c) (Layers.ext2 (b := 2) (d := 256) (idx t).2.1 rfl rfl)
theorem X2 (c : Dev nD) (t : Fin cfg0.N) : (iblk m c 2 t : Vec Ideal S2x256 .f32) = H2 m c :=
  Rows.ext2 (a := 2) (b := 256) fun r l => by
    rw [iblk, View.read_apply]
    exact congrArg (H2 m c) (Layers.ext2 (b := 2) (d := 256) (idx t).2.2.1 rfl rfl)
theorem X3 (c : Dev nD) (t : Fin cfg0.N) : (iblk m c 3 t : Vec Ideal S2x256 .f32) = H3 m c :=
  Rows.ext2 (a := 2) (b := 256) fun r l => by
    rw [iblk, View.read_apply]
    exact congrArg (H3 m c) (Layers.ext2 (b := 2) (d := 256) (idx t).2.2.2.1 rfl rfl)

theorem hz : (![0, 0] : Fin 2 → ℕ) = 0 := by decide

/-- What the only point writes is the reference's array. -/
theorem blk4 (c : Dev nD) (t : Fin cfg0.N) : out0_4 (iblk m c 0 t) (iblk m c 1 t) (iblk m c 2 t) (iblk m c 3 t) = val_main_v23 (F := Ideal) (A0 m c) (A1 m c) (A2 m c) (A3 m c) := by
  unfold out0_4
  rw [View.canon_unit_zero (S := S2x256) hz]
  simp only [View.ld_unit_zero (S := S2x256) hz]
  rw [X0, X1, X2, X3, H0_eq, H1_eq, H2_eq, H3_eq]
  rfl

theorem eq4 (c : Dev nD) : ((dats m 0 c).arrAt 4 cfg0.N : S2x256.Idx → EReal) = val_main_v23 (F := Ideal) (A0 m c) (A1 m c) (A2 m c) (A3 m c) :=
  Rows.ext2 (a := 2) (b := 256) fun r l => by
    have t : Fin cfg0.N := ⟨0, by rw [show cfg0.N = 1 from N_0]; omega⟩
    have h := congrFun (blocks4 m c t (flush0_4 t)) (ix2 (n0 := 2) (n1 := 256) r l)
    rw [View.read_apply, flushed4, show ((cfg0.win 4).blk t).view.emb (ix2 (n0 := 2) (n1 := 256) r l) = ix2 r l
      from Layers.ext2 (b := 2) (d := 256) (idx t).2.2.2.2.1 rfl rfl] at h
    rw [← blk4 m c t]
    exact h

/-- What the only point writes is the reference's array. -/
theorem blk5 (c : Dev nD) (t : Fin cfg0.N) : out0_5 (iblk m c 0 t) (iblk m c 1 t) (iblk m c 2 t) (iblk m c 3 t) = val_main_v4 (F := Ideal) (A1 m c) (A2 m c) := by
  unfold out0_5
  rw [View.canon_unit_zero (S := S2x256) hz]
  simp only [View.ld_unit_zero (S := S2x256) hz]
  rw [X1, X2, H1_eq, H2_eq]
  rfl

theorem eq5 (c : Dev nD) : ((dats m 0 c).arrAt 5 cfg0.N : S2x256.Idx → EReal) = val_main_v4 (F := Ideal) (A1 m c) (A2 m c) :=
  Rows.ext2 (a := 2) (b := 256) fun r l => by
    have t : Fin cfg0.N := ⟨0, by rw [show cfg0.N = 1 from N_0]; omega⟩
    have h := congrFun (blocks5 m c t (flush0_5 t)) (ix2 (n0 := 2) (n1 := 256) r l)
    rw [View.read_apply, flushed5, show ((cfg0.win 5).blk t).view.emb (ix2 (n0 := 2) (n1 := 256) r l) = ix2 r l
      from Layers.ext2 (b := 2) (d := 256) (idx t).2.2.2.2.2.1 rfl rfl] at h
    rw [← blk5 m c t]
    exact h

/-- What the only point writes is the reference's array. -/
theorem blk6 (c : Dev nD) (t : Fin cfg0.N) : out0_6 (iblk m c 0 t) (iblk m c 1 t) (iblk m c 2 t) (iblk m c 3 t) = val_main_v10 (F := Ideal) (A1 m c) (A3 m c) := by
  unfold out0_6
  rw [View.canon_unit_zero (S := S2x256) hz]
  simp only [View.ld_unit_zero (S := S2x256) hz]
  rw [X1, X3, H1_eq, H3_eq]
  rfl

theorem eq6 (c : Dev nD) : ((dats m 0 c).arrAt 6 cfg0.N : S2x256.Idx → EReal) = val_main_v10 (F := Ideal) (A1 m c) (A3 m c) :=
  Rows.ext2 (a := 2) (b := 256) fun r l => by
    have t : Fin cfg0.N := ⟨0, by rw [show cfg0.N = 1 from N_0]; omega⟩
    have h := congrFun (blocks6 m c t (flush0_6 t)) (ix2 (n0 := 2) (n1 := 256) r l)
    rw [View.read_apply, flushed6, show ((cfg0.win 6).blk t).view.emb (ix2 (n0 := 2) (n1 := 256) r l) = ix2 r l
      from Layers.ext2 (b := 2) (d := 256) (idx t).2.2.2.2.2.2 rfl rfl] at h
    rw [← blk6 m c t]
    exact h

end Cert.AdamLatent

open Idealize.ShloMosaic Idealize.SL.Sem in
/-- The kernel computes the reference's change of the weight and both new moments, over the extended reals. -/
theorem Cert.AdamLatent.algebraic : Cert.algebraic_AdamLatentKernelIdeal_AdamLatentReferenceIdeal := by
  intro m g m' g' _ hag
  refine ⟨_, _, _, Cert.AdamLatentKernelIdeal.Value.run_blocks m g, (θ_run _ _ _).mono (fun r h c => ?_) (Cert.AdamLatentReferenceIdeal.Value.run m' g')⟩
  obtain ⟨h0, h1, h2, ha⟩ := h c
  obtain ⟨e0, e1, e2, e3⟩ := hag c
  refine ⟨?_, ?_, ?_, ha⟩
  · rw [h0, Cert.AdamLatentReferenceIdeal.Read.val_main_v23_eq, e0, e1, e2, e3]
    exact (Cert.AdamLatent.eq4 m c).symm
  · rw [h1, Cert.AdamLatentReferenceIdeal.Read.val_main_v4_eq, e1, e2]
    exact (Cert.AdamLatent.eq5 m c).symm
  · rw [h2, Cert.AdamLatentReferenceIdeal.Read.val_main_v10_eq, e1, e3]
    exact (Cert.AdamLatent.eq6 m c).symm

open Idealize.ShloMosaic Idealize.SL.Sem in
/-- The reference terminates, leaves its arguments as they were, and has no semaphore. -/
theorem Cert.AdamLatent.frame_reference : Cert.quiescent_AdamLatentReferenceIdeal := fun m ρ _ =>
  (θ_run Cert.AdamLatentReferenceIdeal.defs _ _).mono (fun r h => ⟨fun c => (h c).2.2.2,
    sem_eq_zero_of_no_sems (by decide) r.2⟩) (Cert.AdamLatentReferenceIdeal.Value.run m ρ)

end
-- ==== Proof.AdamHead.lean ====
/- The optimiser `adamw` on the gains of queries and keys: the change of the weight and both new moments. -/
module

public import proofs.«01_k».proof.Defs
public import proofs.«01_k».proof.Proof.Rows
public import proofs.«01_k».proof.Proof.Layers
public import proofs.«01_k».proof.Proof.Gen.AdamHeadKernelIdeal.Value
public import proofs.«01_k».proof.Proof.Gen.AdamHeadReferenceIdeal.Read
public import Idealize.ShloMosaic.Lib.Quiescent

@[expose] public section

set_option maxRecDepth 16384

noncomputable section

namespace Cert.AdamHead

open Cert.AdamHeadKernelIdeal Cert.AdamHeadKernelIdeal.Gen Cert.AdamHeadKernelIdeal.Value
open Idealize.ShloMosaic Idealize.ShloMosaic.TcCoe Idealize.SL.Sem
open Cert.AdamHeadReferenceIdeal.Read Cert

variable (m : (ℓ : Loc nD τ sig) → Buf (Elt Ideal) ℓ)

/-- The argument arrays of a device. -/
abbrev A0 (c : Dev nD) : Vec Ideal S2x96 .f32 := m ((c : Thread nD τ).loc main_arg0)
abbrev A1 (c : Dev nD) : Vec Ideal S2x96 .f32 := m ((c : Thread nD τ).loc main_arg1)
abbrev A2 (c : Dev nD) : Vec Ideal S2x96 .f32 := m ((c : Thread nD τ).loc main_arg2)
abbrev A3 (c : Dev nD) : Vec Ideal S2x96 .f32 := m ((c : Thread nD τ).loc main_arg3)

/-- What the host hands the kernel. -/
abbrev H0 (c : Dev nD) : Vec Ideal S2x96 .f32 := V m c main_arg0
abbrev H1 (c : Dev nD) : Vec Ideal S2x96 .f32 := V m c main_arg1
abbrev H2 (c : Dev nD) : Vec Ideal S2x96 .f32 := V m c main_arg2
abbrev H3 (c : Dev nD) : Vec Ideal S2x96 .f32 := V m c main_arg3

theorem H0_eq (c : Dev nD) : H0 m c = A0 m c := V_main_arg0 m c
theorem H1_eq (c : Dev nD) : H1 m c = A1 m c := V_main_arg1 m c
theorem H2_eq (c : Dev nD) : H2 m c = A2 m c := V_main_arg2 m c
theorem H3_eq (c : Dev nD) : H3 m c = A3 m c := V_main_arg3 m c

/-- Where the windows lie. -/
theorem idx : ∀ t : Fin cfg0.N,
    win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] := by
  show ∀ t : Fin grid0.N, _
  decide +kernel

/-- The only block of an argument is all of it. -/
theorem X0 (c : Dev nD) (t : Fin cfg0.N) : (iblk m c 0 t : Vec Ideal S2x96 .f32) = H0 m c :=
  Rows.ext2 (a := 2) (b := 96) fun r l => by
    rw [iblk, View.read_apply]
    exact congrArg (H0 m c) (Layers.ext2 (b := 2) (d := 96) (idx t).1 rfl rfl)
theorem X1 (c : Dev nD) (t : Fin cfg0.N) : (iblk m c 1 t : Vec Ideal S2x96 .f32) = H1 m c :=
  Rows.ext2 (a := 2) (b := 96) fun r l => by
    rw [iblk, View.read_apply]
    exact congrArg (H1 m c) (Layers.ext2 (b := 2) (d := 96) (idx t).2.1 rfl rfl)
theorem X2 (c : Dev nD) (t : Fin cfg0.N) : (iblk m c 2 t : Vec Ideal S2x96 .f32) = H2 m c :=
  Rows.ext2 (a := 2) (b := 96) fun r l => by
    rw [iblk, View.read_apply]
    exact congrArg (H2 m c) (Layers.ext2 (b := 2) (d := 96) (idx t).2.2.1 rfl rfl)
theorem X3 (c : Dev nD) (t : Fin cfg0.N) : (iblk m c 3 t : Vec Ideal S2x96 .f32) = H3 m c :=
  Rows.ext2 (a := 2) (b := 96) fun r l => by
    rw [iblk, View.read_apply]
    exact congrArg (H3 m c) (Layers.ext2 (b := 2) (d := 96) (idx t).2.2.2.1 rfl rfl)

theorem hz : (![0, 0] : Fin 2 → ℕ) = 0 := by decide

/-- What the only point writes is the reference's array. -/
theorem blk4 (c : Dev nD) (t : Fin cfg0.N) : out0_4 (iblk m c 0 t) (iblk m c 1 t) (iblk m c 2 t) (iblk m c 3 t) = val_main_v23 (F := Ideal) (A0 m c) (A1 m c) (A2 m c) (A3 m c) := by
  unfold out0_4
  rw [View.canon_unit_zero (S := S2x96) hz]
  simp only [View.ld_unit_zero (S := S2x96) hz]
  rw [X0, X1, X2, X3, H0_eq, H1_eq, H2_eq, H3_eq]
  rfl

theorem eq4 (c : Dev nD) : ((dats m 0 c).arrAt 4 cfg0.N : S2x96.Idx → EReal) = val_main_v23 (F := Ideal) (A0 m c) (A1 m c) (A2 m c) (A3 m c) :=
  Rows.ext2 (a := 2) (b := 96) fun r l => by
    have t : Fin cfg0.N := ⟨0, by rw [show cfg0.N = 1 from N_0]; omega⟩
    have h := congrFun (blocks4 m c t (flush0_4 t)) (ix2 (n0 := 2) (n1 := 96) r l)
    rw [View.read_apply, flushed4, show ((cfg0.win 4).blk t).view.emb (ix2 (n0 := 2) (n1 := 96) r l) = ix2 r l
      from Layers.ext2 (b := 2) (d := 96) (idx t).2.2.2.2.1 rfl rfl] at h
    rw [← blk4 m c t]
    exact h

/-- What the only point writes is the reference's array. -/
theorem blk5 (c : Dev nD) (t : Fin cfg0.N) : out0_5 (iblk m c 0 t) (iblk m c 1 t) (iblk m c 2 t) (iblk m c 3 t) = val_main_v4 (F := Ideal) (A1 m c) (A2 m c) := by
  unfold out0_5
  rw [View.canon_unit_zero (S := S2x96) hz]
  simp only [View.ld_unit_zero (S := S2x96) hz]
  rw [X1, X2, H1_eq, H2_eq]
  rfl

theorem eq5 (c : Dev nD) : ((dats m 0 c).arrAt 5 cfg0.N : S2x96.Idx → EReal) = val_main_v4 (F := Ideal) (A1 m c) (A2 m c) :=
  Rows.ext2 (a := 2) (b := 96) fun r l => by
    have t : Fin cfg0.N := ⟨0, by rw [show cfg0.N = 1 from N_0]; omega⟩
    have h := congrFun (blocks5 m c t (flush0_5 t)) (ix2 (n0 := 2) (n1 := 96) r l)
    rw [View.read_apply, flushed5, show ((cfg0.win 5).blk t).view.emb (ix2 (n0 := 2) (n1 := 96) r l) = ix2 r l
      from Layers.ext2 (b := 2) (d := 96) (idx t).2.2.2.2.2.1 rfl rfl] at h
    rw [← blk5 m c t]
    exact h

/-- What the only point writes is the reference's array. -/
theorem blk6 (c : Dev nD) (t : Fin cfg0.N) : out0_6 (iblk m c 0 t) (iblk m c 1 t) (iblk m c 2 t) (iblk m c 3 t) = val_main_v10 (F := Ideal) (A1 m c) (A3 m c) := by
  unfold out0_6
  rw [View.canon_unit_zero (S := S2x96) hz]
  simp only [View.ld_unit_zero (S := S2x96) hz]
  rw [X1, X3, H1_eq, H3_eq]
  rfl

theorem eq6 (c : Dev nD) : ((dats m 0 c).arrAt 6 cfg0.N : S2x96.Idx → EReal) = val_main_v10 (F := Ideal) (A1 m c) (A3 m c) :=
  Rows.ext2 (a := 2) (b := 96) fun r l => by
    have t : Fin cfg0.N := ⟨0, by rw [show cfg0.N = 1 from N_0]; omega⟩
    have h := congrFun (blocks6 m c t (flush0_6 t)) (ix2 (n0 := 2) (n1 := 96) r l)
    rw [View.read_apply, flushed6, show ((cfg0.win 6).blk t).view.emb (ix2 (n0 := 2) (n1 := 96) r l) = ix2 r l
      from Layers.ext2 (b := 2) (d := 96) (idx t).2.2.2.2.2.2 rfl rfl] at h
    rw [← blk6 m c t]
    exact h

end Cert.AdamHead

open Idealize.ShloMosaic Idealize.SL.Sem in
/-- The kernel computes the reference's change of the weight and both new moments, over the extended reals. -/
theorem Cert.AdamHead.algebraic : Cert.algebraic_AdamHeadKernelIdeal_AdamHeadReferenceIdeal := by
  intro m g m' g' _ hag
  refine ⟨_, _, _, Cert.AdamHeadKernelIdeal.Value.run_blocks m g, (θ_run _ _ _).mono (fun r h c => ?_) (Cert.AdamHeadReferenceIdeal.Value.run m' g')⟩
  obtain ⟨h0, h1, h2, ha⟩ := h c
  obtain ⟨e0, e1, e2, e3⟩ := hag c
  refine ⟨?_, ?_, ?_, ha⟩
  · rw [h0, Cert.AdamHeadReferenceIdeal.Read.val_main_v23_eq, e0, e1, e2, e3]
    exact (Cert.AdamHead.eq4 m c).symm
  · rw [h1, Cert.AdamHeadReferenceIdeal.Read.val_main_v4_eq, e1, e2]
    exact (Cert.AdamHead.eq5 m c).symm
  · rw [h2, Cert.AdamHeadReferenceIdeal.Read.val_main_v10_eq, e1, e3]
    exact (Cert.AdamHead.eq6 m c).symm

open Idealize.ShloMosaic Idealize.SL.Sem in
/-- The reference terminates, leaves its arguments as they were, and has no semaphore. -/
theorem Cert.AdamHead.frame_reference : Cert.quiescent_AdamHeadReferenceIdeal := fun m ρ _ =>
  (θ_run Cert.AdamHeadReferenceIdeal.defs _ _).mono (fun r h => ⟨fun c => (h c).2.2.2,
    sem_eq_zero_of_no_sems (by decide) r.2⟩) (Cert.AdamHeadReferenceIdeal.Value.run m ρ)

end
-- ==== Proof.AdamTaps.lean ====
/- The optimiser `adamw` on the convolution's taps: the change of the weight and both new moments. -/
module

public import proofs.«01_k».proof.Defs
public import proofs.«01_k».proof.Proof.Rows
public import proofs.«01_k».proof.Proof.Layers
public import proofs.«01_k».proof.Proof.Gen.AdamTapsKernelIdeal.Value
public import proofs.«01_k».proof.Proof.Gen.AdamTapsReferenceIdeal.Read
public import Idealize.ShloMosaic.Lib.Quiescent

@[expose] public section

set_option maxRecDepth 16384

noncomputable section

namespace Cert.AdamTaps

open Cert.AdamTapsKernelIdeal Cert.AdamTapsKernelIdeal.Gen Cert.AdamTapsKernelIdeal.Value
open Idealize.ShloMosaic Idealize.ShloMosaic.TcCoe Idealize.SL.Sem
open Cert.AdamTapsReferenceIdeal.Read Cert

variable (m : (ℓ : Loc nD τ sig) → Buf (Elt Ideal) ℓ)

/-- The argument arrays of a device. -/
abbrev A0 (c : Dev nD) : Vec Ideal S2x31x64 .f32 := m ((c : Thread nD τ).loc main_arg0)
abbrev A1 (c : Dev nD) : Vec Ideal S2x31x64 .f32 := m ((c : Thread nD τ).loc main_arg1)
abbrev A2 (c : Dev nD) : Vec Ideal S2x31x64 .f32 := m ((c : Thread nD τ).loc main_arg2)
abbrev A3 (c : Dev nD) : Vec Ideal S2x31x64 .f32 := m ((c : Thread nD τ).loc main_arg3)

/-- What the host hands the kernel. -/
abbrev H0 (c : Dev nD) : Vec Ideal S62x64 .f32 := V m c main_v0
abbrev H1 (c : Dev nD) : Vec Ideal S62x64 .f32 := V m c main_v1
abbrev H2 (c : Dev nD) : Vec Ideal S62x64 .f32 := V m c main_v2
abbrev H3 (c : Dev nD) : Vec Ideal S62x64 .f32 := V m c main_v3

theorem H0_eq (c : Dev nD) : H0 m c = (shapeCast S62x64 (A0 m c) shapeCasts_S2x31x64_S62x64 : FVec Ideal S62x64 .f32) := by
  unfold_abbrev_sides
  after_results
  rfl
theorem H1_eq (c : Dev nD) : H1 m c = (shapeCast S62x64 (A1 m c) shapeCasts_S2x31x64_S62x64 : FVec Ideal S62x64 .f32) := by
  unfold_abbrev_sides
  after_results
  rfl
theorem H2_eq (c : Dev nD) : H2 m c = (shapeCast S62x64 (A2 m c) shapeCasts_S2x31x64_S62x64 : FVec Ideal S62x64 .f32) := by
  unfold_abbrev_sides
  after_results
  rfl
theorem H3_eq (c : Dev nD) : H3 m c = (shapeCast S62x64 (A3 m c) shapeCasts_S2x31x64_S62x64 : FVec Ideal S62x64 .f32) := by
  unfold_abbrev_sides
  after_results
  rfl

/-- Where the windows lie. -/
theorem idx : ∀ t : Fin cfg0.N,
    win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] := by
  show ∀ t : Fin grid0.N, _
  decide +kernel

/-- The only block of an argument is all of it. -/
theorem X0 (c : Dev nD) (t : Fin cfg0.N) : (iblk m c 0 t : Vec Ideal S62x64 .f32) = H0 m c :=
  Rows.ext2 (a := 62) (b := 64) fun r l => by
    rw [iblk, View.read_apply]
    exact congrArg (H0 m c) (Layers.ext2 (b := 62) (d := 64) (idx t).1 rfl rfl)
theorem X1 (c : Dev nD) (t : Fin cfg0.N) : (iblk m c 1 t : Vec Ideal S62x64 .f32) = H1 m c :=
  Rows.ext2 (a := 62) (b := 64) fun r l => by
    rw [iblk, View.read_apply]
    exact congrArg (H1 m c) (Layers.ext2 (b := 62) (d := 64) (idx t).2.1 rfl rfl)
theorem X2 (c : Dev nD) (t : Fin cfg0.N) : (iblk m c 2 t : Vec Ideal S62x64 .f32) = H2 m c :=
  Rows.ext2 (a := 62) (b := 64) fun r l => by
    rw [iblk, View.read_apply]
    exact congrArg (H2 m c) (Layers.ext2 (b := 62) (d := 64) (idx t).2.2.1 rfl rfl)
theorem X3 (c : Dev nD) (t : Fin cfg0.N) : (iblk m c 3 t : Vec Ideal S62x64 .f32) = H3 m c :=
  Rows.ext2 (a := 62) (b := 64) fun r l => by
    rw [iblk, View.read_apply]
    exact congrArg (H3 m c) (Layers.ext2 (b := 62) (d := 64) (idx t).2.2.2.1 rfl rfl)

theorem hz : (![0, 0] : Fin 2 → ℕ) = 0 := by decide

/-- What the only point writes is the reference's array. -/
theorem blk4 (c : Dev nD) (t : Fin cfg0.N) : out0_4 (iblk m c 0 t) (iblk m c 1 t) (iblk m c 2 t) (iblk m c 3 t) = val_main_v24 (F := Ideal) (A0 m c) (A1 m c) (A2 m c) (A3 m c) := by
  unfold out0_4
  rw [View.canon_unit_zero (S := S62x64) hz]
  simp only [View.ld_unit_zero (S := S62x64) hz]
  rw [X0, X1, X2, X3, H0_eq, H1_eq, H2_eq, H3_eq]
  simp only [k0_pay4, k0_pay3, k0_pay2, k0_pay1, shapeCast_self]
  funext y
  rfl

theorem eq4 (c : Dev nD) : ((dats m 0 c).arrAt 4 cfg0.N : S62x64.Idx → EReal) = val_main_v24 (F := Ideal) (A0 m c) (A1 m c) (A2 m c) (A3 m c) :=
  Rows.ext2 (a := 62) (b := 64) fun r l => by
    have t : Fin cfg0.N := ⟨0, by rw [show cfg0.N = 1 from N_0]; omega⟩
    have h := congrFun (blocks4 m c t (flush0_4 t)) (ix2 (n0 := 62) (n1 := 64) r l)
    rw [View.read_apply, flushed4, show ((cfg0.win 4).blk t).view.emb (ix2 (n0 := 62) (n1 := 64) r l) = ix2 r l
      from Layers.ext2 (b := 62) (d := 64) (idx t).2.2.2.2.1 rfl rfl] at h
    rw [← blk4 m c t]
    exact h

/-- What the only point writes is the reference's array. -/
theorem blk5 (c : Dev nD) (t : Fin cfg0.N) : out0_5 (iblk m c 0 t) (iblk m c 1 t) (iblk m c 2 t) (iblk m c 3 t) = val_main_v25 (F := Ideal) (A1 m c) (A2 m c) := by
  unfold out0_5
  rw [View.canon_unit_zero (S := S62x64) hz]
  simp only [View.ld_unit_zero (S := S62x64) hz]
  rw [X1, X2, H1_eq, H2_eq]
  simp only [k0_pay4, k0_pay3, k0_pay2, k0_pay1, shapeCast_self]
  funext y
  rfl

theorem eq5 (c : Dev nD) : ((dats m 0 c).arrAt 5 cfg0.N : S62x64.Idx → EReal) = val_main_v25 (F := Ideal) (A1 m c) (A2 m c) :=
  Rows.ext2 (a := 62) (b := 64) fun r l => by
    have t : Fin cfg0.N := ⟨0, by rw [show cfg0.N = 1 from N_0]; omega⟩
    have h := congrFun (blocks5 m c t (flush0_5 t)) (ix2 (n0 := 62) (n1 := 64) r l)
    rw [View.read_apply, flushed5, show ((cfg0.win 5).blk t).view.emb (ix2 (n0 := 62) (n1 := 64) r l) = ix2 r l
      from Layers.ext2 (b := 62) (d := 64) (idx t).2.2.2.2.2.1 rfl rfl] at h
    rw [← blk5 m c t]
    exact h

/-- What the only point writes is the reference's array. -/
theorem blk6 (c : Dev nD) (t : Fin cfg0.N) : out0_6 (iblk m c 0 t) (iblk m c 1 t) (iblk m c 2 t) (iblk m c 3 t) = val_main_v26 (F := Ideal) (A1 m c) (A3 m c) := by
  unfold out0_6
  rw [View.canon_unit_zero (S := S62x64) hz]
  simp only [View.ld_unit_zero (S := S62x64) hz]
  rw [X1, X3, H1_eq, H3_eq]
  simp only [k0_pay4, k0_pay3, k0_pay2, k0_pay1, shapeCast_self]
  funext y
  rfl

theorem eq6 (c : Dev nD) : ((dats m 0 c).arrAt 6 cfg0.N : S62x64.Idx → EReal) = val_main_v26 (F := Ideal) (A1 m c) (A3 m c) :=
  Rows.ext2 (a := 62) (b := 64) fun r l => by
    have t : Fin cfg0.N := ⟨0, by rw [show cfg0.N = 1 from N_0]; omega⟩
    have h := congrFun (blocks6 m c t (flush0_6 t)) (ix2 (n0 := 62) (n1 := 64) r l)
    rw [View.read_apply, flushed6, show ((cfg0.win 6).blk t).view.emb (ix2 (n0 := 62) (n1 := 64) r l) = ix2 r l
      from Layers.ext2 (b := 62) (d := 64) (idx t).2.2.2.2.2.2 rfl rfl] at h
    rw [← blk6 m c t]
    exact h

end Cert.AdamTaps

open Idealize.ShloMosaic Idealize.SL.Sem in
/-- The kernel computes the reference's change of the weight and both new moments, over the extended reals. -/
theorem Cert.AdamTaps.algebraic : Cert.algebraic_AdamTapsKernelIdeal_AdamTapsReferenceIdeal := by
  intro m g m' g' _ hag
  refine ⟨_, _, _, Cert.AdamTapsKernelIdeal.Value.run_blocks m g, (θ_run _ _ _).mono (fun r h c => ?_) (Cert.AdamTapsReferenceIdeal.Value.run m' g')⟩
  obtain ⟨h0, h1, h2, ha⟩ := h c
  obtain ⟨e0, e1, e2, e3⟩ := hag c
  refine ⟨?_, ?_, ?_, ha⟩
  · rw [h0, Cert.AdamTapsReferenceIdeal.Read.val_main_v24_eq, e0, e1, e2, e3]
    exact (Cert.AdamTaps.eq4 m c).symm
  · rw [h1, Cert.AdamTapsReferenceIdeal.Read.val_main_v25_eq, e1, e2]
    exact (Cert.AdamTaps.eq5 m c).symm
  · rw [h2, Cert.AdamTapsReferenceIdeal.Read.val_main_v26_eq, e1, e3]
    exact (Cert.AdamTaps.eq6 m c).symm

open Idealize.ShloMosaic Idealize.SL.Sem in
/-- The reference terminates, leaves its arguments as they were, and has no semaphore. -/
theorem Cert.AdamTaps.frame_reference : Cert.quiescent_AdamTapsReferenceIdeal := fun m ρ _ =>
  (θ_run Cert.AdamTapsReferenceIdeal.defs _ _).mono (fun r h => ⟨fun c => (h c).2.2.2,
    sem_eq_zero_of_no_sems (by decide) r.2⟩) (Cert.AdamTapsReferenceIdeal.Value.run m ρ)

end
-- ==== Proof.AdamBias.lean ====
/- The optimiser `adamw` on the gate's bias: the change of the weight and both new moments. -/
module

public import proofs.«01_k».proof.Defs
public import proofs.«01_k».proof.Proof.Rows
public import proofs.«01_k».proof.Proof.Layers
public import proofs.«01_k».proof.Proof.Gen.AdamBiasKernelIdeal.Value
public import proofs.«01_k».proof.Proof.Gen.AdamBiasReferenceIdeal.Read
public import Idealize.ShloMosaic.Lib.Quiescent

@[expose] public section

set_option maxRecDepth 16384

noncomputable section

namespace Cert.AdamBias

open Cert.AdamBiasKernelIdeal Cert.AdamBiasKernelIdeal.Gen Cert.AdamBiasKernelIdeal.Value
open Idealize.ShloMosaic Idealize.ShloMosaic.TcCoe Idealize.SL.Sem
open Cert.AdamBiasReferenceIdeal.Read Cert

variable (m : (ℓ : Loc nD τ sig) → Buf (Elt Ideal) ℓ)

/-- The argument arrays of a device. -/
abbrev A0 (c : Dev nD) : Vec Ideal S2x2x128 .f32 := m ((c : Thread nD τ).loc main_arg0)
abbrev A1 (c : Dev nD) : Vec Ideal S2x2x128 .f32 := m ((c : Thread nD τ).loc main_arg1)
abbrev A2 (c : Dev nD) : Vec Ideal S2x2x128 .f32 := m ((c : Thread nD τ).loc main_arg2)
abbrev A3 (c : Dev nD) : Vec Ideal S2x2x128 .f32 := m ((c : Thread nD τ).loc main_arg3)

/-- What the host hands the kernel. -/
abbrev H0 (c : Dev nD) : Vec Ideal S4x128 .f32 := V m c main_v0
abbrev H1 (c : Dev nD) : Vec Ideal S4x128 .f32 := V m c main_v1
abbrev H2 (c : Dev nD) : Vec Ideal S4x128 .f32 := V m c main_v2
abbrev H3 (c : Dev nD) : Vec Ideal S4x128 .f32 := V m c main_v3

theorem H0_eq (c : Dev nD) : H0 m c = (shapeCast S4x128 (A0 m c) shapeCasts_S2x2x128_S4x128 : FVec Ideal S4x128 .f32) := by
  unfold_abbrev_sides
  after_results
  rfl
theorem H1_eq (c : Dev nD) : H1 m c = (shapeCast S4x128 (A1 m c) shapeCasts_S2x2x128_S4x128 : FVec Ideal S4x128 .f32) := by
  unfold_abbrev_sides
  after_results
  rfl
theorem H2_eq (c : Dev nD) : H2 m c = (shapeCast S4x128 (A2 m c) shapeCasts_S2x2x128_S4x128 : FVec Ideal S4x128 .f32) := by
  unfold_abbrev_sides
  after_results
  rfl
theorem H3_eq (c : Dev nD) : H3 m c = (shapeCast S4x128 (A3 m c) shapeCasts_S2x2x128_S4x128 : FVec Ideal S4x128 .f32) := by
  unfold_abbrev_sides
  after_results
  rfl

/-- Where the windows lie. -/
theorem idx : ∀ t : Fin cfg0.N,
    win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] := by
  show ∀ t : Fin grid0.N, _
  decide +kernel

/-- The only block of an argument is all of it. -/
theorem X0 (c : Dev nD) (t : Fin cfg0.N) : (iblk m c 0 t : Vec Ideal S4x128 .f32) = H0 m c :=
  Rows.ext2 (a := 4) (b := 128) fun r l => by
    rw [iblk, View.read_apply]
    exact congrArg (H0 m c) (Layers.ext2 (b := 4) (d := 128) (idx t).1 rfl rfl)
theorem X1 (c : Dev nD) (t : Fin cfg0.N) : (iblk m c 1 t : Vec Ideal S4x128 .f32) = H1 m c :=
  Rows.ext2 (a := 4) (b := 128) fun r l => by
    rw [iblk, View.read_apply]
    exact congrArg (H1 m c) (Layers.ext2 (b := 4) (d := 128) (idx t).2.1 rfl rfl)
theorem X2 (c : Dev nD) (t : Fin cfg0.N) : (iblk m c 2 t : Vec Ideal S4x128 .f32) = H2 m c :=
  Rows.ext2 (a := 4) (b := 128) fun r l => by
    rw [iblk, View.read_apply]
    exact congrArg (H2 m c) (Layers.ext2 (b := 4) (d := 128) (idx t).2.2.1 rfl rfl)
theorem X3 (c : Dev nD) (t : Fin cfg0.N) : (iblk m c 3 t : Vec Ideal S4x128 .f32) = H3 m c :=
  Rows.ext2 (a := 4) (b := 128) fun r l => by
    rw [iblk, View.read_apply]
    exact congrArg (H3 m c) (Layers.ext2 (b := 4) (d := 128) (idx t).2.2.2.1 rfl rfl)

theorem hz : (![0, 0] : Fin 2 → ℕ) = 0 := by decide

/-- What the only point writes is the reference's array. -/
theorem blk4 (c : Dev nD) (t : Fin cfg0.N) : out0_4 (iblk m c 0 t) (iblk m c 1 t) (iblk m c 2 t) (iblk m c 3 t) = val_main_v24 (F := Ideal) (A0 m c) (A1 m c) (A2 m c) (A3 m c) := by
  unfold out0_4
  rw [View.canon_unit_zero (S := S4x128) hz]
  simp only [View.ld_unit_zero (S := S4x128) hz]
  rw [X0, X1, X2, X3, H0_eq, H1_eq, H2_eq, H3_eq]
  simp only [k0_pay4, k0_pay3, k0_pay2, k0_pay1, shapeCast_self]
  funext y
  rfl

theorem eq4 (c : Dev nD) : ((dats m 0 c).arrAt 4 cfg0.N : S4x128.Idx → EReal) = val_main_v24 (F := Ideal) (A0 m c) (A1 m c) (A2 m c) (A3 m c) :=
  Rows.ext2 (a := 4) (b := 128) fun r l => by
    have t : Fin cfg0.N := ⟨0, by rw [show cfg0.N = 1 from N_0]; omega⟩
    have h := congrFun (blocks4 m c t (flush0_4 t)) (ix2 (n0 := 4) (n1 := 128) r l)
    rw [View.read_apply, flushed4, show ((cfg0.win 4).blk t).view.emb (ix2 (n0 := 4) (n1 := 128) r l) = ix2 r l
      from Layers.ext2 (b := 4) (d := 128) (idx t).2.2.2.2.1 rfl rfl] at h
    rw [← blk4 m c t]
    exact h

/-- What the only point writes is the reference's array. -/
theorem blk5 (c : Dev nD) (t : Fin cfg0.N) : out0_5 (iblk m c 0 t) (iblk m c 1 t) (iblk m c 2 t) (iblk m c 3 t) = val_main_v25 (F := Ideal) (A1 m c) (A2 m c) := by
  unfold out0_5
  rw [View.canon_unit_zero (S := S4x128) hz]
  simp only [View.ld_unit_zero (S := S4x128) hz]
  rw [X1, X2, H1_eq, H2_eq]
  simp only [k0_pay4, k0_pay3, k0_pay2, k0_pay1, shapeCast_self]
  funext y
  rfl

theorem eq5 (c : Dev nD) : ((dats m 0 c).arrAt 5 cfg0.N : S4x128.Idx → EReal) = val_main_v25 (F := Ideal) (A1 m c) (A2 m c) :=
  Rows.ext2 (a := 4) (b := 128) fun r l => by
    have t : Fin cfg0.N := ⟨0, by rw [show cfg0.N = 1 from N_0]; omega⟩
    have h := congrFun (blocks5 m c t (flush0_5 t)) (ix2 (n0 := 4) (n1 := 128) r l)
    rw [View.read_apply, flushed5, show ((cfg0.win 5).blk t).view.emb (ix2 (n0 := 4) (n1 := 128) r l) = ix2 r l
      from Layers.ext2 (b := 4) (d := 128) (idx t).2.2.2.2.2.1 rfl rfl] at h
    rw [← blk5 m c t]
    exact h

/-- What the only point writes is the reference's array. -/
theorem blk6 (c : Dev nD) (t : Fin cfg0.N) : out0_6 (iblk m c 0 t) (iblk m c 1 t) (iblk m c 2 t) (iblk m c 3 t) = val_main_v26 (F := Ideal) (A1 m c) (A3 m c) := by
  unfold out0_6
  rw [View.canon_unit_zero (S := S4x128) hz]
  simp only [View.ld_unit_zero (S := S4x128) hz]
  rw [X1, X3, H1_eq, H3_eq]
  simp only [k0_pay4, k0_pay3, k0_pay2, k0_pay1, shapeCast_self]
  funext y
  rfl

theorem eq6 (c : Dev nD) : ((dats m 0 c).arrAt 6 cfg0.N : S4x128.Idx → EReal) = val_main_v26 (F := Ideal) (A1 m c) (A3 m c) :=
  Rows.ext2 (a := 4) (b := 128) fun r l => by
    have t : Fin cfg0.N := ⟨0, by rw [show cfg0.N = 1 from N_0]; omega⟩
    have h := congrFun (blocks6 m c t (flush0_6 t)) (ix2 (n0 := 4) (n1 := 128) r l)
    rw [View.read_apply, flushed6, show ((cfg0.win 6).blk t).view.emb (ix2 (n0 := 4) (n1 := 128) r l) = ix2 r l
      from Layers.ext2 (b := 4) (d := 128) (idx t).2.2.2.2.2.2 rfl rfl] at h
    rw [← blk6 m c t]
    exact h

end Cert.AdamBias

open Idealize.ShloMosaic Idealize.SL.Sem in
/-- The kernel computes the reference's change of the weight and both new moments, over the extended reals. -/
theorem Cert.AdamBias.algebraic : Cert.algebraic_AdamBiasKernelIdeal_AdamBiasReferenceIdeal := by
  intro m g m' g' _ hag
  refine ⟨_, _, _, Cert.AdamBiasKernelIdeal.Value.run_blocks m g, (θ_run _ _ _).mono (fun r h c => ?_) (Cert.AdamBiasReferenceIdeal.Value.run m' g')⟩
  obtain ⟨h0, h1, h2, ha⟩ := h c
  obtain ⟨e0, e1, e2, e3⟩ := hag c
  refine ⟨?_, ?_, ?_, ha⟩
  · rw [h0, Cert.AdamBiasReferenceIdeal.Read.val_main_v24_eq, e0, e1, e2, e3]
    exact (Cert.AdamBias.eq4 m c).symm
  · rw [h1, Cert.AdamBiasReferenceIdeal.Read.val_main_v25_eq, e1, e2]
    exact (Cert.AdamBias.eq5 m c).symm
  · rw [h2, Cert.AdamBiasReferenceIdeal.Read.val_main_v26_eq, e1, e3]
    exact (Cert.AdamBias.eq6 m c).symm

open Idealize.ShloMosaic Idealize.SL.Sem in
/-- The reference terminates, leaves its arguments as they were, and has no semaphore. -/
theorem Cert.AdamBias.frame_reference : Cert.quiescent_AdamBiasReferenceIdeal := fun m ρ _ =>
  (θ_run Cert.AdamBiasReferenceIdeal.defs _ _).mono (fun r h => ⟨fun c => (h c).2.2.2,
    sem_eq_zero_of_no_sems (by decide) r.2⟩) (Cert.AdamBiasReferenceIdeal.Value.run m ρ)

end
-- ==== Proof.AdamFfn.lean ====
/- The optimiser `adamw_layer` on the feed-forward blocks' weights, one layer after the other: the gradient as it came, the change of the weight and
   both new moments. The first call writes layer 1, the second writes layer 0 into the same arrays. -/
module

public import proofs.«01_k».proof.Defs
public import proofs.«01_k».proof.Proof.Layers
public import proofs.«01_k».proof.Proof.Gen.AdamFfnKernelIdeal.Frame
public import proofs.«01_k».proof.Proof.Gen.AdamFfnReferenceIdeal.Read
public import Idealize.ShloMosaic.Lib.Quiescent
public import Idealize.ShloMosaic.Lib.Pipeline.Value
public import Idealize.ShloMosaic.Lib.StableHlo.RunClose
public import Idealize.ShloMosaic.Lib.Claim

@[expose] public section

set_option maxRecDepth 16384

noncomputable section

namespace Cert.AdamFfn

open Cert.AdamFfnKernelIdeal Cert.AdamFfnKernelIdeal.Gen
open Idealize.ShloMosaic Idealize.ShloMosaic.TcCoe Idealize.ShloMosaic.StableHlo Idealize.SL Idealize.SL.Sem
open Cert.AdamFfnReferenceIdeal.Read Cert Cert.Layers

variable (m : (ℓ : Loc nD τ sig) → Buf (Elt Ideal) ℓ) (ρ : Dev nD → PrngReg)

/-- The argument arrays of a device: the weight, both layers' gradients, both moments. -/
abbrev A0 (c : Dev nD) : Vec Ideal S2x352x1024 .f32 := m ((c : Thread nD τ).loc main_arg0)
abbrev A1 (c : Dev nD) : Vec Ideal S352x1024 .f32 := m ((c : Thread nD τ).loc main_arg1)
abbrev A2 (c : Dev nD) : Vec Ideal S352x1024 .f32 := m ((c : Thread nD τ).loc main_arg2)
abbrev A3 (c : Dev nD) : Vec Ideal S2x352x1024 .f32 := m ((c : Thread nD τ).loc main_arg3)
abbrev A4 (c : Dev nD) : Vec Ideal S2x352x1024 .f32 := m ((c : Thread nD τ).loc main_arg4)

/-! ## The call on layer 1 -/

section

variable (c : Dev nD) (t : Fin cfg0.N) (r : Fin 352) (l : Fin 1024)

/-- Where its windows lie. -/
theorem idx0 : ∀ t : Fin cfg0.N,
    win0_0.index t = ![1, 0, 0] ∧ win0_2.index t = ![1, 0, 0] ∧ win0_3.index t = ![1, 0, 0] ∧ win0_4.index t = ![1, 0, 0] ∧ win0_5.index t = ![1, 0, 0] ∧ win0_6.index t = ![1, 0, 0] ∧ win0_7.index t = ![1, 0, 0] ∧ win0_1.index t = ![0, 0] := by
  show ∀ t : Fin grid0.N, _
  decide +kernel

/-- Its only point, whose blocks are what it leaves in the arrays. -/
def t0 : Fin cfg0.N := ⟨0, by rw [show cfg0.N = 1 from N_0]; omega⟩

theorem whole0 (k : Fin cfg0.W) (h : (cfg0.win k).flush t = true) :
    ((cfg0.win k).blk t).view.read (Elt Ideal) ((dat0 (V1 m ρ) c).arrAt k cfg0.N) = (dat0 (V1 m ρ) c).flushed k t :=
  (dat0 (V1 m ρ) c).read_blk_arrAt_eq_flushed k (fun t t' _ _ hne => absurd (Fin.ext (by have h : cfg0.N = 1 := N_0; omega)) hne) cfg0.N t t.isLt h

/-- What it leaves in its results' blocks. -/
theorem left0 : (outsAt0 (V1 m ρ) c t).1 = k0_pay4 (iblk0 (V1 m ρ) c 1 t) ∧
    (outsAt0 (V1 m ρ) c t).2.1 = k0_pay1 (k0_pay7 (iblk0 (V1 m ρ) c 1 t) (iblk0 (V1 m ρ) c 0 t) (iblk0 (V1 m ρ) c 2 t) (iblk0 (V1 m ρ) c 3 t)) ∧
    (outsAt0 (V1 m ρ) c t).2.2.1 = k0_pay2 (k0_pay5 (iblk0 (V1 m ρ) c 1 t) (iblk0 (V1 m ρ) c 2 t)) ∧
    (outsAt0 (V1 m ρ) c t).2.2.2 = k0_pay3 (k0_pay6 (iblk0 (V1 m ρ) c 1 t) (iblk0 (V1 m ρ) c 3 t)) := by
  unfold outsAt0
  dsimp only
  unfold out0_A_4 out0_A_5 out0_A_6 out0_A_7
  refine ⟨?_, ?_, ?_, ?_⟩
  all_goals
    rw [View.read_writes_junk_eq_canon]
    unfold kernelRun0_A
    dsimp only
    sl_unfold_words
    simp only [View.readAt_eq_ld, (hs0_0 t).read_unread, (hs0_1 t).read_unread, (hs0_2 t).read_unread, (hs0_3 t).read_unread, View.ld_unit_zero (S := S352x1024) hz2, View.ld_unit_zero (S := S1x352x1024) hz3]
    rw [View.canon_unit_zero (S := S1x352x1024) hz3]

theorem in0_0 : iblk0 (V1 m ρ) c 0 t (ix3 (n0 := 1) 0 r l) = A0 m c (ix3 (n0 := 2) 1 r l) :=
  (congrArg (V1 m ρ c main_arg0) (ext3 (b := 352) (d := 1024) (idx0 t).1 rfl rfl rfl)).trans (congrFun (W1_args m ρ c main_arg0 (by decide)) _)

theorem in0_2 : iblk0 (V1 m ρ) c 2 t (ix3 (n0 := 1) 0 r l) = A3 m c (ix3 (n0 := 2) 1 r l) :=
  (congrArg (V1 m ρ c main_arg3) (ext3 (b := 352) (d := 1024) (idx0 t).2.1 rfl rfl rfl)).trans (congrFun (W1_args m ρ c main_arg3 (by decide)) _)

theorem in0_3 : iblk0 (V1 m ρ) c 3 t (ix3 (n0 := 1) 0 r l) = A4 m c (ix3 (n0 := 2) 1 r l) :=
  (congrArg (V1 m ρ c main_arg4) (ext3 (b := 352) (d := 1024) (idx0 t).2.2.1 rfl rfl rfl)).trans (congrFun (W1_args m ρ c main_arg4 (by decide)) _)

theorem in0_1 : iblk0 (V1 m ρ) c 1 t (ix2 r l) = A2 m c (ix2 r l) :=
  (congrArg (V1 m ρ c main_arg2) (ext2 (b := 352) (d := 1024) (idx0 t).2.2.2.2.2.2.2 rfl rfl)).trans (congrFun (W1_args m ρ c main_arg2 (by decide)) _)

/-- Layer 1 of its results is what the call leaves. -/
theorem arr0_4 : ((dat0 (V1 m ρ) c).arrAt 4 cfg0.N : S2x352x1024.Idx → EReal) (ix3 (n0 := 2) 1 r l) = k0_pay4 (iblk0 (V1 m ρ) c 1 t) (ix3 (n0 := 1) 0 r l) :=
  (congrArg ((dat0 (V1 m ρ) c).arrAt 4 cfg0.N) (ext3 (b := 352) (d := 1024) (idx0 t).2.2.2.1 rfl rfl rfl).symm).trans
    (congrFun ((whole0 m ρ c t 4 (flush0_4 t)).trans ((after0_4 (V1 m ρ) c t).trans (left0 m ρ c t).1)) (ix3 (n0 := 1) (n1 := 352) (n2 := 1024) 0 r l))

theorem arr0_5 : ((dat0 (V1 m ρ) c).arrAt 5 cfg0.N : S2x352x1024.Idx → EReal) (ix3 (n0 := 2) 1 r l) = k0_pay1 (k0_pay7 (iblk0 (V1 m ρ) c 1 t) (iblk0 (V1 m ρ) c 0 t) (iblk0 (V1 m ρ) c 2 t) (iblk0 (V1 m ρ) c 3 t)) (ix3 (n0 := 1) 0 r l) :=
  (congrArg ((dat0 (V1 m ρ) c).arrAt 5 cfg0.N) (ext3 (b := 352) (d := 1024) (idx0 t).2.2.2.2.1 rfl rfl rfl).symm).trans
    (congrFun ((whole0 m ρ c t 5 (flush0_5 t)).trans ((after0_5 (V1 m ρ) c t).trans (left0 m ρ c t).2.1)) (ix3 (n0 := 1) (n1 := 352) (n2 := 1024) 0 r l))

theorem arr0_6 : ((dat0 (V1 m ρ) c).arrAt 6 cfg0.N : S2x352x1024.Idx → EReal) (ix3 (n0 := 2) 1 r l) = k0_pay2 (k0_pay5 (iblk0 (V1 m ρ) c 1 t) (iblk0 (V1 m ρ) c 2 t)) (ix3 (n0 := 1) 0 r l) :=
  (congrArg ((dat0 (V1 m ρ) c).arrAt 6 cfg0.N) (ext3 (b := 352) (d := 1024) (idx0 t).2.2.2.2.2.1 rfl rfl rfl).symm).trans
    (congrFun ((whole0 m ρ c t 6 (flush0_6 t)).trans ((after0_6 (V1 m ρ) c t).trans (left0 m ρ c t).2.2.1)) (ix3 (n0 := 1) (n1 := 352) (n2 := 1024) 0 r l))

theorem arr0_7 : ((dat0 (V1 m ρ) c).arrAt 7 cfg0.N : S2x352x1024.Idx → EReal) (ix3 (n0 := 2) 1 r l) = k0_pay3 (k0_pay6 (iblk0 (V1 m ρ) c 1 t) (iblk0 (V1 m ρ) c 3 t)) (ix3 (n0 := 1) 0 r l) :=
  (congrArg ((dat0 (V1 m ρ) c).arrAt 7 cfg0.N) (ext3 (b := 352) (d := 1024) (idx0 t).2.2.2.2.2.2.1 rfl rfl rfl).symm).trans
    (congrFun ((whole0 m ρ c t 7 (flush0_7 t)).trans ((after0_7 (V1 m ρ) c t).trans (left0 m ρ c t).2.2.2)) (ix3 (n0 := 1) (n1 := 352) (n2 := 1024) 0 r l))

end

/-! ## The call on layer 0 -/

section

variable (c : Dev nD) (t : Fin cfg1.N) (r : Fin 352) (l : Fin 1024)

/-- Where its windows lie. -/
theorem idx1 : ∀ t : Fin cfg1.N,
    win1_0.index t = ![0, 0, 0] ∧ win1_2.index t = ![0, 0, 0] ∧ win1_3.index t = ![0, 0, 0] ∧ win1_4.index t = ![0, 0, 0] ∧ win1_5.index t = ![0, 0, 0] ∧ win1_6.index t = ![0, 0, 0] ∧ win1_7.index t = ![0, 0, 0] ∧ win1_1.index t = ![0, 0] := by
  show ∀ t : Fin grid1.N, _
  decide +kernel

/-- Its only point, whose blocks are what it leaves in the arrays. -/
def t1 : Fin cfg1.N := ⟨0, by rw [show cfg1.N = 1 from N_1]; omega⟩

theorem whole1 (k : Fin cfg1.W) (h : (cfg1.win k).flush t = true) :
    ((cfg1.win k).blk t).view.read (Elt Ideal) ((dat1 (V3 m ρ) c).arrAt k cfg1.N) = (dat1 (V3 m ρ) c).flushed k t :=
  (dat1 (V3 m ρ) c).read_blk_arrAt_eq_flushed k (fun t t' _ _ hne => absurd (Fin.ext (by have h : cfg1.N = 1 := N_1; omega)) hne) cfg1.N t t.isLt h

/-- What it leaves in its results' blocks. -/
theorem left1 : (outsAt1 (V3 m ρ) c t).1 = k1_pay4 (iblk1 (V3 m ρ) c 1 t) ∧
    (outsAt1 (V3 m ρ) c t).2.1 = k1_pay1 (k1_pay7 (iblk1 (V3 m ρ) c 1 t) (iblk1 (V3 m ρ) c 0 t) (iblk1 (V3 m ρ) c 2 t) (iblk1 (V3 m ρ) c 3 t)) ∧
    (outsAt1 (V3 m ρ) c t).2.2.1 = k1_pay2 (k1_pay5 (iblk1 (V3 m ρ) c 1 t) (iblk1 (V3 m ρ) c 2 t)) ∧
    (outsAt1 (V3 m ρ) c t).2.2.2 = k1_pay3 (k1_pay6 (iblk1 (V3 m ρ) c 1 t) (iblk1 (V3 m ρ) c 3 t)) := by
  unfold outsAt1
  dsimp only
  unfold out1_A_4 out1_A_5 out1_A_6 out1_A_7
  refine ⟨?_, ?_, ?_, ?_⟩
  all_goals
    rw [View.read_writes_junk_eq_canon]
    unfold kernelRun1_A
    dsimp only
    sl_unfold_words
    simp only [View.readAt_eq_ld, (hs1_0 t).read_unread, (hs1_1 t).read_unread, (hs1_2 t).read_unread, (hs1_3 t).read_unread, View.ld_unit_zero (S := S352x1024) hz2, View.ld_unit_zero (S := S1x352x1024) hz3]
    rw [View.canon_unit_zero (S := S1x352x1024) hz3]

theorem in1_0 : iblk1 (V3 m ρ) c 0 t (ix3 (n0 := 1) 0 r l) = A0 m c (ix3 (n0 := 2) 0 r l) :=
  (congrArg (V3 m ρ c main_arg0) (ext3 (b := 352) (d := 1024) (idx1 t).1 rfl rfl rfl)).trans (congrFun (W3_args m ρ c main_arg0 (by decide)) _)

theorem in1_2 : iblk1 (V3 m ρ) c 2 t (ix3 (n0 := 1) 0 r l) = A3 m c (ix3 (n0 := 2) 0 r l) :=
  (congrArg (V3 m ρ c main_arg3) (ext3 (b := 352) (d := 1024) (idx1 t).2.1 rfl rfl rfl)).trans (congrFun (W3_args m ρ c main_arg3 (by decide)) _)

theorem in1_3 : iblk1 (V3 m ρ) c 3 t (ix3 (n0 := 1) 0 r l) = A4 m c (ix3 (n0 := 2) 0 r l) :=
  (congrArg (V3 m ρ c main_arg4) (ext3 (b := 352) (d := 1024) (idx1 t).2.2.1 rfl rfl rfl)).trans (congrFun (W3_args m ρ c main_arg4 (by decide)) _)

theorem in1_1 : iblk1 (V3 m ρ) c 1 t (ix2 r l) = A1 m c (ix2 r l) :=
  (congrArg (V3 m ρ c main_arg1) (ext2 (b := 352) (d := 1024) (idx1 t).2.2.2.2.2.2.2 rfl rfl)).trans (congrFun (W3_args m ρ c main_arg1 (by decide)) _)

/-- Layer 0 of its results is what the call leaves. -/
theorem arr1_4 : ((dat1 (V3 m ρ) c).arrAt 4 cfg1.N : S2x352x1024.Idx → EReal) (ix3 (n0 := 2) 0 r l) = k1_pay4 (iblk1 (V3 m ρ) c 1 t) (ix3 (n0 := 1) 0 r l) :=
  (congrArg ((dat1 (V3 m ρ) c).arrAt 4 cfg1.N) (ext3 (b := 352) (d := 1024) (idx1 t).2.2.2.1 rfl rfl rfl).symm).trans
    (congrFun ((whole1 m ρ c t 4 (flush1_4 t)).trans ((after1_4 (V3 m ρ) c t).trans (left1 m ρ c t).1)) (ix3 (n0 := 1) (n1 := 352) (n2 := 1024) 0 r l))

theorem arr1_5 : ((dat1 (V3 m ρ) c).arrAt 5 cfg1.N : S2x352x1024.Idx → EReal) (ix3 (n0 := 2) 0 r l) = k1_pay1 (k1_pay7 (iblk1 (V3 m ρ) c 1 t) (iblk1 (V3 m ρ) c 0 t) (iblk1 (V3 m ρ) c 2 t) (iblk1 (V3 m ρ) c 3 t)) (ix3 (n0 := 1) 0 r l) :=
  (congrArg ((dat1 (V3 m ρ) c).arrAt 5 cfg1.N) (ext3 (b := 352) (d := 1024) (idx1 t).2.2.2.2.1 rfl rfl rfl).symm).trans
    (congrFun ((whole1 m ρ c t 5 (flush1_5 t)).trans ((after1_5 (V3 m ρ) c t).trans (left1 m ρ c t).2.1)) (ix3 (n0 := 1) (n1 := 352) (n2 := 1024) 0 r l))

theorem arr1_6 : ((dat1 (V3 m ρ) c).arrAt 6 cfg1.N : S2x352x1024.Idx → EReal) (ix3 (n0 := 2) 0 r l) = k1_pay2 (k1_pay5 (iblk1 (V3 m ρ) c 1 t) (iblk1 (V3 m ρ) c 2 t)) (ix3 (n0 := 1) 0 r l) :=
  (congrArg ((dat1 (V3 m ρ) c).arrAt 6 cfg1.N) (ext3 (b := 352) (d := 1024) (idx1 t).2.2.2.2.2.1 rfl rfl rfl).symm).trans
    (congrFun ((whole1 m ρ c t 6 (flush1_6 t)).trans ((after1_6 (V3 m ρ) c t).trans (left1 m ρ c t).2.2.1)) (ix3 (n0 := 1) (n1 := 352) (n2 := 1024) 0 r l))

theorem arr1_7 : ((dat1 (V3 m ρ) c).arrAt 7 cfg1.N : S2x352x1024.Idx → EReal) (ix3 (n0 := 2) 0 r l) = k1_pay3 (k1_pay6 (iblk1 (V3 m ρ) c 1 t) (iblk1 (V3 m ρ) c 3 t)) (ix3 (n0 := 1) 0 r l) :=
  (congrArg ((dat1 (V3 m ρ) c).arrAt 7 cfg1.N) (ext3 (b := 352) (d := 1024) (idx1 t).2.2.2.2.2.2.1 rfl rfl rfl).symm).trans
    (congrFun ((whole1 m ρ c t 7 (flush1_7 t)).trans ((after1_7 (V3 m ρ) c t).trans (left1 m ρ c t).2.2.2)) (ix3 (n0 := 1) (n1 := 352) (n2 := 1024) 0 r l))

/-- Layer 1 of its results stays as it was. -/
theorem keep4 : ((dat1 (V3 m ρ) c).arrAt 4 cfg1.N : S2x352x1024.Idx → EReal) (ix3 (n0 := 2) 1 r l) = V3 m ρ c main_v2_0 (ix3 (n0 := 2) 1 r l) := by
  refine ((dat1 (V3 m ρ) c).arrAt_apply_of_forall_not_mem 4 cfg1.N (ix3 (n0 := 2) (n1 := 352) (n2 := 1024) 1 r l) fun t _ _ hm => ?_).trans (congrFun (A_eq1 (V3 m ρ) c 4) _)
  obtain ⟨y, -, hy⟩ := Finset.mem_map.mp hm
  exact off3 (idx1 t).2.2.2.1 (y 0).isLt (congrArg (fun z : S2x352x1024.Idx => (z 0).val) hy)

theorem keep5 : ((dat1 (V3 m ρ) c).arrAt 5 cfg1.N : S2x352x1024.Idx → EReal) (ix3 (n0 := 2) 1 r l) = V3 m ρ c main_v2_1 (ix3 (n0 := 2) 1 r l) := by
  refine ((dat1 (V3 m ρ) c).arrAt_apply_of_forall_not_mem 5 cfg1.N (ix3 (n0 := 2) (n1 := 352) (n2 := 1024) 1 r l) fun t _ _ hm => ?_).trans (congrFun (A_eq1 (V3 m ρ) c 5) _)
  obtain ⟨y, -, hy⟩ := Finset.mem_map.mp hm
  exact off3 (idx1 t).2.2.2.2.1 (y 0).isLt (congrArg (fun z : S2x352x1024.Idx => (z 0).val) hy)

theorem keep6 : ((dat1 (V3 m ρ) c).arrAt 6 cfg1.N : S2x352x1024.Idx → EReal) (ix3 (n0 := 2) 1 r l) = V3 m ρ c main_v2_2 (ix3 (n0 := 2) 1 r l) := by
  refine ((dat1 (V3 m ρ) c).arrAt_apply_of_forall_not_mem 6 cfg1.N (ix3 (n0 := 2) (n1 := 352) (n2 := 1024) 1 r l) fun t _ _ hm => ?_).trans (congrFun (A_eq1 (V3 m ρ) c 6) _)
  obtain ⟨y, -, hy⟩ := Finset.mem_map.mp hm
  exact off3 (idx1 t).2.2.2.2.2.1 (y 0).isLt (congrArg (fun z : S2x352x1024.Idx => (z 0).val) hy)

theorem keep7 : ((dat1 (V3 m ρ) c).arrAt 7 cfg1.N : S2x352x1024.Idx → EReal) (ix3 (n0 := 2) 1 r l) = V3 m ρ c main_v2_3 (ix3 (n0 := 2) 1 r l) := by
  refine ((dat1 (V3 m ρ) c).arrAt_apply_of_forall_not_mem 7 cfg1.N (ix3 (n0 := 2) (n1 := 352) (n2 := 1024) 1 r l) fun t _ _ hm => ?_).trans (congrFun (A_eq1 (V3 m ρ) c 7) _)
  obtain ⟨y, -, hy⟩ := Finset.mem_map.mp hm
  exact off3 (idx1 t).2.2.2.2.2.2.1 (y 0).isLt (congrArg (fun z : S2x352x1024.Idx => (z 0).val) hy)

end

/-! ## The run -/

section

open Idealize.ShloMosaic.Tactic
open Idealize.SL.RA Idealize.SL.BI
open scoped Idealize.SL.BI
open Idealize.SL.BI.BIBase Idealize.SL.BI.Laws Idealize.SL.ProofMode
open Idealize.ShloMosaic.Rounds

abbrev M := MT nD τ sig Unit (Elt Ideal) ℕ (UR sig nD τ) ℕ

set_option backward.isDefEq.respectTransparency.types false in
/-- The run with what the results hold at its end. -/
theorem run : θ_run (defs (F := Ideal)) (onTc (τ := τ) (main (F := Ideal))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp M)
            ⊢ BI.own (emb₁ (initOf (Pipeline.cells cfgs cellOf_inj) (Pipeline.launchToks cfgs cellOf_inj))) from .rfl)
        iexact Hu
      iapply (show (BI.emp : sProp M) ⊢ bigSep Finset.univ (fun _ : Dev nD => (BI.emp : sProp M)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end

/-- Between the calls the first call's results are copied to the arrays the second call writes in. -/
theorem V3_v4 (c : Dev nD) : V3 m ρ c main_v2_0 = (dat0 (V1 m ρ) c).arrAt 4 cfg0.N :=
  (show _ = W2 m ρ c (Proc.devRef .tc main_v1_0) by unfold_abbrev_sides; after_results; rfl).trans (W2_arr m ρ c 4)

theorem V3_v5 (c : Dev nD) : V3 m ρ c main_v2_1 = (dat0 (V1 m ρ) c).arrAt 5 cfg0.N :=
  (show _ = W2 m ρ c (Proc.devRef .tc main_v1_1) by unfold_abbrev_sides; after_results; rfl).trans (W2_arr m ρ c 5)

theorem V3_v6 (c : Dev nD) : V3 m ρ c main_v2_2 = (dat0 (V1 m ρ) c).arrAt 6 cfg0.N :=
  (show _ = W2 m ρ c (Proc.devRef .tc main_v1_2) by unfold_abbrev_sides; after_results; rfl).trans (W2_arr m ρ c 6)

theorem V3_v7 (c : Dev nD) : V3 m ρ c main_v2_3 = (dat0 (V1 m ρ) c).arrAt 7 cfg0.N :=
  (show _ = W2 m ρ c (Proc.devRef .tc main_v1_3) by unfold_abbrev_sides; after_results; rfl).trans (W2_arr m ρ c 7)

/-- What the kernel leaves is what the reference computes. -/
theorem eqs (c : Dev nD) : (W4 m ρ c (Proc.devRef .tc main_v2_0) : S2x352x1024.Idx → EReal) = val_main_v2 (F := Ideal) (A1 m c) (A2 m c) ∧
    (W4 m ρ c (Proc.devRef .tc main_v2_1) : S2x352x1024.Idx → EReal) = val_main_v26 (F := Ideal) (A0 m c) (A1 m c) (A2 m c) (A3 m c) (A4 m c) ∧
    (W4 m ρ c (Proc.devRef .tc main_v2_2) : S2x352x1024.Idx → EReal) = val_main_v7 (F := Ideal) (A1 m c) (A2 m c) (A3 m c) ∧
    (W4 m ρ c (Proc.devRef .tc main_v2_3) : S2x352x1024.Idx → EReal) = val_main_v13 (F := Ideal) (A1 m c) (A2 m c) (A4 m c) := by
  refine ⟨(W4_arr m ρ c 4).trans (stack (fun r l => (arr1_4 m ρ c t1 r l).trans ?_) fun r l =>
    (keep4 m ρ c r l).trans ((congrFun (V3_v4 m ρ c) _).trans ((arr0_4 m ρ c t0 r l).trans ?_))),
    (W4_arr m ρ c 5).trans (stack (fun r l => (arr1_5 m ρ c t1 r l).trans ?_) fun r l =>
    (keep5 m ρ c r l).trans ((congrFun (V3_v5 m ρ c) _).trans ((arr0_5 m ρ c t0 r l).trans ?_))),
    (W4_arr m ρ c 6).trans (stack (fun r l => (arr1_6 m ρ c t1 r l).trans ?_) fun r l =>
    (keep6 m ρ c r l).trans ((congrFun (V3_v6 m ρ c) _).trans ((arr0_6 m ρ c t0 r l).trans ?_))),
    (W4_arr m ρ c 7).trans (stack (fun r l => (arr1_7 m ρ c t1 r l).trans ?_) fun r l =>
    (keep7 m ρ c r l).trans ((congrFun (V3_v7 m ρ c) _).trans ((arr0_7 m ρ c t0 r l).trans ?_)))⟩
  all_goals
    pointwise [k0_pay1, k0_pay2, k0_pay3, k0_pay4, k0_pay7, k0_pay5, k0_pay6, k1_pay1, k1_pay2, k1_pay3, k1_pay4, k1_pay7, k1_pay5, k1_pay6, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
    simp only [in0_0, in0_1, in0_2, in0_3, in1_0, in1_1, in1_2, in1_3]

end Cert.AdamFfn

open Idealize.ShloMosaic Idealize.SL.Sem Cert.AdamFfnKernelIdeal Cert.AdamFfnKernelIdeal.Gen Cert.AdamFfnReferenceIdeal.Read Cert.AdamFfn in
/-- The kernel computes the reference's stacked gradient, change of the weight and both new moments, over the extended reals. -/
theorem Cert.AdamFfn.algebraic : Cert.algebraic_AdamFfnKernelIdeal_AdamFfnReferenceIdeal := by
  intro m g m' g' _ hag
  refine ⟨fun c => W4 m g c (Proc.devRef .tc main_v2_0), fun c => W4 m g c (Proc.devRef .tc main_v2_1), fun c => W4 m g c (Proc.devRef .tc main_v2_2),
    fun c => W4 m g c (Proc.devRef .tc main_v2_3), (θ_run _ _ _).mono (fun r h c => ?_) (run m g),
    (θ_run _ _ _).mono (fun r h c => ?_) (Cert.AdamFfnReferenceIdeal.Value.run m' g')⟩
  · exact ⟨h c _ (mem_uc main_v2_0 (by decide)), h c _ (mem_uc main_v2_1 (by decide)), h c _ (mem_uc main_v2_2 (by decide)),
      h c _ (mem_uc main_v2_3 (by decide)), (h c _ (mem_uc main_arg0 (by decide))).trans (W4_main_arg0 m g c),
      (h c _ (mem_uc main_arg1 (by decide))).trans (W4_main_arg1 m g c), (h c _ (mem_uc main_arg2 (by decide))).trans (W4_main_arg2 m g c),
      (h c _ (mem_uc main_arg3 (by decide))).trans (W4_main_arg3 m g c), (h c _ (mem_uc main_arg4 (by decide))).trans (W4_main_arg4 m g c)⟩
  obtain ⟨h0, h1, h2, h3, ha⟩ := h c
  obtain ⟨e0, e1, e2, e3, e4⟩ := hag c
  refine ⟨?_, ?_, ?_, ?_, ha⟩
  · rw [h0, val_main_v2_eq, e1, e2]
    exact (eqs m g c).1.symm
  · rw [h1, val_main_v26_eq, e0, e1, e2, e3, e4]
    exact (eqs m g c).2.1.symm
  · rw [h2, val_main_v7_eq, e1, e2, e3]
    exact (eqs m g c).2.2.1.symm
  · rw [h3, val_main_v13_eq, e1, e2, e4]
    exact (eqs m g c).2.2.2.symm

open Idealize.ShloMosaic Idealize.SL.Sem in
/-- The reference terminates, leaves its arguments as they were, and has no semaphore. -/
theorem Cert.AdamFfn.frame_reference : Cert.quiescent_AdamFfnReferenceIdeal := fun m ρ _ =>
  (θ_run Cert.AdamFfnReferenceIdeal.defs _ _).mono (fun r h => ⟨fun c => (h c).2.2.2.2,
    sem_eq_zero_of_no_sems (by decide) r.2⟩) (Cert.AdamFfnReferenceIdeal.Value.run m ρ)

end
-- ==== Proof.AdamWin.lean ====
/- The optimiser `adamw_layer` on w_in, one layer after the other: the gradient as it came, the change of the weight and
   both new moments. The first call writes layer 1, the second writes layer 0 into the same arrays. -/
module

public import proofs.«01_k».proof.Defs
public import proofs.«01_k».proof.Proof.Layers
public import proofs.«01_k».proof.Proof.Gen.AdamWinKernelIdeal.Frame
public import proofs.«01_k».proof.Proof.Gen.AdamWinReferenceIdeal.Read
public import Idealize.ShloMosaic.Lib.Quiescent
public import Idealize.ShloMosaic.Lib.Pipeline.Value
public import Idealize.ShloMosaic.Lib.StableHlo.RunClose
public import Idealize.ShloMosaic.Lib.Claim

@[expose] public section

set_option maxRecDepth 16384

noncomputable section

namespace Cert.AdamWin

open Cert.AdamWinKernelIdeal Cert.AdamWinKernelIdeal.Gen
open Idealize.ShloMosaic Idealize.ShloMosaic.TcCoe Idealize.ShloMosaic.StableHlo Idealize.SL Idealize.SL.Sem
open Cert.AdamWinReferenceIdeal.Read Cert Cert.Layers

variable (m : (ℓ : Loc nD τ sig) → Buf (Elt Ideal) ℓ) (ρ : Dev nD → PrngReg)

/-- The argument arrays of a device: the weight, both layers' gradients, both moments. -/
abbrev A0 (c : Dev nD) : Vec Ideal S2x452x1024 .f32 := m ((c : Thread nD τ).loc main_arg0)
abbrev A1 (c : Dev nD) : Vec Ideal S452x1024 .f32 := m ((c : Thread nD τ).loc main_arg1)
abbrev A2 (c : Dev nD) : Vec Ideal S452x1024 .f32 := m ((c : Thread nD τ).loc main_arg2)
abbrev A3 (c : Dev nD) : Vec Ideal S2x452x1024 .f32 := m ((c : Thread nD τ).loc main_arg3)
abbrev A4 (c : Dev nD) : Vec Ideal S2x452x1024 .f32 := m ((c : Thread nD τ).loc main_arg4)

/-! ## The call on layer 1 -/

section

variable (c : Dev nD) (t : Fin cfg0.N) (r : Fin 452) (l : Fin 1024)

/-- Where its windows lie. -/
theorem idx0 : ∀ t : Fin cfg0.N,
    win0_0.index t = ![1, 0, 0] ∧ win0_2.index t = ![1, 0, 0] ∧ win0_3.index t = ![1, 0, 0] ∧ win0_4.index t = ![1, 0, 0] ∧ win0_5.index t = ![1, 0, 0] ∧ win0_6.index t = ![1, 0, 0] ∧ win0_7.index t = ![1, 0, 0] ∧ win0_1.index t = ![0, 0] := by
  show ∀ t : Fin grid0.N, _
  decide +kernel

/-- Its only point, whose blocks are what it leaves in the arrays. -/
def t0 : Fin cfg0.N := ⟨0, by rw [show cfg0.N = 1 from N_0]; omega⟩

theorem whole0 (k : Fin cfg0.W) (h : (cfg0.win k).flush t = true) :
    ((cfg0.win k).blk t).view.read (Elt Ideal) ((dat0 (V1 m ρ) c).arrAt k cfg0.N) = (dat0 (V1 m ρ) c).flushed k t :=
  (dat0 (V1 m ρ) c).read_blk_arrAt_eq_flushed k (fun t t' _ _ hne => absurd (Fin.ext (by have h : cfg0.N = 1 := N_0; omega)) hne) cfg0.N t t.isLt h

/-- What it leaves in its results' blocks. -/
theorem left0 : (outsAt0 (V1 m ρ) c t).1 = k0_pay4 (iblk0 (V1 m ρ) c 1 t) ∧
    (outsAt0 (V1 m ρ) c t).2.1 = k0_pay1 (k0_pay7 (iblk0 (V1 m ρ) c 1 t) (iblk0 (V1 m ρ) c 0 t) (iblk0 (V1 m ρ) c 2 t) (iblk0 (V1 m ρ) c 3 t)) ∧
    (outsAt0 (V1 m ρ) c t).2.2.1 = k0_pay2 (k0_pay5 (iblk0 (V1 m ρ) c 1 t) (iblk0 (V1 m ρ) c 2 t)) ∧
    (outsAt0 (V1 m ρ) c t).2.2.2 = k0_pay3 (k0_pay6 (iblk0 (V1 m ρ) c 1 t) (iblk0 (V1 m ρ) c 3 t)) := by
  unfold outsAt0
  dsimp only
  unfold out0_A_4 out0_A_5 out0_A_6 out0_A_7
  refine ⟨?_, ?_, ?_, ?_⟩
  all_goals
    rw [View.read_writes_junk_eq_canon]
    unfold kernelRun0_A
    dsimp only
    sl_unfold_words
    simp only [View.readAt_eq_ld, (hs0_0 t).read_unread, (hs0_1 t).read_unread, (hs0_2 t).read_unread, (hs0_3 t).read_unread, View.ld_unit_zero (S := S452x1024) hz2, View.ld_unit_zero (S := S1x452x1024) hz3]
    rw [View.canon_unit_zero (S := S1x452x1024) hz3]

theorem in0_0 : iblk0 (V1 m ρ) c 0 t (ix3 (n0 := 1) 0 r l) = A0 m c (ix3 (n0 := 2) 1 r l) :=
  (congrArg (V1 m ρ c main_arg0) (ext3 (b := 452) (d := 1024) (idx0 t).1 rfl rfl rfl)).trans (congrFun (W1_args m ρ c main_arg0 (by decide)) _)

theorem in0_2 : iblk0 (V1 m ρ) c 2 t (ix3 (n0 := 1) 0 r l) = A3 m c (ix3 (n0 := 2) 1 r l) :=
  (congrArg (V1 m ρ c main_arg3) (ext3 (b := 452) (d := 1024) (idx0 t).2.1 rfl rfl rfl)).trans (congrFun (W1_args m ρ c main_arg3 (by decide)) _)

theorem in0_3 : iblk0 (V1 m ρ) c 3 t (ix3 (n0 := 1) 0 r l) = A4 m c (ix3 (n0 := 2) 1 r l) :=
  (congrArg (V1 m ρ c main_arg4) (ext3 (b := 452) (d := 1024) (idx0 t).2.2.1 rfl rfl rfl)).trans (congrFun (W1_args m ρ c main_arg4 (by decide)) _)

theorem in0_1 : iblk0 (V1 m ρ) c 1 t (ix2 r l) = A2 m c (ix2 r l) :=
  (congrArg (V1 m ρ c main_arg2) (ext2 (b := 452) (d := 1024) (idx0 t).2.2.2.2.2.2.2 rfl rfl)).trans (congrFun (W1_args m ρ c main_arg2 (by decide)) _)

/-- Layer 1 of its results is what the call leaves. -/
theorem arr0_4 : ((dat0 (V1 m ρ) c).arrAt 4 cfg0.N : S2x452x1024.Idx → EReal) (ix3 (n0 := 2) 1 r l) = k0_pay4 (iblk0 (V1 m ρ) c 1 t) (ix3 (n0 := 1) 0 r l) :=
  (congrArg ((dat0 (V1 m ρ) c).arrAt 4 cfg0.N) (ext3 (b := 452) (d := 1024) (idx0 t).2.2.2.1 rfl rfl rfl).symm).trans
    (congrFun ((whole0 m ρ c t 4 (flush0_4 t)).trans ((after0_4 (V1 m ρ) c t).trans (left0 m ρ c t).1)) (ix3 (n0 := 1) (n1 := 452) (n2 := 1024) 0 r l))

theorem arr0_5 : ((dat0 (V1 m ρ) c).arrAt 5 cfg0.N : S2x452x1024.Idx → EReal) (ix3 (n0 := 2) 1 r l) = k0_pay1 (k0_pay7 (iblk0 (V1 m ρ) c 1 t) (iblk0 (V1 m ρ) c 0 t) (iblk0 (V1 m ρ) c 2 t) (iblk0 (V1 m ρ) c 3 t)) (ix3 (n0 := 1) 0 r l) :=
  (congrArg ((dat0 (V1 m ρ) c).arrAt 5 cfg0.N) (ext3 (b := 452) (d := 1024) (idx0 t).2.2.2.2.1 rfl rfl rfl).symm).trans
    (congrFun ((whole0 m ρ c t 5 (flush0_5 t)).trans ((after0_5 (V1 m ρ) c t).trans (left0 m ρ c t).2.1)) (ix3 (n0 := 1) (n1 := 452) (n2 := 1024) 0 r l))

theorem arr0_6 : ((dat0 (V1 m ρ) c).arrAt 6 cfg0.N : S2x452x1024.Idx → EReal) (ix3 (n0 := 2) 1 r l) = k0_pay2 (k0_pay5 (iblk0 (V1 m ρ) c 1 t) (iblk0 (V1 m ρ) c 2 t)) (ix3 (n0 := 1) 0 r l) :=
  (congrArg ((dat0 (V1 m ρ) c).arrAt 6 cfg0.N) (ext3 (b := 452) (d := 1024) (idx0 t).2.2.2.2.2.1 rfl rfl rfl).symm).trans
    (congrFun ((whole0 m ρ c t 6 (flush0_6 t)).trans ((after0_6 (V1 m ρ) c t).trans (left0 m ρ c t).2.2.1)) (ix3 (n0 := 1) (n1 := 452) (n2 := 1024) 0 r l))

theorem arr0_7 : ((dat0 (V1 m ρ) c).arrAt 7 cfg0.N : S2x452x1024.Idx → EReal) (ix3 (n0 := 2) 1 r l) = k0_pay3 (k0_pay6 (iblk0 (V1 m ρ) c 1 t) (iblk0 (V1 m ρ) c 3 t)) (ix3 (n0 := 1) 0 r l) :=
  (congrArg ((dat0 (V1 m ρ) c).arrAt 7 cfg0.N) (ext3 (b := 452) (d := 1024) (idx0 t).2.2.2.2.2.2.1 rfl rfl rfl).symm).trans
    (congrFun ((whole0 m ρ c t 7 (flush0_7 t)).trans ((after0_7 (V1 m ρ) c t).trans (left0 m ρ c t).2.2.2)) (ix3 (n0 := 1) (n1 := 452) (n2 := 1024) 0 r l))

end

/-! ## The call on layer 0 -/

section

variable (c : Dev nD) (t : Fin cfg1.N) (r : Fin 452) (l : Fin 1024)

/-- Where its windows lie. -/
theorem idx1 : ∀ t : Fin cfg1.N,
    win1_0.index t = ![0, 0, 0] ∧ win1_2.index t = ![0, 0, 0] ∧ win1_3.index t = ![0, 0, 0] ∧ win1_4.index t = ![0, 0, 0] ∧ win1_5.index t = ![0, 0, 0] ∧ win1_6.index t = ![0, 0, 0] ∧ win1_7.index t = ![0, 0, 0] ∧ win1_1.index t = ![0, 0] := by
  show ∀ t : Fin grid1.N, _
  decide +kernel

/-- Its only point, whose blocks are what it leaves in the arrays. -/
def t1 : Fin cfg1.N := ⟨0, by rw [show cfg1.N = 1 from N_1]; omega⟩

theorem whole1 (k : Fin cfg1.W) (h : (cfg1.win k).flush t = true) :
    ((cfg1.win k).blk t).view.read (Elt Ideal) ((dat1 (V3 m ρ) c).arrAt k cfg1.N) = (dat1 (V3 m ρ) c).flushed k t :=
  (dat1 (V3 m ρ) c).read_blk_arrAt_eq_flushed k (fun t t' _ _ hne => absurd (Fin.ext (by have h : cfg1.N = 1 := N_1; omega)) hne) cfg1.N t t.isLt h

/-- What it leaves in its results' blocks. -/
theorem left1 : (outsAt1 (V3 m ρ) c t).1 = k1_pay4 (iblk1 (V3 m ρ) c 1 t) ∧
    (outsAt1 (V3 m ρ) c t).2.1 = k1_pay1 (k1_pay7 (iblk1 (V3 m ρ) c 1 t) (iblk1 (V3 m ρ) c 0 t) (iblk1 (V3 m ρ) c 2 t) (iblk1 (V3 m ρ) c 3 t)) ∧
    (outsAt1 (V3 m ρ) c t).2.2.1 = k1_pay2 (k1_pay5 (iblk1 (V3 m ρ) c 1 t) (iblk1 (V3 m ρ) c 2 t)) ∧
    (outsAt1 (V3 m ρ) c t).2.2.2 = k1_pay3 (k1_pay6 (iblk1 (V3 m ρ) c 1 t) (iblk1 (V3 m ρ) c 3 t)) := by
  unfold outsAt1
  dsimp only
  unfold out1_A_4 out1_A_5 out1_A_6 out1_A_7
  refine ⟨?_, ?_, ?_, ?_⟩
  all_goals
    rw [View.read_writes_junk_eq_canon]
    unfold kernelRun1_A
    dsimp only
    sl_unfold_words
    simp only [View.readAt_eq_ld, (hs1_0 t).read_unread, (hs1_1 t).read_unread, (hs1_2 t).read_unread, (hs1_3 t).read_unread, View.ld_unit_zero (S := S452x1024) hz2, View.ld_unit_zero (S := S1x452x1024) hz3]
    rw [View.canon_unit_zero (S := S1x452x1024) hz3]

theorem in1_0 : iblk1 (V3 m ρ) c 0 t (ix3 (n0 := 1) 0 r l) = A0 m c (ix3 (n0 := 2) 0 r l) :=
  (congrArg (V3 m ρ c main_arg0) (ext3 (b := 452) (d := 1024) (idx1 t).1 rfl rfl rfl)).trans (congrFun (W3_args m ρ c main_arg0 (by decide)) _)

theorem in1_2 : iblk1 (V3 m ρ) c 2 t (ix3 (n0 := 1) 0 r l) = A3 m c (ix3 (n0 := 2) 0 r l) :=
  (congrArg (V3 m ρ c main_arg3) (ext3 (b := 452) (d := 1024) (idx1 t).2.1 rfl rfl rfl)).trans (congrFun (W3_args m ρ c main_arg3 (by decide)) _)

theorem in1_3 : iblk1 (V3 m ρ) c 3 t (ix3 (n0 := 1) 0 r l) = A4 m c (ix3 (n0 := 2) 0 r l) :=
  (congrArg (V3 m ρ c main_arg4) (ext3 (b := 452) (d := 1024) (idx1 t).2.2.1 rfl rfl rfl)).trans (congrFun (W3_args m ρ c main_arg4 (by decide)) _)

theorem in1_1 : iblk1 (V3 m ρ) c 1 t (ix2 r l) = A1 m c (ix2 r l) :=
  (congrArg (V3 m ρ c main_arg1) (ext2 (b := 452) (d := 1024) (idx1 t).2.2.2.2.2.2.2 rfl rfl)).trans (congrFun (W3_args m ρ c main_arg1 (by decide)) _)

/-- Layer 0 of its results is what the call leaves. -/
theorem arr1_4 : ((dat1 (V3 m ρ) c).arrAt 4 cfg1.N : S2x452x1024.Idx → EReal) (ix3 (n0 := 2) 0 r l) = k1_pay4 (iblk1 (V3 m ρ) c 1 t) (ix3 (n0 := 1) 0 r l) :=
  (congrArg ((dat1 (V3 m ρ) c).arrAt 4 cfg1.N) (ext3 (b := 452) (d := 1024) (idx1 t).2.2.2.1 rfl rfl rfl).symm).trans
    (congrFun ((whole1 m ρ c t 4 (flush1_4 t)).trans ((after1_4 (V3 m ρ) c t).trans (left1 m ρ c t).1)) (ix3 (n0 := 1) (n1 := 452) (n2 := 1024) 0 r l))

theorem arr1_5 : ((dat1 (V3 m ρ) c).arrAt 5 cfg1.N : S2x452x1024.Idx → EReal) (ix3 (n0 := 2) 0 r l) = k1_pay1 (k1_pay7 (iblk1 (V3 m ρ) c 1 t) (iblk1 (V3 m ρ) c 0 t) (iblk1 (V3 m ρ) c 2 t) (iblk1 (V3 m ρ) c 3 t)) (ix3 (n0 := 1) 0 r l) :=
  (congrArg ((dat1 (V3 m ρ) c).arrAt 5 cfg1.N) (ext3 (b := 452) (d := 1024) (idx1 t).2.2.2.2.1 rfl rfl rfl).symm).trans
    (congrFun ((whole1 m ρ c t 5 (flush1_5 t)).trans ((after1_5 (V3 m ρ) c t).trans (left1 m ρ c t).2.1)) (ix3 (n0 := 1) (n1 := 452) (n2 := 1024) 0 r l))

theorem arr1_6 : ((dat1 (V3 m ρ) c).arrAt 6 cfg1.N : S2x452x1024.Idx → EReal) (ix3 (n0 := 2) 0 r l) = k1_pay2 (k1_pay5 (iblk1 (V3 m ρ) c 1 t) (iblk1 (V3 m ρ) c 2 t)) (ix3 (n0 := 1) 0 r l) :=
  (congrArg ((dat1 (V3 m ρ) c).arrAt 6 cfg1.N) (ext3 (b := 452) (d := 1024) (idx1 t).2.2.2.2.2.1 rfl rfl rfl).symm).trans
    (congrFun ((whole1 m ρ c t 6 (flush1_6 t)).trans ((after1_6 (V3 m ρ) c t).trans (left1 m ρ c t).2.2.1)) (ix3 (n0 := 1) (n1 := 452) (n2 := 1024) 0 r l))

theorem arr1_7 : ((dat1 (V3 m ρ) c).arrAt 7 cfg1.N : S2x452x1024.Idx → EReal) (ix3 (n0 := 2) 0 r l) = k1_pay3 (k1_pay6 (iblk1 (V3 m ρ) c 1 t) (iblk1 (V3 m ρ) c 3 t)) (ix3 (n0 := 1) 0 r l) :=
  (congrArg ((dat1 (V3 m ρ) c).arrAt 7 cfg1.N) (ext3 (b := 452) (d := 1024) (idx1 t).2.2.2.2.2.2.1 rfl rfl rfl).symm).trans
    (congrFun ((whole1 m ρ c t 7 (flush1_7 t)).trans ((after1_7 (V3 m ρ) c t).trans (left1 m ρ c t).2.2.2)) (ix3 (n0 := 1) (n1 := 452) (n2 := 1024) 0 r l))

/-- Layer 1 of its results stays as it was. -/
theorem keep4 : ((dat1 (V3 m ρ) c).arrAt 4 cfg1.N : S2x452x1024.Idx → EReal) (ix3 (n0 := 2) 1 r l) = V3 m ρ c main_v2_0 (ix3 (n0 := 2) 1 r l) := by
  refine ((dat1 (V3 m ρ) c).arrAt_apply_of_forall_not_mem 4 cfg1.N (ix3 (n0 := 2) (n1 := 452) (n2 := 1024) 1 r l) fun t _ _ hm => ?_).trans (congrFun (A_eq1 (V3 m ρ) c 4) _)
  obtain ⟨y, -, hy⟩ := Finset.mem_map.mp hm
  exact off3 (idx1 t).2.2.2.1 (y 0).isLt (congrArg (fun z : S2x452x1024.Idx => (z 0).val) hy)

theorem keep5 : ((dat1 (V3 m ρ) c).arrAt 5 cfg1.N : S2x452x1024.Idx → EReal) (ix3 (n0 := 2) 1 r l) = V3 m ρ c main_v2_1 (ix3 (n0 := 2) 1 r l) := by
  refine ((dat1 (V3 m ρ) c).arrAt_apply_of_forall_not_mem 5 cfg1.N (ix3 (n0 := 2) (n1 := 452) (n2 := 1024) 1 r l) fun t _ _ hm => ?_).trans (congrFun (A_eq1 (V3 m ρ) c 5) _)
  obtain ⟨y, -, hy⟩ := Finset.mem_map.mp hm
  exact off3 (idx1 t).2.2.2.2.1 (y 0).isLt (congrArg (fun z : S2x452x1024.Idx => (z 0).val) hy)

theorem keep6 : ((dat1 (V3 m ρ) c).arrAt 6 cfg1.N : S2x452x1024.Idx → EReal) (ix3 (n0 := 2) 1 r l) = V3 m ρ c main_v2_2 (ix3 (n0 := 2) 1 r l) := by
  refine ((dat1 (V3 m ρ) c).arrAt_apply_of_forall_not_mem 6 cfg1.N (ix3 (n0 := 2) (n1 := 452) (n2 := 1024) 1 r l) fun t _ _ hm => ?_).trans (congrFun (A_eq1 (V3 m ρ) c 6) _)
  obtain ⟨y, -, hy⟩ := Finset.mem_map.mp hm
  exact off3 (idx1 t).2.2.2.2.2.1 (y 0).isLt (congrArg (fun z : S2x452x1024.Idx => (z 0).val) hy)

theorem keep7 : ((dat1 (V3 m ρ) c).arrAt 7 cfg1.N : S2x452x1024.Idx → EReal) (ix3 (n0 := 2) 1 r l) = V3 m ρ c main_v2_3 (ix3 (n0 := 2) 1 r l) := by
  refine ((dat1 (V3 m ρ) c).arrAt_apply_of_forall_not_mem 7 cfg1.N (ix3 (n0 := 2) (n1 := 452) (n2 := 1024) 1 r l) fun t _ _ hm => ?_).trans (congrFun (A_eq1 (V3 m ρ) c 7) _)
  obtain ⟨y, -, hy⟩ := Finset.mem_map.mp hm
  exact off3 (idx1 t).2.2.2.2.2.2.1 (y 0).isLt (congrArg (fun z : S2x452x1024.Idx => (z 0).val) hy)

end

/-! ## The run -/

section

open Idealize.ShloMosaic.Tactic
open Idealize.SL.RA Idealize.SL.BI
open scoped Idealize.SL.BI
open Idealize.SL.BI.BIBase Idealize.SL.BI.Laws Idealize.SL.ProofMode
open Idealize.ShloMosaic.Rounds

abbrev M := MT nD τ sig Unit (Elt Ideal) ℕ (UR sig nD τ) ℕ

set_option backward.isDefEq.respectTransparency.types false in
/-- The run with what the results hold at its end. -/
theorem run : θ_run (defs (F := Ideal)) (onTc (τ := τ) (main (F := Ideal))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp M)
            ⊢ BI.own (emb₁ (initOf (Pipeline.cells cfgs cellOf_inj) (Pipeline.launchToks cfgs cellOf_inj))) from .rfl)
        iexact Hu
      iapply (show (BI.emp : sProp M) ⊢ bigSep Finset.univ (fun _ : Dev nD => (BI.emp : sProp M)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end

/-- Between the calls the first call's results are copied to the arrays the second call writes in. -/
theorem V3_v4 (c : Dev nD) : V3 m ρ c main_v2_0 = (dat0 (V1 m ρ) c).arrAt 4 cfg0.N :=
  (show _ = W2 m ρ c (Proc.devRef .tc main_v1_0) by unfold_abbrev_sides; after_results; rfl).trans (W2_arr m ρ c 4)

theorem V3_v5 (c : Dev nD) : V3 m ρ c main_v2_1 = (dat0 (V1 m ρ) c).arrAt 5 cfg0.N :=
  (show _ = W2 m ρ c (Proc.devRef .tc main_v1_1) by unfold_abbrev_sides; after_results; rfl).trans (W2_arr m ρ c 5)

theorem V3_v6 (c : Dev nD) : V3 m ρ c main_v2_2 = (dat0 (V1 m ρ) c).arrAt 6 cfg0.N :=
  (show _ = W2 m ρ c (Proc.devRef .tc main_v1_2) by unfold_abbrev_sides; after_results; rfl).trans (W2_arr m ρ c 6)

theorem V3_v7 (c : Dev nD) : V3 m ρ c main_v2_3 = (dat0 (V1 m ρ) c).arrAt 7 cfg0.N :=
  (show _ = W2 m ρ c (Proc.devRef .tc main_v1_3) by unfold_abbrev_sides; after_results; rfl).trans (W2_arr m ρ c 7)

/-- What the kernel leaves is what the reference computes. -/
theorem eqs (c : Dev nD) : (W4 m ρ c (Proc.devRef .tc main_v2_0) : S2x452x1024.Idx → EReal) = val_main_v2 (F := Ideal) (A1 m c) (A2 m c) ∧
    (W4 m ρ c (Proc.devRef .tc main_v2_1) : S2x452x1024.Idx → EReal) = val_main_v26 (F := Ideal) (A0 m c) (A1 m c) (A2 m c) (A3 m c) (A4 m c) ∧
    (W4 m ρ c (Proc.devRef .tc main_v2_2) : S2x452x1024.Idx → EReal) = val_main_v7 (F := Ideal) (A1 m c) (A2 m c) (A3 m c) ∧
    (W4 m ρ c (Proc.devRef .tc main_v2_3) : S2x452x1024.Idx → EReal) = val_main_v13 (F := Ideal) (A1 m c) (A2 m c) (A4 m c) := by
  refine ⟨(W4_arr m ρ c 4).trans (stack (fun r l => (arr1_4 m ρ c t1 r l).trans ?_) fun r l =>
    (keep4 m ρ c r l).trans ((congrFun (V3_v4 m ρ c) _).trans ((arr0_4 m ρ c t0 r l).trans ?_))),
    (W4_arr m ρ c 5).trans (stack (fun r l => (arr1_5 m ρ c t1 r l).trans ?_) fun r l =>
    (keep5 m ρ c r l).trans ((congrFun (V3_v5 m ρ c) _).trans ((arr0_5 m ρ c t0 r l).trans ?_))),
    (W4_arr m ρ c 6).trans (stack (fun r l => (arr1_6 m ρ c t1 r l).trans ?_) fun r l =>
    (keep6 m ρ c r l).trans ((congrFun (V3_v6 m ρ c) _).trans ((arr0_6 m ρ c t0 r l).trans ?_))),
    (W4_arr m ρ c 7).trans (stack (fun r l => (arr1_7 m ρ c t1 r l).trans ?_) fun r l =>
    (keep7 m ρ c r l).trans ((congrFun (V3_v7 m ρ c) _).trans ((arr0_7 m ρ c t0 r l).trans ?_)))⟩
  all_goals
    pointwise [k0_pay1, k0_pay2, k0_pay3, k0_pay4, k0_pay7, k0_pay5, k0_pay6, k1_pay1, k1_pay2, k1_pay3, k1_pay4, k1_pay7, k1_pay5, k1_pay6, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
    simp only [in0_0, in0_1, in0_2, in0_3, in1_0, in1_1, in1_2, in1_3]

end Cert.AdamWin

open Idealize.ShloMosaic Idealize.SL.Sem Cert.AdamWinKernelIdeal Cert.AdamWinKernelIdeal.Gen Cert.AdamWinReferenceIdeal.Read Cert.AdamWin in
/-- The kernel computes the reference's stacked gradient, change of the weight and both new moments, over the extended reals. -/
theorem Cert.AdamWin.algebraic : Cert.algebraic_AdamWinKernelIdeal_AdamWinReferenceIdeal := by
  intro m g m' g' _ hag
  refine ⟨fun c => W4 m g c (Proc.devRef .tc main_v2_0), fun c => W4 m g c (Proc.devRef .tc main_v2_1), fun c => W4 m g c (Proc.devRef .tc main_v2_2),
    fun c => W4 m g c (Proc.devRef .tc main_v2_3), (θ_run _ _ _).mono (fun r h c => ?_) (run m g),
    (θ_run _ _ _).mono (fun r h c => ?_) (Cert.AdamWinReferenceIdeal.Value.run m' g')⟩
  · exact ⟨h c _ (mem_uc main_v2_0 (by decide)), h c _ (mem_uc main_v2_1 (by decide)), h c _ (mem_uc main_v2_2 (by decide)),
      h c _ (mem_uc main_v2_3 (by decide)), (h c _ (mem_uc main_arg0 (by decide))).trans (W4_main_arg0 m g c),
      (h c _ (mem_uc main_arg1 (by decide))).trans (W4_main_arg1 m g c), (h c _ (mem_uc main_arg2 (by decide))).trans (W4_main_arg2 m g c),
      (h c _ (mem_uc main_arg3 (by decide))).trans (W4_main_arg3 m g c), (h c _ (mem_uc main_arg4 (by decide))).trans (W4_main_arg4 m g c)⟩
  obtain ⟨h0, h1, h2, h3, ha⟩ := h c
  obtain ⟨e0, e1, e2, e3, e4⟩ := hag c
  refine ⟨?_, ?_, ?_, ?_, ha⟩
  · rw [h0, val_main_v2_eq, e1, e2]
    exact (eqs m g c).1.symm
  · rw [h1, val_main_v26_eq, e0, e1, e2, e3, e4]
    exact (eqs m g c).2.1.symm
  · rw [h2, val_main_v7_eq, e1, e2, e3]
    exact (eqs m g c).2.2.1.symm
  · rw [h3, val_main_v13_eq, e1, e2, e4]
    exact (eqs m g c).2.2.2.symm

open Idealize.ShloMosaic Idealize.SL.Sem in
/-- The reference terminates, leaves its arguments as they were, and has no semaphore. -/
theorem Cert.AdamWin.frame_reference : Cert.quiescent_AdamWinReferenceIdeal := fun m ρ _ =>
  (θ_run Cert.AdamWinReferenceIdeal.defs _ _).mono (fun r h => ⟨fun c => (h c).2.2.2.2,
    sem_eq_zero_of_no_sems (by decide) r.2⟩) (Cert.AdamWinReferenceIdeal.Value.run m ρ)

end
-- ==== Proof.AdamCout.lean ====
/- The optimiser `adamw_layer` on w_conv_out and w_mla_out, one layer after the other: the gradient as it came, the change of the weight and
   both new moments. The first call writes layer 1, the second writes layer 0 into the same arrays. -/
module

public import proofs.«01_k».proof.Defs
public import proofs.«01_k».proof.Proof.Layers
public import proofs.«01_k».proof.Proof.Gen.AdamCoutKernelIdeal.Frame
public import proofs.«01_k».proof.Proof.Gen.AdamCoutReferenceIdeal.Read
public import Idealize.ShloMosaic.Lib.Quiescent
public import Idealize.ShloMosaic.Lib.Pipeline.Value
public import Idealize.ShloMosaic.Lib.StableHlo.RunClose
public import Idealize.ShloMosaic.Lib.Claim

@[expose] public section

set_option maxRecDepth 16384

noncomputable section

namespace Cert.AdamCout

open Cert.AdamCoutKernelIdeal Cert.AdamCoutKernelIdeal.Gen
open Idealize.ShloMosaic Idealize.ShloMosaic.TcCoe Idealize.ShloMosaic.StableHlo Idealize.SL Idealize.SL.Sem
open Cert.AdamCoutReferenceIdeal.Read Cert Cert.Layers

variable (m : (ℓ : Loc nD τ sig) → Buf (Elt Ideal) ℓ) (ρ : Dev nD → PrngReg)

/-- The argument arrays of a device: the weight, both layers' gradients, both moments. -/
abbrev A0 (c : Dev nD) : Vec Ideal S2x128x512 .f32 := m ((c : Thread nD τ).loc main_arg0)
abbrev A1 (c : Dev nD) : Vec Ideal S128x512 .f32 := m ((c : Thread nD τ).loc main_arg1)
abbrev A2 (c : Dev nD) : Vec Ideal S128x512 .f32 := m ((c : Thread nD τ).loc main_arg2)
abbrev A3 (c : Dev nD) : Vec Ideal S2x128x512 .f32 := m ((c : Thread nD τ).loc main_arg3)
abbrev A4 (c : Dev nD) : Vec Ideal S2x128x512 .f32 := m ((c : Thread nD τ).loc main_arg4)

/-! ## The call on layer 1 -/

section

variable (c : Dev nD) (t : Fin cfg0.N) (r : Fin 128) (l : Fin 512)

/-- Where its windows lie. -/
theorem idx0 : ∀ t : Fin cfg0.N,
    win0_0.index t = ![1, 0, 0] ∧ win0_2.index t = ![1, 0, 0] ∧ win0_3.index t = ![1, 0, 0] ∧ win0_4.index t = ![1, 0, 0] ∧ win0_5.index t = ![1, 0, 0] ∧ win0_6.index t = ![1, 0, 0] ∧ win0_7.index t = ![1, 0, 0] ∧ win0_1.index t = ![0, 0] := by
  show ∀ t : Fin grid0.N, _
  decide +kernel

/-- Its only point, whose blocks are what it leaves in the arrays. -/
def t0 : Fin cfg0.N := ⟨0, by rw [show cfg0.N = 1 from N_0]; omega⟩

theorem whole0 (k : Fin cfg0.W) (h : (cfg0.win k).flush t = true) :
    ((cfg0.win k).blk t).view.read (Elt Ideal) ((dat0 (V1 m ρ) c).arrAt k cfg0.N) = (dat0 (V1 m ρ) c).flushed k t :=
  (dat0 (V1 m ρ) c).read_blk_arrAt_eq_flushed k (fun t t' _ _ hne => absurd (Fin.ext (by have h : cfg0.N = 1 := N_0; omega)) hne) cfg0.N t t.isLt h

/-- What it leaves in its results' blocks. -/
theorem left0 : (outsAt0 (V1 m ρ) c t).1 = k0_pay4 (iblk0 (V1 m ρ) c 1 t) ∧
    (outsAt0 (V1 m ρ) c t).2.1 = k0_pay1 (k0_pay7 (iblk0 (V1 m ρ) c 1 t) (iblk0 (V1 m ρ) c 0 t) (iblk0 (V1 m ρ) c 2 t) (iblk0 (V1 m ρ) c 3 t)) ∧
    (outsAt0 (V1 m ρ) c t).2.2.1 = k0_pay2 (k0_pay5 (iblk0 (V1 m ρ) c 1 t) (iblk0 (V1 m ρ) c 2 t)) ∧
    (outsAt0 (V1 m ρ) c t).2.2.2 = k0_pay3 (k0_pay6 (iblk0 (V1 m ρ) c 1 t) (iblk0 (V1 m ρ) c 3 t)) := by
  unfold outsAt0
  dsimp only
  unfold out0_A_4 out0_A_5 out0_A_6 out0_A_7
  refine ⟨?_, ?_, ?_, ?_⟩
  all_goals
    rw [View.read_writes_junk_eq_canon]
    unfold kernelRun0_A
    dsimp only
    sl_unfold_words
    simp only [View.readAt_eq_ld, (hs0_0 t).read_unread, (hs0_1 t).read_unread, (hs0_2 t).read_unread, (hs0_3 t).read_unread, View.ld_unit_zero (S := S128x512) hz2, View.ld_unit_zero (S := S1x128x512) hz3]
    rw [View.canon_unit_zero (S := S1x128x512) hz3]

theorem in0_0 : iblk0 (V1 m ρ) c 0 t (ix3 (n0 := 1) 0 r l) = A0 m c (ix3 (n0 := 2) 1 r l) :=
  (congrArg (V1 m ρ c main_arg0) (ext3 (b := 128) (d := 512) (idx0 t).1 rfl rfl rfl)).trans (congrFun (W1_args m ρ c main_arg0 (by decide)) _)

theorem in0_2 : iblk0 (V1 m ρ) c 2 t (ix3 (n0 := 1) 0 r l) = A3 m c (ix3 (n0 := 2) 1 r l) :=
  (congrArg (V1 m ρ c main_arg3) (ext3 (b := 128) (d := 512) (idx0 t).2.1 rfl rfl rfl)).trans (congrFun (W1_args m ρ c main_arg3 (by decide)) _)

theorem in0_3 : iblk0 (V1 m ρ) c 3 t (ix3 (n0 := 1) 0 r l) = A4 m c (ix3 (n0 := 2) 1 r l) :=
  (congrArg (V1 m ρ c main_arg4) (ext3 (b := 128) (d := 512) (idx0 t).2.2.1 rfl rfl rfl)).trans (congrFun (W1_args m ρ c main_arg4 (by decide)) _)

theorem in0_1 : iblk0 (V1 m ρ) c 1 t (ix2 r l) = A2 m c (ix2 r l) :=
  (congrArg (V1 m ρ c main_arg2) (ext2 (b := 128) (d := 512) (idx0 t).2.2.2.2.2.2.2 rfl rfl)).trans (congrFun (W1_args m ρ c main_arg2 (by decide)) _)

/-- Layer 1 of its results is what the call leaves. -/
theorem arr0_4 : ((dat0 (V1 m ρ) c).arrAt 4 cfg0.N : S2x128x512.Idx → EReal) (ix3 (n0 := 2) 1 r l) = k0_pay4 (iblk0 (V1 m ρ) c 1 t) (ix3 (n0 := 1) 0 r l) :=
  (congrArg ((dat0 (V1 m ρ) c).arrAt 4 cfg0.N) (ext3 (b := 128) (d := 512) (idx0 t).2.2.2.1 rfl rfl rfl).symm).trans
    (congrFun ((whole0 m ρ c t 4 (flush0_4 t)).trans ((after0_4 (V1 m ρ) c t).trans (left0 m ρ c t).1)) (ix3 (n0 := 1) (n1 := 128) (n2 := 512) 0 r l))

theorem arr0_5 : ((dat0 (V1 m ρ) c).arrAt 5 cfg0.N : S2x128x512.Idx → EReal) (ix3 (n0 := 2) 1 r l) = k0_pay1 (k0_pay7 (iblk0 (V1 m ρ) c 1 t) (iblk0 (V1 m ρ) c 0 t) (iblk0 (V1 m ρ) c 2 t) (iblk0 (V1 m ρ) c 3 t)) (ix3 (n0 := 1) 0 r l) :=
  (congrArg ((dat0 (V1 m ρ) c).arrAt 5 cfg0.N) (ext3 (b := 128) (d := 512) (idx0 t).2.2.2.2.1 rfl rfl rfl).symm).trans
    (congrFun ((whole0 m ρ c t 5 (flush0_5 t)).trans ((after0_5 (V1 m ρ) c t).trans (left0 m ρ c t).2.1)) (ix3 (n0 := 1) (n1 := 128) (n2 := 512) 0 r l))

theorem arr0_6 : ((dat0 (V1 m ρ) c).arrAt 6 cfg0.N : S2x128x512.Idx → EReal) (ix3 (n0 := 2) 1 r l) = k0_pay2 (k0_pay5 (iblk0 (V1 m ρ) c 1 t) (iblk0 (V1 m ρ) c 2 t)) (ix3 (n0 := 1) 0 r l) :=
  (congrArg ((dat0 (V1 m ρ) c).arrAt 6 cfg0.N) (ext3 (b := 128) (d := 512) (idx0 t).2.2.2.2.2.1 rfl rfl rfl).symm).trans
    (congrFun ((whole0 m ρ c t 6 (flush0_6 t)).trans ((after0_6 (V1 m ρ) c t).trans (left0 m ρ c t).2.2.1)) (ix3 (n0 := 1) (n1 := 128) (n2 := 512) 0 r l))

theorem arr0_7 : ((dat0 (V1 m ρ) c).arrAt 7 cfg0.N : S2x128x512.Idx → EReal) (ix3 (n0 := 2) 1 r l) = k0_pay3 (k0_pay6 (iblk0 (V1 m ρ) c 1 t) (iblk0 (V1 m ρ) c 3 t)) (ix3 (n0 := 1) 0 r l) :=
  (congrArg ((dat0 (V1 m ρ) c).arrAt 7 cfg0.N) (ext3 (b := 128) (d := 512) (idx0 t).2.2.2.2.2.2.1 rfl rfl rfl).symm).trans
    (congrFun ((whole0 m ρ c t 7 (flush0_7 t)).trans ((after0_7 (V1 m ρ) c t).trans (left0 m ρ c t).2.2.2)) (ix3 (n0 := 1) (n1 := 128) (n2 := 512) 0 r l))

end

/-! ## The call on layer 0 -/

section

variable (c : Dev nD) (t : Fin cfg1.N) (r : Fin 128) (l : Fin 512)

/-- Where its windows lie. -/
theorem idx1 : ∀ t : Fin cfg1.N,
    win1_0.index t = ![0, 0, 0] ∧ win1_2.index t = ![0, 0, 0] ∧ win1_3.index t = ![0, 0, 0] ∧ win1_4.index t = ![0, 0, 0] ∧ win1_5.index t = ![0, 0, 0] ∧ win1_6.index t = ![0, 0, 0] ∧ win1_7.index t = ![0, 0, 0] ∧ win1_1.index t = ![0, 0] := by
  show ∀ t : Fin grid1.N, _
  decide +kernel

/-- Its only point, whose blocks are what it leaves in the arrays. -/
def t1 : Fin cfg1.N := ⟨0, by rw [show cfg1.N = 1 from N_1]; omega⟩

theorem whole1 (k : Fin cfg1.W) (h : (cfg1.win k).flush t = true) :
    ((cfg1.win k).blk t).view.read (Elt Ideal) ((dat1 (V3 m ρ) c).arrAt k cfg1.N) = (dat1 (V3 m ρ) c).flushed k t :=
  (dat1 (V3 m ρ) c).read_blk_arrAt_eq_flushed k (fun t t' _ _ hne => absurd (Fin.ext (by have h : cfg1.N = 1 := N_1; omega)) hne) cfg1.N t t.isLt h

/-- What it leaves in its results' blocks. -/
theorem left1 : (outsAt1 (V3 m ρ) c t).1 = k1_pay4 (iblk1 (V3 m ρ) c 1 t) ∧
    (outsAt1 (V3 m ρ) c t).2.1 = k1_pay1 (k1_pay7 (iblk1 (V3 m ρ) c 1 t) (iblk1 (V3 m ρ) c 0 t) (iblk1 (V3 m ρ) c 2 t) (iblk1 (V3 m ρ) c 3 t)) ∧
    (outsAt1 (V3 m ρ) c t).2.2.1 = k1_pay2 (k1_pay5 (iblk1 (V3 m ρ) c 1 t) (iblk1 (V3 m ρ) c 2 t)) ∧
    (outsAt1 (V3 m ρ) c t).2.2.2 = k1_pay3 (k1_pay6 (iblk1 (V3 m ρ) c 1 t) (iblk1 (V3 m ρ) c 3 t)) := by
  unfold outsAt1
  dsimp only
  unfold out1_A_4 out1_A_5 out1_A_6 out1_A_7
  refine ⟨?_, ?_, ?_, ?_⟩
  all_goals
    rw [View.read_writes_junk_eq_canon]
    unfold kernelRun1_A
    dsimp only
    sl_unfold_words
    simp only [View.readAt_eq_ld, (hs1_0 t).read_unread, (hs1_1 t).read_unread, (hs1_2 t).read_unread, (hs1_3 t).read_unread, View.ld_unit_zero (S := S128x512) hz2, View.ld_unit_zero (S := S1x128x512) hz3]
    rw [View.canon_unit_zero (S := S1x128x512) hz3]

theorem in1_0 : iblk1 (V3 m ρ) c 0 t (ix3 (n0 := 1) 0 r l) = A0 m c (ix3 (n0 := 2) 0 r l) :=
  (congrArg (V3 m ρ c main_arg0) (ext3 (b := 128) (d := 512) (idx1 t).1 rfl rfl rfl)).trans (congrFun (W3_args m ρ c main_arg0 (by decide)) _)

theorem in1_2 : iblk1 (V3 m ρ) c 2 t (ix3 (n0 := 1) 0 r l) = A3 m c (ix3 (n0 := 2) 0 r l) :=
  (congrArg (V3 m ρ c main_arg3) (ext3 (b := 128) (d := 512) (idx1 t).2.1 rfl rfl rfl)).trans (congrFun (W3_args m ρ c main_arg3 (by decide)) _)

theorem in1_3 : iblk1 (V3 m ρ) c 3 t (ix3 (n0 := 1) 0 r l) = A4 m c (ix3 (n0 := 2) 0 r l) :=
  (congrArg (V3 m ρ c main_arg4) (ext3 (b := 128) (d := 512) (idx1 t).2.2.1 rfl rfl rfl)).trans (congrFun (W3_args m ρ c main_arg4 (by decide)) _)

theorem in1_1 : iblk1 (V3 m ρ) c 1 t (ix2 r l) = A1 m c (ix2 r l) :=
  (congrArg (V3 m ρ c main_arg1) (ext2 (b := 128) (d := 512) (idx1 t).2.2.2.2.2.2.2 rfl rfl)).trans (congrFun (W3_args m ρ c main_arg1 (by decide)) _)

/-- Layer 0 of its results is what the call leaves. -/
theorem arr1_4 : ((dat1 (V3 m ρ) c).arrAt 4 cfg1.N : S2x128x512.Idx → EReal) (ix3 (n0 := 2) 0 r l) = k1_pay4 (iblk1 (V3 m ρ) c 1 t) (ix3 (n0 := 1) 0 r l) :=
  (congrArg ((dat1 (V3 m ρ) c).arrAt 4 cfg1.N) (ext3 (b := 128) (d := 512) (idx1 t).2.2.2.1 rfl rfl rfl).symm).trans
    (congrFun ((whole1 m ρ c t 4 (flush1_4 t)).trans ((after1_4 (V3 m ρ) c t).trans (left1 m ρ c t).1)) (ix3 (n0 := 1) (n1 := 128) (n2 := 512) 0 r l))

theorem arr1_5 : ((dat1 (V3 m ρ) c).arrAt 5 cfg1.N : S2x128x512.Idx → EReal) (ix3 (n0 := 2) 0 r l) = k1_pay1 (k1_pay7 (iblk1 (V3 m ρ) c 1 t) (iblk1 (V3 m ρ) c 0 t) (iblk1 (V3 m ρ) c 2 t) (iblk1 (V3 m ρ) c 3 t)) (ix3 (n0 := 1) 0 r l) :=
  (congrArg ((dat1 (V3 m ρ) c).arrAt 5 cfg1.N) (ext3 (b := 128) (d := 512) (idx1 t).2.2.2.2.1 rfl rfl rfl).symm).trans
    (congrFun ((whole1 m ρ c t 5 (flush1_5 t)).trans ((after1_5 (V3 m ρ) c t).trans (left1 m ρ c t).2.1)) (ix3 (n0 := 1) (n1 := 128) (n2 := 512) 0 r l))

theorem arr1_6 : ((dat1 (V3 m ρ) c).arrAt 6 cfg1.N : S2x128x512.Idx → EReal) (ix3 (n0 := 2) 0 r l) = k1_pay2 (k1_pay5 (iblk1 (V3 m ρ) c 1 t) (iblk1 (V3 m ρ) c 2 t)) (ix3 (n0 := 1) 0 r l) :=
  (congrArg ((dat1 (V3 m ρ) c).arrAt 6 cfg1.N) (ext3 (b := 128) (d := 512) (idx1 t).2.2.2.2.2.1 rfl rfl rfl).symm).trans
    (congrFun ((whole1 m ρ c t 6 (flush1_6 t)).trans ((after1_6 (V3 m ρ) c t).trans (left1 m ρ c t).2.2.1)) (ix3 (n0 := 1) (n1 := 128) (n2 := 512) 0 r l))

theorem arr1_7 : ((dat1 (V3 m ρ) c).arrAt 7 cfg1.N : S2x128x512.Idx → EReal) (ix3 (n0 := 2) 0 r l) = k1_pay3 (k1_pay6 (iblk1 (V3 m ρ) c 1 t) (iblk1 (V3 m ρ) c 3 t)) (ix3 (n0 := 1) 0 r l) :=
  (congrArg ((dat1 (V3 m ρ) c).arrAt 7 cfg1.N) (ext3 (b := 128) (d := 512) (idx1 t).2.2.2.2.2.2.1 rfl rfl rfl).symm).trans
    (congrFun ((whole1 m ρ c t 7 (flush1_7 t)).trans ((after1_7 (V3 m ρ) c t).trans (left1 m ρ c t).2.2.2)) (ix3 (n0 := 1) (n1 := 128) (n2 := 512) 0 r l))

/-- Layer 1 of its results stays as it was. -/
theorem keep4 : ((dat1 (V3 m ρ) c).arrAt 4 cfg1.N : S2x128x512.Idx → EReal) (ix3 (n0 := 2) 1 r l) = V3 m ρ c main_v2_0 (ix3 (n0 := 2) 1 r l) := by
  refine ((dat1 (V3 m ρ) c).arrAt_apply_of_forall_not_mem 4 cfg1.N (ix3 (n0 := 2) (n1 := 128) (n2 := 512) 1 r l) fun t _ _ hm => ?_).trans (congrFun (A_eq1 (V3 m ρ) c 4) _)
  obtain ⟨y, -, hy⟩ := Finset.mem_map.mp hm
  exact off3 (idx1 t).2.2.2.1 (y 0).isLt (congrArg (fun z : S2x128x512.Idx => (z 0).val) hy)

theorem keep5 : ((dat1 (V3 m ρ) c).arrAt 5 cfg1.N : S2x128x512.Idx → EReal) (ix3 (n0 := 2) 1 r l) = V3 m ρ c main_v2_1 (ix3 (n0 := 2) 1 r l) := by
  refine ((dat1 (V3 m ρ) c).arrAt_apply_of_forall_not_mem 5 cfg1.N (ix3 (n0 := 2) (n1 := 128) (n2 := 512) 1 r l) fun t _ _ hm => ?_).trans (congrFun (A_eq1 (V3 m ρ) c 5) _)
  obtain ⟨y, -, hy⟩ := Finset.mem_map.mp hm
  exact off3 (idx1 t).2.2.2.2.1 (y 0).isLt (congrArg (fun z : S2x128x512.Idx => (z 0).val) hy)

theorem keep6 : ((dat1 (V3 m ρ) c).arrAt 6 cfg1.N : S2x128x512.Idx → EReal) (ix3 (n0 := 2) 1 r l) = V3 m ρ c main_v2_2 (ix3 (n0 := 2) 1 r l) := by
  refine ((dat1 (V3 m ρ) c).arrAt_apply_of_forall_not_mem 6 cfg1.N (ix3 (n0 := 2) (n1 := 128) (n2 := 512) 1 r l) fun t _ _ hm => ?_).trans (congrFun (A_eq1 (V3 m ρ) c 6) _)
  obtain ⟨y, -, hy⟩ := Finset.mem_map.mp hm
  exact off3 (idx1 t).2.2.2.2.2.1 (y 0).isLt (congrArg (fun z : S2x128x512.Idx => (z 0).val) hy)

theorem keep7 : ((dat1 (V3 m ρ) c).arrAt 7 cfg1.N : S2x128x512.Idx → EReal) (ix3 (n0 := 2) 1 r l) = V3 m ρ c main_v2_3 (ix3 (n0 := 2) 1 r l) := by
  refine ((dat1 (V3 m ρ) c).arrAt_apply_of_forall_not_mem 7 cfg1.N (ix3 (n0 := 2) (n1 := 128) (n2 := 512) 1 r l) fun t _ _ hm => ?_).trans (congrFun (A_eq1 (V3 m ρ) c 7) _)
  obtain ⟨y, -, hy⟩ := Finset.mem_map.mp hm
  exact off3 (idx1 t).2.2.2.2.2.2.1 (y 0).isLt (congrArg (fun z : S2x128x512.Idx => (z 0).val) hy)

end

/-! ## The run -/

section

open Idealize.ShloMosaic.Tactic
open Idealize.SL.RA Idealize.SL.BI
open scoped Idealize.SL.BI
open Idealize.SL.BI.BIBase Idealize.SL.BI.Laws Idealize.SL.ProofMode
open Idealize.ShloMosaic.Rounds

abbrev M := MT nD τ sig Unit (Elt Ideal) ℕ (UR sig nD τ) ℕ

set_option backward.isDefEq.respectTransparency.types false in
/-- The run with what the results hold at its end. -/
theorem run : θ_run (defs (F := Ideal)) (onTc (τ := τ) (main (F := Ideal))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp M)
            ⊢ BI.own (emb₁ (initOf (Pipeline.cells cfgs cellOf_inj) (Pipeline.launchToks cfgs cellOf_inj))) from .rfl)
        iexact Hu
      iapply (show (BI.emp : sProp M) ⊢ bigSep Finset.univ (fun _ : Dev nD => (BI.emp : sProp M)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end

/-- Between the calls the first call's results are copied to the arrays the second call writes in. -/
theorem V3_v4 (c : Dev nD) : V3 m ρ c main_v2_0 = (dat0 (V1 m ρ) c).arrAt 4 cfg0.N :=
  (show _ = W2 m ρ c (Proc.devRef .tc main_v1_0) by unfold_abbrev_sides; after_results; rfl).trans (W2_arr m ρ c 4)

theorem V3_v5 (c : Dev nD) : V3 m ρ c main_v2_1 = (dat0 (V1 m ρ) c).arrAt 5 cfg0.N :=
  (show _ = W2 m ρ c (Proc.devRef .tc main_v1_1) by unfold_abbrev_sides; after_results; rfl).trans (W2_arr m ρ c 5)

theorem V3_v6 (c : Dev nD) : V3 m ρ c main_v2_2 = (dat0 (V1 m ρ) c).arrAt 6 cfg0.N :=
  (show _ = W2 m ρ c (Proc.devRef .tc main_v1_2) by unfold_abbrev_sides; after_results; rfl).trans (W2_arr m ρ c 6)

theorem V3_v7 (c : Dev nD) : V3 m ρ c main_v2_3 = (dat0 (V1 m ρ) c).arrAt 7 cfg0.N :=
  (show _ = W2 m ρ c (Proc.devRef .tc main_v1_3) by unfold_abbrev_sides; after_results; rfl).trans (W2_arr m ρ c 7)

/-- What the kernel leaves is what the reference computes. -/
theorem eqs (c : Dev nD) : (W4 m ρ c (Proc.devRef .tc main_v2_0) : S2x128x512.Idx → EReal) = val_main_v2 (F := Ideal) (A1 m c) (A2 m c) ∧
    (W4 m ρ c (Proc.devRef .tc main_v2_1) : S2x128x512.Idx → EReal) = val_main_v26 (F := Ideal) (A0 m c) (A1 m c) (A2 m c) (A3 m c) (A4 m c) ∧
    (W4 m ρ c (Proc.devRef .tc main_v2_2) : S2x128x512.Idx → EReal) = val_main_v7 (F := Ideal) (A1 m c) (A2 m c) (A3 m c) ∧
    (W4 m ρ c (Proc.devRef .tc main_v2_3) : S2x128x512.Idx → EReal) = val_main_v13 (F := Ideal) (A1 m c) (A2 m c) (A4 m c) := by
  refine ⟨(W4_arr m ρ c 4).trans (stack (fun r l => (arr1_4 m ρ c t1 r l).trans ?_) fun r l =>
    (keep4 m ρ c r l).trans ((congrFun (V3_v4 m ρ c) _).trans ((arr0_4 m ρ c t0 r l).trans ?_))),
    (W4_arr m ρ c 5).trans (stack (fun r l => (arr1_5 m ρ c t1 r l).trans ?_) fun r l =>
    (keep5 m ρ c r l).trans ((congrFun (V3_v5 m ρ c) _).trans ((arr0_5 m ρ c t0 r l).trans ?_))),
    (W4_arr m ρ c 6).trans (stack (fun r l => (arr1_6 m ρ c t1 r l).trans ?_) fun r l =>
    (keep6 m ρ c r l).trans ((congrFun (V3_v6 m ρ c) _).trans ((arr0_6 m ρ c t0 r l).trans ?_))),
    (W4_arr m ρ c 7).trans (stack (fun r l => (arr1_7 m ρ c t1 r l).trans ?_) fun r l =>
    (keep7 m ρ c r l).trans ((congrFun (V3_v7 m ρ c) _).trans ((arr0_7 m ρ c t0 r l).trans ?_)))⟩
  all_goals
    pointwise [k0_pay1, k0_pay2, k0_pay3, k0_pay4, k0_pay7, k0_pay5, k0_pay6, k1_pay1, k1_pay2, k1_pay3, k1_pay4, k1_pay7, k1_pay5, k1_pay6, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
    simp only [in0_0, in0_1, in0_2, in0_3, in1_0, in1_1, in1_2, in1_3]

end Cert.AdamCout

open Idealize.ShloMosaic Idealize.SL.Sem Cert.AdamCoutKernelIdeal Cert.AdamCoutKernelIdeal.Gen Cert.AdamCoutReferenceIdeal.Read Cert.AdamCout in
/-- The kernel computes the reference's stacked gradient, change of the weight and both new moments, over the extended reals. -/
theorem Cert.AdamCout.algebraic : Cert.algebraic_AdamCoutKernelIdeal_AdamCoutReferenceIdeal := by
  intro m g m' g' _ hag
  refine ⟨fun c => W4 m g c (Proc.devRef .tc main_v2_0), fun c => W4 m g c (Proc.devRef .tc main_v2_1), fun c => W4 m g c (Proc.devRef .tc main_v2_2),
    fun c => W4 m g c (Proc.devRef .tc main_v2_3), (θ_run _ _ _).mono (fun r h c => ?_) (run m g),
    (θ_run _ _ _).mono (fun r h c => ?_) (Cert.AdamCoutReferenceIdeal.Value.run m' g')⟩
  · exact ⟨h c _ (mem_uc main_v2_0 (by decide)), h c _ (mem_uc main_v2_1 (by decide)), h c _ (mem_uc main_v2_2 (by decide)),
      h c _ (mem_uc main_v2_3 (by decide)), (h c _ (mem_uc main_arg0 (by decide))).trans (W4_main_arg0 m g c),
      (h c _ (mem_uc main_arg1 (by decide))).trans (W4_main_arg1 m g c), (h c _ (mem_uc main_arg2 (by decide))).trans (W4_main_arg2 m g c),
      (h c _ (mem_uc main_arg3 (by decide))).trans (W4_main_arg3 m g c), (h c _ (mem_uc main_arg4 (by decide))).trans (W4_main_arg4 m g c)⟩
  obtain ⟨h0, h1, h2, h3, ha⟩ := h c
  obtain ⟨e0, e1, e2, e3, e4⟩ := hag c
  refine ⟨?_, ?_, ?_, ?_, ha⟩
  · rw [h0, val_main_v2_eq, e1, e2]
    exact (eqs m g c).1.symm
  · rw [h1, val_main_v26_eq, e0, e1, e2, e3, e4]
    exact (eqs m g c).2.1.symm
  · rw [h2, val_main_v7_eq, e1, e2, e3]
    exact (eqs m g c).2.2.1.symm
  · rw [h3, val_main_v13_eq, e1, e2, e4]
    exact (eqs m g c).2.2.2.symm

open Idealize.ShloMosaic Idealize.SL.Sem in
/-- The reference terminates, leaves its arguments as they were, and has no semaphore. -/
theorem Cert.AdamCout.frame_reference : Cert.quiescent_AdamCoutReferenceIdeal := fun m ρ _ =>
  (θ_run Cert.AdamCoutReferenceIdeal.defs _ _).mono (fun r h => ⟨fun c => (h c).2.2.2.2,
    sem_eq_zero_of_no_sems (by decide) r.2⟩) (Cert.AdamCoutReferenceIdeal.Value.run m ρ)

end
-- ==== Proof.AdamUq.lean ====
/- The optimiser `adamw_layer` on w_uq, one layer after the other: the gradient as it came, the change of the weight and
   both new moments. The first call writes layer 1, the second writes layer 0 into the same arrays. -/
module

public import proofs.«01_k».proof.Defs
public import proofs.«01_k».proof.Proof.Layers
public import proofs.«01_k».proof.Proof.Gen.AdamUqKernelIdeal.Frame
public import proofs.«01_k».proof.Proof.Gen.AdamUqReferenceIdeal.Read
public import Idealize.ShloMosaic.Lib.Quiescent
public import Idealize.ShloMosaic.Lib.Pipeline.Value
public import Idealize.ShloMosaic.Lib.StableHlo.RunClose
public import Idealize.ShloMosaic.Lib.Claim

@[expose] public section

set_option maxRecDepth 16384

noncomputable section

namespace Cert.AdamUq

open Cert.AdamUqKernelIdeal Cert.AdamUqKernelIdeal.Gen
open Idealize.ShloMosaic Idealize.ShloMosaic.TcCoe Idealize.ShloMosaic.StableHlo Idealize.SL Idealize.SL.Sem
open Cert.AdamUqReferenceIdeal.Read Cert Cert.Layers

variable (m : (ℓ : Loc nD τ sig) → Buf (Elt Ideal) ℓ) (ρ : Dev nD → PrngReg)

/-- The argument arrays of a device: the weight, both layers' gradients, both moments. -/
abbrev A0 (c : Dev nD) : Vec Ideal S2x96x256 .f32 := m ((c : Thread nD τ).loc main_arg0)
abbrev A1 (c : Dev nD) : Vec Ideal S96x256 .f32 := m ((c : Thread nD τ).loc main_arg1)
abbrev A2 (c : Dev nD) : Vec Ideal S96x256 .f32 := m ((c : Thread nD τ).loc main_arg2)
abbrev A3 (c : Dev nD) : Vec Ideal S2x96x256 .f32 := m ((c : Thread nD τ).loc main_arg3)
abbrev A4 (c : Dev nD) : Vec Ideal S2x96x256 .f32 := m ((c : Thread nD τ).loc main_arg4)

/-! ## The call on layer 1 -/

section

variable (c : Dev nD) (t : Fin cfg0.N) (r : Fin 96) (l : Fin 256)

/-- Where its windows lie. -/
theorem idx0 : ∀ t : Fin cfg0.N,
    win0_0.index t = ![1, 0, 0] ∧ win0_2.index t = ![1, 0, 0] ∧ win0_3.index t = ![1, 0, 0] ∧ win0_4.index t = ![1, 0, 0] ∧ win0_5.index t = ![1, 0, 0] ∧ win0_6.index t = ![1, 0, 0] ∧ win0_7.index t = ![1, 0, 0] ∧ win0_1.index t = ![0, 0] := by
  show ∀ t : Fin grid0.N, _
  decide +kernel

/-- Its only point, whose blocks are what it leaves in the arrays. -/
def t0 : Fin cfg0.N := ⟨0, by rw [show cfg0.N = 1 from N_0]; omega⟩

theorem whole0 (k : Fin cfg0.W) (h : (cfg0.win k).flush t = true) :
    ((cfg0.win k).blk t).view.read (Elt Ideal) ((dat0 (V1 m ρ) c).arrAt k cfg0.N) = (dat0 (V1 m ρ) c).flushed k t :=
  (dat0 (V1 m ρ) c).read_blk_arrAt_eq_flushed k (fun t t' _ _ hne => absurd (Fin.ext (by have h : cfg0.N = 1 := N_0; omega)) hne) cfg0.N t t.isLt h

/-- What it leaves in its results' blocks. -/
theorem left0 : (outsAt0 (V1 m ρ) c t).1 = k0_pay4 (iblk0 (V1 m ρ) c 1 t) ∧
    (outsAt0 (V1 m ρ) c t).2.1 = k0_pay1 (k0_pay7 (iblk0 (V1 m ρ) c 1 t) (iblk0 (V1 m ρ) c 0 t) (iblk0 (V1 m ρ) c 2 t) (iblk0 (V1 m ρ) c 3 t)) ∧
    (outsAt0 (V1 m ρ) c t).2.2.1 = k0_pay2 (k0_pay5 (iblk0 (V1 m ρ) c 1 t) (iblk0 (V1 m ρ) c 2 t)) ∧
    (outsAt0 (V1 m ρ) c t).2.2.2 = k0_pay3 (k0_pay6 (iblk0 (V1 m ρ) c 1 t) (iblk0 (V1 m ρ) c 3 t)) := by
  unfold outsAt0
  dsimp only
  unfold out0_A_4 out0_A_5 out0_A_6 out0_A_7
  refine ⟨?_, ?_, ?_, ?_⟩
  all_goals
    rw [View.read_writes_junk_eq_canon]
    unfold kernelRun0_A
    dsimp only
    sl_unfold_words
    simp only [View.readAt_eq_ld, (hs0_0 t).read_unread, (hs0_1 t).read_unread, (hs0_2 t).read_unread, (hs0_3 t).read_unread, View.ld_unit_zero (S := S96x256) hz2, View.ld_unit_zero (S := S1x96x256) hz3]
    rw [View.canon_unit_zero (S := S1x96x256) hz3]

theorem in0_0 : iblk0 (V1 m ρ) c 0 t (ix3 (n0 := 1) 0 r l) = A0 m c (ix3 (n0 := 2) 1 r l) :=
  (congrArg (V1 m ρ c main_arg0) (ext3 (b := 96) (d := 256) (idx0 t).1 rfl rfl rfl)).trans (congrFun (W1_args m ρ c main_arg0 (by decide)) _)

theorem in0_2 : iblk0 (V1 m ρ) c 2 t (ix3 (n0 := 1) 0 r l) = A3 m c (ix3 (n0 := 2) 1 r l) :=
  (congrArg (V1 m ρ c main_arg3) (ext3 (b := 96) (d := 256) (idx0 t).2.1 rfl rfl rfl)).trans (congrFun (W1_args m ρ c main_arg3 (by decide)) _)

theorem in0_3 : iblk0 (V1 m ρ) c 3 t (ix3 (n0 := 1) 0 r l) = A4 m c (ix3 (n0 := 2) 1 r l) :=
  (congrArg (V1 m ρ c main_arg4) (ext3 (b := 96) (d := 256) (idx0 t).2.2.1 rfl rfl rfl)).trans (congrFun (W1_args m ρ c main_arg4 (by decide)) _)

theorem in0_1 : iblk0 (V1 m ρ) c 1 t (ix2 r l) = A2 m c (ix2 r l) :=
  (congrArg (V1 m ρ c main_arg2) (ext2 (b := 96) (d := 256) (idx0 t).2.2.2.2.2.2.2 rfl rfl)).trans (congrFun (W1_args m ρ c main_arg2 (by decide)) _)

/-- Layer 1 of its results is what the call leaves. -/
theorem arr0_4 : ((dat0 (V1 m ρ) c).arrAt 4 cfg0.N : S2x96x256.Idx → EReal) (ix3 (n0 := 2) 1 r l) = k0_pay4 (iblk0 (V1 m ρ) c 1 t) (ix3 (n0 := 1) 0 r l) :=
  (congrArg ((dat0 (V1 m ρ) c).arrAt 4 cfg0.N) (ext3 (b := 96) (d := 256) (idx0 t).2.2.2.1 rfl rfl rfl).symm).trans
    (congrFun ((whole0 m ρ c t 4 (flush0_4 t)).trans ((after0_4 (V1 m ρ) c t).trans (left0 m ρ c t).1)) (ix3 (n0 := 1) (n1 := 96) (n2 := 256) 0 r l))

theorem arr0_5 : ((dat0 (V1 m ρ) c).arrAt 5 cfg0.N : S2x96x256.Idx → EReal) (ix3 (n0 := 2) 1 r l) = k0_pay1 (k0_pay7 (iblk0 (V1 m ρ) c 1 t) (iblk0 (V1 m ρ) c 0 t) (iblk0 (V1 m ρ) c 2 t) (iblk0 (V1 m ρ) c 3 t)) (ix3 (n0 := 1) 0 r l) :=
  (congrArg ((dat0 (V1 m ρ) c).arrAt 5 cfg0.N) (ext3 (b := 96) (d := 256) (idx0 t).2.2.2.2.1 rfl rfl rfl).symm).trans
    (congrFun ((whole0 m ρ c t 5 (flush0_5 t)).trans ((after0_5 (V1 m ρ) c t).trans (left0 m ρ c t).2.1)) (ix3 (n0 := 1) (n1 := 96) (n2 := 256) 0 r l))

theorem arr0_6 : ((dat0 (V1 m ρ) c).arrAt 6 cfg0.N : S2x96x256.Idx → EReal) (ix3 (n0 := 2) 1 r l) = k0_pay2 (k0_pay5 (iblk0 (V1 m ρ) c 1 t) (iblk0 (V1 m ρ) c 2 t)) (ix3 (n0 := 1) 0 r l) :=
  (congrArg ((dat0 (V1 m ρ) c).arrAt 6 cfg0.N) (ext3 (b := 96) (d := 256) (idx0 t).2.2.2.2.2.1 rfl rfl rfl).symm).trans
    (congrFun ((whole0 m ρ c t 6 (flush0_6 t)).trans ((after0_6 (V1 m ρ) c t).trans (left0 m ρ c t).2.2.1)) (ix3 (n0 := 1) (n1 := 96) (n2 := 256) 0 r l))

theorem arr0_7 : ((dat0 (V1 m ρ) c).arrAt 7 cfg0.N : S2x96x256.Idx → EReal) (ix3 (n0 := 2) 1 r l) = k0_pay3 (k0_pay6 (iblk0 (V1 m ρ) c 1 t) (iblk0 (V1 m ρ) c 3 t)) (ix3 (n0 := 1) 0 r l) :=
  (congrArg ((dat0 (V1 m ρ) c).arrAt 7 cfg0.N) (ext3 (b := 96) (d := 256) (idx0 t).2.2.2.2.2.2.1 rfl rfl rfl).symm).trans
    (congrFun ((whole0 m ρ c t 7 (flush0_7 t)).trans ((after0_7 (V1 m ρ) c t).trans (left0 m ρ c t).2.2.2)) (ix3 (n0 := 1) (n1 := 96) (n2 := 256) 0 r l))

end

/-! ## The call on layer 0 -/

section

variable (c : Dev nD) (t : Fin cfg1.N) (r : Fin 96) (l : Fin 256)

/-- Where its windows lie. -/
theorem idx1 : ∀ t : Fin cfg1.N,
    win1_0.index t = ![0, 0, 0] ∧ win1_2.index t = ![0, 0, 0] ∧ win1_3.index t = ![0, 0, 0] ∧ win1_4.index t = ![0, 0, 0] ∧ win1_5.index t = ![0, 0, 0] ∧ win1_6.index t = ![0, 0, 0] ∧ win1_7.index t = ![0, 0, 0] ∧ win1_1.index t = ![0, 0] := by
  show ∀ t : Fin grid1.N, _
  decide +kernel

/-- Its only point, whose blocks are what it leaves in the arrays. -/
def t1 : Fin cfg1.N := ⟨0, by rw [show cfg1.N = 1 from N_1]; omega⟩

theorem whole1 (k : Fin cfg1.W) (h : (cfg1.win k).flush t = true) :
    ((cfg1.win k).blk t).view.read (Elt Ideal) ((dat1 (V3 m ρ) c).arrAt k cfg1.N) = (dat1 (V3 m ρ) c).flushed k t :=
  (dat1 (V3 m ρ) c).read_blk_arrAt_eq_flushed k (fun t t' _ _ hne => absurd (Fin.ext (by have h : cfg1.N = 1 := N_1; omega)) hne) cfg1.N t t.isLt h

/-- What it leaves in its results' blocks. -/
theorem left1 : (outsAt1 (V3 m ρ) c t).1 = k1_pay4 (iblk1 (V3 m ρ) c 1 t) ∧
    (outsAt1 (V3 m ρ) c t).2.1 = k1_pay1 (k1_pay7 (iblk1 (V3 m ρ) c 1 t) (iblk1 (V3 m ρ) c 0 t) (iblk1 (V3 m ρ) c 2 t) (iblk1 (V3 m ρ) c 3 t)) ∧
    (outsAt1 (V3 m ρ) c t).2.2.1 = k1_pay2 (k1_pay5 (iblk1 (V3 m ρ) c 1 t) (iblk1 (V3 m ρ) c 2 t)) ∧
    (outsAt1 (V3 m ρ) c t).2.2.2 = k1_pay3 (k1_pay6 (iblk1 (V3 m ρ) c 1 t) (iblk1 (V3 m ρ) c 3 t)) := by
  unfold outsAt1
  dsimp only
  unfold out1_A_4 out1_A_5 out1_A_6 out1_A_7
  refine ⟨?_, ?_, ?_, ?_⟩
  all_goals
    rw [View.read_writes_junk_eq_canon]
    unfold kernelRun1_A
    dsimp only
    sl_unfold_words
    simp only [View.readAt_eq_ld, (hs1_0 t).read_unread, (hs1_1 t).read_unread, (hs1_2 t).read_unread, (hs1_3 t).read_unread, View.ld_unit_zero (S := S96x256) hz2, View.ld_unit_zero (S := S1x96x256) hz3]
    rw [View.canon_unit_zero (S := S1x96x256) hz3]

theorem in1_0 : iblk1 (V3 m ρ) c 0 t (ix3 (n0 := 1) 0 r l) = A0 m c (ix3 (n0 := 2) 0 r l) :=
  (congrArg (V3 m ρ c main_arg0) (ext3 (b := 96) (d := 256) (idx1 t).1 rfl rfl rfl)).trans (congrFun (W3_args m ρ c main_arg0 (by decide)) _)

theorem in1_2 : iblk1 (V3 m ρ) c 2 t (ix3 (n0 := 1) 0 r l) = A3 m c (ix3 (n0 := 2) 0 r l) :=
  (congrArg (V3 m ρ c main_arg3) (ext3 (b := 96) (d := 256) (idx1 t).2.1 rfl rfl rfl)).trans (congrFun (W3_args m ρ c main_arg3 (by decide)) _)

theorem in1_3 : iblk1 (V3 m ρ) c 3 t (ix3 (n0 := 1) 0 r l) = A4 m c (ix3 (n0 := 2) 0 r l) :=
  (congrArg (V3 m ρ c main_arg4) (ext3 (b := 96) (d := 256) (idx1 t).2.2.1 rfl rfl rfl)).trans (congrFun (W3_args m ρ c main_arg4 (by decide)) _)

theorem in1_1 : iblk1 (V3 m ρ) c 1 t (ix2 r l) = A1 m c (ix2 r l) :=
  (congrArg (V3 m ρ c main_arg1) (ext2 (b := 96) (d := 256) (idx1 t).2.2.2.2.2.2.2 rfl rfl)).trans (congrFun (W3_args m ρ c main_arg1 (by decide)) _)

/-- Layer 0 of its results is what the call leaves. -/
theorem arr1_4 : ((dat1 (V3 m ρ) c).arrAt 4 cfg1.N : S2x96x256.Idx → EReal) (ix3 (n0 := 2) 0 r l) = k1_pay4 (iblk1 (V3 m ρ) c 1 t) (ix3 (n0 := 1) 0 r l) :=
  (congrArg ((dat1 (V3 m ρ) c).arrAt 4 cfg1.N) (ext3 (b := 96) (d := 256) (idx1 t).2.2.2.1 rfl rfl rfl).symm).trans
    (congrFun ((whole1 m ρ c t 4 (flush1_4 t)).trans ((after1_4 (V3 m ρ) c t).trans (left1 m ρ c t).1)) (ix3 (n0 := 1) (n1 := 96) (n2 := 256) 0 r l))

theorem arr1_5 : ((dat1 (V3 m ρ) c).arrAt 5 cfg1.N : S2x96x256.Idx → EReal) (ix3 (n0 := 2) 0 r l) = k1_pay1 (k1_pay7 (iblk1 (V3 m ρ) c 1 t) (iblk1 (V3 m ρ) c 0 t) (iblk1 (V3 m ρ) c 2 t) (iblk1 (V3 m ρ) c 3 t)) (ix3 (n0 := 1) 0 r l) :=
  (congrArg ((dat1 (V3 m ρ) c).arrAt 5 cfg1.N) (ext3 (b := 96) (d := 256) (idx1 t).2.2.2.2.1 rfl rfl rfl).symm).trans
    (congrFun ((whole1 m ρ c t 5 (flush1_5 t)).trans ((after1_5 (V3 m ρ) c t).trans (left1 m ρ c t).2.1)) (ix3 (n0 := 1) (n1 := 96) (n2 := 256) 0 r l))

theorem arr1_6 : ((dat1 (V3 m ρ) c).arrAt 6 cfg1.N : S2x96x256.Idx → EReal) (ix3 (n0 := 2) 0 r l) = k1_pay2 (k1_pay5 (iblk1 (V3 m ρ) c 1 t) (iblk1 (V3 m ρ) c 2 t)) (ix3 (n0 := 1) 0 r l) :=
  (congrArg ((dat1 (V3 m ρ) c).arrAt 6 cfg1.N) (ext3 (b := 96) (d := 256) (idx1 t).2.2.2.2.2.1 rfl rfl rfl).symm).trans
    (congrFun ((whole1 m ρ c t 6 (flush1_6 t)).trans ((after1_6 (V3 m ρ) c t).trans (left1 m ρ c t).2.2.1)) (ix3 (n0 := 1) (n1 := 96) (n2 := 256) 0 r l))

theorem arr1_7 : ((dat1 (V3 m ρ) c).arrAt 7 cfg1.N : S2x96x256.Idx → EReal) (ix3 (n0 := 2) 0 r l) = k1_pay3 (k1_pay6 (iblk1 (V3 m ρ) c 1 t) (iblk1 (V3 m ρ) c 3 t)) (ix3 (n0 := 1) 0 r l) :=
  (congrArg ((dat1 (V3 m ρ) c).arrAt 7 cfg1.N) (ext3 (b := 96) (d := 256) (idx1 t).2.2.2.2.2.2.1 rfl rfl rfl).symm).trans
    (congrFun ((whole1 m ρ c t 7 (flush1_7 t)).trans ((after1_7 (V3 m ρ) c t).trans (left1 m ρ c t).2.2.2)) (ix3 (n0 := 1) (n1 := 96) (n2 := 256) 0 r l))

/-- Layer 1 of its results stays as it was. -/
theorem keep4 : ((dat1 (V3 m ρ) c).arrAt 4 cfg1.N : S2x96x256.Idx → EReal) (ix3 (n0 := 2) 1 r l) = V3 m ρ c main_v2_0 (ix3 (n0 := 2) 1 r l) := by
  refine ((dat1 (V3 m ρ) c).arrAt_apply_of_forall_not_mem 4 cfg1.N (ix3 (n0 := 2) (n1 := 96) (n2 := 256) 1 r l) fun t _ _ hm => ?_).trans (congrFun (A_eq1 (V3 m ρ) c 4) _)
  obtain ⟨y, -, hy⟩ := Finset.mem_map.mp hm
  exact off3 (idx1 t).2.2.2.1 (y 0).isLt (congrArg (fun z : S2x96x256.Idx => (z 0).val) hy)

theorem keep5 : ((dat1 (V3 m ρ) c).arrAt 5 cfg1.N : S2x96x256.Idx → EReal) (ix3 (n0 := 2) 1 r l) = V3 m ρ c main_v2_1 (ix3 (n0 := 2) 1 r l) := by
  refine ((dat1 (V3 m ρ) c).arrAt_apply_of_forall_not_mem 5 cfg1.N (ix3 (n0 := 2) (n1 := 96) (n2 := 256) 1 r l) fun t _ _ hm => ?_).trans (congrFun (A_eq1 (V3 m ρ) c 5) _)
  obtain ⟨y, -, hy⟩ := Finset.mem_map.mp hm
  exact off3 (idx1 t).2.2.2.2.1 (y 0).isLt (congrArg (fun z : S2x96x256.Idx => (z 0).val) hy)

theorem keep6 : ((dat1 (V3 m ρ) c).arrAt 6 cfg1.N : S2x96x256.Idx → EReal) (ix3 (n0 := 2) 1 r l) = V3 m ρ c main_v2_2 (ix3 (n0 := 2) 1 r l) := by
  refine ((dat1 (V3 m ρ) c).arrAt_apply_of_forall_not_mem 6 cfg1.N (ix3 (n0 := 2) (n1 := 96) (n2 := 256) 1 r l) fun t _ _ hm => ?_).trans (congrFun (A_eq1 (V3 m ρ) c 6) _)
  obtain ⟨y, -, hy⟩ := Finset.mem_map.mp hm
  exact off3 (idx1 t).2.2.2.2.2.1 (y 0).isLt (congrArg (fun z : S2x96x256.Idx => (z 0).val) hy)

theorem keep7 : ((dat1 (V3 m ρ) c).arrAt 7 cfg1.N : S2x96x256.Idx → EReal) (ix3 (n0 := 2) 1 r l) = V3 m ρ c main_v2_3 (ix3 (n0 := 2) 1 r l) := by
  refine ((dat1 (V3 m ρ) c).arrAt_apply_of_forall_not_mem 7 cfg1.N (ix3 (n0 := 2) (n1 := 96) (n2 := 256) 1 r l) fun t _ _ hm => ?_).trans (congrFun (A_eq1 (V3 m ρ) c 7) _)
  obtain ⟨y, -, hy⟩ := Finset.mem_map.mp hm
  exact off3 (idx1 t).2.2.2.2.2.2.1 (y 0).isLt (congrArg (fun z : S2x96x256.Idx => (z 0).val) hy)

end

/-! ## The run -/

section

open Idealize.ShloMosaic.Tactic
open Idealize.SL.RA Idealize.SL.BI
open scoped Idealize.SL.BI
open Idealize.SL.BI.BIBase Idealize.SL.BI.Laws Idealize.SL.ProofMode
open Idealize.ShloMosaic.Rounds

abbrev M := MT nD τ sig Unit (Elt Ideal) ℕ (UR sig nD τ) ℕ

set_option backward.isDefEq.respectTransparency.types false in
/-- The run with what the results hold at its end. -/
theorem run : θ_run (defs (F := Ideal)) (onTc (τ := τ) (main (F := Ideal))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp M)
            ⊢ BI.own (emb₁ (initOf (Pipeline.cells cfgs cellOf_inj) (Pipeline.launchToks cfgs cellOf_inj))) from .rfl)
        iexact Hu
      iapply (show (BI.emp : sProp M) ⊢ bigSep Finset.univ (fun _ : Dev nD => (BI.emp : sProp M)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end

/-- Between the calls the first call's results are copied to the arrays the second call writes in. -/
theorem V3_v4 (c : Dev nD) : V3 m ρ c main_v2_0 = (dat0 (V1 m ρ) c).arrAt 4 cfg0.N :=
  (show _ = W2 m ρ c (Proc.devRef .tc main_v1_0) by unfold_abbrev_sides; after_results; rfl).trans (W2_arr m ρ c 4)

theorem V3_v5 (c : Dev nD) : V3 m ρ c main_v2_1 = (dat0 (V1 m ρ) c).arrAt 5 cfg0.N :=
  (show _ = W2 m ρ c (Proc.devRef .tc main_v1_1) by unfold_abbrev_sides; after_results; rfl).trans (W2_arr m ρ c 5)

theorem V3_v6 (c : Dev nD) : V3 m ρ c main_v2_2 = (dat0 (V1 m ρ) c).arrAt 6 cfg0.N :=
  (show _ = W2 m ρ c (Proc.devRef .tc main_v1_2) by unfold_abbrev_sides; after_results; rfl).trans (W2_arr m ρ c 6)

theorem V3_v7 (c : Dev nD) : V3 m ρ c main_v2_3 = (dat0 (V1 m ρ) c).arrAt 7 cfg0.N :=
  (show _ = W2 m ρ c (Proc.devRef .tc main_v1_3) by unfold_abbrev_sides; after_results; rfl).trans (W2_arr m ρ c 7)

/-- What the kernel leaves is what the reference computes. -/
theorem eqs (c : Dev nD) : (W4 m ρ c (Proc.devRef .tc main_v2_0) : S2x96x256.Idx → EReal) = val_main_v2 (F := Ideal) (A1 m c) (A2 m c) ∧
    (W4 m ρ c (Proc.devRef .tc main_v2_1) : S2x96x256.Idx → EReal) = val_main_v26 (F := Ideal) (A0 m c) (A1 m c) (A2 m c) (A3 m c) (A4 m c) ∧
    (W4 m ρ c (Proc.devRef .tc main_v2_2) : S2x96x256.Idx → EReal) = val_main_v7 (F := Ideal) (A1 m c) (A2 m c) (A3 m c) ∧
    (W4 m ρ c (Proc.devRef .tc main_v2_3) : S2x96x256.Idx → EReal) = val_main_v13 (F := Ideal) (A1 m c) (A2 m c) (A4 m c) := by
  refine ⟨(W4_arr m ρ c 4).trans (stack (fun r l => (arr1_4 m ρ c t1 r l).trans ?_) fun r l =>
    (keep4 m ρ c r l).trans ((congrFun (V3_v4 m ρ c) _).trans ((arr0_4 m ρ c t0 r l).trans ?_))),
    (W4_arr m ρ c 5).trans (stack (fun r l => (arr1_5 m ρ c t1 r l).trans ?_) fun r l =>
    (keep5 m ρ c r l).trans ((congrFun (V3_v5 m ρ c) _).trans ((arr0_5 m ρ c t0 r l).trans ?_))),
    (W4_arr m ρ c 6).trans (stack (fun r l => (arr1_6 m ρ c t1 r l).trans ?_) fun r l =>
    (keep6 m ρ c r l).trans ((congrFun (V3_v6 m ρ c) _).trans ((arr0_6 m ρ c t0 r l).trans ?_))),
    (W4_arr m ρ c 7).trans (stack (fun r l => (arr1_7 m ρ c t1 r l).trans ?_) fun r l =>
    (keep7 m ρ c r l).trans ((congrFun (V3_v7 m ρ c) _).trans ((arr0_7 m ρ c t0 r l).trans ?_)))⟩
  all_goals
    pointwise [k0_pay1, k0_pay2, k0_pay3, k0_pay4, k0_pay7, k0_pay5, k0_pay6, k1_pay1, k1_pay2, k1_pay3, k1_pay4, k1_pay7, k1_pay5, k1_pay6, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
    simp only [in0_0, in0_1, in0_2, in0_3, in1_0, in1_1, in1_2, in1_3]

end Cert.AdamUq

open Idealize.ShloMosaic Idealize.SL.Sem Cert.AdamUqKernelIdeal Cert.AdamUqKernelIdeal.Gen Cert.AdamUqReferenceIdeal.Read Cert.AdamUq in
/-- The kernel computes the reference's stacked gradient, change of the weight and both new moments, over the extended reals. -/
theorem Cert.AdamUq.algebraic : Cert.algebraic_AdamUqKernelIdeal_AdamUqReferenceIdeal := by
  intro m g m' g' _ hag
  refine ⟨fun c => W4 m g c (Proc.devRef .tc main_v2_0), fun c => W4 m g c (Proc.devRef .tc main_v2_1), fun c => W4 m g c (Proc.devRef .tc main_v2_2),
    fun c => W4 m g c (Proc.devRef .tc main_v2_3), (θ_run _ _ _).mono (fun r h c => ?_) (run m g),
    (θ_run _ _ _).mono (fun r h c => ?_) (Cert.AdamUqReferenceIdeal.Value.run m' g')⟩
  · exact ⟨h c _ (mem_uc main_v2_0 (by decide)), h c _ (mem_uc main_v2_1 (by decide)), h c _ (mem_uc main_v2_2 (by decide)),
      h c _ (mem_uc main_v2_3 (by decide)), (h c _ (mem_uc main_arg0 (by decide))).trans (W4_main_arg0 m g c),
      (h c _ (mem_uc main_arg1 (by decide))).trans (W4_main_arg1 m g c), (h c _ (mem_uc main_arg2 (by decide))).trans (W4_main_arg2 m g c),
      (h c _ (mem_uc main_arg3 (by decide))).trans (W4_main_arg3 m g c), (h c _ (mem_uc main_arg4 (by decide))).trans (W4_main_arg4 m g c)⟩
  obtain ⟨h0, h1, h2, h3, ha⟩ := h c
  obtain ⟨e0, e1, e2, e3, e4⟩ := hag c
  refine ⟨?_, ?_, ?_, ?_, ha⟩
  · rw [h0, val_main_v2_eq, e1, e2]
    exact (eqs m g c).1.symm
  · rw [h1, val_main_v26_eq, e0, e1, e2, e3, e4]
    exact (eqs m g c).2.1.symm
  · rw [h2, val_main_v7_eq, e1, e2, e3]
    exact (eqs m g c).2.2.1.symm
  · rw [h3, val_main_v13_eq, e1, e2, e4]
    exact (eqs m g c).2.2.2.symm

open Idealize.ShloMosaic Idealize.SL.Sem in
/-- The reference terminates, leaves its arguments as they were, and has no semaphore. -/
theorem Cert.AdamUq.frame_reference : Cert.quiescent_AdamUqReferenceIdeal := fun m ρ _ =>
  (θ_run Cert.AdamUqReferenceIdeal.defs _ _).mono (fun r h => ⟨fun c => (h c).2.2.2.2,
    sem_eq_zero_of_no_sems (by decide) r.2⟩) (Cert.AdamUqReferenceIdeal.Value.run m ρ)

end
-- ==== Proof.AdamUkv.lean ====
/- The optimiser `adamw_layer` on w_ukv, one layer after the other: the gradient as it came, the change of the weight and
   both new moments. The first call writes layer 1, the second writes layer 0 into the same arrays. -/
module

public import proofs.«01_k».proof.Defs
public import proofs.«01_k».proof.Proof.Layers
public import proofs.«01_k».proof.Proof.Gen.AdamUkvKernelIdeal.Frame
public import proofs.«01_k».proof.Proof.Gen.AdamUkvReferenceIdeal.Read
public import Idealize.ShloMosaic.Lib.Quiescent
public import Idealize.ShloMosaic.Lib.Pipeline.Value
public import Idealize.ShloMosaic.Lib.StableHlo.RunClose
public import Idealize.ShloMosaic.Lib.Claim

@[expose] public section

set_option maxRecDepth 16384

noncomputable section

namespace Cert.AdamUkv

open Cert.AdamUkvKernelIdeal Cert.AdamUkvKernelIdeal.Gen
open Idealize.ShloMosaic Idealize.ShloMosaic.TcCoe Idealize.ShloMosaic.StableHlo Idealize.SL Idealize.SL.Sem
open Cert.AdamUkvReferenceIdeal.Read Cert Cert.Layers

variable (m : (ℓ : Loc nD τ sig) → Buf (Elt Ideal) ℓ) (ρ : Dev nD → PrngReg)

/-- The argument arrays of a device: the weight, both layers' gradients, both moments. -/
abbrev A0 (c : Dev nD) : Vec Ideal S2x128x256 .f32 := m ((c : Thread nD τ).loc main_arg0)
abbrev A1 (c : Dev nD) : Vec Ideal S128x256 .f32 := m ((c : Thread nD τ).loc main_arg1)
abbrev A2 (c : Dev nD) : Vec Ideal S128x256 .f32 := m ((c : Thread nD τ).loc main_arg2)
abbrev A3 (c : Dev nD) : Vec Ideal S2x128x256 .f32 := m ((c : Thread nD τ).loc main_arg3)
abbrev A4 (c : Dev nD) : Vec Ideal S2x128x256 .f32 := m ((c : Thread nD τ).loc main_arg4)

/-! ## The call on layer 1 -/

section

variable (c : Dev nD) (t : Fin cfg0.N) (r : Fin 128) (l : Fin 256)

/-- Where its windows lie. -/
theorem idx0 : ∀ t : Fin cfg0.N,
    win0_0.index t = ![1, 0, 0] ∧ win0_2.index t = ![1, 0, 0] ∧ win0_3.index t = ![1, 0, 0] ∧ win0_4.index t = ![1, 0, 0] ∧ win0_5.index t = ![1, 0, 0] ∧ win0_6.index t = ![1, 0, 0] ∧ win0_7.index t = ![1, 0, 0] ∧ win0_1.index t = ![0, 0] := by
  show ∀ t : Fin grid0.N, _
  decide +kernel

/-- Its only point, whose blocks are what it leaves in the arrays. -/
def t0 : Fin cfg0.N := ⟨0, by rw [show cfg0.N = 1 from N_0]; omega⟩

theorem whole0 (k : Fin cfg0.W) (h : (cfg0.win k).flush t = true) :
    ((cfg0.win k).blk t).view.read (Elt Ideal) ((dat0 (V1 m ρ) c).arrAt k cfg0.N) = (dat0 (V1 m ρ) c).flushed k t :=
  (dat0 (V1 m ρ) c).read_blk_arrAt_eq_flushed k (fun t t' _ _ hne => absurd (Fin.ext (by have h : cfg0.N = 1 := N_0; omega)) hne) cfg0.N t t.isLt h

/-- What it leaves in its results' blocks. -/
theorem left0 : (outsAt0 (V1 m ρ) c t).1 = k0_pay4 (iblk0 (V1 m ρ) c 1 t) ∧
    (outsAt0 (V1 m ρ) c t).2.1 = k0_pay1 (k0_pay7 (iblk0 (V1 m ρ) c 1 t) (iblk0 (V1 m ρ) c 0 t) (iblk0 (V1 m ρ) c 2 t) (iblk0 (V1 m ρ) c 3 t)) ∧
    (outsAt0 (V1 m ρ) c t).2.2.1 = k0_pay2 (k0_pay5 (iblk0 (V1 m ρ) c 1 t) (iblk0 (V1 m ρ) c 2 t)) ∧
    (outsAt0 (V1 m ρ) c t).2.2.2 = k0_pay3 (k0_pay6 (iblk0 (V1 m ρ) c 1 t) (iblk0 (V1 m ρ) c 3 t)) := by
  unfold outsAt0
  dsimp only
  unfold out0_A_4 out0_A_5 out0_A_6 out0_A_7
  refine ⟨?_, ?_, ?_, ?_⟩
  all_goals
    rw [View.read_writes_junk_eq_canon]
    unfold kernelRun0_A
    dsimp only
    sl_unfold_words
    simp only [View.readAt_eq_ld, (hs0_0 t).read_unread, (hs0_1 t).read_unread, (hs0_2 t).read_unread, (hs0_3 t).read_unread, View.ld_unit_zero (S := S128x256) hz2, View.ld_unit_zero (S := S1x128x256) hz3]
    rw [View.canon_unit_zero (S := S1x128x256) hz3]

theorem in0_0 : iblk0 (V1 m ρ) c 0 t (ix3 (n0 := 1) 0 r l) = A0 m c (ix3 (n0 := 2) 1 r l) :=
  (congrArg (V1 m ρ c main_arg0) (ext3 (b := 128) (d := 256) (idx0 t).1 rfl rfl rfl)).trans (congrFun (W1_args m ρ c main_arg0 (by decide)) _)

theorem in0_2 : iblk0 (V1 m ρ) c 2 t (ix3 (n0 := 1) 0 r l) = A3 m c (ix3 (n0 := 2) 1 r l) :=
  (congrArg (V1 m ρ c main_arg3) (ext3 (b := 128) (d := 256) (idx0 t).2.1 rfl rfl rfl)).trans (congrFun (W1_args m ρ c main_arg3 (by decide)) _)

theorem in0_3 : iblk0 (V1 m ρ) c 3 t (ix3 (n0 := 1) 0 r l) = A4 m c (ix3 (n0 := 2) 1 r l) :=
  (congrArg (V1 m ρ c main_arg4) (ext3 (b := 128) (d := 256) (idx0 t).2.2.1 rfl rfl rfl)).trans (congrFun (W1_args m ρ c main_arg4 (by decide)) _)

theorem in0_1 : iblk0 (V1 m ρ) c 1 t (ix2 r l) = A2 m c (ix2 r l) :=
  (congrArg (V1 m ρ c main_arg2) (ext2 (b := 128) (d := 256) (idx0 t).2.2.2.2.2.2.2 rfl rfl)).trans (congrFun (W1_args m ρ c main_arg2 (by decide)) _)

/-- Layer 1 of its results is what the call leaves. -/
theorem arr0_4 : ((dat0 (V1 m ρ) c).arrAt 4 cfg0.N : S2x128x256.Idx → EReal) (ix3 (n0 := 2) 1 r l) = k0_pay4 (iblk0 (V1 m ρ) c 1 t) (ix3 (n0 := 1) 0 r l) :=
  (congrArg ((dat0 (V1 m ρ) c).arrAt 4 cfg0.N) (ext3 (b := 128) (d := 256) (idx0 t).2.2.2.1 rfl rfl rfl).symm).trans
    (congrFun ((whole0 m ρ c t 4 (flush0_4 t)).trans ((after0_4 (V1 m ρ) c t).trans (left0 m ρ c t).1)) (ix3 (n0 := 1) (n1 := 128) (n2 := 256) 0 r l))

theorem arr0_5 : ((dat0 (V1 m ρ) c).arrAt 5 cfg0.N : S2x128x256.Idx → EReal) (ix3 (n0 := 2) 1 r l) = k0_pay1 (k0_pay7 (iblk0 (V1 m ρ) c 1 t) (iblk0 (V1 m ρ) c 0 t) (iblk0 (V1 m ρ) c 2 t) (iblk0 (V1 m ρ) c 3 t)) (ix3 (n0 := 1) 0 r l) :=
  (congrArg ((dat0 (V1 m ρ) c).arrAt 5 cfg0.N) (ext3 (b := 128) (d := 256) (idx0 t).2.2.2.2.1 rfl rfl rfl).symm).trans
    (congrFun ((whole0 m ρ c t 5 (flush0_5 t)).trans ((after0_5 (V1 m ρ) c t).trans (left0 m ρ c t).2.1)) (ix3 (n0 := 1) (n1 := 128) (n2 := 256) 0 r l))

theorem arr0_6 : ((dat0 (V1 m ρ) c).arrAt 6 cfg0.N : S2x128x256.Idx → EReal) (ix3 (n0 := 2) 1 r l) = k0_pay2 (k0_pay5 (iblk0 (V1 m ρ) c 1 t) (iblk0 (V1 m ρ) c 2 t)) (ix3 (n0 := 1) 0 r l) :=
  (congrArg ((dat0 (V1 m ρ) c).arrAt 6 cfg0.N) (ext3 (b := 128) (d := 256) (idx0 t).2.2.2.2.2.1 rfl rfl rfl).symm).trans
    (congrFun ((whole0 m ρ c t 6 (flush0_6 t)).trans ((after0_6 (V1 m ρ) c t).trans (left0 m ρ c t).2.2.1)) (ix3 (n0 := 1) (n1 := 128) (n2 := 256) 0 r l))

theorem arr0_7 : ((dat0 (V1 m ρ) c).arrAt 7 cfg0.N : S2x128x256.Idx → EReal) (ix3 (n0 := 2) 1 r l) = k0_pay3 (k0_pay6 (iblk0 (V1 m ρ) c 1 t) (iblk0 (V1 m ρ) c 3 t)) (ix3 (n0 := 1) 0 r l) :=
  (congrArg ((dat0 (V1 m ρ) c).arrAt 7 cfg0.N) (ext3 (b := 128) (d := 256) (idx0 t).2.2.2.2.2.2.1 rfl rfl rfl).symm).trans
    (congrFun ((whole0 m ρ c t 7 (flush0_7 t)).trans ((after0_7 (V1 m ρ) c t).trans (left0 m ρ c t).2.2.2)) (ix3 (n0 := 1) (n1 := 128) (n2 := 256) 0 r l))

end

/-! ## The call on layer 0 -/

section

variable (c : Dev nD) (t : Fin cfg1.N) (r : Fin 128) (l : Fin 256)

/-- Where its windows lie. -/
theorem idx1 : ∀ t : Fin cfg1.N,
    win1_0.index t = ![0, 0, 0] ∧ win1_2.index t = ![0, 0, 0] ∧ win1_3.index t = ![0, 0, 0] ∧ win1_4.index t = ![0, 0, 0] ∧ win1_5.index t = ![0, 0, 0] ∧ win1_6.index t = ![0, 0, 0] ∧ win1_7.index t = ![0, 0, 0] ∧ win1_1.index t = ![0, 0] := by
  show ∀ t : Fin grid1.N, _
  decide +kernel

/-- Its only point, whose blocks are what it leaves in the arrays. -/
def t1 : Fin cfg1.N := ⟨0, by rw [show cfg1.N = 1 from N_1]; omega⟩

theorem whole1 (k : Fin cfg1.W) (h : (cfg1.win k).flush t = true) :
    ((cfg1.win k).blk t).view.read (Elt Ideal) ((dat1 (V3 m ρ) c).arrAt k cfg1.N) = (dat1 (V3 m ρ) c).flushed k t :=
  (dat1 (V3 m ρ) c).read_blk_arrAt_eq_flushed k (fun t t' _ _ hne => absurd (Fin.ext (by have h : cfg1.N = 1 := N_1; omega)) hne) cfg1.N t t.isLt h

/-- What it leaves in its results' blocks. -/
theorem left1 : (outsAt1 (V3 m ρ) c t).1 = k1_pay4 (iblk1 (V3 m ρ) c 1 t) ∧
    (outsAt1 (V3 m ρ) c t).2.1 = k1_pay1 (k1_pay7 (iblk1 (V3 m ρ) c 1 t) (iblk1 (V3 m ρ) c 0 t) (iblk1 (V3 m ρ) c 2 t) (iblk1 (V3 m ρ) c 3 t)) ∧
    (outsAt1 (V3 m ρ) c t).2.2.1 = k1_pay2 (k1_pay5 (iblk1 (V3 m ρ) c 1 t) (iblk1 (V3 m ρ) c 2 t)) ∧
    (outsAt1 (V3 m ρ) c t).2.2.2 = k1_pay3 (k1_pay6 (iblk1 (V3 m ρ) c 1 t) (iblk1 (V3 m ρ) c 3 t)) := by
  unfold outsAt1
  dsimp only
  unfold out1_A_4 out1_A_5 out1_A_6 out1_A_7
  refine ⟨?_, ?_, ?_, ?_⟩
  all_goals
    rw [View.read_writes_junk_eq_canon]
    unfold kernelRun1_A
    dsimp only
    sl_unfold_words
    simp only [View.readAt_eq_ld, (hs1_0 t).read_unread, (hs1_1 t).read_unread, (hs1_2 t).read_unread, (hs1_3 t).read_unread, View.ld_unit_zero (S := S128x256) hz2, View.ld_unit_zero (S := S1x128x256) hz3]
    rw [View.canon_unit_zero (S := S1x128x256) hz3]

theorem in1_0 : iblk1 (V3 m ρ) c 0 t (ix3 (n0 := 1) 0 r l) = A0 m c (ix3 (n0 := 2) 0 r l) :=
  (congrArg (V3 m ρ c main_arg0) (ext3 (b := 128) (d := 256) (idx1 t).1 rfl rfl rfl)).trans (congrFun (W3_args m ρ c main_arg0 (by decide)) _)

theorem in1_2 : iblk1 (V3 m ρ) c 2 t (ix3 (n0 := 1) 0 r l) = A3 m c (ix3 (n0 := 2) 0 r l) :=
  (congrArg (V3 m ρ c main_arg3) (ext3 (b := 128) (d := 256) (idx1 t).2.1 rfl rfl rfl)).trans (congrFun (W3_args m ρ c main_arg3 (by decide)) _)

theorem in1_3 : iblk1 (V3 m ρ) c 3 t (ix3 (n0 := 1) 0 r l) = A4 m c (ix3 (n0 := 2) 0 r l) :=
  (congrArg (V3 m ρ c main_arg4) (ext3 (b := 128) (d := 256) (idx1 t).2.2.1 rfl rfl rfl)).trans (congrFun (W3_args m ρ c main_arg4 (by decide)) _)

theorem in1_1 : iblk1 (V3 m ρ) c 1 t (ix2 r l) = A1 m c (ix2 r l) :=
  (congrArg (V3 m ρ c main_arg1) (ext2 (b := 128) (d := 256) (idx1 t).2.2.2.2.2.2.2 rfl rfl)).trans (congrFun (W3_args m ρ c main_arg1 (by decide)) _)

/-- Layer 0 of its results is what the call leaves. -/
theorem arr1_4 : ((dat1 (V3 m ρ) c).arrAt 4 cfg1.N : S2x128x256.Idx → EReal) (ix3 (n0 := 2) 0 r l) = k1_pay4 (iblk1 (V3 m ρ) c 1 t) (ix3 (n0 := 1) 0 r l) :=
  (congrArg ((dat1 (V3 m ρ) c).arrAt 4 cfg1.N) (ext3 (b := 128) (d := 256) (idx1 t).2.2.2.1 rfl rfl rfl).symm).trans
    (congrFun ((whole1 m ρ c t 4 (flush1_4 t)).trans ((after1_4 (V3 m ρ) c t).trans (left1 m ρ c t).1)) (ix3 (n0 := 1) (n1 := 128) (n2 := 256) 0 r l))

theorem arr1_5 : ((dat1 (V3 m ρ) c).arrAt 5 cfg1.N : S2x128x256.Idx → EReal) (ix3 (n0 := 2) 0 r l) = k1_pay1 (k1_pay7 (iblk1 (V3 m ρ) c 1 t) (iblk1 (V3 m ρ) c 0 t) (iblk1 (V3 m ρ) c 2 t) (iblk1 (V3 m ρ) c 3 t)) (ix3 (n0 := 1) 0 r l) :=
  (congrArg ((dat1 (V3 m ρ) c).arrAt 5 cfg1.N) (ext3 (b := 128) (d := 256) (idx1 t).2.2.2.2.1 rfl rfl rfl).symm).trans
    (congrFun ((whole1 m ρ c t 5 (flush1_5 t)).trans ((after1_5 (V3 m ρ) c t).trans (left1 m ρ c t).2.1)) (ix3 (n0 := 1) (n1 := 128) (n2 := 256) 0 r l))

theorem arr1_6 : ((dat1 (V3 m ρ) c).arrAt 6 cfg1.N : S2x128x256.Idx → EReal) (ix3 (n0 := 2) 0 r l) = k1_pay2 (k1_pay5 (iblk1 (V3 m ρ) c 1 t) (iblk1 (V3 m ρ) c 2 t)) (ix3 (n0 := 1) 0 r l) :=
  (congrArg ((dat1 (V3 m ρ) c).arrAt 6 cfg1.N) (ext3 (b := 128) (d := 256) (idx1 t).2.2.2.2.2.1 rfl rfl rfl).symm).trans
    (congrFun ((whole1 m ρ c t 6 (flush1_6 t)).trans ((after1_6 (V3 m ρ) c t).trans (left1 m ρ c t).2.2.1)) (ix3 (n0 := 1) (n1 := 128) (n2 := 256) 0 r l))

theorem arr1_7 : ((dat1 (V3 m ρ) c).arrAt 7 cfg1.N : S2x128x256.Idx → EReal) (ix3 (n0 := 2) 0 r l) = k1_pay3 (k1_pay6 (iblk1 (V3 m ρ) c 1 t) (iblk1 (V3 m ρ) c 3 t)) (ix3 (n0 := 1) 0 r l) :=
  (congrArg ((dat1 (V3 m ρ) c).arrAt 7 cfg1.N) (ext3 (b := 128) (d := 256) (idx1 t).2.2.2.2.2.2.1 rfl rfl rfl).symm).trans
    (congrFun ((whole1 m ρ c t 7 (flush1_7 t)).trans ((after1_7 (V3 m ρ) c t).trans (left1 m ρ c t).2.2.2)) (ix3 (n0 := 1) (n1 := 128) (n2 := 256) 0 r l))

/-- Layer 1 of its results stays as it was. -/
theorem keep4 : ((dat1 (V3 m ρ) c).arrAt 4 cfg1.N : S2x128x256.Idx → EReal) (ix3 (n0 := 2) 1 r l) = V3 m ρ c main_v2_0 (ix3 (n0 := 2) 1 r l) := by
  refine ((dat1 (V3 m ρ) c).arrAt_apply_of_forall_not_mem 4 cfg1.N (ix3 (n0 := 2) (n1 := 128) (n2 := 256) 1 r l) fun t _ _ hm => ?_).trans (congrFun (A_eq1 (V3 m ρ) c 4) _)
  obtain ⟨y, -, hy⟩ := Finset.mem_map.mp hm
  exact off3 (idx1 t).2.2.2.1 (y 0).isLt (congrArg (fun z : S2x128x256.Idx => (z 0).val) hy)

theorem keep5 : ((dat1 (V3 m ρ) c).arrAt 5 cfg1.N : S2x128x256.Idx → EReal) (ix3 (n0 := 2) 1 r l) = V3 m ρ c main_v2_1 (ix3 (n0 := 2) 1 r l) := by
  refine ((dat1 (V3 m ρ) c).arrAt_apply_of_forall_not_mem 5 cfg1.N (ix3 (n0 := 2) (n1 := 128) (n2 := 256) 1 r l) fun t _ _ hm => ?_).trans (congrFun (A_eq1 (V3 m ρ) c 5) _)
  obtain ⟨y, -, hy⟩ := Finset.mem_map.mp hm
  exact off3 (idx1 t).2.2.2.2.1 (y 0).isLt (congrArg (fun z : S2x128x256.Idx => (z 0).val) hy)

theorem keep6 : ((dat1 (V3 m ρ) c).arrAt 6 cfg1.N : S2x128x256.Idx → EReal) (ix3 (n0 := 2) 1 r l) = V3 m ρ c main_v2_2 (ix3 (n0 := 2) 1 r l) := by
  refine ((dat1 (V3 m ρ) c).arrAt_apply_of_forall_not_mem 6 cfg1.N (ix3 (n0 := 2) (n1 := 128) (n2 := 256) 1 r l) fun t _ _ hm => ?_).trans (congrFun (A_eq1 (V3 m ρ) c 6) _)
  obtain ⟨y, -, hy⟩ := Finset.mem_map.mp hm
  exact off3 (idx1 t).2.2.2.2.2.1 (y 0).isLt (congrArg (fun z : S2x128x256.Idx => (z 0).val) hy)

theorem keep7 : ((dat1 (V3 m ρ) c).arrAt 7 cfg1.N : S2x128x256.Idx → EReal) (ix3 (n0 := 2) 1 r l) = V3 m ρ c main_v2_3 (ix3 (n0 := 2) 1 r l) := by
  refine ((dat1 (V3 m ρ) c).arrAt_apply_of_forall_not_mem 7 cfg1.N (ix3 (n0 := 2) (n1 := 128) (n2 := 256) 1 r l) fun t _ _ hm => ?_).trans (congrFun (A_eq1 (V3 m ρ) c 7) _)
  obtain ⟨y, -, hy⟩ := Finset.mem_map.mp hm
  exact off3 (idx1 t).2.2.2.2.2.2.1 (y 0).isLt (congrArg (fun z : S2x128x256.Idx => (z 0).val) hy)

end

/-! ## The run -/

section

open Idealize.ShloMosaic.Tactic
open Idealize.SL.RA Idealize.SL.BI
open scoped Idealize.SL.BI
open Idealize.SL.BI.BIBase Idealize.SL.BI.Laws Idealize.SL.ProofMode
open Idealize.ShloMosaic.Rounds

abbrev M := MT nD τ sig Unit (Elt Ideal) ℕ (UR sig nD τ) ℕ

set_option backward.isDefEq.respectTransparency.types false in
/-- The run with what the results hold at its end. -/
theorem run : θ_run (defs (F := Ideal)) (onTc (τ := τ) (main (F := Ideal))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp M)
            ⊢ BI.own (emb₁ (initOf (Pipeline.cells cfgs cellOf_inj) (Pipeline.launchToks cfgs cellOf_inj))) from .rfl)
        iexact Hu
      iapply (show (BI.emp : sProp M) ⊢ bigSep Finset.univ (fun _ : Dev nD => (BI.emp : sProp M)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end

/-- Between the calls the first call's results are copied to the arrays the second call writes in. -/
theorem V3_v4 (c : Dev nD) : V3 m ρ c main_v2_0 = (dat0 (V1 m ρ) c).arrAt 4 cfg0.N :=
  (show _ = W2 m ρ c (Proc.devRef .tc main_v1_0) by unfold_abbrev_sides; after_results; rfl).trans (W2_arr m ρ c 4)

theorem V3_v5 (c : Dev nD) : V3 m ρ c main_v2_1 = (dat0 (V1 m ρ) c).arrAt 5 cfg0.N :=
  (show _ = W2 m ρ c (Proc.devRef .tc main_v1_1) by unfold_abbrev_sides; after_results; rfl).trans (W2_arr m ρ c 5)

theorem V3_v6 (c : Dev nD) : V3 m ρ c main_v2_2 = (dat0 (V1 m ρ) c).arrAt 6 cfg0.N :=
  (show _ = W2 m ρ c (Proc.devRef .tc main_v1_2) by unfold_abbrev_sides; after_results; rfl).trans (W2_arr m ρ c 6)

theorem V3_v7 (c : Dev nD) : V3 m ρ c main_v2_3 = (dat0 (V1 m ρ) c).arrAt 7 cfg0.N :=
  (show _ = W2 m ρ c (Proc.devRef .tc main_v1_3) by unfold_abbrev_sides; after_results; rfl).trans (W2_arr m ρ c 7)

/-- What the kernel leaves is what the reference computes. -/
theorem eqs (c : Dev nD) : (W4 m ρ c (Proc.devRef .tc main_v2_0) : S2x128x256.Idx → EReal) = val_main_v2 (F := Ideal) (A1 m c) (A2 m c) ∧
    (W4 m ρ c (Proc.devRef .tc main_v2_1) : S2x128x256.Idx → EReal) = val_main_v26 (F := Ideal) (A0 m c) (A1 m c) (A2 m c) (A3 m c) (A4 m c) ∧
    (W4 m ρ c (Proc.devRef .tc main_v2_2) : S2x128x256.Idx → EReal) = val_main_v7 (F := Ideal) (A1 m c) (A2 m c) (A3 m c) ∧
    (W4 m ρ c (Proc.devRef .tc main_v2_3) : S2x128x256.Idx → EReal) = val_main_v13 (F := Ideal) (A1 m c) (A2 m c) (A4 m c) := by
  refine ⟨(W4_arr m ρ c 4).trans (stack (fun r l => (arr1_4 m ρ c t1 r l).trans ?_) fun r l =>
    (keep4 m ρ c r l).trans ((congrFun (V3_v4 m ρ c) _).trans ((arr0_4 m ρ c t0 r l).trans ?_))),
    (W4_arr m ρ c 5).trans (stack (fun r l => (arr1_5 m ρ c t1 r l).trans ?_) fun r l =>
    (keep5 m ρ c r l).trans ((congrFun (V3_v5 m ρ c) _).trans ((arr0_5 m ρ c t0 r l).trans ?_))),
    (W4_arr m ρ c 6).trans (stack (fun r l => (arr1_6 m ρ c t1 r l).trans ?_) fun r l =>
    (keep6 m ρ c r l).trans ((congrFun (V3_v6 m ρ c) _).trans ((arr0_6 m ρ c t0 r l).trans ?_))),
    (W4_arr m ρ c 7).trans (stack (fun r l => (arr1_7 m ρ c t1 r l).trans ?_) fun r l =>
    (keep7 m ρ c r l).trans ((congrFun (V3_v7 m ρ c) _).trans ((arr0_7 m ρ c t0 r l).trans ?_)))⟩
  all_goals
    pointwise [k0_pay1, k0_pay2, k0_pay3, k0_pay4, k0_pay7, k0_pay5, k0_pay6, k1_pay1, k1_pay2, k1_pay3, k1_pay4, k1_pay7, k1_pay5, k1_pay6, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
    simp only [in0_0, in0_1, in0_2, in0_3, in1_0, in1_1, in1_2, in1_3]

end Cert.AdamUkv

open Idealize.ShloMosaic Idealize.SL.Sem Cert.AdamUkvKernelIdeal Cert.AdamUkvKernelIdeal.Gen Cert.AdamUkvReferenceIdeal.Read Cert.AdamUkv in
/-- The kernel computes the reference's stacked gradient, change of the weight and both new moments, over the extended reals. -/
theorem Cert.AdamUkv.algebraic : Cert.algebraic_AdamUkvKernelIdeal_AdamUkvReferenceIdeal := by
  intro m g m' g' _ hag
  refine ⟨fun c => W4 m g c (Proc.devRef .tc main_v2_0), fun c => W4 m g c (Proc.devRef .tc main_v2_1), fun c => W4 m g c (Proc.devRef .tc main_v2_2),
    fun c => W4 m g c (Proc.devRef .tc main_v2_3), (θ_run _ _ _).mono (fun r h c => ?_) (run m g),
    (θ_run _ _ _).mono (fun r h c => ?_) (Cert.AdamUkvReferenceIdeal.Value.run m' g')⟩
  · exact ⟨h c _ (mem_uc main_v2_0 (by decide)), h c _ (mem_uc main_v2_1 (by decide)), h c _ (mem_uc main_v2_2 (by decide)),
      h c _ (mem_uc main_v2_3 (by decide)), (h c _ (mem_uc main_arg0 (by decide))).trans (W4_main_arg0 m g c),
      (h c _ (mem_uc main_arg1 (by decide))).trans (W4_main_arg1 m g c), (h c _ (mem_uc main_arg2 (by decide))).trans (W4_main_arg2 m g c),
      (h c _ (mem_uc main_arg3 (by decide))).trans (W4_main_arg3 m g c), (h c _ (mem_uc main_arg4 (by decide))).trans (W4_main_arg4 m g c)⟩
  obtain ⟨h0, h1, h2, h3, ha⟩ := h c
  obtain ⟨e0, e1, e2, e3, e4⟩ := hag c
  refine ⟨?_, ?_, ?_, ?_, ha⟩
  · rw [h0, val_main_v2_eq, e1, e2]
    exact (eqs m g c).1.symm
  · rw [h1, val_main_v26_eq, e0, e1, e2, e3, e4]
    exact (eqs m g c).2.1.symm
  · rw [h2, val_main_v7_eq, e1, e2, e3]
    exact (eqs m g c).2.2.1.symm
  · rw [h3, val_main_v13_eq, e1, e2, e4]
    exact (eqs m g c).2.2.2.symm

open Idealize.ShloMosaic Idealize.SL.Sem in
/-- The reference terminates, leaves its arguments as they were, and has no semaphore. -/
theorem Cert.AdamUkv.frame_reference : Cert.quiescent_AdamUkvReferenceIdeal := fun m ρ _ =>
  (θ_run Cert.AdamUkvReferenceIdeal.defs _ _).mono (fun r h => ⟨fun c => (h c).2.2.2.2,
    sem_eq_zero_of_no_sems (by decide) r.2⟩) (Cert.AdamUkvReferenceIdeal.Value.run m ρ)

end
-- ==== Proof.AdamWout.lean ====
/- The optimiser `adamw_layer` on w_out, one layer after the other: the gradient as it came, the change of the weight and
   both new moments. The first call writes layer 1, the second writes layer 0 into the same arrays. -/
module

public import proofs.«01_k».proof.Defs
public import proofs.«01_k».proof.Proof.Layers
public import proofs.«01_k».proof.Proof.Gen.AdamWoutKernelIdeal.Frame
public import proofs.«01_k».proof.Proof.Gen.AdamWoutReferenceIdeal.Read
public import Idealize.ShloMosaic.Lib.Quiescent
public import Idealize.ShloMosaic.Lib.Pipeline.Value
public import Idealize.ShloMosaic.Lib.StableHlo.RunClose
public import Idealize.ShloMosaic.Lib.Claim

@[expose] public section

set_option maxRecDepth 16384

noncomputable section

namespace Cert.AdamWout

open Cert.AdamWoutKernelIdeal Cert.AdamWoutKernelIdeal.Gen
open Idealize.ShloMosaic Idealize.ShloMosaic.TcCoe Idealize.ShloMosaic.StableHlo Idealize.SL Idealize.SL.Sem
open Cert.AdamWoutReferenceIdeal.Read Cert Cert.Layers

variable (m : (ℓ : Loc nD τ sig) → Buf (Elt Ideal) ℓ) (ρ : Dev nD → PrngReg)

/-- The argument arrays of a device: the weight, both layers' gradients, both moments. -/
abbrev A0 (c : Dev nD) : Vec Ideal S2x128x1024 .f32 := m ((c : Thread nD τ).loc main_arg0)
abbrev A1 (c : Dev nD) : Vec Ideal S128x1024 .f32 := m ((c : Thread nD τ).loc main_arg1)
abbrev A2 (c : Dev nD) : Vec Ideal S128x1024 .f32 := m ((c : Thread nD τ).loc main_arg2)
abbrev A3 (c : Dev nD) : Vec Ideal S2x128x1024 .f32 := m ((c : Thread nD τ).loc main_arg3)
abbrev A4 (c : Dev nD) : Vec Ideal S2x128x1024 .f32 := m ((c : Thread nD τ).loc main_arg4)

/-! ## The call on layer 1 -/

section

variable (c : Dev nD) (t : Fin cfg0.N) (r : Fin 128) (l : Fin 1024)

/-- Where its windows lie. -/
theorem idx0 : ∀ t : Fin cfg0.N,
    win0_0.index t = ![1, 0, 0] ∧ win0_2.index t = ![1, 0, 0] ∧ win0_3.index t = ![1, 0, 0] ∧ win0_4.index t = ![1, 0, 0] ∧ win0_5.index t = ![1, 0, 0] ∧ win0_6.index t = ![1, 0, 0] ∧ win0_7.index t = ![1, 0, 0] ∧ win0_1.index t = ![0, 0] := by
  show ∀ t : Fin grid0.N, _
  decide +kernel

/-- Its only point, whose blocks are what it leaves in the arrays. -/
def t0 : Fin cfg0.N := ⟨0, by rw [show cfg0.N = 1 from N_0]; omega⟩

theorem whole0 (k : Fin cfg0.W) (h : (cfg0.win k).flush t = true) :
    ((cfg0.win k).blk t).view.read (Elt Ideal) ((dat0 (V1 m ρ) c).arrAt k cfg0.N) = (dat0 (V1 m ρ) c).flushed k t :=
  (dat0 (V1 m ρ) c).read_blk_arrAt_eq_flushed k (fun t t' _ _ hne => absurd (Fin.ext (by have h : cfg0.N = 1 := N_0; omega)) hne) cfg0.N t t.isLt h

/-- What it leaves in its results' blocks. -/
theorem left0 : (outsAt0 (V1 m ρ) c t).1 = k0_pay4 (iblk0 (V1 m ρ) c 1 t) ∧
    (outsAt0 (V1 m ρ) c t).2.1 = k0_pay1 (k0_pay7 (iblk0 (V1 m ρ) c 1 t) (iblk0 (V1 m ρ) c 0 t) (iblk0 (V1 m ρ) c 2 t) (iblk0 (V1 m ρ) c 3 t)) ∧
    (outsAt0 (V1 m ρ) c t).2.2.1 = k0_pay2 (k0_pay5 (iblk0 (V1 m ρ) c 1 t) (iblk0 (V1 m ρ) c 2 t)) ∧
    (outsAt0 (V1 m ρ) c t).2.2.2 = k0_pay3 (k0_pay6 (iblk0 (V1 m ρ) c 1 t) (iblk0 (V1 m ρ) c 3 t)) := by
  unfold outsAt0
  dsimp only
  unfold out0_A_4 out0_A_5 out0_A_6 out0_A_7
  refine ⟨?_, ?_, ?_, ?_⟩
  all_goals
    rw [View.read_writes_junk_eq_canon]
    unfold kernelRun0_A
    dsimp only
    sl_unfold_words
    simp only [View.readAt_eq_ld, (hs0_0 t).read_unread, (hs0_1 t).read_unread, (hs0_2 t).read_unread, (hs0_3 t).read_unread, View.ld_unit_zero (S := S128x1024) hz2, View.ld_unit_zero (S := S1x128x1024) hz3]
    rw [View.canon_unit_zero (S := S1x128x1024) hz3]

theorem in0_0 : iblk0 (V1 m ρ) c 0 t (ix3 (n0 := 1) 0 r l) = A0 m c (ix3 (n0 := 2) 1 r l) :=
  (congrArg (V1 m ρ c main_arg0) (ext3 (b := 128) (d := 1024) (idx0 t).1 rfl rfl rfl)).trans (congrFun (W1_args m ρ c main_arg0 (by decide)) _)

theorem in0_2 : iblk0 (V1 m ρ) c 2 t (ix3 (n0 := 1) 0 r l) = A3 m c (ix3 (n0 := 2) 1 r l) :=
  (congrArg (V1 m ρ c main_arg3) (ext3 (b := 128) (d := 1024) (idx0 t).2.1 rfl rfl rfl)).trans (congrFun (W1_args m ρ c main_arg3 (by decide)) _)

theorem in0_3 : iblk0 (V1 m ρ) c 3 t (ix3 (n0 := 1) 0 r l) = A4 m c (ix3 (n0 := 2) 1 r l) :=
  (congrArg (V1 m ρ c main_arg4) (ext3 (b := 128) (d := 1024) (idx0 t).2.2.1 rfl rfl rfl)).trans (congrFun (W1_args m ρ c main_arg4 (by decide)) _)

theorem in0_1 : iblk0 (V1 m ρ) c 1 t (ix2 r l) = A2 m c (ix2 r l) :=
  (congrArg (V1 m ρ c main_arg2) (ext2 (b := 128) (d := 1024) (idx0 t).2.2.2.2.2.2.2 rfl rfl)).trans (congrFun (W1_args m ρ c main_arg2 (by decide)) _)

/-- Layer 1 of its results is what the call leaves. -/
theorem arr0_4 : ((dat0 (V1 m ρ) c).arrAt 4 cfg0.N : S2x128x1024.Idx → EReal) (ix3 (n0 := 2) 1 r l) = k0_pay4 (iblk0 (V1 m ρ) c 1 t) (ix3 (n0 := 1) 0 r l) :=
  (congrArg ((dat0 (V1 m ρ) c).arrAt 4 cfg0.N) (ext3 (b := 128) (d := 1024) (idx0 t).2.2.2.1 rfl rfl rfl).symm).trans
    (congrFun ((whole0 m ρ c t 4 (flush0_4 t)).trans ((after0_4 (V1 m ρ) c t).trans (left0 m ρ c t).1)) (ix3 (n0 := 1) (n1 := 128) (n2 := 1024) 0 r l))

theorem arr0_5 : ((dat0 (V1 m ρ) c).arrAt 5 cfg0.N : S2x128x1024.Idx → EReal) (ix3 (n0 := 2) 1 r l) = k0_pay1 (k0_pay7 (iblk0 (V1 m ρ) c 1 t) (iblk0 (V1 m ρ) c 0 t) (iblk0 (V1 m ρ) c 2 t) (iblk0 (V1 m ρ) c 3 t)) (ix3 (n0 := 1) 0 r l) :=
  (congrArg ((dat0 (V1 m ρ) c).arrAt 5 cfg0.N) (ext3 (b := 128) (d := 1024) (idx0 t).2.2.2.2.1 rfl rfl rfl).symm).trans
    (congrFun ((whole0 m ρ c t 5 (flush0_5 t)).trans ((after0_5 (V1 m ρ) c t).trans (left0 m ρ c t).2.1)) (ix3 (n0 := 1) (n1 := 128) (n2 := 1024) 0 r l))

theorem arr0_6 : ((dat0 (V1 m ρ) c).arrAt 6 cfg0.N : S2x128x1024.Idx → EReal) (ix3 (n0 := 2) 1 r l) = k0_pay2 (k0_pay5 (iblk0 (V1 m ρ) c 1 t) (iblk0 (V1 m ρ) c 2 t)) (ix3 (n0 := 1) 0 r l) :=
  (congrArg ((dat0 (V1 m ρ) c).arrAt 6 cfg0.N) (ext3 (b := 128) (d := 1024) (idx0 t).2.2.2.2.2.1 rfl rfl rfl).symm).trans
    (congrFun ((whole0 m ρ c t 6 (flush0_6 t)).trans ((after0_6 (V1 m ρ) c t).trans (left0 m ρ c t).2.2.1)) (ix3 (n0 := 1) (n1 := 128) (n2 := 1024) 0 r l))

theorem arr0_7 : ((dat0 (V1 m ρ) c).arrAt 7 cfg0.N : S2x128x1024.Idx → EReal) (ix3 (n0 := 2) 1 r l) = k0_pay3 (k0_pay6 (iblk0 (V1 m ρ) c 1 t) (iblk0 (V1 m ρ) c 3 t)) (ix3 (n0 := 1) 0 r l) :=
  (congrArg ((dat0 (V1 m ρ) c).arrAt 7 cfg0.N) (ext3 (b := 128) (d := 1024) (idx0 t).2.2.2.2.2.2.1 rfl rfl rfl).symm).trans
    (congrFun ((whole0 m ρ c t 7 (flush0_7 t)).trans ((after0_7 (V1 m ρ) c t).trans (left0 m ρ c t).2.2.2)) (ix3 (n0 := 1) (n1 := 128) (n2 := 1024) 0 r l))

end

/-! ## The call on layer 0 -/

section

variable (c : Dev nD) (t : Fin cfg1.N) (r : Fin 128) (l : Fin 1024)

/-- Where its windows lie. -/
theorem idx1 : ∀ t : Fin cfg1.N,
    win1_0.index t = ![0, 0, 0] ∧ win1_2.index t = ![0, 0, 0] ∧ win1_3.index t = ![0, 0, 0] ∧ win1_4.index t = ![0, 0, 0] ∧ win1_5.index t = ![0, 0, 0] ∧ win1_6.index t = ![0, 0, 0] ∧ win1_7.index t = ![0, 0, 0] ∧ win1_1.index t = ![0, 0] := by
  show ∀ t : Fin grid1.N, _
  decide +kernel

/-- Its only point, whose blocks are what it leaves in the arrays. -/
def t1 : Fin cfg1.N := ⟨0, by rw [show cfg1.N = 1 from N_1]; omega⟩

theorem whole1 (k : Fin cfg1.W) (h : (cfg1.win k).flush t = true) :
    ((cfg1.win k).blk t).view.read (Elt Ideal) ((dat1 (V3 m ρ) c).arrAt k cfg1.N) = (dat1 (V3 m ρ) c).flushed k t :=
  (dat1 (V3 m ρ) c).read_blk_arrAt_eq_flushed k (fun t t' _ _ hne => absurd (Fin.ext (by have h : cfg1.N = 1 := N_1; omega)) hne) cfg1.N t t.isLt h

/-- What it leaves in its results' blocks. -/
theorem left1 : (outsAt1 (V3 m ρ) c t).1 = k1_pay4 (iblk1 (V3 m ρ) c 1 t) ∧
    (outsAt1 (V3 m ρ) c t).2.1 = k1_pay1 (k1_pay7 (iblk1 (V3 m ρ) c 1 t) (iblk1 (V3 m ρ) c 0 t) (iblk1 (V3 m ρ) c 2 t) (iblk1 (V3 m ρ) c 3 t)) ∧
    (outsAt1 (V3 m ρ) c t).2.2.1 = k1_pay2 (k1_pay5 (iblk1 (V3 m ρ) c 1 t) (iblk1 (V3 m ρ) c 2 t)) ∧
    (outsAt1 (V3 m ρ) c t).2.2.2 = k1_pay3 (k1_pay6 (iblk1 (V3 m ρ) c 1 t) (iblk1 (V3 m ρ) c 3 t)) := by
  unfold outsAt1
  dsimp only
  unfold out1_A_4 out1_A_5 out1_A_6 out1_A_7
  refine ⟨?_, ?_, ?_, ?_⟩
  all_goals
    rw [View.read_writes_junk_eq_canon]
    unfold kernelRun1_A
    dsimp only
    sl_unfold_words
    simp only [View.readAt_eq_ld, (hs1_0 t).read_unread, (hs1_1 t).read_unread, (hs1_2 t).read_unread, (hs1_3 t).read_unread, View.ld_unit_zero (S := S128x1024) hz2, View.ld_unit_zero (S := S1x128x1024) hz3]
    rw [View.canon_unit_zero (S := S1x128x1024) hz3]

theorem in1_0 : iblk1 (V3 m ρ) c 0 t (ix3 (n0 := 1) 0 r l) = A0 m c (ix3 (n0 := 2) 0 r l) :=
  (congrArg (V3 m ρ c main_arg0) (ext3 (b := 128) (d := 1024) (idx1 t).1 rfl rfl rfl)).trans (congrFun (W3_args m ρ c main_arg0 (by decide)) _)

theorem in1_2 : iblk1 (V3 m ρ) c 2 t (ix3 (n0 := 1) 0 r l) = A3 m c (ix3 (n0 := 2) 0 r l) :=
  (congrArg (V3 m ρ c main_arg3) (ext3 (b := 128) (d := 1024) (idx1 t).2.1 rfl rfl rfl)).trans (congrFun (W3_args m ρ c main_arg3 (by decide)) _)

theorem in1_3 : iblk1 (V3 m ρ) c 3 t (ix3 (n0 := 1) 0 r l) = A4 m c (ix3 (n0 := 2) 0 r l) :=
  (congrArg (V3 m ρ c main_arg4) (ext3 (b := 128) (d := 1024) (idx1 t).2.2.1 rfl rfl rfl)).trans (congrFun (W3_args m ρ c main_arg4 (by decide)) _)

theorem in1_1 : iblk1 (V3 m ρ) c 1 t (ix2 r l) = A1 m c (ix2 r l) :=
  (congrArg (V3 m ρ c main_arg1) (ext2 (b := 128) (d := 1024) (idx1 t).2.2.2.2.2.2.2 rfl rfl)).trans (congrFun (W3_args m ρ c main_arg1 (by decide)) _)

/-- Layer 0 of its results is what the call leaves. -/
theorem arr1_4 : ((dat1 (V3 m ρ) c).arrAt 4 cfg1.N : S2x128x1024.Idx → EReal) (ix3 (n0 := 2) 0 r l) = k1_pay4 (iblk1 (V3 m ρ) c 1 t) (ix3 (n0 := 1) 0 r l) :=
  (congrArg ((dat1 (V3 m ρ) c).arrAt 4 cfg1.N) (ext3 (b := 128) (d := 1024) (idx1 t).2.2.2.1 rfl rfl rfl).symm).trans
    (congrFun ((whole1 m ρ c t 4 (flush1_4 t)).trans ((after1_4 (V3 m ρ) c t).trans (left1 m ρ c t).1)) (ix3 (n0 := 1) (n1 := 128) (n2 := 1024) 0 r l))

theorem arr1_5 : ((dat1 (V3 m ρ) c).arrAt 5 cfg1.N : S2x128x1024.Idx → EReal) (ix3 (n0 := 2) 0 r l) = k1_pay1 (k1_pay7 (iblk1 (V3 m ρ) c 1 t) (iblk1 (V3 m ρ) c 0 t) (iblk1 (V3 m ρ) c 2 t) (iblk1 (V3 m ρ) c 3 t)) (ix3 (n0 := 1) 0 r l) :=
  (congrArg ((dat1 (V3 m ρ) c).arrAt 5 cfg1.N) (ext3 (b := 128) (d := 1024) (idx1 t).2.2.2.2.1 rfl rfl rfl).symm).trans
    (congrFun ((whole1 m ρ c t 5 (flush1_5 t)).trans ((after1_5 (V3 m ρ) c t).trans (left1 m ρ c t).2.1)) (ix3 (n0 := 1) (n1 := 128) (n2 := 1024) 0 r l))

theorem arr1_6 : ((dat1 (V3 m ρ) c).arrAt 6 cfg1.N : S2x128x1024.Idx → EReal) (ix3 (n0 := 2) 0 r l) = k1_pay2 (k1_pay5 (iblk1 (V3 m ρ) c 1 t) (iblk1 (V3 m ρ) c 2 t)) (ix3 (n0 := 1) 0 r l) :=
  (congrArg ((dat1 (V3 m ρ) c).arrAt 6 cfg1.N) (ext3 (b := 128) (d := 1024) (idx1 t).2.2.2.2.2.1 rfl rfl rfl).symm).trans
    (congrFun ((whole1 m ρ c t 6 (flush1_6 t)).trans ((after1_6 (V3 m ρ) c t).trans (left1 m ρ c t).2.2.1)) (ix3 (n0 := 1) (n1 := 128) (n2 := 1024) 0 r l))

theorem arr1_7 : ((dat1 (V3 m ρ) c).arrAt 7 cfg1.N : S2x128x1024.Idx → EReal) (ix3 (n0 := 2) 0 r l) = k1_pay3 (k1_pay6 (iblk1 (V3 m ρ) c 1 t) (iblk1 (V3 m ρ) c 3 t)) (ix3 (n0 := 1) 0 r l) :=
  (congrArg ((dat1 (V3 m ρ) c).arrAt 7 cfg1.N) (ext3 (b := 128) (d := 1024) (idx1 t).2.2.2.2.2.2.1 rfl rfl rfl).symm).trans
    (congrFun ((whole1 m ρ c t 7 (flush1_7 t)).trans ((after1_7 (V3 m ρ) c t).trans (left1 m ρ c t).2.2.2)) (ix3 (n0 := 1) (n1 := 128) (n2 := 1024) 0 r l))

/-- Layer 1 of its results stays as it was. -/
theorem keep4 : ((dat1 (V3 m ρ) c).arrAt 4 cfg1.N : S2x128x1024.Idx → EReal) (ix3 (n0 := 2) 1 r l) = V3 m ρ c main_v2_0 (ix3 (n0 := 2) 1 r l) := by
  refine ((dat1 (V3 m ρ) c).arrAt_apply_of_forall_not_mem 4 cfg1.N (ix3 (n0 := 2) (n1 := 128) (n2 := 1024) 1 r l) fun t _ _ hm => ?_).trans (congrFun (A_eq1 (V3 m ρ) c 4) _)
  obtain ⟨y, -, hy⟩ := Finset.mem_map.mp hm
  exact off3 (idx1 t).2.2.2.1 (y 0).isLt (congrArg (fun z : S2x128x1024.Idx => (z 0).val) hy)

theorem keep5 : ((dat1 (V3 m ρ) c).arrAt 5 cfg1.N : S2x128x1024.Idx → EReal) (ix3 (n0 := 2) 1 r l) = V3 m ρ c main_v2_1 (ix3 (n0 := 2) 1 r l) := by
  refine ((dat1 (V3 m ρ) c).arrAt_apply_of_forall_not_mem 5 cfg1.N (ix3 (n0 := 2) (n1 := 128) (n2 := 1024) 1 r l) fun t _ _ hm => ?_).trans (congrFun (A_eq1 (V3 m ρ) c 5) _)
  obtain ⟨y, -, hy⟩ := Finset.mem_map.mp hm
  exact off3 (idx1 t).2.2.2.2.1 (y 0).isLt (congrArg (fun z : S2x128x1024.Idx => (z 0).val) hy)

theorem keep6 : ((dat1 (V3 m ρ) c).arrAt 6 cfg1.N : S2x128x1024.Idx → EReal) (ix3 (n0 := 2) 1 r l) = V3 m ρ c main_v2_2 (ix3 (n0 := 2) 1 r l) := by
  refine ((dat1 (V3 m ρ) c).arrAt_apply_of_forall_not_mem 6 cfg1.N (ix3 (n0 := 2) (n1 := 128) (n2 := 1024) 1 r l) fun t _ _ hm => ?_).trans (congrFun (A_eq1 (V3 m ρ) c 6) _)
  obtain ⟨y, -, hy⟩ := Finset.mem_map.mp hm
  exact off3 (idx1 t).2.2.2.2.2.1 (y 0).isLt (congrArg (fun z : S2x128x1024.Idx => (z 0).val) hy)

theorem keep7 : ((dat1 (V3 m ρ) c).arrAt 7 cfg1.N : S2x128x1024.Idx → EReal) (ix3 (n0 := 2) 1 r l) = V3 m ρ c main_v2_3 (ix3 (n0 := 2) 1 r l) := by
  refine ((dat1 (V3 m ρ) c).arrAt_apply_of_forall_not_mem 7 cfg1.N (ix3 (n0 := 2) (n1 := 128) (n2 := 1024) 1 r l) fun t _ _ hm => ?_).trans (congrFun (A_eq1 (V3 m ρ) c 7) _)
  obtain ⟨y, -, hy⟩ := Finset.mem_map.mp hm
  exact off3 (idx1 t).2.2.2.2.2.2.1 (y 0).isLt (congrArg (fun z : S2x128x1024.Idx => (z 0).val) hy)

end

/-! ## The run -/

section

open Idealize.ShloMosaic.Tactic
open Idealize.SL.RA Idealize.SL.BI
open scoped Idealize.SL.BI
open Idealize.SL.BI.BIBase Idealize.SL.BI.Laws Idealize.SL.ProofMode
open Idealize.ShloMosaic.Rounds

abbrev M := MT nD τ sig Unit (Elt Ideal) ℕ (UR sig nD τ) ℕ

set_option backward.isDefEq.respectTransparency.types false in
/-- The run with what the results hold at its end. -/
theorem run : θ_run (defs (F := Ideal)) (onTc (τ := τ) (main (F := Ideal))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp M)
            ⊢ BI.own (emb₁ (initOf (Pipeline.cells cfgs cellOf_inj) (Pipeline.launchToks cfgs cellOf_inj))) from .rfl)
        iexact Hu
      iapply (show (BI.emp : sProp M) ⊢ bigSep Finset.univ (fun _ : Dev nD => (BI.emp : sProp M)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end

/-- Between the calls the first call's results are copied to the arrays the second call writes in. -/
theorem V3_v4 (c : Dev nD) : V3 m ρ c main_v2_0 = (dat0 (V1 m ρ) c).arrAt 4 cfg0.N :=
  (show _ = W2 m ρ c (Proc.devRef .tc main_v1_0) by unfold_abbrev_sides; after_results; rfl).trans (W2_arr m ρ c 4)

theorem V3_v5 (c : Dev nD) : V3 m ρ c main_v2_1 = (dat0 (V1 m ρ) c).arrAt 5 cfg0.N :=
  (show _ = W2 m ρ c (Proc.devRef .tc main_v1_1) by unfold_abbrev_sides; after_results; rfl).trans (W2_arr m ρ c 5)

theorem V3_v6 (c : Dev nD) : V3 m ρ c main_v2_2 = (dat0 (V1 m ρ) c).arrAt 6 cfg0.N :=
  (show _ = W2 m ρ c (Proc.devRef .tc main_v1_2) by unfold_abbrev_sides; after_results; rfl).trans (W2_arr m ρ c 6)

theorem V3_v7 (c : Dev nD) : V3 m ρ c main_v2_3 = (dat0 (V1 m ρ) c).arrAt 7 cfg0.N :=
  (show _ = W2 m ρ c (Proc.devRef .tc main_v1_3) by unfold_abbrev_sides; after_results; rfl).trans (W2_arr m ρ c 7)

/-- What the kernel leaves is what the reference computes. -/
theorem eqs (c : Dev nD) : (W4 m ρ c (Proc.devRef .tc main_v2_0) : S2x128x1024.Idx → EReal) = val_main_v2 (F := Ideal) (A1 m c) (A2 m c) ∧
    (W4 m ρ c (Proc.devRef .tc main_v2_1) : S2x128x1024.Idx → EReal) = val_main_v26 (F := Ideal) (A0 m c) (A1 m c) (A2 m c) (A3 m c) (A4 m c) ∧
    (W4 m ρ c (Proc.devRef .tc main_v2_2) : S2x128x1024.Idx → EReal) = val_main_v7 (F := Ideal) (A1 m c) (A2 m c) (A3 m c) ∧
    (W4 m ρ c (Proc.devRef .tc main_v2_3) : S2x128x1024.Idx → EReal) = val_main_v13 (F := Ideal) (A1 m c) (A2 m c) (A4 m c) := by
  refine ⟨(W4_arr m ρ c 4).trans (stack (fun r l => (arr1_4 m ρ c t1 r l).trans ?_) fun r l =>
    (keep4 m ρ c r l).trans ((congrFun (V3_v4 m ρ c) _).trans ((arr0_4 m ρ c t0 r l).trans ?_))),
    (W4_arr m ρ c 5).trans (stack (fun r l => (arr1_5 m ρ c t1 r l).trans ?_) fun r l =>
    (keep5 m ρ c r l).trans ((congrFun (V3_v5 m ρ c) _).trans ((arr0_5 m ρ c t0 r l).trans ?_))),
    (W4_arr m ρ c 6).trans (stack (fun r l => (arr1_6 m ρ c t1 r l).trans ?_) fun r l =>
    (keep6 m ρ c r l).trans ((congrFun (V3_v6 m ρ c) _).trans ((arr0_6 m ρ c t0 r l).trans ?_))),
    (W4_arr m ρ c 7).trans (stack (fun r l => (arr1_7 m ρ c t1 r l).trans ?_) fun r l =>
    (keep7 m ρ c r l).trans ((congrFun (V3_v7 m ρ c) _).trans ((arr0_7 m ρ c t0 r l).trans ?_)))⟩
  all_goals
    pointwise [k0_pay1, k0_pay2, k0_pay3, k0_pay4, k0_pay7, k0_pay5, k0_pay6, k1_pay1, k1_pay2, k1_pay3, k1_pay4, k1_pay7, k1_pay5, k1_pay6, val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
    simp only [in0_0, in0_1, in0_2, in0_3, in1_0, in1_1, in1_2, in1_3]

end Cert.AdamWout

open Idealize.ShloMosaic Idealize.SL.Sem Cert.AdamWoutKernelIdeal Cert.AdamWoutKernelIdeal.Gen Cert.AdamWoutReferenceIdeal.Read Cert.AdamWout in
/-- The kernel computes the reference's stacked gradient, change of the weight and both new moments, over the extended reals. -/
theorem Cert.AdamWout.algebraic : Cert.algebraic_AdamWoutKernelIdeal_AdamWoutReferenceIdeal := by
  intro m g m' g' _ hag
  refine ⟨fun c => W4 m g c (Proc.devRef .tc main_v2_0), fun c => W4 m g c (Proc.devRef .tc main_v2_1), fun c => W4 m g c (Proc.devRef .tc main_v2_2),
    fun c => W4 m g c (Proc.devRef .tc main_v2_3), (θ_run _ _ _).mono (fun r h c => ?_) (run m g),
    (θ_run _ _ _).mono (fun r h c => ?_) (Cert.AdamWoutReferenceIdeal.Value.run m' g')⟩
  · exact ⟨h c _ (mem_uc main_v2_0 (by decide)), h c _ (mem_uc main_v2_1 (by decide)), h c _ (mem_uc main_v2_2 (by decide)),
      h c _ (mem_uc main_v2_3 (by decide)), (h c _ (mem_uc main_arg0 (by decide))).trans (W4_main_arg0 m g c),
      (h c _ (mem_uc main_arg1 (by decide))).trans (W4_main_arg1 m g c), (h c _ (mem_uc main_arg2 (by decide))).trans (W4_main_arg2 m g c),
      (h c _ (mem_uc main_arg3 (by decide))).trans (W4_main_arg3 m g c), (h c _ (mem_uc main_arg4 (by decide))).trans (W4_main_arg4 m g c)⟩
  obtain ⟨h0, h1, h2, h3, ha⟩ := h c
  obtain ⟨e0, e1, e2, e3, e4⟩ := hag c
  refine ⟨?_, ?_, ?_, ?_, ha⟩
  · rw [h0, val_main_v2_eq, e1, e2]
    exact (eqs m g c).1.symm
  · rw [h1, val_main_v26_eq, e0, e1, e2, e3, e4]
    exact (eqs m g c).2.1.symm
  · rw [h2, val_main_v7_eq, e1, e2, e3]
    exact (eqs m g c).2.2.1.symm
  · rw [h3, val_main_v13_eq, e1, e2, e4]
    exact (eqs m g c).2.2.2.symm

open Idealize.ShloMosaic Idealize.SL.Sem in
/-- The reference terminates, leaves its arguments as they were, and has no semaphore. -/
theorem Cert.AdamWout.frame_reference : Cert.quiescent_AdamWoutReferenceIdeal := fun m ρ _ =>
  (θ_run Cert.AdamWoutReferenceIdeal.defs _ _).mono (fun r h => ⟨fun c => (h c).2.2.2.2,
    sem_eq_zero_of_no_sems (by decide) r.2⟩) (Cert.AdamWoutReferenceIdeal.Value.run m ρ)

end
-- ==== Proof.Packs.lean ====
/- Gradients packed into rows of 1024 entries: where an entry lies in the packed array, and where it is read back. -/
module

public import proofs.«01_k».proof.Proof.Rows
public import Idealize.ShloMosaic.Lib.Pipeline.Value
public import Idealize.ShloMosaic.Lib.KernelVsHost

@[expose] public section

namespace Cert.Packs

open Idealize.ShloMosaic

variable {α : Type} {a b d n : ℕ}

theorem cast21 (x : (⟨2, ![a, b]⟩ : Shape).Idx → α) (h : (⟨2, ![a, b]⟩ : Shape).ShapeCasts ⟨1, ![n]⟩) (f : Fin n) (r : Fin a) (l : Fin b)
    (e : f.val = r.val * b + l.val) : shapeCast ⟨1, ![n]⟩ x h (ix1 f) = x (ix2 r l) :=
  shapeCast_apply x h _ _ (by
    rw [Shape.rowMajor_val_two, Shape.rowMajor_val_one]
    exact e.symm)

theorem cast12 (x : (⟨1, ![n]⟩ : Shape).Idx → α) (h : (⟨1, ![n]⟩ : Shape).ShapeCasts ⟨2, ![a, b]⟩) (f : Fin n) (r : Fin a) (l : Fin b)
    (e : f.val = r.val * b + l.val) : shapeCast ⟨2, ![a, b]⟩ x h (ix2 r l) = x (ix1 f) :=
  shapeCast_apply x h _ _ (by
    rw [Shape.rowMajor_val_two, Shape.rowMajor_val_one]
    exact e)

theorem cast32 (x : (⟨3, ![d, a, b]⟩ : Shape).Idx → α) (h : (⟨3, ![d, a, b]⟩ : Shape).ShapeCasts ⟨2, ![d, n]⟩) (s : Fin d) (f : Fin n) (r : Fin a)
    (l : Fin b) (hn : n = a * b) (e : f.val = r.val * b + l.val) : shapeCast ⟨2, ![d, n]⟩ x h (ix2 s f) = x (ix3 s r l) :=
  shapeCast_apply x h _ _ (by
    rw [Shape.rowMajor_val_three, Shape.rowMajor_val_two]
    show (s.val * a + r.val) * b + l.val = s.val * n + f.val
    rw [e, hn]; ring)

theorem cast23 (x : (⟨2, ![d, n]⟩ : Shape).Idx → α) (h : (⟨2, ![d, n]⟩ : Shape).ShapeCasts ⟨3, ![d, a, b]⟩) (s : Fin d) (f : Fin n) (r : Fin a)
    (l : Fin b) (hn : n = a * b) (e : f.val = r.val * b + l.val) : shapeCast ⟨3, ![d, a, b]⟩ x h (ix3 s r l) = x (ix2 s f) :=
  shapeCast_apply x h _ _ (by
    rw [Shape.rowMajor_val_three, Shape.rowMajor_val_two]
    show s.val * n + f.val = (s.val * a + r.val) * b + l.val
    rw [e, hn]; ring)

theorem lt_of {a b : ℕ} (r : Fin a) (l : Fin b) : r.val * b + l.val < a * b := by
  have h : r.val * b + b ≤ a * b := by
    have := Nat.mul_le_mul_right b r.isLt
    rw [Nat.succ_mul] at this
    exact this
  have := l.isLt
  omega

variable {rows off T : ℕ}

/-- A gradient read back from the rows `off` to `off + rows` of the packed array, which it fills. -/
theorem unpack (x : (⟨2, ![T, 1024]⟩ : Shape).Idx → α) (h : (⟨2, ![T, 1024]⟩ : Shape).Slices ![off, 0] ⟨2, ![rows, 1024]⟩)
    (h1 : (⟨2, ![rows, 1024]⟩ : Shape).ShapeCasts ⟨1, ![n]⟩) (h2 : (⟨1, ![n]⟩ : Shape).ShapeCasts ⟨2, ![a, b]⟩) (r : Fin a) (l : Fin b)
    (P : Fin T) (p : Fin rows) (q : Fin 1024) (hn : n = a * b) (hP : P.val = off + p.val) (e : p.val * 1024 + q.val = r.val * b + l.val) :
    shapeCast ⟨2, ![a, b]⟩ (shapeCast ⟨1, ![n]⟩ (extractStridedSlice ⟨2, ![rows, 1024]⟩ ![off, 0] x h) h1) h2 (ix2 r l) = x (ix2 P q) := by
  subst hn
  rw [cast12 _ h2 ⟨r.val * b + l.val, lt_of r l⟩ r l rfl, cast21 _ h1 ⟨r.val * b + l.val, lt_of r l⟩ p q e.symm]
  refine extractStridedSlice_apply _ x h _ _ fun k => ?_
  match k with
  | ⟨0, _⟩ => exact hP
  | ⟨1, _⟩ => show q.val = 0 + q.val; omega

/-- The same of a gradient that leaves the end of its last row unused. -/
theorem unpack_short {N : ℕ} (x : (⟨2, ![T, 1024]⟩ : Shape).Idx → α) (h : (⟨2, ![T, 1024]⟩ : Shape).Slices ![off, 0] ⟨2, ![rows, 1024]⟩)
    (h1 : (⟨2, ![rows, 1024]⟩ : Shape).ShapeCasts ⟨1, ![N]⟩) (h3 : (⟨1, ![N]⟩ : Shape).Slices ![0] ⟨1, ![n]⟩)
    (h2 : (⟨1, ![n]⟩ : Shape).ShapeCasts ⟨2, ![a, b]⟩) (r : Fin a) (l : Fin b)
    (P : Fin T) (p : Fin rows) (q : Fin 1024) (hn : n = a * b) (hN : n ≤ N) (hP : P.val = off + p.val) (e : p.val * 1024 + q.val = r.val * b + l.val) :
    shapeCast ⟨2, ![a, b]⟩ (extractStridedSlice ⟨1, ![n]⟩ ![0] (shapeCast ⟨1, ![N]⟩ (extractStridedSlice ⟨2, ![rows, 1024]⟩ ![off, 0] x h) h1) h3) h2 (ix2 r l)
      = x (ix2 P q) := by
  subst hn
  have hf := lt_of r l
  rw [cast12 _ h2 ⟨r.val * b + l.val, hf⟩ r l rfl]
  refine (extractStridedSlice_apply _ _ h3 _ (ix1 (⟨r.val * b + l.val, by omega⟩ : Fin N)) fun k => ?_).trans ?_
  · match k with
    | ⟨0, _⟩ => show r.val * b + l.val = 0 + (r.val * b + l.val); omega
  rw [cast21 _ h1 ⟨r.val * b + l.val, by omega⟩ p q e.symm]
  refine extractStridedSlice_apply _ x h _ _ fun k => ?_
  match k with
  | ⟨0, _⟩ => exact hP
  | ⟨1, _⟩ => show q.val = 0 + q.val; omega

/-- A stack of gradients in rows of 1024 entries. -/
theorem pack (x : (⟨3, ![d, a, b]⟩ : Shape).Idx → α) (h1 : (⟨3, ![d, a, b]⟩ : Shape).ShapeCasts ⟨2, ![d, n]⟩)
    (h2 : (⟨2, ![d, n]⟩ : Shape).ShapeCasts ⟨3, ![d, rows, 1024]⟩) (s : Fin d) (r : Fin a) (l : Fin b) (p : Fin rows) (q : Fin 1024)
    (hn : n = a * b) (hr : n = rows * 1024) (e : p.val * 1024 + q.val = r.val * b + l.val) :
    shapeCast ⟨3, ![d, rows, 1024]⟩ (shapeCast ⟨2, ![d, n]⟩ x h1) h2 (ix3 s p q) = x (ix3 s r l) := by
  rw [cast23 _ h2 s ⟨p.val * 1024 + q.val, by rw [hr]; exact lt_of p q⟩ p q hr rfl, cast32 x h1 s _ r l hn e]

/-- The same of a stack that leaves the end of its last row unused. -/
theorem pack_short {N hi : ℕ} {u : Shape} (x : (⟨3, ![d, a, b]⟩ : Shape).Idx → α) (v : u.Idx → α) (hu : 0 < u.numel)
    (h1 : (⟨3, ![d, a, b]⟩ : Shape).ShapeCasts ⟨2, ![d, n]⟩) (h3 : (⟨2, ![d, n]⟩ : Shape).Pads ![0, 0] ![0, hi] ![0, 0] ⟨2, ![d, N]⟩)
    (h2 : (⟨2, ![d, N]⟩ : Shape).ShapeCasts ⟨3, ![d, rows, 1024]⟩) (s : Fin d) (r : Fin a) (l : Fin b) (p : Fin rows) (q : Fin 1024)
    (hn : n = a * b) (hr : N = rows * 1024) (e : p.val * 1024 + q.val = r.val * b + l.val) :
    shapeCast ⟨3, ![d, rows, 1024]⟩ (pad ⟨2, ![d, N]⟩ ![0, 0] ![0, hi] ![0, 0] (shapeCast ⟨2, ![d, n]⟩ x h1) v h3 hu) h2 (ix3 s p q) = x (ix3 s r l) := by
  rw [cast23 _ h2 s ⟨p.val * 1024 + q.val, by rw [hr]; exact lt_of p q⟩ p q hr rfl]
  refine (pad_apply_of_inside _ _ _ _ v h3 hu _ (ix2 s (⟨r.val * b + l.val, by rw [hn]; exact lt_of r l⟩ : Fin n)) fun k => ?_).trans ?_
  · match k with
    | ⟨0, _⟩ => show s.val = 0 + s.val * (0 + 1); omega
    | ⟨1, _⟩ => show p.val * 1024 + q.val = 0 + (r.val * b + l.val) * (0 + 1); omega
  exact cast32 x h1 s _ r l hn rfl

/-- Piece `k` of arrays laid one after the other, at a row of it. -/
theorem piece {R pre : ℕ} (xs : List ((s : Shape) × (s.Idx → α))) (h : Shape.Concatenates (xs.map (·.1)) ⟨3, ![d, R, 1024]⟩ 1) (k : ℕ)
    (hk : k < xs.length) (x : (⟨3, ![d, rows, 1024]⟩ : Shape).Idx → α) (hx : xs[k] = ⟨⟨3, ![d, rows, 1024]⟩, x⟩)
    (hp : (((xs.take k).map (·.1)).map fun s => if h : s.rank = 3 then s.size ((1 : Fin 3).cast h.symm) else 0).sum = pre)
    (s : Fin d) (p : Fin rows) (q : Fin 1024) (P : Fin R) (hP : P.val = pre + p.val) :
    concatenate ⟨3, ![d, R, 1024]⟩ 1 xs h (ix3 s P q) = x (ix3 s p q) :=
  concatenate_apply_piece (t := ⟨3, ![d, R, 1024]⟩) 1 xs h _ k hk ⟨3, ![d, rows, 1024]⟩ x hx rfl pre hp (ix3 s p q) (fun b hb => by
    match b with
    | ⟨0, _⟩ => rfl
    | ⟨1, _⟩ => exact absurd rfl hb
    | ⟨2, _⟩ => rfl) hP.symm

/-- A gradient read back from the sums over the senders of the packed gradients is the sum of that gradient over the senders. -/
theorem sum_back {R : ℕ} (Q : (⟨2, ![R, 1024]⟩ : Shape).Idx → EReal) (P : (⟨3, ![d, R, 1024]⟩ : Shape).Idx → EReal)
    (red : ∀ (p : Fin R) (l : Fin 1024), Q (ix2 p l) = ∑ s : Fin d, P (ix3 s p l)) (xs : List ((s : Shape) × (s.Idx → EReal)))
    (h : Shape.Concatenates (xs.map (·.1)) ⟨3, ![d, R, 1024]⟩ 1) (hP : P = concatenate ⟨3, ![d, R, 1024]⟩ 1 xs h) (k : ℕ) (hk : k < xs.length)
    (A : (⟨3, ![d, a, b]⟩ : Shape).Idx → EReal) (g1) (g2)
    (hx : xs[k] = ⟨⟨3, ![d, rows, 1024]⟩, shapeCast ⟨3, ![d, rows, 1024]⟩ (shapeCast ⟨2, ![d, n]⟩ A g1) g2⟩)
    (hp : (((xs.take k).map (·.1)).map fun s => if h : s.rank = 3 then s.size ((1 : Fin 3).cast h.symm) else 0).sum = off)
    (hs : (⟨2, ![R, 1024]⟩ : Shape).Slices ![off, 0] ⟨2, ![rows, 1024]⟩)
    (h1 : (⟨2, ![rows, 1024]⟩ : Shape).ShapeCasts ⟨1, ![n]⟩) (h2 : (⟨1, ![n]⟩ : Shape).ShapeCasts ⟨2, ![a, b]⟩)
    (hn : n = a * b) (hr : n = rows * 1024) (hR : off + rows ≤ R) (r : Fin a) (l : Fin b) :
    shapeCast ⟨2, ![a, b]⟩ (shapeCast ⟨1, ![n]⟩ (extractStridedSlice ⟨2, ![rows, 1024]⟩ ![off, 0] Q hs) h1) h2 (ix2 r l) = ∑ s : Fin d, A (ix3 s r l) := by
  have hf := lt_of r l
  have e : (r.val * b + l.val) / 1024 * 1024 + (r.val * b + l.val) % 1024 = r.val * b + l.val := by omega
  rw [unpack Q hs h1 h2 r l ⟨off + (r.val * b + l.val) / 1024, by omega⟩ ⟨(r.val * b + l.val) / 1024, by omega⟩ ⟨(r.val * b + l.val) % 1024, by omega⟩
    hn rfl e, red, hP]
  exact Finset.sum_congr rfl fun s _ => (piece xs h k hk _ hx hp s ⟨(r.val * b + l.val) / 1024, by omega⟩ _ _ rfl).trans (pack A g1 g2 s r l _ _ hn hr e)

/-- The same of a gradient that leaves the end of its last row unused. -/
theorem sum_back_short {R N hi : ℕ} {u : Shape} (Q : (⟨2, ![R, 1024]⟩ : Shape).Idx → EReal) (P : (⟨3, ![d, R, 1024]⟩ : Shape).Idx → EReal)
    (red : ∀ (p : Fin R) (l : Fin 1024), Q (ix2 p l) = ∑ s : Fin d, P (ix3 s p l)) (xs : List ((s : Shape) × (s.Idx → EReal)))
    (h : Shape.Concatenates (xs.map (·.1)) ⟨3, ![d, R, 1024]⟩ 1) (hP : P = concatenate ⟨3, ![d, R, 1024]⟩ 1 xs h) (k : ℕ) (hk : k < xs.length)
    (A : (⟨3, ![d, a, b]⟩ : Shape).Idx → EReal) (v : u.Idx → EReal) (hu) (g1) (g3) (g2)
    (hx : xs[k] = ⟨⟨3, ![d, rows, 1024]⟩, shapeCast ⟨3, ![d, rows, 1024]⟩ (pad ⟨2, ![d, N]⟩ ![0, 0] ![0, hi] ![0, 0] (shapeCast ⟨2, ![d, n]⟩ A g1) v g3 hu) g2⟩)
    (hp : (((xs.take k).map (·.1)).map fun s => if h : s.rank = 3 then s.size ((1 : Fin 3).cast h.symm) else 0).sum = off)
    (hs : (⟨2, ![R, 1024]⟩ : Shape).Slices ![off, 0] ⟨2, ![rows, 1024]⟩)
    (h1 : (⟨2, ![rows, 1024]⟩ : Shape).ShapeCasts ⟨1, ![N]⟩) (h3 : (⟨1, ![N]⟩ : Shape).Slices ![0] ⟨1, ![n]⟩)
    (h2 : (⟨1, ![n]⟩ : Shape).ShapeCasts ⟨2, ![a, b]⟩) (hn : n = a * b) (hN : n ≤ N) (hr : N = rows * 1024) (hR : off + rows ≤ R) (r : Fin a) (l : Fin b) :
    shapeCast ⟨2, ![a, b]⟩ (extractStridedSlice ⟨1, ![n]⟩ ![0] (shapeCast ⟨1, ![N]⟩ (extractStridedSlice ⟨2, ![rows, 1024]⟩ ![off, 0] Q hs) h1) h3) h2 (ix2 r l)
      = ∑ s : Fin d, A (ix3 s r l) := by
  have hf := lt_of r l
  have e : (r.val * b + l.val) / 1024 * 1024 + (r.val * b + l.val) % 1024 = r.val * b + l.val := by omega
  rw [unpack_short Q hs h1 h3 h2 r l ⟨off + (r.val * b + l.val) / 1024, by omega⟩ ⟨(r.val * b + l.val) / 1024, by omega⟩ ⟨(r.val * b + l.val) % 1024, by omega⟩
    hn hN rfl e, red, hP]
  exact Finset.sum_congr rfl fun s _ => (piece xs h k hk _ hx hp s ⟨(r.val * b + l.val) / 1024, by omega⟩ _ _ rfl).trans (pack_short A v hu g1 g3 g2 s r l _ _ hn hr e)

/-- A load of matrix `k` of a stack reads that matrix. -/
theorem ld_mat {Val : EltTy → Type} {e : EltTy} (x : (⟨3, ![d, a, b]⟩ : Shape).Idx → Val e) (k : ℕ) (inb) (s : Fin d) (r : Fin a) (l : Fin b)
    (h : s.val = k) : View.ld x (Rect.unit ![k, 0, 0] ![1, a, b] inb) (ix3 (n0 := 1) 0 r l) = x (ix3 s r l) := by
  refine View.ld_unit_apply_of _ _ _ _ _ _ fun j => ?_
  match j with
  | ⟨0, _⟩ => simpa using h
  | ⟨1, _⟩ => simp
  | ⟨2, _⟩ => simp

end Cert.Packs

end
-- ==== Proof.SumGateup.lean ====
/- The sums over the devices of the gradients of a gate projection and an up projection, packed into one array. -/
module

public import proofs.«01_k».proof.Defs
public import proofs.«01_k».proof.Proof.Packs
public import proofs.«01_k».proof.Proof.Layers
public import proofs.«01_k».proof.Proof.Gen.SumGateupKernelIdeal.Frame
public import proofs.«01_k».proof.Proof.Gen.SumGateupReferenceIdeal.Read
public import Idealize.ShloMosaic.Lib.Quiescent

@[expose] public section

set_option maxRecDepth 16384

noncomputable section

namespace Cert.SumGateup

open Cert.SumGateupKernelIdeal Cert.SumGateupKernelIdeal.Gen
open Idealize.ShloMosaic Idealize.ShloMosaic.TcCoe Idealize.SL.Sem
open Cert.SumGateupReferenceIdeal.Read Cert

variable (m : (ℓ : Loc nD τ sig) → Buf (Elt Ideal) ℓ)

/-- The argument arrays of a device. -/
abbrev A0 (c : Dev nD) : Vec Ideal S8x352x1024 .bf16 := m ((c : Thread nD τ).loc main_arg0)
abbrev A1 (c : Dev nD) : Vec Ideal S8x352x1024 .bf16 := m ((c : Thread nD τ).loc main_arg1)

/-- The packed gradients that the kernel is handed, and what it leaves. -/
abbrev P (c : Dev nD) : Vec Ideal S8x768x1024 .bf16 := V m c main_v5
abbrev Q (c : Dev nD) : Vec Ideal S768x1024 .f32 := (dats m 0 c).arrAt 1 cfg0.N

theorem idx : ∀ t : Fin cfg0.N, win0_0.index t = ![0, t.val, 0] ∧ win0_1.index t = ![t.val, 0] := by
  show ∀ t : Fin grid0.N, _
  decide +kernel

theorem one (t t' : Fin cfg0.N) (h : win0_1.index t = win0_1.index t') : t = t' := by
  rw [(idx t).2, (idx t').2] at h
  exact Fin.ext (congrFun h 0)

/-- The block of a point adds the eight matrices of its rows. -/
theorem pay (x0 x1 x2 x3 x4 x5 x6 x7 : Vec Ideal S1x128x1024 .bf16) (r : Fin 128) (l : Fin 1024) :
    k0_pay1 x0 x1 x2 x3 x4 x5 x6 x7 (ix2 r l) = x0 (ix3 0 r l) + x1 (ix3 0 r l) + x2 (ix3 0 r l) + x3 (ix3 0 r l) + x4 (ix3 0 r l)
      + x5 (ix3 0 r l) + x6 (ix3 0 r l) + x7 (ix3 0 r l) := by
  pointwise [k0_pay1]

/-- Every entry that the kernel leaves is the sum over the senders. -/
theorem red (c : Dev nD) (p : Fin 768) (l : Fin 1024) : Q m c (ix2 p l) = ∑ s : Fin 8, P m c (ix3 s p l) := by
  have hN : cfg0.N = 6 := N_0
  obtain ⟨t, r, e⟩ : ∃ (t : Fin cfg0.N) (r : Fin 128), p.val = t.val * 128 + r.val :=
    ⟨⟨p.val / 128, by omega⟩, ⟨p.val % 128, by omega⟩, by show p.val = p.val / 128 * 128 + p.val % 128; omega⟩
  obtain ⟨i0, i1⟩ := idx t
  have h := congrFun ((dats m 0 c).read_blk_arrAt_eq_flushed 1 (fun t t' _ _ hne => (cfg0.win 1).disjoint_blk fun h => hne (one t t' h))
    cfg0.N t t.isLt (flush0_1 t)) (ix2 (n0 := 128) (n1 := 1024) r l)
  rw [View.read_apply, show ((cfg0.win 1).blk t).view.emb (ix2 (n0 := 128) (n1 := 1024) r l) = ix2 (n0 := 768) (n1 := 1024) p l from
    Rows.idx_ext2 (a := 768) (b := 1024) (by show win0_1.index t 0 * 128 + 1 * r.val = p.val; rw [i1, e]; show t.val * 128 + 1 * r.val = _; omega)
      (by show win0_1.index t 1 * 1024 + 1 * l.val = l.val; rw [i1]; show 0 * 1024 + 1 * l.val = _; omega)] at h
  have hx : ∀ s : Fin 8, (iblk m c 0 t : Vec Ideal S8x128x1024 .bf16) (ix3 s r l) = P m c (ix3 s p l) := fun s => by
    rw [iblk, View.read_apply]
    refine congrArg (P m c) (funext fun k => Fin.ext ?_)
    match k with
    | ⟨0, _⟩ => show win0_0.index t 0 * 8 + 1 * s.val = s.val; rw [i0]; show 0 * 8 + 1 * s.val = _; omega
    | ⟨1, _⟩ => show win0_0.index t 1 * 128 + 1 * r.val = p.val; rw [i0, e]; show t.val * 128 + 1 * r.val = _; omega
    | ⟨2, _⟩ => show win0_0.index t 2 * 1024 + 1 * l.val = l.val; rw [i0]; show 0 * 1024 + 1 * l.val = _; omega
  refine Eq.trans h ?_
  show (dats m 0 c).after 1 t (ix2 (n0 := 128) (n1 := 1024) r l) = _
  rw [after0_1, Fin.sum_univ_eight]
  unfold out0_1
  rw [View.canon_unit_zero (S := S128x1024) (by decide)]
  refine (pay _ _ _ _ _ _ _ _ r l).trans ?_
  rw [Packs.ld_mat _ 0 _ 0 r l rfl, Packs.ld_mat _ 1 _ 1 r l rfl, Packs.ld_mat _ 2 _ 2 r l rfl, Packs.ld_mat _ 3 _ 3 r l rfl,
    Packs.ld_mat _ 4 _ 4 r l rfl, Packs.ld_mat _ 5 _ 5 r l rfl, Packs.ld_mat _ 6 _ 6 r l rfl, Packs.ld_mat _ 7 _ 7 r l rfl]
  simp only [hx]

/-- The host packs the gradients one after the other. -/
theorem P_eq (c : Dev nD) : P m c = concatenate S8x768x1024 1 [
    ⟨S8x352x1024, shapeCast S8x352x1024 (shapeCast S8x360448 (A0 m c) shapeCasts_S8x352x1024_S8x360448) shapeCasts_S8x360448_S8x352x1024⟩,
    ⟨S8x352x1024, shapeCast S8x352x1024 (shapeCast S8x360448 (A1 m c) shapeCasts_S8x352x1024_S8x360448) shapeCasts_S8x360448_S8x352x1024⟩,
    ⟨S8x64x1024, broadcastInDim S8x64x1024 ![] bcast_S_S8x64x1024 (constant S_ .bf16 0x0000#16 : FVec Ideal S_ .bf16)⟩]
    concatenates_S8x352x1024_S8x352x1024_S8x64x1024_S8x768x1024_d1 := by
  unfold_abbrev_sides
  simp only [hostOps0, List.flatten_cons, List.flatten_nil, List.append_nil, List.cons_append, List.nil_append]
  after_results_simp
  rfl

/-- Result 0 is the sum of argument 0 over the senders. -/
theorem res0 (c : Dev nD) : Pipeline.afterTail₀ cfgs (dats m) 0 (V0 m) [hostOps1] c main_v9 = val_main_v1 (F := Ideal) (A0 m c) := by
  unfold Pipeline.afterTail₀
  simp only [hostOps1, List.flatten_cons, List.flatten_nil, List.append_nil]
  after_results
  rw [Pipeline.withArrays_arr spec0 launch0.win.arr_inj c _ _ 1]
  refine Rows.ext2 (a := 352) (b := 1024) fun r l => ?_
  rw [val_main_v1_apply, show (val_main_cst (F := Ideal)) _ = 0 from Ideal.ofBits_zero_f32, zero_add]
  refine (Packs.sum_back (d := 8) (a := 352) (b := 1024) (rows := 352) (off := 0) (n := 360448) _ _ (red m c) _ _ (P_eq m c) 0 (by simp) (A0 m c) _ _ rfl rfl _ _ _
    (by norm_num) (by norm_num) (by norm_num) r l).trans (Finset.sum_congr rfl fun s _ => ?_)
  exact congrArg (A0 m c) (Layers.eq3 (a := 8) (b := 352) (d := 1024) (idx_main_v1 (ix2 r l) s)).symm

/-- Result 1 is the sum of argument 1 over the senders. -/
theorem res1 (c : Dev nD) : Pipeline.afterTail₀ cfgs (dats m) 0 (V0 m) [hostOps1] c main_v12 = val_main_v3 (F := Ideal) (A1 m c) := by
  unfold Pipeline.afterTail₀
  simp only [hostOps1, List.flatten_cons, List.flatten_nil, List.append_nil]
  after_results
  rw [Pipeline.withArrays_arr spec0 launch0.win.arr_inj c _ _ 1]
  refine Rows.ext2 (a := 352) (b := 1024) fun r l => ?_
  rw [val_main_v3_apply, show (val_main_cst_0 (F := Ideal)) _ = 0 from Ideal.ofBits_zero_f32, zero_add]
  refine (Packs.sum_back (d := 8) (a := 352) (b := 1024) (rows := 352) (off := 352) (n := 360448) _ _ (red m c) _ _ (P_eq m c) 1 (by simp) (A1 m c) _ _ rfl rfl _ _ _
    (by norm_num) (by norm_num) (by norm_num) r l).trans (Finset.sum_congr rfl fun s _ => ?_)
  exact congrArg (A1 m c) (Layers.eq3 (a := 8) (b := 352) (d := 1024) (idx_main_v3 (ix2 r l) s)).symm

end Cert.SumGateup

open Idealize.ShloMosaic Idealize.SL.Sem Cert.SumGateupKernelIdeal Cert.SumGateupKernelIdeal.Gen Cert.SumGateupReferenceIdeal.Read Cert.SumGateup in
/-- The kernel computes the reference's sums, over the extended reals. -/
theorem Cert.SumGateup.algebraic : Cert.algebraic_SumGateupKernelIdeal_SumGateupReferenceIdeal := by
  intro m g m' g' _ hag
  refine ⟨fun c => val_main_v1 (F := Ideal) (A0 m c), fun c => val_main_v3 (F := Ideal) (A1 m c),
    (θ_run _ _ _).mono (fun r h c => ?_) (run_main m g), (θ_run _ _ _).mono (fun r h c => ?_) (Cert.SumGateupReferenceIdeal.Value.run m' g')⟩
  · have f := fun b hu hn => (h c).2 b (Pipeline.mem_restRefs_of b hu hn)
    exact ⟨(f main_v9 (by decide) (by decide)).trans (res0 m c), (f main_v12 (by decide) (by decide)).trans (res1 m c), (f main_arg0 (by decide) (by decide)).trans (W_main_arg0 m (dats m) c), (f main_arg1 (by decide) (by decide)).trans (W_main_arg1 m (dats m) c)⟩
  obtain ⟨h0, h1, ha⟩ := h c
  obtain ⟨e0, e1⟩ := hag c
  refine ⟨?_, ?_, ha⟩
  · rw [h0, val_main_v1_eq, e0]
  · rw [h1, val_main_v3_eq, e1]

open Idealize.ShloMosaic Idealize.SL.Sem in
/-- The reference terminates, leaves its arguments as they were, and has no semaphore. -/
theorem Cert.SumGateup.frame_reference : Cert.quiescent_SumGateupReferenceIdeal := fun m ρ _ =>
  (θ_run Cert.SumGateupReferenceIdeal.defs _ _).mono (fun r h => ⟨fun c => (h c).2.2,
    sem_eq_zero_of_no_sems (by decide) r.2⟩) (Cert.SumGateupReferenceIdeal.Value.run m ρ)

end
-- ==== Proof.SumDown.lean ====
/- The sum over the devices of the gradient of a down projection. -/
module

public import proofs.«01_k».proof.Defs
public import proofs.«01_k».proof.Proof.Packs
public import proofs.«01_k».proof.Proof.Layers
public import proofs.«01_k».proof.Proof.Gen.SumDownKernelIdeal.Frame
public import proofs.«01_k».proof.Proof.Gen.SumDownReferenceIdeal.Read
public import Idealize.ShloMosaic.Lib.Quiescent

@[expose] public section

set_option maxRecDepth 16384

noncomputable section

namespace Cert.SumDown

open Cert.SumDownKernelIdeal Cert.SumDownKernelIdeal.Gen
open Idealize.ShloMosaic Idealize.ShloMosaic.TcCoe Idealize.SL.Sem
open Cert.SumDownReferenceIdeal.Read Cert

variable (m : (ℓ : Loc nD τ sig) → Buf (Elt Ideal) ℓ)

/-- The argument arrays of a device. -/
abbrev A0 (c : Dev nD) : Vec Ideal S8x352x1024 .bf16 := m ((c : Thread nD τ).loc main_arg0)

/-- The packed gradients that the kernel is handed, and what it leaves. -/
abbrev P (c : Dev nD) : Vec Ideal S8x384x1024 .bf16 := V m c main_v3
abbrev Q (c : Dev nD) : Vec Ideal S384x1024 .f32 := (dats m 0 c).arrAt 1 cfg0.N

theorem idx : ∀ t : Fin cfg0.N, win0_0.index t = ![0, t.val, 0] ∧ win0_1.index t = ![t.val, 0] := by
  show ∀ t : Fin grid0.N, _
  decide +kernel

theorem one (t t' : Fin cfg0.N) (h : win0_1.index t = win0_1.index t') : t = t' := by
  rw [(idx t).2, (idx t').2] at h
  exact Fin.ext (congrFun h 0)

/-- The block of a point adds the eight matrices of its rows. -/
theorem pay (x0 x1 x2 x3 x4 x5 x6 x7 : Vec Ideal S1x128x1024 .bf16) (r : Fin 128) (l : Fin 1024) :
    k0_pay1 x0 x1 x2 x3 x4 x5 x6 x7 (ix2 r l) = x0 (ix3 0 r l) + x1 (ix3 0 r l) + x2 (ix3 0 r l) + x3 (ix3 0 r l) + x4 (ix3 0 r l)
      + x5 (ix3 0 r l) + x6 (ix3 0 r l) + x7 (ix3 0 r l) := by
  pointwise [k0_pay1]

/-- Every entry that the kernel leaves is the sum over the senders. -/
theorem red (c : Dev nD) (p : Fin 384) (l : Fin 1024) : Q m c (ix2 p l) = ∑ s : Fin 8, P m c (ix3 s p l) := by
  have hN : cfg0.N = 3 := N_0
  obtain ⟨t, r, e⟩ : ∃ (t : Fin cfg0.N) (r : Fin 128), p.val = t.val * 128 + r.val :=
    ⟨⟨p.val / 128, by omega⟩, ⟨p.val % 128, by omega⟩, by show p.val = p.val / 128 * 128 + p.val % 128; omega⟩
  obtain ⟨i0, i1⟩ := idx t
  have h := congrFun ((dats m 0 c).read_blk_arrAt_eq_flushed 1 (fun t t' _ _ hne => (cfg0.win 1).disjoint_blk fun h => hne (one t t' h))
    cfg0.N t t.isLt (flush0_1 t)) (ix2 (n0 := 128) (n1 := 1024) r l)
  rw [View.read_apply, show ((cfg0.win 1).blk t).view.emb (ix2 (n0 := 128) (n1 := 1024) r l) = ix2 (n0 := 384) (n1 := 1024) p l from
    Rows.idx_ext2 (a := 384) (b := 1024) (by show win0_1.index t 0 * 128 + 1 * r.val = p.val; rw [i1, e]; show t.val * 128 + 1 * r.val = _; omega)
      (by show win0_1.index t 1 * 1024 + 1 * l.val = l.val; rw [i1]; show 0 * 1024 + 1 * l.val = _; omega)] at h
  have hx : ∀ s : Fin 8, (iblk m c 0 t : Vec Ideal S8x128x1024 .bf16) (ix3 s r l) = P m c (ix3 s p l) := fun s => by
    rw [iblk, View.read_apply]
    refine congrArg (P m c) (funext fun k => Fin.ext ?_)
    match k with
    | ⟨0, _⟩ => show win0_0.index t 0 * 8 + 1 * s.val = s.val; rw [i0]; show 0 * 8 + 1 * s.val = _; omega
    | ⟨1, _⟩ => show win0_0.index t 1 * 128 + 1 * r.val = p.val; rw [i0, e]; show t.val * 128 + 1 * r.val = _; omega
    | ⟨2, _⟩ => show win0_0.index t 2 * 1024 + 1 * l.val = l.val; rw [i0]; show 0 * 1024 + 1 * l.val = _; omega
  refine Eq.trans h ?_
  show (dats m 0 c).after 1 t (ix2 (n0 := 128) (n1 := 1024) r l) = _
  rw [after0_1, Fin.sum_univ_eight]
  unfold out0_1
  rw [View.canon_unit_zero (S := S128x1024) (by decide)]
  refine (pay _ _ _ _ _ _ _ _ r l).trans ?_
  rw [Packs.ld_mat _ 0 _ 0 r l rfl, Packs.ld_mat _ 1 _ 1 r l rfl, Packs.ld_mat _ 2 _ 2 r l rfl, Packs.ld_mat _ 3 _ 3 r l rfl,
    Packs.ld_mat _ 4 _ 4 r l rfl, Packs.ld_mat _ 5 _ 5 r l rfl, Packs.ld_mat _ 6 _ 6 r l rfl, Packs.ld_mat _ 7 _ 7 r l rfl]
  simp only [hx]

/-- The host packs the gradients one after the other. -/
theorem P_eq (c : Dev nD) : P m c = concatenate S8x384x1024 1 [
    ⟨S8x352x1024, shapeCast S8x352x1024 (shapeCast S8x360448 (A0 m c) shapeCasts_S8x352x1024_S8x360448) shapeCasts_S8x360448_S8x352x1024⟩,
    ⟨S8x32x1024, broadcastInDim S8x32x1024 ![] bcast_S_S8x32x1024 (constant S_ .bf16 0x0000#16 : FVec Ideal S_ .bf16)⟩]
    concatenates_S8x352x1024_S8x32x1024_S8x384x1024_d1 := by
  unfold_abbrev_sides
  simp only [hostOps0, List.flatten_cons, List.flatten_nil, List.append_nil, List.cons_append, List.nil_append]
  after_results
  rfl

/-- Result 0 is the sum of argument 0 over the senders. -/
theorem res0 (c : Dev nD) : Pipeline.afterTail₀ cfgs (dats m) 0 (V0 m) [hostOps1] c main_v7 = val_main_v1 (F := Ideal) (A0 m c) := by
  unfold Pipeline.afterTail₀
  simp only [hostOps1, List.flatten_cons, List.flatten_nil, List.append_nil]
  after_results
  rw [Pipeline.withArrays_arr spec0 launch0.win.arr_inj c _ _ 1]
  refine Rows.ext2 (a := 352) (b := 1024) fun r l => ?_
  rw [val_main_v1_apply, show (val_main_cst (F := Ideal)) _ = 0 from Ideal.ofBits_zero_f32, zero_add]
  refine (Packs.sum_back (d := 8) (a := 352) (b := 1024) (rows := 352) (off := 0) (n := 360448) _ _ (red m c) _ _ (P_eq m c) 0 (by simp) (A0 m c) _ _ rfl rfl _ _ _
    (by norm_num) (by norm_num) (by norm_num) r l).trans (Finset.sum_congr rfl fun s _ => ?_)
  exact congrArg (A0 m c) (Layers.eq3 (a := 8) (b := 352) (d := 1024) (idx_main_v1 (ix2 r l) s)).symm

end Cert.SumDown

open Idealize.ShloMosaic Idealize.SL.Sem Cert.SumDownKernelIdeal Cert.SumDownKernelIdeal.Gen Cert.SumDownReferenceIdeal.Read Cert.SumDown in
/-- The kernel computes the reference's sums, over the extended reals. -/
theorem Cert.SumDown.algebraic : Cert.algebraic_SumDownKernelIdeal_SumDownReferenceIdeal := by
  intro m g m' g' _ hag
  refine ⟨fun c => val_main_v1 (F := Ideal) (A0 m c),
    (θ_run _ _ _).mono (fun r h c => ?_) (run_main m g), (θ_run _ _ _).mono (fun r h c => ?_) (Cert.SumDownReferenceIdeal.Value.run m' g')⟩
  · have f := fun b hu hn => (h c).2 b (Pipeline.mem_restRefs_of b hu hn)
    exact ⟨(f main_v7 (by decide) (by decide)).trans (res0 m c), (f main_arg0 (by decide) (by decide)).trans (W_main_arg0 m (dats m) c)⟩
  obtain ⟨h0, ha⟩ := h c
  have e0 := hag c
  refine ⟨?_, ha⟩
  · rw [h0, val_main_v1_eq, e0]

open Idealize.ShloMosaic Idealize.SL.Sem in
/-- The reference terminates, leaves its arguments as they were, and has no semaphore. -/
theorem Cert.SumDown.frame_reference : Cert.quiescent_SumDownReferenceIdeal := fun m ρ _ =>
  (θ_run Cert.SumDownReferenceIdeal.defs _ _).mono (fun r h => ⟨fun c => (h c).2,
    sem_eq_zero_of_no_sems (by decide) r.2⟩) (Cert.SumDownReferenceIdeal.Value.run m ρ)

end
-- ==== Proof.SumMix.lean ====
/- The sums over the devices of the gradients of a layer's remaining large weights, packed into one array. -/
module

public import proofs.«01_k».proof.Defs
public import proofs.«01_k».proof.Proof.Packs
public import proofs.«01_k».proof.Proof.Layers
public import proofs.«01_k».proof.Proof.Gen.SumMixKernelIdeal.Frame
public import proofs.«01_k».proof.Proof.Gen.SumMixReferenceIdeal.Read
public import Idealize.ShloMosaic.Lib.Quiescent

@[expose] public section

set_option maxRecDepth 16384

noncomputable section

namespace Cert.SumMix

open Cert.SumMixKernelIdeal Cert.SumMixKernelIdeal.Gen
open Idealize.ShloMosaic Idealize.ShloMosaic.TcCoe Idealize.SL.Sem
open Cert.SumMixReferenceIdeal.Read Cert

variable (m : (ℓ : Loc nD τ sig) → Buf (Elt Ideal) ℓ)

/-- The argument arrays of a device. -/
abbrev A0 (c : Dev nD) : Vec Ideal S8x452x1024 .bf16 := m ((c : Thread nD τ).loc main_arg0)
abbrev A1 (c : Dev nD) : Vec Ideal S8x128x512 .bf16 := m ((c : Thread nD τ).loc main_arg1)
abbrev A2 (c : Dev nD) : Vec Ideal S8x96x256 .bf16 := m ((c : Thread nD τ).loc main_arg2)
abbrev A3 (c : Dev nD) : Vec Ideal S8x128x256 .bf16 := m ((c : Thread nD τ).loc main_arg3)
abbrev A4 (c : Dev nD) : Vec Ideal S8x128x512 .bf16 := m ((c : Thread nD τ).loc main_arg4)
abbrev A5 (c : Dev nD) : Vec Ideal S8x128x1024 .bf16 := m ((c : Thread nD τ).loc main_arg5)
abbrev A6 (c : Dev nD) : Vec Ideal S8x352x1024 .bf16 := m ((c : Thread nD τ).loc main_arg6)
abbrev A7 (c : Dev nD) : Vec Ideal S8x352x1024 .bf16 := m ((c : Thread nD τ).loc main_arg7)
abbrev A8 (c : Dev nD) : Vec Ideal S8x352x1024 .bf16 := m ((c : Thread nD τ).loc main_arg8)

/-- The packed gradients that the kernel is handed, and what it leaves. -/
abbrev P (c : Dev nD) : Vec Ideal S8x1920x1024 .bf16 := V m c main_v21
abbrev Q (c : Dev nD) : Vec Ideal S1920x1024 .f32 := (dats m 0 c).arrAt 1 cfg0.N

theorem idx : ∀ t : Fin cfg0.N, win0_0.index t = ![0, t.val, 0] ∧ win0_1.index t = ![t.val, 0] := by
  show ∀ t : Fin grid0.N, _
  decide +kernel

theorem one (t t' : Fin cfg0.N) (h : win0_1.index t = win0_1.index t') : t = t' := by
  rw [(idx t).2, (idx t').2] at h
  exact Fin.ext (congrFun h 0)

/-- The block of a point adds the eight matrices of its rows. -/
theorem pay (x0 x1 x2 x3 x4 x5 x6 x7 : Vec Ideal S1x128x1024 .bf16) (r : Fin 128) (l : Fin 1024) :
    k0_pay1 x0 x1 x2 x3 x4 x5 x6 x7 (ix2 r l) = x0 (ix3 0 r l) + x1 (ix3 0 r l) + x2 (ix3 0 r l) + x3 (ix3 0 r l) + x4 (ix3 0 r l)
      + x5 (ix3 0 r l) + x6 (ix3 0 r l) + x7 (ix3 0 r l) := by
  pointwise [k0_pay1]

/-- Every entry that the kernel leaves is the sum over the senders. -/
theorem red (c : Dev nD) (p : Fin 1920) (l : Fin 1024) : Q m c (ix2 p l) = ∑ s : Fin 8, P m c (ix3 s p l) := by
  have hN : cfg0.N = 15 := N_0
  obtain ⟨t, r, e⟩ : ∃ (t : Fin cfg0.N) (r : Fin 128), p.val = t.val * 128 + r.val :=
    ⟨⟨p.val / 128, by omega⟩, ⟨p.val % 128, by omega⟩, by show p.val = p.val / 128 * 128 + p.val % 128; omega⟩
  obtain ⟨i0, i1⟩ := idx t
  have h := congrFun ((dats m 0 c).read_blk_arrAt_eq_flushed 1 (fun t t' _ _ hne => (cfg0.win 1).disjoint_blk fun h => hne (one t t' h))
    cfg0.N t t.isLt (flush0_1 t)) (ix2 (n0 := 128) (n1 := 1024) r l)
  rw [View.read_apply, show ((cfg0.win 1).blk t).view.emb (ix2 (n0 := 128) (n1 := 1024) r l) = ix2 (n0 := 1920) (n1 := 1024) p l from
    Rows.idx_ext2 (a := 1920) (b := 1024) (by show win0_1.index t 0 * 128 + 1 * r.val = p.val; rw [i1, e]; show t.val * 128 + 1 * r.val = _; omega)
      (by show win0_1.index t 1 * 1024 + 1 * l.val = l.val; rw [i1]; show 0 * 1024 + 1 * l.val = _; omega)] at h
  have hx : ∀ s : Fin 8, (iblk m c 0 t : Vec Ideal S8x128x1024 .bf16) (ix3 s r l) = P m c (ix3 s p l) := fun s => by
    rw [iblk, View.read_apply]
    refine congrArg (P m c) (funext fun k => Fin.ext ?_)
    match k with
    | ⟨0, _⟩ => show win0_0.index t 0 * 8 + 1 * s.val = s.val; rw [i0]; show 0 * 8 + 1 * s.val = _; omega
    | ⟨1, _⟩ => show win0_0.index t 1 * 128 + 1 * r.val = p.val; rw [i0, e]; show t.val * 128 + 1 * r.val = _; omega
    | ⟨2, _⟩ => show win0_0.index t 2 * 1024 + 1 * l.val = l.val; rw [i0]; show 0 * 1024 + 1 * l.val = _; omega
  refine Eq.trans h ?_
  show (dats m 0 c).after 1 t (ix2 (n0 := 128) (n1 := 1024) r l) = _
  rw [after0_1, Fin.sum_univ_eight]
  unfold out0_1
  rw [View.canon_unit_zero (S := S128x1024) (by decide)]
  refine (pay _ _ _ _ _ _ _ _ r l).trans ?_
  rw [Packs.ld_mat _ 0 _ 0 r l rfl, Packs.ld_mat _ 1 _ 1 r l rfl, Packs.ld_mat _ 2 _ 2 r l rfl, Packs.ld_mat _ 3 _ 3 r l rfl,
    Packs.ld_mat _ 4 _ 4 r l rfl, Packs.ld_mat _ 5 _ 5 r l rfl, Packs.ld_mat _ 6 _ 6 r l rfl, Packs.ld_mat _ 7 _ 7 r l rfl]
  simp only [hx]

/-- The host packs the gradients one after the other. -/
theorem P_eq (c : Dev nD) : P m c = concatenate S8x1920x1024 1 [
    ⟨S8x464x1024, shapeCast S8x464x1024 (pad S8x475136 ![0, 0] ![0, 12288] ![0, 0] (shapeCast S8x462848 (A0 m c) shapeCasts_S8x452x1024_S8x462848) (sitofp .bf16 (constantI S_ 32 0#32) : FVec Ideal S_ .bf16) pads_S8x462848_S8x475136_000_0122880 h_S_) shapeCasts_S8x475136_S8x464x1024⟩,
    ⟨S8x64x1024, shapeCast S8x64x1024 (shapeCast S8x65536 (A1 m c) shapeCasts_S8x128x512_S8x65536) shapeCasts_S8x65536_S8x64x1024⟩,
    ⟨S8x32x1024, shapeCast S8x32x1024 (pad S8x32768 ![0, 0] ![0, 8192] ![0, 0] (shapeCast S8x24576 (A2 m c) shapeCasts_S8x96x256_S8x24576) (sitofp .bf16 (constantI S_ 32 0#32) : FVec Ideal S_ .bf16) pads_S8x24576_S8x32768_000_081920 h_S_) shapeCasts_S8x32768_S8x32x1024⟩,
    ⟨S8x32x1024, shapeCast S8x32x1024 (shapeCast S8x32768 (A3 m c) shapeCasts_S8x128x256_S8x32768) shapeCasts_S8x32768_S8x32x1024⟩,
    ⟨S8x64x1024, shapeCast S8x64x1024 (shapeCast S8x65536 (A4 m c) shapeCasts_S8x128x512_S8x65536) shapeCasts_S8x65536_S8x64x1024⟩,
    ⟨S8x128x1024, shapeCast S8x128x1024 (shapeCast S8x131072 (A5 m c) shapeCasts_S8x128x1024_S8x131072) shapeCasts_S8x131072_S8x128x1024⟩,
    ⟨S8x352x1024, shapeCast S8x352x1024 (shapeCast S8x360448 (A6 m c) shapeCasts_S8x352x1024_S8x360448) shapeCasts_S8x360448_S8x352x1024⟩,
    ⟨S8x352x1024, shapeCast S8x352x1024 (shapeCast S8x360448 (A7 m c) shapeCasts_S8x352x1024_S8x360448) shapeCasts_S8x360448_S8x352x1024⟩,
    ⟨S8x352x1024, shapeCast S8x352x1024 (shapeCast S8x360448 (A8 m c) shapeCasts_S8x352x1024_S8x360448) shapeCasts_S8x360448_S8x352x1024⟩,
    ⟨S8x80x1024, broadcastInDim S8x80x1024 ![] bcast_S_S8x80x1024 (constant S_ .bf16 0x0000#16 : FVec Ideal S_ .bf16)⟩]
    concatenates_S8x464x1024_S8x64x1024_S8x32x1024_S8x32x1024_S8x64x1024_S8x128x1024_S8x352x1024_S8x352x1024_S8x352x1024_S8x80x1024_S8x1920x1024_d1 := by
  unfold_abbrev_sides
  simp only [hostOps0, hostOps0_1, hostOps0_2, hostOps0_3, hostOps0_4, List.flatten_cons, List.flatten_nil, List.append_nil, List.cons_append, List.nil_append]
  after_results_simp
  rfl

/-- Result 0 is the sum of argument 0 over the senders. -/
theorem res0 (c : Dev nD) : Pipeline.afterTail₀ cfgs (dats m) 0 (V0 m) [hostOps1] c main_v26 = val_main_v1 (F := Ideal) (A0 m c) := by
  unfold Pipeline.afterTail₀
  simp only [hostOps1, List.flatten_cons, List.flatten_nil, List.append_nil]
  after_results
  rw [Pipeline.withArrays_arr spec0 launch0.win.arr_inj c _ _ 1]
  refine Rows.ext2 (a := 452) (b := 1024) fun r l => ?_
  rw [val_main_v1_apply, show (val_main_cst (F := Ideal)) _ = 0 from Ideal.ofBits_zero_f32, zero_add]
  refine (Packs.sum_back_short (d := 8) (a := 452) (b := 1024) (rows := 464) (off := 0) (n := 462848) (N := 475136) (hi := 12288) _ _ (red m c) _ _ (P_eq m c) 0 (by simp) (A0 m c) _ _ _ _ _ rfl rfl _ _ _ _
    (by norm_num) (by norm_num) (by norm_num) (by norm_num) r l).trans (Finset.sum_congr rfl fun s _ => ?_)
  exact congrArg (A0 m c) (Layers.eq3 (a := 8) (b := 452) (d := 1024) (idx_main_v1 (ix2 r l) s)).symm

/-- Result 1 is the sum of argument 1 over the senders. -/
theorem res1 (c : Dev nD) : Pipeline.afterTail₀ cfgs (dats m) 0 (V0 m) [hostOps1] c main_v29 = val_main_v3 (F := Ideal) (A1 m c) := by
  unfold Pipeline.afterTail₀
  simp only [hostOps1, List.flatten_cons, List.flatten_nil, List.append_nil]
  after_results
  rw [Pipeline.withArrays_arr spec0 launch0.win.arr_inj c _ _ 1]
  refine Rows.ext2 (a := 128) (b := 512) fun r l => ?_
  rw [val_main_v3_apply, show (val_main_cst_0 (F := Ideal)) _ = 0 from Ideal.ofBits_zero_f32, zero_add]
  refine (Packs.sum_back (d := 8) (a := 128) (b := 512) (rows := 64) (off := 464) (n := 65536) _ _ (red m c) _ _ (P_eq m c) 1 (by simp) (A1 m c) _ _ rfl rfl _ _ _
    (by norm_num) (by norm_num) (by norm_num) r l).trans (Finset.sum_congr rfl fun s _ => ?_)
  exact congrArg (A1 m c) (Layers.eq3 (a := 8) (b := 128) (d := 512) (idx_main_v3 (ix2 r l) s)).symm

/-- Result 2 is the sum of argument 2 over the senders. -/
theorem res2 (c : Dev nD) : Pipeline.afterTail₀ cfgs (dats m) 0 (V0 m) [hostOps1] c main_v33 = val_main_v5 (F := Ideal) (A2 m c) := by
  unfold Pipeline.afterTail₀
  simp only [hostOps1, List.flatten_cons, List.flatten_nil, List.append_nil]
  after_results
  rw [Pipeline.withArrays_arr spec0 launch0.win.arr_inj c _ _ 1]
  refine Rows.ext2 (a := 96) (b := 256) fun r l => ?_
  rw [val_main_v5_apply, show (val_main_cst_1 (F := Ideal)) _ = 0 from Ideal.ofBits_zero_f32, zero_add]
  refine (Packs.sum_back_short (d := 8) (a := 96) (b := 256) (rows := 32) (off := 528) (n := 24576) (N := 32768) (hi := 8192) _ _ (red m c) _ _ (P_eq m c) 2 (by simp) (A2 m c) _ _ _ _ _ rfl rfl _ _ _ _
    (by norm_num) (by norm_num) (by norm_num) (by norm_num) r l).trans (Finset.sum_congr rfl fun s _ => ?_)
  exact congrArg (A2 m c) (Layers.eq3 (a := 8) (b := 96) (d := 256) (idx_main_v5 (ix2 r l) s)).symm

/-- Result 3 is the sum of argument 3 over the senders. -/
theorem res3 (c : Dev nD) : Pipeline.afterTail₀ cfgs (dats m) 0 (V0 m) [hostOps1] c main_v36 = val_main_v7 (F := Ideal) (A3 m c) := by
  unfold Pipeline.afterTail₀
  simp only [hostOps1, List.flatten_cons, List.flatten_nil, List.append_nil]
  after_results
  rw [Pipeline.withArrays_arr spec0 launch0.win.arr_inj c _ _ 1]
  refine Rows.ext2 (a := 128) (b := 256) fun r l => ?_
  rw [val_main_v7_apply, show (val_main_cst_2 (F := Ideal)) _ = 0 from Ideal.ofBits_zero_f32, zero_add]
  refine (Packs.sum_back (d := 8) (a := 128) (b := 256) (rows := 32) (off := 560) (n := 32768) _ _ (red m c) _ _ (P_eq m c) 3 (by simp) (A3 m c) _ _ rfl rfl _ _ _
    (by norm_num) (by norm_num) (by norm_num) r l).trans (Finset.sum_congr rfl fun s _ => ?_)
  exact congrArg (A3 m c) (Layers.eq3 (a := 8) (b := 128) (d := 256) (idx_main_v7 (ix2 r l) s)).symm

/-- Result 4 is the sum of argument 4 over the senders. -/
theorem res4 (c : Dev nD) : Pipeline.afterTail₀ cfgs (dats m) 0 (V0 m) [hostOps1] c main_v39 = val_main_v9 (F := Ideal) (A4 m c) := by
  unfold Pipeline.afterTail₀
  simp only [hostOps1, List.flatten_cons, List.flatten_nil, List.append_nil]
  after_results
  rw [Pipeline.withArrays_arr spec0 launch0.win.arr_inj c _ _ 1]
  refine Rows.ext2 (a := 128) (b := 512) fun r l => ?_
  rw [val_main_v9_apply, show (val_main_cst_3 (F := Ideal)) _ = 0 from Ideal.ofBits_zero_f32, zero_add]
  refine (Packs.sum_back (d := 8) (a := 128) (b := 512) (rows := 64) (off := 592) (n := 65536) _ _ (red m c) _ _ (P_eq m c) 4 (by simp) (A4 m c) _ _ rfl rfl _ _ _
    (by norm_num) (by norm_num) (by norm_num) r l).trans (Finset.sum_congr rfl fun s _ => ?_)
  exact congrArg (A4 m c) (Layers.eq3 (a := 8) (b := 128) (d := 512) (idx_main_v9 (ix2 r l) s)).symm

/-- Result 5 is the sum of argument 5 over the senders. -/
theorem res5 (c : Dev nD) : Pipeline.afterTail₀ cfgs (dats m) 0 (V0 m) [hostOps1] c main_v42 = val_main_v11 (F := Ideal) (A5 m c) := by
  unfold Pipeline.afterTail₀
  simp only [hostOps1, List.flatten_cons, List.flatten_nil, List.append_nil]
  after_results
  rw [Pipeline.withArrays_arr spec0 launch0.win.arr_inj c _ _ 1]
  refine Rows.ext2 (a := 128) (b := 1024) fun r l => ?_
  rw [val_main_v11_apply, show (val_main_cst_4 (F := Ideal)) _ = 0 from Ideal.ofBits_zero_f32, zero_add]
  refine (Packs.sum_back (d := 8) (a := 128) (b := 1024) (rows := 128) (off := 656) (n := 131072) _ _ (red m c) _ _ (P_eq m c) 5 (by simp) (A5 m c) _ _ rfl rfl _ _ _
    (by norm_num) (by norm_num) (by norm_num) r l).trans (Finset.sum_congr rfl fun s _ => ?_)
  exact congrArg (A5 m c) (Layers.eq3 (a := 8) (b := 128) (d := 1024) (idx_main_v11 (ix2 r l) s)).symm

/-- Result 6 is the sum of argument 6 over the senders. -/
theorem res6 (c : Dev nD) : Pipeline.afterTail₀ cfgs (dats m) 0 (V0 m) [hostOps1] c main_v45 = val_main_v13 (F := Ideal) (A6 m c) := by
  unfold Pipeline.afterTail₀
  simp only [hostOps1, List.flatten_cons, List.flatten_nil, List.append_nil]
  after_results
  rw [Pipeline.withArrays_arr spec0 launch0.win.arr_inj c _ _ 1]
  refine Rows.ext2 (a := 352) (b := 1024) fun r l => ?_
  rw [val_main_v13_apply, show (val_main_cst_5 (F := Ideal)) _ = 0 from Ideal.ofBits_zero_f32, zero_add]
  refine (Packs.sum_back (d := 8) (a := 352) (b := 1024) (rows := 352) (off := 784) (n := 360448) _ _ (red m c) _ _ (P_eq m c) 6 (by simp) (A6 m c) _ _ rfl rfl _ _ _
    (by norm_num) (by norm_num) (by norm_num) r l).trans (Finset.sum_congr rfl fun s _ => ?_)
  exact congrArg (A6 m c) (Layers.eq3 (a := 8) (b := 352) (d := 1024) (idx_main_v13 (ix2 r l) s)).symm

/-- Result 7 is the sum of argument 7 over the senders. -/
theorem res7 (c : Dev nD) : Pipeline.afterTail₀ cfgs (dats m) 0 (V0 m) [hostOps1] c main_v48 = val_main_v15 (F := Ideal) (A7 m c) := by
  unfold Pipeline.afterTail₀
  simp only [hostOps1, List.flatten_cons, List.flatten_nil, List.append_nil]
  after_results
  rw [Pipeline.withArrays_arr spec0 launch0.win.arr_inj c _ _ 1]
  refine Rows.ext2 (a := 352) (b := 1024) fun r l => ?_
  rw [val_main_v15_apply, show (val_main_cst_6 (F := Ideal)) _ = 0 from Ideal.ofBits_zero_f32, zero_add]
  refine (Packs.sum_back (d := 8) (a := 352) (b := 1024) (rows := 352) (off := 1136) (n := 360448) _ _ (red m c) _ _ (P_eq m c) 7 (by simp) (A7 m c) _ _ rfl rfl _ _ _
    (by norm_num) (by norm_num) (by norm_num) r l).trans (Finset.sum_congr rfl fun s _ => ?_)
  exact congrArg (A7 m c) (Layers.eq3 (a := 8) (b := 352) (d := 1024) (idx_main_v15 (ix2 r l) s)).symm

/-- Result 8 is the sum of argument 8 over the senders. -/
theorem res8 (c : Dev nD) : Pipeline.afterTail₀ cfgs (dats m) 0 (V0 m) [hostOps1] c main_v51 = val_main_v17 (F := Ideal) (A8 m c) := by
  unfold Pipeline.afterTail₀
  simp only [hostOps1, List.flatten_cons, List.flatten_nil, List.append_nil]
  after_results
  rw [Pipeline.withArrays_arr spec0 launch0.win.arr_inj c _ _ 1]
  refine Rows.ext2 (a := 352) (b := 1024) fun r l => ?_
  rw [val_main_v17_apply, show (val_main_cst_7 (F := Ideal)) _ = 0 from Ideal.ofBits_zero_f32, zero_add]
  refine (Packs.sum_back (d := 8) (a := 352) (b := 1024) (rows := 352) (off := 1488) (n := 360448) _ _ (red m c) _ _ (P_eq m c) 8 (by simp) (A8 m c) _ _ rfl rfl _ _ _
    (by norm_num) (by norm_num) (by norm_num) r l).trans (Finset.sum_congr rfl fun s _ => ?_)
  exact congrArg (A8 m c) (Layers.eq3 (a := 8) (b := 352) (d := 1024) (idx_main_v17 (ix2 r l) s)).symm

end Cert.SumMix

open Idealize.ShloMosaic Idealize.SL.Sem Cert.SumMixKernelIdeal Cert.SumMixKernelIdeal.Gen Cert.SumMixReferenceIdeal.Read Cert.SumMix in
/-- The kernel computes the reference's sums, over the extended reals. -/
theorem Cert.SumMix.algebraic : Cert.algebraic_SumMixKernelIdeal_SumMixReferenceIdeal := by
  intro m g m' g' _ hag
  refine ⟨fun c => val_main_v1 (F := Ideal) (A0 m c), fun c => val_main_v3 (F := Ideal) (A1 m c), fun c => val_main_v5 (F := Ideal) (A2 m c), fun c => val_main_v7 (F := Ideal) (A3 m c), fun c => val_main_v9 (F := Ideal) (A4 m c), fun c => val_main_v11 (F := Ideal) (A5 m c), fun c => val_main_v13 (F := Ideal) (A6 m c), fun c => val_main_v15 (F := Ideal) (A7 m c), fun c => val_main_v17 (F := Ideal) (A8 m c),
    (θ_run _ _ _).mono (fun r h c => ?_) (run_main m g), (θ_run _ _ _).mono (fun r h c => ?_) (Cert.SumMixReferenceIdeal.Value.run m' g')⟩
  · have f := fun b hu hn => (h c).2 b (Pipeline.mem_restRefs_of b hu hn)
    exact ⟨(f main_v26 (by decide) (by decide)).trans (res0 m c), (f main_v29 (by decide) (by decide)).trans (res1 m c), (f main_v33 (by decide) (by decide)).trans (res2 m c), (f main_v36 (by decide) (by decide)).trans (res3 m c), (f main_v39 (by decide) (by decide)).trans (res4 m c), (f main_v42 (by decide) (by decide)).trans (res5 m c), (f main_v45 (by decide) (by decide)).trans (res6 m c), (f main_v48 (by decide) (by decide)).trans (res7 m c), (f main_v51 (by decide) (by decide)).trans (res8 m c), (f main_arg0 (by decide) (by decide)).trans (W_main_arg0 m (dats m) c), (f main_arg1 (by decide) (by decide)).trans (W_main_arg1 m (dats m) c), (f main_arg2 (by decide) (by decide)).trans (W_main_arg2 m (dats m) c), (f main_arg3 (by decide) (by decide)).trans (W_main_arg3 m (dats m) c), (f main_arg4 (by decide) (by decide)).trans (W_main_arg4 m (dats m) c), (f main_arg5 (by decide) (by decide)).trans (W_main_arg5 m (dats m) c), (f main_arg6 (by decide) (by decide)).trans (W_main_arg6 m (dats m) c), (f main_arg7 (by decide) (by decide)).trans (W_main_arg7 m (dats m) c), (f main_arg8 (by decide) (by decide)).trans (W_main_arg8 m (dats m) c)⟩
  obtain ⟨h0, h1, h2, h3, h4, h5, h6, h7, h8, ha⟩ := h c
  obtain ⟨e0, e1, e2, e3, e4, e5, e6, e7, e8⟩ := hag c
  refine ⟨?_, ?_, ?_, ?_, ?_, ?_, ?_, ?_, ?_, ha⟩
  · rw [h0, val_main_v1_eq, e0]
  · rw [h1, val_main_v3_eq, e1]
  · rw [h2, val_main_v5_eq, e2]
  · rw [h3, val_main_v7_eq, e3]
  · rw [h4, val_main_v9_eq, e4]
  · rw [h5, val_main_v11_eq, e5]
  · rw [h6, val_main_v13_eq, e6]
  · rw [h7, val_main_v15_eq, e7]
  · rw [h8, val_main_v17_eq, e8]

open Idealize.ShloMosaic Idealize.SL.Sem in
/-- The reference terminates, leaves its arguments as they were, and has no semaphore. -/
theorem Cert.SumMix.frame_reference : Cert.quiescent_SumMixReferenceIdeal := fun m ρ _ =>
  (θ_run Cert.SumMixReferenceIdeal.defs _ _).mono (fun r h => ⟨fun c => (h c).2.2.2.2.2.2.2.2.2,
    sem_eq_zero_of_no_sems (by decide) r.2⟩) (Cert.SumMixReferenceIdeal.Value.run m ρ)

end
-- ==== Proof.Flat.lean ====
/- Small gradients laid one after the other in rows: where an entry lies, and how both layers' entries are read back. -/
module

public import proofs.«01_k».proof.Proof.Packs

@[expose] public section

namespace Cert.Flat

open Idealize.ShloMosaic

variable {α : Type} {a b d n N T o hi : ℕ} {u : Shape}

/-- Piece `k` of rows laid one after the other. -/
theorem piece {pre : ℕ} (xs : List ((s : Shape) × (s.Idx → α))) (h : Shape.Concatenates (xs.map (·.1)) ⟨2, ![d, T]⟩ 1) (k : ℕ)
    (hk : k < xs.length) (x : (⟨2, ![d, n]⟩ : Shape).Idx → α) (hx : xs[k] = ⟨⟨2, ![d, n]⟩, x⟩)
    (hp : (((xs.take k).map (·.1)).map fun s => if h : s.rank = 2 then s.size ((1 : Fin 2).cast h.symm) else 0).sum = pre)
    (s : Fin d) (f : Fin n) (F : Fin T) (hF : F.val = pre + f.val) : concatenate ⟨2, ![d, T]⟩ 1 xs h (ix2 s F) = x (ix2 s f) :=
  concatenate_apply_piece (t := ⟨2, ![d, T]⟩) 1 xs h _ k hk ⟨2, ![d, n]⟩ x hx rfl pre hp (ix2 s f) (fun b hb => by
    match b with
    | ⟨0, _⟩ => rfl
    | ⟨1, _⟩ => exact absurd rfl hb) hF.symm

theorem padded (x : (⟨2, ![d, n]⟩ : Shape).Idx → α) (v : u.Idx → α) (hp : (⟨2, ![d, n]⟩ : Shape).Pads ![0, 0] ![0, hi] ![0, 0] ⟨2, ![d, N]⟩)
    (hu : 0 < u.numel) (s : Fin d) (f : Fin n) (F : Fin N) (hF : F.val = f.val) :
    pad ⟨2, ![d, N]⟩ ![0, 0] ![0, hi] ![0, 0] x v hp hu (ix2 s F) = x (ix2 s f) :=
  pad_apply_of_inside _ _ _ _ v hp hu _ _ fun k => by
    match k with
    | ⟨0, _⟩ => show s.val = 0 + s.val * (0 + 1); omega
    | ⟨1, _⟩ => show F.val = 0 + f.val * (0 + 1); omega

/-- Entries of piece `k` of rows laid one after the other, the piece being rows filled up. -/
theorem ent {pre : ℕ} (xs : List ((s : Shape) × (s.Idx → α))) (h : Shape.Concatenates (xs.map (·.1)) ⟨2, ![d, T]⟩ 1) (k : ℕ)
    (hk : k < xs.length) (x : (⟨2, ![d, n]⟩ : Shape).Idx → α) (v : u.Idx → α) (hq : (⟨2, ![d, n]⟩ : Shape).Pads ![0, 0] ![0, hi] ![0, 0] ⟨2, ![d, N]⟩)
    (hu : 0 < u.numel) (hx : xs[k] = ⟨⟨2, ![d, N]⟩, pad ⟨2, ![d, N]⟩ ![0, 0] ![0, hi] ![0, 0] x v hq hu⟩)
    (hp : (((xs.take k).map (·.1)).map fun s => if h : s.rank = 2 then s.size ((1 : Fin 2).cast h.symm) else 0).sum = pre)
    (hN : n ≤ N) (s : Fin d) (f : Fin n) (F : Fin T) (hF : F.val = pre + f.val) : concatenate ⟨2, ![d, T]⟩ 1 xs h (ix2 s F) = x (ix2 s f) :=
  (piece xs h k hk _ hx hp s ⟨f.val, by omega⟩ F hF).trans (padded x v hq hu s f _ rfl)

/-- One layer's vectors. -/
theorem vec (x : (⟨3, ![d, 2, n]⟩ : Shape).Idx → α) (hs : (⟨3, ![d, 2, n]⟩ : Shape).Slices ![0, o, 0] ⟨3, ![d, 1, n]⟩)
    (hc : (⟨3, ![d, 1, n]⟩ : Shape).ShapeCasts ⟨2, ![d, n]⟩) (s : Fin d) (i : Fin 2) (f : Fin n) (hi : i.val = o) :
    shapeCast ⟨2, ![d, n]⟩ (extractStridedSlice ⟨3, ![d, 1, n]⟩ ![0, o, 0] x hs) hc (ix2 s f) = x (ix3 s i f) := by
  rw [Packs.cast32 _ hc s f 0 f (by omega) (by show f.val = 0 * n + f.val; omega)]
  refine extractStridedSlice_apply _ x hs _ _ fun k => ?_
  match k with
  | ⟨0, _⟩ => show s.val = 0 + s.val; omega
  | ⟨1, _⟩ => show i.val = o + 0; omega
  | ⟨2, _⟩ => show f.val = 0 + f.val; omega

/-- One layer's matrices. -/
theorem mat (x : (⟨4, ![d, 2, a, b]⟩ : Shape).Idx → α) (hs : (⟨4, ![d, 2, a, b]⟩ : Shape).Slices ![0, o, 0, 0] ⟨4, ![d, 1, a, b]⟩)
    (hc : (⟨4, ![d, 1, a, b]⟩ : Shape).ShapeCasts ⟨3, ![d, a, b]⟩) (hc' : (⟨3, ![d, a, b]⟩ : Shape).ShapeCasts ⟨2, ![d, n]⟩) (hn : n = a * b) (s : Fin d)
    (i : Fin 2) (r : Fin a) (l : Fin b) (f : Fin n) (hi : i.val = o) (hf : f.val = r.val * b + l.val) :
    shapeCast ⟨2, ![d, n]⟩ (shapeCast ⟨3, ![d, a, b]⟩ (extractStridedSlice ⟨4, ![d, 1, a, b]⟩ ![0, o, 0, 0] x hs) hc) hc' (ix2 s f) = x (ix4 s i r l) := by
  rw [Packs.cast32 _ hc' s f r l hn hf]
  refine (shapeCast_apply _ hc _ (ix4 s (0 : Fin 1) r l) ?_).trans (extractStridedSlice_apply _ x hs _ _ fun k => ?_)
  · rw [Shape.rowMajor_val_four, Shape.rowMajor_val_three]
    show ((s.val * 1 + 0) * a + r.val) * b + l.val = (s.val * a + r.val) * b + l.val
    rw [Nat.mul_one, Nat.add_zero]
  match k with
  | ⟨0, _⟩ => show s.val = 0 + s.val; omega
  | ⟨1, _⟩ => show i.val = o + 0; omega
  | ⟨2, _⟩ => show r.val = 0 + r.val; omega
  | ⟨3, _⟩ => show l.val = 0 + l.val; omega

theorem cut (q : (⟨1, ![T]⟩ : Shape).Idx → α) (hs : (⟨1, ![T]⟩ : Shape).Slices ![o] ⟨1, ![n]⟩) (f : Fin n) (F : Fin T) (hF : F.val = o + f.val) :
    extractStridedSlice ⟨1, ![n]⟩ ![o] q hs (ix1 f) = q (ix1 F) :=
  extractStridedSlice_apply _ q hs _ _ fun k => by
    match k with
    | ⟨0, _⟩ => exact hF

variable {o' : ℕ}

/-- Both layers' vectors read back and stacked. -/
theorem stack (q : (⟨1, ![T]⟩ : Shape).Idx → α) (hs : (⟨1, ![T]⟩ : Shape).Slices ![o] ⟨1, ![n]⟩) (hs' : (⟨1, ![T]⟩ : Shape).Slices ![o'] ⟨1, ![n]⟩)
    (hb : (⟨1, ![n]⟩ : Shape).BroadcastsInDim ⟨2, ![1, n]⟩ ![1]) (h) (i : Fin 2) (l : Fin n) (F : Fin T) (hF : F.val = (if i = 0 then o else o') + l.val) :
    concatenate ⟨2, ![2, n]⟩ 0 [⟨⟨2, ![1, n]⟩, broadcastInDim ⟨2, ![1, n]⟩ ![1] hb (extractStridedSlice ⟨1, ![n]⟩ ![o] q hs)⟩,
      ⟨⟨2, ![1, n]⟩, broadcastInDim ⟨2, ![1, n]⟩ ![1] hb (extractStridedSlice ⟨1, ![n]⟩ ![o'] q hs')⟩] h (ix2 i l) = q (ix1 F) := by
  have hbr : ∀ x : (⟨1, ![n]⟩ : Shape).Idx → α, broadcastInDim ⟨2, ![1, n]⟩ ![1] hb x (ix2 (0 : Fin 1) l) = x (ix1 l) := fun x =>
    broadcastInDim_apply _ hb x _ _ fun k => by
      match k with
      | ⟨0, _⟩ =>
        show l.val = if n = 1 then 0 else l.val
        split <;> omega
  match i with
  | ⟨0, _⟩ =>
    refine (concatenate_apply_piece (t := ⟨2, ![2, n]⟩) 0 _ h _ 0 (by simp) ⟨2, ![1, n]⟩ _ rfl rfl 0 rfl (ix2 (0 : Fin 1) l) (fun b hb => ?_) rfl).trans
      ((hbr _).trans (cut q hs l F hF))
    match b with
    | ⟨0, _⟩ => exact absurd rfl hb
    | ⟨1, _⟩ => rfl
  | ⟨1, _⟩ =>
    refine (concatenate_apply_piece (t := ⟨2, ![2, n]⟩) 0 _ h _ 1 (by simp) ⟨2, ![1, n]⟩ _ rfl rfl 1 rfl (ix2 (0 : Fin 1) l) (fun b hb => ?_) rfl).trans
      ((hbr _).trans (cut q hs' l F hF))
    match b with
    | ⟨0, _⟩ => exact absurd rfl hb
    | ⟨1, _⟩ => rfl

/-- Both layers' matrices read back and stacked. -/
theorem stack_mat (q : (⟨1, ![T]⟩ : Shape).Idx → α) (hs : (⟨1, ![T]⟩ : Shape).Slices ![o] ⟨1, ![n]⟩) (hs' : (⟨1, ![T]⟩ : Shape).Slices ![o'] ⟨1, ![n]⟩)
    (hc : (⟨1, ![n]⟩ : Shape).ShapeCasts ⟨2, ![a, b]⟩) (hb : (⟨2, ![a, b]⟩ : Shape).BroadcastsInDim ⟨3, ![1, a, b]⟩ ![1, 2]) (h) (hn : n = a * b) (i : Fin 2)
    (r : Fin a) (l : Fin b) (F : Fin T) (hF : F.val = (if i = 0 then o else o') + (r.val * b + l.val)) :
    concatenate ⟨3, ![2, a, b]⟩ 0 [⟨⟨3, ![1, a, b]⟩, broadcastInDim ⟨3, ![1, a, b]⟩ ![1, 2] hb (shapeCast ⟨2, ![a, b]⟩ (extractStridedSlice ⟨1, ![n]⟩ ![o] q hs) hc)⟩,
      ⟨⟨3, ![1, a, b]⟩, broadcastInDim ⟨3, ![1, a, b]⟩ ![1, 2] hb (shapeCast ⟨2, ![a, b]⟩ (extractStridedSlice ⟨1, ![n]⟩ ![o'] q hs') hc)⟩] h (ix3 i r l)
      = q (ix1 F) := by
  have hbr : ∀ x : (⟨2, ![a, b]⟩ : Shape).Idx → α, broadcastInDim ⟨3, ![1, a, b]⟩ ![1, 2] hb x (ix3 (0 : Fin 1) r l) = x (ix2 r l) := fun x =>
    broadcastInDim_apply _ hb x _ _ fun k => by
      match k with
      | ⟨0, _⟩ =>
        show r.val = if a = 1 then 0 else r.val
        split <;> omega
      | ⟨1, _⟩ =>
        show l.val = if b = 1 then 0 else l.val
        split <;> omega
  have hf : r.val * b + l.val < n := hn ▸ Packs.lt_of r l
  match i with
  | ⟨0, _⟩ =>
    refine (concatenate_apply_piece (t := ⟨3, ![2, a, b]⟩) 0 _ h _ 0 (by simp) ⟨3, ![1, a, b]⟩ _ rfl rfl 0 rfl (ix3 (0 : Fin 1) r l) (fun b hb => ?_) rfl).trans
      ((hbr _).trans ((Packs.cast12 _ hc ⟨_, hf⟩ r l rfl).trans (cut q hs ⟨_, hf⟩ F hF)))
    match b with
    | ⟨0, _⟩ => exact absurd rfl hb
    | ⟨1, _⟩ => rfl
    | ⟨2, _⟩ => rfl
  | ⟨1, _⟩ =>
    refine (concatenate_apply_piece (t := ⟨3, ![2, a, b]⟩) 0 _ h _ 1 (by simp) ⟨3, ![1, a, b]⟩ _ rfl rfl 1 rfl (ix3 (0 : Fin 1) r l) (fun b hb => ?_) rfl).trans
      ((hbr _).trans ((Packs.cast12 _ hc ⟨_, hf⟩ r l rfl).trans (cut q hs' ⟨_, hf⟩ F hF)))
    match b with
    | ⟨0, _⟩ => exact absurd rfl hb
    | ⟨1, _⟩ => rfl
    | ⟨2, _⟩ => rfl

end Cert.Flat

end
-- ==== Proof.SumSmall.lean ====
/- The sums over the devices of the loss and of the gradients of a layer's small parameters, of both layers, packed into one array. -/
module

public import proofs.«01_k».proof.Defs
public import proofs.«01_k».proof.Proof.Flat
public import proofs.«01_k».proof.Proof.Layers
public import proofs.«01_k».proof.Proof.Gen.SumSmallKernelIdeal.Frame
public import proofs.«01_k».proof.Proof.Gen.SumSmallReferenceIdeal.Read
public import Idealize.ShloMosaic.Lib.Quiescent

@[expose] public section

set_option maxRecDepth 16384

noncomputable section

namespace Cert.SumSmall

open Cert.SumSmallKernelIdeal Cert.SumSmallKernelIdeal.Gen
open Idealize.ShloMosaic Idealize.ShloMosaic.TcCoe Idealize.SL.Sem
open Cert.SumSmallReferenceIdeal.Read Cert

variable (m : (ℓ : Loc nD τ sig) → Buf (Elt Ideal) ℓ)

/-- The argument arrays of a device. -/
abbrev A0 (c : Dev nD) : Vec Ideal S8x1x128 .f32 := m ((c : Thread nD τ).loc main_arg0)
abbrev A1 (c : Dev nD) : Vec Ideal S8x2x1024 .f32 := m ((c : Thread nD τ).loc main_arg1)
abbrev A2 (c : Dev nD) : Vec Ideal S8x2x1024 .f32 := m ((c : Thread nD τ).loc main_arg2)
abbrev A3 (c : Dev nD) : Vec Ideal S8x2x512 .f32 := m ((c : Thread nD τ).loc main_arg3)
abbrev A4 (c : Dev nD) : Vec Ideal S8x2x512 .f32 := m ((c : Thread nD τ).loc main_arg4)
abbrev A5 (c : Dev nD) : Vec Ideal S8x2x512 .f32 := m ((c : Thread nD τ).loc main_arg5)
abbrev A6 (c : Dev nD) : Vec Ideal S8x2x256 .f32 := m ((c : Thread nD τ).loc main_arg6)
abbrev A7 (c : Dev nD) : Vec Ideal S8x2x256 .f32 := m ((c : Thread nD τ).loc main_arg7)
abbrev A8 (c : Dev nD) : Vec Ideal S8x2x96 .f32 := m ((c : Thread nD τ).loc main_arg8)
abbrev A9 (c : Dev nD) : Vec Ideal S8x2x96 .f32 := m ((c : Thread nD τ).loc main_arg9)
abbrev A10 (c : Dev nD) : Vec Ideal S8x2x1024 .f32 := m ((c : Thread nD τ).loc main_arg10)
abbrev A11 (c : Dev nD) : Vec Ideal S8x2x31x512 .f32 := m ((c : Thread nD τ).loc main_arg11)
abbrev A12 (c : Dev nD) : Vec Ideal S8x2x2x1024 .f32 := m ((c : Thread nD τ).loc main_arg12)

/-- The packed gradients that the kernel is handed, and what it leaves. -/
abbrev P (c : Dev nD) : Vec Ideal S8x48x1024 .f32 := V m c main_v83
abbrev Q (c : Dev nD) : Vec Ideal S48x1024 .f32 := (dats m 0 c).arrAt 1 cfg0.N

theorem idx : ∀ t : Fin cfg0.N, win0_0.index t = ![0, t.val, 0] ∧ win0_1.index t = ![t.val, 0] := by
  show ∀ t : Fin grid0.N, _
  decide +kernel

theorem one (t t' : Fin cfg0.N) (h : win0_1.index t = win0_1.index t') : t = t' := by
  rw [(idx t).2, (idx t').2] at h
  exact Fin.ext (congrFun h 0)

/-- The block of a point adds the eight matrices of its rows. -/
theorem pay (x0 x1 x2 x3 x4 x5 x6 x7 : Vec Ideal S1x48x1024 .f32) (r : Fin 48) (l : Fin 1024) :
    k0_pay1 x0 x1 x2 x3 x4 x5 x6 x7 (ix2 r l) = x0 (ix3 0 r l) + x1 (ix3 0 r l) + x2 (ix3 0 r l) + x3 (ix3 0 r l) + x4 (ix3 0 r l)
      + x5 (ix3 0 r l) + x6 (ix3 0 r l) + x7 (ix3 0 r l) := by
  pointwise [k0_pay1]

/-- Every entry that the kernel leaves is the sum over the senders. -/
theorem red (c : Dev nD) (p : Fin 48) (l : Fin 1024) : Q m c (ix2 p l) = ∑ s : Fin 8, P m c (ix3 s p l) := by
  have hN : cfg0.N = 1 := N_0
  obtain ⟨t, r, e⟩ : ∃ (t : Fin cfg0.N) (r : Fin 48), p.val = t.val * 48 + r.val :=
    ⟨⟨p.val / 48, by omega⟩, ⟨p.val % 48, by omega⟩, by show p.val = p.val / 48 * 48 + p.val % 48; omega⟩
  obtain ⟨i0, i1⟩ := idx t
  have h := congrFun ((dats m 0 c).read_blk_arrAt_eq_flushed 1 (fun t t' _ _ hne => (cfg0.win 1).disjoint_blk fun h => hne (one t t' h))
    cfg0.N t t.isLt (flush0_1 t)) (ix2 (n0 := 48) (n1 := 1024) r l)
  rw [View.read_apply, show ((cfg0.win 1).blk t).view.emb (ix2 (n0 := 48) (n1 := 1024) r l) = ix2 (n0 := 48) (n1 := 1024) p l from
    Rows.idx_ext2 (a := 48) (b := 1024) (by show win0_1.index t 0 * 48 + 1 * r.val = p.val; rw [i1, e]; show t.val * 48 + 1 * r.val = _; omega)
      (by show win0_1.index t 1 * 1024 + 1 * l.val = l.val; rw [i1]; show 0 * 1024 + 1 * l.val = _; omega)] at h
  have hx : ∀ s : Fin 8, (iblk m c 0 t : Vec Ideal S8x48x1024 .f32) (ix3 s r l) = P m c (ix3 s p l) := fun s => by
    rw [iblk, View.read_apply]
    refine congrArg (P m c) (funext fun k => Fin.ext ?_)
    match k with
    | ⟨0, _⟩ => show win0_0.index t 0 * 8 + 1 * s.val = s.val; rw [i0]; show 0 * 8 + 1 * s.val = _; omega
    | ⟨1, _⟩ => show win0_0.index t 1 * 48 + 1 * r.val = p.val; rw [i0, e]; show t.val * 48 + 1 * r.val = _; omega
    | ⟨2, _⟩ => show win0_0.index t 2 * 1024 + 1 * l.val = l.val; rw [i0]; show 0 * 1024 + 1 * l.val = _; omega
  refine Eq.trans h ?_
  show (dats m 0 c).after 1 t (ix2 (n0 := 48) (n1 := 1024) r l) = _
  rw [after0_1, Fin.sum_univ_eight]
  unfold out0_1
  rw [View.canon_unit_zero (S := S48x1024) (by decide)]
  refine (pay _ _ _ _ _ _ _ _ r l).trans ?_
  rw [Packs.ld_mat _ 0 _ 0 r l rfl, Packs.ld_mat _ 1 _ 1 r l rfl, Packs.ld_mat _ 2 _ 2 r l rfl, Packs.ld_mat _ 3 _ 3 r l rfl,
    Packs.ld_mat _ 4 _ 4 r l rfl, Packs.ld_mat _ 5 _ 5 r l rfl, Packs.ld_mat _ 6 _ 6 r l rfl, Packs.ld_mat _ 7 _ 7 r l rfl]
  simp only [hx]

/-- What rows are filled up with. -/
abbrev Z : FVec Ideal S_ .f32 := sitofp .f32 (constantI S_ 32 0#32)
/-- The arguments as the host lays them one after the other, in two parts. -/
abbrev sh0 : List Shape := [S8x1024, S8x1024, S8x512, S8x512, S8x512, S8x256, S8x256, S8x128, S8x128, S8x1024, S8x15872, S8x2048, S8x1024, S8x1024, S8x512, S8x512]
abbrev l0 (c : Dev nD) : List ((s : Shape) × (s.Idx → EReal)) := [
    ⟨S8x1024, pad S8x1024 ![0, 0] ![0, 0] ![0, 0] (shapeCast S8x1024 (extractStridedSlice S8x1x1024 ![0, 0, 0] (A1 m c) slices_S8x2x1024_S8x1x1024_0_0_0) shapeCasts_S8x1x1024_S8x1024) Z pads_S8x1024_S8x1024_000_000 h_S_⟩,
    ⟨S8x1024, pad S8x1024 ![0, 0] ![0, 0] ![0, 0] (shapeCast S8x1024 (extractStridedSlice S8x1x1024 ![0, 0, 0] (A2 m c) slices_S8x2x1024_S8x1x1024_0_0_0) shapeCasts_S8x1x1024_S8x1024) Z pads_S8x1024_S8x1024_000_000 h_S_⟩,
    ⟨S8x512, pad S8x512 ![0, 0] ![0, 0] ![0, 0] (shapeCast S8x512 (extractStridedSlice S8x1x512 ![0, 0, 0] (A3 m c) slices_S8x2x512_S8x1x512_0_0_0) shapeCasts_S8x1x512_S8x512) Z pads_S8x512_S8x512_000_000 h_S_⟩,
    ⟨S8x512, pad S8x512 ![0, 0] ![0, 0] ![0, 0] (shapeCast S8x512 (extractStridedSlice S8x1x512 ![0, 0, 0] (A4 m c) slices_S8x2x512_S8x1x512_0_0_0) shapeCasts_S8x1x512_S8x512) Z pads_S8x512_S8x512_000_000 h_S_⟩,
    ⟨S8x512, pad S8x512 ![0, 0] ![0, 0] ![0, 0] (shapeCast S8x512 (extractStridedSlice S8x1x512 ![0, 0, 0] (A5 m c) slices_S8x2x512_S8x1x512_0_0_0) shapeCasts_S8x1x512_S8x512) Z pads_S8x512_S8x512_000_000 h_S_⟩,
    ⟨S8x256, pad S8x256 ![0, 0] ![0, 0] ![0, 0] (shapeCast S8x256 (extractStridedSlice S8x1x256 ![0, 0, 0] (A6 m c) slices_S8x2x256_S8x1x256_0_0_0) shapeCasts_S8x1x256_S8x256) Z pads_S8x256_S8x256_000_000 h_S_⟩,
    ⟨S8x256, pad S8x256 ![0, 0] ![0, 0] ![0, 0] (shapeCast S8x256 (extractStridedSlice S8x1x256 ![0, 0, 0] (A7 m c) slices_S8x2x256_S8x1x256_0_0_0) shapeCasts_S8x1x256_S8x256) Z pads_S8x256_S8x256_000_000 h_S_⟩,
    ⟨S8x128, pad S8x128 ![0, 0] ![0, 32] ![0, 0] (shapeCast S8x96 (extractStridedSlice S8x1x96 ![0, 0, 0] (A8 m c) slices_S8x2x96_S8x1x96_0_0_0) shapeCasts_S8x1x96_S8x96) Z pads_S8x96_S8x128_000_0320 h_S_⟩,
    ⟨S8x128, pad S8x128 ![0, 0] ![0, 32] ![0, 0] (shapeCast S8x96 (extractStridedSlice S8x1x96 ![0, 0, 0] (A9 m c) slices_S8x2x96_S8x1x96_0_0_0) shapeCasts_S8x1x96_S8x96) Z pads_S8x96_S8x128_000_0320 h_S_⟩,
    ⟨S8x1024, pad S8x1024 ![0, 0] ![0, 0] ![0, 0] (shapeCast S8x1024 (extractStridedSlice S8x1x1024 ![0, 0, 0] (A10 m c) slices_S8x2x1024_S8x1x1024_0_0_0) shapeCasts_S8x1x1024_S8x1024) Z pads_S8x1024_S8x1024_000_000 h_S_⟩,
    ⟨S8x15872, pad S8x15872 ![0, 0] ![0, 0] ![0, 0] (shapeCast S8x15872 (shapeCast S8x31x512 (extractStridedSlice S8x1x31x512 ![0, 0, 0, 0] (A11 m c) slices_S8x2x31x512_S8x1x31x512_0_0_0_0) shapeCasts_S8x1x31x512_S8x31x512) shapeCasts_S8x31x512_S8x15872) Z pads_S8x15872_S8x15872_000_000 h_S_⟩,
    ⟨S8x2048, pad S8x2048 ![0, 0] ![0, 0] ![0, 0] (shapeCast S8x2048 (shapeCast S8x2x1024 (extractStridedSlice S8x1x2x1024 ![0, 0, 0, 0] (A12 m c) slices_S8x2x2x1024_S8x1x2x1024_0_0_0_0) shapeCasts_S8x1x2x1024_S8x2x1024) shapeCasts_S8x2x1024_S8x2048) Z pads_S8x2048_S8x2048_000_000 h_S_⟩,
    ⟨S8x1024, pad S8x1024 ![0, 0] ![0, 0] ![0, 0] (shapeCast S8x1024 (extractStridedSlice S8x1x1024 ![0, 1, 0] (A1 m c) slices_S8x2x1024_S8x1x1024_0_1_0) shapeCasts_S8x1x1024_S8x1024) Z pads_S8x1024_S8x1024_000_000 h_S_⟩,
    ⟨S8x1024, pad S8x1024 ![0, 0] ![0, 0] ![0, 0] (shapeCast S8x1024 (extractStridedSlice S8x1x1024 ![0, 1, 0] (A2 m c) slices_S8x2x1024_S8x1x1024_0_1_0) shapeCasts_S8x1x1024_S8x1024) Z pads_S8x1024_S8x1024_000_000 h_S_⟩,
    ⟨S8x512, pad S8x512 ![0, 0] ![0, 0] ![0, 0] (shapeCast S8x512 (extractStridedSlice S8x1x512 ![0, 1, 0] (A3 m c) slices_S8x2x512_S8x1x512_0_1_0) shapeCasts_S8x1x512_S8x512) Z pads_S8x512_S8x512_000_000 h_S_⟩,
    ⟨S8x512, pad S8x512 ![0, 0] ![0, 0] ![0, 0] (shapeCast S8x512 (extractStridedSlice S8x1x512 ![0, 1, 0] (A4 m c) slices_S8x2x512_S8x1x512_0_1_0) shapeCasts_S8x1x512_S8x512) Z pads_S8x512_S8x512_000_000 h_S_⟩]
abbrev sh1 : List Shape := [S8x512, S8x256, S8x256, S8x128, S8x128, S8x1024, S8x15872, S8x2048, S8x128, S8x2432]
abbrev l1 (c : Dev nD) : List ((s : Shape) × (s.Idx → EReal)) := [
    ⟨S8x512, pad S8x512 ![0, 0] ![0, 0] ![0, 0] (shapeCast S8x512 (extractStridedSlice S8x1x512 ![0, 1, 0] (A5 m c) slices_S8x2x512_S8x1x512_0_1_0) shapeCasts_S8x1x512_S8x512) Z pads_S8x512_S8x512_000_000 h_S_⟩,
    ⟨S8x256, pad S8x256 ![0, 0] ![0, 0] ![0, 0] (shapeCast S8x256 (extractStridedSlice S8x1x256 ![0, 1, 0] (A6 m c) slices_S8x2x256_S8x1x256_0_1_0) shapeCasts_S8x1x256_S8x256) Z pads_S8x256_S8x256_000_000 h_S_⟩,
    ⟨S8x256, pad S8x256 ![0, 0] ![0, 0] ![0, 0] (shapeCast S8x256 (extractStridedSlice S8x1x256 ![0, 1, 0] (A7 m c) slices_S8x2x256_S8x1x256_0_1_0) shapeCasts_S8x1x256_S8x256) Z pads_S8x256_S8x256_000_000 h_S_⟩,
    ⟨S8x128, pad S8x128 ![0, 0] ![0, 32] ![0, 0] (shapeCast S8x96 (extractStridedSlice S8x1x96 ![0, 1, 0] (A8 m c) slices_S8x2x96_S8x1x96_0_1_0) shapeCasts_S8x1x96_S8x96) Z pads_S8x96_S8x128_000_0320 h_S_⟩,
    ⟨S8x128, pad S8x128 ![0, 0] ![0, 32] ![0, 0] (shapeCast S8x96 (extractStridedSlice S8x1x96 ![0, 1, 0] (A9 m c) slices_S8x2x96_S8x1x96_0_1_0) shapeCasts_S8x1x96_S8x96) Z pads_S8x96_S8x128_000_0320 h_S_⟩,
    ⟨S8x1024, pad S8x1024 ![0, 0] ![0, 0] ![0, 0] (shapeCast S8x1024 (extractStridedSlice S8x1x1024 ![0, 1, 0] (A10 m c) slices_S8x2x1024_S8x1x1024_0_1_0) shapeCasts_S8x1x1024_S8x1024) Z pads_S8x1024_S8x1024_000_000 h_S_⟩,
    ⟨S8x15872, pad S8x15872 ![0, 0] ![0, 0] ![0, 0] (shapeCast S8x15872 (shapeCast S8x31x512 (extractStridedSlice S8x1x31x512 ![0, 1, 0, 0] (A11 m c) slices_S8x2x31x512_S8x1x31x512_0_1_0_0) shapeCasts_S8x1x31x512_S8x31x512) shapeCasts_S8x31x512_S8x15872) Z pads_S8x15872_S8x15872_000_000 h_S_⟩,
    ⟨S8x2048, pad S8x2048 ![0, 0] ![0, 0] ![0, 0] (shapeCast S8x2048 (shapeCast S8x2x1024 (extractStridedSlice S8x1x2x1024 ![0, 1, 0, 0] (A12 m c) slices_S8x2x2x1024_S8x1x2x1024_0_1_0_0) shapeCasts_S8x1x2x1024_S8x2x1024) shapeCasts_S8x2x1024_S8x2048) Z pads_S8x2048_S8x2048_000_000 h_S_⟩,
    ⟨S8x128, pad S8x128 ![0, 0] ![0, 0] ![0, 0] (shapeCast S8x128 (A0 m c) shapeCasts_S8x1x128_S8x128) Z pads_S8x128_S8x128_000_000 h_S_⟩,
    ⟨S8x2432, broadcastInDim S8x2432 ![1] bcast_S2432_S8x2432_1 (broadcastInDim S2432 ![] bcast_S_S2432 (constant S_ .f32 0x00000000#32 : FVec Ideal S_ .f32))⟩]
abbrev B0 (c : Dev nD) : FVec Ideal S8x26368 .f32 := concatenate S8x26368 1 (l0 m c) concatenates_S8x1024_S8x1024_S8x512_S8x512_S8x512_S8x256_S8x256_S8x128_S8x128_S8x1024_S8x15872_S8x2048_S8x1024_S8x1024_S8x512_S8x512_S8x26368_d1
abbrev B1 (c : Dev nD) : FVec Ideal S8x22784 .f32 := concatenate S8x22784 1 (l1 m c) concatenates_S8x512_S8x256_S8x256_S8x128_S8x128_S8x1024_S8x15872_S8x2048_S8x128_S8x2432_S8x22784_d1
abbrev B (c : Dev nD) : FVec Ideal S8x49152 .f32 := concatenate S8x49152 1 [⟨S8x26368, B0 m c⟩, ⟨S8x22784, B1 m c⟩] concatenates_S8x26368_S8x22784_S8x49152_d1

set_option maxHeartbeats 4000000 in
theorem P_eq (c : Dev nD) : P m c = shapeCast S8x48x1024 (B m c) shapeCasts_S8x49152_S8x48x1024 := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50,
    List.flatten_cons, List.flatten_nil, List.append_nil, List.cons_append, List.nil_append]
  after_results_simp
  rfl

/-- What the kernel leaves, entry by entry. -/
theorem flat (c : Dev nD) (F : Fin 49152) : shapeCast S49152 (Q m c) shapeCasts_S48x1024_S49152 (ix1 F) = ∑ s : Fin 8, B m c (ix2 s F) := by
  have e : F.val = F.val / 1024 * 1024 + F.val % 1024 := by omega
  refine (Packs.cast21 (a := 48) (b := 1024) _ _ F ⟨F.val / 1024, by omega⟩ ⟨F.val % 1024, by omega⟩ e).trans ((red m c _ _).trans (Finset.sum_congr rfl fun s _ => ?_))
  rw [P_eq]
  exact Packs.cast23 _ _ s F _ _ (by norm_num) e

/-- Entries of a piece of either part. -/
theorem at0 {n N hi pre : ℕ} {u : Shape} (c : Dev nD) (k : ℕ) (hk : k < (l0 m c).length) (x : (⟨2, ![8, n]⟩ : Shape).Idx → EReal) (v : u.Idx → EReal) (hq) (hu)
    (hx : (l0 m c)[k] = ⟨⟨2, ![8, N]⟩, pad ⟨2, ![8, N]⟩ ![0, 0] ![0, hi] ![0, 0] x v hq hu⟩) (hp : ((sh0.take k).map fun s => if h : s.rank = 2 then s.size ((1 : Fin 2).cast h.symm) else 0).sum = pre) (hN : n ≤ N) (s : Fin 8) (f : Fin n) (F : Fin 49152) (hT : pre + n ≤ 26368)
    (hF : F.val = pre + f.val) : B m c (ix2 s F) = x (ix2 s f) :=
  (Flat.piece (pre := 0) _ _ 0 (by simp) (B0 m c) rfl rfl s ⟨F.val, by omega⟩ F (Nat.zero_add _).symm).trans (Flat.ent (pre := pre) (l0 m c) _ k hk x v hq hu hx (by rw [List.map_take]; exact hp) hN s f _ hF)
theorem at1 {n N hi pre : ℕ} {u : Shape} (c : Dev nD) (k : ℕ) (hk : k < (l1 m c).length) (x : (⟨2, ![8, n]⟩ : Shape).Idx → EReal) (v : u.Idx → EReal) (hq) (hu)
    (hx : (l1 m c)[k] = ⟨⟨2, ![8, N]⟩, pad ⟨2, ![8, N]⟩ ![0, 0] ![0, hi] ![0, 0] x v hq hu⟩) (hp : ((sh1.take k).map fun s => if h : s.rank = 2 then s.size ((1 : Fin 2).cast h.symm) else 0).sum = pre) (hN : n ≤ N) (s : Fin 8) (f : Fin n) (F : Fin 49152) (hT : pre + n ≤ 22784)
    (hF : F.val = 26368 + pre + f.val) : B m c (ix2 s F) = x (ix2 s f) :=
  (Flat.piece (pre := 26368) _ _ 1 (by simp) (B1 m c) rfl rfl s ⟨pre + f.val, by omega⟩ F (hF.trans (Nat.add_assoc _ _ _))).trans (Flat.ent (pre := pre) (l1 m c) _ k hk x v hq hu hx (by rw [List.map_take]; exact hp) hN s f _ rfl)

/-- A result, as the host reads it back. -/
abbrev T (c : Dev nD) (b : Ref sig .tc) := Pipeline.afterTail₀ cfgs (dats m) 0 (V0 m) [hostOps1] c b

/-- Where the entries of argument 1 lie. -/
theorem ent1 (c : Dev nD) (s : Fin 8) (i : Fin 2) (l : Fin 1024) (F : Fin 49152) (h : F.val = (if i = 0 then 0 else 23296) + l.val) :
    B m c (ix2 s F) = A1 m c (ix3 s i l) := by
  match i with
  | ⟨0, _⟩ => exact (at0 (n := 1024) (N := 1024) (hi := 0) (pre := 0) m c 0 (by simp) _ _ _ _ rfl (by decide) (by decide) s ⟨l.val, by omega⟩ F (by decide) h).trans (Flat.vec (d := 8) (n := 1024) (o := 0) _ _ _ s 0 l rfl)
  | ⟨1, _⟩ => exact (at0 (n := 1024) (N := 1024) (hi := 0) (pre := 23296) m c 12 (by simp) _ _ _ _ rfl (by decide) (by decide) s ⟨l.val, by omega⟩ F (by decide) h).trans (Flat.vec (d := 8) (n := 1024) (o := 1) _ _ _ s 1 l rfl)
/-- Result 1 is the sum of argument 1 over the senders. -/
theorem res1 (c : Dev nD) : T m c main_v96 = val_main_v3 (F := Ideal) (A1 m c) := by
  unfold T Pipeline.afterTail₀
  simp only [hostOps1, List.flatten_cons, List.flatten_nil, List.append_nil]
  after_results
  rw [Pipeline.withArrays_arr spec0 launch0.win.arr_inj c _ _ 1]
  refine Rows.ext2 (a := 2) (b := 1024) fun i l => ?_
  refine (Flat.stack (T := 49152) (n := 1024) _ _ _ _ _ i l ⟨(if i = 0 then 0 else 23296) + l.val, by split <;> omega⟩ rfl).trans ((flat m c _).trans ?_)
  rw [val_main_v3_apply, show (val_main_cst_0 (F := Ideal)) _ = 0 from Ideal.ofBits_zero_f32]
  refine (Finset.sum_congr rfl fun s _ => (ent1 m c s i l _ rfl).trans ?_).trans (zero_add _).symm
  exact congrArg (A1 m c) (Layers.eq3 (a := 8) (b := 2) (d := 1024) (idx_main_v3 (ix2 i l) s)).symm

/-- Where the entries of argument 2 lie. -/
theorem ent2 (c : Dev nD) (s : Fin 8) (i : Fin 2) (l : Fin 1024) (F : Fin 49152) (h : F.val = (if i = 0 then 1024 else 24320) + l.val) :
    B m c (ix2 s F) = A2 m c (ix3 s i l) := by
  match i with
  | ⟨0, _⟩ => exact (at0 (n := 1024) (N := 1024) (hi := 0) (pre := 1024) m c 1 (by simp) _ _ _ _ rfl (by decide) (by decide) s ⟨l.val, by omega⟩ F (by decide) h).trans (Flat.vec (d := 8) (n := 1024) (o := 0) _ _ _ s 0 l rfl)
  | ⟨1, _⟩ => exact (at0 (n := 1024) (N := 1024) (hi := 0) (pre := 24320) m c 13 (by simp) _ _ _ _ rfl (by decide) (by decide) s ⟨l.val, by omega⟩ F (by decide) h).trans (Flat.vec (d := 8) (n := 1024) (o := 1) _ _ _ s 1 l rfl)
/-- Result 2 is the sum of argument 2 over the senders. -/
theorem res2 (c : Dev nD) : T m c main_v103 = val_main_v4 (F := Ideal) (A2 m c) := by
  unfold T Pipeline.afterTail₀
  simp only [hostOps1, List.flatten_cons, List.flatten_nil, List.append_nil]
  after_results
  rw [Pipeline.withArrays_arr spec0 launch0.win.arr_inj c _ _ 1]
  refine Rows.ext2 (a := 2) (b := 1024) fun i l => ?_
  refine (Flat.stack (T := 49152) (n := 1024) _ _ _ _ _ i l ⟨(if i = 0 then 1024 else 24320) + l.val, by split <;> omega⟩ rfl).trans ((flat m c _).trans ?_)
  rw [val_main_v4_apply, show (val_main_cst_1 (F := Ideal)) _ = 0 from Ideal.ofBits_zero_f32]
  refine (Finset.sum_congr rfl fun s _ => (ent2 m c s i l _ rfl).trans ?_).trans (zero_add _).symm
  exact congrArg (A2 m c) (Layers.eq3 (a := 8) (b := 2) (d := 1024) (idx_main_v4 (ix2 i l) s)).symm

/-- Where the entries of argument 3 lie. -/
theorem ent3 (c : Dev nD) (s : Fin 8) (i : Fin 2) (l : Fin 512) (F : Fin 49152) (h : F.val = (if i = 0 then 2048 else 25344) + l.val) :
    B m c (ix2 s F) = A3 m c (ix3 s i l) := by
  match i with
  | ⟨0, _⟩ => exact (at0 (n := 512) (N := 512) (hi := 0) (pre := 2048) m c 2 (by simp) _ _ _ _ rfl (by decide) (by decide) s ⟨l.val, by omega⟩ F (by decide) h).trans (Flat.vec (d := 8) (n := 512) (o := 0) _ _ _ s 0 l rfl)
  | ⟨1, _⟩ => exact (at0 (n := 512) (N := 512) (hi := 0) (pre := 25344) m c 14 (by simp) _ _ _ _ rfl (by decide) (by decide) s ⟨l.val, by omega⟩ F (by decide) h).trans (Flat.vec (d := 8) (n := 512) (o := 1) _ _ _ s 1 l rfl)
/-- Result 3 is the sum of argument 3 over the senders. -/
theorem res3 (c : Dev nD) : T m c main_v110 = val_main_v5 (F := Ideal) (A3 m c) := by
  unfold T Pipeline.afterTail₀
  simp only [hostOps1, List.flatten_cons, List.flatten_nil, List.append_nil]
  after_results
  rw [Pipeline.withArrays_arr spec0 launch0.win.arr_inj c _ _ 1]
  refine Rows.ext2 (a := 2) (b := 512) fun i l => ?_
  refine (Flat.stack (T := 49152) (n := 512) _ _ _ _ _ i l ⟨(if i = 0 then 2048 else 25344) + l.val, by split <;> omega⟩ rfl).trans ((flat m c _).trans ?_)
  rw [val_main_v5_apply, show (val_main_cst_2 (F := Ideal)) _ = 0 from Ideal.ofBits_zero_f32]
  refine (Finset.sum_congr rfl fun s _ => (ent3 m c s i l _ rfl).trans ?_).trans (zero_add _).symm
  exact congrArg (A3 m c) (Layers.eq3 (a := 8) (b := 2) (d := 512) (idx_main_v5 (ix2 i l) s)).symm

/-- Where the entries of argument 4 lie. -/
theorem ent4 (c : Dev nD) (s : Fin 8) (i : Fin 2) (l : Fin 512) (F : Fin 49152) (h : F.val = (if i = 0 then 2560 else 25856) + l.val) :
    B m c (ix2 s F) = A4 m c (ix3 s i l) := by
  match i with
  | ⟨0, _⟩ => exact (at0 (n := 512) (N := 512) (hi := 0) (pre := 2560) m c 3 (by simp) _ _ _ _ rfl (by decide) (by decide) s ⟨l.val, by omega⟩ F (by decide) h).trans (Flat.vec (d := 8) (n := 512) (o := 0) _ _ _ s 0 l rfl)
  | ⟨1, _⟩ => exact (at0 (n := 512) (N := 512) (hi := 0) (pre := 25856) m c 15 (by simp) _ _ _ _ rfl (by decide) (by decide) s ⟨l.val, by omega⟩ F (by decide) h).trans (Flat.vec (d := 8) (n := 512) (o := 1) _ _ _ s 1 l rfl)
/-- Result 4 is the sum of argument 4 over the senders. -/
theorem res4 (c : Dev nD) : T m c main_v117 = val_main_v6 (F := Ideal) (A4 m c) := by
  unfold T Pipeline.afterTail₀
  simp only [hostOps1, List.flatten_cons, List.flatten_nil, List.append_nil]
  after_results
  rw [Pipeline.withArrays_arr spec0 launch0.win.arr_inj c _ _ 1]
  refine Rows.ext2 (a := 2) (b := 512) fun i l => ?_
  refine (Flat.stack (T := 49152) (n := 512) _ _ _ _ _ i l ⟨(if i = 0 then 2560 else 25856) + l.val, by split <;> omega⟩ rfl).trans ((flat m c _).trans ?_)
  rw [val_main_v6_apply, show (val_main_cst_3 (F := Ideal)) _ = 0 from Ideal.ofBits_zero_f32]
  refine (Finset.sum_congr rfl fun s _ => (ent4 m c s i l _ rfl).trans ?_).trans (zero_add _).symm
  exact congrArg (A4 m c) (Layers.eq3 (a := 8) (b := 2) (d := 512) (idx_main_v6 (ix2 i l) s)).symm

/-- Where the entries of argument 5 lie. -/
theorem ent5 (c : Dev nD) (s : Fin 8) (i : Fin 2) (l : Fin 512) (F : Fin 49152) (h : F.val = (if i = 0 then 3072 else 26368) + l.val) :
    B m c (ix2 s F) = A5 m c (ix3 s i l) := by
  match i with
  | ⟨0, _⟩ => exact (at0 (n := 512) (N := 512) (hi := 0) (pre := 3072) m c 4 (by simp) _ _ _ _ rfl (by decide) (by decide) s ⟨l.val, by omega⟩ F (by decide) h).trans (Flat.vec (d := 8) (n := 512) (o := 0) _ _ _ s 0 l rfl)
  | ⟨1, _⟩ => exact (at1 (n := 512) (N := 512) (hi := 0) (pre := 0) m c 0 (by simp) _ _ _ _ rfl (by decide) (by decide) s ⟨l.val, by omega⟩ F (by decide) h).trans (Flat.vec (d := 8) (n := 512) (o := 1) _ _ _ s 1 l rfl)
/-- Result 5 is the sum of argument 5 over the senders. -/
theorem res5 (c : Dev nD) : T m c main_v124 = val_main_v7 (F := Ideal) (A5 m c) := by
  unfold T Pipeline.afterTail₀
  simp only [hostOps1, List.flatten_cons, List.flatten_nil, List.append_nil]
  after_results
  rw [Pipeline.withArrays_arr spec0 launch0.win.arr_inj c _ _ 1]
  refine Rows.ext2 (a := 2) (b := 512) fun i l => ?_
  refine (Flat.stack (T := 49152) (n := 512) _ _ _ _ _ i l ⟨(if i = 0 then 3072 else 26368) + l.val, by split <;> omega⟩ rfl).trans ((flat m c _).trans ?_)
  rw [val_main_v7_apply, show (val_main_cst_4 (F := Ideal)) _ = 0 from Ideal.ofBits_zero_f32]
  refine (Finset.sum_congr rfl fun s _ => (ent5 m c s i l _ rfl).trans ?_).trans (zero_add _).symm
  exact congrArg (A5 m c) (Layers.eq3 (a := 8) (b := 2) (d := 512) (idx_main_v7 (ix2 i l) s)).symm

/-- Where the entries of argument 6 lie. -/
theorem ent6 (c : Dev nD) (s : Fin 8) (i : Fin 2) (l : Fin 256) (F : Fin 49152) (h : F.val = (if i = 0 then 3584 else 26880) + l.val) :
    B m c (ix2 s F) = A6 m c (ix3 s i l) := by
  match i with
  | ⟨0, _⟩ => exact (at0 (n := 256) (N := 256) (hi := 0) (pre := 3584) m c 5 (by simp) _ _ _ _ rfl (by decide) (by decide) s ⟨l.val, by omega⟩ F (by decide) h).trans (Flat.vec (d := 8) (n := 256) (o := 0) _ _ _ s 0 l rfl)
  | ⟨1, _⟩ => exact (at1 (n := 256) (N := 256) (hi := 0) (pre := 512) m c 1 (by simp) _ _ _ _ rfl (by decide) (by decide) s ⟨l.val, by omega⟩ F (by decide) h).trans (Flat.vec (d := 8) (n := 256) (o := 1) _ _ _ s 1 l rfl)
/-- Result 6 is the sum of argument 6 over the senders. -/
theorem res6 (c : Dev nD) : T m c main_v131 = val_main_v8 (F := Ideal) (A6 m c) := by
  unfold T Pipeline.afterTail₀
  simp only [hostOps1, List.flatten_cons, List.flatten_nil, List.append_nil]
  after_results
  rw [Pipeline.withArrays_arr spec0 launch0.win.arr_inj c _ _ 1]
  refine Rows.ext2 (a := 2) (b := 256) fun i l => ?_
  refine (Flat.stack (T := 49152) (n := 256) _ _ _ _ _ i l ⟨(if i = 0 then 3584 else 26880) + l.val, by split <;> omega⟩ rfl).trans ((flat m c _).trans ?_)
  rw [val_main_v8_apply, show (val_main_cst_5 (F := Ideal)) _ = 0 from Ideal.ofBits_zero_f32]
  refine (Finset.sum_congr rfl fun s _ => (ent6 m c s i l _ rfl).trans ?_).trans (zero_add _).symm
  exact congrArg (A6 m c) (Layers.eq3 (a := 8) (b := 2) (d := 256) (idx_main_v8 (ix2 i l) s)).symm

/-- Where the entries of argument 7 lie. -/
theorem ent7 (c : Dev nD) (s : Fin 8) (i : Fin 2) (l : Fin 256) (F : Fin 49152) (h : F.val = (if i = 0 then 3840 else 27136) + l.val) :
    B m c (ix2 s F) = A7 m c (ix3 s i l) := by
  match i with
  | ⟨0, _⟩ => exact (at0 (n := 256) (N := 256) (hi := 0) (pre := 3840) m c 6 (by simp) _ _ _ _ rfl (by decide) (by decide) s ⟨l.val, by omega⟩ F (by decide) h).trans (Flat.vec (d := 8) (n := 256) (o := 0) _ _ _ s 0 l rfl)
  | ⟨1, _⟩ => exact (at1 (n := 256) (N := 256) (hi := 0) (pre := 768) m c 2 (by simp) _ _ _ _ rfl (by decide) (by decide) s ⟨l.val, by omega⟩ F (by decide) h).trans (Flat.vec (d := 8) (n := 256) (o := 1) _ _ _ s 1 l rfl)
/-- Result 7 is the sum of argument 7 over the senders. -/
theorem res7 (c : Dev nD) : T m c main_v138 = val_main_v9 (F := Ideal) (A7 m c) := by
  unfold T Pipeline.afterTail₀
  simp only [hostOps1, List.flatten_cons, List.flatten_nil, List.append_nil]
  after_results
  rw [Pipeline.withArrays_arr spec0 launch0.win.arr_inj c _ _ 1]
  refine Rows.ext2 (a := 2) (b := 256) fun i l => ?_
  refine (Flat.stack (T := 49152) (n := 256) _ _ _ _ _ i l ⟨(if i = 0 then 3840 else 27136) + l.val, by split <;> omega⟩ rfl).trans ((flat m c _).trans ?_)
  rw [val_main_v9_apply, show (val_main_cst_6 (F := Ideal)) _ = 0 from Ideal.ofBits_zero_f32]
  refine (Finset.sum_congr rfl fun s _ => (ent7 m c s i l _ rfl).trans ?_).trans (zero_add _).symm
  exact congrArg (A7 m c) (Layers.eq3 (a := 8) (b := 2) (d := 256) (idx_main_v9 (ix2 i l) s)).symm

/-- Where the entries of argument 8 lie. -/
theorem ent8 (c : Dev nD) (s : Fin 8) (i : Fin 2) (l : Fin 96) (F : Fin 49152) (h : F.val = (if i = 0 then 4096 else 27392) + l.val) :
    B m c (ix2 s F) = A8 m c (ix3 s i l) := by
  match i with
  | ⟨0, _⟩ => exact (at0 (n := 96) (N := 128) (hi := 32) (pre := 4096) m c 7 (by simp) _ _ _ _ rfl (by decide) (by decide) s ⟨l.val, by omega⟩ F (by decide) h).trans (Flat.vec (d := 8) (n := 96) (o := 0) _ _ _ s 0 l rfl)
  | ⟨1, _⟩ => exact (at1 (n := 96) (N := 128) (hi := 32) (pre := 1024) m c 3 (by simp) _ _ _ _ rfl (by decide) (by decide) s ⟨l.val, by omega⟩ F (by decide) h).trans (Flat.vec (d := 8) (n := 96) (o := 1) _ _ _ s 1 l rfl)
/-- Result 8 is the sum of argument 8 over the senders. -/
theorem res8 (c : Dev nD) : T m c main_v145 = val_main_v10 (F := Ideal) (A8 m c) := by
  unfold T Pipeline.afterTail₀
  simp only [hostOps1, List.flatten_cons, List.flatten_nil, List.append_nil]
  after_results
  rw [Pipeline.withArrays_arr spec0 launch0.win.arr_inj c _ _ 1]
  refine Rows.ext2 (a := 2) (b := 96) fun i l => ?_
  refine (Flat.stack (T := 49152) (n := 96) _ _ _ _ _ i l ⟨(if i = 0 then 4096 else 27392) + l.val, by split <;> omega⟩ rfl).trans ((flat m c _).trans ?_)
  rw [val_main_v10_apply, show (val_main_cst_7 (F := Ideal)) _ = 0 from Ideal.ofBits_zero_f32]
  refine (Finset.sum_congr rfl fun s _ => (ent8 m c s i l _ rfl).trans ?_).trans (zero_add _).symm
  exact congrArg (A8 m c) (Layers.eq3 (a := 8) (b := 2) (d := 96) (idx_main_v10 (ix2 i l) s)).symm

/-- Where the entries of argument 9 lie. -/
theorem ent9 (c : Dev nD) (s : Fin 8) (i : Fin 2) (l : Fin 96) (F : Fin 49152) (h : F.val = (if i = 0 then 4224 else 27520) + l.val) :
    B m c (ix2 s F) = A9 m c (ix3 s i l) := by
  match i with
  | ⟨0, _⟩ => exact (at0 (n := 96) (N := 128) (hi := 32) (pre := 4224) m c 8 (by simp) _ _ _ _ rfl (by decide) (by decide) s ⟨l.val, by omega⟩ F (by decide) h).trans (Flat.vec (d := 8) (n := 96) (o := 0) _ _ _ s 0 l rfl)
  | ⟨1, _⟩ => exact (at1 (n := 96) (N := 128) (hi := 32) (pre := 1152) m c 4 (by simp) _ _ _ _ rfl (by decide) (by decide) s ⟨l.val, by omega⟩ F (by decide) h).trans (Flat.vec (d := 8) (n := 96) (o := 1) _ _ _ s 1 l rfl)
/-- Result 9 is the sum of argument 9 over the senders. -/
theorem res9 (c : Dev nD) : T m c main_v152 = val_main_v11 (F := Ideal) (A9 m c) := by
  unfold T Pipeline.afterTail₀
  simp only [hostOps1, List.flatten_cons, List.flatten_nil, List.append_nil]
  after_results
  rw [Pipeline.withArrays_arr spec0 launch0.win.arr_inj c _ _ 1]
  refine Rows.ext2 (a := 2) (b := 96) fun i l => ?_
  refine (Flat.stack (T := 49152) (n := 96) _ _ _ _ _ i l ⟨(if i = 0 then 4224 else 27520) + l.val, by split <;> omega⟩ rfl).trans ((flat m c _).trans ?_)
  rw [val_main_v11_apply, show (val_main_cst_8 (F := Ideal)) _ = 0 from Ideal.ofBits_zero_f32]
  refine (Finset.sum_congr rfl fun s _ => (ent9 m c s i l _ rfl).trans ?_).trans (zero_add _).symm
  exact congrArg (A9 m c) (Layers.eq3 (a := 8) (b := 2) (d := 96) (idx_main_v11 (ix2 i l) s)).symm

/-- Where the entries of argument 10 lie. -/
theorem ent10 (c : Dev nD) (s : Fin 8) (i : Fin 2) (l : Fin 1024) (F : Fin 49152) (h : F.val = (if i = 0 then 4352 else 27648) + l.val) :
    B m c (ix2 s F) = A10 m c (ix3 s i l) := by
  match i with
  | ⟨0, _⟩ => exact (at0 (n := 1024) (N := 1024) (hi := 0) (pre := 4352) m c 9 (by simp) _ _ _ _ rfl (by decide) (by decide) s ⟨l.val, by omega⟩ F (by decide) h).trans (Flat.vec (d := 8) (n := 1024) (o := 0) _ _ _ s 0 l rfl)
  | ⟨1, _⟩ => exact (at1 (n := 1024) (N := 1024) (hi := 0) (pre := 1280) m c 5 (by simp) _ _ _ _ rfl (by decide) (by decide) s ⟨l.val, by omega⟩ F (by decide) h).trans (Flat.vec (d := 8) (n := 1024) (o := 1) _ _ _ s 1 l rfl)
/-- Result 10 is the sum of argument 10 over the senders. -/
theorem res10 (c : Dev nD) : T m c main_v159 = val_main_v12 (F := Ideal) (A10 m c) := by
  unfold T Pipeline.afterTail₀
  simp only [hostOps1, List.flatten_cons, List.flatten_nil, List.append_nil]
  after_results
  rw [Pipeline.withArrays_arr spec0 launch0.win.arr_inj c _ _ 1]
  refine Rows.ext2 (a := 2) (b := 1024) fun i l => ?_
  refine (Flat.stack (T := 49152) (n := 1024) _ _ _ _ _ i l ⟨(if i = 0 then 4352 else 27648) + l.val, by split <;> omega⟩ rfl).trans ((flat m c _).trans ?_)
  rw [val_main_v12_apply, show (val_main_cst_9 (F := Ideal)) _ = 0 from Ideal.ofBits_zero_f32]
  refine (Finset.sum_congr rfl fun s _ => (ent10 m c s i l _ rfl).trans ?_).trans (zero_add _).symm
  exact congrArg (A10 m c) (Layers.eq3 (a := 8) (b := 2) (d := 1024) (idx_main_v12 (ix2 i l) s)).symm

/-- Where the entries of argument 11 lie. -/
theorem ent11 (c : Dev nD) (s : Fin 8) (i : Fin 2) (r : Fin 31) (l : Fin 512) (F : Fin 49152) (h : F.val = (if i = 0 then 5376 else 28672) + (r.val * 512 + l.val)) :
    B m c (ix2 s F) = A11 m c (ix4 s i r l) := by
  match i with
  | ⟨0, _⟩ => exact (at0 (n := 15872) (N := 15872) (hi := 0) (pre := 5376) m c 10 (by simp) _ _ _ _ rfl (by decide) (by decide) s ⟨(r.val * 512 + l.val), by omega⟩ F (by decide) h).trans (Flat.mat (d := 8) (a := 31) (b := 512) (n := 15872) (o := 0) _ _ _ _ (by norm_num) s 0 r l ⟨(r.val * 512 + l.val), by omega⟩ rfl rfl)
  | ⟨1, _⟩ => exact (at1 (n := 15872) (N := 15872) (hi := 0) (pre := 2304) m c 6 (by simp) _ _ _ _ rfl (by decide) (by decide) s ⟨(r.val * 512 + l.val), by omega⟩ F (by decide) h).trans (Flat.mat (d := 8) (a := 31) (b := 512) (n := 15872) (o := 1) _ _ _ _ (by norm_num) s 1 r l ⟨(r.val * 512 + l.val), by omega⟩ rfl rfl)
/-- Result 11 is the sum of argument 11 over the senders. -/
theorem res11 (c : Dev nD) : T m c main_v168 = val_main_v13 (F := Ideal) (A11 m c) := by
  unfold T Pipeline.afterTail₀
  simp only [hostOps1, List.flatten_cons, List.flatten_nil, List.append_nil]
  after_results
  rw [Pipeline.withArrays_arr spec0 launch0.win.arr_inj c _ _ 1]
  refine funext fun x => ?_
  obtain ⟨i, r, l, rfl⟩ : ∃ (i : Fin 2) (r : Fin 31) (l : Fin 512), x = ix3 i r l := ⟨x 0, x 1, x 2, Layers.eq3 x⟩
  refine (Flat.stack_mat (T := 49152) (n := 15872) (a := 31) (b := 512) _ _ _ _ _ _ (by norm_num) i r l ⟨(if i = 0 then 5376 else 28672) + (r.val * 512 + l.val), by split <;> omega⟩ rfl).trans ((flat m c _).trans ?_)
  rw [val_main_v13_apply, show (val_main_cst_10 (F := Ideal)) _ = 0 from Ideal.ofBits_zero_f32]
  refine (Finset.sum_congr rfl fun s _ => (ent11 m c s i r l _ rfl).trans ?_).trans (zero_add _).symm
  refine congrArg (A11 m c) (funext fun k => ?_)
  match k with
  | ⟨0, _⟩ => rfl
  | ⟨1, _⟩ => rfl
  | ⟨2, _⟩ => rfl
  | ⟨3, _⟩ => rfl

/-- Where the entries of argument 12 lie. -/
theorem ent12 (c : Dev nD) (s : Fin 8) (i : Fin 2) (r : Fin 2) (l : Fin 1024) (F : Fin 49152) (h : F.val = (if i = 0 then 21248 else 44544) + (r.val * 1024 + l.val)) :
    B m c (ix2 s F) = A12 m c (ix4 s i r l) := by
  match i with
  | ⟨0, _⟩ => exact (at0 (n := 2048) (N := 2048) (hi := 0) (pre := 21248) m c 11 (by simp) _ _ _ _ rfl (by decide) (by decide) s ⟨(r.val * 1024 + l.val), by omega⟩ F (by decide) h).trans (Flat.mat (d := 8) (a := 2) (b := 1024) (n := 2048) (o := 0) _ _ _ _ (by norm_num) s 0 r l ⟨(r.val * 1024 + l.val), by omega⟩ rfl rfl)
  | ⟨1, _⟩ => exact (at1 (n := 2048) (N := 2048) (hi := 0) (pre := 18176) m c 7 (by simp) _ _ _ _ rfl (by decide) (by decide) s ⟨(r.val * 1024 + l.val), by omega⟩ F (by decide) h).trans (Flat.mat (d := 8) (a := 2) (b := 1024) (n := 2048) (o := 1) _ _ _ _ (by norm_num) s 1 r l ⟨(r.val * 1024 + l.val), by omega⟩ rfl rfl)
/-- Result 12 is the sum of argument 12 over the senders. -/
theorem res12 (c : Dev nD) : T m c main_v177 = val_main_v14 (F := Ideal) (A12 m c) := by
  unfold T Pipeline.afterTail₀
  simp only [hostOps1, List.flatten_cons, List.flatten_nil, List.append_nil]
  after_results
  rw [Pipeline.withArrays_arr spec0 launch0.win.arr_inj c _ _ 1]
  refine funext fun x => ?_
  obtain ⟨i, r, l, rfl⟩ : ∃ (i : Fin 2) (r : Fin 2) (l : Fin 1024), x = ix3 i r l := ⟨x 0, x 1, x 2, Layers.eq3 x⟩
  refine (Flat.stack_mat (T := 49152) (n := 2048) (a := 2) (b := 1024) _ _ _ _ _ _ (by norm_num) i r l ⟨(if i = 0 then 21248 else 44544) + (r.val * 1024 + l.val), by split <;> omega⟩ rfl).trans ((flat m c _).trans ?_)
  rw [val_main_v14_apply, show (val_main_cst_11 (F := Ideal)) _ = 0 from Ideal.ofBits_zero_f32]
  refine (Finset.sum_congr rfl fun s _ => (ent12 m c s i r l _ rfl).trans ?_).trans (zero_add _).symm
  refine congrArg (A12 m c) (funext fun k => ?_)
  match k with
  | ⟨0, _⟩ => rfl
  | ⟨1, _⟩ => rfl
  | ⟨2, _⟩ => rfl
  | ⟨3, _⟩ => rfl

/-- Result 0 is the sum of the losses. -/
theorem res0 (c : Dev nD) : T m c main_v89 = val_main_v2 (F := Ideal) (A0 m c) := by
  unfold T Pipeline.afterTail₀
  simp only [hostOps1, List.flatten_cons, List.flatten_nil, List.append_nil]
  after_results
  rw [Pipeline.withArrays_arr spec0 launch0.win.arr_inj c _ _ 1]
  refine funext fun x => ?_
  rw [val_main_v2_apply, show (val_main_cst (F := Ideal)) _ = 0 from Ideal.ofBits_zero_f32]
  refine (shapeCast_apply _ shapeCasts_S1x1_S_ x (ix2 (0 : Fin 1) (0 : Fin 1)) ?_).trans ?_
  · rw [Shape.rowMajor_val_two]; have := (Shape.rowMajor (s := S_) x).isLt; have h1 : S_.numel = 1 := by decide
    show 0 * 1 + 0 = _
    omega
  refine (extractStridedSlice_apply _ _ slices_S1x128_S1x1_0_0 _ (ix2 (0 : Fin 1) (0 : Fin 128)) fun k => ?_).trans ?_
  · match k with
    | ⟨0, _⟩ => rfl
    | ⟨1, _⟩ => rfl
  refine (Packs.cast12 (a := 1) (b := 128) _ shapeCasts_S128_S1x128 0 0 0 rfl).trans ((Flat.cut (n := 128) _ _ 0 ⟨46592, by omega⟩ rfl).trans ((flat m c _).trans ?_))
  rw [zero_add]
  refine Fintype.sum_bijective (fun s : Fin 8 => (ix1 s : (⟨1, ![8]⟩ : Shape).Idx)) ⟨fun x y h => congrFun h 0, fun y => ⟨y 0, funext fun k => ?_⟩⟩ _ _ fun s => ?_
  · match k with
    | ⟨0, _⟩ => rfl
  refine (at1 (n := 128) (N := 128) (hi := 0) (pre := 20224) m c 8 (by simp) _ _ _ _ rfl (by decide) (by decide) s 0 _ (by decide) rfl).trans
    ((Packs.cast32 (d := 8) (a := 1) (b := 128) (A0 m c) _ s 0 0 0 (by norm_num) rfl).trans ?_)
  rw [val_main_v1_apply, val_main_v0_apply]
  refine congrArg (A0 m c) (funext fun k => ?_)
  match k with
  | ⟨0, _⟩ => exact Fin.ext (by show s.val = s.val / 1; omega)
  | ⟨1, _⟩ => rfl
  | ⟨2, _⟩ => rfl

end Cert.SumSmall

open Idealize.ShloMosaic Idealize.SL.Sem Cert.SumSmallKernelIdeal Cert.SumSmallKernelIdeal.Gen Cert.SumSmallReferenceIdeal.Read Cert.SumSmall in
/-- The kernel computes the reference's sums, over the extended reals. -/
theorem Cert.SumSmall.algebraic : Cert.algebraic_SumSmallKernelIdeal_SumSmallReferenceIdeal := by
  intro m g m' g' _ hag
  refine ⟨fun c => val_main_v2 (F := Ideal) (A0 m c), fun c => val_main_v3 (F := Ideal) (A1 m c), fun c => val_main_v4 (F := Ideal) (A2 m c), fun c => val_main_v5 (F := Ideal) (A3 m c), fun c => val_main_v6 (F := Ideal) (A4 m c), fun c => val_main_v7 (F := Ideal) (A5 m c), fun c => val_main_v8 (F := Ideal) (A6 m c), fun c => val_main_v9 (F := Ideal) (A7 m c), fun c => val_main_v10 (F := Ideal) (A8 m c), fun c => val_main_v11 (F := Ideal) (A9 m c), fun c => val_main_v12 (F := Ideal) (A10 m c), fun c => val_main_v13 (F := Ideal) (A11 m c), fun c => val_main_v14 (F := Ideal) (A12 m c),
    (θ_run _ _ _).mono (fun r h c => ?_) (run_main m g), (θ_run _ _ _).mono (fun r h c => ?_) (Cert.SumSmallReferenceIdeal.Value.run m' g')⟩
  · have f := fun b hu hn => (h c).2 b (Pipeline.mem_restRefs_of b hu hn)
    exact ⟨(f main_v89 (by decide) (by decide)).trans (res0 m c), (f main_v96 (by decide) (by decide)).trans (res1 m c), (f main_v103 (by decide) (by decide)).trans (res2 m c), (f main_v110 (by decide) (by decide)).trans (res3 m c), (f main_v117 (by decide) (by decide)).trans (res4 m c), (f main_v124 (by decide) (by decide)).trans (res5 m c), (f main_v131 (by decide) (by decide)).trans (res6 m c), (f main_v138 (by decide) (by decide)).trans (res7 m c), (f main_v145 (by decide) (by decide)).trans (res8 m c), (f main_v152 (by decide) (by decide)).trans (res9 m c), (f main_v159 (by decide) (by decide)).trans (res10 m c), (f main_v168 (by decide) (by decide)).trans (res11 m c), (f main_v177 (by decide) (by decide)).trans (res12 m c), (f main_arg0 (by decide) (by decide)).trans (W_main_arg0 m (dats m) c), (f main_arg1 (by decide) (by decide)).trans (W_main_arg1 m (dats m) c), (f main_arg2 (by decide) (by decide)).trans (W_main_arg2 m (dats m) c), (f main_arg3 (by decide) (by decide)).trans (W_main_arg3 m (dats m) c), (f main_arg4 (by decide) (by decide)).trans (W_main_arg4 m (dats m) c), (f main_arg5 (by decide) (by decide)).trans (W_main_arg5 m (dats m) c), (f main_arg6 (by decide) (by decide)).trans (W_main_arg6 m (dats m) c), (f main_arg7 (by decide) (by decide)).trans (W_main_arg7 m (dats m) c), (f main_arg8 (by decide) (by decide)).trans (W_main_arg8 m (dats m) c), (f main_arg9 (by decide) (by decide)).trans (W_main_arg9 m (dats m) c), (f main_arg10 (by decide) (by decide)).trans (W_main_arg10 m (dats m) c), (f main_arg11 (by decide) (by decide)).trans (W_main_arg11 m (dats m) c), (f main_arg12 (by decide) (by decide)).trans (W_main_arg12 m (dats m) c)⟩
  obtain ⟨h0, h1, h2, h3, h4, h5, h6, h7, h8, h9, h10, h11, h12, ha⟩ := h c
  obtain ⟨e0, e1, e2, e3, e4, e5, e6, e7, e8, e9, e10, e11, e12⟩ := hag c
  refine ⟨?_, ?_, ?_, ?_, ?_, ?_, ?_, ?_, ?_, ?_, ?_, ?_, ?_, ha⟩
  · rw [h0, val_main_v2_eq, e0]
  · rw [h1, val_main_v3_eq, e1]
  · rw [h2, val_main_v4_eq, e2]
  · rw [h3, val_main_v5_eq, e3]
  · rw [h4, val_main_v6_eq, e4]
  · rw [h5, val_main_v7_eq, e5]
  · rw [h6, val_main_v8_eq, e6]
  · rw [h7, val_main_v9_eq, e7]
  · rw [h8, val_main_v10_eq, e8]
  · rw [h9, val_main_v11_eq, e9]
  · rw [h10, val_main_v12_eq, e10]
  · rw [h11, val_main_v13_eq, e11]
  · rw [h12, val_main_v14_eq, e12]

open Idealize.ShloMosaic Idealize.SL.Sem in
/-- The reference terminates, leaves its arguments as they were, and has no semaphore. -/
theorem Cert.SumSmall.frame_reference : Cert.quiescent_SumSmallReferenceIdeal := fun m ρ _ =>
  (θ_run Cert.SumSmallReferenceIdeal.defs _ _).mono (fun r h => ⟨fun c => (h c).2.2.2.2.2.2.2.2.2.2.2.2.2,
    sem_eq_zero_of_no_sems (by decide) r.2⟩) (Cert.SumSmallReferenceIdeal.Value.run m ρ)

end
-- ==== Proof.LossGrad.lean ====
/- `loss_grad`: a device's part of the loss, summed over eight blocks of rows, and the loss's gradient. -/
module

public import proofs.«01_k».proof.Defs
public import proofs.«01_k».proof.Proof.Tile
public import proofs.«01_k».proof.Proof.Sums
public import proofs.«01_k».proof.Proof.Gen.LossGradKernelIdeal.Value
public import proofs.«01_k».proof.Proof.Gen.LossGradReferenceIdeal.Read
public import Idealize.ShloMosaic.Lib.Quiescent

@[expose] public section

set_option maxRecDepth 16384

noncomputable section

namespace Cert.LossGrad

open Cert.LossGradKernelIdeal Cert.LossGradKernelIdeal.Gen Cert.LossGradKernelIdeal.Value
open Idealize.ShloMosaic Idealize.ShloMosaic.TcCoe Idealize.SL.Sem
open Cert.LossGradReferenceIdeal.Read Cert

variable (m : (ℓ : Loc nD τ sig) → Buf (Elt Ideal) ℓ)

/-- The argument arrays of a device: the model's result and the target. -/
abbrev A0 (c : Dev nD) : Vec Ideal S4096x1024 .f32 := m ((c : Thread nD τ).loc main_arg0)
abbrev A1 (c : Dev nD) : Vec Ideal S4096x1024 .f32 := m ((c : Thread nD τ).loc main_arg1)

/-- Their blocks at a point. -/
abbrev X0 (c : Dev nD) (t : Fin cfg0.N) : Vec Ideal S512x1024 .f32 := iblk m c 0 t
abbrev X1 (c : Dev nD) (t : Fin cfg0.N) : Vec Ideal S512x1024 .f32 := iblk m c 1 t

theorem hz : (![0, 0] : Fin 2 → ℕ) = 0 := by decide

/-- Where the windows lie. -/
theorem idx : ∀ t : Fin cfg0.N, win0_0.index t = ![t.val, 0] ∧ win0_1.index t = ![t.val, 0] ∧ win0_2.index t = ![t.val, 0] ∧ win0_3.index t = ![0, 0] := by
  show ∀ t : Fin grid0.N, _
  decide +kernel

/-- Row `r` of a block at point `t` as a row of the array. -/
abbrev row (t : Fin cfg0.N) (r : Fin 512) : Fin 4096 := Tile.row N_0 t r

theorem X0_eq (c : Dev nD) (t : Fin cfg0.N) (r : Fin 512) (l : Fin 1024) : X0 m c t (ix2 r l) = A0 m c (ix2 (row t r) l) :=
  (congrArg (V m c main_arg0) (Tile.at2 (hN := N_0) (idx t).1 rfl rfl)).trans (congrFun (V_main_arg0 m c) _)

theorem X1_eq (c : Dev nD) (t : Fin cfg0.N) (r : Fin 512) (l : Fin 1024) : X1 m c t (ix2 r l) = A1 m c (ix2 (row t r) l) :=
  (congrArg (V m c main_arg1) (Tile.at2 (hN := N_0) (idx t).2.1 rfl rfl)).trans (congrFun (V_main_arg1 m c) _)

theorem emb2 (t : Fin cfg0.N) (r : Fin 512) (l : Fin 1024) :
    ((cfg0.win 2).blk t).view.emb (ix2 (n0 := 512) (n1 := 1024) r l) = ix2 (n0 := 4096) (n1 := 1024) (row t r) l :=
  Tile.at2 (idx t).2.2.1 rfl rfl

theorem emb3 (t : Fin cfg0.N) (r : Fin 1) (l : Fin 128) :
    ((cfg0.win 3).blk t).view.emb (ix2 (n0 := 1) (n1 := 128) r l) = ix2 (n0 := 1) (n1 := 128) r l :=
  Tile.all2 (idx t).2.2.2 rfl rfl

/-! The constants of the loss: 1024 entries in a row, and one half. -/

theorem lit_inv : Ideal.ofBits .f32 0x3A800000#32 = ((1 / 1024 : ℝ) : EReal) := by
  simp [Ideal.ofBits, Ideal.ieee]; rw [← EReal.coe_mul]; norm_num
theorem lit_half_inv : Ideal.ofBits .f32 0x3A000000#32 = ((1 / 2048 : ℝ) : EReal) := by
  simp [Ideal.ofBits, Ideal.ieee]; rw [← EReal.coe_mul]; norm_num
theorem lit_1024 : Ideal.ofBits .f32 0x44800000#32 = ((1024 : ℝ) : EReal) := by
  simp [Ideal.ofBits, Ideal.ieee]; rw [← EReal.coe_mul]; norm_num
theorem lit_two : Ideal.ofBits .f32 0x40000000#32 = ((2 : ℝ) : EReal) := by
  simp [Ideal.ofBits, Ideal.ieee]; rw [← EReal.coe_mul]; norm_num
theorem lit_one : Ideal.ofBits .f32 0x3F800000#32 = ((1 : ℝ) : EReal) := by
  simp [Ideal.ofBits, Ideal.ieee]; rw [← EReal.coe_mul, ← EReal.coe_one]; congr 1; norm_num
theorem lit_half : Ideal.ofBits .f32 0x3F000000#32 = ((1 / 2 : ℝ) : EReal) := by
  simp [Ideal.ofBits, Ideal.ieee]; rw [← EReal.coe_mul]; norm_num

/-- The square of a row's error, summed over the row. -/
def sq (x y : Vec Ideal S4096x1024 .f32) (R : Fin 4096) : EReal :=
  ∑ k : Fin 1024, (x (ix2 R k) - y (ix2 R k)) * (x (ix2 R k) - y (ix2 R k))

/-! What a point writes. -/

theorem pay3 (x y : Vec Ideal S512x1024 .f32) (r : Fin 512) (l : Fin 1024) :
    k0_pay3 x y (ix2 r l) = (x (ix2 r l) - y (ix2 r l)) * ((1 / 1024 : ℝ) : EReal) := by
  rw [← lit_inv]
  pointwise [k0_pay3, k0_pay2]

theorem pay4 (x y : Vec Ideal S512x1024 .f32) (z : Vec Ideal S1x128 .f32) (l : Fin 128) :
    k0_pay4 x y z (ix2 0 l) = z (ix2 0 l)
      + ∑ r : Fin 512, (∑ k : Fin 1024, (x (ix2 r k) - y (ix2 r k)) * (x (ix2 r k) - y (ix2 r k))) * ((1 / 2048 : ℝ) : EReal) := by
  rw [← lit_half_inv]
  pointwise [k0_pay4, k0_pay2]

theorem pt3 (c : Dev nD) (t : Fin cfg0.N) (z : Vec Ideal S1x128 .f32) (l : Fin 128) :
    k0_pay4 (F := Ideal) (X0 m c t) (X1 m c t) z (ix2 0 l)
      = z (ix2 0 l) + ∑ r : Fin 512, sq (A0 m c) (A1 m c) (row t r) * ((1 / 2048 : ℝ) : EReal) := by
  refine (pay4 _ _ _ _).trans (congrArg (z (ix2 0 l) + ·) (Finset.sum_congr rfl fun r _ => congrArg (· * _) ?_))
  exact Finset.sum_congr rfl fun k _ => by rw [X0_eq, X1_eq]

theorem pt2 (c : Dev nD) (t : Fin cfg0.N) (r : Fin 512) (l : Fin 1024) :
    k0_pay3 (F := Ideal) (X0 m c t) (X1 m c t) (ix2 r l)
      = (A0 m c (ix2 (row t r) l) - A1 m c (ix2 (row t r) l)) * ((1 / 1024 : ℝ) : EReal) := by
  rw [pay3, X0_eq, X1_eq]

/-- The gradient's block. -/
theorem blk2 (c : Dev nD) (t : Fin cfg0.N) (r : Fin 512) (l : Fin 1024) : (outsAt0 m c t.val t.isLt).1 (ix2 r l)
    = (A0 m c (ix2 (row t r) l) - A1 m c (ix2 (row t r) l)) * ((1 / 1024 : ℝ) : EReal) := by
  by_cases h0 : t.val % 8 = 0
  · rw [outsAt0_A m c t h0]
    dsimp only
    unfold out0_A_2
    rw [View.read_writes_junk_eq_canon]
    unfold kernelRun0_A
    dsimp only
    sl_unfold_words
    simp only [View.readAt_eq_ld, (hs0_0 t).read_unread, (hs0_1 t).read_unread, View.ld_unit_zero (S := S512x1024) hz]
    rw [View.canon_unit_zero (S := S512x1024) hz]
    exact pt2 m c t r l
  · rw [outsAt0_B m c t h0]
    dsimp only
    unfold out0_B_2
    rw [View.read_writes_junk_eq_canon]
    unfold kernelRun0_B
    dsimp only
    sl_unfold_words
    simp only [View.readAt_eq_ld, (hs0_0 t).read_unread, (hs0_1 t).read_unread, View.ld_unit_zero (S := S512x1024) hz]
    rw [View.canon_unit_zero (S := S512x1024) hz]
    exact pt2 m c t r l

/-- The loss after the first point: the part of the point's own rows. -/
theorem blk3_A (c : Dev nD) (t : Fin cfg0.N) (h0 : t.val % 8 = 0) (l : Fin 128) :
    (outsAt0 m c t.val t.isLt).2 (ix2 0 l) = 0 + ∑ r : Fin 512, sq (A0 m c) (A1 m c) (row t r) * ((1 / 2048 : ℝ) : EReal) := by
  rw [outsAt0_A m c t h0]
  dsimp only
  unfold out0_A_3
  rw [View.read_writes_junk_eq_canon]
  unfold kernelRun0_A
  dsimp only
  sl_unfold_words
  simp only [View.readAt_eq_ld, (hs0_0 t).read_unread, (hs0_1 t).read_unread, View.ld_unit_zero (S := S512x1024) hz, View.ld_unit_zero (S := S1x128) hz]
  refine (Rows.canon_row 0 _ _ _ (ix2 0 l) l rfl rfl).trans ?_
  refine (pt3 m c t _ l).trans (congrArg (· + _) ?_)
  refine (Rows.readCov_row _ _ 0 _ l (ix2 0 l) rfl rfl).trans ?_
  rw [View.canon_unit_zero (S := S1x128) hz]
  pointwise [k0_pay1]

/-- … and after a later point: what the point before left, and the part of the point's own rows. -/
theorem blk3_B (c : Dev nD) (t : Fin cfg0.N) (h0 : ¬t.val % 8 = 0) (l : Fin 128) :
    (outsAt0 m c t.val t.isLt).2 (ix2 0 l) = (outsAt0 m c (t.val - 1) (Nat.lt_of_le_of_lt (Nat.sub_le _ _) t.isLt)).2 (ix2 0 l)
      + ∑ r : Fin 512, sq (A0 m c) (A1 m c) (row t r) * ((1 / 2048 : ℝ) : EReal) := by
  rw [outsAt0_B m c t h0]
  dsimp only
  unfold out0_B_3
  rw [View.read_writes_junk_eq_canon]
  unfold kernelRun0_B
  dsimp only
  sl_unfold_words
  simp only [View.readAt_eq_ld, (hs0_0 t).read_unread, (hs0_1 t).read_unread, (hs0_3 t).read_unread, View.ld_unit_zero (S := S512x1024) hz, View.ld_unit_zero (S := S1x128) hz]
  generalize (outsAt0 m c (t.val - 1) (Nat.lt_of_le_of_lt (Nat.sub_le _ _) t.isLt)).2 = xo
  rw [View.canon_unit_zero (S := S1x128) hz]
  exact pt3 m c t xo l

theorem sums (c : Dev nD) (l : Fin 128) : ∀ (n : ℕ) (h : n < cfg0.N),
    (outsAt0 m c n h).2 (ix2 0 l) = ∑ k : Fin (n + 1), ∑ r : Fin 512, sq (A0 m c) (A1 m c) (row ⟨k.val, by omega⟩ r) * ((1 / 2048 : ℝ) : EReal)
  | 0, h => by
    have hb := blk3_A m c ⟨0, h⟩ rfl l
    rw [zero_add] at hb
    rw [Fin.sum_univ_one]
    exact hb
  | n + 1, h => by
    have hN : cfg0.N = 8 := N_0
    have hb := blk3_B m c ⟨n + 1, h⟩ (by dsimp only; omega) l
    have ih := sums c l n (by omega)
    rw [Fin.sum_univ_castSucc]
    exact hb.trans (congrArg (· + _) ih)

theorem flushed3_only (t t' : Fin cfg0.N) (h : (cfg0.win 3).flush t = true) (h' : (cfg0.win 3).flush t' = true) : t = t' := by
  have hN : cfg0.N = 8 := N_0
  have := (flush0_3 t).mp h
  have := (flush0_3 t').mp h'
  have := t.isLt
  have := t'.isLt
  exact Fin.ext (by omega)

theorem arr3 (c : Dev nD) (l : Fin 128) : ((dats m 0 c).arrAt 3 cfg0.N : S1x128.Idx → EReal) (ix2 0 l)
    = ∑ R : Fin 4096, sq (A0 m c) (A1 m c) R * ((1 / 2048 : ℝ) : EReal) := by
  have hN : cfg0.N = 8 := N_0
  obtain ⟨t, ht⟩ : ∃ t : Fin cfg0.N, t.val = 7 := ⟨⟨7, by rw [hN]; omega⟩, rfl⟩
  have hf : (cfg0.win 3).flush t = true := (flush0_3 t).mpr (by rw [ht])
  have hb := (dats m 0 c).read_blk_arrAt_eq_flushed 3 (fun t t' h h' hne => absurd (flushed3_only t t' h h') hne) cfg0.N t t.isLt hf
  have h := congrFun hb (ix2 (n0 := 1) (n1 := 128) 0 l)
  rw [View.read_apply, flushed3, emb3 t 0 l] at h
  rw [Fin.sum_univ_tiles 8 512 rfl]
  have h8 : t.val + 1 = 8 := by omega
  refine h.trans ((sums m c l t.val t.isLt).trans ?_)
  rw [← Equiv.sum_comp (finCongr h8)]
  rfl

theorem arr2 (c : Dev nD) (R : Fin 4096) (L : Fin 1024) : ((dats m 0 c).arrAt 2 cfg0.N : S4096x1024.Idx → EReal) (ix2 R L)
    = (A0 m c (ix2 R L) - A1 m c (ix2 R L)) * ((1 / 1024 : ℝ) : EReal) := by
  obtain ⟨t, r, rfl⟩ := Tile.surj N_0 R
  have h := congrFun (blocks2 m c t (flush0_2 t)) (ix2 (n0 := 512) (n1 := 1024) r L)
  rw [View.read_apply, flushed2, emb2] at h
  rw [← blk2]
  exact h

/-! The reference's arrays. -/

theorem ref2 (x y : Vec Ideal S4096x1024 .f32) (R : Fin 4096) (L : Fin 1024) :
    val_main_v14 (F := Ideal) x y (ix2 R L) = (x (ix2 R L) - y (ix2 R L)) * ((1 / 1024 : ℝ) : EReal) := by
  have h : val_main_v14 (F := Ideal) x y (ix2 R L)
      = Ideal.div (Ideal.ofBits .f32 0x3F000000#32 * Ideal.ofBits .f32 0x3F800000#32) (Ideal.ofBits .f32 0x44800000#32)
        * (Ideal.ofBits .f32 0x40000000#32 * (x (ix2 R L) - y (ix2 R L))) := by
    pointwise [val_main_v14, val_main_v13, val_main_v12, val_main_v11, val_main_v10, val_main_v9, val_main_v3, val_main_v2, val_main_v0, val_main_cst, val_main_cst_4, val_main_cst_5, val_main_cst_6]
  rw [h, lit_half, lit_one, lit_1024, lit_two, Ideal.div_coe (by norm_num), ← EReal.coe_mul, ← EReal.coe_mul, ← mul_assoc, ← EReal.coe_mul, mul_comm]
  congr 2
  norm_num

theorem refs (x y : Vec Ideal S4096x1024 .f32) (R : Fin 4096) :
    val_main_v6 (F := Ideal) x y (ix1 R) = Ideal.div (sq x y R) (Ideal.ofBits .f32 0x44800000#32) := by
  unfold sq
  pointwise [val_main_v6, val_main_v5, val_main_v4, val_main_v1, val_main_v0, val_main_cst_0, val_main_cst_1]

theorem ref3 (x y : Vec Ideal S4096x1024 .f32) (L : Fin 128) :
    val_main_v15 (F := Ideal) x y (ix2 0 L) = ∑ R : Fin 4096, sq x y R * ((1 / 2048 : ℝ) : EReal) := by
  have h : val_main_v15 (F := Ideal) x y (ix2 0 L)
      = Ideal.ofBits .f32 0x3F000000#32 * ∑ R : Fin 4096, val_main_v6 (F := Ideal) x y (ix1 R) := by
    pointwise [val_main_v15, val_main_v8, val_main_v7, val_main_cst_2, val_main_cst_3]
  rw [h, lit_half, mul_comm, Math.sum_mul _ _ Math.half_nonneg Math.half_ne_top]
  refine Finset.sum_congr rfl fun R _ => ?_
  rw [refs, lit_1024, Ideal.div_coe (by norm_num), mul_assoc, ← EReal.coe_mul]
  congr 2
  norm_num

theorem eq2 (c : Dev nD) : ((dats m 0 c).arrAt 2 cfg0.N : S4096x1024.Idx → EReal) = val_main_v14 (F := Ideal) (A0 m c) (A1 m c) :=
  Rows.ext2 fun R l => (arr2 m c R l).trans (ref2 _ _ R l).symm

theorem eq3 (c : Dev nD) : ((dats m 0 c).arrAt 3 cfg0.N : S1x128.Idx → EReal) = val_main_v15 (F := Ideal) (A0 m c) (A1 m c) :=
  Rows.ext2 fun R l => by
    rw [Fin.eq_zero R]
    exact (arr3 m c l).trans (ref3 _ _ l).symm

end Cert.LossGrad

open Idealize.ShloMosaic Idealize.SL.Sem in
/-- The kernel computes the reference's arrays, over the extended reals. -/
theorem Cert.LossGrad.algebraic : Cert.algebraic_LossGradKernelIdeal_LossGradReferenceIdeal := by
  intro m g m' g' _ hag
  refine ⟨_, _, Cert.LossGradKernelIdeal.Value.run_blocks m g, (θ_run _ _ _).mono (fun r h c => ?_) (Cert.LossGradReferenceIdeal.Value.run m' g')⟩
  obtain ⟨h1, h2, ha⟩ := h c
  obtain ⟨e0, e1⟩ := hag c
  refine ⟨?_, ?_, ha⟩
  · rw [h1, Cert.LossGradReferenceIdeal.Read.val_main_v14_eq, e0, e1]
    exact (Cert.LossGrad.eq2 m c).symm
  · rw [h2, Cert.LossGradReferenceIdeal.Read.val_main_v15_eq, e0, e1]
    exact (Cert.LossGrad.eq3 m c).symm

open Idealize.ShloMosaic Idealize.SL.Sem in
/-- The reference terminates, leaves its arguments as they were, and has no semaphore. -/
theorem Cert.LossGrad.frame_reference : Cert.quiescent_LossGradReferenceIdeal := fun m ρ _ =>
  (θ_run Cert.LossGradReferenceIdeal.defs _ _).mono (fun r h => ⟨fun c => (h c).2.2,
    sem_eq_zero_of_no_sems (by decide) r.2⟩) (Cert.LossGradReferenceIdeal.Value.run m ρ)

end
-- ==== Proof.ConvOut.lean ====
module

public import proofs.«01_k».proof.Defs
public import proofs.«01_k».proof.Proof.Tile
public import proofs.«01_k».proof.Proof.Gen.ConvOutKernelIdeal.Value
public import proofs.«01_k».proof.Proof.Gen.ConvOutReferenceIdeal.Read
public import Idealize.ShloMosaic.Lib.Quiescent

@[expose] public section

set_option maxRecDepth 16384

noncomputable section

namespace Cert.ConvOut

open Cert.ConvOutKernelIdeal Cert.ConvOutKernelIdeal.Gen Cert.ConvOutKernelIdeal.Value
open Idealize.ShloMosaic Idealize.ShloMosaic.TcCoe Idealize.SL.Sem
open Cert.ConvOutReferenceIdeal.Read Cert

variable (m : (ℓ : Loc nD τ sig) → Buf (Elt Ideal) ℓ)

/-- The argument arrays of a device. -/
abbrev A0 (c : Dev nD) : Vec Ideal S4096x512 .bf16 := m ((c : Thread nD τ).loc main_arg0)
abbrev A1 (c : Dev nD) : Vec Ideal S512x1024 .f32 := m ((c : Thread nD τ).loc main_arg1)

/-- What the host hands the kernel. -/
abbrev H0 (c : Dev nD) : Vec Ideal S4096x512 .bf16 := V m c main_arg0
abbrev H1 (c : Dev nD) : Vec Ideal S1024x512 .bf16 := V m c main_v1

theorem H0_eq (c : Dev nD) : H0 m c = A0 m c := V_main_arg0 m c
theorem H1_eq (c : Dev nD) (r : Fin 1024) (l : Fin 512) : H1 m c (ix2 r l) = A1 m c (ix2 l r) := by
  have h : H1 m c = (truncf .bf16 (transpose S1024x512 [1, 0] (A1 m c) transposes_S512x1024_S1024x512_1_0 : FVec Ideal S1024x512 .f32) bitsLt_bf16_f32 : FVec Ideal S1024x512 .bf16) := by
    unfold_abbrev_sides
    after_results
  rw [h]
  pointwise []

theorem idx : ∀ t : Fin cfg0.N, win0_0.index t = ![t.val, 0] ∧ win0_1.index t = ![0, 0] ∧ win0_2.index t = ![t.val, 0] := by
  show ∀ t : Fin grid0.N, _
  decide +kernel

theorem pay (x0 : Vec Ideal S512x512 .bf16) (x1 : Vec Ideal S1024x512 .bf16) (r : Fin 512) (l : Fin 1024) :
    k0_pay1 x0 x1 (ix2 r l) = ∑ k : Fin 512, x0 (ix2 r k) * x1 (ix2 l k) := by
  pointwise [k0_pay1]

/-- The kernel's array, index by index. -/
theorem arr (c : Dev nD) (R : Fin 4096) (L : Fin 1024) :
    ((dats m 0 c).arrAt 2 cfg0.N : S4096x1024.Idx → EReal) (ix2 R L) = ∑ k : Fin 512, A0 m c (ix2 R k) * A1 m c (ix2 k L) := by
  obtain ⟨t, r, rfl⟩ := Tile.surj N_0 R
  have h := congrFun (blocks2 m c t (flush0_2 t)) (ix2 (n0 := 512) (n1 := 1024) r L)
  rw [View.read_apply, flushed2, show ((cfg0.win 2).blk t).view.emb (ix2 (n0 := 512) (n1 := 1024) r L) = ix2 (n0 := 4096) (n1 := 1024) (Tile.row N_0 t r) L
    from Tile.at2 (idx t).2.2 rfl rfl] at h
  refine h.trans ((?_ : out0_2 (iblk m c 0 t) (iblk m c 1 t) (ix2 r L) = _))
  unfold out0_2
  have hz : (![0, 0] : Fin 2 → ℕ) = 0 := by decide
  rw [View.canon_unit_zero (S := S512x1024) hz, View.ld_unit_zero (S := S512x512) hz, View.ld_unit_zero (S := S1024x512) hz]
  refine (pay _ _ _ _).trans (Finset.sum_congr rfl fun k _ => ?_)
  exact congrArg₂ (fun x y : EReal => x * y)
    ((congrArg (H0 m c) (Tile.at2 (idx t).1 rfl rfl)).trans (congrFun (H0_eq m c) (ix2 (Tile.row N_0 t r) k)))
    ((congrArg (H1 m c) (Tile.all2 (idx t).2.1 rfl rfl)).trans (H1_eq m c L k))

theorem ref (x0 : Vec Ideal S4096x512 .bf16) (x1 : Vec Ideal S512x1024 .f32) (R : Fin 4096) (L : Fin 1024) :
    val_main_v1 (F := Ideal) x0 x1 (ix2 R L) = ∑ k : Fin 512, x0 (ix2 R k) * x1 (ix2 k L) := by
  pointwise [val_main_v1, val_main_v0]

end Cert.ConvOut

open Idealize.ShloMosaic Idealize.SL.Sem in
/-- The kernel computes the reference's array, over the extended reals. -/
theorem Cert.ConvOut.algebraic : Cert.algebraic_ConvOutKernelIdeal_ConvOutReferenceIdeal := by
  intro m g m' g' _ hag
  refine ⟨_, Cert.ConvOutKernelIdeal.Value.run_blocks m g, (θ_run _ _ _).mono (fun r h c => ?_) (Cert.ConvOutReferenceIdeal.Value.run m' g')⟩
  refine ⟨?_, (h c).2⟩
  rw [(h c).1, Cert.ConvOutReferenceIdeal.Read.val_main_v1_eq, (hag c).1, (hag c).2]
  exact (Cert.Rows.ext2 fun R L => (Cert.ConvOut.arr m c R L).trans (Cert.ConvOut.ref _ _ R L).symm).symm

open Idealize.ShloMosaic Idealize.SL.Sem in
/-- The reference terminates, leaves its arguments as they were, and has no semaphore. -/
theorem Cert.ConvOut.frame_reference : Cert.quiescent_ConvOutReferenceIdeal := fun m ρ _ =>
  (θ_run Cert.ConvOutReferenceIdeal.defs _ _).mono (fun r h => ⟨fun c => (h c).2,
    sem_eq_zero_of_no_sems (by decide) r.2⟩) (Cert.ConvOutReferenceIdeal.Value.run m ρ)

end
-- ==== Proof.ConvDc.lean ====
/- Gradient `conv_dc`: the product with the transposed matrix is the gradient `jax.vjp` gives. -/
module

public import proofs.«01_k».proof.Defs
public import proofs.«01_k».proof.Proof.Tile
public import proofs.«01_k».proof.Proof.Gen.ConvDcKernelIdeal.Value
public import proofs.«01_k».proof.Proof.Gen.ConvDcReferenceIdeal.Read
public import Idealize.ShloMosaic.Lib.Quiescent

@[expose] public section

set_option maxRecDepth 16384

noncomputable section

namespace Cert.ConvDc

open Cert.ConvDcKernelIdeal Cert.ConvDcKernelIdeal.Gen Cert.ConvDcKernelIdeal.Value
open Idealize.ShloMosaic Idealize.ShloMosaic.TcCoe Idealize.SL.Sem
open Cert.ConvDcReferenceIdeal.Read Cert

variable (m : (ℓ : Loc nD τ sig) → Buf (Elt Ideal) ℓ)

/-- The argument arrays of a device. -/
abbrev A0 (c : Dev nD) : Vec Ideal S512x1024 .f32 := m ((c : Thread nD τ).loc main_arg0)
abbrev A1 (c : Dev nD) : Vec Ideal S4096x1024 .bf16 := m ((c : Thread nD τ).loc main_arg1)

/-- What the host hands the kernel. -/
abbrev H0 (c : Dev nD) : Vec Ideal S4096x1024 .bf16 := V m c main_arg1
abbrev H1 (c : Dev nD) : Vec Ideal S1024x512 .bf16 := V m c main_v1

theorem H0_eq (c : Dev nD) : H0 m c = A1 m c := V_main_arg1 m c
theorem H1_eq (c : Dev nD) (r : Fin 1024) (l : Fin 512) : H1 m c (ix2 r l) = A0 m c (ix2 l r) := by
  have h : H1 m c = (truncf .bf16 (transpose S1024x512 [1, 0] (A0 m c) transposes_S512x1024_S1024x512_1_0 : FVec Ideal S1024x512 .f32) bitsLt_bf16_f32 : FVec Ideal S1024x512 .bf16) := by
    unfold_abbrev_sides
    after_results
  rw [h]
  pointwise []

theorem idx : ∀ t : Fin cfg0.N, win0_0.index t = ![t.val, 0] ∧ win0_1.index t = ![0, 0] ∧ win0_2.index t = ![t.val, 0] := by
  show ∀ t : Fin grid0.N, _
  decide +kernel

theorem pay (x0 : Vec Ideal S512x1024 .bf16) (x1 : Vec Ideal S1024x512 .bf16) (r : Fin 512) (l : Fin 512) :
    k0_pay1 x0 x1 (ix2 r l) = ∑ k : Fin 1024, x0 (ix2 r k) * x1 (ix2 k l) := by
  pointwise [k0_pay1]

/-- The kernel's array, index by index. -/
theorem arr (c : Dev nD) (R : Fin 4096) (L : Fin 512) :
    ((dats m 0 c).arrAt 2 cfg0.N : S4096x512.Idx → EReal) (ix2 R L) = ∑ k : Fin 1024, A1 m c (ix2 R k) * A0 m c (ix2 L k) := by
  obtain ⟨t, r, rfl⟩ := Tile.surj N_0 R
  have h := congrFun (blocks2 m c t (flush0_2 t)) (ix2 (n0 := 512) (n1 := 512) r L)
  rw [View.read_apply, flushed2, show ((cfg0.win 2).blk t).view.emb (ix2 (n0 := 512) (n1 := 512) r L) = ix2 (n0 := 4096) (n1 := 512) (Tile.row N_0 t r) L
    from Tile.at2 (idx t).2.2 rfl rfl] at h
  refine h.trans ((?_ : out0_2 (iblk m c 0 t) (iblk m c 1 t) (ix2 r L) = _))
  unfold out0_2
  have hz : (![0, 0] : Fin 2 → ℕ) = 0 := by decide
  rw [View.canon_unit_zero (S := S512x512) hz, View.ld_unit_zero (S := S512x1024) hz, View.ld_unit_zero (S := S1024x512) hz]
  refine (pay _ _ _ _).trans (Finset.sum_congr rfl fun k _ => ?_)
  exact congrArg₂ (fun x y : EReal => x * y)
    ((congrArg (H0 m c) (Tile.at2 (idx t).1 rfl rfl)).trans (congrFun (H0_eq m c) (ix2 (Tile.row N_0 t r) k)))
    ((congrArg (H1 m c) (Tile.all2 (idx t).2.1 rfl rfl)).trans (H1_eq m c k L))

theorem ref (x0 : Vec Ideal S512x1024 .f32) (x1 : Vec Ideal S4096x1024 .bf16) (R : Fin 4096) (L : Fin 512) :
    val_main_v3 (F := Ideal) x0 x1 (ix2 R L) = ∑ k : Fin 1024, x1 (ix2 R k) * x0 (ix2 L k) := by
  pointwise [val_main_v3, val_main_v2]

end Cert.ConvDc

open Idealize.ShloMosaic Idealize.SL.Sem in
/-- The kernel computes the reference's array, over the extended reals. -/
theorem Cert.ConvDc.algebraic : Cert.algebraic_ConvDcKernelIdeal_ConvDcReferenceIdeal := by
  intro m g m' g' _ hag
  refine ⟨_, Cert.ConvDcKernelIdeal.Value.run_blocks m g, (θ_run _ _ _).mono (fun r h c => ?_) (Cert.ConvDcReferenceIdeal.Value.run m' g')⟩
  refine ⟨?_, (h c).2⟩
  rw [(h c).1, Cert.ConvDcReferenceIdeal.Read.val_main_v3_eq, (hag c).1, (hag c).2]
  exact (Cert.Rows.ext2 fun R L => (Cert.ConvDc.arr m c R L).trans (Cert.ConvDc.ref _ _ R L).symm).symm

open Idealize.ShloMosaic Idealize.SL.Sem in
/-- The reference terminates, leaves its arguments as they were, and has no semaphore. -/
theorem Cert.ConvDc.frame_reference : Cert.quiescent_ConvDcReferenceIdeal := fun m ρ _ =>
  (θ_run Cert.ConvDcReferenceIdeal.defs _ _).mono (fun r h => ⟨fun c => (h c).2,
    sem_eq_zero_of_no_sems (by decide) r.2⟩) (Cert.ConvDcReferenceIdeal.Value.run m ρ)

end
-- ==== Proof.ConvDwout.lean ====
module

public import proofs.«01_k».proof.Defs
public import proofs.«01_k».proof.Proof.Tile
public import proofs.«01_k».proof.Proof.Sums
public import proofs.«01_k».proof.Proof.Gen.ConvDwoutKernelIdeal.Value
public import proofs.«01_k».proof.Proof.Gen.ConvDwoutReferenceIdeal.Read
public import Idealize.ShloMosaic.Lib.Quiescent

@[expose] public section

set_option maxRecDepth 16384

noncomputable section

namespace Cert.ConvDwout

open Cert.ConvDwoutKernelIdeal Cert.ConvDwoutKernelIdeal.Gen Cert.ConvDwoutKernelIdeal.Value
open Idealize.ShloMosaic Idealize.ShloMosaic.TcCoe Idealize.SL.Sem
open Cert.ConvDwoutReferenceIdeal.Read Cert

variable (m : (ℓ : Loc nD τ sig) → Buf (Elt Ideal) ℓ)

/-- The argument arrays of a device. -/
abbrev A0 (c : Dev nD) : Vec Ideal S4096x1024 .bf16 := m ((c : Thread nD τ).loc main_arg0)
abbrev A1 (c : Dev nD) : Vec Ideal S4096x512 .bf16 := m ((c : Thread nD τ).loc main_arg1)

/-- The input windows' blocks at a point. -/
abbrev X0 (c : Dev nD) (t : Fin cfg0.N) : Vec Ideal S1024x1024 .bf16 := iblk m c 0 t
abbrev X1 (c : Dev nD) (t : Fin cfg0.N) : Vec Ideal S1024x512 .bf16 := iblk m c 1 t

theorem hz : (![0, 0] : Fin 2 → ℕ) = 0 := by decide

section
variable (x0 : Vec Ideal S1024x1024 .bf16) (x1 : Vec Ideal S1024x512 .bf16) (a : Vec Ideal S1024x512 .f32) (r : Fin 1024) (l : Fin 512)

/-- One block's product. -/
def prod : EReal := ∑ q : Fin 1024, x0 (ix2 q r) * x1 (ix2 q l)

theorem pay2 : k0_pay2 x0 x1 (ix2 r l) = prod x0 x1 r l := by
  unfold prod
  pointwise [k0_pay2, k0_pay1]

theorem pay3 : k0_pay3 x0 x1 a (ix2 r l) = a (ix2 r l) + prod x0 x1 r l := by
  unfold prod
  pointwise [k0_pay3, k0_pay1]

theorem pay4 : k0_pay4 a (ix2 r l) = a (ix2 r l) := by
  pointwise [k0_pay4]

end

section
variable (c : Dev nD) (t : Fin cfg0.N) (r : Fin 1024) (l : Fin 512)

/-- The first block of a run stores its product. -/
theorem first (h : t.val % 4 = 0) : (outsAt0 m c t.val t.isLt).2 (ix2 r l)
    = prod (X0 m c t) (X1 m c t) r l := by
  have hN : cfg0.N = 4 := N_0
  have ht := t.isLt
  rw [outsAt0_A m c t (by omega) (by omega) (by omega)]
  dsimp only
  unfold sout0_A_0
  rw [View.read_writes_junk_eq_canon]
  unfold kernelRun0_A
  dsimp only
  sl_unfold_words
  simp only [View.readAt_eq_ld, (hs0_0 t).read_unread, (hs0_1 t).read_unread, View.ld_unit_zero (S := S1024x1024) hz, View.ld_unit_zero (S := S1024x512) hz]
  rw [View.canon_unit_zero (S := S1024x512) hz]
  exact pay2 _ _ r l

/-- The middle blocks add theirs. -/
theorem next (h : ¬t.val % 4 = 0) (h2 : ¬t.val % 4 = 3) : (outsAt0 m c t.val t.isLt).2 (ix2 r l)
    = (outsAt0 m c (t.val - 1) (Nat.lt_of_le_of_lt (Nat.sub_le _ _) t.isLt)).2 (ix2 r l) + prod (X0 m c t) (X1 m c t) r l := by
  have hN : cfg0.N = 4 := N_0
  have ht := t.isLt
  rw [outsAt0_B m c t (by omega) (by omega) (by omega)]
  dsimp only
  unfold sout0_B_0
  rw [View.read_writes_junk_eq_canon]
  unfold kernelRun0_B
  dsimp only
  sl_unfold_words
  simp only [View.readAt_eq_ld, (hs0_0 t).read_unread, (hs0_1 t).read_unread, (Memref.isWhole_whole cc0_scratch0).read_unread, View.ld_unit_zero (S := S1024x1024) hz, View.ld_unit_zero (S := S1024x512) hz]
  rw [View.canon_unit_zero (S := S1024x512) hz]
  exact pay3 _ _ _ r l

/-- The last block adds its own and the result is stored. -/
theorem last (h : t.val % 4 = 3) : (outsAt0 m c t.val t.isLt).1 (ix2 r l)
    = (outsAt0 m c (t.val - 1) (Nat.lt_of_le_of_lt (Nat.sub_le _ _) t.isLt)).2 (ix2 r l) + prod (X0 m c t) (X1 m c t) r l := by
  have hN : cfg0.N = 4 := N_0
  have ht := t.isLt
  rw [outsAt0_C m c t (by omega) (by omega) (by omega)]
  dsimp only
  unfold out0_C_2
  rw [View.read_writes_junk_eq_canon]
  unfold kernelRun0_C
  dsimp only
  sl_unfold_words
  simp only [View.readAt_eq_ld, (hs0_0 t).read_unread, (hs0_1 t).read_unread, (Memref.isWhole_whole cc0_scratch0).read_unread, View.ld_unit_zero (S := S1024x1024) hz, View.ld_unit_zero (S := S1024x512) hz]
  rw [View.canon_unit_zero (S := S1024x512) hz, View.readCov_unit_zero (S := S1024x512) _ hz]
  exact (pay4 _ r l).trans (pay3 _ _ _ r l)

end

theorem idx : ∀ t : Fin cfg0.N, win0_0.index t = ![t.val % 4, t.val / 4] ∧ win0_1.index t = ![t.val % 4, 0] := by
  show ∀ t : Fin grid0.N, _
  decide +kernel

/-- The block of rows `R` lies in, and its four points. -/
def pt (R : Fin 1024) (j : Fin 4) : Fin cfg0.N :=
  ⟨4 * (R.val / 1024) + j.val, by have hN : cfg0.N = 4 := N_0; have := R.isLt; have := j.isLt; omega⟩
theorem pt_mod (R : Fin 1024) (j : Fin 4) : (pt R j).val % 4 = j.val := by show (4 * (R.val / 1024) + j.val) % 4 = _; omega

/-- What the last point of a row's block stores: the whole sum. -/
theorem res (c : Dev nD) (R : Fin 1024) (l : Fin 512) (n : ℕ) (hn : n < cfg0.N) (h : n = (pt R 3).val) :
    (outsAt0 m c n hn).1 (ix2 ⟨R.val % 1024, by omega⟩ l) = ∑ k : Fin 4096, A0 m c (ix2 k R) * A1 m c (ix2 k l) := by
  subst h
  refine (last m c (pt R 3) _ l (pt_mod R 3)).trans ?_
  refine Math.four (fun k => A0 m c (ix2 k R) * A1 m c (ix2 k l)) (p := fun j => prod (X0 m c (pt R j)) (X1 m c (pt R j)) ⟨R.val % 1024, by omega⟩ l)
    (fun j => Finset.sum_congr rfl fun q _ => ?_) (first m c (pt R 0) _ l (pt_mod R 0)) (next m c (pt R 1) _ l (by rw [pt_mod]; decide) (by rw [pt_mod]; decide))
    (next m c (pt R 2) _ l (by rw [pt_mod]; decide) (by rw [pt_mod]; decide))
  have hq : j.val * 1024 + q.val = (pt R j).val % 4 * 1024 + q.val := by rw [pt_mod]
  have hr : R.val = (pt R j).val / 4 * 1024 + R.val % 1024 := by show R.val = (4 * (R.val / 1024) + j.val) / 4 * 1024 + R.val % 1024; omega
  exact congrArg₂ (fun x y : EReal => x * y)
    ((congrArg (V m c main_arg0) (Tile.gen (R := ⟨j.val * 1024 + q.val, by omega⟩) (idx (pt R j)).1 rfl rfl hq hr)).trans (congrFun (V_main_arg0 m c) _))
    ((congrArg (V m c main_arg1) (Tile.gen (R := ⟨j.val * 1024 + q.val, by omega⟩) (L := l) (idx (pt R j)).2 rfl rfl hq (show l.val = 0 * 512 + l.val by omega))).trans (congrFun (V_main_arg1 m c) _))

/-- The kernel's array, index by index. -/
theorem arr (c : Dev nD) (R : Fin 1024) (l : Fin 512) :
    ((dats m 0 c).arrAt 2 cfg0.N : S1024x512.Idx → EReal) (ix2 R l) = ∑ k : Fin 4096, A0 m c (ix2 k R) * A1 m c (ix2 k l) := by
  have hp : pt2Of (ix2 R l) = (pt R 3).val := by
    show 4 * (1 * (R.val / 1024 - 0) + 1 * (l.val / 512 - 0)) + 3 = 4 * (R.val / 1024) + 3
    have := l.isLt
    omega
  have hlt : pt2Of (ix2 (n0 := 1024) (n1 := 512) R l) < cfg0.N := hp ▸ (pt R 3).isLt
  rw [final2]
  unfold G2
  refine (dif_pos hlt).trans ?_
  rw [← outsAt0_sweep, show loc2Of (ix2 R l) = ix2 ⟨R.val % 1024, by omega⟩ l from Rows.idx_ext2 rfl (by show l.val % 512 = l.val; omega)]
  exact res m c R l _ hlt hp

theorem ref (x0 : Vec Ideal S4096x1024 .bf16) (x1 : Vec Ideal S4096x512 .bf16) (R : Fin 1024) (l : Fin 512) :
    val_main_v7 (F := Ideal) x0 x1 (ix2 R l) = ∑ k : Fin 4096, x0 (ix2 k R) * x1 (ix2 k l) := by
  pointwise [val_main_v7, val_main_v6, val_main_v5, val_main_v4, val_main_v3, val_main_v1]

end Cert.ConvDwout

open Idealize.ShloMosaic Idealize.SL.Sem in
/-- The kernel computes the reference's array, over the extended reals. -/
theorem Cert.ConvDwout.algebraic : Cert.algebraic_ConvDwoutKernelIdeal_ConvDwoutReferenceIdeal := by
  intro m g m' g' _ hag
  refine ⟨_, Cert.ConvDwoutKernelIdeal.Value.run_blocks m g, (θ_run _ _ _).mono (fun r h c => ?_) (Cert.ConvDwoutReferenceIdeal.Value.run m' g')⟩
  refine ⟨?_, (h c).2⟩
  rw [(h c).1, Cert.ConvDwoutReferenceIdeal.Read.val_main_v7_eq, (hag c).1, (hag c).2]
  exact (Cert.Rows.ext2 fun R l => (Cert.ConvDwout.arr m c R l).trans (Cert.ConvDwout.ref _ _ R l).symm).symm

open Idealize.ShloMosaic Idealize.SL.Sem in
/-- The reference terminates, leaves its arguments as they were, and has no semaphore. -/
theorem Cert.ConvDwout.frame_reference : Cert.quiescent_ConvDwoutReferenceIdeal := fun m ρ _ =>
  (θ_run Cert.ConvDwoutReferenceIdeal.defs _ _).mono (fun r h => ⟨fun c => (h c).2,
    sem_eq_zero_of_no_sems (by decide) r.2⟩) (Cert.ConvDwoutReferenceIdeal.Value.run m ρ)

end
-- ==== Proof.MlaOut.lean ====
module

public import proofs.«01_k».proof.Defs
public import proofs.«01_k».proof.Proof.Tile
public import proofs.«01_k».proof.Proof.Gen.MlaOutKernelIdeal.Value
public import proofs.«01_k».proof.Proof.Gen.MlaOutReferenceIdeal.Read
public import Idealize.ShloMosaic.Lib.Quiescent

@[expose] public section

set_option maxRecDepth 16384

noncomputable section

namespace Cert.MlaOut

open Cert.MlaOutKernelIdeal Cert.MlaOutKernelIdeal.Gen Cert.MlaOutKernelIdeal.Value
open Idealize.ShloMosaic Idealize.ShloMosaic.TcCoe Idealize.SL.Sem
open Cert.MlaOutReferenceIdeal.Read Cert

variable (m : (ℓ : Loc nD τ sig) → Buf (Elt Ideal) ℓ)

/-- The argument arrays of a device. -/
abbrev A0 (c : Dev nD) : Vec Ideal S4096x1024 .bf16 := m ((c : Thread nD τ).loc main_arg0)
abbrev A1 (c : Dev nD) : Vec Ideal S1024x1024 .f32 := m ((c : Thread nD τ).loc main_arg1)

/-- What the host hands the kernel. -/
abbrev H0 (c : Dev nD) : Vec Ideal S4096x1024 .bf16 := V m c main_arg0
abbrev H1 (c : Dev nD) : Vec Ideal S1024x1024 .bf16 := V m c main_v1

theorem H0_eq (c : Dev nD) : H0 m c = A0 m c := V_main_arg0 m c
theorem H1_eq (c : Dev nD) (r : Fin 1024) (l : Fin 1024) : H1 m c (ix2 r l) = A1 m c (ix2 l r) := by
  have h : H1 m c = (truncf .bf16 (transpose S1024x1024 [1, 0] (A1 m c) transposes_S1024x1024_S1024x1024_1_0 : FVec Ideal S1024x1024 .f32) bitsLt_bf16_f32 : FVec Ideal S1024x1024 .bf16) := by
    unfold_abbrev_sides
    after_results
  rw [h]
  pointwise []

theorem idx : ∀ t : Fin cfg0.N, win0_0.index t = ![t.val, 0] ∧ win0_1.index t = ![0, 0] ∧ win0_2.index t = ![t.val, 0] := by
  show ∀ t : Fin grid0.N, _
  decide +kernel

theorem pay (x0 : Vec Ideal S512x1024 .bf16) (x1 : Vec Ideal S1024x1024 .bf16) (r : Fin 512) (l : Fin 1024) :
    k0_pay1 x0 x1 (ix2 r l) = ∑ k : Fin 1024, x0 (ix2 r k) * x1 (ix2 l k) := by
  pointwise [k0_pay1]

/-- The kernel's array, index by index. -/
theorem arr (c : Dev nD) (R : Fin 4096) (L : Fin 1024) :
    ((dats m 0 c).arrAt 2 cfg0.N : S4096x1024.Idx → EReal) (ix2 R L) = ∑ k : Fin 1024, A0 m c (ix2 R k) * A1 m c (ix2 k L) := by
  obtain ⟨t, r, rfl⟩ := Tile.surj N_0 R
  have h := congrFun (blocks2 m c t (flush0_2 t)) (ix2 (n0 := 512) (n1 := 1024) r L)
  rw [View.read_apply, flushed2, show ((cfg0.win 2).blk t).view.emb (ix2 (n0 := 512) (n1 := 1024) r L) = ix2 (n0 := 4096) (n1 := 1024) (Tile.row N_0 t r) L
    from Tile.at2 (idx t).2.2 rfl rfl] at h
  refine h.trans ((?_ : out0_2 (iblk m c 0 t) (iblk m c 1 t) (ix2 r L) = _))
  unfold out0_2
  have hz : (![0, 0] : Fin 2 → ℕ) = 0 := by decide
  rw [View.canon_unit_zero (S := S512x1024) hz, View.ld_unit_zero (S := S512x1024) hz, View.ld_unit_zero (S := S1024x1024) hz]
  refine (pay _ _ _ _).trans (Finset.sum_congr rfl fun k _ => ?_)
  exact congrArg₂ (fun x y : EReal => x * y)
    ((congrArg (H0 m c) (Tile.at2 (idx t).1 rfl rfl)).trans (congrFun (H0_eq m c) (ix2 (Tile.row N_0 t r) k)))
    ((congrArg (H1 m c) (Tile.all2 (idx t).2.1 rfl rfl)).trans (H1_eq m c L k))

theorem ref (x0 : Vec Ideal S4096x1024 .bf16) (x1 : Vec Ideal S1024x1024 .f32) (R : Fin 4096) (L : Fin 1024) :
    val_main_v1 (F := Ideal) x0 x1 (ix2 R L) = ∑ k : Fin 1024, x0 (ix2 R k) * x1 (ix2 k L) := by
  pointwise [val_main_v1, val_main_v0]

end Cert.MlaOut

open Idealize.ShloMosaic Idealize.SL.Sem in
/-- The kernel computes the reference's array, over the extended reals. -/
theorem Cert.MlaOut.algebraic : Cert.algebraic_MlaOutKernelIdeal_MlaOutReferenceIdeal := by
  intro m g m' g' _ hag
  refine ⟨_, Cert.MlaOutKernelIdeal.Value.run_blocks m g, (θ_run _ _ _).mono (fun r h c => ?_) (Cert.MlaOutReferenceIdeal.Value.run m' g')⟩
  refine ⟨?_, (h c).2⟩
  rw [(h c).1, Cert.MlaOutReferenceIdeal.Read.val_main_v1_eq, (hag c).1, (hag c).2]
  exact (Cert.Rows.ext2 fun R L => (Cert.MlaOut.arr m c R L).trans (Cert.MlaOut.ref _ _ R L).symm).symm

open Idealize.ShloMosaic Idealize.SL.Sem in
/-- The reference terminates, leaves its arguments as they were, and has no semaphore. -/
theorem Cert.MlaOut.frame_reference : Cert.quiescent_MlaOutReferenceIdeal := fun m ρ _ =>
  (θ_run Cert.MlaOutReferenceIdeal.defs _ _).mono (fun r h => ⟨fun c => (h c).2,
    sem_eq_zero_of_no_sems (by decide) r.2⟩) (Cert.MlaOutReferenceIdeal.Value.run m ρ)

end
-- ==== Proof.MlaDo.lean ====
/- Gradient `mla_do`: the product with the transposed matrix is the gradient `jax.vjp` gives. -/
module

public import proofs.«01_k».proof.Defs
public import proofs.«01_k».proof.Proof.Tile
public import proofs.«01_k».proof.Proof.Gen.MlaDoKernelIdeal.Value
public import proofs.«01_k».proof.Proof.Gen.MlaDoReferenceIdeal.Read
public import Idealize.ShloMosaic.Lib.Quiescent

@[expose] public section

set_option maxRecDepth 16384

noncomputable section

namespace Cert.MlaDo

open Cert.MlaDoKernelIdeal Cert.MlaDoKernelIdeal.Gen Cert.MlaDoKernelIdeal.Value
open Idealize.ShloMosaic Idealize.ShloMosaic.TcCoe Idealize.SL.Sem
open Cert.MlaDoReferenceIdeal.Read Cert

variable (m : (ℓ : Loc nD τ sig) → Buf (Elt Ideal) ℓ)

/-- The argument arrays of a device. -/
abbrev A0 (c : Dev nD) : Vec Ideal S1024x1024 .f32 := m ((c : Thread nD τ).loc main_arg0)
abbrev A1 (c : Dev nD) : Vec Ideal S4096x1024 .bf16 := m ((c : Thread nD τ).loc main_arg1)

/-- What the host hands the kernel. -/
abbrev H0 (c : Dev nD) : Vec Ideal S4096x1024 .bf16 := V m c main_arg1
abbrev H1 (c : Dev nD) : Vec Ideal S1024x1024 .bf16 := V m c main_v1

theorem H0_eq (c : Dev nD) : H0 m c = A1 m c := V_main_arg1 m c
theorem H1_eq (c : Dev nD) (r : Fin 1024) (l : Fin 1024) : H1 m c (ix2 r l) = A0 m c (ix2 l r) := by
  have h : H1 m c = (truncf .bf16 (transpose S1024x1024 [1, 0] (A0 m c) transposes_S1024x1024_S1024x1024_1_0 : FVec Ideal S1024x1024 .f32) bitsLt_bf16_f32 : FVec Ideal S1024x1024 .bf16) := by
    unfold_abbrev_sides
    after_results
  rw [h]
  pointwise []

theorem idx : ∀ t : Fin cfg0.N, win0_0.index t = ![t.val, 0] ∧ win0_1.index t = ![0, 0] ∧ win0_2.index t = ![t.val, 0] := by
  show ∀ t : Fin grid0.N, _
  decide +kernel

theorem pay (x0 : Vec Ideal S512x1024 .bf16) (x1 : Vec Ideal S1024x1024 .bf16) (r : Fin 512) (l : Fin 1024) :
    k0_pay1 x0 x1 (ix2 r l) = ∑ k : Fin 1024, x0 (ix2 r k) * x1 (ix2 k l) := by
  pointwise [k0_pay1]

/-- The kernel's array, index by index. -/
theorem arr (c : Dev nD) (R : Fin 4096) (L : Fin 1024) :
    ((dats m 0 c).arrAt 2 cfg0.N : S4096x1024.Idx → EReal) (ix2 R L) = ∑ k : Fin 1024, A1 m c (ix2 R k) * A0 m c (ix2 L k) := by
  obtain ⟨t, r, rfl⟩ := Tile.surj N_0 R
  have h := congrFun (blocks2 m c t (flush0_2 t)) (ix2 (n0 := 512) (n1 := 1024) r L)
  rw [View.read_apply, flushed2, show ((cfg0.win 2).blk t).view.emb (ix2 (n0 := 512) (n1 := 1024) r L) = ix2 (n0 := 4096) (n1 := 1024) (Tile.row N_0 t r) L
    from Tile.at2 (idx t).2.2 rfl rfl] at h
  refine h.trans ((?_ : out0_2 (iblk m c 0 t) (iblk m c 1 t) (ix2 r L) = _))
  unfold out0_2
  have hz : (![0, 0] : Fin 2 → ℕ) = 0 := by decide
  rw [View.canon_unit_zero (S := S512x1024) hz, View.ld_unit_zero (S := S512x1024) hz, View.ld_unit_zero (S := S1024x1024) hz]
  refine (pay _ _ _ _).trans (Finset.sum_congr rfl fun k _ => ?_)
  exact congrArg₂ (fun x y : EReal => x * y)
    ((congrArg (H0 m c) (Tile.at2 (idx t).1 rfl rfl)).trans (congrFun (H0_eq m c) (ix2 (Tile.row N_0 t r) k)))
    ((congrArg (H1 m c) (Tile.all2 (idx t).2.1 rfl rfl)).trans (H1_eq m c k L))

theorem ref (x0 : Vec Ideal S1024x1024 .f32) (x1 : Vec Ideal S4096x1024 .bf16) (R : Fin 4096) (L : Fin 1024) :
    val_main_v4 (F := Ideal) x0 x1 (ix2 R L) = ∑ k : Fin 1024, x1 (ix2 R k) * x0 (ix2 L k) := by
  pointwise [val_main_v4, val_main_v3, val_main_v2]

end Cert.MlaDo

open Idealize.ShloMosaic Idealize.SL.Sem in
/-- The kernel computes the reference's array, over the extended reals. -/
theorem Cert.MlaDo.algebraic : Cert.algebraic_MlaDoKernelIdeal_MlaDoReferenceIdeal := by
  intro m g m' g' _ hag
  refine ⟨_, Cert.MlaDoKernelIdeal.Value.run_blocks m g, (θ_run _ _ _).mono (fun r h c => ?_) (Cert.MlaDoReferenceIdeal.Value.run m' g')⟩
  refine ⟨?_, (h c).2⟩
  rw [(h c).1, Cert.MlaDoReferenceIdeal.Read.val_main_v4_eq, (hag c).1, (hag c).2]
  exact (Cert.Rows.ext2 fun R L => (Cert.MlaDo.arr m c R L).trans (Cert.MlaDo.ref _ _ R L).symm).symm

open Idealize.ShloMosaic Idealize.SL.Sem in
/-- The reference terminates, leaves its arguments as they were, and has no semaphore. -/
theorem Cert.MlaDo.frame_reference : Cert.quiescent_MlaDoReferenceIdeal := fun m ρ _ =>
  (θ_run Cert.MlaDoReferenceIdeal.defs _ _).mono (fun r h => ⟨fun c => (h c).2,
    sem_eq_zero_of_no_sems (by decide) r.2⟩) (Cert.MlaDoReferenceIdeal.Value.run m ρ)

end
-- ==== Proof.MlaDwout.lean ====
module

public import proofs.«01_k».proof.Defs
public import proofs.«01_k».proof.Proof.Tile
public import proofs.«01_k».proof.Proof.Sums
public import proofs.«01_k».proof.Proof.Gen.MlaDwoutKernelIdeal.Value
public import proofs.«01_k».proof.Proof.Gen.MlaDwoutReferenceIdeal.Read
public import Idealize.ShloMosaic.Lib.Quiescent

@[expose] public section

set_option maxRecDepth 16384

noncomputable section

namespace Cert.MlaDwout

open Cert.MlaDwoutKernelIdeal Cert.MlaDwoutKernelIdeal.Gen Cert.MlaDwoutKernelIdeal.Value
open Idealize.ShloMosaic Idealize.ShloMosaic.TcCoe Idealize.SL.Sem
open Cert.MlaDwoutReferenceIdeal.Read Cert

variable (m : (ℓ : Loc nD τ sig) → Buf (Elt Ideal) ℓ)

/-- The argument arrays of a device. -/
abbrev A0 (c : Dev nD) : Vec Ideal S4096x1024 .bf16 := m ((c : Thread nD τ).loc main_arg0)
abbrev A1 (c : Dev nD) : Vec Ideal S4096x1024 .bf16 := m ((c : Thread nD τ).loc main_arg1)

/-- The input windows' blocks at a point. -/
abbrev X0 (c : Dev nD) (t : Fin cfg0.N) : Vec Ideal S1024x1024 .bf16 := iblk m c 0 t
abbrev X1 (c : Dev nD) (t : Fin cfg0.N) : Vec Ideal S1024x1024 .bf16 := iblk m c 1 t

theorem hz : (![0, 0] : Fin 2 → ℕ) = 0 := by decide

section
variable (x0 : Vec Ideal S1024x1024 .bf16) (x1 : Vec Ideal S1024x1024 .bf16) (a : Vec Ideal S1024x1024 .f32) (r : Fin 1024) (l : Fin 1024)

/-- One block's product. -/
def prod : EReal := ∑ q : Fin 1024, x0 (ix2 q r) * x1 (ix2 q l)

theorem pay2 : k0_pay2 x0 x1 (ix2 r l) = prod x0 x1 r l := by
  unfold prod
  pointwise [k0_pay2, k0_pay1]

theorem pay3 : k0_pay3 x0 x1 a (ix2 r l) = a (ix2 r l) + prod x0 x1 r l := by
  unfold prod
  pointwise [k0_pay3, k0_pay1]

theorem pay4 : k0_pay4 a (ix2 r l) = a (ix2 r l) := by
  pointwise [k0_pay4]

end

section
variable (c : Dev nD) (t : Fin cfg0.N) (r : Fin 1024) (l : Fin 1024)

/-- The first block of a run stores its product. -/
theorem first (h : t.val % 4 = 0) : (outsAt0 m c t.val t.isLt).2 (ix2 r l)
    = prod (X0 m c t) (X1 m c t) r l := by
  have hN : cfg0.N = 4 := N_0
  have ht := t.isLt
  rw [outsAt0_A m c t (by omega) (by omega) (by omega)]
  dsimp only
  unfold sout0_A_0
  rw [View.read_writes_junk_eq_canon]
  unfold kernelRun0_A
  dsimp only
  sl_unfold_words
  simp only [View.readAt_eq_ld, (hs0_0 t).read_unread, (hs0_1 t).read_unread, View.ld_unit_zero (S := S1024x1024) hz]
  rw [View.canon_unit_zero (S := S1024x1024) hz]
  exact pay2 _ _ r l

/-- The middle blocks add theirs. -/
theorem next (h : ¬t.val % 4 = 0) (h2 : ¬t.val % 4 = 3) : (outsAt0 m c t.val t.isLt).2 (ix2 r l)
    = (outsAt0 m c (t.val - 1) (Nat.lt_of_le_of_lt (Nat.sub_le _ _) t.isLt)).2 (ix2 r l) + prod (X0 m c t) (X1 m c t) r l := by
  have hN : cfg0.N = 4 := N_0
  have ht := t.isLt
  rw [outsAt0_B m c t (by omega) (by omega) (by omega)]
  dsimp only
  unfold sout0_B_0
  rw [View.read_writes_junk_eq_canon]
  unfold kernelRun0_B
  dsimp only
  sl_unfold_words
  simp only [View.readAt_eq_ld, (hs0_0 t).read_unread, (hs0_1 t).read_unread, (Memref.isWhole_whole cc0_scratch0).read_unread, View.ld_unit_zero (S := S1024x1024) hz]
  rw [View.canon_unit_zero (S := S1024x1024) hz]
  exact pay3 _ _ _ r l

/-- The last block adds its own and the result is stored. -/
theorem last (h : t.val % 4 = 3) : (outsAt0 m c t.val t.isLt).1 (ix2 r l)
    = (outsAt0 m c (t.val - 1) (Nat.lt_of_le_of_lt (Nat.sub_le _ _) t.isLt)).2 (ix2 r l) + prod (X0 m c t) (X1 m c t) r l := by
  have hN : cfg0.N = 4 := N_0
  have ht := t.isLt
  rw [outsAt0_C m c t (by omega) (by omega) (by omega)]
  dsimp only
  unfold out0_C_2
  rw [View.read_writes_junk_eq_canon]
  unfold kernelRun0_C
  dsimp only
  sl_unfold_words
  simp only [View.readAt_eq_ld, (hs0_0 t).read_unread, (hs0_1 t).read_unread, (Memref.isWhole_whole cc0_scratch0).read_unread, View.ld_unit_zero (S := S1024x1024) hz]
  rw [View.canon_unit_zero (S := S1024x1024) hz, View.readCov_unit_zero (S := S1024x1024) _ hz]
  exact (pay4 _ r l).trans (pay3 _ _ _ r l)

end

theorem idx : ∀ t : Fin cfg0.N, win0_0.index t = ![t.val % 4, t.val / 4] ∧ win0_1.index t = ![t.val % 4, 0] := by
  show ∀ t : Fin grid0.N, _
  decide +kernel

/-- The block of rows `R` lies in, and its four points. -/
def pt (R : Fin 1024) (j : Fin 4) : Fin cfg0.N :=
  ⟨4 * (R.val / 1024) + j.val, by have hN : cfg0.N = 4 := N_0; have := R.isLt; have := j.isLt; omega⟩
theorem pt_mod (R : Fin 1024) (j : Fin 4) : (pt R j).val % 4 = j.val := by show (4 * (R.val / 1024) + j.val) % 4 = _; omega

/-- What the last point of a row's block stores: the whole sum. -/
theorem res (c : Dev nD) (R : Fin 1024) (l : Fin 1024) (n : ℕ) (hn : n < cfg0.N) (h : n = (pt R 3).val) :
    (outsAt0 m c n hn).1 (ix2 ⟨R.val % 1024, by omega⟩ l) = ∑ k : Fin 4096, A0 m c (ix2 k R) * A1 m c (ix2 k l) := by
  subst h
  refine (last m c (pt R 3) _ l (pt_mod R 3)).trans ?_
  refine Math.four (fun k => A0 m c (ix2 k R) * A1 m c (ix2 k l)) (p := fun j => prod (X0 m c (pt R j)) (X1 m c (pt R j)) ⟨R.val % 1024, by omega⟩ l)
    (fun j => Finset.sum_congr rfl fun q _ => ?_) (first m c (pt R 0) _ l (pt_mod R 0)) (next m c (pt R 1) _ l (by rw [pt_mod]; decide) (by rw [pt_mod]; decide))
    (next m c (pt R 2) _ l (by rw [pt_mod]; decide) (by rw [pt_mod]; decide))
  have hq : j.val * 1024 + q.val = (pt R j).val % 4 * 1024 + q.val := by rw [pt_mod]
  have hr : R.val = (pt R j).val / 4 * 1024 + R.val % 1024 := by show R.val = (4 * (R.val / 1024) + j.val) / 4 * 1024 + R.val % 1024; omega
  exact congrArg₂ (fun x y : EReal => x * y)
    ((congrArg (V m c main_arg0) (Tile.gen (R := ⟨j.val * 1024 + q.val, by omega⟩) (idx (pt R j)).1 rfl rfl hq hr)).trans (congrFun (V_main_arg0 m c) _))
    ((congrArg (V m c main_arg1) (Tile.gen (R := ⟨j.val * 1024 + q.val, by omega⟩) (L := l) (idx (pt R j)).2 rfl rfl hq (show l.val = 0 * 1024 + l.val by omega))).trans (congrFun (V_main_arg1 m c) _))

/-- The kernel's array, index by index. -/
theorem arr (c : Dev nD) (R : Fin 1024) (l : Fin 1024) :
    ((dats m 0 c).arrAt 2 cfg0.N : S1024x1024.Idx → EReal) (ix2 R l) = ∑ k : Fin 4096, A0 m c (ix2 k R) * A1 m c (ix2 k l) := by
  have hp : pt2Of (ix2 R l) = (pt R 3).val := by
    show 4 * (1 * (R.val / 1024 - 0) + 1 * (l.val / 1024 - 0)) + 3 = 4 * (R.val / 1024) + 3
    have := l.isLt
    omega
  have hlt : pt2Of (ix2 (n0 := 1024) (n1 := 1024) R l) < cfg0.N := hp ▸ (pt R 3).isLt
  rw [final2]
  unfold G2
  refine (dif_pos hlt).trans ?_
  rw [← outsAt0_sweep, show loc2Of (ix2 R l) = ix2 ⟨R.val % 1024, by omega⟩ l from Rows.idx_ext2 rfl (by show l.val % 1024 = l.val; omega)]
  exact res m c R l _ hlt hp

theorem ref (x0 : Vec Ideal S4096x1024 .bf16) (x1 : Vec Ideal S4096x1024 .bf16) (R : Fin 1024) (l : Fin 1024) :
    val_main_v7 (F := Ideal) x0 x1 (ix2 R l) = ∑ k : Fin 4096, x0 (ix2 k R) * x1 (ix2 k l) := by
  pointwise [val_main_v7, val_main_v6, val_main_v5, val_main_v4, val_main_v3, val_main_v1]

end Cert.MlaDwout

open Idealize.ShloMosaic Idealize.SL.Sem in
/-- The kernel computes the reference's array, over the extended reals. -/
theorem Cert.MlaDwout.algebraic : Cert.algebraic_MlaDwoutKernelIdeal_MlaDwoutReferenceIdeal := by
  intro m g m' g' _ hag
  refine ⟨_, Cert.MlaDwoutKernelIdeal.Value.run_blocks m g, (θ_run _ _ _).mono (fun r h c => ?_) (Cert.MlaDwoutReferenceIdeal.Value.run m' g')⟩
  refine ⟨?_, (h c).2⟩
  rw [(h c).1, Cert.MlaDwoutReferenceIdeal.Read.val_main_v7_eq, (hag c).1, (hag c).2]
  exact (Cert.Rows.ext2 fun R l => (Cert.MlaDwout.arr m c R l).trans (Cert.MlaDwout.ref _ _ R l).symm).symm

open Idealize.ShloMosaic Idealize.SL.Sem in
/-- The reference terminates, leaves its arguments as they were, and has no semaphore. -/
theorem Cert.MlaDwout.frame_reference : Cert.quiescent_MlaDwoutReferenceIdeal := fun m ρ _ =>
  (θ_run Cert.MlaDwoutReferenceIdeal.defs _ _).mono (fun r h => ⟨fun c => (h c).2,
    sem_eq_zero_of_no_sems (by decide) r.2⟩) (Cert.MlaDwoutReferenceIdeal.Value.run m ρ)

end
-- ==== Proof.lean ====
/- The proof of all the claims together, each from its own module. -/
module

public import proofs.«01_k».proof.Defs
public import proofs.«01_k».proof.Proof.Gen.GateKernel.Frame
public import proofs.«01_k».proof.Proof.Gen.FfnDhRmsKernel.Frame
public import proofs.«01_k».proof.Proof.Gen.FfnBwdUpKernel.Frame
public import proofs.«01_k».proof.Proof.Gen.FfnDwgKernel.Frame
public import proofs.«01_k».proof.Proof.Gen.FfnDwdKernel.Frame
public import proofs.«01_k».proof.Proof.Gen.FfnUpKernel.Frame
public import proofs.«01_k».proof.Proof.Gen.FfnDownNormKernel.Frame
public import proofs.«01_k».proof.Proof.Gen.FfnDownKernel.Frame
public import proofs.«01_k».proof.Proof.Gen.ProjDhRmsKernel.Frame
public import proofs.«01_k».proof.Proof.Gen.ProjCKernel.Frame
public import proofs.«01_k».proof.Proof.Gen.ProjDwcKernel.Frame
public import proofs.«01_k».proof.Proof.Gen.ProjLKernel.Frame
public import proofs.«01_k».proof.Proof.Gen.ProjDwlKernel.Frame
public import proofs.«01_k».proof.Proof.Gen.ProjGKernel.Frame
public import proofs.«01_k».proof.Proof.Gen.ProjDwgKernel.Frame
public import proofs.«01_k».proof.Proof.Gen.MixOutKernel.Frame
public import proofs.«01_k».proof.Proof.Gen.MixDyKernel.Frame
public import proofs.«01_k».proof.Proof.Gen.MixDwoutKernel.Frame
public import proofs.«01_k».proof.Proof.Gen.AdamModelKernel.Frame
public import proofs.«01_k».proof.Proof.Gen.AdamConvKernel.Frame
public import proofs.«01_k».proof.Proof.Gen.AdamLatentKernel.Frame
public import proofs.«01_k».proof.Proof.Gen.AdamHeadKernel.Frame
public import proofs.«01_k».proof.Proof.Gen.AdamTapsKernel.Frame
public import proofs.«01_k».proof.Proof.Gen.AdamBiasKernel.Frame
public import proofs.«01_k».proof.Proof.Gen.AdamFfnKernel.Frame
public import proofs.«01_k».proof.Proof.Gen.AdamWinKernel.Frame
public import proofs.«01_k».proof.Proof.Gen.AdamCoutKernel.Frame
public import proofs.«01_k».proof.Proof.Gen.AdamUqKernel.Frame
public import proofs.«01_k».proof.Proof.Gen.AdamUkvKernel.Frame
public import proofs.«01_k».proof.Proof.Gen.AdamWoutKernel.Frame
public import proofs.«01_k».proof.Proof.Gen.SumGateupKernel.Frame
public import proofs.«01_k».proof.Proof.Gen.SumDownKernel.Frame
public import proofs.«01_k».proof.Proof.Gen.SumMixKernel.Frame
public import proofs.«01_k».proof.Proof.Gen.SumSmallKernel.Frame
public import proofs.«01_k».proof.Proof.Gen.LossGradKernel.Frame
public import proofs.«01_k».proof.Proof.Gen.ConvOutKernel.Frame
public import proofs.«01_k».proof.Proof.Gen.ConvDcKernel.Frame
public import proofs.«01_k».proof.Proof.Gen.ConvDwoutKernel.Frame
public import proofs.«01_k».proof.Proof.Gen.MlaOutKernel.Frame
public import proofs.«01_k».proof.Proof.Gen.MlaDoKernel.Frame
public import proofs.«01_k».proof.Proof.Gen.MlaDwoutKernel.Frame
public import proofs.«01_k».proof.Proof.Gen.Pre_ffn_dh_rms_finite
public import proofs.«01_k».proof.Proof.Gen.Pre_ffn_bwd_up_finite
public import proofs.«01_k».proof.Proof.Gen.Pre_ffn_up_finite
public import proofs.«01_k».proof.Proof.Gen.Pre_proj_dh_rms_finite
public import proofs.«01_k».proof.Proof.GateClaim
public import proofs.«01_k».proof.Proof.FfnDhRms
public import proofs.«01_k».proof.Proof.FfnBwdUp
public import proofs.«01_k».proof.Proof.FfnDwg
public import proofs.«01_k».proof.Proof.FfnDwd
public import proofs.«01_k».proof.Proof.FfnUp
public import proofs.«01_k».proof.Proof.FfnDownNorm
public import proofs.«01_k».proof.Proof.FfnDown
public import proofs.«01_k».proof.Proof.ProjDhRms
public import proofs.«01_k».proof.Proof.ProjC
public import proofs.«01_k».proof.Proof.ProjDwc
public import proofs.«01_k».proof.Proof.ProjL
public import proofs.«01_k».proof.Proof.ProjDwl
public import proofs.«01_k».proof.Proof.ProjG
public import proofs.«01_k».proof.Proof.ProjDwg
public import proofs.«01_k».proof.Proof.MixOut
public import proofs.«01_k».proof.Proof.MixDy
public import proofs.«01_k».proof.Proof.MixDwout
public import proofs.«01_k».proof.Proof.AdamModel
public import proofs.«01_k».proof.Proof.AdamConv
public import proofs.«01_k».proof.Proof.AdamLatent
public import proofs.«01_k».proof.Proof.AdamHead
public import proofs.«01_k».proof.Proof.AdamTaps
public import proofs.«01_k».proof.Proof.AdamBias
public import proofs.«01_k».proof.Proof.AdamFfn
public import proofs.«01_k».proof.Proof.AdamWin
public import proofs.«01_k».proof.Proof.AdamCout
public import proofs.«01_k».proof.Proof.AdamUq
public import proofs.«01_k».proof.Proof.AdamUkv
public import proofs.«01_k».proof.Proof.AdamWout
public import proofs.«01_k».proof.Proof.SumGateup
public import proofs.«01_k».proof.Proof.SumDown
public import proofs.«01_k».proof.Proof.SumMix
public import proofs.«01_k».proof.Proof.SumSmall
public import proofs.«01_k».proof.Proof.LossGrad
public import proofs.«01_k».proof.Proof.ConvOut
public import proofs.«01_k».proof.Proof.ConvDc
public import proofs.«01_k».proof.Proof.ConvDwout
public import proofs.«01_k».proof.Proof.MlaOut
public import proofs.«01_k».proof.Proof.MlaDo
public import proofs.«01_k».proof.Proof.MlaDwout
public import Idealize.ShloMosaic.Adequacy
public import Idealize.ShloMosaic.Init

@[expose] public section

noncomputable section

namespace Cert.Proof

open Idealize.ShloMosaic Idealize.SL.Sem Cert.GateKernel

theorem claim : Cert.Claim := ⟨GateKernel.Gen.facts, GateKernelIdeal.Gen.facts, GateReferenceIdeal.Gen.facts, FfnDhRmsKernel.Gen.facts, FfnDhRmsKernelIdeal.Gen.facts, FfnDhRmsReferenceIdeal.Gen.facts, FfnBwdUpKernel.Gen.facts, FfnBwdUpKernelIdeal.Gen.facts, FfnBwdUpReferenceIdeal.Gen.facts, FfnDwgKernel.Gen.facts, FfnDwgKernelIdeal.Gen.facts, FfnDwgReferenceIdeal.Gen.facts, FfnDwdKernel.Gen.facts, FfnDwdKernelIdeal.Gen.facts, FfnDwdReferenceIdeal.Gen.facts, FfnUpKernel.Gen.facts, FfnUpKernelIdeal.Gen.facts, FfnUpReferenceIdeal.Gen.facts, FfnDownNormKernel.Gen.facts, FfnDownNormKernelIdeal.Gen.facts, FfnDownNormReferenceIdeal.Gen.facts, FfnDownKernel.Gen.facts, FfnDownKernelIdeal.Gen.facts, FfnDownReferenceIdeal.Gen.facts, ProjDhRmsKernel.Gen.facts, ProjDhRmsKernelIdeal.Gen.facts, ProjDhRmsReferenceIdeal.Gen.facts, ProjCKernel.Gen.facts, ProjCKernelIdeal.Gen.facts, ProjCReferenceIdeal.Gen.facts, ProjDwcKernel.Gen.facts, ProjDwcKernelIdeal.Gen.facts, ProjDwcReferenceIdeal.Gen.facts, ProjLKernel.Gen.facts, ProjLKernelIdeal.Gen.facts, ProjLReferenceIdeal.Gen.facts, ProjDwlKernel.Gen.facts, ProjDwlKernelIdeal.Gen.facts, ProjDwlReferenceIdeal.Gen.facts, ProjGKernel.Gen.facts, ProjGKernelIdeal.Gen.facts, ProjGReferenceIdeal.Gen.facts, ProjDwgKernel.Gen.facts, ProjDwgKernelIdeal.Gen.facts, ProjDwgReferenceIdeal.Gen.facts, MixOutKernel.Gen.facts, MixOutKernelIdeal.Gen.facts, MixOutReferenceIdeal.Gen.facts, MixDyKernel.Gen.facts, MixDyKernelIdeal.Gen.facts, MixDyReferenceIdeal.Gen.facts, MixDwoutKernel.Gen.facts, MixDwoutKernelIdeal.Gen.facts, MixDwoutReferenceIdeal.Gen.facts, AdamModelKernel.Gen.facts, AdamModelKernelIdeal.Gen.facts, AdamModelReferenceIdeal.Gen.facts, AdamConvKernel.Gen.facts, AdamConvKernelIdeal.Gen.facts, AdamConvReferenceIdeal.Gen.facts, AdamLatentKernel.Gen.facts, AdamLatentKernelIdeal.Gen.facts, AdamLatentReferenceIdeal.Gen.facts, AdamHeadKernel.Gen.facts, AdamHeadKernelIdeal.Gen.facts, AdamHeadReferenceIdeal.Gen.facts, AdamTapsKernel.Gen.facts, AdamTapsKernelIdeal.Gen.facts, AdamTapsReferenceIdeal.Gen.facts, AdamBiasKernel.Gen.facts, AdamBiasKernelIdeal.Gen.facts, AdamBiasReferenceIdeal.Gen.facts, AdamFfnKernel.Gen.facts, AdamFfnKernelIdeal.Gen.facts, AdamFfnReferenceIdeal.Gen.facts, AdamWinKernel.Gen.facts, AdamWinKernelIdeal.Gen.facts, AdamWinReferenceIdeal.Gen.facts, AdamCoutKernel.Gen.facts, AdamCoutKernelIdeal.Gen.facts, AdamCoutReferenceIdeal.Gen.facts, AdamUqKernel.Gen.facts, AdamUqKernelIdeal.Gen.facts, AdamUqReferenceIdeal.Gen.facts, AdamUkvKernel.Gen.facts, AdamUkvKernelIdeal.Gen.facts, AdamUkvReferenceIdeal.Gen.facts, AdamWoutKernel.Gen.facts, AdamWoutKernelIdeal.Gen.facts, AdamWoutReferenceIdeal.Gen.facts, SumGateupKernel.Gen.facts, SumGateupKernelIdeal.Gen.facts, SumGateupReferenceIdeal.Gen.facts, SumDownKernel.Gen.facts, SumDownKernelIdeal.Gen.facts, SumDownReferenceIdeal.Gen.facts, SumMixKernel.Gen.facts, SumMixKernelIdeal.Gen.facts, SumMixReferenceIdeal.Gen.facts, SumSmallKernel.Gen.facts, SumSmallKernelIdeal.Gen.facts, SumSmallReferenceIdeal.Gen.facts, LossGradKernel.Gen.facts, LossGradKernelIdeal.Gen.facts, LossGradReferenceIdeal.Gen.facts, ConvOutKernel.Gen.facts, ConvOutKernelIdeal.Gen.facts, ConvOutReferenceIdeal.Gen.facts, ConvDcKernel.Gen.facts, ConvDcKernelIdeal.Gen.facts, ConvDcReferenceIdeal.Gen.facts, ConvDwoutKernel.Gen.facts, ConvDwoutKernelIdeal.Gen.facts, ConvDwoutReferenceIdeal.Gen.facts, MlaOutKernel.Gen.facts, MlaOutKernelIdeal.Gen.facts, MlaOutReferenceIdeal.Gen.facts, MlaDoKernel.Gen.facts, MlaDoKernelIdeal.Gen.facts, MlaDoReferenceIdeal.Gen.facts, MlaDwoutKernel.Gen.facts, MlaDwoutKernelIdeal.Gen.facts, MlaDwoutReferenceIdeal.Gen.facts, Pre_ffn_dh_rms_finite.Gen.facts, Pre_ffn_bwd_up_finite.Gen.facts, Pre_ffn_up_finite.Gen.facts, Pre_proj_dh_rms_finite.Gen.facts, by
  exact ⟨fun m ρ _ => GateKernel.Gen.frame m ρ,
    fun m ρ _ => GateKernelIdeal.Gen.frame m ρ,
    GateClaim.frame_reference,
    fun m ρ _ => FfnDhRmsKernel.Gen.frame m ρ,
    fun m ρ _ => FfnDhRmsKernelIdeal.Gen.frame m ρ,
    fun m ρ _ => FfnDhRmsKernelIdeal.Gen.frame m ρ,
    FfnDhRms.frame_reference,
    FfnDhRms.frame_reference_pre,
    fun m ρ _ => FfnBwdUpKernel.Gen.frame m ρ,
    fun m ρ _ => FfnBwdUpKernelIdeal.Gen.frame m ρ,
    fun m ρ _ => FfnBwdUpKernelIdeal.Gen.frame m ρ,
    FfnBwdUp.frame_reference,
    FfnBwdUp.frame_reference_pre,
    fun m ρ _ => FfnDwgKernel.Gen.frame m ρ,
    fun m ρ _ => FfnDwgKernelIdeal.Gen.frame m ρ,
    FfnDwg.frame_reference,
    fun m ρ _ => FfnDwdKernel.Gen.frame m ρ,
    fun m ρ _ => FfnDwdKernelIdeal.Gen.frame m ρ,
    FfnDwd.frame_reference,
    fun m ρ _ => FfnUpKernel.Gen.frame m ρ,
    fun m ρ _ => FfnUpKernelIdeal.Gen.frame m ρ,
    fun m ρ _ => FfnUpKernelIdeal.Gen.frame m ρ,
    FfnUp.frame_reference,
    FfnUp.frame_reference_pre,
    fun m ρ _ => FfnDownNormKernel.Gen.frame m ρ,
    fun m ρ _ => FfnDownNormKernelIdeal.Gen.frame m ρ,
    FfnDownNorm.frame_reference,
    fun m ρ _ => FfnDownKernel.Gen.frame m ρ,
    fun m ρ _ => FfnDownKernelIdeal.Gen.frame m ρ,
    FfnDown.frame_reference,
    fun m ρ _ => ProjDhRmsKernel.Gen.frame m ρ,
    fun m ρ _ => ProjDhRmsKernelIdeal.Gen.frame m ρ,
    fun m ρ _ => ProjDhRmsKernelIdeal.Gen.frame m ρ,
    ProjDhRms.frame_reference,
    ProjDhRms.frame_reference_pre,
    fun m ρ _ => ProjCKernel.Gen.frame m ρ,
    fun m ρ _ => ProjCKernelIdeal.Gen.frame m ρ,
    ProjC.frame_reference,
    fun m ρ _ => ProjDwcKernel.Gen.frame m ρ,
    fun m ρ _ => ProjDwcKernelIdeal.Gen.frame m ρ,
    ProjDwc.frame_reference,
    fun m ρ _ => ProjLKernel.Gen.frame m ρ,
    fun m ρ _ => ProjLKernelIdeal.Gen.frame m ρ,
    ProjL.frame_reference,
    fun m ρ _ => ProjDwlKernel.Gen.frame m ρ,
    fun m ρ _ => ProjDwlKernelIdeal.Gen.frame m ρ,
    ProjDwl.frame_reference,
    fun m ρ _ => ProjGKernel.Gen.frame m ρ,
    fun m ρ _ => ProjGKernelIdeal.Gen.frame m ρ,
    ProjG.frame_reference,
    fun m ρ _ => ProjDwgKernel.Gen.frame m ρ,
    fun m ρ _ => ProjDwgKernelIdeal.Gen.frame m ρ,
    ProjDwg.frame_reference,
    fun m ρ _ => MixOutKernel.Gen.frame m ρ,
    fun m ρ _ => MixOutKernelIdeal.Gen.frame m ρ,
    MixOut.frame_reference,
    fun m ρ _ => MixDyKernel.Gen.frame m ρ,
    fun m ρ _ => MixDyKernelIdeal.Gen.frame m ρ,
    MixDy.frame_reference,
    fun m ρ _ => MixDwoutKernel.Gen.frame m ρ,
    fun m ρ _ => MixDwoutKernelIdeal.Gen.frame m ρ,
    MixDwout.frame_reference,
    fun m ρ _ => AdamModelKernel.Gen.frame m ρ,
    fun m ρ _ => AdamModelKernelIdeal.Gen.frame m ρ,
    AdamModel.frame_reference,
    fun m ρ _ => AdamConvKernel.Gen.frame m ρ,
    fun m ρ _ => AdamConvKernelIdeal.Gen.frame m ρ,
    AdamConv.frame_reference,
    fun m ρ _ => AdamLatentKernel.Gen.frame m ρ,
    fun m ρ _ => AdamLatentKernelIdeal.Gen.frame m ρ,
    AdamLatent.frame_reference,
    fun m ρ _ => AdamHeadKernel.Gen.frame m ρ,
    fun m ρ _ => AdamHeadKernelIdeal.Gen.frame m ρ,
    AdamHead.frame_reference,
    fun m ρ _ => AdamTapsKernel.Gen.frame m ρ,
    fun m ρ _ => AdamTapsKernelIdeal.Gen.frame m ρ,
    AdamTaps.frame_reference,
    fun m ρ _ => AdamBiasKernel.Gen.frame m ρ,
    fun m ρ _ => AdamBiasKernelIdeal.Gen.frame m ρ,
    AdamBias.frame_reference,
    fun m ρ _ => AdamFfnKernel.Gen.frame m ρ,
    fun m ρ _ => AdamFfnKernelIdeal.Gen.frame m ρ,
    AdamFfn.frame_reference,
    fun m ρ _ => AdamWinKernel.Gen.frame m ρ,
    fun m ρ _ => AdamWinKernelIdeal.Gen.frame m ρ,
    AdamWin.frame_reference,
    fun m ρ _ => AdamCoutKernel.Gen.frame m ρ,
    fun m ρ _ => AdamCoutKernelIdeal.Gen.frame m ρ,
    AdamCout.frame_reference,
    fun m ρ _ => AdamUqKernel.Gen.frame m ρ,
    fun m ρ _ => AdamUqKernelIdeal.Gen.frame m ρ,
    AdamUq.frame_reference,
    fun m ρ _ => AdamUkvKernel.Gen.frame m ρ,
    fun m ρ _ => AdamUkvKernelIdeal.Gen.frame m ρ,
    AdamUkv.frame_reference,
    fun m ρ _ => AdamWoutKernel.Gen.frame m ρ,
    fun m ρ _ => AdamWoutKernelIdeal.Gen.frame m ρ,
    AdamWout.frame_reference,
    fun m ρ _ => SumGateupKernel.Gen.frame m ρ,
    fun m ρ _ => SumGateupKernelIdeal.Gen.frame m ρ,
    SumGateup.frame_reference,
    fun m ρ _ => SumDownKernel.Gen.frame m ρ,
    fun m ρ _ => SumDownKernelIdeal.Gen.frame m ρ,
    SumDown.frame_reference,
    fun m ρ _ => SumMixKernel.Gen.frame m ρ,
    fun m ρ _ => SumMixKernelIdeal.Gen.frame m ρ,
    SumMix.frame_reference,
    fun m ρ _ => SumSmallKernel.Gen.frame m ρ,
    fun m ρ _ => SumSmallKernelIdeal.Gen.frame m ρ,
    SumSmall.frame_reference,
    fun m ρ _ => LossGradKernel.Gen.frame m ρ,
    fun m ρ _ => LossGradKernelIdeal.Gen.frame m ρ,
    LossGrad.frame_reference,
    fun m ρ _ => ConvOutKernel.Gen.frame m ρ,
    fun m ρ _ => ConvOutKernelIdeal.Gen.frame m ρ,
    ConvOut.frame_reference,
    fun m ρ _ => ConvDcKernel.Gen.frame m ρ,
    fun m ρ _ => ConvDcKernelIdeal.Gen.frame m ρ,
    ConvDc.frame_reference,
    fun m ρ _ => ConvDwoutKernel.Gen.frame m ρ,
    fun m ρ _ => ConvDwoutKernelIdeal.Gen.frame m ρ,
    ConvDwout.frame_reference,
    fun m ρ _ => MlaOutKernel.Gen.frame m ρ,
    fun m ρ _ => MlaOutKernelIdeal.Gen.frame m ρ,
    MlaOut.frame_reference,
    fun m ρ _ => MlaDoKernel.Gen.frame m ρ,
    fun m ρ _ => MlaDoKernelIdeal.Gen.frame m ρ,
    MlaDo.frame_reference,
    fun m ρ _ => MlaDwoutKernel.Gen.frame m ρ,
    fun m ρ _ => MlaDwoutKernelIdeal.Gen.frame m ρ,
    MlaDwout.frame_reference,
    trivial,
    GateClaim.algebraic,
    trivial,
    FfnDhRms.algebraic,
    trivial,
    FfnBwdUp.algebraic,
    trivial,
    FfnDwg.algebraic,
    trivial,
    FfnDwd.algebraic,
    trivial,
    FfnUp.algebraic,
    trivial,
    FfnDownNorm.algebraic,
    trivial,
    FfnDown.algebraic,
    trivial,
    ProjDhRms.algebraic,
    trivial,
    ProjC.algebraic,
    trivial,
    ProjDwc.algebraic,
    trivial,
    ProjL.algebraic,
    trivial,
    ProjDwl.algebraic,
    trivial,
    ProjG.algebraic,
    trivial,
    ProjDwg.algebraic,
    trivial,
    MixOut.algebraic,
    trivial,
    MixDy.algebraic,
    trivial,
    MixDwout.algebraic,
    trivial,
    AdamModel.algebraic,
    trivial,
    AdamConv.algebraic,
    trivial,
    AdamLatent.algebraic,
    trivial,
    AdamHead.algebraic,
    trivial,
    AdamTaps.algebraic,
    trivial,
    AdamBias.algebraic,
    trivial,
    AdamFfn.algebraic,
    trivial,
    AdamWin.algebraic,
    trivial,
    AdamCout.algebraic,
    trivial,
    AdamUq.algebraic,
    trivial,
    AdamUkv.algebraic,
    trivial,
    AdamWout.algebraic,
    trivial,
    SumGateup.algebraic,
    trivial,
    SumDown.algebraic,
    trivial,
    SumMix.algebraic,
    trivial,
    SumSmall.algebraic,
    trivial,
    LossGrad.algebraic,
    trivial,
    ConvOut.algebraic,
    trivial,
    ConvDc.algebraic,
    trivial,
    ConvDwout.algebraic,
    trivial,
    MlaOut.algebraic,
    trivial,
    MlaDo.algebraic,
    trivial,
    MlaDwout.algebraic⟩⟩

end Cert.Proof

end
